-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v75) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_v79) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_rows_in_table : Cert.Pre_rows_in_table.Facts),
    quiescent_Kernel (hKernel := hKernel) (hPre_rows_in_table := hPre_rows_in_table)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_rows_in_table.lean ====
abbrev S17408x2048 : Shape := ⟨2, ![17408, 2048]⟩
abbrev S2048 : Shape := ⟨1, ![2048]⟩
abbrev S17408x128 : Shape := ⟨2, ![17408, 128]⟩
abbrev S544x128x32 : Shape := ⟨3, ![544, 128, 32]⟩
abbrev S16384x16x128 : Shape := ⟨3, ![16384, 16, 128]⟩
abbrev S_ : Shape := ⟨0, ![]⟩

class Facts : Prop where
  bcast_S_S17408x128 : S_.BroadcastsInDim S17408x128 (![] : Fin 0 → Fin S17408x128.rank)
  reducesTo_S17408x128_S_d0_1 : S17408x128.ReducesTo [0, 1] S_
  h_S_ : 0 < S_.numel

variable [Facts]

def fn {F : FTy → Type} [FloatOps F] (main_arg0 : FVec F S17408x2048 .f32) (main_arg1 : FVec F S2048 .f32) (main_arg2 : IVec S17408x128 32) (main_arg3 : FVec F S544x128x32 .f32) (main_arg4 : IVec S16384x16x128 32) (main_arg5 : FVec F S2048 .f32) : IVec S_ 1 :=
  let main_c : IVec S_ 32 := constantI S_ 32 0#32
  let main_v0 : IVec S17408x128 32 := broadcastInDim S17408x128 ![] bcast_S_S17408x128 main_c
  let main_v1 : IVec S17408x128 1 := cmpi .sge main_arg2 main_v0
  let main_c_0 : IVec S_ 32 := constantI S_ 32 16384#32
  let main_v2 : IVec S17408x128 32 := broadcastInDim S17408x128 ![] bcast_S_S17408x128 main_c_0
  let main_v3 : IVec S17408x128 1 := cmpi .slt main_arg2 main_v2
  let main_v4 : IVec S17408x128 1 := andi main_v1 main_v3
  let main_c_1 : IVec S_ 1 := constantI S_ 1 1#1
  let main_v5 : IVec S_ 1 := (fun x v => Host.reduce IntOp.andi x v reducesTo_S17408x128_S_d0_1 h_S_) main_v4 main_c_1
  main_v5
-- ==== Kernel.lean ====
abbrev S17408x2048 : Shape := ⟨2, ![17408, 2048]⟩
abbrev S2048 : Shape := ⟨1, ![2048]⟩
abbrev S17408x128 : Shape := ⟨2, ![17408, 128]⟩
abbrev S544x128x32 : Shape := ⟨3, ![544, 128, 32]⟩
abbrev S16384x16x128 : Shape := ⟨3, ![16384, 16, 128]⟩
abbrev S1x2048 : Shape := ⟨2, ![1, 2048]⟩
abbrev S1024x2048 : Shape := ⟨2, ![1024, 2048]⟩
abbrev S16x128 : Shape := ⟨2, ![16, 128]⟩
abbrev S1x128x32 : Shape := ⟨3, ![1, 128, 32]⟩
abbrev S32x2048 : Shape := ⟨2, ![32, 2048]⟩
abbrev S34816x128 : Shape := ⟨2, ![34816, 128]⟩
abbrev S2 : Shape := ⟨1, ![2]⟩
abbrev S1x1 : Shape := ⟨2, ![1, 1]⟩
abbrev S1 : Shape := ⟨1, ![1]⟩
abbrev S_ : Shape := ⟨0, ![]⟩
abbrev S1x16x128 : Shape := ⟨3, ![1, 16, 128]⟩
abbrev S32 : Shape := ⟨1, ![32]⟩
abbrev S32x1 : Shape := ⟨2, ![32, 1]⟩
abbrev S128x32 : Shape := ⟨2, ![128, 32]⟩
abbrev S16384x128 : Shape := ⟨2, ![16384, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 9
  | .vmem => 10
  | .smem => 5
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S17408x128, .i32⟩
  | .hbm, ⟨3, _⟩ => ⟨S544x128x32, .f32⟩
  | .hbm, ⟨4, _⟩ => ⟨S16384x16x128, .i32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1024x2048, .f32⟩
  | .local _ .vmem, ⟨0, _⟩ => ⟨S1x128x32, .f32⟩
  | .local _ .vmem, ⟨1, _⟩ => ⟨S1x128x32, .f32⟩
  | .local _ .vmem, ⟨2, _⟩ => ⟨S32x2048, .f32⟩
  | .local _ .vmem, ⟨3, _⟩ => ⟨S32x2048, .f32⟩
  | .local _ .vmem, ⟨4, _⟩ => ⟨S1x2048, .f32⟩
  | .local _ .vmem, ⟨5, _⟩ => ⟨S1x2048, .f32⟩
  | .local _ .vmem, ⟨6, _⟩ => ⟨S32x2048, .f32⟩
  | .local _ .vmem, ⟨7, _⟩ => ⟨S32x2048, .f32⟩
  | .local _ .vmem, ⟨8, _⟩ => ⟨S34816x128, .i32⟩
  | .local _ .vmem, ⟨9, _⟩ => ⟨S34816x128, .i32⟩
  | .local _ .smem, ⟨0, _⟩ => ⟨S16x128, .i32⟩
  | .local _ .smem, ⟨1, _⟩ => ⟨S16x128, .i32⟩
  | .local _ .smem, ⟨2, _⟩ => ⟨S16x128, .i32⟩
  | .local _ .smem, ⟨3, _⟩ => ⟨S16x128, .i32⟩
  | .local _ .smem, ⟨4, _⟩ => ⟨S16x128, .i32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg1_1 : Ref sig .tc := ⟨.smem, 2, rfl⟩
abbrev cc0_stg2_0 : Ref sig .tc := ⟨.smem, 3, rfl⟩
abbrev cc0_stg2_1 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v16721 : BitVec 32) : Fin 3 → Nat :=
  let c0_i32_15011 : BitVec 32 := 0#32
  let c0_i32_15012 : BitVec 32 := 0#32
  ![v16721.toNat, 0, 0]

def k0_chk1 (i : grid0.Coords) (v16721 : BitVec 32) : Prop :=
  (∀ (k0_h1 : k0_cond1 i = 1#1), ∀ a, (k0_off1 v16721) a + S1x16x128.size a ≤ S16384x16x128.size a)
theorem k0_off1_inb : ∀ (i : grid0.Coords) (v16721 : BitVec 32) (k0_hw1 : k0_chk1 i v16721), ∀ (k0_h1 : k0_cond1 i = 1#1), ∀ a, (k0_off1 v16721) a + S1x16x128.size a ≤ S16384x16x128.size a := fun i v16721 k0_hw1 k0_h1 => k0_hw1 k0_h1

def k0_off2 (v16727 : BitVec 32) : Fin 3 → Nat :=
  let c0_i32_15018 : BitVec 32 := 0#32
  let c0_i32_15019 : BitVec 32 := 0#32
  ![v16727.toNat, 0, 0]

def k0_chk2 (i : grid0.Coords) (v16727 : BitVec 32) : Prop :=
  (∀ (k0_h1 : k0_cond1 i = 1#1), ∀ a, (k0_off2 v16727) a + S1x16x128.size a ≤ S16384x16x128.size a)
theorem k0_off2_inb : ∀ (i : grid0.Coords) (v16727 : BitVec 32) (k0_hw2 : k0_chk2 i v16727), ∀ (k0_h1 : k0_cond1 i = 1#1), ∀ a, (k0_off2 v16727) a + S1x16x128.size a ≤ S16384x16x128.size a := fun i v16727 k0_hw2 k0_h1 => k0_hw2 k0_h1

def k0_off3 (v16733 : BitVec 32) : Fin 3 → Nat :=
  let c0_i32_15025 : BitVec 32 := 0#32
  let c0_i32_15026 : BitVec 32 := 0#32
  ![v16733.toNat, 0, 0]

def k0_chk3 (i : grid0.Coords) (v16733 : BitVec 32) : Prop :=
  (∀ (k0_h1 : k0_cond1 i = 1#1), ∀ a, (k0_off3 v16733) a + S1x16x128.size a ≤ S16384x16x128.size a)
theorem k0_off3_inb : ∀ (i : grid0.Coords) (v16733 : BitVec 32) (k0_hw3 : k0_chk3 i v16733), ∀ (k0_h1 : k0_cond1 i = 1#1), ∀ a, (k0_off3 v16733) a + S1x16x128.size a ≤ S16384x16x128.size a := fun i v16733 k0_hw3 k0_h1 => k0_hw3 k0_h1

def k0_off4 (v16739 : BitVec 32) : Fin 3 → Nat :=
  let c0_i32_15032 : BitVec 32 := 0#32
  let c0_i32_15033 : BitVec 32 := 0#32
  ![v16739.toNat, 0, 0]

def k0_chk4 (i : grid0.Coords) (v16739 : BitVec 32) : Prop :=
  (∀ (k0_h1 : k0_cond1 i = 1#1), ∀ a, (k0_off4 v16739) a + S1x16x128.size a ≤ S16384x16x128.size a)
theorem k0_off4_inb : ∀ (i : grid0.Coords) (v16739 : BitVec 32) (k0_hw4 : k0_chk4 i v16739), ∀ (k0_h1 : k0_cond1 i = 1#1), ∀ a, (k0_off4 v16739) a + S1x16x128.size a ≤ S16384x16x128.size a := fun i v16739 k0_hw4 k0_h1 => k0_hw4 k0_h1

def k0_off5 (v16745 : BitVec 32) : Fin 3 → Nat :=
  let c0_i32_15039 : BitVec 32 := 0#32
  let c0_i32_15040 : BitVec 32 := 0#32
  ![v16745.toNat, 0, 0]

def k0_chk5 (i : grid0.Coords) (v16745 : BitVec 32) : Prop :=
  (∀ (k0_h1 : k0_cond1 i = 1#1), ∀ a, (k0_off5 v16745) a + S1x16x128.size a ≤ S16384x16x128.size a)
theorem k0_off5_inb : ∀ (i : grid0.Coords) (v16745 : BitVec 32) (k0_hw5 : k0_chk5 i v16745), ∀ (k0_h1 : k0_cond1 i = 1#1), ∀ a, (k0_off5 v16745) a + S1x16x128.size a ≤ S16384x16x128.size a := fun i v16745 k0_hw5 k0_h1 => k0_hw5 k0_h1

def k0_off6 (v16751 : BitVec 32) : Fin 3 → Nat :=
  let c0_i32_15046 : BitVec 32 := 0#32
  let c0_i32_15047 : BitVec 32 := 0#32
  ![v16751.toNat, 0, 0]

def k0_chk6 (i : grid0.Coords) (v16751 : BitVec 32) : Prop :=
  (∀ (k0_h1 : k0_cond1 i = 1#1), ∀ a, (k0_off6 v16751) a + S1x16x128.size a ≤ S16384x16x128.size a)
theorem k0_off6_inb : ∀ (i : grid0.Coords) (v16751 : BitVec 32) (k0_hw6 : k0_chk6 i v16751), ∀ (k0_h1 : k0_cond1 i = 1#1), ∀ a, (k0_off6 v16751) a + S1x16x128.size a ≤ S16384x16x128.size a := fun i v16751 k0_hw6 k0_h1 => k0_hw6 k0_h1

def k0_off7 (v16757 : BitVec 32) : Fin 3 → Nat :=
  let c0_i32_15053 : BitVec 32 := 0#32
  let c0_i32_15054 : BitVec 32 := 0#32
  ![v16757.toNat, 0, 0]

def k0_chk7 (i : grid0.Coords) (v16757 : BitVec 32) : Prop :=
  (∀ (k0_h1 : k0_cond1 i = 1#1), ∀ a, (k0_off7 v16757) a + S1x16x128.size a ≤ S16384x16x128.size a)
theorem k0_off7_inb : ∀ (i : grid0.Coords) (v16757 : BitVec 32) (k0_hw7 : k0_chk7 i v16757), ∀ (k0_h1 : k0_cond1 i = 1#1), ∀ a, (k0_off7 v16757) a + S1x16x128.size a ≤ S16384x16x128.size a := fun i v16757 k0_hw7 k0_h1 => k0_hw7 k0_h1

def k0_off8 (v16763 : BitVec 32) : Fin 3 → Nat :=
  let c0_i32_15060 : BitVec 32 := 0#32
  let c0_i32_15061 : BitVec 32 := 0#32
  ![v16763.toNat, 0, 0]

def k0_chk8 (i : grid0.Coords) (v16763 : BitVec 32) : Prop :=
  (∀ (k0_h1 : k0_cond1 i = 1#1), ∀ a, (k0_off8 v16763) a + S1x16x128.size a ≤ S16384x16x128.size a)
theorem k0_off8_inb : ∀ (i : grid0.Coords) (v16763 : BitVec 32) (k0_hw8 : k0_chk8 i v16763), ∀ (k0_h1 : k0_cond1 i = 1#1), ∀ a, (k0_off8 v16763) a + S1x16x128.size a ≤ S16384x16x128.size a := fun i v16763 k0_hw8 k0_h1 => k0_hw8 k0_h1

def k0_off9 (v16769 : BitVec 32) : Fin 3 → Nat :=
  let c0_i32_15067 : BitVec 32 := 0#32
  let c0_i32_15068 : BitVec 32 := 0#32
  ![v16769.toNat, 0, 0]

def k0_chk9 (i : grid0.Coords) (v16769 : BitVec 32) : Prop :=
  (∀ (k0_h1 : k0_cond1 i = 1#1), ∀ a, (k0_off9 v16769) a + S1x16x128.size a ≤ S16384x16x128.size a)
theorem k0_off9_inb : ∀ (i : grid0.Coords) (v16769 : BitVec 32) (k0_hw9 : k0_chk9 i v16769), ∀ (k0_h1 : k0_cond1 i = 1#1), ∀ a, (k0_off9 v16769) a + S1x16x128.size a ≤ S16384x16x128.size a := fun i v16769 k0_hw9 k0_h1 => k0_hw9 k0_h1

def k0_off10 (v16775 : BitVec 32) : Fin 3 → Nat :=
  let c0_i32_15074 : BitVec 32 := 0#32
  let c0_i32_15075 : BitVec 32 := 0#32
  ![v16775.toNat, 0, 0]

def k0_chk10 (i : grid0.Coords) (v16775 : BitVec 32) : Prop :=
  (∀ (k0_h1 : k0_cond1 i = 1#1), ∀ a, (k0_off10 v16775) a + S1x16x128.size a ≤ S16384x16x128.size a)
theorem k0_off10_inb : ∀ (i : grid0.Coords) (v16775 : BitVec 32) (k0_hw10 : k0_chk10 i v16775), ∀ (k0_h1 : k0_cond1 i = 1#1), ∀ a, (k0_off10 v16775) a + S1x16x128.size a ≤ S16384x16x128.size a := fun i v16775 k0_hw10 k0_h1 => k0_hw10 k0_h1

def k0_off11 (v16781 : BitVec 32) : Fin 3 → Nat :=
  let c0_i32_15081 : BitVec 32 := 0#32
  let c0_i32_15082 : BitVec 32 := 0#32
  ![v16781.toNat, 0, 0]

def k0_chk11 (i : grid0.Coords) (v16781 : BitVec 32) : Prop :=
  (∀ (k0_h1 : k0_cond1 i = 1#1), ∀ a, (k0_off11 v16781) a + S1x16x128.size a ≤ S16384x16x128.size a)
theorem k0_off11_inb : ∀ (i : grid0.Coords) (v16781 : BitVec 32) (k0_hw11 : k0_chk11 i v16781), ∀ (k0_h1 : k0_cond1 i = 1#1), ∀ a, (k0_off11 v16781) a + S1x16x128.size a ≤ S16384x16x128.size a := fun i v16781 k0_hw11 k0_h1 => k0_hw11 k0_h1

def k0_off12 (v16787 : BitVec 32) : Fin 3 → Nat :=
  let c0_i32_15088 : BitVec 32 := 0#32
  let c0_i32_15089 : BitVec 32 := 0#32
  ![v16787.toNat, 0, 0]

def k0_chk12 (i : grid0.Coords) (v16787 : BitVec 32) : Prop :=
  (∀ (k0_h1 : k0_cond1 i = 1#1), ∀ a, (k0_off12 v16787) a + S1x16x128.size a ≤ S16384x16x128.size a)
theorem k0_off12_inb : ∀ (i : grid0.Coords) (v16787 : BitVec 32) (k0_hw12 : k0_chk12 i v16787), ∀ (k0_h1 : k0_cond1 i = 1#1), ∀ a, (k0_off12 v16787) a + S1x16x128.size a ≤ S16384x16x128.size a := fun i v16787 k0_hw12 k0_h1 => k0_hw12 k0_h1

def k0_off13 (v16793 : BitVec 32) : Fin 3 → Nat :=
  let c0_i32_15095 : BitVec 32 := 0#32
  let c0_i32_15096 : BitVec 32 := 0#32
  ![v16793.toNat, 0, 0]

def k0_chk13 (i : grid0.Coords) (v16793 : BitVec 32) : Prop :=
  (∀ (k0_h1 : k0_cond1 i = 1#1), ∀ a, (k0_off13 v16793) a + S1x16x128.size a ≤ S16384x16x128.size a)
theorem k0_off13_inb : ∀ (i : grid0.Coords) (v16793 : BitVec 32) (k0_hw13 : k0_chk13 i v16793), ∀ (k0_h1 : k0_cond1 i = 1#1), ∀ a, (k0_off13 v16793) a + S1x16x128.size a ≤ S16384x16x128.size a := fun i v16793 k0_hw13 k0_h1 => k0_hw13 k0_h1

def k0_off14 (v16799 : BitVec 32) : Fin 3 → Nat :=
  let c0_i32_15102 : BitVec 32 := 0#32
  let c0_i32_15103 : BitVec 32 := 0#32
  ![v16799.toNat, 0, 0]

def k0_chk14 (i : grid0.Coords) (v16799 : BitVec 32) : Prop :=
  (∀ (k0_h1 : k0_cond1 i = 1#1), ∀ a, (k0_off14 v16799) a + S1x16x128.size a ≤ S16384x16x128.size a)
theorem k0_off14_inb : ∀ (i : grid0.Coords) (v16799 : BitVec 32) (k0_hw14 : k0_chk14 i v16799), ∀ (k0_h1 : k0_cond1 i = 1#1), ∀ a, (k0_off14 v16799) a + S1x16x128.size a ≤ S16384x16x128.size a := fun i v16799 k0_hw14 k0_h1 => k0_hw14 k0_h1

def k0_off15 (v16805 : BitVec 32) : Fin 3 → Nat :=
  let c0_i32_15109 : BitVec 32 := 0#32
  let c0_i32_15110 : BitVec 32 := 0#32
  ![v16805.toNat, 0, 0]

def k0_chk15 (i : grid0.Coords) (v16805 : BitVec 32) : Prop :=
  (∀ (k0_h1 : k0_cond1 i = 1#1), ∀ a, (k0_off15 v16805) a + S1x16x128.size a ≤ S16384x16x128.size a)
theorem k0_off15_inb : ∀ (i : grid0.Coords) (v16805 : BitVec 32) (k0_hw15 : k0_chk15 i v16805), ∀ (k0_h1 : k0_cond1 i = 1#1), ∀ a, (k0_off15 v16805) a + S1x16x128.size a ≤ S16384x16x128.size a := fun i v16805 k0_hw15 k0_h1 => k0_hw15 k0_h1

def k0_off16 (v16811 : BitVec 32) : Fin 3 → Nat :=
  let c0_i32_15116 : BitVec 32 := 0#32
  let c0_i32_15117 : BitVec 32 := 0#32
  ![v16811.toNat, 0, 0]

def k0_chk16 (i : grid0.Coords) (v16811 : BitVec 32) : Prop :=
  (∀ (k0_h1 : k0_cond1 i = 1#1), ∀ a, (k0_off16 v16811) a + S1x16x128.size a ≤ S16384x16x128.size a)
theorem k0_off16_inb : ∀ (i : grid0.Coords) (v16811 : BitVec 32) (k0_hw16 : k0_chk16 i v16811), ∀ (k0_h1 : k0_cond1 i = 1#1), ∀ a, (k0_off16 v16811) a + S1x16x128.size a ≤ S16384x16x128.size a := fun i v16811 k0_hw16 k0_h1 => k0_hw16 k0_h1

def k0_off17 (v16817 : BitVec 32) : Fin 3 → Nat :=
  let c0_i32_15123 : BitVec 32 := 0#32
  let c0_i32_15124 : BitVec 32 := 0#32
  ![v16817.toNat, 0, 0]

def k0_chk17 (i : grid0.Coords) (v16817 : BitVec 32) : Prop :=
  (∀ (k0_h1 : k0_cond1 i = 1#1), ∀ a, (k0_off17 v16817) a + S1x16x128.size a ≤ S16384x16x128.size a)
theorem k0_off17_inb : ∀ (i : grid0.Coords) (v16817 : BitVec 32) (k0_hw17 : k0_chk17 i v16817), ∀ (k0_h1 : k0_cond1 i = 1#1), ∀ a, (k0_off17 v16817) a + S1x16x128.size a ≤ S16384x16x128.size a := fun i v16817 k0_hw17 k0_h1 => k0_hw17 k0_h1

def k0_off18 (v16823 : BitVec 32) : Fin 3 → Nat :=
  let c0_i32_15130 : BitVec 32 := 0#32
  let c0_i32_15131 : BitVec 32 := 0#32
  ![v16823.toNat, 0, 0]

def k0_chk18 (i : grid0.Coords) (v16823 : BitVec 32) : Prop :=
  (∀ (k0_h1 : k0_cond1 i = 1#1), ∀ a, (k0_off18 v16823) a + S1x16x128.size a ≤ S16384x16x128.size a)
theorem k0_off18_inb : ∀ (i : grid0.Coords) (v16823 : BitVec 32) (k0_hw18 : k0_chk18 i v16823), ∀ (k0_h1 : k0_cond1 i = 1#1), ∀ a, (k0_off18 v16823) a + S1x16x128.size a ≤ S16384x16x128.size a := fun i v16823 k0_hw18 k0_h1 => k0_hw18 k0_h1

def k0_off19 (v16829 : BitVec 32) : Fin 3 → Nat :=
  let c0_i32_15137 : BitVec 32 := 0#32
  let c0_i32_15138 : BitVec 32 := 0#32
  ![v16829.toNat, 0, 0]

def k0_chk19 (i : grid0.Coords) (v16829 : BitVec 32) : Prop :=
  (∀ (k0_h1 : k0_cond1 i = 1#1), ∀ a, (k0_off19 v16829) a + S1x16x128.size a ≤ S16384x16x128.size a)
theorem k0_off19_inb : ∀ (i : grid0.Coords) (v16829 : BitVec 32) (k0_hw19 : k0_chk19 i v16829), ∀ (k0_h1 : k0_cond1 i = 1#1), ∀ a, (k0_off19 v16829) a + S1x16x128.size a ≤ S16384x16x128.size a := fun i v16829 k0_hw19 k0_h1 => k0_hw19 k0_h1

def k0_off20 (v16835 : BitVec 32) : Fin 3 → Nat :=
  let c0_i32_15144 : BitVec 32 := 0#32
  let c0_i32_15145 : BitVec 32 := 0#32
  ![v16835.toNat, 0, 0]

def k0_chk20 (i : grid0.Coords) (v16835 : BitVec 32) : Prop :=
  (∀ (k0_h1 : k0_cond1 i = 1#1), ∀ a, (k0_off20 v16835) a + S1x16x128.size a ≤ S16384x16x128.size a)
theorem k0_off20_inb : ∀ (i : grid0.Coords) (v16835 : BitVec 32) (k0_hw20 : k0_chk20 i v16835), ∀ (k0_h1 : k0_cond1 i = 1#1), ∀ a, (k0_off20 v16835) a + S1x16x128.size a ≤ S16384x16x128.size a := fun i v16835 k0_hw20 k0_h1 => k0_hw20 k0_h1

def k0_off21 (v16841 : BitVec 32) : Fin 3 → Nat :=
  let c0_i32_15151 : BitVec 32 := 0#32
  let c0_i32_15152 : BitVec 32 := 0#32
  ![v16841.toNat, 0, 0]

def k0_chk21 (i : grid0.Coords) (v16841 : BitVec 32) : Prop :=
  (∀ (k0_h1 : k0_cond1 i = 1#1), ∀ a, (k0_off21 v16841) a + S1x16x128.size a ≤ S16384x16x128.size a)
theorem k0_off21_inb : ∀ (i : grid0.Coords) (v16841 : BitVec 32) (k0_hw21 : k0_chk21 i v16841), ∀ (k0_h1 : k0_cond1 i = 1#1), ∀ a, (k0_off21 v16841) a + S1x16x128.size a ≤ S16384x16x128.size a := fun i v16841 k0_hw21 k0_h1 => k0_hw21 k0_h1

def k0_off22 (v16847 : BitVec 32) : Fin 3 → Nat :=
  let c0_i32_15158 : BitVec 32 := 0#32
  let c0_i32_15159 : BitVec 32 := 0#32
  ![v16847.toNat, 0, 0]

def k0_chk22 (i : grid0.Coords) (v16847 : BitVec 32) : Prop :=
  (∀ (k0_h1 : k0_cond1 i = 1#1), ∀ a, (k0_off22 v16847) a + S1x16x128.size a ≤ S16384x16x128.size a)
theorem k0_off22_inb : ∀ (i : grid0.Coords) (v16847 : BitVec 32) (k0_hw22 : k0_chk22 i v16847), ∀ (k0_h1 : k0_cond1 i = 1#1), ∀ a, (k0_off22 v16847) a + S1x16x128.size a ≤ S16384x16x128.size a := fun i v16847 k0_hw22 k0_h1 => k0_hw22 k0_h1

def k0_off23 (v16853 : BitVec 32) : Fin 3 → Nat :=
  let c0_i32_15165 : BitVec 32 := 0#32
  let c0_i32_15166 : BitVec 32 := 0#32
  ![v16853.toNat, 0, 0]

def k0_chk23 (i : grid0.Coords) (v16853 : BitVec 32) : Prop :=
  (∀ (k0_h1 : k0_cond1 i = 1#1), ∀ a, (k0_off23 v16853) a + S1x16x128.size a ≤ S16384x16x128.size a)
theorem k0_off23_inb : ∀ (i : grid0.Coords) (v16853 : BitVec 32) (k0_hw23 : k0_chk23 i v16853), ∀ (k0_h1 : k0_cond1 i = 1#1), ∀ a, (k0_off23 v16853) a + S1x16x128.size a ≤ S16384x16x128.size a := fun i v16853 k0_hw23 k0_h1 => k0_hw23 k0_h1

def k0_off24 (v16859 : BitVec 32) : Fin 3 → Nat :=
  let c0_i32_15172 : BitVec 32 := 0#32
  let c0_i32_15173 : BitVec 32 := 0#32
  ![v16859.toNat, 0, 0]

def k0_chk24 (i : grid0.Coords) (v16859 : BitVec 32) : Prop :=
  (∀ (k0_h1 : k0_cond1 i = 1#1), ∀ a, (k0_off24 v16859) a + S1x16x128.size a ≤ S16384x16x128.size a)
theorem k0_off24_inb : ∀ (i : grid0.Coords) (v16859 : BitVec 32) (k0_hw24 : k0_chk24 i v16859), ∀ (k0_h1 : k0_cond1 i = 1#1), ∀ a, (k0_off24 v16859) a + S1x16x128.size a ≤ S16384x16x128.size a := fun i v16859 k0_hw24 k0_h1 => k0_hw24 k0_h1

def k0_off25 (v16865 : BitVec 32) : Fin 3 → Nat :=
  let c0_i32_15179 : BitVec 32 := 0#32
  let c0_i32_15180 : BitVec 32 := 0#32
  ![v16865.toNat, 0, 0]

def k0_chk25 (i : grid0.Coords) (v16865 : BitVec 32) : Prop :=
  (∀ (k0_h1 : k0_cond1 i = 1#1), ∀ a, (k0_off25 v16865) a + S1x16x128.size a ≤ S16384x16x128.size a)
theorem k0_off25_inb : ∀ (i : grid0.Coords) (v16865 : BitVec 32) (k0_hw25 : k0_chk25 i v16865), ∀ (k0_h1 : k0_cond1 i = 1#1), ∀ a, (k0_off25 v16865) a + S1x16x128.size a ≤ S16384x16x128.size a := fun i v16865 k0_hw25 k0_h1 => k0_hw25 k0_h1

def k0_off26 (v16871 : BitVec 32) : Fin 3 → Nat :=
  let c0_i32_15186 : BitVec 32 := 0#32
  let c0_i32_15187 : BitVec 32 := 0#32
  ![v16871.toNat, 0, 0]

def k0_chk26 (i : grid0.Coords) (v16871 : BitVec 32) : Prop :=
  (∀ (k0_h1 : k0_cond1 i = 1#1), ∀ a, (k0_off26 v16871) a + S1x16x128.size a ≤ S16384x16x128.size a)
theorem k0_off26_inb : ∀ (i : grid0.Coords) (v16871 : BitVec 32) (k0_hw26 : k0_chk26 i v16871), ∀ (k0_h1 : k0_cond1 i = 1#1), ∀ a, (k0_off26 v16871) a + S1x16x128.size a ≤ S16384x16x128.size a := fun i v16871 k0_hw26 k0_h1 => k0_hw26 k0_h1

def k0_off27 (v16877 : BitVec 32) : Fin 3 → Nat :=
  let c0_i32_15193 : BitVec 32 := 0#32
  let c0_i32_15194 : BitVec 32 := 0#32
  ![v16877.toNat, 0, 0]

def k0_chk27 (i : grid0.Coords) (v16877 : BitVec 32) : Prop :=
  (∀ (k0_h1 : k0_cond1 i = 1#1), ∀ a, (k0_off27 v16877) a + S1x16x128.size a ≤ S16384x16x128.size a)
theorem k0_off27_inb : ∀ (i : grid0.Coords) (v16877 : BitVec 32) (k0_hw27 : k0_chk27 i v16877), ∀ (k0_h1 : k0_cond1 i = 1#1), ∀ a, (k0_off27 v16877) a + S1x16x128.size a ≤ S16384x16x128.size a := fun i v16877 k0_hw27 k0_h1 => k0_hw27 k0_h1

def k0_off28 (v16883 : BitVec 32) : Fin 3 → Nat :=
  let c0_i32_15200 : BitVec 32 := 0#32
  let c0_i32_15201 : BitVec 32 := 0#32
  ![v16883.toNat, 0, 0]

def k0_chk28 (i : grid0.Coords) (v16883 : BitVec 32) : Prop :=
  (∀ (k0_h1 : k0_cond1 i = 1#1), ∀ a, (k0_off28 v16883) a + S1x16x128.size a ≤ S16384x16x128.size a)
theorem k0_off28_inb : ∀ (i : grid0.Coords) (v16883 : BitVec 32) (k0_hw28 : k0_chk28 i v16883), ∀ (k0_h1 : k0_cond1 i = 1#1), ∀ a, (k0_off28 v16883) a + S1x16x128.size a ≤ S16384x16x128.size a := fun i v16883 k0_hw28 k0_h1 => k0_hw28 k0_h1

def k0_off29 (v16889 : BitVec 32) : Fin 3 → Nat :=
  let c0_i32_15207 : BitVec 32 := 0#32
  let c0_i32_15208 : BitVec 32 := 0#32
  ![v16889.toNat, 0, 0]

def k0_chk29 (i : grid0.Coords) (v16889 : BitVec 32) : Prop :=
  (∀ (k0_h1 : k0_cond1 i = 1#1), ∀ a, (k0_off29 v16889) a + S1x16x128.size a ≤ S16384x16x128.size a)
theorem k0_off29_inb : ∀ (i : grid0.Coords) (v16889 : BitVec 32) (k0_hw29 : k0_chk29 i v16889), ∀ (k0_h1 : k0_cond1 i = 1#1), ∀ a, (k0_off29 v16889) a + S1x16x128.size a ≤ S16384x16x128.size a := fun i v16889 k0_hw29 k0_h1 => k0_hw29 k0_h1

def k0_off30 (v16895 : BitVec 32) : Fin 3 → Nat :=
  let c0_i32_15214 : BitVec 32 := 0#32
  let c0_i32_15215 : BitVec 32 := 0#32
  ![v16895.toNat, 0, 0]

def k0_chk30 (i : grid0.Coords) (v16895 : BitVec 32) : Prop :=
  (∀ (k0_h1 : k0_cond1 i = 1#1), ∀ a, (k0_off30 v16895) a + S1x16x128.size a ≤ S16384x16x128.size a)
theorem k0_off30_inb : ∀ (i : grid0.Coords) (v16895 : BitVec 32) (k0_hw30 : k0_chk30 i v16895), ∀ (k0_h1 : k0_cond1 i = 1#1), ∀ a, (k0_off30 v16895) a + S1x16x128.size a ≤ S16384x16x128.size a := fun i v16895 k0_hw30 k0_h1 => k0_hw30 k0_h1

def k0_off31 (v16901 : BitVec 32) : Fin 3 → Nat :=
  let c0_i32_15221 : BitVec 32 := 0#32
  let c0_i32_15222 : BitVec 32 := 0#32
  ![v16901.toNat, 0, 0]

def k0_chk31 (i : grid0.Coords) (v16901 : BitVec 32) : Prop :=
  (∀ (k0_h1 : k0_cond1 i = 1#1), ∀ a, (k0_off31 v16901) a + S1x16x128.size a ≤ S16384x16x128.size a)
theorem k0_off31_inb : ∀ (i : grid0.Coords) (v16901 : BitVec 32) (k0_hw31 : k0_chk31 i v16901), ∀ (k0_h1 : k0_cond1 i = 1#1), ∀ a, (k0_off31 v16901) a + S1x16x128.size a ≤ S16384x16x128.size a := fun i v16901 k0_hw31 k0_h1 => k0_hw31 k0_h1

def k0_off32 (v16907 : BitVec 32) : Fin 3 → Nat :=
  let c0_i32_15228 : BitVec 32 := 0#32
  let c0_i32_15229 : BitVec 32 := 0#32
  ![v16907.toNat, 0, 0]

def k0_chk32 (i : grid0.Coords) (v16907 : BitVec 32) : Prop :=
  (∀ (k0_h1 : k0_cond1 i = 1#1), ∀ a, (k0_off32 v16907) a + S1x16x128.size a ≤ S16384x16x128.size a)
theorem k0_off32_inb : ∀ (i : grid0.Coords) (v16907 : BitVec 32) (k0_hw32 : k0_chk32 i v16907), ∀ (k0_h1 : k0_cond1 i = 1#1), ∀ a, (k0_off32 v16907) a + S1x16x128.size a ≤ S16384x16x128.size a := fun i v16907 k0_hw32 k0_h1 => k0_hw32 k0_h1

def k0_off33 (v16913 : BitVec 32) : Fin 3 → Nat :=
  let c0_i32_15235 : BitVec 32 := 0#32
  let c0_i32_15236 : BitVec 32 := 0#32
  ![v16913.toNat, 0, 0]

def k0_chk33 (i : grid0.Coords) (v16913 : BitVec 32) : Prop :=
  (∀ (k0_h1 : k0_cond1 i = 1#1), ∀ a, (k0_off33 v16913) a + S1x16x128.size a ≤ S16384x16x128.size a)
theorem k0_off33_inb : ∀ (i : grid0.Coords) (v16913 : BitVec 32) (k0_hw33 : k0_chk33 i v16913), ∀ (k0_h1 : k0_cond1 i = 1#1), ∀ a, (k0_off33 v16913) a + S1x16x128.size a ≤ S16384x16x128.size a := fun i v16913 k0_hw33 k0_h1 => k0_hw33 k0_h1

def k0_off34 (v16919 : BitVec 32) : Fin 3 → Nat :=
  let c0_i32_15242 : BitVec 32 := 0#32
  let c0_i32_15243 : BitVec 32 := 0#32
  ![v16919.toNat, 0, 0]

def k0_chk34 (i : grid0.Coords) (v16919 : BitVec 32) : Prop :=
  (∀ (k0_h1 : k0_cond1 i = 1#1), ∀ a, (k0_off34 v16919) a + S1x16x128.size a ≤ S16384x16x128.size a)
theorem k0_off34_inb : ∀ (i : grid0.Coords) (v16919 : BitVec 32) (k0_hw34 : k0_chk34 i v16919), ∀ (k0_h1 : k0_cond1 i = 1#1), ∀ a, (k0_off34 v16919) a + S1x16x128.size a ≤ S16384x16x128.size a := fun i v16919 k0_hw34 k0_h1 => k0_hw34 k0_h1

def k0_off35 (v16925 : BitVec 32) : Fin 3 → Nat :=
  let c0_i32_15249 : BitVec 32 := 0#32
  let c0_i32_15250 : BitVec 32 := 0#32
  ![v16925.toNat, 0, 0]

def k0_chk35 (i : grid0.Coords) (v16925 : BitVec 32) : Prop :=
  (∀ (k0_h1 : k0_cond1 i = 1#1), ∀ a, (k0_off35 v16925) a + S1x16x128.size a ≤ S16384x16x128.size a)
theorem k0_off35_inb : ∀ (i : grid0.Coords) (v16925 : BitVec 32) (k0_hw35 : k0_chk35 i v16925), ∀ (k0_h1 : k0_cond1 i = 1#1), ∀ a, (k0_off35 v16925) a + S1x16x128.size a ≤ S16384x16x128.size a := fun i v16925 k0_hw35 k0_h1 => k0_hw35 k0_h1

def k0_off36 (v16931 : BitVec 32) : Fin 3 → Nat :=
  let c0_i32_15256 : BitVec 32 := 0#32
  let c0_i32_15257 : BitVec 32 := 0#32
  ![v16931.toNat, 0, 0]

def k0_chk36 (i : grid0.Coords) (v16931 : BitVec 32) : Prop :=
  (∀ (k0_h1 : k0_cond1 i = 1#1), ∀ a, (k0_off36 v16931) a + S1x16x128.size a ≤ S16384x16x128.size a)
theorem k0_off36_inb : ∀ (i : grid0.Coords) (v16931 : BitVec 32) (k0_hw36 : k0_chk36 i v16931), ∀ (k0_h1 : k0_cond1 i = 1#1), ∀ a, (k0_off36 v16931) a + S1x16x128.size a ≤ S16384x16x128.size a := fun i v16931 k0_hw36 k0_h1 => k0_hw36 k0_h1

def k0_off37 (v16937 : BitVec 32) : Fin 3 → Nat :=
  let c0_i32_15263 : BitVec 32 := 0#32
  let c0_i32_15264 : BitVec 32 := 0#32
  ![v16937.toNat, 0, 0]

def k0_chk37 (i : grid0.Coords) (v16937 : BitVec 32) : Prop :=
  (∀ (k0_h1 : k0_cond1 i = 1#1), ∀ a, (k0_off37 v16937) a + S1x16x128.size a ≤ S16384x16x128.size a)
theorem k0_off37_inb : ∀ (i : grid0.Coords) (v16937 : BitVec 32) (k0_hw37 : k0_chk37 i v16937), ∀ (k0_h1 : k0_cond1 i = 1#1), ∀ a, (k0_off37 v16937) a + S1x16x128.size a ≤ S16384x16x128.size a := fun i v16937 k0_hw37 k0_h1 => k0_hw37 k0_h1

def k0_off38 (v16943 : BitVec 32) : Fin 3 → Nat :=
  let c0_i32_15270 : BitVec 32 := 0#32
  let c0_i32_15271 : BitVec 32 := 0#32
  ![v16943.toNat, 0, 0]

def k0_chk38 (i : grid0.Coords) (v16943 : BitVec 32) : Prop :=
  (∀ (k0_h1 : k0_cond1 i = 1#1), ∀ a, (k0_off38 v16943) a + S1x16x128.size a ≤ S16384x16x128.size a)
theorem k0_off38_inb : ∀ (i : grid0.Coords) (v16943 : BitVec 32) (k0_hw38 : k0_chk38 i v16943), ∀ (k0_h1 : k0_cond1 i = 1#1), ∀ a, (k0_off38 v16943) a + S1x16x128.size a ≤ S16384x16x128.size a := fun i v16943 k0_hw38 k0_h1 => k0_hw38 k0_h1

def k0_off39 (v16949 : BitVec 32) : Fin 3 → Nat :=
  let c0_i32_15277 : BitVec 32 := 0#32
  let c0_i32_15278 : BitVec 32 := 0#32
  ![v16949.toNat, 0, 0]

def k0_chk39 (i : grid0.Coords) (v16949 : BitVec 32) : Prop :=
  (∀ (k0_h1 : k0_cond1 i = 1#1), ∀ a, (k0_off39 v16949) a + S1x16x128.size a ≤ S16384x16x128.size a)
theorem k0_off39_inb : ∀ (i : grid0.Coords) (v16949 : BitVec 32) (k0_hw39 : k0_chk39 i v16949), ∀ (k0_h1 : k0_cond1 i = 1#1), ∀ a, (k0_off39 v16949) a + S1x16x128.size a ≤ S16384x16x128.size a := fun i v16949 k0_hw39 k0_h1 => k0_hw39 k0_h1

def k0_off40 (v16955 : BitVec 32) : Fin 3 → Nat :=
  let c0_i32_15284 : BitVec 32 := 0#32
  let c0_i32_15285 : BitVec 32 := 0#32
  ![v16955.toNat, 0, 0]

def k0_chk40 (i : grid0.Coords) (v16955 : BitVec 32) : Prop :=
  (∀ (k0_h1 : k0_cond1 i = 1#1), ∀ a, (k0_off40 v16955) a + S1x16x128.size a ≤ S16384x16x128.size a)
theorem k0_off40_inb : ∀ (i : grid0.Coords) (v16955 : BitVec 32) (k0_hw40 : k0_chk40 i v16955), ∀ (k0_h1 : k0_cond1 i = 1#1), ∀ a, (k0_off40 v16955) a + S1x16x128.size a ≤ S16384x16x128.size a := fun i v16955 k0_hw40 k0_h1 => k0_hw40 k0_h1

def k0_off41 (v16961 : BitVec 32) : Fin 3 → Nat :=
  let c0_i32_15291 : BitVec 32 := 0#32
  let c0_i32_15292 : BitVec 32 := 0#32
  ![v16961.toNat, 0, 0]

def k0_chk41 (i : grid0.Coords) (v16961 : BitVec 32) : Prop :=
  (∀ (k0_h1 : k0_cond1 i = 1#1), ∀ a, (k0_off41 v16961) a + S1x16x128.size a ≤ S16384x16x128.size a)
theorem k0_off41_inb : ∀ (i : grid0.Coords) (v16961 : BitVec 32) (k0_hw41 : k0_chk41 i v16961), ∀ (k0_h1 : k0_cond1 i = 1#1), ∀ a, (k0_off41 v16961) a + S1x16x128.size a ≤ S16384x16x128.size a := fun i v16961 k0_hw41 k0_h1 => k0_hw41 k0_h1

def k0_off42 (v16967 : BitVec 32) : Fin 3 → Nat :=
  let c0_i32_15298 : BitVec 32 := 0#32
  let c0_i32_15299 : BitVec 32 := 0#32
  ![v16967.toNat, 0, 0]

def k0_chk42 (i : grid0.Coords) (v16967 : BitVec 32) : Prop :=
  (∀ (k0_h1 : k0_cond1 i = 1#1), ∀ a, (k0_off42 v16967) a + S1x16x128.size a ≤ S16384x16x128.size a)
theorem k0_off42_inb : ∀ (i : grid0.Coords) (v16967 : BitVec 32) (k0_hw42 : k0_chk42 i v16967), ∀ (k0_h1 : k0_cond1 i = 1#1), ∀ a, (k0_off42 v16967) a + S1x16x128.size a ≤ S16384x16x128.size a := fun i v16967 k0_hw42 k0_h1 => k0_hw42 k0_h1

def k0_off43 (v16973 : BitVec 32) : Fin 3 → Nat :=
  let c0_i32_15305 : BitVec 32 := 0#32
  let c0_i32_15306 : BitVec 32 := 0#32
  ![v16973.toNat, 0, 0]

def k0_chk43 (i : grid0.Coords) (v16973 : BitVec 32) : Prop :=
  (∀ (k0_h1 : k0_cond1 i = 1#1), ∀ a, (k0_off43 v16973) a + S1x16x128.size a ≤ S16384x16x128.size a)
theorem k0_off43_inb : ∀ (i : grid0.Coords) (v16973 : BitVec 32) (k0_hw43 : k0_chk43 i v16973), ∀ (k0_h1 : k0_cond1 i = 1#1), ∀ a, (k0_off43 v16973) a + S1x16x128.size a ≤ S16384x16x128.size a := fun i v16973 k0_hw43 k0_h1 => k0_hw43 k0_h1

def k0_off44 (v16979 : BitVec 32) : Fin 3 → Nat :=
  let c0_i32_15312 : BitVec 32 := 0#32
  let c0_i32_15313 : BitVec 32 := 0#32
  ![v16979.toNat, 0, 0]

def k0_chk44 (i : grid0.Coords) (v16979 : BitVec 32) : Prop :=
  (∀ (k0_h1 : k0_cond1 i = 1#1), ∀ a, (k0_off44 v16979) a + S1x16x128.size a ≤ S16384x16x128.size a)
theorem k0_off44_inb : ∀ (i : grid0.Coords) (v16979 : BitVec 32) (k0_hw44 : k0_chk44 i v16979), ∀ (k0_h1 : k0_cond1 i = 1#1), ∀ a, (k0_off44 v16979) a + S1x16x128.size a ≤ S16384x16x128.size a := fun i v16979 k0_hw44 k0_h1 => k0_hw44 k0_h1

def k0_off45 (v16985 : BitVec 32) : Fin 3 → Nat :=
  let c0_i32_15319 : BitVec 32 := 0#32
  let c0_i32_15320 : BitVec 32 := 0#32
  ![v16985.toNat, 0, 0]

def k0_chk45 (i : grid0.Coords) (v16985 : BitVec 32) : Prop :=
  (∀ (k0_h1 : k0_cond1 i = 1#1), ∀ a, (k0_off45 v16985) a + S1x16x128.size a ≤ S16384x16x128.size a)
theorem k0_off45_inb : ∀ (i : grid0.Coords) (v16985 : BitVec 32) (k0_hw45 : k0_chk45 i v16985), ∀ (k0_h1 : k0_cond1 i = 1#1), ∀ a, (k0_off45 v16985) a + S1x16x128.size a ≤ S16384x16x128.size a := fun i v16985 k0_hw45 k0_h1 => k0_hw45 k0_h1

def k0_off46 (v16991 : BitVec 32) : Fin 3 → Nat :=
  let c0_i32_15326 : BitVec 32 := 0#32
  let c0_i32_15327 : BitVec 32 := 0#32
  ![v16991.toNat, 0, 0]

def k0_chk46 (i : grid0.Coords) (v16991 : BitVec 32) : Prop :=
  (∀ (k0_h1 : k0_cond1 i = 1#1), ∀ a, (k0_off46 v16991) a + S1x16x128.size a ≤ S16384x16x128.size a)
theorem k0_off46_inb : ∀ (i : grid0.Coords) (v16991 : BitVec 32) (k0_hw46 : k0_chk46 i v16991), ∀ (k0_h1 : k0_cond1 i = 1#1), ∀ a, (k0_off46 v16991) a + S1x16x128.size a ≤ S16384x16x128.size a := fun i v16991 k0_hw46 k0_h1 => k0_hw46 k0_h1

def k0_off47 (v16997 : BitVec 32) : Fin 3 → Nat :=
  let c0_i32_15333 : BitVec 32 := 0#32
  let c0_i32_15334 : BitVec 32 := 0#32
  ![v16997.toNat, 0, 0]

def k0_chk47 (i : grid0.Coords) (v16997 : BitVec 32) : Prop :=
  (∀ (k0_h1 : k0_cond1 i = 1#1), ∀ a, (k0_off47 v16997) a + S1x16x128.size a ≤ S16384x16x128.size a)
theorem k0_off47_inb : ∀ (i : grid0.Coords) (v16997 : BitVec 32) (k0_hw47 : k0_chk47 i v16997), ∀ (k0_h1 : k0_cond1 i = 1#1), ∀ a, (k0_off47 v16997) a + S1x16x128.size a ≤ S16384x16x128.size a := fun i v16997 k0_hw47 k0_h1 => k0_hw47 k0_h1

def k0_off48 (v17003 : BitVec 32) : Fin 3 → Nat :=
  let c0_i32_15340 : BitVec 32 := 0#32
  let c0_i32_15341 : BitVec 32 := 0#32
  ![v17003.toNat, 0, 0]

def k0_chk48 (i : grid0.Coords) (v17003 : BitVec 32) : Prop :=
  (∀ (k0_h1 : k0_cond1 i = 1#1), ∀ a, (k0_off48 v17003) a + S1x16x128.size a ≤ S16384x16x128.size a)
theorem k0_off48_inb : ∀ (i : grid0.Coords) (v17003 : BitVec 32) (k0_hw48 : k0_chk48 i v17003), ∀ (k0_h1 : k0_cond1 i = 1#1), ∀ a, (k0_off48 v17003) a + S1x16x128.size a ≤ S16384x16x128.size a := fun i v17003 k0_hw48 k0_h1 => k0_hw48 k0_h1

def k0_off49 (v17009 : BitVec 32) : Fin 3 → Nat :=
  let c0_i32_15347 : BitVec 32 := 0#32
  let c0_i32_15348 : BitVec 32 := 0#32
  ![v17009.toNat, 0, 0]

def k0_chk49 (i : grid0.Coords) (v17009 : BitVec 32) : Prop :=
  (∀ (k0_h1 : k0_cond1 i = 1#1), ∀ a, (k0_off49 v17009) a + S1x16x128.size a ≤ S16384x16x128.size a)
theorem k0_off49_inb : ∀ (i : grid0.Coords) (v17009 : BitVec 32) (k0_hw49 : k0_chk49 i v17009), ∀ (k0_h1 : k0_cond1 i = 1#1), ∀ a, (k0_off49 v17009) a + S1x16x128.size a ≤ S16384x16x128.size a := fun i v17009 k0_hw49 k0_h1 => k0_hw49 k0_h1

def k0_off50 (v17015 : BitVec 32) : Fin 3 → Nat :=
  let c0_i32_15354 : BitVec 32 := 0#32
  let c0_i32_15355 : BitVec 32 := 0#32
  ![v17015.toNat, 0, 0]

def k0_chk50 (i : grid0.Coords) (v17015 : BitVec 32) : Prop :=
  (∀ (k0_h1 : k0_cond1 i = 1#1), ∀ a, (k0_off50 v17015) a + S1x16x128.size a ≤ S16384x16x128.size a)
theorem k0_off50_inb : ∀ (i : grid0.Coords) (v17015 : BitVec 32) (k0_hw50 : k0_chk50 i v17015), ∀ (k0_h1 : k0_cond1 i = 1#1), ∀ a, (k0_off50 v17015) a + S1x16x128.size a ≤ S16384x16x128.size a := fun i v17015 k0_hw50 k0_h1 => k0_hw50 k0_h1

def k0_off51 (v17021 : BitVec 32) : Fin 3 → Nat :=
  let c0_i32_15361 : BitVec 32 := 0#32
  let c0_i32_15362 : BitVec 32 := 0#32
  ![v17021.toNat, 0, 0]

def k0_chk51 (i : grid0.Coords) (v17021 : BitVec 32) : Prop :=
  (∀ (k0_h1 : k0_cond1 i = 1#1), ∀ a, (k0_off51 v17021) a + S1x16x128.size a ≤ S16384x16x128.size a)
theorem k0_off51_inb : ∀ (i : grid0.Coords) (v17021 : BitVec 32) (k0_hw51 : k0_chk51 i v17021), ∀ (k0_h1 : k0_cond1 i = 1#1), ∀ a, (k0_off51 v17021) a + S1x16x128.size a ≤ S16384x16x128.size a := fun i v17021 k0_hw51 k0_h1 => k0_hw51 k0_h1

def k0_off52 (v17027 : BitVec 32) : Fin 3 → Nat :=
  let c0_i32_15368 : BitVec 32 := 0#32
  let c0_i32_15369 : BitVec 32 := 0#32
  ![v17027.toNat, 0, 0]

def k0_chk52 (i : grid0.Coords) (v17027 : BitVec 32) : Prop :=
  (∀ (k0_h1 : k0_cond1 i = 1#1), ∀ a, (k0_off52 v17027) a + S1x16x128.size a ≤ S16384x16x128.size a)
theorem k0_off52_inb : ∀ (i : grid0.Coords) (v17027 : BitVec 32) (k0_hw52 : k0_chk52 i v17027), ∀ (k0_h1 : k0_cond1 i = 1#1), ∀ a, (k0_off52 v17027) a + S1x16x128.size a ≤ S16384x16x128.size a := fun i v17027 k0_hw52 k0_h1 => k0_hw52 k0_h1

def k0_off53 (v17033 : BitVec 32) : Fin 3 → Nat :=
  let c0_i32_15375 : BitVec 32 := 0#32
  let c0_i32_15376 : BitVec 32 := 0#32
  ![v17033.toNat, 0, 0]

def k0_chk53 (i : grid0.Coords) (v17033 : BitVec 32) : Prop :=
  (∀ (k0_h1 : k0_cond1 i = 1#1), ∀ a, (k0_off53 v17033) a + S1x16x128.size a ≤ S16384x16x128.size a)
theorem k0_off53_inb : ∀ (i : grid0.Coords) (v17033 : BitVec 32) (k0_hw53 : k0_chk53 i v17033), ∀ (k0_h1 : k0_cond1 i = 1#1), ∀ a, (k0_off53 v17033) a + S1x16x128.size a ≤ S16384x16x128.size a := fun i v17033 k0_hw53 k0_h1 => k0_hw53 k0_h1

def k0_off54 (v17039 : BitVec 32) : Fin 3 → Nat :=
  let c0_i32_15382 : BitVec 32 := 0#32
  let c0_i32_15383 : BitVec 32 := 0#32
  ![v17039.toNat, 0, 0]

def k0_chk54 (i : grid0.Coords) (v17039 : BitVec 32) : Prop :=
  (∀ (k0_h1 : k0_cond1 i = 1#1), ∀ a, (k0_off54 v17039) a + S1x16x128.size a ≤ S16384x16x128.size a)
theorem k0_off54_inb : ∀ (i : grid0.Coords) (v17039 : BitVec 32) (k0_hw54 : k0_chk54 i v17039), ∀ (k0_h1 : k0_cond1 i = 1#1), ∀ a, (k0_off54 v17039) a + S1x16x128.size a ≤ S16384x16x128.size a := fun i v17039 k0_hw54 k0_h1 => k0_hw54 k0_h1

def k0_off55 (v17045 : BitVec 32) : Fin 3 → Nat :=
  let c0_i32_15389 : BitVec 32 := 0#32
  let c0_i32_15390 : BitVec 32 := 0#32
  ![v17045.toNat, 0, 0]

def k0_chk55 (i : grid0.Coords) (v17045 : BitVec 32) : Prop :=
  (∀ (k0_h1 : k0_cond1 i = 1#1), ∀ a, (k0_off55 v17045) a + S1x16x128.size a ≤ S16384x16x128.size a)
theorem k0_off55_inb : ∀ (i : grid0.Coords) (v17045 : BitVec 32) (k0_hw55 : k0_chk55 i v17045), ∀ (k0_h1 : k0_cond1 i = 1#1), ∀ a, (k0_off55 v17045) a + S1x16x128.size a ≤ S16384x16x128.size a := fun i v17045 k0_hw55 k0_h1 => k0_hw55 k0_h1

def k0_off56 (v17051 : BitVec 32) : Fin 3 → Nat :=
  let c0_i32_15396 : BitVec 32 := 0#32
  let c0_i32_15397 : BitVec 32 := 0#32
  ![v17051.toNat, 0, 0]

def k0_chk56 (i : grid0.Coords) (v17051 : BitVec 32) : Prop :=
  (∀ (k0_h1 : k0_cond1 i = 1#1), ∀ a, (k0_off56 v17051) a + S1x16x128.size a ≤ S16384x16x128.size a)
theorem k0_off56_inb : ∀ (i : grid0.Coords) (v17051 : BitVec 32) (k0_hw56 : k0_chk56 i v17051), ∀ (k0_h1 : k0_cond1 i = 1#1), ∀ a, (k0_off56 v17051) a + S1x16x128.size a ≤ S16384x16x128.size a := fun i v17051 k0_hw56 k0_h1 => k0_hw56 k0_h1

def k0_off57 (v17057 : BitVec 32) : Fin 3 → Nat :=
  let c0_i32_15403 : BitVec 32 := 0#32
  let c0_i32_15404 : BitVec 32 := 0#32
  ![v17057.toNat, 0, 0]

def k0_chk57 (i : grid0.Coords) (v17057 : BitVec 32) : Prop :=
  (∀ (k0_h1 : k0_cond1 i = 1#1), ∀ a, (k0_off57 v17057) a + S1x16x128.size a ≤ S16384x16x128.size a)
theorem k0_off57_inb : ∀ (i : grid0.Coords) (v17057 : BitVec 32) (k0_hw57 : k0_chk57 i v17057), ∀ (k0_h1 : k0_cond1 i = 1#1), ∀ a, (k0_off57 v17057) a + S1x16x128.size a ≤ S16384x16x128.size a := fun i v17057 k0_hw57 k0_h1 => k0_hw57 k0_h1

def k0_off58 (v17063 : BitVec 32) : Fin 3 → Nat :=
  let c0_i32_15410 : BitVec 32 := 0#32
  let c0_i32_15411 : BitVec 32 := 0#32
  ![v17063.toNat, 0, 0]

def k0_chk58 (i : grid0.Coords) (v17063 : BitVec 32) : Prop :=
  (∀ (k0_h1 : k0_cond1 i = 1#1), ∀ a, (k0_off58 v17063) a + S1x16x128.size a ≤ S16384x16x128.size a)
theorem k0_off58_inb : ∀ (i : grid0.Coords) (v17063 : BitVec 32) (k0_hw58 : k0_chk58 i v17063), ∀ (k0_h1 : k0_cond1 i = 1#1), ∀ a, (k0_off58 v17063) a + S1x16x128.size a ≤ S16384x16x128.size a := fun i v17063 k0_hw58 k0_h1 => k0_hw58 k0_h1

def k0_off59 (v17069 : BitVec 32) : Fin 3 → Nat :=
  let c0_i32_15417 : BitVec 32 := 0#32
  let c0_i32_15418 : BitVec 32 := 0#32
  ![v17069.toNat, 0, 0]

def k0_chk59 (i : grid0.Coords) (v17069 : BitVec 32) : Prop :=
  (∀ (k0_h1 : k0_cond1 i = 1#1), ∀ a, (k0_off59 v17069) a + S1x16x128.size a ≤ S16384x16x128.size a)
theorem k0_off59_inb : ∀ (i : grid0.Coords) (v17069 : BitVec 32) (k0_hw59 : k0_chk59 i v17069), ∀ (k0_h1 : k0_cond1 i = 1#1), ∀ a, (k0_off59 v17069) a + S1x16x128.size a ≤ S16384x16x128.size a := fun i v17069 k0_hw59 k0_h1 => k0_hw59 k0_h1

def k0_off60 (v17075 : BitVec 32) : Fin 3 → Nat :=
  let c0_i32_15424 : BitVec 32 := 0#32
  let c0_i32_15425 : BitVec 32 := 0#32
  ![v17075.toNat, 0, 0]

def k0_chk60 (i : grid0.Coords) (v17075 : BitVec 32) : Prop :=
  (∀ (k0_h1 : k0_cond1 i = 1#1), ∀ a, (k0_off60 v17075) a + S1x16x128.size a ≤ S16384x16x128.size a)
theorem k0_off60_inb : ∀ (i : grid0.Coords) (v17075 : BitVec 32) (k0_hw60 : k0_chk60 i v17075), ∀ (k0_h1 : k0_cond1 i = 1#1), ∀ a, (k0_off60 v17075) a + S1x16x128.size a ≤ S16384x16x128.size a := fun i v17075 k0_hw60 k0_h1 => k0_hw60 k0_h1

def k0_off61 (v17081 : BitVec 32) : Fin 3 → Nat :=
  let c0_i32_15431 : BitVec 32 := 0#32
  let c0_i32_15432 : BitVec 32 := 0#32
  ![v17081.toNat, 0, 0]

def k0_chk61 (i : grid0.Coords) (v17081 : BitVec 32) : Prop :=
  (∀ (k0_h1 : k0_cond1 i = 1#1), ∀ a, (k0_off61 v17081) a + S1x16x128.size a ≤ S16384x16x128.size a)
theorem k0_off61_inb : ∀ (i : grid0.Coords) (v17081 : BitVec 32) (k0_hw61 : k0_chk61 i v17081), ∀ (k0_h1 : k0_cond1 i = 1#1), ∀ a, (k0_off61 v17081) a + S1x16x128.size a ≤ S16384x16x128.size a := fun i v17081 k0_hw61 k0_h1 => k0_hw61 k0_h1

def k0_off62 (v17087 : BitVec 32) : Fin 3 → Nat :=
  let c0_i32_15438 : BitVec 32 := 0#32
  let c0_i32_15439 : BitVec 32 := 0#32
  ![v17087.toNat, 0, 0]

def k0_chk62 (i : grid0.Coords) (v17087 : BitVec 32) : Prop :=
  (∀ (k0_h1 : k0_cond1 i = 1#1), ∀ a, (k0_off62 v17087) a + S1x16x128.size a ≤ S16384x16x128.size a)
theorem k0_off62_inb : ∀ (i : grid0.Coords) (v17087 : BitVec 32) (k0_hw62 : k0_chk62 i v17087), ∀ (k0_h1 : k0_cond1 i = 1#1), ∀ a, (k0_off62 v17087) a + S1x16x128.size a ≤ S16384x16x128.size a := fun i v17087 k0_hw62 k0_h1 => k0_hw62 k0_h1

def k0_off63 (v17093 : BitVec 32) : Fin 3 → Nat :=
  let c0_i32_15445 : BitVec 32 := 0#32
  let c0_i32_15446 : BitVec 32 := 0#32
  ![v17093.toNat, 0, 0]

def k0_chk63 (i : grid0.Coords) (v17093 : BitVec 32) : Prop :=
  (∀ (k0_h1 : k0_cond1 i = 1#1), ∀ a, (k0_off63 v17093) a + S1x16x128.size a ≤ S16384x16x128.size a)
theorem k0_off63_inb : ∀ (i : grid0.Coords) (v17093 : BitVec 32) (k0_hw63 : k0_chk63 i v17093), ∀ (k0_h1 : k0_cond1 i = 1#1), ∀ a, (k0_off63 v17093) a + S1x16x128.size a ≤ S16384x16x128.size a := fun i v17093 k0_hw63 k0_h1 => k0_hw63 k0_h1

def k0_off64 (v17099 : BitVec 32) : Fin 3 → Nat :=
  let c0_i32_15452 : BitVec 32 := 0#32
  let c0_i32_15453 : BitVec 32 := 0#32
  ![v17099.toNat, 0, 0]

def k0_chk64 (i : grid0.Coords) (v17099 : BitVec 32) : Prop :=
  (∀ (k0_h1 : k0_cond1 i = 1#1), ∀ a, (k0_off64 v17099) a + S1x16x128.size a ≤ S16384x16x128.size a)
theorem k0_off64_inb : ∀ (i : grid0.Coords) (v17099 : BitVec 32) (k0_hw64 : k0_chk64 i v17099), ∀ (k0_h1 : k0_cond1 i = 1#1), ∀ a, (k0_off64 v17099) a + S1x16x128.size a ≤ S16384x16x128.size a := fun i v17099 k0_hw64 k0_h1 => k0_hw64 k0_h1

def k0_off65 (v17105 : BitVec 32) : Fin 3 → Nat :=
  let c0_i32_15459 : BitVec 32 := 0#32
  let c0_i32_15460 : BitVec 32 := 0#32
  ![v17105.toNat, 0, 0]

def k0_chk65 (i : grid0.Coords) (v17105 : BitVec 32) : Prop :=
  (∀ (k0_h1 : k0_cond1 i = 1#1), ∀ a, (k0_off65 v17105) a + S1x16x128.size a ≤ S16384x16x128.size a)
theorem k0_off65_inb : ∀ (i : grid0.Coords) (v17105 : BitVec 32) (k0_hw65 : k0_chk65 i v17105), ∀ (k0_h1 : k0_cond1 i = 1#1), ∀ a, (k0_off65 v17105) a + S1x16x128.size a ≤ S16384x16x128.size a := fun i v17105 k0_hw65 k0_h1 => k0_hw65 k0_h1

def k0_off66 (v17111 : BitVec 32) : Fin 3 → Nat :=
  let c0_i32_15466 : BitVec 32 := 0#32
  let c0_i32_15467 : BitVec 32 := 0#32
  ![v17111.toNat, 0, 0]

def k0_chk66 (i : grid0.Coords) (v17111 : BitVec 32) : Prop :=
  (∀ (k0_h1 : k0_cond1 i = 1#1), ∀ a, (k0_off66 v17111) a + S1x16x128.size a ≤ S16384x16x128.size a)
theorem k0_off66_inb : ∀ (i : grid0.Coords) (v17111 : BitVec 32) (k0_hw66 : k0_chk66 i v17111), ∀ (k0_h1 : k0_cond1 i = 1#1), ∀ a, (k0_off66 v17111) a + S1x16x128.size a ≤ S16384x16x128.size a := fun i v17111 k0_hw66 k0_h1 => k0_hw66 k0_h1

def k0_off67 (v17117 : BitVec 32) : Fin 3 → Nat :=
  let c0_i32_15473 : BitVec 32 := 0#32
  let c0_i32_15474 : BitVec 32 := 0#32
  ![v17117.toNat, 0, 0]

def k0_chk67 (i : grid0.Coords) (v17117 : BitVec 32) : Prop :=
  (∀ (k0_h1 : k0_cond1 i = 1#1), ∀ a, (k0_off67 v17117) a + S1x16x128.size a ≤ S16384x16x128.size a)
theorem k0_off67_inb : ∀ (i : grid0.Coords) (v17117 : BitVec 32) (k0_hw67 : k0_chk67 i v17117), ∀ (k0_h1 : k0_cond1 i = 1#1), ∀ a, (k0_off67 v17117) a + S1x16x128.size a ≤ S16384x16x128.size a := fun i v17117 k0_hw67 k0_h1 => k0_hw67 k0_h1

def k0_off68 (v17123 : BitVec 32) : Fin 3 → Nat :=
  let c0_i32_15480 : BitVec 32 := 0#32
  let c0_i32_15481 : BitVec 32 := 0#32
  ![v17123.toNat, 0, 0]

def k0_chk68 (i : grid0.Coords) (v17123 : BitVec 32) : Prop :=
  (∀ (k0_h1 : k0_cond1 i = 1#1), ∀ a, (k0_off68 v17123) a + S1x16x128.size a ≤ S16384x16x128.size a)
theorem k0_off68_inb : ∀ (i : grid0.Coords) (v17123 : BitVec 32) (k0_hw68 : k0_chk68 i v17123), ∀ (k0_h1 : k0_cond1 i = 1#1), ∀ a, (k0_off68 v17123) a + S1x16x128.size a ≤ S16384x16x128.size a := fun i v17123 k0_hw68 k0_h1 => k0_hw68 k0_h1

def k0_off69 (v17129 : BitVec 32) : Fin 3 → Nat :=
  let c0_i32_15487 : BitVec 32 := 0#32
  let c0_i32_15488 : BitVec 32 := 0#32
  ![v17129.toNat, 0, 0]

def k0_chk69 (i : grid0.Coords) (v17129 : BitVec 32) : Prop :=
  (∀ (k0_h1 : k0_cond1 i = 1#1), ∀ a, (k0_off69 v17129) a + S1x16x128.size a ≤ S16384x16x128.size a)
theorem k0_off69_inb : ∀ (i : grid0.Coords) (v17129 : BitVec 32) (k0_hw69 : k0_chk69 i v17129), ∀ (k0_h1 : k0_cond1 i = 1#1), ∀ a, (k0_off69 v17129) a + S1x16x128.size a ≤ S16384x16x128.size a := fun i v17129 k0_hw69 k0_h1 => k0_hw69 k0_h1

def k0_off70 (v17135 : BitVec 32) : Fin 3 → Nat :=
  let c0_i32_15494 : BitVec 32 := 0#32
  let c0_i32_15495 : BitVec 32 := 0#32
  ![v17135.toNat, 0, 0]

def k0_chk70 (i : grid0.Coords) (v17135 : BitVec 32) : Prop :=
  (∀ (k0_h1 : k0_cond1 i = 1#1), ∀ a, (k0_off70 v17135) a + S1x16x128.size a ≤ S16384x16x128.size a)
theorem k0_off70_inb : ∀ (i : grid0.Coords) (v17135 : BitVec 32) (k0_hw70 : k0_chk70 i v17135), ∀ (k0_h1 : k0_cond1 i = 1#1), ∀ a, (k0_off70 v17135) a + S1x16x128.size a ≤ S16384x16x128.size a := fun i v17135 k0_hw70 k0_h1 => k0_hw70 k0_h1

def k0_off71 (v17141 : BitVec 32) : Fin 3 → Nat :=
  let c0_i32_15501 : BitVec 32 := 0#32
  let c0_i32_15502 : BitVec 32 := 0#32
  ![v17141.toNat, 0, 0]

def k0_chk71 (i : grid0.Coords) (v17141 : BitVec 32) : Prop :=
  (∀ (k0_h1 : k0_cond1 i = 1#1), ∀ a, (k0_off71 v17141) a + S1x16x128.size a ≤ S16384x16x128.size a)
theorem k0_off71_inb : ∀ (i : grid0.Coords) (v17141 : BitVec 32) (k0_hw71 : k0_chk71 i v17141), ∀ (k0_h1 : k0_cond1 i = 1#1), ∀ a, (k0_off71 v17141) a + S1x16x128.size a ≤ S16384x16x128.size a := fun i v17141 k0_hw71 k0_h1 => k0_hw71 k0_h1

def k0_off72 (v17147 : BitVec 32) : Fin 3 → Nat :=
  let c0_i32_15508 : BitVec 32 := 0#32
  let c0_i32_15509 : BitVec 32 := 0#32
  ![v17147.toNat, 0, 0]

def k0_chk72 (i : grid0.Coords) (v17147 : BitVec 32) : Prop :=
  (∀ (k0_h1 : k0_cond1 i = 1#1), ∀ a, (k0_off72 v17147) a + S1x16x128.size a ≤ S16384x16x128.size a)
theorem k0_off72_inb : ∀ (i : grid0.Coords) (v17147 : BitVec 32) (k0_hw72 : k0_chk72 i v17147), ∀ (k0_h1 : k0_cond1 i = 1#1), ∀ a, (k0_off72 v17147) a + S1x16x128.size a ≤ S16384x16x128.size a := fun i v17147 k0_hw72 k0_h1 => k0_hw72 k0_h1

def k0_off73 (v17153 : BitVec 32) : Fin 3 → Nat :=
  let c0_i32_15515 : BitVec 32 := 0#32
  let c0_i32_15516 : BitVec 32 := 0#32
  ![v17153.toNat, 0, 0]

def k0_chk73 (i : grid0.Coords) (v17153 : BitVec 32) : Prop :=
  (∀ (k0_h1 : k0_cond1 i = 1#1), ∀ a, (k0_off73 v17153) a + S1x16x128.size a ≤ S16384x16x128.size a)
theorem k0_off73_inb : ∀ (i : grid0.Coords) (v17153 : BitVec 32) (k0_hw73 : k0_chk73 i v17153), ∀ (k0_h1 : k0_cond1 i = 1#1), ∀ a, (k0_off73 v17153) a + S1x16x128.size a ≤ S16384x16x128.size a := fun i v17153 k0_hw73 k0_h1 => k0_hw73 k0_h1

def k0_off74 (v17159 : BitVec 32) : Fin 3 → Nat :=
  let c0_i32_15522 : BitVec 32 := 0#32
  let c0_i32_15523 : BitVec 32 := 0#32
  ![v17159.toNat, 0, 0]

def k0_chk74 (i : grid0.Coords) (v17159 : BitVec 32) : Prop :=
  (∀ (k0_h1 : k0_cond1 i = 1#1), ∀ a, (k0_off74 v17159) a + S1x16x128.size a ≤ S16384x16x128.size a)
theorem k0_off74_inb : ∀ (i : grid0.Coords) (v17159 : BitVec 32) (k0_hw74 : k0_chk74 i v17159), ∀ (k0_h1 : k0_cond1 i = 1#1), ∀ a, (k0_off74 v17159) a + S1x16x128.size a ≤ S16384x16x128.size a := fun i v17159 k0_hw74 k0_h1 => k0_hw74 k0_h1

def k0_off75 (v17165 : BitVec 32) : Fin 3 → Nat :=
  let c0_i32_15529 : BitVec 32 := 0#32
  let c0_i32_15530 : BitVec 32 := 0#32
  ![v17165.toNat, 0, 0]

def k0_chk75 (i : grid0.Coords) (v17165 : BitVec 32) : Prop :=
  (∀ (k0_h1 : k0_cond1 i = 1#1), ∀ a, (k0_off75 v17165) a + S1x16x128.size a ≤ S16384x16x128.size a)
theorem k0_off75_inb : ∀ (i : grid0.Coords) (v17165 : BitVec 32) (k0_hw75 : k0_chk75 i v17165), ∀ (k0_h1 : k0_cond1 i = 1#1), ∀ a, (k0_off75 v17165) a + S1x16x128.size a ≤ S16384x16x128.size a := fun i v17165 k0_hw75 k0_h1 => k0_hw75 k0_h1

def k0_off76 (v17171 : BitVec 32) : Fin 3 → Nat :=
  let c0_i32_15536 : BitVec 32 := 0#32
  let c0_i32_15537 : BitVec 32 := 0#32
  ![v17171.toNat, 0, 0]

def k0_chk76 (i : grid0.Coords) (v17171 : BitVec 32) : Prop :=
  (∀ (k0_h1 : k0_cond1 i = 1#1), ∀ a, (k0_off76 v17171) a + S1x16x128.size a ≤ S16384x16x128.size a)
theorem k0_off76_inb : ∀ (i : grid0.Coords) (v17171 : BitVec 32) (k0_hw76 : k0_chk76 i v17171), ∀ (k0_h1 : k0_cond1 i = 1#1), ∀ a, (k0_off76 v17171) a + S1x16x128.size a ≤ S16384x16x128.size a := fun i v17171 k0_hw76 k0_h1 => k0_hw76 k0_h1

def k0_off77 (v17177 : BitVec 32) : Fin 3 → Nat :=
  let c0_i32_15543 : BitVec 32 := 0#32
  let c0_i32_15544 : BitVec 32 := 0#32
  ![v17177.toNat, 0, 0]

def k0_chk77 (i : grid0.Coords) (v17177 : BitVec 32) : Prop :=
  (∀ (k0_h1 : k0_cond1 i = 1#1), ∀ a, (k0_off77 v17177) a + S1x16x128.size a ≤ S16384x16x128.size a)
theorem k0_off77_inb : ∀ (i : grid0.Coords) (v17177 : BitVec 32) (k0_hw77 : k0_chk77 i v17177), ∀ (k0_h1 : k0_cond1 i = 1#1), ∀ a, (k0_off77 v17177) a + S1x16x128.size a ≤ S16384x16x128.size a := fun i v17177 k0_hw77 k0_h1 => k0_hw77 k0_h1

def k0_off78 (v17183 : BitVec 32) : Fin 3 → Nat :=
  let c0_i32_15550 : BitVec 32 := 0#32
  let c0_i32_15551 : BitVec 32 := 0#32
  ![v17183.toNat, 0, 0]

def k0_chk78 (i : grid0.Coords) (v17183 : BitVec 32) : Prop :=
  (∀ (k0_h1 : k0_cond1 i = 1#1), ∀ a, (k0_off78 v17183) a + S1x16x128.size a ≤ S16384x16x128.size a)
theorem k0_off78_inb : ∀ (i : grid0.Coords) (v17183 : BitVec 32) (k0_hw78 : k0_chk78 i v17183), ∀ (k0_h1 : k0_cond1 i = 1#1), ∀ a, (k0_off78 v17183) a + S1x16x128.size a ≤ S16384x16x128.size a := fun i v17183 k0_hw78 k0_h1 => k0_hw78 k0_h1

def k0_off79 (v17189 : BitVec 32) : Fin 3 → Nat :=
  let c0_i32_15557 : BitVec 32 := 0#32
  let c0_i32_15558 : BitVec 32 := 0#32
  ![v17189.toNat, 0, 0]

def k0_chk79 (i : grid0.Coords) (v17189 : BitVec 32) : Prop :=
  (∀ (k0_h1 : k0_cond1 i = 1#1), ∀ a, (k0_off79 v17189) a + S1x16x128.size a ≤ S16384x16x128.size a)
theorem k0_off79_inb : ∀ (i : grid0.Coords) (v17189 : BitVec 32) (k0_hw79 : k0_chk79 i v17189), ∀ (k0_h1 : k0_cond1 i = 1#1), ∀ a, (k0_off79 v17189) a + S1x16x128.size a ≤ S16384x16x128.size a := fun i v17189 k0_hw79 k0_h1 => k0_hw79 k0_h1

def k0_off80 (v17195 : BitVec 32) : Fin 3 → Nat :=
  let c0_i32_15564 : BitVec 32 := 0#32
  let c0_i32_15565 : BitVec 32 := 0#32
  ![v17195.toNat, 0, 0]

def k0_chk80 (i : grid0.Coords) (v17195 : BitVec 32) : Prop :=
  (∀ (k0_h1 : k0_cond1 i = 1#1), ∀ a, (k0_off80 v17195) a + S1x16x128.size a ≤ S16384x16x128.size a)
theorem k0_off80_inb : ∀ (i : grid0.Coords) (v17195 : BitVec 32) (k0_hw80 : k0_chk80 i v17195), ∀ (k0_h1 : k0_cond1 i = 1#1), ∀ a, (k0_off80 v17195) a + S1x16x128.size a ≤ S16384x16x128.size a := fun i v17195 k0_hw80 k0_h1 => k0_hw80 k0_h1

def k0_off81 (v17201 : BitVec 32) : Fin 3 → Nat :=
  let c0_i32_15571 : BitVec 32 := 0#32
  let c0_i32_15572 : BitVec 32 := 0#32
  ![v17201.toNat, 0, 0]

def k0_chk81 (i : grid0.Coords) (v17201 : BitVec 32) : Prop :=
  (∀ (k0_h1 : k0_cond1 i = 1#1), ∀ a, (k0_off81 v17201) a + S1x16x128.size a ≤ S16384x16x128.size a)
theorem k0_off81_inb : ∀ (i : grid0.Coords) (v17201 : BitVec 32) (k0_hw81 : k0_chk81 i v17201), ∀ (k0_h1 : k0_cond1 i = 1#1), ∀ a, (k0_off81 v17201) a + S1x16x128.size a ≤ S16384x16x128.size a := fun i v17201 k0_hw81 k0_h1 => k0_hw81 k0_h1

def k0_off82 (v17207 : BitVec 32) : Fin 3 → Nat :=
  let c0_i32_15578 : BitVec 32 := 0#32
  let c0_i32_15579 : BitVec 32 := 0#32
  ![v17207.toNat, 0, 0]

def k0_chk82 (i : grid0.Coords) (v17207 : BitVec 32) : Prop :=
  (∀ (k0_h1 : k0_cond1 i = 1#1), ∀ a, (k0_off82 v17207) a + S1x16x128.size a ≤ S16384x16x128.size a)
theorem k0_off82_inb : ∀ (i : grid0.Coords) (v17207 : BitVec 32) (k0_hw82 : k0_chk82 i v17207), ∀ (k0_h1 : k0_cond1 i = 1#1), ∀ a, (k0_off82 v17207) a + S1x16x128.size a ≤ S16384x16x128.size a := fun i v17207 k0_hw82 k0_h1 => k0_hw82 k0_h1

def k0_off83 (v17213 : BitVec 32) : Fin 3 → Nat :=
  let c0_i32_15585 : BitVec 32 := 0#32
  let c0_i32_15586 : BitVec 32 := 0#32
  ![v17213.toNat, 0, 0]

def k0_chk83 (i : grid0.Coords) (v17213 : BitVec 32) : Prop :=
  (∀ (k0_h1 : k0_cond1 i = 1#1), ∀ a, (k0_off83 v17213) a + S1x16x128.size a ≤ S16384x16x128.size a)
theorem k0_off83_inb : ∀ (i : grid0.Coords) (v17213 : BitVec 32) (k0_hw83 : k0_chk83 i v17213), ∀ (k0_h1 : k0_cond1 i = 1#1), ∀ a, (k0_off83 v17213) a + S1x16x128.size a ≤ S16384x16x128.size a := fun i v17213 k0_hw83 k0_h1 => k0_hw83 k0_h1

def k0_off84 (v17219 : BitVec 32) : Fin 3 → Nat :=
  let c0_i32_15592 : BitVec 32 := 0#32
  let c0_i32_15593 : BitVec 32 := 0#32
  ![v17219.toNat, 0, 0]

def k0_chk84 (i : grid0.Coords) (v17219 : BitVec 32) : Prop :=
  (∀ (k0_h1 : k0_cond1 i = 1#1), ∀ a, (k0_off84 v17219) a + S1x16x128.size a ≤ S16384x16x128.size a)
theorem k0_off84_inb : ∀ (i : grid0.Coords) (v17219 : BitVec 32) (k0_hw84 : k0_chk84 i v17219), ∀ (k0_h1 : k0_cond1 i = 1#1), ∀ a, (k0_off84 v17219) a + S1x16x128.size a ≤ S16384x16x128.size a := fun i v17219 k0_hw84 k0_h1 => k0_hw84 k0_h1

def k0_off85 (v17225 : BitVec 32) : Fin 3 → Nat :=
  let c0_i32_15599 : BitVec 32 := 0#32
  let c0_i32_15600 : BitVec 32 := 0#32
  ![v17225.toNat, 0, 0]

def k0_chk85 (i : grid0.Coords) (v17225 : BitVec 32) : Prop :=
  (∀ (k0_h1 : k0_cond1 i = 1#1), ∀ a, (k0_off85 v17225) a + S1x16x128.size a ≤ S16384x16x128.size a)
theorem k0_off85_inb : ∀ (i : grid0.Coords) (v17225 : BitVec 32) (k0_hw85 : k0_chk85 i v17225), ∀ (k0_h1 : k0_cond1 i = 1#1), ∀ a, (k0_off85 v17225) a + S1x16x128.size a ≤ S16384x16x128.size a := fun i v17225 k0_hw85 k0_h1 => k0_hw85 k0_h1

def k0_off86 (v17231 : BitVec 32) : Fin 3 → Nat :=
  let c0_i32_15606 : BitVec 32 := 0#32
  let c0_i32_15607 : BitVec 32 := 0#32
  ![v17231.toNat, 0, 0]

def k0_chk86 (i : grid0.Coords) (v17231 : BitVec 32) : Prop :=
  (∀ (k0_h1 : k0_cond1 i = 1#1), ∀ a, (k0_off86 v17231) a + S1x16x128.size a ≤ S16384x16x128.size a)
theorem k0_off86_inb : ∀ (i : grid0.Coords) (v17231 : BitVec 32) (k0_hw86 : k0_chk86 i v17231), ∀ (k0_h1 : k0_cond1 i = 1#1), ∀ a, (k0_off86 v17231) a + S1x16x128.size a ≤ S16384x16x128.size a := fun i v17231 k0_hw86 k0_h1 => k0_hw86 k0_h1

def k0_off87 (v17237 : BitVec 32) : Fin 3 → Nat :=
  let c0_i32_15613 : BitVec 32 := 0#32
  let c0_i32_15614 : BitVec 32 := 0#32
  ![v17237.toNat, 0, 0]

def k0_chk87 (i : grid0.Coords) (v17237 : BitVec 32) : Prop :=
  (∀ (k0_h1 : k0_cond1 i = 1#1), ∀ a, (k0_off87 v17237) a + S1x16x128.size a ≤ S16384x16x128.size a)
theorem k0_off87_inb : ∀ (i : grid0.Coords) (v17237 : BitVec 32) (k0_hw87 : k0_chk87 i v17237), ∀ (k0_h1 : k0_cond1 i = 1#1), ∀ a, (k0_off87 v17237) a + S1x16x128.size a ≤ S16384x16x128.size a := fun i v17237 k0_hw87 k0_h1 => k0_hw87 k0_h1

def k0_off88 (v17243 : BitVec 32) : Fin 3 → Nat :=
  let c0_i32_15620 : BitVec 32 := 0#32
  let c0_i32_15621 : BitVec 32 := 0#32
  ![v17243.toNat, 0, 0]

def k0_chk88 (i : grid0.Coords) (v17243 : BitVec 32) : Prop :=
  (∀ (k0_h1 : k0_cond1 i = 1#1), ∀ a, (k0_off88 v17243) a + S1x16x128.size a ≤ S16384x16x128.size a)
theorem k0_off88_inb : ∀ (i : grid0.Coords) (v17243 : BitVec 32) (k0_hw88 : k0_chk88 i v17243), ∀ (k0_h1 : k0_cond1 i = 1#1), ∀ a, (k0_off88 v17243) a + S1x16x128.size a ≤ S16384x16x128.size a := fun i v17243 k0_hw88 k0_h1 => k0_hw88 k0_h1

def k0_off89 (v17249 : BitVec 32) : Fin 3 → Nat :=
  let c0_i32_15627 : BitVec 32 := 0#32
  let c0_i32_15628 : BitVec 32 := 0#32
  ![v17249.toNat, 0, 0]

def k0_chk89 (i : grid0.Coords) (v17249 : BitVec 32) : Prop :=
  (∀ (k0_h1 : k0_cond1 i = 1#1), ∀ a, (k0_off89 v17249) a + S1x16x128.size a ≤ S16384x16x128.size a)
theorem k0_off89_inb : ∀ (i : grid0.Coords) (v17249 : BitVec 32) (k0_hw89 : k0_chk89 i v17249), ∀ (k0_h1 : k0_cond1 i = 1#1), ∀ a, (k0_off89 v17249) a + S1x16x128.size a ≤ S16384x16x128.size a := fun i v17249 k0_hw89 k0_h1 => k0_hw89 k0_h1

def k0_off90 (v17255 : BitVec 32) : Fin 3 → Nat :=
  let c0_i32_15634 : BitVec 32 := 0#32
  let c0_i32_15635 : BitVec 32 := 0#32
  ![v17255.toNat, 0, 0]

def k0_chk90 (i : grid0.Coords) (v17255 : BitVec 32) : Prop :=
  (∀ (k0_h1 : k0_cond1 i = 1#1), ∀ a, (k0_off90 v17255) a + S1x16x128.size a ≤ S16384x16x128.size a)
theorem k0_off90_inb : ∀ (i : grid0.Coords) (v17255 : BitVec 32) (k0_hw90 : k0_chk90 i v17255), ∀ (k0_h1 : k0_cond1 i = 1#1), ∀ a, (k0_off90 v17255) a + S1x16x128.size a ≤ S16384x16x128.size a := fun i v17255 k0_hw90 k0_h1 => k0_hw90 k0_h1

def k0_off91 (v17261 : BitVec 32) : Fin 3 → Nat :=
  let c0_i32_15641 : BitVec 32 := 0#32
  let c0_i32_15642 : BitVec 32 := 0#32
  ![v17261.toNat, 0, 0]

def k0_chk91 (i : grid0.Coords) (v17261 : BitVec 32) : Prop :=
  (∀ (k0_h1 : k0_cond1 i = 1#1), ∀ a, (k0_off91 v17261) a + S1x16x128.size a ≤ S16384x16x128.size a)
theorem k0_off91_inb : ∀ (i : grid0.Coords) (v17261 : BitVec 32) (k0_hw91 : k0_chk91 i v17261), ∀ (k0_h1 : k0_cond1 i = 1#1), ∀ a, (k0_off91 v17261) a + S1x16x128.size a ≤ S16384x16x128.size a := fun i v17261 k0_hw91 k0_h1 => k0_hw91 k0_h1

def k0_off92 (v17267 : BitVec 32) : Fin 3 → Nat :=
  let c0_i32_15648 : BitVec 32 := 0#32
  let c0_i32_15649 : BitVec 32 := 0#32
  ![v17267.toNat, 0, 0]

def k0_chk92 (i : grid0.Coords) (v17267 : BitVec 32) : Prop :=
  (∀ (k0_h1 : k0_cond1 i = 1#1), ∀ a, (k0_off92 v17267) a + S1x16x128.size a ≤ S16384x16x128.size a)
theorem k0_off92_inb : ∀ (i : grid0.Coords) (v17267 : BitVec 32) (k0_hw92 : k0_chk92 i v17267), ∀ (k0_h1 : k0_cond1 i = 1#1), ∀ a, (k0_off92 v17267) a + S1x16x128.size a ≤ S16384x16x128.size a := fun i v17267 k0_hw92 k0_h1 => k0_hw92 k0_h1

def k0_off93 (v17273 : BitVec 32) : Fin 3 → Nat :=
  let c0_i32_15655 : BitVec 32 := 0#32
  let c0_i32_15656 : BitVec 32 := 0#32
  ![v17273.toNat, 0, 0]

def k0_chk93 (i : grid0.Coords) (v17273 : BitVec 32) : Prop :=
  (∀ (k0_h1 : k0_cond1 i = 1#1), ∀ a, (k0_off93 v17273) a + S1x16x128.size a ≤ S16384x16x128.size a)
theorem k0_off93_inb : ∀ (i : grid0.Coords) (v17273 : BitVec 32) (k0_hw93 : k0_chk93 i v17273), ∀ (k0_h1 : k0_cond1 i = 1#1), ∀ a, (k0_off93 v17273) a + S1x16x128.size a ≤ S16384x16x128.size a := fun i v17273 k0_hw93 k0_h1 => k0_hw93 k0_h1

def k0_off94 (v17279 : BitVec 32) : Fin 3 → Nat :=
  let c0_i32_15662 : BitVec 32 := 0#32
  let c0_i32_15663 : BitVec 32 := 0#32
  ![v17279.toNat, 0, 0]

def k0_chk94 (i : grid0.Coords) (v17279 : BitVec 32) : Prop :=
  (∀ (k0_h1 : k0_cond1 i = 1#1), ∀ a, (k0_off94 v17279) a + S1x16x128.size a ≤ S16384x16x128.size a)
theorem k0_off94_inb : ∀ (i : grid0.Coords) (v17279 : BitVec 32) (k0_hw94 : k0_chk94 i v17279), ∀ (k0_h1 : k0_cond1 i = 1#1), ∀ a, (k0_off94 v17279) a + S1x16x128.size a ≤ S16384x16x128.size a := fun i v17279 k0_hw94 k0_h1 => k0_hw94 k0_h1

def k0_off95 (v17285 : BitVec 32) : Fin 3 → Nat :=
  let c0_i32_15669 : BitVec 32 := 0#32
  let c0_i32_15670 : BitVec 32 := 0#32
  ![v17285.toNat, 0, 0]

def k0_chk95 (i : grid0.Coords) (v17285 : BitVec 32) : Prop :=
  (∀ (k0_h1 : k0_cond1 i = 1#1), ∀ a, (k0_off95 v17285) a + S1x16x128.size a ≤ S16384x16x128.size a)
theorem k0_off95_inb : ∀ (i : grid0.Coords) (v17285 : BitVec 32) (k0_hw95 : k0_chk95 i v17285), ∀ (k0_h1 : k0_cond1 i = 1#1), ∀ a, (k0_off95 v17285) a + S1x16x128.size a ≤ S16384x16x128.size a := fun i v17285 k0_hw95 k0_h1 => k0_hw95 k0_h1

def k0_off96 (v17291 : BitVec 32) : Fin 3 → Nat :=
  let c0_i32_15676 : BitVec 32 := 0#32
  let c0_i32_15677 : BitVec 32 := 0#32
  ![v17291.toNat, 0, 0]

def k0_chk96 (i : grid0.Coords) (v17291 : BitVec 32) : Prop :=
  (∀ (k0_h1 : k0_cond1 i = 1#1), ∀ a, (k0_off96 v17291) a + S1x16x128.size a ≤ S16384x16x128.size a)
theorem k0_off96_inb : ∀ (i : grid0.Coords) (v17291 : BitVec 32) (k0_hw96 : k0_chk96 i v17291), ∀ (k0_h1 : k0_cond1 i = 1#1), ∀ a, (k0_off96 v17291) a + S1x16x128.size a ≤ S16384x16x128.size a := fun i v17291 k0_hw96 k0_h1 => k0_hw96 k0_h1

def k0_off97 (v17297 : BitVec 32) : Fin 3 → Nat :=
  let c0_i32_15683 : BitVec 32 := 0#32
  let c0_i32_15684 : BitVec 32 := 0#32
  ![v17297.toNat, 0, 0]

def k0_chk97 (i : grid0.Coords) (v17297 : BitVec 32) : Prop :=
  (∀ (k0_h1 : k0_cond1 i = 1#1), ∀ a, (k0_off97 v17297) a + S1x16x128.size a ≤ S16384x16x128.size a)
theorem k0_off97_inb : ∀ (i : grid0.Coords) (v17297 : BitVec 32) (k0_hw97 : k0_chk97 i v17297), ∀ (k0_h1 : k0_cond1 i = 1#1), ∀ a, (k0_off97 v17297) a + S1x16x128.size a ≤ S16384x16x128.size a := fun i v17297 k0_hw97 k0_h1 => k0_hw97 k0_h1

def k0_off98 (v17303 : BitVec 32) : Fin 3 → Nat :=
  let c0_i32_15690 : BitVec 32 := 0#32
  let c0_i32_15691 : BitVec 32 := 0#32
  ![v17303.toNat, 0, 0]

def k0_chk98 (i : grid0.Coords) (v17303 : BitVec 32) : Prop :=
  (∀ (k0_h1 : k0_cond1 i = 1#1), ∀ a, (k0_off98 v17303) a + S1x16x128.size a ≤ S16384x16x128.size a)
theorem k0_off98_inb : ∀ (i : grid0.Coords) (v17303 : BitVec 32) (k0_hw98 : k0_chk98 i v17303), ∀ (k0_h1 : k0_cond1 i = 1#1), ∀ a, (k0_off98 v17303) a + S1x16x128.size a ≤ S16384x16x128.size a := fun i v17303 k0_hw98 k0_h1 => k0_hw98 k0_h1

def k0_off99 (v17309 : BitVec 32) : Fin 3 → Nat :=
  let c0_i32_15697 : BitVec 32 := 0#32
  let c0_i32_15698 : BitVec 32 := 0#32
  ![v17309.toNat, 0, 0]

def k0_chk99 (i : grid0.Coords) (v17309 : BitVec 32) : Prop :=
  (∀ (k0_h1 : k0_cond1 i = 1#1), ∀ a, (k0_off99 v17309) a + S1x16x128.size a ≤ S16384x16x128.size a)
theorem k0_off99_inb : ∀ (i : grid0.Coords) (v17309 : BitVec 32) (k0_hw99 : k0_chk99 i v17309), ∀ (k0_h1 : k0_cond1 i = 1#1), ∀ a, (k0_off99 v17309) a + S1x16x128.size a ≤ S16384x16x128.size a := fun i v17309 k0_hw99 k0_h1 => k0_hw99 k0_h1

def k0_off100 (v17315 : BitVec 32) : Fin 3 → Nat :=
  let c0_i32_15704 : BitVec 32 := 0#32
  let c0_i32_15705 : BitVec 32 := 0#32
  ![v17315.toNat, 0, 0]

def k0_chk100 (i : grid0.Coords) (v17315 : BitVec 32) : Prop :=
  (∀ (k0_h1 : k0_cond1 i = 1#1), ∀ a, (k0_off100 v17315) a + S1x16x128.size a ≤ S16384x16x128.size a)
theorem k0_off100_inb : ∀ (i : grid0.Coords) (v17315 : BitVec 32) (k0_hw100 : k0_chk100 i v17315), ∀ (k0_h1 : k0_cond1 i = 1#1), ∀ a, (k0_off100 v17315) a + S1x16x128.size a ≤ S16384x16x128.size a := fun i v17315 k0_hw100 k0_h1 => k0_hw100 k0_h1

def k0_off101 (v17321 : BitVec 32) : Fin 3 → Nat :=
  let c0_i32_15711 : BitVec 32 := 0#32
  let c0_i32_15712 : BitVec 32 := 0#32
  ![v17321.toNat, 0, 0]

def k0_chk101 (i : grid0.Coords) (v17321 : BitVec 32) : Prop :=
  (∀ (k0_h1 : k0_cond1 i = 1#1), ∀ a, (k0_off101 v17321) a + S1x16x128.size a ≤ S16384x16x128.size a)
theorem k0_off101_inb : ∀ (i : grid0.Coords) (v17321 : BitVec 32) (k0_hw101 : k0_chk101 i v17321), ∀ (k0_h1 : k0_cond1 i = 1#1), ∀ a, (k0_off101 v17321) a + S1x16x128.size a ≤ S16384x16x128.size a := fun i v17321 k0_hw101 k0_h1 => k0_hw101 k0_h1

def k0_off102 (v17327 : BitVec 32) : Fin 3 → Nat :=
  let c0_i32_15718 : BitVec 32 := 0#32
  let c0_i32_15719 : BitVec 32 := 0#32
  ![v17327.toNat, 0, 0]

def k0_chk102 (i : grid0.Coords) (v17327 : BitVec 32) : Prop :=
  (∀ (k0_h1 : k0_cond1 i = 1#1), ∀ a, (k0_off102 v17327) a + S1x16x128.size a ≤ S16384x16x128.size a)
theorem k0_off102_inb : ∀ (i : grid0.Coords) (v17327 : BitVec 32) (k0_hw102 : k0_chk102 i v17327), ∀ (k0_h1 : k0_cond1 i = 1#1), ∀ a, (k0_off102 v17327) a + S1x16x128.size a ≤ S16384x16x128.size a := fun i v17327 k0_hw102 k0_h1 => k0_hw102 k0_h1

def k0_off103 (v17333 : BitVec 32) : Fin 3 → Nat :=
  let c0_i32_15725 : BitVec 32 := 0#32
  let c0_i32_15726 : BitVec 32 := 0#32
  ![v17333.toNat, 0, 0]

def k0_chk103 (i : grid0.Coords) (v17333 : BitVec 32) : Prop :=
  (∀ (k0_h1 : k0_cond1 i = 1#1), ∀ a, (k0_off103 v17333) a + S1x16x128.size a ≤ S16384x16x128.size a)
theorem k0_off103_inb : ∀ (i : grid0.Coords) (v17333 : BitVec 32) (k0_hw103 : k0_chk103 i v17333), ∀ (k0_h1 : k0_cond1 i = 1#1), ∀ a, (k0_off103 v17333) a + S1x16x128.size a ≤ S16384x16x128.size a := fun i v17333 k0_hw103 k0_h1 => k0_hw103 k0_h1

def k0_off104 (v17339 : BitVec 32) : Fin 3 → Nat :=
  let c0_i32_15732 : BitVec 32 := 0#32
  let c0_i32_15733 : BitVec 32 := 0#32
  ![v17339.toNat, 0, 0]

def k0_chk104 (i : grid0.Coords) (v17339 : BitVec 32) : Prop :=
  (∀ (k0_h1 : k0_cond1 i = 1#1), ∀ a, (k0_off104 v17339) a + S1x16x128.size a ≤ S16384x16x128.size a)
theorem k0_off104_inb : ∀ (i : grid0.Coords) (v17339 : BitVec 32) (k0_hw104 : k0_chk104 i v17339), ∀ (k0_h1 : k0_cond1 i = 1#1), ∀ a, (k0_off104 v17339) a + S1x16x128.size a ≤ S16384x16x128.size a := fun i v17339 k0_hw104 k0_h1 => k0_hw104 k0_h1

def k0_off105 (v17345 : BitVec 32) : Fin 3 → Nat :=
  let c0_i32_15739 : BitVec 32 := 0#32
  let c0_i32_15740 : BitVec 32 := 0#32
  ![v17345.toNat, 0, 0]

def k0_chk105 (i : grid0.Coords) (v17345 : BitVec 32) : Prop :=
  (∀ (k0_h1 : k0_cond1 i = 1#1), ∀ a, (k0_off105 v17345) a + S1x16x128.size a ≤ S16384x16x128.size a)
theorem k0_off105_inb : ∀ (i : grid0.Coords) (v17345 : BitVec 32) (k0_hw105 : k0_chk105 i v17345), ∀ (k0_h1 : k0_cond1 i = 1#1), ∀ a, (k0_off105 v17345) a + S1x16x128.size a ≤ S16384x16x128.size a := fun i v17345 k0_hw105 k0_h1 => k0_hw105 k0_h1

def k0_off106 (v17351 : BitVec 32) : Fin 3 → Nat :=
  let c0_i32_15746 : BitVec 32 := 0#32
  let c0_i32_15747 : BitVec 32 := 0#32
  ![v17351.toNat, 0, 0]

def k0_chk106 (i : grid0.Coords) (v17351 : BitVec 32) : Prop :=
  (∀ (k0_h1 : k0_cond1 i = 1#1), ∀ a, (k0_off106 v17351) a + S1x16x128.size a ≤ S16384x16x128.size a)
theorem k0_off106_inb : ∀ (i : grid0.Coords) (v17351 : BitVec 32) (k0_hw106 : k0_chk106 i v17351), ∀ (k0_h1 : k0_cond1 i = 1#1), ∀ a, (k0_off106 v17351) a + S1x16x128.size a ≤ S16384x16x128.size a := fun i v17351 k0_hw106 k0_h1 => k0_hw106 k0_h1

def k0_off107 (v17357 : BitVec 32) : Fin 3 → Nat :=
  let c0_i32_15753 : BitVec 32 := 0#32
  let c0_i32_15754 : BitVec 32 := 0#32
  ![v17357.toNat, 0, 0]

def k0_chk107 (i : grid0.Coords) (v17357 : BitVec 32) : Prop :=
  (∀ (k0_h1 : k0_cond1 i = 1#1), ∀ a, (k0_off107 v17357) a + S1x16x128.size a ≤ S16384x16x128.size a)
theorem k0_off107_inb : ∀ (i : grid0.Coords) (v17357 : BitVec 32) (k0_hw107 : k0_chk107 i v17357), ∀ (k0_h1 : k0_cond1 i = 1#1), ∀ a, (k0_off107 v17357) a + S1x16x128.size a ≤ S16384x16x128.size a := fun i v17357 k0_hw107 k0_h1 => k0_hw107 k0_h1

def k0_off108 (v17363 : BitVec 32) : Fin 3 → Nat :=
  let c0_i32_15760 : BitVec 32 := 0#32
  let c0_i32_15761 : BitVec 32 := 0#32
  ![v17363.toNat, 0, 0]

def k0_chk108 (i : grid0.Coords) (v17363 : BitVec 32) : Prop :=
  (∀ (k0_h1 : k0_cond1 i = 1#1), ∀ a, (k0_off108 v17363) a + S1x16x128.size a ≤ S16384x16x128.size a)
theorem k0_off108_inb : ∀ (i : grid0.Coords) (v17363 : BitVec 32) (k0_hw108 : k0_chk108 i v17363), ∀ (k0_h1 : k0_cond1 i = 1#1), ∀ a, (k0_off108 v17363) a + S1x16x128.size a ≤ S16384x16x128.size a := fun i v17363 k0_hw108 k0_h1 => k0_hw108 k0_h1

def k0_off109 (v17369 : BitVec 32) : Fin 3 → Nat :=
  let c0_i32_15767 : BitVec 32 := 0#32
  let c0_i32_15768 : BitVec 32 := 0#32
  ![v17369.toNat, 0, 0]

def k0_chk109 (i : grid0.Coords) (v17369 : BitVec 32) : Prop :=
  (∀ (k0_h1 : k0_cond1 i = 1#1), ∀ a, (k0_off109 v17369) a + S1x16x128.size a ≤ S16384x16x128.size a)
theorem k0_off109_inb : ∀ (i : grid0.Coords) (v17369 : BitVec 32) (k0_hw109 : k0_chk109 i v17369), ∀ (k0_h1 : k0_cond1 i = 1#1), ∀ a, (k0_off109 v17369) a + S1x16x128.size a ≤ S16384x16x128.size a := fun i v17369 k0_hw109 k0_h1 => k0_hw109 k0_h1

def k0_off110 (v17375 : BitVec 32) : Fin 3 → Nat :=
  let c0_i32_15774 : BitVec 32 := 0#32
  let c0_i32_15775 : BitVec 32 := 0#32
  ![v17375.toNat, 0, 0]

def k0_chk110 (i : grid0.Coords) (v17375 : BitVec 32) : Prop :=
  (∀ (k0_h1 : k0_cond1 i = 1#1), ∀ a, (k0_off110 v17375) a + S1x16x128.size a ≤ S16384x16x128.size a)
theorem k0_off110_inb : ∀ (i : grid0.Coords) (v17375 : BitVec 32) (k0_hw110 : k0_chk110 i v17375), ∀ (k0_h1 : k0_cond1 i = 1#1), ∀ a, (k0_off110 v17375) a + S1x16x128.size a ≤ S16384x16x128.size a := fun i v17375 k0_hw110 k0_h1 => k0_hw110 k0_h1

def k0_off111 (v17381 : BitVec 32) : Fin 3 → Nat :=
  let c0_i32_15781 : BitVec 32 := 0#32
  let c0_i32_15782 : BitVec 32 := 0#32
  ![v17381.toNat, 0, 0]

def k0_chk111 (i : grid0.Coords) (v17381 : BitVec 32) : Prop :=
  (∀ (k0_h1 : k0_cond1 i = 1#1), ∀ a, (k0_off111 v17381) a + S1x16x128.size a ≤ S16384x16x128.size a)
theorem k0_off111_inb : ∀ (i : grid0.Coords) (v17381 : BitVec 32) (k0_hw111 : k0_chk111 i v17381), ∀ (k0_h1 : k0_cond1 i = 1#1), ∀ a, (k0_off111 v17381) a + S1x16x128.size a ≤ S16384x16x128.size a := fun i v17381 k0_hw111 k0_h1 => k0_hw111 k0_h1

def k0_off112 (v17387 : BitVec 32) : Fin 3 → Nat :=
  let c0_i32_15788 : BitVec 32 := 0#32
  let c0_i32_15789 : BitVec 32 := 0#32
  ![v17387.toNat, 0, 0]

def k0_chk112 (i : grid0.Coords) (v17387 : BitVec 32) : Prop :=
  (∀ (k0_h1 : k0_cond1 i = 1#1), ∀ a, (k0_off112 v17387) a + S1x16x128.size a ≤ S16384x16x128.size a)
theorem k0_off112_inb : ∀ (i : grid0.Coords) (v17387 : BitVec 32) (k0_hw112 : k0_chk112 i v17387), ∀ (k0_h1 : k0_cond1 i = 1#1), ∀ a, (k0_off112 v17387) a + S1x16x128.size a ≤ S16384x16x128.size a := fun i v17387 k0_hw112 k0_h1 => k0_hw112 k0_h1

def k0_off113 (v17393 : BitVec 32) : Fin 3 → Nat :=
  let c0_i32_15795 : BitVec 32 := 0#32
  let c0_i32_15796 : BitVec 32 := 0#32
  ![v17393.toNat, 0, 0]

def k0_chk113 (i : grid0.Coords) (v17393 : BitVec 32) : Prop :=
  (∀ (k0_h1 : k0_cond1 i = 1#1), ∀ a, (k0_off113 v17393) a + S1x16x128.size a ≤ S16384x16x128.size a)
theorem k0_off113_inb : ∀ (i : grid0.Coords) (v17393 : BitVec 32) (k0_hw113 : k0_chk113 i v17393), ∀ (k0_h1 : k0_cond1 i = 1#1), ∀ a, (k0_off113 v17393) a + S1x16x128.size a ≤ S16384x16x128.size a := fun i v17393 k0_hw113 k0_h1 => k0_hw113 k0_h1

def k0_off114 (v17399 : BitVec 32) : Fin 3 → Nat :=
  let c0_i32_15802 : BitVec 32 := 0#32
  let c0_i32_15803 : BitVec 32 := 0#32
  ![v17399.toNat, 0, 0]

def k0_chk114 (i : grid0.Coords) (v17399 : BitVec 32) : Prop :=
  (∀ (k0_h1 : k0_cond1 i = 1#1), ∀ a, (k0_off114 v17399) a + S1x16x128.size a ≤ S16384x16x128.size a)
theorem k0_off114_inb : ∀ (i : grid0.Coords) (v17399 : BitVec 32) (k0_hw114 : k0_chk114 i v17399), ∀ (k0_h1 : k0_cond1 i = 1#1), ∀ a, (k0_off114 v17399) a + S1x16x128.size a ≤ S16384x16x128.size a := fun i v17399 k0_hw114 k0_h1 => k0_hw114 k0_h1

def k0_off115 (v17405 : BitVec 32) : Fin 3 → Nat :=
  let c0_i32_15809 : BitVec 32 := 0#32
  let c0_i32_15810 : BitVec 32 := 0#32
  ![v17405.toNat, 0, 0]

def k0_chk115 (i : grid0.Coords) (v17405 : BitVec 32) : Prop :=
  (∀ (k0_h1 : k0_cond1 i = 1#1), ∀ a, (k0_off115 v17405) a + S1x16x128.size a ≤ S16384x16x128.size a)
theorem k0_off115_inb : ∀ (i : grid0.Coords) (v17405 : BitVec 32) (k0_hw115 : k0_chk115 i v17405), ∀ (k0_h1 : k0_cond1 i = 1#1), ∀ a, (k0_off115 v17405) a + S1x16x128.size a ≤ S16384x16x128.size a := fun i v17405 k0_hw115 k0_h1 => k0_hw115 k0_h1

def k0_off116 (v17411 : BitVec 32) : Fin 3 → Nat :=
  let c0_i32_15816 : BitVec 32 := 0#32
  let c0_i32_15817 : BitVec 32 := 0#32
  ![v17411.toNat, 0, 0]

def k0_chk116 (i : grid0.Coords) (v17411 : BitVec 32) : Prop :=
  (∀ (k0_h1 : k0_cond1 i = 1#1), ∀ a, (k0_off116 v17411) a + S1x16x128.size a ≤ S16384x16x128.size a)
theorem k0_off116_inb : ∀ (i : grid0.Coords) (v17411 : BitVec 32) (k0_hw116 : k0_chk116 i v17411), ∀ (k0_h1 : k0_cond1 i = 1#1), ∀ a, (k0_off116 v17411) a + S1x16x128.size a ≤ S16384x16x128.size a := fun i v17411 k0_hw116 k0_h1 => k0_hw116 k0_h1

def k0_off117 (v17417 : BitVec 32) : Fin 3 → Nat :=
  let c0_i32_15823 : BitVec 32 := 0#32
  let c0_i32_15824 : BitVec 32 := 0#32
  ![v17417.toNat, 0, 0]

def k0_chk117 (i : grid0.Coords) (v17417 : BitVec 32) : Prop :=
  (∀ (k0_h1 : k0_cond1 i = 1#1), ∀ a, (k0_off117 v17417) a + S1x16x128.size a ≤ S16384x16x128.size a)
theorem k0_off117_inb : ∀ (i : grid0.Coords) (v17417 : BitVec 32) (k0_hw117 : k0_chk117 i v17417), ∀ (k0_h1 : k0_cond1 i = 1#1), ∀ a, (k0_off117 v17417) a + S1x16x128.size a ≤ S16384x16x128.size a := fun i v17417 k0_hw117 k0_h1 => k0_hw117 k0_h1

def k0_off118 (v17423 : BitVec 32) : Fin 3 → Nat :=
  let c0_i32_15830 : BitVec 32 := 0#32
  let c0_i32_15831 : BitVec 32 := 0#32
  ![v17423.toNat, 0, 0]

def k0_chk118 (i : grid0.Coords) (v17423 : BitVec 32) : Prop :=
  (∀ (k0_h1 : k0_cond1 i = 1#1), ∀ a, (k0_off118 v17423) a + S1x16x128.size a ≤ S16384x16x128.size a)
theorem k0_off118_inb : ∀ (i : grid0.Coords) (v17423 : BitVec 32) (k0_hw118 : k0_chk118 i v17423), ∀ (k0_h1 : k0_cond1 i = 1#1), ∀ a, (k0_off118 v17423) a + S1x16x128.size a ≤ S16384x16x128.size a := fun i v17423 k0_hw118 k0_h1 => k0_hw118 k0_h1

def k0_off119 (v17429 : BitVec 32) : Fin 3 → Nat :=
  let c0_i32_15837 : BitVec 32 := 0#32
  let c0_i32_15838 : BitVec 32 := 0#32
  ![v17429.toNat, 0, 0]

def k0_chk119 (i : grid0.Coords) (v17429 : BitVec 32) : Prop :=
  (∀ (k0_h1 : k0_cond1 i = 1#1), ∀ a, (k0_off119 v17429) a + S1x16x128.size a ≤ S16384x16x128.size a)
theorem k0_off119_inb : ∀ (i : grid0.Coords) (v17429 : BitVec 32) (k0_hw119 : k0_chk119 i v17429), ∀ (k0_h1 : k0_cond1 i = 1#1), ∀ a, (k0_off119 v17429) a + S1x16x128.size a ≤ S16384x16x128.size a := fun i v17429 k0_hw119 k0_h1 => k0_hw119 k0_h1

def k0_off120 (v17435 : BitVec 32) : Fin 3 → Nat :=
  let c0_i32_15844 : BitVec 32 := 0#32
  let c0_i32_15845 : BitVec 32 := 0#32
  ![v17435.toNat, 0, 0]

def k0_chk120 (i : grid0.Coords) (v17435 : BitVec 32) : Prop :=
  (∀ (k0_h1 : k0_cond1 i = 1#1), ∀ a, (k0_off120 v17435) a + S1x16x128.size a ≤ S16384x16x128.size a)
theorem k0_off120_inb : ∀ (i : grid0.Coords) (v17435 : BitVec 32) (k0_hw120 : k0_chk120 i v17435), ∀ (k0_h1 : k0_cond1 i = 1#1), ∀ a, (k0_off120 v17435) a + S1x16x128.size a ≤ S16384x16x128.size a := fun i v17435 k0_hw120 k0_h1 => k0_hw120 k0_h1

def k0_off121 (v17441 : BitVec 32) : Fin 3 → Nat :=
  let c0_i32_15851 : BitVec 32 := 0#32
  let c0_i32_15852 : BitVec 32 := 0#32
  ![v17441.toNat, 0, 0]

def k0_chk121 (i : grid0.Coords) (v17441 : BitVec 32) : Prop :=
  (∀ (k0_h1 : k0_cond1 i = 1#1), ∀ a, (k0_off121 v17441) a + S1x16x128.size a ≤ S16384x16x128.size a)
theorem k0_off121_inb : ∀ (i : grid0.Coords) (v17441 : BitVec 32) (k0_hw121 : k0_chk121 i v17441), ∀ (k0_h1 : k0_cond1 i = 1#1), ∀ a, (k0_off121 v17441) a + S1x16x128.size a ≤ S16384x16x128.size a := fun i v17441 k0_hw121 k0_h1 => k0_hw121 k0_h1

def k0_off122 (v17447 : BitVec 32) : Fin 3 → Nat :=
  let c0_i32_15858 : BitVec 32 := 0#32
  let c0_i32_15859 : BitVec 32 := 0#32
  ![v17447.toNat, 0, 0]

def k0_chk122 (i : grid0.Coords) (v17447 : BitVec 32) : Prop :=
  (∀ (k0_h1 : k0_cond1 i = 1#1), ∀ a, (k0_off122 v17447) a + S1x16x128.size a ≤ S16384x16x128.size a)
theorem k0_off122_inb : ∀ (i : grid0.Coords) (v17447 : BitVec 32) (k0_hw122 : k0_chk122 i v17447), ∀ (k0_h1 : k0_cond1 i = 1#1), ∀ a, (k0_off122 v17447) a + S1x16x128.size a ≤ S16384x16x128.size a := fun i v17447 k0_hw122 k0_h1 => k0_hw122 k0_h1

def k0_off123 (v17453 : BitVec 32) : Fin 3 → Nat :=
  let c0_i32_15865 : BitVec 32 := 0#32
  let c0_i32_15866 : BitVec 32 := 0#32
  ![v17453.toNat, 0, 0]

def k0_chk123 (i : grid0.Coords) (v17453 : BitVec 32) : Prop :=
  (∀ (k0_h1 : k0_cond1 i = 1#1), ∀ a, (k0_off123 v17453) a + S1x16x128.size a ≤ S16384x16x128.size a)
theorem k0_off123_inb : ∀ (i : grid0.Coords) (v17453 : BitVec 32) (k0_hw123 : k0_chk123 i v17453), ∀ (k0_h1 : k0_cond1 i = 1#1), ∀ a, (k0_off123 v17453) a + S1x16x128.size a ≤ S16384x16x128.size a := fun i v17453 k0_hw123 k0_h1 => k0_hw123 k0_h1

def k0_off124 (v17459 : BitVec 32) : Fin 3 → Nat :=
  let c0_i32_15872 : BitVec 32 := 0#32
  let c0_i32_15873 : BitVec 32 := 0#32
  ![v17459.toNat, 0, 0]

def k0_chk124 (i : grid0.Coords) (v17459 : BitVec 32) : Prop :=
  (∀ (k0_h1 : k0_cond1 i = 1#1), ∀ a, (k0_off124 v17459) a + S1x16x128.size a ≤ S16384x16x128.size a)
theorem k0_off124_inb : ∀ (i : grid0.Coords) (v17459 : BitVec 32) (k0_hw124 : k0_chk124 i v17459), ∀ (k0_h1 : k0_cond1 i = 1#1), ∀ a, (k0_off124 v17459) a + S1x16x128.size a ≤ S16384x16x128.size a := fun i v17459 k0_hw124 k0_h1 => k0_hw124 k0_h1

def k0_off125 (v17465 : BitVec 32) : Fin 3 → Nat :=
  let c0_i32_15879 : BitVec 32 := 0#32
  let c0_i32_15880 : BitVec 32 := 0#32
  ![v17465.toNat, 0, 0]

def k0_chk125 (i : grid0.Coords) (v17465 : BitVec 32) : Prop :=
  (∀ (k0_h1 : k0_cond1 i = 1#1), ∀ a, (k0_off125 v17465) a + S1x16x128.size a ≤ S16384x16x128.size a)
theorem k0_off125_inb : ∀ (i : grid0.Coords) (v17465 : BitVec 32) (k0_hw125 : k0_chk125 i v17465), ∀ (k0_h1 : k0_cond1 i = 1#1), ∀ a, (k0_off125 v17465) a + S1x16x128.size a ≤ S16384x16x128.size a := fun i v17465 k0_hw125 k0_h1 => k0_hw125 k0_h1

def k0_off126 (v17471 : BitVec 32) : Fin 3 → Nat :=
  let c0_i32_15886 : BitVec 32 := 0#32
  let c0_i32_15887 : BitVec 32 := 0#32
  ![v17471.toNat, 0, 0]

def k0_chk126 (i : grid0.Coords) (v17471 : BitVec 32) : Prop :=
  (∀ (k0_h1 : k0_cond1 i = 1#1), ∀ a, (k0_off126 v17471) a + S1x16x128.size a ≤ S16384x16x128.size a)
theorem k0_off126_inb : ∀ (i : grid0.Coords) (v17471 : BitVec 32) (k0_hw126 : k0_chk126 i v17471), ∀ (k0_h1 : k0_cond1 i = 1#1), ∀ a, (k0_off126 v17471) a + S1x16x128.size a ≤ S16384x16x128.size a := fun i v17471 k0_hw126 k0_h1 => k0_hw126 k0_h1

def k0_off127 (v17477 : BitVec 32) : Fin 3 → Nat :=
  let c0_i32_15893 : BitVec 32 := 0#32
  let c0_i32_15894 : BitVec 32 := 0#32
  ![v17477.toNat, 0, 0]

def k0_chk127 (i : grid0.Coords) (v17477 : BitVec 32) : Prop :=
  (∀ (k0_h1 : k0_cond1 i = 1#1), ∀ a, (k0_off127 v17477) a + S1x16x128.size a ≤ S16384x16x128.size a)
theorem k0_off127_inb : ∀ (i : grid0.Coords) (v17477 : BitVec 32) (k0_hw127 : k0_chk127 i v17477), ∀ (k0_h1 : k0_cond1 i = 1#1), ∀ a, (k0_off127 v17477) a + S1x16x128.size a ≤ S16384x16x128.size a := fun i v17477 k0_hw127 k0_h1 => k0_hw127 k0_h1

def k0_off128 (v17483 : BitVec 32) : Fin 3 → Nat :=
  let c0_i32_15900 : BitVec 32 := 0#32
  let c0_i32_15901 : BitVec 32 := 0#32
  ![v17483.toNat, 0, 0]

def k0_chk128 (i : grid0.Coords) (v17483 : BitVec 32) : Prop :=
  (∀ (k0_h1 : k0_cond1 i = 1#1), ∀ a, (k0_off128 v17483) a + S1x16x128.size a ≤ S16384x16x128.size a)
theorem k0_off128_inb : ∀ (i : grid0.Coords) (v17483 : BitVec 32) (k0_hw128 : k0_chk128 i v17483), ∀ (k0_h1 : k0_cond1 i = 1#1), ∀ a, (k0_off128 v17483) a + S1x16x128.size a ≤ S16384x16x128.size a := fun i v17483 k0_hw128 k0_h1 => k0_hw128 k0_h1

def k0_off129 (v17489 : BitVec 32) : Fin 3 → Nat :=
  let c0_i32_15907 : BitVec 32 := 0#32
  let c0_i32_15908 : BitVec 32 := 0#32
  ![v17489.toNat, 0, 0]

def k0_chk129 (i : grid0.Coords) (v17489 : BitVec 32) : Prop :=
  (∀ (k0_h1 : k0_cond1 i = 1#1), ∀ a, (k0_off129 v17489) a + S1x16x128.size a ≤ S16384x16x128.size a)
theorem k0_off129_inb : ∀ (i : grid0.Coords) (v17489 : BitVec 32) (k0_hw129 : k0_chk129 i v17489), ∀ (k0_h1 : k0_cond1 i = 1#1), ∀ a, (k0_off129 v17489) a + S1x16x128.size a ≤ S16384x16x128.size a := fun i v17489 k0_hw129 k0_h1 => k0_hw129 k0_h1

def k0_off130 (v17495 : BitVec 32) : Fin 3 → Nat :=
  let c0_i32_15914 : BitVec 32 := 0#32
  let c0_i32_15915 : BitVec 32 := 0#32
  ![v17495.toNat, 0, 0]

def k0_chk130 (i : grid0.Coords) (v17495 : BitVec 32) : Prop :=
  (∀ (k0_h1 : k0_cond1 i = 1#1), ∀ a, (k0_off130 v17495) a + S1x16x128.size a ≤ S16384x16x128.size a)
theorem k0_off130_inb : ∀ (i : grid0.Coords) (v17495 : BitVec 32) (k0_hw130 : k0_chk130 i v17495), ∀ (k0_h1 : k0_cond1 i = 1#1), ∀ a, (k0_off130 v17495) a + S1x16x128.size a ≤ S16384x16x128.size a := fun i v17495 k0_hw130 k0_h1 => k0_hw130 k0_h1

def k0_off131 (v17501 : BitVec 32) : Fin 3 → Nat :=
  let c0_i32_15921 : BitVec 32 := 0#32
  let c0_i32_15922 : BitVec 32 := 0#32
  ![v17501.toNat, 0, 0]

def k0_chk131 (i : grid0.Coords) (v17501 : BitVec 32) : Prop :=
  (∀ (k0_h1 : k0_cond1 i = 1#1), ∀ a, (k0_off131 v17501) a + S1x16x128.size a ≤ S16384x16x128.size a)
theorem k0_off131_inb : ∀ (i : grid0.Coords) (v17501 : BitVec 32) (k0_hw131 : k0_chk131 i v17501), ∀ (k0_h1 : k0_cond1 i = 1#1), ∀ a, (k0_off131 v17501) a + S1x16x128.size a ≤ S16384x16x128.size a := fun i v17501 k0_hw131 k0_h1 => k0_hw131 k0_h1

def k0_off132 (v17507 : BitVec 32) : Fin 3 → Nat :=
  let c0_i32_15928 : BitVec 32 := 0#32
  let c0_i32_15929 : BitVec 32 := 0#32
  ![v17507.toNat, 0, 0]

def k0_chk132 (i : grid0.Coords) (v17507 : BitVec 32) : Prop :=
  (∀ (k0_h1 : k0_cond1 i = 1#1), ∀ a, (k0_off132 v17507) a + S1x16x128.size a ≤ S16384x16x128.size a)
theorem k0_off132_inb : ∀ (i : grid0.Coords) (v17507 : BitVec 32) (k0_hw132 : k0_chk132 i v17507), ∀ (k0_h1 : k0_cond1 i = 1#1), ∀ a, (k0_off132 v17507) a + S1x16x128.size a ≤ S16384x16x128.size a := fun i v17507 k0_hw132 k0_h1 => k0_hw132 k0_h1

def k0_off133 (v17513 : BitVec 32) : Fin 3 → Nat :=
  let c0_i32_15935 : BitVec 32 := 0#32
  let c0_i32_15936 : BitVec 32 := 0#32
  ![v17513.toNat, 0, 0]

def k0_chk133 (i : grid0.Coords) (v17513 : BitVec 32) : Prop :=
  (∀ (k0_h1 : k0_cond1 i = 1#1), ∀ a, (k0_off133 v17513) a + S1x16x128.size a ≤ S16384x16x128.size a)
theorem k0_off133_inb : ∀ (i : grid0.Coords) (v17513 : BitVec 32) (k0_hw133 : k0_chk133 i v17513), ∀ (k0_h1 : k0_cond1 i = 1#1), ∀ a, (k0_off133 v17513) a + S1x16x128.size a ≤ S16384x16x128.size a := fun i v17513 k0_hw133 k0_h1 => k0_hw133 k0_h1

def k0_off134 (v17519 : BitVec 32) : Fin 3 → Nat :=
  let c0_i32_15942 : BitVec 32 := 0#32
  let c0_i32_15943 : BitVec 32 := 0#32
  ![v17519.toNat, 0, 0]

def k0_chk134 (i : grid0.Coords) (v17519 : BitVec 32) : Prop :=
  (∀ (k0_h1 : k0_cond1 i = 1#1), ∀ a, (k0_off134 v17519) a + S1x16x128.size a ≤ S16384x16x128.size a)
theorem k0_off134_inb : ∀ (i : grid0.Coords) (v17519 : BitVec 32) (k0_hw134 : k0_chk134 i v17519), ∀ (k0_h1 : k0_cond1 i = 1#1), ∀ a, (k0_off134 v17519) a + S1x16x128.size a ≤ S16384x16x128.size a := fun i v17519 k0_hw134 k0_h1 => k0_hw134 k0_h1

def k0_off135 (v17525 : BitVec 32) : Fin 3 → Nat :=
  let c0_i32_15949 : BitVec 32 := 0#32
  let c0_i32_15950 : BitVec 32 := 0#32
  ![v17525.toNat, 0, 0]

def k0_chk135 (i : grid0.Coords) (v17525 : BitVec 32) : Prop :=
  (∀ (k0_h1 : k0_cond1 i = 1#1), ∀ a, (k0_off135 v17525) a + S1x16x128.size a ≤ S16384x16x128.size a)
theorem k0_off135_inb : ∀ (i : grid0.Coords) (v17525 : BitVec 32) (k0_hw135 : k0_chk135 i v17525), ∀ (k0_h1 : k0_cond1 i = 1#1), ∀ a, (k0_off135 v17525) a + S1x16x128.size a ≤ S16384x16x128.size a := fun i v17525 k0_hw135 k0_h1 => k0_hw135 k0_h1

def k0_off136 (v17531 : BitVec 32) : Fin 3 → Nat :=
  let c0_i32_15956 : BitVec 32 := 0#32
  let c0_i32_15957 : BitVec 32 := 0#32
  ![v17531.toNat, 0, 0]

def k0_chk136 (i : grid0.Coords) (v17531 : BitVec 32) : Prop :=
  (∀ (k0_h1 : k0_cond1 i = 1#1), ∀ a, (k0_off136 v17531) a + S1x16x128.size a ≤ S16384x16x128.size a)
theorem k0_off136_inb : ∀ (i : grid0.Coords) (v17531 : BitVec 32) (k0_hw136 : k0_chk136 i v17531), ∀ (k0_h1 : k0_cond1 i = 1#1), ∀ a, (k0_off136 v17531) a + S1x16x128.size a ≤ S16384x16x128.size a := fun i v17531 k0_hw136 k0_h1 => k0_hw136 k0_h1

def k0_off137 (v17537 : BitVec 32) : Fin 3 → Nat :=
  let c0_i32_15963 : BitVec 32 := 0#32
  let c0_i32_15964 : BitVec 32 := 0#32
  ![v17537.toNat, 0, 0]

def k0_chk137 (i : grid0.Coords) (v17537 : BitVec 32) : Prop :=
  (∀ (k0_h1 : k0_cond1 i = 1#1), ∀ a, (k0_off137 v17537) a + S1x16x128.size a ≤ S16384x16x128.size a)
theorem k0_off137_inb : ∀ (i : grid0.Coords) (v17537 : BitVec 32) (k0_hw137 : k0_chk137 i v17537), ∀ (k0_h1 : k0_cond1 i = 1#1), ∀ a, (k0_off137 v17537) a + S1x16x128.size a ≤ S16384x16x128.size a := fun i v17537 k0_hw137 k0_h1 => k0_hw137 k0_h1

def k0_off138 (v17543 : BitVec 32) : Fin 3 → Nat :=
  let c0_i32_15970 : BitVec 32 := 0#32
  let c0_i32_15971 : BitVec 32 := 0#32
  ![v17543.toNat, 0, 0]

def k0_chk138 (i : grid0.Coords) (v17543 : BitVec 32) : Prop :=
  (∀ (k0_h1 : k0_cond1 i = 1#1), ∀ a, (k0_off138 v17543) a + S1x16x128.size a ≤ S16384x16x128.size a)
theorem k0_off138_inb : ∀ (i : grid0.Coords) (v17543 : BitVec 32) (k0_hw138 : k0_chk138 i v17543), ∀ (k0_h1 : k0_cond1 i = 1#1), ∀ a, (k0_off138 v17543) a + S1x16x128.size a ≤ S16384x16x128.size a := fun i v17543 k0_hw138 k0_h1 => k0_hw138 k0_h1

def k0_off139 (v17549 : BitVec 32) : Fin 3 → Nat :=
  let c0_i32_15977 : BitVec 32 := 0#32
  let c0_i32_15978 : BitVec 32 := 0#32
  ![v17549.toNat, 0, 0]

def k0_chk139 (i : grid0.Coords) (v17549 : BitVec 32) : Prop :=
  (∀ (k0_h1 : k0_cond1 i = 1#1), ∀ a, (k0_off139 v17549) a + S1x16x128.size a ≤ S16384x16x128.size a)
theorem k0_off139_inb : ∀ (i : grid0.Coords) (v17549 : BitVec 32) (k0_hw139 : k0_chk139 i v17549), ∀ (k0_h1 : k0_cond1 i = 1#1), ∀ a, (k0_off139 v17549) a + S1x16x128.size a ≤ S16384x16x128.size a := fun i v17549 k0_hw139 k0_h1 => k0_hw139 k0_h1

def k0_off140 (v17555 : BitVec 32) : Fin 3 → Nat :=
  let c0_i32_15984 : BitVec 32 := 0#32
  let c0_i32_15985 : BitVec 32 := 0#32
  ![v17555.toNat, 0, 0]

def k0_chk140 (i : grid0.Coords) (v17555 : BitVec 32) : Prop :=
  (∀ (k0_h1 : k0_cond1 i = 1#1), ∀ a, (k0_off140 v17555) a + S1x16x128.size a ≤ S16384x16x128.size a)
theorem k0_off140_inb : ∀ (i : grid0.Coords) (v17555 : BitVec 32) (k0_hw140 : k0_chk140 i v17555), ∀ (k0_h1 : k0_cond1 i = 1#1), ∀ a, (k0_off140 v17555) a + S1x16x128.size a ≤ S16384x16x128.size a := fun i v17555 k0_hw140 k0_h1 => k0_hw140 k0_h1

def k0_off141 (v17561 : BitVec 32) : Fin 3 → Nat :=
  let c0_i32_15991 : BitVec 32 := 0#32
  let c0_i32_15992 : BitVec 32 := 0#32
  ![v17561.toNat, 0, 0]

def k0_chk141 (i : grid0.Coords) (v17561 : BitVec 32) : Prop :=
  (∀ (k0_h1 : k0_cond1 i = 1#1), ∀ a, (k0_off141 v17561) a + S1x16x128.size a ≤ S16384x16x128.size a)
theorem k0_off141_inb : ∀ (i : grid0.Coords) (v17561 : BitVec 32) (k0_hw141 : k0_chk141 i v17561), ∀ (k0_h1 : k0_cond1 i = 1#1), ∀ a, (k0_off141 v17561) a + S1x16x128.size a ≤ S16384x16x128.size a := fun i v17561 k0_hw141 k0_h1 => k0_hw141 k0_h1

def k0_off142 (v17567 : BitVec 32) : Fin 3 → Nat :=
  let c0_i32_15998 : BitVec 32 := 0#32
  let c0_i32_15999 : BitVec 32 := 0#32
  ![v17567.toNat, 0, 0]

def k0_chk142 (i : grid0.Coords) (v17567 : BitVec 32) : Prop :=
  (∀ (k0_h1 : k0_cond1 i = 1#1), ∀ a, (k0_off142 v17567) a + S1x16x128.size a ≤ S16384x16x128.size a)
theorem k0_off142_inb : ∀ (i : grid0.Coords) (v17567 : BitVec 32) (k0_hw142 : k0_chk142 i v17567), ∀ (k0_h1 : k0_cond1 i = 1#1), ∀ a, (k0_off142 v17567) a + S1x16x128.size a ≤ S16384x16x128.size a := fun i v17567 k0_hw142 k0_h1 => k0_hw142 k0_h1

def k0_off143 (v17573 : BitVec 32) : Fin 3 → Nat :=
  let c0_i32_16005 : BitVec 32 := 0#32
  let c0_i32_16006 : BitVec 32 := 0#32
  ![v17573.toNat, 0, 0]

def k0_chk143 (i : grid0.Coords) (v17573 : BitVec 32) : Prop :=
  (∀ (k0_h1 : k0_cond1 i = 1#1), ∀ a, (k0_off143 v17573) a + S1x16x128.size a ≤ S16384x16x128.size a)
theorem k0_off143_inb : ∀ (i : grid0.Coords) (v17573 : BitVec 32) (k0_hw143 : k0_chk143 i v17573), ∀ (k0_h1 : k0_cond1 i = 1#1), ∀ a, (k0_off143 v17573) a + S1x16x128.size a ≤ S16384x16x128.size a := fun i v17573 k0_hw143 k0_h1 => k0_hw143 k0_h1

def k0_off144 (v17579 : BitVec 32) : Fin 3 → Nat :=
  let c0_i32_16012 : BitVec 32 := 0#32
  let c0_i32_16013 : BitVec 32 := 0#32
  ![v17579.toNat, 0, 0]

def k0_chk144 (i : grid0.Coords) (v17579 : BitVec 32) : Prop :=
  (∀ (k0_h1 : k0_cond1 i = 1#1), ∀ a, (k0_off144 v17579) a + S1x16x128.size a ≤ S16384x16x128.size a)
theorem k0_off144_inb : ∀ (i : grid0.Coords) (v17579 : BitVec 32) (k0_hw144 : k0_chk144 i v17579), ∀ (k0_h1 : k0_cond1 i = 1#1), ∀ a, (k0_off144 v17579) a + S1x16x128.size a ≤ S16384x16x128.size a := fun i v17579 k0_hw144 k0_h1 => k0_hw144 k0_h1

def k0_off145 (v17585 : BitVec 32) : Fin 3 → Nat :=
  let c0_i32_16019 : BitVec 32 := 0#32
  let c0_i32_16020 : BitVec 32 := 0#32
  ![v17585.toNat, 0, 0]

def k0_chk145 (i : grid0.Coords) (v17585 : BitVec 32) : Prop :=
  (∀ (k0_h1 : k0_cond1 i = 1#1), ∀ a, (k0_off145 v17585) a + S1x16x128.size a ≤ S16384x16x128.size a)
theorem k0_off145_inb : ∀ (i : grid0.Coords) (v17585 : BitVec 32) (k0_hw145 : k0_chk145 i v17585), ∀ (k0_h1 : k0_cond1 i = 1#1), ∀ a, (k0_off145 v17585) a + S1x16x128.size a ≤ S16384x16x128.size a := fun i v17585 k0_hw145 k0_h1 => k0_hw145 k0_h1

def k0_off146 (v17591 : BitVec 32) : Fin 3 → Nat :=
  let c0_i32_16026 : BitVec 32 := 0#32
  let c0_i32_16027 : BitVec 32 := 0#32
  ![v17591.toNat, 0, 0]

def k0_chk146 (i : grid0.Coords) (v17591 : BitVec 32) : Prop :=
  (∀ (k0_h1 : k0_cond1 i = 1#1), ∀ a, (k0_off146 v17591) a + S1x16x128.size a ≤ S16384x16x128.size a)
theorem k0_off146_inb : ∀ (i : grid0.Coords) (v17591 : BitVec 32) (k0_hw146 : k0_chk146 i v17591), ∀ (k0_h1 : k0_cond1 i = 1#1), ∀ a, (k0_off146 v17591) a + S1x16x128.size a ≤ S16384x16x128.size a := fun i v17591 k0_hw146 k0_h1 => k0_hw146 k0_h1

def k0_off147 (v17597 : BitVec 32) : Fin 3 → Nat :=
  let c0_i32_16033 : BitVec 32 := 0#32
  let c0_i32_16034 : BitVec 32 := 0#32
  ![v17597.toNat, 0, 0]

def k0_chk147 (i : grid0.Coords) (v17597 : BitVec 32) : Prop :=
  (∀ (k0_h1 : k0_cond1 i = 1#1), ∀ a, (k0_off147 v17597) a + S1x16x128.size a ≤ S16384x16x128.size a)
theorem k0_off147_inb : ∀ (i : grid0.Coords) (v17597 : BitVec 32) (k0_hw147 : k0_chk147 i v17597), ∀ (k0_h1 : k0_cond1 i = 1#1), ∀ a, (k0_off147 v17597) a + S1x16x128.size a ≤ S16384x16x128.size a := fun i v17597 k0_hw147 k0_h1 => k0_hw147 k0_h1

def k0_off148 (v17603 : BitVec 32) : Fin 3 → Nat :=
  let c0_i32_16040 : BitVec 32 := 0#32
  let c0_i32_16041 : BitVec 32 := 0#32
  ![v17603.toNat, 0, 0]

def k0_chk148 (i : grid0.Coords) (v17603 : BitVec 32) : Prop :=
  (∀ (k0_h1 : k0_cond1 i = 1#1), ∀ a, (k0_off148 v17603) a + S1x16x128.size a ≤ S16384x16x128.size a)
theorem k0_off148_inb : ∀ (i : grid0.Coords) (v17603 : BitVec 32) (k0_hw148 : k0_chk148 i v17603), ∀ (k0_h1 : k0_cond1 i = 1#1), ∀ a, (k0_off148 v17603) a + S1x16x128.size a ≤ S16384x16x128.size a := fun i v17603 k0_hw148 k0_h1 => k0_hw148 k0_h1

def k0_off149 (v17609 : BitVec 32) : Fin 3 → Nat :=
  let c0_i32_16047 : BitVec 32 := 0#32
  let c0_i32_16048 : BitVec 32 := 0#32
  ![v17609.toNat, 0, 0]

def k0_chk149 (i : grid0.Coords) (v17609 : BitVec 32) : Prop :=
  (∀ (k0_h1 : k0_cond1 i = 1#1), ∀ a, (k0_off149 v17609) a + S1x16x128.size a ≤ S16384x16x128.size a)
theorem k0_off149_inb : ∀ (i : grid0.Coords) (v17609 : BitVec 32) (k0_hw149 : k0_chk149 i v17609), ∀ (k0_h1 : k0_cond1 i = 1#1), ∀ a, (k0_off149 v17609) a + S1x16x128.size a ≤ S16384x16x128.size a := fun i v17609 k0_hw149 k0_h1 => k0_hw149 k0_h1

def k0_off150 (v17615 : BitVec 32) : Fin 3 → Nat :=
  let c0_i32_16054 : BitVec 32 := 0#32
  let c0_i32_16055 : BitVec 32 := 0#32
  ![v17615.toNat, 0, 0]

def k0_chk150 (i : grid0.Coords) (v17615 : BitVec 32) : Prop :=
  (∀ (k0_h1 : k0_cond1 i = 1#1), ∀ a, (k0_off150 v17615) a + S1x16x128.size a ≤ S16384x16x128.size a)
theorem k0_off150_inb : ∀ (i : grid0.Coords) (v17615 : BitVec 32) (k0_hw150 : k0_chk150 i v17615), ∀ (k0_h1 : k0_cond1 i = 1#1), ∀ a, (k0_off150 v17615) a + S1x16x128.size a ≤ S16384x16x128.size a := fun i v17615 k0_hw150 k0_h1 => k0_hw150 k0_h1

def k0_off151 (v17621 : BitVec 32) : Fin 3 → Nat :=
  let c0_i32_16061 : BitVec 32 := 0#32
  let c0_i32_16062 : BitVec 32 := 0#32
  ![v17621.toNat, 0, 0]

def k0_chk151 (i : grid0.Coords) (v17621 : BitVec 32) : Prop :=
  (∀ (k0_h1 : k0_cond1 i = 1#1), ∀ a, (k0_off151 v17621) a + S1x16x128.size a ≤ S16384x16x128.size a)
theorem k0_off151_inb : ∀ (i : grid0.Coords) (v17621 : BitVec 32) (k0_hw151 : k0_chk151 i v17621), ∀ (k0_h1 : k0_cond1 i = 1#1), ∀ a, (k0_off151 v17621) a + S1x16x128.size a ≤ S16384x16x128.size a := fun i v17621 k0_hw151 k0_h1 => k0_hw151 k0_h1

def k0_off152 (v17627 : BitVec 32) : Fin 3 → Nat :=
  let c0_i32_16068 : BitVec 32 := 0#32
  let c0_i32_16069 : BitVec 32 := 0#32
  ![v17627.toNat, 0, 0]

def k0_chk152 (i : grid0.Coords) (v17627 : BitVec 32) : Prop :=
  (∀ (k0_h1 : k0_cond1 i = 1#1), ∀ a, (k0_off152 v17627) a + S1x16x128.size a ≤ S16384x16x128.size a)
theorem k0_off152_inb : ∀ (i : grid0.Coords) (v17627 : BitVec 32) (k0_hw152 : k0_chk152 i v17627), ∀ (k0_h1 : k0_cond1 i = 1#1), ∀ a, (k0_off152 v17627) a + S1x16x128.size a ≤ S16384x16x128.size a := fun i v17627 k0_hw152 k0_h1 => k0_hw152 k0_h1

def k0_off153 (v17633 : BitVec 32) : Fin 3 → Nat :=
  let c0_i32_16075 : BitVec 32 := 0#32
  let c0_i32_16076 : BitVec 32 := 0#32
  ![v17633.toNat, 0, 0]

def k0_chk153 (i : grid0.Coords) (v17633 : BitVec 32) : Prop :=
  (∀ (k0_h1 : k0_cond1 i = 1#1), ∀ a, (k0_off153 v17633) a + S1x16x128.size a ≤ S16384x16x128.size a)
theorem k0_off153_inb : ∀ (i : grid0.Coords) (v17633 : BitVec 32) (k0_hw153 : k0_chk153 i v17633), ∀ (k0_h1 : k0_cond1 i = 1#1), ∀ a, (k0_off153 v17633) a + S1x16x128.size a ≤ S16384x16x128.size a := fun i v17633 k0_hw153 k0_h1 => k0_hw153 k0_h1

def k0_off154 (v17639 : BitVec 32) : Fin 3 → Nat :=
  let c0_i32_16082 : BitVec 32 := 0#32
  let c0_i32_16083 : BitVec 32 := 0#32
  ![v17639.toNat, 0, 0]

def k0_chk154 (i : grid0.Coords) (v17639 : BitVec 32) : Prop :=
  (∀ (k0_h1 : k0_cond1 i = 1#1), ∀ a, (k0_off154 v17639) a + S1x16x128.size a ≤ S16384x16x128.size a)
theorem k0_off154_inb : ∀ (i : grid0.Coords) (v17639 : BitVec 32) (k0_hw154 : k0_chk154 i v17639), ∀ (k0_h1 : k0_cond1 i = 1#1), ∀ a, (k0_off154 v17639) a + S1x16x128.size a ≤ S16384x16x128.size a := fun i v17639 k0_hw154 k0_h1 => k0_hw154 k0_h1

def k0_off155 (v17645 : BitVec 32) : Fin 3 → Nat :=
  let c0_i32_16089 : BitVec 32 := 0#32
  let c0_i32_16090 : BitVec 32 := 0#32
  ![v17645.toNat, 0, 0]

def k0_chk155 (i : grid0.Coords) (v17645 : BitVec 32) : Prop :=
  (∀ (k0_h1 : k0_cond1 i = 1#1), ∀ a, (k0_off155 v17645) a + S1x16x128.size a ≤ S16384x16x128.size a)
theorem k0_off155_inb : ∀ (i : grid0.Coords) (v17645 : BitVec 32) (k0_hw155 : k0_chk155 i v17645), ∀ (k0_h1 : k0_cond1 i = 1#1), ∀ a, (k0_off155 v17645) a + S1x16x128.size a ≤ S16384x16x128.size a := fun i v17645 k0_hw155 k0_h1 => k0_hw155 k0_h1

def k0_off156 (v17651 : BitVec 32) : Fin 3 → Nat :=
  let c0_i32_16096 : BitVec 32 := 0#32
  let c0_i32_16097 : BitVec 32 := 0#32
  ![v17651.toNat, 0, 0]

def k0_chk156 (i : grid0.Coords) (v17651 : BitVec 32) : Prop :=
  (∀ (k0_h1 : k0_cond1 i = 1#1), ∀ a, (k0_off156 v17651) a + S1x16x128.size a ≤ S16384x16x128.size a)
theorem k0_off156_inb : ∀ (i : grid0.Coords) (v17651 : BitVec 32) (k0_hw156 : k0_chk156 i v17651), ∀ (k0_h1 : k0_cond1 i = 1#1), ∀ a, (k0_off156 v17651) a + S1x16x128.size a ≤ S16384x16x128.size a := fun i v17651 k0_hw156 k0_h1 => k0_hw156 k0_h1

def k0_off157 (v17657 : BitVec 32) : Fin 3 → Nat :=
  let c0_i32_16103 : BitVec 32 := 0#32
  let c0_i32_16104 : BitVec 32 := 0#32
  ![v17657.toNat, 0, 0]

def k0_chk157 (i : grid0.Coords) (v17657 : BitVec 32) : Prop :=
  (∀ (k0_h1 : k0_cond1 i = 1#1), ∀ a, (k0_off157 v17657) a + S1x16x128.size a ≤ S16384x16x128.size a)
theorem k0_off157_inb : ∀ (i : grid0.Coords) (v17657 : BitVec 32) (k0_hw157 : k0_chk157 i v17657), ∀ (k0_h1 : k0_cond1 i = 1#1), ∀ a, (k0_off157 v17657) a + S1x16x128.size a ≤ S16384x16x128.size a := fun i v17657 k0_hw157 k0_h1 => k0_hw157 k0_h1

def k0_off158 (v17663 : BitVec 32) : Fin 3 → Nat :=
  let c0_i32_16110 : BitVec 32 := 0#32
  let c0_i32_16111 : BitVec 32 := 0#32
  ![v17663.toNat, 0, 0]

def k0_chk158 (i : grid0.Coords) (v17663 : BitVec 32) : Prop :=
  (∀ (k0_h1 : k0_cond1 i = 1#1), ∀ a, (k0_off158 v17663) a + S1x16x128.size a ≤ S16384x16x128.size a)
theorem k0_off158_inb : ∀ (i : grid0.Coords) (v17663 : BitVec 32) (k0_hw158 : k0_chk158 i v17663), ∀ (k0_h1 : k0_cond1 i = 1#1), ∀ a, (k0_off158 v17663) a + S1x16x128.size a ≤ S16384x16x128.size a := fun i v17663 k0_hw158 k0_h1 => k0_hw158 k0_h1

def k0_off159 (v17669 : BitVec 32) : Fin 3 → Nat :=
  let c0_i32_16117 : BitVec 32 := 0#32
  let c0_i32_16118 : BitVec 32 := 0#32
  ![v17669.toNat, 0, 0]

def k0_chk159 (i : grid0.Coords) (v17669 : BitVec 32) : Prop :=
  (∀ (k0_h1 : k0_cond1 i = 1#1), ∀ a, (k0_off159 v17669) a + S1x16x128.size a ≤ S16384x16x128.size a)
theorem k0_off159_inb : ∀ (i : grid0.Coords) (v17669 : BitVec 32) (k0_hw159 : k0_chk159 i v17669), ∀ (k0_h1 : k0_cond1 i = 1#1), ∀ a, (k0_off159 v17669) a + S1x16x128.size a ≤ S16384x16x128.size a := fun i v17669 k0_hw159 k0_h1 => k0_hw159 k0_h1

def k0_off160 (v17675 : BitVec 32) : Fin 3 → Nat :=
  let c0_i32_16124 : BitVec 32 := 0#32
  let c0_i32_16125 : BitVec 32 := 0#32
  ![v17675.toNat, 0, 0]

def k0_chk160 (i : grid0.Coords) (v17675 : BitVec 32) : Prop :=
  (∀ (k0_h1 : k0_cond1 i = 1#1), ∀ a, (k0_off160 v17675) a + S1x16x128.size a ≤ S16384x16x128.size a)
theorem k0_off160_inb : ∀ (i : grid0.Coords) (v17675 : BitVec 32) (k0_hw160 : k0_chk160 i v17675), ∀ (k0_h1 : k0_cond1 i = 1#1), ∀ a, (k0_off160 v17675) a + S1x16x128.size a ≤ S16384x16x128.size a := fun i v17675 k0_hw160 k0_h1 => k0_hw160 k0_h1

def k0_off161 (v17681 : BitVec 32) : Fin 3 → Nat :=
  let c0_i32_16131 : BitVec 32 := 0#32
  let c0_i32_16132 : BitVec 32 := 0#32
  ![v17681.toNat, 0, 0]

def k0_chk161 (i : grid0.Coords) (v17681 : BitVec 32) : Prop :=
  (∀ (k0_h1 : k0_cond1 i = 1#1), ∀ a, (k0_off161 v17681) a + S1x16x128.size a ≤ S16384x16x128.size a)
theorem k0_off161_inb : ∀ (i : grid0.Coords) (v17681 : BitVec 32) (k0_hw161 : k0_chk161 i v17681), ∀ (k0_h1 : k0_cond1 i = 1#1), ∀ a, (k0_off161 v17681) a + S1x16x128.size a ≤ S16384x16x128.size a := fun i v17681 k0_hw161 k0_h1 => k0_hw161 k0_h1

def k0_off162 (v17687 : BitVec 32) : Fin 3 → Nat :=
  let c0_i32_16138 : BitVec 32 := 0#32
  let c0_i32_16139 : BitVec 32 := 0#32
  ![v17687.toNat, 0, 0]

def k0_chk162 (i : grid0.Coords) (v17687 : BitVec 32) : Prop :=
  (∀ (k0_h1 : k0_cond1 i = 1#1), ∀ a, (k0_off162 v17687) a + S1x16x128.size a ≤ S16384x16x128.size a)
theorem k0_off162_inb : ∀ (i : grid0.Coords) (v17687 : BitVec 32) (k0_hw162 : k0_chk162 i v17687), ∀ (k0_h1 : k0_cond1 i = 1#1), ∀ a, (k0_off162 v17687) a + S1x16x128.size a ≤ S16384x16x128.size a := fun i v17687 k0_hw162 k0_h1 => k0_hw162 k0_h1

def k0_off163 (v17693 : BitVec 32) : Fin 3 → Nat :=
  let c0_i32_16145 : BitVec 32 := 0#32
  let c0_i32_16146 : BitVec 32 := 0#32
  ![v17693.toNat, 0, 0]

def k0_chk163 (i : grid0.Coords) (v17693 : BitVec 32) : Prop :=
  (∀ (k0_h1 : k0_cond1 i = 1#1), ∀ a, (k0_off163 v17693) a + S1x16x128.size a ≤ S16384x16x128.size a)
theorem k0_off163_inb : ∀ (i : grid0.Coords) (v17693 : BitVec 32) (k0_hw163 : k0_chk163 i v17693), ∀ (k0_h1 : k0_cond1 i = 1#1), ∀ a, (k0_off163 v17693) a + S1x16x128.size a ≤ S16384x16x128.size a := fun i v17693 k0_hw163 k0_h1 => k0_hw163 k0_h1

def k0_off164 (v17699 : BitVec 32) : Fin 3 → Nat :=
  let c0_i32_16152 : BitVec 32 := 0#32
  let c0_i32_16153 : BitVec 32 := 0#32
  ![v17699.toNat, 0, 0]

def k0_chk164 (i : grid0.Coords) (v17699 : BitVec 32) : Prop :=
  (∀ (k0_h1 : k0_cond1 i = 1#1), ∀ a, (k0_off164 v17699) a + S1x16x128.size a ≤ S16384x16x128.size a)
theorem k0_off164_inb : ∀ (i : grid0.Coords) (v17699 : BitVec 32) (k0_hw164 : k0_chk164 i v17699), ∀ (k0_h1 : k0_cond1 i = 1#1), ∀ a, (k0_off164 v17699) a + S1x16x128.size a ≤ S16384x16x128.size a := fun i v17699 k0_hw164 k0_h1 => k0_hw164 k0_h1

def k0_off165 (v17705 : BitVec 32) : Fin 3 → Nat :=
  let c0_i32_16159 : BitVec 32 := 0#32
  let c0_i32_16160 : BitVec 32 := 0#32
  ![v17705.toNat, 0, 0]

def k0_chk165 (i : grid0.Coords) (v17705 : BitVec 32) : Prop :=
  (∀ (k0_h1 : k0_cond1 i = 1#1), ∀ a, (k0_off165 v17705) a + S1x16x128.size a ≤ S16384x16x128.size a)
theorem k0_off165_inb : ∀ (i : grid0.Coords) (v17705 : BitVec 32) (k0_hw165 : k0_chk165 i v17705), ∀ (k0_h1 : k0_cond1 i = 1#1), ∀ a, (k0_off165 v17705) a + S1x16x128.size a ≤ S16384x16x128.size a := fun i v17705 k0_hw165 k0_h1 => k0_hw165 k0_h1

def k0_off166 (v17711 : BitVec 32) : Fin 3 → Nat :=
  let c0_i32_16166 : BitVec 32 := 0#32
  let c0_i32_16167 : BitVec 32 := 0#32
  ![v17711.toNat, 0, 0]

def k0_chk166 (i : grid0.Coords) (v17711 : BitVec 32) : Prop :=
  (∀ (k0_h1 : k0_cond1 i = 1#1), ∀ a, (k0_off166 v17711) a + S1x16x128.size a ≤ S16384x16x128.size a)
theorem k0_off166_inb : ∀ (i : grid0.Coords) (v17711 : BitVec 32) (k0_hw166 : k0_chk166 i v17711), ∀ (k0_h1 : k0_cond1 i = 1#1), ∀ a, (k0_off166 v17711) a + S1x16x128.size a ≤ S16384x16x128.size a := fun i v17711 k0_hw166 k0_h1 => k0_hw166 k0_h1

def k0_off167 (v17717 : BitVec 32) : Fin 3 → Nat :=
  let c0_i32_16173 : BitVec 32 := 0#32
  let c0_i32_16174 : BitVec 32 := 0#32
  ![v17717.toNat, 0, 0]

def k0_chk167 (i : grid0.Coords) (v17717 : BitVec 32) : Prop :=
  (∀ (k0_h1 : k0_cond1 i = 1#1), ∀ a, (k0_off167 v17717) a + S1x16x128.size a ≤ S16384x16x128.size a)
theorem k0_off167_inb : ∀ (i : grid0.Coords) (v17717 : BitVec 32) (k0_hw167 : k0_chk167 i v17717), ∀ (k0_h1 : k0_cond1 i = 1#1), ∀ a, (k0_off167 v17717) a + S1x16x128.size a ≤ S16384x16x128.size a := fun i v17717 k0_hw167 k0_h1 => k0_hw167 k0_h1

def k0_off168 (v17723 : BitVec 32) : Fin 3 → Nat :=
  let c0_i32_16180 : BitVec 32 := 0#32
  let c0_i32_16181 : BitVec 32 := 0#32
  ![v17723.toNat, 0, 0]

def k0_chk168 (i : grid0.Coords) (v17723 : BitVec 32) : Prop :=
  (∀ (k0_h1 : k0_cond1 i = 1#1), ∀ a, (k0_off168 v17723) a + S1x16x128.size a ≤ S16384x16x128.size a)
theorem k0_off168_inb : ∀ (i : grid0.Coords) (v17723 : BitVec 32) (k0_hw168 : k0_chk168 i v17723), ∀ (k0_h1 : k0_cond1 i = 1#1), ∀ a, (k0_off168 v17723) a + S1x16x128.size a ≤ S16384x16x128.size a := fun i v17723 k0_hw168 k0_h1 => k0_hw168 k0_h1

def k0_off169 (v17729 : BitVec 32) : Fin 3 → Nat :=
  let c0_i32_16187 : BitVec 32 := 0#32
  let c0_i32_16188 : BitVec 32 := 0#32
  ![v17729.toNat, 0, 0]

def k0_chk169 (i : grid0.Coords) (v17729 : BitVec 32) : Prop :=
  (∀ (k0_h1 : k0_cond1 i = 1#1), ∀ a, (k0_off169 v17729) a + S1x16x128.size a ≤ S16384x16x128.size a)
theorem k0_off169_inb : ∀ (i : grid0.Coords) (v17729 : BitVec 32) (k0_hw169 : k0_chk169 i v17729), ∀ (k0_h1 : k0_cond1 i = 1#1), ∀ a, (k0_off169 v17729) a + S1x16x128.size a ≤ S16384x16x128.size a := fun i v17729 k0_hw169 k0_h1 => k0_hw169 k0_h1

def k0_off170 (v17735 : BitVec 32) : Fin 3 → Nat :=
  let c0_i32_16194 : BitVec 32 := 0#32
  let c0_i32_16195 : BitVec 32 := 0#32
  ![v17735.toNat, 0, 0]

def k0_chk170 (i : grid0.Coords) (v17735 : BitVec 32) : Prop :=
  (∀ (k0_h1 : k0_cond1 i = 1#1), ∀ a, (k0_off170 v17735) a + S1x16x128.size a ≤ S16384x16x128.size a)
theorem k0_off170_inb : ∀ (i : grid0.Coords) (v17735 : BitVec 32) (k0_hw170 : k0_chk170 i v17735), ∀ (k0_h1 : k0_cond1 i = 1#1), ∀ a, (k0_off170 v17735) a + S1x16x128.size a ≤ S16384x16x128.size a := fun i v17735 k0_hw170 k0_h1 => k0_hw170 k0_h1

def k0_off171 (v17741 : BitVec 32) : Fin 3 → Nat :=
  let c0_i32_16201 : BitVec 32 := 0#32
  let c0_i32_16202 : BitVec 32 := 0#32
  ![v17741.toNat, 0, 0]

def k0_chk171 (i : grid0.Coords) (v17741 : BitVec 32) : Prop :=
  (∀ (k0_h1 : k0_cond1 i = 1#1), ∀ a, (k0_off171 v17741) a + S1x16x128.size a ≤ S16384x16x128.size a)
theorem k0_off171_inb : ∀ (i : grid0.Coords) (v17741 : BitVec 32) (k0_hw171 : k0_chk171 i v17741), ∀ (k0_h1 : k0_cond1 i = 1#1), ∀ a, (k0_off171 v17741) a + S1x16x128.size a ≤ S16384x16x128.size a := fun i v17741 k0_hw171 k0_h1 => k0_hw171 k0_h1

def k0_off172 (v17747 : BitVec 32) : Fin 3 → Nat :=
  let c0_i32_16208 : BitVec 32 := 0#32
  let c0_i32_16209 : BitVec 32 := 0#32
  ![v17747.toNat, 0, 0]

def k0_chk172 (i : grid0.Coords) (v17747 : BitVec 32) : Prop :=
  (∀ (k0_h1 : k0_cond1 i = 1#1), ∀ a, (k0_off172 v17747) a + S1x16x128.size a ≤ S16384x16x128.size a)
theorem k0_off172_inb : ∀ (i : grid0.Coords) (v17747 : BitVec 32) (k0_hw172 : k0_chk172 i v17747), ∀ (k0_h1 : k0_cond1 i = 1#1), ∀ a, (k0_off172 v17747) a + S1x16x128.size a ≤ S16384x16x128.size a := fun i v17747 k0_hw172 k0_h1 => k0_hw172 k0_h1

def k0_off173 (v17753 : BitVec 32) : Fin 3 → Nat :=
  let c0_i32_16215 : BitVec 32 := 0#32
  let c0_i32_16216 : BitVec 32 := 0#32
  ![v17753.toNat, 0, 0]

def k0_chk173 (i : grid0.Coords) (v17753 : BitVec 32) : Prop :=
  (∀ (k0_h1 : k0_cond1 i = 1#1), ∀ a, (k0_off173 v17753) a + S1x16x128.size a ≤ S16384x16x128.size a)
theorem k0_off173_inb : ∀ (i : grid0.Coords) (v17753 : BitVec 32) (k0_hw173 : k0_chk173 i v17753), ∀ (k0_h1 : k0_cond1 i = 1#1), ∀ a, (k0_off173 v17753) a + S1x16x128.size a ≤ S16384x16x128.size a := fun i v17753 k0_hw173 k0_h1 => k0_hw173 k0_h1

def k0_off174 (v17759 : BitVec 32) : Fin 3 → Nat :=
  let c0_i32_16222 : BitVec 32 := 0#32
  let c0_i32_16223 : BitVec 32 := 0#32
  ![v17759.toNat, 0, 0]

def k0_chk174 (i : grid0.Coords) (v17759 : BitVec 32) : Prop :=
  (∀ (k0_h1 : k0_cond1 i = 1#1), ∀ a, (k0_off174 v17759) a + S1x16x128.size a ≤ S16384x16x128.size a)
theorem k0_off174_inb : ∀ (i : grid0.Coords) (v17759 : BitVec 32) (k0_hw174 : k0_chk174 i v17759), ∀ (k0_h1 : k0_cond1 i = 1#1), ∀ a, (k0_off174 v17759) a + S1x16x128.size a ≤ S16384x16x128.size a := fun i v17759 k0_hw174 k0_h1 => k0_hw174 k0_h1

def k0_off175 (v17765 : BitVec 32) : Fin 3 → Nat :=
  let c0_i32_16229 : BitVec 32 := 0#32
  let c0_i32_16230 : BitVec 32 := 0#32
  ![v17765.toNat, 0, 0]

def k0_chk175 (i : grid0.Coords) (v17765 : BitVec 32) : Prop :=
  (∀ (k0_h1 : k0_cond1 i = 1#1), ∀ a, (k0_off175 v17765) a + S1x16x128.size a ≤ S16384x16x128.size a)
theorem k0_off175_inb : ∀ (i : grid0.Coords) (v17765 : BitVec 32) (k0_hw175 : k0_chk175 i v17765), ∀ (k0_h1 : k0_cond1 i = 1#1), ∀ a, (k0_off175 v17765) a + S1x16x128.size a ≤ S16384x16x128.size a := fun i v17765 k0_hw175 k0_h1 => k0_hw175 k0_h1

def k0_off176 (v17771 : BitVec 32) : Fin 3 → Nat :=
  let c0_i32_16236 : BitVec 32 := 0#32
  let c0_i32_16237 : BitVec 32 := 0#32
  ![v17771.toNat, 0, 0]

def k0_chk176 (i : grid0.Coords) (v17771 : BitVec 32) : Prop :=
  (∀ (k0_h1 : k0_cond1 i = 1#1), ∀ a, (k0_off176 v17771) a + S1x16x128.size a ≤ S16384x16x128.size a)
theorem k0_off176_inb : ∀ (i : grid0.Coords) (v17771 : BitVec 32) (k0_hw176 : k0_chk176 i v17771), ∀ (k0_h1 : k0_cond1 i = 1#1), ∀ a, (k0_off176 v17771) a + S1x16x128.size a ≤ S16384x16x128.size a := fun i v17771 k0_hw176 k0_h1 => k0_hw176 k0_h1

def k0_off177 (v17777 : BitVec 32) : Fin 3 → Nat :=
  let c0_i32_16243 : BitVec 32 := 0#32
  let c0_i32_16244 : BitVec 32 := 0#32
  ![v17777.toNat, 0, 0]

def k0_chk177 (i : grid0.Coords) (v17777 : BitVec 32) : Prop :=
  (∀ (k0_h1 : k0_cond1 i = 1#1), ∀ a, (k0_off177 v17777) a + S1x16x128.size a ≤ S16384x16x128.size a)
theorem k0_off177_inb : ∀ (i : grid0.Coords) (v17777 : BitVec 32) (k0_hw177 : k0_chk177 i v17777), ∀ (k0_h1 : k0_cond1 i = 1#1), ∀ a, (k0_off177 v17777) a + S1x16x128.size a ≤ S16384x16x128.size a := fun i v17777 k0_hw177 k0_h1 => k0_hw177 k0_h1

def k0_off178 (v17783 : BitVec 32) : Fin 3 → Nat :=
  let c0_i32_16250 : BitVec 32 := 0#32
  let c0_i32_16251 : BitVec 32 := 0#32
  ![v17783.toNat, 0, 0]

def k0_chk178 (i : grid0.Coords) (v17783 : BitVec 32) : Prop :=
  (∀ (k0_h1 : k0_cond1 i = 1#1), ∀ a, (k0_off178 v17783) a + S1x16x128.size a ≤ S16384x16x128.size a)
theorem k0_off178_inb : ∀ (i : grid0.Coords) (v17783 : BitVec 32) (k0_hw178 : k0_chk178 i v17783), ∀ (k0_h1 : k0_cond1 i = 1#1), ∀ a, (k0_off178 v17783) a + S1x16x128.size a ≤ S16384x16x128.size a := fun i v17783 k0_hw178 k0_h1 => k0_hw178 k0_h1

def k0_off179 (v17789 : BitVec 32) : Fin 3 → Nat :=
  let c0_i32_16257 : BitVec 32 := 0#32
  let c0_i32_16258 : BitVec 32 := 0#32
  ![v17789.toNat, 0, 0]

def k0_chk179 (i : grid0.Coords) (v17789 : BitVec 32) : Prop :=
  (∀ (k0_h1 : k0_cond1 i = 1#1), ∀ a, (k0_off179 v17789) a + S1x16x128.size a ≤ S16384x16x128.size a)
theorem k0_off179_inb : ∀ (i : grid0.Coords) (v17789 : BitVec 32) (k0_hw179 : k0_chk179 i v17789), ∀ (k0_h1 : k0_cond1 i = 1#1), ∀ a, (k0_off179 v17789) a + S1x16x128.size a ≤ S16384x16x128.size a := fun i v17789 k0_hw179 k0_h1 => k0_hw179 k0_h1

def k0_off180 (v17795 : BitVec 32) : Fin 3 → Nat :=
  let c0_i32_16264 : BitVec 32 := 0#32
  let c0_i32_16265 : BitVec 32 := 0#32
  ![v17795.toNat, 0, 0]

def k0_chk180 (i : grid0.Coords) (v17795 : BitVec 32) : Prop :=
  (∀ (k0_h1 : k0_cond1 i = 1#1), ∀ a, (k0_off180 v17795) a + S1x16x128.size a ≤ S16384x16x128.size a)
theorem k0_off180_inb : ∀ (i : grid0.Coords) (v17795 : BitVec 32) (k0_hw180 : k0_chk180 i v17795), ∀ (k0_h1 : k0_cond1 i = 1#1), ∀ a, (k0_off180 v17795) a + S1x16x128.size a ≤ S16384x16x128.size a := fun i v17795 k0_hw180 k0_h1 => k0_hw180 k0_h1

def k0_off181 (v17801 : BitVec 32) : Fin 3 → Nat :=
  let c0_i32_16271 : BitVec 32 := 0#32
  let c0_i32_16272 : BitVec 32 := 0#32
  ![v17801.toNat, 0, 0]

def k0_chk181 (i : grid0.Coords) (v17801 : BitVec 32) : Prop :=
  (∀ (k0_h1 : k0_cond1 i = 1#1), ∀ a, (k0_off181 v17801) a + S1x16x128.size a ≤ S16384x16x128.size a)
theorem k0_off181_inb : ∀ (i : grid0.Coords) (v17801 : BitVec 32) (k0_hw181 : k0_chk181 i v17801), ∀ (k0_h1 : k0_cond1 i = 1#1), ∀ a, (k0_off181 v17801) a + S1x16x128.size a ≤ S16384x16x128.size a := fun i v17801 k0_hw181 k0_h1 => k0_hw181 k0_h1

def k0_off182 (v17807 : BitVec 32) : Fin 3 → Nat :=
  let c0_i32_16278 : BitVec 32 := 0#32
  let c0_i32_16279 : BitVec 32 := 0#32
  ![v17807.toNat, 0, 0]

def k0_chk182 (i : grid0.Coords) (v17807 : BitVec 32) : Prop :=
  (∀ (k0_h1 : k0_cond1 i = 1#1), ∀ a, (k0_off182 v17807) a + S1x16x128.size a ≤ S16384x16x128.size a)
theorem k0_off182_inb : ∀ (i : grid0.Coords) (v17807 : BitVec 32) (k0_hw182 : k0_chk182 i v17807), ∀ (k0_h1 : k0_cond1 i = 1#1), ∀ a, (k0_off182 v17807) a + S1x16x128.size a ≤ S16384x16x128.size a := fun i v17807 k0_hw182 k0_h1 => k0_hw182 k0_h1

def k0_off183 (v17813 : BitVec 32) : Fin 3 → Nat :=
  let c0_i32_16285 : BitVec 32 := 0#32
  let c0_i32_16286 : BitVec 32 := 0#32
  ![v17813.toNat, 0, 0]

def k0_chk183 (i : grid0.Coords) (v17813 : BitVec 32) : Prop :=
  (∀ (k0_h1 : k0_cond1 i = 1#1), ∀ a, (k0_off183 v17813) a + S1x16x128.size a ≤ S16384x16x128.size a)
theorem k0_off183_inb : ∀ (i : grid0.Coords) (v17813 : BitVec 32) (k0_hw183 : k0_chk183 i v17813), ∀ (k0_h1 : k0_cond1 i = 1#1), ∀ a, (k0_off183 v17813) a + S1x16x128.size a ≤ S16384x16x128.size a := fun i v17813 k0_hw183 k0_h1 => k0_hw183 k0_h1

def k0_off184 (v17819 : BitVec 32) : Fin 3 → Nat :=
  let c0_i32_16292 : BitVec 32 := 0#32
  let c0_i32_16293 : BitVec 32 := 0#32
  ![v17819.toNat, 0, 0]

def k0_chk184 (i : grid0.Coords) (v17819 : BitVec 32) : Prop :=
  (∀ (k0_h1 : k0_cond1 i = 1#1), ∀ a, (k0_off184 v17819) a + S1x16x128.size a ≤ S16384x16x128.size a)
theorem k0_off184_inb : ∀ (i : grid0.Coords) (v17819 : BitVec 32) (k0_hw184 : k0_chk184 i v17819), ∀ (k0_h1 : k0_cond1 i = 1#1), ∀ a, (k0_off184 v17819) a + S1x16x128.size a ≤ S16384x16x128.size a := fun i v17819 k0_hw184 k0_h1 => k0_hw184 k0_h1

def k0_off185 (v17825 : BitVec 32) : Fin 3 → Nat :=
  let c0_i32_16299 : BitVec 32 := 0#32
  let c0_i32_16300 : BitVec 32 := 0#32
  ![v17825.toNat, 0, 0]

def k0_chk185 (i : grid0.Coords) (v17825 : BitVec 32) : Prop :=
  (∀ (k0_h1 : k0_cond1 i = 1#1), ∀ a, (k0_off185 v17825) a + S1x16x128.size a ≤ S16384x16x128.size a)
theorem k0_off185_inb : ∀ (i : grid0.Coords) (v17825 : BitVec 32) (k0_hw185 : k0_chk185 i v17825), ∀ (k0_h1 : k0_cond1 i = 1#1), ∀ a, (k0_off185 v17825) a + S1x16x128.size a ≤ S16384x16x128.size a := fun i v17825 k0_hw185 k0_h1 => k0_hw185 k0_h1

def k0_off186 (v17831 : BitVec 32) : Fin 3 → Nat :=
  let c0_i32_16306 : BitVec 32 := 0#32
  let c0_i32_16307 : BitVec 32 := 0#32
  ![v17831.toNat, 0, 0]

def k0_chk186 (i : grid0.Coords) (v17831 : BitVec 32) : Prop :=
  (∀ (k0_h1 : k0_cond1 i = 1#1), ∀ a, (k0_off186 v17831) a + S1x16x128.size a ≤ S16384x16x128.size a)
theorem k0_off186_inb : ∀ (i : grid0.Coords) (v17831 : BitVec 32) (k0_hw186 : k0_chk186 i v17831), ∀ (k0_h1 : k0_cond1 i = 1#1), ∀ a, (k0_off186 v17831) a + S1x16x128.size a ≤ S16384x16x128.size a := fun i v17831 k0_hw186 k0_h1 => k0_hw186 k0_h1

def k0_off187 (v17837 : BitVec 32) : Fin 3 → Nat :=
  let c0_i32_16313 : BitVec 32 := 0#32
  let c0_i32_16314 : BitVec 32 := 0#32
  ![v17837.toNat, 0, 0]

def k0_chk187 (i : grid0.Coords) (v17837 : BitVec 32) : Prop :=
  (∀ (k0_h1 : k0_cond1 i = 1#1), ∀ a, (k0_off187 v17837) a + S1x16x128.size a ≤ S16384x16x128.size a)
theorem k0_off187_inb : ∀ (i : grid0.Coords) (v17837 : BitVec 32) (k0_hw187 : k0_chk187 i v17837), ∀ (k0_h1 : k0_cond1 i = 1#1), ∀ a, (k0_off187 v17837) a + S1x16x128.size a ≤ S16384x16x128.size a := fun i v17837 k0_hw187 k0_h1 => k0_hw187 k0_h1

def k0_off188 (v17843 : BitVec 32) : Fin 3 → Nat :=
  let c0_i32_16320 : BitVec 32 := 0#32
  let c0_i32_16321 : BitVec 32 := 0#32
  ![v17843.toNat, 0, 0]

def k0_chk188 (i : grid0.Coords) (v17843 : BitVec 32) : Prop :=
  (∀ (k0_h1 : k0_cond1 i = 1#1), ∀ a, (k0_off188 v17843) a + S1x16x128.size a ≤ S16384x16x128.size a)
theorem k0_off188_inb : ∀ (i : grid0.Coords) (v17843 : BitVec 32) (k0_hw188 : k0_chk188 i v17843), ∀ (k0_h1 : k0_cond1 i = 1#1), ∀ a, (k0_off188 v17843) a + S1x16x128.size a ≤ S16384x16x128.size a := fun i v17843 k0_hw188 k0_h1 => k0_hw188 k0_h1

def k0_off189 (v17849 : BitVec 32) : Fin 3 → Nat :=
  let c0_i32_16327 : BitVec 32 := 0#32
  let c0_i32_16328 : BitVec 32 := 0#32
  ![v17849.toNat, 0, 0]

def k0_chk189 (i : grid0.Coords) (v17849 : BitVec 32) : Prop :=
  (∀ (k0_h1 : k0_cond1 i = 1#1), ∀ a, (k0_off189 v17849) a + S1x16x128.size a ≤ S16384x16x128.size a)
theorem k0_off189_inb : ∀ (i : grid0.Coords) (v17849 : BitVec 32) (k0_hw189 : k0_chk189 i v17849), ∀ (k0_h1 : k0_cond1 i = 1#1), ∀ a, (k0_off189 v17849) a + S1x16x128.size a ≤ S16384x16x128.size a := fun i v17849 k0_hw189 k0_h1 => k0_hw189 k0_h1

def k0_off190 (v17855 : BitVec 32) : Fin 3 → Nat :=
  let c0_i32_16334 : BitVec 32 := 0#32
  let c0_i32_16335 : BitVec 32 := 0#32
  ![v17855.toNat, 0, 0]

def k0_chk190 (i : grid0.Coords) (v17855 : BitVec 32) : Prop :=
  (∀ (k0_h1 : k0_cond1 i = 1#1), ∀ a, (k0_off190 v17855) a + S1x16x128.size a ≤ S16384x16x128.size a)
theorem k0_off190_inb : ∀ (i : grid0.Coords) (v17855 : BitVec 32) (k0_hw190 : k0_chk190 i v17855), ∀ (k0_h1 : k0_cond1 i = 1#1), ∀ a, (k0_off190 v17855) a + S1x16x128.size a ≤ S16384x16x128.size a := fun i v17855 k0_hw190 k0_h1 => k0_hw190 k0_h1

def k0_off191 (v17861 : BitVec 32) : Fin 3 → Nat :=
  let c0_i32_16341 : BitVec 32 := 0#32
  let c0_i32_16342 : BitVec 32 := 0#32
  ![v17861.toNat, 0, 0]

def k0_chk191 (i : grid0.Coords) (v17861 : BitVec 32) : Prop :=
  (∀ (k0_h1 : k0_cond1 i = 1#1), ∀ a, (k0_off191 v17861) a + S1x16x128.size a ≤ S16384x16x128.size a)
theorem k0_off191_inb : ∀ (i : grid0.Coords) (v17861 : BitVec 32) (k0_hw191 : k0_chk191 i v17861), ∀ (k0_h1 : k0_cond1 i = 1#1), ∀ a, (k0_off191 v17861) a + S1x16x128.size a ≤ S16384x16x128.size a := fun i v17861 k0_hw191 k0_h1 => k0_hw191 k0_h1

def k0_off192 (v17867 : BitVec 32) : Fin 3 → Nat :=
  let c0_i32_16348 : BitVec 32 := 0#32
  let c0_i32_16349 : BitVec 32 := 0#32
  ![v17867.toNat, 0, 0]

def k0_chk192 (i : grid0.Coords) (v17867 : BitVec 32) : Prop :=
  (∀ (k0_h1 : k0_cond1 i = 1#1), ∀ a, (k0_off192 v17867) a + S1x16x128.size a ≤ S16384x16x128.size a)
theorem k0_off192_inb : ∀ (i : grid0.Coords) (v17867 : BitVec 32) (k0_hw192 : k0_chk192 i v17867), ∀ (k0_h1 : k0_cond1 i = 1#1), ∀ a, (k0_off192 v17867) a + S1x16x128.size a ≤ S16384x16x128.size a := fun i v17867 k0_hw192 k0_h1 => k0_hw192 k0_h1

def k0_off193 (v17873 : BitVec 32) : Fin 3 → Nat :=
  let c0_i32_16355 : BitVec 32 := 0#32
  let c0_i32_16356 : BitVec 32 := 0#32
  ![v17873.toNat, 0, 0]

def k0_chk193 (i : grid0.Coords) (v17873 : BitVec 32) : Prop :=
  (∀ (k0_h1 : k0_cond1 i = 1#1), ∀ a, (k0_off193 v17873) a + S1x16x128.size a ≤ S16384x16x128.size a)
theorem k0_off193_inb : ∀ (i : grid0.Coords) (v17873 : BitVec 32) (k0_hw193 : k0_chk193 i v17873), ∀ (k0_h1 : k0_cond1 i = 1#1), ∀ a, (k0_off193 v17873) a + S1x16x128.size a ≤ S16384x16x128.size a := fun i v17873 k0_hw193 k0_h1 => k0_hw193 k0_h1

def k0_off194 (v17879 : BitVec 32) : Fin 3 → Nat :=
  let c0_i32_16362 : BitVec 32 := 0#32
  let c0_i32_16363 : BitVec 32 := 0#32
  ![v17879.toNat, 0, 0]

def k0_chk194 (i : grid0.Coords) (v17879 : BitVec 32) : Prop :=
  (∀ (k0_h1 : k0_cond1 i = 1#1), ∀ a, (k0_off194 v17879) a + S1x16x128.size a ≤ S16384x16x128.size a)
theorem k0_off194_inb : ∀ (i : grid0.Coords) (v17879 : BitVec 32) (k0_hw194 : k0_chk194 i v17879), ∀ (k0_h1 : k0_cond1 i = 1#1), ∀ a, (k0_off194 v17879) a + S1x16x128.size a ≤ S16384x16x128.size a := fun i v17879 k0_hw194 k0_h1 => k0_hw194 k0_h1

def k0_off195 (v17885 : BitVec 32) : Fin 3 → Nat :=
  let c0_i32_16369 : BitVec 32 := 0#32
  let c0_i32_16370 : BitVec 32 := 0#32
  ![v17885.toNat, 0, 0]

def k0_chk195 (i : grid0.Coords) (v17885 : BitVec 32) : Prop :=
  (∀ (k0_h1 : k0_cond1 i = 1#1), ∀ a, (k0_off195 v17885) a + S1x16x128.size a ≤ S16384x16x128.size a)
theorem k0_off195_inb : ∀ (i : grid0.Coords) (v17885 : BitVec 32) (k0_hw195 : k0_chk195 i v17885), ∀ (k0_h1 : k0_cond1 i = 1#1), ∀ a, (k0_off195 v17885) a + S1x16x128.size a ≤ S16384x16x128.size a := fun i v17885 k0_hw195 k0_h1 => k0_hw195 k0_h1

def k0_off196 (v17891 : BitVec 32) : Fin 3 → Nat :=
  let c0_i32_16376 : BitVec 32 := 0#32
  let c0_i32_16377 : BitVec 32 := 0#32
  ![v17891.toNat, 0, 0]

def k0_chk196 (i : grid0.Coords) (v17891 : BitVec 32) : Prop :=
  (∀ (k0_h1 : k0_cond1 i = 1#1), ∀ a, (k0_off196 v17891) a + S1x16x128.size a ≤ S16384x16x128.size a)
theorem k0_off196_inb : ∀ (i : grid0.Coords) (v17891 : BitVec 32) (k0_hw196 : k0_chk196 i v17891), ∀ (k0_h1 : k0_cond1 i = 1#1), ∀ a, (k0_off196 v17891) a + S1x16x128.size a ≤ S16384x16x128.size a := fun i v17891 k0_hw196 k0_h1 => k0_hw196 k0_h1

def k0_off197 (v17897 : BitVec 32) : Fin 3 → Nat :=
  let c0_i32_16383 : BitVec 32 := 0#32
  let c0_i32_16384 : BitVec 32 := 0#32
  ![v17897.toNat, 0, 0]

def k0_chk197 (i : grid0.Coords) (v17897 : BitVec 32) : Prop :=
  (∀ (k0_h1 : k0_cond1 i = 1#1), ∀ a, (k0_off197 v17897) a + S1x16x128.size a ≤ S16384x16x128.size a)
theorem k0_off197_inb : ∀ (i : grid0.Coords) (v17897 : BitVec 32) (k0_hw197 : k0_chk197 i v17897), ∀ (k0_h1 : k0_cond1 i = 1#1), ∀ a, (k0_off197 v17897) a + S1x16x128.size a ≤ S16384x16x128.size a := fun i v17897 k0_hw197 k0_h1 => k0_hw197 k0_h1

def k0_off198 (v17903 : BitVec 32) : Fin 3 → Nat :=
  let c0_i32_16390 : BitVec 32 := 0#32
  let c0_i32_16391 : BitVec 32 := 0#32
  ![v17903.toNat, 0, 0]

def k0_chk198 (i : grid0.Coords) (v17903 : BitVec 32) : Prop :=
  (∀ (k0_h1 : k0_cond1 i = 1#1), ∀ a, (k0_off198 v17903) a + S1x16x128.size a ≤ S16384x16x128.size a)
theorem k0_off198_inb : ∀ (i : grid0.Coords) (v17903 : BitVec 32) (k0_hw198 : k0_chk198 i v17903), ∀ (k0_h1 : k0_cond1 i = 1#1), ∀ a, (k0_off198 v17903) a + S1x16x128.size a ≤ S16384x16x128.size a := fun i v17903 k0_hw198 k0_h1 => k0_hw198 k0_h1

def k0_off199 (v17909 : BitVec 32) : Fin 3 → Nat :=
  let c0_i32_16397 : BitVec 32 := 0#32
  let c0_i32_16398 : BitVec 32 := 0#32
  ![v17909.toNat, 0, 0]

def k0_chk199 (i : grid0.Coords) (v17909 : BitVec 32) : Prop :=
  (∀ (k0_h1 : k0_cond1 i = 1#1), ∀ a, (k0_off199 v17909) a + S1x16x128.size a ≤ S16384x16x128.size a)
theorem k0_off199_inb : ∀ (i : grid0.Coords) (v17909 : BitVec 32) (k0_hw199 : k0_chk199 i v17909), ∀ (k0_h1 : k0_cond1 i = 1#1), ∀ a, (k0_off199 v17909) a + S1x16x128.size a ≤ S16384x16x128.size a := fun i v17909 k0_hw199 k0_h1 => k0_hw199 k0_h1

def k0_off200 (v17915 : BitVec 32) : Fin 3 → Nat :=
  let c0_i32_16404 : BitVec 32 := 0#32
  let c0_i32_16405 : BitVec 32 := 0#32
  ![v17915.toNat, 0, 0]

def k0_chk200 (i : grid0.Coords) (v17915 : BitVec 32) : Prop :=
  (∀ (k0_h1 : k0_cond1 i = 1#1), ∀ a, (k0_off200 v17915) a + S1x16x128.size a ≤ S16384x16x128.size a)
theorem k0_off200_inb : ∀ (i : grid0.Coords) (v17915 : BitVec 32) (k0_hw200 : k0_chk200 i v17915), ∀ (k0_h1 : k0_cond1 i = 1#1), ∀ a, (k0_off200 v17915) a + S1x16x128.size a ≤ S16384x16x128.size a := fun i v17915 k0_hw200 k0_h1 => k0_hw200 k0_h1

def k0_off201 (v17921 : BitVec 32) : Fin 3 → Nat :=
  let c0_i32_16411 : BitVec 32 := 0#32
  let c0_i32_16412 : BitVec 32 := 0#32
  ![v17921.toNat, 0, 0]

def k0_chk201 (i : grid0.Coords) (v17921 : BitVec 32) : Prop :=
  (∀ (k0_h1 : k0_cond1 i = 1#1), ∀ a, (k0_off201 v17921) a + S1x16x128.size a ≤ S16384x16x128.size a)
theorem k0_off201_inb : ∀ (i : grid0.Coords) (v17921 : BitVec 32) (k0_hw201 : k0_chk201 i v17921), ∀ (k0_h1 : k0_cond1 i = 1#1), ∀ a, (k0_off201 v17921) a + S1x16x128.size a ≤ S16384x16x128.size a := fun i v17921 k0_hw201 k0_h1 => k0_hw201 k0_h1

def k0_off202 (v17927 : BitVec 32) : Fin 3 → Nat :=
  let c0_i32_16418 : BitVec 32 := 0#32
  let c0_i32_16419 : BitVec 32 := 0#32
  ![v17927.toNat, 0, 0]

def k0_chk202 (i : grid0.Coords) (v17927 : BitVec 32) : Prop :=
  (∀ (k0_h1 : k0_cond1 i = 1#1), ∀ a, (k0_off202 v17927) a + S1x16x128.size a ≤ S16384x16x128.size a)
theorem k0_off202_inb : ∀ (i : grid0.Coords) (v17927 : BitVec 32) (k0_hw202 : k0_chk202 i v17927), ∀ (k0_h1 : k0_cond1 i = 1#1), ∀ a, (k0_off202 v17927) a + S1x16x128.size a ≤ S16384x16x128.size a := fun i v17927 k0_hw202 k0_h1 => k0_hw202 k0_h1

def k0_off203 (v17933 : BitVec 32) : Fin 3 → Nat :=
  let c0_i32_16425 : BitVec 32 := 0#32
  let c0_i32_16426 : BitVec 32 := 0#32
  ![v17933.toNat, 0, 0]

def k0_chk203 (i : grid0.Coords) (v17933 : BitVec 32) : Prop :=
  (∀ (k0_h1 : k0_cond1 i = 1#1), ∀ a, (k0_off203 v17933) a + S1x16x128.size a ≤ S16384x16x128.size a)
theorem k0_off203_inb : ∀ (i : grid0.Coords) (v17933 : BitVec 32) (k0_hw203 : k0_chk203 i v17933), ∀ (k0_h1 : k0_cond1 i = 1#1), ∀ a, (k0_off203 v17933) a + S1x16x128.size a ≤ S16384x16x128.size a := fun i v17933 k0_hw203 k0_h1 => k0_hw203 k0_h1

def k0_off204 (v17939 : BitVec 32) : Fin 3 → Nat :=
  let c0_i32_16432 : BitVec 32 := 0#32
  let c0_i32_16433 : BitVec 32 := 0#32
  ![v17939.toNat, 0, 0]

def k0_chk204 (i : grid0.Coords) (v17939 : BitVec 32) : Prop :=
  (∀ (k0_h1 : k0_cond1 i = 1#1), ∀ a, (k0_off204 v17939) a + S1x16x128.size a ≤ S16384x16x128.size a)
theorem k0_off204_inb : ∀ (i : grid0.Coords) (v17939 : BitVec 32) (k0_hw204 : k0_chk204 i v17939), ∀ (k0_h1 : k0_cond1 i = 1#1), ∀ a, (k0_off204 v17939) a + S1x16x128.size a ≤ S16384x16x128.size a := fun i v17939 k0_hw204 k0_h1 => k0_hw204 k0_h1

def k0_off205 (v17945 : BitVec 32) : Fin 3 → Nat :=
  let c0_i32_16439 : BitVec 32 := 0#32
  let c0_i32_16440 : BitVec 32 := 0#32
  ![v17945.toNat, 0, 0]

def k0_chk205 (i : grid0.Coords) (v17945 : BitVec 32) : Prop :=
  (∀ (k0_h1 : k0_cond1 i = 1#1), ∀ a, (k0_off205 v17945) a + S1x16x128.size a ≤ S16384x16x128.size a)
theorem k0_off205_inb : ∀ (i : grid0.Coords) (v17945 : BitVec 32) (k0_hw205 : k0_chk205 i v17945), ∀ (k0_h1 : k0_cond1 i = 1#1), ∀ a, (k0_off205 v17945) a + S1x16x128.size a ≤ S16384x16x128.size a := fun i v17945 k0_hw205 k0_h1 => k0_hw205 k0_h1

def k0_off206 (v17951 : BitVec 32) : Fin 3 → Nat :=
  let c0_i32_16446 : BitVec 32 := 0#32
  let c0_i32_16447 : BitVec 32 := 0#32
  ![v17951.toNat, 0, 0]

def k0_chk206 (i : grid0.Coords) (v17951 : BitVec 32) : Prop :=
  (∀ (k0_h1 : k0_cond1 i = 1#1), ∀ a, (k0_off206 v17951) a + S1x16x128.size a ≤ S16384x16x128.size a)
theorem k0_off206_inb : ∀ (i : grid0.Coords) (v17951 : BitVec 32) (k0_hw206 : k0_chk206 i v17951), ∀ (k0_h1 : k0_cond1 i = 1#1), ∀ a, (k0_off206 v17951) a + S1x16x128.size a ≤ S16384x16x128.size a := fun i v17951 k0_hw206 k0_h1 => k0_hw206 k0_h1

def k0_off207 (v17957 : BitVec 32) : Fin 3 → Nat :=
  let c0_i32_16453 : BitVec 32 := 0#32
  let c0_i32_16454 : BitVec 32 := 0#32
  ![v17957.toNat, 0, 0]

def k0_chk207 (i : grid0.Coords) (v17957 : BitVec 32) : Prop :=
  (∀ (k0_h1 : k0_cond1 i = 1#1), ∀ a, (k0_off207 v17957) a + S1x16x128.size a ≤ S16384x16x128.size a)
theorem k0_off207_inb : ∀ (i : grid0.Coords) (v17957 : BitVec 32) (k0_hw207 : k0_chk207 i v17957), ∀ (k0_h1 : k0_cond1 i = 1#1), ∀ a, (k0_off207 v17957) a + S1x16x128.size a ≤ S16384x16x128.size a := fun i v17957 k0_hw207 k0_h1 => k0_hw207 k0_h1

def k0_off208 (v17963 : BitVec 32) : Fin 3 → Nat :=
  let c0_i32_16460 : BitVec 32 := 0#32
  let c0_i32_16461 : BitVec 32 := 0#32
  ![v17963.toNat, 0, 0]

def k0_chk208 (i : grid0.Coords) (v17963 : BitVec 32) : Prop :=
  (∀ (k0_h1 : k0_cond1 i = 1#1), ∀ a, (k0_off208 v17963) a + S1x16x128.size a ≤ S16384x16x128.size a)
theorem k0_off208_inb : ∀ (i : grid0.Coords) (v17963 : BitVec 32) (k0_hw208 : k0_chk208 i v17963), ∀ (k0_h1 : k0_cond1 i = 1#1), ∀ a, (k0_off208 v17963) a + S1x16x128.size a ≤ S16384x16x128.size a := fun i v17963 k0_hw208 k0_h1 => k0_hw208 k0_h1

def k0_off209 (v17969 : BitVec 32) : Fin 3 → Nat :=
  let c0_i32_16467 : BitVec 32 := 0#32
  let c0_i32_16468 : BitVec 32 := 0#32
  ![v17969.toNat, 0, 0]

def k0_chk209 (i : grid0.Coords) (v17969 : BitVec 32) : Prop :=
  (∀ (k0_h1 : k0_cond1 i = 1#1), ∀ a, (k0_off209 v17969) a + S1x16x128.size a ≤ S16384x16x128.size a)
theorem k0_off209_inb : ∀ (i : grid0.Coords) (v17969 : BitVec 32) (k0_hw209 : k0_chk209 i v17969), ∀ (k0_h1 : k0_cond1 i = 1#1), ∀ a, (k0_off209 v17969) a + S1x16x128.size a ≤ S16384x16x128.size a := fun i v17969 k0_hw209 k0_h1 => k0_hw209 k0_h1

def k0_off210 (v17975 : BitVec 32) : Fin 3 → Nat :=
  let c0_i32_16474 : BitVec 32 := 0#32
  let c0_i32_16475 : BitVec 32 := 0#32
  ![v17975.toNat, 0, 0]

def k0_chk210 (i : grid0.Coords) (v17975 : BitVec 32) : Prop :=
  (∀ (k0_h1 : k0_cond1 i = 1#1), ∀ a, (k0_off210 v17975) a + S1x16x128.size a ≤ S16384x16x128.size a)
theorem k0_off210_inb : ∀ (i : grid0.Coords) (v17975 : BitVec 32) (k0_hw210 : k0_chk210 i v17975), ∀ (k0_h1 : k0_cond1 i = 1#1), ∀ a, (k0_off210 v17975) a + S1x16x128.size a ≤ S16384x16x128.size a := fun i v17975 k0_hw210 k0_h1 => k0_hw210 k0_h1

def k0_off211 (v17981 : BitVec 32) : Fin 3 → Nat :=
  let c0_i32_16481 : BitVec 32 := 0#32
  let c0_i32_16482 : BitVec 32 := 0#32
  ![v17981.toNat, 0, 0]

def k0_chk211 (i : grid0.Coords) (v17981 : BitVec 32) : Prop :=
  (∀ (k0_h1 : k0_cond1 i = 1#1), ∀ a, (k0_off211 v17981) a + S1x16x128.size a ≤ S16384x16x128.size a)
theorem k0_off211_inb : ∀ (i : grid0.Coords) (v17981 : BitVec 32) (k0_hw211 : k0_chk211 i v17981), ∀ (k0_h1 : k0_cond1 i = 1#1), ∀ a, (k0_off211 v17981) a + S1x16x128.size a ≤ S16384x16x128.size a := fun i v17981 k0_hw211 k0_h1 => k0_hw211 k0_h1

def k0_off212 (v17987 : BitVec 32) : Fin 3 → Nat :=
  let c0_i32_16488 : BitVec 32 := 0#32
  let c0_i32_16489 : BitVec 32 := 0#32
  ![v17987.toNat, 0, 0]

def k0_chk212 (i : grid0.Coords) (v17987 : BitVec 32) : Prop :=
  (∀ (k0_h1 : k0_cond1 i = 1#1), ∀ a, (k0_off212 v17987) a + S1x16x128.size a ≤ S16384x16x128.size a)
theorem k0_off212_inb : ∀ (i : grid0.Coords) (v17987 : BitVec 32) (k0_hw212 : k0_chk212 i v17987), ∀ (k0_h1 : k0_cond1 i = 1#1), ∀ a, (k0_off212 v17987) a + S1x16x128.size a ≤ S16384x16x128.size a := fun i v17987 k0_hw212 k0_h1 => k0_hw212 k0_h1

def k0_off213 (v17993 : BitVec 32) : Fin 3 → Nat :=
  let c0_i32_16495 : BitVec 32 := 0#32
  let c0_i32_16496 : BitVec 32 := 0#32
  ![v17993.toNat, 0, 0]

def k0_chk213 (i : grid0.Coords) (v17993 : BitVec 32) : Prop :=
  (∀ (k0_h1 : k0_cond1 i = 1#1), ∀ a, (k0_off213 v17993) a + S1x16x128.size a ≤ S16384x16x128.size a)
theorem k0_off213_inb : ∀ (i : grid0.Coords) (v17993 : BitVec 32) (k0_hw213 : k0_chk213 i v17993), ∀ (k0_h1 : k0_cond1 i = 1#1), ∀ a, (k0_off213 v17993) a + S1x16x128.size a ≤ S16384x16x128.size a := fun i v17993 k0_hw213 k0_h1 => k0_hw213 k0_h1

def k0_off214 (v17999 : BitVec 32) : Fin 3 → Nat :=
  let c0_i32_16502 : BitVec 32 := 0#32
  let c0_i32_16503 : BitVec 32 := 0#32
  ![v17999.toNat, 0, 0]

def k0_chk214 (i : grid0.Coords) (v17999 : BitVec 32) : Prop :=
  (∀ (k0_h1 : k0_cond1 i = 1#1), ∀ a, (k0_off214 v17999) a + S1x16x128.size a ≤ S16384x16x128.size a)
theorem k0_off214_inb : ∀ (i : grid0.Coords) (v17999 : BitVec 32) (k0_hw214 : k0_chk214 i v17999), ∀ (k0_h1 : k0_cond1 i = 1#1), ∀ a, (k0_off214 v17999) a + S1x16x128.size a ≤ S16384x16x128.size a := fun i v17999 k0_hw214 k0_h1 => k0_hw214 k0_h1

def k0_off215 (v18005 : BitVec 32) : Fin 3 → Nat :=
  let c0_i32_16509 : BitVec 32 := 0#32
  let c0_i32_16510 : BitVec 32 := 0#32
  ![v18005.toNat, 0, 0]

def k0_chk215 (i : grid0.Coords) (v18005 : BitVec 32) : Prop :=
  (∀ (k0_h1 : k0_cond1 i = 1#1), ∀ a, (k0_off215 v18005) a + S1x16x128.size a ≤ S16384x16x128.size a)
theorem k0_off215_inb : ∀ (i : grid0.Coords) (v18005 : BitVec 32) (k0_hw215 : k0_chk215 i v18005), ∀ (k0_h1 : k0_cond1 i = 1#1), ∀ a, (k0_off215 v18005) a + S1x16x128.size a ≤ S16384x16x128.size a := fun i v18005 k0_hw215 k0_h1 => k0_hw215 k0_h1

def k0_off216 (v18011 : BitVec 32) : Fin 3 → Nat :=
  let c0_i32_16516 : BitVec 32 := 0#32
  let c0_i32_16517 : BitVec 32 := 0#32
  ![v18011.toNat, 0, 0]

def k0_chk216 (i : grid0.Coords) (v18011 : BitVec 32) : Prop :=
  (∀ (k0_h1 : k0_cond1 i = 1#1), ∀ a, (k0_off216 v18011) a + S1x16x128.size a ≤ S16384x16x128.size a)
theorem k0_off216_inb : ∀ (i : grid0.Coords) (v18011 : BitVec 32) (k0_hw216 : k0_chk216 i v18011), ∀ (k0_h1 : k0_cond1 i = 1#1), ∀ a, (k0_off216 v18011) a + S1x16x128.size a ≤ S16384x16x128.size a := fun i v18011 k0_hw216 k0_h1 => k0_hw216 k0_h1

def k0_off217 (v18017 : BitVec 32) : Fin 3 → Nat :=
  let c0_i32_16523 : BitVec 32 := 0#32
  let c0_i32_16524 : BitVec 32 := 0#32
  ![v18017.toNat, 0, 0]

def k0_chk217 (i : grid0.Coords) (v18017 : BitVec 32) : Prop :=
  (∀ (k0_h1 : k0_cond1 i = 1#1), ∀ a, (k0_off217 v18017) a + S1x16x128.size a ≤ S16384x16x128.size a)
theorem k0_off217_inb : ∀ (i : grid0.Coords) (v18017 : BitVec 32) (k0_hw217 : k0_chk217 i v18017), ∀ (k0_h1 : k0_cond1 i = 1#1), ∀ a, (k0_off217 v18017) a + S1x16x128.size a ≤ S16384x16x128.size a := fun i v18017 k0_hw217 k0_h1 => k0_hw217 k0_h1

def k0_off218 (v18023 : BitVec 32) : Fin 3 → Nat :=
  let c0_i32_16530 : BitVec 32 := 0#32
  let c0_i32_16531 : BitVec 32 := 0#32
  ![v18023.toNat, 0, 0]

def k0_chk218 (i : grid0.Coords) (v18023 : BitVec 32) : Prop :=
  (∀ (k0_h1 : k0_cond1 i = 1#1), ∀ a, (k0_off218 v18023) a + S1x16x128.size a ≤ S16384x16x128.size a)
theorem k0_off218_inb : ∀ (i : grid0.Coords) (v18023 : BitVec 32) (k0_hw218 : k0_chk218 i v18023), ∀ (k0_h1 : k0_cond1 i = 1#1), ∀ a, (k0_off218 v18023) a + S1x16x128.size a ≤ S16384x16x128.size a := fun i v18023 k0_hw218 k0_h1 => k0_hw218 k0_h1

def k0_off219 (v18029 : BitVec 32) : Fin 3 → Nat :=
  let c0_i32_16537 : BitVec 32 := 0#32
  let c0_i32_16538 : BitVec 32 := 0#32
  ![v18029.toNat, 0, 0]

def k0_chk219 (i : grid0.Coords) (v18029 : BitVec 32) : Prop :=
  (∀ (k0_h1 : k0_cond1 i = 1#1), ∀ a, (k0_off219 v18029) a + S1x16x128.size a ≤ S16384x16x128.size a)
theorem k0_off219_inb : ∀ (i : grid0.Coords) (v18029 : BitVec 32) (k0_hw219 : k0_chk219 i v18029), ∀ (k0_h1 : k0_cond1 i = 1#1), ∀ a, (k0_off219 v18029) a + S1x16x128.size a ≤ S16384x16x128.size a := fun i v18029 k0_hw219 k0_h1 => k0_hw219 k0_h1

def k0_off220 (v18035 : BitVec 32) : Fin 3 → Nat :=
  let c0_i32_16544 : BitVec 32 := 0#32
  let c0_i32_16545 : BitVec 32 := 0#32
  ![v18035.toNat, 0, 0]

def k0_chk220 (i : grid0.Coords) (v18035 : BitVec 32) : Prop :=
  (∀ (k0_h1 : k0_cond1 i = 1#1), ∀ a, (k0_off220 v18035) a + S1x16x128.size a ≤ S16384x16x128.size a)
theorem k0_off220_inb : ∀ (i : grid0.Coords) (v18035 : BitVec 32) (k0_hw220 : k0_chk220 i v18035), ∀ (k0_h1 : k0_cond1 i = 1#1), ∀ a, (k0_off220 v18035) a + S1x16x128.size a ≤ S16384x16x128.size a := fun i v18035 k0_hw220 k0_h1 => k0_hw220 k0_h1

def k0_off221 (v18041 : BitVec 32) : Fin 3 → Nat :=
  let c0_i32_16551 : BitVec 32 := 0#32
  let c0_i32_16552 : BitVec 32 := 0#32
  ![v18041.toNat, 0, 0]

def k0_chk221 (i : grid0.Coords) (v18041 : BitVec 32) : Prop :=
  (∀ (k0_h1 : k0_cond1 i = 1#1), ∀ a, (k0_off221 v18041) a + S1x16x128.size a ≤ S16384x16x128.size a)
theorem k0_off221_inb : ∀ (i : grid0.Coords) (v18041 : BitVec 32) (k0_hw221 : k0_chk221 i v18041), ∀ (k0_h1 : k0_cond1 i = 1#1), ∀ a, (k0_off221 v18041) a + S1x16x128.size a ≤ S16384x16x128.size a := fun i v18041 k0_hw221 k0_h1 => k0_hw221 k0_h1

def k0_off222 (v18047 : BitVec 32) : Fin 3 → Nat :=
  let c0_i32_16558 : BitVec 32 := 0#32
  let c0_i32_16559 : BitVec 32 := 0#32
  ![v18047.toNat, 0, 0]

def k0_chk222 (i : grid0.Coords) (v18047 : BitVec 32) : Prop :=
  (∀ (k0_h1 : k0_cond1 i = 1#1), ∀ a, (k0_off222 v18047) a + S1x16x128.size a ≤ S16384x16x128.size a)
theorem k0_off222_inb : ∀ (i : grid0.Coords) (v18047 : BitVec 32) (k0_hw222 : k0_chk222 i v18047), ∀ (k0_h1 : k0_cond1 i = 1#1), ∀ a, (k0_off222 v18047) a + S1x16x128.size a ≤ S16384x16x128.size a := fun i v18047 k0_hw222 k0_h1 => k0_hw222 k0_h1

def k0_off223 (v18053 : BitVec 32) : Fin 3 → Nat :=
  let c0_i32_16565 : BitVec 32 := 0#32
  let c0_i32_16566 : BitVec 32 := 0#32
  ![v18053.toNat, 0, 0]

def k0_chk223 (i : grid0.Coords) (v18053 : BitVec 32) : Prop :=
  (∀ (k0_h1 : k0_cond1 i = 1#1), ∀ a, (k0_off223 v18053) a + S1x16x128.size a ≤ S16384x16x128.size a)
theorem k0_off223_inb : ∀ (i : grid0.Coords) (v18053 : BitVec 32) (k0_hw223 : k0_chk223 i v18053), ∀ (k0_h1 : k0_cond1 i = 1#1), ∀ a, (k0_off223 v18053) a + S1x16x128.size a ≤ S16384x16x128.size a := fun i v18053 k0_hw223 k0_h1 => k0_hw223 k0_h1

def k0_off224 (v18059 : BitVec 32) : Fin 3 → Nat :=
  let c0_i32_16572 : BitVec 32 := 0#32
  let c0_i32_16573 : BitVec 32 := 0#32
  ![v18059.toNat, 0, 0]

def k0_chk224 (i : grid0.Coords) (v18059 : BitVec 32) : Prop :=
  (∀ (k0_h1 : k0_cond1 i = 1#1), ∀ a, (k0_off224 v18059) a + S1x16x128.size a ≤ S16384x16x128.size a)
theorem k0_off224_inb : ∀ (i : grid0.Coords) (v18059 : BitVec 32) (k0_hw224 : k0_chk224 i v18059), ∀ (k0_h1 : k0_cond1 i = 1#1), ∀ a, (k0_off224 v18059) a + S1x16x128.size a ≤ S16384x16x128.size a := fun i v18059 k0_hw224 k0_h1 => k0_hw224 k0_h1

def k0_off225 (v18065 : BitVec 32) : Fin 3 → Nat :=
  let c0_i32_16579 : BitVec 32 := 0#32
  let c0_i32_16580 : BitVec 32 := 0#32
  ![v18065.toNat, 0, 0]

def k0_chk225 (i : grid0.Coords) (v18065 : BitVec 32) : Prop :=
  (∀ (k0_h1 : k0_cond1 i = 1#1), ∀ a, (k0_off225 v18065) a + S1x16x128.size a ≤ S16384x16x128.size a)
theorem k0_off225_inb : ∀ (i : grid0.Coords) (v18065 : BitVec 32) (k0_hw225 : k0_chk225 i v18065), ∀ (k0_h1 : k0_cond1 i = 1#1), ∀ a, (k0_off225 v18065) a + S1x16x128.size a ≤ S16384x16x128.size a := fun i v18065 k0_hw225 k0_h1 => k0_hw225 k0_h1

def k0_off226 (v18071 : BitVec 32) : Fin 3 → Nat :=
  let c0_i32_16586 : BitVec 32 := 0#32
  let c0_i32_16587 : BitVec 32 := 0#32
  ![v18071.toNat, 0, 0]

def k0_chk226 (i : grid0.Coords) (v18071 : BitVec 32) : Prop :=
  (∀ (k0_h1 : k0_cond1 i = 1#1), ∀ a, (k0_off226 v18071) a + S1x16x128.size a ≤ S16384x16x128.size a)
theorem k0_off226_inb : ∀ (i : grid0.Coords) (v18071 : BitVec 32) (k0_hw226 : k0_chk226 i v18071), ∀ (k0_h1 : k0_cond1 i = 1#1), ∀ a, (k0_off226 v18071) a + S1x16x128.size a ≤ S16384x16x128.size a := fun i v18071 k0_hw226 k0_h1 => k0_hw226 k0_h1

def k0_off227 (v18077 : BitVec 32) : Fin 3 → Nat :=
  let c0_i32_16593 : BitVec 32 := 0#32
  let c0_i32_16594 : BitVec 32 := 0#32
  ![v18077.toNat, 0, 0]

def k0_chk227 (i : grid0.Coords) (v18077 : BitVec 32) : Prop :=
  (∀ (k0_h1 : k0_cond1 i = 1#1), ∀ a, (k0_off227 v18077) a + S1x16x128.size a ≤ S16384x16x128.size a)
theorem k0_off227_inb : ∀ (i : grid0.Coords) (v18077 : BitVec 32) (k0_hw227 : k0_chk227 i v18077), ∀ (k0_h1 : k0_cond1 i = 1#1), ∀ a, (k0_off227 v18077) a + S1x16x128.size a ≤ S16384x16x128.size a := fun i v18077 k0_hw227 k0_h1 => k0_hw227 k0_h1

def k0_off228 (v18083 : BitVec 32) : Fin 3 → Nat :=
  let c0_i32_16600 : BitVec 32 := 0#32
  let c0_i32_16601 : BitVec 32 := 0#32
  ![v18083.toNat, 0, 0]

def k0_chk228 (i : grid0.Coords) (v18083 : BitVec 32) : Prop :=
  (∀ (k0_h1 : k0_cond1 i = 1#1), ∀ a, (k0_off228 v18083) a + S1x16x128.size a ≤ S16384x16x128.size a)
theorem k0_off228_inb : ∀ (i : grid0.Coords) (v18083 : BitVec 32) (k0_hw228 : k0_chk228 i v18083), ∀ (k0_h1 : k0_cond1 i = 1#1), ∀ a, (k0_off228 v18083) a + S1x16x128.size a ≤ S16384x16x128.size a := fun i v18083 k0_hw228 k0_h1 => k0_hw228 k0_h1

def k0_off229 (v18089 : BitVec 32) : Fin 3 → Nat :=
  let c0_i32_16607 : BitVec 32 := 0#32
  let c0_i32_16608 : BitVec 32 := 0#32
  ![v18089.toNat, 0, 0]

def k0_chk229 (i : grid0.Coords) (v18089 : BitVec 32) : Prop :=
  (∀ (k0_h1 : k0_cond1 i = 1#1), ∀ a, (k0_off229 v18089) a + S1x16x128.size a ≤ S16384x16x128.size a)
theorem k0_off229_inb : ∀ (i : grid0.Coords) (v18089 : BitVec 32) (k0_hw229 : k0_chk229 i v18089), ∀ (k0_h1 : k0_cond1 i = 1#1), ∀ a, (k0_off229 v18089) a + S1x16x128.size a ≤ S16384x16x128.size a := fun i v18089 k0_hw229 k0_h1 => k0_hw229 k0_h1

def k0_off230 (v18095 : BitVec 32) : Fin 3 → Nat :=
  let c0_i32_16614 : BitVec 32 := 0#32
  let c0_i32_16615 : BitVec 32 := 0#32
  ![v18095.toNat, 0, 0]

def k0_chk230 (i : grid0.Coords) (v18095 : BitVec 32) : Prop :=
  (∀ (k0_h1 : k0_cond1 i = 1#1), ∀ a, (k0_off230 v18095) a + S1x16x128.size a ≤ S16384x16x128.size a)
theorem k0_off230_inb : ∀ (i : grid0.Coords) (v18095 : BitVec 32) (k0_hw230 : k0_chk230 i v18095), ∀ (k0_h1 : k0_cond1 i = 1#1), ∀ a, (k0_off230 v18095) a + S1x16x128.size a ≤ S16384x16x128.size a := fun i v18095 k0_hw230 k0_h1 => k0_hw230 k0_h1

def k0_off231 (v18101 : BitVec 32) : Fin 3 → Nat :=
  let c0_i32_16621 : BitVec 32 := 0#32
  let c0_i32_16622 : BitVec 32 := 0#32
  ![v18101.toNat, 0, 0]

def k0_chk231 (i : grid0.Coords) (v18101 : BitVec 32) : Prop :=
  (∀ (k0_h1 : k0_cond1 i = 1#1), ∀ a, (k0_off231 v18101) a + S1x16x128.size a ≤ S16384x16x128.size a)
theorem k0_off231_inb : ∀ (i : grid0.Coords) (v18101 : BitVec 32) (k0_hw231 : k0_chk231 i v18101), ∀ (k0_h1 : k0_cond1 i = 1#1), ∀ a, (k0_off231 v18101) a + S1x16x128.size a ≤ S16384x16x128.size a := fun i v18101 k0_hw231 k0_h1 => k0_hw231 k0_h1

def k0_off232 (v18107 : BitVec 32) : Fin 3 → Nat :=
  let c0_i32_16628 : BitVec 32 := 0#32
  let c0_i32_16629 : BitVec 32 := 0#32
  ![v18107.toNat, 0, 0]

def k0_chk232 (i : grid0.Coords) (v18107 : BitVec 32) : Prop :=
  (∀ (k0_h1 : k0_cond1 i = 1#1), ∀ a, (k0_off232 v18107) a + S1x16x128.size a ≤ S16384x16x128.size a)
theorem k0_off232_inb : ∀ (i : grid0.Coords) (v18107 : BitVec 32) (k0_hw232 : k0_chk232 i v18107), ∀ (k0_h1 : k0_cond1 i = 1#1), ∀ a, (k0_off232 v18107) a + S1x16x128.size a ≤ S16384x16x128.size a := fun i v18107 k0_hw232 k0_h1 => k0_hw232 k0_h1

def k0_off233 (v18113 : BitVec 32) : Fin 3 → Nat :=
  let c0_i32_16635 : BitVec 32 := 0#32
  let c0_i32_16636 : BitVec 32 := 0#32
  ![v18113.toNat, 0, 0]

def k0_chk233 (i : grid0.Coords) (v18113 : BitVec 32) : Prop :=
  (∀ (k0_h1 : k0_cond1 i = 1#1), ∀ a, (k0_off233 v18113) a + S1x16x128.size a ≤ S16384x16x128.size a)
theorem k0_off233_inb : ∀ (i : grid0.Coords) (v18113 : BitVec 32) (k0_hw233 : k0_chk233 i v18113), ∀ (k0_h1 : k0_cond1 i = 1#1), ∀ a, (k0_off233 v18113) a + S1x16x128.size a ≤ S16384x16x128.size a := fun i v18113 k0_hw233 k0_h1 => k0_hw233 k0_h1

def k0_off234 (v18119 : BitVec 32) : Fin 3 → Nat :=
  let c0_i32_16642 : BitVec 32 := 0#32
  let c0_i32_16643 : BitVec 32 := 0#32
  ![v18119.toNat, 0, 0]

def k0_chk234 (i : grid0.Coords) (v18119 : BitVec 32) : Prop :=
  (∀ (k0_h1 : k0_cond1 i = 1#1), ∀ a, (k0_off234 v18119) a + S1x16x128.size a ≤ S16384x16x128.size a)
theorem k0_off234_inb : ∀ (i : grid0.Coords) (v18119 : BitVec 32) (k0_hw234 : k0_chk234 i v18119), ∀ (k0_h1 : k0_cond1 i = 1#1), ∀ a, (k0_off234 v18119) a + S1x16x128.size a ≤ S16384x16x128.size a := fun i v18119 k0_hw234 k0_h1 => k0_hw234 k0_h1

def k0_off235 (v18125 : BitVec 32) : Fin 3 → Nat :=
  let c0_i32_16649 : BitVec 32 := 0#32
  let c0_i32_16650 : BitVec 32 := 0#32
  ![v18125.toNat, 0, 0]

def k0_chk235 (i : grid0.Coords) (v18125 : BitVec 32) : Prop :=
  (∀ (k0_h1 : k0_cond1 i = 1#1), ∀ a, (k0_off235 v18125) a + S1x16x128.size a ≤ S16384x16x128.size a)
theorem k0_off235_inb : ∀ (i : grid0.Coords) (v18125 : BitVec 32) (k0_hw235 : k0_chk235 i v18125), ∀ (k0_h1 : k0_cond1 i = 1#1), ∀ a, (k0_off235 v18125) a + S1x16x128.size a ≤ S16384x16x128.size a := fun i v18125 k0_hw235 k0_h1 => k0_hw235 k0_h1

def k0_off236 (v18131 : BitVec 32) : Fin 3 → Nat :=
  let c0_i32_16656 : BitVec 32 := 0#32
  let c0_i32_16657 : BitVec 32 := 0#32
  ![v18131.toNat, 0, 0]

def k0_chk236 (i : grid0.Coords) (v18131 : BitVec 32) : Prop :=
  (∀ (k0_h1 : k0_cond1 i = 1#1), ∀ a, (k0_off236 v18131) a + S1x16x128.size a ≤ S16384x16x128.size a)
theorem k0_off236_inb : ∀ (i : grid0.Coords) (v18131 : BitVec 32) (k0_hw236 : k0_chk236 i v18131), ∀ (k0_h1 : k0_cond1 i = 1#1), ∀ a, (k0_off236 v18131) a + S1x16x128.size a ≤ S16384x16x128.size a := fun i v18131 k0_hw236 k0_h1 => k0_hw236 k0_h1

def k0_off237 (v18137 : BitVec 32) : Fin 3 → Nat :=
  let c0_i32_16663 : BitVec 32 := 0#32
  let c0_i32_16664 : BitVec 32 := 0#32
  ![v18137.toNat, 0, 0]

def k0_chk237 (i : grid0.Coords) (v18137 : BitVec 32) : Prop :=
  (∀ (k0_h1 : k0_cond1 i = 1#1), ∀ a, (k0_off237 v18137) a + S1x16x128.size a ≤ S16384x16x128.size a)
theorem k0_off237_inb : ∀ (i : grid0.Coords) (v18137 : BitVec 32) (k0_hw237 : k0_chk237 i v18137), ∀ (k0_h1 : k0_cond1 i = 1#1), ∀ a, (k0_off237 v18137) a + S1x16x128.size a ≤ S16384x16x128.size a := fun i v18137 k0_hw237 k0_h1 => k0_hw237 k0_h1

def k0_off238 (v18143 : BitVec 32) : Fin 3 → Nat :=
  let c0_i32_16670 : BitVec 32 := 0#32
  let c0_i32_16671 : BitVec 32 := 0#32
  ![v18143.toNat, 0, 0]

def k0_chk238 (i : grid0.Coords) (v18143 : BitVec 32) : Prop :=
  (∀ (k0_h1 : k0_cond1 i = 1#1), ∀ a, (k0_off238 v18143) a + S1x16x128.size a ≤ S16384x16x128.size a)
theorem k0_off238_inb : ∀ (i : grid0.Coords) (v18143 : BitVec 32) (k0_hw238 : k0_chk238 i v18143), ∀ (k0_h1 : k0_cond1 i = 1#1), ∀ a, (k0_off238 v18143) a + S1x16x128.size a ≤ S16384x16x128.size a := fun i v18143 k0_hw238 k0_h1 => k0_hw238 k0_h1

def k0_off239 (v18149 : BitVec 32) : Fin 3 → Nat :=
  let c0_i32_16677 : BitVec 32 := 0#32
  let c0_i32_16678 : BitVec 32 := 0#32
  ![v18149.toNat, 0, 0]

def k0_chk239 (i : grid0.Coords) (v18149 : BitVec 32) : Prop :=
  (∀ (k0_h1 : k0_cond1 i = 1#1), ∀ a, (k0_off239 v18149) a + S1x16x128.size a ≤ S16384x16x128.size a)
theorem k0_off239_inb : ∀ (i : grid0.Coords) (v18149 : BitVec 32) (k0_hw239 : k0_chk239 i v18149), ∀ (k0_h1 : k0_cond1 i = 1#1), ∀ a, (k0_off239 v18149) a + S1x16x128.size a ≤ S16384x16x128.size a := fun i v18149 k0_hw239 k0_h1 => k0_hw239 k0_h1

def k0_off240 (v18155 : BitVec 32) : Fin 3 → Nat :=
  let c0_i32_16684 : BitVec 32 := 0#32
  let c0_i32_16685 : BitVec 32 := 0#32
  ![v18155.toNat, 0, 0]

def k0_chk240 (i : grid0.Coords) (v18155 : BitVec 32) : Prop :=
  (∀ (k0_h1 : k0_cond1 i = 1#1), ∀ a, (k0_off240 v18155) a + S1x16x128.size a ≤ S16384x16x128.size a)
theorem k0_off240_inb : ∀ (i : grid0.Coords) (v18155 : BitVec 32) (k0_hw240 : k0_chk240 i v18155), ∀ (k0_h1 : k0_cond1 i = 1#1), ∀ a, (k0_off240 v18155) a + S1x16x128.size a ≤ S16384x16x128.size a := fun i v18155 k0_hw240 k0_h1 => k0_hw240 k0_h1

def k0_off241 (v18161 : BitVec 32) : Fin 3 → Nat :=
  let c0_i32_16691 : BitVec 32 := 0#32
  let c0_i32_16692 : BitVec 32 := 0#32
  ![v18161.toNat, 0, 0]

def k0_chk241 (i : grid0.Coords) (v18161 : BitVec 32) : Prop :=
  (∀ (k0_h1 : k0_cond1 i = 1#1), ∀ a, (k0_off241 v18161) a + S1x16x128.size a ≤ S16384x16x128.size a)
theorem k0_off241_inb : ∀ (i : grid0.Coords) (v18161 : BitVec 32) (k0_hw241 : k0_chk241 i v18161), ∀ (k0_h1 : k0_cond1 i = 1#1), ∀ a, (k0_off241 v18161) a + S1x16x128.size a ≤ S16384x16x128.size a := fun i v18161 k0_hw241 k0_h1 => k0_hw241 k0_h1

def k0_off242 (v18167 : BitVec 32) : Fin 3 → Nat :=
  let c0_i32_16698 : BitVec 32 := 0#32
  let c0_i32_16699 : BitVec 32 := 0#32
  ![v18167.toNat, 0, 0]

def k0_chk242 (i : grid0.Coords) (v18167 : BitVec 32) : Prop :=
  (∀ (k0_h1 : k0_cond1 i = 1#1), ∀ a, (k0_off242 v18167) a + S1x16x128.size a ≤ S16384x16x128.size a)
theorem k0_off242_inb : ∀ (i : grid0.Coords) (v18167 : BitVec 32) (k0_hw242 : k0_chk242 i v18167), ∀ (k0_h1 : k0_cond1 i = 1#1), ∀ a, (k0_off242 v18167) a + S1x16x128.size a ≤ S16384x16x128.size a := fun i v18167 k0_hw242 k0_h1 => k0_hw242 k0_h1

def k0_off243 (v18173 : BitVec 32) : Fin 3 → Nat :=
  let c0_i32_16705 : BitVec 32 := 0#32
  let c0_i32_16706 : BitVec 32 := 0#32
  ![v18173.toNat, 0, 0]

def k0_chk243 (i : grid0.Coords) (v18173 : BitVec 32) : Prop :=
  (∀ (k0_h1 : k0_cond1 i = 1#1), ∀ a, (k0_off243 v18173) a + S1x16x128.size a ≤ S16384x16x128.size a)
theorem k0_off243_inb : ∀ (i : grid0.Coords) (v18173 : BitVec 32) (k0_hw243 : k0_chk243 i v18173), ∀ (k0_h1 : k0_cond1 i = 1#1), ∀ a, (k0_off243 v18173) a + S1x16x128.size a ≤ S16384x16x128.size a := fun i v18173 k0_hw243 k0_h1 => k0_hw243 k0_h1

def k0_off244 (v18179 : BitVec 32) : Fin 3 → Nat :=
  let c0_i32_16712 : BitVec 32 := 0#32
  let c0_i32_16713 : BitVec 32 := 0#32
  ![v18179.toNat, 0, 0]

def k0_chk244 (i : grid0.Coords) (v18179 : BitVec 32) : Prop :=
  (∀ (k0_h1 : k0_cond1 i = 1#1), ∀ a, (k0_off244 v18179) a + S1x16x128.size a ≤ S16384x16x128.size a)
theorem k0_off244_inb : ∀ (i : grid0.Coords) (v18179 : BitVec 32) (k0_hw244 : k0_chk244 i v18179), ∀ (k0_h1 : k0_cond1 i = 1#1), ∀ a, (k0_off244 v18179) a + S1x16x128.size a ≤ S16384x16x128.size a := fun i v18179 k0_hw244 k0_h1 => k0_hw244 k0_h1

def k0_off245 (v18185 : BitVec 32) : Fin 3 → Nat :=
  let c0_i32_16719 : BitVec 32 := 0#32
  let c0_i32_16720 : BitVec 32 := 0#32
  ![v18185.toNat, 0, 0]

def k0_chk245 (i : grid0.Coords) (v18185 : BitVec 32) : Prop :=
  (∀ (k0_h1 : k0_cond1 i = 1#1), ∀ a, (k0_off245 v18185) a + S1x16x128.size a ≤ S16384x16x128.size a)
theorem k0_off245_inb : ∀ (i : grid0.Coords) (v18185 : BitVec 32) (k0_hw245 : k0_chk245 i v18185), ∀ (k0_h1 : k0_cond1 i = 1#1), ∀ a, (k0_off245 v18185) a + S1x16x128.size a ≤ S16384x16x128.size a := fun i v18185 k0_hw245 k0_h1 => k0_hw245 k0_h1

def k0_off246 (v18191 : BitVec 32) : Fin 3 → Nat :=
  let c0_i32_16726 : BitVec 32 := 0#32
  let c0_i32_16727 : BitVec 32 := 0#32
  ![v18191.toNat, 0, 0]

def k0_chk246 (i : grid0.Coords) (v18191 : BitVec 32) : Prop :=
  (∀ (k0_h1 : k0_cond1 i = 1#1), ∀ a, (k0_off246 v18191) a + S1x16x128.size a ≤ S16384x16x128.size a)
theorem k0_off246_inb : ∀ (i : grid0.Coords) (v18191 : BitVec 32) (k0_hw246 : k0_chk246 i v18191), ∀ (k0_h1 : k0_cond1 i = 1#1), ∀ a, (k0_off246 v18191) a + S1x16x128.size a ≤ S16384x16x128.size a := fun i v18191 k0_hw246 k0_h1 => k0_hw246 k0_h1

def k0_off247 (v18197 : BitVec 32) : Fin 3 → Nat :=
  let c0_i32_16733 : BitVec 32 := 0#32
  let c0_i32_16734 : BitVec 32 := 0#32
  ![v18197.toNat, 0, 0]

def k0_chk247 (i : grid0.Coords) (v18197 : BitVec 32) : Prop :=
  (∀ (k0_h1 : k0_cond1 i = 1#1), ∀ a, (k0_off247 v18197) a + S1x16x128.size a ≤ S16384x16x128.size a)
theorem k0_off247_inb : ∀ (i : grid0.Coords) (v18197 : BitVec 32) (k0_hw247 : k0_chk247 i v18197), ∀ (k0_h1 : k0_cond1 i = 1#1), ∀ a, (k0_off247 v18197) a + S1x16x128.size a ≤ S16384x16x128.size a := fun i v18197 k0_hw247 k0_h1 => k0_hw247 k0_h1

def k0_off248 (v18203 : BitVec 32) : Fin 3 → Nat :=
  let c0_i32_16740 : BitVec 32 := 0#32
  let c0_i32_16741 : BitVec 32 := 0#32
  ![v18203.toNat, 0, 0]

def k0_chk248 (i : grid0.Coords) (v18203 : BitVec 32) : Prop :=
  (∀ (k0_h1 : k0_cond1 i = 1#1), ∀ a, (k0_off248 v18203) a + S1x16x128.size a ≤ S16384x16x128.size a)
theorem k0_off248_inb : ∀ (i : grid0.Coords) (v18203 : BitVec 32) (k0_hw248 : k0_chk248 i v18203), ∀ (k0_h1 : k0_cond1 i = 1#1), ∀ a, (k0_off248 v18203) a + S1x16x128.size a ≤ S16384x16x128.size a := fun i v18203 k0_hw248 k0_h1 => k0_hw248 k0_h1

def k0_off249 (v18209 : BitVec 32) : Fin 3 → Nat :=
  let c0_i32_16747 : BitVec 32 := 0#32
  let c0_i32_16748 : BitVec 32 := 0#32
  ![v18209.toNat, 0, 0]

def k0_chk249 (i : grid0.Coords) (v18209 : BitVec 32) : Prop :=
  (∀ (k0_h1 : k0_cond1 i = 1#1), ∀ a, (k0_off249 v18209) a + S1x16x128.size a ≤ S16384x16x128.size a)
theorem k0_off249_inb : ∀ (i : grid0.Coords) (v18209 : BitVec 32) (k0_hw249 : k0_chk249 i v18209), ∀ (k0_h1 : k0_cond1 i = 1#1), ∀ a, (k0_off249 v18209) a + S1x16x128.size a ≤ S16384x16x128.size a := fun i v18209 k0_hw249 k0_h1 => k0_hw249 k0_h1

def k0_off250 (v18215 : BitVec 32) : Fin 3 → Nat :=
  let c0_i32_16754 : BitVec 32 := 0#32
  let c0_i32_16755 : BitVec 32 := 0#32
  ![v18215.toNat, 0, 0]

def k0_chk250 (i : grid0.Coords) (v18215 : BitVec 32) : Prop :=
  (∀ (k0_h1 : k0_cond1 i = 1#1), ∀ a, (k0_off250 v18215) a + S1x16x128.size a ≤ S16384x16x128.size a)
theorem k0_off250_inb : ∀ (i : grid0.Coords) (v18215 : BitVec 32) (k0_hw250 : k0_chk250 i v18215), ∀ (k0_h1 : k0_cond1 i = 1#1), ∀ a, (k0_off250 v18215) a + S1x16x128.size a ≤ S16384x16x128.size a := fun i v18215 k0_hw250 k0_h1 => k0_hw250 k0_h1

def k0_off251 (v18221 : BitVec 32) : Fin 3 → Nat :=
  let c0_i32_16761 : BitVec 32 := 0#32
  let c0_i32_16762 : BitVec 32 := 0#32
  ![v18221.toNat, 0, 0]

def k0_chk251 (i : grid0.Coords) (v18221 : BitVec 32) : Prop :=
  (∀ (k0_h1 : k0_cond1 i = 1#1), ∀ a, (k0_off251 v18221) a + S1x16x128.size a ≤ S16384x16x128.size a)
theorem k0_off251_inb : ∀ (i : grid0.Coords) (v18221 : BitVec 32) (k0_hw251 : k0_chk251 i v18221), ∀ (k0_h1 : k0_cond1 i = 1#1), ∀ a, (k0_off251 v18221) a + S1x16x128.size a ≤ S16384x16x128.size a := fun i v18221 k0_hw251 k0_h1 => k0_hw251 k0_h1

def k0_off252 (v18227 : BitVec 32) : Fin 3 → Nat :=
  let c0_i32_16768 : BitVec 32 := 0#32
  let c0_i32_16769 : BitVec 32 := 0#32
  ![v18227.toNat, 0, 0]

def k0_chk252 (i : grid0.Coords) (v18227 : BitVec 32) : Prop :=
  (∀ (k0_h1 : k0_cond1 i = 1#1), ∀ a, (k0_off252 v18227) a + S1x16x128.size a ≤ S16384x16x128.size a)
theorem k0_off252_inb : ∀ (i : grid0.Coords) (v18227 : BitVec 32) (k0_hw252 : k0_chk252 i v18227), ∀ (k0_h1 : k0_cond1 i = 1#1), ∀ a, (k0_off252 v18227) a + S1x16x128.size a ≤ S16384x16x128.size a := fun i v18227 k0_hw252 k0_h1 => k0_hw252 k0_h1

def k0_off253 (v18233 : BitVec 32) : Fin 3 → Nat :=
  let c0_i32_16775 : BitVec 32 := 0#32
  let c0_i32_16776 : BitVec 32 := 0#32
  ![v18233.toNat, 0, 0]

def k0_chk253 (i : grid0.Coords) (v18233 : BitVec 32) : Prop :=
  (∀ (k0_h1 : k0_cond1 i = 1#1), ∀ a, (k0_off253 v18233) a + S1x16x128.size a ≤ S16384x16x128.size a)
theorem k0_off253_inb : ∀ (i : grid0.Coords) (v18233 : BitVec 32) (k0_hw253 : k0_chk253 i v18233), ∀ (k0_h1 : k0_cond1 i = 1#1), ∀ a, (k0_off253 v18233) a + S1x16x128.size a ≤ S16384x16x128.size a := fun i v18233 k0_hw253 k0_h1 => k0_hw253 k0_h1

def k0_off254 (v18239 : BitVec 32) : Fin 3 → Nat :=
  let c0_i32_16782 : BitVec 32 := 0#32
  let c0_i32_16783 : BitVec 32 := 0#32
  ![v18239.toNat, 0, 0]

def k0_chk254 (i : grid0.Coords) (v18239 : BitVec 32) : Prop :=
  (∀ (k0_h1 : k0_cond1 i = 1#1), ∀ a, (k0_off254 v18239) a + S1x16x128.size a ≤ S16384x16x128.size a)
theorem k0_off254_inb : ∀ (i : grid0.Coords) (v18239 : BitVec 32) (k0_hw254 : k0_chk254 i v18239), ∀ (k0_h1 : k0_cond1 i = 1#1), ∀ a, (k0_off254 v18239) a + S1x16x128.size a ≤ S16384x16x128.size a := fun i v18239 k0_hw254 k0_h1 => k0_hw254 k0_h1

def k0_off255 (v18245 : BitVec 32) : Fin 3 → Nat :=
  let c0_i32_16789 : BitVec 32 := 0#32
  let c0_i32_16790 : BitVec 32 := 0#32
  ![v18245.toNat, 0, 0]

def k0_chk255 (i : grid0.Coords) (v18245 : BitVec 32) : Prop :=
  (∀ (k0_h1 : k0_cond1 i = 1#1), ∀ a, (k0_off255 v18245) a + S1x16x128.size a ≤ S16384x16x128.size a)
theorem k0_off255_inb : ∀ (i : grid0.Coords) (v18245 : BitVec 32) (k0_hw255 : k0_chk255 i v18245), ∀ (k0_h1 : k0_cond1 i = 1#1), ∀ a, (k0_off255 v18245) a + S1x16x128.size a ≤ S16384x16x128.size a := fun i v18245 k0_hw255 k0_h1 => k0_hw255 k0_h1

def k0_off256 (v18251 : BitVec 32) : Fin 3 → Nat :=
  let c0_i32_16796 : BitVec 32 := 0#32
  let c0_i32_16797 : BitVec 32 := 0#32
  ![v18251.toNat, 0, 0]

def k0_chk256 (i : grid0.Coords) (v18251 : BitVec 32) : Prop :=
  (∀ (k0_h1 : k0_cond1 i = 1#1), ∀ a, (k0_off256 v18251) a + S1x16x128.size a ≤ S16384x16x128.size a)
theorem k0_off256_inb : ∀ (i : grid0.Coords) (v18251 : BitVec 32) (k0_hw256 : k0_chk256 i v18251), ∀ (k0_h1 : k0_cond1 i = 1#1), ∀ a, (k0_off256 v18251) a + S1x16x128.size a ≤ S16384x16x128.size a := fun i v18251 k0_hw256 k0_h1 => k0_hw256 k0_h1

def k0_off257 (v18257 : BitVec 32) : Fin 3 → Nat :=
  let c0_i32_16803 : BitVec 32 := 0#32
  let c0_i32_16804 : BitVec 32 := 0#32
  ![v18257.toNat, 0, 0]

def k0_chk257 (i : grid0.Coords) (v18257 : BitVec 32) : Prop :=
  (∀ (k0_h1 : k0_cond1 i = 1#1), ∀ a, (k0_off257 v18257) a + S1x16x128.size a ≤ S16384x16x128.size a)
theorem k0_off257_inb : ∀ (i : grid0.Coords) (v18257 : BitVec 32) (k0_hw257 : k0_chk257 i v18257), ∀ (k0_h1 : k0_cond1 i = 1#1), ∀ a, (k0_off257 v18257) a + S1x16x128.size a ≤ S16384x16x128.size a := fun i v18257 k0_hw257 k0_h1 => k0_hw257 k0_h1

def k0_off258 (v18263 : BitVec 32) : Fin 3 → Nat :=
  let c0_i32_16810 : BitVec 32 := 0#32
  let c0_i32_16811 : BitVec 32 := 0#32
  ![v18263.toNat, 0, 0]

def k0_chk258 (i : grid0.Coords) (v18263 : BitVec 32) : Prop :=
  (∀ (k0_h1 : k0_cond1 i = 1#1), ∀ a, (k0_off258 v18263) a + S1x16x128.size a ≤ S16384x16x128.size a)
theorem k0_off258_inb : ∀ (i : grid0.Coords) (v18263 : BitVec 32) (k0_hw258 : k0_chk258 i v18263), ∀ (k0_h1 : k0_cond1 i = 1#1), ∀ a, (k0_off258 v18263) a + S1x16x128.size a ≤ S16384x16x128.size a := fun i v18263 k0_hw258 k0_h1 => k0_hw258 k0_h1

def k0_off259 (v18269 : BitVec 32) : Fin 3 → Nat :=
  let c0_i32_16817 : BitVec 32 := 0#32
  let c0_i32_16818 : BitVec 32 := 0#32
  ![v18269.toNat, 0, 0]

def k0_chk259 (i : grid0.Coords) (v18269 : BitVec 32) : Prop :=
  (∀ (k0_h1 : k0_cond1 i = 1#1), ∀ a, (k0_off259 v18269) a + S1x16x128.size a ≤ S16384x16x128.size a)
theorem k0_off259_inb : ∀ (i : grid0.Coords) (v18269 : BitVec 32) (k0_hw259 : k0_chk259 i v18269), ∀ (k0_h1 : k0_cond1 i = 1#1), ∀ a, (k0_off259 v18269) a + S1x16x128.size a ≤ S16384x16x128.size a := fun i v18269 k0_hw259 k0_h1 => k0_hw259 k0_h1

def k0_off260 (v18275 : BitVec 32) : Fin 3 → Nat :=
  let c0_i32_16824 : BitVec 32 := 0#32
  let c0_i32_16825 : BitVec 32 := 0#32
  ![v18275.toNat, 0, 0]

def k0_chk260 (i : grid0.Coords) (v18275 : BitVec 32) : Prop :=
  (∀ (k0_h1 : k0_cond1 i = 1#1), ∀ a, (k0_off260 v18275) a + S1x16x128.size a ≤ S16384x16x128.size a)
theorem k0_off260_inb : ∀ (i : grid0.Coords) (v18275 : BitVec 32) (k0_hw260 : k0_chk260 i v18275), ∀ (k0_h1 : k0_cond1 i = 1#1), ∀ a, (k0_off260 v18275) a + S1x16x128.size a ≤ S16384x16x128.size a := fun i v18275 k0_hw260 k0_h1 => k0_hw260 k0_h1

def k0_off261 (v18281 : BitVec 32) : Fin 3 → Nat :=
  let c0_i32_16831 : BitVec 32 := 0#32
  let c0_i32_16832 : BitVec 32 := 0#32
  ![v18281.toNat, 0, 0]

def k0_chk261 (i : grid0.Coords) (v18281 : BitVec 32) : Prop :=
  (∀ (k0_h1 : k0_cond1 i = 1#1), ∀ a, (k0_off261 v18281) a + S1x16x128.size a ≤ S16384x16x128.size a)
theorem k0_off261_inb : ∀ (i : grid0.Coords) (v18281 : BitVec 32) (k0_hw261 : k0_chk261 i v18281), ∀ (k0_h1 : k0_cond1 i = 1#1), ∀ a, (k0_off261 v18281) a + S1x16x128.size a ≤ S16384x16x128.size a := fun i v18281 k0_hw261 k0_h1 => k0_hw261 k0_h1

def k0_off262 (v18287 : BitVec 32) : Fin 3 → Nat :=
  let c0_i32_16838 : BitVec 32 := 0#32
  let c0_i32_16839 : BitVec 32 := 0#32
  ![v18287.toNat, 0, 0]

def k0_chk262 (i : grid0.Coords) (v18287 : BitVec 32) : Prop :=
  (∀ (k0_h1 : k0_cond1 i = 1#1), ∀ a, (k0_off262 v18287) a + S1x16x128.size a ≤ S16384x16x128.size a)
theorem k0_off262_inb : ∀ (i : grid0.Coords) (v18287 : BitVec 32) (k0_hw262 : k0_chk262 i v18287), ∀ (k0_h1 : k0_cond1 i = 1#1), ∀ a, (k0_off262 v18287) a + S1x16x128.size a ≤ S16384x16x128.size a := fun i v18287 k0_hw262 k0_h1 => k0_hw262 k0_h1

def k0_off263 (v18293 : BitVec 32) : Fin 3 → Nat :=
  let c0_i32_16845 : BitVec 32 := 0#32
  let c0_i32_16846 : BitVec 32 := 0#32
  ![v18293.toNat, 0, 0]

def k0_chk263 (i : grid0.Coords) (v18293 : BitVec 32) : Prop :=
  (∀ (k0_h1 : k0_cond1 i = 1#1), ∀ a, (k0_off263 v18293) a + S1x16x128.size a ≤ S16384x16x128.size a)
theorem k0_off263_inb : ∀ (i : grid0.Coords) (v18293 : BitVec 32) (k0_hw263 : k0_chk263 i v18293), ∀ (k0_h1 : k0_cond1 i = 1#1), ∀ a, (k0_off263 v18293) a + S1x16x128.size a ≤ S16384x16x128.size a := fun i v18293 k0_hw263 k0_h1 => k0_hw263 k0_h1

def k0_off264 (v18299 : BitVec 32) : Fin 3 → Nat :=
  let c0_i32_16852 : BitVec 32 := 0#32
  let c0_i32_16853 : BitVec 32 := 0#32
  ![v18299.toNat, 0, 0]

def k0_chk264 (i : grid0.Coords) (v18299 : BitVec 32) : Prop :=
  (∀ (k0_h1 : k0_cond1 i = 1#1), ∀ a, (k0_off264 v18299) a + S1x16x128.size a ≤ S16384x16x128.size a)
theorem k0_off264_inb : ∀ (i : grid0.Coords) (v18299 : BitVec 32) (k0_hw264 : k0_chk264 i v18299), ∀ (k0_h1 : k0_cond1 i = 1#1), ∀ a, (k0_off264 v18299) a + S1x16x128.size a ≤ S16384x16x128.size a := fun i v18299 k0_hw264 k0_h1 => k0_hw264 k0_h1

def k0_off265 (v18305 : BitVec 32) : Fin 3 → Nat :=
  let c0_i32_16859 : BitVec 32 := 0#32
  let c0_i32_16860 : BitVec 32 := 0#32
  ![v18305.toNat, 0, 0]

def k0_chk265 (i : grid0.Coords) (v18305 : BitVec 32) : Prop :=
  (∀ (k0_h1 : k0_cond1 i = 1#1), ∀ a, (k0_off265 v18305) a + S1x16x128.size a ≤ S16384x16x128.size a)
theorem k0_off265_inb : ∀ (i : grid0.Coords) (v18305 : BitVec 32) (k0_hw265 : k0_chk265 i v18305), ∀ (k0_h1 : k0_cond1 i = 1#1), ∀ a, (k0_off265 v18305) a + S1x16x128.size a ≤ S16384x16x128.size a := fun i v18305 k0_hw265 k0_h1 => k0_hw265 k0_h1

def k0_off266 (v18311 : BitVec 32) : Fin 3 → Nat :=
  let c0_i32_16866 : BitVec 32 := 0#32
  let c0_i32_16867 : BitVec 32 := 0#32
  ![v18311.toNat, 0, 0]

def k0_chk266 (i : grid0.Coords) (v18311 : BitVec 32) : Prop :=
  (∀ (k0_h1 : k0_cond1 i = 1#1), ∀ a, (k0_off266 v18311) a + S1x16x128.size a ≤ S16384x16x128.size a)
theorem k0_off266_inb : ∀ (i : grid0.Coords) (v18311 : BitVec 32) (k0_hw266 : k0_chk266 i v18311), ∀ (k0_h1 : k0_cond1 i = 1#1), ∀ a, (k0_off266 v18311) a + S1x16x128.size a ≤ S16384x16x128.size a := fun i v18311 k0_hw266 k0_h1 => k0_hw266 k0_h1

def k0_off267 (v18317 : BitVec 32) : Fin 3 → Nat :=
  let c0_i32_16873 : BitVec 32 := 0#32
  let c0_i32_16874 : BitVec 32 := 0#32
  ![v18317.toNat, 0, 0]

def k0_chk267 (i : grid0.Coords) (v18317 : BitVec 32) : Prop :=
  (∀ (k0_h1 : k0_cond1 i = 1#1), ∀ a, (k0_off267 v18317) a + S1x16x128.size a ≤ S16384x16x128.size a)
theorem k0_off267_inb : ∀ (i : grid0.Coords) (v18317 : BitVec 32) (k0_hw267 : k0_chk267 i v18317), ∀ (k0_h1 : k0_cond1 i = 1#1), ∀ a, (k0_off267 v18317) a + S1x16x128.size a ≤ S16384x16x128.size a := fun i v18317 k0_hw267 k0_h1 => k0_hw267 k0_h1

def k0_off268 (v18323 : BitVec 32) : Fin 3 → Nat :=
  let c0_i32_16880 : BitVec 32 := 0#32
  let c0_i32_16881 : BitVec 32 := 0#32
  ![v18323.toNat, 0, 0]

def k0_chk268 (i : grid0.Coords) (v18323 : BitVec 32) : Prop :=
  (∀ (k0_h1 : k0_cond1 i = 1#1), ∀ a, (k0_off268 v18323) a + S1x16x128.size a ≤ S16384x16x128.size a)
theorem k0_off268_inb : ∀ (i : grid0.Coords) (v18323 : BitVec 32) (k0_hw268 : k0_chk268 i v18323), ∀ (k0_h1 : k0_cond1 i = 1#1), ∀ a, (k0_off268 v18323) a + S1x16x128.size a ≤ S16384x16x128.size a := fun i v18323 k0_hw268 k0_h1 => k0_hw268 k0_h1

def k0_off269 (v18329 : BitVec 32) : Fin 3 → Nat :=
  let c0_i32_16887 : BitVec 32 := 0#32
  let c0_i32_16888 : BitVec 32 := 0#32
  ![v18329.toNat, 0, 0]

def k0_chk269 (i : grid0.Coords) (v18329 : BitVec 32) : Prop :=
  (∀ (k0_h1 : k0_cond1 i = 1#1), ∀ a, (k0_off269 v18329) a + S1x16x128.size a ≤ S16384x16x128.size a)
theorem k0_off269_inb : ∀ (i : grid0.Coords) (v18329 : BitVec 32) (k0_hw269 : k0_chk269 i v18329), ∀ (k0_h1 : k0_cond1 i = 1#1), ∀ a, (k0_off269 v18329) a + S1x16x128.size a ≤ S16384x16x128.size a := fun i v18329 k0_hw269 k0_h1 => k0_hw269 k0_h1

def k0_off270 (v18335 : BitVec 32) : Fin 3 → Nat :=
  let c0_i32_16894 : BitVec 32 := 0#32
  let c0_i32_16895 : BitVec 32 := 0#32
  ![v18335.toNat, 0, 0]

def k0_chk270 (i : grid0.Coords) (v18335 : BitVec 32) : Prop :=
  (∀ (k0_h1 : k0_cond1 i = 1#1), ∀ a, (k0_off270 v18335) a + S1x16x128.size a ≤ S16384x16x128.size a)
theorem k0_off270_inb : ∀ (i : grid0.Coords) (v18335 : BitVec 32) (k0_hw270 : k0_chk270 i v18335), ∀ (k0_h1 : k0_cond1 i = 1#1), ∀ a, (k0_off270 v18335) a + S1x16x128.size a ≤ S16384x16x128.size a := fun i v18335 k0_hw270 k0_h1 => k0_hw270 k0_h1

def k0_off271 (v18341 : BitVec 32) : Fin 3 → Nat :=
  let c0_i32_16901 : BitVec 32 := 0#32
  let c0_i32_16902 : BitVec 32 := 0#32
  ![v18341.toNat, 0, 0]

def k0_chk271 (i : grid0.Coords) (v18341 : BitVec 32) : Prop :=
  (∀ (k0_h1 : k0_cond1 i = 1#1), ∀ a, (k0_off271 v18341) a + S1x16x128.size a ≤ S16384x16x128.size a)
theorem k0_off271_inb : ∀ (i : grid0.Coords) (v18341 : BitVec 32) (k0_hw271 : k0_chk271 i v18341), ∀ (k0_h1 : k0_cond1 i = 1#1), ∀ a, (k0_off271 v18341) a + S1x16x128.size a ≤ S16384x16x128.size a := fun i v18341 k0_hw271 k0_h1 => k0_hw271 k0_h1

def k0_off272 (v18347 : BitVec 32) : Fin 3 → Nat :=
  let c0_i32_16908 : BitVec 32 := 0#32
  let c0_i32_16909 : BitVec 32 := 0#32
  ![v18347.toNat, 0, 0]

def k0_chk272 (i : grid0.Coords) (v18347 : BitVec 32) : Prop :=
  (∀ (k0_h1 : k0_cond1 i = 1#1), ∀ a, (k0_off272 v18347) a + S1x16x128.size a ≤ S16384x16x128.size a)
theorem k0_off272_inb : ∀ (i : grid0.Coords) (v18347 : BitVec 32) (k0_hw272 : k0_chk272 i v18347), ∀ (k0_h1 : k0_cond1 i = 1#1), ∀ a, (k0_off272 v18347) a + S1x16x128.size a ≤ S16384x16x128.size a := fun i v18347 k0_hw272 k0_h1 => k0_hw272 k0_h1

def k0_off273 (v18353 : BitVec 32) : Fin 3 → Nat :=
  let c0_i32_16915 : BitVec 32 := 0#32
  let c0_i32_16916 : BitVec 32 := 0#32
  ![v18353.toNat, 0, 0]

def k0_chk273 (i : grid0.Coords) (v18353 : BitVec 32) : Prop :=
  (∀ (k0_h1 : k0_cond1 i = 1#1), ∀ a, (k0_off273 v18353) a + S1x16x128.size a ≤ S16384x16x128.size a)
theorem k0_off273_inb : ∀ (i : grid0.Coords) (v18353 : BitVec 32) (k0_hw273 : k0_chk273 i v18353), ∀ (k0_h1 : k0_cond1 i = 1#1), ∀ a, (k0_off273 v18353) a + S1x16x128.size a ≤ S16384x16x128.size a := fun i v18353 k0_hw273 k0_h1 => k0_hw273 k0_h1

def k0_off274 (v18359 : BitVec 32) : Fin 3 → Nat :=
  let c0_i32_16922 : BitVec 32 := 0#32
  let c0_i32_16923 : BitVec 32 := 0#32
  ![v18359.toNat, 0, 0]

def k0_chk274 (i : grid0.Coords) (v18359 : BitVec 32) : Prop :=
  (∀ (k0_h1 : k0_cond1 i = 1#1), ∀ a, (k0_off274 v18359) a + S1x16x128.size a ≤ S16384x16x128.size a)
theorem k0_off274_inb : ∀ (i : grid0.Coords) (v18359 : BitVec 32) (k0_hw274 : k0_chk274 i v18359), ∀ (k0_h1 : k0_cond1 i = 1#1), ∀ a, (k0_off274 v18359) a + S1x16x128.size a ≤ S16384x16x128.size a := fun i v18359 k0_hw274 k0_h1 => k0_hw274 k0_h1

def k0_off275 (v18365 : BitVec 32) : Fin 3 → Nat :=
  let c0_i32_16929 : BitVec 32 := 0#32
  let c0_i32_16930 : BitVec 32 := 0#32
  ![v18365.toNat, 0, 0]

def k0_chk275 (i : grid0.Coords) (v18365 : BitVec 32) : Prop :=
  (∀ (k0_h1 : k0_cond1 i = 1#1), ∀ a, (k0_off275 v18365) a + S1x16x128.size a ≤ S16384x16x128.size a)
theorem k0_off275_inb : ∀ (i : grid0.Coords) (v18365 : BitVec 32) (k0_hw275 : k0_chk275 i v18365), ∀ (k0_h1 : k0_cond1 i = 1#1), ∀ a, (k0_off275 v18365) a + S1x16x128.size a ≤ S16384x16x128.size a := fun i v18365 k0_hw275 k0_h1 => k0_hw275 k0_h1

def k0_off276 (v18371 : BitVec 32) : Fin 3 → Nat :=
  let c0_i32_16936 : BitVec 32 := 0#32
  let c0_i32_16937 : BitVec 32 := 0#32
  ![v18371.toNat, 0, 0]

def k0_chk276 (i : grid0.Coords) (v18371 : BitVec 32) : Prop :=
  (∀ (k0_h1 : k0_cond1 i = 1#1), ∀ a, (k0_off276 v18371) a + S1x16x128.size a ≤ S16384x16x128.size a)
theorem k0_off276_inb : ∀ (i : grid0.Coords) (v18371 : BitVec 32) (k0_hw276 : k0_chk276 i v18371), ∀ (k0_h1 : k0_cond1 i = 1#1), ∀ a, (k0_off276 v18371) a + S1x16x128.size a ≤ S16384x16x128.size a := fun i v18371 k0_hw276 k0_h1 => k0_hw276 k0_h1

def k0_off277 (v18377 : BitVec 32) : Fin 3 → Nat :=
  let c0_i32_16943 : BitVec 32 := 0#32
  let c0_i32_16944 : BitVec 32 := 0#32
  ![v18377.toNat, 0, 0]

def k0_chk277 (i : grid0.Coords) (v18377 : BitVec 32) : Prop :=
  (∀ (k0_h1 : k0_cond1 i = 1#1), ∀ a, (k0_off277 v18377) a + S1x16x128.size a ≤ S16384x16x128.size a)
theorem k0_off277_inb : ∀ (i : grid0.Coords) (v18377 : BitVec 32) (k0_hw277 : k0_chk277 i v18377), ∀ (k0_h1 : k0_cond1 i = 1#1), ∀ a, (k0_off277 v18377) a + S1x16x128.size a ≤ S16384x16x128.size a := fun i v18377 k0_hw277 k0_h1 => k0_hw277 k0_h1

def k0_off278 (v18383 : BitVec 32) : Fin 3 → Nat :=
  let c0_i32_16950 : BitVec 32 := 0#32
  let c0_i32_16951 : BitVec 32 := 0#32
  ![v18383.toNat, 0, 0]

def k0_chk278 (i : grid0.Coords) (v18383 : BitVec 32) : Prop :=
  (∀ (k0_h1 : k0_cond1 i = 1#1), ∀ a, (k0_off278 v18383) a + S1x16x128.size a ≤ S16384x16x128.size a)
theorem k0_off278_inb : ∀ (i : grid0.Coords) (v18383 : BitVec 32) (k0_hw278 : k0_chk278 i v18383), ∀ (k0_h1 : k0_cond1 i = 1#1), ∀ a, (k0_off278 v18383) a + S1x16x128.size a ≤ S16384x16x128.size a := fun i v18383 k0_hw278 k0_h1 => k0_hw278 k0_h1

def k0_off279 (v18389 : BitVec 32) : Fin 3 → Nat :=
  let c0_i32_16957 : BitVec 32 := 0#32
  let c0_i32_16958 : BitVec 32 := 0#32
  ![v18389.toNat, 0, 0]

def k0_chk279 (i : grid0.Coords) (v18389 : BitVec 32) : Prop :=
  (∀ (k0_h1 : k0_cond1 i = 1#1), ∀ a, (k0_off279 v18389) a + S1x16x128.size a ≤ S16384x16x128.size a)
theorem k0_off279_inb : ∀ (i : grid0.Coords) (v18389 : BitVec 32) (k0_hw279 : k0_chk279 i v18389), ∀ (k0_h1 : k0_cond1 i = 1#1), ∀ a, (k0_off279 v18389) a + S1x16x128.size a ≤ S16384x16x128.size a := fun i v18389 k0_hw279 k0_h1 => k0_hw279 k0_h1

def k0_off280 (v18395 : BitVec 32) : Fin 3 → Nat :=
  let c0_i32_16964 : BitVec 32 := 0#32
  let c0_i32_16965 : BitVec 32 := 0#32
  ![v18395.toNat, 0, 0]

def k0_chk280 (i : grid0.Coords) (v18395 : BitVec 32) : Prop :=
  (∀ (k0_h1 : k0_cond1 i = 1#1), ∀ a, (k0_off280 v18395) a + S1x16x128.size a ≤ S16384x16x128.size a)
theorem k0_off280_inb : ∀ (i : grid0.Coords) (v18395 : BitVec 32) (k0_hw280 : k0_chk280 i v18395), ∀ (k0_h1 : k0_cond1 i = 1#1), ∀ a, (k0_off280 v18395) a + S1x16x128.size a ≤ S16384x16x128.size a := fun i v18395 k0_hw280 k0_h1 => k0_hw280 k0_h1

def k0_off281 (v18401 : BitVec 32) : Fin 3 → Nat :=
  let c0_i32_16971 : BitVec 32 := 0#32
  let c0_i32_16972 : BitVec 32 := 0#32
  ![v18401.toNat, 0, 0]

def k0_chk281 (i : grid0.Coords) (v18401 : BitVec 32) : Prop :=
  (∀ (k0_h1 : k0_cond1 i = 1#1), ∀ a, (k0_off281 v18401) a + S1x16x128.size a ≤ S16384x16x128.size a)
theorem k0_off281_inb : ∀ (i : grid0.Coords) (v18401 : BitVec 32) (k0_hw281 : k0_chk281 i v18401), ∀ (k0_h1 : k0_cond1 i = 1#1), ∀ a, (k0_off281 v18401) a + S1x16x128.size a ≤ S16384x16x128.size a := fun i v18401 k0_hw281 k0_h1 => k0_hw281 k0_h1

def k0_off282 (v18407 : BitVec 32) : Fin 3 → Nat :=
  let c0_i32_16978 : BitVec 32 := 0#32
  let c0_i32_16979 : BitVec 32 := 0#32
  ![v18407.toNat, 0, 0]

def k0_chk282 (i : grid0.Coords) (v18407 : BitVec 32) : Prop :=
  (∀ (k0_h1 : k0_cond1 i = 1#1), ∀ a, (k0_off282 v18407) a + S1x16x128.size a ≤ S16384x16x128.size a)
theorem k0_off282_inb : ∀ (i : grid0.Coords) (v18407 : BitVec 32) (k0_hw282 : k0_chk282 i v18407), ∀ (k0_h1 : k0_cond1 i = 1#1), ∀ a, (k0_off282 v18407) a + S1x16x128.size a ≤ S16384x16x128.size a := fun i v18407 k0_hw282 k0_h1 => k0_hw282 k0_h1

def k0_off283 (v18413 : BitVec 32) : Fin 3 → Nat :=
  let c0_i32_16985 : BitVec 32 := 0#32
  let c0_i32_16986 : BitVec 32 := 0#32
  ![v18413.toNat, 0, 0]

def k0_chk283 (i : grid0.Coords) (v18413 : BitVec 32) : Prop :=
  (∀ (k0_h1 : k0_cond1 i = 1#1), ∀ a, (k0_off283 v18413) a + S1x16x128.size a ≤ S16384x16x128.size a)
theorem k0_off283_inb : ∀ (i : grid0.Coords) (v18413 : BitVec 32) (k0_hw283 : k0_chk283 i v18413), ∀ (k0_h1 : k0_cond1 i = 1#1), ∀ a, (k0_off283 v18413) a + S1x16x128.size a ≤ S16384x16x128.size a := fun i v18413 k0_hw283 k0_h1 => k0_hw283 k0_h1

def k0_off284 (v18419 : BitVec 32) : Fin 3 → Nat :=
  let c0_i32_16992 : BitVec 32 := 0#32
  let c0_i32_16993 : BitVec 32 := 0#32
  ![v18419.toNat, 0, 0]

def k0_chk284 (i : grid0.Coords) (v18419 : BitVec 32) : Prop :=
  (∀ (k0_h1 : k0_cond1 i = 1#1), ∀ a, (k0_off284 v18419) a + S1x16x128.size a ≤ S16384x16x128.size a)
theorem k0_off284_inb : ∀ (i : grid0.Coords) (v18419 : BitVec 32) (k0_hw284 : k0_chk284 i v18419), ∀ (k0_h1 : k0_cond1 i = 1#1), ∀ a, (k0_off284 v18419) a + S1x16x128.size a ≤ S16384x16x128.size a := fun i v18419 k0_hw284 k0_h1 => k0_hw284 k0_h1

def k0_off285 (v18425 : BitVec 32) : Fin 3 → Nat :=
  let c0_i32_16999 : BitVec 32 := 0#32
  let c0_i32_17000 : BitVec 32 := 0#32
  ![v18425.toNat, 0, 0]

def k0_chk285 (i : grid0.Coords) (v18425 : BitVec 32) : Prop :=
  (∀ (k0_h1 : k0_cond1 i = 1#1), ∀ a, (k0_off285 v18425) a + S1x16x128.size a ≤ S16384x16x128.size a)
theorem k0_off285_inb : ∀ (i : grid0.Coords) (v18425 : BitVec 32) (k0_hw285 : k0_chk285 i v18425), ∀ (k0_h1 : k0_cond1 i = 1#1), ∀ a, (k0_off285 v18425) a + S1x16x128.size a ≤ S16384x16x128.size a := fun i v18425 k0_hw285 k0_h1 => k0_hw285 k0_h1

def k0_off286 (v18431 : BitVec 32) : Fin 3 → Nat :=
  let c0_i32_17006 : BitVec 32 := 0#32
  let c0_i32_17007 : BitVec 32 := 0#32
  ![v18431.toNat, 0, 0]

def k0_chk286 (i : grid0.Coords) (v18431 : BitVec 32) : Prop :=
  (∀ (k0_h1 : k0_cond1 i = 1#1), ∀ a, (k0_off286 v18431) a + S1x16x128.size a ≤ S16384x16x128.size a)
theorem k0_off286_inb : ∀ (i : grid0.Coords) (v18431 : BitVec 32) (k0_hw286 : k0_chk286 i v18431), ∀ (k0_h1 : k0_cond1 i = 1#1), ∀ a, (k0_off286 v18431) a + S1x16x128.size a ≤ S16384x16x128.size a := fun i v18431 k0_hw286 k0_h1 => k0_hw286 k0_h1

def k0_off287 (v18437 : BitVec 32) : Fin 3 → Nat :=
  let c0_i32_17013 : BitVec 32 := 0#32
  let c0_i32_17014 : BitVec 32 := 0#32
  ![v18437.toNat, 0, 0]

def k0_chk287 (i : grid0.Coords) (v18437 : BitVec 32) : Prop :=
  (∀ (k0_h1 : k0_cond1 i = 1#1), ∀ a, (k0_off287 v18437) a + S1x16x128.size a ≤ S16384x16x128.size a)
theorem k0_off287_inb : ∀ (i : grid0.Coords) (v18437 : BitVec 32) (k0_hw287 : k0_chk287 i v18437), ∀ (k0_h1 : k0_cond1 i = 1#1), ∀ a, (k0_off287 v18437) a + S1x16x128.size a ≤ S16384x16x128.size a := fun i v18437 k0_hw287 k0_h1 => k0_hw287 k0_h1

def k0_off288 (v18443 : BitVec 32) : Fin 3 → Nat :=
  let c0_i32_17020 : BitVec 32 := 0#32
  let c0_i32_17021 : BitVec 32 := 0#32
  ![v18443.toNat, 0, 0]

def k0_chk288 (i : grid0.Coords) (v18443 : BitVec 32) : Prop :=
  (∀ (k0_h1 : k0_cond1 i = 1#1), ∀ a, (k0_off288 v18443) a + S1x16x128.size a ≤ S16384x16x128.size a)
theorem k0_off288_inb : ∀ (i : grid0.Coords) (v18443 : BitVec 32) (k0_hw288 : k0_chk288 i v18443), ∀ (k0_h1 : k0_cond1 i = 1#1), ∀ a, (k0_off288 v18443) a + S1x16x128.size a ≤ S16384x16x128.size a := fun i v18443 k0_hw288 k0_h1 => k0_hw288 k0_h1

def k0_off289 (v18449 : BitVec 32) : Fin 3 → Nat :=
  let c0_i32_17027 : BitVec 32 := 0#32
  let c0_i32_17028 : BitVec 32 := 0#32
  ![v18449.toNat, 0, 0]

def k0_chk289 (i : grid0.Coords) (v18449 : BitVec 32) : Prop :=
  (∀ (k0_h1 : k0_cond1 i = 1#1), ∀ a, (k0_off289 v18449) a + S1x16x128.size a ≤ S16384x16x128.size a)
theorem k0_off289_inb : ∀ (i : grid0.Coords) (v18449 : BitVec 32) (k0_hw289 : k0_chk289 i v18449), ∀ (k0_h1 : k0_cond1 i = 1#1), ∀ a, (k0_off289 v18449) a + S1x16x128.size a ≤ S16384x16x128.size a := fun i v18449 k0_hw289 k0_h1 => k0_hw289 k0_h1

def k0_off290 (v18455 : BitVec 32) : Fin 3 → Nat :=
  let c0_i32_17034 : BitVec 32 := 0#32
  let c0_i32_17035 : BitVec 32 := 0#32
  ![v18455.toNat, 0, 0]

def k0_chk290 (i : grid0.Coords) (v18455 : BitVec 32) : Prop :=
  (∀ (k0_h1 : k0_cond1 i = 1#1), ∀ a, (k0_off290 v18455) a + S1x16x128.size a ≤ S16384x16x128.size a)
theorem k0_off290_inb : ∀ (i : grid0.Coords) (v18455 : BitVec 32) (k0_hw290 : k0_chk290 i v18455), ∀ (k0_h1 : k0_cond1 i = 1#1), ∀ a, (k0_off290 v18455) a + S1x16x128.size a ≤ S16384x16x128.size a := fun i v18455 k0_hw290 k0_h1 => k0_hw290 k0_h1

def k0_off291 (v18461 : BitVec 32) : Fin 3 → Nat :=
  let c0_i32_17041 : BitVec 32 := 0#32
  let c0_i32_17042 : BitVec 32 := 0#32
  ![v18461.toNat, 0, 0]

def k0_chk291 (i : grid0.Coords) (v18461 : BitVec 32) : Prop :=
  (∀ (k0_h1 : k0_cond1 i = 1#1), ∀ a, (k0_off291 v18461) a + S1x16x128.size a ≤ S16384x16x128.size a)
theorem k0_off291_inb : ∀ (i : grid0.Coords) (v18461 : BitVec 32) (k0_hw291 : k0_chk291 i v18461), ∀ (k0_h1 : k0_cond1 i = 1#1), ∀ a, (k0_off291 v18461) a + S1x16x128.size a ≤ S16384x16x128.size a := fun i v18461 k0_hw291 k0_h1 => k0_hw291 k0_h1

def k0_off292 (v18467 : BitVec 32) : Fin 3 → Nat :=
  let c0_i32_17048 : BitVec 32 := 0#32
  let c0_i32_17049 : BitVec 32 := 0#32
  ![v18467.toNat, 0, 0]

def k0_chk292 (i : grid0.Coords) (v18467 : BitVec 32) : Prop :=
  (∀ (k0_h1 : k0_cond1 i = 1#1), ∀ a, (k0_off292 v18467) a + S1x16x128.size a ≤ S16384x16x128.size a)
theorem k0_off292_inb : ∀ (i : grid0.Coords) (v18467 : BitVec 32) (k0_hw292 : k0_chk292 i v18467), ∀ (k0_h1 : k0_cond1 i = 1#1), ∀ a, (k0_off292 v18467) a + S1x16x128.size a ≤ S16384x16x128.size a := fun i v18467 k0_hw292 k0_h1 => k0_hw292 k0_h1

def k0_off293 (v18473 : BitVec 32) : Fin 3 → Nat :=
  let c0_i32_17055 : BitVec 32 := 0#32
  let c0_i32_17056 : BitVec 32 := 0#32
  ![v18473.toNat, 0, 0]

def k0_chk293 (i : grid0.Coords) (v18473 : BitVec 32) : Prop :=
  (∀ (k0_h1 : k0_cond1 i = 1#1), ∀ a, (k0_off293 v18473) a + S1x16x128.size a ≤ S16384x16x128.size a)
theorem k0_off293_inb : ∀ (i : grid0.Coords) (v18473 : BitVec 32) (k0_hw293 : k0_chk293 i v18473), ∀ (k0_h1 : k0_cond1 i = 1#1), ∀ a, (k0_off293 v18473) a + S1x16x128.size a ≤ S16384x16x128.size a := fun i v18473 k0_hw293 k0_h1 => k0_hw293 k0_h1

def k0_off294 (v18479 : BitVec 32) : Fin 3 → Nat :=
  let c0_i32_17062 : BitVec 32 := 0#32
  let c0_i32_17063 : BitVec 32 := 0#32
  ![v18479.toNat, 0, 0]

def k0_chk294 (i : grid0.Coords) (v18479 : BitVec 32) : Prop :=
  (∀ (k0_h1 : k0_cond1 i = 1#1), ∀ a, (k0_off294 v18479) a + S1x16x128.size a ≤ S16384x16x128.size a)
theorem k0_off294_inb : ∀ (i : grid0.Coords) (v18479 : BitVec 32) (k0_hw294 : k0_chk294 i v18479), ∀ (k0_h1 : k0_cond1 i = 1#1), ∀ a, (k0_off294 v18479) a + S1x16x128.size a ≤ S16384x16x128.size a := fun i v18479 k0_hw294 k0_h1 => k0_hw294 k0_h1

def k0_off295 (v18485 : BitVec 32) : Fin 3 → Nat :=
  let c0_i32_17069 : BitVec 32 := 0#32
  let c0_i32_17070 : BitVec 32 := 0#32
  ![v18485.toNat, 0, 0]

def k0_chk295 (i : grid0.Coords) (v18485 : BitVec 32) : Prop :=
  (∀ (k0_h1 : k0_cond1 i = 1#1), ∀ a, (k0_off295 v18485) a + S1x16x128.size a ≤ S16384x16x128.size a)
theorem k0_off295_inb : ∀ (i : grid0.Coords) (v18485 : BitVec 32) (k0_hw295 : k0_chk295 i v18485), ∀ (k0_h1 : k0_cond1 i = 1#1), ∀ a, (k0_off295 v18485) a + S1x16x128.size a ≤ S16384x16x128.size a := fun i v18485 k0_hw295 k0_h1 => k0_hw295 k0_h1

def k0_off296 (v18491 : BitVec 32) : Fin 3 → Nat :=
  let c0_i32_17076 : BitVec 32 := 0#32
  let c0_i32_17077 : BitVec 32 := 0#32
  ![v18491.toNat, 0, 0]

def k0_chk296 (i : grid0.Coords) (v18491 : BitVec 32) : Prop :=
  (∀ (k0_h1 : k0_cond1 i = 1#1), ∀ a, (k0_off296 v18491) a + S1x16x128.size a ≤ S16384x16x128.size a)
theorem k0_off296_inb : ∀ (i : grid0.Coords) (v18491 : BitVec 32) (k0_hw296 : k0_chk296 i v18491), ∀ (k0_h1 : k0_cond1 i = 1#1), ∀ a, (k0_off296 v18491) a + S1x16x128.size a ≤ S16384x16x128.size a := fun i v18491 k0_hw296 k0_h1 => k0_hw296 k0_h1

def k0_off297 (v18497 : BitVec 32) : Fin 3 → Nat :=
  let c0_i32_17083 : BitVec 32 := 0#32
  let c0_i32_17084 : BitVec 32 := 0#32
  ![v18497.toNat, 0, 0]

def k0_chk297 (i : grid0.Coords) (v18497 : BitVec 32) : Prop :=
  (∀ (k0_h1 : k0_cond1 i = 1#1), ∀ a, (k0_off297 v18497) a + S1x16x128.size a ≤ S16384x16x128.size a)
theorem k0_off297_inb : ∀ (i : grid0.Coords) (v18497 : BitVec 32) (k0_hw297 : k0_chk297 i v18497), ∀ (k0_h1 : k0_cond1 i = 1#1), ∀ a, (k0_off297 v18497) a + S1x16x128.size a ≤ S16384x16x128.size a := fun i v18497 k0_hw297 k0_h1 => k0_hw297 k0_h1

def k0_off298 (v18503 : BitVec 32) : Fin 3 → Nat :=
  let c0_i32_17090 : BitVec 32 := 0#32
  let c0_i32_17091 : BitVec 32 := 0#32
  ![v18503.toNat, 0, 0]

def k0_chk298 (i : grid0.Coords) (v18503 : BitVec 32) : Prop :=
  (∀ (k0_h1 : k0_cond1 i = 1#1), ∀ a, (k0_off298 v18503) a + S1x16x128.size a ≤ S16384x16x128.size a)
theorem k0_off298_inb : ∀ (i : grid0.Coords) (v18503 : BitVec 32) (k0_hw298 : k0_chk298 i v18503), ∀ (k0_h1 : k0_cond1 i = 1#1), ∀ a, (k0_off298 v18503) a + S1x16x128.size a ≤ S16384x16x128.size a := fun i v18503 k0_hw298 k0_h1 => k0_hw298 k0_h1

def k0_off299 (v18509 : BitVec 32) : Fin 3 → Nat :=
  let c0_i32_17097 : BitVec 32 := 0#32
  let c0_i32_17098 : BitVec 32 := 0#32
  ![v18509.toNat, 0, 0]

def k0_chk299 (i : grid0.Coords) (v18509 : BitVec 32) : Prop :=
  (∀ (k0_h1 : k0_cond1 i = 1#1), ∀ a, (k0_off299 v18509) a + S1x16x128.size a ≤ S16384x16x128.size a)
theorem k0_off299_inb : ∀ (i : grid0.Coords) (v18509 : BitVec 32) (k0_hw299 : k0_chk299 i v18509), ∀ (k0_h1 : k0_cond1 i = 1#1), ∀ a, (k0_off299 v18509) a + S1x16x128.size a ≤ S16384x16x128.size a := fun i v18509 k0_hw299 k0_h1 => k0_hw299 k0_h1

def k0_off300 (v18515 : BitVec 32) : Fin 3 → Nat :=
  let c0_i32_17104 : BitVec 32 := 0#32
  let c0_i32_17105 : BitVec 32 := 0#32
  ![v18515.toNat, 0, 0]

def k0_chk300 (i : grid0.Coords) (v18515 : BitVec 32) : Prop :=
  (∀ (k0_h1 : k0_cond1 i = 1#1), ∀ a, (k0_off300 v18515) a + S1x16x128.size a ≤ S16384x16x128.size a)
theorem k0_off300_inb : ∀ (i : grid0.Coords) (v18515 : BitVec 32) (k0_hw300 : k0_chk300 i v18515), ∀ (k0_h1 : k0_cond1 i = 1#1), ∀ a, (k0_off300 v18515) a + S1x16x128.size a ≤ S16384x16x128.size a := fun i v18515 k0_hw300 k0_h1 => k0_hw300 k0_h1

def k0_off301 (v18521 : BitVec 32) : Fin 3 → Nat :=
  let c0_i32_17111 : BitVec 32 := 0#32
  let c0_i32_17112 : BitVec 32 := 0#32
  ![v18521.toNat, 0, 0]

def k0_chk301 (i : grid0.Coords) (v18521 : BitVec 32) : Prop :=
  (∀ (k0_h1 : k0_cond1 i = 1#1), ∀ a, (k0_off301 v18521) a + S1x16x128.size a ≤ S16384x16x128.size a)
theorem k0_off301_inb : ∀ (i : grid0.Coords) (v18521 : BitVec 32) (k0_hw301 : k0_chk301 i v18521), ∀ (k0_h1 : k0_cond1 i = 1#1), ∀ a, (k0_off301 v18521) a + S1x16x128.size a ≤ S16384x16x128.size a := fun i v18521 k0_hw301 k0_h1 => k0_hw301 k0_h1

def k0_off302 (v18527 : BitVec 32) : Fin 3 → Nat :=
  let c0_i32_17118 : BitVec 32 := 0#32
  let c0_i32_17119 : BitVec 32 := 0#32
  ![v18527.toNat, 0, 0]

def k0_chk302 (i : grid0.Coords) (v18527 : BitVec 32) : Prop :=
  (∀ (k0_h1 : k0_cond1 i = 1#1), ∀ a, (k0_off302 v18527) a + S1x16x128.size a ≤ S16384x16x128.size a)
theorem k0_off302_inb : ∀ (i : grid0.Coords) (v18527 : BitVec 32) (k0_hw302 : k0_chk302 i v18527), ∀ (k0_h1 : k0_cond1 i = 1#1), ∀ a, (k0_off302 v18527) a + S1x16x128.size a ≤ S16384x16x128.size a := fun i v18527 k0_hw302 k0_h1 => k0_hw302 k0_h1

def k0_off303 (v18533 : BitVec 32) : Fin 3 → Nat :=
  let c0_i32_17125 : BitVec 32 := 0#32
  let c0_i32_17126 : BitVec 32 := 0#32
  ![v18533.toNat, 0, 0]

def k0_chk303 (i : grid0.Coords) (v18533 : BitVec 32) : Prop :=
  (∀ (k0_h1 : k0_cond1 i = 1#1), ∀ a, (k0_off303 v18533) a + S1x16x128.size a ≤ S16384x16x128.size a)
theorem k0_off303_inb : ∀ (i : grid0.Coords) (v18533 : BitVec 32) (k0_hw303 : k0_chk303 i v18533), ∀ (k0_h1 : k0_cond1 i = 1#1), ∀ a, (k0_off303 v18533) a + S1x16x128.size a ≤ S16384x16x128.size a := fun i v18533 k0_hw303 k0_h1 => k0_hw303 k0_h1

def k0_off304 (v18539 : BitVec 32) : Fin 3 → Nat :=
  let c0_i32_17132 : BitVec 32 := 0#32
  let c0_i32_17133 : BitVec 32 := 0#32
  ![v18539.toNat, 0, 0]

def k0_chk304 (i : grid0.Coords) (v18539 : BitVec 32) : Prop :=
  (∀ (k0_h1 : k0_cond1 i = 1#1), ∀ a, (k0_off304 v18539) a + S1x16x128.size a ≤ S16384x16x128.size a)
theorem k0_off304_inb : ∀ (i : grid0.Coords) (v18539 : BitVec 32) (k0_hw304 : k0_chk304 i v18539), ∀ (k0_h1 : k0_cond1 i = 1#1), ∀ a, (k0_off304 v18539) a + S1x16x128.size a ≤ S16384x16x128.size a := fun i v18539 k0_hw304 k0_h1 => k0_hw304 k0_h1

def k0_off305 (v18545 : BitVec 32) : Fin 3 → Nat :=
  let c0_i32_17139 : BitVec 32 := 0#32
  let c0_i32_17140 : BitVec 32 := 0#32
  ![v18545.toNat, 0, 0]

def k0_chk305 (i : grid0.Coords) (v18545 : BitVec 32) : Prop :=
  (∀ (k0_h1 : k0_cond1 i = 1#1), ∀ a, (k0_off305 v18545) a + S1x16x128.size a ≤ S16384x16x128.size a)
theorem k0_off305_inb : ∀ (i : grid0.Coords) (v18545 : BitVec 32) (k0_hw305 : k0_chk305 i v18545), ∀ (k0_h1 : k0_cond1 i = 1#1), ∀ a, (k0_off305 v18545) a + S1x16x128.size a ≤ S16384x16x128.size a := fun i v18545 k0_hw305 k0_h1 => k0_hw305 k0_h1

def k0_off306 (v18551 : BitVec 32) : Fin 3 → Nat :=
  let c0_i32_17146 : BitVec 32 := 0#32
  let c0_i32_17147 : BitVec 32 := 0#32
  ![v18551.toNat, 0, 0]

def k0_chk306 (i : grid0.Coords) (v18551 : BitVec 32) : Prop :=
  (∀ (k0_h1 : k0_cond1 i = 1#1), ∀ a, (k0_off306 v18551) a + S1x16x128.size a ≤ S16384x16x128.size a)
theorem k0_off306_inb : ∀ (i : grid0.Coords) (v18551 : BitVec 32) (k0_hw306 : k0_chk306 i v18551), ∀ (k0_h1 : k0_cond1 i = 1#1), ∀ a, (k0_off306 v18551) a + S1x16x128.size a ≤ S16384x16x128.size a := fun i v18551 k0_hw306 k0_h1 => k0_hw306 k0_h1

def k0_off307 (v18557 : BitVec 32) : Fin 3 → Nat :=
  let c0_i32_17153 : BitVec 32 := 0#32
  let c0_i32_17154 : BitVec 32 := 0#32
  ![v18557.toNat, 0, 0]

def k0_chk307 (i : grid0.Coords) (v18557 : BitVec 32) : Prop :=
  (∀ (k0_h1 : k0_cond1 i = 1#1), ∀ a, (k0_off307 v18557) a + S1x16x128.size a ≤ S16384x16x128.size a)
theorem k0_off307_inb : ∀ (i : grid0.Coords) (v18557 : BitVec 32) (k0_hw307 : k0_chk307 i v18557), ∀ (k0_h1 : k0_cond1 i = 1#1), ∀ a, (k0_off307 v18557) a + S1x16x128.size a ≤ S16384x16x128.size a := fun i v18557 k0_hw307 k0_h1 => k0_hw307 k0_h1

def k0_off308 (v18563 : BitVec 32) : Fin 3 → Nat :=
  let c0_i32_17160 : BitVec 32 := 0#32
  let c0_i32_17161 : BitVec 32 := 0#32
  ![v18563.toNat, 0, 0]

def k0_chk308 (i : grid0.Coords) (v18563 : BitVec 32) : Prop :=
  (∀ (k0_h1 : k0_cond1 i = 1#1), ∀ a, (k0_off308 v18563) a + S1x16x128.size a ≤ S16384x16x128.size a)
theorem k0_off308_inb : ∀ (i : grid0.Coords) (v18563 : BitVec 32) (k0_hw308 : k0_chk308 i v18563), ∀ (k0_h1 : k0_cond1 i = 1#1), ∀ a, (k0_off308 v18563) a + S1x16x128.size a ≤ S16384x16x128.size a := fun i v18563 k0_hw308 k0_h1 => k0_hw308 k0_h1

def k0_off309 (v18569 : BitVec 32) : Fin 3 → Nat :=
  let c0_i32_17167 : BitVec 32 := 0#32
  let c0_i32_17168 : BitVec 32 := 0#32
  ![v18569.toNat, 0, 0]

def k0_chk309 (i : grid0.Coords) (v18569 : BitVec 32) : Prop :=
  (∀ (k0_h1 : k0_cond1 i = 1#1), ∀ a, (k0_off309 v18569) a + S1x16x128.size a ≤ S16384x16x128.size a)
theorem k0_off309_inb : ∀ (i : grid0.Coords) (v18569 : BitVec 32) (k0_hw309 : k0_chk309 i v18569), ∀ (k0_h1 : k0_cond1 i = 1#1), ∀ a, (k0_off309 v18569) a + S1x16x128.size a ≤ S16384x16x128.size a := fun i v18569 k0_hw309 k0_h1 => k0_hw309 k0_h1

def k0_off310 (v18575 : BitVec 32) : Fin 3 → Nat :=
  let c0_i32_17174 : BitVec 32 := 0#32
  let c0_i32_17175 : BitVec 32 := 0#32
  ![v18575.toNat, 0, 0]

def k0_chk310 (i : grid0.Coords) (v18575 : BitVec 32) : Prop :=
  (∀ (k0_h1 : k0_cond1 i = 1#1), ∀ a, (k0_off310 v18575) a + S1x16x128.size a ≤ S16384x16x128.size a)
theorem k0_off310_inb : ∀ (i : grid0.Coords) (v18575 : BitVec 32) (k0_hw310 : k0_chk310 i v18575), ∀ (k0_h1 : k0_cond1 i = 1#1), ∀ a, (k0_off310 v18575) a + S1x16x128.size a ≤ S16384x16x128.size a := fun i v18575 k0_hw310 k0_h1 => k0_hw310 k0_h1

def k0_off311 (v18581 : BitVec 32) : Fin 3 → Nat :=
  let c0_i32_17181 : BitVec 32 := 0#32
  let c0_i32_17182 : BitVec 32 := 0#32
  ![v18581.toNat, 0, 0]

def k0_chk311 (i : grid0.Coords) (v18581 : BitVec 32) : Prop :=
  (∀ (k0_h1 : k0_cond1 i = 1#1), ∀ a, (k0_off311 v18581) a + S1x16x128.size a ≤ S16384x16x128.size a)
theorem k0_off311_inb : ∀ (i : grid0.Coords) (v18581 : BitVec 32) (k0_hw311 : k0_chk311 i v18581), ∀ (k0_h1 : k0_cond1 i = 1#1), ∀ a, (k0_off311 v18581) a + S1x16x128.size a ≤ S16384x16x128.size a := fun i v18581 k0_hw311 k0_h1 => k0_hw311 k0_h1

def k0_off312 (v18587 : BitVec 32) : Fin 3 → Nat :=
  let c0_i32_17188 : BitVec 32 := 0#32
  let c0_i32_17189 : BitVec 32 := 0#32
  ![v18587.toNat, 0, 0]

def k0_chk312 (i : grid0.Coords) (v18587 : BitVec 32) : Prop :=
  (∀ (k0_h1 : k0_cond1 i = 1#1), ∀ a, (k0_off312 v18587) a + S1x16x128.size a ≤ S16384x16x128.size a)
theorem k0_off312_inb : ∀ (i : grid0.Coords) (v18587 : BitVec 32) (k0_hw312 : k0_chk312 i v18587), ∀ (k0_h1 : k0_cond1 i = 1#1), ∀ a, (k0_off312 v18587) a + S1x16x128.size a ≤ S16384x16x128.size a := fun i v18587 k0_hw312 k0_h1 => k0_hw312 k0_h1

def k0_off313 (v18593 : BitVec 32) : Fin 3 → Nat :=
  let c0_i32_17195 : BitVec 32 := 0#32
  let c0_i32_17196 : BitVec 32 := 0#32
  ![v18593.toNat, 0, 0]

def k0_chk313 (i : grid0.Coords) (v18593 : BitVec 32) : Prop :=
  (∀ (k0_h1 : k0_cond1 i = 1#1), ∀ a, (k0_off313 v18593) a + S1x16x128.size a ≤ S16384x16x128.size a)
theorem k0_off313_inb : ∀ (i : grid0.Coords) (v18593 : BitVec 32) (k0_hw313 : k0_chk313 i v18593), ∀ (k0_h1 : k0_cond1 i = 1#1), ∀ a, (k0_off313 v18593) a + S1x16x128.size a ≤ S16384x16x128.size a := fun i v18593 k0_hw313 k0_h1 => k0_hw313 k0_h1

def k0_off314 (v18599 : BitVec 32) : Fin 3 → Nat :=
  let c0_i32_17202 : BitVec 32 := 0#32
  let c0_i32_17203 : BitVec 32 := 0#32
  ![v18599.toNat, 0, 0]

def k0_chk314 (i : grid0.Coords) (v18599 : BitVec 32) : Prop :=
  (∀ (k0_h1 : k0_cond1 i = 1#1), ∀ a, (k0_off314 v18599) a + S1x16x128.size a ≤ S16384x16x128.size a)
theorem k0_off314_inb : ∀ (i : grid0.Coords) (v18599 : BitVec 32) (k0_hw314 : k0_chk314 i v18599), ∀ (k0_h1 : k0_cond1 i = 1#1), ∀ a, (k0_off314 v18599) a + S1x16x128.size a ≤ S16384x16x128.size a := fun i v18599 k0_hw314 k0_h1 => k0_hw314 k0_h1

def k0_off315 (v18605 : BitVec 32) : Fin 3 → Nat :=
  let c0_i32_17209 : BitVec 32 := 0#32
  let c0_i32_17210 : BitVec 32 := 0#32
  ![v18605.toNat, 0, 0]

def k0_chk315 (i : grid0.Coords) (v18605 : BitVec 32) : Prop :=
  (∀ (k0_h1 : k0_cond1 i = 1#1), ∀ a, (k0_off315 v18605) a + S1x16x128.size a ≤ S16384x16x128.size a)
theorem k0_off315_inb : ∀ (i : grid0.Coords) (v18605 : BitVec 32) (k0_hw315 : k0_chk315 i v18605), ∀ (k0_h1 : k0_cond1 i = 1#1), ∀ a, (k0_off315 v18605) a + S1x16x128.size a ≤ S16384x16x128.size a := fun i v18605 k0_hw315 k0_h1 => k0_hw315 k0_h1

def k0_off316 (v18611 : BitVec 32) : Fin 3 → Nat :=
  let c0_i32_17216 : BitVec 32 := 0#32
  let c0_i32_17217 : BitVec 32 := 0#32
  ![v18611.toNat, 0, 0]

def k0_chk316 (i : grid0.Coords) (v18611 : BitVec 32) : Prop :=
  (∀ (k0_h1 : k0_cond1 i = 1#1), ∀ a, (k0_off316 v18611) a + S1x16x128.size a ≤ S16384x16x128.size a)
theorem k0_off316_inb : ∀ (i : grid0.Coords) (v18611 : BitVec 32) (k0_hw316 : k0_chk316 i v18611), ∀ (k0_h1 : k0_cond1 i = 1#1), ∀ a, (k0_off316 v18611) a + S1x16x128.size a ≤ S16384x16x128.size a := fun i v18611 k0_hw316 k0_h1 => k0_hw316 k0_h1

def k0_off317 (v18617 : BitVec 32) : Fin 3 → Nat :=
  let c0_i32_17223 : BitVec 32 := 0#32
  let c0_i32_17224 : BitVec 32 := 0#32
  ![v18617.toNat, 0, 0]

def k0_chk317 (i : grid0.Coords) (v18617 : BitVec 32) : Prop :=
  (∀ (k0_h1 : k0_cond1 i = 1#1), ∀ a, (k0_off317 v18617) a + S1x16x128.size a ≤ S16384x16x128.size a)
theorem k0_off317_inb : ∀ (i : grid0.Coords) (v18617 : BitVec 32) (k0_hw317 : k0_chk317 i v18617), ∀ (k0_h1 : k0_cond1 i = 1#1), ∀ a, (k0_off317 v18617) a + S1x16x128.size a ≤ S16384x16x128.size a := fun i v18617 k0_hw317 k0_h1 => k0_hw317 k0_h1

def k0_off318 (v18623 : BitVec 32) : Fin 3 → Nat :=
  let c0_i32_17230 : BitVec 32 := 0#32
  let c0_i32_17231 : BitVec 32 := 0#32
  ![v18623.toNat, 0, 0]

def k0_chk318 (i : grid0.Coords) (v18623 : BitVec 32) : Prop :=
  (∀ (k0_h1 : k0_cond1 i = 1#1), ∀ a, (k0_off318 v18623) a + S1x16x128.size a ≤ S16384x16x128.size a)
theorem k0_off318_inb : ∀ (i : grid0.Coords) (v18623 : BitVec 32) (k0_hw318 : k0_chk318 i v18623), ∀ (k0_h1 : k0_cond1 i = 1#1), ∀ a, (k0_off318 v18623) a + S1x16x128.size a ≤ S16384x16x128.size a := fun i v18623 k0_hw318 k0_h1 => k0_hw318 k0_h1

def k0_off319 (v18629 : BitVec 32) : Fin 3 → Nat :=
  let c0_i32_17237 : BitVec 32 := 0#32
  let c0_i32_17238 : BitVec 32 := 0#32
  ![v18629.toNat, 0, 0]

def k0_chk319 (i : grid0.Coords) (v18629 : BitVec 32) : Prop :=
  (∀ (k0_h1 : k0_cond1 i = 1#1), ∀ a, (k0_off319 v18629) a + S1x16x128.size a ≤ S16384x16x128.size a)
theorem k0_off319_inb : ∀ (i : grid0.Coords) (v18629 : BitVec 32) (k0_hw319 : k0_chk319 i v18629), ∀ (k0_h1 : k0_cond1 i = 1#1), ∀ a, (k0_off319 v18629) a + S1x16x128.size a ≤ S16384x16x128.size a := fun i v18629 k0_hw319 k0_h1 => k0_hw319 k0_h1

def k0_off320 (v18635 : BitVec 32) : Fin 3 → Nat :=
  let c0_i32_17244 : BitVec 32 := 0#32
  let c0_i32_17245 : BitVec 32 := 0#32
  ![v18635.toNat, 0, 0]

def k0_chk320 (i : grid0.Coords) (v18635 : BitVec 32) : Prop :=
  (∀ (k0_h1 : k0_cond1 i = 1#1), ∀ a, (k0_off320 v18635) a + S1x16x128.size a ≤ S16384x16x128.size a)
theorem k0_off320_inb : ∀ (i : grid0.Coords) (v18635 : BitVec 32) (k0_hw320 : k0_chk320 i v18635), ∀ (k0_h1 : k0_cond1 i = 1#1), ∀ a, (k0_off320 v18635) a + S1x16x128.size a ≤ S16384x16x128.size a := fun i v18635 k0_hw320 k0_h1 => k0_hw320 k0_h1

def k0_off321 (v18641 : BitVec 32) : Fin 3 → Nat :=
  let c0_i32_17251 : BitVec 32 := 0#32
  let c0_i32_17252 : BitVec 32 := 0#32
  ![v18641.toNat, 0, 0]

def k0_chk321 (i : grid0.Coords) (v18641 : BitVec 32) : Prop :=
  (∀ (k0_h1 : k0_cond1 i = 1#1), ∀ a, (k0_off321 v18641) a + S1x16x128.size a ≤ S16384x16x128.size a)
theorem k0_off321_inb : ∀ (i : grid0.Coords) (v18641 : BitVec 32) (k0_hw321 : k0_chk321 i v18641), ∀ (k0_h1 : k0_cond1 i = 1#1), ∀ a, (k0_off321 v18641) a + S1x16x128.size a ≤ S16384x16x128.size a := fun i v18641 k0_hw321 k0_h1 => k0_hw321 k0_h1

def k0_off322 (v18647 : BitVec 32) : Fin 3 → Nat :=
  let c0_i32_17258 : BitVec 32 := 0#32
  let c0_i32_17259 : BitVec 32 := 0#32
  ![v18647.toNat, 0, 0]

def k0_chk322 (i : grid0.Coords) (v18647 : BitVec 32) : Prop :=
  (∀ (k0_h1 : k0_cond1 i = 1#1), ∀ a, (k0_off322 v18647) a + S1x16x128.size a ≤ S16384x16x128.size a)
theorem k0_off322_inb : ∀ (i : grid0.Coords) (v18647 : BitVec 32) (k0_hw322 : k0_chk322 i v18647), ∀ (k0_h1 : k0_cond1 i = 1#1), ∀ a, (k0_off322 v18647) a + S1x16x128.size a ≤ S16384x16x128.size a := fun i v18647 k0_hw322 k0_h1 => k0_hw322 k0_h1

def k0_off323 (v18653 : BitVec 32) : Fin 3 → Nat :=
  let c0_i32_17265 : BitVec 32 := 0#32
  let c0_i32_17266 : BitVec 32 := 0#32
  ![v18653.toNat, 0, 0]

def k0_chk323 (i : grid0.Coords) (v18653 : BitVec 32) : Prop :=
  (∀ (k0_h1 : k0_cond1 i = 1#1), ∀ a, (k0_off323 v18653) a + S1x16x128.size a ≤ S16384x16x128.size a)
theorem k0_off323_inb : ∀ (i : grid0.Coords) (v18653 : BitVec 32) (k0_hw323 : k0_chk323 i v18653), ∀ (k0_h1 : k0_cond1 i = 1#1), ∀ a, (k0_off323 v18653) a + S1x16x128.size a ≤ S16384x16x128.size a := fun i v18653 k0_hw323 k0_h1 => k0_hw323 k0_h1

def k0_off324 (v18659 : BitVec 32) : Fin 3 → Nat :=
  let c0_i32_17272 : BitVec 32 := 0#32
  let c0_i32_17273 : BitVec 32 := 0#32
  ![v18659.toNat, 0, 0]

def k0_chk324 (i : grid0.Coords) (v18659 : BitVec 32) : Prop :=
  (∀ (k0_h1 : k0_cond1 i = 1#1), ∀ a, (k0_off324 v18659) a + S1x16x128.size a ≤ S16384x16x128.size a)
theorem k0_off324_inb : ∀ (i : grid0.Coords) (v18659 : BitVec 32) (k0_hw324 : k0_chk324 i v18659), ∀ (k0_h1 : k0_cond1 i = 1#1), ∀ a, (k0_off324 v18659) a + S1x16x128.size a ≤ S16384x16x128.size a := fun i v18659 k0_hw324 k0_h1 => k0_hw324 k0_h1

def k0_off325 (v18665 : BitVec 32) : Fin 3 → Nat :=
  let c0_i32_17279 : BitVec 32 := 0#32
  let c0_i32_17280 : BitVec 32 := 0#32
  ![v18665.toNat, 0, 0]

def k0_chk325 (i : grid0.Coords) (v18665 : BitVec 32) : Prop :=
  (∀ (k0_h1 : k0_cond1 i = 1#1), ∀ a, (k0_off325 v18665) a + S1x16x128.size a ≤ S16384x16x128.size a)
theorem k0_off325_inb : ∀ (i : grid0.Coords) (v18665 : BitVec 32) (k0_hw325 : k0_chk325 i v18665), ∀ (k0_h1 : k0_cond1 i = 1#1), ∀ a, (k0_off325 v18665) a + S1x16x128.size a ≤ S16384x16x128.size a := fun i v18665 k0_hw325 k0_h1 => k0_hw325 k0_h1

def k0_off326 (v18671 : BitVec 32) : Fin 3 → Nat :=
  let c0_i32_17286 : BitVec 32 := 0#32
  let c0_i32_17287 : BitVec 32 := 0#32
  ![v18671.toNat, 0, 0]

def k0_chk326 (i : grid0.Coords) (v18671 : BitVec 32) : Prop :=
  (∀ (k0_h1 : k0_cond1 i = 1#1), ∀ a, (k0_off326 v18671) a + S1x16x128.size a ≤ S16384x16x128.size a)
theorem k0_off326_inb : ∀ (i : grid0.Coords) (v18671 : BitVec 32) (k0_hw326 : k0_chk326 i v18671), ∀ (k0_h1 : k0_cond1 i = 1#1), ∀ a, (k0_off326 v18671) a + S1x16x128.size a ≤ S16384x16x128.size a := fun i v18671 k0_hw326 k0_h1 => k0_hw326 k0_h1

def k0_off327 (v18677 : BitVec 32) : Fin 3 → Nat :=
  let c0_i32_17293 : BitVec 32 := 0#32
  let c0_i32_17294 : BitVec 32 := 0#32
  ![v18677.toNat, 0, 0]

def k0_chk327 (i : grid0.Coords) (v18677 : BitVec 32) : Prop :=
  (∀ (k0_h1 : k0_cond1 i = 1#1), ∀ a, (k0_off327 v18677) a + S1x16x128.size a ≤ S16384x16x128.size a)
theorem k0_off327_inb : ∀ (i : grid0.Coords) (v18677 : BitVec 32) (k0_hw327 : k0_chk327 i v18677), ∀ (k0_h1 : k0_cond1 i = 1#1), ∀ a, (k0_off327 v18677) a + S1x16x128.size a ≤ S16384x16x128.size a := fun i v18677 k0_hw327 k0_h1 => k0_hw327 k0_h1

def k0_off328 (v18683 : BitVec 32) : Fin 3 → Nat :=
  let c0_i32_17300 : BitVec 32 := 0#32
  let c0_i32_17301 : BitVec 32 := 0#32
  ![v18683.toNat, 0, 0]

def k0_chk328 (i : grid0.Coords) (v18683 : BitVec 32) : Prop :=
  (∀ (k0_h1 : k0_cond1 i = 1#1), ∀ a, (k0_off328 v18683) a + S1x16x128.size a ≤ S16384x16x128.size a)
theorem k0_off328_inb : ∀ (i : grid0.Coords) (v18683 : BitVec 32) (k0_hw328 : k0_chk328 i v18683), ∀ (k0_h1 : k0_cond1 i = 1#1), ∀ a, (k0_off328 v18683) a + S1x16x128.size a ≤ S16384x16x128.size a := fun i v18683 k0_hw328 k0_h1 => k0_hw328 k0_h1

def k0_off329 (v18689 : BitVec 32) : Fin 3 → Nat :=
  let c0_i32_17307 : BitVec 32 := 0#32
  let c0_i32_17308 : BitVec 32 := 0#32
  ![v18689.toNat, 0, 0]

def k0_chk329 (i : grid0.Coords) (v18689 : BitVec 32) : Prop :=
  (∀ (k0_h1 : k0_cond1 i = 1#1), ∀ a, (k0_off329 v18689) a + S1x16x128.size a ≤ S16384x16x128.size a)
theorem k0_off329_inb : ∀ (i : grid0.Coords) (v18689 : BitVec 32) (k0_hw329 : k0_chk329 i v18689), ∀ (k0_h1 : k0_cond1 i = 1#1), ∀ a, (k0_off329 v18689) a + S1x16x128.size a ≤ S16384x16x128.size a := fun i v18689 k0_hw329 k0_h1 => k0_hw329 k0_h1

def k0_off330 (v18695 : BitVec 32) : Fin 3 → Nat :=
  let c0_i32_17314 : BitVec 32 := 0#32
  let c0_i32_17315 : BitVec 32 := 0#32
  ![v18695.toNat, 0, 0]

def k0_chk330 (i : grid0.Coords) (v18695 : BitVec 32) : Prop :=
  (∀ (k0_h1 : k0_cond1 i = 1#1), ∀ a, (k0_off330 v18695) a + S1x16x128.size a ≤ S16384x16x128.size a)
theorem k0_off330_inb : ∀ (i : grid0.Coords) (v18695 : BitVec 32) (k0_hw330 : k0_chk330 i v18695), ∀ (k0_h1 : k0_cond1 i = 1#1), ∀ a, (k0_off330 v18695) a + S1x16x128.size a ≤ S16384x16x128.size a := fun i v18695 k0_hw330 k0_h1 => k0_hw330 k0_h1

def k0_off331 (v18701 : BitVec 32) : Fin 3 → Nat :=
  let c0_i32_17321 : BitVec 32 := 0#32
  let c0_i32_17322 : BitVec 32 := 0#32
  ![v18701.toNat, 0, 0]

def k0_chk331 (i : grid0.Coords) (v18701 : BitVec 32) : Prop :=
  (∀ (k0_h1 : k0_cond1 i = 1#1), ∀ a, (k0_off331 v18701) a + S1x16x128.size a ≤ S16384x16x128.size a)
theorem k0_off331_inb : ∀ (i : grid0.Coords) (v18701 : BitVec 32) (k0_hw331 : k0_chk331 i v18701), ∀ (k0_h1 : k0_cond1 i = 1#1), ∀ a, (k0_off331 v18701) a + S1x16x128.size a ≤ S16384x16x128.size a := fun i v18701 k0_hw331 k0_h1 => k0_hw331 k0_h1

def k0_off332 (v18707 : BitVec 32) : Fin 3 → Nat :=
  let c0_i32_17328 : BitVec 32 := 0#32
  let c0_i32_17329 : BitVec 32 := 0#32
  ![v18707.toNat, 0, 0]

def k0_chk332 (i : grid0.Coords) (v18707 : BitVec 32) : Prop :=
  (∀ (k0_h1 : k0_cond1 i = 1#1), ∀ a, (k0_off332 v18707) a + S1x16x128.size a ≤ S16384x16x128.size a)
theorem k0_off332_inb : ∀ (i : grid0.Coords) (v18707 : BitVec 32) (k0_hw332 : k0_chk332 i v18707), ∀ (k0_h1 : k0_cond1 i = 1#1), ∀ a, (k0_off332 v18707) a + S1x16x128.size a ≤ S16384x16x128.size a := fun i v18707 k0_hw332 k0_h1 => k0_hw332 k0_h1

def k0_off333 (v18713 : BitVec 32) : Fin 3 → Nat :=
  let c0_i32_17335 : BitVec 32 := 0#32
  let c0_i32_17336 : BitVec 32 := 0#32
  ![v18713.toNat, 0, 0]

def k0_chk333 (i : grid0.Coords) (v18713 : BitVec 32) : Prop :=
  (∀ (k0_h1 : k0_cond1 i = 1#1), ∀ a, (k0_off333 v18713) a + S1x16x128.size a ≤ S16384x16x128.size a)
theorem k0_off333_inb : ∀ (i : grid0.Coords) (v18713 : BitVec 32) (k0_hw333 : k0_chk333 i v18713), ∀ (k0_h1 : k0_cond1 i = 1#1), ∀ a, (k0_off333 v18713) a + S1x16x128.size a ≤ S16384x16x128.size a := fun i v18713 k0_hw333 k0_h1 => k0_hw333 k0_h1

def k0_off334 (v18719 : BitVec 32) : Fin 3 → Nat :=
  let c0_i32_17342 : BitVec 32 := 0#32
  let c0_i32_17343 : BitVec 32 := 0#32
  ![v18719.toNat, 0, 0]

def k0_chk334 (i : grid0.Coords) (v18719 : BitVec 32) : Prop :=
  (∀ (k0_h1 : k0_cond1 i = 1#1), ∀ a, (k0_off334 v18719) a + S1x16x128.size a ≤ S16384x16x128.size a)
theorem k0_off334_inb : ∀ (i : grid0.Coords) (v18719 : BitVec 32) (k0_hw334 : k0_chk334 i v18719), ∀ (k0_h1 : k0_cond1 i = 1#1), ∀ a, (k0_off334 v18719) a + S1x16x128.size a ≤ S16384x16x128.size a := fun i v18719 k0_hw334 k0_h1 => k0_hw334 k0_h1

def k0_off335 (v18725 : BitVec 32) : Fin 3 → Nat :=
  let c0_i32_17349 : BitVec 32 := 0#32
  let c0_i32_17350 : BitVec 32 := 0#32
  ![v18725.toNat, 0, 0]

def k0_chk335 (i : grid0.Coords) (v18725 : BitVec 32) : Prop :=
  (∀ (k0_h1 : k0_cond1 i = 1#1), ∀ a, (k0_off335 v18725) a + S1x16x128.size a ≤ S16384x16x128.size a)
theorem k0_off335_inb : ∀ (i : grid0.Coords) (v18725 : BitVec 32) (k0_hw335 : k0_chk335 i v18725), ∀ (k0_h1 : k0_cond1 i = 1#1), ∀ a, (k0_off335 v18725) a + S1x16x128.size a ≤ S16384x16x128.size a := fun i v18725 k0_hw335 k0_h1 => k0_hw335 k0_h1

def k0_off336 (v18731 : BitVec 32) : Fin 3 → Nat :=
  let c0_i32_17356 : BitVec 32 := 0#32
  let c0_i32_17357 : BitVec 32 := 0#32
  ![v18731.toNat, 0, 0]

def k0_chk336 (i : grid0.Coords) (v18731 : BitVec 32) : Prop :=
  (∀ (k0_h1 : k0_cond1 i = 1#1), ∀ a, (k0_off336 v18731) a + S1x16x128.size a ≤ S16384x16x128.size a)
theorem k0_off336_inb : ∀ (i : grid0.Coords) (v18731 : BitVec 32) (k0_hw336 : k0_chk336 i v18731), ∀ (k0_h1 : k0_cond1 i = 1#1), ∀ a, (k0_off336 v18731) a + S1x16x128.size a ≤ S16384x16x128.size a := fun i v18731 k0_hw336 k0_h1 => k0_hw336 k0_h1

def k0_off337 (v18737 : BitVec 32) : Fin 3 → Nat :=
  let c0_i32_17363 : BitVec 32 := 0#32
  let c0_i32_17364 : BitVec 32 := 0#32
  ![v18737.toNat, 0, 0]

def k0_chk337 (i : grid0.Coords) (v18737 : BitVec 32) : Prop :=
  (∀ (k0_h1 : k0_cond1 i = 1#1), ∀ a, (k0_off337 v18737) a + S1x16x128.size a ≤ S16384x16x128.size a)
theorem k0_off337_inb : ∀ (i : grid0.Coords) (v18737 : BitVec 32) (k0_hw337 : k0_chk337 i v18737), ∀ (k0_h1 : k0_cond1 i = 1#1), ∀ a, (k0_off337 v18737) a + S1x16x128.size a ≤ S16384x16x128.size a := fun i v18737 k0_hw337 k0_h1 => k0_hw337 k0_h1

def k0_off338 (v18743 : BitVec 32) : Fin 3 → Nat :=
  let c0_i32_17370 : BitVec 32 := 0#32
  let c0_i32_17371 : BitVec 32 := 0#32
  ![v18743.toNat, 0, 0]

def k0_chk338 (i : grid0.Coords) (v18743 : BitVec 32) : Prop :=
  (∀ (k0_h1 : k0_cond1 i = 1#1), ∀ a, (k0_off338 v18743) a + S1x16x128.size a ≤ S16384x16x128.size a)
theorem k0_off338_inb : ∀ (i : grid0.Coords) (v18743 : BitVec 32) (k0_hw338 : k0_chk338 i v18743), ∀ (k0_h1 : k0_cond1 i = 1#1), ∀ a, (k0_off338 v18743) a + S1x16x128.size a ≤ S16384x16x128.size a := fun i v18743 k0_hw338 k0_h1 => k0_hw338 k0_h1

def k0_off339 (v18749 : BitVec 32) : Fin 3 → Nat :=
  let c0_i32_17377 : BitVec 32 := 0#32
  let c0_i32_17378 : BitVec 32 := 0#32
  ![v18749.toNat, 0, 0]

def k0_chk339 (i : grid0.Coords) (v18749 : BitVec 32) : Prop :=
  (∀ (k0_h1 : k0_cond1 i = 1#1), ∀ a, (k0_off339 v18749) a + S1x16x128.size a ≤ S16384x16x128.size a)
theorem k0_off339_inb : ∀ (i : grid0.Coords) (v18749 : BitVec 32) (k0_hw339 : k0_chk339 i v18749), ∀ (k0_h1 : k0_cond1 i = 1#1), ∀ a, (k0_off339 v18749) a + S1x16x128.size a ≤ S16384x16x128.size a := fun i v18749 k0_hw339 k0_h1 => k0_hw339 k0_h1

def k0_off340 (v18755 : BitVec 32) : Fin 3 → Nat :=
  let c0_i32_17384 : BitVec 32 := 0#32
  let c0_i32_17385 : BitVec 32 := 0#32
  ![v18755.toNat, 0, 0]

def k0_chk340 (i : grid0.Coords) (v18755 : BitVec 32) : Prop :=
  (∀ (k0_h1 : k0_cond1 i = 1#1), ∀ a, (k0_off340 v18755) a + S1x16x128.size a ≤ S16384x16x128.size a)
theorem k0_off340_inb : ∀ (i : grid0.Coords) (v18755 : BitVec 32) (k0_hw340 : k0_chk340 i v18755), ∀ (k0_h1 : k0_cond1 i = 1#1), ∀ a, (k0_off340 v18755) a + S1x16x128.size a ≤ S16384x16x128.size a := fun i v18755 k0_hw340 k0_h1 => k0_hw340 k0_h1

def k0_off341 (v18761 : BitVec 32) : Fin 3 → Nat :=
  let c0_i32_17391 : BitVec 32 := 0#32
  let c0_i32_17392 : BitVec 32 := 0#32
  ![v18761.toNat, 0, 0]

def k0_chk341 (i : grid0.Coords) (v18761 : BitVec 32) : Prop :=
  (∀ (k0_h1 : k0_cond1 i = 1#1), ∀ a, (k0_off341 v18761) a + S1x16x128.size a ≤ S16384x16x128.size a)
theorem k0_off341_inb : ∀ (i : grid0.Coords) (v18761 : BitVec 32) (k0_hw341 : k0_chk341 i v18761), ∀ (k0_h1 : k0_cond1 i = 1#1), ∀ a, (k0_off341 v18761) a + S1x16x128.size a ≤ S16384x16x128.size a := fun i v18761 k0_hw341 k0_h1 => k0_hw341 k0_h1

def k0_off342 (v18767 : BitVec 32) : Fin 3 → Nat :=
  let c0_i32_17398 : BitVec 32 := 0#32
  let c0_i32_17399 : BitVec 32 := 0#32
  ![v18767.toNat, 0, 0]

def k0_chk342 (i : grid0.Coords) (v18767 : BitVec 32) : Prop :=
  (∀ (k0_h1 : k0_cond1 i = 1#1), ∀ a, (k0_off342 v18767) a + S1x16x128.size a ≤ S16384x16x128.size a)
theorem k0_off342_inb : ∀ (i : grid0.Coords) (v18767 : BitVec 32) (k0_hw342 : k0_chk342 i v18767), ∀ (k0_h1 : k0_cond1 i = 1#1), ∀ a, (k0_off342 v18767) a + S1x16x128.size a ≤ S16384x16x128.size a := fun i v18767 k0_hw342 k0_h1 => k0_hw342 k0_h1

def k0_off343 (v18773 : BitVec 32) : Fin 3 → Nat :=
  let c0_i32_17405 : BitVec 32 := 0#32
  let c0_i32_17406 : BitVec 32 := 0#32
  ![v18773.toNat, 0, 0]

def k0_chk343 (i : grid0.Coords) (v18773 : BitVec 32) : Prop :=
  (∀ (k0_h1 : k0_cond1 i = 1#1), ∀ a, (k0_off343 v18773) a + S1x16x128.size a ≤ S16384x16x128.size a)
theorem k0_off343_inb : ∀ (i : grid0.Coords) (v18773 : BitVec 32) (k0_hw343 : k0_chk343 i v18773), ∀ (k0_h1 : k0_cond1 i = 1#1), ∀ a, (k0_off343 v18773) a + S1x16x128.size a ≤ S16384x16x128.size a := fun i v18773 k0_hw343 k0_h1 => k0_hw343 k0_h1

def k0_off344 (v18779 : BitVec 32) : Fin 3 → Nat :=
  let c0_i32_17412 : BitVec 32 := 0#32
  let c0_i32_17413 : BitVec 32 := 0#32
  ![v18779.toNat, 0, 0]

def k0_chk344 (i : grid0.Coords) (v18779 : BitVec 32) : Prop :=
  (∀ (k0_h1 : k0_cond1 i = 1#1), ∀ a, (k0_off344 v18779) a + S1x16x128.size a ≤ S16384x16x128.size a)
theorem k0_off344_inb : ∀ (i : grid0.Coords) (v18779 : BitVec 32) (k0_hw344 : k0_chk344 i v18779), ∀ (k0_h1 : k0_cond1 i = 1#1), ∀ a, (k0_off344 v18779) a + S1x16x128.size a ≤ S16384x16x128.size a := fun i v18779 k0_hw344 k0_h1 => k0_hw344 k0_h1

def k0_off345 (v18785 : BitVec 32) : Fin 3 → Nat :=
  let c0_i32_17419 : BitVec 32 := 0#32
  let c0_i32_17420 : BitVec 32 := 0#32
  ![v18785.toNat, 0, 0]

def k0_chk345 (i : grid0.Coords) (v18785 : BitVec 32) : Prop :=
  (∀ (k0_h1 : k0_cond1 i = 1#1), ∀ a, (k0_off345 v18785) a + S1x16x128.size a ≤ S16384x16x128.size a)
theorem k0_off345_inb : ∀ (i : grid0.Coords) (v18785 : BitVec 32) (k0_hw345 : k0_chk345 i v18785), ∀ (k0_h1 : k0_cond1 i = 1#1), ∀ a, (k0_off345 v18785) a + S1x16x128.size a ≤ S16384x16x128.size a := fun i v18785 k0_hw345 k0_h1 => k0_hw345 k0_h1

def k0_off346 (v18791 : BitVec 32) : Fin 3 → Nat :=
  let c0_i32_17426 : BitVec 32 := 0#32
  let c0_i32_17427 : BitVec 32 := 0#32
  ![v18791.toNat, 0, 0]

def k0_chk346 (i : grid0.Coords) (v18791 : BitVec 32) : Prop :=
  (∀ (k0_h1 : k0_cond1 i = 1#1), ∀ a, (k0_off346 v18791) a + S1x16x128.size a ≤ S16384x16x128.size a)
theorem k0_off346_inb : ∀ (i : grid0.Coords) (v18791 : BitVec 32) (k0_hw346 : k0_chk346 i v18791), ∀ (k0_h1 : k0_cond1 i = 1#1), ∀ a, (k0_off346 v18791) a + S1x16x128.size a ≤ S16384x16x128.size a := fun i v18791 k0_hw346 k0_h1 => k0_hw346 k0_h1

def k0_off347 (v18797 : BitVec 32) : Fin 3 → Nat :=
  let c0_i32_17433 : BitVec 32 := 0#32
  let c0_i32_17434 : BitVec 32 := 0#32
  ![v18797.toNat, 0, 0]

def k0_chk347 (i : grid0.Coords) (v18797 : BitVec 32) : Prop :=
  (∀ (k0_h1 : k0_cond1 i = 1#1), ∀ a, (k0_off347 v18797) a + S1x16x128.size a ≤ S16384x16x128.size a)
theorem k0_off347_inb : ∀ (i : grid0.Coords) (v18797 : BitVec 32) (k0_hw347 : k0_chk347 i v18797), ∀ (k0_h1 : k0_cond1 i = 1#1), ∀ a, (k0_off347 v18797) a + S1x16x128.size a ≤ S16384x16x128.size a := fun i v18797 k0_hw347 k0_h1 => k0_hw347 k0_h1

def k0_off348 (v18803 : BitVec 32) : Fin 3 → Nat :=
  let c0_i32_17440 : BitVec 32 := 0#32
  let c0_i32_17441 : BitVec 32 := 0#32
  ![v18803.toNat, 0, 0]

def k0_chk348 (i : grid0.Coords) (v18803 : BitVec 32) : Prop :=
  (∀ (k0_h1 : k0_cond1 i = 1#1), ∀ a, (k0_off348 v18803) a + S1x16x128.size a ≤ S16384x16x128.size a)
theorem k0_off348_inb : ∀ (i : grid0.Coords) (v18803 : BitVec 32) (k0_hw348 : k0_chk348 i v18803), ∀ (k0_h1 : k0_cond1 i = 1#1), ∀ a, (k0_off348 v18803) a + S1x16x128.size a ≤ S16384x16x128.size a := fun i v18803 k0_hw348 k0_h1 => k0_hw348 k0_h1

def k0_off349 (v18809 : BitVec 32) : Fin 3 → Nat :=
  let c0_i32_17447 : BitVec 32 := 0#32
  let c0_i32_17448 : BitVec 32 := 0#32
  ![v18809.toNat, 0, 0]

def k0_chk349 (i : grid0.Coords) (v18809 : BitVec 32) : Prop :=
  (∀ (k0_h1 : k0_cond1 i = 1#1), ∀ a, (k0_off349 v18809) a + S1x16x128.size a ≤ S16384x16x128.size a)
theorem k0_off349_inb : ∀ (i : grid0.Coords) (v18809 : BitVec 32) (k0_hw349 : k0_chk349 i v18809), ∀ (k0_h1 : k0_cond1 i = 1#1), ∀ a, (k0_off349 v18809) a + S1x16x128.size a ≤ S16384x16x128.size a := fun i v18809 k0_hw349 k0_h1 => k0_hw349 k0_h1

def k0_off350 (v18815 : BitVec 32) : Fin 3 → Nat :=
  let c0_i32_17454 : BitVec 32 := 0#32
  let c0_i32_17455 : BitVec 32 := 0#32
  ![v18815.toNat, 0, 0]

def k0_chk350 (i : grid0.Coords) (v18815 : BitVec 32) : Prop :=
  (∀ (k0_h1 : k0_cond1 i = 1#1), ∀ a, (k0_off350 v18815) a + S1x16x128.size a ≤ S16384x16x128.size a)
theorem k0_off350_inb : ∀ (i : grid0.Coords) (v18815 : BitVec 32) (k0_hw350 : k0_chk350 i v18815), ∀ (k0_h1 : k0_cond1 i = 1#1), ∀ a, (k0_off350 v18815) a + S1x16x128.size a ≤ S16384x16x128.size a := fun i v18815 k0_hw350 k0_h1 => k0_hw350 k0_h1

def k0_off351 (v18821 : BitVec 32) : Fin 3 → Nat :=
  let c0_i32_17461 : BitVec 32 := 0#32
  let c0_i32_17462 : BitVec 32 := 0#32
  ![v18821.toNat, 0, 0]

def k0_chk351 (i : grid0.Coords) (v18821 : BitVec 32) : Prop :=
  (∀ (k0_h1 : k0_cond1 i = 1#1), ∀ a, (k0_off351 v18821) a + S1x16x128.size a ≤ S16384x16x128.size a)
theorem k0_off351_inb : ∀ (i : grid0.Coords) (v18821 : BitVec 32) (k0_hw351 : k0_chk351 i v18821), ∀ (k0_h1 : k0_cond1 i = 1#1), ∀ a, (k0_off351 v18821) a + S1x16x128.size a ≤ S16384x16x128.size a := fun i v18821 k0_hw351 k0_h1 => k0_hw351 k0_h1

def k0_off352 (v18827 : BitVec 32) : Fin 3 → Nat :=
  let c0_i32_17468 : BitVec 32 := 0#32
  let c0_i32_17469 : BitVec 32 := 0#32
  ![v18827.toNat, 0, 0]

def k0_chk352 (i : grid0.Coords) (v18827 : BitVec 32) : Prop :=
  (∀ (k0_h1 : k0_cond1 i = 1#1), ∀ a, (k0_off352 v18827) a + S1x16x128.size a ≤ S16384x16x128.size a)
theorem k0_off352_inb : ∀ (i : grid0.Coords) (v18827 : BitVec 32) (k0_hw352 : k0_chk352 i v18827), ∀ (k0_h1 : k0_cond1 i = 1#1), ∀ a, (k0_off352 v18827) a + S1x16x128.size a ≤ S16384x16x128.size a := fun i v18827 k0_hw352 k0_h1 => k0_hw352 k0_h1

def k0_off353 (v18833 : BitVec 32) : Fin 3 → Nat :=
  let c0_i32_17475 : BitVec 32 := 0#32
  let c0_i32_17476 : BitVec 32 := 0#32
  ![v18833.toNat, 0, 0]

def k0_chk353 (i : grid0.Coords) (v18833 : BitVec 32) : Prop :=
  (∀ (k0_h1 : k0_cond1 i = 1#1), ∀ a, (k0_off353 v18833) a + S1x16x128.size a ≤ S16384x16x128.size a)
theorem k0_off353_inb : ∀ (i : grid0.Coords) (v18833 : BitVec 32) (k0_hw353 : k0_chk353 i v18833), ∀ (k0_h1 : k0_cond1 i = 1#1), ∀ a, (k0_off353 v18833) a + S1x16x128.size a ≤ S16384x16x128.size a := fun i v18833 k0_hw353 k0_h1 => k0_hw353 k0_h1

def k0_off354 (v18839 : BitVec 32) : Fin 3 → Nat :=
  let c0_i32_17482 : BitVec 32 := 0#32
  let c0_i32_17483 : BitVec 32 := 0#32
  ![v18839.toNat, 0, 0]

def k0_chk354 (i : grid0.Coords) (v18839 : BitVec 32) : Prop :=
  (∀ (k0_h1 : k0_cond1 i = 1#1), ∀ a, (k0_off354 v18839) a + S1x16x128.size a ≤ S16384x16x128.size a)
theorem k0_off354_inb : ∀ (i : grid0.Coords) (v18839 : BitVec 32) (k0_hw354 : k0_chk354 i v18839), ∀ (k0_h1 : k0_cond1 i = 1#1), ∀ a, (k0_off354 v18839) a + S1x16x128.size a ≤ S16384x16x128.size a := fun i v18839 k0_hw354 k0_h1 => k0_hw354 k0_h1

def k0_off355 (v18845 : BitVec 32) : Fin 3 → Nat :=
  let c0_i32_17489 : BitVec 32 := 0#32
  let c0_i32_17490 : BitVec 32 := 0#32
  ![v18845.toNat, 0, 0]

def k0_chk355 (i : grid0.Coords) (v18845 : BitVec 32) : Prop :=
  (∀ (k0_h1 : k0_cond1 i = 1#1), ∀ a, (k0_off355 v18845) a + S1x16x128.size a ≤ S16384x16x128.size a)
theorem k0_off355_inb : ∀ (i : grid0.Coords) (v18845 : BitVec 32) (k0_hw355 : k0_chk355 i v18845), ∀ (k0_h1 : k0_cond1 i = 1#1), ∀ a, (k0_off355 v18845) a + S1x16x128.size a ≤ S16384x16x128.size a := fun i v18845 k0_hw355 k0_h1 => k0_hw355 k0_h1

def k0_off356 (v18851 : BitVec 32) : Fin 3 → Nat :=
  let c0_i32_17496 : BitVec 32 := 0#32
  let c0_i32_17497 : BitVec 32 := 0#32
  ![v18851.toNat, 0, 0]

def k0_chk356 (i : grid0.Coords) (v18851 : BitVec 32) : Prop :=
  (∀ (k0_h1 : k0_cond1 i = 1#1), ∀ a, (k0_off356 v18851) a + S1x16x128.size a ≤ S16384x16x128.size a)
theorem k0_off356_inb : ∀ (i : grid0.Coords) (v18851 : BitVec 32) (k0_hw356 : k0_chk356 i v18851), ∀ (k0_h1 : k0_cond1 i = 1#1), ∀ a, (k0_off356 v18851) a + S1x16x128.size a ≤ S16384x16x128.size a := fun i v18851 k0_hw356 k0_h1 => k0_hw356 k0_h1

def k0_off357 (v18857 : BitVec 32) : Fin 3 → Nat :=
  let c0_i32_17503 : BitVec 32 := 0#32
  let c0_i32_17504 : BitVec 32 := 0#32
  ![v18857.toNat, 0, 0]

def k0_chk357 (i : grid0.Coords) (v18857 : BitVec 32) : Prop :=
  (∀ (k0_h1 : k0_cond1 i = 1#1), ∀ a, (k0_off357 v18857) a + S1x16x128.size a ≤ S16384x16x128.size a)
theorem k0_off357_inb : ∀ (i : grid0.Coords) (v18857 : BitVec 32) (k0_hw357 : k0_chk357 i v18857), ∀ (k0_h1 : k0_cond1 i = 1#1), ∀ a, (k0_off357 v18857) a + S1x16x128.size a ≤ S16384x16x128.size a := fun i v18857 k0_hw357 k0_h1 => k0_hw357 k0_h1

def k0_off358 (v18863 : BitVec 32) : Fin 3 → Nat :=
  let c0_i32_17510 : BitVec 32 := 0#32
  let c0_i32_17511 : BitVec 32 := 0#32
  ![v18863.toNat, 0, 0]

def k0_chk358 (i : grid0.Coords) (v18863 : BitVec 32) : Prop :=
  (∀ (k0_h1 : k0_cond1 i = 1#1), ∀ a, (k0_off358 v18863) a + S1x16x128.size a ≤ S16384x16x128.size a)
theorem k0_off358_inb : ∀ (i : grid0.Coords) (v18863 : BitVec 32) (k0_hw358 : k0_chk358 i v18863), ∀ (k0_h1 : k0_cond1 i = 1#1), ∀ a, (k0_off358 v18863) a + S1x16x128.size a ≤ S16384x16x128.size a := fun i v18863 k0_hw358 k0_h1 => k0_hw358 k0_h1

def k0_off359 (v18869 : BitVec 32) : Fin 3 → Nat :=
  let c0_i32_17517 : BitVec 32 := 0#32
  let c0_i32_17518 : BitVec 32 := 0#32
  ![v18869.toNat, 0, 0]

def k0_chk359 (i : grid0.Coords) (v18869 : BitVec 32) : Prop :=
  (∀ (k0_h1 : k0_cond1 i = 1#1), ∀ a, (k0_off359 v18869) a + S1x16x128.size a ≤ S16384x16x128.size a)
theorem k0_off359_inb : ∀ (i : grid0.Coords) (v18869 : BitVec 32) (k0_hw359 : k0_chk359 i v18869), ∀ (k0_h1 : k0_cond1 i = 1#1), ∀ a, (k0_off359 v18869) a + S1x16x128.size a ≤ S16384x16x128.size a := fun i v18869 k0_hw359 k0_h1 => k0_hw359 k0_h1

def k0_off360 (v18875 : BitVec 32) : Fin 3 → Nat :=
  let c0_i32_17524 : BitVec 32 := 0#32
  let c0_i32_17525 : BitVec 32 := 0#32
  ![v18875.toNat, 0, 0]

def k0_chk360 (i : grid0.Coords) (v18875 : BitVec 32) : Prop :=
  (∀ (k0_h1 : k0_cond1 i = 1#1), ∀ a, (k0_off360 v18875) a + S1x16x128.size a ≤ S16384x16x128.size a)
theorem k0_off360_inb : ∀ (i : grid0.Coords) (v18875 : BitVec 32) (k0_hw360 : k0_chk360 i v18875), ∀ (k0_h1 : k0_cond1 i = 1#1), ∀ a, (k0_off360 v18875) a + S1x16x128.size a ≤ S16384x16x128.size a := fun i v18875 k0_hw360 k0_h1 => k0_hw360 k0_h1

def k0_off361 (v18881 : BitVec 32) : Fin 3 → Nat :=
  let c0_i32_17531 : BitVec 32 := 0#32
  let c0_i32_17532 : BitVec 32 := 0#32
  ![v18881.toNat, 0, 0]

def k0_chk361 (i : grid0.Coords) (v18881 : BitVec 32) : Prop :=
  (∀ (k0_h1 : k0_cond1 i = 1#1), ∀ a, (k0_off361 v18881) a + S1x16x128.size a ≤ S16384x16x128.size a)
theorem k0_off361_inb : ∀ (i : grid0.Coords) (v18881 : BitVec 32) (k0_hw361 : k0_chk361 i v18881), ∀ (k0_h1 : k0_cond1 i = 1#1), ∀ a, (k0_off361 v18881) a + S1x16x128.size a ≤ S16384x16x128.size a := fun i v18881 k0_hw361 k0_h1 => k0_hw361 k0_h1

def k0_off362 (v18887 : BitVec 32) : Fin 3 → Nat :=
  let c0_i32_17538 : BitVec 32 := 0#32
  let c0_i32_17539 : BitVec 32 := 0#32
  ![v18887.toNat, 0, 0]

def k0_chk362 (i : grid0.Coords) (v18887 : BitVec 32) : Prop :=
  (∀ (k0_h1 : k0_cond1 i = 1#1), ∀ a, (k0_off362 v18887) a + S1x16x128.size a ≤ S16384x16x128.size a)
theorem k0_off362_inb : ∀ (i : grid0.Coords) (v18887 : BitVec 32) (k0_hw362 : k0_chk362 i v18887), ∀ (k0_h1 : k0_cond1 i = 1#1), ∀ a, (k0_off362 v18887) a + S1x16x128.size a ≤ S16384x16x128.size a := fun i v18887 k0_hw362 k0_h1 => k0_hw362 k0_h1

def k0_off363 (v18893 : BitVec 32) : Fin 3 → Nat :=
  let c0_i32_17545 : BitVec 32 := 0#32
  let c0_i32_17546 : BitVec 32 := 0#32
  ![v18893.toNat, 0, 0]

def k0_chk363 (i : grid0.Coords) (v18893 : BitVec 32) : Prop :=
  (∀ (k0_h1 : k0_cond1 i = 1#1), ∀ a, (k0_off363 v18893) a + S1x16x128.size a ≤ S16384x16x128.size a)
theorem k0_off363_inb : ∀ (i : grid0.Coords) (v18893 : BitVec 32) (k0_hw363 : k0_chk363 i v18893), ∀ (k0_h1 : k0_cond1 i = 1#1), ∀ a, (k0_off363 v18893) a + S1x16x128.size a ≤ S16384x16x128.size a := fun i v18893 k0_hw363 k0_h1 => k0_hw363 k0_h1

def k0_off364 (v18899 : BitVec 32) : Fin 3 → Nat :=
  let c0_i32_17552 : BitVec 32 := 0#32
  let c0_i32_17553 : BitVec 32 := 0#32
  ![v18899.toNat, 0, 0]

def k0_chk364 (i : grid0.Coords) (v18899 : BitVec 32) : Prop :=
  (∀ (k0_h1 : k0_cond1 i = 1#1), ∀ a, (k0_off364 v18899) a + S1x16x128.size a ≤ S16384x16x128.size a)
theorem k0_off364_inb : ∀ (i : grid0.Coords) (v18899 : BitVec 32) (k0_hw364 : k0_chk364 i v18899), ∀ (k0_h1 : k0_cond1 i = 1#1), ∀ a, (k0_off364 v18899) a + S1x16x128.size a ≤ S16384x16x128.size a := fun i v18899 k0_hw364 k0_h1 => k0_hw364 k0_h1

def k0_off365 (v18905 : BitVec 32) : Fin 3 → Nat :=
  let c0_i32_17559 : BitVec 32 := 0#32
  let c0_i32_17560 : BitVec 32 := 0#32
  ![v18905.toNat, 0, 0]

def k0_chk365 (i : grid0.Coords) (v18905 : BitVec 32) : Prop :=
  (∀ (k0_h1 : k0_cond1 i = 1#1), ∀ a, (k0_off365 v18905) a + S1x16x128.size a ≤ S16384x16x128.size a)
theorem k0_off365_inb : ∀ (i : grid0.Coords) (v18905 : BitVec 32) (k0_hw365 : k0_chk365 i v18905), ∀ (k0_h1 : k0_cond1 i = 1#1), ∀ a, (k0_off365 v18905) a + S1x16x128.size a ≤ S16384x16x128.size a := fun i v18905 k0_hw365 k0_h1 => k0_hw365 k0_h1

def k0_off366 (v18911 : BitVec 32) : Fin 3 → Nat :=
  let c0_i32_17566 : BitVec 32 := 0#32
  let c0_i32_17567 : BitVec 32 := 0#32
  ![v18911.toNat, 0, 0]

def k0_chk366 (i : grid0.Coords) (v18911 : BitVec 32) : Prop :=
  (∀ (k0_h1 : k0_cond1 i = 1#1), ∀ a, (k0_off366 v18911) a + S1x16x128.size a ≤ S16384x16x128.size a)
theorem k0_off366_inb : ∀ (i : grid0.Coords) (v18911 : BitVec 32) (k0_hw366 : k0_chk366 i v18911), ∀ (k0_h1 : k0_cond1 i = 1#1), ∀ a, (k0_off366 v18911) a + S1x16x128.size a ≤ S16384x16x128.size a := fun i v18911 k0_hw366 k0_h1 => k0_hw366 k0_h1

def k0_off367 (v18917 : BitVec 32) : Fin 3 → Nat :=
  let c0_i32_17573 : BitVec 32 := 0#32
  let c0_i32_17574 : BitVec 32 := 0#32
  ![v18917.toNat, 0, 0]

def k0_chk367 (i : grid0.Coords) (v18917 : BitVec 32) : Prop :=
  (∀ (k0_h1 : k0_cond1 i = 1#1), ∀ a, (k0_off367 v18917) a + S1x16x128.size a ≤ S16384x16x128.size a)
theorem k0_off367_inb : ∀ (i : grid0.Coords) (v18917 : BitVec 32) (k0_hw367 : k0_chk367 i v18917), ∀ (k0_h1 : k0_cond1 i = 1#1), ∀ a, (k0_off367 v18917) a + S1x16x128.size a ≤ S16384x16x128.size a := fun i v18917 k0_hw367 k0_h1 => k0_hw367 k0_h1

def k0_off368 (v18923 : BitVec 32) : Fin 3 → Nat :=
  let c0_i32_17580 : BitVec 32 := 0#32
  let c0_i32_17581 : BitVec 32 := 0#32
  ![v18923.toNat, 0, 0]

def k0_chk368 (i : grid0.Coords) (v18923 : BitVec 32) : Prop :=
  (∀ (k0_h1 : k0_cond1 i = 1#1), ∀ a, (k0_off368 v18923) a + S1x16x128.size a ≤ S16384x16x128.size a)
theorem k0_off368_inb : ∀ (i : grid0.Coords) (v18923 : BitVec 32) (k0_hw368 : k0_chk368 i v18923), ∀ (k0_h1 : k0_cond1 i = 1#1), ∀ a, (k0_off368 v18923) a + S1x16x128.size a ≤ S16384x16x128.size a := fun i v18923 k0_hw368 k0_h1 => k0_hw368 k0_h1

def k0_off369 (v18929 : BitVec 32) : Fin 3 → Nat :=
  let c0_i32_17587 : BitVec 32 := 0#32
  let c0_i32_17588 : BitVec 32 := 0#32
  ![v18929.toNat, 0, 0]

def k0_chk369 (i : grid0.Coords) (v18929 : BitVec 32) : Prop :=
  (∀ (k0_h1 : k0_cond1 i = 1#1), ∀ a, (k0_off369 v18929) a + S1x16x128.size a ≤ S16384x16x128.size a)
theorem k0_off369_inb : ∀ (i : grid0.Coords) (v18929 : BitVec 32) (k0_hw369 : k0_chk369 i v18929), ∀ (k0_h1 : k0_cond1 i = 1#1), ∀ a, (k0_off369 v18929) a + S1x16x128.size a ≤ S16384x16x128.size a := fun i v18929 k0_hw369 k0_h1 => k0_hw369 k0_h1

def k0_off370 (v18935 : BitVec 32) : Fin 3 → Nat :=
  let c0_i32_17594 : BitVec 32 := 0#32
  let c0_i32_17595 : BitVec 32 := 0#32
  ![v18935.toNat, 0, 0]

def k0_chk370 (i : grid0.Coords) (v18935 : BitVec 32) : Prop :=
  (∀ (k0_h1 : k0_cond1 i = 1#1), ∀ a, (k0_off370 v18935) a + S1x16x128.size a ≤ S16384x16x128.size a)
theorem k0_off370_inb : ∀ (i : grid0.Coords) (v18935 : BitVec 32) (k0_hw370 : k0_chk370 i v18935), ∀ (k0_h1 : k0_cond1 i = 1#1), ∀ a, (k0_off370 v18935) a + S1x16x128.size a ≤ S16384x16x128.size a := fun i v18935 k0_hw370 k0_h1 => k0_hw370 k0_h1

def k0_off371 (v18941 : BitVec 32) : Fin 3 → Nat :=
  let c0_i32_17601 : BitVec 32 := 0#32
  let c0_i32_17602 : BitVec 32 := 0#32
  ![v18941.toNat, 0, 0]

def k0_chk371 (i : grid0.Coords) (v18941 : BitVec 32) : Prop :=
  (∀ (k0_h1 : k0_cond1 i = 1#1), ∀ a, (k0_off371 v18941) a + S1x16x128.size a ≤ S16384x16x128.size a)
theorem k0_off371_inb : ∀ (i : grid0.Coords) (v18941 : BitVec 32) (k0_hw371 : k0_chk371 i v18941), ∀ (k0_h1 : k0_cond1 i = 1#1), ∀ a, (k0_off371 v18941) a + S1x16x128.size a ≤ S16384x16x128.size a := fun i v18941 k0_hw371 k0_h1 => k0_hw371 k0_h1

def k0_off372 (v18947 : BitVec 32) : Fin 3 → Nat :=
  let c0_i32_17608 : BitVec 32 := 0#32
  let c0_i32_17609 : BitVec 32 := 0#32
  ![v18947.toNat, 0, 0]

def k0_chk372 (i : grid0.Coords) (v18947 : BitVec 32) : Prop :=
  (∀ (k0_h1 : k0_cond1 i = 1#1), ∀ a, (k0_off372 v18947) a + S1x16x128.size a ≤ S16384x16x128.size a)
theorem k0_off372_inb : ∀ (i : grid0.Coords) (v18947 : BitVec 32) (k0_hw372 : k0_chk372 i v18947), ∀ (k0_h1 : k0_cond1 i = 1#1), ∀ a, (k0_off372 v18947) a + S1x16x128.size a ≤ S16384x16x128.size a := fun i v18947 k0_hw372 k0_h1 => k0_hw372 k0_h1

def k0_off373 (v18953 : BitVec 32) : Fin 3 → Nat :=
  let c0_i32_17615 : BitVec 32 := 0#32
  let c0_i32_17616 : BitVec 32 := 0#32
  ![v18953.toNat, 0, 0]

def k0_chk373 (i : grid0.Coords) (v18953 : BitVec 32) : Prop :=
  (∀ (k0_h1 : k0_cond1 i = 1#1), ∀ a, (k0_off373 v18953) a + S1x16x128.size a ≤ S16384x16x128.size a)
theorem k0_off373_inb : ∀ (i : grid0.Coords) (v18953 : BitVec 32) (k0_hw373 : k0_chk373 i v18953), ∀ (k0_h1 : k0_cond1 i = 1#1), ∀ a, (k0_off373 v18953) a + S1x16x128.size a ≤ S16384x16x128.size a := fun i v18953 k0_hw373 k0_h1 => k0_hw373 k0_h1

def k0_off374 (v18959 : BitVec 32) : Fin 3 → Nat :=
  let c0_i32_17622 : BitVec 32 := 0#32
  let c0_i32_17623 : BitVec 32 := 0#32
  ![v18959.toNat, 0, 0]

def k0_chk374 (i : grid0.Coords) (v18959 : BitVec 32) : Prop :=
  (∀ (k0_h1 : k0_cond1 i = 1#1), ∀ a, (k0_off374 v18959) a + S1x16x128.size a ≤ S16384x16x128.size a)
theorem k0_off374_inb : ∀ (i : grid0.Coords) (v18959 : BitVec 32) (k0_hw374 : k0_chk374 i v18959), ∀ (k0_h1 : k0_cond1 i = 1#1), ∀ a, (k0_off374 v18959) a + S1x16x128.size a ≤ S16384x16x128.size a := fun i v18959 k0_hw374 k0_h1 => k0_hw374 k0_h1

def k0_off375 (v18965 : BitVec 32) : Fin 3 → Nat :=
  let c0_i32_17629 : BitVec 32 := 0#32
  let c0_i32_17630 : BitVec 32 := 0#32
  ![v18965.toNat, 0, 0]

def k0_chk375 (i : grid0.Coords) (v18965 : BitVec 32) : Prop :=
  (∀ (k0_h1 : k0_cond1 i = 1#1), ∀ a, (k0_off375 v18965) a + S1x16x128.size a ≤ S16384x16x128.size a)
theorem k0_off375_inb : ∀ (i : grid0.Coords) (v18965 : BitVec 32) (k0_hw375 : k0_chk375 i v18965), ∀ (k0_h1 : k0_cond1 i = 1#1), ∀ a, (k0_off375 v18965) a + S1x16x128.size a ≤ S16384x16x128.size a := fun i v18965 k0_hw375 k0_h1 => k0_hw375 k0_h1

def k0_off376 (v18971 : BitVec 32) : Fin 3 → Nat :=
  let c0_i32_17636 : BitVec 32 := 0#32
  let c0_i32_17637 : BitVec 32 := 0#32
  ![v18971.toNat, 0, 0]

def k0_chk376 (i : grid0.Coords) (v18971 : BitVec 32) : Prop :=
  (∀ (k0_h1 : k0_cond1 i = 1#1), ∀ a, (k0_off376 v18971) a + S1x16x128.size a ≤ S16384x16x128.size a)
theorem k0_off376_inb : ∀ (i : grid0.Coords) (v18971 : BitVec 32) (k0_hw376 : k0_chk376 i v18971), ∀ (k0_h1 : k0_cond1 i = 1#1), ∀ a, (k0_off376 v18971) a + S1x16x128.size a ≤ S16384x16x128.size a := fun i v18971 k0_hw376 k0_h1 => k0_hw376 k0_h1

def k0_off377 (v18977 : BitVec 32) : Fin 3 → Nat :=
  let c0_i32_17643 : BitVec 32 := 0#32
  let c0_i32_17644 : BitVec 32 := 0#32
  ![v18977.toNat, 0, 0]

def k0_chk377 (i : grid0.Coords) (v18977 : BitVec 32) : Prop :=
  (∀ (k0_h1 : k0_cond1 i = 1#1), ∀ a, (k0_off377 v18977) a + S1x16x128.size a ≤ S16384x16x128.size a)
theorem k0_off377_inb : ∀ (i : grid0.Coords) (v18977 : BitVec 32) (k0_hw377 : k0_chk377 i v18977), ∀ (k0_h1 : k0_cond1 i = 1#1), ∀ a, (k0_off377 v18977) a + S1x16x128.size a ≤ S16384x16x128.size a := fun i v18977 k0_hw377 k0_h1 => k0_hw377 k0_h1

def k0_off378 (v18983 : BitVec 32) : Fin 3 → Nat :=
  let c0_i32_17650 : BitVec 32 := 0#32
  let c0_i32_17651 : BitVec 32 := 0#32
  ![v18983.toNat, 0, 0]

def k0_chk378 (i : grid0.Coords) (v18983 : BitVec 32) : Prop :=
  (∀ (k0_h1 : k0_cond1 i = 1#1), ∀ a, (k0_off378 v18983) a + S1x16x128.size a ≤ S16384x16x128.size a)
theorem k0_off378_inb : ∀ (i : grid0.Coords) (v18983 : BitVec 32) (k0_hw378 : k0_chk378 i v18983), ∀ (k0_h1 : k0_cond1 i = 1#1), ∀ a, (k0_off378 v18983) a + S1x16x128.size a ≤ S16384x16x128.size a := fun i v18983 k0_hw378 k0_h1 => k0_hw378 k0_h1

def k0_off379 (v18989 : BitVec 32) : Fin 3 → Nat :=
  let c0_i32_17657 : BitVec 32 := 0#32
  let c0_i32_17658 : BitVec 32 := 0#32
  ![v18989.toNat, 0, 0]

def k0_chk379 (i : grid0.Coords) (v18989 : BitVec 32) : Prop :=
  (∀ (k0_h1 : k0_cond1 i = 1#1), ∀ a, (k0_off379 v18989) a + S1x16x128.size a ≤ S16384x16x128.size a)
theorem k0_off379_inb : ∀ (i : grid0.Coords) (v18989 : BitVec 32) (k0_hw379 : k0_chk379 i v18989), ∀ (k0_h1 : k0_cond1 i = 1#1), ∀ a, (k0_off379 v18989) a + S1x16x128.size a ≤ S16384x16x128.size a := fun i v18989 k0_hw379 k0_h1 => k0_hw379 k0_h1

def k0_off380 (v18995 : BitVec 32) : Fin 3 → Nat :=
  let c0_i32_17664 : BitVec 32 := 0#32
  let c0_i32_17665 : BitVec 32 := 0#32
  ![v18995.toNat, 0, 0]

def k0_chk380 (i : grid0.Coords) (v18995 : BitVec 32) : Prop :=
  (∀ (k0_h1 : k0_cond1 i = 1#1), ∀ a, (k0_off380 v18995) a + S1x16x128.size a ≤ S16384x16x128.size a)
theorem k0_off380_inb : ∀ (i : grid0.Coords) (v18995 : BitVec 32) (k0_hw380 : k0_chk380 i v18995), ∀ (k0_h1 : k0_cond1 i = 1#1), ∀ a, (k0_off380 v18995) a + S1x16x128.size a ≤ S16384x16x128.size a := fun i v18995 k0_hw380 k0_h1 => k0_hw380 k0_h1

def k0_off381 (v19001 : BitVec 32) : Fin 3 → Nat :=
  let c0_i32_17671 : BitVec 32 := 0#32
  let c0_i32_17672 : BitVec 32 := 0#32
  ![v19001.toNat, 0, 0]

def k0_chk381 (i : grid0.Coords) (v19001 : BitVec 32) : Prop :=
  (∀ (k0_h1 : k0_cond1 i = 1#1), ∀ a, (k0_off381 v19001) a + S1x16x128.size a ≤ S16384x16x128.size a)
theorem k0_off381_inb : ∀ (i : grid0.Coords) (v19001 : BitVec 32) (k0_hw381 : k0_chk381 i v19001), ∀ (k0_h1 : k0_cond1 i = 1#1), ∀ a, (k0_off381 v19001) a + S1x16x128.size a ≤ S16384x16x128.size a := fun i v19001 k0_hw381 k0_h1 => k0_hw381 k0_h1

def k0_off382 (v19007 : BitVec 32) : Fin 3 → Nat :=
  let c0_i32_17678 : BitVec 32 := 0#32
  let c0_i32_17679 : BitVec 32 := 0#32
  ![v19007.toNat, 0, 0]

def k0_chk382 (i : grid0.Coords) (v19007 : BitVec 32) : Prop :=
  (∀ (k0_h1 : k0_cond1 i = 1#1), ∀ a, (k0_off382 v19007) a + S1x16x128.size a ≤ S16384x16x128.size a)
theorem k0_off382_inb : ∀ (i : grid0.Coords) (v19007 : BitVec 32) (k0_hw382 : k0_chk382 i v19007), ∀ (k0_h1 : k0_cond1 i = 1#1), ∀ a, (k0_off382 v19007) a + S1x16x128.size a ≤ S16384x16x128.size a := fun i v19007 k0_hw382 k0_h1 => k0_hw382 k0_h1

def k0_off383 (v19013 : BitVec 32) : Fin 3 → Nat :=
  let c0_i32_17685 : BitVec 32 := 0#32
  let c0_i32_17686 : BitVec 32 := 0#32
  ![v19013.toNat, 0, 0]

def k0_chk383 (i : grid0.Coords) (v19013 : BitVec 32) : Prop :=
  (∀ (k0_h1 : k0_cond1 i = 1#1), ∀ a, (k0_off383 v19013) a + S1x16x128.size a ≤ S16384x16x128.size a)
theorem k0_off383_inb : ∀ (i : grid0.Coords) (v19013 : BitVec 32) (k0_hw383 : k0_chk383 i v19013), ∀ (k0_h1 : k0_cond1 i = 1#1), ∀ a, (k0_off383 v19013) a + S1x16x128.size a ≤ S16384x16x128.size a := fun i v19013 k0_hw383 k0_h1 => k0_hw383 k0_h1

def k0_off384 (v19019 : BitVec 32) : Fin 3 → Nat :=
  let c0_i32_17692 : BitVec 32 := 0#32
  let c0_i32_17693 : BitVec 32 := 0#32
  ![v19019.toNat, 0, 0]

def k0_chk384 (i : grid0.Coords) (v19019 : BitVec 32) : Prop :=
  (∀ (k0_h1 : k0_cond1 i = 1#1), ∀ a, (k0_off384 v19019) a + S1x16x128.size a ≤ S16384x16x128.size a)
theorem k0_off384_inb : ∀ (i : grid0.Coords) (v19019 : BitVec 32) (k0_hw384 : k0_chk384 i v19019), ∀ (k0_h1 : k0_cond1 i = 1#1), ∀ a, (k0_off384 v19019) a + S1x16x128.size a ≤ S16384x16x128.size a := fun i v19019 k0_hw384 k0_h1 => k0_hw384 k0_h1

def k0_off385 (v19025 : BitVec 32) : Fin 3 → Nat :=
  let c0_i32_17699 : BitVec 32 := 0#32
  let c0_i32_17700 : BitVec 32 := 0#32
  ![v19025.toNat, 0, 0]

def k0_chk385 (i : grid0.Coords) (v19025 : BitVec 32) : Prop :=
  (∀ (k0_h1 : k0_cond1 i = 1#1), ∀ a, (k0_off385 v19025) a + S1x16x128.size a ≤ S16384x16x128.size a)
theorem k0_off385_inb : ∀ (i : grid0.Coords) (v19025 : BitVec 32) (k0_hw385 : k0_chk385 i v19025), ∀ (k0_h1 : k0_cond1 i = 1#1), ∀ a, (k0_off385 v19025) a + S1x16x128.size a ≤ S16384x16x128.size a := fun i v19025 k0_hw385 k0_h1 => k0_hw385 k0_h1

def k0_off386 (v19031 : BitVec 32) : Fin 3 → Nat :=
  let c0_i32_17706 : BitVec 32 := 0#32
  let c0_i32_17707 : BitVec 32 := 0#32
  ![v19031.toNat, 0, 0]

def k0_chk386 (i : grid0.Coords) (v19031 : BitVec 32) : Prop :=
  (∀ (k0_h1 : k0_cond1 i = 1#1), ∀ a, (k0_off386 v19031) a + S1x16x128.size a ≤ S16384x16x128.size a)
theorem k0_off386_inb : ∀ (i : grid0.Coords) (v19031 : BitVec 32) (k0_hw386 : k0_chk386 i v19031), ∀ (k0_h1 : k0_cond1 i = 1#1), ∀ a, (k0_off386 v19031) a + S1x16x128.size a ≤ S16384x16x128.size a := fun i v19031 k0_hw386 k0_h1 => k0_hw386 k0_h1

def k0_off387 (v19037 : BitVec 32) : Fin 3 → Nat :=
  let c0_i32_17713 : BitVec 32 := 0#32
  let c0_i32_17714 : BitVec 32 := 0#32
  ![v19037.toNat, 0, 0]

def k0_chk387 (i : grid0.Coords) (v19037 : BitVec 32) : Prop :=
  (∀ (k0_h1 : k0_cond1 i = 1#1), ∀ a, (k0_off387 v19037) a + S1x16x128.size a ≤ S16384x16x128.size a)
theorem k0_off387_inb : ∀ (i : grid0.Coords) (v19037 : BitVec 32) (k0_hw387 : k0_chk387 i v19037), ∀ (k0_h1 : k0_cond1 i = 1#1), ∀ a, (k0_off387 v19037) a + S1x16x128.size a ≤ S16384x16x128.size a := fun i v19037 k0_hw387 k0_h1 => k0_hw387 k0_h1

def k0_off388 (v19043 : BitVec 32) : Fin 3 → Nat :=
  let c0_i32_17720 : BitVec 32 := 0#32
  let c0_i32_17721 : BitVec 32 := 0#32
  ![v19043.toNat, 0, 0]

def k0_chk388 (i : grid0.Coords) (v19043 : BitVec 32) : Prop :=
  (∀ (k0_h1 : k0_cond1 i = 1#1), ∀ a, (k0_off388 v19043) a + S1x16x128.size a ≤ S16384x16x128.size a)
theorem k0_off388_inb : ∀ (i : grid0.Coords) (v19043 : BitVec 32) (k0_hw388 : k0_chk388 i v19043), ∀ (k0_h1 : k0_cond1 i = 1#1), ∀ a, (k0_off388 v19043) a + S1x16x128.size a ≤ S16384x16x128.size a := fun i v19043 k0_hw388 k0_h1 => k0_hw388 k0_h1

def k0_off389 (v19049 : BitVec 32) : Fin 3 → Nat :=
  let c0_i32_17727 : BitVec 32 := 0#32
  let c0_i32_17728 : BitVec 32 := 0#32
  ![v19049.toNat, 0, 0]

def k0_chk389 (i : grid0.Coords) (v19049 : BitVec 32) : Prop :=
  (∀ (k0_h1 : k0_cond1 i = 1#1), ∀ a, (k0_off389 v19049) a + S1x16x128.size a ≤ S16384x16x128.size a)
theorem k0_off389_inb : ∀ (i : grid0.Coords) (v19049 : BitVec 32) (k0_hw389 : k0_chk389 i v19049), ∀ (k0_h1 : k0_cond1 i = 1#1), ∀ a, (k0_off389 v19049) a + S1x16x128.size a ≤ S16384x16x128.size a := fun i v19049 k0_hw389 k0_h1 => k0_hw389 k0_h1

def k0_off390 (v19055 : BitVec 32) : Fin 3 → Nat :=
  let c0_i32_17734 : BitVec 32 := 0#32
  let c0_i32_17735 : BitVec 32 := 0#32
  ![v19055.toNat, 0, 0]

def k0_chk390 (i : grid0.Coords) (v19055 : BitVec 32) : Prop :=
  (∀ (k0_h1 : k0_cond1 i = 1#1), ∀ a, (k0_off390 v19055) a + S1x16x128.size a ≤ S16384x16x128.size a)
theorem k0_off390_inb : ∀ (i : grid0.Coords) (v19055 : BitVec 32) (k0_hw390 : k0_chk390 i v19055), ∀ (k0_h1 : k0_cond1 i = 1#1), ∀ a, (k0_off390 v19055) a + S1x16x128.size a ≤ S16384x16x128.size a := fun i v19055 k0_hw390 k0_h1 => k0_hw390 k0_h1

def k0_off391 (v19061 : BitVec 32) : Fin 3 → Nat :=
  let c0_i32_17741 : BitVec 32 := 0#32
  let c0_i32_17742 : BitVec 32 := 0#32
  ![v19061.toNat, 0, 0]

def k0_chk391 (i : grid0.Coords) (v19061 : BitVec 32) : Prop :=
  (∀ (k0_h1 : k0_cond1 i = 1#1), ∀ a, (k0_off391 v19061) a + S1x16x128.size a ≤ S16384x16x128.size a)
theorem k0_off391_inb : ∀ (i : grid0.Coords) (v19061 : BitVec 32) (k0_hw391 : k0_chk391 i v19061), ∀ (k0_h1 : k0_cond1 i = 1#1), ∀ a, (k0_off391 v19061) a + S1x16x128.size a ≤ S16384x16x128.size a := fun i v19061 k0_hw391 k0_h1 => k0_hw391 k0_h1

def k0_off392 (v19067 : BitVec 32) : Fin 3 → Nat :=
  let c0_i32_17748 : BitVec 32 := 0#32
  let c0_i32_17749 : BitVec 32 := 0#32
  ![v19067.toNat, 0, 0]

def k0_chk392 (i : grid0.Coords) (v19067 : BitVec 32) : Prop :=
  (∀ (k0_h1 : k0_cond1 i = 1#1), ∀ a, (k0_off392 v19067) a + S1x16x128.size a ≤ S16384x16x128.size a)
theorem k0_off392_inb : ∀ (i : grid0.Coords) (v19067 : BitVec 32) (k0_hw392 : k0_chk392 i v19067), ∀ (k0_h1 : k0_cond1 i = 1#1), ∀ a, (k0_off392 v19067) a + S1x16x128.size a ≤ S16384x16x128.size a := fun i v19067 k0_hw392 k0_h1 => k0_hw392 k0_h1

def k0_off393 (v19073 : BitVec 32) : Fin 3 → Nat :=
  let c0_i32_17755 : BitVec 32 := 0#32
  let c0_i32_17756 : BitVec 32 := 0#32
  ![v19073.toNat, 0, 0]

def k0_chk393 (i : grid0.Coords) (v19073 : BitVec 32) : Prop :=
  (∀ (k0_h1 : k0_cond1 i = 1#1), ∀ a, (k0_off393 v19073) a + S1x16x128.size a ≤ S16384x16x128.size a)
theorem k0_off393_inb : ∀ (i : grid0.Coords) (v19073 : BitVec 32) (k0_hw393 : k0_chk393 i v19073), ∀ (k0_h1 : k0_cond1 i = 1#1), ∀ a, (k0_off393 v19073) a + S1x16x128.size a ≤ S16384x16x128.size a := fun i v19073 k0_hw393 k0_h1 => k0_hw393 k0_h1

def k0_off394 (v19079 : BitVec 32) : Fin 3 → Nat :=
  let c0_i32_17762 : BitVec 32 := 0#32
  let c0_i32_17763 : BitVec 32 := 0#32
  ![v19079.toNat, 0, 0]

def k0_chk394 (i : grid0.Coords) (v19079 : BitVec 32) : Prop :=
  (∀ (k0_h1 : k0_cond1 i = 1#1), ∀ a, (k0_off394 v19079) a + S1x16x128.size a ≤ S16384x16x128.size a)
theorem k0_off394_inb : ∀ (i : grid0.Coords) (v19079 : BitVec 32) (k0_hw394 : k0_chk394 i v19079), ∀ (k0_h1 : k0_cond1 i = 1#1), ∀ a, (k0_off394 v19079) a + S1x16x128.size a ≤ S16384x16x128.size a := fun i v19079 k0_hw394 k0_h1 => k0_hw394 k0_h1

def k0_off395 (v19085 : BitVec 32) : Fin 3 → Nat :=
  let c0_i32_17769 : BitVec 32 := 0#32
  let c0_i32_17770 : BitVec 32 := 0#32
  ![v19085.toNat, 0, 0]

def k0_chk395 (i : grid0.Coords) (v19085 : BitVec 32) : Prop :=
  (∀ (k0_h1 : k0_cond1 i = 1#1), ∀ a, (k0_off395 v19085) a + S1x16x128.size a ≤ S16384x16x128.size a)
theorem k0_off395_inb : ∀ (i : grid0.Coords) (v19085 : BitVec 32) (k0_hw395 : k0_chk395 i v19085), ∀ (k0_h1 : k0_cond1 i = 1#1), ∀ a, (k0_off395 v19085) a + S1x16x128.size a ≤ S16384x16x128.size a := fun i v19085 k0_hw395 k0_h1 => k0_hw395 k0_h1

def k0_off396 (v19091 : BitVec 32) : Fin 3 → Nat :=
  let c0_i32_17776 : BitVec 32 := 0#32
  let c0_i32_17777 : BitVec 32 := 0#32
  ![v19091.toNat, 0, 0]

def k0_chk396 (i : grid0.Coords) (v19091 : BitVec 32) : Prop :=
  (∀ (k0_h1 : k0_cond1 i = 1#1), ∀ a, (k0_off396 v19091) a + S1x16x128.size a ≤ S16384x16x128.size a)
theorem k0_off396_inb : ∀ (i : grid0.Coords) (v19091 : BitVec 32) (k0_hw396 : k0_chk396 i v19091), ∀ (k0_h1 : k0_cond1 i = 1#1), ∀ a, (k0_off396 v19091) a + S1x16x128.size a ≤ S16384x16x128.size a := fun i v19091 k0_hw396 k0_h1 => k0_hw396 k0_h1

def k0_off397 (v19097 : BitVec 32) : Fin 3 → Nat :=
  let c0_i32_17783 : BitVec 32 := 0#32
  let c0_i32_17784 : BitVec 32 := 0#32
  ![v19097.toNat, 0, 0]

def k0_chk397 (i : grid0.Coords) (v19097 : BitVec 32) : Prop :=
  (∀ (k0_h1 : k0_cond1 i = 1#1), ∀ a, (k0_off397 v19097) a + S1x16x128.size a ≤ S16384x16x128.size a)
theorem k0_off397_inb : ∀ (i : grid0.Coords) (v19097 : BitVec 32) (k0_hw397 : k0_chk397 i v19097), ∀ (k0_h1 : k0_cond1 i = 1#1), ∀ a, (k0_off397 v19097) a + S1x16x128.size a ≤ S16384x16x128.size a := fun i v19097 k0_hw397 k0_h1 => k0_hw397 k0_h1

def k0_off398 (v19103 : BitVec 32) : Fin 3 → Nat :=
  let c0_i32_17790 : BitVec 32 := 0#32
  let c0_i32_17791 : BitVec 32 := 0#32
  ![v19103.toNat, 0, 0]

def k0_chk398 (i : grid0.Coords) (v19103 : BitVec 32) : Prop :=
  (∀ (k0_h1 : k0_cond1 i = 1#1), ∀ a, (k0_off398 v19103) a + S1x16x128.size a ≤ S16384x16x128.size a)
theorem k0_off398_inb : ∀ (i : grid0.Coords) (v19103 : BitVec 32) (k0_hw398 : k0_chk398 i v19103), ∀ (k0_h1 : k0_cond1 i = 1#1), ∀ a, (k0_off398 v19103) a + S1x16x128.size a ≤ S16384x16x128.size a := fun i v19103 k0_hw398 k0_h1 => k0_hw398 k0_h1

def k0_off399 (v19109 : BitVec 32) : Fin 3 → Nat :=
  let c0_i32_17797 : BitVec 32 := 0#32
  let c0_i32_17798 : BitVec 32 := 0#32
  ![v19109.toNat, 0, 0]

def k0_chk399 (i : grid0.Coords) (v19109 : BitVec 32) : Prop :=
  (∀ (k0_h1 : k0_cond1 i = 1#1), ∀ a, (k0_off399 v19109) a + S1x16x128.size a ≤ S16384x16x128.size a)
theorem k0_off399_inb : ∀ (i : grid0.Coords) (v19109 : BitVec 32) (k0_hw399 : k0_chk399 i v19109), ∀ (k0_h1 : k0_cond1 i = 1#1), ∀ a, (k0_off399 v19109) a + S1x16x128.size a ≤ S16384x16x128.size a := fun i v19109 k0_hw399 k0_h1 => k0_hw399 k0_h1

def k0_off400 (v19115 : BitVec 32) : Fin 3 → Nat :=
  let c0_i32_17804 : BitVec 32 := 0#32
  let c0_i32_17805 : BitVec 32 := 0#32
  ![v19115.toNat, 0, 0]

def k0_chk400 (i : grid0.Coords) (v19115 : BitVec 32) : Prop :=
  (∀ (k0_h1 : k0_cond1 i = 1#1), ∀ a, (k0_off400 v19115) a + S1x16x128.size a ≤ S16384x16x128.size a)
theorem k0_off400_inb : ∀ (i : grid0.Coords) (v19115 : BitVec 32) (k0_hw400 : k0_chk400 i v19115), ∀ (k0_h1 : k0_cond1 i = 1#1), ∀ a, (k0_off400 v19115) a + S1x16x128.size a ≤ S16384x16x128.size a := fun i v19115 k0_hw400 k0_h1 => k0_hw400 k0_h1

def k0_off401 (v19121 : BitVec 32) : Fin 3 → Nat :=
  let c0_i32_17811 : BitVec 32 := 0#32
  let c0_i32_17812 : BitVec 32 := 0#32
  ![v19121.toNat, 0, 0]

def k0_chk401 (i : grid0.Coords) (v19121 : BitVec 32) : Prop :=
  (∀ (k0_h1 : k0_cond1 i = 1#1), ∀ a, (k0_off401 v19121) a + S1x16x128.size a ≤ S16384x16x128.size a)
theorem k0_off401_inb : ∀ (i : grid0.Coords) (v19121 : BitVec 32) (k0_hw401 : k0_chk401 i v19121), ∀ (k0_h1 : k0_cond1 i = 1#1), ∀ a, (k0_off401 v19121) a + S1x16x128.size a ≤ S16384x16x128.size a := fun i v19121 k0_hw401 k0_h1 => k0_hw401 k0_h1

def k0_off402 (v19127 : BitVec 32) : Fin 3 → Nat :=
  let c0_i32_17818 : BitVec 32 := 0#32
  let c0_i32_17819 : BitVec 32 := 0#32
  ![v19127.toNat, 0, 0]

def k0_chk402 (i : grid0.Coords) (v19127 : BitVec 32) : Prop :=
  (∀ (k0_h1 : k0_cond1 i = 1#1), ∀ a, (k0_off402 v19127) a + S1x16x128.size a ≤ S16384x16x128.size a)
theorem k0_off402_inb : ∀ (i : grid0.Coords) (v19127 : BitVec 32) (k0_hw402 : k0_chk402 i v19127), ∀ (k0_h1 : k0_cond1 i = 1#1), ∀ a, (k0_off402 v19127) a + S1x16x128.size a ≤ S16384x16x128.size a := fun i v19127 k0_hw402 k0_h1 => k0_hw402 k0_h1

def k0_off403 (v19133 : BitVec 32) : Fin 3 → Nat :=
  let c0_i32_17825 : BitVec 32 := 0#32
  let c0_i32_17826 : BitVec 32 := 0#32
  ![v19133.toNat, 0, 0]

def k0_chk403 (i : grid0.Coords) (v19133 : BitVec 32) : Prop :=
  (∀ (k0_h1 : k0_cond1 i = 1#1), ∀ a, (k0_off403 v19133) a + S1x16x128.size a ≤ S16384x16x128.size a)
theorem k0_off403_inb : ∀ (i : grid0.Coords) (v19133 : BitVec 32) (k0_hw403 : k0_chk403 i v19133), ∀ (k0_h1 : k0_cond1 i = 1#1), ∀ a, (k0_off403 v19133) a + S1x16x128.size a ≤ S16384x16x128.size a := fun i v19133 k0_hw403 k0_h1 => k0_hw403 k0_h1

def k0_off404 (v19139 : BitVec 32) : Fin 3 → Nat :=
  let c0_i32_17832 : BitVec 32 := 0#32
  let c0_i32_17833 : BitVec 32 := 0#32
  ![v19139.toNat, 0, 0]

def k0_chk404 (i : grid0.Coords) (v19139 : BitVec 32) : Prop :=
  (∀ (k0_h1 : k0_cond1 i = 1#1), ∀ a, (k0_off404 v19139) a + S1x16x128.size a ≤ S16384x16x128.size a)
theorem k0_off404_inb : ∀ (i : grid0.Coords) (v19139 : BitVec 32) (k0_hw404 : k0_chk404 i v19139), ∀ (k0_h1 : k0_cond1 i = 1#1), ∀ a, (k0_off404 v19139) a + S1x16x128.size a ≤ S16384x16x128.size a := fun i v19139 k0_hw404 k0_h1 => k0_hw404 k0_h1

def k0_off405 (v19145 : BitVec 32) : Fin 3 → Nat :=
  let c0_i32_17839 : BitVec 32 := 0#32
  let c0_i32_17840 : BitVec 32 := 0#32
  ![v19145.toNat, 0, 0]

def k0_chk405 (i : grid0.Coords) (v19145 : BitVec 32) : Prop :=
  (∀ (k0_h1 : k0_cond1 i = 1#1), ∀ a, (k0_off405 v19145) a + S1x16x128.size a ≤ S16384x16x128.size a)
theorem k0_off405_inb : ∀ (i : grid0.Coords) (v19145 : BitVec 32) (k0_hw405 : k0_chk405 i v19145), ∀ (k0_h1 : k0_cond1 i = 1#1), ∀ a, (k0_off405 v19145) a + S1x16x128.size a ≤ S16384x16x128.size a := fun i v19145 k0_hw405 k0_h1 => k0_hw405 k0_h1

def k0_off406 (v19151 : BitVec 32) : Fin 3 → Nat :=
  let c0_i32_17846 : BitVec 32 := 0#32
  let c0_i32_17847 : BitVec 32 := 0#32
  ![v19151.toNat, 0, 0]

def k0_chk406 (i : grid0.Coords) (v19151 : BitVec 32) : Prop :=
  (∀ (k0_h1 : k0_cond1 i = 1#1), ∀ a, (k0_off406 v19151) a + S1x16x128.size a ≤ S16384x16x128.size a)
theorem k0_off406_inb : ∀ (i : grid0.Coords) (v19151 : BitVec 32) (k0_hw406 : k0_chk406 i v19151), ∀ (k0_h1 : k0_cond1 i = 1#1), ∀ a, (k0_off406 v19151) a + S1x16x128.size a ≤ S16384x16x128.size a := fun i v19151 k0_hw406 k0_h1 => k0_hw406 k0_h1

def k0_off407 (v19157 : BitVec 32) : Fin 3 → Nat :=
  let c0_i32_17853 : BitVec 32 := 0#32
  let c0_i32_17854 : BitVec 32 := 0#32
  ![v19157.toNat, 0, 0]

def k0_chk407 (i : grid0.Coords) (v19157 : BitVec 32) : Prop :=
  (∀ (k0_h1 : k0_cond1 i = 1#1), ∀ a, (k0_off407 v19157) a + S1x16x128.size a ≤ S16384x16x128.size a)
theorem k0_off407_inb : ∀ (i : grid0.Coords) (v19157 : BitVec 32) (k0_hw407 : k0_chk407 i v19157), ∀ (k0_h1 : k0_cond1 i = 1#1), ∀ a, (k0_off407 v19157) a + S1x16x128.size a ≤ S16384x16x128.size a := fun i v19157 k0_hw407 k0_h1 => k0_hw407 k0_h1

def k0_off408 (v19163 : BitVec 32) : Fin 3 → Nat :=
  let c0_i32_17860 : BitVec 32 := 0#32
  let c0_i32_17861 : BitVec 32 := 0#32
  ![v19163.toNat, 0, 0]

def k0_chk408 (i : grid0.Coords) (v19163 : BitVec 32) : Prop :=
  (∀ (k0_h1 : k0_cond1 i = 1#1), ∀ a, (k0_off408 v19163) a + S1x16x128.size a ≤ S16384x16x128.size a)
theorem k0_off408_inb : ∀ (i : grid0.Coords) (v19163 : BitVec 32) (k0_hw408 : k0_chk408 i v19163), ∀ (k0_h1 : k0_cond1 i = 1#1), ∀ a, (k0_off408 v19163) a + S1x16x128.size a ≤ S16384x16x128.size a := fun i v19163 k0_hw408 k0_h1 => k0_hw408 k0_h1

def k0_off409 (v19169 : BitVec 32) : Fin 3 → Nat :=
  let c0_i32_17867 : BitVec 32 := 0#32
  let c0_i32_17868 : BitVec 32 := 0#32
  ![v19169.toNat, 0, 0]

def k0_chk409 (i : grid0.Coords) (v19169 : BitVec 32) : Prop :=
  (∀ (k0_h1 : k0_cond1 i = 1#1), ∀ a, (k0_off409 v19169) a + S1x16x128.size a ≤ S16384x16x128.size a)
theorem k0_off409_inb : ∀ (i : grid0.Coords) (v19169 : BitVec 32) (k0_hw409 : k0_chk409 i v19169), ∀ (k0_h1 : k0_cond1 i = 1#1), ∀ a, (k0_off409 v19169) a + S1x16x128.size a ≤ S16384x16x128.size a := fun i v19169 k0_hw409 k0_h1 => k0_hw409 k0_h1

def k0_off410 (v19175 : BitVec 32) : Fin 3 → Nat :=
  let c0_i32_17874 : BitVec 32 := 0#32
  let c0_i32_17875 : BitVec 32 := 0#32
  ![v19175.toNat, 0, 0]

def k0_chk410 (i : grid0.Coords) (v19175 : BitVec 32) : Prop :=
  (∀ (k0_h1 : k0_cond1 i = 1#1), ∀ a, (k0_off410 v19175) a + S1x16x128.size a ≤ S16384x16x128.size a)
theorem k0_off410_inb : ∀ (i : grid0.Coords) (v19175 : BitVec 32) (k0_hw410 : k0_chk410 i v19175), ∀ (k0_h1 : k0_cond1 i = 1#1), ∀ a, (k0_off410 v19175) a + S1x16x128.size a ≤ S16384x16x128.size a := fun i v19175 k0_hw410 k0_h1 => k0_hw410 k0_h1

def k0_off411 (v19181 : BitVec 32) : Fin 3 → Nat :=
  let c0_i32_17881 : BitVec 32 := 0#32
  let c0_i32_17882 : BitVec 32 := 0#32
  ![v19181.toNat, 0, 0]

def k0_chk411 (i : grid0.Coords) (v19181 : BitVec 32) : Prop :=
  (∀ (k0_h1 : k0_cond1 i = 1#1), ∀ a, (k0_off411 v19181) a + S1x16x128.size a ≤ S16384x16x128.size a)
theorem k0_off411_inb : ∀ (i : grid0.Coords) (v19181 : BitVec 32) (k0_hw411 : k0_chk411 i v19181), ∀ (k0_h1 : k0_cond1 i = 1#1), ∀ a, (k0_off411 v19181) a + S1x16x128.size a ≤ S16384x16x128.size a := fun i v19181 k0_hw411 k0_h1 => k0_hw411 k0_h1

def k0_off412 (v19187 : BitVec 32) : Fin 3 → Nat :=
  let c0_i32_17888 : BitVec 32 := 0#32
  let c0_i32_17889 : BitVec 32 := 0#32
  ![v19187.toNat, 0, 0]

def k0_chk412 (i : grid0.Coords) (v19187 : BitVec 32) : Prop :=
  (∀ (k0_h1 : k0_cond1 i = 1#1), ∀ a, (k0_off412 v19187) a + S1x16x128.size a ≤ S16384x16x128.size a)
theorem k0_off412_inb : ∀ (i : grid0.Coords) (v19187 : BitVec 32) (k0_hw412 : k0_chk412 i v19187), ∀ (k0_h1 : k0_cond1 i = 1#1), ∀ a, (k0_off412 v19187) a + S1x16x128.size a ≤ S16384x16x128.size a := fun i v19187 k0_hw412 k0_h1 => k0_hw412 k0_h1

def k0_off413 (v19193 : BitVec 32) : Fin 3 → Nat :=
  let c0_i32_17895 : BitVec 32 := 0#32
  let c0_i32_17896 : BitVec 32 := 0#32
  ![v19193.toNat, 0, 0]

def k0_chk413 (i : grid0.Coords) (v19193 : BitVec 32) : Prop :=
  (∀ (k0_h1 : k0_cond1 i = 1#1), ∀ a, (k0_off413 v19193) a + S1x16x128.size a ≤ S16384x16x128.size a)
theorem k0_off413_inb : ∀ (i : grid0.Coords) (v19193 : BitVec 32) (k0_hw413 : k0_chk413 i v19193), ∀ (k0_h1 : k0_cond1 i = 1#1), ∀ a, (k0_off413 v19193) a + S1x16x128.size a ≤ S16384x16x128.size a := fun i v19193 k0_hw413 k0_h1 => k0_hw413 k0_h1

def k0_off414 (v19199 : BitVec 32) : Fin 3 → Nat :=
  let c0_i32_17902 : BitVec 32 := 0#32
  let c0_i32_17903 : BitVec 32 := 0#32
  ![v19199.toNat, 0, 0]

def k0_chk414 (i : grid0.Coords) (v19199 : BitVec 32) : Prop :=
  (∀ (k0_h1 : k0_cond1 i = 1#1), ∀ a, (k0_off414 v19199) a + S1x16x128.size a ≤ S16384x16x128.size a)
theorem k0_off414_inb : ∀ (i : grid0.Coords) (v19199 : BitVec 32) (k0_hw414 : k0_chk414 i v19199), ∀ (k0_h1 : k0_cond1 i = 1#1), ∀ a, (k0_off414 v19199) a + S1x16x128.size a ≤ S16384x16x128.size a := fun i v19199 k0_hw414 k0_h1 => k0_hw414 k0_h1

def k0_off415 (v19205 : BitVec 32) : Fin 3 → Nat :=
  let c0_i32_17909 : BitVec 32 := 0#32
  let c0_i32_17910 : BitVec 32 := 0#32
  ![v19205.toNat, 0, 0]

def k0_chk415 (i : grid0.Coords) (v19205 : BitVec 32) : Prop :=
  (∀ (k0_h1 : k0_cond1 i = 1#1), ∀ a, (k0_off415 v19205) a + S1x16x128.size a ≤ S16384x16x128.size a)
theorem k0_off415_inb : ∀ (i : grid0.Coords) (v19205 : BitVec 32) (k0_hw415 : k0_chk415 i v19205), ∀ (k0_h1 : k0_cond1 i = 1#1), ∀ a, (k0_off415 v19205) a + S1x16x128.size a ≤ S16384x16x128.size a := fun i v19205 k0_hw415 k0_h1 => k0_hw415 k0_h1

def k0_off416 (v19211 : BitVec 32) : Fin 3 → Nat :=
  let c0_i32_17916 : BitVec 32 := 0#32
  let c0_i32_17917 : BitVec 32 := 0#32
  ![v19211.toNat, 0, 0]

def k0_chk416 (i : grid0.Coords) (v19211 : BitVec 32) : Prop :=
  (∀ (k0_h1 : k0_cond1 i = 1#1), ∀ a, (k0_off416 v19211) a + S1x16x128.size a ≤ S16384x16x128.size a)
theorem k0_off416_inb : ∀ (i : grid0.Coords) (v19211 : BitVec 32) (k0_hw416 : k0_chk416 i v19211), ∀ (k0_h1 : k0_cond1 i = 1#1), ∀ a, (k0_off416 v19211) a + S1x16x128.size a ≤ S16384x16x128.size a := fun i v19211 k0_hw416 k0_h1 => k0_hw416 k0_h1

def k0_off417 (v19217 : BitVec 32) : Fin 3 → Nat :=
  let c0_i32_17923 : BitVec 32 := 0#32
  let c0_i32_17924 : BitVec 32 := 0#32
  ![v19217.toNat, 0, 0]

def k0_chk417 (i : grid0.Coords) (v19217 : BitVec 32) : Prop :=
  (∀ (k0_h1 : k0_cond1 i = 1#1), ∀ a, (k0_off417 v19217) a + S1x16x128.size a ≤ S16384x16x128.size a)
theorem k0_off417_inb : ∀ (i : grid0.Coords) (v19217 : BitVec 32) (k0_hw417 : k0_chk417 i v19217), ∀ (k0_h1 : k0_cond1 i = 1#1), ∀ a, (k0_off417 v19217) a + S1x16x128.size a ≤ S16384x16x128.size a := fun i v19217 k0_hw417 k0_h1 => k0_hw417 k0_h1

def k0_off418 (v19223 : BitVec 32) : Fin 3 → Nat :=
  let c0_i32_17930 : BitVec 32 := 0#32
  let c0_i32_17931 : BitVec 32 := 0#32
  ![v19223.toNat, 0, 0]

def k0_chk418 (i : grid0.Coords) (v19223 : BitVec 32) : Prop :=
  (∀ (k0_h1 : k0_cond1 i = 1#1), ∀ a, (k0_off418 v19223) a + S1x16x128.size a ≤ S16384x16x128.size a)
theorem k0_off418_inb : ∀ (i : grid0.Coords) (v19223 : BitVec 32) (k0_hw418 : k0_chk418 i v19223), ∀ (k0_h1 : k0_cond1 i = 1#1), ∀ a, (k0_off418 v19223) a + S1x16x128.size a ≤ S16384x16x128.size a := fun i v19223 k0_hw418 k0_h1 => k0_hw418 k0_h1

def k0_off419 (v19229 : BitVec 32) : Fin 3 → Nat :=
  let c0_i32_17937 : BitVec 32 := 0#32
  let c0_i32_17938 : BitVec 32 := 0#32
  ![v19229.toNat, 0, 0]

def k0_chk419 (i : grid0.Coords) (v19229 : BitVec 32) : Prop :=
  (∀ (k0_h1 : k0_cond1 i = 1#1), ∀ a, (k0_off419 v19229) a + S1x16x128.size a ≤ S16384x16x128.size a)
theorem k0_off419_inb : ∀ (i : grid0.Coords) (v19229 : BitVec 32) (k0_hw419 : k0_chk419 i v19229), ∀ (k0_h1 : k0_cond1 i = 1#1), ∀ a, (k0_off419 v19229) a + S1x16x128.size a ≤ S16384x16x128.size a := fun i v19229 k0_hw419 k0_h1 => k0_hw419 k0_h1

def k0_off420 (v19235 : BitVec 32) : Fin 3 → Nat :=
  let c0_i32_17944 : BitVec 32 := 0#32
  let c0_i32_17945 : BitVec 32 := 0#32
  ![v19235.toNat, 0, 0]

def k0_chk420 (i : grid0.Coords) (v19235 : BitVec 32) : Prop :=
  (∀ (k0_h1 : k0_cond1 i = 1#1), ∀ a, (k0_off420 v19235) a + S1x16x128.size a ≤ S16384x16x128.size a)
theorem k0_off420_inb : ∀ (i : grid0.Coords) (v19235 : BitVec 32) (k0_hw420 : k0_chk420 i v19235), ∀ (k0_h1 : k0_cond1 i = 1#1), ∀ a, (k0_off420 v19235) a + S1x16x128.size a ≤ S16384x16x128.size a := fun i v19235 k0_hw420 k0_h1 => k0_hw420 k0_h1

def k0_off421 (v19241 : BitVec 32) : Fin 3 → Nat :=
  let c0_i32_17951 : BitVec 32 := 0#32
  let c0_i32_17952 : BitVec 32 := 0#32
  ![v19241.toNat, 0, 0]

def k0_chk421 (i : grid0.Coords) (v19241 : BitVec 32) : Prop :=
  (∀ (k0_h1 : k0_cond1 i = 1#1), ∀ a, (k0_off421 v19241) a + S1x16x128.size a ≤ S16384x16x128.size a)
theorem k0_off421_inb : ∀ (i : grid0.Coords) (v19241 : BitVec 32) (k0_hw421 : k0_chk421 i v19241), ∀ (k0_h1 : k0_cond1 i = 1#1), ∀ a, (k0_off421 v19241) a + S1x16x128.size a ≤ S16384x16x128.size a := fun i v19241 k0_hw421 k0_h1 => k0_hw421 k0_h1

def k0_off422 (v19247 : BitVec 32) : Fin 3 → Nat :=
  let c0_i32_17958 : BitVec 32 := 0#32
  let c0_i32_17959 : BitVec 32 := 0#32
  ![v19247.toNat, 0, 0]

def k0_chk422 (i : grid0.Coords) (v19247 : BitVec 32) : Prop :=
  (∀ (k0_h1 : k0_cond1 i = 1#1), ∀ a, (k0_off422 v19247) a + S1x16x128.size a ≤ S16384x16x128.size a)
theorem k0_off422_inb : ∀ (i : grid0.Coords) (v19247 : BitVec 32) (k0_hw422 : k0_chk422 i v19247), ∀ (k0_h1 : k0_cond1 i = 1#1), ∀ a, (k0_off422 v19247) a + S1x16x128.size a ≤ S16384x16x128.size a := fun i v19247 k0_hw422 k0_h1 => k0_hw422 k0_h1

def k0_off423 (v19253 : BitVec 32) : Fin 3 → Nat :=
  let c0_i32_17965 : BitVec 32 := 0#32
  let c0_i32_17966 : BitVec 32 := 0#32
  ![v19253.toNat, 0, 0]

def k0_chk423 (i : grid0.Coords) (v19253 : BitVec 32) : Prop :=
  (∀ (k0_h1 : k0_cond1 i = 1#1), ∀ a, (k0_off423 v19253) a + S1x16x128.size a ≤ S16384x16x128.size a)
theorem k0_off423_inb : ∀ (i : grid0.Coords) (v19253 : BitVec 32) (k0_hw423 : k0_chk423 i v19253), ∀ (k0_h1 : k0_cond1 i = 1#1), ∀ a, (k0_off423 v19253) a + S1x16x128.size a ≤ S16384x16x128.size a := fun i v19253 k0_hw423 k0_h1 => k0_hw423 k0_h1

def k0_off424 (v19259 : BitVec 32) : Fin 3 → Nat :=
  let c0_i32_17972 : BitVec 32 := 0#32
  let c0_i32_17973 : BitVec 32 := 0#32
  ![v19259.toNat, 0, 0]

def k0_chk424 (i : grid0.Coords) (v19259 : BitVec 32) : Prop :=
  (∀ (k0_h1 : k0_cond1 i = 1#1), ∀ a, (k0_off424 v19259) a + S1x16x128.size a ≤ S16384x16x128.size a)
theorem k0_off424_inb : ∀ (i : grid0.Coords) (v19259 : BitVec 32) (k0_hw424 : k0_chk424 i v19259), ∀ (k0_h1 : k0_cond1 i = 1#1), ∀ a, (k0_off424 v19259) a + S1x16x128.size a ≤ S16384x16x128.size a := fun i v19259 k0_hw424 k0_h1 => k0_hw424 k0_h1

def k0_off425 (v19265 : BitVec 32) : Fin 3 → Nat :=
  let c0_i32_17979 : BitVec 32 := 0#32
  let c0_i32_17980 : BitVec 32 := 0#32
  ![v19265.toNat, 0, 0]

def k0_chk425 (i : grid0.Coords) (v19265 : BitVec 32) : Prop :=
  (∀ (k0_h1 : k0_cond1 i = 1#1), ∀ a, (k0_off425 v19265) a + S1x16x128.size a ≤ S16384x16x128.size a)
theorem k0_off425_inb : ∀ (i : grid0.Coords) (v19265 : BitVec 32) (k0_hw425 : k0_chk425 i v19265), ∀ (k0_h1 : k0_cond1 i = 1#1), ∀ a, (k0_off425 v19265) a + S1x16x128.size a ≤ S16384x16x128.size a := fun i v19265 k0_hw425 k0_h1 => k0_hw425 k0_h1

def k0_off426 (v19271 : BitVec 32) : Fin 3 → Nat :=
  let c0_i32_17986 : BitVec 32 := 0#32
  let c0_i32_17987 : BitVec 32 := 0#32
  ![v19271.toNat, 0, 0]

def k0_chk426 (i : grid0.Coords) (v19271 : BitVec 32) : Prop :=
  (∀ (k0_h1 : k0_cond1 i = 1#1), ∀ a, (k0_off426 v19271) a + S1x16x128.size a ≤ S16384x16x128.size a)
theorem k0_off426_inb : ∀ (i : grid0.Coords) (v19271 : BitVec 32) (k0_hw426 : k0_chk426 i v19271), ∀ (k0_h1 : k0_cond1 i = 1#1), ∀ a, (k0_off426 v19271) a + S1x16x128.size a ≤ S16384x16x128.size a := fun i v19271 k0_hw426 k0_h1 => k0_hw426 k0_h1

def k0_off427 (v19277 : BitVec 32) : Fin 3 → Nat :=
  let c0_i32_17993 : BitVec 32 := 0#32
  let c0_i32_17994 : BitVec 32 := 0#32
  ![v19277.toNat, 0, 0]

def k0_chk427 (i : grid0.Coords) (v19277 : BitVec 32) : Prop :=
  (∀ (k0_h1 : k0_cond1 i = 1#1), ∀ a, (k0_off427 v19277) a + S1x16x128.size a ≤ S16384x16x128.size a)
theorem k0_off427_inb : ∀ (i : grid0.Coords) (v19277 : BitVec 32) (k0_hw427 : k0_chk427 i v19277), ∀ (k0_h1 : k0_cond1 i = 1#1), ∀ a, (k0_off427 v19277) a + S1x16x128.size a ≤ S16384x16x128.size a := fun i v19277 k0_hw427 k0_h1 => k0_hw427 k0_h1

def k0_off428 (v19283 : BitVec 32) : Fin 3 → Nat :=
  let c0_i32_18000 : BitVec 32 := 0#32
  let c0_i32_18001 : BitVec 32 := 0#32
  ![v19283.toNat, 0, 0]

def k0_chk428 (i : grid0.Coords) (v19283 : BitVec 32) : Prop :=
  (∀ (k0_h1 : k0_cond1 i = 1#1), ∀ a, (k0_off428 v19283) a + S1x16x128.size a ≤ S16384x16x128.size a)
theorem k0_off428_inb : ∀ (i : grid0.Coords) (v19283 : BitVec 32) (k0_hw428 : k0_chk428 i v19283), ∀ (k0_h1 : k0_cond1 i = 1#1), ∀ a, (k0_off428 v19283) a + S1x16x128.size a ≤ S16384x16x128.size a := fun i v19283 k0_hw428 k0_h1 => k0_hw428 k0_h1

def k0_off429 (v19289 : BitVec 32) : Fin 3 → Nat :=
  let c0_i32_18007 : BitVec 32 := 0#32
  let c0_i32_18008 : BitVec 32 := 0#32
  ![v19289.toNat, 0, 0]

def k0_chk429 (i : grid0.Coords) (v19289 : BitVec 32) : Prop :=
  (∀ (k0_h1 : k0_cond1 i = 1#1), ∀ a, (k0_off429 v19289) a + S1x16x128.size a ≤ S16384x16x128.size a)
theorem k0_off429_inb : ∀ (i : grid0.Coords) (v19289 : BitVec 32) (k0_hw429 : k0_chk429 i v19289), ∀ (k0_h1 : k0_cond1 i = 1#1), ∀ a, (k0_off429 v19289) a + S1x16x128.size a ≤ S16384x16x128.size a := fun i v19289 k0_hw429 k0_h1 => k0_hw429 k0_h1

def k0_off430 (v19295 : BitVec 32) : Fin 3 → Nat :=
  let c0_i32_18014 : BitVec 32 := 0#32
  let c0_i32_18015 : BitVec 32 := 0#32
  ![v19295.toNat, 0, 0]

def k0_chk430 (i : grid0.Coords) (v19295 : BitVec 32) : Prop :=
  (∀ (k0_h1 : k0_cond1 i = 1#1), ∀ a, (k0_off430 v19295) a + S1x16x128.size a ≤ S16384x16x128.size a)
theorem k0_off430_inb : ∀ (i : grid0.Coords) (v19295 : BitVec 32) (k0_hw430 : k0_chk430 i v19295), ∀ (k0_h1 : k0_cond1 i = 1#1), ∀ a, (k0_off430 v19295) a + S1x16x128.size a ≤ S16384x16x128.size a := fun i v19295 k0_hw430 k0_h1 => k0_hw430 k0_h1

def k0_off431 (v19301 : BitVec 32) : Fin 3 → Nat :=
  let c0_i32_18021 : BitVec 32 := 0#32
  let c0_i32_18022 : BitVec 32 := 0#32
  ![v19301.toNat, 0, 0]

def k0_chk431 (i : grid0.Coords) (v19301 : BitVec 32) : Prop :=
  (∀ (k0_h1 : k0_cond1 i = 1#1), ∀ a, (k0_off431 v19301) a + S1x16x128.size a ≤ S16384x16x128.size a)
theorem k0_off431_inb : ∀ (i : grid0.Coords) (v19301 : BitVec 32) (k0_hw431 : k0_chk431 i v19301), ∀ (k0_h1 : k0_cond1 i = 1#1), ∀ a, (k0_off431 v19301) a + S1x16x128.size a ≤ S16384x16x128.size a := fun i v19301 k0_hw431 k0_h1 => k0_hw431 k0_h1

def k0_off432 (v19307 : BitVec 32) : Fin 3 → Nat :=
  let c0_i32_18028 : BitVec 32 := 0#32
  let c0_i32_18029 : BitVec 32 := 0#32
  ![v19307.toNat, 0, 0]

def k0_chk432 (i : grid0.Coords) (v19307 : BitVec 32) : Prop :=
  (∀ (k0_h1 : k0_cond1 i = 1#1), ∀ a, (k0_off432 v19307) a + S1x16x128.size a ≤ S16384x16x128.size a)
theorem k0_off432_inb : ∀ (i : grid0.Coords) (v19307 : BitVec 32) (k0_hw432 : k0_chk432 i v19307), ∀ (k0_h1 : k0_cond1 i = 1#1), ∀ a, (k0_off432 v19307) a + S1x16x128.size a ≤ S16384x16x128.size a := fun i v19307 k0_hw432 k0_h1 => k0_hw432 k0_h1

def k0_off433 (v19313 : BitVec 32) : Fin 3 → Nat :=
  let c0_i32_18035 : BitVec 32 := 0#32
  let c0_i32_18036 : BitVec 32 := 0#32
  ![v19313.toNat, 0, 0]

def k0_chk433 (i : grid0.Coords) (v19313 : BitVec 32) : Prop :=
  (∀ (k0_h1 : k0_cond1 i = 1#1), ∀ a, (k0_off433 v19313) a + S1x16x128.size a ≤ S16384x16x128.size a)
theorem k0_off433_inb : ∀ (i : grid0.Coords) (v19313 : BitVec 32) (k0_hw433 : k0_chk433 i v19313), ∀ (k0_h1 : k0_cond1 i = 1#1), ∀ a, (k0_off433 v19313) a + S1x16x128.size a ≤ S16384x16x128.size a := fun i v19313 k0_hw433 k0_h1 => k0_hw433 k0_h1

def k0_off434 (v19319 : BitVec 32) : Fin 3 → Nat :=
  let c0_i32_18042 : BitVec 32 := 0#32
  let c0_i32_18043 : BitVec 32 := 0#32
  ![v19319.toNat, 0, 0]

def k0_chk434 (i : grid0.Coords) (v19319 : BitVec 32) : Prop :=
  (∀ (k0_h1 : k0_cond1 i = 1#1), ∀ a, (k0_off434 v19319) a + S1x16x128.size a ≤ S16384x16x128.size a)
theorem k0_off434_inb : ∀ (i : grid0.Coords) (v19319 : BitVec 32) (k0_hw434 : k0_chk434 i v19319), ∀ (k0_h1 : k0_cond1 i = 1#1), ∀ a, (k0_off434 v19319) a + S1x16x128.size a ≤ S16384x16x128.size a := fun i v19319 k0_hw434 k0_h1 => k0_hw434 k0_h1

def k0_off435 (v19325 : BitVec 32) : Fin 3 → Nat :=
  let c0_i32_18049 : BitVec 32 := 0#32
  let c0_i32_18050 : BitVec 32 := 0#32
  ![v19325.toNat, 0, 0]

def k0_chk435 (i : grid0.Coords) (v19325 : BitVec 32) : Prop :=
  (∀ (k0_h1 : k0_cond1 i = 1#1), ∀ a, (k0_off435 v19325) a + S1x16x128.size a ≤ S16384x16x128.size a)
theorem k0_off435_inb : ∀ (i : grid0.Coords) (v19325 : BitVec 32) (k0_hw435 : k0_chk435 i v19325), ∀ (k0_h1 : k0_cond1 i = 1#1), ∀ a, (k0_off435 v19325) a + S1x16x128.size a ≤ S16384x16x128.size a := fun i v19325 k0_hw435 k0_h1 => k0_hw435 k0_h1

def k0_off436 (v19331 : BitVec 32) : Fin 3 → Nat :=
  let c0_i32_18056 : BitVec 32 := 0#32
  let c0_i32_18057 : BitVec 32 := 0#32
  ![v19331.toNat, 0, 0]

def k0_chk436 (i : grid0.Coords) (v19331 : BitVec 32) : Prop :=
  (∀ (k0_h1 : k0_cond1 i = 1#1), ∀ a, (k0_off436 v19331) a + S1x16x128.size a ≤ S16384x16x128.size a)
theorem k0_off436_inb : ∀ (i : grid0.Coords) (v19331 : BitVec 32) (k0_hw436 : k0_chk436 i v19331), ∀ (k0_h1 : k0_cond1 i = 1#1), ∀ a, (k0_off436 v19331) a + S1x16x128.size a ≤ S16384x16x128.size a := fun i v19331 k0_hw436 k0_h1 => k0_hw436 k0_h1

def k0_off437 (v19337 : BitVec 32) : Fin 3 → Nat :=
  let c0_i32_18063 : BitVec 32 := 0#32
  let c0_i32_18064 : BitVec 32 := 0#32
  ![v19337.toNat, 0, 0]

def k0_chk437 (i : grid0.Coords) (v19337 : BitVec 32) : Prop :=
  (∀ (k0_h1 : k0_cond1 i = 1#1), ∀ a, (k0_off437 v19337) a + S1x16x128.size a ≤ S16384x16x128.size a)
theorem k0_off437_inb : ∀ (i : grid0.Coords) (v19337 : BitVec 32) (k0_hw437 : k0_chk437 i v19337), ∀ (k0_h1 : k0_cond1 i = 1#1), ∀ a, (k0_off437 v19337) a + S1x16x128.size a ≤ S16384x16x128.size a := fun i v19337 k0_hw437 k0_h1 => k0_hw437 k0_h1

def k0_off438 (v19343 : BitVec 32) : Fin 3 → Nat :=
  let c0_i32_18070 : BitVec 32 := 0#32
  let c0_i32_18071 : BitVec 32 := 0#32
  ![v19343.toNat, 0, 0]

def k0_chk438 (i : grid0.Coords) (v19343 : BitVec 32) : Prop :=
  (∀ (k0_h1 : k0_cond1 i = 1#1), ∀ a, (k0_off438 v19343) a + S1x16x128.size a ≤ S16384x16x128.size a)
theorem k0_off438_inb : ∀ (i : grid0.Coords) (v19343 : BitVec 32) (k0_hw438 : k0_chk438 i v19343), ∀ (k0_h1 : k0_cond1 i = 1#1), ∀ a, (k0_off438 v19343) a + S1x16x128.size a ≤ S16384x16x128.size a := fun i v19343 k0_hw438 k0_h1 => k0_hw438 k0_h1

def k0_off439 (v19349 : BitVec 32) : Fin 3 → Nat :=
  let c0_i32_18077 : BitVec 32 := 0#32
  let c0_i32_18078 : BitVec 32 := 0#32
  ![v19349.toNat, 0, 0]

def k0_chk439 (i : grid0.Coords) (v19349 : BitVec 32) : Prop :=
  (∀ (k0_h1 : k0_cond1 i = 1#1), ∀ a, (k0_off439 v19349) a + S1x16x128.size a ≤ S16384x16x128.size a)
theorem k0_off439_inb : ∀ (i : grid0.Coords) (v19349 : BitVec 32) (k0_hw439 : k0_chk439 i v19349), ∀ (k0_h1 : k0_cond1 i = 1#1), ∀ a, (k0_off439 v19349) a + S1x16x128.size a ≤ S16384x16x128.size a := fun i v19349 k0_hw439 k0_h1 => k0_hw439 k0_h1

def k0_off440 (v19355 : BitVec 32) : Fin 3 → Nat :=
  let c0_i32_18084 : BitVec 32 := 0#32
  let c0_i32_18085 : BitVec 32 := 0#32
  ![v19355.toNat, 0, 0]

def k0_chk440 (i : grid0.Coords) (v19355 : BitVec 32) : Prop :=
  (∀ (k0_h1 : k0_cond1 i = 1#1), ∀ a, (k0_off440 v19355) a + S1x16x128.size a ≤ S16384x16x128.size a)
theorem k0_off440_inb : ∀ (i : grid0.Coords) (v19355 : BitVec 32) (k0_hw440 : k0_chk440 i v19355), ∀ (k0_h1 : k0_cond1 i = 1#1), ∀ a, (k0_off440 v19355) a + S1x16x128.size a ≤ S16384x16x128.size a := fun i v19355 k0_hw440 k0_h1 => k0_hw440 k0_h1

def k0_off441 (v19361 : BitVec 32) : Fin 3 → Nat :=
  let c0_i32_18091 : BitVec 32 := 0#32
  let c0_i32_18092 : BitVec 32 := 0#32
  ![v19361.toNat, 0, 0]

def k0_chk441 (i : grid0.Coords) (v19361 : BitVec 32) : Prop :=
  (∀ (k0_h1 : k0_cond1 i = 1#1), ∀ a, (k0_off441 v19361) a + S1x16x128.size a ≤ S16384x16x128.size a)
theorem k0_off441_inb : ∀ (i : grid0.Coords) (v19361 : BitVec 32) (k0_hw441 : k0_chk441 i v19361), ∀ (k0_h1 : k0_cond1 i = 1#1), ∀ a, (k0_off441 v19361) a + S1x16x128.size a ≤ S16384x16x128.size a := fun i v19361 k0_hw441 k0_h1 => k0_hw441 k0_h1

def k0_off442 (v19367 : BitVec 32) : Fin 3 → Nat :=
  let c0_i32_18098 : BitVec 32 := 0#32
  let c0_i32_18099 : BitVec 32 := 0#32
  ![v19367.toNat, 0, 0]

def k0_chk442 (i : grid0.Coords) (v19367 : BitVec 32) : Prop :=
  (∀ (k0_h1 : k0_cond1 i = 1#1), ∀ a, (k0_off442 v19367) a + S1x16x128.size a ≤ S16384x16x128.size a)
theorem k0_off442_inb : ∀ (i : grid0.Coords) (v19367 : BitVec 32) (k0_hw442 : k0_chk442 i v19367), ∀ (k0_h1 : k0_cond1 i = 1#1), ∀ a, (k0_off442 v19367) a + S1x16x128.size a ≤ S16384x16x128.size a := fun i v19367 k0_hw442 k0_h1 => k0_hw442 k0_h1

def k0_off443 (v19373 : BitVec 32) : Fin 3 → Nat :=
  let c0_i32_18105 : BitVec 32 := 0#32
  let c0_i32_18106 : BitVec 32 := 0#32
  ![v19373.toNat, 0, 0]

def k0_chk443 (i : grid0.Coords) (v19373 : BitVec 32) : Prop :=
  (∀ (k0_h1 : k0_cond1 i = 1#1), ∀ a, (k0_off443 v19373) a + S1x16x128.size a ≤ S16384x16x128.size a)
theorem k0_off443_inb : ∀ (i : grid0.Coords) (v19373 : BitVec 32) (k0_hw443 : k0_chk443 i v19373), ∀ (k0_h1 : k0_cond1 i = 1#1), ∀ a, (k0_off443 v19373) a + S1x16x128.size a ≤ S16384x16x128.size a := fun i v19373 k0_hw443 k0_h1 => k0_hw443 k0_h1

def k0_off444 (v19379 : BitVec 32) : Fin 3 → Nat :=
  let c0_i32_18112 : BitVec 32 := 0#32
  let c0_i32_18113 : BitVec 32 := 0#32
  ![v19379.toNat, 0, 0]

def k0_chk444 (i : grid0.Coords) (v19379 : BitVec 32) : Prop :=
  (∀ (k0_h1 : k0_cond1 i = 1#1), ∀ a, (k0_off444 v19379) a + S1x16x128.size a ≤ S16384x16x128.size a)
theorem k0_off444_inb : ∀ (i : grid0.Coords) (v19379 : BitVec 32) (k0_hw444 : k0_chk444 i v19379), ∀ (k0_h1 : k0_cond1 i = 1#1), ∀ a, (k0_off444 v19379) a + S1x16x128.size a ≤ S16384x16x128.size a := fun i v19379 k0_hw444 k0_h1 => k0_hw444 k0_h1

def k0_off445 (v19385 : BitVec 32) : Fin 3 → Nat :=
  let c0_i32_18119 : BitVec 32 := 0#32
  let c0_i32_18120 : BitVec 32 := 0#32
  ![v19385.toNat, 0, 0]

def k0_chk445 (i : grid0.Coords) (v19385 : BitVec 32) : Prop :=
  (∀ (k0_h1 : k0_cond1 i = 1#1), ∀ a, (k0_off445 v19385) a + S1x16x128.size a ≤ S16384x16x128.size a)
theorem k0_off445_inb : ∀ (i : grid0.Coords) (v19385 : BitVec 32) (k0_hw445 : k0_chk445 i v19385), ∀ (k0_h1 : k0_cond1 i = 1#1), ∀ a, (k0_off445 v19385) a + S1x16x128.size a ≤ S16384x16x128.size a := fun i v19385 k0_hw445 k0_h1 => k0_hw445 k0_h1

def k0_off446 (v19391 : BitVec 32) : Fin 3 → Nat :=
  let c0_i32_18126 : BitVec 32 := 0#32
  let c0_i32_18127 : BitVec 32 := 0#32
  ![v19391.toNat, 0, 0]

def k0_chk446 (i : grid0.Coords) (v19391 : BitVec 32) : Prop :=
  (∀ (k0_h1 : k0_cond1 i = 1#1), ∀ a, (k0_off446 v19391) a + S1x16x128.size a ≤ S16384x16x128.size a)
theorem k0_off446_inb : ∀ (i : grid0.Coords) (v19391 : BitVec 32) (k0_hw446 : k0_chk446 i v19391), ∀ (k0_h1 : k0_cond1 i = 1#1), ∀ a, (k0_off446 v19391) a + S1x16x128.size a ≤ S16384x16x128.size a := fun i v19391 k0_hw446 k0_h1 => k0_hw446 k0_h1

def k0_off447 (v19397 : BitVec 32) : Fin 3 → Nat :=
  let c0_i32_18133 : BitVec 32 := 0#32
  let c0_i32_18134 : BitVec 32 := 0#32
  ![v19397.toNat, 0, 0]

def k0_chk447 (i : grid0.Coords) (v19397 : BitVec 32) : Prop :=
  (∀ (k0_h1 : k0_cond1 i = 1#1), ∀ a, (k0_off447 v19397) a + S1x16x128.size a ≤ S16384x16x128.size a)
theorem k0_off447_inb : ∀ (i : grid0.Coords) (v19397 : BitVec 32) (k0_hw447 : k0_chk447 i v19397), ∀ (k0_h1 : k0_cond1 i = 1#1), ∀ a, (k0_off447 v19397) a + S1x16x128.size a ≤ S16384x16x128.size a := fun i v19397 k0_hw447 k0_h1 => k0_hw447 k0_h1

def k0_off448 (v19403 : BitVec 32) : Fin 3 → Nat :=
  let c0_i32_18140 : BitVec 32 := 0#32
  let c0_i32_18141 : BitVec 32 := 0#32
  ![v19403.toNat, 0, 0]

def k0_chk448 (i : grid0.Coords) (v19403 : BitVec 32) : Prop :=
  (∀ (k0_h1 : k0_cond1 i = 1#1), ∀ a, (k0_off448 v19403) a + S1x16x128.size a ≤ S16384x16x128.size a)
theorem k0_off448_inb : ∀ (i : grid0.Coords) (v19403 : BitVec 32) (k0_hw448 : k0_chk448 i v19403), ∀ (k0_h1 : k0_cond1 i = 1#1), ∀ a, (k0_off448 v19403) a + S1x16x128.size a ≤ S16384x16x128.size a := fun i v19403 k0_hw448 k0_h1 => k0_hw448 k0_h1

def k0_off449 (v19409 : BitVec 32) : Fin 3 → Nat :=
  let c0_i32_18147 : BitVec 32 := 0#32
  let c0_i32_18148 : BitVec 32 := 0#32
  ![v19409.toNat, 0, 0]

def k0_chk449 (i : grid0.Coords) (v19409 : BitVec 32) : Prop :=
  (∀ (k0_h1 : k0_cond1 i = 1#1), ∀ a, (k0_off449 v19409) a + S1x16x128.size a ≤ S16384x16x128.size a)
theorem k0_off449_inb : ∀ (i : grid0.Coords) (v19409 : BitVec 32) (k0_hw449 : k0_chk449 i v19409), ∀ (k0_h1 : k0_cond1 i = 1#1), ∀ a, (k0_off449 v19409) a + S1x16x128.size a ≤ S16384x16x128.size a := fun i v19409 k0_hw449 k0_h1 => k0_hw449 k0_h1

def k0_off450 (v19415 : BitVec 32) : Fin 3 → Nat :=
  let c0_i32_18154 : BitVec 32 := 0#32
  let c0_i32_18155 : BitVec 32 := 0#32
  ![v19415.toNat, 0, 0]

def k0_chk450 (i : grid0.Coords) (v19415 : BitVec 32) : Prop :=
  (∀ (k0_h1 : k0_cond1 i = 1#1), ∀ a, (k0_off450 v19415) a + S1x16x128.size a ≤ S16384x16x128.size a)
theorem k0_off450_inb : ∀ (i : grid0.Coords) (v19415 : BitVec 32) (k0_hw450 : k0_chk450 i v19415), ∀ (k0_h1 : k0_cond1 i = 1#1), ∀ a, (k0_off450 v19415) a + S1x16x128.size a ≤ S16384x16x128.size a := fun i v19415 k0_hw450 k0_h1 => k0_hw450 k0_h1

def k0_off451 (v19421 : BitVec 32) : Fin 3 → Nat :=
  let c0_i32_18161 : BitVec 32 := 0#32
  let c0_i32_18162 : BitVec 32 := 0#32
  ![v19421.toNat, 0, 0]

def k0_chk451 (i : grid0.Coords) (v19421 : BitVec 32) : Prop :=
  (∀ (k0_h1 : k0_cond1 i = 1#1), ∀ a, (k0_off451 v19421) a + S1x16x128.size a ≤ S16384x16x128.size a)
theorem k0_off451_inb : ∀ (i : grid0.Coords) (v19421 : BitVec 32) (k0_hw451 : k0_chk451 i v19421), ∀ (k0_h1 : k0_cond1 i = 1#1), ∀ a, (k0_off451 v19421) a + S1x16x128.size a ≤ S16384x16x128.size a := fun i v19421 k0_hw451 k0_h1 => k0_hw451 k0_h1

def k0_off452 (v19427 : BitVec 32) : Fin 3 → Nat :=
  let c0_i32_18168 : BitVec 32 := 0#32
  let c0_i32_18169 : BitVec 32 := 0#32
  ![v19427.toNat, 0, 0]

def k0_chk452 (i : grid0.Coords) (v19427 : BitVec 32) : Prop :=
  (∀ (k0_h1 : k0_cond1 i = 1#1), ∀ a, (k0_off452 v19427) a + S1x16x128.size a ≤ S16384x16x128.size a)
theorem k0_off452_inb : ∀ (i : grid0.Coords) (v19427 : BitVec 32) (k0_hw452 : k0_chk452 i v19427), ∀ (k0_h1 : k0_cond1 i = 1#1), ∀ a, (k0_off452 v19427) a + S1x16x128.size a ≤ S16384x16x128.size a := fun i v19427 k0_hw452 k0_h1 => k0_hw452 k0_h1

def k0_off453 (v19433 : BitVec 32) : Fin 3 → Nat :=
  let c0_i32_18175 : BitVec 32 := 0#32
  let c0_i32_18176 : BitVec 32 := 0#32
  ![v19433.toNat, 0, 0]

def k0_chk453 (i : grid0.Coords) (v19433 : BitVec 32) : Prop :=
  (∀ (k0_h1 : k0_cond1 i = 1#1), ∀ a, (k0_off453 v19433) a + S1x16x128.size a ≤ S16384x16x128.size a)
theorem k0_off453_inb : ∀ (i : grid0.Coords) (v19433 : BitVec 32) (k0_hw453 : k0_chk453 i v19433), ∀ (k0_h1 : k0_cond1 i = 1#1), ∀ a, (k0_off453 v19433) a + S1x16x128.size a ≤ S16384x16x128.size a := fun i v19433 k0_hw453 k0_h1 => k0_hw453 k0_h1

def k0_off454 (v19439 : BitVec 32) : Fin 3 → Nat :=
  let c0_i32_18182 : BitVec 32 := 0#32
  let c0_i32_18183 : BitVec 32 := 0#32
  ![v19439.toNat, 0, 0]

def k0_chk454 (i : grid0.Coords) (v19439 : BitVec 32) : Prop :=
  (∀ (k0_h1 : k0_cond1 i = 1#1), ∀ a, (k0_off454 v19439) a + S1x16x128.size a ≤ S16384x16x128.size a)
theorem k0_off454_inb : ∀ (i : grid0.Coords) (v19439 : BitVec 32) (k0_hw454 : k0_chk454 i v19439), ∀ (k0_h1 : k0_cond1 i = 1#1), ∀ a, (k0_off454 v19439) a + S1x16x128.size a ≤ S16384x16x128.size a := fun i v19439 k0_hw454 k0_h1 => k0_hw454 k0_h1

def k0_off455 (v19445 : BitVec 32) : Fin 3 → Nat :=
  let c0_i32_18189 : BitVec 32 := 0#32
  let c0_i32_18190 : BitVec 32 := 0#32
  ![v19445.toNat, 0, 0]

def k0_chk455 (i : grid0.Coords) (v19445 : BitVec 32) : Prop :=
  (∀ (k0_h1 : k0_cond1 i = 1#1), ∀ a, (k0_off455 v19445) a + S1x16x128.size a ≤ S16384x16x128.size a)
theorem k0_off455_inb : ∀ (i : grid0.Coords) (v19445 : BitVec 32) (k0_hw455 : k0_chk455 i v19445), ∀ (k0_h1 : k0_cond1 i = 1#1), ∀ a, (k0_off455 v19445) a + S1x16x128.size a ≤ S16384x16x128.size a := fun i v19445 k0_hw455 k0_h1 => k0_hw455 k0_h1

def k0_off456 (v19451 : BitVec 32) : Fin 3 → Nat :=
  let c0_i32_18196 : BitVec 32 := 0#32
  let c0_i32_18197 : BitVec 32 := 0#32
  ![v19451.toNat, 0, 0]

def k0_chk456 (i : grid0.Coords) (v19451 : BitVec 32) : Prop :=
  (∀ (k0_h1 : k0_cond1 i = 1#1), ∀ a, (k0_off456 v19451) a + S1x16x128.size a ≤ S16384x16x128.size a)
theorem k0_off456_inb : ∀ (i : grid0.Coords) (v19451 : BitVec 32) (k0_hw456 : k0_chk456 i v19451), ∀ (k0_h1 : k0_cond1 i = 1#1), ∀ a, (k0_off456 v19451) a + S1x16x128.size a ≤ S16384x16x128.size a := fun i v19451 k0_hw456 k0_h1 => k0_hw456 k0_h1

def k0_off457 (v19457 : BitVec 32) : Fin 3 → Nat :=
  let c0_i32_18203 : BitVec 32 := 0#32
  let c0_i32_18204 : BitVec 32 := 0#32
  ![v19457.toNat, 0, 0]

def k0_chk457 (i : grid0.Coords) (v19457 : BitVec 32) : Prop :=
  (∀ (k0_h1 : k0_cond1 i = 1#1), ∀ a, (k0_off457 v19457) a + S1x16x128.size a ≤ S16384x16x128.size a)
theorem k0_off457_inb : ∀ (i : grid0.Coords) (v19457 : BitVec 32) (k0_hw457 : k0_chk457 i v19457), ∀ (k0_h1 : k0_cond1 i = 1#1), ∀ a, (k0_off457 v19457) a + S1x16x128.size a ≤ S16384x16x128.size a := fun i v19457 k0_hw457 k0_h1 => k0_hw457 k0_h1

def k0_off458 (v19463 : BitVec 32) : Fin 3 → Nat :=
  let c0_i32_18210 : BitVec 32 := 0#32
  let c0_i32_18211 : BitVec 32 := 0#32
  ![v19463.toNat, 0, 0]

def k0_chk458 (i : grid0.Coords) (v19463 : BitVec 32) : Prop :=
  (∀ (k0_h1 : k0_cond1 i = 1#1), ∀ a, (k0_off458 v19463) a + S1x16x128.size a ≤ S16384x16x128.size a)
theorem k0_off458_inb : ∀ (i : grid0.Coords) (v19463 : BitVec 32) (k0_hw458 : k0_chk458 i v19463), ∀ (k0_h1 : k0_cond1 i = 1#1), ∀ a, (k0_off458 v19463) a + S1x16x128.size a ≤ S16384x16x128.size a := fun i v19463 k0_hw458 k0_h1 => k0_hw458 k0_h1

def k0_off459 (v19469 : BitVec 32) : Fin 3 → Nat :=
  let c0_i32_18217 : BitVec 32 := 0#32
  let c0_i32_18218 : BitVec 32 := 0#32
  ![v19469.toNat, 0, 0]

def k0_chk459 (i : grid0.Coords) (v19469 : BitVec 32) : Prop :=
  (∀ (k0_h1 : k0_cond1 i = 1#1), ∀ a, (k0_off459 v19469) a + S1x16x128.size a ≤ S16384x16x128.size a)
theorem k0_off459_inb : ∀ (i : grid0.Coords) (v19469 : BitVec 32) (k0_hw459 : k0_chk459 i v19469), ∀ (k0_h1 : k0_cond1 i = 1#1), ∀ a, (k0_off459 v19469) a + S1x16x128.size a ≤ S16384x16x128.size a := fun i v19469 k0_hw459 k0_h1 => k0_hw459 k0_h1

def k0_off460 (v19475 : BitVec 32) : Fin 3 → Nat :=
  let c0_i32_18224 : BitVec 32 := 0#32
  let c0_i32_18225 : BitVec 32 := 0#32
  ![v19475.toNat, 0, 0]

def k0_chk460 (i : grid0.Coords) (v19475 : BitVec 32) : Prop :=
  (∀ (k0_h1 : k0_cond1 i = 1#1), ∀ a, (k0_off460 v19475) a + S1x16x128.size a ≤ S16384x16x128.size a)
theorem k0_off460_inb : ∀ (i : grid0.Coords) (v19475 : BitVec 32) (k0_hw460 : k0_chk460 i v19475), ∀ (k0_h1 : k0_cond1 i = 1#1), ∀ a, (k0_off460 v19475) a + S1x16x128.size a ≤ S16384x16x128.size a := fun i v19475 k0_hw460 k0_h1 => k0_hw460 k0_h1

def k0_off461 (v19481 : BitVec 32) : Fin 3 → Nat :=
  let c0_i32_18231 : BitVec 32 := 0#32
  let c0_i32_18232 : BitVec 32 := 0#32
  ![v19481.toNat, 0, 0]

def k0_chk461 (i : grid0.Coords) (v19481 : BitVec 32) : Prop :=
  (∀ (k0_h1 : k0_cond1 i = 1#1), ∀ a, (k0_off461 v19481) a + S1x16x128.size a ≤ S16384x16x128.size a)
theorem k0_off461_inb : ∀ (i : grid0.Coords) (v19481 : BitVec 32) (k0_hw461 : k0_chk461 i v19481), ∀ (k0_h1 : k0_cond1 i = 1#1), ∀ a, (k0_off461 v19481) a + S1x16x128.size a ≤ S16384x16x128.size a := fun i v19481 k0_hw461 k0_h1 => k0_hw461 k0_h1

def k0_off462 (v19487 : BitVec 32) : Fin 3 → Nat :=
  let c0_i32_18238 : BitVec 32 := 0#32
  let c0_i32_18239 : BitVec 32 := 0#32
  ![v19487.toNat, 0, 0]

def k0_chk462 (i : grid0.Coords) (v19487 : BitVec 32) : Prop :=
  (∀ (k0_h1 : k0_cond1 i = 1#1), ∀ a, (k0_off462 v19487) a + S1x16x128.size a ≤ S16384x16x128.size a)
theorem k0_off462_inb : ∀ (i : grid0.Coords) (v19487 : BitVec 32) (k0_hw462 : k0_chk462 i v19487), ∀ (k0_h1 : k0_cond1 i = 1#1), ∀ a, (k0_off462 v19487) a + S1x16x128.size a ≤ S16384x16x128.size a := fun i v19487 k0_hw462 k0_h1 => k0_hw462 k0_h1

def k0_off463 (v19493 : BitVec 32) : Fin 3 → Nat :=
  let c0_i32_18245 : BitVec 32 := 0#32
  let c0_i32_18246 : BitVec 32 := 0#32
  ![v19493.toNat, 0, 0]

def k0_chk463 (i : grid0.Coords) (v19493 : BitVec 32) : Prop :=
  (∀ (k0_h1 : k0_cond1 i = 1#1), ∀ a, (k0_off463 v19493) a + S1x16x128.size a ≤ S16384x16x128.size a)
theorem k0_off463_inb : ∀ (i : grid0.Coords) (v19493 : BitVec 32) (k0_hw463 : k0_chk463 i v19493), ∀ (k0_h1 : k0_cond1 i = 1#1), ∀ a, (k0_off463 v19493) a + S1x16x128.size a ≤ S16384x16x128.size a := fun i v19493 k0_hw463 k0_h1 => k0_hw463 k0_h1

def k0_off464 (v19499 : BitVec 32) : Fin 3 → Nat :=
  let c0_i32_18252 : BitVec 32 := 0#32
  let c0_i32_18253 : BitVec 32 := 0#32
  ![v19499.toNat, 0, 0]

def k0_chk464 (i : grid0.Coords) (v19499 : BitVec 32) : Prop :=
  (∀ (k0_h1 : k0_cond1 i = 1#1), ∀ a, (k0_off464 v19499) a + S1x16x128.size a ≤ S16384x16x128.size a)
theorem k0_off464_inb : ∀ (i : grid0.Coords) (v19499 : BitVec 32) (k0_hw464 : k0_chk464 i v19499), ∀ (k0_h1 : k0_cond1 i = 1#1), ∀ a, (k0_off464 v19499) a + S1x16x128.size a ≤ S16384x16x128.size a := fun i v19499 k0_hw464 k0_h1 => k0_hw464 k0_h1

def k0_off465 (v19505 : BitVec 32) : Fin 3 → Nat :=
  let c0_i32_18259 : BitVec 32 := 0#32
  let c0_i32_18260 : BitVec 32 := 0#32
  ![v19505.toNat, 0, 0]

def k0_chk465 (i : grid0.Coords) (v19505 : BitVec 32) : Prop :=
  (∀ (k0_h1 : k0_cond1 i = 1#1), ∀ a, (k0_off465 v19505) a + S1x16x128.size a ≤ S16384x16x128.size a)
theorem k0_off465_inb : ∀ (i : grid0.Coords) (v19505 : BitVec 32) (k0_hw465 : k0_chk465 i v19505), ∀ (k0_h1 : k0_cond1 i = 1#1), ∀ a, (k0_off465 v19505) a + S1x16x128.size a ≤ S16384x16x128.size a := fun i v19505 k0_hw465 k0_h1 => k0_hw465 k0_h1

def k0_off466 (v19511 : BitVec 32) : Fin 3 → Nat :=
  let c0_i32_18266 : BitVec 32 := 0#32
  let c0_i32_18267 : BitVec 32 := 0#32
  ![v19511.toNat, 0, 0]

def k0_chk466 (i : grid0.Coords) (v19511 : BitVec 32) : Prop :=
  (∀ (k0_h1 : k0_cond1 i = 1#1), ∀ a, (k0_off466 v19511) a + S1x16x128.size a ≤ S16384x16x128.size a)
theorem k0_off466_inb : ∀ (i : grid0.Coords) (v19511 : BitVec 32) (k0_hw466 : k0_chk466 i v19511), ∀ (k0_h1 : k0_cond1 i = 1#1), ∀ a, (k0_off466 v19511) a + S1x16x128.size a ≤ S16384x16x128.size a := fun i v19511 k0_hw466 k0_h1 => k0_hw466 k0_h1

def k0_off467 (v19517 : BitVec 32) : Fin 3 → Nat :=
  let c0_i32_18273 : BitVec 32 := 0#32
  let c0_i32_18274 : BitVec 32 := 0#32
  ![v19517.toNat, 0, 0]

def k0_chk467 (i : grid0.Coords) (v19517 : BitVec 32) : Prop :=
  (∀ (k0_h1 : k0_cond1 i = 1#1), ∀ a, (k0_off467 v19517) a + S1x16x128.size a ≤ S16384x16x128.size a)
theorem k0_off467_inb : ∀ (i : grid0.Coords) (v19517 : BitVec 32) (k0_hw467 : k0_chk467 i v19517), ∀ (k0_h1 : k0_cond1 i = 1#1), ∀ a, (k0_off467 v19517) a + S1x16x128.size a ≤ S16384x16x128.size a := fun i v19517 k0_hw467 k0_h1 => k0_hw467 k0_h1

def k0_off468 (v19523 : BitVec 32) : Fin 3 → Nat :=
  let c0_i32_18280 : BitVec 32 := 0#32
  let c0_i32_18281 : BitVec 32 := 0#32
  ![v19523.toNat, 0, 0]

def k0_chk468 (i : grid0.Coords) (v19523 : BitVec 32) : Prop :=
  (∀ (k0_h1 : k0_cond1 i = 1#1), ∀ a, (k0_off468 v19523) a + S1x16x128.size a ≤ S16384x16x128.size a)
theorem k0_off468_inb : ∀ (i : grid0.Coords) (v19523 : BitVec 32) (k0_hw468 : k0_chk468 i v19523), ∀ (k0_h1 : k0_cond1 i = 1#1), ∀ a, (k0_off468 v19523) a + S1x16x128.size a ≤ S16384x16x128.size a := fun i v19523 k0_hw468 k0_h1 => k0_hw468 k0_h1

def k0_off469 (v19529 : BitVec 32) : Fin 3 → Nat :=
  let c0_i32_18287 : BitVec 32 := 0#32
  let c0_i32_18288 : BitVec 32 := 0#32
  ![v19529.toNat, 0, 0]

def k0_chk469 (i : grid0.Coords) (v19529 : BitVec 32) : Prop :=
  (∀ (k0_h1 : k0_cond1 i = 1#1), ∀ a, (k0_off469 v19529) a + S1x16x128.size a ≤ S16384x16x128.size a)
theorem k0_off469_inb : ∀ (i : grid0.Coords) (v19529 : BitVec 32) (k0_hw469 : k0_chk469 i v19529), ∀ (k0_h1 : k0_cond1 i = 1#1), ∀ a, (k0_off469 v19529) a + S1x16x128.size a ≤ S16384x16x128.size a := fun i v19529 k0_hw469 k0_h1 => k0_hw469 k0_h1

def k0_off470 (v19535 : BitVec 32) : Fin 3 → Nat :=
  let c0_i32_18294 : BitVec 32 := 0#32
  let c0_i32_18295 : BitVec 32 := 0#32
  ![v19535.toNat, 0, 0]

def k0_chk470 (i : grid0.Coords) (v19535 : BitVec 32) : Prop :=
  (∀ (k0_h1 : k0_cond1 i = 1#1), ∀ a, (k0_off470 v19535) a + S1x16x128.size a ≤ S16384x16x128.size a)
theorem k0_off470_inb : ∀ (i : grid0.Coords) (v19535 : BitVec 32) (k0_hw470 : k0_chk470 i v19535), ∀ (k0_h1 : k0_cond1 i = 1#1), ∀ a, (k0_off470 v19535) a + S1x16x128.size a ≤ S16384x16x128.size a := fun i v19535 k0_hw470 k0_h1 => k0_hw470 k0_h1

def k0_off471 (v19541 : BitVec 32) : Fin 3 → Nat :=
  let c0_i32_18301 : BitVec 32 := 0#32
  let c0_i32_18302 : BitVec 32 := 0#32
  ![v19541.toNat, 0, 0]

def k0_chk471 (i : grid0.Coords) (v19541 : BitVec 32) : Prop :=
  (∀ (k0_h1 : k0_cond1 i = 1#1), ∀ a, (k0_off471 v19541) a + S1x16x128.size a ≤ S16384x16x128.size a)
theorem k0_off471_inb : ∀ (i : grid0.Coords) (v19541 : BitVec 32) (k0_hw471 : k0_chk471 i v19541), ∀ (k0_h1 : k0_cond1 i = 1#1), ∀ a, (k0_off471 v19541) a + S1x16x128.size a ≤ S16384x16x128.size a := fun i v19541 k0_hw471 k0_h1 => k0_hw471 k0_h1

def k0_off472 (v19547 : BitVec 32) : Fin 3 → Nat :=
  let c0_i32_18308 : BitVec 32 := 0#32
  let c0_i32_18309 : BitVec 32 := 0#32
  ![v19547.toNat, 0, 0]

def k0_chk472 (i : grid0.Coords) (v19547 : BitVec 32) : Prop :=
  (∀ (k0_h1 : k0_cond1 i = 1#1), ∀ a, (k0_off472 v19547) a + S1x16x128.size a ≤ S16384x16x128.size a)
theorem k0_off472_inb : ∀ (i : grid0.Coords) (v19547 : BitVec 32) (k0_hw472 : k0_chk472 i v19547), ∀ (k0_h1 : k0_cond1 i = 1#1), ∀ a, (k0_off472 v19547) a + S1x16x128.size a ≤ S16384x16x128.size a := fun i v19547 k0_hw472 k0_h1 => k0_hw472 k0_h1

def k0_off473 (v19553 : BitVec 32) : Fin 3 → Nat :=
  let c0_i32_18315 : BitVec 32 := 0#32
  let c0_i32_18316 : BitVec 32 := 0#32
  ![v19553.toNat, 0, 0]

def k0_chk473 (i : grid0.Coords) (v19553 : BitVec 32) : Prop :=
  (∀ (k0_h1 : k0_cond1 i = 1#1), ∀ a, (k0_off473 v19553) a + S1x16x128.size a ≤ S16384x16x128.size a)
theorem k0_off473_inb : ∀ (i : grid0.Coords) (v19553 : BitVec 32) (k0_hw473 : k0_chk473 i v19553), ∀ (k0_h1 : k0_cond1 i = 1#1), ∀ a, (k0_off473 v19553) a + S1x16x128.size a ≤ S16384x16x128.size a := fun i v19553 k0_hw473 k0_h1 => k0_hw473 k0_h1

def k0_off474 (v19559 : BitVec 32) : Fin 3 → Nat :=
  let c0_i32_18322 : BitVec 32 := 0#32
  let c0_i32_18323 : BitVec 32 := 0#32
  ![v19559.toNat, 0, 0]

def k0_chk474 (i : grid0.Coords) (v19559 : BitVec 32) : Prop :=
  (∀ (k0_h1 : k0_cond1 i = 1#1), ∀ a, (k0_off474 v19559) a + S1x16x128.size a ≤ S16384x16x128.size a)
theorem k0_off474_inb : ∀ (i : grid0.Coords) (v19559 : BitVec 32) (k0_hw474 : k0_chk474 i v19559), ∀ (k0_h1 : k0_cond1 i = 1#1), ∀ a, (k0_off474 v19559) a + S1x16x128.size a ≤ S16384x16x128.size a := fun i v19559 k0_hw474 k0_h1 => k0_hw474 k0_h1

def k0_off475 (v19565 : BitVec 32) : Fin 3 → Nat :=
  let c0_i32_18329 : BitVec 32 := 0#32
  let c0_i32_18330 : BitVec 32 := 0#32
  ![v19565.toNat, 0, 0]

def k0_chk475 (i : grid0.Coords) (v19565 : BitVec 32) : Prop :=
  (∀ (k0_h1 : k0_cond1 i = 1#1), ∀ a, (k0_off475 v19565) a + S1x16x128.size a ≤ S16384x16x128.size a)
theorem k0_off475_inb : ∀ (i : grid0.Coords) (v19565 : BitVec 32) (k0_hw475 : k0_chk475 i v19565), ∀ (k0_h1 : k0_cond1 i = 1#1), ∀ a, (k0_off475 v19565) a + S1x16x128.size a ≤ S16384x16x128.size a := fun i v19565 k0_hw475 k0_h1 => k0_hw475 k0_h1

def k0_off476 (v19571 : BitVec 32) : Fin 3 → Nat :=
  let c0_i32_18336 : BitVec 32 := 0#32
  let c0_i32_18337 : BitVec 32 := 0#32
  ![v19571.toNat, 0, 0]

def k0_chk476 (i : grid0.Coords) (v19571 : BitVec 32) : Prop :=
  (∀ (k0_h1 : k0_cond1 i = 1#1), ∀ a, (k0_off476 v19571) a + S1x16x128.size a ≤ S16384x16x128.size a)
theorem k0_off476_inb : ∀ (i : grid0.Coords) (v19571 : BitVec 32) (k0_hw476 : k0_chk476 i v19571), ∀ (k0_h1 : k0_cond1 i = 1#1), ∀ a, (k0_off476 v19571) a + S1x16x128.size a ≤ S16384x16x128.size a := fun i v19571 k0_hw476 k0_h1 => k0_hw476 k0_h1

def k0_off477 (v19577 : BitVec 32) : Fin 3 → Nat :=
  let c0_i32_18343 : BitVec 32 := 0#32
  let c0_i32_18344 : BitVec 32 := 0#32
  ![v19577.toNat, 0, 0]

def k0_chk477 (i : grid0.Coords) (v19577 : BitVec 32) : Prop :=
  (∀ (k0_h1 : k0_cond1 i = 1#1), ∀ a, (k0_off477 v19577) a + S1x16x128.size a ≤ S16384x16x128.size a)
theorem k0_off477_inb : ∀ (i : grid0.Coords) (v19577 : BitVec 32) (k0_hw477 : k0_chk477 i v19577), ∀ (k0_h1 : k0_cond1 i = 1#1), ∀ a, (k0_off477 v19577) a + S1x16x128.size a ≤ S16384x16x128.size a := fun i v19577 k0_hw477 k0_h1 => k0_hw477 k0_h1

def k0_off478 (v19583 : BitVec 32) : Fin 3 → Nat :=
  let c0_i32_18350 : BitVec 32 := 0#32
  let c0_i32_18351 : BitVec 32 := 0#32
  ![v19583.toNat, 0, 0]

def k0_chk478 (i : grid0.Coords) (v19583 : BitVec 32) : Prop :=
  (∀ (k0_h1 : k0_cond1 i = 1#1), ∀ a, (k0_off478 v19583) a + S1x16x128.size a ≤ S16384x16x128.size a)
theorem k0_off478_inb : ∀ (i : grid0.Coords) (v19583 : BitVec 32) (k0_hw478 : k0_chk478 i v19583), ∀ (k0_h1 : k0_cond1 i = 1#1), ∀ a, (k0_off478 v19583) a + S1x16x128.size a ≤ S16384x16x128.size a := fun i v19583 k0_hw478 k0_h1 => k0_hw478 k0_h1

def k0_off479 (v19589 : BitVec 32) : Fin 3 → Nat :=
  let c0_i32_18357 : BitVec 32 := 0#32
  let c0_i32_18358 : BitVec 32 := 0#32
  ![v19589.toNat, 0, 0]

def k0_chk479 (i : grid0.Coords) (v19589 : BitVec 32) : Prop :=
  (∀ (k0_h1 : k0_cond1 i = 1#1), ∀ a, (k0_off479 v19589) a + S1x16x128.size a ≤ S16384x16x128.size a)
theorem k0_off479_inb : ∀ (i : grid0.Coords) (v19589 : BitVec 32) (k0_hw479 : k0_chk479 i v19589), ∀ (k0_h1 : k0_cond1 i = 1#1), ∀ a, (k0_off479 v19589) a + S1x16x128.size a ≤ S16384x16x128.size a := fun i v19589 k0_hw479 k0_h1 => k0_hw479 k0_h1

def k0_off480 (v19595 : BitVec 32) : Fin 3 → Nat :=
  let c0_i32_18364 : BitVec 32 := 0#32
  let c0_i32_18365 : BitVec 32 := 0#32
  ![v19595.toNat, 0, 0]

def k0_chk480 (i : grid0.Coords) (v19595 : BitVec 32) : Prop :=
  (∀ (k0_h1 : k0_cond1 i = 1#1), ∀ a, (k0_off480 v19595) a + S1x16x128.size a ≤ S16384x16x128.size a)
theorem k0_off480_inb : ∀ (i : grid0.Coords) (v19595 : BitVec 32) (k0_hw480 : k0_chk480 i v19595), ∀ (k0_h1 : k0_cond1 i = 1#1), ∀ a, (k0_off480 v19595) a + S1x16x128.size a ≤ S16384x16x128.size a := fun i v19595 k0_hw480 k0_h1 => k0_hw480 k0_h1

def k0_off481 (v19601 : BitVec 32) : Fin 3 → Nat :=
  let c0_i32_18371 : BitVec 32 := 0#32
  let c0_i32_18372 : BitVec 32 := 0#32
  ![v19601.toNat, 0, 0]

def k0_chk481 (i : grid0.Coords) (v19601 : BitVec 32) : Prop :=
  (∀ (k0_h1 : k0_cond1 i = 1#1), ∀ a, (k0_off481 v19601) a + S1x16x128.size a ≤ S16384x16x128.size a)
theorem k0_off481_inb : ∀ (i : grid0.Coords) (v19601 : BitVec 32) (k0_hw481 : k0_chk481 i v19601), ∀ (k0_h1 : k0_cond1 i = 1#1), ∀ a, (k0_off481 v19601) a + S1x16x128.size a ≤ S16384x16x128.size a := fun i v19601 k0_hw481 k0_h1 => k0_hw481 k0_h1

def k0_off482 (v19607 : BitVec 32) : Fin 3 → Nat :=
  let c0_i32_18378 : BitVec 32 := 0#32
  let c0_i32_18379 : BitVec 32 := 0#32
  ![v19607.toNat, 0, 0]

def k0_chk482 (i : grid0.Coords) (v19607 : BitVec 32) : Prop :=
  (∀ (k0_h1 : k0_cond1 i = 1#1), ∀ a, (k0_off482 v19607) a + S1x16x128.size a ≤ S16384x16x128.size a)
theorem k0_off482_inb : ∀ (i : grid0.Coords) (v19607 : BitVec 32) (k0_hw482 : k0_chk482 i v19607), ∀ (k0_h1 : k0_cond1 i = 1#1), ∀ a, (k0_off482 v19607) a + S1x16x128.size a ≤ S16384x16x128.size a := fun i v19607 k0_hw482 k0_h1 => k0_hw482 k0_h1

def k0_off483 (v19613 : BitVec 32) : Fin 3 → Nat :=
  let c0_i32_18385 : BitVec 32 := 0#32
  let c0_i32_18386 : BitVec 32 := 0#32
  ![v19613.toNat, 0, 0]

def k0_chk483 (i : grid0.Coords) (v19613 : BitVec 32) : Prop :=
  (∀ (k0_h1 : k0_cond1 i = 1#1), ∀ a, (k0_off483 v19613) a + S1x16x128.size a ≤ S16384x16x128.size a)
theorem k0_off483_inb : ∀ (i : grid0.Coords) (v19613 : BitVec 32) (k0_hw483 : k0_chk483 i v19613), ∀ (k0_h1 : k0_cond1 i = 1#1), ∀ a, (k0_off483 v19613) a + S1x16x128.size a ≤ S16384x16x128.size a := fun i v19613 k0_hw483 k0_h1 => k0_hw483 k0_h1

def k0_off484 (v19619 : BitVec 32) : Fin 3 → Nat :=
  let c0_i32_18392 : BitVec 32 := 0#32
  let c0_i32_18393 : BitVec 32 := 0#32
  ![v19619.toNat, 0, 0]

def k0_chk484 (i : grid0.Coords) (v19619 : BitVec 32) : Prop :=
  (∀ (k0_h1 : k0_cond1 i = 1#1), ∀ a, (k0_off484 v19619) a + S1x16x128.size a ≤ S16384x16x128.size a)
theorem k0_off484_inb : ∀ (i : grid0.Coords) (v19619 : BitVec 32) (k0_hw484 : k0_chk484 i v19619), ∀ (k0_h1 : k0_cond1 i = 1#1), ∀ a, (k0_off484 v19619) a + S1x16x128.size a ≤ S16384x16x128.size a := fun i v19619 k0_hw484 k0_h1 => k0_hw484 k0_h1

def k0_off485 (v19625 : BitVec 32) : Fin 3 → Nat :=
  let c0_i32_18399 : BitVec 32 := 0#32
  let c0_i32_18400 : BitVec 32 := 0#32
  ![v19625.toNat, 0, 0]

def k0_chk485 (i : grid0.Coords) (v19625 : BitVec 32) : Prop :=
  (∀ (k0_h1 : k0_cond1 i = 1#1), ∀ a, (k0_off485 v19625) a + S1x16x128.size a ≤ S16384x16x128.size a)
theorem k0_off485_inb : ∀ (i : grid0.Coords) (v19625 : BitVec 32) (k0_hw485 : k0_chk485 i v19625), ∀ (k0_h1 : k0_cond1 i = 1#1), ∀ a, (k0_off485 v19625) a + S1x16x128.size a ≤ S16384x16x128.size a := fun i v19625 k0_hw485 k0_h1 => k0_hw485 k0_h1

def k0_off486 (v19631 : BitVec 32) : Fin 3 → Nat :=
  let c0_i32_18406 : BitVec 32 := 0#32
  let c0_i32_18407 : BitVec 32 := 0#32
  ![v19631.toNat, 0, 0]

def k0_chk486 (i : grid0.Coords) (v19631 : BitVec 32) : Prop :=
  (∀ (k0_h1 : k0_cond1 i = 1#1), ∀ a, (k0_off486 v19631) a + S1x16x128.size a ≤ S16384x16x128.size a)
theorem k0_off486_inb : ∀ (i : grid0.Coords) (v19631 : BitVec 32) (k0_hw486 : k0_chk486 i v19631), ∀ (k0_h1 : k0_cond1 i = 1#1), ∀ a, (k0_off486 v19631) a + S1x16x128.size a ≤ S16384x16x128.size a := fun i v19631 k0_hw486 k0_h1 => k0_hw486 k0_h1

def k0_off487 (v19637 : BitVec 32) : Fin 3 → Nat :=
  let c0_i32_18413 : BitVec 32 := 0#32
  let c0_i32_18414 : BitVec 32 := 0#32
  ![v19637.toNat, 0, 0]

def k0_chk487 (i : grid0.Coords) (v19637 : BitVec 32) : Prop :=
  (∀ (k0_h1 : k0_cond1 i = 1#1), ∀ a, (k0_off487 v19637) a + S1x16x128.size a ≤ S16384x16x128.size a)
theorem k0_off487_inb : ∀ (i : grid0.Coords) (v19637 : BitVec 32) (k0_hw487 : k0_chk487 i v19637), ∀ (k0_h1 : k0_cond1 i = 1#1), ∀ a, (k0_off487 v19637) a + S1x16x128.size a ≤ S16384x16x128.size a := fun i v19637 k0_hw487 k0_h1 => k0_hw487 k0_h1

def k0_off488 (v19643 : BitVec 32) : Fin 3 → Nat :=
  let c0_i32_18420 : BitVec 32 := 0#32
  let c0_i32_18421 : BitVec 32 := 0#32
  ![v19643.toNat, 0, 0]

def k0_chk488 (i : grid0.Coords) (v19643 : BitVec 32) : Prop :=
  (∀ (k0_h1 : k0_cond1 i = 1#1), ∀ a, (k0_off488 v19643) a + S1x16x128.size a ≤ S16384x16x128.size a)
theorem k0_off488_inb : ∀ (i : grid0.Coords) (v19643 : BitVec 32) (k0_hw488 : k0_chk488 i v19643), ∀ (k0_h1 : k0_cond1 i = 1#1), ∀ a, (k0_off488 v19643) a + S1x16x128.size a ≤ S16384x16x128.size a := fun i v19643 k0_hw488 k0_h1 => k0_hw488 k0_h1

def k0_off489 (v19649 : BitVec 32) : Fin 3 → Nat :=
  let c0_i32_18427 : BitVec 32 := 0#32
  let c0_i32_18428 : BitVec 32 := 0#32
  ![v19649.toNat, 0, 0]

def k0_chk489 (i : grid0.Coords) (v19649 : BitVec 32) : Prop :=
  (∀ (k0_h1 : k0_cond1 i = 1#1), ∀ a, (k0_off489 v19649) a + S1x16x128.size a ≤ S16384x16x128.size a)
theorem k0_off489_inb : ∀ (i : grid0.Coords) (v19649 : BitVec 32) (k0_hw489 : k0_chk489 i v19649), ∀ (k0_h1 : k0_cond1 i = 1#1), ∀ a, (k0_off489 v19649) a + S1x16x128.size a ≤ S16384x16x128.size a := fun i v19649 k0_hw489 k0_h1 => k0_hw489 k0_h1

def k0_off490 (v19655 : BitVec 32) : Fin 3 → Nat :=
  let c0_i32_18434 : BitVec 32 := 0#32
  let c0_i32_18435 : BitVec 32 := 0#32
  ![v19655.toNat, 0, 0]

def k0_chk490 (i : grid0.Coords) (v19655 : BitVec 32) : Prop :=
  (∀ (k0_h1 : k0_cond1 i = 1#1), ∀ a, (k0_off490 v19655) a + S1x16x128.size a ≤ S16384x16x128.size a)
theorem k0_off490_inb : ∀ (i : grid0.Coords) (v19655 : BitVec 32) (k0_hw490 : k0_chk490 i v19655), ∀ (k0_h1 : k0_cond1 i = 1#1), ∀ a, (k0_off490 v19655) a + S1x16x128.size a ≤ S16384x16x128.size a := fun i v19655 k0_hw490 k0_h1 => k0_hw490 k0_h1

def k0_off491 (v19661 : BitVec 32) : Fin 3 → Nat :=
  let c0_i32_18441 : BitVec 32 := 0#32
  let c0_i32_18442 : BitVec 32 := 0#32
  ![v19661.toNat, 0, 0]

def k0_chk491 (i : grid0.Coords) (v19661 : BitVec 32) : Prop :=
  (∀ (k0_h1 : k0_cond1 i = 1#1), ∀ a, (k0_off491 v19661) a + S1x16x128.size a ≤ S16384x16x128.size a)
theorem k0_off491_inb : ∀ (i : grid0.Coords) (v19661 : BitVec 32) (k0_hw491 : k0_chk491 i v19661), ∀ (k0_h1 : k0_cond1 i = 1#1), ∀ a, (k0_off491 v19661) a + S1x16x128.size a ≤ S16384x16x128.size a := fun i v19661 k0_hw491 k0_h1 => k0_hw491 k0_h1

def k0_off492 (v19667 : BitVec 32) : Fin 3 → Nat :=
  let c0_i32_18448 : BitVec 32 := 0#32
  let c0_i32_18449 : BitVec 32 := 0#32
  ![v19667.toNat, 0, 0]

def k0_chk492 (i : grid0.Coords) (v19667 : BitVec 32) : Prop :=
  (∀ (k0_h1 : k0_cond1 i = 1#1), ∀ a, (k0_off492 v19667) a + S1x16x128.size a ≤ S16384x16x128.size a)
theorem k0_off492_inb : ∀ (i : grid0.Coords) (v19667 : BitVec 32) (k0_hw492 : k0_chk492 i v19667), ∀ (k0_h1 : k0_cond1 i = 1#1), ∀ a, (k0_off492 v19667) a + S1x16x128.size a ≤ S16384x16x128.size a := fun i v19667 k0_hw492 k0_h1 => k0_hw492 k0_h1

def k0_off493 (v19673 : BitVec 32) : Fin 3 → Nat :=
  let c0_i32_18455 : BitVec 32 := 0#32
  let c0_i32_18456 : BitVec 32 := 0#32
  ![v19673.toNat, 0, 0]

def k0_chk493 (i : grid0.Coords) (v19673 : BitVec 32) : Prop :=
  (∀ (k0_h1 : k0_cond1 i = 1#1), ∀ a, (k0_off493 v19673) a + S1x16x128.size a ≤ S16384x16x128.size a)
theorem k0_off493_inb : ∀ (i : grid0.Coords) (v19673 : BitVec 32) (k0_hw493 : k0_chk493 i v19673), ∀ (k0_h1 : k0_cond1 i = 1#1), ∀ a, (k0_off493 v19673) a + S1x16x128.size a ≤ S16384x16x128.size a := fun i v19673 k0_hw493 k0_h1 => k0_hw493 k0_h1

def k0_off494 (v19679 : BitVec 32) : Fin 3 → Nat :=
  let c0_i32_18462 : BitVec 32 := 0#32
  let c0_i32_18463 : BitVec 32 := 0#32
  ![v19679.toNat, 0, 0]

def k0_chk494 (i : grid0.Coords) (v19679 : BitVec 32) : Prop :=
  (∀ (k0_h1 : k0_cond1 i = 1#1), ∀ a, (k0_off494 v19679) a + S1x16x128.size a ≤ S16384x16x128.size a)
theorem k0_off494_inb : ∀ (i : grid0.Coords) (v19679 : BitVec 32) (k0_hw494 : k0_chk494 i v19679), ∀ (k0_h1 : k0_cond1 i = 1#1), ∀ a, (k0_off494 v19679) a + S1x16x128.size a ≤ S16384x16x128.size a := fun i v19679 k0_hw494 k0_h1 => k0_hw494 k0_h1

def k0_off495 (v19685 : BitVec 32) : Fin 3 → Nat :=
  let c0_i32_18469 : BitVec 32 := 0#32
  let c0_i32_18470 : BitVec 32 := 0#32
  ![v19685.toNat, 0, 0]

def k0_chk495 (i : grid0.Coords) (v19685 : BitVec 32) : Prop :=
  (∀ (k0_h1 : k0_cond1 i = 1#1), ∀ a, (k0_off495 v19685) a + S1x16x128.size a ≤ S16384x16x128.size a)
theorem k0_off495_inb : ∀ (i : grid0.Coords) (v19685 : BitVec 32) (k0_hw495 : k0_chk495 i v19685), ∀ (k0_h1 : k0_cond1 i = 1#1), ∀ a, (k0_off495 v19685) a + S1x16x128.size a ≤ S16384x16x128.size a := fun i v19685 k0_hw495 k0_h1 => k0_hw495 k0_h1

def k0_off496 (v19691 : BitVec 32) : Fin 3 → Nat :=
  let c0_i32_18476 : BitVec 32 := 0#32
  let c0_i32_18477 : BitVec 32 := 0#32
  ![v19691.toNat, 0, 0]

def k0_chk496 (i : grid0.Coords) (v19691 : BitVec 32) : Prop :=
  (∀ (k0_h1 : k0_cond1 i = 1#1), ∀ a, (k0_off496 v19691) a + S1x16x128.size a ≤ S16384x16x128.size a)
theorem k0_off496_inb : ∀ (i : grid0.Coords) (v19691 : BitVec 32) (k0_hw496 : k0_chk496 i v19691), ∀ (k0_h1 : k0_cond1 i = 1#1), ∀ a, (k0_off496 v19691) a + S1x16x128.size a ≤ S16384x16x128.size a := fun i v19691 k0_hw496 k0_h1 => k0_hw496 k0_h1

def k0_off497 (v19697 : BitVec 32) : Fin 3 → Nat :=
  let c0_i32_18483 : BitVec 32 := 0#32
  let c0_i32_18484 : BitVec 32 := 0#32
  ![v19697.toNat, 0, 0]

def k0_chk497 (i : grid0.Coords) (v19697 : BitVec 32) : Prop :=
  (∀ (k0_h1 : k0_cond1 i = 1#1), ∀ a, (k0_off497 v19697) a + S1x16x128.size a ≤ S16384x16x128.size a)
theorem k0_off497_inb : ∀ (i : grid0.Coords) (v19697 : BitVec 32) (k0_hw497 : k0_chk497 i v19697), ∀ (k0_h1 : k0_cond1 i = 1#1), ∀ a, (k0_off497 v19697) a + S1x16x128.size a ≤ S16384x16x128.size a := fun i v19697 k0_hw497 k0_h1 => k0_hw497 k0_h1

def k0_off498 (v19703 : BitVec 32) : Fin 3 → Nat :=
  let c0_i32_18490 : BitVec 32 := 0#32
  let c0_i32_18491 : BitVec 32 := 0#32
  ![v19703.toNat, 0, 0]

def k0_chk498 (i : grid0.Coords) (v19703 : BitVec 32) : Prop :=
  (∀ (k0_h1 : k0_cond1 i = 1#1), ∀ a, (k0_off498 v19703) a + S1x16x128.size a ≤ S16384x16x128.size a)
theorem k0_off498_inb : ∀ (i : grid0.Coords) (v19703 : BitVec 32) (k0_hw498 : k0_chk498 i v19703), ∀ (k0_h1 : k0_cond1 i = 1#1), ∀ a, (k0_off498 v19703) a + S1x16x128.size a ≤ S16384x16x128.size a := fun i v19703 k0_hw498 k0_h1 => k0_hw498 k0_h1

def k0_off499 (v19709 : BitVec 32) : Fin 3 → Nat :=
  let c0_i32_18497 : BitVec 32 := 0#32
  let c0_i32_18498 : BitVec 32 := 0#32
  ![v19709.toNat, 0, 0]

def k0_chk499 (i : grid0.Coords) (v19709 : BitVec 32) : Prop :=
  (∀ (k0_h1 : k0_cond1 i = 1#1), ∀ a, (k0_off499 v19709) a + S1x16x128.size a ≤ S16384x16x128.size a)
theorem k0_off499_inb : ∀ (i : grid0.Coords) (v19709 : BitVec 32) (k0_hw499 : k0_chk499 i v19709), ∀ (k0_h1 : k0_cond1 i = 1#1), ∀ a, (k0_off499 v19709) a + S1x16x128.size a ≤ S16384x16x128.size a := fun i v19709 k0_hw499 k0_h1 => k0_hw499 k0_h1

def k0_off500 (v19715 : BitVec 32) : Fin 3 → Nat :=
  let c0_i32_18504 : BitVec 32 := 0#32
  let c0_i32_18505 : BitVec 32 := 0#32
  ![v19715.toNat, 0, 0]

def k0_chk500 (i : grid0.Coords) (v19715 : BitVec 32) : Prop :=
  (∀ (k0_h1 : k0_cond1 i = 1#1), ∀ a, (k0_off500 v19715) a + S1x16x128.size a ≤ S16384x16x128.size a)
theorem k0_off500_inb : ∀ (i : grid0.Coords) (v19715 : BitVec 32) (k0_hw500 : k0_chk500 i v19715), ∀ (k0_h1 : k0_cond1 i = 1#1), ∀ a, (k0_off500 v19715) a + S1x16x128.size a ≤ S16384x16x128.size a := fun i v19715 k0_hw500 k0_h1 => k0_hw500 k0_h1

def k0_off501 (v19721 : BitVec 32) : Fin 3 → Nat :=
  let c0_i32_18511 : BitVec 32 := 0#32
  let c0_i32_18512 : BitVec 32 := 0#32
  ![v19721.toNat, 0, 0]

def k0_chk501 (i : grid0.Coords) (v19721 : BitVec 32) : Prop :=
  (∀ (k0_h1 : k0_cond1 i = 1#1), ∀ a, (k0_off501 v19721) a + S1x16x128.size a ≤ S16384x16x128.size a)
theorem k0_off501_inb : ∀ (i : grid0.Coords) (v19721 : BitVec 32) (k0_hw501 : k0_chk501 i v19721), ∀ (k0_h1 : k0_cond1 i = 1#1), ∀ a, (k0_off501 v19721) a + S1x16x128.size a ≤ S16384x16x128.size a := fun i v19721 k0_hw501 k0_h1 => k0_hw501 k0_h1

def k0_off502 (v19727 : BitVec 32) : Fin 3 → Nat :=
  let c0_i32_18518 : BitVec 32 := 0#32
  let c0_i32_18519 : BitVec 32 := 0#32
  ![v19727.toNat, 0, 0]

def k0_chk502 (i : grid0.Coords) (v19727 : BitVec 32) : Prop :=
  (∀ (k0_h1 : k0_cond1 i = 1#1), ∀ a, (k0_off502 v19727) a + S1x16x128.size a ≤ S16384x16x128.size a)
theorem k0_off502_inb : ∀ (i : grid0.Coords) (v19727 : BitVec 32) (k0_hw502 : k0_chk502 i v19727), ∀ (k0_h1 : k0_cond1 i = 1#1), ∀ a, (k0_off502 v19727) a + S1x16x128.size a ≤ S16384x16x128.size a := fun i v19727 k0_hw502 k0_h1 => k0_hw502 k0_h1

def k0_off503 (v19733 : BitVec 32) : Fin 3 → Nat :=
  let c0_i32_18525 : BitVec 32 := 0#32
  let c0_i32_18526 : BitVec 32 := 0#32
  ![v19733.toNat, 0, 0]

def k0_chk503 (i : grid0.Coords) (v19733 : BitVec 32) : Prop :=
  (∀ (k0_h1 : k0_cond1 i = 1#1), ∀ a, (k0_off503 v19733) a + S1x16x128.size a ≤ S16384x16x128.size a)
theorem k0_off503_inb : ∀ (i : grid0.Coords) (v19733 : BitVec 32) (k0_hw503 : k0_chk503 i v19733), ∀ (k0_h1 : k0_cond1 i = 1#1), ∀ a, (k0_off503 v19733) a + S1x16x128.size a ≤ S16384x16x128.size a := fun i v19733 k0_hw503 k0_h1 => k0_hw503 k0_h1

def k0_off504 (v19739 : BitVec 32) : Fin 3 → Nat :=
  let c0_i32_18532 : BitVec 32 := 0#32
  let c0_i32_18533 : BitVec 32 := 0#32
  ![v19739.toNat, 0, 0]

def k0_chk504 (i : grid0.Coords) (v19739 : BitVec 32) : Prop :=
  (∀ (k0_h1 : k0_cond1 i = 1#1), ∀ a, (k0_off504 v19739) a + S1x16x128.size a ≤ S16384x16x128.size a)
theorem k0_off504_inb : ∀ (i : grid0.Coords) (v19739 : BitVec 32) (k0_hw504 : k0_chk504 i v19739), ∀ (k0_h1 : k0_cond1 i = 1#1), ∀ a, (k0_off504 v19739) a + S1x16x128.size a ≤ S16384x16x128.size a := fun i v19739 k0_hw504 k0_h1 => k0_hw504 k0_h1

def k0_off505 (v19745 : BitVec 32) : Fin 3 → Nat :=
  let c0_i32_18539 : BitVec 32 := 0#32
  let c0_i32_18540 : BitVec 32 := 0#32
  ![v19745.toNat, 0, 0]

def k0_chk505 (i : grid0.Coords) (v19745 : BitVec 32) : Prop :=
  (∀ (k0_h1 : k0_cond1 i = 1#1), ∀ a, (k0_off505 v19745) a + S1x16x128.size a ≤ S16384x16x128.size a)
theorem k0_off505_inb : ∀ (i : grid0.Coords) (v19745 : BitVec 32) (k0_hw505 : k0_chk505 i v19745), ∀ (k0_h1 : k0_cond1 i = 1#1), ∀ a, (k0_off505 v19745) a + S1x16x128.size a ≤ S16384x16x128.size a := fun i v19745 k0_hw505 k0_h1 => k0_hw505 k0_h1

def k0_off506 (v19751 : BitVec 32) : Fin 3 → Nat :=
  let c0_i32_18546 : BitVec 32 := 0#32
  let c0_i32_18547 : BitVec 32 := 0#32
  ![v19751.toNat, 0, 0]

def k0_chk506 (i : grid0.Coords) (v19751 : BitVec 32) : Prop :=
  (∀ (k0_h1 : k0_cond1 i = 1#1), ∀ a, (k0_off506 v19751) a + S1x16x128.size a ≤ S16384x16x128.size a)
theorem k0_off506_inb : ∀ (i : grid0.Coords) (v19751 : BitVec 32) (k0_hw506 : k0_chk506 i v19751), ∀ (k0_h1 : k0_cond1 i = 1#1), ∀ a, (k0_off506 v19751) a + S1x16x128.size a ≤ S16384x16x128.size a := fun i v19751 k0_hw506 k0_h1 => k0_hw506 k0_h1

def k0_off507 (v19757 : BitVec 32) : Fin 3 → Nat :=
  let c0_i32_18553 : BitVec 32 := 0#32
  let c0_i32_18554 : BitVec 32 := 0#32
  ![v19757.toNat, 0, 0]

def k0_chk507 (i : grid0.Coords) (v19757 : BitVec 32) : Prop :=
  (∀ (k0_h1 : k0_cond1 i = 1#1), ∀ a, (k0_off507 v19757) a + S1x16x128.size a ≤ S16384x16x128.size a)
theorem k0_off507_inb : ∀ (i : grid0.Coords) (v19757 : BitVec 32) (k0_hw507 : k0_chk507 i v19757), ∀ (k0_h1 : k0_cond1 i = 1#1), ∀ a, (k0_off507 v19757) a + S1x16x128.size a ≤ S16384x16x128.size a := fun i v19757 k0_hw507 k0_h1 => k0_hw507 k0_h1

def k0_off508 (v19763 : BitVec 32) : Fin 3 → Nat :=
  let c0_i32_18560 : BitVec 32 := 0#32
  let c0_i32_18561 : BitVec 32 := 0#32
  ![v19763.toNat, 0, 0]

def k0_chk508 (i : grid0.Coords) (v19763 : BitVec 32) : Prop :=
  (∀ (k0_h1 : k0_cond1 i = 1#1), ∀ a, (k0_off508 v19763) a + S1x16x128.size a ≤ S16384x16x128.size a)
theorem k0_off508_inb : ∀ (i : grid0.Coords) (v19763 : BitVec 32) (k0_hw508 : k0_chk508 i v19763), ∀ (k0_h1 : k0_cond1 i = 1#1), ∀ a, (k0_off508 v19763) a + S1x16x128.size a ≤ S16384x16x128.size a := fun i v19763 k0_hw508 k0_h1 => k0_hw508 k0_h1

def k0_off509 (v19769 : BitVec 32) : Fin 3 → Nat :=
  let c0_i32_18567 : BitVec 32 := 0#32
  let c0_i32_18568 : BitVec 32 := 0#32
  ![v19769.toNat, 0, 0]

def k0_chk509 (i : grid0.Coords) (v19769 : BitVec 32) : Prop :=
  (∀ (k0_h1 : k0_cond1 i = 1#1), ∀ a, (k0_off509 v19769) a + S1x16x128.size a ≤ S16384x16x128.size a)
theorem k0_off509_inb : ∀ (i : grid0.Coords) (v19769 : BitVec 32) (k0_hw509 : k0_chk509 i v19769), ∀ (k0_h1 : k0_cond1 i = 1#1), ∀ a, (k0_off509 v19769) a + S1x16x128.size a ≤ S16384x16x128.size a := fun i v19769 k0_hw509 k0_h1 => k0_hw509 k0_h1

def k0_off510 (v19775 : BitVec 32) : Fin 3 → Nat :=
  let c0_i32_18574 : BitVec 32 := 0#32
  let c0_i32_18575 : BitVec 32 := 0#32
  ![v19775.toNat, 0, 0]

def k0_chk510 (i : grid0.Coords) (v19775 : BitVec 32) : Prop :=
  (∀ (k0_h1 : k0_cond1 i = 1#1), ∀ a, (k0_off510 v19775) a + S1x16x128.size a ≤ S16384x16x128.size a)
theorem k0_off510_inb : ∀ (i : grid0.Coords) (v19775 : BitVec 32) (k0_hw510 : k0_chk510 i v19775), ∀ (k0_h1 : k0_cond1 i = 1#1), ∀ a, (k0_off510 v19775) a + S1x16x128.size a ≤ S16384x16x128.size a := fun i v19775 k0_hw510 k0_h1 => k0_hw510 k0_h1

def k0_off511 (v19781 : BitVec 32) : Fin 3 → Nat :=
  let c0_i32_18581 : BitVec 32 := 0#32
  let c0_i32_18582 : BitVec 32 := 0#32
  ![v19781.toNat, 0, 0]

def k0_chk511 (i : grid0.Coords) (v19781 : BitVec 32) : Prop :=
  (∀ (k0_h1 : k0_cond1 i = 1#1), ∀ a, (k0_off511 v19781) a + S1x16x128.size a ≤ S16384x16x128.size a)
theorem k0_off511_inb : ∀ (i : grid0.Coords) (v19781 : BitVec 32) (k0_hw511 : k0_chk511 i v19781), ∀ (k0_h1 : k0_cond1 i = 1#1), ∀ a, (k0_off511 v19781) a + S1x16x128.size a ≤ S16384x16x128.size a := fun i v19781 k0_hw511 k0_h1 => k0_hw511 k0_h1

def k0_off512 (v19787 : BitVec 32) : Fin 3 → Nat :=
  let c0_i32_18588 : BitVec 32 := 0#32
  let c0_i32_18589 : BitVec 32 := 0#32
  ![v19787.toNat, 0, 0]

def k0_chk512 (i : grid0.Coords) (v19787 : BitVec 32) : Prop :=
  (∀ (k0_h1 : k0_cond1 i = 1#1), ∀ a, (k0_off512 v19787) a + S1x16x128.size a ≤ S16384x16x128.size a)
theorem k0_off512_inb : ∀ (i : grid0.Coords) (v19787 : BitVec 32) (k0_hw512 : k0_chk512 i v19787), ∀ (k0_h1 : k0_cond1 i = 1#1), ∀ a, (k0_off512 v19787) a + S1x16x128.size a ≤ S16384x16x128.size a := fun i v19787 k0_hw512 k0_h1 => k0_hw512 k0_h1

def k0_off513 (v19793 : BitVec 32) : Fin 3 → Nat :=
  let c0_i32_18595 : BitVec 32 := 0#32
  let c0_i32_18596 : BitVec 32 := 0#32
  ![v19793.toNat, 0, 0]

def k0_chk513 (i : grid0.Coords) (v19793 : BitVec 32) : Prop :=
  (∀ (k0_h1 : k0_cond1 i = 1#1), ∀ a, (k0_off513 v19793) a + S1x16x128.size a ≤ S16384x16x128.size a)
theorem k0_off513_inb : ∀ (i : grid0.Coords) (v19793 : BitVec 32) (k0_hw513 : k0_chk513 i v19793), ∀ (k0_h1 : k0_cond1 i = 1#1), ∀ a, (k0_off513 v19793) a + S1x16x128.size a ≤ S16384x16x128.size a := fun i v19793 k0_hw513 k0_h1 => k0_hw513 k0_h1

def k0_off514 (v19799 : BitVec 32) : Fin 3 → Nat :=
  let c0_i32_18602 : BitVec 32 := 0#32
  let c0_i32_18603 : BitVec 32 := 0#32
  ![v19799.toNat, 0, 0]

def k0_chk514 (i : grid0.Coords) (v19799 : BitVec 32) : Prop :=
  (∀ (k0_h1 : k0_cond1 i = 1#1), ∀ a, (k0_off514 v19799) a + S1x16x128.size a ≤ S16384x16x128.size a)
theorem k0_off514_inb : ∀ (i : grid0.Coords) (v19799 : BitVec 32) (k0_hw514 : k0_chk514 i v19799), ∀ (k0_h1 : k0_cond1 i = 1#1), ∀ a, (k0_off514 v19799) a + S1x16x128.size a ≤ S16384x16x128.size a := fun i v19799 k0_hw514 k0_h1 => k0_hw514 k0_h1

def k0_off515 (v19805 : BitVec 32) : Fin 3 → Nat :=
  let c0_i32_18609 : BitVec 32 := 0#32
  let c0_i32_18610 : BitVec 32 := 0#32
  ![v19805.toNat, 0, 0]

def k0_chk515 (i : grid0.Coords) (v19805 : BitVec 32) : Prop :=
  (∀ (k0_h1 : k0_cond1 i = 1#1), ∀ a, (k0_off515 v19805) a + S1x16x128.size a ≤ S16384x16x128.size a)
theorem k0_off515_inb : ∀ (i : grid0.Coords) (v19805 : BitVec 32) (k0_hw515 : k0_chk515 i v19805), ∀ (k0_h1 : k0_cond1 i = 1#1), ∀ a, (k0_off515 v19805) a + S1x16x128.size a ≤ S16384x16x128.size a := fun i v19805 k0_hw515 k0_h1 => k0_hw515 k0_h1

def k0_off516 (v19811 : BitVec 32) : Fin 3 → Nat :=
  let c0_i32_18616 : BitVec 32 := 0#32
  let c0_i32_18617 : BitVec 32 := 0#32
  ![v19811.toNat, 0, 0]

def k0_chk516 (i : grid0.Coords) (v19811 : BitVec 32) : Prop :=
  (∀ (k0_h1 : k0_cond1 i = 1#1), ∀ a, (k0_off516 v19811) a + S1x16x128.size a ≤ S16384x16x128.size a)
theorem k0_off516_inb : ∀ (i : grid0.Coords) (v19811 : BitVec 32) (k0_hw516 : k0_chk516 i v19811), ∀ (k0_h1 : k0_cond1 i = 1#1), ∀ a, (k0_off516 v19811) a + S1x16x128.size a ≤ S16384x16x128.size a := fun i v19811 k0_hw516 k0_h1 => k0_hw516 k0_h1

def k0_off517 (v19817 : BitVec 32) : Fin 3 → Nat :=
  let c0_i32_18623 : BitVec 32 := 0#32
  let c0_i32_18624 : BitVec 32 := 0#32
  ![v19817.toNat, 0, 0]

def k0_chk517 (i : grid0.Coords) (v19817 : BitVec 32) : Prop :=
  (∀ (k0_h1 : k0_cond1 i = 1#1), ∀ a, (k0_off517 v19817) a + S1x16x128.size a ≤ S16384x16x128.size a)
theorem k0_off517_inb : ∀ (i : grid0.Coords) (v19817 : BitVec 32) (k0_hw517 : k0_chk517 i v19817), ∀ (k0_h1 : k0_cond1 i = 1#1), ∀ a, (k0_off517 v19817) a + S1x16x128.size a ≤ S16384x16x128.size a := fun i v19817 k0_hw517 k0_h1 => k0_hw517 k0_h1

def k0_off518 (v19823 : BitVec 32) : Fin 3 → Nat :=
  let c0_i32_18630 : BitVec 32 := 0#32
  let c0_i32_18631 : BitVec 32 := 0#32
  ![v19823.toNat, 0, 0]

def k0_chk518 (i : grid0.Coords) (v19823 : BitVec 32) : Prop :=
  (∀ (k0_h1 : k0_cond1 i = 1#1), ∀ a, (k0_off518 v19823) a + S1x16x128.size a ≤ S16384x16x128.size a)
theorem k0_off518_inb : ∀ (i : grid0.Coords) (v19823 : BitVec 32) (k0_hw518 : k0_chk518 i v19823), ∀ (k0_h1 : k0_cond1 i = 1#1), ∀ a, (k0_off518 v19823) a + S1x16x128.size a ≤ S16384x16x128.size a := fun i v19823 k0_hw518 k0_h1 => k0_hw518 k0_h1

def k0_off519 (v19829 : BitVec 32) : Fin 3 → Nat :=
  let c0_i32_18637 : BitVec 32 := 0#32
  let c0_i32_18638 : BitVec 32 := 0#32
  ![v19829.toNat, 0, 0]

def k0_chk519 (i : grid0.Coords) (v19829 : BitVec 32) : Prop :=
  (∀ (k0_h1 : k0_cond1 i = 1#1), ∀ a, (k0_off519 v19829) a + S1x16x128.size a ≤ S16384x16x128.size a)
theorem k0_off519_inb : ∀ (i : grid0.Coords) (v19829 : BitVec 32) (k0_hw519 : k0_chk519 i v19829), ∀ (k0_h1 : k0_cond1 i = 1#1), ∀ a, (k0_off519 v19829) a + S1x16x128.size a ≤ S16384x16x128.size a := fun i v19829 k0_hw519 k0_h1 => k0_hw519 k0_h1

def k0_off520 (v19835 : BitVec 32) : Fin 3 → Nat :=
  let c0_i32_18644 : BitVec 32 := 0#32
  let c0_i32_18645 : BitVec 32 := 0#32
  ![v19835.toNat, 0, 0]

def k0_chk520 (i : grid0.Coords) (v19835 : BitVec 32) : Prop :=
  (∀ (k0_h1 : k0_cond1 i = 1#1), ∀ a, (k0_off520 v19835) a + S1x16x128.size a ≤ S16384x16x128.size a)
theorem k0_off520_inb : ∀ (i : grid0.Coords) (v19835 : BitVec 32) (k0_hw520 : k0_chk520 i v19835), ∀ (k0_h1 : k0_cond1 i = 1#1), ∀ a, (k0_off520 v19835) a + S1x16x128.size a ≤ S16384x16x128.size a := fun i v19835 k0_hw520 k0_h1 => k0_hw520 k0_h1

def k0_off521 (v19841 : BitVec 32) : Fin 3 → Nat :=
  let c0_i32_18651 : BitVec 32 := 0#32
  let c0_i32_18652 : BitVec 32 := 0#32
  ![v19841.toNat, 0, 0]

def k0_chk521 (i : grid0.Coords) (v19841 : BitVec 32) : Prop :=
  (∀ (k0_h1 : k0_cond1 i = 1#1), ∀ a, (k0_off521 v19841) a + S1x16x128.size a ≤ S16384x16x128.size a)
theorem k0_off521_inb : ∀ (i : grid0.Coords) (v19841 : BitVec 32) (k0_hw521 : k0_chk521 i v19841), ∀ (k0_h1 : k0_cond1 i = 1#1), ∀ a, (k0_off521 v19841) a + S1x16x128.size a ≤ S16384x16x128.size a := fun i v19841 k0_hw521 k0_h1 => k0_hw521 k0_h1

def k0_off522 (v19847 : BitVec 32) : Fin 3 → Nat :=
  let c0_i32_18658 : BitVec 32 := 0#32
  let c0_i32_18659 : BitVec 32 := 0#32
  ![v19847.toNat, 0, 0]

def k0_chk522 (i : grid0.Coords) (v19847 : BitVec 32) : Prop :=
  (∀ (k0_h1 : k0_cond1 i = 1#1), ∀ a, (k0_off522 v19847) a + S1x16x128.size a ≤ S16384x16x128.size a)
theorem k0_off522_inb : ∀ (i : grid0.Coords) (v19847 : BitVec 32) (k0_hw522 : k0_chk522 i v19847), ∀ (k0_h1 : k0_cond1 i = 1#1), ∀ a, (k0_off522 v19847) a + S1x16x128.size a ≤ S16384x16x128.size a := fun i v19847 k0_hw522 k0_h1 => k0_hw522 k0_h1

def k0_off523 (v19853 : BitVec 32) : Fin 3 → Nat :=
  let c0_i32_18665 : BitVec 32 := 0#32
  let c0_i32_18666 : BitVec 32 := 0#32
  ![v19853.toNat, 0, 0]

def k0_chk523 (i : grid0.Coords) (v19853 : BitVec 32) : Prop :=
  (∀ (k0_h1 : k0_cond1 i = 1#1), ∀ a, (k0_off523 v19853) a + S1x16x128.size a ≤ S16384x16x128.size a)
theorem k0_off523_inb : ∀ (i : grid0.Coords) (v19853 : BitVec 32) (k0_hw523 : k0_chk523 i v19853), ∀ (k0_h1 : k0_cond1 i = 1#1), ∀ a, (k0_off523 v19853) a + S1x16x128.size a ≤ S16384x16x128.size a := fun i v19853 k0_hw523 k0_h1 => k0_hw523 k0_h1

def k0_off524 (v19859 : BitVec 32) : Fin 3 → Nat :=
  let c0_i32_18672 : BitVec 32 := 0#32
  let c0_i32_18673 : BitVec 32 := 0#32
  ![v19859.toNat, 0, 0]

def k0_chk524 (i : grid0.Coords) (v19859 : BitVec 32) : Prop :=
  (∀ (k0_h1 : k0_cond1 i = 1#1), ∀ a, (k0_off524 v19859) a + S1x16x128.size a ≤ S16384x16x128.size a)
theorem k0_off524_inb : ∀ (i : grid0.Coords) (v19859 : BitVec 32) (k0_hw524 : k0_chk524 i v19859), ∀ (k0_h1 : k0_cond1 i = 1#1), ∀ a, (k0_off524 v19859) a + S1x16x128.size a ≤ S16384x16x128.size a := fun i v19859 k0_hw524 k0_h1 => k0_hw524 k0_h1

def k0_off525 (v19865 : BitVec 32) : Fin 3 → Nat :=
  let c0_i32_18679 : BitVec 32 := 0#32
  let c0_i32_18680 : BitVec 32 := 0#32
  ![v19865.toNat, 0, 0]

def k0_chk525 (i : grid0.Coords) (v19865 : BitVec 32) : Prop :=
  (∀ (k0_h1 : k0_cond1 i = 1#1), ∀ a, (k0_off525 v19865) a + S1x16x128.size a ≤ S16384x16x128.size a)
theorem k0_off525_inb : ∀ (i : grid0.Coords) (v19865 : BitVec 32) (k0_hw525 : k0_chk525 i v19865), ∀ (k0_h1 : k0_cond1 i = 1#1), ∀ a, (k0_off525 v19865) a + S1x16x128.size a ≤ S16384x16x128.size a := fun i v19865 k0_hw525 k0_h1 => k0_hw525 k0_h1

def k0_off526 (v19871 : BitVec 32) : Fin 3 → Nat :=
  let c0_i32_18686 : BitVec 32 := 0#32
  let c0_i32_18687 : BitVec 32 := 0#32
  ![v19871.toNat, 0, 0]

def k0_chk526 (i : grid0.Coords) (v19871 : BitVec 32) : Prop :=
  (∀ (k0_h1 : k0_cond1 i = 1#1), ∀ a, (k0_off526 v19871) a + S1x16x128.size a ≤ S16384x16x128.size a)
theorem k0_off526_inb : ∀ (i : grid0.Coords) (v19871 : BitVec 32) (k0_hw526 : k0_chk526 i v19871), ∀ (k0_h1 : k0_cond1 i = 1#1), ∀ a, (k0_off526 v19871) a + S1x16x128.size a ≤ S16384x16x128.size a := fun i v19871 k0_hw526 k0_h1 => k0_hw526 k0_h1

def k0_off527 (v19877 : BitVec 32) : Fin 3 → Nat :=
  let c0_i32_18693 : BitVec 32 := 0#32
  let c0_i32_18694 : BitVec 32 := 0#32
  ![v19877.toNat, 0, 0]

def k0_chk527 (i : grid0.Coords) (v19877 : BitVec 32) : Prop :=
  (∀ (k0_h1 : k0_cond1 i = 1#1), ∀ a, (k0_off527 v19877) a + S1x16x128.size a ≤ S16384x16x128.size a)
theorem k0_off527_inb : ∀ (i : grid0.Coords) (v19877 : BitVec 32) (k0_hw527 : k0_chk527 i v19877), ∀ (k0_h1 : k0_cond1 i = 1#1), ∀ a, (k0_off527 v19877) a + S1x16x128.size a ≤ S16384x16x128.size a := fun i v19877 k0_hw527 k0_h1 => k0_hw527 k0_h1

def k0_off528 (v19883 : BitVec 32) : Fin 3 → Nat :=
  let c0_i32_18700 : BitVec 32 := 0#32
  let c0_i32_18701 : BitVec 32 := 0#32
  ![v19883.toNat, 0, 0]

def k0_chk528 (i : grid0.Coords) (v19883 : BitVec 32) : Prop :=
  (∀ (k0_h1 : k0_cond1 i = 1#1), ∀ a, (k0_off528 v19883) a + S1x16x128.size a ≤ S16384x16x128.size a)
theorem k0_off528_inb : ∀ (i : grid0.Coords) (v19883 : BitVec 32) (k0_hw528 : k0_chk528 i v19883), ∀ (k0_h1 : k0_cond1 i = 1#1), ∀ a, (k0_off528 v19883) a + S1x16x128.size a ≤ S16384x16x128.size a := fun i v19883 k0_hw528 k0_h1 => k0_hw528 k0_h1

def k0_off529 (v19889 : BitVec 32) : Fin 3 → Nat :=
  let c0_i32_18707 : BitVec 32 := 0#32
  let c0_i32_18708 : BitVec 32 := 0#32
  ![v19889.toNat, 0, 0]

def k0_chk529 (i : grid0.Coords) (v19889 : BitVec 32) : Prop :=
  (∀ (k0_h1 : k0_cond1 i = 1#1), ∀ a, (k0_off529 v19889) a + S1x16x128.size a ≤ S16384x16x128.size a)
theorem k0_off529_inb : ∀ (i : grid0.Coords) (v19889 : BitVec 32) (k0_hw529 : k0_chk529 i v19889), ∀ (k0_h1 : k0_cond1 i = 1#1), ∀ a, (k0_off529 v19889) a + S1x16x128.size a ≤ S16384x16x128.size a := fun i v19889 k0_hw529 k0_h1 => k0_hw529 k0_h1

def k0_off530 (v19895 : BitVec 32) : Fin 3 → Nat :=
  let c0_i32_18714 : BitVec 32 := 0#32
  let c0_i32_18715 : BitVec 32 := 0#32
  ![v19895.toNat, 0, 0]

def k0_chk530 (i : grid0.Coords) (v19895 : BitVec 32) : Prop :=
  (∀ (k0_h1 : k0_cond1 i = 1#1), ∀ a, (k0_off530 v19895) a + S1x16x128.size a ≤ S16384x16x128.size a)
theorem k0_off530_inb : ∀ (i : grid0.Coords) (v19895 : BitVec 32) (k0_hw530 : k0_chk530 i v19895), ∀ (k0_h1 : k0_cond1 i = 1#1), ∀ a, (k0_off530 v19895) a + S1x16x128.size a ≤ S16384x16x128.size a := fun i v19895 k0_hw530 k0_h1 => k0_hw530 k0_h1

def k0_off531 (v19901 : BitVec 32) : Fin 3 → Nat :=
  let c0_i32_18721 : BitVec 32 := 0#32
  let c0_i32_18722 : BitVec 32 := 0#32
  ![v19901.toNat, 0, 0]

def k0_chk531 (i : grid0.Coords) (v19901 : BitVec 32) : Prop :=
  (∀ (k0_h1 : k0_cond1 i = 1#1), ∀ a, (k0_off531 v19901) a + S1x16x128.size a ≤ S16384x16x128.size a)
theorem k0_off531_inb : ∀ (i : grid0.Coords) (v19901 : BitVec 32) (k0_hw531 : k0_chk531 i v19901), ∀ (k0_h1 : k0_cond1 i = 1#1), ∀ a, (k0_off531 v19901) a + S1x16x128.size a ≤ S16384x16x128.size a := fun i v19901 k0_hw531 k0_h1 => k0_hw531 k0_h1

def k0_off532 (v19907 : BitVec 32) : Fin 3 → Nat :=
  let c0_i32_18728 : BitVec 32 := 0#32
  let c0_i32_18729 : BitVec 32 := 0#32
  ![v19907.toNat, 0, 0]

def k0_chk532 (i : grid0.Coords) (v19907 : BitVec 32) : Prop :=
  (∀ (k0_h1 : k0_cond1 i = 1#1), ∀ a, (k0_off532 v19907) a + S1x16x128.size a ≤ S16384x16x128.size a)
theorem k0_off532_inb : ∀ (i : grid0.Coords) (v19907 : BitVec 32) (k0_hw532 : k0_chk532 i v19907), ∀ (k0_h1 : k0_cond1 i = 1#1), ∀ a, (k0_off532 v19907) a + S1x16x128.size a ≤ S16384x16x128.size a := fun i v19907 k0_hw532 k0_h1 => k0_hw532 k0_h1

def k0_off533 (v19913 : BitVec 32) : Fin 3 → Nat :=
  let c0_i32_18735 : BitVec 32 := 0#32
  let c0_i32_18736 : BitVec 32 := 0#32
  ![v19913.toNat, 0, 0]

def k0_chk533 (i : grid0.Coords) (v19913 : BitVec 32) : Prop :=
  (∀ (k0_h1 : k0_cond1 i = 1#1), ∀ a, (k0_off533 v19913) a + S1x16x128.size a ≤ S16384x16x128.size a)
theorem k0_off533_inb : ∀ (i : grid0.Coords) (v19913 : BitVec 32) (k0_hw533 : k0_chk533 i v19913), ∀ (k0_h1 : k0_cond1 i = 1#1), ∀ a, (k0_off533 v19913) a + S1x16x128.size a ≤ S16384x16x128.size a := fun i v19913 k0_hw533 k0_h1 => k0_hw533 k0_h1

def k0_off534 (v19919 : BitVec 32) : Fin 3 → Nat :=
  let c0_i32_18742 : BitVec 32 := 0#32
  let c0_i32_18743 : BitVec 32 := 0#32
  ![v19919.toNat, 0, 0]

def k0_chk534 (i : grid0.Coords) (v19919 : BitVec 32) : Prop :=
  (∀ (k0_h1 : k0_cond1 i = 1#1), ∀ a, (k0_off534 v19919) a + S1x16x128.size a ≤ S16384x16x128.size a)
theorem k0_off534_inb : ∀ (i : grid0.Coords) (v19919 : BitVec 32) (k0_hw534 : k0_chk534 i v19919), ∀ (k0_h1 : k0_cond1 i = 1#1), ∀ a, (k0_off534 v19919) a + S1x16x128.size a ≤ S16384x16x128.size a := fun i v19919 k0_hw534 k0_h1 => k0_hw534 k0_h1

def k0_off535 (v19925 : BitVec 32) : Fin 3 → Nat :=
  let c0_i32_18749 : BitVec 32 := 0#32
  let c0_i32_18750 : BitVec 32 := 0#32
  ![v19925.toNat, 0, 0]

def k0_chk535 (i : grid0.Coords) (v19925 : BitVec 32) : Prop :=
  (∀ (k0_h1 : k0_cond1 i = 1#1), ∀ a, (k0_off535 v19925) a + S1x16x128.size a ≤ S16384x16x128.size a)
theorem k0_off535_inb : ∀ (i : grid0.Coords) (v19925 : BitVec 32) (k0_hw535 : k0_chk535 i v19925), ∀ (k0_h1 : k0_cond1 i = 1#1), ∀ a, (k0_off535 v19925) a + S1x16x128.size a ≤ S16384x16x128.size a := fun i v19925 k0_hw535 k0_h1 => k0_hw535 k0_h1

def k0_off536 (v19931 : BitVec 32) : Fin 3 → Nat :=
  let c0_i32_18756 : BitVec 32 := 0#32
  let c0_i32_18757 : BitVec 32 := 0#32
  ![v19931.toNat, 0, 0]

def k0_chk536 (i : grid0.Coords) (v19931 : BitVec 32) : Prop :=
  (∀ (k0_h1 : k0_cond1 i = 1#1), ∀ a, (k0_off536 v19931) a + S1x16x128.size a ≤ S16384x16x128.size a)
theorem k0_off536_inb : ∀ (i : grid0.Coords) (v19931 : BitVec 32) (k0_hw536 : k0_chk536 i v19931), ∀ (k0_h1 : k0_cond1 i = 1#1), ∀ a, (k0_off536 v19931) a + S1x16x128.size a ≤ S16384x16x128.size a := fun i v19931 k0_hw536 k0_h1 => k0_hw536 k0_h1

def k0_off537 (v19937 : BitVec 32) : Fin 3 → Nat :=
  let c0_i32_18763 : BitVec 32 := 0#32
  let c0_i32_18764 : BitVec 32 := 0#32
  ![v19937.toNat, 0, 0]

def k0_chk537 (i : grid0.Coords) (v19937 : BitVec 32) : Prop :=
  (∀ (k0_h1 : k0_cond1 i = 1#1), ∀ a, (k0_off537 v19937) a + S1x16x128.size a ≤ S16384x16x128.size a)
theorem k0_off537_inb : ∀ (i : grid0.Coords) (v19937 : BitVec 32) (k0_hw537 : k0_chk537 i v19937), ∀ (k0_h1 : k0_cond1 i = 1#1), ∀ a, (k0_off537 v19937) a + S1x16x128.size a ≤ S16384x16x128.size a := fun i v19937 k0_hw537 k0_h1 => k0_hw537 k0_h1

def k0_off538 (v19943 : BitVec 32) : Fin 3 → Nat :=
  let c0_i32_18770 : BitVec 32 := 0#32
  let c0_i32_18771 : BitVec 32 := 0#32
  ![v19943.toNat, 0, 0]

def k0_chk538 (i : grid0.Coords) (v19943 : BitVec 32) : Prop :=
  (∀ (k0_h1 : k0_cond1 i = 1#1), ∀ a, (k0_off538 v19943) a + S1x16x128.size a ≤ S16384x16x128.size a)
theorem k0_off538_inb : ∀ (i : grid0.Coords) (v19943 : BitVec 32) (k0_hw538 : k0_chk538 i v19943), ∀ (k0_h1 : k0_cond1 i = 1#1), ∀ a, (k0_off538 v19943) a + S1x16x128.size a ≤ S16384x16x128.size a := fun i v19943 k0_hw538 k0_h1 => k0_hw538 k0_h1

def k0_off539 (v19949 : BitVec 32) : Fin 3 → Nat :=
  let c0_i32_18777 : BitVec 32 := 0#32
  let c0_i32_18778 : BitVec 32 := 0#32
  ![v19949.toNat, 0, 0]

def k0_chk539 (i : grid0.Coords) (v19949 : BitVec 32) : Prop :=
  (∀ (k0_h1 : k0_cond1 i = 1#1), ∀ a, (k0_off539 v19949) a + S1x16x128.size a ≤ S16384x16x128.size a)
theorem k0_off539_inb : ∀ (i : grid0.Coords) (v19949 : BitVec 32) (k0_hw539 : k0_chk539 i v19949), ∀ (k0_h1 : k0_cond1 i = 1#1), ∀ a, (k0_off539 v19949) a + S1x16x128.size a ≤ S16384x16x128.size a := fun i v19949 k0_hw539 k0_h1 => k0_hw539 k0_h1

def k0_off540 (v19955 : BitVec 32) : Fin 3 → Nat :=
  let c0_i32_18784 : BitVec 32 := 0#32
  let c0_i32_18785 : BitVec 32 := 0#32
  ![v19955.toNat, 0, 0]

def k0_chk540 (i : grid0.Coords) (v19955 : BitVec 32) : Prop :=
  (∀ (k0_h1 : k0_cond1 i = 1#1), ∀ a, (k0_off540 v19955) a + S1x16x128.size a ≤ S16384x16x128.size a)
theorem k0_off540_inb : ∀ (i : grid0.Coords) (v19955 : BitVec 32) (k0_hw540 : k0_chk540 i v19955), ∀ (k0_h1 : k0_cond1 i = 1#1), ∀ a, (k0_off540 v19955) a + S1x16x128.size a ≤ S16384x16x128.size a := fun i v19955 k0_hw540 k0_h1 => k0_hw540 k0_h1

def k0_off541 (v19961 : BitVec 32) : Fin 3 → Nat :=
  let c0_i32_18791 : BitVec 32 := 0#32
  let c0_i32_18792 : BitVec 32 := 0#32
  ![v19961.toNat, 0, 0]

def k0_chk541 (i : grid0.Coords) (v19961 : BitVec 32) : Prop :=
  (∀ (k0_h1 : k0_cond1 i = 1#1), ∀ a, (k0_off541 v19961) a + S1x16x128.size a ≤ S16384x16x128.size a)
theorem k0_off541_inb : ∀ (i : grid0.Coords) (v19961 : BitVec 32) (k0_hw541 : k0_chk541 i v19961), ∀ (k0_h1 : k0_cond1 i = 1#1), ∀ a, (k0_off541 v19961) a + S1x16x128.size a ≤ S16384x16x128.size a := fun i v19961 k0_hw541 k0_h1 => k0_hw541 k0_h1

def k0_off542 (v19967 : BitVec 32) : Fin 3 → Nat :=
  let c0_i32_18798 : BitVec 32 := 0#32
  let c0_i32_18799 : BitVec 32 := 0#32
  ![v19967.toNat, 0, 0]

def k0_chk542 (i : grid0.Coords) (v19967 : BitVec 32) : Prop :=
  (∀ (k0_h1 : k0_cond1 i = 1#1), ∀ a, (k0_off542 v19967) a + S1x16x128.size a ≤ S16384x16x128.size a)
theorem k0_off542_inb : ∀ (i : grid0.Coords) (v19967 : BitVec 32) (k0_hw542 : k0_chk542 i v19967), ∀ (k0_h1 : k0_cond1 i = 1#1), ∀ a, (k0_off542 v19967) a + S1x16x128.size a ≤ S16384x16x128.size a := fun i v19967 k0_hw542 k0_h1 => k0_hw542 k0_h1

def k0_off543 (v19973 : BitVec 32) : Fin 3 → Nat :=
  let c0_i32_18805 : BitVec 32 := 0#32
  let c0_i32_18806 : BitVec 32 := 0#32
  ![v19973.toNat, 0, 0]

def k0_chk543 (i : grid0.Coords) (v19973 : BitVec 32) : Prop :=
  (∀ (k0_h1 : k0_cond1 i = 1#1), ∀ a, (k0_off543 v19973) a + S1x16x128.size a ≤ S16384x16x128.size a)
theorem k0_off543_inb : ∀ (i : grid0.Coords) (v19973 : BitVec 32) (k0_hw543 : k0_chk543 i v19973), ∀ (k0_h1 : k0_cond1 i = 1#1), ∀ a, (k0_off543 v19973) a + S1x16x128.size a ≤ S16384x16x128.size a := fun i v19973 k0_hw543 k0_h1 => k0_hw543 k0_h1

def k0_off544 (v19979 : BitVec 32) : Fin 3 → Nat :=
  let c0_i32_18812 : BitVec 32 := 0#32
  let c0_i32_18813 : BitVec 32 := 0#32
  ![v19979.toNat, 0, 0]

def k0_chk544 (i : grid0.Coords) (v19979 : BitVec 32) : Prop :=
  (∀ (k0_h1 : k0_cond1 i = 1#1), ∀ a, (k0_off544 v19979) a + S1x16x128.size a ≤ S16384x16x128.size a)
theorem k0_off544_inb : ∀ (i : grid0.Coords) (v19979 : BitVec 32) (k0_hw544 : k0_chk544 i v19979), ∀ (k0_h1 : k0_cond1 i = 1#1), ∀ a, (k0_off544 v19979) a + S1x16x128.size a ≤ S16384x16x128.size a := fun i v19979 k0_hw544 k0_h1 => k0_hw544 k0_h1

def k0_off545 (v19985 : BitVec 32) : Fin 3 → Nat :=
  let c0_i32_18819 : BitVec 32 := 0#32
  let c0_i32_18820 : BitVec 32 := 0#32
  ![v19985.toNat, 0, 0]

def k0_chk545 (i : grid0.Coords) (v19985 : BitVec 32) : Prop :=
  (∀ (k0_h1 : k0_cond1 i = 1#1), ∀ a, (k0_off545 v19985) a + S1x16x128.size a ≤ S16384x16x128.size a)
theorem k0_off545_inb : ∀ (i : grid0.Coords) (v19985 : BitVec 32) (k0_hw545 : k0_chk545 i v19985), ∀ (k0_h1 : k0_cond1 i = 1#1), ∀ a, (k0_off545 v19985) a + S1x16x128.size a ≤ S16384x16x128.size a := fun i v19985 k0_hw545 k0_h1 => k0_hw545 k0_h1

def k0_off546 (v19991 : BitVec 32) : Fin 3 → Nat :=
  let c0_i32_18826 : BitVec 32 := 0#32
  let c0_i32_18827 : BitVec 32 := 0#32
  ![v19991.toNat, 0, 0]

def k0_chk546 (i : grid0.Coords) (v19991 : BitVec 32) : Prop :=
  (∀ (k0_h1 : k0_cond1 i = 1#1), ∀ a, (k0_off546 v19991) a + S1x16x128.size a ≤ S16384x16x128.size a)
theorem k0_off546_inb : ∀ (i : grid0.Coords) (v19991 : BitVec 32) (k0_hw546 : k0_chk546 i v19991), ∀ (k0_h1 : k0_cond1 i = 1#1), ∀ a, (k0_off546 v19991) a + S1x16x128.size a ≤ S16384x16x128.size a := fun i v19991 k0_hw546 k0_h1 => k0_hw546 k0_h1

def k0_off547 (v19997 : BitVec 32) : Fin 3 → Nat :=
  let c0_i32_18833 : BitVec 32 := 0#32
  let c0_i32_18834 : BitVec 32 := 0#32
  ![v19997.toNat, 0, 0]

def k0_chk547 (i : grid0.Coords) (v19997 : BitVec 32) : Prop :=
  (∀ (k0_h1 : k0_cond1 i = 1#1), ∀ a, (k0_off547 v19997) a + S1x16x128.size a ≤ S16384x16x128.size a)
theorem k0_off547_inb : ∀ (i : grid0.Coords) (v19997 : BitVec 32) (k0_hw547 : k0_chk547 i v19997), ∀ (k0_h1 : k0_cond1 i = 1#1), ∀ a, (k0_off547 v19997) a + S1x16x128.size a ≤ S16384x16x128.size a := fun i v19997 k0_hw547 k0_h1 => k0_hw547 k0_h1

def k0_off548 (v20003 : BitVec 32) : Fin 3 → Nat :=
  let c0_i32_18840 : BitVec 32 := 0#32
  let c0_i32_18841 : BitVec 32 := 0#32
  ![v20003.toNat, 0, 0]

def k0_chk548 (i : grid0.Coords) (v20003 : BitVec 32) : Prop :=
  (∀ (k0_h1 : k0_cond1 i = 1#1), ∀ a, (k0_off548 v20003) a + S1x16x128.size a ≤ S16384x16x128.size a)
theorem k0_off548_inb : ∀ (i : grid0.Coords) (v20003 : BitVec 32) (k0_hw548 : k0_chk548 i v20003), ∀ (k0_h1 : k0_cond1 i = 1#1), ∀ a, (k0_off548 v20003) a + S1x16x128.size a ≤ S16384x16x128.size a := fun i v20003 k0_hw548 k0_h1 => k0_hw548 k0_h1

def k0_off549 (v20009 : BitVec 32) : Fin 3 → Nat :=
  let c0_i32_18847 : BitVec 32 := 0#32
  let c0_i32_18848 : BitVec 32 := 0#32
  ![v20009.toNat, 0, 0]

def k0_chk549 (i : grid0.Coords) (v20009 : BitVec 32) : Prop :=
  (∀ (k0_h1 : k0_cond1 i = 1#1), ∀ a, (k0_off549 v20009) a + S1x16x128.size a ≤ S16384x16x128.size a)
theorem k0_off549_inb : ∀ (i : grid0.Coords) (v20009 : BitVec 32) (k0_hw549 : k0_chk549 i v20009), ∀ (k0_h1 : k0_cond1 i = 1#1), ∀ a, (k0_off549 v20009) a + S1x16x128.size a ≤ S16384x16x128.size a := fun i v20009 k0_hw549 k0_h1 => k0_hw549 k0_h1

def k0_off550 (v20015 : BitVec 32) : Fin 3 → Nat :=
  let c0_i32_18854 : BitVec 32 := 0#32
  let c0_i32_18855 : BitVec 32 := 0#32
  ![v20015.toNat, 0, 0]

def k0_chk550 (i : grid0.Coords) (v20015 : BitVec 32) : Prop :=
  (∀ (k0_h1 : k0_cond1 i = 1#1), ∀ a, (k0_off550 v20015) a + S1x16x128.size a ≤ S16384x16x128.size a)
theorem k0_off550_inb : ∀ (i : grid0.Coords) (v20015 : BitVec 32) (k0_hw550 : k0_chk550 i v20015), ∀ (k0_h1 : k0_cond1 i = 1#1), ∀ a, (k0_off550 v20015) a + S1x16x128.size a ≤ S16384x16x128.size a := fun i v20015 k0_hw550 k0_h1 => k0_hw550 k0_h1

def k0_off551 (v20021 : BitVec 32) : Fin 3 → Nat :=
  let c0_i32_18861 : BitVec 32 := 0#32
  let c0_i32_18862 : BitVec 32 := 0#32
  ![v20021.toNat, 0, 0]

def k0_chk551 (i : grid0.Coords) (v20021 : BitVec 32) : Prop :=
  (∀ (k0_h1 : k0_cond1 i = 1#1), ∀ a, (k0_off551 v20021) a + S1x16x128.size a ≤ S16384x16x128.size a)
theorem k0_off551_inb : ∀ (i : grid0.Coords) (v20021 : BitVec 32) (k0_hw551 : k0_chk551 i v20021), ∀ (k0_h1 : k0_cond1 i = 1#1), ∀ a, (k0_off551 v20021) a + S1x16x128.size a ≤ S16384x16x128.size a := fun i v20021 k0_hw551 k0_h1 => k0_hw551 k0_h1

def k0_off552 (v20027 : BitVec 32) : Fin 3 → Nat :=
  let c0_i32_18868 : BitVec 32 := 0#32
  let c0_i32_18869 : BitVec 32 := 0#32
  ![v20027.toNat, 0, 0]

def k0_chk552 (i : grid0.Coords) (v20027 : BitVec 32) : Prop :=
  (∀ (k0_h1 : k0_cond1 i = 1#1), ∀ a, (k0_off552 v20027) a + S1x16x128.size a ≤ S16384x16x128.size a)
theorem k0_off552_inb : ∀ (i : grid0.Coords) (v20027 : BitVec 32) (k0_hw552 : k0_chk552 i v20027), ∀ (k0_h1 : k0_cond1 i = 1#1), ∀ a, (k0_off552 v20027) a + S1x16x128.size a ≤ S16384x16x128.size a := fun i v20027 k0_hw552 k0_h1 => k0_hw552 k0_h1

def k0_off553 (v20033 : BitVec 32) : Fin 3 → Nat :=
  let c0_i32_18875 : BitVec 32 := 0#32
  let c0_i32_18876 : BitVec 32 := 0#32
  ![v20033.toNat, 0, 0]

def k0_chk553 (i : grid0.Coords) (v20033 : BitVec 32) : Prop :=
  (∀ (k0_h1 : k0_cond1 i = 1#1), ∀ a, (k0_off553 v20033) a + S1x16x128.size a ≤ S16384x16x128.size a)
theorem k0_off553_inb : ∀ (i : grid0.Coords) (v20033 : BitVec 32) (k0_hw553 : k0_chk553 i v20033), ∀ (k0_h1 : k0_cond1 i = 1#1), ∀ a, (k0_off553 v20033) a + S1x16x128.size a ≤ S16384x16x128.size a := fun i v20033 k0_hw553 k0_h1 => k0_hw553 k0_h1

def k0_off554 (v20039 : BitVec 32) : Fin 3 → Nat :=
  let c0_i32_18882 : BitVec 32 := 0#32
  let c0_i32_18883 : BitVec 32 := 0#32
  ![v20039.toNat, 0, 0]

def k0_chk554 (i : grid0.Coords) (v20039 : BitVec 32) : Prop :=
  (∀ (k0_h1 : k0_cond1 i = 1#1), ∀ a, (k0_off554 v20039) a + S1x16x128.size a ≤ S16384x16x128.size a)
theorem k0_off554_inb : ∀ (i : grid0.Coords) (v20039 : BitVec 32) (k0_hw554 : k0_chk554 i v20039), ∀ (k0_h1 : k0_cond1 i = 1#1), ∀ a, (k0_off554 v20039) a + S1x16x128.size a ≤ S16384x16x128.size a := fun i v20039 k0_hw554 k0_h1 => k0_hw554 k0_h1

def k0_off555 (v20045 : BitVec 32) : Fin 3 → Nat :=
  let c0_i32_18889 : BitVec 32 := 0#32
  let c0_i32_18890 : BitVec 32 := 0#32
  ![v20045.toNat, 0, 0]

def k0_chk555 (i : grid0.Coords) (v20045 : BitVec 32) : Prop :=
  (∀ (k0_h1 : k0_cond1 i = 1#1), ∀ a, (k0_off555 v20045) a + S1x16x128.size a ≤ S16384x16x128.size a)
theorem k0_off555_inb : ∀ (i : grid0.Coords) (v20045 : BitVec 32) (k0_hw555 : k0_chk555 i v20045), ∀ (k0_h1 : k0_cond1 i = 1#1), ∀ a, (k0_off555 v20045) a + S1x16x128.size a ≤ S16384x16x128.size a := fun i v20045 k0_hw555 k0_h1 => k0_hw555 k0_h1

def k0_off556 (v20051 : BitVec 32) : Fin 3 → Nat :=
  let c0_i32_18896 : BitVec 32 := 0#32
  let c0_i32_18897 : BitVec 32 := 0#32
  ![v20051.toNat, 0, 0]

def k0_chk556 (i : grid0.Coords) (v20051 : BitVec 32) : Prop :=
  (∀ (k0_h1 : k0_cond1 i = 1#1), ∀ a, (k0_off556 v20051) a + S1x16x128.size a ≤ S16384x16x128.size a)
theorem k0_off556_inb : ∀ (i : grid0.Coords) (v20051 : BitVec 32) (k0_hw556 : k0_chk556 i v20051), ∀ (k0_h1 : k0_cond1 i = 1#1), ∀ a, (k0_off556 v20051) a + S1x16x128.size a ≤ S16384x16x128.size a := fun i v20051 k0_hw556 k0_h1 => k0_hw556 k0_h1

def k0_off557 (v20057 : BitVec 32) : Fin 3 → Nat :=
  let c0_i32_18903 : BitVec 32 := 0#32
  let c0_i32_18904 : BitVec 32 := 0#32
  ![v20057.toNat, 0, 0]

def k0_chk557 (i : grid0.Coords) (v20057 : BitVec 32) : Prop :=
  (∀ (k0_h1 : k0_cond1 i = 1#1), ∀ a, (k0_off557 v20057) a + S1x16x128.size a ≤ S16384x16x128.size a)
theorem k0_off557_inb : ∀ (i : grid0.Coords) (v20057 : BitVec 32) (k0_hw557 : k0_chk557 i v20057), ∀ (k0_h1 : k0_cond1 i = 1#1), ∀ a, (k0_off557 v20057) a + S1x16x128.size a ≤ S16384x16x128.size a := fun i v20057 k0_hw557 k0_h1 => k0_hw557 k0_h1

def k0_off558 (v20063 : BitVec 32) : Fin 3 → Nat :=
  let c0_i32_18910 : BitVec 32 := 0#32
  let c0_i32_18911 : BitVec 32 := 0#32
  ![v20063.toNat, 0, 0]

def k0_chk558 (i : grid0.Coords) (v20063 : BitVec 32) : Prop :=
  (∀ (k0_h1 : k0_cond1 i = 1#1), ∀ a, (k0_off558 v20063) a + S1x16x128.size a ≤ S16384x16x128.size a)
theorem k0_off558_inb : ∀ (i : grid0.Coords) (v20063 : BitVec 32) (k0_hw558 : k0_chk558 i v20063), ∀ (k0_h1 : k0_cond1 i = 1#1), ∀ a, (k0_off558 v20063) a + S1x16x128.size a ≤ S16384x16x128.size a := fun i v20063 k0_hw558 k0_h1 => k0_hw558 k0_h1

def k0_off559 (v20069 : BitVec 32) : Fin 3 → Nat :=
  let c0_i32_18917 : BitVec 32 := 0#32
  let c0_i32_18918 : BitVec 32 := 0#32
  ![v20069.toNat, 0, 0]

def k0_chk559 (i : grid0.Coords) (v20069 : BitVec 32) : Prop :=
  (∀ (k0_h1 : k0_cond1 i = 1#1), ∀ a, (k0_off559 v20069) a + S1x16x128.size a ≤ S16384x16x128.size a)
theorem k0_off559_inb : ∀ (i : grid0.Coords) (v20069 : BitVec 32) (k0_hw559 : k0_chk559 i v20069), ∀ (k0_h1 : k0_cond1 i = 1#1), ∀ a, (k0_off559 v20069) a + S1x16x128.size a ≤ S16384x16x128.size a := fun i v20069 k0_hw559 k0_h1 => k0_hw559 k0_h1

def k0_off560 (v20075 : BitVec 32) : Fin 3 → Nat :=
  let c0_i32_18924 : BitVec 32 := 0#32
  let c0_i32_18925 : BitVec 32 := 0#32
  ![v20075.toNat, 0, 0]

def k0_chk560 (i : grid0.Coords) (v20075 : BitVec 32) : Prop :=
  (∀ (k0_h1 : k0_cond1 i = 1#1), ∀ a, (k0_off560 v20075) a + S1x16x128.size a ≤ S16384x16x128.size a)
theorem k0_off560_inb : ∀ (i : grid0.Coords) (v20075 : BitVec 32) (k0_hw560 : k0_chk560 i v20075), ∀ (k0_h1 : k0_cond1 i = 1#1), ∀ a, (k0_off560 v20075) a + S1x16x128.size a ≤ S16384x16x128.size a := fun i v20075 k0_hw560 k0_h1 => k0_hw560 k0_h1

def k0_off561 (v20081 : BitVec 32) : Fin 3 → Nat :=
  let c0_i32_18931 : BitVec 32 := 0#32
  let c0_i32_18932 : BitVec 32 := 0#32
  ![v20081.toNat, 0, 0]

def k0_chk561 (i : grid0.Coords) (v20081 : BitVec 32) : Prop :=
  (∀ (k0_h1 : k0_cond1 i = 1#1), ∀ a, (k0_off561 v20081) a + S1x16x128.size a ≤ S16384x16x128.size a)
theorem k0_off561_inb : ∀ (i : grid0.Coords) (v20081 : BitVec 32) (k0_hw561 : k0_chk561 i v20081), ∀ (k0_h1 : k0_cond1 i = 1#1), ∀ a, (k0_off561 v20081) a + S1x16x128.size a ≤ S16384x16x128.size a := fun i v20081 k0_hw561 k0_h1 => k0_hw561 k0_h1

def k0_off562 (v20087 : BitVec 32) : Fin 3 → Nat :=
  let c0_i32_18938 : BitVec 32 := 0#32
  let c0_i32_18939 : BitVec 32 := 0#32
  ![v20087.toNat, 0, 0]

def k0_chk562 (i : grid0.Coords) (v20087 : BitVec 32) : Prop :=
  (∀ (k0_h1 : k0_cond1 i = 1#1), ∀ a, (k0_off562 v20087) a + S1x16x128.size a ≤ S16384x16x128.size a)
theorem k0_off562_inb : ∀ (i : grid0.Coords) (v20087 : BitVec 32) (k0_hw562 : k0_chk562 i v20087), ∀ (k0_h1 : k0_cond1 i = 1#1), ∀ a, (k0_off562 v20087) a + S1x16x128.size a ≤ S16384x16x128.size a := fun i v20087 k0_hw562 k0_h1 => k0_hw562 k0_h1

def k0_off563 (v20093 : BitVec 32) : Fin 3 → Nat :=
  let c0_i32_18945 : BitVec 32 := 0#32
  let c0_i32_18946 : BitVec 32 := 0#32
  ![v20093.toNat, 0, 0]

def k0_chk563 (i : grid0.Coords) (v20093 : BitVec 32) : Prop :=
  (∀ (k0_h1 : k0_cond1 i = 1#1), ∀ a, (k0_off563 v20093) a + S1x16x128.size a ≤ S16384x16x128.size a)
theorem k0_off563_inb : ∀ (i : grid0.Coords) (v20093 : BitVec 32) (k0_hw563 : k0_chk563 i v20093), ∀ (k0_h1 : k0_cond1 i = 1#1), ∀ a, (k0_off563 v20093) a + S1x16x128.size a ≤ S16384x16x128.size a := fun i v20093 k0_hw563 k0_h1 => k0_hw563 k0_h1

def k0_off564 (v20099 : BitVec 32) : Fin 3 → Nat :=
  let c0_i32_18952 : BitVec 32 := 0#32
  let c0_i32_18953 : BitVec 32 := 0#32
  ![v20099.toNat, 0, 0]

def k0_chk564 (i : grid0.Coords) (v20099 : BitVec 32) : Prop :=
  (∀ (k0_h1 : k0_cond1 i = 1#1), ∀ a, (k0_off564 v20099) a + S1x16x128.size a ≤ S16384x16x128.size a)
theorem k0_off564_inb : ∀ (i : grid0.Coords) (v20099 : BitVec 32) (k0_hw564 : k0_chk564 i v20099), ∀ (k0_h1 : k0_cond1 i = 1#1), ∀ a, (k0_off564 v20099) a + S1x16x128.size a ≤ S16384x16x128.size a := fun i v20099 k0_hw564 k0_h1 => k0_hw564 k0_h1

def k0_off565 (v20105 : BitVec 32) : Fin 3 → Nat :=
  let c0_i32_18959 : BitVec 32 := 0#32
  let c0_i32_18960 : BitVec 32 := 0#32
  ![v20105.toNat, 0, 0]

def k0_chk565 (i : grid0.Coords) (v20105 : BitVec 32) : Prop :=
  (∀ (k0_h1 : k0_cond1 i = 1#1), ∀ a, (k0_off565 v20105) a + S1x16x128.size a ≤ S16384x16x128.size a)
theorem k0_off565_inb : ∀ (i : grid0.Coords) (v20105 : BitVec 32) (k0_hw565 : k0_chk565 i v20105), ∀ (k0_h1 : k0_cond1 i = 1#1), ∀ a, (k0_off565 v20105) a + S1x16x128.size a ≤ S16384x16x128.size a := fun i v20105 k0_hw565 k0_h1 => k0_hw565 k0_h1

def k0_off566 (v20111 : BitVec 32) : Fin 3 → Nat :=
  let c0_i32_18966 : BitVec 32 := 0#32
  let c0_i32_18967 : BitVec 32 := 0#32
  ![v20111.toNat, 0, 0]

def k0_chk566 (i : grid0.Coords) (v20111 : BitVec 32) : Prop :=
  (∀ (k0_h1 : k0_cond1 i = 1#1), ∀ a, (k0_off566 v20111) a + S1x16x128.size a ≤ S16384x16x128.size a)
theorem k0_off566_inb : ∀ (i : grid0.Coords) (v20111 : BitVec 32) (k0_hw566 : k0_chk566 i v20111), ∀ (k0_h1 : k0_cond1 i = 1#1), ∀ a, (k0_off566 v20111) a + S1x16x128.size a ≤ S16384x16x128.size a := fun i v20111 k0_hw566 k0_h1 => k0_hw566 k0_h1

def k0_off567 (v20117 : BitVec 32) : Fin 3 → Nat :=
  let c0_i32_18973 : BitVec 32 := 0#32
  let c0_i32_18974 : BitVec 32 := 0#32
  ![v20117.toNat, 0, 0]

def k0_chk567 (i : grid0.Coords) (v20117 : BitVec 32) : Prop :=
  (∀ (k0_h1 : k0_cond1 i = 1#1), ∀ a, (k0_off567 v20117) a + S1x16x128.size a ≤ S16384x16x128.size a)
theorem k0_off567_inb : ∀ (i : grid0.Coords) (v20117 : BitVec 32) (k0_hw567 : k0_chk567 i v20117), ∀ (k0_h1 : k0_cond1 i = 1#1), ∀ a, (k0_off567 v20117) a + S1x16x128.size a ≤ S16384x16x128.size a := fun i v20117 k0_hw567 k0_h1 => k0_hw567 k0_h1

def k0_off568 (v20123 : BitVec 32) : Fin 3 → Nat :=
  let c0_i32_18980 : BitVec 32 := 0#32
  let c0_i32_18981 : BitVec 32 := 0#32
  ![v20123.toNat, 0, 0]

def k0_chk568 (i : grid0.Coords) (v20123 : BitVec 32) : Prop :=
  (∀ (k0_h1 : k0_cond1 i = 1#1), ∀ a, (k0_off568 v20123) a + S1x16x128.size a ≤ S16384x16x128.size a)
theorem k0_off568_inb : ∀ (i : grid0.Coords) (v20123 : BitVec 32) (k0_hw568 : k0_chk568 i v20123), ∀ (k0_h1 : k0_cond1 i = 1#1), ∀ a, (k0_off568 v20123) a + S1x16x128.size a ≤ S16384x16x128.size a := fun i v20123 k0_hw568 k0_h1 => k0_hw568 k0_h1

def k0_off569 (v20129 : BitVec 32) : Fin 3 → Nat :=
  let c0_i32_18987 : BitVec 32 := 0#32
  let c0_i32_18988 : BitVec 32 := 0#32
  ![v20129.toNat, 0, 0]

def k0_chk569 (i : grid0.Coords) (v20129 : BitVec 32) : Prop :=
  (∀ (k0_h1 : k0_cond1 i = 1#1), ∀ a, (k0_off569 v20129) a + S1x16x128.size a ≤ S16384x16x128.size a)
theorem k0_off569_inb : ∀ (i : grid0.Coords) (v20129 : BitVec 32) (k0_hw569 : k0_chk569 i v20129), ∀ (k0_h1 : k0_cond1 i = 1#1), ∀ a, (k0_off569 v20129) a + S1x16x128.size a ≤ S16384x16x128.size a := fun i v20129 k0_hw569 k0_h1 => k0_hw569 k0_h1

def k0_off570 (v20135 : BitVec 32) : Fin 3 → Nat :=
  let c0_i32_18994 : BitVec 32 := 0#32
  let c0_i32_18995 : BitVec 32 := 0#32
  ![v20135.toNat, 0, 0]

def k0_chk570 (i : grid0.Coords) (v20135 : BitVec 32) : Prop :=
  (∀ (k0_h1 : k0_cond1 i = 1#1), ∀ a, (k0_off570 v20135) a + S1x16x128.size a ≤ S16384x16x128.size a)
theorem k0_off570_inb : ∀ (i : grid0.Coords) (v20135 : BitVec 32) (k0_hw570 : k0_chk570 i v20135), ∀ (k0_h1 : k0_cond1 i = 1#1), ∀ a, (k0_off570 v20135) a + S1x16x128.size a ≤ S16384x16x128.size a := fun i v20135 k0_hw570 k0_h1 => k0_hw570 k0_h1

def k0_off571 (v20141 : BitVec 32) : Fin 3 → Nat :=
  let c0_i32_19001 : BitVec 32 := 0#32
  let c0_i32_19002 : BitVec 32 := 0#32
  ![v20141.toNat, 0, 0]

def k0_chk571 (i : grid0.Coords) (v20141 : BitVec 32) : Prop :=
  (∀ (k0_h1 : k0_cond1 i = 1#1), ∀ a, (k0_off571 v20141) a + S1x16x128.size a ≤ S16384x16x128.size a)
theorem k0_off571_inb : ∀ (i : grid0.Coords) (v20141 : BitVec 32) (k0_hw571 : k0_chk571 i v20141), ∀ (k0_h1 : k0_cond1 i = 1#1), ∀ a, (k0_off571 v20141) a + S1x16x128.size a ≤ S16384x16x128.size a := fun i v20141 k0_hw571 k0_h1 => k0_hw571 k0_h1

def k0_off572 (v20147 : BitVec 32) : Fin 3 → Nat :=
  let c0_i32_19008 : BitVec 32 := 0#32
  let c0_i32_19009 : BitVec 32 := 0#32
  ![v20147.toNat, 0, 0]

def k0_chk572 (i : grid0.Coords) (v20147 : BitVec 32) : Prop :=
  (∀ (k0_h1 : k0_cond1 i = 1#1), ∀ a, (k0_off572 v20147) a + S1x16x128.size a ≤ S16384x16x128.size a)
theorem k0_off572_inb : ∀ (i : grid0.Coords) (v20147 : BitVec 32) (k0_hw572 : k0_chk572 i v20147), ∀ (k0_h1 : k0_cond1 i = 1#1), ∀ a, (k0_off572 v20147) a + S1x16x128.size a ≤ S16384x16x128.size a := fun i v20147 k0_hw572 k0_h1 => k0_hw572 k0_h1

def k0_off573 (v20153 : BitVec 32) : Fin 3 → Nat :=
  let c0_i32_19015 : BitVec 32 := 0#32
  let c0_i32_19016 : BitVec 32 := 0#32
  ![v20153.toNat, 0, 0]

def k0_chk573 (i : grid0.Coords) (v20153 : BitVec 32) : Prop :=
  (∀ (k0_h1 : k0_cond1 i = 1#1), ∀ a, (k0_off573 v20153) a + S1x16x128.size a ≤ S16384x16x128.size a)
theorem k0_off573_inb : ∀ (i : grid0.Coords) (v20153 : BitVec 32) (k0_hw573 : k0_chk573 i v20153), ∀ (k0_h1 : k0_cond1 i = 1#1), ∀ a, (k0_off573 v20153) a + S1x16x128.size a ≤ S16384x16x128.size a := fun i v20153 k0_hw573 k0_h1 => k0_hw573 k0_h1

def k0_off574 (v20159 : BitVec 32) : Fin 3 → Nat :=
  let c0_i32_19022 : BitVec 32 := 0#32
  let c0_i32_19023 : BitVec 32 := 0#32
  ![v20159.toNat, 0, 0]

def k0_chk574 (i : grid0.Coords) (v20159 : BitVec 32) : Prop :=
  (∀ (k0_h1 : k0_cond1 i = 1#1), ∀ a, (k0_off574 v20159) a + S1x16x128.size a ≤ S16384x16x128.size a)
theorem k0_off574_inb : ∀ (i : grid0.Coords) (v20159 : BitVec 32) (k0_hw574 : k0_chk574 i v20159), ∀ (k0_h1 : k0_cond1 i = 1#1), ∀ a, (k0_off574 v20159) a + S1x16x128.size a ≤ S16384x16x128.size a := fun i v20159 k0_hw574 k0_h1 => k0_hw574 k0_h1

def k0_off575 (v20165 : BitVec 32) : Fin 3 → Nat :=
  let c0_i32_19029 : BitVec 32 := 0#32
  let c0_i32_19030 : BitVec 32 := 0#32
  ![v20165.toNat, 0, 0]

def k0_chk575 (i : grid0.Coords) (v20165 : BitVec 32) : Prop :=
  (∀ (k0_h1 : k0_cond1 i = 1#1), ∀ a, (k0_off575 v20165) a + S1x16x128.size a ≤ S16384x16x128.size a)
theorem k0_off575_inb : ∀ (i : grid0.Coords) (v20165 : BitVec 32) (k0_hw575 : k0_chk575 i v20165), ∀ (k0_h1 : k0_cond1 i = 1#1), ∀ a, (k0_off575 v20165) a + S1x16x128.size a ≤ S16384x16x128.size a := fun i v20165 k0_hw575 k0_h1 => k0_hw575 k0_h1

def k0_off576 (v20171 : BitVec 32) : Fin 3 → Nat :=
  let c0_i32_19036 : BitVec 32 := 0#32
  let c0_i32_19037 : BitVec 32 := 0#32
  ![v20171.toNat, 0, 0]

def k0_chk576 (i : grid0.Coords) (v20171 : BitVec 32) : Prop :=
  (∀ (k0_h1 : k0_cond1 i = 1#1), ∀ a, (k0_off576 v20171) a + S1x16x128.size a ≤ S16384x16x128.size a)
theorem k0_off576_inb : ∀ (i : grid0.Coords) (v20171 : BitVec 32) (k0_hw576 : k0_chk576 i v20171), ∀ (k0_h1 : k0_cond1 i = 1#1), ∀ a, (k0_off576 v20171) a + S1x16x128.size a ≤ S16384x16x128.size a := fun i v20171 k0_hw576 k0_h1 => k0_hw576 k0_h1

def k0_off577 (v20177 : BitVec 32) : Fin 3 → Nat :=
  let c0_i32_19043 : BitVec 32 := 0#32
  let c0_i32_19044 : BitVec 32 := 0#32
  ![v20177.toNat, 0, 0]

def k0_chk577 (i : grid0.Coords) (v20177 : BitVec 32) : Prop :=
  (∀ (k0_h1 : k0_cond1 i = 1#1), ∀ a, (k0_off577 v20177) a + S1x16x128.size a ≤ S16384x16x128.size a)
theorem k0_off577_inb : ∀ (i : grid0.Coords) (v20177 : BitVec 32) (k0_hw577 : k0_chk577 i v20177), ∀ (k0_h1 : k0_cond1 i = 1#1), ∀ a, (k0_off577 v20177) a + S1x16x128.size a ≤ S16384x16x128.size a := fun i v20177 k0_hw577 k0_h1 => k0_hw577 k0_h1

def k0_off578 (v20183 : BitVec 32) : Fin 3 → Nat :=
  let c0_i32_19050 : BitVec 32 := 0#32
  let c0_i32_19051 : BitVec 32 := 0#32
  ![v20183.toNat, 0, 0]

def k0_chk578 (i : grid0.Coords) (v20183 : BitVec 32) : Prop :=
  (∀ (k0_h1 : k0_cond1 i = 1#1), ∀ a, (k0_off578 v20183) a + S1x16x128.size a ≤ S16384x16x128.size a)
theorem k0_off578_inb : ∀ (i : grid0.Coords) (v20183 : BitVec 32) (k0_hw578 : k0_chk578 i v20183), ∀ (k0_h1 : k0_cond1 i = 1#1), ∀ a, (k0_off578 v20183) a + S1x16x128.size a ≤ S16384x16x128.size a := fun i v20183 k0_hw578 k0_h1 => k0_hw578 k0_h1

def k0_off579 (v20189 : BitVec 32) : Fin 3 → Nat :=
  let c0_i32_19057 : BitVec 32 := 0#32
  let c0_i32_19058 : BitVec 32 := 0#32
  ![v20189.toNat, 0, 0]

def k0_chk579 (i : grid0.Coords) (v20189 : BitVec 32) : Prop :=
  (∀ (k0_h1 : k0_cond1 i = 1#1), ∀ a, (k0_off579 v20189) a + S1x16x128.size a ≤ S16384x16x128.size a)
theorem k0_off579_inb : ∀ (i : grid0.Coords) (v20189 : BitVec 32) (k0_hw579 : k0_chk579 i v20189), ∀ (k0_h1 : k0_cond1 i = 1#1), ∀ a, (k0_off579 v20189) a + S1x16x128.size a ≤ S16384x16x128.size a := fun i v20189 k0_hw579 k0_h1 => k0_hw579 k0_h1

def k0_off580 (v20195 : BitVec 32) : Fin 3 → Nat :=
  let c0_i32_19064 : BitVec 32 := 0#32
  let c0_i32_19065 : BitVec 32 := 0#32
  ![v20195.toNat, 0, 0]

def k0_chk580 (i : grid0.Coords) (v20195 : BitVec 32) : Prop :=
  (∀ (k0_h1 : k0_cond1 i = 1#1), ∀ a, (k0_off580 v20195) a + S1x16x128.size a ≤ S16384x16x128.size a)
theorem k0_off580_inb : ∀ (i : grid0.Coords) (v20195 : BitVec 32) (k0_hw580 : k0_chk580 i v20195), ∀ (k0_h1 : k0_cond1 i = 1#1), ∀ a, (k0_off580 v20195) a + S1x16x128.size a ≤ S16384x16x128.size a := fun i v20195 k0_hw580 k0_h1 => k0_hw580 k0_h1

def k0_off581 (v20201 : BitVec 32) : Fin 3 → Nat :=
  let c0_i32_19071 : BitVec 32 := 0#32
  let c0_i32_19072 : BitVec 32 := 0#32
  ![v20201.toNat, 0, 0]

def k0_chk581 (i : grid0.Coords) (v20201 : BitVec 32) : Prop :=
  (∀ (k0_h1 : k0_cond1 i = 1#1), ∀ a, (k0_off581 v20201) a + S1x16x128.size a ≤ S16384x16x128.size a)
theorem k0_off581_inb : ∀ (i : grid0.Coords) (v20201 : BitVec 32) (k0_hw581 : k0_chk581 i v20201), ∀ (k0_h1 : k0_cond1 i = 1#1), ∀ a, (k0_off581 v20201) a + S1x16x128.size a ≤ S16384x16x128.size a := fun i v20201 k0_hw581 k0_h1 => k0_hw581 k0_h1

def k0_off582 (v20207 : BitVec 32) : Fin 3 → Nat :=
  let c0_i32_19078 : BitVec 32 := 0#32
  let c0_i32_19079 : BitVec 32 := 0#32
  ![v20207.toNat, 0, 0]

def k0_chk582 (i : grid0.Coords) (v20207 : BitVec 32) : Prop :=
  (∀ (k0_h1 : k0_cond1 i = 1#1), ∀ a, (k0_off582 v20207) a + S1x16x128.size a ≤ S16384x16x128.size a)
theorem k0_off582_inb : ∀ (i : grid0.Coords) (v20207 : BitVec 32) (k0_hw582 : k0_chk582 i v20207), ∀ (k0_h1 : k0_cond1 i = 1#1), ∀ a, (k0_off582 v20207) a + S1x16x128.size a ≤ S16384x16x128.size a := fun i v20207 k0_hw582 k0_h1 => k0_hw582 k0_h1

def k0_off583 (v20213 : BitVec 32) : Fin 3 → Nat :=
  let c0_i32_19085 : BitVec 32 := 0#32
  let c0_i32_19086 : BitVec 32 := 0#32
  ![v20213.toNat, 0, 0]

def k0_chk583 (i : grid0.Coords) (v20213 : BitVec 32) : Prop :=
  (∀ (k0_h1 : k0_cond1 i = 1#1), ∀ a, (k0_off583 v20213) a + S1x16x128.size a ≤ S16384x16x128.size a)
theorem k0_off583_inb : ∀ (i : grid0.Coords) (v20213 : BitVec 32) (k0_hw583 : k0_chk583 i v20213), ∀ (k0_h1 : k0_cond1 i = 1#1), ∀ a, (k0_off583 v20213) a + S1x16x128.size a ≤ S16384x16x128.size a := fun i v20213 k0_hw583 k0_h1 => k0_hw583 k0_h1

def k0_off584 (v20219 : BitVec 32) : Fin 3 → Nat :=
  let c0_i32_19092 : BitVec 32 := 0#32
  let c0_i32_19093 : BitVec 32 := 0#32
  ![v20219.toNat, 0, 0]

def k0_chk584 (i : grid0.Coords) (v20219 : BitVec 32) : Prop :=
  (∀ (k0_h1 : k0_cond1 i = 1#1), ∀ a, (k0_off584 v20219) a + S1x16x128.size a ≤ S16384x16x128.size a)
theorem k0_off584_inb : ∀ (i : grid0.Coords) (v20219 : BitVec 32) (k0_hw584 : k0_chk584 i v20219), ∀ (k0_h1 : k0_cond1 i = 1#1), ∀ a, (k0_off584 v20219) a + S1x16x128.size a ≤ S16384x16x128.size a := fun i v20219 k0_hw584 k0_h1 => k0_hw584 k0_h1

def k0_off585 (v20225 : BitVec 32) : Fin 3 → Nat :=
  let c0_i32_19099 : BitVec 32 := 0#32
  let c0_i32_19100 : BitVec 32 := 0#32
  ![v20225.toNat, 0, 0]

def k0_chk585 (i : grid0.Coords) (v20225 : BitVec 32) : Prop :=
  (∀ (k0_h1 : k0_cond1 i = 1#1), ∀ a, (k0_off585 v20225) a + S1x16x128.size a ≤ S16384x16x128.size a)
theorem k0_off585_inb : ∀ (i : grid0.Coords) (v20225 : BitVec 32) (k0_hw585 : k0_chk585 i v20225), ∀ (k0_h1 : k0_cond1 i = 1#1), ∀ a, (k0_off585 v20225) a + S1x16x128.size a ≤ S16384x16x128.size a := fun i v20225 k0_hw585 k0_h1 => k0_hw585 k0_h1

def k0_off586 (v20231 : BitVec 32) : Fin 3 → Nat :=
  let c0_i32_19106 : BitVec 32 := 0#32
  let c0_i32_19107 : BitVec 32 := 0#32
  ![v20231.toNat, 0, 0]

def k0_chk586 (i : grid0.Coords) (v20231 : BitVec 32) : Prop :=
  (∀ (k0_h1 : k0_cond1 i = 1#1), ∀ a, (k0_off586 v20231) a + S1x16x128.size a ≤ S16384x16x128.size a)
theorem k0_off586_inb : ∀ (i : grid0.Coords) (v20231 : BitVec 32) (k0_hw586 : k0_chk586 i v20231), ∀ (k0_h1 : k0_cond1 i = 1#1), ∀ a, (k0_off586 v20231) a + S1x16x128.size a ≤ S16384x16x128.size a := fun i v20231 k0_hw586 k0_h1 => k0_hw586 k0_h1

def k0_off587 (v20237 : BitVec 32) : Fin 3 → Nat :=
  let c0_i32_19113 : BitVec 32 := 0#32
  let c0_i32_19114 : BitVec 32 := 0#32
  ![v20237.toNat, 0, 0]

def k0_chk587 (i : grid0.Coords) (v20237 : BitVec 32) : Prop :=
  (∀ (k0_h1 : k0_cond1 i = 1#1), ∀ a, (k0_off587 v20237) a + S1x16x128.size a ≤ S16384x16x128.size a)
theorem k0_off587_inb : ∀ (i : grid0.Coords) (v20237 : BitVec 32) (k0_hw587 : k0_chk587 i v20237), ∀ (k0_h1 : k0_cond1 i = 1#1), ∀ a, (k0_off587 v20237) a + S1x16x128.size a ≤ S16384x16x128.size a := fun i v20237 k0_hw587 k0_h1 => k0_hw587 k0_h1

def k0_off588 (v20243 : BitVec 32) : Fin 3 → Nat :=
  let c0_i32_19120 : BitVec 32 := 0#32
  let c0_i32_19121 : BitVec 32 := 0#32
  ![v20243.toNat, 0, 0]

def k0_chk588 (i : grid0.Coords) (v20243 : BitVec 32) : Prop :=
  (∀ (k0_h1 : k0_cond1 i = 1#1), ∀ a, (k0_off588 v20243) a + S1x16x128.size a ≤ S16384x16x128.size a)
theorem k0_off588_inb : ∀ (i : grid0.Coords) (v20243 : BitVec 32) (k0_hw588 : k0_chk588 i v20243), ∀ (k0_h1 : k0_cond1 i = 1#1), ∀ a, (k0_off588 v20243) a + S1x16x128.size a ≤ S16384x16x128.size a := fun i v20243 k0_hw588 k0_h1 => k0_hw588 k0_h1

def k0_off589 (v20249 : BitVec 32) : Fin 3 → Nat :=
  let c0_i32_19127 : BitVec 32 := 0#32
  let c0_i32_19128 : BitVec 32 := 0#32
  ![v20249.toNat, 0, 0]

def k0_chk589 (i : grid0.Coords) (v20249 : BitVec 32) : Prop :=
  (∀ (k0_h1 : k0_cond1 i = 1#1), ∀ a, (k0_off589 v20249) a + S1x16x128.size a ≤ S16384x16x128.size a)
theorem k0_off589_inb : ∀ (i : grid0.Coords) (v20249 : BitVec 32) (k0_hw589 : k0_chk589 i v20249), ∀ (k0_h1 : k0_cond1 i = 1#1), ∀ a, (k0_off589 v20249) a + S1x16x128.size a ≤ S16384x16x128.size a := fun i v20249 k0_hw589 k0_h1 => k0_hw589 k0_h1

def k0_off590 (v20255 : BitVec 32) : Fin 3 → Nat :=
  let c0_i32_19134 : BitVec 32 := 0#32
  let c0_i32_19135 : BitVec 32 := 0#32
  ![v20255.toNat, 0, 0]

def k0_chk590 (i : grid0.Coords) (v20255 : BitVec 32) : Prop :=
  (∀ (k0_h1 : k0_cond1 i = 1#1), ∀ a, (k0_off590 v20255) a + S1x16x128.size a ≤ S16384x16x128.size a)
theorem k0_off590_inb : ∀ (i : grid0.Coords) (v20255 : BitVec 32) (k0_hw590 : k0_chk590 i v20255), ∀ (k0_h1 : k0_cond1 i = 1#1), ∀ a, (k0_off590 v20255) a + S1x16x128.size a ≤ S16384x16x128.size a := fun i v20255 k0_hw590 k0_h1 => k0_hw590 k0_h1

def k0_off591 (v20261 : BitVec 32) : Fin 3 → Nat :=
  let c0_i32_19141 : BitVec 32 := 0#32
  let c0_i32_19142 : BitVec 32 := 0#32
  ![v20261.toNat, 0, 0]

def k0_chk591 (i : grid0.Coords) (v20261 : BitVec 32) : Prop :=
  (∀ (k0_h1 : k0_cond1 i = 1#1), ∀ a, (k0_off591 v20261) a + S1x16x128.size a ≤ S16384x16x128.size a)
theorem k0_off591_inb : ∀ (i : grid0.Coords) (v20261 : BitVec 32) (k0_hw591 : k0_chk591 i v20261), ∀ (k0_h1 : k0_cond1 i = 1#1), ∀ a, (k0_off591 v20261) a + S1x16x128.size a ≤ S16384x16x128.size a := fun i v20261 k0_hw591 k0_h1 => k0_hw591 k0_h1

def k0_off592 (v20267 : BitVec 32) : Fin 3 → Nat :=
  let c0_i32_19148 : BitVec 32 := 0#32
  let c0_i32_19149 : BitVec 32 := 0#32
  ![v20267.toNat, 0, 0]

def k0_chk592 (i : grid0.Coords) (v20267 : BitVec 32) : Prop :=
  (∀ (k0_h1 : k0_cond1 i = 1#1), ∀ a, (k0_off592 v20267) a + S1x16x128.size a ≤ S16384x16x128.size a)
theorem k0_off592_inb : ∀ (i : grid0.Coords) (v20267 : BitVec 32) (k0_hw592 : k0_chk592 i v20267), ∀ (k0_h1 : k0_cond1 i = 1#1), ∀ a, (k0_off592 v20267) a + S1x16x128.size a ≤ S16384x16x128.size a := fun i v20267 k0_hw592 k0_h1 => k0_hw592 k0_h1

def k0_off593 (v20273 : BitVec 32) : Fin 3 → Nat :=
  let c0_i32_19155 : BitVec 32 := 0#32
  let c0_i32_19156 : BitVec 32 := 0#32
  ![v20273.toNat, 0, 0]

def k0_chk593 (i : grid0.Coords) (v20273 : BitVec 32) : Prop :=
  (∀ (k0_h1 : k0_cond1 i = 1#1), ∀ a, (k0_off593 v20273) a + S1x16x128.size a ≤ S16384x16x128.size a)
theorem k0_off593_inb : ∀ (i : grid0.Coords) (v20273 : BitVec 32) (k0_hw593 : k0_chk593 i v20273), ∀ (k0_h1 : k0_cond1 i = 1#1), ∀ a, (k0_off593 v20273) a + S1x16x128.size a ≤ S16384x16x128.size a := fun i v20273 k0_hw593 k0_h1 => k0_hw593 k0_h1

def k0_off594 (v20279 : BitVec 32) : Fin 3 → Nat :=
  let c0_i32_19162 : BitVec 32 := 0#32
  let c0_i32_19163 : BitVec 32 := 0#32
  ![v20279.toNat, 0, 0]

def k0_chk594 (i : grid0.Coords) (v20279 : BitVec 32) : Prop :=
  (∀ (k0_h1 : k0_cond1 i = 1#1), ∀ a, (k0_off594 v20279) a + S1x16x128.size a ≤ S16384x16x128.size a)
theorem k0_off594_inb : ∀ (i : grid0.Coords) (v20279 : BitVec 32) (k0_hw594 : k0_chk594 i v20279), ∀ (k0_h1 : k0_cond1 i = 1#1), ∀ a, (k0_off594 v20279) a + S1x16x128.size a ≤ S16384x16x128.size a := fun i v20279 k0_hw594 k0_h1 => k0_hw594 k0_h1

def k0_off595 (v20285 : BitVec 32) : Fin 3 → Nat :=
  let c0_i32_19169 : BitVec 32 := 0#32
  let c0_i32_19170 : BitVec 32 := 0#32
  ![v20285.toNat, 0, 0]

def k0_chk595 (i : grid0.Coords) (v20285 : BitVec 32) : Prop :=
  (∀ (k0_h1 : k0_cond1 i = 1#1), ∀ a, (k0_off595 v20285) a + S1x16x128.size a ≤ S16384x16x128.size a)
theorem k0_off595_inb : ∀ (i : grid0.Coords) (v20285 : BitVec 32) (k0_hw595 : k0_chk595 i v20285), ∀ (k0_h1 : k0_cond1 i = 1#1), ∀ a, (k0_off595 v20285) a + S1x16x128.size a ≤ S16384x16x128.size a := fun i v20285 k0_hw595 k0_h1 => k0_hw595 k0_h1

def k0_off596 (v20291 : BitVec 32) : Fin 3 → Nat :=
  let c0_i32_19176 : BitVec 32 := 0#32
  let c0_i32_19177 : BitVec 32 := 0#32
  ![v20291.toNat, 0, 0]

def k0_chk596 (i : grid0.Coords) (v20291 : BitVec 32) : Prop :=
  (∀ (k0_h1 : k0_cond1 i = 1#1), ∀ a, (k0_off596 v20291) a + S1x16x128.size a ≤ S16384x16x128.size a)
theorem k0_off596_inb : ∀ (i : grid0.Coords) (v20291 : BitVec 32) (k0_hw596 : k0_chk596 i v20291), ∀ (k0_h1 : k0_cond1 i = 1#1), ∀ a, (k0_off596 v20291) a + S1x16x128.size a ≤ S16384x16x128.size a := fun i v20291 k0_hw596 k0_h1 => k0_hw596 k0_h1

def k0_off597 (v20297 : BitVec 32) : Fin 3 → Nat :=
  let c0_i32_19183 : BitVec 32 := 0#32
  let c0_i32_19184 : BitVec 32 := 0#32
  ![v20297.toNat, 0, 0]

def k0_chk597 (i : grid0.Coords) (v20297 : BitVec 32) : Prop :=
  (∀ (k0_h1 : k0_cond1 i = 1#1), ∀ a, (k0_off597 v20297) a + S1x16x128.size a ≤ S16384x16x128.size a)
theorem k0_off597_inb : ∀ (i : grid0.Coords) (v20297 : BitVec 32) (k0_hw597 : k0_chk597 i v20297), ∀ (k0_h1 : k0_cond1 i = 1#1), ∀ a, (k0_off597 v20297) a + S1x16x128.size a ≤ S16384x16x128.size a := fun i v20297 k0_hw597 k0_h1 => k0_hw597 k0_h1

def k0_off598 (v20303 : BitVec 32) : Fin 3 → Nat :=
  let c0_i32_19190 : BitVec 32 := 0#32
  let c0_i32_19191 : BitVec 32 := 0#32
  ![v20303.toNat, 0, 0]

def k0_chk598 (i : grid0.Coords) (v20303 : BitVec 32) : Prop :=
  (∀ (k0_h1 : k0_cond1 i = 1#1), ∀ a, (k0_off598 v20303) a + S1x16x128.size a ≤ S16384x16x128.size a)
theorem k0_off598_inb : ∀ (i : grid0.Coords) (v20303 : BitVec 32) (k0_hw598 : k0_chk598 i v20303), ∀ (k0_h1 : k0_cond1 i = 1#1), ∀ a, (k0_off598 v20303) a + S1x16x128.size a ≤ S16384x16x128.size a := fun i v20303 k0_hw598 k0_h1 => k0_hw598 k0_h1

def k0_off599 (v20309 : BitVec 32) : Fin 3 → Nat :=
  let c0_i32_19197 : BitVec 32 := 0#32
  let c0_i32_19198 : BitVec 32 := 0#32
  ![v20309.toNat, 0, 0]

def k0_chk599 (i : grid0.Coords) (v20309 : BitVec 32) : Prop :=
  (∀ (k0_h1 : k0_cond1 i = 1#1), ∀ a, (k0_off599 v20309) a + S1x16x128.size a ≤ S16384x16x128.size a)
theorem k0_off599_inb : ∀ (i : grid0.Coords) (v20309 : BitVec 32) (k0_hw599 : k0_chk599 i v20309), ∀ (k0_h1 : k0_cond1 i = 1#1), ∀ a, (k0_off599 v20309) a + S1x16x128.size a ≤ S16384x16x128.size a := fun i v20309 k0_hw599 k0_h1 => k0_hw599 k0_h1

def k0_off600 (v20315 : BitVec 32) : Fin 3 → Nat :=
  let c0_i32_19204 : BitVec 32 := 0#32
  let c0_i32_19205 : BitVec 32 := 0#32
  ![v20315.toNat, 0, 0]

def k0_chk600 (i : grid0.Coords) (v20315 : BitVec 32) : Prop :=
  (∀ (k0_h1 : k0_cond1 i = 1#1), ∀ a, (k0_off600 v20315) a + S1x16x128.size a ≤ S16384x16x128.size a)
theorem k0_off600_inb : ∀ (i : grid0.Coords) (v20315 : BitVec 32) (k0_hw600 : k0_chk600 i v20315), ∀ (k0_h1 : k0_cond1 i = 1#1), ∀ a, (k0_off600 v20315) a + S1x16x128.size a ≤ S16384x16x128.size a := fun i v20315 k0_hw600 k0_h1 => k0_hw600 k0_h1

def k0_off601 (v20321 : BitVec 32) : Fin 3 → Nat :=
  let c0_i32_19211 : BitVec 32 := 0#32
  let c0_i32_19212 : BitVec 32 := 0#32
  ![v20321.toNat, 0, 0]

def k0_chk601 (i : grid0.Coords) (v20321 : BitVec 32) : Prop :=
  (∀ (k0_h1 : k0_cond1 i = 1#1), ∀ a, (k0_off601 v20321) a + S1x16x128.size a ≤ S16384x16x128.size a)
theorem k0_off601_inb : ∀ (i : grid0.Coords) (v20321 : BitVec 32) (k0_hw601 : k0_chk601 i v20321), ∀ (k0_h1 : k0_cond1 i = 1#1), ∀ a, (k0_off601 v20321) a + S1x16x128.size a ≤ S16384x16x128.size a := fun i v20321 k0_hw601 k0_h1 => k0_hw601 k0_h1

def k0_off602 (v20327 : BitVec 32) : Fin 3 → Nat :=
  let c0_i32_19218 : BitVec 32 := 0#32
  let c0_i32_19219 : BitVec 32 := 0#32
  ![v20327.toNat, 0, 0]

def k0_chk602 (i : grid0.Coords) (v20327 : BitVec 32) : Prop :=
  (∀ (k0_h1 : k0_cond1 i = 1#1), ∀ a, (k0_off602 v20327) a + S1x16x128.size a ≤ S16384x16x128.size a)
theorem k0_off602_inb : ∀ (i : grid0.Coords) (v20327 : BitVec 32) (k0_hw602 : k0_chk602 i v20327), ∀ (k0_h1 : k0_cond1 i = 1#1), ∀ a, (k0_off602 v20327) a + S1x16x128.size a ≤ S16384x16x128.size a := fun i v20327 k0_hw602 k0_h1 => k0_hw602 k0_h1

def k0_off603 (v20333 : BitVec 32) : Fin 3 → Nat :=
  let c0_i32_19225 : BitVec 32 := 0#32
  let c0_i32_19226 : BitVec 32 := 0#32
  ![v20333.toNat, 0, 0]

def k0_chk603 (i : grid0.Coords) (v20333 : BitVec 32) : Prop :=
  (∀ (k0_h1 : k0_cond1 i = 1#1), ∀ a, (k0_off603 v20333) a + S1x16x128.size a ≤ S16384x16x128.size a)
theorem k0_off603_inb : ∀ (i : grid0.Coords) (v20333 : BitVec 32) (k0_hw603 : k0_chk603 i v20333), ∀ (k0_h1 : k0_cond1 i = 1#1), ∀ a, (k0_off603 v20333) a + S1x16x128.size a ≤ S16384x16x128.size a := fun i v20333 k0_hw603 k0_h1 => k0_hw603 k0_h1

def k0_off604 (v20339 : BitVec 32) : Fin 3 → Nat :=
  let c0_i32_19232 : BitVec 32 := 0#32
  let c0_i32_19233 : BitVec 32 := 0#32
  ![v20339.toNat, 0, 0]

def k0_chk604 (i : grid0.Coords) (v20339 : BitVec 32) : Prop :=
  (∀ (k0_h1 : k0_cond1 i = 1#1), ∀ a, (k0_off604 v20339) a + S1x16x128.size a ≤ S16384x16x128.size a)
theorem k0_off604_inb : ∀ (i : grid0.Coords) (v20339 : BitVec 32) (k0_hw604 : k0_chk604 i v20339), ∀ (k0_h1 : k0_cond1 i = 1#1), ∀ a, (k0_off604 v20339) a + S1x16x128.size a ≤ S16384x16x128.size a := fun i v20339 k0_hw604 k0_h1 => k0_hw604 k0_h1

def k0_off605 (v20345 : BitVec 32) : Fin 3 → Nat :=
  let c0_i32_19239 : BitVec 32 := 0#32
  let c0_i32_19240 : BitVec 32 := 0#32
  ![v20345.toNat, 0, 0]

def k0_chk605 (i : grid0.Coords) (v20345 : BitVec 32) : Prop :=
  (∀ (k0_h1 : k0_cond1 i = 1#1), ∀ a, (k0_off605 v20345) a + S1x16x128.size a ≤ S16384x16x128.size a)
theorem k0_off605_inb : ∀ (i : grid0.Coords) (v20345 : BitVec 32) (k0_hw605 : k0_chk605 i v20345), ∀ (k0_h1 : k0_cond1 i = 1#1), ∀ a, (k0_off605 v20345) a + S1x16x128.size a ≤ S16384x16x128.size a := fun i v20345 k0_hw605 k0_h1 => k0_hw605 k0_h1

def k0_off606 (v20351 : BitVec 32) : Fin 3 → Nat :=
  let c0_i32_19246 : BitVec 32 := 0#32
  let c0_i32_19247 : BitVec 32 := 0#32
  ![v20351.toNat, 0, 0]

def k0_chk606 (i : grid0.Coords) (v20351 : BitVec 32) : Prop :=
  (∀ (k0_h1 : k0_cond1 i = 1#1), ∀ a, (k0_off606 v20351) a + S1x16x128.size a ≤ S16384x16x128.size a)
theorem k0_off606_inb : ∀ (i : grid0.Coords) (v20351 : BitVec 32) (k0_hw606 : k0_chk606 i v20351), ∀ (k0_h1 : k0_cond1 i = 1#1), ∀ a, (k0_off606 v20351) a + S1x16x128.size a ≤ S16384x16x128.size a := fun i v20351 k0_hw606 k0_h1 => k0_hw606 k0_h1

def k0_off607 (v20357 : BitVec 32) : Fin 3 → Nat :=
  let c0_i32_19253 : BitVec 32 := 0#32
  let c0_i32_19254 : BitVec 32 := 0#32
  ![v20357.toNat, 0, 0]

def k0_chk607 (i : grid0.Coords) (v20357 : BitVec 32) : Prop :=
  (∀ (k0_h1 : k0_cond1 i = 1#1), ∀ a, (k0_off607 v20357) a + S1x16x128.size a ≤ S16384x16x128.size a)
theorem k0_off607_inb : ∀ (i : grid0.Coords) (v20357 : BitVec 32) (k0_hw607 : k0_chk607 i v20357), ∀ (k0_h1 : k0_cond1 i = 1#1), ∀ a, (k0_off607 v20357) a + S1x16x128.size a ≤ S16384x16x128.size a := fun i v20357 k0_hw607 k0_h1 => k0_hw607 k0_h1

def k0_off608 (v20363 : BitVec 32) : Fin 3 → Nat :=
  let c0_i32_19260 : BitVec 32 := 0#32
  let c0_i32_19261 : BitVec 32 := 0#32
  ![v20363.toNat, 0, 0]

def k0_chk608 (i : grid0.Coords) (v20363 : BitVec 32) : Prop :=
  (∀ (k0_h1 : k0_cond1 i = 1#1), ∀ a, (k0_off608 v20363) a + S1x16x128.size a ≤ S16384x16x128.size a)
theorem k0_off608_inb : ∀ (i : grid0.Coords) (v20363 : BitVec 32) (k0_hw608 : k0_chk608 i v20363), ∀ (k0_h1 : k0_cond1 i = 1#1), ∀ a, (k0_off608 v20363) a + S1x16x128.size a ≤ S16384x16x128.size a := fun i v20363 k0_hw608 k0_h1 => k0_hw608 k0_h1

def k0_off609 (v20369 : BitVec 32) : Fin 3 → Nat :=
  let c0_i32_19267 : BitVec 32 := 0#32
  let c0_i32_19268 : BitVec 32 := 0#32
  ![v20369.toNat, 0, 0]

def k0_chk609 (i : grid0.Coords) (v20369 : BitVec 32) : Prop :=
  (∀ (k0_h1 : k0_cond1 i = 1#1), ∀ a, (k0_off609 v20369) a + S1x16x128.size a ≤ S16384x16x128.size a)
theorem k0_off609_inb : ∀ (i : grid0.Coords) (v20369 : BitVec 32) (k0_hw609 : k0_chk609 i v20369), ∀ (k0_h1 : k0_cond1 i = 1#1), ∀ a, (k0_off609 v20369) a + S1x16x128.size a ≤ S16384x16x128.size a := fun i v20369 k0_hw609 k0_h1 => k0_hw609 k0_h1

def k0_off610 (v20375 : BitVec 32) : Fin 3 → Nat :=
  let c0_i32_19274 : BitVec 32 := 0#32
  let c0_i32_19275 : BitVec 32 := 0#32
  ![v20375.toNat, 0, 0]

def k0_chk610 (i : grid0.Coords) (v20375 : BitVec 32) : Prop :=
  (∀ (k0_h1 : k0_cond1 i = 1#1), ∀ a, (k0_off610 v20375) a + S1x16x128.size a ≤ S16384x16x128.size a)
theorem k0_off610_inb : ∀ (i : grid0.Coords) (v20375 : BitVec 32) (k0_hw610 : k0_chk610 i v20375), ∀ (k0_h1 : k0_cond1 i = 1#1), ∀ a, (k0_off610 v20375) a + S1x16x128.size a ≤ S16384x16x128.size a := fun i v20375 k0_hw610 k0_h1 => k0_hw610 k0_h1

def k0_off611 (v20381 : BitVec 32) : Fin 3 → Nat :=
  let c0_i32_19281 : BitVec 32 := 0#32
  let c0_i32_19282 : BitVec 32 := 0#32
  ![v20381.toNat, 0, 0]

def k0_chk611 (i : grid0.Coords) (v20381 : BitVec 32) : Prop :=
  (∀ (k0_h1 : k0_cond1 i = 1#1), ∀ a, (k0_off611 v20381) a + S1x16x128.size a ≤ S16384x16x128.size a)
theorem k0_off611_inb : ∀ (i : grid0.Coords) (v20381 : BitVec 32) (k0_hw611 : k0_chk611 i v20381), ∀ (k0_h1 : k0_cond1 i = 1#1), ∀ a, (k0_off611 v20381) a + S1x16x128.size a ≤ S16384x16x128.size a := fun i v20381 k0_hw611 k0_h1 => k0_hw611 k0_h1

def k0_off612 (v20387 : BitVec 32) : Fin 3 → Nat :=
  let c0_i32_19288 : BitVec 32 := 0#32
  let c0_i32_19289 : BitVec 32 := 0#32
  ![v20387.toNat, 0, 0]

def k0_chk612 (i : grid0.Coords) (v20387 : BitVec 32) : Prop :=
  (∀ (k0_h1 : k0_cond1 i = 1#1), ∀ a, (k0_off612 v20387) a + S1x16x128.size a ≤ S16384x16x128.size a)
theorem k0_off612_inb : ∀ (i : grid0.Coords) (v20387 : BitVec 32) (k0_hw612 : k0_chk612 i v20387), ∀ (k0_h1 : k0_cond1 i = 1#1), ∀ a, (k0_off612 v20387) a + S1x16x128.size a ≤ S16384x16x128.size a := fun i v20387 k0_hw612 k0_h1 => k0_hw612 k0_h1

def k0_off613 (v20393 : BitVec 32) : Fin 3 → Nat :=
  let c0_i32_19295 : BitVec 32 := 0#32
  let c0_i32_19296 : BitVec 32 := 0#32
  ![v20393.toNat, 0, 0]

def k0_chk613 (i : grid0.Coords) (v20393 : BitVec 32) : Prop :=
  (∀ (k0_h1 : k0_cond1 i = 1#1), ∀ a, (k0_off613 v20393) a + S1x16x128.size a ≤ S16384x16x128.size a)
theorem k0_off613_inb : ∀ (i : grid0.Coords) (v20393 : BitVec 32) (k0_hw613 : k0_chk613 i v20393), ∀ (k0_h1 : k0_cond1 i = 1#1), ∀ a, (k0_off613 v20393) a + S1x16x128.size a ≤ S16384x16x128.size a := fun i v20393 k0_hw613 k0_h1 => k0_hw613 k0_h1

def k0_off614 (v20399 : BitVec 32) : Fin 3 → Nat :=
  let c0_i32_19302 : BitVec 32 := 0#32
  let c0_i32_19303 : BitVec 32 := 0#32
  ![v20399.toNat, 0, 0]

def k0_chk614 (i : grid0.Coords) (v20399 : BitVec 32) : Prop :=
  (∀ (k0_h1 : k0_cond1 i = 1#1), ∀ a, (k0_off614 v20399) a + S1x16x128.size a ≤ S16384x16x128.size a)
theorem k0_off614_inb : ∀ (i : grid0.Coords) (v20399 : BitVec 32) (k0_hw614 : k0_chk614 i v20399), ∀ (k0_h1 : k0_cond1 i = 1#1), ∀ a, (k0_off614 v20399) a + S1x16x128.size a ≤ S16384x16x128.size a := fun i v20399 k0_hw614 k0_h1 => k0_hw614 k0_h1

def k0_off615 (v20405 : BitVec 32) : Fin 3 → Nat :=
  let c0_i32_19309 : BitVec 32 := 0#32
  let c0_i32_19310 : BitVec 32 := 0#32
  ![v20405.toNat, 0, 0]

def k0_chk615 (i : grid0.Coords) (v20405 : BitVec 32) : Prop :=
  (∀ (k0_h1 : k0_cond1 i = 1#1), ∀ a, (k0_off615 v20405) a + S1x16x128.size a ≤ S16384x16x128.size a)
theorem k0_off615_inb : ∀ (i : grid0.Coords) (v20405 : BitVec 32) (k0_hw615 : k0_chk615 i v20405), ∀ (k0_h1 : k0_cond1 i = 1#1), ∀ a, (k0_off615 v20405) a + S1x16x128.size a ≤ S16384x16x128.size a := fun i v20405 k0_hw615 k0_h1 => k0_hw615 k0_h1

def k0_off616 (v20411 : BitVec 32) : Fin 3 → Nat :=
  let c0_i32_19316 : BitVec 32 := 0#32
  let c0_i32_19317 : BitVec 32 := 0#32
  ![v20411.toNat, 0, 0]

def k0_chk616 (i : grid0.Coords) (v20411 : BitVec 32) : Prop :=
  (∀ (k0_h1 : k0_cond1 i = 1#1), ∀ a, (k0_off616 v20411) a + S1x16x128.size a ≤ S16384x16x128.size a)
theorem k0_off616_inb : ∀ (i : grid0.Coords) (v20411 : BitVec 32) (k0_hw616 : k0_chk616 i v20411), ∀ (k0_h1 : k0_cond1 i = 1#1), ∀ a, (k0_off616 v20411) a + S1x16x128.size a ≤ S16384x16x128.size a := fun i v20411 k0_hw616 k0_h1 => k0_hw616 k0_h1

def k0_off617 (v20417 : BitVec 32) : Fin 3 → Nat :=
  let c0_i32_19323 : BitVec 32 := 0#32
  let c0_i32_19324 : BitVec 32 := 0#32
  ![v20417.toNat, 0, 0]

def k0_chk617 (i : grid0.Coords) (v20417 : BitVec 32) : Prop :=
  (∀ (k0_h1 : k0_cond1 i = 1#1), ∀ a, (k0_off617 v20417) a + S1x16x128.size a ≤ S16384x16x128.size a)
theorem k0_off617_inb : ∀ (i : grid0.Coords) (v20417 : BitVec 32) (k0_hw617 : k0_chk617 i v20417), ∀ (k0_h1 : k0_cond1 i = 1#1), ∀ a, (k0_off617 v20417) a + S1x16x128.size a ≤ S16384x16x128.size a := fun i v20417 k0_hw617 k0_h1 => k0_hw617 k0_h1

def k0_off618 (v20423 : BitVec 32) : Fin 3 → Nat :=
  let c0_i32_19330 : BitVec 32 := 0#32
  let c0_i32_19331 : BitVec 32 := 0#32
  ![v20423.toNat, 0, 0]

def k0_chk618 (i : grid0.Coords) (v20423 : BitVec 32) : Prop :=
  (∀ (k0_h1 : k0_cond1 i = 1#1), ∀ a, (k0_off618 v20423) a + S1x16x128.size a ≤ S16384x16x128.size a)
theorem k0_off618_inb : ∀ (i : grid0.Coords) (v20423 : BitVec 32) (k0_hw618 : k0_chk618 i v20423), ∀ (k0_h1 : k0_cond1 i = 1#1), ∀ a, (k0_off618 v20423) a + S1x16x128.size a ≤ S16384x16x128.size a := fun i v20423 k0_hw618 k0_h1 => k0_hw618 k0_h1

def k0_off619 (v20429 : BitVec 32) : Fin 3 → Nat :=
  let c0_i32_19337 : BitVec 32 := 0#32
  let c0_i32_19338 : BitVec 32 := 0#32
  ![v20429.toNat, 0, 0]

def k0_chk619 (i : grid0.Coords) (v20429 : BitVec 32) : Prop :=
  (∀ (k0_h1 : k0_cond1 i = 1#1), ∀ a, (k0_off619 v20429) a + S1x16x128.size a ≤ S16384x16x128.size a)
theorem k0_off619_inb : ∀ (i : grid0.Coords) (v20429 : BitVec 32) (k0_hw619 : k0_chk619 i v20429), ∀ (k0_h1 : k0_cond1 i = 1#1), ∀ a, (k0_off619 v20429) a + S1x16x128.size a ≤ S16384x16x128.size a := fun i v20429 k0_hw619 k0_h1 => k0_hw619 k0_h1

def k0_off620 (v20435 : BitVec 32) : Fin 3 → Nat :=
  let c0_i32_19344 : BitVec 32 := 0#32
  let c0_i32_19345 : BitVec 32 := 0#32
  ![v20435.toNat, 0, 0]

def k0_chk620 (i : grid0.Coords) (v20435 : BitVec 32) : Prop :=
  (∀ (k0_h1 : k0_cond1 i = 1#1), ∀ a, (k0_off620 v20435) a + S1x16x128.size a ≤ S16384x16x128.size a)
theorem k0_off620_inb : ∀ (i : grid0.Coords) (v20435 : BitVec 32) (k0_hw620 : k0_chk620 i v20435), ∀ (k0_h1 : k0_cond1 i = 1#1), ∀ a, (k0_off620 v20435) a + S1x16x128.size a ≤ S16384x16x128.size a := fun i v20435 k0_hw620 k0_h1 => k0_hw620 k0_h1

def k0_off621 (v20441 : BitVec 32) : Fin 3 → Nat :=
  let c0_i32_19351 : BitVec 32 := 0#32
  let c0_i32_19352 : BitVec 32 := 0#32
  ![v20441.toNat, 0, 0]

def k0_chk621 (i : grid0.Coords) (v20441 : BitVec 32) : Prop :=
  (∀ (k0_h1 : k0_cond1 i = 1#1), ∀ a, (k0_off621 v20441) a + S1x16x128.size a ≤ S16384x16x128.size a)
theorem k0_off621_inb : ∀ (i : grid0.Coords) (v20441 : BitVec 32) (k0_hw621 : k0_chk621 i v20441), ∀ (k0_h1 : k0_cond1 i = 1#1), ∀ a, (k0_off621 v20441) a + S1x16x128.size a ≤ S16384x16x128.size a := fun i v20441 k0_hw621 k0_h1 => k0_hw621 k0_h1

def k0_off622 (v20447 : BitVec 32) : Fin 3 → Nat :=
  let c0_i32_19358 : BitVec 32 := 0#32
  let c0_i32_19359 : BitVec 32 := 0#32
  ![v20447.toNat, 0, 0]

def k0_chk622 (i : grid0.Coords) (v20447 : BitVec 32) : Prop :=
  (∀ (k0_h1 : k0_cond1 i = 1#1), ∀ a, (k0_off622 v20447) a + S1x16x128.size a ≤ S16384x16x128.size a)
theorem k0_off622_inb : ∀ (i : grid0.Coords) (v20447 : BitVec 32) (k0_hw622 : k0_chk622 i v20447), ∀ (k0_h1 : k0_cond1 i = 1#1), ∀ a, (k0_off622 v20447) a + S1x16x128.size a ≤ S16384x16x128.size a := fun i v20447 k0_hw622 k0_h1 => k0_hw622 k0_h1

def k0_off623 (v20453 : BitVec 32) : Fin 3 → Nat :=
  let c0_i32_19365 : BitVec 32 := 0#32
  let c0_i32_19366 : BitVec 32 := 0#32
  ![v20453.toNat, 0, 0]

def k0_chk623 (i : grid0.Coords) (v20453 : BitVec 32) : Prop :=
  (∀ (k0_h1 : k0_cond1 i = 1#1), ∀ a, (k0_off623 v20453) a + S1x16x128.size a ≤ S16384x16x128.size a)
theorem k0_off623_inb : ∀ (i : grid0.Coords) (v20453 : BitVec 32) (k0_hw623 : k0_chk623 i v20453), ∀ (k0_h1 : k0_cond1 i = 1#1), ∀ a, (k0_off623 v20453) a + S1x16x128.size a ≤ S16384x16x128.size a := fun i v20453 k0_hw623 k0_h1 => k0_hw623 k0_h1

def k0_off624 (v20459 : BitVec 32) : Fin 3 → Nat :=
  let c0_i32_19372 : BitVec 32 := 0#32
  let c0_i32_19373 : BitVec 32 := 0#32
  ![v20459.toNat, 0, 0]

def k0_chk624 (i : grid0.Coords) (v20459 : BitVec 32) : Prop :=
  (∀ (k0_h1 : k0_cond1 i = 1#1), ∀ a, (k0_off624 v20459) a + S1x16x128.size a ≤ S16384x16x128.size a)
theorem k0_off624_inb : ∀ (i : grid0.Coords) (v20459 : BitVec 32) (k0_hw624 : k0_chk624 i v20459), ∀ (k0_h1 : k0_cond1 i = 1#1), ∀ a, (k0_off624 v20459) a + S1x16x128.size a ≤ S16384x16x128.size a := fun i v20459 k0_hw624 k0_h1 => k0_hw624 k0_h1

def k0_off625 (v20465 : BitVec 32) : Fin 3 → Nat :=
  let c0_i32_19379 : BitVec 32 := 0#32
  let c0_i32_19380 : BitVec 32 := 0#32
  ![v20465.toNat, 0, 0]

def k0_chk625 (i : grid0.Coords) (v20465 : BitVec 32) : Prop :=
  (∀ (k0_h1 : k0_cond1 i = 1#1), ∀ a, (k0_off625 v20465) a + S1x16x128.size a ≤ S16384x16x128.size a)
theorem k0_off625_inb : ∀ (i : grid0.Coords) (v20465 : BitVec 32) (k0_hw625 : k0_chk625 i v20465), ∀ (k0_h1 : k0_cond1 i = 1#1), ∀ a, (k0_off625 v20465) a + S1x16x128.size a ≤ S16384x16x128.size a := fun i v20465 k0_hw625 k0_h1 => k0_hw625 k0_h1

def k0_off626 (v20471 : BitVec 32) : Fin 3 → Nat :=
  let c0_i32_19386 : BitVec 32 := 0#32
  let c0_i32_19387 : BitVec 32 := 0#32
  ![v20471.toNat, 0, 0]

def k0_chk626 (i : grid0.Coords) (v20471 : BitVec 32) : Prop :=
  (∀ (k0_h1 : k0_cond1 i = 1#1), ∀ a, (k0_off626 v20471) a + S1x16x128.size a ≤ S16384x16x128.size a)
theorem k0_off626_inb : ∀ (i : grid0.Coords) (v20471 : BitVec 32) (k0_hw626 : k0_chk626 i v20471), ∀ (k0_h1 : k0_cond1 i = 1#1), ∀ a, (k0_off626 v20471) a + S1x16x128.size a ≤ S16384x16x128.size a := fun i v20471 k0_hw626 k0_h1 => k0_hw626 k0_h1

def k0_off627 (v20477 : BitVec 32) : Fin 3 → Nat :=
  let c0_i32_19393 : BitVec 32 := 0#32
  let c0_i32_19394 : BitVec 32 := 0#32
  ![v20477.toNat, 0, 0]

def k0_chk627 (i : grid0.Coords) (v20477 : BitVec 32) : Prop :=
  (∀ (k0_h1 : k0_cond1 i = 1#1), ∀ a, (k0_off627 v20477) a + S1x16x128.size a ≤ S16384x16x128.size a)
theorem k0_off627_inb : ∀ (i : grid0.Coords) (v20477 : BitVec 32) (k0_hw627 : k0_chk627 i v20477), ∀ (k0_h1 : k0_cond1 i = 1#1), ∀ a, (k0_off627 v20477) a + S1x16x128.size a ≤ S16384x16x128.size a := fun i v20477 k0_hw627 k0_h1 => k0_hw627 k0_h1

def k0_off628 (v20483 : BitVec 32) : Fin 3 → Nat :=
  let c0_i32_19400 : BitVec 32 := 0#32
  let c0_i32_19401 : BitVec 32 := 0#32
  ![v20483.toNat, 0, 0]

def k0_chk628 (i : grid0.Coords) (v20483 : BitVec 32) : Prop :=
  (∀ (k0_h1 : k0_cond1 i = 1#1), ∀ a, (k0_off628 v20483) a + S1x16x128.size a ≤ S16384x16x128.size a)
theorem k0_off628_inb : ∀ (i : grid0.Coords) (v20483 : BitVec 32) (k0_hw628 : k0_chk628 i v20483), ∀ (k0_h1 : k0_cond1 i = 1#1), ∀ a, (k0_off628 v20483) a + S1x16x128.size a ≤ S16384x16x128.size a := fun i v20483 k0_hw628 k0_h1 => k0_hw628 k0_h1

def k0_off629 (v20489 : BitVec 32) : Fin 3 → Nat :=
  let c0_i32_19407 : BitVec 32 := 0#32
  let c0_i32_19408 : BitVec 32 := 0#32
  ![v20489.toNat, 0, 0]

def k0_chk629 (i : grid0.Coords) (v20489 : BitVec 32) : Prop :=
  (∀ (k0_h1 : k0_cond1 i = 1#1), ∀ a, (k0_off629 v20489) a + S1x16x128.size a ≤ S16384x16x128.size a)
theorem k0_off629_inb : ∀ (i : grid0.Coords) (v20489 : BitVec 32) (k0_hw629 : k0_chk629 i v20489), ∀ (k0_h1 : k0_cond1 i = 1#1), ∀ a, (k0_off629 v20489) a + S1x16x128.size a ≤ S16384x16x128.size a := fun i v20489 k0_hw629 k0_h1 => k0_hw629 k0_h1

def k0_off630 (v20495 : BitVec 32) : Fin 3 → Nat :=
  let c0_i32_19414 : BitVec 32 := 0#32
  let c0_i32_19415 : BitVec 32 := 0#32
  ![v20495.toNat, 0, 0]

def k0_chk630 (i : grid0.Coords) (v20495 : BitVec 32) : Prop :=
  (∀ (k0_h1 : k0_cond1 i = 1#1), ∀ a, (k0_off630 v20495) a + S1x16x128.size a ≤ S16384x16x128.size a)
theorem k0_off630_inb : ∀ (i : grid0.Coords) (v20495 : BitVec 32) (k0_hw630 : k0_chk630 i v20495), ∀ (k0_h1 : k0_cond1 i = 1#1), ∀ a, (k0_off630 v20495) a + S1x16x128.size a ≤ S16384x16x128.size a := fun i v20495 k0_hw630 k0_h1 => k0_hw630 k0_h1

def k0_off631 (v20501 : BitVec 32) : Fin 3 → Nat :=
  let c0_i32_19421 : BitVec 32 := 0#32
  let c0_i32_19422 : BitVec 32 := 0#32
  ![v20501.toNat, 0, 0]

def k0_chk631 (i : grid0.Coords) (v20501 : BitVec 32) : Prop :=
  (∀ (k0_h1 : k0_cond1 i = 1#1), ∀ a, (k0_off631 v20501) a + S1x16x128.size a ≤ S16384x16x128.size a)
theorem k0_off631_inb : ∀ (i : grid0.Coords) (v20501 : BitVec 32) (k0_hw631 : k0_chk631 i v20501), ∀ (k0_h1 : k0_cond1 i = 1#1), ∀ a, (k0_off631 v20501) a + S1x16x128.size a ≤ S16384x16x128.size a := fun i v20501 k0_hw631 k0_h1 => k0_hw631 k0_h1

def k0_off632 (v20507 : BitVec 32) : Fin 3 → Nat :=
  let c0_i32_19428 : BitVec 32 := 0#32
  let c0_i32_19429 : BitVec 32 := 0#32
  ![v20507.toNat, 0, 0]

def k0_chk632 (i : grid0.Coords) (v20507 : BitVec 32) : Prop :=
  (∀ (k0_h1 : k0_cond1 i = 1#1), ∀ a, (k0_off632 v20507) a + S1x16x128.size a ≤ S16384x16x128.size a)
theorem k0_off632_inb : ∀ (i : grid0.Coords) (v20507 : BitVec 32) (k0_hw632 : k0_chk632 i v20507), ∀ (k0_h1 : k0_cond1 i = 1#1), ∀ a, (k0_off632 v20507) a + S1x16x128.size a ≤ S16384x16x128.size a := fun i v20507 k0_hw632 k0_h1 => k0_hw632 k0_h1

def k0_off633 (v20513 : BitVec 32) : Fin 3 → Nat :=
  let c0_i32_19435 : BitVec 32 := 0#32
  let c0_i32_19436 : BitVec 32 := 0#32
  ![v20513.toNat, 0, 0]

def k0_chk633 (i : grid0.Coords) (v20513 : BitVec 32) : Prop :=
  (∀ (k0_h1 : k0_cond1 i = 1#1), ∀ a, (k0_off633 v20513) a + S1x16x128.size a ≤ S16384x16x128.size a)
theorem k0_off633_inb : ∀ (i : grid0.Coords) (v20513 : BitVec 32) (k0_hw633 : k0_chk633 i v20513), ∀ (k0_h1 : k0_cond1 i = 1#1), ∀ a, (k0_off633 v20513) a + S1x16x128.size a ≤ S16384x16x128.size a := fun i v20513 k0_hw633 k0_h1 => k0_hw633 k0_h1

def k0_off634 (v20519 : BitVec 32) : Fin 3 → Nat :=
  let c0_i32_19442 : BitVec 32 := 0#32
  let c0_i32_19443 : BitVec 32 := 0#32
  ![v20519.toNat, 0, 0]

def k0_chk634 (i : grid0.Coords) (v20519 : BitVec 32) : Prop :=
  (∀ (k0_h1 : k0_cond1 i = 1#1), ∀ a, (k0_off634 v20519) a + S1x16x128.size a ≤ S16384x16x128.size a)
theorem k0_off634_inb : ∀ (i : grid0.Coords) (v20519 : BitVec 32) (k0_hw634 : k0_chk634 i v20519), ∀ (k0_h1 : k0_cond1 i = 1#1), ∀ a, (k0_off634 v20519) a + S1x16x128.size a ≤ S16384x16x128.size a := fun i v20519 k0_hw634 k0_h1 => k0_hw634 k0_h1

def k0_off635 (v20525 : BitVec 32) : Fin 3 → Nat :=
  let c0_i32_19449 : BitVec 32 := 0#32
  let c0_i32_19450 : BitVec 32 := 0#32
  ![v20525.toNat, 0, 0]

def k0_chk635 (i : grid0.Coords) (v20525 : BitVec 32) : Prop :=
  (∀ (k0_h1 : k0_cond1 i = 1#1), ∀ a, (k0_off635 v20525) a + S1x16x128.size a ≤ S16384x16x128.size a)
theorem k0_off635_inb : ∀ (i : grid0.Coords) (v20525 : BitVec 32) (k0_hw635 : k0_chk635 i v20525), ∀ (k0_h1 : k0_cond1 i = 1#1), ∀ a, (k0_off635 v20525) a + S1x16x128.size a ≤ S16384x16x128.size a := fun i v20525 k0_hw635 k0_h1 => k0_hw635 k0_h1

def k0_off636 (v20531 : BitVec 32) : Fin 3 → Nat :=
  let c0_i32_19456 : BitVec 32 := 0#32
  let c0_i32_19457 : BitVec 32 := 0#32
  ![v20531.toNat, 0, 0]

def k0_chk636 (i : grid0.Coords) (v20531 : BitVec 32) : Prop :=
  (∀ (k0_h1 : k0_cond1 i = 1#1), ∀ a, (k0_off636 v20531) a + S1x16x128.size a ≤ S16384x16x128.size a)
theorem k0_off636_inb : ∀ (i : grid0.Coords) (v20531 : BitVec 32) (k0_hw636 : k0_chk636 i v20531), ∀ (k0_h1 : k0_cond1 i = 1#1), ∀ a, (k0_off636 v20531) a + S1x16x128.size a ≤ S16384x16x128.size a := fun i v20531 k0_hw636 k0_h1 => k0_hw636 k0_h1

def k0_off637 (v20537 : BitVec 32) : Fin 3 → Nat :=
  let c0_i32_19463 : BitVec 32 := 0#32
  let c0_i32_19464 : BitVec 32 := 0#32
  ![v20537.toNat, 0, 0]

def k0_chk637 (i : grid0.Coords) (v20537 : BitVec 32) : Prop :=
  (∀ (k0_h1 : k0_cond1 i = 1#1), ∀ a, (k0_off637 v20537) a + S1x16x128.size a ≤ S16384x16x128.size a)
theorem k0_off637_inb : ∀ (i : grid0.Coords) (v20537 : BitVec 32) (k0_hw637 : k0_chk637 i v20537), ∀ (k0_h1 : k0_cond1 i = 1#1), ∀ a, (k0_off637 v20537) a + S1x16x128.size a ≤ S16384x16x128.size a := fun i v20537 k0_hw637 k0_h1 => k0_hw637 k0_h1

def k0_off638 (v20543 : BitVec 32) : Fin 3 → Nat :=
  let c0_i32_19470 : BitVec 32 := 0#32
  let c0_i32_19471 : BitVec 32 := 0#32
  ![v20543.toNat, 0, 0]

def k0_chk638 (i : grid0.Coords) (v20543 : BitVec 32) : Prop :=
  (∀ (k0_h1 : k0_cond1 i = 1#1), ∀ a, (k0_off638 v20543) a + S1x16x128.size a ≤ S16384x16x128.size a)
theorem k0_off638_inb : ∀ (i : grid0.Coords) (v20543 : BitVec 32) (k0_hw638 : k0_chk638 i v20543), ∀ (k0_h1 : k0_cond1 i = 1#1), ∀ a, (k0_off638 v20543) a + S1x16x128.size a ≤ S16384x16x128.size a := fun i v20543 k0_hw638 k0_h1 => k0_hw638 k0_h1

def k0_off639 (v20549 : BitVec 32) : Fin 3 → Nat :=
  let c0_i32_19477 : BitVec 32 := 0#32
  let c0_i32_19478 : BitVec 32 := 0#32
  ![v20549.toNat, 0, 0]

def k0_chk639 (i : grid0.Coords) (v20549 : BitVec 32) : Prop :=
  (∀ (k0_h1 : k0_cond1 i = 1#1), ∀ a, (k0_off639 v20549) a + S1x16x128.size a ≤ S16384x16x128.size a)
theorem k0_off639_inb : ∀ (i : grid0.Coords) (v20549 : BitVec 32) (k0_hw639 : k0_chk639 i v20549), ∀ (k0_h1 : k0_cond1 i = 1#1), ∀ a, (k0_off639 v20549) a + S1x16x128.size a ≤ S16384x16x128.size a := fun i v20549 k0_hw639 k0_h1 => k0_hw639 k0_h1

def k0_off640 (v20555 : BitVec 32) : Fin 3 → Nat :=
  let c0_i32_19484 : BitVec 32 := 0#32
  let c0_i32_19485 : BitVec 32 := 0#32
  ![v20555.toNat, 0, 0]

def k0_chk640 (i : grid0.Coords) (v20555 : BitVec 32) : Prop :=
  (∀ (k0_h1 : k0_cond1 i = 1#1), ∀ a, (k0_off640 v20555) a + S1x16x128.size a ≤ S16384x16x128.size a)
theorem k0_off640_inb : ∀ (i : grid0.Coords) (v20555 : BitVec 32) (k0_hw640 : k0_chk640 i v20555), ∀ (k0_h1 : k0_cond1 i = 1#1), ∀ a, (k0_off640 v20555) a + S1x16x128.size a ≤ S16384x16x128.size a := fun i v20555 k0_hw640 k0_h1 => k0_hw640 k0_h1

def k0_off641 (v20561 : BitVec 32) : Fin 3 → Nat :=
  let c0_i32_19491 : BitVec 32 := 0#32
  let c0_i32_19492 : BitVec 32 := 0#32
  ![v20561.toNat, 0, 0]

def k0_chk641 (i : grid0.Coords) (v20561 : BitVec 32) : Prop :=
  (∀ (k0_h1 : k0_cond1 i = 1#1), ∀ a, (k0_off641 v20561) a + S1x16x128.size a ≤ S16384x16x128.size a)
theorem k0_off641_inb : ∀ (i : grid0.Coords) (v20561 : BitVec 32) (k0_hw641 : k0_chk641 i v20561), ∀ (k0_h1 : k0_cond1 i = 1#1), ∀ a, (k0_off641 v20561) a + S1x16x128.size a ≤ S16384x16x128.size a := fun i v20561 k0_hw641 k0_h1 => k0_hw641 k0_h1

def k0_off642 (v20567 : BitVec 32) : Fin 3 → Nat :=
  let c0_i32_19498 : BitVec 32 := 0#32
  let c0_i32_19499 : BitVec 32 := 0#32
  ![v20567.toNat, 0, 0]

def k0_chk642 (i : grid0.Coords) (v20567 : BitVec 32) : Prop :=
  (∀ (k0_h1 : k0_cond1 i = 1#1), ∀ a, (k0_off642 v20567) a + S1x16x128.size a ≤ S16384x16x128.size a)
theorem k0_off642_inb : ∀ (i : grid0.Coords) (v20567 : BitVec 32) (k0_hw642 : k0_chk642 i v20567), ∀ (k0_h1 : k0_cond1 i = 1#1), ∀ a, (k0_off642 v20567) a + S1x16x128.size a ≤ S16384x16x128.size a := fun i v20567 k0_hw642 k0_h1 => k0_hw642 k0_h1

def k0_off643 (v20573 : BitVec 32) : Fin 3 → Nat :=
  let c0_i32_19505 : BitVec 32 := 0#32
  let c0_i32_19506 : BitVec 32 := 0#32
  ![v20573.toNat, 0, 0]

def k0_chk643 (i : grid0.Coords) (v20573 : BitVec 32) : Prop :=
  (∀ (k0_h1 : k0_cond1 i = 1#1), ∀ a, (k0_off643 v20573) a + S1x16x128.size a ≤ S16384x16x128.size a)
theorem k0_off643_inb : ∀ (i : grid0.Coords) (v20573 : BitVec 32) (k0_hw643 : k0_chk643 i v20573), ∀ (k0_h1 : k0_cond1 i = 1#1), ∀ a, (k0_off643 v20573) a + S1x16x128.size a ≤ S16384x16x128.size a := fun i v20573 k0_hw643 k0_h1 => k0_hw643 k0_h1

def k0_off644 (v20579 : BitVec 32) : Fin 3 → Nat :=
  let c0_i32_19512 : BitVec 32 := 0#32
  let c0_i32_19513 : BitVec 32 := 0#32
  ![v20579.toNat, 0, 0]

def k0_chk644 (i : grid0.Coords) (v20579 : BitVec 32) : Prop :=
  (∀ (k0_h1 : k0_cond1 i = 1#1), ∀ a, (k0_off644 v20579) a + S1x16x128.size a ≤ S16384x16x128.size a)
theorem k0_off644_inb : ∀ (i : grid0.Coords) (v20579 : BitVec 32) (k0_hw644 : k0_chk644 i v20579), ∀ (k0_h1 : k0_cond1 i = 1#1), ∀ a, (k0_off644 v20579) a + S1x16x128.size a ≤ S16384x16x128.size a := fun i v20579 k0_hw644 k0_h1 => k0_hw644 k0_h1

def k0_off645 (v20585 : BitVec 32) : Fin 3 → Nat :=
  let c0_i32_19519 : BitVec 32 := 0#32
  let c0_i32_19520 : BitVec 32 := 0#32
  ![v20585.toNat, 0, 0]

def k0_chk645 (i : grid0.Coords) (v20585 : BitVec 32) : Prop :=
  (∀ (k0_h1 : k0_cond1 i = 1#1), ∀ a, (k0_off645 v20585) a + S1x16x128.size a ≤ S16384x16x128.size a)
theorem k0_off645_inb : ∀ (i : grid0.Coords) (v20585 : BitVec 32) (k0_hw645 : k0_chk645 i v20585), ∀ (k0_h1 : k0_cond1 i = 1#1), ∀ a, (k0_off645 v20585) a + S1x16x128.size a ≤ S16384x16x128.size a := fun i v20585 k0_hw645 k0_h1 => k0_hw645 k0_h1

def k0_off646 (v20591 : BitVec 32) : Fin 3 → Nat :=
  let c0_i32_19526 : BitVec 32 := 0#32
  let c0_i32_19527 : BitVec 32 := 0#32
  ![v20591.toNat, 0, 0]

def k0_chk646 (i : grid0.Coords) (v20591 : BitVec 32) : Prop :=
  (∀ (k0_h1 : k0_cond1 i = 1#1), ∀ a, (k0_off646 v20591) a + S1x16x128.size a ≤ S16384x16x128.size a)
theorem k0_off646_inb : ∀ (i : grid0.Coords) (v20591 : BitVec 32) (k0_hw646 : k0_chk646 i v20591), ∀ (k0_h1 : k0_cond1 i = 1#1), ∀ a, (k0_off646 v20591) a + S1x16x128.size a ≤ S16384x16x128.size a := fun i v20591 k0_hw646 k0_h1 => k0_hw646 k0_h1

def k0_off647 (v20597 : BitVec 32) : Fin 3 → Nat :=
  let c0_i32_19533 : BitVec 32 := 0#32
  let c0_i32_19534 : BitVec 32 := 0#32
  ![v20597.toNat, 0, 0]

def k0_chk647 (i : grid0.Coords) (v20597 : BitVec 32) : Prop :=
  (∀ (k0_h1 : k0_cond1 i = 1#1), ∀ a, (k0_off647 v20597) a + S1x16x128.size a ≤ S16384x16x128.size a)
theorem k0_off647_inb : ∀ (i : grid0.Coords) (v20597 : BitVec 32) (k0_hw647 : k0_chk647 i v20597), ∀ (k0_h1 : k0_cond1 i = 1#1), ∀ a, (k0_off647 v20597) a + S1x16x128.size a ≤ S16384x16x128.size a := fun i v20597 k0_hw647 k0_h1 => k0_hw647 k0_h1

def k0_off648 (v20603 : BitVec 32) : Fin 3 → Nat :=
  let c0_i32_19540 : BitVec 32 := 0#32
  let c0_i32_19541 : BitVec 32 := 0#32
  ![v20603.toNat, 0, 0]

def k0_chk648 (i : grid0.Coords) (v20603 : BitVec 32) : Prop :=
  (∀ (k0_h1 : k0_cond1 i = 1#1), ∀ a, (k0_off648 v20603) a + S1x16x128.size a ≤ S16384x16x128.size a)
theorem k0_off648_inb : ∀ (i : grid0.Coords) (v20603 : BitVec 32) (k0_hw648 : k0_chk648 i v20603), ∀ (k0_h1 : k0_cond1 i = 1#1), ∀ a, (k0_off648 v20603) a + S1x16x128.size a ≤ S16384x16x128.size a := fun i v20603 k0_hw648 k0_h1 => k0_hw648 k0_h1

def k0_off649 (v20609 : BitVec 32) : Fin 3 → Nat :=
  let c0_i32_19547 : BitVec 32 := 0#32
  let c0_i32_19548 : BitVec 32 := 0#32
  ![v20609.toNat, 0, 0]

def k0_chk649 (i : grid0.Coords) (v20609 : BitVec 32) : Prop :=
  (∀ (k0_h1 : k0_cond1 i = 1#1), ∀ a, (k0_off649 v20609) a + S1x16x128.size a ≤ S16384x16x128.size a)
theorem k0_off649_inb : ∀ (i : grid0.Coords) (v20609 : BitVec 32) (k0_hw649 : k0_chk649 i v20609), ∀ (k0_h1 : k0_cond1 i = 1#1), ∀ a, (k0_off649 v20609) a + S1x16x128.size a ≤ S16384x16x128.size a := fun i v20609 k0_hw649 k0_h1 => k0_hw649 k0_h1

def k0_off650 (v20615 : BitVec 32) : Fin 3 → Nat :=
  let c0_i32_19554 : BitVec 32 := 0#32
  let c0_i32_19555 : BitVec 32 := 0#32
  ![v20615.toNat, 0, 0]

def k0_chk650 (i : grid0.Coords) (v20615 : BitVec 32) : Prop :=
  (∀ (k0_h1 : k0_cond1 i = 1#1), ∀ a, (k0_off650 v20615) a + S1x16x128.size a ≤ S16384x16x128.size a)
theorem k0_off650_inb : ∀ (i : grid0.Coords) (v20615 : BitVec 32) (k0_hw650 : k0_chk650 i v20615), ∀ (k0_h1 : k0_cond1 i = 1#1), ∀ a, (k0_off650 v20615) a + S1x16x128.size a ≤ S16384x16x128.size a := fun i v20615 k0_hw650 k0_h1 => k0_hw650 k0_h1

def k0_off651 (v20621 : BitVec 32) : Fin 3 → Nat :=
  let c0_i32_19561 : BitVec 32 := 0#32
  let c0_i32_19562 : BitVec 32 := 0#32
  ![v20621.toNat, 0, 0]

def k0_chk651 (i : grid0.Coords) (v20621 : BitVec 32) : Prop :=
  (∀ (k0_h1 : k0_cond1 i = 1#1), ∀ a, (k0_off651 v20621) a + S1x16x128.size a ≤ S16384x16x128.size a)
theorem k0_off651_inb : ∀ (i : grid0.Coords) (v20621 : BitVec 32) (k0_hw651 : k0_chk651 i v20621), ∀ (k0_h1 : k0_cond1 i = 1#1), ∀ a, (k0_off651 v20621) a + S1x16x128.size a ≤ S16384x16x128.size a := fun i v20621 k0_hw651 k0_h1 => k0_hw651 k0_h1

def k0_off652 (v20627 : BitVec 32) : Fin 3 → Nat :=
  let c0_i32_19568 : BitVec 32 := 0#32
  let c0_i32_19569 : BitVec 32 := 0#32
  ![v20627.toNat, 0, 0]

def k0_chk652 (i : grid0.Coords) (v20627 : BitVec 32) : Prop :=
  (∀ (k0_h1 : k0_cond1 i = 1#1), ∀ a, (k0_off652 v20627) a + S1x16x128.size a ≤ S16384x16x128.size a)
theorem k0_off652_inb : ∀ (i : grid0.Coords) (v20627 : BitVec 32) (k0_hw652 : k0_chk652 i v20627), ∀ (k0_h1 : k0_cond1 i = 1#1), ∀ a, (k0_off652 v20627) a + S1x16x128.size a ≤ S16384x16x128.size a := fun i v20627 k0_hw652 k0_h1 => k0_hw652 k0_h1

def k0_off653 (v20633 : BitVec 32) : Fin 3 → Nat :=
  let c0_i32_19575 : BitVec 32 := 0#32
  let c0_i32_19576 : BitVec 32 := 0#32
  ![v20633.toNat, 0, 0]

def k0_chk653 (i : grid0.Coords) (v20633 : BitVec 32) : Prop :=
  (∀ (k0_h1 : k0_cond1 i = 1#1), ∀ a, (k0_off653 v20633) a + S1x16x128.size a ≤ S16384x16x128.size a)
theorem k0_off653_inb : ∀ (i : grid0.Coords) (v20633 : BitVec 32) (k0_hw653 : k0_chk653 i v20633), ∀ (k0_h1 : k0_cond1 i = 1#1), ∀ a, (k0_off653 v20633) a + S1x16x128.size a ≤ S16384x16x128.size a := fun i v20633 k0_hw653 k0_h1 => k0_hw653 k0_h1

def k0_off654 (v20639 : BitVec 32) : Fin 3 → Nat :=
  let c0_i32_19582 : BitVec 32 := 0#32
  let c0_i32_19583 : BitVec 32 := 0#32
  ![v20639.toNat, 0, 0]

def k0_chk654 (i : grid0.Coords) (v20639 : BitVec 32) : Prop :=
  (∀ (k0_h1 : k0_cond1 i = 1#1), ∀ a, (k0_off654 v20639) a + S1x16x128.size a ≤ S16384x16x128.size a)
theorem k0_off654_inb : ∀ (i : grid0.Coords) (v20639 : BitVec 32) (k0_hw654 : k0_chk654 i v20639), ∀ (k0_h1 : k0_cond1 i = 1#1), ∀ a, (k0_off654 v20639) a + S1x16x128.size a ≤ S16384x16x128.size a := fun i v20639 k0_hw654 k0_h1 => k0_hw654 k0_h1

def k0_off655 (v20645 : BitVec 32) : Fin 3 → Nat :=
  let c0_i32_19589 : BitVec 32 := 0#32
  let c0_i32_19590 : BitVec 32 := 0#32
  ![v20645.toNat, 0, 0]

def k0_chk655 (i : grid0.Coords) (v20645 : BitVec 32) : Prop :=
  (∀ (k0_h1 : k0_cond1 i = 1#1), ∀ a, (k0_off655 v20645) a + S1x16x128.size a ≤ S16384x16x128.size a)
theorem k0_off655_inb : ∀ (i : grid0.Coords) (v20645 : BitVec 32) (k0_hw655 : k0_chk655 i v20645), ∀ (k0_h1 : k0_cond1 i = 1#1), ∀ a, (k0_off655 v20645) a + S1x16x128.size a ≤ S16384x16x128.size a := fun i v20645 k0_hw655 k0_h1 => k0_hw655 k0_h1

def k0_off656 (v20651 : BitVec 32) : Fin 3 → Nat :=
  let c0_i32_19596 : BitVec 32 := 0#32
  let c0_i32_19597 : BitVec 32 := 0#32
  ![v20651.toNat, 0, 0]

def k0_chk656 (i : grid0.Coords) (v20651 : BitVec 32) : Prop :=
  (∀ (k0_h1 : k0_cond1 i = 1#1), ∀ a, (k0_off656 v20651) a + S1x16x128.size a ≤ S16384x16x128.size a)
theorem k0_off656_inb : ∀ (i : grid0.Coords) (v20651 : BitVec 32) (k0_hw656 : k0_chk656 i v20651), ∀ (k0_h1 : k0_cond1 i = 1#1), ∀ a, (k0_off656 v20651) a + S1x16x128.size a ≤ S16384x16x128.size a := fun i v20651 k0_hw656 k0_h1 => k0_hw656 k0_h1

def k0_off657 (v20657 : BitVec 32) : Fin 3 → Nat :=
  let c0_i32_19603 : BitVec 32 := 0#32
  let c0_i32_19604 : BitVec 32 := 0#32
  ![v20657.toNat, 0, 0]

def k0_chk657 (i : grid0.Coords) (v20657 : BitVec 32) : Prop :=
  (∀ (k0_h1 : k0_cond1 i = 1#1), ∀ a, (k0_off657 v20657) a + S1x16x128.size a ≤ S16384x16x128.size a)
theorem k0_off657_inb : ∀ (i : grid0.Coords) (v20657 : BitVec 32) (k0_hw657 : k0_chk657 i v20657), ∀ (k0_h1 : k0_cond1 i = 1#1), ∀ a, (k0_off657 v20657) a + S1x16x128.size a ≤ S16384x16x128.size a := fun i v20657 k0_hw657 k0_h1 => k0_hw657 k0_h1

def k0_off658 (v20663 : BitVec 32) : Fin 3 → Nat :=
  let c0_i32_19610 : BitVec 32 := 0#32
  let c0_i32_19611 : BitVec 32 := 0#32
  ![v20663.toNat, 0, 0]

def k0_chk658 (i : grid0.Coords) (v20663 : BitVec 32) : Prop :=
  (∀ (k0_h1 : k0_cond1 i = 1#1), ∀ a, (k0_off658 v20663) a + S1x16x128.size a ≤ S16384x16x128.size a)
theorem k0_off658_inb : ∀ (i : grid0.Coords) (v20663 : BitVec 32) (k0_hw658 : k0_chk658 i v20663), ∀ (k0_h1 : k0_cond1 i = 1#1), ∀ a, (k0_off658 v20663) a + S1x16x128.size a ≤ S16384x16x128.size a := fun i v20663 k0_hw658 k0_h1 => k0_hw658 k0_h1

def k0_off659 (v20669 : BitVec 32) : Fin 3 → Nat :=
  let c0_i32_19617 : BitVec 32 := 0#32
  let c0_i32_19618 : BitVec 32 := 0#32
  ![v20669.toNat, 0, 0]

def k0_chk659 (i : grid0.Coords) (v20669 : BitVec 32) : Prop :=
  (∀ (k0_h1 : k0_cond1 i = 1#1), ∀ a, (k0_off659 v20669) a + S1x16x128.size a ≤ S16384x16x128.size a)
theorem k0_off659_inb : ∀ (i : grid0.Coords) (v20669 : BitVec 32) (k0_hw659 : k0_chk659 i v20669), ∀ (k0_h1 : k0_cond1 i = 1#1), ∀ a, (k0_off659 v20669) a + S1x16x128.size a ≤ S16384x16x128.size a := fun i v20669 k0_hw659 k0_h1 => k0_hw659 k0_h1

def k0_off660 (v20675 : BitVec 32) : Fin 3 → Nat :=
  let c0_i32_19624 : BitVec 32 := 0#32
  let c0_i32_19625 : BitVec 32 := 0#32
  ![v20675.toNat, 0, 0]

def k0_chk660 (i : grid0.Coords) (v20675 : BitVec 32) : Prop :=
  (∀ (k0_h1 : k0_cond1 i = 1#1), ∀ a, (k0_off660 v20675) a + S1x16x128.size a ≤ S16384x16x128.size a)
theorem k0_off660_inb : ∀ (i : grid0.Coords) (v20675 : BitVec 32) (k0_hw660 : k0_chk660 i v20675), ∀ (k0_h1 : k0_cond1 i = 1#1), ∀ a, (k0_off660 v20675) a + S1x16x128.size a ≤ S16384x16x128.size a := fun i v20675 k0_hw660 k0_h1 => k0_hw660 k0_h1

def k0_off661 (v20681 : BitVec 32) : Fin 3 → Nat :=
  let c0_i32_19631 : BitVec 32 := 0#32
  let c0_i32_19632 : BitVec 32 := 0#32
  ![v20681.toNat, 0, 0]

def k0_chk661 (i : grid0.Coords) (v20681 : BitVec 32) : Prop :=
  (∀ (k0_h1 : k0_cond1 i = 1#1), ∀ a, (k0_off661 v20681) a + S1x16x128.size a ≤ S16384x16x128.size a)
theorem k0_off661_inb : ∀ (i : grid0.Coords) (v20681 : BitVec 32) (k0_hw661 : k0_chk661 i v20681), ∀ (k0_h1 : k0_cond1 i = 1#1), ∀ a, (k0_off661 v20681) a + S1x16x128.size a ≤ S16384x16x128.size a := fun i v20681 k0_hw661 k0_h1 => k0_hw661 k0_h1

def k0_off662 (v20687 : BitVec 32) : Fin 3 → Nat :=
  let c0_i32_19638 : BitVec 32 := 0#32
  let c0_i32_19639 : BitVec 32 := 0#32
  ![v20687.toNat, 0, 0]

def k0_chk662 (i : grid0.Coords) (v20687 : BitVec 32) : Prop :=
  (∀ (k0_h1 : k0_cond1 i = 1#1), ∀ a, (k0_off662 v20687) a + S1x16x128.size a ≤ S16384x16x128.size a)
theorem k0_off662_inb : ∀ (i : grid0.Coords) (v20687 : BitVec 32) (k0_hw662 : k0_chk662 i v20687), ∀ (k0_h1 : k0_cond1 i = 1#1), ∀ a, (k0_off662 v20687) a + S1x16x128.size a ≤ S16384x16x128.size a := fun i v20687 k0_hw662 k0_h1 => k0_hw662 k0_h1

def k0_off663 (v20693 : BitVec 32) : Fin 3 → Nat :=
  let c0_i32_19645 : BitVec 32 := 0#32
  let c0_i32_19646 : BitVec 32 := 0#32
  ![v20693.toNat, 0, 0]

def k0_chk663 (i : grid0.Coords) (v20693 : BitVec 32) : Prop :=
  (∀ (k0_h1 : k0_cond1 i = 1#1), ∀ a, (k0_off663 v20693) a + S1x16x128.size a ≤ S16384x16x128.size a)
theorem k0_off663_inb : ∀ (i : grid0.Coords) (v20693 : BitVec 32) (k0_hw663 : k0_chk663 i v20693), ∀ (k0_h1 : k0_cond1 i = 1#1), ∀ a, (k0_off663 v20693) a + S1x16x128.size a ≤ S16384x16x128.size a := fun i v20693 k0_hw663 k0_h1 => k0_hw663 k0_h1

def k0_off664 (v20699 : BitVec 32) : Fin 3 → Nat :=
  let c0_i32_19652 : BitVec 32 := 0#32
  let c0_i32_19653 : BitVec 32 := 0#32
  ![v20699.toNat, 0, 0]

def k0_chk664 (i : grid0.Coords) (v20699 : BitVec 32) : Prop :=
  (∀ (k0_h1 : k0_cond1 i = 1#1), ∀ a, (k0_off664 v20699) a + S1x16x128.size a ≤ S16384x16x128.size a)
theorem k0_off664_inb : ∀ (i : grid0.Coords) (v20699 : BitVec 32) (k0_hw664 : k0_chk664 i v20699), ∀ (k0_h1 : k0_cond1 i = 1#1), ∀ a, (k0_off664 v20699) a + S1x16x128.size a ≤ S16384x16x128.size a := fun i v20699 k0_hw664 k0_h1 => k0_hw664 k0_h1

def k0_off665 (v20705 : BitVec 32) : Fin 3 → Nat :=
  let c0_i32_19659 : BitVec 32 := 0#32
  let c0_i32_19660 : BitVec 32 := 0#32
  ![v20705.toNat, 0, 0]

def k0_chk665 (i : grid0.Coords) (v20705 : BitVec 32) : Prop :=
  (∀ (k0_h1 : k0_cond1 i = 1#1), ∀ a, (k0_off665 v20705) a + S1x16x128.size a ≤ S16384x16x128.size a)
theorem k0_off665_inb : ∀ (i : grid0.Coords) (v20705 : BitVec 32) (k0_hw665 : k0_chk665 i v20705), ∀ (k0_h1 : k0_cond1 i = 1#1), ∀ a, (k0_off665 v20705) a + S1x16x128.size a ≤ S16384x16x128.size a := fun i v20705 k0_hw665 k0_h1 => k0_hw665 k0_h1

def k0_off666 (v20711 : BitVec 32) : Fin 3 → Nat :=
  let c0_i32_19666 : BitVec 32 := 0#32
  let c0_i32_19667 : BitVec 32 := 0#32
  ![v20711.toNat, 0, 0]

def k0_chk666 (i : grid0.Coords) (v20711 : BitVec 32) : Prop :=
  (∀ (k0_h1 : k0_cond1 i = 1#1), ∀ a, (k0_off666 v20711) a + S1x16x128.size a ≤ S16384x16x128.size a)
theorem k0_off666_inb : ∀ (i : grid0.Coords) (v20711 : BitVec 32) (k0_hw666 : k0_chk666 i v20711), ∀ (k0_h1 : k0_cond1 i = 1#1), ∀ a, (k0_off666 v20711) a + S1x16x128.size a ≤ S16384x16x128.size a := fun i v20711 k0_hw666 k0_h1 => k0_hw666 k0_h1

def k0_off667 (v20717 : BitVec 32) : Fin 3 → Nat :=
  let c0_i32_19673 : BitVec 32 := 0#32
  let c0_i32_19674 : BitVec 32 := 0#32
  ![v20717.toNat, 0, 0]

def k0_chk667 (i : grid0.Coords) (v20717 : BitVec 32) : Prop :=
  (∀ (k0_h1 : k0_cond1 i = 1#1), ∀ a, (k0_off667 v20717) a + S1x16x128.size a ≤ S16384x16x128.size a)
theorem k0_off667_inb : ∀ (i : grid0.Coords) (v20717 : BitVec 32) (k0_hw667 : k0_chk667 i v20717), ∀ (k0_h1 : k0_cond1 i = 1#1), ∀ a, (k0_off667 v20717) a + S1x16x128.size a ≤ S16384x16x128.size a := fun i v20717 k0_hw667 k0_h1 => k0_hw667 k0_h1

def k0_off668 (v20723 : BitVec 32) : Fin 3 → Nat :=
  let c0_i32_19680 : BitVec 32 := 0#32
  let c0_i32_19681 : BitVec 32 := 0#32
  ![v20723.toNat, 0, 0]

def k0_chk668 (i : grid0.Coords) (v20723 : BitVec 32) : Prop :=
  (∀ (k0_h1 : k0_cond1 i = 1#1), ∀ a, (k0_off668 v20723) a + S1x16x128.size a ≤ S16384x16x128.size a)
theorem k0_off668_inb : ∀ (i : grid0.Coords) (v20723 : BitVec 32) (k0_hw668 : k0_chk668 i v20723), ∀ (k0_h1 : k0_cond1 i = 1#1), ∀ a, (k0_off668 v20723) a + S1x16x128.size a ≤ S16384x16x128.size a := fun i v20723 k0_hw668 k0_h1 => k0_hw668 k0_h1

def k0_off669 (v20729 : BitVec 32) : Fin 3 → Nat :=
  let c0_i32_19687 : BitVec 32 := 0#32
  let c0_i32_19688 : BitVec 32 := 0#32
  ![v20729.toNat, 0, 0]

def k0_chk669 (i : grid0.Coords) (v20729 : BitVec 32) : Prop :=
  (∀ (k0_h1 : k0_cond1 i = 1#1), ∀ a, (k0_off669 v20729) a + S1x16x128.size a ≤ S16384x16x128.size a)
theorem k0_off669_inb : ∀ (i : grid0.Coords) (v20729 : BitVec 32) (k0_hw669 : k0_chk669 i v20729), ∀ (k0_h1 : k0_cond1 i = 1#1), ∀ a, (k0_off669 v20729) a + S1x16x128.size a ≤ S16384x16x128.size a := fun i v20729 k0_hw669 k0_h1 => k0_hw669 k0_h1

def k0_off670 (v20735 : BitVec 32) : Fin 3 → Nat :=
  let c0_i32_19694 : BitVec 32 := 0#32
  let c0_i32_19695 : BitVec 32 := 0#32
  ![v20735.toNat, 0, 0]

def k0_chk670 (i : grid0.Coords) (v20735 : BitVec 32) : Prop :=
  (∀ (k0_h1 : k0_cond1 i = 1#1), ∀ a, (k0_off670 v20735) a + S1x16x128.size a ≤ S16384x16x128.size a)
theorem k0_off670_inb : ∀ (i : grid0.Coords) (v20735 : BitVec 32) (k0_hw670 : k0_chk670 i v20735), ∀ (k0_h1 : k0_cond1 i = 1#1), ∀ a, (k0_off670 v20735) a + S1x16x128.size a ≤ S16384x16x128.size a := fun i v20735 k0_hw670 k0_h1 => k0_hw670 k0_h1

def k0_off671 (v20741 : BitVec 32) : Fin 3 → Nat :=
  let c0_i32_19701 : BitVec 32 := 0#32
  let c0_i32_19702 : BitVec 32 := 0#32
  ![v20741.toNat, 0, 0]

def k0_chk671 (i : grid0.Coords) (v20741 : BitVec 32) : Prop :=
  (∀ (k0_h1 : k0_cond1 i = 1#1), ∀ a, (k0_off671 v20741) a + S1x16x128.size a ≤ S16384x16x128.size a)
theorem k0_off671_inb : ∀ (i : grid0.Coords) (v20741 : BitVec 32) (k0_hw671 : k0_chk671 i v20741), ∀ (k0_h1 : k0_cond1 i = 1#1), ∀ a, (k0_off671 v20741) a + S1x16x128.size a ≤ S16384x16x128.size a := fun i v20741 k0_hw671 k0_h1 => k0_hw671 k0_h1

def k0_off672 (v20747 : BitVec 32) : Fin 3 → Nat :=
  let c0_i32_19708 : BitVec 32 := 0#32
  let c0_i32_19709 : BitVec 32 := 0#32
  ![v20747.toNat, 0, 0]

def k0_chk672 (i : grid0.Coords) (v20747 : BitVec 32) : Prop :=
  (∀ (k0_h1 : k0_cond1 i = 1#1), ∀ a, (k0_off672 v20747) a + S1x16x128.size a ≤ S16384x16x128.size a)
theorem k0_off672_inb : ∀ (i : grid0.Coords) (v20747 : BitVec 32) (k0_hw672 : k0_chk672 i v20747), ∀ (k0_h1 : k0_cond1 i = 1#1), ∀ a, (k0_off672 v20747) a + S1x16x128.size a ≤ S16384x16x128.size a := fun i v20747 k0_hw672 k0_h1 => k0_hw672 k0_h1

def k0_off673 (v20753 : BitVec 32) : Fin 3 → Nat :=
  let c0_i32_19715 : BitVec 32 := 0#32
  let c0_i32_19716 : BitVec 32 := 0#32
  ![v20753.toNat, 0, 0]

def k0_chk673 (i : grid0.Coords) (v20753 : BitVec 32) : Prop :=
  (∀ (k0_h1 : k0_cond1 i = 1#1), ∀ a, (k0_off673 v20753) a + S1x16x128.size a ≤ S16384x16x128.size a)
theorem k0_off673_inb : ∀ (i : grid0.Coords) (v20753 : BitVec 32) (k0_hw673 : k0_chk673 i v20753), ∀ (k0_h1 : k0_cond1 i = 1#1), ∀ a, (k0_off673 v20753) a + S1x16x128.size a ≤ S16384x16x128.size a := fun i v20753 k0_hw673 k0_h1 => k0_hw673 k0_h1

def k0_off674 (v20759 : BitVec 32) : Fin 3 → Nat :=
  let c0_i32_19722 : BitVec 32 := 0#32
  let c0_i32_19723 : BitVec 32 := 0#32
  ![v20759.toNat, 0, 0]

def k0_chk674 (i : grid0.Coords) (v20759 : BitVec 32) : Prop :=
  (∀ (k0_h1 : k0_cond1 i = 1#1), ∀ a, (k0_off674 v20759) a + S1x16x128.size a ≤ S16384x16x128.size a)
theorem k0_off674_inb : ∀ (i : grid0.Coords) (v20759 : BitVec 32) (k0_hw674 : k0_chk674 i v20759), ∀ (k0_h1 : k0_cond1 i = 1#1), ∀ a, (k0_off674 v20759) a + S1x16x128.size a ≤ S16384x16x128.size a := fun i v20759 k0_hw674 k0_h1 => k0_hw674 k0_h1

def k0_off675 (v20765 : BitVec 32) : Fin 3 → Nat :=
  let c0_i32_19729 : BitVec 32 := 0#32
  let c0_i32_19730 : BitVec 32 := 0#32
  ![v20765.toNat, 0, 0]

def k0_chk675 (i : grid0.Coords) (v20765 : BitVec 32) : Prop :=
  (∀ (k0_h1 : k0_cond1 i = 1#1), ∀ a, (k0_off675 v20765) a + S1x16x128.size a ≤ S16384x16x128.size a)
theorem k0_off675_inb : ∀ (i : grid0.Coords) (v20765 : BitVec 32) (k0_hw675 : k0_chk675 i v20765), ∀ (k0_h1 : k0_cond1 i = 1#1), ∀ a, (k0_off675 v20765) a + S1x16x128.size a ≤ S16384x16x128.size a := fun i v20765 k0_hw675 k0_h1 => k0_hw675 k0_h1

def k0_off676 (v20771 : BitVec 32) : Fin 3 → Nat :=
  let c0_i32_19736 : BitVec 32 := 0#32
  let c0_i32_19737 : BitVec 32 := 0#32
  ![v20771.toNat, 0, 0]

def k0_chk676 (i : grid0.Coords) (v20771 : BitVec 32) : Prop :=
  (∀ (k0_h1 : k0_cond1 i = 1#1), ∀ a, (k0_off676 v20771) a + S1x16x128.size a ≤ S16384x16x128.size a)
theorem k0_off676_inb : ∀ (i : grid0.Coords) (v20771 : BitVec 32) (k0_hw676 : k0_chk676 i v20771), ∀ (k0_h1 : k0_cond1 i = 1#1), ∀ a, (k0_off676 v20771) a + S1x16x128.size a ≤ S16384x16x128.size a := fun i v20771 k0_hw676 k0_h1 => k0_hw676 k0_h1

def k0_off677 (v20777 : BitVec 32) : Fin 3 → Nat :=
  let c0_i32_19743 : BitVec 32 := 0#32
  let c0_i32_19744 : BitVec 32 := 0#32
  ![v20777.toNat, 0, 0]

def k0_chk677 (i : grid0.Coords) (v20777 : BitVec 32) : Prop :=
  (∀ (k0_h1 : k0_cond1 i = 1#1), ∀ a, (k0_off677 v20777) a + S1x16x128.size a ≤ S16384x16x128.size a)
theorem k0_off677_inb : ∀ (i : grid0.Coords) (v20777 : BitVec 32) (k0_hw677 : k0_chk677 i v20777), ∀ (k0_h1 : k0_cond1 i = 1#1), ∀ a, (k0_off677 v20777) a + S1x16x128.size a ≤ S16384x16x128.size a := fun i v20777 k0_hw677 k0_h1 => k0_hw677 k0_h1

def k0_off678 (v20783 : BitVec 32) : Fin 3 → Nat :=
  let c0_i32_19750 : BitVec 32 := 0#32
  let c0_i32_19751 : BitVec 32 := 0#32
  ![v20783.toNat, 0, 0]

def k0_chk678 (i : grid0.Coords) (v20783 : BitVec 32) : Prop :=
  (∀ (k0_h1 : k0_cond1 i = 1#1), ∀ a, (k0_off678 v20783) a + S1x16x128.size a ≤ S16384x16x128.size a)
theorem k0_off678_inb : ∀ (i : grid0.Coords) (v20783 : BitVec 32) (k0_hw678 : k0_chk678 i v20783), ∀ (k0_h1 : k0_cond1 i = 1#1), ∀ a, (k0_off678 v20783) a + S1x16x128.size a ≤ S16384x16x128.size a := fun i v20783 k0_hw678 k0_h1 => k0_hw678 k0_h1

def k0_off679 (v20789 : BitVec 32) : Fin 3 → Nat :=
  let c0_i32_19757 : BitVec 32 := 0#32
  let c0_i32_19758 : BitVec 32 := 0#32
  ![v20789.toNat, 0, 0]

def k0_chk679 (i : grid0.Coords) (v20789 : BitVec 32) : Prop :=
  (∀ (k0_h1 : k0_cond1 i = 1#1), ∀ a, (k0_off679 v20789) a + S1x16x128.size a ≤ S16384x16x128.size a)
theorem k0_off679_inb : ∀ (i : grid0.Coords) (v20789 : BitVec 32) (k0_hw679 : k0_chk679 i v20789), ∀ (k0_h1 : k0_cond1 i = 1#1), ∀ a, (k0_off679 v20789) a + S1x16x128.size a ≤ S16384x16x128.size a := fun i v20789 k0_hw679 k0_h1 => k0_hw679 k0_h1

def k0_off680 (v20795 : BitVec 32) : Fin 3 → Nat :=
  let c0_i32_19764 : BitVec 32 := 0#32
  let c0_i32_19765 : BitVec 32 := 0#32
  ![v20795.toNat, 0, 0]

def k0_chk680 (i : grid0.Coords) (v20795 : BitVec 32) : Prop :=
  (∀ (k0_h1 : k0_cond1 i = 1#1), ∀ a, (k0_off680 v20795) a + S1x16x128.size a ≤ S16384x16x128.size a)
theorem k0_off680_inb : ∀ (i : grid0.Coords) (v20795 : BitVec 32) (k0_hw680 : k0_chk680 i v20795), ∀ (k0_h1 : k0_cond1 i = 1#1), ∀ a, (k0_off680 v20795) a + S1x16x128.size a ≤ S16384x16x128.size a := fun i v20795 k0_hw680 k0_h1 => k0_hw680 k0_h1

def k0_off681 (v20801 : BitVec 32) : Fin 3 → Nat :=
  let c0_i32_19771 : BitVec 32 := 0#32
  let c0_i32_19772 : BitVec 32 := 0#32
  ![v20801.toNat, 0, 0]

def k0_chk681 (i : grid0.Coords) (v20801 : BitVec 32) : Prop :=
  (∀ (k0_h1 : k0_cond1 i = 1#1), ∀ a, (k0_off681 v20801) a + S1x16x128.size a ≤ S16384x16x128.size a)
theorem k0_off681_inb : ∀ (i : grid0.Coords) (v20801 : BitVec 32) (k0_hw681 : k0_chk681 i v20801), ∀ (k0_h1 : k0_cond1 i = 1#1), ∀ a, (k0_off681 v20801) a + S1x16x128.size a ≤ S16384x16x128.size a := fun i v20801 k0_hw681 k0_h1 => k0_hw681 k0_h1

def k0_off682 (v20807 : BitVec 32) : Fin 3 → Nat :=
  let c0_i32_19778 : BitVec 32 := 0#32
  let c0_i32_19779 : BitVec 32 := 0#32
  ![v20807.toNat, 0, 0]

def k0_chk682 (i : grid0.Coords) (v20807 : BitVec 32) : Prop :=
  (∀ (k0_h1 : k0_cond1 i = 1#1), ∀ a, (k0_off682 v20807) a + S1x16x128.size a ≤ S16384x16x128.size a)
theorem k0_off682_inb : ∀ (i : grid0.Coords) (v20807 : BitVec 32) (k0_hw682 : k0_chk682 i v20807), ∀ (k0_h1 : k0_cond1 i = 1#1), ∀ a, (k0_off682 v20807) a + S1x16x128.size a ≤ S16384x16x128.size a := fun i v20807 k0_hw682 k0_h1 => k0_hw682 k0_h1

def k0_off683 (v20813 : BitVec 32) : Fin 3 → Nat :=
  let c0_i32_19785 : BitVec 32 := 0#32
  let c0_i32_19786 : BitVec 32 := 0#32
  ![v20813.toNat, 0, 0]

def k0_chk683 (i : grid0.Coords) (v20813 : BitVec 32) : Prop :=
  (∀ (k0_h1 : k0_cond1 i = 1#1), ∀ a, (k0_off683 v20813) a + S1x16x128.size a ≤ S16384x16x128.size a)
theorem k0_off683_inb : ∀ (i : grid0.Coords) (v20813 : BitVec 32) (k0_hw683 : k0_chk683 i v20813), ∀ (k0_h1 : k0_cond1 i = 1#1), ∀ a, (k0_off683 v20813) a + S1x16x128.size a ≤ S16384x16x128.size a := fun i v20813 k0_hw683 k0_h1 => k0_hw683 k0_h1

def k0_off684 (v20819 : BitVec 32) : Fin 3 → Nat :=
  let c0_i32_19792 : BitVec 32 := 0#32
  let c0_i32_19793 : BitVec 32 := 0#32
  ![v20819.toNat, 0, 0]

def k0_chk684 (i : grid0.Coords) (v20819 : BitVec 32) : Prop :=
  (∀ (k0_h1 : k0_cond1 i = 1#1), ∀ a, (k0_off684 v20819) a + S1x16x128.size a ≤ S16384x16x128.size a)
theorem k0_off684_inb : ∀ (i : grid0.Coords) (v20819 : BitVec 32) (k0_hw684 : k0_chk684 i v20819), ∀ (k0_h1 : k0_cond1 i = 1#1), ∀ a, (k0_off684 v20819) a + S1x16x128.size a ≤ S16384x16x128.size a := fun i v20819 k0_hw684 k0_h1 => k0_hw684 k0_h1

def k0_off685 (v20825 : BitVec 32) : Fin 3 → Nat :=
  let c0_i32_19799 : BitVec 32 := 0#32
  let c0_i32_19800 : BitVec 32 := 0#32
  ![v20825.toNat, 0, 0]

def k0_chk685 (i : grid0.Coords) (v20825 : BitVec 32) : Prop :=
  (∀ (k0_h1 : k0_cond1 i = 1#1), ∀ a, (k0_off685 v20825) a + S1x16x128.size a ≤ S16384x16x128.size a)
theorem k0_off685_inb : ∀ (i : grid0.Coords) (v20825 : BitVec 32) (k0_hw685 : k0_chk685 i v20825), ∀ (k0_h1 : k0_cond1 i = 1#1), ∀ a, (k0_off685 v20825) a + S1x16x128.size a ≤ S16384x16x128.size a := fun i v20825 k0_hw685 k0_h1 => k0_hw685 k0_h1

def k0_off686 (v20831 : BitVec 32) : Fin 3 → Nat :=
  let c0_i32_19806 : BitVec 32 := 0#32
  let c0_i32_19807 : BitVec 32 := 0#32
  ![v20831.toNat, 0, 0]

def k0_chk686 (i : grid0.Coords) (v20831 : BitVec 32) : Prop :=
  (∀ (k0_h1 : k0_cond1 i = 1#1), ∀ a, (k0_off686 v20831) a + S1x16x128.size a ≤ S16384x16x128.size a)
theorem k0_off686_inb : ∀ (i : grid0.Coords) (v20831 : BitVec 32) (k0_hw686 : k0_chk686 i v20831), ∀ (k0_h1 : k0_cond1 i = 1#1), ∀ a, (k0_off686 v20831) a + S1x16x128.size a ≤ S16384x16x128.size a := fun i v20831 k0_hw686 k0_h1 => k0_hw686 k0_h1

def k0_off687 (v20837 : BitVec 32) : Fin 3 → Nat :=
  let c0_i32_19813 : BitVec 32 := 0#32
  let c0_i32_19814 : BitVec 32 := 0#32
  ![v20837.toNat, 0, 0]

def k0_chk687 (i : grid0.Coords) (v20837 : BitVec 32) : Prop :=
  (∀ (k0_h1 : k0_cond1 i = 1#1), ∀ a, (k0_off687 v20837) a + S1x16x128.size a ≤ S16384x16x128.size a)
theorem k0_off687_inb : ∀ (i : grid0.Coords) (v20837 : BitVec 32) (k0_hw687 : k0_chk687 i v20837), ∀ (k0_h1 : k0_cond1 i = 1#1), ∀ a, (k0_off687 v20837) a + S1x16x128.size a ≤ S16384x16x128.size a := fun i v20837 k0_hw687 k0_h1 => k0_hw687 k0_h1

def k0_off688 (v20843 : BitVec 32) : Fin 3 → Nat :=
  let c0_i32_19820 : BitVec 32 := 0#32
  let c0_i32_19821 : BitVec 32 := 0#32
  ![v20843.toNat, 0, 0]

def k0_chk688 (i : grid0.Coords) (v20843 : BitVec 32) : Prop :=
  (∀ (k0_h1 : k0_cond1 i = 1#1), ∀ a, (k0_off688 v20843) a + S1x16x128.size a ≤ S16384x16x128.size a)
theorem k0_off688_inb : ∀ (i : grid0.Coords) (v20843 : BitVec 32) (k0_hw688 : k0_chk688 i v20843), ∀ (k0_h1 : k0_cond1 i = 1#1), ∀ a, (k0_off688 v20843) a + S1x16x128.size a ≤ S16384x16x128.size a := fun i v20843 k0_hw688 k0_h1 => k0_hw688 k0_h1

def k0_off689 (v20849 : BitVec 32) : Fin 3 → Nat :=
  let c0_i32_19827 : BitVec 32 := 0#32
  let c0_i32_19828 : BitVec 32 := 0#32
  ![v20849.toNat, 0, 0]

def k0_chk689 (i : grid0.Coords) (v20849 : BitVec 32) : Prop :=
  (∀ (k0_h1 : k0_cond1 i = 1#1), ∀ a, (k0_off689 v20849) a + S1x16x128.size a ≤ S16384x16x128.size a)
theorem k0_off689_inb : ∀ (i : grid0.Coords) (v20849 : BitVec 32) (k0_hw689 : k0_chk689 i v20849), ∀ (k0_h1 : k0_cond1 i = 1#1), ∀ a, (k0_off689 v20849) a + S1x16x128.size a ≤ S16384x16x128.size a := fun i v20849 k0_hw689 k0_h1 => k0_hw689 k0_h1

def k0_off690 (v20855 : BitVec 32) : Fin 3 → Nat :=
  let c0_i32_19834 : BitVec 32 := 0#32
  let c0_i32_19835 : BitVec 32 := 0#32
  ![v20855.toNat, 0, 0]

def k0_chk690 (i : grid0.Coords) (v20855 : BitVec 32) : Prop :=
  (∀ (k0_h1 : k0_cond1 i = 1#1), ∀ a, (k0_off690 v20855) a + S1x16x128.size a ≤ S16384x16x128.size a)
theorem k0_off690_inb : ∀ (i : grid0.Coords) (v20855 : BitVec 32) (k0_hw690 : k0_chk690 i v20855), ∀ (k0_h1 : k0_cond1 i = 1#1), ∀ a, (k0_off690 v20855) a + S1x16x128.size a ≤ S16384x16x128.size a := fun i v20855 k0_hw690 k0_h1 => k0_hw690 k0_h1

def k0_off691 (v20861 : BitVec 32) : Fin 3 → Nat :=
  let c0_i32_19841 : BitVec 32 := 0#32
  let c0_i32_19842 : BitVec 32 := 0#32
  ![v20861.toNat, 0, 0]

def k0_chk691 (i : grid0.Coords) (v20861 : BitVec 32) : Prop :=
  (∀ (k0_h1 : k0_cond1 i = 1#1), ∀ a, (k0_off691 v20861) a + S1x16x128.size a ≤ S16384x16x128.size a)
theorem k0_off691_inb : ∀ (i : grid0.Coords) (v20861 : BitVec 32) (k0_hw691 : k0_chk691 i v20861), ∀ (k0_h1 : k0_cond1 i = 1#1), ∀ a, (k0_off691 v20861) a + S1x16x128.size a ≤ S16384x16x128.size a := fun i v20861 k0_hw691 k0_h1 => k0_hw691 k0_h1

def k0_off692 (v20867 : BitVec 32) : Fin 3 → Nat :=
  let c0_i32_19848 : BitVec 32 := 0#32
  let c0_i32_19849 : BitVec 32 := 0#32
  ![v20867.toNat, 0, 0]

def k0_chk692 (i : grid0.Coords) (v20867 : BitVec 32) : Prop :=
  (∀ (k0_h1 : k0_cond1 i = 1#1), ∀ a, (k0_off692 v20867) a + S1x16x128.size a ≤ S16384x16x128.size a)
theorem k0_off692_inb : ∀ (i : grid0.Coords) (v20867 : BitVec 32) (k0_hw692 : k0_chk692 i v20867), ∀ (k0_h1 : k0_cond1 i = 1#1), ∀ a, (k0_off692 v20867) a + S1x16x128.size a ≤ S16384x16x128.size a := fun i v20867 k0_hw692 k0_h1 => k0_hw692 k0_h1

def k0_off693 (v20873 : BitVec 32) : Fin 3 → Nat :=
  let c0_i32_19855 : BitVec 32 := 0#32
  let c0_i32_19856 : BitVec 32 := 0#32
  ![v20873.toNat, 0, 0]

def k0_chk693 (i : grid0.Coords) (v20873 : BitVec 32) : Prop :=
  (∀ (k0_h1 : k0_cond1 i = 1#1), ∀ a, (k0_off693 v20873) a + S1x16x128.size a ≤ S16384x16x128.size a)
theorem k0_off693_inb : ∀ (i : grid0.Coords) (v20873 : BitVec 32) (k0_hw693 : k0_chk693 i v20873), ∀ (k0_h1 : k0_cond1 i = 1#1), ∀ a, (k0_off693 v20873) a + S1x16x128.size a ≤ S16384x16x128.size a := fun i v20873 k0_hw693 k0_h1 => k0_hw693 k0_h1

def k0_off694 (v20879 : BitVec 32) : Fin 3 → Nat :=
  let c0_i32_19862 : BitVec 32 := 0#32
  let c0_i32_19863 : BitVec 32 := 0#32
  ![v20879.toNat, 0, 0]

def k0_chk694 (i : grid0.Coords) (v20879 : BitVec 32) : Prop :=
  (∀ (k0_h1 : k0_cond1 i = 1#1), ∀ a, (k0_off694 v20879) a + S1x16x128.size a ≤ S16384x16x128.size a)
theorem k0_off694_inb : ∀ (i : grid0.Coords) (v20879 : BitVec 32) (k0_hw694 : k0_chk694 i v20879), ∀ (k0_h1 : k0_cond1 i = 1#1), ∀ a, (k0_off694 v20879) a + S1x16x128.size a ≤ S16384x16x128.size a := fun i v20879 k0_hw694 k0_h1 => k0_hw694 k0_h1

def k0_off695 (v20885 : BitVec 32) : Fin 3 → Nat :=
  let c0_i32_19869 : BitVec 32 := 0#32
  let c0_i32_19870 : BitVec 32 := 0#32
  ![v20885.toNat, 0, 0]

def k0_chk695 (i : grid0.Coords) (v20885 : BitVec 32) : Prop :=
  (∀ (k0_h1 : k0_cond1 i = 1#1), ∀ a, (k0_off695 v20885) a + S1x16x128.size a ≤ S16384x16x128.size a)
theorem k0_off695_inb : ∀ (i : grid0.Coords) (v20885 : BitVec 32) (k0_hw695 : k0_chk695 i v20885), ∀ (k0_h1 : k0_cond1 i = 1#1), ∀ a, (k0_off695 v20885) a + S1x16x128.size a ≤ S16384x16x128.size a := fun i v20885 k0_hw695 k0_h1 => k0_hw695 k0_h1

def k0_off696 (v20891 : BitVec 32) : Fin 3 → Nat :=
  let c0_i32_19876 : BitVec 32 := 0#32
  let c0_i32_19877 : BitVec 32 := 0#32
  ![v20891.toNat, 0, 0]

def k0_chk696 (i : grid0.Coords) (v20891 : BitVec 32) : Prop :=
  (∀ (k0_h1 : k0_cond1 i = 1#1), ∀ a, (k0_off696 v20891) a + S1x16x128.size a ≤ S16384x16x128.size a)
theorem k0_off696_inb : ∀ (i : grid0.Coords) (v20891 : BitVec 32) (k0_hw696 : k0_chk696 i v20891), ∀ (k0_h1 : k0_cond1 i = 1#1), ∀ a, (k0_off696 v20891) a + S1x16x128.size a ≤ S16384x16x128.size a := fun i v20891 k0_hw696 k0_h1 => k0_hw696 k0_h1

def k0_off697 (v20897 : BitVec 32) : Fin 3 → Nat :=
  let c0_i32_19883 : BitVec 32 := 0#32
  let c0_i32_19884 : BitVec 32 := 0#32
  ![v20897.toNat, 0, 0]

def k0_chk697 (i : grid0.Coords) (v20897 : BitVec 32) : Prop :=
  (∀ (k0_h1 : k0_cond1 i = 1#1), ∀ a, (k0_off697 v20897) a + S1x16x128.size a ≤ S16384x16x128.size a)
theorem k0_off697_inb : ∀ (i : grid0.Coords) (v20897 : BitVec 32) (k0_hw697 : k0_chk697 i v20897), ∀ (k0_h1 : k0_cond1 i = 1#1), ∀ a, (k0_off697 v20897) a + S1x16x128.size a ≤ S16384x16x128.size a := fun i v20897 k0_hw697 k0_h1 => k0_hw697 k0_h1

def k0_off698 (v20903 : BitVec 32) : Fin 3 → Nat :=
  let c0_i32_19890 : BitVec 32 := 0#32
  let c0_i32_19891 : BitVec 32 := 0#32
  ![v20903.toNat, 0, 0]

def k0_chk698 (i : grid0.Coords) (v20903 : BitVec 32) : Prop :=
  (∀ (k0_h1 : k0_cond1 i = 1#1), ∀ a, (k0_off698 v20903) a + S1x16x128.size a ≤ S16384x16x128.size a)
theorem k0_off698_inb : ∀ (i : grid0.Coords) (v20903 : BitVec 32) (k0_hw698 : k0_chk698 i v20903), ∀ (k0_h1 : k0_cond1 i = 1#1), ∀ a, (k0_off698 v20903) a + S1x16x128.size a ≤ S16384x16x128.size a := fun i v20903 k0_hw698 k0_h1 => k0_hw698 k0_h1

def k0_off699 (v20909 : BitVec 32) : Fin 3 → Nat :=
  let c0_i32_19897 : BitVec 32 := 0#32
  let c0_i32_19898 : BitVec 32 := 0#32
  ![v20909.toNat, 0, 0]

def k0_chk699 (i : grid0.Coords) (v20909 : BitVec 32) : Prop :=
  (∀ (k0_h1 : k0_cond1 i = 1#1), ∀ a, (k0_off699 v20909) a + S1x16x128.size a ≤ S16384x16x128.size a)
theorem k0_off699_inb : ∀ (i : grid0.Coords) (v20909 : BitVec 32) (k0_hw699 : k0_chk699 i v20909), ∀ (k0_h1 : k0_cond1 i = 1#1), ∀ a, (k0_off699 v20909) a + S1x16x128.size a ≤ S16384x16x128.size a := fun i v20909 k0_hw699 k0_h1 => k0_hw699 k0_h1

def k0_off700 (v20915 : BitVec 32) : Fin 3 → Nat :=
  let c0_i32_19904 : BitVec 32 := 0#32
  let c0_i32_19905 : BitVec 32 := 0#32
  ![v20915.toNat, 0, 0]

def k0_chk700 (i : grid0.Coords) (v20915 : BitVec 32) : Prop :=
  (∀ (k0_h1 : k0_cond1 i = 1#1), ∀ a, (k0_off700 v20915) a + S1x16x128.size a ≤ S16384x16x128.size a)
theorem k0_off700_inb : ∀ (i : grid0.Coords) (v20915 : BitVec 32) (k0_hw700 : k0_chk700 i v20915), ∀ (k0_h1 : k0_cond1 i = 1#1), ∀ a, (k0_off700 v20915) a + S1x16x128.size a ≤ S16384x16x128.size a := fun i v20915 k0_hw700 k0_h1 => k0_hw700 k0_h1

def k0_off701 (v20921 : BitVec 32) : Fin 3 → Nat :=
  let c0_i32_19911 : BitVec 32 := 0#32
  let c0_i32_19912 : BitVec 32 := 0#32
  ![v20921.toNat, 0, 0]

def k0_chk701 (i : grid0.Coords) (v20921 : BitVec 32) : Prop :=
  (∀ (k0_h1 : k0_cond1 i = 1#1), ∀ a, (k0_off701 v20921) a + S1x16x128.size a ≤ S16384x16x128.size a)
theorem k0_off701_inb : ∀ (i : grid0.Coords) (v20921 : BitVec 32) (k0_hw701 : k0_chk701 i v20921), ∀ (k0_h1 : k0_cond1 i = 1#1), ∀ a, (k0_off701 v20921) a + S1x16x128.size a ≤ S16384x16x128.size a := fun i v20921 k0_hw701 k0_h1 => k0_hw701 k0_h1

def k0_off702 (v20927 : BitVec 32) : Fin 3 → Nat :=
  let c0_i32_19918 : BitVec 32 := 0#32
  let c0_i32_19919 : BitVec 32 := 0#32
  ![v20927.toNat, 0, 0]

def k0_chk702 (i : grid0.Coords) (v20927 : BitVec 32) : Prop :=
  (∀ (k0_h1 : k0_cond1 i = 1#1), ∀ a, (k0_off702 v20927) a + S1x16x128.size a ≤ S16384x16x128.size a)
theorem k0_off702_inb : ∀ (i : grid0.Coords) (v20927 : BitVec 32) (k0_hw702 : k0_chk702 i v20927), ∀ (k0_h1 : k0_cond1 i = 1#1), ∀ a, (k0_off702 v20927) a + S1x16x128.size a ≤ S16384x16x128.size a := fun i v20927 k0_hw702 k0_h1 => k0_hw702 k0_h1

def k0_off703 (v20933 : BitVec 32) : Fin 3 → Nat :=
  let c0_i32_19925 : BitVec 32 := 0#32
  let c0_i32_19926 : BitVec 32 := 0#32
  ![v20933.toNat, 0, 0]

def k0_chk703 (i : grid0.Coords) (v20933 : BitVec 32) : Prop :=
  (∀ (k0_h1 : k0_cond1 i = 1#1), ∀ a, (k0_off703 v20933) a + S1x16x128.size a ≤ S16384x16x128.size a)
theorem k0_off703_inb : ∀ (i : grid0.Coords) (v20933 : BitVec 32) (k0_hw703 : k0_chk703 i v20933), ∀ (k0_h1 : k0_cond1 i = 1#1), ∀ a, (k0_off703 v20933) a + S1x16x128.size a ≤ S16384x16x128.size a := fun i v20933 k0_hw703 k0_h1 => k0_hw703 k0_h1

def k0_off704 (v20939 : BitVec 32) : Fin 3 → Nat :=
  let c0_i32_19932 : BitVec 32 := 0#32
  let c0_i32_19933 : BitVec 32 := 0#32
  ![v20939.toNat, 0, 0]

def k0_chk704 (i : grid0.Coords) (v20939 : BitVec 32) : Prop :=
  (∀ (k0_h1 : k0_cond1 i = 1#1), ∀ a, (k0_off704 v20939) a + S1x16x128.size a ≤ S16384x16x128.size a)
theorem k0_off704_inb : ∀ (i : grid0.Coords) (v20939 : BitVec 32) (k0_hw704 : k0_chk704 i v20939), ∀ (k0_h1 : k0_cond1 i = 1#1), ∀ a, (k0_off704 v20939) a + S1x16x128.size a ≤ S16384x16x128.size a := fun i v20939 k0_hw704 k0_h1 => k0_hw704 k0_h1

def k0_off705 (v20945 : BitVec 32) : Fin 3 → Nat :=
  let c0_i32_19939 : BitVec 32 := 0#32
  let c0_i32_19940 : BitVec 32 := 0#32
  ![v20945.toNat, 0, 0]

def k0_chk705 (i : grid0.Coords) (v20945 : BitVec 32) : Prop :=
  (∀ (k0_h1 : k0_cond1 i = 1#1), ∀ a, (k0_off705 v20945) a + S1x16x128.size a ≤ S16384x16x128.size a)
theorem k0_off705_inb : ∀ (i : grid0.Coords) (v20945 : BitVec 32) (k0_hw705 : k0_chk705 i v20945), ∀ (k0_h1 : k0_cond1 i = 1#1), ∀ a, (k0_off705 v20945) a + S1x16x128.size a ≤ S16384x16x128.size a := fun i v20945 k0_hw705 k0_h1 => k0_hw705 k0_h1

def k0_off706 (v20951 : BitVec 32) : Fin 3 → Nat :=
  let c0_i32_19946 : BitVec 32 := 0#32
  let c0_i32_19947 : BitVec 32 := 0#32
  ![v20951.toNat, 0, 0]

def k0_chk706 (i : grid0.Coords) (v20951 : BitVec 32) : Prop :=
  (∀ (k0_h1 : k0_cond1 i = 1#1), ∀ a, (k0_off706 v20951) a + S1x16x128.size a ≤ S16384x16x128.size a)
theorem k0_off706_inb : ∀ (i : grid0.Coords) (v20951 : BitVec 32) (k0_hw706 : k0_chk706 i v20951), ∀ (k0_h1 : k0_cond1 i = 1#1), ∀ a, (k0_off706 v20951) a + S1x16x128.size a ≤ S16384x16x128.size a := fun i v20951 k0_hw706 k0_h1 => k0_hw706 k0_h1

def k0_off707 (v20957 : BitVec 32) : Fin 3 → Nat :=
  let c0_i32_19953 : BitVec 32 := 0#32
  let c0_i32_19954 : BitVec 32 := 0#32
  ![v20957.toNat, 0, 0]

def k0_chk707 (i : grid0.Coords) (v20957 : BitVec 32) : Prop :=
  (∀ (k0_h1 : k0_cond1 i = 1#1), ∀ a, (k0_off707 v20957) a + S1x16x128.size a ≤ S16384x16x128.size a)
theorem k0_off707_inb : ∀ (i : grid0.Coords) (v20957 : BitVec 32) (k0_hw707 : k0_chk707 i v20957), ∀ (k0_h1 : k0_cond1 i = 1#1), ∀ a, (k0_off707 v20957) a + S1x16x128.size a ≤ S16384x16x128.size a := fun i v20957 k0_hw707 k0_h1 => k0_hw707 k0_h1

def k0_off708 (v20963 : BitVec 32) : Fin 3 → Nat :=
  let c0_i32_19960 : BitVec 32 := 0#32
  let c0_i32_19961 : BitVec 32 := 0#32
  ![v20963.toNat, 0, 0]

def k0_chk708 (i : grid0.Coords) (v20963 : BitVec 32) : Prop :=
  (∀ (k0_h1 : k0_cond1 i = 1#1), ∀ a, (k0_off708 v20963) a + S1x16x128.size a ≤ S16384x16x128.size a)
theorem k0_off708_inb : ∀ (i : grid0.Coords) (v20963 : BitVec 32) (k0_hw708 : k0_chk708 i v20963), ∀ (k0_h1 : k0_cond1 i = 1#1), ∀ a, (k0_off708 v20963) a + S1x16x128.size a ≤ S16384x16x128.size a := fun i v20963 k0_hw708 k0_h1 => k0_hw708 k0_h1

def k0_off709 (v20969 : BitVec 32) : Fin 3 → Nat :=
  let c0_i32_19967 : BitVec 32 := 0#32
  let c0_i32_19968 : BitVec 32 := 0#32
  ![v20969.toNat, 0, 0]

def k0_chk709 (i : grid0.Coords) (v20969 : BitVec 32) : Prop :=
  (∀ (k0_h1 : k0_cond1 i = 1#1), ∀ a, (k0_off709 v20969) a + S1x16x128.size a ≤ S16384x16x128.size a)
theorem k0_off709_inb : ∀ (i : grid0.Coords) (v20969 : BitVec 32) (k0_hw709 : k0_chk709 i v20969), ∀ (k0_h1 : k0_cond1 i = 1#1), ∀ a, (k0_off709 v20969) a + S1x16x128.size a ≤ S16384x16x128.size a := fun i v20969 k0_hw709 k0_h1 => k0_hw709 k0_h1

def k0_off710 (v20975 : BitVec 32) : Fin 3 → Nat :=
  let c0_i32_19974 : BitVec 32 := 0#32
  let c0_i32_19975 : BitVec 32 := 0#32
  ![v20975.toNat, 0, 0]

def k0_chk710 (i : grid0.Coords) (v20975 : BitVec 32) : Prop :=
  (∀ (k0_h1 : k0_cond1 i = 1#1), ∀ a, (k0_off710 v20975) a + S1x16x128.size a ≤ S16384x16x128.size a)
theorem k0_off710_inb : ∀ (i : grid0.Coords) (v20975 : BitVec 32) (k0_hw710 : k0_chk710 i v20975), ∀ (k0_h1 : k0_cond1 i = 1#1), ∀ a, (k0_off710 v20975) a + S1x16x128.size a ≤ S16384x16x128.size a := fun i v20975 k0_hw710 k0_h1 => k0_hw710 k0_h1

def k0_off711 (v20981 : BitVec 32) : Fin 3 → Nat :=
  let c0_i32_19981 : BitVec 32 := 0#32
  let c0_i32_19982 : BitVec 32 := 0#32
  ![v20981.toNat, 0, 0]

def k0_chk711 (i : grid0.Coords) (v20981 : BitVec 32) : Prop :=
  (∀ (k0_h1 : k0_cond1 i = 1#1), ∀ a, (k0_off711 v20981) a + S1x16x128.size a ≤ S16384x16x128.size a)
theorem k0_off711_inb : ∀ (i : grid0.Coords) (v20981 : BitVec 32) (k0_hw711 : k0_chk711 i v20981), ∀ (k0_h1 : k0_cond1 i = 1#1), ∀ a, (k0_off711 v20981) a + S1x16x128.size a ≤ S16384x16x128.size a := fun i v20981 k0_hw711 k0_h1 => k0_hw711 k0_h1

def k0_off712 (v20987 : BitVec 32) : Fin 3 → Nat :=
  let c0_i32_19988 : BitVec 32 := 0#32
  let c0_i32_19989 : BitVec 32 := 0#32
  ![v20987.toNat, 0, 0]

def k0_chk712 (i : grid0.Coords) (v20987 : BitVec 32) : Prop :=
  (∀ (k0_h1 : k0_cond1 i = 1#1), ∀ a, (k0_off712 v20987) a + S1x16x128.size a ≤ S16384x16x128.size a)
theorem k0_off712_inb : ∀ (i : grid0.Coords) (v20987 : BitVec 32) (k0_hw712 : k0_chk712 i v20987), ∀ (k0_h1 : k0_cond1 i = 1#1), ∀ a, (k0_off712 v20987) a + S1x16x128.size a ≤ S16384x16x128.size a := fun i v20987 k0_hw712 k0_h1 => k0_hw712 k0_h1

def k0_off713 (v20993 : BitVec 32) : Fin 3 → Nat :=
  let c0_i32_19995 : BitVec 32 := 0#32
  let c0_i32_19996 : BitVec 32 := 0#32
  ![v20993.toNat, 0, 0]

def k0_chk713 (i : grid0.Coords) (v20993 : BitVec 32) : Prop :=
  (∀ (k0_h1 : k0_cond1 i = 1#1), ∀ a, (k0_off713 v20993) a + S1x16x128.size a ≤ S16384x16x128.size a)
theorem k0_off713_inb : ∀ (i : grid0.Coords) (v20993 : BitVec 32) (k0_hw713 : k0_chk713 i v20993), ∀ (k0_h1 : k0_cond1 i = 1#1), ∀ a, (k0_off713 v20993) a + S1x16x128.size a ≤ S16384x16x128.size a := fun i v20993 k0_hw713 k0_h1 => k0_hw713 k0_h1

def k0_off714 (v20999 : BitVec 32) : Fin 3 → Nat :=
  let c0_i32_20002 : BitVec 32 := 0#32
  let c0_i32_20003 : BitVec 32 := 0#32
  ![v20999.toNat, 0, 0]

def k0_chk714 (i : grid0.Coords) (v20999 : BitVec 32) : Prop :=
  (∀ (k0_h1 : k0_cond1 i = 1#1), ∀ a, (k0_off714 v20999) a + S1x16x128.size a ≤ S16384x16x128.size a)
theorem k0_off714_inb : ∀ (i : grid0.Coords) (v20999 : BitVec 32) (k0_hw714 : k0_chk714 i v20999), ∀ (k0_h1 : k0_cond1 i = 1#1), ∀ a, (k0_off714 v20999) a + S1x16x128.size a ≤ S16384x16x128.size a := fun i v20999 k0_hw714 k0_h1 => k0_hw714 k0_h1

def k0_off715 (v21005 : BitVec 32) : Fin 3 → Nat :=
  let c0_i32_20009 : BitVec 32 := 0#32
  let c0_i32_20010 : BitVec 32 := 0#32
  ![v21005.toNat, 0, 0]

def k0_chk715 (i : grid0.Coords) (v21005 : BitVec 32) : Prop :=
  (∀ (k0_h1 : k0_cond1 i = 1#1), ∀ a, (k0_off715 v21005) a + S1x16x128.size a ≤ S16384x16x128.size a)
theorem k0_off715_inb : ∀ (i : grid0.Coords) (v21005 : BitVec 32) (k0_hw715 : k0_chk715 i v21005), ∀ (k0_h1 : k0_cond1 i = 1#1), ∀ a, (k0_off715 v21005) a + S1x16x128.size a ≤ S16384x16x128.size a := fun i v21005 k0_hw715 k0_h1 => k0_hw715 k0_h1

def k0_off716 (v21011 : BitVec 32) : Fin 3 → Nat :=
  let c0_i32_20016 : BitVec 32 := 0#32
  let c0_i32_20017 : BitVec 32 := 0#32
  ![v21011.toNat, 0, 0]

def k0_chk716 (i : grid0.Coords) (v21011 : BitVec 32) : Prop :=
  (∀ (k0_h1 : k0_cond1 i = 1#1), ∀ a, (k0_off716 v21011) a + S1x16x128.size a ≤ S16384x16x128.size a)
theorem k0_off716_inb : ∀ (i : grid0.Coords) (v21011 : BitVec 32) (k0_hw716 : k0_chk716 i v21011), ∀ (k0_h1 : k0_cond1 i = 1#1), ∀ a, (k0_off716 v21011) a + S1x16x128.size a ≤ S16384x16x128.size a := fun i v21011 k0_hw716 k0_h1 => k0_hw716 k0_h1

def k0_off717 (v21017 : BitVec 32) : Fin 3 → Nat :=
  let c0_i32_20023 : BitVec 32 := 0#32
  let c0_i32_20024 : BitVec 32 := 0#32
  ![v21017.toNat, 0, 0]

def k0_chk717 (i : grid0.Coords) (v21017 : BitVec 32) : Prop :=
  (∀ (k0_h1 : k0_cond1 i = 1#1), ∀ a, (k0_off717 v21017) a + S1x16x128.size a ≤ S16384x16x128.size a)
theorem k0_off717_inb : ∀ (i : grid0.Coords) (v21017 : BitVec 32) (k0_hw717 : k0_chk717 i v21017), ∀ (k0_h1 : k0_cond1 i = 1#1), ∀ a, (k0_off717 v21017) a + S1x16x128.size a ≤ S16384x16x128.size a := fun i v21017 k0_hw717 k0_h1 => k0_hw717 k0_h1

def k0_off718 (v21023 : BitVec 32) : Fin 3 → Nat :=
  let c0_i32_20030 : BitVec 32 := 0#32
  let c0_i32_20031 : BitVec 32 := 0#32
  ![v21023.toNat, 0, 0]

def k0_chk718 (i : grid0.Coords) (v21023 : BitVec 32) : Prop :=
  (∀ (k0_h1 : k0_cond1 i = 1#1), ∀ a, (k0_off718 v21023) a + S1x16x128.size a ≤ S16384x16x128.size a)
theorem k0_off718_inb : ∀ (i : grid0.Coords) (v21023 : BitVec 32) (k0_hw718 : k0_chk718 i v21023), ∀ (k0_h1 : k0_cond1 i = 1#1), ∀ a, (k0_off718 v21023) a + S1x16x128.size a ≤ S16384x16x128.size a := fun i v21023 k0_hw718 k0_h1 => k0_hw718 k0_h1

def k0_off719 (v21029 : BitVec 32) : Fin 3 → Nat :=
  let c0_i32_20037 : BitVec 32 := 0#32
  let c0_i32_20038 : BitVec 32 := 0#32
  ![v21029.toNat, 0, 0]

def k0_chk719 (i : grid0.Coords) (v21029 : BitVec 32) : Prop :=
  (∀ (k0_h1 : k0_cond1 i = 1#1), ∀ a, (k0_off719 v21029) a + S1x16x128.size a ≤ S16384x16x128.size a)
theorem k0_off719_inb : ∀ (i : grid0.Coords) (v21029 : BitVec 32) (k0_hw719 : k0_chk719 i v21029), ∀ (k0_h1 : k0_cond1 i = 1#1), ∀ a, (k0_off719 v21029) a + S1x16x128.size a ≤ S16384x16x128.size a := fun i v21029 k0_hw719 k0_h1 => k0_hw719 k0_h1

def k0_off720 (v21035 : BitVec 32) : Fin 3 → Nat :=
  let c0_i32_20044 : BitVec 32 := 0#32
  let c0_i32_20045 : BitVec 32 := 0#32
  ![v21035.toNat, 0, 0]

def k0_chk720 (i : grid0.Coords) (v21035 : BitVec 32) : Prop :=
  (∀ (k0_h1 : k0_cond1 i = 1#1), ∀ a, (k0_off720 v21035) a + S1x16x128.size a ≤ S16384x16x128.size a)
theorem k0_off720_inb : ∀ (i : grid0.Coords) (v21035 : BitVec 32) (k0_hw720 : k0_chk720 i v21035), ∀ (k0_h1 : k0_cond1 i = 1#1), ∀ a, (k0_off720 v21035) a + S1x16x128.size a ≤ S16384x16x128.size a := fun i v21035 k0_hw720 k0_h1 => k0_hw720 k0_h1

def k0_off721 (v21041 : BitVec 32) : Fin 3 → Nat :=
  let c0_i32_20051 : BitVec 32 := 0#32
  let c0_i32_20052 : BitVec 32 := 0#32
  ![v21041.toNat, 0, 0]

def k0_chk721 (i : grid0.Coords) (v21041 : BitVec 32) : Prop :=
  (∀ (k0_h1 : k0_cond1 i = 1#1), ∀ a, (k0_off721 v21041) a + S1x16x128.size a ≤ S16384x16x128.size a)
theorem k0_off721_inb : ∀ (i : grid0.Coords) (v21041 : BitVec 32) (k0_hw721 : k0_chk721 i v21041), ∀ (k0_h1 : k0_cond1 i = 1#1), ∀ a, (k0_off721 v21041) a + S1x16x128.size a ≤ S16384x16x128.size a := fun i v21041 k0_hw721 k0_h1 => k0_hw721 k0_h1

def k0_off722 (v21047 : BitVec 32) : Fin 3 → Nat :=
  let c0_i32_20058 : BitVec 32 := 0#32
  let c0_i32_20059 : BitVec 32 := 0#32
  ![v21047.toNat, 0, 0]

def k0_chk722 (i : grid0.Coords) (v21047 : BitVec 32) : Prop :=
  (∀ (k0_h1 : k0_cond1 i = 1#1), ∀ a, (k0_off722 v21047) a + S1x16x128.size a ≤ S16384x16x128.size a)
theorem k0_off722_inb : ∀ (i : grid0.Coords) (v21047 : BitVec 32) (k0_hw722 : k0_chk722 i v21047), ∀ (k0_h1 : k0_cond1 i = 1#1), ∀ a, (k0_off722 v21047) a + S1x16x128.size a ≤ S16384x16x128.size a := fun i v21047 k0_hw722 k0_h1 => k0_hw722 k0_h1

def k0_off723 (v21053 : BitVec 32) : Fin 3 → Nat :=
  let c0_i32_20065 : BitVec 32 := 0#32
  let c0_i32_20066 : BitVec 32 := 0#32
  ![v21053.toNat, 0, 0]

def k0_chk723 (i : grid0.Coords) (v21053 : BitVec 32) : Prop :=
  (∀ (k0_h1 : k0_cond1 i = 1#1), ∀ a, (k0_off723 v21053) a + S1x16x128.size a ≤ S16384x16x128.size a)
theorem k0_off723_inb : ∀ (i : grid0.Coords) (v21053 : BitVec 32) (k0_hw723 : k0_chk723 i v21053), ∀ (k0_h1 : k0_cond1 i = 1#1), ∀ a, (k0_off723 v21053) a + S1x16x128.size a ≤ S16384x16x128.size a := fun i v21053 k0_hw723 k0_h1 => k0_hw723 k0_h1

def k0_off724 (v21059 : BitVec 32) : Fin 3 → Nat :=
  let c0_i32_20072 : BitVec 32 := 0#32
  let c0_i32_20073 : BitVec 32 := 0#32
  ![v21059.toNat, 0, 0]

def k0_chk724 (i : grid0.Coords) (v21059 : BitVec 32) : Prop :=
  (∀ (k0_h1 : k0_cond1 i = 1#1), ∀ a, (k0_off724 v21059) a + S1x16x128.size a ≤ S16384x16x128.size a)
theorem k0_off724_inb : ∀ (i : grid0.Coords) (v21059 : BitVec 32) (k0_hw724 : k0_chk724 i v21059), ∀ (k0_h1 : k0_cond1 i = 1#1), ∀ a, (k0_off724 v21059) a + S1x16x128.size a ≤ S16384x16x128.size a := fun i v21059 k0_hw724 k0_h1 => k0_hw724 k0_h1

def k0_off725 (v21065 : BitVec 32) : Fin 3 → Nat :=
  let c0_i32_20079 : BitVec 32 := 0#32
  let c0_i32_20080 : BitVec 32 := 0#32
  ![v21065.toNat, 0, 0]

def k0_chk725 (i : grid0.Coords) (v21065 : BitVec 32) : Prop :=
  (∀ (k0_h1 : k0_cond1 i = 1#1), ∀ a, (k0_off725 v21065) a + S1x16x128.size a ≤ S16384x16x128.size a)
theorem k0_off725_inb : ∀ (i : grid0.Coords) (v21065 : BitVec 32) (k0_hw725 : k0_chk725 i v21065), ∀ (k0_h1 : k0_cond1 i = 1#1), ∀ a, (k0_off725 v21065) a + S1x16x128.size a ≤ S16384x16x128.size a := fun i v21065 k0_hw725 k0_h1 => k0_hw725 k0_h1

def k0_off726 (v21071 : BitVec 32) : Fin 3 → Nat :=
  let c0_i32_20086 : BitVec 32 := 0#32
  let c0_i32_20087 : BitVec 32 := 0#32
  ![v21071.toNat, 0, 0]

def k0_chk726 (i : grid0.Coords) (v21071 : BitVec 32) : Prop :=
  (∀ (k0_h1 : k0_cond1 i = 1#1), ∀ a, (k0_off726 v21071) a + S1x16x128.size a ≤ S16384x16x128.size a)
theorem k0_off726_inb : ∀ (i : grid0.Coords) (v21071 : BitVec 32) (k0_hw726 : k0_chk726 i v21071), ∀ (k0_h1 : k0_cond1 i = 1#1), ∀ a, (k0_off726 v21071) a + S1x16x128.size a ≤ S16384x16x128.size a := fun i v21071 k0_hw726 k0_h1 => k0_hw726 k0_h1

def k0_off727 (v21077 : BitVec 32) : Fin 3 → Nat :=
  let c0_i32_20093 : BitVec 32 := 0#32
  let c0_i32_20094 : BitVec 32 := 0#32
  ![v21077.toNat, 0, 0]

def k0_chk727 (i : grid0.Coords) (v21077 : BitVec 32) : Prop :=
  (∀ (k0_h1 : k0_cond1 i = 1#1), ∀ a, (k0_off727 v21077) a + S1x16x128.size a ≤ S16384x16x128.size a)
theorem k0_off727_inb : ∀ (i : grid0.Coords) (v21077 : BitVec 32) (k0_hw727 : k0_chk727 i v21077), ∀ (k0_h1 : k0_cond1 i = 1#1), ∀ a, (k0_off727 v21077) a + S1x16x128.size a ≤ S16384x16x128.size a := fun i v21077 k0_hw727 k0_h1 => k0_hw727 k0_h1

def k0_off728 (v21083 : BitVec 32) : Fin 3 → Nat :=
  let c0_i32_20100 : BitVec 32 := 0#32
  let c0_i32_20101 : BitVec 32 := 0#32
  ![v21083.toNat, 0, 0]

def k0_chk728 (i : grid0.Coords) (v21083 : BitVec 32) : Prop :=
  (∀ (k0_h1 : k0_cond1 i = 1#1), ∀ a, (k0_off728 v21083) a + S1x16x128.size a ≤ S16384x16x128.size a)
theorem k0_off728_inb : ∀ (i : grid0.Coords) (v21083 : BitVec 32) (k0_hw728 : k0_chk728 i v21083), ∀ (k0_h1 : k0_cond1 i = 1#1), ∀ a, (k0_off728 v21083) a + S1x16x128.size a ≤ S16384x16x128.size a := fun i v21083 k0_hw728 k0_h1 => k0_hw728 k0_h1

def k0_off729 (v21089 : BitVec 32) : Fin 3 → Nat :=
  let c0_i32_20107 : BitVec 32 := 0#32
  let c0_i32_20108 : BitVec 32 := 0#32
  ![v21089.toNat, 0, 0]

def k0_chk729 (i : grid0.Coords) (v21089 : BitVec 32) : Prop :=
  (∀ (k0_h1 : k0_cond1 i = 1#1), ∀ a, (k0_off729 v21089) a + S1x16x128.size a ≤ S16384x16x128.size a)
theorem k0_off729_inb : ∀ (i : grid0.Coords) (v21089 : BitVec 32) (k0_hw729 : k0_chk729 i v21089), ∀ (k0_h1 : k0_cond1 i = 1#1), ∀ a, (k0_off729 v21089) a + S1x16x128.size a ≤ S16384x16x128.size a := fun i v21089 k0_hw729 k0_h1 => k0_hw729 k0_h1

def k0_off730 (v21095 : BitVec 32) : Fin 3 → Nat :=
  let c0_i32_20114 : BitVec 32 := 0#32
  let c0_i32_20115 : BitVec 32 := 0#32
  ![v21095.toNat, 0, 0]

def k0_chk730 (i : grid0.Coords) (v21095 : BitVec 32) : Prop :=
  (∀ (k0_h1 : k0_cond1 i = 1#1), ∀ a, (k0_off730 v21095) a + S1x16x128.size a ≤ S16384x16x128.size a)
theorem k0_off730_inb : ∀ (i : grid0.Coords) (v21095 : BitVec 32) (k0_hw730 : k0_chk730 i v21095), ∀ (k0_h1 : k0_cond1 i = 1#1), ∀ a, (k0_off730 v21095) a + S1x16x128.size a ≤ S16384x16x128.size a := fun i v21095 k0_hw730 k0_h1 => k0_hw730 k0_h1

def k0_off731 (v21101 : BitVec 32) : Fin 3 → Nat :=
  let c0_i32_20121 : BitVec 32 := 0#32
  let c0_i32_20122 : BitVec 32 := 0#32
  ![v21101.toNat, 0, 0]

def k0_chk731 (i : grid0.Coords) (v21101 : BitVec 32) : Prop :=
  (∀ (k0_h1 : k0_cond1 i = 1#1), ∀ a, (k0_off731 v21101) a + S1x16x128.size a ≤ S16384x16x128.size a)
theorem k0_off731_inb : ∀ (i : grid0.Coords) (v21101 : BitVec 32) (k0_hw731 : k0_chk731 i v21101), ∀ (k0_h1 : k0_cond1 i = 1#1), ∀ a, (k0_off731 v21101) a + S1x16x128.size a ≤ S16384x16x128.size a := fun i v21101 k0_hw731 k0_h1 => k0_hw731 k0_h1

def k0_off732 (v21107 : BitVec 32) : Fin 3 → Nat :=
  let c0_i32_20128 : BitVec 32 := 0#32
  let c0_i32_20129 : BitVec 32 := 0#32
  ![v21107.toNat, 0, 0]

def k0_chk732 (i : grid0.Coords) (v21107 : BitVec 32) : Prop :=
  (∀ (k0_h1 : k0_cond1 i = 1#1), ∀ a, (k0_off732 v21107) a + S1x16x128.size a ≤ S16384x16x128.size a)
theorem k0_off732_inb : ∀ (i : grid0.Coords) (v21107 : BitVec 32) (k0_hw732 : k0_chk732 i v21107), ∀ (k0_h1 : k0_cond1 i = 1#1), ∀ a, (k0_off732 v21107) a + S1x16x128.size a ≤ S16384x16x128.size a := fun i v21107 k0_hw732 k0_h1 => k0_hw732 k0_h1

def k0_off733 (v21113 : BitVec 32) : Fin 3 → Nat :=
  let c0_i32_20135 : BitVec 32 := 0#32
  let c0_i32_20136 : BitVec 32 := 0#32
  ![v21113.toNat, 0, 0]

def k0_chk733 (i : grid0.Coords) (v21113 : BitVec 32) : Prop :=
  (∀ (k0_h1 : k0_cond1 i = 1#1), ∀ a, (k0_off733 v21113) a + S1x16x128.size a ≤ S16384x16x128.size a)
theorem k0_off733_inb : ∀ (i : grid0.Coords) (v21113 : BitVec 32) (k0_hw733 : k0_chk733 i v21113), ∀ (k0_h1 : k0_cond1 i = 1#1), ∀ a, (k0_off733 v21113) a + S1x16x128.size a ≤ S16384x16x128.size a := fun i v21113 k0_hw733 k0_h1 => k0_hw733 k0_h1

def k0_off734 (v21119 : BitVec 32) : Fin 3 → Nat :=
  let c0_i32_20142 : BitVec 32 := 0#32
  let c0_i32_20143 : BitVec 32 := 0#32
  ![v21119.toNat, 0, 0]

def k0_chk734 (i : grid0.Coords) (v21119 : BitVec 32) : Prop :=
  (∀ (k0_h1 : k0_cond1 i = 1#1), ∀ a, (k0_off734 v21119) a + S1x16x128.size a ≤ S16384x16x128.size a)
theorem k0_off734_inb : ∀ (i : grid0.Coords) (v21119 : BitVec 32) (k0_hw734 : k0_chk734 i v21119), ∀ (k0_h1 : k0_cond1 i = 1#1), ∀ a, (k0_off734 v21119) a + S1x16x128.size a ≤ S16384x16x128.size a := fun i v21119 k0_hw734 k0_h1 => k0_hw734 k0_h1

def k0_off735 (v21125 : BitVec 32) : Fin 3 → Nat :=
  let c0_i32_20149 : BitVec 32 := 0#32
  let c0_i32_20150 : BitVec 32 := 0#32
  ![v21125.toNat, 0, 0]

def k0_chk735 (i : grid0.Coords) (v21125 : BitVec 32) : Prop :=
  (∀ (k0_h1 : k0_cond1 i = 1#1), ∀ a, (k0_off735 v21125) a + S1x16x128.size a ≤ S16384x16x128.size a)
theorem k0_off735_inb : ∀ (i : grid0.Coords) (v21125 : BitVec 32) (k0_hw735 : k0_chk735 i v21125), ∀ (k0_h1 : k0_cond1 i = 1#1), ∀ a, (k0_off735 v21125) a + S1x16x128.size a ≤ S16384x16x128.size a := fun i v21125 k0_hw735 k0_h1 => k0_hw735 k0_h1

def k0_off736 (v21131 : BitVec 32) : Fin 3 → Nat :=
  let c0_i32_20156 : BitVec 32 := 0#32
  let c0_i32_20157 : BitVec 32 := 0#32
  ![v21131.toNat, 0, 0]

def k0_chk736 (i : grid0.Coords) (v21131 : BitVec 32) : Prop :=
  (∀ (k0_h1 : k0_cond1 i = 1#1), ∀ a, (k0_off736 v21131) a + S1x16x128.size a ≤ S16384x16x128.size a)
theorem k0_off736_inb : ∀ (i : grid0.Coords) (v21131 : BitVec 32) (k0_hw736 : k0_chk736 i v21131), ∀ (k0_h1 : k0_cond1 i = 1#1), ∀ a, (k0_off736 v21131) a + S1x16x128.size a ≤ S16384x16x128.size a := fun i v21131 k0_hw736 k0_h1 => k0_hw736 k0_h1

def k0_off737 (v21137 : BitVec 32) : Fin 3 → Nat :=
  let c0_i32_20163 : BitVec 32 := 0#32
  let c0_i32_20164 : BitVec 32 := 0#32
  ![v21137.toNat, 0, 0]

def k0_chk737 (i : grid0.Coords) (v21137 : BitVec 32) : Prop :=
  (∀ (k0_h1 : k0_cond1 i = 1#1), ∀ a, (k0_off737 v21137) a + S1x16x128.size a ≤ S16384x16x128.size a)
theorem k0_off737_inb : ∀ (i : grid0.Coords) (v21137 : BitVec 32) (k0_hw737 : k0_chk737 i v21137), ∀ (k0_h1 : k0_cond1 i = 1#1), ∀ a, (k0_off737 v21137) a + S1x16x128.size a ≤ S16384x16x128.size a := fun i v21137 k0_hw737 k0_h1 => k0_hw737 k0_h1

def k0_off738 (v21143 : BitVec 32) : Fin 3 → Nat :=
  let c0_i32_20170 : BitVec 32 := 0#32
  let c0_i32_20171 : BitVec 32 := 0#32
  ![v21143.toNat, 0, 0]

def k0_chk738 (i : grid0.Coords) (v21143 : BitVec 32) : Prop :=
  (∀ (k0_h1 : k0_cond1 i = 1#1), ∀ a, (k0_off738 v21143) a + S1x16x128.size a ≤ S16384x16x128.size a)
theorem k0_off738_inb : ∀ (i : grid0.Coords) (v21143 : BitVec 32) (k0_hw738 : k0_chk738 i v21143), ∀ (k0_h1 : k0_cond1 i = 1#1), ∀ a, (k0_off738 v21143) a + S1x16x128.size a ≤ S16384x16x128.size a := fun i v21143 k0_hw738 k0_h1 => k0_hw738 k0_h1

def k0_off739 (v21149 : BitVec 32) : Fin 3 → Nat :=
  let c0_i32_20177 : BitVec 32 := 0#32
  let c0_i32_20178 : BitVec 32 := 0#32
  ![v21149.toNat, 0, 0]

def k0_chk739 (i : grid0.Coords) (v21149 : BitVec 32) : Prop :=
  (∀ (k0_h1 : k0_cond1 i = 1#1), ∀ a, (k0_off739 v21149) a + S1x16x128.size a ≤ S16384x16x128.size a)
theorem k0_off739_inb : ∀ (i : grid0.Coords) (v21149 : BitVec 32) (k0_hw739 : k0_chk739 i v21149), ∀ (k0_h1 : k0_cond1 i = 1#1), ∀ a, (k0_off739 v21149) a + S1x16x128.size a ≤ S16384x16x128.size a := fun i v21149 k0_hw739 k0_h1 => k0_hw739 k0_h1

def k0_off740 (v21155 : BitVec 32) : Fin 3 → Nat :=
  let c0_i32_20184 : BitVec 32 := 0#32
  let c0_i32_20185 : BitVec 32 := 0#32
  ![v21155.toNat, 0, 0]

def k0_chk740 (i : grid0.Coords) (v21155 : BitVec 32) : Prop :=
  (∀ (k0_h1 : k0_cond1 i = 1#1), ∀ a, (k0_off740 v21155) a + S1x16x128.size a ≤ S16384x16x128.size a)
theorem k0_off740_inb : ∀ (i : grid0.Coords) (v21155 : BitVec 32) (k0_hw740 : k0_chk740 i v21155), ∀ (k0_h1 : k0_cond1 i = 1#1), ∀ a, (k0_off740 v21155) a + S1x16x128.size a ≤ S16384x16x128.size a := fun i v21155 k0_hw740 k0_h1 => k0_hw740 k0_h1

def k0_off741 (v21161 : BitVec 32) : Fin 3 → Nat :=
  let c0_i32_20191 : BitVec 32 := 0#32
  let c0_i32_20192 : BitVec 32 := 0#32
  ![v21161.toNat, 0, 0]

def k0_chk741 (i : grid0.Coords) (v21161 : BitVec 32) : Prop :=
  (∀ (k0_h1 : k0_cond1 i = 1#1), ∀ a, (k0_off741 v21161) a + S1x16x128.size a ≤ S16384x16x128.size a)
theorem k0_off741_inb : ∀ (i : grid0.Coords) (v21161 : BitVec 32) (k0_hw741 : k0_chk741 i v21161), ∀ (k0_h1 : k0_cond1 i = 1#1), ∀ a, (k0_off741 v21161) a + S1x16x128.size a ≤ S16384x16x128.size a := fun i v21161 k0_hw741 k0_h1 => k0_hw741 k0_h1

def k0_off742 (v21167 : BitVec 32) : Fin 3 → Nat :=
  let c0_i32_20198 : BitVec 32 := 0#32
  let c0_i32_20199 : BitVec 32 := 0#32
  ![v21167.toNat, 0, 0]

def k0_chk742 (i : grid0.Coords) (v21167 : BitVec 32) : Prop :=
  (∀ (k0_h1 : k0_cond1 i = 1#1), ∀ a, (k0_off742 v21167) a + S1x16x128.size a ≤ S16384x16x128.size a)
theorem k0_off742_inb : ∀ (i : grid0.Coords) (v21167 : BitVec 32) (k0_hw742 : k0_chk742 i v21167), ∀ (k0_h1 : k0_cond1 i = 1#1), ∀ a, (k0_off742 v21167) a + S1x16x128.size a ≤ S16384x16x128.size a := fun i v21167 k0_hw742 k0_h1 => k0_hw742 k0_h1

def k0_off743 (v21173 : BitVec 32) : Fin 3 → Nat :=
  let c0_i32_20205 : BitVec 32 := 0#32
  let c0_i32_20206 : BitVec 32 := 0#32
  ![v21173.toNat, 0, 0]

def k0_chk743 (i : grid0.Coords) (v21173 : BitVec 32) : Prop :=
  (∀ (k0_h1 : k0_cond1 i = 1#1), ∀ a, (k0_off743 v21173) a + S1x16x128.size a ≤ S16384x16x128.size a)
theorem k0_off743_inb : ∀ (i : grid0.Coords) (v21173 : BitVec 32) (k0_hw743 : k0_chk743 i v21173), ∀ (k0_h1 : k0_cond1 i = 1#1), ∀ a, (k0_off743 v21173) a + S1x16x128.size a ≤ S16384x16x128.size a := fun i v21173 k0_hw743 k0_h1 => k0_hw743 k0_h1

def k0_off744 (v21179 : BitVec 32) : Fin 3 → Nat :=
  let c0_i32_20212 : BitVec 32 := 0#32
  let c0_i32_20213 : BitVec 32 := 0#32
  ![v21179.toNat, 0, 0]

def k0_chk744 (i : grid0.Coords) (v21179 : BitVec 32) : Prop :=
  (∀ (k0_h1 : k0_cond1 i = 1#1), ∀ a, (k0_off744 v21179) a + S1x16x128.size a ≤ S16384x16x128.size a)
theorem k0_off744_inb : ∀ (i : grid0.Coords) (v21179 : BitVec 32) (k0_hw744 : k0_chk744 i v21179), ∀ (k0_h1 : k0_cond1 i = 1#1), ∀ a, (k0_off744 v21179) a + S1x16x128.size a ≤ S16384x16x128.size a := fun i v21179 k0_hw744 k0_h1 => k0_hw744 k0_h1

def k0_off745 (v21185 : BitVec 32) : Fin 3 → Nat :=
  let c0_i32_20219 : BitVec 32 := 0#32
  let c0_i32_20220 : BitVec 32 := 0#32
  ![v21185.toNat, 0, 0]

def k0_chk745 (i : grid0.Coords) (v21185 : BitVec 32) : Prop :=
  (∀ (k0_h1 : k0_cond1 i = 1#1), ∀ a, (k0_off745 v21185) a + S1x16x128.size a ≤ S16384x16x128.size a)
theorem k0_off745_inb : ∀ (i : grid0.Coords) (v21185 : BitVec 32) (k0_hw745 : k0_chk745 i v21185), ∀ (k0_h1 : k0_cond1 i = 1#1), ∀ a, (k0_off745 v21185) a + S1x16x128.size a ≤ S16384x16x128.size a := fun i v21185 k0_hw745 k0_h1 => k0_hw745 k0_h1

def k0_off746 (v21191 : BitVec 32) : Fin 3 → Nat :=
  let c0_i32_20226 : BitVec 32 := 0#32
  let c0_i32_20227 : BitVec 32 := 0#32
  ![v21191.toNat, 0, 0]

def k0_chk746 (i : grid0.Coords) (v21191 : BitVec 32) : Prop :=
  (∀ (k0_h1 : k0_cond1 i = 1#1), ∀ a, (k0_off746 v21191) a + S1x16x128.size a ≤ S16384x16x128.size a)
theorem k0_off746_inb : ∀ (i : grid0.Coords) (v21191 : BitVec 32) (k0_hw746 : k0_chk746 i v21191), ∀ (k0_h1 : k0_cond1 i = 1#1), ∀ a, (k0_off746 v21191) a + S1x16x128.size a ≤ S16384x16x128.size a := fun i v21191 k0_hw746 k0_h1 => k0_hw746 k0_h1

def k0_off747 (v21197 : BitVec 32) : Fin 3 → Nat :=
  let c0_i32_20233 : BitVec 32 := 0#32
  let c0_i32_20234 : BitVec 32 := 0#32
  ![v21197.toNat, 0, 0]

def k0_chk747 (i : grid0.Coords) (v21197 : BitVec 32) : Prop :=
  (∀ (k0_h1 : k0_cond1 i = 1#1), ∀ a, (k0_off747 v21197) a + S1x16x128.size a ≤ S16384x16x128.size a)
theorem k0_off747_inb : ∀ (i : grid0.Coords) (v21197 : BitVec 32) (k0_hw747 : k0_chk747 i v21197), ∀ (k0_h1 : k0_cond1 i = 1#1), ∀ a, (k0_off747 v21197) a + S1x16x128.size a ≤ S16384x16x128.size a := fun i v21197 k0_hw747 k0_h1 => k0_hw747 k0_h1

def k0_off748 (v21203 : BitVec 32) : Fin 3 → Nat :=
  let c0_i32_20240 : BitVec 32 := 0#32
  let c0_i32_20241 : BitVec 32 := 0#32
  ![v21203.toNat, 0, 0]

def k0_chk748 (i : grid0.Coords) (v21203 : BitVec 32) : Prop :=
  (∀ (k0_h1 : k0_cond1 i = 1#1), ∀ a, (k0_off748 v21203) a + S1x16x128.size a ≤ S16384x16x128.size a)
theorem k0_off748_inb : ∀ (i : grid0.Coords) (v21203 : BitVec 32) (k0_hw748 : k0_chk748 i v21203), ∀ (k0_h1 : k0_cond1 i = 1#1), ∀ a, (k0_off748 v21203) a + S1x16x128.size a ≤ S16384x16x128.size a := fun i v21203 k0_hw748 k0_h1 => k0_hw748 k0_h1

def k0_off749 (v21209 : BitVec 32) : Fin 3 → Nat :=
  let c0_i32_20247 : BitVec 32 := 0#32
  let c0_i32_20248 : BitVec 32 := 0#32
  ![v21209.toNat, 0, 0]

def k0_chk749 (i : grid0.Coords) (v21209 : BitVec 32) : Prop :=
  (∀ (k0_h1 : k0_cond1 i = 1#1), ∀ a, (k0_off749 v21209) a + S1x16x128.size a ≤ S16384x16x128.size a)
theorem k0_off749_inb : ∀ (i : grid0.Coords) (v21209 : BitVec 32) (k0_hw749 : k0_chk749 i v21209), ∀ (k0_h1 : k0_cond1 i = 1#1), ∀ a, (k0_off749 v21209) a + S1x16x128.size a ≤ S16384x16x128.size a := fun i v21209 k0_hw749 k0_h1 => k0_hw749 k0_h1

def k0_off750 (v21215 : BitVec 32) : Fin 3 → Nat :=
  let c0_i32_20254 : BitVec 32 := 0#32
  let c0_i32_20255 : BitVec 32 := 0#32
  ![v21215.toNat, 0, 0]

def k0_chk750 (i : grid0.Coords) (v21215 : BitVec 32) : Prop :=
  (∀ (k0_h1 : k0_cond1 i = 1#1), ∀ a, (k0_off750 v21215) a + S1x16x128.size a ≤ S16384x16x128.size a)
theorem k0_off750_inb : ∀ (i : grid0.Coords) (v21215 : BitVec 32) (k0_hw750 : k0_chk750 i v21215), ∀ (k0_h1 : k0_cond1 i = 1#1), ∀ a, (k0_off750 v21215) a + S1x16x128.size a ≤ S16384x16x128.size a := fun i v21215 k0_hw750 k0_h1 => k0_hw750 k0_h1

def k0_off751 (v21221 : BitVec 32) : Fin 3 → Nat :=
  let c0_i32_20261 : BitVec 32 := 0#32
  let c0_i32_20262 : BitVec 32 := 0#32
  ![v21221.toNat, 0, 0]

def k0_chk751 (i : grid0.Coords) (v21221 : BitVec 32) : Prop :=
  (∀ (k0_h1 : k0_cond1 i = 1#1), ∀ a, (k0_off751 v21221) a + S1x16x128.size a ≤ S16384x16x128.size a)
theorem k0_off751_inb : ∀ (i : grid0.Coords) (v21221 : BitVec 32) (k0_hw751 : k0_chk751 i v21221), ∀ (k0_h1 : k0_cond1 i = 1#1), ∀ a, (k0_off751 v21221) a + S1x16x128.size a ≤ S16384x16x128.size a := fun i v21221 k0_hw751 k0_h1 => k0_hw751 k0_h1

def k0_off752 (v21227 : BitVec 32) : Fin 3 → Nat :=
  let c0_i32_20268 : BitVec 32 := 0#32
  let c0_i32_20269 : BitVec 32 := 0#32
  ![v21227.toNat, 0, 0]

def k0_chk752 (i : grid0.Coords) (v21227 : BitVec 32) : Prop :=
  (∀ (k0_h1 : k0_cond1 i = 1#1), ∀ a, (k0_off752 v21227) a + S1x16x128.size a ≤ S16384x16x128.size a)
theorem k0_off752_inb : ∀ (i : grid0.Coords) (v21227 : BitVec 32) (k0_hw752 : k0_chk752 i v21227), ∀ (k0_h1 : k0_cond1 i = 1#1), ∀ a, (k0_off752 v21227) a + S1x16x128.size a ≤ S16384x16x128.size a := fun i v21227 k0_hw752 k0_h1 => k0_hw752 k0_h1

def k0_off753 (v21233 : BitVec 32) : Fin 3 → Nat :=
  let c0_i32_20275 : BitVec 32 := 0#32
  let c0_i32_20276 : BitVec 32 := 0#32
  ![v21233.toNat, 0, 0]

def k0_chk753 (i : grid0.Coords) (v21233 : BitVec 32) : Prop :=
  (∀ (k0_h1 : k0_cond1 i = 1#1), ∀ a, (k0_off753 v21233) a + S1x16x128.size a ≤ S16384x16x128.size a)
theorem k0_off753_inb : ∀ (i : grid0.Coords) (v21233 : BitVec 32) (k0_hw753 : k0_chk753 i v21233), ∀ (k0_h1 : k0_cond1 i = 1#1), ∀ a, (k0_off753 v21233) a + S1x16x128.size a ≤ S16384x16x128.size a := fun i v21233 k0_hw753 k0_h1 => k0_hw753 k0_h1

def k0_off754 (v21239 : BitVec 32) : Fin 3 → Nat :=
  let c0_i32_20282 : BitVec 32 := 0#32
  let c0_i32_20283 : BitVec 32 := 0#32
  ![v21239.toNat, 0, 0]

def k0_chk754 (i : grid0.Coords) (v21239 : BitVec 32) : Prop :=
  (∀ (k0_h1 : k0_cond1 i = 1#1), ∀ a, (k0_off754 v21239) a + S1x16x128.size a ≤ S16384x16x128.size a)
theorem k0_off754_inb : ∀ (i : grid0.Coords) (v21239 : BitVec 32) (k0_hw754 : k0_chk754 i v21239), ∀ (k0_h1 : k0_cond1 i = 1#1), ∀ a, (k0_off754 v21239) a + S1x16x128.size a ≤ S16384x16x128.size a := fun i v21239 k0_hw754 k0_h1 => k0_hw754 k0_h1

def k0_off755 (v21245 : BitVec 32) : Fin 3 → Nat :=
  let c0_i32_20289 : BitVec 32 := 0#32
  let c0_i32_20290 : BitVec 32 := 0#32
  ![v21245.toNat, 0, 0]

def k0_chk755 (i : grid0.Coords) (v21245 : BitVec 32) : Prop :=
  (∀ (k0_h1 : k0_cond1 i = 1#1), ∀ a, (k0_off755 v21245) a + S1x16x128.size a ≤ S16384x16x128.size a)
theorem k0_off755_inb : ∀ (i : grid0.Coords) (v21245 : BitVec 32) (k0_hw755 : k0_chk755 i v21245), ∀ (k0_h1 : k0_cond1 i = 1#1), ∀ a, (k0_off755 v21245) a + S1x16x128.size a ≤ S16384x16x128.size a := fun i v21245 k0_hw755 k0_h1 => k0_hw755 k0_h1

def k0_off756 (v21251 : BitVec 32) : Fin 3 → Nat :=
  let c0_i32_20296 : BitVec 32 := 0#32
  let c0_i32_20297 : BitVec 32 := 0#32
  ![v21251.toNat, 0, 0]

def k0_chk756 (i : grid0.Coords) (v21251 : BitVec 32) : Prop :=
  (∀ (k0_h1 : k0_cond1 i = 1#1), ∀ a, (k0_off756 v21251) a + S1x16x128.size a ≤ S16384x16x128.size a)
theorem k0_off756_inb : ∀ (i : grid0.Coords) (v21251 : BitVec 32) (k0_hw756 : k0_chk756 i v21251), ∀ (k0_h1 : k0_cond1 i = 1#1), ∀ a, (k0_off756 v21251) a + S1x16x128.size a ≤ S16384x16x128.size a := fun i v21251 k0_hw756 k0_h1 => k0_hw756 k0_h1

def k0_off757 (v21257 : BitVec 32) : Fin 3 → Nat :=
  let c0_i32_20303 : BitVec 32 := 0#32
  let c0_i32_20304 : BitVec 32 := 0#32
  ![v21257.toNat, 0, 0]

def k0_chk757 (i : grid0.Coords) (v21257 : BitVec 32) : Prop :=
  (∀ (k0_h1 : k0_cond1 i = 1#1), ∀ a, (k0_off757 v21257) a + S1x16x128.size a ≤ S16384x16x128.size a)
theorem k0_off757_inb : ∀ (i : grid0.Coords) (v21257 : BitVec 32) (k0_hw757 : k0_chk757 i v21257), ∀ (k0_h1 : k0_cond1 i = 1#1), ∀ a, (k0_off757 v21257) a + S1x16x128.size a ≤ S16384x16x128.size a := fun i v21257 k0_hw757 k0_h1 => k0_hw757 k0_h1

def k0_off758 (v21263 : BitVec 32) : Fin 3 → Nat :=
  let c0_i32_20310 : BitVec 32 := 0#32
  let c0_i32_20311 : BitVec 32 := 0#32
  ![v21263.toNat, 0, 0]

def k0_chk758 (i : grid0.Coords) (v21263 : BitVec 32) : Prop :=
  (∀ (k0_h1 : k0_cond1 i = 1#1), ∀ a, (k0_off758 v21263) a + S1x16x128.size a ≤ S16384x16x128.size a)
theorem k0_off758_inb : ∀ (i : grid0.Coords) (v21263 : BitVec 32) (k0_hw758 : k0_chk758 i v21263), ∀ (k0_h1 : k0_cond1 i = 1#1), ∀ a, (k0_off758 v21263) a + S1x16x128.size a ≤ S16384x16x128.size a := fun i v21263 k0_hw758 k0_h1 => k0_hw758 k0_h1

def k0_off759 (v21269 : BitVec 32) : Fin 3 → Nat :=
  let c0_i32_20317 : BitVec 32 := 0#32
  let c0_i32_20318 : BitVec 32 := 0#32
  ![v21269.toNat, 0, 0]

def k0_chk759 (i : grid0.Coords) (v21269 : BitVec 32) : Prop :=
  (∀ (k0_h1 : k0_cond1 i = 1#1), ∀ a, (k0_off759 v21269) a + S1x16x128.size a ≤ S16384x16x128.size a)
theorem k0_off759_inb : ∀ (i : grid0.Coords) (v21269 : BitVec 32) (k0_hw759 : k0_chk759 i v21269), ∀ (k0_h1 : k0_cond1 i = 1#1), ∀ a, (k0_off759 v21269) a + S1x16x128.size a ≤ S16384x16x128.size a := fun i v21269 k0_hw759 k0_h1 => k0_hw759 k0_h1

def k0_off760 (v21275 : BitVec 32) : Fin 3 → Nat :=
  let c0_i32_20324 : BitVec 32 := 0#32
  let c0_i32_20325 : BitVec 32 := 0#32
  ![v21275.toNat, 0, 0]

def k0_chk760 (i : grid0.Coords) (v21275 : BitVec 32) : Prop :=
  (∀ (k0_h1 : k0_cond1 i = 1#1), ∀ a, (k0_off760 v21275) a + S1x16x128.size a ≤ S16384x16x128.size a)
theorem k0_off760_inb : ∀ (i : grid0.Coords) (v21275 : BitVec 32) (k0_hw760 : k0_chk760 i v21275), ∀ (k0_h1 : k0_cond1 i = 1#1), ∀ a, (k0_off760 v21275) a + S1x16x128.size a ≤ S16384x16x128.size a := fun i v21275 k0_hw760 k0_h1 => k0_hw760 k0_h1

def k0_off761 (v21281 : BitVec 32) : Fin 3 → Nat :=
  let c0_i32_20331 : BitVec 32 := 0#32
  let c0_i32_20332 : BitVec 32 := 0#32
  ![v21281.toNat, 0, 0]

def k0_chk761 (i : grid0.Coords) (v21281 : BitVec 32) : Prop :=
  (∀ (k0_h1 : k0_cond1 i = 1#1), ∀ a, (k0_off761 v21281) a + S1x16x128.size a ≤ S16384x16x128.size a)
theorem k0_off761_inb : ∀ (i : grid0.Coords) (v21281 : BitVec 32) (k0_hw761 : k0_chk761 i v21281), ∀ (k0_h1 : k0_cond1 i = 1#1), ∀ a, (k0_off761 v21281) a + S1x16x128.size a ≤ S16384x16x128.size a := fun i v21281 k0_hw761 k0_h1 => k0_hw761 k0_h1

def k0_off762 (v21287 : BitVec 32) : Fin 3 → Nat :=
  let c0_i32_20338 : BitVec 32 := 0#32
  let c0_i32_20339 : BitVec 32 := 0#32
  ![v21287.toNat, 0, 0]

def k0_chk762 (i : grid0.Coords) (v21287 : BitVec 32) : Prop :=
  (∀ (k0_h1 : k0_cond1 i = 1#1), ∀ a, (k0_off762 v21287) a + S1x16x128.size a ≤ S16384x16x128.size a)
theorem k0_off762_inb : ∀ (i : grid0.Coords) (v21287 : BitVec 32) (k0_hw762 : k0_chk762 i v21287), ∀ (k0_h1 : k0_cond1 i = 1#1), ∀ a, (k0_off762 v21287) a + S1x16x128.size a ≤ S16384x16x128.size a := fun i v21287 k0_hw762 k0_h1 => k0_hw762 k0_h1

def k0_off763 (v21293 : BitVec 32) : Fin 3 → Nat :=
  let c0_i32_20345 : BitVec 32 := 0#32
  let c0_i32_20346 : BitVec 32 := 0#32
  ![v21293.toNat, 0, 0]

def k0_chk763 (i : grid0.Coords) (v21293 : BitVec 32) : Prop :=
  (∀ (k0_h1 : k0_cond1 i = 1#1), ∀ a, (k0_off763 v21293) a + S1x16x128.size a ≤ S16384x16x128.size a)
theorem k0_off763_inb : ∀ (i : grid0.Coords) (v21293 : BitVec 32) (k0_hw763 : k0_chk763 i v21293), ∀ (k0_h1 : k0_cond1 i = 1#1), ∀ a, (k0_off763 v21293) a + S1x16x128.size a ≤ S16384x16x128.size a := fun i v21293 k0_hw763 k0_h1 => k0_hw763 k0_h1

def k0_off764 (v21299 : BitVec 32) : Fin 3 → Nat :=
  let c0_i32_20352 : BitVec 32 := 0#32
  let c0_i32_20353 : BitVec 32 := 0#32
  ![v21299.toNat, 0, 0]

def k0_chk764 (i : grid0.Coords) (v21299 : BitVec 32) : Prop :=
  (∀ (k0_h1 : k0_cond1 i = 1#1), ∀ a, (k0_off764 v21299) a + S1x16x128.size a ≤ S16384x16x128.size a)
theorem k0_off764_inb : ∀ (i : grid0.Coords) (v21299 : BitVec 32) (k0_hw764 : k0_chk764 i v21299), ∀ (k0_h1 : k0_cond1 i = 1#1), ∀ a, (k0_off764 v21299) a + S1x16x128.size a ≤ S16384x16x128.size a := fun i v21299 k0_hw764 k0_h1 => k0_hw764 k0_h1

def k0_off765 (v21305 : BitVec 32) : Fin 3 → Nat :=
  let c0_i32_20359 : BitVec 32 := 0#32
  let c0_i32_20360 : BitVec 32 := 0#32
  ![v21305.toNat, 0, 0]

def k0_chk765 (i : grid0.Coords) (v21305 : BitVec 32) : Prop :=
  (∀ (k0_h1 : k0_cond1 i = 1#1), ∀ a, (k0_off765 v21305) a + S1x16x128.size a ≤ S16384x16x128.size a)
theorem k0_off765_inb : ∀ (i : grid0.Coords) (v21305 : BitVec 32) (k0_hw765 : k0_chk765 i v21305), ∀ (k0_h1 : k0_cond1 i = 1#1), ∀ a, (k0_off765 v21305) a + S1x16x128.size a ≤ S16384x16x128.size a := fun i v21305 k0_hw765 k0_h1 => k0_hw765 k0_h1

def k0_off766 (v21311 : BitVec 32) : Fin 3 → Nat :=
  let c0_i32_20366 : BitVec 32 := 0#32
  let c0_i32_20367 : BitVec 32 := 0#32
  ![v21311.toNat, 0, 0]

def k0_chk766 (i : grid0.Coords) (v21311 : BitVec 32) : Prop :=
  (∀ (k0_h1 : k0_cond1 i = 1#1), ∀ a, (k0_off766 v21311) a + S1x16x128.size a ≤ S16384x16x128.size a)
theorem k0_off766_inb : ∀ (i : grid0.Coords) (v21311 : BitVec 32) (k0_hw766 : k0_chk766 i v21311), ∀ (k0_h1 : k0_cond1 i = 1#1), ∀ a, (k0_off766 v21311) a + S1x16x128.size a ≤ S16384x16x128.size a := fun i v21311 k0_hw766 k0_h1 => k0_hw766 k0_h1

def k0_off767 (v21317 : BitVec 32) : Fin 3 → Nat :=
  let c0_i32_20373 : BitVec 32 := 0#32
  let c0_i32_20374 : BitVec 32 := 0#32
  ![v21317.toNat, 0, 0]

def k0_chk767 (i : grid0.Coords) (v21317 : BitVec 32) : Prop :=
  (∀ (k0_h1 : k0_cond1 i = 1#1), ∀ a, (k0_off767 v21317) a + S1x16x128.size a ≤ S16384x16x128.size a)
theorem k0_off767_inb : ∀ (i : grid0.Coords) (v21317 : BitVec 32) (k0_hw767 : k0_chk767 i v21317), ∀ (k0_h1 : k0_cond1 i = 1#1), ∀ a, (k0_off767 v21317) a + S1x16x128.size a ≤ S16384x16x128.size a := fun i v21317 k0_hw767 k0_h1 => k0_hw767 k0_h1

def k0_off768 (v21323 : BitVec 32) : Fin 3 → Nat :=
  let c0_i32_20380 : BitVec 32 := 0#32
  let c0_i32_20381 : BitVec 32 := 0#32
  ![v21323.toNat, 0, 0]

def k0_chk768 (i : grid0.Coords) (v21323 : BitVec 32) : Prop :=
  (∀ (k0_h1 : k0_cond1 i = 1#1), ∀ a, (k0_off768 v21323) a + S1x16x128.size a ≤ S16384x16x128.size a)
theorem k0_off768_inb : ∀ (i : grid0.Coords) (v21323 : BitVec 32) (k0_hw768 : k0_chk768 i v21323), ∀ (k0_h1 : k0_cond1 i = 1#1), ∀ a, (k0_off768 v21323) a + S1x16x128.size a ≤ S16384x16x128.size a := fun i v21323 k0_hw768 k0_h1 => k0_hw768 k0_h1

def k0_off769 (v21329 : BitVec 32) : Fin 3 → Nat :=
  let c0_i32_20387 : BitVec 32 := 0#32
  let c0_i32_20388 : BitVec 32 := 0#32
  ![v21329.toNat, 0, 0]

def k0_chk769 (i : grid0.Coords) (v21329 : BitVec 32) : Prop :=
  (∀ (k0_h1 : k0_cond1 i = 1#1), ∀ a, (k0_off769 v21329) a + S1x16x128.size a ≤ S16384x16x128.size a)
theorem k0_off769_inb : ∀ (i : grid0.Coords) (v21329 : BitVec 32) (k0_hw769 : k0_chk769 i v21329), ∀ (k0_h1 : k0_cond1 i = 1#1), ∀ a, (k0_off769 v21329) a + S1x16x128.size a ≤ S16384x16x128.size a := fun i v21329 k0_hw769 k0_h1 => k0_hw769 k0_h1

def k0_off770 (v21335 : BitVec 32) : Fin 3 → Nat :=
  let c0_i32_20394 : BitVec 32 := 0#32
  let c0_i32_20395 : BitVec 32 := 0#32
  ![v21335.toNat, 0, 0]

def k0_chk770 (i : grid0.Coords) (v21335 : BitVec 32) : Prop :=
  (∀ (k0_h1 : k0_cond1 i = 1#1), ∀ a, (k0_off770 v21335) a + S1x16x128.size a ≤ S16384x16x128.size a)
theorem k0_off770_inb : ∀ (i : grid0.Coords) (v21335 : BitVec 32) (k0_hw770 : k0_chk770 i v21335), ∀ (k0_h1 : k0_cond1 i = 1#1), ∀ a, (k0_off770 v21335) a + S1x16x128.size a ≤ S16384x16x128.size a := fun i v21335 k0_hw770 k0_h1 => k0_hw770 k0_h1

def k0_off771 (v21341 : BitVec 32) : Fin 3 → Nat :=
  let c0_i32_20401 : BitVec 32 := 0#32
  let c0_i32_20402 : BitVec 32 := 0#32
  ![v21341.toNat, 0, 0]

def k0_chk771 (i : grid0.Coords) (v21341 : BitVec 32) : Prop :=
  (∀ (k0_h1 : k0_cond1 i = 1#1), ∀ a, (k0_off771 v21341) a + S1x16x128.size a ≤ S16384x16x128.size a)
theorem k0_off771_inb : ∀ (i : grid0.Coords) (v21341 : BitVec 32) (k0_hw771 : k0_chk771 i v21341), ∀ (k0_h1 : k0_cond1 i = 1#1), ∀ a, (k0_off771 v21341) a + S1x16x128.size a ≤ S16384x16x128.size a := fun i v21341 k0_hw771 k0_h1 => k0_hw771 k0_h1

def k0_off772 (v21347 : BitVec 32) : Fin 3 → Nat :=
  let c0_i32_20408 : BitVec 32 := 0#32
  let c0_i32_20409 : BitVec 32 := 0#32
  ![v21347.toNat, 0, 0]

def k0_chk772 (i : grid0.Coords) (v21347 : BitVec 32) : Prop :=
  (∀ (k0_h1 : k0_cond1 i = 1#1), ∀ a, (k0_off772 v21347) a + S1x16x128.size a ≤ S16384x16x128.size a)
theorem k0_off772_inb : ∀ (i : grid0.Coords) (v21347 : BitVec 32) (k0_hw772 : k0_chk772 i v21347), ∀ (k0_h1 : k0_cond1 i = 1#1), ∀ a, (k0_off772 v21347) a + S1x16x128.size a ≤ S16384x16x128.size a := fun i v21347 k0_hw772 k0_h1 => k0_hw772 k0_h1

def k0_off773 (v21353 : BitVec 32) : Fin 3 → Nat :=
  let c0_i32_20415 : BitVec 32 := 0#32
  let c0_i32_20416 : BitVec 32 := 0#32
  ![v21353.toNat, 0, 0]

def k0_chk773 (i : grid0.Coords) (v21353 : BitVec 32) : Prop :=
  (∀ (k0_h1 : k0_cond1 i = 1#1), ∀ a, (k0_off773 v21353) a + S1x16x128.size a ≤ S16384x16x128.size a)
theorem k0_off773_inb : ∀ (i : grid0.Coords) (v21353 : BitVec 32) (k0_hw773 : k0_chk773 i v21353), ∀ (k0_h1 : k0_cond1 i = 1#1), ∀ a, (k0_off773 v21353) a + S1x16x128.size a ≤ S16384x16x128.size a := fun i v21353 k0_hw773 k0_h1 => k0_hw773 k0_h1

def k0_off774 (v21359 : BitVec 32) : Fin 3 → Nat :=
  let c0_i32_20422 : BitVec 32 := 0#32
  let c0_i32_20423 : BitVec 32 := 0#32
  ![v21359.toNat, 0, 0]

def k0_chk774 (i : grid0.Coords) (v21359 : BitVec 32) : Prop :=
  (∀ (k0_h1 : k0_cond1 i = 1#1), ∀ a, (k0_off774 v21359) a + S1x16x128.size a ≤ S16384x16x128.size a)
theorem k0_off774_inb : ∀ (i : grid0.Coords) (v21359 : BitVec 32) (k0_hw774 : k0_chk774 i v21359), ∀ (k0_h1 : k0_cond1 i = 1#1), ∀ a, (k0_off774 v21359) a + S1x16x128.size a ≤ S16384x16x128.size a := fun i v21359 k0_hw774 k0_h1 => k0_hw774 k0_h1

def k0_off775 (v21365 : BitVec 32) : Fin 3 → Nat :=
  let c0_i32_20429 : BitVec 32 := 0#32
  let c0_i32_20430 : BitVec 32 := 0#32
  ![v21365.toNat, 0, 0]

def k0_chk775 (i : grid0.Coords) (v21365 : BitVec 32) : Prop :=
  (∀ (k0_h1 : k0_cond1 i = 1#1), ∀ a, (k0_off775 v21365) a + S1x16x128.size a ≤ S16384x16x128.size a)
theorem k0_off775_inb : ∀ (i : grid0.Coords) (v21365 : BitVec 32) (k0_hw775 : k0_chk775 i v21365), ∀ (k0_h1 : k0_cond1 i = 1#1), ∀ a, (k0_off775 v21365) a + S1x16x128.size a ≤ S16384x16x128.size a := fun i v21365 k0_hw775 k0_h1 => k0_hw775 k0_h1

def k0_off776 (v21371 : BitVec 32) : Fin 3 → Nat :=
  let c0_i32_20436 : BitVec 32 := 0#32
  let c0_i32_20437 : BitVec 32 := 0#32
  ![v21371.toNat, 0, 0]

def k0_chk776 (i : grid0.Coords) (v21371 : BitVec 32) : Prop :=
  (∀ (k0_h1 : k0_cond1 i = 1#1), ∀ a, (k0_off776 v21371) a + S1x16x128.size a ≤ S16384x16x128.size a)
theorem k0_off776_inb : ∀ (i : grid0.Coords) (v21371 : BitVec 32) (k0_hw776 : k0_chk776 i v21371), ∀ (k0_h1 : k0_cond1 i = 1#1), ∀ a, (k0_off776 v21371) a + S1x16x128.size a ≤ S16384x16x128.size a := fun i v21371 k0_hw776 k0_h1 => k0_hw776 k0_h1

def k0_off777 (v21377 : BitVec 32) : Fin 3 → Nat :=
  let c0_i32_20443 : BitVec 32 := 0#32
  let c0_i32_20444 : BitVec 32 := 0#32
  ![v21377.toNat, 0, 0]

def k0_chk777 (i : grid0.Coords) (v21377 : BitVec 32) : Prop :=
  (∀ (k0_h1 : k0_cond1 i = 1#1), ∀ a, (k0_off777 v21377) a + S1x16x128.size a ≤ S16384x16x128.size a)
theorem k0_off777_inb : ∀ (i : grid0.Coords) (v21377 : BitVec 32) (k0_hw777 : k0_chk777 i v21377), ∀ (k0_h1 : k0_cond1 i = 1#1), ∀ a, (k0_off777 v21377) a + S1x16x128.size a ≤ S16384x16x128.size a := fun i v21377 k0_hw777 k0_h1 => k0_hw777 k0_h1

def k0_off778 (v21383 : BitVec 32) : Fin 3 → Nat :=
  let c0_i32_20450 : BitVec 32 := 0#32
  let c0_i32_20451 : BitVec 32 := 0#32
  ![v21383.toNat, 0, 0]

def k0_chk778 (i : grid0.Coords) (v21383 : BitVec 32) : Prop :=
  (∀ (k0_h1 : k0_cond1 i = 1#1), ∀ a, (k0_off778 v21383) a + S1x16x128.size a ≤ S16384x16x128.size a)
theorem k0_off778_inb : ∀ (i : grid0.Coords) (v21383 : BitVec 32) (k0_hw778 : k0_chk778 i v21383), ∀ (k0_h1 : k0_cond1 i = 1#1), ∀ a, (k0_off778 v21383) a + S1x16x128.size a ≤ S16384x16x128.size a := fun i v21383 k0_hw778 k0_h1 => k0_hw778 k0_h1

def k0_off779 (v21389 : BitVec 32) : Fin 3 → Nat :=
  let c0_i32_20457 : BitVec 32 := 0#32
  let c0_i32_20458 : BitVec 32 := 0#32
  ![v21389.toNat, 0, 0]

def k0_chk779 (i : grid0.Coords) (v21389 : BitVec 32) : Prop :=
  (∀ (k0_h1 : k0_cond1 i = 1#1), ∀ a, (k0_off779 v21389) a + S1x16x128.size a ≤ S16384x16x128.size a)
theorem k0_off779_inb : ∀ (i : grid0.Coords) (v21389 : BitVec 32) (k0_hw779 : k0_chk779 i v21389), ∀ (k0_h1 : k0_cond1 i = 1#1), ∀ a, (k0_off779 v21389) a + S1x16x128.size a ≤ S16384x16x128.size a := fun i v21389 k0_hw779 k0_h1 => k0_hw779 k0_h1

def k0_off780 (v21395 : BitVec 32) : Fin 3 → Nat :=
  let c0_i32_20464 : BitVec 32 := 0#32
  let c0_i32_20465 : BitVec 32 := 0#32
  ![v21395.toNat, 0, 0]

def k0_chk780 (i : grid0.Coords) (v21395 : BitVec 32) : Prop :=
  (∀ (k0_h1 : k0_cond1 i = 1#1), ∀ a, (k0_off780 v21395) a + S1x16x128.size a ≤ S16384x16x128.size a)
theorem k0_off780_inb : ∀ (i : grid0.Coords) (v21395 : BitVec 32) (k0_hw780 : k0_chk780 i v21395), ∀ (k0_h1 : k0_cond1 i = 1#1), ∀ a, (k0_off780 v21395) a + S1x16x128.size a ≤ S16384x16x128.size a := fun i v21395 k0_hw780 k0_h1 => k0_hw780 k0_h1

def k0_off781 (v21401 : BitVec 32) : Fin 3 → Nat :=
  let c0_i32_20471 : BitVec 32 := 0#32
  let c0_i32_20472 : BitVec 32 := 0#32
  ![v21401.toNat, 0, 0]

def k0_chk781 (i : grid0.Coords) (v21401 : BitVec 32) : Prop :=
  (∀ (k0_h1 : k0_cond1 i = 1#1), ∀ a, (k0_off781 v21401) a + S1x16x128.size a ≤ S16384x16x128.size a)
theorem k0_off781_inb : ∀ (i : grid0.Coords) (v21401 : BitVec 32) (k0_hw781 : k0_chk781 i v21401), ∀ (k0_h1 : k0_cond1 i = 1#1), ∀ a, (k0_off781 v21401) a + S1x16x128.size a ≤ S16384x16x128.size a := fun i v21401 k0_hw781 k0_h1 => k0_hw781 k0_h1

def k0_off782 (v21407 : BitVec 32) : Fin 3 → Nat :=
  let c0_i32_20478 : BitVec 32 := 0#32
  let c0_i32_20479 : BitVec 32 := 0#32
  ![v21407.toNat, 0, 0]

def k0_chk782 (i : grid0.Coords) (v21407 : BitVec 32) : Prop :=
  (∀ (k0_h1 : k0_cond1 i = 1#1), ∀ a, (k0_off782 v21407) a + S1x16x128.size a ≤ S16384x16x128.size a)
theorem k0_off782_inb : ∀ (i : grid0.Coords) (v21407 : BitVec 32) (k0_hw782 : k0_chk782 i v21407), ∀ (k0_h1 : k0_cond1 i = 1#1), ∀ a, (k0_off782 v21407) a + S1x16x128.size a ≤ S16384x16x128.size a := fun i v21407 k0_hw782 k0_h1 => k0_hw782 k0_h1

def k0_off783 (v21413 : BitVec 32) : Fin 3 → Nat :=
  let c0_i32_20485 : BitVec 32 := 0#32
  let c0_i32_20486 : BitVec 32 := 0#32
  ![v21413.toNat, 0, 0]

def k0_chk783 (i : grid0.Coords) (v21413 : BitVec 32) : Prop :=
  (∀ (k0_h1 : k0_cond1 i = 1#1), ∀ a, (k0_off783 v21413) a + S1x16x128.size a ≤ S16384x16x128.size a)
theorem k0_off783_inb : ∀ (i : grid0.Coords) (v21413 : BitVec 32) (k0_hw783 : k0_chk783 i v21413), ∀ (k0_h1 : k0_cond1 i = 1#1), ∀ a, (k0_off783 v21413) a + S1x16x128.size a ≤ S16384x16x128.size a := fun i v21413 k0_hw783 k0_h1 => k0_hw783 k0_h1

def k0_off784 (v21419 : BitVec 32) : Fin 3 → Nat :=
  let c0_i32_20492 : BitVec 32 := 0#32
  let c0_i32_20493 : BitVec 32 := 0#32
  ![v21419.toNat, 0, 0]

def k0_chk784 (i : grid0.Coords) (v21419 : BitVec 32) : Prop :=
  (∀ (k0_h1 : k0_cond1 i = 1#1), ∀ a, (k0_off784 v21419) a + S1x16x128.size a ≤ S16384x16x128.size a)
theorem k0_off784_inb : ∀ (i : grid0.Coords) (v21419 : BitVec 32) (k0_hw784 : k0_chk784 i v21419), ∀ (k0_h1 : k0_cond1 i = 1#1), ∀ a, (k0_off784 v21419) a + S1x16x128.size a ≤ S16384x16x128.size a := fun i v21419 k0_hw784 k0_h1 => k0_hw784 k0_h1

def k0_off785 (v21425 : BitVec 32) : Fin 3 → Nat :=
  let c0_i32_20499 : BitVec 32 := 0#32
  let c0_i32_20500 : BitVec 32 := 0#32
  ![v21425.toNat, 0, 0]

def k0_chk785 (i : grid0.Coords) (v21425 : BitVec 32) : Prop :=
  (∀ (k0_h1 : k0_cond1 i = 1#1), ∀ a, (k0_off785 v21425) a + S1x16x128.size a ≤ S16384x16x128.size a)
theorem k0_off785_inb : ∀ (i : grid0.Coords) (v21425 : BitVec 32) (k0_hw785 : k0_chk785 i v21425), ∀ (k0_h1 : k0_cond1 i = 1#1), ∀ a, (k0_off785 v21425) a + S1x16x128.size a ≤ S16384x16x128.size a := fun i v21425 k0_hw785 k0_h1 => k0_hw785 k0_h1

def k0_off786 (v21431 : BitVec 32) : Fin 3 → Nat :=
  let c0_i32_20506 : BitVec 32 := 0#32
  let c0_i32_20507 : BitVec 32 := 0#32
  ![v21431.toNat, 0, 0]

def k0_chk786 (i : grid0.Coords) (v21431 : BitVec 32) : Prop :=
  (∀ (k0_h1 : k0_cond1 i = 1#1), ∀ a, (k0_off786 v21431) a + S1x16x128.size a ≤ S16384x16x128.size a)
theorem k0_off786_inb : ∀ (i : grid0.Coords) (v21431 : BitVec 32) (k0_hw786 : k0_chk786 i v21431), ∀ (k0_h1 : k0_cond1 i = 1#1), ∀ a, (k0_off786 v21431) a + S1x16x128.size a ≤ S16384x16x128.size a := fun i v21431 k0_hw786 k0_h1 => k0_hw786 k0_h1

def k0_off787 (v21437 : BitVec 32) : Fin 3 → Nat :=
  let c0_i32_20513 : BitVec 32 := 0#32
  let c0_i32_20514 : BitVec 32 := 0#32
  ![v21437.toNat, 0, 0]

def k0_chk787 (i : grid0.Coords) (v21437 : BitVec 32) : Prop :=
  (∀ (k0_h1 : k0_cond1 i = 1#1), ∀ a, (k0_off787 v21437) a + S1x16x128.size a ≤ S16384x16x128.size a)
theorem k0_off787_inb : ∀ (i : grid0.Coords) (v21437 : BitVec 32) (k0_hw787 : k0_chk787 i v21437), ∀ (k0_h1 : k0_cond1 i = 1#1), ∀ a, (k0_off787 v21437) a + S1x16x128.size a ≤ S16384x16x128.size a := fun i v21437 k0_hw787 k0_h1 => k0_hw787 k0_h1

def k0_off788 (v21443 : BitVec 32) : Fin 3 → Nat :=
  let c0_i32_20520 : BitVec 32 := 0#32
  let c0_i32_20521 : BitVec 32 := 0#32
  ![v21443.toNat, 0, 0]

def k0_chk788 (i : grid0.Coords) (v21443 : BitVec 32) : Prop :=
  (∀ (k0_h1 : k0_cond1 i = 1#1), ∀ a, (k0_off788 v21443) a + S1x16x128.size a ≤ S16384x16x128.size a)
theorem k0_off788_inb : ∀ (i : grid0.Coords) (v21443 : BitVec 32) (k0_hw788 : k0_chk788 i v21443), ∀ (k0_h1 : k0_cond1 i = 1#1), ∀ a, (k0_off788 v21443) a + S1x16x128.size a ≤ S16384x16x128.size a := fun i v21443 k0_hw788 k0_h1 => k0_hw788 k0_h1

def k0_off789 (v21449 : BitVec 32) : Fin 3 → Nat :=
  let c0_i32_20527 : BitVec 32 := 0#32
  let c0_i32_20528 : BitVec 32 := 0#32
  ![v21449.toNat, 0, 0]

def k0_chk789 (i : grid0.Coords) (v21449 : BitVec 32) : Prop :=
  (∀ (k0_h1 : k0_cond1 i = 1#1), ∀ a, (k0_off789 v21449) a + S1x16x128.size a ≤ S16384x16x128.size a)
theorem k0_off789_inb : ∀ (i : grid0.Coords) (v21449 : BitVec 32) (k0_hw789 : k0_chk789 i v21449), ∀ (k0_h1 : k0_cond1 i = 1#1), ∀ a, (k0_off789 v21449) a + S1x16x128.size a ≤ S16384x16x128.size a := fun i v21449 k0_hw789 k0_h1 => k0_hw789 k0_h1

def k0_off790 (v21455 : BitVec 32) : Fin 3 → Nat :=
  let c0_i32_20534 : BitVec 32 := 0#32
  let c0_i32_20535 : BitVec 32 := 0#32
  ![v21455.toNat, 0, 0]

def k0_chk790 (i : grid0.Coords) (v21455 : BitVec 32) : Prop :=
  (∀ (k0_h1 : k0_cond1 i = 1#1), ∀ a, (k0_off790 v21455) a + S1x16x128.size a ≤ S16384x16x128.size a)
theorem k0_off790_inb : ∀ (i : grid0.Coords) (v21455 : BitVec 32) (k0_hw790 : k0_chk790 i v21455), ∀ (k0_h1 : k0_cond1 i = 1#1), ∀ a, (k0_off790 v21455) a + S1x16x128.size a ≤ S16384x16x128.size a := fun i v21455 k0_hw790 k0_h1 => k0_hw790 k0_h1

def k0_off791 (v21461 : BitVec 32) : Fin 3 → Nat :=
  let c0_i32_20541 : BitVec 32 := 0#32
  let c0_i32_20542 : BitVec 32 := 0#32
  ![v21461.toNat, 0, 0]

def k0_chk791 (i : grid0.Coords) (v21461 : BitVec 32) : Prop :=
  (∀ (k0_h1 : k0_cond1 i = 1#1), ∀ a, (k0_off791 v21461) a + S1x16x128.size a ≤ S16384x16x128.size a)
theorem k0_off791_inb : ∀ (i : grid0.Coords) (v21461 : BitVec 32) (k0_hw791 : k0_chk791 i v21461), ∀ (k0_h1 : k0_cond1 i = 1#1), ∀ a, (k0_off791 v21461) a + S1x16x128.size a ≤ S16384x16x128.size a := fun i v21461 k0_hw791 k0_h1 => k0_hw791 k0_h1

def k0_off792 (v21467 : BitVec 32) : Fin 3 → Nat :=
  let c0_i32_20548 : BitVec 32 := 0#32
  let c0_i32_20549 : BitVec 32 := 0#32
  ![v21467.toNat, 0, 0]

def k0_chk792 (i : grid0.Coords) (v21467 : BitVec 32) : Prop :=
  (∀ (k0_h1 : k0_cond1 i = 1#1), ∀ a, (k0_off792 v21467) a + S1x16x128.size a ≤ S16384x16x128.size a)
theorem k0_off792_inb : ∀ (i : grid0.Coords) (v21467 : BitVec 32) (k0_hw792 : k0_chk792 i v21467), ∀ (k0_h1 : k0_cond1 i = 1#1), ∀ a, (k0_off792 v21467) a + S1x16x128.size a ≤ S16384x16x128.size a := fun i v21467 k0_hw792 k0_h1 => k0_hw792 k0_h1

def k0_off793 (v21473 : BitVec 32) : Fin 3 → Nat :=
  let c0_i32_20555 : BitVec 32 := 0#32
  let c0_i32_20556 : BitVec 32 := 0#32
  ![v21473.toNat, 0, 0]

def k0_chk793 (i : grid0.Coords) (v21473 : BitVec 32) : Prop :=
  (∀ (k0_h1 : k0_cond1 i = 1#1), ∀ a, (k0_off793 v21473) a + S1x16x128.size a ≤ S16384x16x128.size a)
theorem k0_off793_inb : ∀ (i : grid0.Coords) (v21473 : BitVec 32) (k0_hw793 : k0_chk793 i v21473), ∀ (k0_h1 : k0_cond1 i = 1#1), ∀ a, (k0_off793 v21473) a + S1x16x128.size a ≤ S16384x16x128.size a := fun i v21473 k0_hw793 k0_h1 => k0_hw793 k0_h1

def k0_off794 (v21479 : BitVec 32) : Fin 3 → Nat :=
  let c0_i32_20562 : BitVec 32 := 0#32
  let c0_i32_20563 : BitVec 32 := 0#32
  ![v21479.toNat, 0, 0]

def k0_chk794 (i : grid0.Coords) (v21479 : BitVec 32) : Prop :=
  (∀ (k0_h1 : k0_cond1 i = 1#1), ∀ a, (k0_off794 v21479) a + S1x16x128.size a ≤ S16384x16x128.size a)
theorem k0_off794_inb : ∀ (i : grid0.Coords) (v21479 : BitVec 32) (k0_hw794 : k0_chk794 i v21479), ∀ (k0_h1 : k0_cond1 i = 1#1), ∀ a, (k0_off794 v21479) a + S1x16x128.size a ≤ S16384x16x128.size a := fun i v21479 k0_hw794 k0_h1 => k0_hw794 k0_h1

def k0_off795 (v21485 : BitVec 32) : Fin 3 → Nat :=
  let c0_i32_20569 : BitVec 32 := 0#32
  let c0_i32_20570 : BitVec 32 := 0#32
  ![v21485.toNat, 0, 0]

def k0_chk795 (i : grid0.Coords) (v21485 : BitVec 32) : Prop :=
  (∀ (k0_h1 : k0_cond1 i = 1#1), ∀ a, (k0_off795 v21485) a + S1x16x128.size a ≤ S16384x16x128.size a)
theorem k0_off795_inb : ∀ (i : grid0.Coords) (v21485 : BitVec 32) (k0_hw795 : k0_chk795 i v21485), ∀ (k0_h1 : k0_cond1 i = 1#1), ∀ a, (k0_off795 v21485) a + S1x16x128.size a ≤ S16384x16x128.size a := fun i v21485 k0_hw795 k0_h1 => k0_hw795 k0_h1

def k0_off796 (v21491 : BitVec 32) : Fin 3 → Nat :=
  let c0_i32_20576 : BitVec 32 := 0#32
  let c0_i32_20577 : BitVec 32 := 0#32
  ![v21491.toNat, 0, 0]

def k0_chk796 (i : grid0.Coords) (v21491 : BitVec 32) : Prop :=
  (∀ (k0_h1 : k0_cond1 i = 1#1), ∀ a, (k0_off796 v21491) a + S1x16x128.size a ≤ S16384x16x128.size a)
theorem k0_off796_inb : ∀ (i : grid0.Coords) (v21491 : BitVec 32) (k0_hw796 : k0_chk796 i v21491), ∀ (k0_h1 : k0_cond1 i = 1#1), ∀ a, (k0_off796 v21491) a + S1x16x128.size a ≤ S16384x16x128.size a := fun i v21491 k0_hw796 k0_h1 => k0_hw796 k0_h1

def k0_off797 (v21497 : BitVec 32) : Fin 3 → Nat :=
  let c0_i32_20583 : BitVec 32 := 0#32
  let c0_i32_20584 : BitVec 32 := 0#32
  ![v21497.toNat, 0, 0]

def k0_chk797 (i : grid0.Coords) (v21497 : BitVec 32) : Prop :=
  (∀ (k0_h1 : k0_cond1 i = 1#1), ∀ a, (k0_off797 v21497) a + S1x16x128.size a ≤ S16384x16x128.size a)
theorem k0_off797_inb : ∀ (i : grid0.Coords) (v21497 : BitVec 32) (k0_hw797 : k0_chk797 i v21497), ∀ (k0_h1 : k0_cond1 i = 1#1), ∀ a, (k0_off797 v21497) a + S1x16x128.size a ≤ S16384x16x128.size a := fun i v21497 k0_hw797 k0_h1 => k0_hw797 k0_h1

def k0_off798 (v21503 : BitVec 32) : Fin 3 → Nat :=
  let c0_i32_20590 : BitVec 32 := 0#32
  let c0_i32_20591 : BitVec 32 := 0#32
  ![v21503.toNat, 0, 0]

def k0_chk798 (i : grid0.Coords) (v21503 : BitVec 32) : Prop :=
  (∀ (k0_h1 : k0_cond1 i = 1#1), ∀ a, (k0_off798 v21503) a + S1x16x128.size a ≤ S16384x16x128.size a)
theorem k0_off798_inb : ∀ (i : grid0.Coords) (v21503 : BitVec 32) (k0_hw798 : k0_chk798 i v21503), ∀ (k0_h1 : k0_cond1 i = 1#1), ∀ a, (k0_off798 v21503) a + S1x16x128.size a ≤ S16384x16x128.size a := fun i v21503 k0_hw798 k0_h1 => k0_hw798 k0_h1

def k0_off799 (v21509 : BitVec 32) : Fin 3 → Nat :=
  let c0_i32_20597 : BitVec 32 := 0#32
  let c0_i32_20598 : BitVec 32 := 0#32
  ![v21509.toNat, 0, 0]

def k0_chk799 (i : grid0.Coords) (v21509 : BitVec 32) : Prop :=
  (∀ (k0_h1 : k0_cond1 i = 1#1), ∀ a, (k0_off799 v21509) a + S1x16x128.size a ≤ S16384x16x128.size a)
theorem k0_off799_inb : ∀ (i : grid0.Coords) (v21509 : BitVec 32) (k0_hw799 : k0_chk799 i v21509), ∀ (k0_h1 : k0_cond1 i = 1#1), ∀ a, (k0_off799 v21509) a + S1x16x128.size a ≤ S16384x16x128.size a := fun i v21509 k0_hw799 k0_h1 => k0_hw799 k0_h1

def k0_off800 (v21515 : BitVec 32) : Fin 3 → Nat :=
  let c0_i32_20604 : BitVec 32 := 0#32
  let c0_i32_20605 : BitVec 32 := 0#32
  ![v21515.toNat, 0, 0]

def k0_chk800 (i : grid0.Coords) (v21515 : BitVec 32) : Prop :=
  (∀ (k0_h1 : k0_cond1 i = 1#1), ∀ a, (k0_off800 v21515) a + S1x16x128.size a ≤ S16384x16x128.size a)
theorem k0_off800_inb : ∀ (i : grid0.Coords) (v21515 : BitVec 32) (k0_hw800 : k0_chk800 i v21515), ∀ (k0_h1 : k0_cond1 i = 1#1), ∀ a, (k0_off800 v21515) a + S1x16x128.size a ≤ S16384x16x128.size a := fun i v21515 k0_hw800 k0_h1 => k0_hw800 k0_h1

def k0_off801 (v21521 : BitVec 32) : Fin 3 → Nat :=
  let c0_i32_20611 : BitVec 32 := 0#32
  let c0_i32_20612 : BitVec 32 := 0#32
  ![v21521.toNat, 0, 0]

def k0_chk801 (i : grid0.Coords) (v21521 : BitVec 32) : Prop :=
  (∀ (k0_h1 : k0_cond1 i = 1#1), ∀ a, (k0_off801 v21521) a + S1x16x128.size a ≤ S16384x16x128.size a)
theorem k0_off801_inb : ∀ (i : grid0.Coords) (v21521 : BitVec 32) (k0_hw801 : k0_chk801 i v21521), ∀ (k0_h1 : k0_cond1 i = 1#1), ∀ a, (k0_off801 v21521) a + S1x16x128.size a ≤ S16384x16x128.size a := fun i v21521 k0_hw801 k0_h1 => k0_hw801 k0_h1

def k0_off802 (v21527 : BitVec 32) : Fin 3 → Nat :=
  let c0_i32_20618 : BitVec 32 := 0#32
  let c0_i32_20619 : BitVec 32 := 0#32
  ![v21527.toNat, 0, 0]

def k0_chk802 (i : grid0.Coords) (v21527 : BitVec 32) : Prop :=
  (∀ (k0_h1 : k0_cond1 i = 1#1), ∀ a, (k0_off802 v21527) a + S1x16x128.size a ≤ S16384x16x128.size a)
theorem k0_off802_inb : ∀ (i : grid0.Coords) (v21527 : BitVec 32) (k0_hw802 : k0_chk802 i v21527), ∀ (k0_h1 : k0_cond1 i = 1#1), ∀ a, (k0_off802 v21527) a + S1x16x128.size a ≤ S16384x16x128.size a := fun i v21527 k0_hw802 k0_h1 => k0_hw802 k0_h1

def k0_off803 (v21533 : BitVec 32) : Fin 3 → Nat :=
  let c0_i32_20625 : BitVec 32 := 0#32
  let c0_i32_20626 : BitVec 32 := 0#32
  ![v21533.toNat, 0, 0]

def k0_chk803 (i : grid0.Coords) (v21533 : BitVec 32) : Prop :=
  (∀ (k0_h1 : k0_cond1 i = 1#1), ∀ a, (k0_off803 v21533) a + S1x16x128.size a ≤ S16384x16x128.size a)
theorem k0_off803_inb : ∀ (i : grid0.Coords) (v21533 : BitVec 32) (k0_hw803 : k0_chk803 i v21533), ∀ (k0_h1 : k0_cond1 i = 1#1), ∀ a, (k0_off803 v21533) a + S1x16x128.size a ≤ S16384x16x128.size a := fun i v21533 k0_hw803 k0_h1 => k0_hw803 k0_h1

def k0_off804 (v21539 : BitVec 32) : Fin 3 → Nat :=
  let c0_i32_20632 : BitVec 32 := 0#32
  let c0_i32_20633 : BitVec 32 := 0#32
  ![v21539.toNat, 0, 0]

def k0_chk804 (i : grid0.Coords) (v21539 : BitVec 32) : Prop :=
  (∀ (k0_h1 : k0_cond1 i = 1#1), ∀ a, (k0_off804 v21539) a + S1x16x128.size a ≤ S16384x16x128.size a)
theorem k0_off804_inb : ∀ (i : grid0.Coords) (v21539 : BitVec 32) (k0_hw804 : k0_chk804 i v21539), ∀ (k0_h1 : k0_cond1 i = 1#1), ∀ a, (k0_off804 v21539) a + S1x16x128.size a ≤ S16384x16x128.size a := fun i v21539 k0_hw804 k0_h1 => k0_hw804 k0_h1

def k0_off805 (v21545 : BitVec 32) : Fin 3 → Nat :=
  let c0_i32_20639 : BitVec 32 := 0#32
  let c0_i32_20640 : BitVec 32 := 0#32
  ![v21545.toNat, 0, 0]

def k0_chk805 (i : grid0.Coords) (v21545 : BitVec 32) : Prop :=
  (∀ (k0_h1 : k0_cond1 i = 1#1), ∀ a, (k0_off805 v21545) a + S1x16x128.size a ≤ S16384x16x128.size a)
theorem k0_off805_inb : ∀ (i : grid0.Coords) (v21545 : BitVec 32) (k0_hw805 : k0_chk805 i v21545), ∀ (k0_h1 : k0_cond1 i = 1#1), ∀ a, (k0_off805 v21545) a + S1x16x128.size a ≤ S16384x16x128.size a := fun i v21545 k0_hw805 k0_h1 => k0_hw805 k0_h1

def k0_off806 (v21551 : BitVec 32) : Fin 3 → Nat :=
  let c0_i32_20646 : BitVec 32 := 0#32
  let c0_i32_20647 : BitVec 32 := 0#32
  ![v21551.toNat, 0, 0]

def k0_chk806 (i : grid0.Coords) (v21551 : BitVec 32) : Prop :=
  (∀ (k0_h1 : k0_cond1 i = 1#1), ∀ a, (k0_off806 v21551) a + S1x16x128.size a ≤ S16384x16x128.size a)
theorem k0_off806_inb : ∀ (i : grid0.Coords) (v21551 : BitVec 32) (k0_hw806 : k0_chk806 i v21551), ∀ (k0_h1 : k0_cond1 i = 1#1), ∀ a, (k0_off806 v21551) a + S1x16x128.size a ≤ S16384x16x128.size a := fun i v21551 k0_hw806 k0_h1 => k0_hw806 k0_h1

def k0_off807 (v21557 : BitVec 32) : Fin 3 → Nat :=
  let c0_i32_20653 : BitVec 32 := 0#32
  let c0_i32_20654 : BitVec 32 := 0#32
  ![v21557.toNat, 0, 0]

def k0_chk807 (i : grid0.Coords) (v21557 : BitVec 32) : Prop :=
  (∀ (k0_h1 : k0_cond1 i = 1#1), ∀ a, (k0_off807 v21557) a + S1x16x128.size a ≤ S16384x16x128.size a)
theorem k0_off807_inb : ∀ (i : grid0.Coords) (v21557 : BitVec 32) (k0_hw807 : k0_chk807 i v21557), ∀ (k0_h1 : k0_cond1 i = 1#1), ∀ a, (k0_off807 v21557) a + S1x16x128.size a ≤ S16384x16x128.size a := fun i v21557 k0_hw807 k0_h1 => k0_hw807 k0_h1

def k0_off808 (v21563 : BitVec 32) : Fin 3 → Nat :=
  let c0_i32_20660 : BitVec 32 := 0#32
  let c0_i32_20661 : BitVec 32 := 0#32
  ![v21563.toNat, 0, 0]

def k0_chk808 (i : grid0.Coords) (v21563 : BitVec 32) : Prop :=
  (∀ (k0_h1 : k0_cond1 i = 1#1), ∀ a, (k0_off808 v21563) a + S1x16x128.size a ≤ S16384x16x128.size a)
theorem k0_off808_inb : ∀ (i : grid0.Coords) (v21563 : BitVec 32) (k0_hw808 : k0_chk808 i v21563), ∀ (k0_h1 : k0_cond1 i = 1#1), ∀ a, (k0_off808 v21563) a + S1x16x128.size a ≤ S16384x16x128.size a := fun i v21563 k0_hw808 k0_h1 => k0_hw808 k0_h1

def k0_off809 (v21569 : BitVec 32) : Fin 3 → Nat :=
  let c0_i32_20667 : BitVec 32 := 0#32
  let c0_i32_20668 : BitVec 32 := 0#32
  ![v21569.toNat, 0, 0]

def k0_chk809 (i : grid0.Coords) (v21569 : BitVec 32) : Prop :=
  (∀ (k0_h1 : k0_cond1 i = 1#1), ∀ a, (k0_off809 v21569) a + S1x16x128.size a ≤ S16384x16x128.size a)
theorem k0_off809_inb : ∀ (i : grid0.Coords) (v21569 : BitVec 32) (k0_hw809 : k0_chk809 i v21569), ∀ (k0_h1 : k0_cond1 i = 1#1), ∀ a, (k0_off809 v21569) a + S1x16x128.size a ≤ S16384x16x128.size a := fun i v21569 k0_hw809 k0_h1 => k0_hw809 k0_h1

def k0_off810 (v21575 : BitVec 32) : Fin 3 → Nat :=
  let c0_i32_20674 : BitVec 32 := 0#32
  let c0_i32_20675 : BitVec 32 := 0#32
  ![v21575.toNat, 0, 0]

def k0_chk810 (i : grid0.Coords) (v21575 : BitVec 32) : Prop :=
  (∀ (k0_h1 : k0_cond1 i = 1#1), ∀ a, (k0_off810 v21575) a + S1x16x128.size a ≤ S16384x16x128.size a)
theorem k0_off810_inb : ∀ (i : grid0.Coords) (v21575 : BitVec 32) (k0_hw810 : k0_chk810 i v21575), ∀ (k0_h1 : k0_cond1 i = 1#1), ∀ a, (k0_off810 v21575) a + S1x16x128.size a ≤ S16384x16x128.size a := fun i v21575 k0_hw810 k0_h1 => k0_hw810 k0_h1

def k0_off811 (v21581 : BitVec 32) : Fin 3 → Nat :=
  let c0_i32_20681 : BitVec 32 := 0#32
  let c0_i32_20682 : BitVec 32 := 0#32
  ![v21581.toNat, 0, 0]

def k0_chk811 (i : grid0.Coords) (v21581 : BitVec 32) : Prop :=
  (∀ (k0_h1 : k0_cond1 i = 1#1), ∀ a, (k0_off811 v21581) a + S1x16x128.size a ≤ S16384x16x128.size a)
theorem k0_off811_inb : ∀ (i : grid0.Coords) (v21581 : BitVec 32) (k0_hw811 : k0_chk811 i v21581), ∀ (k0_h1 : k0_cond1 i = 1#1), ∀ a, (k0_off811 v21581) a + S1x16x128.size a ≤ S16384x16x128.size a := fun i v21581 k0_hw811 k0_h1 => k0_hw811 k0_h1

def k0_off812 (v21587 : BitVec 32) : Fin 3 → Nat :=
  let c0_i32_20688 : BitVec 32 := 0#32
  let c0_i32_20689 : BitVec 32 := 0#32
  ![v21587.toNat, 0, 0]

def k0_chk812 (i : grid0.Coords) (v21587 : BitVec 32) : Prop :=
  (∀ (k0_h1 : k0_cond1 i = 1#1), ∀ a, (k0_off812 v21587) a + S1x16x128.size a ≤ S16384x16x128.size a)
theorem k0_off812_inb : ∀ (i : grid0.Coords) (v21587 : BitVec 32) (k0_hw812 : k0_chk812 i v21587), ∀ (k0_h1 : k0_cond1 i = 1#1), ∀ a, (k0_off812 v21587) a + S1x16x128.size a ≤ S16384x16x128.size a := fun i v21587 k0_hw812 k0_h1 => k0_hw812 k0_h1

def k0_off813 (v21593 : BitVec 32) : Fin 3 → Nat :=
  let c0_i32_20695 : BitVec 32 := 0#32
  let c0_i32_20696 : BitVec 32 := 0#32
  ![v21593.toNat, 0, 0]

def k0_chk813 (i : grid0.Coords) (v21593 : BitVec 32) : Prop :=
  (∀ (k0_h1 : k0_cond1 i = 1#1), ∀ a, (k0_off813 v21593) a + S1x16x128.size a ≤ S16384x16x128.size a)
theorem k0_off813_inb : ∀ (i : grid0.Coords) (v21593 : BitVec 32) (k0_hw813 : k0_chk813 i v21593), ∀ (k0_h1 : k0_cond1 i = 1#1), ∀ a, (k0_off813 v21593) a + S1x16x128.size a ≤ S16384x16x128.size a := fun i v21593 k0_hw813 k0_h1 => k0_hw813 k0_h1

def k0_off814 (v21599 : BitVec 32) : Fin 3 → Nat :=
  let c0_i32_20702 : BitVec 32 := 0#32
  let c0_i32_20703 : BitVec 32 := 0#32
  ![v21599.toNat, 0, 0]

def k0_chk814 (i : grid0.Coords) (v21599 : BitVec 32) : Prop :=
  (∀ (k0_h1 : k0_cond1 i = 1#1), ∀ a, (k0_off814 v21599) a + S1x16x128.size a ≤ S16384x16x128.size a)
theorem k0_off814_inb : ∀ (i : grid0.Coords) (v21599 : BitVec 32) (k0_hw814 : k0_chk814 i v21599), ∀ (k0_h1 : k0_cond1 i = 1#1), ∀ a, (k0_off814 v21599) a + S1x16x128.size a ≤ S16384x16x128.size a := fun i v21599 k0_hw814 k0_h1 => k0_hw814 k0_h1

def k0_off815 (v21605 : BitVec 32) : Fin 3 → Nat :=
  let c0_i32_20709 : BitVec 32 := 0#32
  let c0_i32_20710 : BitVec 32 := 0#32
  ![v21605.toNat, 0, 0]

def k0_chk815 (i : grid0.Coords) (v21605 : BitVec 32) : Prop :=
  (∀ (k0_h1 : k0_cond1 i = 1#1), ∀ a, (k0_off815 v21605) a + S1x16x128.size a ≤ S16384x16x128.size a)
theorem k0_off815_inb : ∀ (i : grid0.Coords) (v21605 : BitVec 32) (k0_hw815 : k0_chk815 i v21605), ∀ (k0_h1 : k0_cond1 i = 1#1), ∀ a, (k0_off815 v21605) a + S1x16x128.size a ≤ S16384x16x128.size a := fun i v21605 k0_hw815 k0_h1 => k0_hw815 k0_h1

def k0_off816 (v21611 : BitVec 32) : Fin 3 → Nat :=
  let c0_i32_20716 : BitVec 32 := 0#32
  let c0_i32_20717 : BitVec 32 := 0#32
  ![v21611.toNat, 0, 0]

def k0_chk816 (i : grid0.Coords) (v21611 : BitVec 32) : Prop :=
  (∀ (k0_h1 : k0_cond1 i = 1#1), ∀ a, (k0_off816 v21611) a + S1x16x128.size a ≤ S16384x16x128.size a)
theorem k0_off816_inb : ∀ (i : grid0.Coords) (v21611 : BitVec 32) (k0_hw816 : k0_chk816 i v21611), ∀ (k0_h1 : k0_cond1 i = 1#1), ∀ a, (k0_off816 v21611) a + S1x16x128.size a ≤ S16384x16x128.size a := fun i v21611 k0_hw816 k0_h1 => k0_hw816 k0_h1

def k0_off817 (v21617 : BitVec 32) : Fin 3 → Nat :=
  let c0_i32_20723 : BitVec 32 := 0#32
  let c0_i32_20724 : BitVec 32 := 0#32
  ![v21617.toNat, 0, 0]

def k0_chk817 (i : grid0.Coords) (v21617 : BitVec 32) : Prop :=
  (∀ (k0_h1 : k0_cond1 i = 1#1), ∀ a, (k0_off817 v21617) a + S1x16x128.size a ≤ S16384x16x128.size a)
theorem k0_off817_inb : ∀ (i : grid0.Coords) (v21617 : BitVec 32) (k0_hw817 : k0_chk817 i v21617), ∀ (k0_h1 : k0_cond1 i = 1#1), ∀ a, (k0_off817 v21617) a + S1x16x128.size a ≤ S16384x16x128.size a := fun i v21617 k0_hw817 k0_h1 => k0_hw817 k0_h1

def k0_off818 (v21623 : BitVec 32) : Fin 3 → Nat :=
  let c0_i32_20730 : BitVec 32 := 0#32
  let c0_i32_20731 : BitVec 32 := 0#32
  ![v21623.toNat, 0, 0]

def k0_chk818 (i : grid0.Coords) (v21623 : BitVec 32) : Prop :=
  (∀ (k0_h1 : k0_cond1 i = 1#1), ∀ a, (k0_off818 v21623) a + S1x16x128.size a ≤ S16384x16x128.size a)
theorem k0_off818_inb : ∀ (i : grid0.Coords) (v21623 : BitVec 32) (k0_hw818 : k0_chk818 i v21623), ∀ (k0_h1 : k0_cond1 i = 1#1), ∀ a, (k0_off818 v21623) a + S1x16x128.size a ≤ S16384x16x128.size a := fun i v21623 k0_hw818 k0_h1 => k0_hw818 k0_h1

def k0_off819 (v21629 : BitVec 32) : Fin 3 → Nat :=
  let c0_i32_20737 : BitVec 32 := 0#32
  let c0_i32_20738 : BitVec 32 := 0#32
  ![v21629.toNat, 0, 0]

def k0_chk819 (i : grid0.Coords) (v21629 : BitVec 32) : Prop :=
  (∀ (k0_h1 : k0_cond1 i = 1#1), ∀ a, (k0_off819 v21629) a + S1x16x128.size a ≤ S16384x16x128.size a)
theorem k0_off819_inb : ∀ (i : grid0.Coords) (v21629 : BitVec 32) (k0_hw819 : k0_chk819 i v21629), ∀ (k0_h1 : k0_cond1 i = 1#1), ∀ a, (k0_off819 v21629) a + S1x16x128.size a ≤ S16384x16x128.size a := fun i v21629 k0_hw819 k0_h1 => k0_hw819 k0_h1

def k0_off820 (v21635 : BitVec 32) : Fin 3 → Nat :=
  let c0_i32_20744 : BitVec 32 := 0#32
  let c0_i32_20745 : BitVec 32 := 0#32
  ![v21635.toNat, 0, 0]

def k0_chk820 (i : grid0.Coords) (v21635 : BitVec 32) : Prop :=
  (∀ (k0_h1 : k0_cond1 i = 1#1), ∀ a, (k0_off820 v21635) a + S1x16x128.size a ≤ S16384x16x128.size a)
theorem k0_off820_inb : ∀ (i : grid0.Coords) (v21635 : BitVec 32) (k0_hw820 : k0_chk820 i v21635), ∀ (k0_h1 : k0_cond1 i = 1#1), ∀ a, (k0_off820 v21635) a + S1x16x128.size a ≤ S16384x16x128.size a := fun i v21635 k0_hw820 k0_h1 => k0_hw820 k0_h1

def k0_off821 (v21641 : BitVec 32) : Fin 3 → Nat :=
  let c0_i32_20751 : BitVec 32 := 0#32
  let c0_i32_20752 : BitVec 32 := 0#32
  ![v21641.toNat, 0, 0]

def k0_chk821 (i : grid0.Coords) (v21641 : BitVec 32) : Prop :=
  (∀ (k0_h1 : k0_cond1 i = 1#1), ∀ a, (k0_off821 v21641) a + S1x16x128.size a ≤ S16384x16x128.size a)
theorem k0_off821_inb : ∀ (i : grid0.Coords) (v21641 : BitVec 32) (k0_hw821 : k0_chk821 i v21641), ∀ (k0_h1 : k0_cond1 i = 1#1), ∀ a, (k0_off821 v21641) a + S1x16x128.size a ≤ S16384x16x128.size a := fun i v21641 k0_hw821 k0_h1 => k0_hw821 k0_h1

def k0_off822 (v21647 : BitVec 32) : Fin 3 → Nat :=
  let c0_i32_20758 : BitVec 32 := 0#32
  let c0_i32_20759 : BitVec 32 := 0#32
  ![v21647.toNat, 0, 0]

def k0_chk822 (i : grid0.Coords) (v21647 : BitVec 32) : Prop :=
  (∀ (k0_h1 : k0_cond1 i = 1#1), ∀ a, (k0_off822 v21647) a + S1x16x128.size a ≤ S16384x16x128.size a)
theorem k0_off822_inb : ∀ (i : grid0.Coords) (v21647 : BitVec 32) (k0_hw822 : k0_chk822 i v21647), ∀ (k0_h1 : k0_cond1 i = 1#1), ∀ a, (k0_off822 v21647) a + S1x16x128.size a ≤ S16384x16x128.size a := fun i v21647 k0_hw822 k0_h1 => k0_hw822 k0_h1

def k0_off823 (v21653 : BitVec 32) : Fin 3 → Nat :=
  let c0_i32_20765 : BitVec 32 := 0#32
  let c0_i32_20766 : BitVec 32 := 0#32
  ![v21653.toNat, 0, 0]

def k0_chk823 (i : grid0.Coords) (v21653 : BitVec 32) : Prop :=
  (∀ (k0_h1 : k0_cond1 i = 1#1), ∀ a, (k0_off823 v21653) a + S1x16x128.size a ≤ S16384x16x128.size a)
theorem k0_off823_inb : ∀ (i : grid0.Coords) (v21653 : BitVec 32) (k0_hw823 : k0_chk823 i v21653), ∀ (k0_h1 : k0_cond1 i = 1#1), ∀ a, (k0_off823 v21653) a + S1x16x128.size a ≤ S16384x16x128.size a := fun i v21653 k0_hw823 k0_h1 => k0_hw823 k0_h1

def k0_off824 (v21659 : BitVec 32) : Fin 3 → Nat :=
  let c0_i32_20772 : BitVec 32 := 0#32
  let c0_i32_20773 : BitVec 32 := 0#32
  ![v21659.toNat, 0, 0]

def k0_chk824 (i : grid0.Coords) (v21659 : BitVec 32) : Prop :=
  (∀ (k0_h1 : k0_cond1 i = 1#1), ∀ a, (k0_off824 v21659) a + S1x16x128.size a ≤ S16384x16x128.size a)
theorem k0_off824_inb : ∀ (i : grid0.Coords) (v21659 : BitVec 32) (k0_hw824 : k0_chk824 i v21659), ∀ (k0_h1 : k0_cond1 i = 1#1), ∀ a, (k0_off824 v21659) a + S1x16x128.size a ≤ S16384x16x128.size a := fun i v21659 k0_hw824 k0_h1 => k0_hw824 k0_h1

def k0_off825 (v21665 : BitVec 32) : Fin 3 → Nat :=
  let c0_i32_20779 : BitVec 32 := 0#32
  let c0_i32_20780 : BitVec 32 := 0#32
  ![v21665.toNat, 0, 0]

def k0_chk825 (i : grid0.Coords) (v21665 : BitVec 32) : Prop :=
  (∀ (k0_h1 : k0_cond1 i = 1#1), ∀ a, (k0_off825 v21665) a + S1x16x128.size a ≤ S16384x16x128.size a)
theorem k0_off825_inb : ∀ (i : grid0.Coords) (v21665 : BitVec 32) (k0_hw825 : k0_chk825 i v21665), ∀ (k0_h1 : k0_cond1 i = 1#1), ∀ a, (k0_off825 v21665) a + S1x16x128.size a ≤ S16384x16x128.size a := fun i v21665 k0_hw825 k0_h1 => k0_hw825 k0_h1

def k0_off826 (v21671 : BitVec 32) : Fin 3 → Nat :=
  let c0_i32_20786 : BitVec 32 := 0#32
  let c0_i32_20787 : BitVec 32 := 0#32
  ![v21671.toNat, 0, 0]

def k0_chk826 (i : grid0.Coords) (v21671 : BitVec 32) : Prop :=
  (∀ (k0_h1 : k0_cond1 i = 1#1), ∀ a, (k0_off826 v21671) a + S1x16x128.size a ≤ S16384x16x128.size a)
theorem k0_off826_inb : ∀ (i : grid0.Coords) (v21671 : BitVec 32) (k0_hw826 : k0_chk826 i v21671), ∀ (k0_h1 : k0_cond1 i = 1#1), ∀ a, (k0_off826 v21671) a + S1x16x128.size a ≤ S16384x16x128.size a := fun i v21671 k0_hw826 k0_h1 => k0_hw826 k0_h1

def k0_off827 (v21677 : BitVec 32) : Fin 3 → Nat :=
  let c0_i32_20793 : BitVec 32 := 0#32
  let c0_i32_20794 : BitVec 32 := 0#32
  ![v21677.toNat, 0, 0]

def k0_chk827 (i : grid0.Coords) (v21677 : BitVec 32) : Prop :=
  (∀ (k0_h1 : k0_cond1 i = 1#1), ∀ a, (k0_off827 v21677) a + S1x16x128.size a ≤ S16384x16x128.size a)
theorem k0_off827_inb : ∀ (i : grid0.Coords) (v21677 : BitVec 32) (k0_hw827 : k0_chk827 i v21677), ∀ (k0_h1 : k0_cond1 i = 1#1), ∀ a, (k0_off827 v21677) a + S1x16x128.size a ≤ S16384x16x128.size a := fun i v21677 k0_hw827 k0_h1 => k0_hw827 k0_h1

def k0_off828 (v21683 : BitVec 32) : Fin 3 → Nat :=
  let c0_i32_20800 : BitVec 32 := 0#32
  let c0_i32_20801 : BitVec 32 := 0#32
  ![v21683.toNat, 0, 0]

def k0_chk828 (i : grid0.Coords) (v21683 : BitVec 32) : Prop :=
  (∀ (k0_h1 : k0_cond1 i = 1#1), ∀ a, (k0_off828 v21683) a + S1x16x128.size a ≤ S16384x16x128.size a)
theorem k0_off828_inb : ∀ (i : grid0.Coords) (v21683 : BitVec 32) (k0_hw828 : k0_chk828 i v21683), ∀ (k0_h1 : k0_cond1 i = 1#1), ∀ a, (k0_off828 v21683) a + S1x16x128.size a ≤ S16384x16x128.size a := fun i v21683 k0_hw828 k0_h1 => k0_hw828 k0_h1

def k0_off829 (v21689 : BitVec 32) : Fin 3 → Nat :=
  let c0_i32_20807 : BitVec 32 := 0#32
  let c0_i32_20808 : BitVec 32 := 0#32
  ![v21689.toNat, 0, 0]

def k0_chk829 (i : grid0.Coords) (v21689 : BitVec 32) : Prop :=
  (∀ (k0_h1 : k0_cond1 i = 1#1), ∀ a, (k0_off829 v21689) a + S1x16x128.size a ≤ S16384x16x128.size a)
theorem k0_off829_inb : ∀ (i : grid0.Coords) (v21689 : BitVec 32) (k0_hw829 : k0_chk829 i v21689), ∀ (k0_h1 : k0_cond1 i = 1#1), ∀ a, (k0_off829 v21689) a + S1x16x128.size a ≤ S16384x16x128.size a := fun i v21689 k0_hw829 k0_h1 => k0_hw829 k0_h1

def k0_off830 (v21695 : BitVec 32) : Fin 3 → Nat :=
  let c0_i32_20814 : BitVec 32 := 0#32
  let c0_i32_20815 : BitVec 32 := 0#32
  ![v21695.toNat, 0, 0]

def k0_chk830 (i : grid0.Coords) (v21695 : BitVec 32) : Prop :=
  (∀ (k0_h1 : k0_cond1 i = 1#1), ∀ a, (k0_off830 v21695) a + S1x16x128.size a ≤ S16384x16x128.size a)
theorem k0_off830_inb : ∀ (i : grid0.Coords) (v21695 : BitVec 32) (k0_hw830 : k0_chk830 i v21695), ∀ (k0_h1 : k0_cond1 i = 1#1), ∀ a, (k0_off830 v21695) a + S1x16x128.size a ≤ S16384x16x128.size a := fun i v21695 k0_hw830 k0_h1 => k0_hw830 k0_h1

def k0_off831 (v21701 : BitVec 32) : Fin 3 → Nat :=
  let c0_i32_20821 : BitVec 32 := 0#32
  let c0_i32_20822 : BitVec 32 := 0#32
  ![v21701.toNat, 0, 0]

def k0_chk831 (i : grid0.Coords) (v21701 : BitVec 32) : Prop :=
  (∀ (k0_h1 : k0_cond1 i = 1#1), ∀ a, (k0_off831 v21701) a + S1x16x128.size a ≤ S16384x16x128.size a)
theorem k0_off831_inb : ∀ (i : grid0.Coords) (v21701 : BitVec 32) (k0_hw831 : k0_chk831 i v21701), ∀ (k0_h1 : k0_cond1 i = 1#1), ∀ a, (k0_off831 v21701) a + S1x16x128.size a ≤ S16384x16x128.size a := fun i v21701 k0_hw831 k0_h1 => k0_hw831 k0_h1

def k0_off832 (v21707 : BitVec 32) : Fin 3 → Nat :=
  let c0_i32_20828 : BitVec 32 := 0#32
  let c0_i32_20829 : BitVec 32 := 0#32
  ![v21707.toNat, 0, 0]

def k0_chk832 (i : grid0.Coords) (v21707 : BitVec 32) : Prop :=
  (∀ (k0_h1 : k0_cond1 i = 1#1), ∀ a, (k0_off832 v21707) a + S1x16x128.size a ≤ S16384x16x128.size a)
theorem k0_off832_inb : ∀ (i : grid0.Coords) (v21707 : BitVec 32) (k0_hw832 : k0_chk832 i v21707), ∀ (k0_h1 : k0_cond1 i = 1#1), ∀ a, (k0_off832 v21707) a + S1x16x128.size a ≤ S16384x16x128.size a := fun i v21707 k0_hw832 k0_h1 => k0_hw832 k0_h1

def k0_off833 (v21713 : BitVec 32) : Fin 3 → Nat :=
  let c0_i32_20835 : BitVec 32 := 0#32
  let c0_i32_20836 : BitVec 32 := 0#32
  ![v21713.toNat, 0, 0]

def k0_chk833 (i : grid0.Coords) (v21713 : BitVec 32) : Prop :=
  (∀ (k0_h1 : k0_cond1 i = 1#1), ∀ a, (k0_off833 v21713) a + S1x16x128.size a ≤ S16384x16x128.size a)
theorem k0_off833_inb : ∀ (i : grid0.Coords) (v21713 : BitVec 32) (k0_hw833 : k0_chk833 i v21713), ∀ (k0_h1 : k0_cond1 i = 1#1), ∀ a, (k0_off833 v21713) a + S1x16x128.size a ≤ S16384x16x128.size a := fun i v21713 k0_hw833 k0_h1 => k0_hw833 k0_h1

def k0_off834 (v21719 : BitVec 32) : Fin 3 → Nat :=
  let c0_i32_20842 : BitVec 32 := 0#32
  let c0_i32_20843 : BitVec 32 := 0#32
  ![v21719.toNat, 0, 0]

def k0_chk834 (i : grid0.Coords) (v21719 : BitVec 32) : Prop :=
  (∀ (k0_h1 : k0_cond1 i = 1#1), ∀ a, (k0_off834 v21719) a + S1x16x128.size a ≤ S16384x16x128.size a)
theorem k0_off834_inb : ∀ (i : grid0.Coords) (v21719 : BitVec 32) (k0_hw834 : k0_chk834 i v21719), ∀ (k0_h1 : k0_cond1 i = 1#1), ∀ a, (k0_off834 v21719) a + S1x16x128.size a ≤ S16384x16x128.size a := fun i v21719 k0_hw834 k0_h1 => k0_hw834 k0_h1

def k0_off835 (v21725 : BitVec 32) : Fin 3 → Nat :=
  let c0_i32_20849 : BitVec 32 := 0#32
  let c0_i32_20850 : BitVec 32 := 0#32
  ![v21725.toNat, 0, 0]

def k0_chk835 (i : grid0.Coords) (v21725 : BitVec 32) : Prop :=
  (∀ (k0_h1 : k0_cond1 i = 1#1), ∀ a, (k0_off835 v21725) a + S1x16x128.size a ≤ S16384x16x128.size a)
theorem k0_off835_inb : ∀ (i : grid0.Coords) (v21725 : BitVec 32) (k0_hw835 : k0_chk835 i v21725), ∀ (k0_h1 : k0_cond1 i = 1#1), ∀ a, (k0_off835 v21725) a + S1x16x128.size a ≤ S16384x16x128.size a := fun i v21725 k0_hw835 k0_h1 => k0_hw835 k0_h1

def k0_off836 (v21731 : BitVec 32) : Fin 3 → Nat :=
  let c0_i32_20856 : BitVec 32 := 0#32
  let c0_i32_20857 : BitVec 32 := 0#32
  ![v21731.toNat, 0, 0]

def k0_chk836 (i : grid0.Coords) (v21731 : BitVec 32) : Prop :=
  (∀ (k0_h1 : k0_cond1 i = 1#1), ∀ a, (k0_off836 v21731) a + S1x16x128.size a ≤ S16384x16x128.size a)
theorem k0_off836_inb : ∀ (i : grid0.Coords) (v21731 : BitVec 32) (k0_hw836 : k0_chk836 i v21731), ∀ (k0_h1 : k0_cond1 i = 1#1), ∀ a, (k0_off836 v21731) a + S1x16x128.size a ≤ S16384x16x128.size a := fun i v21731 k0_hw836 k0_h1 => k0_hw836 k0_h1

def k0_off837 (v21737 : BitVec 32) : Fin 3 → Nat :=
  let c0_i32_20863 : BitVec 32 := 0#32
  let c0_i32_20864 : BitVec 32 := 0#32
  ![v21737.toNat, 0, 0]

def k0_chk837 (i : grid0.Coords) (v21737 : BitVec 32) : Prop :=
  (∀ (k0_h1 : k0_cond1 i = 1#1), ∀ a, (k0_off837 v21737) a + S1x16x128.size a ≤ S16384x16x128.size a)
theorem k0_off837_inb : ∀ (i : grid0.Coords) (v21737 : BitVec 32) (k0_hw837 : k0_chk837 i v21737), ∀ (k0_h1 : k0_cond1 i = 1#1), ∀ a, (k0_off837 v21737) a + S1x16x128.size a ≤ S16384x16x128.size a := fun i v21737 k0_hw837 k0_h1 => k0_hw837 k0_h1

def k0_off838 (v21743 : BitVec 32) : Fin 3 → Nat :=
  let c0_i32_20870 : BitVec 32 := 0#32
  let c0_i32_20871 : BitVec 32 := 0#32
  ![v21743.toNat, 0, 0]

def k0_chk838 (i : grid0.Coords) (v21743 : BitVec 32) : Prop :=
  (∀ (k0_h1 : k0_cond1 i = 1#1), ∀ a, (k0_off838 v21743) a + S1x16x128.size a ≤ S16384x16x128.size a)
theorem k0_off838_inb : ∀ (i : grid0.Coords) (v21743 : BitVec 32) (k0_hw838 : k0_chk838 i v21743), ∀ (k0_h1 : k0_cond1 i = 1#1), ∀ a, (k0_off838 v21743) a + S1x16x128.size a ≤ S16384x16x128.size a := fun i v21743 k0_hw838 k0_h1 => k0_hw838 k0_h1

def k0_off839 (v21749 : BitVec 32) : Fin 3 → Nat :=
  let c0_i32_20877 : BitVec 32 := 0#32
  let c0_i32_20878 : BitVec 32 := 0#32
  ![v21749.toNat, 0, 0]

def k0_chk839 (i : grid0.Coords) (v21749 : BitVec 32) : Prop :=
  (∀ (k0_h1 : k0_cond1 i = 1#1), ∀ a, (k0_off839 v21749) a + S1x16x128.size a ≤ S16384x16x128.size a)
theorem k0_off839_inb : ∀ (i : grid0.Coords) (v21749 : BitVec 32) (k0_hw839 : k0_chk839 i v21749), ∀ (k0_h1 : k0_cond1 i = 1#1), ∀ a, (k0_off839 v21749) a + S1x16x128.size a ≤ S16384x16x128.size a := fun i v21749 k0_hw839 k0_h1 => k0_hw839 k0_h1

def k0_off840 (v21755 : BitVec 32) : Fin 3 → Nat :=
  let c0_i32_20884 : BitVec 32 := 0#32
  let c0_i32_20885 : BitVec 32 := 0#32
  ![v21755.toNat, 0, 0]

def k0_chk840 (i : grid0.Coords) (v21755 : BitVec 32) : Prop :=
  (∀ (k0_h1 : k0_cond1 i = 1#1), ∀ a, (k0_off840 v21755) a + S1x16x128.size a ≤ S16384x16x128.size a)
theorem k0_off840_inb : ∀ (i : grid0.Coords) (v21755 : BitVec 32) (k0_hw840 : k0_chk840 i v21755), ∀ (k0_h1 : k0_cond1 i = 1#1), ∀ a, (k0_off840 v21755) a + S1x16x128.size a ≤ S16384x16x128.size a := fun i v21755 k0_hw840 k0_h1 => k0_hw840 k0_h1

def k0_off841 (v21761 : BitVec 32) : Fin 3 → Nat :=
  let c0_i32_20891 : BitVec 32 := 0#32
  let c0_i32_20892 : BitVec 32 := 0#32
  ![v21761.toNat, 0, 0]

def k0_chk841 (i : grid0.Coords) (v21761 : BitVec 32) : Prop :=
  (∀ (k0_h1 : k0_cond1 i = 1#1), ∀ a, (k0_off841 v21761) a + S1x16x128.size a ≤ S16384x16x128.size a)
theorem k0_off841_inb : ∀ (i : grid0.Coords) (v21761 : BitVec 32) (k0_hw841 : k0_chk841 i v21761), ∀ (k0_h1 : k0_cond1 i = 1#1), ∀ a, (k0_off841 v21761) a + S1x16x128.size a ≤ S16384x16x128.size a := fun i v21761 k0_hw841 k0_h1 => k0_hw841 k0_h1

def k0_off842 (v21767 : BitVec 32) : Fin 3 → Nat :=
  let c0_i32_20898 : BitVec 32 := 0#32
  let c0_i32_20899 : BitVec 32 := 0#32
  ![v21767.toNat, 0, 0]

def k0_chk842 (i : grid0.Coords) (v21767 : BitVec 32) : Prop :=
  (∀ (k0_h1 : k0_cond1 i = 1#1), ∀ a, (k0_off842 v21767) a + S1x16x128.size a ≤ S16384x16x128.size a)
theorem k0_off842_inb : ∀ (i : grid0.Coords) (v21767 : BitVec 32) (k0_hw842 : k0_chk842 i v21767), ∀ (k0_h1 : k0_cond1 i = 1#1), ∀ a, (k0_off842 v21767) a + S1x16x128.size a ≤ S16384x16x128.size a := fun i v21767 k0_hw842 k0_h1 => k0_hw842 k0_h1

def k0_off843 (v21773 : BitVec 32) : Fin 3 → Nat :=
  let c0_i32_20905 : BitVec 32 := 0#32
  let c0_i32_20906 : BitVec 32 := 0#32
  ![v21773.toNat, 0, 0]

def k0_chk843 (i : grid0.Coords) (v21773 : BitVec 32) : Prop :=
  (∀ (k0_h1 : k0_cond1 i = 1#1), ∀ a, (k0_off843 v21773) a + S1x16x128.size a ≤ S16384x16x128.size a)
theorem k0_off843_inb : ∀ (i : grid0.Coords) (v21773 : BitVec 32) (k0_hw843 : k0_chk843 i v21773), ∀ (k0_h1 : k0_cond1 i = 1#1), ∀ a, (k0_off843 v21773) a + S1x16x128.size a ≤ S16384x16x128.size a := fun i v21773 k0_hw843 k0_h1 => k0_hw843 k0_h1

def k0_off844 (v21779 : BitVec 32) : Fin 3 → Nat :=
  let c0_i32_20912 : BitVec 32 := 0#32
  let c0_i32_20913 : BitVec 32 := 0#32
  ![v21779.toNat, 0, 0]

def k0_chk844 (i : grid0.Coords) (v21779 : BitVec 32) : Prop :=
  (∀ (k0_h1 : k0_cond1 i = 1#1), ∀ a, (k0_off844 v21779) a + S1x16x128.size a ≤ S16384x16x128.size a)
theorem k0_off844_inb : ∀ (i : grid0.Coords) (v21779 : BitVec 32) (k0_hw844 : k0_chk844 i v21779), ∀ (k0_h1 : k0_cond1 i = 1#1), ∀ a, (k0_off844 v21779) a + S1x16x128.size a ≤ S16384x16x128.size a := fun i v21779 k0_hw844 k0_h1 => k0_hw844 k0_h1

def k0_off845 (v21785 : BitVec 32) : Fin 3 → Nat :=
  let c0_i32_20919 : BitVec 32 := 0#32
  let c0_i32_20920 : BitVec 32 := 0#32
  ![v21785.toNat, 0, 0]

def k0_chk845 (i : grid0.Coords) (v21785 : BitVec 32) : Prop :=
  (∀ (k0_h1 : k0_cond1 i = 1#1), ∀ a, (k0_off845 v21785) a + S1x16x128.size a ≤ S16384x16x128.size a)
theorem k0_off845_inb : ∀ (i : grid0.Coords) (v21785 : BitVec 32) (k0_hw845 : k0_chk845 i v21785), ∀ (k0_h1 : k0_cond1 i = 1#1), ∀ a, (k0_off845 v21785) a + S1x16x128.size a ≤ S16384x16x128.size a := fun i v21785 k0_hw845 k0_h1 => k0_hw845 k0_h1

def k0_off846 (v21791 : BitVec 32) : Fin 3 → Nat :=
  let c0_i32_20926 : BitVec 32 := 0#32
  let c0_i32_20927 : BitVec 32 := 0#32
  ![v21791.toNat, 0, 0]

def k0_chk846 (i : grid0.Coords) (v21791 : BitVec 32) : Prop :=
  (∀ (k0_h1 : k0_cond1 i = 1#1), ∀ a, (k0_off846 v21791) a + S1x16x128.size a ≤ S16384x16x128.size a)
theorem k0_off846_inb : ∀ (i : grid0.Coords) (v21791 : BitVec 32) (k0_hw846 : k0_chk846 i v21791), ∀ (k0_h1 : k0_cond1 i = 1#1), ∀ a, (k0_off846 v21791) a + S1x16x128.size a ≤ S16384x16x128.size a := fun i v21791 k0_hw846 k0_h1 => k0_hw846 k0_h1

def k0_off847 (v21797 : BitVec 32) : Fin 3 → Nat :=
  let c0_i32_20933 : BitVec 32 := 0#32
  let c0_i32_20934 : BitVec 32 := 0#32
  ![v21797.toNat, 0, 0]

def k0_chk847 (i : grid0.Coords) (v21797 : BitVec 32) : Prop :=
  (∀ (k0_h1 : k0_cond1 i = 1#1), ∀ a, (k0_off847 v21797) a + S1x16x128.size a ≤ S16384x16x128.size a)
theorem k0_off847_inb : ∀ (i : grid0.Coords) (v21797 : BitVec 32) (k0_hw847 : k0_chk847 i v21797), ∀ (k0_h1 : k0_cond1 i = 1#1), ∀ a, (k0_off847 v21797) a + S1x16x128.size a ≤ S16384x16x128.size a := fun i v21797 k0_hw847 k0_h1 => k0_hw847 k0_h1

def k0_off848 (v21803 : BitVec 32) : Fin 3 → Nat :=
  let c0_i32_20940 : BitVec 32 := 0#32
  let c0_i32_20941 : BitVec 32 := 0#32
  ![v21803.toNat, 0, 0]

def k0_chk848 (i : grid0.Coords) (v21803 : BitVec 32) : Prop :=
  (∀ (k0_h1 : k0_cond1 i = 1#1), ∀ a, (k0_off848 v21803) a + S1x16x128.size a ≤ S16384x16x128.size a)
theorem k0_off848_inb : ∀ (i : grid0.Coords) (v21803 : BitVec 32) (k0_hw848 : k0_chk848 i v21803), ∀ (k0_h1 : k0_cond1 i = 1#1), ∀ a, (k0_off848 v21803) a + S1x16x128.size a ≤ S16384x16x128.size a := fun i v21803 k0_hw848 k0_h1 => k0_hw848 k0_h1

def k0_off849 (v21809 : BitVec 32) : Fin 3 → Nat :=
  let c0_i32_20947 : BitVec 32 := 0#32
  let c0_i32_20948 : BitVec 32 := 0#32
  ![v21809.toNat, 0, 0]

def k0_chk849 (i : grid0.Coords) (v21809 : BitVec 32) : Prop :=
  (∀ (k0_h1 : k0_cond1 i = 1#1), ∀ a, (k0_off849 v21809) a + S1x16x128.size a ≤ S16384x16x128.size a)
theorem k0_off849_inb : ∀ (i : grid0.Coords) (v21809 : BitVec 32) (k0_hw849 : k0_chk849 i v21809), ∀ (k0_h1 : k0_cond1 i = 1#1), ∀ a, (k0_off849 v21809) a + S1x16x128.size a ≤ S16384x16x128.size a := fun i v21809 k0_hw849 k0_h1 => k0_hw849 k0_h1

def k0_off850 (v21815 : BitVec 32) : Fin 3 → Nat :=
  let c0_i32_20954 : BitVec 32 := 0#32
  let c0_i32_20955 : BitVec 32 := 0#32
  ![v21815.toNat, 0, 0]

def k0_chk850 (i : grid0.Coords) (v21815 : BitVec 32) : Prop :=
  (∀ (k0_h1 : k0_cond1 i = 1#1), ∀ a, (k0_off850 v21815) a + S1x16x128.size a ≤ S16384x16x128.size a)
theorem k0_off850_inb : ∀ (i : grid0.Coords) (v21815 : BitVec 32) (k0_hw850 : k0_chk850 i v21815), ∀ (k0_h1 : k0_cond1 i = 1#1), ∀ a, (k0_off850 v21815) a + S1x16x128.size a ≤ S16384x16x128.size a := fun i v21815 k0_hw850 k0_h1 => k0_hw850 k0_h1

def k0_off851 (v21821 : BitVec 32) : Fin 3 → Nat :=
  let c0_i32_20961 : BitVec 32 := 0#32
  let c0_i32_20962 : BitVec 32 := 0#32
  ![v21821.toNat, 0, 0]

def k0_chk851 (i : grid0.Coords) (v21821 : BitVec 32) : Prop :=
  (∀ (k0_h1 : k0_cond1 i = 1#1), ∀ a, (k0_off851 v21821) a + S1x16x128.size a ≤ S16384x16x128.size a)
theorem k0_off851_inb : ∀ (i : grid0.Coords) (v21821 : BitVec 32) (k0_hw851 : k0_chk851 i v21821), ∀ (k0_h1 : k0_cond1 i = 1#1), ∀ a, (k0_off851 v21821) a + S1x16x128.size a ≤ S16384x16x128.size a := fun i v21821 k0_hw851 k0_h1 => k0_hw851 k0_h1

def k0_off852 (v21827 : BitVec 32) : Fin 3 → Nat :=
  let c0_i32_20968 : BitVec 32 := 0#32
  let c0_i32_20969 : BitVec 32 := 0#32
  ![v21827.toNat, 0, 0]

def k0_chk852 (i : grid0.Coords) (v21827 : BitVec 32) : Prop :=
  (∀ (k0_h1 : k0_cond1 i = 1#1), ∀ a, (k0_off852 v21827) a + S1x16x128.size a ≤ S16384x16x128.size a)
theorem k0_off852_inb : ∀ (i : grid0.Coords) (v21827 : BitVec 32) (k0_hw852 : k0_chk852 i v21827), ∀ (k0_h1 : k0_cond1 i = 1#1), ∀ a, (k0_off852 v21827) a + S1x16x128.size a ≤ S16384x16x128.size a := fun i v21827 k0_hw852 k0_h1 => k0_hw852 k0_h1

def k0_off853 (v21833 : BitVec 32) : Fin 3 → Nat :=
  let c0_i32_20975 : BitVec 32 := 0#32
  let c0_i32_20976 : BitVec 32 := 0#32
  ![v21833.toNat, 0, 0]

def k0_chk853 (i : grid0.Coords) (v21833 : BitVec 32) : Prop :=
  (∀ (k0_h1 : k0_cond1 i = 1#1), ∀ a, (k0_off853 v21833) a + S1x16x128.size a ≤ S16384x16x128.size a)
theorem k0_off853_inb : ∀ (i : grid0.Coords) (v21833 : BitVec 32) (k0_hw853 : k0_chk853 i v21833), ∀ (k0_h1 : k0_cond1 i = 1#1), ∀ a, (k0_off853 v21833) a + S1x16x128.size a ≤ S16384x16x128.size a := fun i v21833 k0_hw853 k0_h1 => k0_hw853 k0_h1

def k0_off854 (v21839 : BitVec 32) : Fin 3 → Nat :=
  let c0_i32_20982 : BitVec 32 := 0#32
  let c0_i32_20983 : BitVec 32 := 0#32
  ![v21839.toNat, 0, 0]

def k0_chk854 (i : grid0.Coords) (v21839 : BitVec 32) : Prop :=
  (∀ (k0_h1 : k0_cond1 i = 1#1), ∀ a, (k0_off854 v21839) a + S1x16x128.size a ≤ S16384x16x128.size a)
theorem k0_off854_inb : ∀ (i : grid0.Coords) (v21839 : BitVec 32) (k0_hw854 : k0_chk854 i v21839), ∀ (k0_h1 : k0_cond1 i = 1#1), ∀ a, (k0_off854 v21839) a + S1x16x128.size a ≤ S16384x16x128.size a := fun i v21839 k0_hw854 k0_h1 => k0_hw854 k0_h1

def k0_off855 (v21845 : BitVec 32) : Fin 3 → Nat :=
  let c0_i32_20989 : BitVec 32 := 0#32
  let c0_i32_20990 : BitVec 32 := 0#32
  ![v21845.toNat, 0, 0]

def k0_chk855 (i : grid0.Coords) (v21845 : BitVec 32) : Prop :=
  (∀ (k0_h1 : k0_cond1 i = 1#1), ∀ a, (k0_off855 v21845) a + S1x16x128.size a ≤ S16384x16x128.size a)
theorem k0_off855_inb : ∀ (i : grid0.Coords) (v21845 : BitVec 32) (k0_hw855 : k0_chk855 i v21845), ∀ (k0_h1 : k0_cond1 i = 1#1), ∀ a, (k0_off855 v21845) a + S1x16x128.size a ≤ S16384x16x128.size a := fun i v21845 k0_hw855 k0_h1 => k0_hw855 k0_h1

def k0_off856 (v21851 : BitVec 32) : Fin 3 → Nat :=
  let c0_i32_20996 : BitVec 32 := 0#32
  let c0_i32_20997 : BitVec 32 := 0#32
  ![v21851.toNat, 0, 0]

def k0_chk856 (i : grid0.Coords) (v21851 : BitVec 32) : Prop :=
  (∀ (k0_h1 : k0_cond1 i = 1#1), ∀ a, (k0_off856 v21851) a + S1x16x128.size a ≤ S16384x16x128.size a)
theorem k0_off856_inb : ∀ (i : grid0.Coords) (v21851 : BitVec 32) (k0_hw856 : k0_chk856 i v21851), ∀ (k0_h1 : k0_cond1 i = 1#1), ∀ a, (k0_off856 v21851) a + S1x16x128.size a ≤ S16384x16x128.size a := fun i v21851 k0_hw856 k0_h1 => k0_hw856 k0_h1

def k0_off857 (v21857 : BitVec 32) : Fin 3 → Nat :=
  let c0_i32_21003 : BitVec 32 := 0#32
  let c0_i32_21004 : BitVec 32 := 0#32
  ![v21857.toNat, 0, 0]

def k0_chk857 (i : grid0.Coords) (v21857 : BitVec 32) : Prop :=
  (∀ (k0_h1 : k0_cond1 i = 1#1), ∀ a, (k0_off857 v21857) a + S1x16x128.size a ≤ S16384x16x128.size a)
theorem k0_off857_inb : ∀ (i : grid0.Coords) (v21857 : BitVec 32) (k0_hw857 : k0_chk857 i v21857), ∀ (k0_h1 : k0_cond1 i = 1#1), ∀ a, (k0_off857 v21857) a + S1x16x128.size a ≤ S16384x16x128.size a := fun i v21857 k0_hw857 k0_h1 => k0_hw857 k0_h1

def k0_off858 (v21863 : BitVec 32) : Fin 3 → Nat :=
  let c0_i32_21010 : BitVec 32 := 0#32
  let c0_i32_21011 : BitVec 32 := 0#32
  ![v21863.toNat, 0, 0]

def k0_chk858 (i : grid0.Coords) (v21863 : BitVec 32) : Prop :=
  (∀ (k0_h1 : k0_cond1 i = 1#1), ∀ a, (k0_off858 v21863) a + S1x16x128.size a ≤ S16384x16x128.size a)
theorem k0_off858_inb : ∀ (i : grid0.Coords) (v21863 : BitVec 32) (k0_hw858 : k0_chk858 i v21863), ∀ (k0_h1 : k0_cond1 i = 1#1), ∀ a, (k0_off858 v21863) a + S1x16x128.size a ≤ S16384x16x128.size a := fun i v21863 k0_hw858 k0_h1 => k0_hw858 k0_h1

def k0_off859 (v21869 : BitVec 32) : Fin 3 → Nat :=
  let c0_i32_21017 : BitVec 32 := 0#32
  let c0_i32_21018 : BitVec 32 := 0#32
  ![v21869.toNat, 0, 0]

def k0_chk859 (i : grid0.Coords) (v21869 : BitVec 32) : Prop :=
  (∀ (k0_h1 : k0_cond1 i = 1#1), ∀ a, (k0_off859 v21869) a + S1x16x128.size a ≤ S16384x16x128.size a)
theorem k0_off859_inb : ∀ (i : grid0.Coords) (v21869 : BitVec 32) (k0_hw859 : k0_chk859 i v21869), ∀ (k0_h1 : k0_cond1 i = 1#1), ∀ a, (k0_off859 v21869) a + S1x16x128.size a ≤ S16384x16x128.size a := fun i v21869 k0_hw859 k0_h1 => k0_hw859 k0_h1

def k0_off860 (v21875 : BitVec 32) : Fin 3 → Nat :=
  let c0_i32_21024 : BitVec 32 := 0#32
  let c0_i32_21025 : BitVec 32 := 0#32
  ![v21875.toNat, 0, 0]

def k0_chk860 (i : grid0.Coords) (v21875 : BitVec 32) : Prop :=
  (∀ (k0_h1 : k0_cond1 i = 1#1), ∀ a, (k0_off860 v21875) a + S1x16x128.size a ≤ S16384x16x128.size a)
theorem k0_off860_inb : ∀ (i : grid0.Coords) (v21875 : BitVec 32) (k0_hw860 : k0_chk860 i v21875), ∀ (k0_h1 : k0_cond1 i = 1#1), ∀ a, (k0_off860 v21875) a + S1x16x128.size a ≤ S16384x16x128.size a := fun i v21875 k0_hw860 k0_h1 => k0_hw860 k0_h1

def k0_off861 (v21881 : BitVec 32) : Fin 3 → Nat :=
  let c0_i32_21031 : BitVec 32 := 0#32
  let c0_i32_21032 : BitVec 32 := 0#32
  ![v21881.toNat, 0, 0]

def k0_chk861 (i : grid0.Coords) (v21881 : BitVec 32) : Prop :=
  (∀ (k0_h1 : k0_cond1 i = 1#1), ∀ a, (k0_off861 v21881) a + S1x16x128.size a ≤ S16384x16x128.size a)
theorem k0_off861_inb : ∀ (i : grid0.Coords) (v21881 : BitVec 32) (k0_hw861 : k0_chk861 i v21881), ∀ (k0_h1 : k0_cond1 i = 1#1), ∀ a, (k0_off861 v21881) a + S1x16x128.size a ≤ S16384x16x128.size a := fun i v21881 k0_hw861 k0_h1 => k0_hw861 k0_h1

def k0_off862 (v21887 : BitVec 32) : Fin 3 → Nat :=
  let c0_i32_21038 : BitVec 32 := 0#32
  let c0_i32_21039 : BitVec 32 := 0#32
  ![v21887.toNat, 0, 0]

def k0_chk862 (i : grid0.Coords) (v21887 : BitVec 32) : Prop :=
  (∀ (k0_h1 : k0_cond1 i = 1#1), ∀ a, (k0_off862 v21887) a + S1x16x128.size a ≤ S16384x16x128.size a)
theorem k0_off862_inb : ∀ (i : grid0.Coords) (v21887 : BitVec 32) (k0_hw862 : k0_chk862 i v21887), ∀ (k0_h1 : k0_cond1 i = 1#1), ∀ a, (k0_off862 v21887) a + S1x16x128.size a ≤ S16384x16x128.size a := fun i v21887 k0_hw862 k0_h1 => k0_hw862 k0_h1

def k0_off863 (v21893 : BitVec 32) : Fin 3 → Nat :=
  let c0_i32_21045 : BitVec 32 := 0#32
  let c0_i32_21046 : BitVec 32 := 0#32
  ![v21893.toNat, 0, 0]

def k0_chk863 (i : grid0.Coords) (v21893 : BitVec 32) : Prop :=
  (∀ (k0_h1 : k0_cond1 i = 1#1), ∀ a, (k0_off863 v21893) a + S1x16x128.size a ≤ S16384x16x128.size a)
theorem k0_off863_inb : ∀ (i : grid0.Coords) (v21893 : BitVec 32) (k0_hw863 : k0_chk863 i v21893), ∀ (k0_h1 : k0_cond1 i = 1#1), ∀ a, (k0_off863 v21893) a + S1x16x128.size a ≤ S16384x16x128.size a := fun i v21893 k0_hw863 k0_h1 => k0_hw863 k0_h1

def k0_off864 (v21899 : BitVec 32) : Fin 3 → Nat :=
  let c0_i32_21052 : BitVec 32 := 0#32
  let c0_i32_21053 : BitVec 32 := 0#32
  ![v21899.toNat, 0, 0]

def k0_chk864 (i : grid0.Coords) (v21899 : BitVec 32) : Prop :=
  (∀ (k0_h1 : k0_cond1 i = 1#1), ∀ a, (k0_off864 v21899) a + S1x16x128.size a ≤ S16384x16x128.size a)
theorem k0_off864_inb : ∀ (i : grid0.Coords) (v21899 : BitVec 32) (k0_hw864 : k0_chk864 i v21899), ∀ (k0_h1 : k0_cond1 i = 1#1), ∀ a, (k0_off864 v21899) a + S1x16x128.size a ≤ S16384x16x128.size a := fun i v21899 k0_hw864 k0_h1 => k0_hw864 k0_h1

def k0_off865 (v21905 : BitVec 32) : Fin 3 → Nat :=
  let c0_i32_21059 : BitVec 32 := 0#32
  let c0_i32_21060 : BitVec 32 := 0#32
  ![v21905.toNat, 0, 0]

def k0_chk865 (i : grid0.Coords) (v21905 : BitVec 32) : Prop :=
  (∀ (k0_h1 : k0_cond1 i = 1#1), ∀ a, (k0_off865 v21905) a + S1x16x128.size a ≤ S16384x16x128.size a)
theorem k0_off865_inb : ∀ (i : grid0.Coords) (v21905 : BitVec 32) (k0_hw865 : k0_chk865 i v21905), ∀ (k0_h1 : k0_cond1 i = 1#1), ∀ a, (k0_off865 v21905) a + S1x16x128.size a ≤ S16384x16x128.size a := fun i v21905 k0_hw865 k0_h1 => k0_hw865 k0_h1

def k0_off866 (v21911 : BitVec 32) : Fin 3 → Nat :=
  let c0_i32_21066 : BitVec 32 := 0#32
  let c0_i32_21067 : BitVec 32 := 0#32
  ![v21911.toNat, 0, 0]

def k0_chk866 (i : grid0.Coords) (v21911 : BitVec 32) : Prop :=
  (∀ (k0_h1 : k0_cond1 i = 1#1), ∀ a, (k0_off866 v21911) a + S1x16x128.size a ≤ S16384x16x128.size a)
theorem k0_off866_inb : ∀ (i : grid0.Coords) (v21911 : BitVec 32) (k0_hw866 : k0_chk866 i v21911), ∀ (k0_h1 : k0_cond1 i = 1#1), ∀ a, (k0_off866 v21911) a + S1x16x128.size a ≤ S16384x16x128.size a := fun i v21911 k0_hw866 k0_h1 => k0_hw866 k0_h1

def k0_off867 (v21917 : BitVec 32) : Fin 3 → Nat :=
  let c0_i32_21073 : BitVec 32 := 0#32
  let c0_i32_21074 : BitVec 32 := 0#32
  ![v21917.toNat, 0, 0]

def k0_chk867 (i : grid0.Coords) (v21917 : BitVec 32) : Prop :=
  (∀ (k0_h1 : k0_cond1 i = 1#1), ∀ a, (k0_off867 v21917) a + S1x16x128.size a ≤ S16384x16x128.size a)
theorem k0_off867_inb : ∀ (i : grid0.Coords) (v21917 : BitVec 32) (k0_hw867 : k0_chk867 i v21917), ∀ (k0_h1 : k0_cond1 i = 1#1), ∀ a, (k0_off867 v21917) a + S1x16x128.size a ≤ S16384x16x128.size a := fun i v21917 k0_hw867 k0_h1 => k0_hw867 k0_h1

def k0_off868 (v21923 : BitVec 32) : Fin 3 → Nat :=
  let c0_i32_21080 : BitVec 32 := 0#32
  let c0_i32_21081 : BitVec 32 := 0#32
  ![v21923.toNat, 0, 0]

def k0_chk868 (i : grid0.Coords) (v21923 : BitVec 32) : Prop :=
  (∀ (k0_h1 : k0_cond1 i = 1#1), ∀ a, (k0_off868 v21923) a + S1x16x128.size a ≤ S16384x16x128.size a)
theorem k0_off868_inb : ∀ (i : grid0.Coords) (v21923 : BitVec 32) (k0_hw868 : k0_chk868 i v21923), ∀ (k0_h1 : k0_cond1 i = 1#1), ∀ a, (k0_off868 v21923) a + S1x16x128.size a ≤ S16384x16x128.size a := fun i v21923 k0_hw868 k0_h1 => k0_hw868 k0_h1

def k0_off869 (v21929 : BitVec 32) : Fin 3 → Nat :=
  let c0_i32_21087 : BitVec 32 := 0#32
  let c0_i32_21088 : BitVec 32 := 0#32
  ![v21929.toNat, 0, 0]

def k0_chk869 (i : grid0.Coords) (v21929 : BitVec 32) : Prop :=
  (∀ (k0_h1 : k0_cond1 i = 1#1), ∀ a, (k0_off869 v21929) a + S1x16x128.size a ≤ S16384x16x128.size a)
theorem k0_off869_inb : ∀ (i : grid0.Coords) (v21929 : BitVec 32) (k0_hw869 : k0_chk869 i v21929), ∀ (k0_h1 : k0_cond1 i = 1#1), ∀ a, (k0_off869 v21929) a + S1x16x128.size a ≤ S16384x16x128.size a := fun i v21929 k0_hw869 k0_h1 => k0_hw869 k0_h1

def k0_off870 (v21935 : BitVec 32) : Fin 3 → Nat :=
  let c0_i32_21094 : BitVec 32 := 0#32
  let c0_i32_21095 : BitVec 32 := 0#32
  ![v21935.toNat, 0, 0]

def k0_chk870 (i : grid0.Coords) (v21935 : BitVec 32) : Prop :=
  (∀ (k0_h1 : k0_cond1 i = 1#1), ∀ a, (k0_off870 v21935) a + S1x16x128.size a ≤ S16384x16x128.size a)
theorem k0_off870_inb : ∀ (i : grid0.Coords) (v21935 : BitVec 32) (k0_hw870 : k0_chk870 i v21935), ∀ (k0_h1 : k0_cond1 i = 1#1), ∀ a, (k0_off870 v21935) a + S1x16x128.size a ≤ S16384x16x128.size a := fun i v21935 k0_hw870 k0_h1 => k0_hw870 k0_h1

def k0_off871 (v21941 : BitVec 32) : Fin 3 → Nat :=
  let c0_i32_21101 : BitVec 32 := 0#32
  let c0_i32_21102 : BitVec 32 := 0#32
  ![v21941.toNat, 0, 0]

def k0_chk871 (i : grid0.Coords) (v21941 : BitVec 32) : Prop :=
  (∀ (k0_h1 : k0_cond1 i = 1#1), ∀ a, (k0_off871 v21941) a + S1x16x128.size a ≤ S16384x16x128.size a)
theorem k0_off871_inb : ∀ (i : grid0.Coords) (v21941 : BitVec 32) (k0_hw871 : k0_chk871 i v21941), ∀ (k0_h1 : k0_cond1 i = 1#1), ∀ a, (k0_off871 v21941) a + S1x16x128.size a ≤ S16384x16x128.size a := fun i v21941 k0_hw871 k0_h1 => k0_hw871 k0_h1

def k0_off872 (v21947 : BitVec 32) : Fin 3 → Nat :=
  let c0_i32_21108 : BitVec 32 := 0#32
  let c0_i32_21109 : BitVec 32 := 0#32
  ![v21947.toNat, 0, 0]

def k0_chk872 (i : grid0.Coords) (v21947 : BitVec 32) : Prop :=
  (∀ (k0_h1 : k0_cond1 i = 1#1), ∀ a, (k0_off872 v21947) a + S1x16x128.size a ≤ S16384x16x128.size a)
theorem k0_off872_inb : ∀ (i : grid0.Coords) (v21947 : BitVec 32) (k0_hw872 : k0_chk872 i v21947), ∀ (k0_h1 : k0_cond1 i = 1#1), ∀ a, (k0_off872 v21947) a + S1x16x128.size a ≤ S16384x16x128.size a := fun i v21947 k0_hw872 k0_h1 => k0_hw872 k0_h1

def k0_off873 (v21953 : BitVec 32) : Fin 3 → Nat :=
  let c0_i32_21115 : BitVec 32 := 0#32
  let c0_i32_21116 : BitVec 32 := 0#32
  ![v21953.toNat, 0, 0]

def k0_chk873 (i : grid0.Coords) (v21953 : BitVec 32) : Prop :=
  (∀ (k0_h1 : k0_cond1 i = 1#1), ∀ a, (k0_off873 v21953) a + S1x16x128.size a ≤ S16384x16x128.size a)
theorem k0_off873_inb : ∀ (i : grid0.Coords) (v21953 : BitVec 32) (k0_hw873 : k0_chk873 i v21953), ∀ (k0_h1 : k0_cond1 i = 1#1), ∀ a, (k0_off873 v21953) a + S1x16x128.size a ≤ S16384x16x128.size a := fun i v21953 k0_hw873 k0_h1 => k0_hw873 k0_h1

def k0_off874 (v21959 : BitVec 32) : Fin 3 → Nat :=
  let c0_i32_21122 : BitVec 32 := 0#32
  let c0_i32_21123 : BitVec 32 := 0#32
  ![v21959.toNat, 0, 0]

def k0_chk874 (i : grid0.Coords) (v21959 : BitVec 32) : Prop :=
  (∀ (k0_h1 : k0_cond1 i = 1#1), ∀ a, (k0_off874 v21959) a + S1x16x128.size a ≤ S16384x16x128.size a)
theorem k0_off874_inb : ∀ (i : grid0.Coords) (v21959 : BitVec 32) (k0_hw874 : k0_chk874 i v21959), ∀ (k0_h1 : k0_cond1 i = 1#1), ∀ a, (k0_off874 v21959) a + S1x16x128.size a ≤ S16384x16x128.size a := fun i v21959 k0_hw874 k0_h1 => k0_hw874 k0_h1

def k0_off875 (v21965 : BitVec 32) : Fin 3 → Nat :=
  let c0_i32_21129 : BitVec 32 := 0#32
  let c0_i32_21130 : BitVec 32 := 0#32
  ![v21965.toNat, 0, 0]

def k0_chk875 (i : grid0.Coords) (v21965 : BitVec 32) : Prop :=
  (∀ (k0_h1 : k0_cond1 i = 1#1), ∀ a, (k0_off875 v21965) a + S1x16x128.size a ≤ S16384x16x128.size a)
theorem k0_off875_inb : ∀ (i : grid0.Coords) (v21965 : BitVec 32) (k0_hw875 : k0_chk875 i v21965), ∀ (k0_h1 : k0_cond1 i = 1#1), ∀ a, (k0_off875 v21965) a + S1x16x128.size a ≤ S16384x16x128.size a := fun i v21965 k0_hw875 k0_h1 => k0_hw875 k0_h1

def k0_off876 (v21971 : BitVec 32) : Fin 3 → Nat :=
  let c0_i32_21136 : BitVec 32 := 0#32
  let c0_i32_21137 : BitVec 32 := 0#32
  ![v21971.toNat, 0, 0]

def k0_chk876 (i : grid0.Coords) (v21971 : BitVec 32) : Prop :=
  (∀ (k0_h1 : k0_cond1 i = 1#1), ∀ a, (k0_off876 v21971) a + S1x16x128.size a ≤ S16384x16x128.size a)
theorem k0_off876_inb : ∀ (i : grid0.Coords) (v21971 : BitVec 32) (k0_hw876 : k0_chk876 i v21971), ∀ (k0_h1 : k0_cond1 i = 1#1), ∀ a, (k0_off876 v21971) a + S1x16x128.size a ≤ S16384x16x128.size a := fun i v21971 k0_hw876 k0_h1 => k0_hw876 k0_h1

def k0_off877 (v21977 : BitVec 32) : Fin 3 → Nat :=
  let c0_i32_21143 : BitVec 32 := 0#32
  let c0_i32_21144 : BitVec 32 := 0#32
  ![v21977.toNat, 0, 0]

def k0_chk877 (i : grid0.Coords) (v21977 : BitVec 32) : Prop :=
  (∀ (k0_h1 : k0_cond1 i = 1#1), ∀ a, (k0_off877 v21977) a + S1x16x128.size a ≤ S16384x16x128.size a)
theorem k0_off877_inb : ∀ (i : grid0.Coords) (v21977 : BitVec 32) (k0_hw877 : k0_chk877 i v21977), ∀ (k0_h1 : k0_cond1 i = 1#1), ∀ a, (k0_off877 v21977) a + S1x16x128.size a ≤ S16384x16x128.size a := fun i v21977 k0_hw877 k0_h1 => k0_hw877 k0_h1

def k0_off878 (v21983 : BitVec 32) : Fin 3 → Nat :=
  let c0_i32_21150 : BitVec 32 := 0#32
  let c0_i32_21151 : BitVec 32 := 0#32
  ![v21983.toNat, 0, 0]

def k0_chk878 (i : grid0.Coords) (v21983 : BitVec 32) : Prop :=
  (∀ (k0_h1 : k0_cond1 i = 1#1), ∀ a, (k0_off878 v21983) a + S1x16x128.size a ≤ S16384x16x128.size a)
theorem k0_off878_inb : ∀ (i : grid0.Coords) (v21983 : BitVec 32) (k0_hw878 : k0_chk878 i v21983), ∀ (k0_h1 : k0_cond1 i = 1#1), ∀ a, (k0_off878 v21983) a + S1x16x128.size a ≤ S16384x16x128.size a := fun i v21983 k0_hw878 k0_h1 => k0_hw878 k0_h1

def k0_off879 (v21989 : BitVec 32) : Fin 3 → Nat :=
  let c0_i32_21157 : BitVec 32 := 0#32
  let c0_i32_21158 : BitVec 32 := 0#32
  ![v21989.toNat, 0, 0]

def k0_chk879 (i : grid0.Coords) (v21989 : BitVec 32) : Prop :=
  (∀ (k0_h1 : k0_cond1 i = 1#1), ∀ a, (k0_off879 v21989) a + S1x16x128.size a ≤ S16384x16x128.size a)
theorem k0_off879_inb : ∀ (i : grid0.Coords) (v21989 : BitVec 32) (k0_hw879 : k0_chk879 i v21989), ∀ (k0_h1 : k0_cond1 i = 1#1), ∀ a, (k0_off879 v21989) a + S1x16x128.size a ≤ S16384x16x128.size a := fun i v21989 k0_hw879 k0_h1 => k0_hw879 k0_h1

def k0_off880 (v21995 : BitVec 32) : Fin 3 → Nat :=
  let c0_i32_21164 : BitVec 32 := 0#32
  let c0_i32_21165 : BitVec 32 := 0#32
  ![v21995.toNat, 0, 0]

def k0_chk880 (i : grid0.Coords) (v21995 : BitVec 32) : Prop :=
  (∀ (k0_h1 : k0_cond1 i = 1#1), ∀ a, (k0_off880 v21995) a + S1x16x128.size a ≤ S16384x16x128.size a)
theorem k0_off880_inb : ∀ (i : grid0.Coords) (v21995 : BitVec 32) (k0_hw880 : k0_chk880 i v21995), ∀ (k0_h1 : k0_cond1 i = 1#1), ∀ a, (k0_off880 v21995) a + S1x16x128.size a ≤ S16384x16x128.size a := fun i v21995 k0_hw880 k0_h1 => k0_hw880 k0_h1

def k0_off881 (v22001 : BitVec 32) : Fin 3 → Nat :=
  let c0_i32_21171 : BitVec 32 := 0#32
  let c0_i32_21172 : BitVec 32 := 0#32
  ![v22001.toNat, 0, 0]

def k0_chk881 (i : grid0.Coords) (v22001 : BitVec 32) : Prop :=
  (∀ (k0_h1 : k0_cond1 i = 1#1), ∀ a, (k0_off881 v22001) a + S1x16x128.size a ≤ S16384x16x128.size a)
theorem k0_off881_inb : ∀ (i : grid0.Coords) (v22001 : BitVec 32) (k0_hw881 : k0_chk881 i v22001), ∀ (k0_h1 : k0_cond1 i = 1#1), ∀ a, (k0_off881 v22001) a + S1x16x128.size a ≤ S16384x16x128.size a := fun i v22001 k0_hw881 k0_h1 => k0_hw881 k0_h1

def k0_off882 (v22007 : BitVec 32) : Fin 3 → Nat :=
  let c0_i32_21178 : BitVec 32 := 0#32
  let c0_i32_21179 : BitVec 32 := 0#32
  ![v22007.toNat, 0, 0]

def k0_chk882 (i : grid0.Coords) (v22007 : BitVec 32) : Prop :=
  (∀ (k0_h1 : k0_cond1 i = 1#1), ∀ a, (k0_off882 v22007) a + S1x16x128.size a ≤ S16384x16x128.size a)
theorem k0_off882_inb : ∀ (i : grid0.Coords) (v22007 : BitVec 32) (k0_hw882 : k0_chk882 i v22007), ∀ (k0_h1 : k0_cond1 i = 1#1), ∀ a, (k0_off882 v22007) a + S1x16x128.size a ≤ S16384x16x128.size a := fun i v22007 k0_hw882 k0_h1 => k0_hw882 k0_h1

def k0_off883 (v22013 : BitVec 32) : Fin 3 → Nat :=
  let c0_i32_21185 : BitVec 32 := 0#32
  let c0_i32_21186 : BitVec 32 := 0#32
  ![v22013.toNat, 0, 0]

def k0_chk883 (i : grid0.Coords) (v22013 : BitVec 32) : Prop :=
  (∀ (k0_h1 : k0_cond1 i = 1#1), ∀ a, (k0_off883 v22013) a + S1x16x128.size a ≤ S16384x16x128.size a)
theorem k0_off883_inb : ∀ (i : grid0.Coords) (v22013 : BitVec 32) (k0_hw883 : k0_chk883 i v22013), ∀ (k0_h1 : k0_cond1 i = 1#1), ∀ a, (k0_off883 v22013) a + S1x16x128.size a ≤ S16384x16x128.size a := fun i v22013 k0_hw883 k0_h1 => k0_hw883 k0_h1

def k0_off884 (v22019 : BitVec 32) : Fin 3 → Nat :=
  let c0_i32_21192 : BitVec 32 := 0#32
  let c0_i32_21193 : BitVec 32 := 0#32
  ![v22019.toNat, 0, 0]

def k0_chk884 (i : grid0.Coords) (v22019 : BitVec 32) : Prop :=
  (∀ (k0_h1 : k0_cond1 i = 1#1), ∀ a, (k0_off884 v22019) a + S1x16x128.size a ≤ S16384x16x128.size a)
theorem k0_off884_inb : ∀ (i : grid0.Coords) (v22019 : BitVec 32) (k0_hw884 : k0_chk884 i v22019), ∀ (k0_h1 : k0_cond1 i = 1#1), ∀ a, (k0_off884 v22019) a + S1x16x128.size a ≤ S16384x16x128.size a := fun i v22019 k0_hw884 k0_h1 => k0_hw884 k0_h1

def k0_off885 (v22025 : BitVec 32) : Fin 3 → Nat :=
  let c0_i32_21199 : BitVec 32 := 0#32
  let c0_i32_21200 : BitVec 32 := 0#32
  ![v22025.toNat, 0, 0]

def k0_chk885 (i : grid0.Coords) (v22025 : BitVec 32) : Prop :=
  (∀ (k0_h1 : k0_cond1 i = 1#1), ∀ a, (k0_off885 v22025) a + S1x16x128.size a ≤ S16384x16x128.size a)
theorem k0_off885_inb : ∀ (i : grid0.Coords) (v22025 : BitVec 32) (k0_hw885 : k0_chk885 i v22025), ∀ (k0_h1 : k0_cond1 i = 1#1), ∀ a, (k0_off885 v22025) a + S1x16x128.size a ≤ S16384x16x128.size a := fun i v22025 k0_hw885 k0_h1 => k0_hw885 k0_h1

def k0_off886 (v22031 : BitVec 32) : Fin 3 → Nat :=
  let c0_i32_21206 : BitVec 32 := 0#32
  let c0_i32_21207 : BitVec 32 := 0#32
  ![v22031.toNat, 0, 0]

def k0_chk886 (i : grid0.Coords) (v22031 : BitVec 32) : Prop :=
  (∀ (k0_h1 : k0_cond1 i = 1#1), ∀ a, (k0_off886 v22031) a + S1x16x128.size a ≤ S16384x16x128.size a)
theorem k0_off886_inb : ∀ (i : grid0.Coords) (v22031 : BitVec 32) (k0_hw886 : k0_chk886 i v22031), ∀ (k0_h1 : k0_cond1 i = 1#1), ∀ a, (k0_off886 v22031) a + S1x16x128.size a ≤ S16384x16x128.size a := fun i v22031 k0_hw886 k0_h1 => k0_hw886 k0_h1

def k0_off887 (v22037 : BitVec 32) : Fin 3 → Nat :=
  let c0_i32_21213 : BitVec 32 := 0#32
  let c0_i32_21214 : BitVec 32 := 0#32
  ![v22037.toNat, 0, 0]

def k0_chk887 (i : grid0.Coords) (v22037 : BitVec 32) : Prop :=
  (∀ (k0_h1 : k0_cond1 i = 1#1), ∀ a, (k0_off887 v22037) a + S1x16x128.size a ≤ S16384x16x128.size a)
theorem k0_off887_inb : ∀ (i : grid0.Coords) (v22037 : BitVec 32) (k0_hw887 : k0_chk887 i v22037), ∀ (k0_h1 : k0_cond1 i = 1#1), ∀ a, (k0_off887 v22037) a + S1x16x128.size a ≤ S16384x16x128.size a := fun i v22037 k0_hw887 k0_h1 => k0_hw887 k0_h1

def k0_off888 (v22043 : BitVec 32) : Fin 3 → Nat :=
  let c0_i32_21220 : BitVec 32 := 0#32
  let c0_i32_21221 : BitVec 32 := 0#32
  ![v22043.toNat, 0, 0]

def k0_chk888 (i : grid0.Coords) (v22043 : BitVec 32) : Prop :=
  (∀ (k0_h1 : k0_cond1 i = 1#1), ∀ a, (k0_off888 v22043) a + S1x16x128.size a ≤ S16384x16x128.size a)
theorem k0_off888_inb : ∀ (i : grid0.Coords) (v22043 : BitVec 32) (k0_hw888 : k0_chk888 i v22043), ∀ (k0_h1 : k0_cond1 i = 1#1), ∀ a, (k0_off888 v22043) a + S1x16x128.size a ≤ S16384x16x128.size a := fun i v22043 k0_hw888 k0_h1 => k0_hw888 k0_h1

def k0_off889 (v22049 : BitVec 32) : Fin 3 → Nat :=
  let c0_i32_21227 : BitVec 32 := 0#32
  let c0_i32_21228 : BitVec 32 := 0#32
  ![v22049.toNat, 0, 0]

def k0_chk889 (i : grid0.Coords) (v22049 : BitVec 32) : Prop :=
  (∀ (k0_h1 : k0_cond1 i = 1#1), ∀ a, (k0_off889 v22049) a + S1x16x128.size a ≤ S16384x16x128.size a)
theorem k0_off889_inb : ∀ (i : grid0.Coords) (v22049 : BitVec 32) (k0_hw889 : k0_chk889 i v22049), ∀ (k0_h1 : k0_cond1 i = 1#1), ∀ a, (k0_off889 v22049) a + S1x16x128.size a ≤ S16384x16x128.size a := fun i v22049 k0_hw889 k0_h1 => k0_hw889 k0_h1

def k0_off890 (v22055 : BitVec 32) : Fin 3 → Nat :=
  let c0_i32_21234 : BitVec 32 := 0#32
  let c0_i32_21235 : BitVec 32 := 0#32
  ![v22055.toNat, 0, 0]

def k0_chk890 (i : grid0.Coords) (v22055 : BitVec 32) : Prop :=
  (∀ (k0_h1 : k0_cond1 i = 1#1), ∀ a, (k0_off890 v22055) a + S1x16x128.size a ≤ S16384x16x128.size a)
theorem k0_off890_inb : ∀ (i : grid0.Coords) (v22055 : BitVec 32) (k0_hw890 : k0_chk890 i v22055), ∀ (k0_h1 : k0_cond1 i = 1#1), ∀ a, (k0_off890 v22055) a + S1x16x128.size a ≤ S16384x16x128.size a := fun i v22055 k0_hw890 k0_h1 => k0_hw890 k0_h1

def k0_off891 (v22061 : BitVec 32) : Fin 3 → Nat :=
  let c0_i32_21241 : BitVec 32 := 0#32
  let c0_i32_21242 : BitVec 32 := 0#32
  ![v22061.toNat, 0, 0]

def k0_chk891 (i : grid0.Coords) (v22061 : BitVec 32) : Prop :=
  (∀ (k0_h1 : k0_cond1 i = 1#1), ∀ a, (k0_off891 v22061) a + S1x16x128.size a ≤ S16384x16x128.size a)
theorem k0_off891_inb : ∀ (i : grid0.Coords) (v22061 : BitVec 32) (k0_hw891 : k0_chk891 i v22061), ∀ (k0_h1 : k0_cond1 i = 1#1), ∀ a, (k0_off891 v22061) a + S1x16x128.size a ≤ S16384x16x128.size a := fun i v22061 k0_hw891 k0_h1 => k0_hw891 k0_h1

def k0_off892 (v22067 : BitVec 32) : Fin 3 → Nat :=
  let c0_i32_21248 : BitVec 32 := 0#32
  let c0_i32_21249 : BitVec 32 := 0#32
  ![v22067.toNat, 0, 0]

def k0_chk892 (i : grid0.Coords) (v22067 : BitVec 32) : Prop :=
  (∀ (k0_h1 : k0_cond1 i = 1#1), ∀ a, (k0_off892 v22067) a + S1x16x128.size a ≤ S16384x16x128.size a)
theorem k0_off892_inb : ∀ (i : grid0.Coords) (v22067 : BitVec 32) (k0_hw892 : k0_chk892 i v22067), ∀ (k0_h1 : k0_cond1 i = 1#1), ∀ a, (k0_off892 v22067) a + S1x16x128.size a ≤ S16384x16x128.size a := fun i v22067 k0_hw892 k0_h1 => k0_hw892 k0_h1

def k0_off893 (v22073 : BitVec 32) : Fin 3 → Nat :=
  let c0_i32_21255 : BitVec 32 := 0#32
  let c0_i32_21256 : BitVec 32 := 0#32
  ![v22073.toNat, 0, 0]

def k0_chk893 (i : grid0.Coords) (v22073 : BitVec 32) : Prop :=
  (∀ (k0_h1 : k0_cond1 i = 1#1), ∀ a, (k0_off893 v22073) a + S1x16x128.size a ≤ S16384x16x128.size a)
theorem k0_off893_inb : ∀ (i : grid0.Coords) (v22073 : BitVec 32) (k0_hw893 : k0_chk893 i v22073), ∀ (k0_h1 : k0_cond1 i = 1#1), ∀ a, (k0_off893 v22073) a + S1x16x128.size a ≤ S16384x16x128.size a := fun i v22073 k0_hw893 k0_h1 => k0_hw893 k0_h1

def k0_off894 (v22079 : BitVec 32) : Fin 3 → Nat :=
  let c0_i32_21262 : BitVec 32 := 0#32
  let c0_i32_21263 : BitVec 32 := 0#32
  ![v22079.toNat, 0, 0]

def k0_chk894 (i : grid0.Coords) (v22079 : BitVec 32) : Prop :=
  (∀ (k0_h1 : k0_cond1 i = 1#1), ∀ a, (k0_off894 v22079) a + S1x16x128.size a ≤ S16384x16x128.size a)
theorem k0_off894_inb : ∀ (i : grid0.Coords) (v22079 : BitVec 32) (k0_hw894 : k0_chk894 i v22079), ∀ (k0_h1 : k0_cond1 i = 1#1), ∀ a, (k0_off894 v22079) a + S1x16x128.size a ≤ S16384x16x128.size a := fun i v22079 k0_hw894 k0_h1 => k0_hw894 k0_h1

def k0_off895 (v22085 : BitVec 32) : Fin 3 → Nat :=
  let c0_i32_21269 : BitVec 32 := 0#32
  let c0_i32_21270 : BitVec 32 := 0#32
  ![v22085.toNat, 0, 0]

def k0_chk895 (i : grid0.Coords) (v22085 : BitVec 32) : Prop :=
  (∀ (k0_h1 : k0_cond1 i = 1#1), ∀ a, (k0_off895 v22085) a + S1x16x128.size a ≤ S16384x16x128.size a)
theorem k0_off895_inb : ∀ (i : grid0.Coords) (v22085 : BitVec 32) (k0_hw895 : k0_chk895 i v22085), ∀ (k0_h1 : k0_cond1 i = 1#1), ∀ a, (k0_off895 v22085) a + S1x16x128.size a ≤ S16384x16x128.size a := fun i v22085 k0_hw895 k0_h1 => k0_hw895 k0_h1

def k0_off896 (v22091 : BitVec 32) : Fin 3 → Nat :=
  let c0_i32_21276 : BitVec 32 := 0#32
  let c0_i32_21277 : BitVec 32 := 0#32
  ![v22091.toNat, 0, 0]

def k0_chk896 (i : grid0.Coords) (v22091 : BitVec 32) : Prop :=
  (∀ (k0_h1 : k0_cond1 i = 1#1), ∀ a, (k0_off896 v22091) a + S1x16x128.size a ≤ S16384x16x128.size a)
theorem k0_off896_inb : ∀ (i : grid0.Coords) (v22091 : BitVec 32) (k0_hw896 : k0_chk896 i v22091), ∀ (k0_h1 : k0_cond1 i = 1#1), ∀ a, (k0_off896 v22091) a + S1x16x128.size a ≤ S16384x16x128.size a := fun i v22091 k0_hw896 k0_h1 => k0_hw896 k0_h1

def k0_off897 (v22097 : BitVec 32) : Fin 3 → Nat :=
  let c0_i32_21283 : BitVec 32 := 0#32
  let c0_i32_21284 : BitVec 32 := 0#32
  ![v22097.toNat, 0, 0]

def k0_chk897 (i : grid0.Coords) (v22097 : BitVec 32) : Prop :=
  (∀ (k0_h1 : k0_cond1 i = 1#1), ∀ a, (k0_off897 v22097) a + S1x16x128.size a ≤ S16384x16x128.size a)
theorem k0_off897_inb : ∀ (i : grid0.Coords) (v22097 : BitVec 32) (k0_hw897 : k0_chk897 i v22097), ∀ (k0_h1 : k0_cond1 i = 1#1), ∀ a, (k0_off897 v22097) a + S1x16x128.size a ≤ S16384x16x128.size a := fun i v22097 k0_hw897 k0_h1 => k0_hw897 k0_h1

def k0_off898 (v22103 : BitVec 32) : Fin 3 → Nat :=
  let c0_i32_21290 : BitVec 32 := 0#32
  let c0_i32_21291 : BitVec 32 := 0#32
  ![v22103.toNat, 0, 0]

def k0_chk898 (i : grid0.Coords) (v22103 : BitVec 32) : Prop :=
  (∀ (k0_h1 : k0_cond1 i = 1#1), ∀ a, (k0_off898 v22103) a + S1x16x128.size a ≤ S16384x16x128.size a)
theorem k0_off898_inb : ∀ (i : grid0.Coords) (v22103 : BitVec 32) (k0_hw898 : k0_chk898 i v22103), ∀ (k0_h1 : k0_cond1 i = 1#1), ∀ a, (k0_off898 v22103) a + S1x16x128.size a ≤ S16384x16x128.size a := fun i v22103 k0_hw898 k0_h1 => k0_hw898 k0_h1

def k0_off899 (v22109 : BitVec 32) : Fin 3 → Nat :=
  let c0_i32_21297 : BitVec 32 := 0#32
  let c0_i32_21298 : BitVec 32 := 0#32
  ![v22109.toNat, 0, 0]

def k0_chk899 (i : grid0.Coords) (v22109 : BitVec 32) : Prop :=
  (∀ (k0_h1 : k0_cond1 i = 1#1), ∀ a, (k0_off899 v22109) a + S1x16x128.size a ≤ S16384x16x128.size a)
theorem k0_off899_inb : ∀ (i : grid0.Coords) (v22109 : BitVec 32) (k0_hw899 : k0_chk899 i v22109), ∀ (k0_h1 : k0_cond1 i = 1#1), ∀ a, (k0_off899 v22109) a + S1x16x128.size a ≤ S16384x16x128.size a := fun i v22109 k0_hw899 k0_h1 => k0_hw899 k0_h1

def k0_off900 (v22115 : BitVec 32) : Fin 3 → Nat :=
  let c0_i32_21304 : BitVec 32 := 0#32
  let c0_i32_21305 : BitVec 32 := 0#32
  ![v22115.toNat, 0, 0]

def k0_chk900 (i : grid0.Coords) (v22115 : BitVec 32) : Prop :=
  (∀ (k0_h1 : k0_cond1 i = 1#1), ∀ a, (k0_off900 v22115) a + S1x16x128.size a ≤ S16384x16x128.size a)
theorem k0_off900_inb : ∀ (i : grid0.Coords) (v22115 : BitVec 32) (k0_hw900 : k0_chk900 i v22115), ∀ (k0_h1 : k0_cond1 i = 1#1), ∀ a, (k0_off900 v22115) a + S1x16x128.size a ≤ S16384x16x128.size a := fun i v22115 k0_hw900 k0_h1 => k0_hw900 k0_h1

def k0_off901 (v22121 : BitVec 32) : Fin 3 → Nat :=
  let c0_i32_21311 : BitVec 32 := 0#32
  let c0_i32_21312 : BitVec 32 := 0#32
  ![v22121.toNat, 0, 0]

def k0_chk901 (i : grid0.Coords) (v22121 : BitVec 32) : Prop :=
  (∀ (k0_h1 : k0_cond1 i = 1#1), ∀ a, (k0_off901 v22121) a + S1x16x128.size a ≤ S16384x16x128.size a)
theorem k0_off901_inb : ∀ (i : grid0.Coords) (v22121 : BitVec 32) (k0_hw901 : k0_chk901 i v22121), ∀ (k0_h1 : k0_cond1 i = 1#1), ∀ a, (k0_off901 v22121) a + S1x16x128.size a ≤ S16384x16x128.size a := fun i v22121 k0_hw901 k0_h1 => k0_hw901 k0_h1

def k0_off902 (v22127 : BitVec 32) : Fin 3 → Nat :=
  let c0_i32_21318 : BitVec 32 := 0#32
  let c0_i32_21319 : BitVec 32 := 0#32
  ![v22127.toNat, 0, 0]

def k0_chk902 (i : grid0.Coords) (v22127 : BitVec 32) : Prop :=
  (∀ (k0_h1 : k0_cond1 i = 1#1), ∀ a, (k0_off902 v22127) a + S1x16x128.size a ≤ S16384x16x128.size a)
theorem k0_off902_inb : ∀ (i : grid0.Coords) (v22127 : BitVec 32) (k0_hw902 : k0_chk902 i v22127), ∀ (k0_h1 : k0_cond1 i = 1#1), ∀ a, (k0_off902 v22127) a + S1x16x128.size a ≤ S16384x16x128.size a := fun i v22127 k0_hw902 k0_h1 => k0_hw902 k0_h1

def k0_off903 (v22133 : BitVec 32) : Fin 3 → Nat :=
  let c0_i32_21325 : BitVec 32 := 0#32
  let c0_i32_21326 : BitVec 32 := 0#32
  ![v22133.toNat, 0, 0]

def k0_chk903 (i : grid0.Coords) (v22133 : BitVec 32) : Prop :=
  (∀ (k0_h1 : k0_cond1 i = 1#1), ∀ a, (k0_off903 v22133) a + S1x16x128.size a ≤ S16384x16x128.size a)
theorem k0_off903_inb : ∀ (i : grid0.Coords) (v22133 : BitVec 32) (k0_hw903 : k0_chk903 i v22133), ∀ (k0_h1 : k0_cond1 i = 1#1), ∀ a, (k0_off903 v22133) a + S1x16x128.size a ≤ S16384x16x128.size a := fun i v22133 k0_hw903 k0_h1 => k0_hw903 k0_h1

def k0_off904 (v22139 : BitVec 32) : Fin 3 → Nat :=
  let c0_i32_21332 : BitVec 32 := 0#32
  let c0_i32_21333 : BitVec 32 := 0#32
  ![v22139.toNat, 0, 0]

def k0_chk904 (i : grid0.Coords) (v22139 : BitVec 32) : Prop :=
  (∀ (k0_h1 : k0_cond1 i = 1#1), ∀ a, (k0_off904 v22139) a + S1x16x128.size a ≤ S16384x16x128.size a)
theorem k0_off904_inb : ∀ (i : grid0.Coords) (v22139 : BitVec 32) (k0_hw904 : k0_chk904 i v22139), ∀ (k0_h1 : k0_cond1 i = 1#1), ∀ a, (k0_off904 v22139) a + S1x16x128.size a ≤ S16384x16x128.size a := fun i v22139 k0_hw904 k0_h1 => k0_hw904 k0_h1

def k0_off905 (v22145 : BitVec 32) : Fin 3 → Nat :=
  let c0_i32_21339 : BitVec 32 := 0#32
  let c0_i32_21340 : BitVec 32 := 0#32
  ![v22145.toNat, 0, 0]

def k0_chk905 (i : grid0.Coords) (v22145 : BitVec 32) : Prop :=
  (∀ (k0_h1 : k0_cond1 i = 1#1), ∀ a, (k0_off905 v22145) a + S1x16x128.size a ≤ S16384x16x128.size a)
theorem k0_off905_inb : ∀ (i : grid0.Coords) (v22145 : BitVec 32) (k0_hw905 : k0_chk905 i v22145), ∀ (k0_h1 : k0_cond1 i = 1#1), ∀ a, (k0_off905 v22145) a + S1x16x128.size a ≤ S16384x16x128.size a := fun i v22145 k0_hw905 k0_h1 => k0_hw905 k0_h1

def k0_off906 (v22151 : BitVec 32) : Fin 3 → Nat :=
  let c0_i32_21346 : BitVec 32 := 0#32
  let c0_i32_21347 : BitVec 32 := 0#32
  ![v22151.toNat, 0, 0]

def k0_chk906 (i : grid0.Coords) (v22151 : BitVec 32) : Prop :=
  (∀ (k0_h1 : k0_cond1 i = 1#1), ∀ a, (k0_off906 v22151) a + S1x16x128.size a ≤ S16384x16x128.size a)
theorem k0_off906_inb : ∀ (i : grid0.Coords) (v22151 : BitVec 32) (k0_hw906 : k0_chk906 i v22151), ∀ (k0_h1 : k0_cond1 i = 1#1), ∀ a, (k0_off906 v22151) a + S1x16x128.size a ≤ S16384x16x128.size a := fun i v22151 k0_hw906 k0_h1 => k0_hw906 k0_h1

def k0_off907 (v22157 : BitVec 32) : Fin 3 → Nat :=
  let c0_i32_21353 : BitVec 32 := 0#32
  let c0_i32_21354 : BitVec 32 := 0#32
  ![v22157.toNat, 0, 0]

def k0_chk907 (i : grid0.Coords) (v22157 : BitVec 32) : Prop :=
  (∀ (k0_h1 : k0_cond1 i = 1#1), ∀ a, (k0_off907 v22157) a + S1x16x128.size a ≤ S16384x16x128.size a)
theorem k0_off907_inb : ∀ (i : grid0.Coords) (v22157 : BitVec 32) (k0_hw907 : k0_chk907 i v22157), ∀ (k0_h1 : k0_cond1 i = 1#1), ∀ a, (k0_off907 v22157) a + S1x16x128.size a ≤ S16384x16x128.size a := fun i v22157 k0_hw907 k0_h1 => k0_hw907 k0_h1

def k0_off908 (v22163 : BitVec 32) : Fin 3 → Nat :=
  let c0_i32_21360 : BitVec 32 := 0#32
  let c0_i32_21361 : BitVec 32 := 0#32
  ![v22163.toNat, 0, 0]

def k0_chk908 (i : grid0.Coords) (v22163 : BitVec 32) : Prop :=
  (∀ (k0_h1 : k0_cond1 i = 1#1), ∀ a, (k0_off908 v22163) a + S1x16x128.size a ≤ S16384x16x128.size a)
theorem k0_off908_inb : ∀ (i : grid0.Coords) (v22163 : BitVec 32) (k0_hw908 : k0_chk908 i v22163), ∀ (k0_h1 : k0_cond1 i = 1#1), ∀ a, (k0_off908 v22163) a + S1x16x128.size a ≤ S16384x16x128.size a := fun i v22163 k0_hw908 k0_h1 => k0_hw908 k0_h1

def k0_off909 (v22169 : BitVec 32) : Fin 3 → Nat :=
  let c0_i32_21367 : BitVec 32 := 0#32
  let c0_i32_21368 : BitVec 32 := 0#32
  ![v22169.toNat, 0, 0]

def k0_chk909 (i : grid0.Coords) (v22169 : BitVec 32) : Prop :=
  (∀ (k0_h1 : k0_cond1 i = 1#1), ∀ a, (k0_off909 v22169) a + S1x16x128.size a ≤ S16384x16x128.size a)
theorem k0_off909_inb : ∀ (i : grid0.Coords) (v22169 : BitVec 32) (k0_hw909 : k0_chk909 i v22169), ∀ (k0_h1 : k0_cond1 i = 1#1), ∀ a, (k0_off909 v22169) a + S1x16x128.size a ≤ S16384x16x128.size a := fun i v22169 k0_hw909 k0_h1 => k0_hw909 k0_h1

def k0_off910 (v22175 : BitVec 32) : Fin 3 → Nat :=
  let c0_i32_21374 : BitVec 32 := 0#32
  let c0_i32_21375 : BitVec 32 := 0#32
  ![v22175.toNat, 0, 0]

def k0_chk910 (i : grid0.Coords) (v22175 : BitVec 32) : Prop :=
  (∀ (k0_h1 : k0_cond1 i = 1#1), ∀ a, (k0_off910 v22175) a + S1x16x128.size a ≤ S16384x16x128.size a)
theorem k0_off910_inb : ∀ (i : grid0.Coords) (v22175 : BitVec 32) (k0_hw910 : k0_chk910 i v22175), ∀ (k0_h1 : k0_cond1 i = 1#1), ∀ a, (k0_off910 v22175) a + S1x16x128.size a ≤ S16384x16x128.size a := fun i v22175 k0_hw910 k0_h1 => k0_hw910 k0_h1

def k0_off911 (v22181 : BitVec 32) : Fin 3 → Nat :=
  let c0_i32_21381 : BitVec 32 := 0#32
  let c0_i32_21382 : BitVec 32 := 0#32
  ![v22181.toNat, 0, 0]

def k0_chk911 (i : grid0.Coords) (v22181 : BitVec 32) : Prop :=
  (∀ (k0_h1 : k0_cond1 i = 1#1), ∀ a, (k0_off911 v22181) a + S1x16x128.size a ≤ S16384x16x128.size a)
theorem k0_off911_inb : ∀ (i : grid0.Coords) (v22181 : BitVec 32) (k0_hw911 : k0_chk911 i v22181), ∀ (k0_h1 : k0_cond1 i = 1#1), ∀ a, (k0_off911 v22181) a + S1x16x128.size a ≤ S16384x16x128.size a := fun i v22181 k0_hw911 k0_h1 => k0_hw911 k0_h1

def k0_off912 (v22187 : BitVec 32) : Fin 3 → Nat :=
  let c0_i32_21388 : BitVec 32 := 0#32
  let c0_i32_21389 : BitVec 32 := 0#32
  ![v22187.toNat, 0, 0]

def k0_chk912 (i : grid0.Coords) (v22187 : BitVec 32) : Prop :=
  (∀ (k0_h1 : k0_cond1 i = 1#1), ∀ a, (k0_off912 v22187) a + S1x16x128.size a ≤ S16384x16x128.size a)
theorem k0_off912_inb : ∀ (i : grid0.Coords) (v22187 : BitVec 32) (k0_hw912 : k0_chk912 i v22187), ∀ (k0_h1 : k0_cond1 i = 1#1), ∀ a, (k0_off912 v22187) a + S1x16x128.size a ≤ S16384x16x128.size a := fun i v22187 k0_hw912 k0_h1 => k0_hw912 k0_h1

def k0_off913 (v22193 : BitVec 32) : Fin 3 → Nat :=
  let c0_i32_21395 : BitVec 32 := 0#32
  let c0_i32_21396 : BitVec 32 := 0#32
  ![v22193.toNat, 0, 0]

def k0_chk913 (i : grid0.Coords) (v22193 : BitVec 32) : Prop :=
  (∀ (k0_h1 : k0_cond1 i = 1#1), ∀ a, (k0_off913 v22193) a + S1x16x128.size a ≤ S16384x16x128.size a)
theorem k0_off913_inb : ∀ (i : grid0.Coords) (v22193 : BitVec 32) (k0_hw913 : k0_chk913 i v22193), ∀ (k0_h1 : k0_cond1 i = 1#1), ∀ a, (k0_off913 v22193) a + S1x16x128.size a ≤ S16384x16x128.size a := fun i v22193 k0_hw913 k0_h1 => k0_hw913 k0_h1

def k0_off914 (v22199 : BitVec 32) : Fin 3 → Nat :=
  let c0_i32_21402 : BitVec 32 := 0#32
  let c0_i32_21403 : BitVec 32 := 0#32
  ![v22199.toNat, 0, 0]

def k0_chk914 (i : grid0.Coords) (v22199 : BitVec 32) : Prop :=
  (∀ (k0_h1 : k0_cond1 i = 1#1), ∀ a, (k0_off914 v22199) a + S1x16x128.size a ≤ S16384x16x128.size a)
theorem k0_off914_inb : ∀ (i : grid0.Coords) (v22199 : BitVec 32) (k0_hw914 : k0_chk914 i v22199), ∀ (k0_h1 : k0_cond1 i = 1#1), ∀ a, (k0_off914 v22199) a + S1x16x128.size a ≤ S16384x16x128.size a := fun i v22199 k0_hw914 k0_h1 => k0_hw914 k0_h1

def k0_off915 (v22205 : BitVec 32) : Fin 3 → Nat :=
  let c0_i32_21409 : BitVec 32 := 0#32
  let c0_i32_21410 : BitVec 32 := 0#32
  ![v22205.toNat, 0, 0]

def k0_chk915 (i : grid0.Coords) (v22205 : BitVec 32) : Prop :=
  (∀ (k0_h1 : k0_cond1 i = 1#1), ∀ a, (k0_off915 v22205) a + S1x16x128.size a ≤ S16384x16x128.size a)
theorem k0_off915_inb : ∀ (i : grid0.Coords) (v22205 : BitVec 32) (k0_hw915 : k0_chk915 i v22205), ∀ (k0_h1 : k0_cond1 i = 1#1), ∀ a, (k0_off915 v22205) a + S1x16x128.size a ≤ S16384x16x128.size a := fun i v22205 k0_hw915 k0_h1 => k0_hw915 k0_h1

def k0_off916 (v22211 : BitVec 32) : Fin 3 → Nat :=
  let c0_i32_21416 : BitVec 32 := 0#32
  let c0_i32_21417 : BitVec 32 := 0#32
  ![v22211.toNat, 0, 0]

def k0_chk916 (i : grid0.Coords) (v22211 : BitVec 32) : Prop :=
  (∀ (k0_h1 : k0_cond1 i = 1#1), ∀ a, (k0_off916 v22211) a + S1x16x128.size a ≤ S16384x16x128.size a)
theorem k0_off916_inb : ∀ (i : grid0.Coords) (v22211 : BitVec 32) (k0_hw916 : k0_chk916 i v22211), ∀ (k0_h1 : k0_cond1 i = 1#1), ∀ a, (k0_off916 v22211) a + S1x16x128.size a ≤ S16384x16x128.size a := fun i v22211 k0_hw916 k0_h1 => k0_hw916 k0_h1

def k0_off917 (v22217 : BitVec 32) : Fin 3 → Nat :=
  let c0_i32_21423 : BitVec 32 := 0#32
  let c0_i32_21424 : BitVec 32 := 0#32
  ![v22217.toNat, 0, 0]

def k0_chk917 (i : grid0.Coords) (v22217 : BitVec 32) : Prop :=
  (∀ (k0_h1 : k0_cond1 i = 1#1), ∀ a, (k0_off917 v22217) a + S1x16x128.size a ≤ S16384x16x128.size a)
theorem k0_off917_inb : ∀ (i : grid0.Coords) (v22217 : BitVec 32) (k0_hw917 : k0_chk917 i v22217), ∀ (k0_h1 : k0_cond1 i = 1#1), ∀ a, (k0_off917 v22217) a + S1x16x128.size a ≤ S16384x16x128.size a := fun i v22217 k0_hw917 k0_h1 => k0_hw917 k0_h1

def k0_off918 (v22223 : BitVec 32) : Fin 3 → Nat :=
  let c0_i32_21430 : BitVec 32 := 0#32
  let c0_i32_21431 : BitVec 32 := 0#32
  ![v22223.toNat, 0, 0]

def k0_chk918 (i : grid0.Coords) (v22223 : BitVec 32) : Prop :=
  (∀ (k0_h1 : k0_cond1 i = 1#1), ∀ a, (k0_off918 v22223) a + S1x16x128.size a ≤ S16384x16x128.size a)
theorem k0_off918_inb : ∀ (i : grid0.Coords) (v22223 : BitVec 32) (k0_hw918 : k0_chk918 i v22223), ∀ (k0_h1 : k0_cond1 i = 1#1), ∀ a, (k0_off918 v22223) a + S1x16x128.size a ≤ S16384x16x128.size a := fun i v22223 k0_hw918 k0_h1 => k0_hw918 k0_h1

def k0_off919 (v22229 : BitVec 32) : Fin 3 → Nat :=
  let c0_i32_21437 : BitVec 32 := 0#32
  let c0_i32_21438 : BitVec 32 := 0#32
  ![v22229.toNat, 0, 0]

def k0_chk919 (i : grid0.Coords) (v22229 : BitVec 32) : Prop :=
  (∀ (k0_h1 : k0_cond1 i = 1#1), ∀ a, (k0_off919 v22229) a + S1x16x128.size a ≤ S16384x16x128.size a)
theorem k0_off919_inb : ∀ (i : grid0.Coords) (v22229 : BitVec 32) (k0_hw919 : k0_chk919 i v22229), ∀ (k0_h1 : k0_cond1 i = 1#1), ∀ a, (k0_off919 v22229) a + S1x16x128.size a ≤ S16384x16x128.size a := fun i v22229 k0_hw919 k0_h1 => k0_hw919 k0_h1

def k0_off920 (v22235 : BitVec 32) : Fin 3 → Nat :=
  let c0_i32_21444 : BitVec 32 := 0#32
  let c0_i32_21445 : BitVec 32 := 0#32
  ![v22235.toNat, 0, 0]

def k0_chk920 (i : grid0.Coords) (v22235 : BitVec 32) : Prop :=
  (∀ (k0_h1 : k0_cond1 i = 1#1), ∀ a, (k0_off920 v22235) a + S1x16x128.size a ≤ S16384x16x128.size a)
theorem k0_off920_inb : ∀ (i : grid0.Coords) (v22235 : BitVec 32) (k0_hw920 : k0_chk920 i v22235), ∀ (k0_h1 : k0_cond1 i = 1#1), ∀ a, (k0_off920 v22235) a + S1x16x128.size a ≤ S16384x16x128.size a := fun i v22235 k0_hw920 k0_h1 => k0_hw920 k0_h1

def k0_off921 (v22241 : BitVec 32) : Fin 3 → Nat :=
  let c0_i32_21451 : BitVec 32 := 0#32
  let c0_i32_21452 : BitVec 32 := 0#32
  ![v22241.toNat, 0, 0]

def k0_chk921 (i : grid0.Coords) (v22241 : BitVec 32) : Prop :=
  (∀ (k0_h1 : k0_cond1 i = 1#1), ∀ a, (k0_off921 v22241) a + S1x16x128.size a ≤ S16384x16x128.size a)
theorem k0_off921_inb : ∀ (i : grid0.Coords) (v22241 : BitVec 32) (k0_hw921 : k0_chk921 i v22241), ∀ (k0_h1 : k0_cond1 i = 1#1), ∀ a, (k0_off921 v22241) a + S1x16x128.size a ≤ S16384x16x128.size a := fun i v22241 k0_hw921 k0_h1 => k0_hw921 k0_h1

def k0_off922 (v22247 : BitVec 32) : Fin 3 → Nat :=
  let c0_i32_21458 : BitVec 32 := 0#32
  let c0_i32_21459 : BitVec 32 := 0#32
  ![v22247.toNat, 0, 0]

def k0_chk922 (i : grid0.Coords) (v22247 : BitVec 32) : Prop :=
  (∀ (k0_h1 : k0_cond1 i = 1#1), ∀ a, (k0_off922 v22247) a + S1x16x128.size a ≤ S16384x16x128.size a)
theorem k0_off922_inb : ∀ (i : grid0.Coords) (v22247 : BitVec 32) (k0_hw922 : k0_chk922 i v22247), ∀ (k0_h1 : k0_cond1 i = 1#1), ∀ a, (k0_off922 v22247) a + S1x16x128.size a ≤ S16384x16x128.size a := fun i v22247 k0_hw922 k0_h1 => k0_hw922 k0_h1

def k0_off923 (v22253 : BitVec 32) : Fin 3 → Nat :=
  let c0_i32_21465 : BitVec 32 := 0#32
  let c0_i32_21466 : BitVec 32 := 0#32
  ![v22253.toNat, 0, 0]

def k0_chk923 (i : grid0.Coords) (v22253 : BitVec 32) : Prop :=
  (∀ (k0_h1 : k0_cond1 i = 1#1), ∀ a, (k0_off923 v22253) a + S1x16x128.size a ≤ S16384x16x128.size a)
theorem k0_off923_inb : ∀ (i : grid0.Coords) (v22253 : BitVec 32) (k0_hw923 : k0_chk923 i v22253), ∀ (k0_h1 : k0_cond1 i = 1#1), ∀ a, (k0_off923 v22253) a + S1x16x128.size a ≤ S16384x16x128.size a := fun i v22253 k0_hw923 k0_h1 => k0_hw923 k0_h1

def k0_off924 (v22259 : BitVec 32) : Fin 3 → Nat :=
  let c0_i32_21472 : BitVec 32 := 0#32
  let c0_i32_21473 : BitVec 32 := 0#32
  ![v22259.toNat, 0, 0]

def k0_chk924 (i : grid0.Coords) (v22259 : BitVec 32) : Prop :=
  (∀ (k0_h1 : k0_cond1 i = 1#1), ∀ a, (k0_off924 v22259) a + S1x16x128.size a ≤ S16384x16x128.size a)
theorem k0_off924_inb : ∀ (i : grid0.Coords) (v22259 : BitVec 32) (k0_hw924 : k0_chk924 i v22259), ∀ (k0_h1 : k0_cond1 i = 1#1), ∀ a, (k0_off924 v22259) a + S1x16x128.size a ≤ S16384x16x128.size a := fun i v22259 k0_hw924 k0_h1 => k0_hw924 k0_h1

def k0_off925 (v22265 : BitVec 32) : Fin 3 → Nat :=
  let c0_i32_21479 : BitVec 32 := 0#32
  let c0_i32_21480 : BitVec 32 := 0#32
  ![v22265.toNat, 0, 0]

def k0_chk925 (i : grid0.Coords) (v22265 : BitVec 32) : Prop :=
  (∀ (k0_h1 : k0_cond1 i = 1#1), ∀ a, (k0_off925 v22265) a + S1x16x128.size a ≤ S16384x16x128.size a)
theorem k0_off925_inb : ∀ (i : grid0.Coords) (v22265 : BitVec 32) (k0_hw925 : k0_chk925 i v22265), ∀ (k0_h1 : k0_cond1 i = 1#1), ∀ a, (k0_off925 v22265) a + S1x16x128.size a ≤ S16384x16x128.size a := fun i v22265 k0_hw925 k0_h1 => k0_hw925 k0_h1

def k0_off926 (v22271 : BitVec 32) : Fin 3 → Nat :=
  let c0_i32_21486 : BitVec 32 := 0#32
  let c0_i32_21487 : BitVec 32 := 0#32
  ![v22271.toNat, 0, 0]

def k0_chk926 (i : grid0.Coords) (v22271 : BitVec 32) : Prop :=
  (∀ (k0_h1 : k0_cond1 i = 1#1), ∀ a, (k0_off926 v22271) a + S1x16x128.size a ≤ S16384x16x128.size a)
theorem k0_off926_inb : ∀ (i : grid0.Coords) (v22271 : BitVec 32) (k0_hw926 : k0_chk926 i v22271), ∀ (k0_h1 : k0_cond1 i = 1#1), ∀ a, (k0_off926 v22271) a + S1x16x128.size a ≤ S16384x16x128.size a := fun i v22271 k0_hw926 k0_h1 => k0_hw926 k0_h1

def k0_off927 (v22277 : BitVec 32) : Fin 3 → Nat :=
  let c0_i32_21493 : BitVec 32 := 0#32
  let c0_i32_21494 : BitVec 32 := 0#32
  ![v22277.toNat, 0, 0]

def k0_chk927 (i : grid0.Coords) (v22277 : BitVec 32) : Prop :=
  (∀ (k0_h1 : k0_cond1 i = 1#1), ∀ a, (k0_off927 v22277) a + S1x16x128.size a ≤ S16384x16x128.size a)
theorem k0_off927_inb : ∀ (i : grid0.Coords) (v22277 : BitVec 32) (k0_hw927 : k0_chk927 i v22277), ∀ (k0_h1 : k0_cond1 i = 1#1), ∀ a, (k0_off927 v22277) a + S1x16x128.size a ≤ S16384x16x128.size a := fun i v22277 k0_hw927 k0_h1 => k0_hw927 k0_h1

def k0_off928 (v22283 : BitVec 32) : Fin 3 → Nat :=
  let c0_i32_21500 : BitVec 32 := 0#32
  let c0_i32_21501 : BitVec 32 := 0#32
  ![v22283.toNat, 0, 0]

def k0_chk928 (i : grid0.Coords) (v22283 : BitVec 32) : Prop :=
  (∀ (k0_h1 : k0_cond1 i = 1#1), ∀ a, (k0_off928 v22283) a + S1x16x128.size a ≤ S16384x16x128.size a)
theorem k0_off928_inb : ∀ (i : grid0.Coords) (v22283 : BitVec 32) (k0_hw928 : k0_chk928 i v22283), ∀ (k0_h1 : k0_cond1 i = 1#1), ∀ a, (k0_off928 v22283) a + S1x16x128.size a ≤ S16384x16x128.size a := fun i v22283 k0_hw928 k0_h1 => k0_hw928 k0_h1

def k0_off929 (v22289 : BitVec 32) : Fin 3 → Nat :=
  let c0_i32_21507 : BitVec 32 := 0#32
  let c0_i32_21508 : BitVec 32 := 0#32
  ![v22289.toNat, 0, 0]

def k0_chk929 (i : grid0.Coords) (v22289 : BitVec 32) : Prop :=
  (∀ (k0_h1 : k0_cond1 i = 1#1), ∀ a, (k0_off929 v22289) a + S1x16x128.size a ≤ S16384x16x128.size a)
theorem k0_off929_inb : ∀ (i : grid0.Coords) (v22289 : BitVec 32) (k0_hw929 : k0_chk929 i v22289), ∀ (k0_h1 : k0_cond1 i = 1#1), ∀ a, (k0_off929 v22289) a + S1x16x128.size a ≤ S16384x16x128.size a := fun i v22289 k0_hw929 k0_h1 => k0_hw929 k0_h1

def k0_off930 (v22295 : BitVec 32) : Fin 3 → Nat :=
  let c0_i32_21514 : BitVec 32 := 0#32
  let c0_i32_21515 : BitVec 32 := 0#32
  ![v22295.toNat, 0, 0]

def k0_chk930 (i : grid0.Coords) (v22295 : BitVec 32) : Prop :=
  (∀ (k0_h1 : k0_cond1 i = 1#1), ∀ a, (k0_off930 v22295) a + S1x16x128.size a ≤ S16384x16x128.size a)
theorem k0_off930_inb : ∀ (i : grid0.Coords) (v22295 : BitVec 32) (k0_hw930 : k0_chk930 i v22295), ∀ (k0_h1 : k0_cond1 i = 1#1), ∀ a, (k0_off930 v22295) a + S1x16x128.size a ≤ S16384x16x128.size a := fun i v22295 k0_hw930 k0_h1 => k0_hw930 k0_h1

def k0_off931 (v22301 : BitVec 32) : Fin 3 → Nat :=
  let c0_i32_21521 : BitVec 32 := 0#32
  let c0_i32_21522 : BitVec 32 := 0#32
  ![v22301.toNat, 0, 0]

def k0_chk931 (i : grid0.Coords) (v22301 : BitVec 32) : Prop :=
  (∀ (k0_h1 : k0_cond1 i = 1#1), ∀ a, (k0_off931 v22301) a + S1x16x128.size a ≤ S16384x16x128.size a)
theorem k0_off931_inb : ∀ (i : grid0.Coords) (v22301 : BitVec 32) (k0_hw931 : k0_chk931 i v22301), ∀ (k0_h1 : k0_cond1 i = 1#1), ∀ a, (k0_off931 v22301) a + S1x16x128.size a ≤ S16384x16x128.size a := fun i v22301 k0_hw931 k0_h1 => k0_hw931 k0_h1

def k0_off932 (v22307 : BitVec 32) : Fin 3 → Nat :=
  let c0_i32_21528 : BitVec 32 := 0#32
  let c0_i32_21529 : BitVec 32 := 0#32
  ![v22307.toNat, 0, 0]

def k0_chk932 (i : grid0.Coords) (v22307 : BitVec 32) : Prop :=
  (∀ (k0_h1 : k0_cond1 i = 1#1), ∀ a, (k0_off932 v22307) a + S1x16x128.size a ≤ S16384x16x128.size a)
theorem k0_off932_inb : ∀ (i : grid0.Coords) (v22307 : BitVec 32) (k0_hw932 : k0_chk932 i v22307), ∀ (k0_h1 : k0_cond1 i = 1#1), ∀ a, (k0_off932 v22307) a + S1x16x128.size a ≤ S16384x16x128.size a := fun i v22307 k0_hw932 k0_h1 => k0_hw932 k0_h1

def k0_off933 (v22313 : BitVec 32) : Fin 3 → Nat :=
  let c0_i32_21535 : BitVec 32 := 0#32
  let c0_i32_21536 : BitVec 32 := 0#32
  ![v22313.toNat, 0, 0]

def k0_chk933 (i : grid0.Coords) (v22313 : BitVec 32) : Prop :=
  (∀ (k0_h1 : k0_cond1 i = 1#1), ∀ a, (k0_off933 v22313) a + S1x16x128.size a ≤ S16384x16x128.size a)
theorem k0_off933_inb : ∀ (i : grid0.Coords) (v22313 : BitVec 32) (k0_hw933 : k0_chk933 i v22313), ∀ (k0_h1 : k0_cond1 i = 1#1), ∀ a, (k0_off933 v22313) a + S1x16x128.size a ≤ S16384x16x128.size a := fun i v22313 k0_hw933 k0_h1 => k0_hw933 k0_h1

def k0_off934 (v22319 : BitVec 32) : Fin 3 → Nat :=
  let c0_i32_21542 : BitVec 32 := 0#32
  let c0_i32_21543 : BitVec 32 := 0#32
  ![v22319.toNat, 0, 0]

def k0_chk934 (i : grid0.Coords) (v22319 : BitVec 32) : Prop :=
  (∀ (k0_h1 : k0_cond1 i = 1#1), ∀ a, (k0_off934 v22319) a + S1x16x128.size a ≤ S16384x16x128.size a)
theorem k0_off934_inb : ∀ (i : grid0.Coords) (v22319 : BitVec 32) (k0_hw934 : k0_chk934 i v22319), ∀ (k0_h1 : k0_cond1 i = 1#1), ∀ a, (k0_off934 v22319) a + S1x16x128.size a ≤ S16384x16x128.size a := fun i v22319 k0_hw934 k0_h1 => k0_hw934 k0_h1

def k0_off935 (v22325 : BitVec 32) : Fin 3 → Nat :=
  let c0_i32_21549 : BitVec 32 := 0#32
  let c0_i32_21550 : BitVec 32 := 0#32
  ![v22325.toNat, 0, 0]

def k0_chk935 (i : grid0.Coords) (v22325 : BitVec 32) : Prop :=
  (∀ (k0_h1 : k0_cond1 i = 1#1), ∀ a, (k0_off935 v22325) a + S1x16x128.size a ≤ S16384x16x128.size a)
theorem k0_off935_inb : ∀ (i : grid0.Coords) (v22325 : BitVec 32) (k0_hw935 : k0_chk935 i v22325), ∀ (k0_h1 : k0_cond1 i = 1#1), ∀ a, (k0_off935 v22325) a + S1x16x128.size a ≤ S16384x16x128.size a := fun i v22325 k0_hw935 k0_h1 => k0_hw935 k0_h1

def k0_off936 (v22331 : BitVec 32) : Fin 3 → Nat :=
  let c0_i32_21556 : BitVec 32 := 0#32
  let c0_i32_21557 : BitVec 32 := 0#32
  ![v22331.toNat, 0, 0]

def k0_chk936 (i : grid0.Coords) (v22331 : BitVec 32) : Prop :=
  (∀ (k0_h1 : k0_cond1 i = 1#1), ∀ a, (k0_off936 v22331) a + S1x16x128.size a ≤ S16384x16x128.size a)
theorem k0_off936_inb : ∀ (i : grid0.Coords) (v22331 : BitVec 32) (k0_hw936 : k0_chk936 i v22331), ∀ (k0_h1 : k0_cond1 i = 1#1), ∀ a, (k0_off936 v22331) a + S1x16x128.size a ≤ S16384x16x128.size a := fun i v22331 k0_hw936 k0_h1 => k0_hw936 k0_h1

def k0_off937 (v22337 : BitVec 32) : Fin 3 → Nat :=
  let c0_i32_21563 : BitVec 32 := 0#32
  let c0_i32_21564 : BitVec 32 := 0#32
  ![v22337.toNat, 0, 0]

def k0_chk937 (i : grid0.Coords) (v22337 : BitVec 32) : Prop :=
  (∀ (k0_h1 : k0_cond1 i = 1#1), ∀ a, (k0_off937 v22337) a + S1x16x128.size a ≤ S16384x16x128.size a)
theorem k0_off937_inb : ∀ (i : grid0.Coords) (v22337 : BitVec 32) (k0_hw937 : k0_chk937 i v22337), ∀ (k0_h1 : k0_cond1 i = 1#1), ∀ a, (k0_off937 v22337) a + S1x16x128.size a ≤ S16384x16x128.size a := fun i v22337 k0_hw937 k0_h1 => k0_hw937 k0_h1

def k0_off938 (v22343 : BitVec 32) : Fin 3 → Nat :=
  let c0_i32_21570 : BitVec 32 := 0#32
  let c0_i32_21571 : BitVec 32 := 0#32
  ![v22343.toNat, 0, 0]

def k0_chk938 (i : grid0.Coords) (v22343 : BitVec 32) : Prop :=
  (∀ (k0_h1 : k0_cond1 i = 1#1), ∀ a, (k0_off938 v22343) a + S1x16x128.size a ≤ S16384x16x128.size a)
theorem k0_off938_inb : ∀ (i : grid0.Coords) (v22343 : BitVec 32) (k0_hw938 : k0_chk938 i v22343), ∀ (k0_h1 : k0_cond1 i = 1#1), ∀ a, (k0_off938 v22343) a + S1x16x128.size a ≤ S16384x16x128.size a := fun i v22343 k0_hw938 k0_h1 => k0_hw938 k0_h1

def k0_off939 (v22349 : BitVec 32) : Fin 3 → Nat :=
  let c0_i32_21577 : BitVec 32 := 0#32
  let c0_i32_21578 : BitVec 32 := 0#32
  ![v22349.toNat, 0, 0]

def k0_chk939 (i : grid0.Coords) (v22349 : BitVec 32) : Prop :=
  (∀ (k0_h1 : k0_cond1 i = 1#1), ∀ a, (k0_off939 v22349) a + S1x16x128.size a ≤ S16384x16x128.size a)
theorem k0_off939_inb : ∀ (i : grid0.Coords) (v22349 : BitVec 32) (k0_hw939 : k0_chk939 i v22349), ∀ (k0_h1 : k0_cond1 i = 1#1), ∀ a, (k0_off939 v22349) a + S1x16x128.size a ≤ S16384x16x128.size a := fun i v22349 k0_hw939 k0_h1 => k0_hw939 k0_h1

def k0_off940 (v22355 : BitVec 32) : Fin 3 → Nat :=
  let c0_i32_21584 : BitVec 32 := 0#32
  let c0_i32_21585 : BitVec 32 := 0#32
  ![v22355.toNat, 0, 0]

def k0_chk940 (i : grid0.Coords) (v22355 : BitVec 32) : Prop :=
  (∀ (k0_h1 : k0_cond1 i = 1#1), ∀ a, (k0_off940 v22355) a + S1x16x128.size a ≤ S16384x16x128.size a)
theorem k0_off940_inb : ∀ (i : grid0.Coords) (v22355 : BitVec 32) (k0_hw940 : k0_chk940 i v22355), ∀ (k0_h1 : k0_cond1 i = 1#1), ∀ a, (k0_off940 v22355) a + S1x16x128.size a ≤ S16384x16x128.size a := fun i v22355 k0_hw940 k0_h1 => k0_hw940 k0_h1

def k0_off941 (v22361 : BitVec 32) : Fin 3 → Nat :=
  let c0_i32_21591 : BitVec 32 := 0#32
  let c0_i32_21592 : BitVec 32 := 0#32
  ![v22361.toNat, 0, 0]

def k0_chk941 (i : grid0.Coords) (v22361 : BitVec 32) : Prop :=
  (∀ (k0_h1 : k0_cond1 i = 1#1), ∀ a, (k0_off941 v22361) a + S1x16x128.size a ≤ S16384x16x128.size a)
theorem k0_off941_inb : ∀ (i : grid0.Coords) (v22361 : BitVec 32) (k0_hw941 : k0_chk941 i v22361), ∀ (k0_h1 : k0_cond1 i = 1#1), ∀ a, (k0_off941 v22361) a + S1x16x128.size a ≤ S16384x16x128.size a := fun i v22361 k0_hw941 k0_h1 => k0_hw941 k0_h1

def k0_off942 (v22367 : BitVec 32) : Fin 3 → Nat :=
  let c0_i32_21598 : BitVec 32 := 0#32
  let c0_i32_21599 : BitVec 32 := 0#32
  ![v22367.toNat, 0, 0]

def k0_chk942 (i : grid0.Coords) (v22367 : BitVec 32) : Prop :=
  (∀ (k0_h1 : k0_cond1 i = 1#1), ∀ a, (k0_off942 v22367) a + S1x16x128.size a ≤ S16384x16x128.size a)
theorem k0_off942_inb : ∀ (i : grid0.Coords) (v22367 : BitVec 32) (k0_hw942 : k0_chk942 i v22367), ∀ (k0_h1 : k0_cond1 i = 1#1), ∀ a, (k0_off942 v22367) a + S1x16x128.size a ≤ S16384x16x128.size a := fun i v22367 k0_hw942 k0_h1 => k0_hw942 k0_h1

def k0_off943 (v22373 : BitVec 32) : Fin 3 → Nat :=
  let c0_i32_21605 : BitVec 32 := 0#32
  let c0_i32_21606 : BitVec 32 := 0#32
  ![v22373.toNat, 0, 0]

def k0_chk943 (i : grid0.Coords) (v22373 : BitVec 32) : Prop :=
  (∀ (k0_h1 : k0_cond1 i = 1#1), ∀ a, (k0_off943 v22373) a + S1x16x128.size a ≤ S16384x16x128.size a)
theorem k0_off943_inb : ∀ (i : grid0.Coords) (v22373 : BitVec 32) (k0_hw943 : k0_chk943 i v22373), ∀ (k0_h1 : k0_cond1 i = 1#1), ∀ a, (k0_off943 v22373) a + S1x16x128.size a ≤ S16384x16x128.size a := fun i v22373 k0_hw943 k0_h1 => k0_hw943 k0_h1

def k0_off944 (v22379 : BitVec 32) : Fin 3 → Nat :=
  let c0_i32_21612 : BitVec 32 := 0#32
  let c0_i32_21613 : BitVec 32 := 0#32
  ![v22379.toNat, 0, 0]

def k0_chk944 (i : grid0.Coords) (v22379 : BitVec 32) : Prop :=
  (∀ (k0_h1 : k0_cond1 i = 1#1), ∀ a, (k0_off944 v22379) a + S1x16x128.size a ≤ S16384x16x128.size a)
theorem k0_off944_inb : ∀ (i : grid0.Coords) (v22379 : BitVec 32) (k0_hw944 : k0_chk944 i v22379), ∀ (k0_h1 : k0_cond1 i = 1#1), ∀ a, (k0_off944 v22379) a + S1x16x128.size a ≤ S16384x16x128.size a := fun i v22379 k0_hw944 k0_h1 => k0_hw944 k0_h1

def k0_off945 (v22385 : BitVec 32) : Fin 3 → Nat :=
  let c0_i32_21619 : BitVec 32 := 0#32
  let c0_i32_21620 : BitVec 32 := 0#32
  ![v22385.toNat, 0, 0]

def k0_chk945 (i : grid0.Coords) (v22385 : BitVec 32) : Prop :=
  (∀ (k0_h1 : k0_cond1 i = 1#1), ∀ a, (k0_off945 v22385) a + S1x16x128.size a ≤ S16384x16x128.size a)
theorem k0_off945_inb : ∀ (i : grid0.Coords) (v22385 : BitVec 32) (k0_hw945 : k0_chk945 i v22385), ∀ (k0_h1 : k0_cond1 i = 1#1), ∀ a, (k0_off945 v22385) a + S1x16x128.size a ≤ S16384x16x128.size a := fun i v22385 k0_hw945 k0_h1 => k0_hw945 k0_h1

def k0_off946 (v22391 : BitVec 32) : Fin 3 → Nat :=
  let c0_i32_21626 : BitVec 32 := 0#32
  let c0_i32_21627 : BitVec 32 := 0#32
  ![v22391.toNat, 0, 0]

def k0_chk946 (i : grid0.Coords) (v22391 : BitVec 32) : Prop :=
  (∀ (k0_h1 : k0_cond1 i = 1#1), ∀ a, (k0_off946 v22391) a + S1x16x128.size a ≤ S16384x16x128.size a)
theorem k0_off946_inb : ∀ (i : grid0.Coords) (v22391 : BitVec 32) (k0_hw946 : k0_chk946 i v22391), ∀ (k0_h1 : k0_cond1 i = 1#1), ∀ a, (k0_off946 v22391) a + S1x16x128.size a ≤ S16384x16x128.size a := fun i v22391 k0_hw946 k0_h1 => k0_hw946 k0_h1

def k0_off947 (v22397 : BitVec 32) : Fin 3 → Nat :=
  let c0_i32_21633 : BitVec 32 := 0#32
  let c0_i32_21634 : BitVec 32 := 0#32
  ![v22397.toNat, 0, 0]

def k0_chk947 (i : grid0.Coords) (v22397 : BitVec 32) : Prop :=
  (∀ (k0_h1 : k0_cond1 i = 1#1), ∀ a, (k0_off947 v22397) a + S1x16x128.size a ≤ S16384x16x128.size a)
theorem k0_off947_inb : ∀ (i : grid0.Coords) (v22397 : BitVec 32) (k0_hw947 : k0_chk947 i v22397), ∀ (k0_h1 : k0_cond1 i = 1#1), ∀ a, (k0_off947 v22397) a + S1x16x128.size a ≤ S16384x16x128.size a := fun i v22397 k0_hw947 k0_h1 => k0_hw947 k0_h1

def k0_off948 (v22403 : BitVec 32) : Fin 3 → Nat :=
  let c0_i32_21640 : BitVec 32 := 0#32
  let c0_i32_21641 : BitVec 32 := 0#32
  ![v22403.toNat, 0, 0]

def k0_chk948 (i : grid0.Coords) (v22403 : BitVec 32) : Prop :=
  (∀ (k0_h1 : k0_cond1 i = 1#1), ∀ a, (k0_off948 v22403) a + S1x16x128.size a ≤ S16384x16x128.size a)
theorem k0_off948_inb : ∀ (i : grid0.Coords) (v22403 : BitVec 32) (k0_hw948 : k0_chk948 i v22403), ∀ (k0_h1 : k0_cond1 i = 1#1), ∀ a, (k0_off948 v22403) a + S1x16x128.size a ≤ S16384x16x128.size a := fun i v22403 k0_hw948 k0_h1 => k0_hw948 k0_h1

def k0_off949 (v22409 : BitVec 32) : Fin 3 → Nat :=
  let c0_i32_21647 : BitVec 32 := 0#32
  let c0_i32_21648 : BitVec 32 := 0#32
  ![v22409.toNat, 0, 0]

def k0_chk949 (i : grid0.Coords) (v22409 : BitVec 32) : Prop :=
  (∀ (k0_h1 : k0_cond1 i = 1#1), ∀ a, (k0_off949 v22409) a + S1x16x128.size a ≤ S16384x16x128.size a)
theorem k0_off949_inb : ∀ (i : grid0.Coords) (v22409 : BitVec 32) (k0_hw949 : k0_chk949 i v22409), ∀ (k0_h1 : k0_cond1 i = 1#1), ∀ a, (k0_off949 v22409) a + S1x16x128.size a ≤ S16384x16x128.size a := fun i v22409 k0_hw949 k0_h1 => k0_hw949 k0_h1

def k0_off950 (v22415 : BitVec 32) : Fin 3 → Nat :=
  let c0_i32_21654 : BitVec 32 := 0#32
  let c0_i32_21655 : BitVec 32 := 0#32
  ![v22415.toNat, 0, 0]

def k0_chk950 (i : grid0.Coords) (v22415 : BitVec 32) : Prop :=
  (∀ (k0_h1 : k0_cond1 i = 1#1), ∀ a, (k0_off950 v22415) a + S1x16x128.size a ≤ S16384x16x128.size a)
theorem k0_off950_inb : ∀ (i : grid0.Coords) (v22415 : BitVec 32) (k0_hw950 : k0_chk950 i v22415), ∀ (k0_h1 : k0_cond1 i = 1#1), ∀ a, (k0_off950 v22415) a + S1x16x128.size a ≤ S16384x16x128.size a := fun i v22415 k0_hw950 k0_h1 => k0_hw950 k0_h1

def k0_off951 (v22421 : BitVec 32) : Fin 3 → Nat :=
  let c0_i32_21661 : BitVec 32 := 0#32
  let c0_i32_21662 : BitVec 32 := 0#32
  ![v22421.toNat, 0, 0]

def k0_chk951 (i : grid0.Coords) (v22421 : BitVec 32) : Prop :=
  (∀ (k0_h1 : k0_cond1 i = 1#1), ∀ a, (k0_off951 v22421) a + S1x16x128.size a ≤ S16384x16x128.size a)
theorem k0_off951_inb : ∀ (i : grid0.Coords) (v22421 : BitVec 32) (k0_hw951 : k0_chk951 i v22421), ∀ (k0_h1 : k0_cond1 i = 1#1), ∀ a, (k0_off951 v22421) a + S1x16x128.size a ≤ S16384x16x128.size a := fun i v22421 k0_hw951 k0_h1 => k0_hw951 k0_h1

def k0_off952 (v22427 : BitVec 32) : Fin 3 → Nat :=
  let c0_i32_21668 : BitVec 32 := 0#32
  let c0_i32_21669 : BitVec 32 := 0#32
  ![v22427.toNat, 0, 0]

def k0_chk952 (i : grid0.Coords) (v22427 : BitVec 32) : Prop :=
  (∀ (k0_h1 : k0_cond1 i = 1#1), ∀ a, (k0_off952 v22427) a + S1x16x128.size a ≤ S16384x16x128.size a)
theorem k0_off952_inb : ∀ (i : grid0.Coords) (v22427 : BitVec 32) (k0_hw952 : k0_chk952 i v22427), ∀ (k0_h1 : k0_cond1 i = 1#1), ∀ a, (k0_off952 v22427) a + S1x16x128.size a ≤ S16384x16x128.size a := fun i v22427 k0_hw952 k0_h1 => k0_hw952 k0_h1

def k0_off953 (v22433 : BitVec 32) : Fin 3 → Nat :=
  let c0_i32_21675 : BitVec 32 := 0#32
  let c0_i32_21676 : BitVec 32 := 0#32
  ![v22433.toNat, 0, 0]

def k0_chk953 (i : grid0.Coords) (v22433 : BitVec 32) : Prop :=
  (∀ (k0_h1 : k0_cond1 i = 1#1), ∀ a, (k0_off953 v22433) a + S1x16x128.size a ≤ S16384x16x128.size a)
theorem k0_off953_inb : ∀ (i : grid0.Coords) (v22433 : BitVec 32) (k0_hw953 : k0_chk953 i v22433), ∀ (k0_h1 : k0_cond1 i = 1#1), ∀ a, (k0_off953 v22433) a + S1x16x128.size a ≤ S16384x16x128.size a := fun i v22433 k0_hw953 k0_h1 => k0_hw953 k0_h1

def k0_off954 (v22439 : BitVec 32) : Fin 3 → Nat :=
  let c0_i32_21682 : BitVec 32 := 0#32
  let c0_i32_21683 : BitVec 32 := 0#32
  ![v22439.toNat, 0, 0]

def k0_chk954 (i : grid0.Coords) (v22439 : BitVec 32) : Prop :=
  (∀ (k0_h1 : k0_cond1 i = 1#1), ∀ a, (k0_off954 v22439) a + S1x16x128.size a ≤ S16384x16x128.size a)
theorem k0_off954_inb : ∀ (i : grid0.Coords) (v22439 : BitVec 32) (k0_hw954 : k0_chk954 i v22439), ∀ (k0_h1 : k0_cond1 i = 1#1), ∀ a, (k0_off954 v22439) a + S1x16x128.size a ≤ S16384x16x128.size a := fun i v22439 k0_hw954 k0_h1 => k0_hw954 k0_h1

def k0_off955 (v22445 : BitVec 32) : Fin 3 → Nat :=
  let c0_i32_21689 : BitVec 32 := 0#32
  let c0_i32_21690 : BitVec 32 := 0#32
  ![v22445.toNat, 0, 0]

def k0_chk955 (i : grid0.Coords) (v22445 : BitVec 32) : Prop :=
  (∀ (k0_h1 : k0_cond1 i = 1#1), ∀ a, (k0_off955 v22445) a + S1x16x128.size a ≤ S16384x16x128.size a)
theorem k0_off955_inb : ∀ (i : grid0.Coords) (v22445 : BitVec 32) (k0_hw955 : k0_chk955 i v22445), ∀ (k0_h1 : k0_cond1 i = 1#1), ∀ a, (k0_off955 v22445) a + S1x16x128.size a ≤ S16384x16x128.size a := fun i v22445 k0_hw955 k0_h1 => k0_hw955 k0_h1

def k0_off956 (v22451 : BitVec 32) : Fin 3 → Nat :=
  let c0_i32_21696 : BitVec 32 := 0#32
  let c0_i32_21697 : BitVec 32 := 0#32
  ![v22451.toNat, 0, 0]

def k0_chk956 (i : grid0.Coords) (v22451 : BitVec 32) : Prop :=
  (∀ (k0_h1 : k0_cond1 i = 1#1), ∀ a, (k0_off956 v22451) a + S1x16x128.size a ≤ S16384x16x128.size a)
theorem k0_off956_inb : ∀ (i : grid0.Coords) (v22451 : BitVec 32) (k0_hw956 : k0_chk956 i v22451), ∀ (k0_h1 : k0_cond1 i = 1#1), ∀ a, (k0_off956 v22451) a + S1x16x128.size a ≤ S16384x16x128.size a := fun i v22451 k0_hw956 k0_h1 => k0_hw956 k0_h1

def k0_off957 (v22457 : BitVec 32) : Fin 3 → Nat :=
  let c0_i32_21703 : BitVec 32 := 0#32
  let c0_i32_21704 : BitVec 32 := 0#32
  ![v22457.toNat, 0, 0]

def k0_chk957 (i : grid0.Coords) (v22457 : BitVec 32) : Prop :=
  (∀ (k0_h1 : k0_cond1 i = 1#1), ∀ a, (k0_off957 v22457) a + S1x16x128.size a ≤ S16384x16x128.size a)
theorem k0_off957_inb : ∀ (i : grid0.Coords) (v22457 : BitVec 32) (k0_hw957 : k0_chk957 i v22457), ∀ (k0_h1 : k0_cond1 i = 1#1), ∀ a, (k0_off957 v22457) a + S1x16x128.size a ≤ S16384x16x128.size a := fun i v22457 k0_hw957 k0_h1 => k0_hw957 k0_h1

def k0_off958 (v22463 : BitVec 32) : Fin 3 → Nat :=
  let c0_i32_21710 : BitVec 32 := 0#32
  let c0_i32_21711 : BitVec 32 := 0#32
  ![v22463.toNat, 0, 0]

def k0_chk958 (i : grid0.Coords) (v22463 : BitVec 32) : Prop :=
  (∀ (k0_h1 : k0_cond1 i = 1#1), ∀ a, (k0_off958 v22463) a + S1x16x128.size a ≤ S16384x16x128.size a)
theorem k0_off958_inb : ∀ (i : grid0.Coords) (v22463 : BitVec 32) (k0_hw958 : k0_chk958 i v22463), ∀ (k0_h1 : k0_cond1 i = 1#1), ∀ a, (k0_off958 v22463) a + S1x16x128.size a ≤ S16384x16x128.size a := fun i v22463 k0_hw958 k0_h1 => k0_hw958 k0_h1

def k0_off959 (v22469 : BitVec 32) : Fin 3 → Nat :=
  let c0_i32_21717 : BitVec 32 := 0#32
  let c0_i32_21718 : BitVec 32 := 0#32
  ![v22469.toNat, 0, 0]

def k0_chk959 (i : grid0.Coords) (v22469 : BitVec 32) : Prop :=
  (∀ (k0_h1 : k0_cond1 i = 1#1), ∀ a, (k0_off959 v22469) a + S1x16x128.size a ≤ S16384x16x128.size a)
theorem k0_off959_inb : ∀ (i : grid0.Coords) (v22469 : BitVec 32) (k0_hw959 : k0_chk959 i v22469), ∀ (k0_h1 : k0_cond1 i = 1#1), ∀ a, (k0_off959 v22469) a + S1x16x128.size a ≤ S16384x16x128.size a := fun i v22469 k0_hw959 k0_h1 => k0_hw959 k0_h1

def k0_off960 (v22475 : BitVec 32) : Fin 3 → Nat :=
  let c0_i32_21724 : BitVec 32 := 0#32
  let c0_i32_21725 : BitVec 32 := 0#32
  ![v22475.toNat, 0, 0]

def k0_chk960 (i : grid0.Coords) (v22475 : BitVec 32) : Prop :=
  (∀ (k0_h1 : k0_cond1 i = 1#1), ∀ a, (k0_off960 v22475) a + S1x16x128.size a ≤ S16384x16x128.size a)
theorem k0_off960_inb : ∀ (i : grid0.Coords) (v22475 : BitVec 32) (k0_hw960 : k0_chk960 i v22475), ∀ (k0_h1 : k0_cond1 i = 1#1), ∀ a, (k0_off960 v22475) a + S1x16x128.size a ≤ S16384x16x128.size a := fun i v22475 k0_hw960 k0_h1 => k0_hw960 k0_h1

def k0_off961 (v22481 : BitVec 32) : Fin 3 → Nat :=
  let c0_i32_21731 : BitVec 32 := 0#32
  let c0_i32_21732 : BitVec 32 := 0#32
  ![v22481.toNat, 0, 0]

def k0_chk961 (i : grid0.Coords) (v22481 : BitVec 32) : Prop :=
  (∀ (k0_h1 : k0_cond1 i = 1#1), ∀ a, (k0_off961 v22481) a + S1x16x128.size a ≤ S16384x16x128.size a)
theorem k0_off961_inb : ∀ (i : grid0.Coords) (v22481 : BitVec 32) (k0_hw961 : k0_chk961 i v22481), ∀ (k0_h1 : k0_cond1 i = 1#1), ∀ a, (k0_off961 v22481) a + S1x16x128.size a ≤ S16384x16x128.size a := fun i v22481 k0_hw961 k0_h1 => k0_hw961 k0_h1

def k0_off962 (v22487 : BitVec 32) : Fin 3 → Nat :=
  let c0_i32_21738 : BitVec 32 := 0#32
  let c0_i32_21739 : BitVec 32 := 0#32
  ![v22487.toNat, 0, 0]

def k0_chk962 (i : grid0.Coords) (v22487 : BitVec 32) : Prop :=
  (∀ (k0_h1 : k0_cond1 i = 1#1), ∀ a, (k0_off962 v22487) a + S1x16x128.size a ≤ S16384x16x128.size a)
theorem k0_off962_inb : ∀ (i : grid0.Coords) (v22487 : BitVec 32) (k0_hw962 : k0_chk962 i v22487), ∀ (k0_h1 : k0_cond1 i = 1#1), ∀ a, (k0_off962 v22487) a + S1x16x128.size a ≤ S16384x16x128.size a := fun i v22487 k0_hw962 k0_h1 => k0_hw962 k0_h1

def k0_off963 (v22493 : BitVec 32) : Fin 3 → Nat :=
  let c0_i32_21745 : BitVec 32 := 0#32
  let c0_i32_21746 : BitVec 32 := 0#32
  ![v22493.toNat, 0, 0]

def k0_chk963 (i : grid0.Coords) (v22493 : BitVec 32) : Prop :=
  (∀ (k0_h1 : k0_cond1 i = 1#1), ∀ a, (k0_off963 v22493) a + S1x16x128.size a ≤ S16384x16x128.size a)
theorem k0_off963_inb : ∀ (i : grid0.Coords) (v22493 : BitVec 32) (k0_hw963 : k0_chk963 i v22493), ∀ (k0_h1 : k0_cond1 i = 1#1), ∀ a, (k0_off963 v22493) a + S1x16x128.size a ≤ S16384x16x128.size a := fun i v22493 k0_hw963 k0_h1 => k0_hw963 k0_h1

def k0_off964 (v22499 : BitVec 32) : Fin 3 → Nat :=
  let c0_i32_21752 : BitVec 32 := 0#32
  let c0_i32_21753 : BitVec 32 := 0#32
  ![v22499.toNat, 0, 0]

def k0_chk964 (i : grid0.Coords) (v22499 : BitVec 32) : Prop :=
  (∀ (k0_h1 : k0_cond1 i = 1#1), ∀ a, (k0_off964 v22499) a + S1x16x128.size a ≤ S16384x16x128.size a)
theorem k0_off964_inb : ∀ (i : grid0.Coords) (v22499 : BitVec 32) (k0_hw964 : k0_chk964 i v22499), ∀ (k0_h1 : k0_cond1 i = 1#1), ∀ a, (k0_off964 v22499) a + S1x16x128.size a ≤ S16384x16x128.size a := fun i v22499 k0_hw964 k0_h1 => k0_hw964 k0_h1

def k0_off965 (v22505 : BitVec 32) : Fin 3 → Nat :=
  let c0_i32_21759 : BitVec 32 := 0#32
  let c0_i32_21760 : BitVec 32 := 0#32
  ![v22505.toNat, 0, 0]

def k0_chk965 (i : grid0.Coords) (v22505 : BitVec 32) : Prop :=
  (∀ (k0_h1 : k0_cond1 i = 1#1), ∀ a, (k0_off965 v22505) a + S1x16x128.size a ≤ S16384x16x128.size a)
theorem k0_off965_inb : ∀ (i : grid0.Coords) (v22505 : BitVec 32) (k0_hw965 : k0_chk965 i v22505), ∀ (k0_h1 : k0_cond1 i = 1#1), ∀ a, (k0_off965 v22505) a + S1x16x128.size a ≤ S16384x16x128.size a := fun i v22505 k0_hw965 k0_h1 => k0_hw965 k0_h1

def k0_off966 (v22511 : BitVec 32) : Fin 3 → Nat :=
  let c0_i32_21766 : BitVec 32 := 0#32
  let c0_i32_21767 : BitVec 32 := 0#32
  ![v22511.toNat, 0, 0]

def k0_chk966 (i : grid0.Coords) (v22511 : BitVec 32) : Prop :=
  (∀ (k0_h1 : k0_cond1 i = 1#1), ∀ a, (k0_off966 v22511) a + S1x16x128.size a ≤ S16384x16x128.size a)
theorem k0_off966_inb : ∀ (i : grid0.Coords) (v22511 : BitVec 32) (k0_hw966 : k0_chk966 i v22511), ∀ (k0_h1 : k0_cond1 i = 1#1), ∀ a, (k0_off966 v22511) a + S1x16x128.size a ≤ S16384x16x128.size a := fun i v22511 k0_hw966 k0_h1 => k0_hw966 k0_h1

def k0_off967 (v22517 : BitVec 32) : Fin 3 → Nat :=
  let c0_i32_21773 : BitVec 32 := 0#32
  let c0_i32_21774 : BitVec 32 := 0#32
  ![v22517.toNat, 0, 0]

def k0_chk967 (i : grid0.Coords) (v22517 : BitVec 32) : Prop :=
  (∀ (k0_h1 : k0_cond1 i = 1#1), ∀ a, (k0_off967 v22517) a + S1x16x128.size a ≤ S16384x16x128.size a)
theorem k0_off967_inb : ∀ (i : grid0.Coords) (v22517 : BitVec 32) (k0_hw967 : k0_chk967 i v22517), ∀ (k0_h1 : k0_cond1 i = 1#1), ∀ a, (k0_off967 v22517) a + S1x16x128.size a ≤ S16384x16x128.size a := fun i v22517 k0_hw967 k0_h1 => k0_hw967 k0_h1

def k0_off968 (v22523 : BitVec 32) : Fin 3 → Nat :=
  let c0_i32_21780 : BitVec 32 := 0#32
  let c0_i32_21781 : BitVec 32 := 0#32
  ![v22523.toNat, 0, 0]

def k0_chk968 (i : grid0.Coords) (v22523 : BitVec 32) : Prop :=
  (∀ (k0_h1 : k0_cond1 i = 1#1), ∀ a, (k0_off968 v22523) a + S1x16x128.size a ≤ S16384x16x128.size a)
theorem k0_off968_inb : ∀ (i : grid0.Coords) (v22523 : BitVec 32) (k0_hw968 : k0_chk968 i v22523), ∀ (k0_h1 : k0_cond1 i = 1#1), ∀ a, (k0_off968 v22523) a + S1x16x128.size a ≤ S16384x16x128.size a := fun i v22523 k0_hw968 k0_h1 => k0_hw968 k0_h1

def k0_off969 (v22529 : BitVec 32) : Fin 3 → Nat :=
  let c0_i32_21787 : BitVec 32 := 0#32
  let c0_i32_21788 : BitVec 32 := 0#32
  ![v22529.toNat, 0, 0]

def k0_chk969 (i : grid0.Coords) (v22529 : BitVec 32) : Prop :=
  (∀ (k0_h1 : k0_cond1 i = 1#1), ∀ a, (k0_off969 v22529) a + S1x16x128.size a ≤ S16384x16x128.size a)
theorem k0_off969_inb : ∀ (i : grid0.Coords) (v22529 : BitVec 32) (k0_hw969 : k0_chk969 i v22529), ∀ (k0_h1 : k0_cond1 i = 1#1), ∀ a, (k0_off969 v22529) a + S1x16x128.size a ≤ S16384x16x128.size a := fun i v22529 k0_hw969 k0_h1 => k0_hw969 k0_h1

def k0_off970 (v22535 : BitVec 32) : Fin 3 → Nat :=
  let c0_i32_21794 : BitVec 32 := 0#32
  let c0_i32_21795 : BitVec 32 := 0#32
  ![v22535.toNat, 0, 0]

def k0_chk970 (i : grid0.Coords) (v22535 : BitVec 32) : Prop :=
  (∀ (k0_h1 : k0_cond1 i = 1#1), ∀ a, (k0_off970 v22535) a + S1x16x128.size a ≤ S16384x16x128.size a)
theorem k0_off970_inb : ∀ (i : grid0.Coords) (v22535 : BitVec 32) (k0_hw970 : k0_chk970 i v22535), ∀ (k0_h1 : k0_cond1 i = 1#1), ∀ a, (k0_off970 v22535) a + S1x16x128.size a ≤ S16384x16x128.size a := fun i v22535 k0_hw970 k0_h1 => k0_hw970 k0_h1

def k0_off971 (v22541 : BitVec 32) : Fin 3 → Nat :=
  let c0_i32_21801 : BitVec 32 := 0#32
  let c0_i32_21802 : BitVec 32 := 0#32
  ![v22541.toNat, 0, 0]

def k0_chk971 (i : grid0.Coords) (v22541 : BitVec 32) : Prop :=
  (∀ (k0_h1 : k0_cond1 i = 1#1), ∀ a, (k0_off971 v22541) a + S1x16x128.size a ≤ S16384x16x128.size a)
theorem k0_off971_inb : ∀ (i : grid0.Coords) (v22541 : BitVec 32) (k0_hw971 : k0_chk971 i v22541), ∀ (k0_h1 : k0_cond1 i = 1#1), ∀ a, (k0_off971 v22541) a + S1x16x128.size a ≤ S16384x16x128.size a := fun i v22541 k0_hw971 k0_h1 => k0_hw971 k0_h1

def k0_off972 (v22547 : BitVec 32) : Fin 3 → Nat :=
  let c0_i32_21808 : BitVec 32 := 0#32
  let c0_i32_21809 : BitVec 32 := 0#32
  ![v22547.toNat, 0, 0]

def k0_chk972 (i : grid0.Coords) (v22547 : BitVec 32) : Prop :=
  (∀ (k0_h1 : k0_cond1 i = 1#1), ∀ a, (k0_off972 v22547) a + S1x16x128.size a ≤ S16384x16x128.size a)
theorem k0_off972_inb : ∀ (i : grid0.Coords) (v22547 : BitVec 32) (k0_hw972 : k0_chk972 i v22547), ∀ (k0_h1 : k0_cond1 i = 1#1), ∀ a, (k0_off972 v22547) a + S1x16x128.size a ≤ S16384x16x128.size a := fun i v22547 k0_hw972 k0_h1 => k0_hw972 k0_h1

def k0_off973 (v22553 : BitVec 32) : Fin 3 → Nat :=
  let c0_i32_21815 : BitVec 32 := 0#32
  let c0_i32_21816 : BitVec 32 := 0#32
  ![v22553.toNat, 0, 0]

def k0_chk973 (i : grid0.Coords) (v22553 : BitVec 32) : Prop :=
  (∀ (k0_h1 : k0_cond1 i = 1#1), ∀ a, (k0_off973 v22553) a + S1x16x128.size a ≤ S16384x16x128.size a)
theorem k0_off973_inb : ∀ (i : grid0.Coords) (v22553 : BitVec 32) (k0_hw973 : k0_chk973 i v22553), ∀ (k0_h1 : k0_cond1 i = 1#1), ∀ a, (k0_off973 v22553) a + S1x16x128.size a ≤ S16384x16x128.size a := fun i v22553 k0_hw973 k0_h1 => k0_hw973 k0_h1

def k0_off974 (v22559 : BitVec 32) : Fin 3 → Nat :=
  let c0_i32_21822 : BitVec 32 := 0#32
  let c0_i32_21823 : BitVec 32 := 0#32
  ![v22559.toNat, 0, 0]

def k0_chk974 (i : grid0.Coords) (v22559 : BitVec 32) : Prop :=
  (∀ (k0_h1 : k0_cond1 i = 1#1), ∀ a, (k0_off974 v22559) a + S1x16x128.size a ≤ S16384x16x128.size a)
theorem k0_off974_inb : ∀ (i : grid0.Coords) (v22559 : BitVec 32) (k0_hw974 : k0_chk974 i v22559), ∀ (k0_h1 : k0_cond1 i = 1#1), ∀ a, (k0_off974 v22559) a + S1x16x128.size a ≤ S16384x16x128.size a := fun i v22559 k0_hw974 k0_h1 => k0_hw974 k0_h1

def k0_off975 (v22565 : BitVec 32) : Fin 3 → Nat :=
  let c0_i32_21829 : BitVec 32 := 0#32
  let c0_i32_21830 : BitVec 32 := 0#32
  ![v22565.toNat, 0, 0]

def k0_chk975 (i : grid0.Coords) (v22565 : BitVec 32) : Prop :=
  (∀ (k0_h1 : k0_cond1 i = 1#1), ∀ a, (k0_off975 v22565) a + S1x16x128.size a ≤ S16384x16x128.size a)
theorem k0_off975_inb : ∀ (i : grid0.Coords) (v22565 : BitVec 32) (k0_hw975 : k0_chk975 i v22565), ∀ (k0_h1 : k0_cond1 i = 1#1), ∀ a, (k0_off975 v22565) a + S1x16x128.size a ≤ S16384x16x128.size a := fun i v22565 k0_hw975 k0_h1 => k0_hw975 k0_h1

def k0_off976 (v22571 : BitVec 32) : Fin 3 → Nat :=
  let c0_i32_21836 : BitVec 32 := 0#32
  let c0_i32_21837 : BitVec 32 := 0#32
  ![v22571.toNat, 0, 0]

def k0_chk976 (i : grid0.Coords) (v22571 : BitVec 32) : Prop :=
  (∀ (k0_h1 : k0_cond1 i = 1#1), ∀ a, (k0_off976 v22571) a + S1x16x128.size a ≤ S16384x16x128.size a)
theorem k0_off976_inb : ∀ (i : grid0.Coords) (v22571 : BitVec 32) (k0_hw976 : k0_chk976 i v22571), ∀ (k0_h1 : k0_cond1 i = 1#1), ∀ a, (k0_off976 v22571) a + S1x16x128.size a ≤ S16384x16x128.size a := fun i v22571 k0_hw976 k0_h1 => k0_hw976 k0_h1

def k0_off977 (v22577 : BitVec 32) : Fin 3 → Nat :=
  let c0_i32_21843 : BitVec 32 := 0#32
  let c0_i32_21844 : BitVec 32 := 0#32
  ![v22577.toNat, 0, 0]

def k0_chk977 (i : grid0.Coords) (v22577 : BitVec 32) : Prop :=
  (∀ (k0_h1 : k0_cond1 i = 1#1), ∀ a, (k0_off977 v22577) a + S1x16x128.size a ≤ S16384x16x128.size a)
theorem k0_off977_inb : ∀ (i : grid0.Coords) (v22577 : BitVec 32) (k0_hw977 : k0_chk977 i v22577), ∀ (k0_h1 : k0_cond1 i = 1#1), ∀ a, (k0_off977 v22577) a + S1x16x128.size a ≤ S16384x16x128.size a := fun i v22577 k0_hw977 k0_h1 => k0_hw977 k0_h1

def k0_off978 (v22583 : BitVec 32) : Fin 3 → Nat :=
  let c0_i32_21850 : BitVec 32 := 0#32
  let c0_i32_21851 : BitVec 32 := 0#32
  ![v22583.toNat, 0, 0]

def k0_chk978 (i : grid0.Coords) (v22583 : BitVec 32) : Prop :=
  (∀ (k0_h1 : k0_cond1 i = 1#1), ∀ a, (k0_off978 v22583) a + S1x16x128.size a ≤ S16384x16x128.size a)
theorem k0_off978_inb : ∀ (i : grid0.Coords) (v22583 : BitVec 32) (k0_hw978 : k0_chk978 i v22583), ∀ (k0_h1 : k0_cond1 i = 1#1), ∀ a, (k0_off978 v22583) a + S1x16x128.size a ≤ S16384x16x128.size a := fun i v22583 k0_hw978 k0_h1 => k0_hw978 k0_h1

def k0_off979 (v22589 : BitVec 32) : Fin 3 → Nat :=
  let c0_i32_21857 : BitVec 32 := 0#32
  let c0_i32_21858 : BitVec 32 := 0#32
  ![v22589.toNat, 0, 0]

def k0_chk979 (i : grid0.Coords) (v22589 : BitVec 32) : Prop :=
  (∀ (k0_h1 : k0_cond1 i = 1#1), ∀ a, (k0_off979 v22589) a + S1x16x128.size a ≤ S16384x16x128.size a)
theorem k0_off979_inb : ∀ (i : grid0.Coords) (v22589 : BitVec 32) (k0_hw979 : k0_chk979 i v22589), ∀ (k0_h1 : k0_cond1 i = 1#1), ∀ a, (k0_off979 v22589) a + S1x16x128.size a ≤ S16384x16x128.size a := fun i v22589 k0_hw979 k0_h1 => k0_hw979 k0_h1

def k0_off980 (v22595 : BitVec 32) : Fin 3 → Nat :=
  let c0_i32_21864 : BitVec 32 := 0#32
  let c0_i32_21865 : BitVec 32 := 0#32
  ![v22595.toNat, 0, 0]

def k0_chk980 (i : grid0.Coords) (v22595 : BitVec 32) : Prop :=
  (∀ (k0_h1 : k0_cond1 i = 1#1), ∀ a, (k0_off980 v22595) a + S1x16x128.size a ≤ S16384x16x128.size a)
theorem k0_off980_inb : ∀ (i : grid0.Coords) (v22595 : BitVec 32) (k0_hw980 : k0_chk980 i v22595), ∀ (k0_h1 : k0_cond1 i = 1#1), ∀ a, (k0_off980 v22595) a + S1x16x128.size a ≤ S16384x16x128.size a := fun i v22595 k0_hw980 k0_h1 => k0_hw980 k0_h1

def k0_off981 (v22601 : BitVec 32) : Fin 3 → Nat :=
  let c0_i32_21871 : BitVec 32 := 0#32
  let c0_i32_21872 : BitVec 32 := 0#32
  ![v22601.toNat, 0, 0]

def k0_chk981 (i : grid0.Coords) (v22601 : BitVec 32) : Prop :=
  (∀ (k0_h1 : k0_cond1 i = 1#1), ∀ a, (k0_off981 v22601) a + S1x16x128.size a ≤ S16384x16x128.size a)
theorem k0_off981_inb : ∀ (i : grid0.Coords) (v22601 : BitVec 32) (k0_hw981 : k0_chk981 i v22601), ∀ (k0_h1 : k0_cond1 i = 1#1), ∀ a, (k0_off981 v22601) a + S1x16x128.size a ≤ S16384x16x128.size a := fun i v22601 k0_hw981 k0_h1 => k0_hw981 k0_h1

def k0_off982 (v22607 : BitVec 32) : Fin 3 → Nat :=
  let c0_i32_21878 : BitVec 32 := 0#32
  let c0_i32_21879 : BitVec 32 := 0#32
  ![v22607.toNat, 0, 0]

def k0_chk982 (i : grid0.Coords) (v22607 : BitVec 32) : Prop :=
  (∀ (k0_h1 : k0_cond1 i = 1#1), ∀ a, (k0_off982 v22607) a + S1x16x128.size a ≤ S16384x16x128.size a)
theorem k0_off982_inb : ∀ (i : grid0.Coords) (v22607 : BitVec 32) (k0_hw982 : k0_chk982 i v22607), ∀ (k0_h1 : k0_cond1 i = 1#1), ∀ a, (k0_off982 v22607) a + S1x16x128.size a ≤ S16384x16x128.size a := fun i v22607 k0_hw982 k0_h1 => k0_hw982 k0_h1

def k0_off983 (v22613 : BitVec 32) : Fin 3 → Nat :=
  let c0_i32_21885 : BitVec 32 := 0#32
  let c0_i32_21886 : BitVec 32 := 0#32
  ![v22613.toNat, 0, 0]

def k0_chk983 (i : grid0.Coords) (v22613 : BitVec 32) : Prop :=
  (∀ (k0_h1 : k0_cond1 i = 1#1), ∀ a, (k0_off983 v22613) a + S1x16x128.size a ≤ S16384x16x128.size a)
theorem k0_off983_inb : ∀ (i : grid0.Coords) (v22613 : BitVec 32) (k0_hw983 : k0_chk983 i v22613), ∀ (k0_h1 : k0_cond1 i = 1#1), ∀ a, (k0_off983 v22613) a + S1x16x128.size a ≤ S16384x16x128.size a := fun i v22613 k0_hw983 k0_h1 => k0_hw983 k0_h1

def k0_off984 (v22619 : BitVec 32) : Fin 3 → Nat :=
  let c0_i32_21892 : BitVec 32 := 0#32
  let c0_i32_21893 : BitVec 32 := 0#32
  ![v22619.toNat, 0, 0]

def k0_chk984 (i : grid0.Coords) (v22619 : BitVec 32) : Prop :=
  (∀ (k0_h1 : k0_cond1 i = 1#1), ∀ a, (k0_off984 v22619) a + S1x16x128.size a ≤ S16384x16x128.size a)
theorem k0_off984_inb : ∀ (i : grid0.Coords) (v22619 : BitVec 32) (k0_hw984 : k0_chk984 i v22619), ∀ (k0_h1 : k0_cond1 i = 1#1), ∀ a, (k0_off984 v22619) a + S1x16x128.size a ≤ S16384x16x128.size a := fun i v22619 k0_hw984 k0_h1 => k0_hw984 k0_h1

def k0_off985 (v22625 : BitVec 32) : Fin 3 → Nat :=
  let c0_i32_21899 : BitVec 32 := 0#32
  let c0_i32_21900 : BitVec 32 := 0#32
  ![v22625.toNat, 0, 0]

def k0_chk985 (i : grid0.Coords) (v22625 : BitVec 32) : Prop :=
  (∀ (k0_h1 : k0_cond1 i = 1#1), ∀ a, (k0_off985 v22625) a + S1x16x128.size a ≤ S16384x16x128.size a)
theorem k0_off985_inb : ∀ (i : grid0.Coords) (v22625 : BitVec 32) (k0_hw985 : k0_chk985 i v22625), ∀ (k0_h1 : k0_cond1 i = 1#1), ∀ a, (k0_off985 v22625) a + S1x16x128.size a ≤ S16384x16x128.size a := fun i v22625 k0_hw985 k0_h1 => k0_hw985 k0_h1

def k0_off986 (v22631 : BitVec 32) : Fin 3 → Nat :=
  let c0_i32_21906 : BitVec 32 := 0#32
  let c0_i32_21907 : BitVec 32 := 0#32
  ![v22631.toNat, 0, 0]

def k0_chk986 (i : grid0.Coords) (v22631 : BitVec 32) : Prop :=
  (∀ (k0_h1 : k0_cond1 i = 1#1), ∀ a, (k0_off986 v22631) a + S1x16x128.size a ≤ S16384x16x128.size a)
theorem k0_off986_inb : ∀ (i : grid0.Coords) (v22631 : BitVec 32) (k0_hw986 : k0_chk986 i v22631), ∀ (k0_h1 : k0_cond1 i = 1#1), ∀ a, (k0_off986 v22631) a + S1x16x128.size a ≤ S16384x16x128.size a := fun i v22631 k0_hw986 k0_h1 => k0_hw986 k0_h1

def k0_off987 (v22637 : BitVec 32) : Fin 3 → Nat :=
  let c0_i32_21913 : BitVec 32 := 0#32
  let c0_i32_21914 : BitVec 32 := 0#32
  ![v22637.toNat, 0, 0]

def k0_chk987 (i : grid0.Coords) (v22637 : BitVec 32) : Prop :=
  (∀ (k0_h1 : k0_cond1 i = 1#1), ∀ a, (k0_off987 v22637) a + S1x16x128.size a ≤ S16384x16x128.size a)
theorem k0_off987_inb : ∀ (i : grid0.Coords) (v22637 : BitVec 32) (k0_hw987 : k0_chk987 i v22637), ∀ (k0_h1 : k0_cond1 i = 1#1), ∀ a, (k0_off987 v22637) a + S1x16x128.size a ≤ S16384x16x128.size a := fun i v22637 k0_hw987 k0_h1 => k0_hw987 k0_h1

def k0_off988 (v22643 : BitVec 32) : Fin 3 → Nat :=
  let c0_i32_21920 : BitVec 32 := 0#32
  let c0_i32_21921 : BitVec 32 := 0#32
  ![v22643.toNat, 0, 0]

def k0_chk988 (i : grid0.Coords) (v22643 : BitVec 32) : Prop :=
  (∀ (k0_h1 : k0_cond1 i = 1#1), ∀ a, (k0_off988 v22643) a + S1x16x128.size a ≤ S16384x16x128.size a)
theorem k0_off988_inb : ∀ (i : grid0.Coords) (v22643 : BitVec 32) (k0_hw988 : k0_chk988 i v22643), ∀ (k0_h1 : k0_cond1 i = 1#1), ∀ a, (k0_off988 v22643) a + S1x16x128.size a ≤ S16384x16x128.size a := fun i v22643 k0_hw988 k0_h1 => k0_hw988 k0_h1

def k0_off989 (v22649 : BitVec 32) : Fin 3 → Nat :=
  let c0_i32_21927 : BitVec 32 := 0#32
  let c0_i32_21928 : BitVec 32 := 0#32
  ![v22649.toNat, 0, 0]

def k0_chk989 (i : grid0.Coords) (v22649 : BitVec 32) : Prop :=
  (∀ (k0_h1 : k0_cond1 i = 1#1), ∀ a, (k0_off989 v22649) a + S1x16x128.size a ≤ S16384x16x128.size a)
theorem k0_off989_inb : ∀ (i : grid0.Coords) (v22649 : BitVec 32) (k0_hw989 : k0_chk989 i v22649), ∀ (k0_h1 : k0_cond1 i = 1#1), ∀ a, (k0_off989 v22649) a + S1x16x128.size a ≤ S16384x16x128.size a := fun i v22649 k0_hw989 k0_h1 => k0_hw989 k0_h1

def k0_off990 (v22655 : BitVec 32) : Fin 3 → Nat :=
  let c0_i32_21934 : BitVec 32 := 0#32
  let c0_i32_21935 : BitVec 32 := 0#32
  ![v22655.toNat, 0, 0]

def k0_chk990 (i : grid0.Coords) (v22655 : BitVec 32) : Prop :=
  (∀ (k0_h1 : k0_cond1 i = 1#1), ∀ a, (k0_off990 v22655) a + S1x16x128.size a ≤ S16384x16x128.size a)
theorem k0_off990_inb : ∀ (i : grid0.Coords) (v22655 : BitVec 32) (k0_hw990 : k0_chk990 i v22655), ∀ (k0_h1 : k0_cond1 i = 1#1), ∀ a, (k0_off990 v22655) a + S1x16x128.size a ≤ S16384x16x128.size a := fun i v22655 k0_hw990 k0_h1 => k0_hw990 k0_h1

def k0_off991 (v22661 : BitVec 32) : Fin 3 → Nat :=
  let c0_i32_21941 : BitVec 32 := 0#32
  let c0_i32_21942 : BitVec 32 := 0#32
  ![v22661.toNat, 0, 0]

def k0_chk991 (i : grid0.Coords) (v22661 : BitVec 32) : Prop :=
  (∀ (k0_h1 : k0_cond1 i = 1#1), ∀ a, (k0_off991 v22661) a + S1x16x128.size a ≤ S16384x16x128.size a)
theorem k0_off991_inb : ∀ (i : grid0.Coords) (v22661 : BitVec 32) (k0_hw991 : k0_chk991 i v22661), ∀ (k0_h1 : k0_cond1 i = 1#1), ∀ a, (k0_off991 v22661) a + S1x16x128.size a ≤ S16384x16x128.size a := fun i v22661 k0_hw991 k0_h1 => k0_hw991 k0_h1

def k0_off992 (v22667 : BitVec 32) : Fin 3 → Nat :=
  let c0_i32_21948 : BitVec 32 := 0#32
  let c0_i32_21949 : BitVec 32 := 0#32
  ![v22667.toNat, 0, 0]

def k0_chk992 (i : grid0.Coords) (v22667 : BitVec 32) : Prop :=
  (∀ (k0_h1 : k0_cond1 i = 1#1), ∀ a, (k0_off992 v22667) a + S1x16x128.size a ≤ S16384x16x128.size a)
theorem k0_off992_inb : ∀ (i : grid0.Coords) (v22667 : BitVec 32) (k0_hw992 : k0_chk992 i v22667), ∀ (k0_h1 : k0_cond1 i = 1#1), ∀ a, (k0_off992 v22667) a + S1x16x128.size a ≤ S16384x16x128.size a := fun i v22667 k0_hw992 k0_h1 => k0_hw992 k0_h1

def k0_off993 (v22673 : BitVec 32) : Fin 3 → Nat :=
  let c0_i32_21955 : BitVec 32 := 0#32
  let c0_i32_21956 : BitVec 32 := 0#32
  ![v22673.toNat, 0, 0]

def k0_chk993 (i : grid0.Coords) (v22673 : BitVec 32) : Prop :=
  (∀ (k0_h1 : k0_cond1 i = 1#1), ∀ a, (k0_off993 v22673) a + S1x16x128.size a ≤ S16384x16x128.size a)
theorem k0_off993_inb : ∀ (i : grid0.Coords) (v22673 : BitVec 32) (k0_hw993 : k0_chk993 i v22673), ∀ (k0_h1 : k0_cond1 i = 1#1), ∀ a, (k0_off993 v22673) a + S1x16x128.size a ≤ S16384x16x128.size a := fun i v22673 k0_hw993 k0_h1 => k0_hw993 k0_h1

def k0_off994 (v22679 : BitVec 32) : Fin 3 → Nat :=
  let c0_i32_21962 : BitVec 32 := 0#32
  let c0_i32_21963 : BitVec 32 := 0#32
  ![v22679.toNat, 0, 0]

def k0_chk994 (i : grid0.Coords) (v22679 : BitVec 32) : Prop :=
  (∀ (k0_h1 : k0_cond1 i = 1#1), ∀ a, (k0_off994 v22679) a + S1x16x128.size a ≤ S16384x16x128.size a)
theorem k0_off994_inb : ∀ (i : grid0.Coords) (v22679 : BitVec 32) (k0_hw994 : k0_chk994 i v22679), ∀ (k0_h1 : k0_cond1 i = 1#1), ∀ a, (k0_off994 v22679) a + S1x16x128.size a ≤ S16384x16x128.size a := fun i v22679 k0_hw994 k0_h1 => k0_hw994 k0_h1

def k0_off995 (v22685 : BitVec 32) : Fin 3 → Nat :=
  let c0_i32_21969 : BitVec 32 := 0#32
  let c0_i32_21970 : BitVec 32 := 0#32
  ![v22685.toNat, 0, 0]

def k0_chk995 (i : grid0.Coords) (v22685 : BitVec 32) : Prop :=
  (∀ (k0_h1 : k0_cond1 i = 1#1), ∀ a, (k0_off995 v22685) a + S1x16x128.size a ≤ S16384x16x128.size a)
theorem k0_off995_inb : ∀ (i : grid0.Coords) (v22685 : BitVec 32) (k0_hw995 : k0_chk995 i v22685), ∀ (k0_h1 : k0_cond1 i = 1#1), ∀ a, (k0_off995 v22685) a + S1x16x128.size a ≤ S16384x16x128.size a := fun i v22685 k0_hw995 k0_h1 => k0_hw995 k0_h1

def k0_off996 (v22691 : BitVec 32) : Fin 3 → Nat :=
  let c0_i32_21976 : BitVec 32 := 0#32
  let c0_i32_21977 : BitVec 32 := 0#32
  ![v22691.toNat, 0, 0]

def k0_chk996 (i : grid0.Coords) (v22691 : BitVec 32) : Prop :=
  (∀ (k0_h1 : k0_cond1 i = 1#1), ∀ a, (k0_off996 v22691) a + S1x16x128.size a ≤ S16384x16x128.size a)
theorem k0_off996_inb : ∀ (i : grid0.Coords) (v22691 : BitVec 32) (k0_hw996 : k0_chk996 i v22691), ∀ (k0_h1 : k0_cond1 i = 1#1), ∀ a, (k0_off996 v22691) a + S1x16x128.size a ≤ S16384x16x128.size a := fun i v22691 k0_hw996 k0_h1 => k0_hw996 k0_h1

def k0_off997 (v22697 : BitVec 32) : Fin 3 → Nat :=
  let c0_i32_21983 : BitVec 32 := 0#32
  let c0_i32_21984 : BitVec 32 := 0#32
  ![v22697.toNat, 0, 0]

def k0_chk997 (i : grid0.Coords) (v22697 : BitVec 32) : Prop :=
  (∀ (k0_h1 : k0_cond1 i = 1#1), ∀ a, (k0_off997 v22697) a + S1x16x128.size a ≤ S16384x16x128.size a)
theorem k0_off997_inb : ∀ (i : grid0.Coords) (v22697 : BitVec 32) (k0_hw997 : k0_chk997 i v22697), ∀ (k0_h1 : k0_cond1 i = 1#1), ∀ a, (k0_off997 v22697) a + S1x16x128.size a ≤ S16384x16x128.size a := fun i v22697 k0_hw997 k0_h1 => k0_hw997 k0_h1

def k0_off998 (v22703 : BitVec 32) : Fin 3 → Nat :=
  let c0_i32_21990 : BitVec 32 := 0#32
  let c0_i32_21991 : BitVec 32 := 0#32
  ![v22703.toNat, 0, 0]

def k0_chk998 (i : grid0.Coords) (v22703 : BitVec 32) : Prop :=
  (∀ (k0_h1 : k0_cond1 i = 1#1), ∀ a, (k0_off998 v22703) a + S1x16x128.size a ≤ S16384x16x128.size a)
theorem k0_off998_inb : ∀ (i : grid0.Coords) (v22703 : BitVec 32) (k0_hw998 : k0_chk998 i v22703), ∀ (k0_h1 : k0_cond1 i = 1#1), ∀ a, (k0_off998 v22703) a + S1x16x128.size a ≤ S16384x16x128.size a := fun i v22703 k0_hw998 k0_h1 => k0_hw998 k0_h1

def k0_off999 (v22709 : BitVec 32) : Fin 3 → Nat :=
  let c0_i32_21997 : BitVec 32 := 0#32
  let c0_i32_21998 : BitVec 32 := 0#32
  ![v22709.toNat, 0, 0]

def k0_chk999 (i : grid0.Coords) (v22709 : BitVec 32) : Prop :=
  (∀ (k0_h1 : k0_cond1 i = 1#1), ∀ a, (k0_off999 v22709) a + S1x16x128.size a ≤ S16384x16x128.size a)
theorem k0_off999_inb : ∀ (i : grid0.Coords) (v22709 : BitVec 32) (k0_hw999 : k0_chk999 i v22709), ∀ (k0_h1 : k0_cond1 i = 1#1), ∀ a, (k0_off999 v22709) a + S1x16x128.size a ≤ S16384x16x128.size a := fun i v22709 k0_hw999 k0_h1 => k0_hw999 k0_h1

def k0_off1000 (v22715 : BitVec 32) : Fin 3 → Nat :=
  let c0_i32_22004 : BitVec 32 := 0#32
  let c0_i32_22005 : BitVec 32 := 0#32
  ![v22715.toNat, 0, 0]

def k0_chk1000 (i : grid0.Coords) (v22715 : BitVec 32) : Prop :=
  (∀ (k0_h1 : k0_cond1 i = 1#1), ∀ a, (k0_off1000 v22715) a + S1x16x128.size a ≤ S16384x16x128.size a)
theorem k0_off1000_inb : ∀ (i : grid0.Coords) (v22715 : BitVec 32) (k0_hw1000 : k0_chk1000 i v22715), ∀ (k0_h1 : k0_cond1 i = 1#1), ∀ a, (k0_off1000 v22715) a + S1x16x128.size a ≤ S16384x16x128.size a := fun i v22715 k0_hw1000 k0_h1 => k0_hw1000 k0_h1

def k0_off1001 (v22721 : BitVec 32) : Fin 3 → Nat :=
  let c0_i32_22011 : BitVec 32 := 0#32
  let c0_i32_22012 : BitVec 32 := 0#32
  ![v22721.toNat, 0, 0]

def k0_chk1001 (i : grid0.Coords) (v22721 : BitVec 32) : Prop :=
  (∀ (k0_h1 : k0_cond1 i = 1#1), ∀ a, (k0_off1001 v22721) a + S1x16x128.size a ≤ S16384x16x128.size a)
theorem k0_off1001_inb : ∀ (i : grid0.Coords) (v22721 : BitVec 32) (k0_hw1001 : k0_chk1001 i v22721), ∀ (k0_h1 : k0_cond1 i = 1#1), ∀ a, (k0_off1001 v22721) a + S1x16x128.size a ≤ S16384x16x128.size a := fun i v22721 k0_hw1001 k0_h1 => k0_hw1001 k0_h1

def k0_off1002 (v22727 : BitVec 32) : Fin 3 → Nat :=
  let c0_i32_22018 : BitVec 32 := 0#32
  let c0_i32_22019 : BitVec 32 := 0#32
  ![v22727.toNat, 0, 0]

def k0_chk1002 (i : grid0.Coords) (v22727 : BitVec 32) : Prop :=
  (∀ (k0_h1 : k0_cond1 i = 1#1), ∀ a, (k0_off1002 v22727) a + S1x16x128.size a ≤ S16384x16x128.size a)
theorem k0_off1002_inb : ∀ (i : grid0.Coords) (v22727 : BitVec 32) (k0_hw1002 : k0_chk1002 i v22727), ∀ (k0_h1 : k0_cond1 i = 1#1), ∀ a, (k0_off1002 v22727) a + S1x16x128.size a ≤ S16384x16x128.size a := fun i v22727 k0_hw1002 k0_h1 => k0_hw1002 k0_h1

def k0_off1003 (v22733 : BitVec 32) : Fin 3 → Nat :=
  let c0_i32_22025 : BitVec 32 := 0#32
  let c0_i32_22026 : BitVec 32 := 0#32
  ![v22733.toNat, 0, 0]

def k0_chk1003 (i : grid0.Coords) (v22733 : BitVec 32) : Prop :=
  (∀ (k0_h1 : k0_cond1 i = 1#1), ∀ a, (k0_off1003 v22733) a + S1x16x128.size a ≤ S16384x16x128.size a)
theorem k0_off1003_inb : ∀ (i : grid0.Coords) (v22733 : BitVec 32) (k0_hw1003 : k0_chk1003 i v22733), ∀ (k0_h1 : k0_cond1 i = 1#1), ∀ a, (k0_off1003 v22733) a + S1x16x128.size a ≤ S16384x16x128.size a := fun i v22733 k0_hw1003 k0_h1 => k0_hw1003 k0_h1

def k0_off1004 (v22739 : BitVec 32) : Fin 3 → Nat :=
  let c0_i32_22032 : BitVec 32 := 0#32
  let c0_i32_22033 : BitVec 32 := 0#32
  ![v22739.toNat, 0, 0]

def k0_chk1004 (i : grid0.Coords) (v22739 : BitVec 32) : Prop :=
  (∀ (k0_h1 : k0_cond1 i = 1#1), ∀ a, (k0_off1004 v22739) a + S1x16x128.size a ≤ S16384x16x128.size a)
theorem k0_off1004_inb : ∀ (i : grid0.Coords) (v22739 : BitVec 32) (k0_hw1004 : k0_chk1004 i v22739), ∀ (k0_h1 : k0_cond1 i = 1#1), ∀ a, (k0_off1004 v22739) a + S1x16x128.size a ≤ S16384x16x128.size a := fun i v22739 k0_hw1004 k0_h1 => k0_hw1004 k0_h1

def k0_off1005 (v22745 : BitVec 32) : Fin 3 → Nat :=
  let c0_i32_22039 : BitVec 32 := 0#32
  let c0_i32_22040 : BitVec 32 := 0#32
  ![v22745.toNat, 0, 0]

def k0_chk1005 (i : grid0.Coords) (v22745 : BitVec 32) : Prop :=
  (∀ (k0_h1 : k0_cond1 i = 1#1), ∀ a, (k0_off1005 v22745) a + S1x16x128.size a ≤ S16384x16x128.size a)
theorem k0_off1005_inb : ∀ (i : grid0.Coords) (v22745 : BitVec 32) (k0_hw1005 : k0_chk1005 i v22745), ∀ (k0_h1 : k0_cond1 i = 1#1), ∀ a, (k0_off1005 v22745) a + S1x16x128.size a ≤ S16384x16x128.size a := fun i v22745 k0_hw1005 k0_h1 => k0_hw1005 k0_h1

def k0_off1006 (v22751 : BitVec 32) : Fin 3 → Nat :=
  let c0_i32_22046 : BitVec 32 := 0#32
  let c0_i32_22047 : BitVec 32 := 0#32
  ![v22751.toNat, 0, 0]

def k0_chk1006 (i : grid0.Coords) (v22751 : BitVec 32) : Prop :=
  (∀ (k0_h1 : k0_cond1 i = 1#1), ∀ a, (k0_off1006 v22751) a + S1x16x128.size a ≤ S16384x16x128.size a)
theorem k0_off1006_inb : ∀ (i : grid0.Coords) (v22751 : BitVec 32) (k0_hw1006 : k0_chk1006 i v22751), ∀ (k0_h1 : k0_cond1 i = 1#1), ∀ a, (k0_off1006 v22751) a + S1x16x128.size a ≤ S16384x16x128.size a := fun i v22751 k0_hw1006 k0_h1 => k0_hw1006 k0_h1

def k0_off1007 (v22757 : BitVec 32) : Fin 3 → Nat :=
  let c0_i32_22053 : BitVec 32 := 0#32
  let c0_i32_22054 : BitVec 32 := 0#32
  ![v22757.toNat, 0, 0]

def k0_chk1007 (i : grid0.Coords) (v22757 : BitVec 32) : Prop :=
  (∀ (k0_h1 : k0_cond1 i = 1#1), ∀ a, (k0_off1007 v22757) a + S1x16x128.size a ≤ S16384x16x128.size a)
theorem k0_off1007_inb : ∀ (i : grid0.Coords) (v22757 : BitVec 32) (k0_hw1007 : k0_chk1007 i v22757), ∀ (k0_h1 : k0_cond1 i = 1#1), ∀ a, (k0_off1007 v22757) a + S1x16x128.size a ≤ S16384x16x128.size a := fun i v22757 k0_hw1007 k0_h1 => k0_hw1007 k0_h1

def k0_off1008 (v22763 : BitVec 32) : Fin 3 → Nat :=
  let c0_i32_22060 : BitVec 32 := 0#32
  let c0_i32_22061 : BitVec 32 := 0#32
  ![v22763.toNat, 0, 0]

def k0_chk1008 (i : grid0.Coords) (v22763 : BitVec 32) : Prop :=
  (∀ (k0_h1 : k0_cond1 i = 1#1), ∀ a, (k0_off1008 v22763) a + S1x16x128.size a ≤ S16384x16x128.size a)
theorem k0_off1008_inb : ∀ (i : grid0.Coords) (v22763 : BitVec 32) (k0_hw1008 : k0_chk1008 i v22763), ∀ (k0_h1 : k0_cond1 i = 1#1), ∀ a, (k0_off1008 v22763) a + S1x16x128.size a ≤ S16384x16x128.size a := fun i v22763 k0_hw1008 k0_h1 => k0_hw1008 k0_h1

def k0_off1009 (v22769 : BitVec 32) : Fin 3 → Nat :=
  let c0_i32_22067 : BitVec 32 := 0#32
  let c0_i32_22068 : BitVec 32 := 0#32
  ![v22769.toNat, 0, 0]

def k0_chk1009 (i : grid0.Coords) (v22769 : BitVec 32) : Prop :=
  (∀ (k0_h1 : k0_cond1 i = 1#1), ∀ a, (k0_off1009 v22769) a + S1x16x128.size a ≤ S16384x16x128.size a)
theorem k0_off1009_inb : ∀ (i : grid0.Coords) (v22769 : BitVec 32) (k0_hw1009 : k0_chk1009 i v22769), ∀ (k0_h1 : k0_cond1 i = 1#1), ∀ a, (k0_off1009 v22769) a + S1x16x128.size a ≤ S16384x16x128.size a := fun i v22769 k0_hw1009 k0_h1 => k0_hw1009 k0_h1

def k0_off1010 (v22775 : BitVec 32) : Fin 3 → Nat :=
  let c0_i32_22074 : BitVec 32 := 0#32
  let c0_i32_22075 : BitVec 32 := 0#32
  ![v22775.toNat, 0, 0]

def k0_chk1010 (i : grid0.Coords) (v22775 : BitVec 32) : Prop :=
  (∀ (k0_h1 : k0_cond1 i = 1#1), ∀ a, (k0_off1010 v22775) a + S1x16x128.size a ≤ S16384x16x128.size a)
theorem k0_off1010_inb : ∀ (i : grid0.Coords) (v22775 : BitVec 32) (k0_hw1010 : k0_chk1010 i v22775), ∀ (k0_h1 : k0_cond1 i = 1#1), ∀ a, (k0_off1010 v22775) a + S1x16x128.size a ≤ S16384x16x128.size a := fun i v22775 k0_hw1010 k0_h1 => k0_hw1010 k0_h1

def k0_off1011 (v22781 : BitVec 32) : Fin 3 → Nat :=
  let c0_i32_22081 : BitVec 32 := 0#32
  let c0_i32_22082 : BitVec 32 := 0#32
  ![v22781.toNat, 0, 0]

def k0_chk1011 (i : grid0.Coords) (v22781 : BitVec 32) : Prop :=
  (∀ (k0_h1 : k0_cond1 i = 1#1), ∀ a, (k0_off1011 v22781) a + S1x16x128.size a ≤ S16384x16x128.size a)
theorem k0_off1011_inb : ∀ (i : grid0.Coords) (v22781 : BitVec 32) (k0_hw1011 : k0_chk1011 i v22781), ∀ (k0_h1 : k0_cond1 i = 1#1), ∀ a, (k0_off1011 v22781) a + S1x16x128.size a ≤ S16384x16x128.size a := fun i v22781 k0_hw1011 k0_h1 => k0_hw1011 k0_h1

def k0_off1012 (v22787 : BitVec 32) : Fin 3 → Nat :=
  let c0_i32_22088 : BitVec 32 := 0#32
  let c0_i32_22089 : BitVec 32 := 0#32
  ![v22787.toNat, 0, 0]

def k0_chk1012 (i : grid0.Coords) (v22787 : BitVec 32) : Prop :=
  (∀ (k0_h1 : k0_cond1 i = 1#1), ∀ a, (k0_off1012 v22787) a + S1x16x128.size a ≤ S16384x16x128.size a)
theorem k0_off1012_inb : ∀ (i : grid0.Coords) (v22787 : BitVec 32) (k0_hw1012 : k0_chk1012 i v22787), ∀ (k0_h1 : k0_cond1 i = 1#1), ∀ a, (k0_off1012 v22787) a + S1x16x128.size a ≤ S16384x16x128.size a := fun i v22787 k0_hw1012 k0_h1 => k0_hw1012 k0_h1

def k0_off1013 (v22793 : BitVec 32) : Fin 3 → Nat :=
  let c0_i32_22095 : BitVec 32 := 0#32
  let c0_i32_22096 : BitVec 32 := 0#32
  ![v22793.toNat, 0, 0]

def k0_chk1013 (i : grid0.Coords) (v22793 : BitVec 32) : Prop :=
  (∀ (k0_h1 : k0_cond1 i = 1#1), ∀ a, (k0_off1013 v22793) a + S1x16x128.size a ≤ S16384x16x128.size a)
theorem k0_off1013_inb : ∀ (i : grid0.Coords) (v22793 : BitVec 32) (k0_hw1013 : k0_chk1013 i v22793), ∀ (k0_h1 : k0_cond1 i = 1#1), ∀ a, (k0_off1013 v22793) a + S1x16x128.size a ≤ S16384x16x128.size a := fun i v22793 k0_hw1013 k0_h1 => k0_hw1013 k0_h1

def k0_off1014 (v22799 : BitVec 32) : Fin 3 → Nat :=
  let c0_i32_22102 : BitVec 32 := 0#32
  let c0_i32_22103 : BitVec 32 := 0#32
  ![v22799.toNat, 0, 0]

def k0_chk1014 (i : grid0.Coords) (v22799 : BitVec 32) : Prop :=
  (∀ (k0_h1 : k0_cond1 i = 1#1), ∀ a, (k0_off1014 v22799) a + S1x16x128.size a ≤ S16384x16x128.size a)
theorem k0_off1014_inb : ∀ (i : grid0.Coords) (v22799 : BitVec 32) (k0_hw1014 : k0_chk1014 i v22799), ∀ (k0_h1 : k0_cond1 i = 1#1), ∀ a, (k0_off1014 v22799) a + S1x16x128.size a ≤ S16384x16x128.size a := fun i v22799 k0_hw1014 k0_h1 => k0_hw1014 k0_h1

def k0_off1015 (v22805 : BitVec 32) : Fin 3 → Nat :=
  let c0_i32_22109 : BitVec 32 := 0#32
  let c0_i32_22110 : BitVec 32 := 0#32
  ![v22805.toNat, 0, 0]

def k0_chk1015 (i : grid0.Coords) (v22805 : BitVec 32) : Prop :=
  (∀ (k0_h1 : k0_cond1 i = 1#1), ∀ a, (k0_off1015 v22805) a + S1x16x128.size a ≤ S16384x16x128.size a)
theorem k0_off1015_inb : ∀ (i : grid0.Coords) (v22805 : BitVec 32) (k0_hw1015 : k0_chk1015 i v22805), ∀ (k0_h1 : k0_cond1 i = 1#1), ∀ a, (k0_off1015 v22805) a + S1x16x128.size a ≤ S16384x16x128.size a := fun i v22805 k0_hw1015 k0_h1 => k0_hw1015 k0_h1

def k0_off1016 (v22811 : BitVec 32) : Fin 3 → Nat :=
  let c0_i32_22116 : BitVec 32 := 0#32
  let c0_i32_22117 : BitVec 32 := 0#32
  ![v22811.toNat, 0, 0]

def k0_chk1016 (i : grid0.Coords) (v22811 : BitVec 32) : Prop :=
  (∀ (k0_h1 : k0_cond1 i = 1#1), ∀ a, (k0_off1016 v22811) a + S1x16x128.size a ≤ S16384x16x128.size a)
theorem k0_off1016_inb : ∀ (i : grid0.Coords) (v22811 : BitVec 32) (k0_hw1016 : k0_chk1016 i v22811), ∀ (k0_h1 : k0_cond1 i = 1#1), ∀ a, (k0_off1016 v22811) a + S1x16x128.size a ≤ S16384x16x128.size a := fun i v22811 k0_hw1016 k0_h1 => k0_hw1016 k0_h1

def k0_off1017 (v22817 : BitVec 32) : Fin 3 → Nat :=
  let c0_i32_22123 : BitVec 32 := 0#32
  let c0_i32_22124 : BitVec 32 := 0#32
  ![v22817.toNat, 0, 0]

def k0_chk1017 (i : grid0.Coords) (v22817 : BitVec 32) : Prop :=
  (∀ (k0_h1 : k0_cond1 i = 1#1), ∀ a, (k0_off1017 v22817) a + S1x16x128.size a ≤ S16384x16x128.size a)
theorem k0_off1017_inb : ∀ (i : grid0.Coords) (v22817 : BitVec 32) (k0_hw1017 : k0_chk1017 i v22817), ∀ (k0_h1 : k0_cond1 i = 1#1), ∀ a, (k0_off1017 v22817) a + S1x16x128.size a ≤ S16384x16x128.size a := fun i v22817 k0_hw1017 k0_h1 => k0_hw1017 k0_h1

def k0_off1018 (v22823 : BitVec 32) : Fin 3 → Nat :=
  let c0_i32_22130 : BitVec 32 := 0#32
  let c0_i32_22131 : BitVec 32 := 0#32
  ![v22823.toNat, 0, 0]

def k0_chk1018 (i : grid0.Coords) (v22823 : BitVec 32) : Prop :=
  (∀ (k0_h1 : k0_cond1 i = 1#1), ∀ a, (k0_off1018 v22823) a + S1x16x128.size a ≤ S16384x16x128.size a)
theorem k0_off1018_inb : ∀ (i : grid0.Coords) (v22823 : BitVec 32) (k0_hw1018 : k0_chk1018 i v22823), ∀ (k0_h1 : k0_cond1 i = 1#1), ∀ a, (k0_off1018 v22823) a + S1x16x128.size a ≤ S16384x16x128.size a := fun i v22823 k0_hw1018 k0_h1 => k0_hw1018 k0_h1

def k0_off1019 (v22829 : BitVec 32) : Fin 3 → Nat :=
  let c0_i32_22137 : BitVec 32 := 0#32
  let c0_i32_22138 : BitVec 32 := 0#32
  ![v22829.toNat, 0, 0]

def k0_chk1019 (i : grid0.Coords) (v22829 : BitVec 32) : Prop :=
  (∀ (k0_h1 : k0_cond1 i = 1#1), ∀ a, (k0_off1019 v22829) a + S1x16x128.size a ≤ S16384x16x128.size a)
theorem k0_off1019_inb : ∀ (i : grid0.Coords) (v22829 : BitVec 32) (k0_hw1019 : k0_chk1019 i v22829), ∀ (k0_h1 : k0_cond1 i = 1#1), ∀ a, (k0_off1019 v22829) a + S1x16x128.size a ≤ S16384x16x128.size a := fun i v22829 k0_hw1019 k0_h1 => k0_hw1019 k0_h1

def k0_off1020 (v22835 : BitVec 32) : Fin 3 → Nat :=
  let c0_i32_22144 : BitVec 32 := 0#32
  let c0_i32_22145 : BitVec 32 := 0#32
  ![v22835.toNat, 0, 0]

def k0_chk1020 (i : grid0.Coords) (v22835 : BitVec 32) : Prop :=
  (∀ (k0_h1 : k0_cond1 i = 1#1), ∀ a, (k0_off1020 v22835) a + S1x16x128.size a ≤ S16384x16x128.size a)
theorem k0_off1020_inb : ∀ (i : grid0.Coords) (v22835 : BitVec 32) (k0_hw1020 : k0_chk1020 i v22835), ∀ (k0_h1 : k0_cond1 i = 1#1), ∀ a, (k0_off1020 v22835) a + S1x16x128.size a ≤ S16384x16x128.size a := fun i v22835 k0_hw1020 k0_h1 => k0_hw1020 k0_h1

def k0_off1021 (v22841 : BitVec 32) : Fin 3 → Nat :=
  let c0_i32_22151 : BitVec 32 := 0#32
  let c0_i32_22152 : BitVec 32 := 0#32
  ![v22841.toNat, 0, 0]

def k0_chk1021 (i : grid0.Coords) (v22841 : BitVec 32) : Prop :=
  (∀ (k0_h1 : k0_cond1 i = 1#1), ∀ a, (k0_off1021 v22841) a + S1x16x128.size a ≤ S16384x16x128.size a)
theorem k0_off1021_inb : ∀ (i : grid0.Coords) (v22841 : BitVec 32) (k0_hw1021 : k0_chk1021 i v22841), ∀ (k0_h1 : k0_cond1 i = 1#1), ∀ a, (k0_off1021 v22841) a + S1x16x128.size a ≤ S16384x16x128.size a := fun i v22841 k0_hw1021 k0_h1 => k0_hw1021 k0_h1

def k0_off1022 (v22847 : BitVec 32) : Fin 3 → Nat :=
  let c0_i32_22158 : BitVec 32 := 0#32
  let c0_i32_22159 : BitVec 32 := 0#32
  ![v22847.toNat, 0, 0]

def k0_chk1022 (i : grid0.Coords) (v22847 : BitVec 32) : Prop :=
  (∀ (k0_h1 : k0_cond1 i = 1#1), ∀ a, (k0_off1022 v22847) a + S1x16x128.size a ≤ S16384x16x128.size a)
theorem k0_off1022_inb : ∀ (i : grid0.Coords) (v22847 : BitVec 32) (k0_hw1022 : k0_chk1022 i v22847), ∀ (k0_h1 : k0_cond1 i = 1#1), ∀ a, (k0_off1022 v22847) a + S1x16x128.size a ≤ S16384x16x128.size a := fun i v22847 k0_hw1022 k0_h1 => k0_hw1022 k0_h1

def k0_off1023 (v22853 : BitVec 32) : Fin 3 → Nat :=
  let c0_i32_22165 : BitVec 32 := 0#32
  let c0_i32_22166 : BitVec 32 := 0#32
  ![v22853.toNat, 0, 0]

def k0_chk1023 (i : grid0.Coords) (v22853 : BitVec 32) : Prop :=
  (∀ (k0_h1 : k0_cond1 i = 1#1), ∀ a, (k0_off1023 v22853) a + S1x16x128.size a ≤ S16384x16x128.size a)
theorem k0_off1023_inb : ∀ (i : grid0.Coords) (v22853 : BitVec 32) (k0_hw1023 : k0_chk1023 i v22853), ∀ (k0_h1 : k0_cond1 i = 1#1), ∀ a, (k0_off1023 v22853) a + S1x16x128.size a ≤ S16384x16x128.size a := fun i v22853 k0_hw1023 k0_h1 => k0_hw1023 k0_h1

def k0_off1024 (v22859 : BitVec 32) : Fin 3 → Nat :=
  let c0_i32_22172 : BitVec 32 := 0#32
  let c0_i32_22173 : BitVec 32 := 0#32
  ![v22859.toNat, 0, 0]

def k0_chk1024 (i : grid0.Coords) (v22859 : BitVec 32) : Prop :=
  (∀ (k0_h1 : k0_cond1 i = 1#1), ∀ a, (k0_off1024 v22859) a + S1x16x128.size a ≤ S16384x16x128.size a)
theorem k0_off1024_inb : ∀ (i : grid0.Coords) (v22859 : BitVec 32) (k0_hw1024 : k0_chk1024 i v22859), ∀ (k0_h1 : k0_cond1 i = 1#1), ∀ a, (k0_off1024 v22859) a + S1x16x128.size a ≤ S16384x16x128.size a := fun i v22859 k0_hw1024 k0_h1 => k0_hw1024 k0_h1

def k0_off1025 (v25 : BitVec 32) : Fin 3 → Nat :=
  let c0_i32_18 : BitVec 32 := 0#32
  let c0_i32_19 : BitVec 32 := 0#32
  ![v25.toNat, 0, 0]

def k0_chk1025 (v25 : BitVec 32) : Prop :=
  (∀ a, (k0_off1025 v25) a + S1x16x128.size a ≤ S16384x16x128.size a)
theorem k0_off1025_inb : ∀ (v25 : BitVec 32) (k0_hw1025 : k0_chk1025 v25), ∀ a, (k0_off1025 v25) a + S1x16x128.size a ≤ S16384x16x128.size a := fun v25 k0_hw1025 => k0_hw1025

def k0_off1026 (v31 : BitVec 32) : Fin 3 → Nat :=
  let c0_i32_23 : BitVec 32 := 0#32
  let c0_i32_24 : BitVec 32 := 0#32
  ![v31.toNat, 0, 0]

def k0_chk1026 (v31 : BitVec 32) : Prop :=
  (∀ a, (k0_off1026 v31) a + S1x16x128.size a ≤ S16384x16x128.size a)
theorem k0_off1026_inb : ∀ (v31 : BitVec 32) (k0_hw1026 : k0_chk1026 v31), ∀ a, (k0_off1026 v31) a + S1x16x128.size a ≤ S16384x16x128.size a := fun v31 k0_hw1026 => k0_hw1026

def k0_off1027 (v37 : BitVec 32) : Fin 3 → Nat :=
  let c0_i32_28 : BitVec 32 := 0#32
  let c0_i32_29 : BitVec 32 := 0#32
  ![v37.toNat, 0, 0]

def k0_chk1027 (v37 : BitVec 32) : Prop :=
  (∀ a, (k0_off1027 v37) a + S1x16x128.size a ≤ S16384x16x128.size a)
theorem k0_off1027_inb : ∀ (v37 : BitVec 32) (k0_hw1027 : k0_chk1027 v37), ∀ a, (k0_off1027 v37) a + S1x16x128.size a ≤ S16384x16x128.size a := fun v37 k0_hw1027 => k0_hw1027

def k0_off1028 (v43 : BitVec 32) : Fin 3 → Nat :=
  let c0_i32_33 : BitVec 32 := 0#32
  let c0_i32_34 : BitVec 32 := 0#32
  ![v43.toNat, 0, 0]

def k0_chk1028 (v43 : BitVec 32) : Prop :=
  (∀ a, (k0_off1028 v43) a + S1x16x128.size a ≤ S16384x16x128.size a)
theorem k0_off1028_inb : ∀ (v43 : BitVec 32) (k0_hw1028 : k0_chk1028 v43), ∀ a, (k0_off1028 v43) a + S1x16x128.size a ≤ S16384x16x128.size a := fun v43 k0_hw1028 => k0_hw1028

def k0_off1029 (v49 : BitVec 32) : Fin 3 → Nat :=
  let c0_i32_38 : BitVec 32 := 0#32
  let c0_i32_39 : BitVec 32 := 0#32
  ![v49.toNat, 0, 0]

def k0_chk1029 (v49 : BitVec 32) : Prop :=
  (∀ a, (k0_off1029 v49) a + S1x16x128.size a ≤ S16384x16x128.size a)
theorem k0_off1029_inb : ∀ (v49 : BitVec 32) (k0_hw1029 : k0_chk1029 v49), ∀ a, (k0_off1029 v49) a + S1x16x128.size a ≤ S16384x16x128.size a := fun v49 k0_hw1029 => k0_hw1029

def k0_off1030 (v55 : BitVec 32) : Fin 3 → Nat :=
  let c0_i32_43 : BitVec 32 := 0#32
  let c0_i32_44 : BitVec 32 := 0#32
  ![v55.toNat, 0, 0]

def k0_chk1030 (v55 : BitVec 32) : Prop :=
  (∀ a, (k0_off1030 v55) a + S1x16x128.size a ≤ S16384x16x128.size a)
theorem k0_off1030_inb : ∀ (v55 : BitVec 32) (k0_hw1030 : k0_chk1030 v55), ∀ a, (k0_off1030 v55) a + S1x16x128.size a ≤ S16384x16x128.size a := fun v55 k0_hw1030 => k0_hw1030

def k0_off1031 (v61 : BitVec 32) : Fin 3 → Nat :=
  let c0_i32_48 : BitVec 32 := 0#32
  let c0_i32_49 : BitVec 32 := 0#32
  ![v61.toNat, 0, 0]

def k0_chk1031 (v61 : BitVec 32) : Prop :=
  (∀ a, (k0_off1031 v61) a + S1x16x128.size a ≤ S16384x16x128.size a)
theorem k0_off1031_inb : ∀ (v61 : BitVec 32) (k0_hw1031 : k0_chk1031 v61), ∀ a, (k0_off1031 v61) a + S1x16x128.size a ≤ S16384x16x128.size a := fun v61 k0_hw1031 => k0_hw1031

def k0_off1032 (v67 : BitVec 32) : Fin 3 → Nat :=
  let c0_i32_53 : BitVec 32 := 0#32
  let c0_i32_54 : BitVec 32 := 0#32
  ![v67.toNat, 0, 0]

def k0_chk1032 (v67 : BitVec 32) : Prop :=
  (∀ a, (k0_off1032 v67) a + S1x16x128.size a ≤ S16384x16x128.size a)
theorem k0_off1032_inb : ∀ (v67 : BitVec 32) (k0_hw1032 : k0_chk1032 v67), ∀ a, (k0_off1032 v67) a + S1x16x128.size a ≤ S16384x16x128.size a := fun v67 k0_hw1032 => k0_hw1032

def k0_off1033 (v73 : BitVec 32) : Fin 3 → Nat :=
  let c0_i32_58 : BitVec 32 := 0#32
  let c0_i32_59 : BitVec 32 := 0#32
  ![v73.toNat, 0, 0]

def k0_chk1033 (v73 : BitVec 32) : Prop :=
  (∀ a, (k0_off1033 v73) a + S1x16x128.size a ≤ S16384x16x128.size a)
theorem k0_off1033_inb : ∀ (v73 : BitVec 32) (k0_hw1033 : k0_chk1033 v73), ∀ a, (k0_off1033 v73) a + S1x16x128.size a ≤ S16384x16x128.size a := fun v73 k0_hw1033 => k0_hw1033

def k0_off1034 (v79 : BitVec 32) : Fin 3 → Nat :=
  let c0_i32_63 : BitVec 32 := 0#32
  let c0_i32_64 : BitVec 32 := 0#32
  ![v79.toNat, 0, 0]

def k0_chk1034 (v79 : BitVec 32) : Prop :=
  (∀ a, (k0_off1034 v79) a + S1x16x128.size a ≤ S16384x16x128.size a)
theorem k0_off1034_inb : ∀ (v79 : BitVec 32) (k0_hw1034 : k0_chk1034 v79), ∀ a, (k0_off1034 v79) a + S1x16x128.size a ≤ S16384x16x128.size a := fun v79 k0_hw1034 => k0_hw1034

def k0_off1035 (v85 : BitVec 32) : Fin 3 → Nat :=
  let c0_i32_68 : BitVec 32 := 0#32
  let c0_i32_69 : BitVec 32 := 0#32
  ![v85.toNat, 0, 0]

def k0_chk1035 (v85 : BitVec 32) : Prop :=
  (∀ a, (k0_off1035 v85) a + S1x16x128.size a ≤ S16384x16x128.size a)
theorem k0_off1035_inb : ∀ (v85 : BitVec 32) (k0_hw1035 : k0_chk1035 v85), ∀ a, (k0_off1035 v85) a + S1x16x128.size a ≤ S16384x16x128.size a := fun v85 k0_hw1035 => k0_hw1035

def k0_off1036 (v91 : BitVec 32) : Fin 3 → Nat :=
  let c0_i32_73 : BitVec 32 := 0#32
  let c0_i32_74 : BitVec 32 := 0#32
  ![v91.toNat, 0, 0]

def k0_chk1036 (v91 : BitVec 32) : Prop :=
  (∀ a, (k0_off1036 v91) a + S1x16x128.size a ≤ S16384x16x128.size a)
theorem k0_off1036_inb : ∀ (v91 : BitVec 32) (k0_hw1036 : k0_chk1036 v91), ∀ a, (k0_off1036 v91) a + S1x16x128.size a ≤ S16384x16x128.size a := fun v91 k0_hw1036 => k0_hw1036

def k0_off1037 (v97 : BitVec 32) : Fin 3 → Nat :=
  let c0_i32_78 : BitVec 32 := 0#32
  let c0_i32_79 : BitVec 32 := 0#32
  ![v97.toNat, 0, 0]

def k0_chk1037 (v97 : BitVec 32) : Prop :=
  (∀ a, (k0_off1037 v97) a + S1x16x128.size a ≤ S16384x16x128.size a)
theorem k0_off1037_inb : ∀ (v97 : BitVec 32) (k0_hw1037 : k0_chk1037 v97), ∀ a, (k0_off1037 v97) a + S1x16x128.size a ≤ S16384x16x128.size a := fun v97 k0_hw1037 => k0_hw1037

def k0_off1038 (v103 : BitVec 32) : Fin 3 → Nat :=
  let c0_i32_83 : BitVec 32 := 0#32
  let c0_i32_84 : BitVec 32 := 0#32
  ![v103.toNat, 0, 0]

def k0_chk1038 (v103 : BitVec 32) : Prop :=
  (∀ a, (k0_off1038 v103) a + S1x16x128.size a ≤ S16384x16x128.size a)
theorem k0_off1038_inb : ∀ (v103 : BitVec 32) (k0_hw1038 : k0_chk1038 v103), ∀ a, (k0_off1038 v103) a + S1x16x128.size a ≤ S16384x16x128.size a := fun v103 k0_hw1038 => k0_hw1038

def k0_off1039 (v109 : BitVec 32) : Fin 3 → Nat :=
  let c0_i32_88 : BitVec 32 := 0#32
  let c0_i32_89 : BitVec 32 := 0#32
  ![v109.toNat, 0, 0]

def k0_chk1039 (v109 : BitVec 32) : Prop :=
  (∀ a, (k0_off1039 v109) a + S1x16x128.size a ≤ S16384x16x128.size a)
theorem k0_off1039_inb : ∀ (v109 : BitVec 32) (k0_hw1039 : k0_chk1039 v109), ∀ a, (k0_off1039 v109) a + S1x16x128.size a ≤ S16384x16x128.size a := fun v109 k0_hw1039 => k0_hw1039

def k0_off1040 (v115 : BitVec 32) : Fin 3 → Nat :=
  let c0_i32_93 : BitVec 32 := 0#32
  let c0_i32_94 : BitVec 32 := 0#32
  ![v115.toNat, 0, 0]

def k0_chk1040 (v115 : BitVec 32) : Prop :=
  (∀ a, (k0_off1040 v115) a + S1x16x128.size a ≤ S16384x16x128.size a)
theorem k0_off1040_inb : ∀ (v115 : BitVec 32) (k0_hw1040 : k0_chk1040 v115), ∀ a, (k0_off1040 v115) a + S1x16x128.size a ≤ S16384x16x128.size a := fun v115 k0_hw1040 => k0_hw1040

def k0_off1041 (v121 : BitVec 32) : Fin 3 → Nat :=
  let c0_i32_98 : BitVec 32 := 0#32
  let c0_i32_99 : BitVec 32 := 0#32
  ![v121.toNat, 0, 0]

def k0_chk1041 (v121 : BitVec 32) : Prop :=
  (∀ a, (k0_off1041 v121) a + S1x16x128.size a ≤ S16384x16x128.size a)
theorem k0_off1041_inb : ∀ (v121 : BitVec 32) (k0_hw1041 : k0_chk1041 v121), ∀ a, (k0_off1041 v121) a + S1x16x128.size a ≤ S16384x16x128.size a := fun v121 k0_hw1041 => k0_hw1041

def k0_off1042 (v127 : BitVec 32) : Fin 3 → Nat :=
  let c0_i32_103 : BitVec 32 := 0#32
  let c0_i32_104 : BitVec 32 := 0#32
  ![v127.toNat, 0, 0]

def k0_chk1042 (v127 : BitVec 32) : Prop :=
  (∀ a, (k0_off1042 v127) a + S1x16x128.size a ≤ S16384x16x128.size a)
theorem k0_off1042_inb : ∀ (v127 : BitVec 32) (k0_hw1042 : k0_chk1042 v127), ∀ a, (k0_off1042 v127) a + S1x16x128.size a ≤ S16384x16x128.size a := fun v127 k0_hw1042 => k0_hw1042

def k0_off1043 (v133 : BitVec 32) : Fin 3 → Nat :=
  let c0_i32_108 : BitVec 32 := 0#32
  let c0_i32_109 : BitVec 32 := 0#32
  ![v133.toNat, 0, 0]

def k0_chk1043 (v133 : BitVec 32) : Prop :=
  (∀ a, (k0_off1043 v133) a + S1x16x128.size a ≤ S16384x16x128.size a)
theorem k0_off1043_inb : ∀ (v133 : BitVec 32) (k0_hw1043 : k0_chk1043 v133), ∀ a, (k0_off1043 v133) a + S1x16x128.size a ≤ S16384x16x128.size a := fun v133 k0_hw1043 => k0_hw1043

def k0_off1044 (v139 : BitVec 32) : Fin 3 → Nat :=
  let c0_i32_113 : BitVec 32 := 0#32
  let c0_i32_114 : BitVec 32 := 0#32
  ![v139.toNat, 0, 0]

def k0_chk1044 (v139 : BitVec 32) : Prop :=
  (∀ a, (k0_off1044 v139) a + S1x16x128.size a ≤ S16384x16x128.size a)
theorem k0_off1044_inb : ∀ (v139 : BitVec 32) (k0_hw1044 : k0_chk1044 v139), ∀ a, (k0_off1044 v139) a + S1x16x128.size a ≤ S16384x16x128.size a := fun v139 k0_hw1044 => k0_hw1044

def k0_off1045 (v145 : BitVec 32) : Fin 3 → Nat :=
  let c0_i32_118 : BitVec 32 := 0#32
  let c0_i32_119 : BitVec 32 := 0#32
  ![v145.toNat, 0, 0]

def k0_chk1045 (v145 : BitVec 32) : Prop :=
  (∀ a, (k0_off1045 v145) a + S1x16x128.size a ≤ S16384x16x128.size a)
theorem k0_off1045_inb : ∀ (v145 : BitVec 32) (k0_hw1045 : k0_chk1045 v145), ∀ a, (k0_off1045 v145) a + S1x16x128.size a ≤ S16384x16x128.size a := fun v145 k0_hw1045 => k0_hw1045

def k0_off1046 (v151 : BitVec 32) : Fin 3 → Nat :=
  let c0_i32_123 : BitVec 32 := 0#32
  let c0_i32_124 : BitVec 32 := 0#32
  ![v151.toNat, 0, 0]

def k0_chk1046 (v151 : BitVec 32) : Prop :=
  (∀ a, (k0_off1046 v151) a + S1x16x128.size a ≤ S16384x16x128.size a)
theorem k0_off1046_inb : ∀ (v151 : BitVec 32) (k0_hw1046 : k0_chk1046 v151), ∀ a, (k0_off1046 v151) a + S1x16x128.size a ≤ S16384x16x128.size a := fun v151 k0_hw1046 => k0_hw1046

def k0_off1047 (v157 : BitVec 32) : Fin 3 → Nat :=
  let c0_i32_128 : BitVec 32 := 0#32
  let c0_i32_129 : BitVec 32 := 0#32
  ![v157.toNat, 0, 0]

def k0_chk1047 (v157 : BitVec 32) : Prop :=
  (∀ a, (k0_off1047 v157) a + S1x16x128.size a ≤ S16384x16x128.size a)
theorem k0_off1047_inb : ∀ (v157 : BitVec 32) (k0_hw1047 : k0_chk1047 v157), ∀ a, (k0_off1047 v157) a + S1x16x128.size a ≤ S16384x16x128.size a := fun v157 k0_hw1047 => k0_hw1047

def k0_off1048 (v163 : BitVec 32) : Fin 3 → Nat :=
  let c0_i32_133 : BitVec 32 := 0#32
  let c0_i32_134 : BitVec 32 := 0#32
  ![v163.toNat, 0, 0]

def k0_chk1048 (v163 : BitVec 32) : Prop :=
  (∀ a, (k0_off1048 v163) a + S1x16x128.size a ≤ S16384x16x128.size a)
theorem k0_off1048_inb : ∀ (v163 : BitVec 32) (k0_hw1048 : k0_chk1048 v163), ∀ a, (k0_off1048 v163) a + S1x16x128.size a ≤ S16384x16x128.size a := fun v163 k0_hw1048 => k0_hw1048

def k0_off1049 (v169 : BitVec 32) : Fin 3 → Nat :=
  let c0_i32_138 : BitVec 32 := 0#32
  let c0_i32_139 : BitVec 32 := 0#32
  ![v169.toNat, 0, 0]

def k0_chk1049 (v169 : BitVec 32) : Prop :=
  (∀ a, (k0_off1049 v169) a + S1x16x128.size a ≤ S16384x16x128.size a)
theorem k0_off1049_inb : ∀ (v169 : BitVec 32) (k0_hw1049 : k0_chk1049 v169), ∀ a, (k0_off1049 v169) a + S1x16x128.size a ≤ S16384x16x128.size a := fun v169 k0_hw1049 => k0_hw1049

def k0_off1050 (v175 : BitVec 32) : Fin 3 → Nat :=
  let c0_i32_143 : BitVec 32 := 0#32
  let c0_i32_144 : BitVec 32 := 0#32
  ![v175.toNat, 0, 0]

def k0_chk1050 (v175 : BitVec 32) : Prop :=
  (∀ a, (k0_off1050 v175) a + S1x16x128.size a ≤ S16384x16x128.size a)
theorem k0_off1050_inb : ∀ (v175 : BitVec 32) (k0_hw1050 : k0_chk1050 v175), ∀ a, (k0_off1050 v175) a + S1x16x128.size a ≤ S16384x16x128.size a := fun v175 k0_hw1050 => k0_hw1050

def k0_off1051 (v181 : BitVec 32) : Fin 3 → Nat :=
  let c0_i32_148 : BitVec 32 := 0#32
  let c0_i32_149 : BitVec 32 := 0#32
  ![v181.toNat, 0, 0]

def k0_chk1051 (v181 : BitVec 32) : Prop :=
  (∀ a, (k0_off1051 v181) a + S1x16x128.size a ≤ S16384x16x128.size a)
theorem k0_off1051_inb : ∀ (v181 : BitVec 32) (k0_hw1051 : k0_chk1051 v181), ∀ a, (k0_off1051 v181) a + S1x16x128.size a ≤ S16384x16x128.size a := fun v181 k0_hw1051 => k0_hw1051

def k0_off1052 (v187 : BitVec 32) : Fin 3 → Nat :=
  let c0_i32_153 : BitVec 32 := 0#32
  let c0_i32_154 : BitVec 32 := 0#32
  ![v187.toNat, 0, 0]

def k0_chk1052 (v187 : BitVec 32) : Prop :=
  (∀ a, (k0_off1052 v187) a + S1x16x128.size a ≤ S16384x16x128.size a)
theorem k0_off1052_inb : ∀ (v187 : BitVec 32) (k0_hw1052 : k0_chk1052 v187), ∀ a, (k0_off1052 v187) a + S1x16x128.size a ≤ S16384x16x128.size a := fun v187 k0_hw1052 => k0_hw1052

def k0_off1053 (v193 : BitVec 32) : Fin 3 → Nat :=
  let c0_i32_158 : BitVec 32 := 0#32
  let c0_i32_159 : BitVec 32 := 0#32
  ![v193.toNat, 0, 0]

def k0_chk1053 (v193 : BitVec 32) : Prop :=
  (∀ a, (k0_off1053 v193) a + S1x16x128.size a ≤ S16384x16x128.size a)
theorem k0_off1053_inb : ∀ (v193 : BitVec 32) (k0_hw1053 : k0_chk1053 v193), ∀ a, (k0_off1053 v193) a + S1x16x128.size a ≤ S16384x16x128.size a := fun v193 k0_hw1053 => k0_hw1053

def k0_off1054 (v199 : BitVec 32) : Fin 3 → Nat :=
  let c0_i32_163 : BitVec 32 := 0#32
  let c0_i32_164 : BitVec 32 := 0#32
  ![v199.toNat, 0, 0]

def k0_chk1054 (v199 : BitVec 32) : Prop :=
  (∀ a, (k0_off1054 v199) a + S1x16x128.size a ≤ S16384x16x128.size a)
theorem k0_off1054_inb : ∀ (v199 : BitVec 32) (k0_hw1054 : k0_chk1054 v199), ∀ a, (k0_off1054 v199) a + S1x16x128.size a ≤ S16384x16x128.size a := fun v199 k0_hw1054 => k0_hw1054

def k0_off1055 (v205 : BitVec 32) : Fin 3 → Nat :=
  let c0_i32_168 : BitVec 32 := 0#32
  let c0_i32_169 : BitVec 32 := 0#32
  ![v205.toNat, 0, 0]

def k0_chk1055 (v205 : BitVec 32) : Prop :=
  (∀ a, (k0_off1055 v205) a + S1x16x128.size a ≤ S16384x16x128.size a)
theorem k0_off1055_inb : ∀ (v205 : BitVec 32) (k0_hw1055 : k0_chk1055 v205), ∀ a, (k0_off1055 v205) a + S1x16x128.size a ≤ S16384x16x128.size a := fun v205 k0_hw1055 => k0_hw1055

def k0_off1056 (v211 : BitVec 32) : Fin 3 → Nat :=
  let c0_i32_173 : BitVec 32 := 0#32
  let c0_i32_174 : BitVec 32 := 0#32
  ![v211.toNat, 0, 0]

def k0_chk1056 (v211 : BitVec 32) : Prop :=
  (∀ a, (k0_off1056 v211) a + S1x16x128.size a ≤ S16384x16x128.size a)
theorem k0_off1056_inb : ∀ (v211 : BitVec 32) (k0_hw1056 : k0_chk1056 v211), ∀ a, (k0_off1056 v211) a + S1x16x128.size a ≤ S16384x16x128.size a := fun v211 k0_hw1056 => k0_hw1056

def k0_off1057 (v217 : BitVec 32) : Fin 3 → Nat :=
  let c0_i32_178 : BitVec 32 := 0#32
  let c0_i32_179 : BitVec 32 := 0#32
  ![v217.toNat, 0, 0]

def k0_chk1057 (v217 : BitVec 32) : Prop :=
  (∀ a, (k0_off1057 v217) a + S1x16x128.size a ≤ S16384x16x128.size a)
theorem k0_off1057_inb : ∀ (v217 : BitVec 32) (k0_hw1057 : k0_chk1057 v217), ∀ a, (k0_off1057 v217) a + S1x16x128.size a ≤ S16384x16x128.size a := fun v217 k0_hw1057 => k0_hw1057

def k0_off1058 (v223 : BitVec 32) : Fin 3 → Nat :=
  let c0_i32_183 : BitVec 32 := 0#32
  let c0_i32_184 : BitVec 32 := 0#32
  ![v223.toNat, 0, 0]

def k0_chk1058 (v223 : BitVec 32) : Prop :=
  (∀ a, (k0_off1058 v223) a + S1x16x128.size a ≤ S16384x16x128.size a)
theorem k0_off1058_inb : ∀ (v223 : BitVec 32) (k0_hw1058 : k0_chk1058 v223), ∀ a, (k0_off1058 v223) a + S1x16x128.size a ≤ S16384x16x128.size a := fun v223 k0_hw1058 => k0_hw1058

def k0_off1059 (v229 : BitVec 32) : Fin 3 → Nat :=
  let c0_i32_188 : BitVec 32 := 0#32
  let c0_i32_189 : BitVec 32 := 0#32
  ![v229.toNat, 0, 0]

def k0_chk1059 (v229 : BitVec 32) : Prop :=
  (∀ a, (k0_off1059 v229) a + S1x16x128.size a ≤ S16384x16x128.size a)
theorem k0_off1059_inb : ∀ (v229 : BitVec 32) (k0_hw1059 : k0_chk1059 v229), ∀ a, (k0_off1059 v229) a + S1x16x128.size a ≤ S16384x16x128.size a := fun v229 k0_hw1059 => k0_hw1059

def k0_off1060 (v235 : BitVec 32) : Fin 3 → Nat :=
  let c0_i32_193 : BitVec 32 := 0#32
  let c0_i32_194 : BitVec 32 := 0#32
  ![v235.toNat, 0, 0]

def k0_chk1060 (v235 : BitVec 32) : Prop :=
  (∀ a, (k0_off1060 v235) a + S1x16x128.size a ≤ S16384x16x128.size a)
theorem k0_off1060_inb : ∀ (v235 : BitVec 32) (k0_hw1060 : k0_chk1060 v235), ∀ a, (k0_off1060 v235) a + S1x16x128.size a ≤ S16384x16x128.size a := fun v235 k0_hw1060 => k0_hw1060

def k0_off1061 (v241 : BitVec 32) : Fin 3 → Nat :=
  let c0_i32_198 : BitVec 32 := 0#32
  let c0_i32_199 : BitVec 32 := 0#32
  ![v241.toNat, 0, 0]

def k0_chk1061 (v241 : BitVec 32) : Prop :=
  (∀ a, (k0_off1061 v241) a + S1x16x128.size a ≤ S16384x16x128.size a)
theorem k0_off1061_inb : ∀ (v241 : BitVec 32) (k0_hw1061 : k0_chk1061 v241), ∀ a, (k0_off1061 v241) a + S1x16x128.size a ≤ S16384x16x128.size a := fun v241 k0_hw1061 => k0_hw1061

def k0_off1062 (v247 : BitVec 32) : Fin 3 → Nat :=
  let c0_i32_203 : BitVec 32 := 0#32
  let c0_i32_204 : BitVec 32 := 0#32
  ![v247.toNat, 0, 0]

def k0_chk1062 (v247 : BitVec 32) : Prop :=
  (∀ a, (k0_off1062 v247) a + S1x16x128.size a ≤ S16384x16x128.size a)
theorem k0_off1062_inb : ∀ (v247 : BitVec 32) (k0_hw1062 : k0_chk1062 v247), ∀ a, (k0_off1062 v247) a + S1x16x128.size a ≤ S16384x16x128.size a := fun v247 k0_hw1062 => k0_hw1062

def k0_off1063 (v253 : BitVec 32) : Fin 3 → Nat :=
  let c0_i32_208 : BitVec 32 := 0#32
  let c0_i32_209 : BitVec 32 := 0#32
  ![v253.toNat, 0, 0]

def k0_chk1063 (v253 : BitVec 32) : Prop :=
  (∀ a, (k0_off1063 v253) a + S1x16x128.size a ≤ S16384x16x128.size a)
theorem k0_off1063_inb : ∀ (v253 : BitVec 32) (k0_hw1063 : k0_chk1063 v253), ∀ a, (k0_off1063 v253) a + S1x16x128.size a ≤ S16384x16x128.size a := fun v253 k0_hw1063 => k0_hw1063

def k0_off1064 (v259 : BitVec 32) : Fin 3 → Nat :=
  let c0_i32_213 : BitVec 32 := 0#32
  let c0_i32_214 : BitVec 32 := 0#32
  ![v259.toNat, 0, 0]

def k0_chk1064 (v259 : BitVec 32) : Prop :=
  (∀ a, (k0_off1064 v259) a + S1x16x128.size a ≤ S16384x16x128.size a)
theorem k0_off1064_inb : ∀ (v259 : BitVec 32) (k0_hw1064 : k0_chk1064 v259), ∀ a, (k0_off1064 v259) a + S1x16x128.size a ≤ S16384x16x128.size a := fun v259 k0_hw1064 => k0_hw1064

def k0_off1065 (v265 : BitVec 32) : Fin 3 → Nat :=
  let c0_i32_218 : BitVec 32 := 0#32
  let c0_i32_219 : BitVec 32 := 0#32
  ![v265.toNat, 0, 0]

def k0_chk1065 (v265 : BitVec 32) : Prop :=
  (∀ a, (k0_off1065 v265) a + S1x16x128.size a ≤ S16384x16x128.size a)
theorem k0_off1065_inb : ∀ (v265 : BitVec 32) (k0_hw1065 : k0_chk1065 v265), ∀ a, (k0_off1065 v265) a + S1x16x128.size a ≤ S16384x16x128.size a := fun v265 k0_hw1065 => k0_hw1065

def k0_off1066 (v271 : BitVec 32) : Fin 3 → Nat :=
  let c0_i32_223 : BitVec 32 := 0#32
  let c0_i32_224 : BitVec 32 := 0#32
  ![v271.toNat, 0, 0]

def k0_chk1066 (v271 : BitVec 32) : Prop :=
  (∀ a, (k0_off1066 v271) a + S1x16x128.size a ≤ S16384x16x128.size a)
theorem k0_off1066_inb : ∀ (v271 : BitVec 32) (k0_hw1066 : k0_chk1066 v271), ∀ a, (k0_off1066 v271) a + S1x16x128.size a ≤ S16384x16x128.size a := fun v271 k0_hw1066 => k0_hw1066

def k0_off1067 (v277 : BitVec 32) : Fin 3 → Nat :=
  let c0_i32_228 : BitVec 32 := 0#32
  let c0_i32_229 : BitVec 32 := 0#32
  ![v277.toNat, 0, 0]

def k0_chk1067 (v277 : BitVec 32) : Prop :=
  (∀ a, (k0_off1067 v277) a + S1x16x128.size a ≤ S16384x16x128.size a)
theorem k0_off1067_inb : ∀ (v277 : BitVec 32) (k0_hw1067 : k0_chk1067 v277), ∀ a, (k0_off1067 v277) a + S1x16x128.size a ≤ S16384x16x128.size a := fun v277 k0_hw1067 => k0_hw1067

def k0_off1068 (v283 : BitVec 32) : Fin 3 → Nat :=
  let c0_i32_233 : BitVec 32 := 0#32
  let c0_i32_234 : BitVec 32 := 0#32
  ![v283.toNat, 0, 0]

def k0_chk1068 (v283 : BitVec 32) : Prop :=
  (∀ a, (k0_off1068 v283) a + S1x16x128.size a ≤ S16384x16x128.size a)
theorem k0_off1068_inb : ∀ (v283 : BitVec 32) (k0_hw1068 : k0_chk1068 v283), ∀ a, (k0_off1068 v283) a + S1x16x128.size a ≤ S16384x16x128.size a := fun v283 k0_hw1068 => k0_hw1068

def k0_off1069 (v289 : BitVec 32) : Fin 3 → Nat :=
  let c0_i32_238 : BitVec 32 := 0#32
  let c0_i32_239 : BitVec 32 := 0#32
  ![v289.toNat, 0, 0]

def k0_chk1069 (v289 : BitVec 32) : Prop :=
  (∀ a, (k0_off1069 v289) a + S1x16x128.size a ≤ S16384x16x128.size a)
theorem k0_off1069_inb : ∀ (v289 : BitVec 32) (k0_hw1069 : k0_chk1069 v289), ∀ a, (k0_off1069 v289) a + S1x16x128.size a ≤ S16384x16x128.size a := fun v289 k0_hw1069 => k0_hw1069

def k0_off1070 (v295 : BitVec 32) : Fin 3 → Nat :=
  let c0_i32_243 : BitVec 32 := 0#32
  let c0_i32_244 : BitVec 32 := 0#32
  ![v295.toNat, 0, 0]

def k0_chk1070 (v295 : BitVec 32) : Prop :=
  (∀ a, (k0_off1070 v295) a + S1x16x128.size a ≤ S16384x16x128.size a)
theorem k0_off1070_inb : ∀ (v295 : BitVec 32) (k0_hw1070 : k0_chk1070 v295), ∀ a, (k0_off1070 v295) a + S1x16x128.size a ≤ S16384x16x128.size a := fun v295 k0_hw1070 => k0_hw1070

def k0_off1071 (v301 : BitVec 32) : Fin 3 → Nat :=
  let c0_i32_248 : BitVec 32 := 0#32
  let c0_i32_249 : BitVec 32 := 0#32
  ![v301.toNat, 0, 0]

def k0_chk1071 (v301 : BitVec 32) : Prop :=
  (∀ a, (k0_off1071 v301) a + S1x16x128.size a ≤ S16384x16x128.size a)
theorem k0_off1071_inb : ∀ (v301 : BitVec 32) (k0_hw1071 : k0_chk1071 v301), ∀ a, (k0_off1071 v301) a + S1x16x128.size a ≤ S16384x16x128.size a := fun v301 k0_hw1071 => k0_hw1071

def k0_off1072 (v307 : BitVec 32) : Fin 3 → Nat :=
  let c0_i32_253 : BitVec 32 := 0#32
  let c0_i32_254 : BitVec 32 := 0#32
  ![v307.toNat, 0, 0]

def k0_chk1072 (v307 : BitVec 32) : Prop :=
  (∀ a, (k0_off1072 v307) a + S1x16x128.size a ≤ S16384x16x128.size a)
theorem k0_off1072_inb : ∀ (v307 : BitVec 32) (k0_hw1072 : k0_chk1072 v307), ∀ a, (k0_off1072 v307) a + S1x16x128.size a ≤ S16384x16x128.size a := fun v307 k0_hw1072 => k0_hw1072

def k0_off1073 (v313 : BitVec 32) : Fin 3 → Nat :=
  let c0_i32_258 : BitVec 32 := 0#32
  let c0_i32_259 : BitVec 32 := 0#32
  ![v313.toNat, 0, 0]

def k0_chk1073 (v313 : BitVec 32) : Prop :=
  (∀ a, (k0_off1073 v313) a + S1x16x128.size a ≤ S16384x16x128.size a)
theorem k0_off1073_inb : ∀ (v313 : BitVec 32) (k0_hw1073 : k0_chk1073 v313), ∀ a, (k0_off1073 v313) a + S1x16x128.size a ≤ S16384x16x128.size a := fun v313 k0_hw1073 => k0_hw1073

def k0_off1074 (v319 : BitVec 32) : Fin 3 → Nat :=
  let c0_i32_263 : BitVec 32 := 0#32
  let c0_i32_264 : BitVec 32 := 0#32
  ![v319.toNat, 0, 0]

def k0_chk1074 (v319 : BitVec 32) : Prop :=
  (∀ a, (k0_off1074 v319) a + S1x16x128.size a ≤ S16384x16x128.size a)
theorem k0_off1074_inb : ∀ (v319 : BitVec 32) (k0_hw1074 : k0_chk1074 v319), ∀ a, (k0_off1074 v319) a + S1x16x128.size a ≤ S16384x16x128.size a := fun v319 k0_hw1074 => k0_hw1074

def k0_off1075 (v325 : BitVec 32) : Fin 3 → Nat :=
  let c0_i32_268 : BitVec 32 := 0#32
  let c0_i32_269 : BitVec 32 := 0#32
  ![v325.toNat, 0, 0]

def k0_chk1075 (v325 : BitVec 32) : Prop :=
  (∀ a, (k0_off1075 v325) a + S1x16x128.size a ≤ S16384x16x128.size a)
theorem k0_off1075_inb : ∀ (v325 : BitVec 32) (k0_hw1075 : k0_chk1075 v325), ∀ a, (k0_off1075 v325) a + S1x16x128.size a ≤ S16384x16x128.size a := fun v325 k0_hw1075 => k0_hw1075

def k0_off1076 (v331 : BitVec 32) : Fin 3 → Nat :=
  let c0_i32_273 : BitVec 32 := 0#32
  let c0_i32_274 : BitVec 32 := 0#32
  ![v331.toNat, 0, 0]

def k0_chk1076 (v331 : BitVec 32) : Prop :=
  (∀ a, (k0_off1076 v331) a + S1x16x128.size a ≤ S16384x16x128.size a)
theorem k0_off1076_inb : ∀ (v331 : BitVec 32) (k0_hw1076 : k0_chk1076 v331), ∀ a, (k0_off1076 v331) a + S1x16x128.size a ≤ S16384x16x128.size a := fun v331 k0_hw1076 => k0_hw1076

def k0_off1077 (v337 : BitVec 32) : Fin 3 → Nat :=
  let c0_i32_278 : BitVec 32 := 0#32
  let c0_i32_279 : BitVec 32 := 0#32
  ![v337.toNat, 0, 0]

def k0_chk1077 (v337 : BitVec 32) : Prop :=
  (∀ a, (k0_off1077 v337) a + S1x16x128.size a ≤ S16384x16x128.size a)
theorem k0_off1077_inb : ∀ (v337 : BitVec 32) (k0_hw1077 : k0_chk1077 v337), ∀ a, (k0_off1077 v337) a + S1x16x128.size a ≤ S16384x16x128.size a := fun v337 k0_hw1077 => k0_hw1077

def k0_off1078 (v343 : BitVec 32) : Fin 3 → Nat :=
  let c0_i32_283 : BitVec 32 := 0#32
  let c0_i32_284 : BitVec 32 := 0#32
  ![v343.toNat, 0, 0]

def k0_chk1078 (v343 : BitVec 32) : Prop :=
  (∀ a, (k0_off1078 v343) a + S1x16x128.size a ≤ S16384x16x128.size a)
theorem k0_off1078_inb : ∀ (v343 : BitVec 32) (k0_hw1078 : k0_chk1078 v343), ∀ a, (k0_off1078 v343) a + S1x16x128.size a ≤ S16384x16x128.size a := fun v343 k0_hw1078 => k0_hw1078

def k0_off1079 (v349 : BitVec 32) : Fin 3 → Nat :=
  let c0_i32_288 : BitVec 32 := 0#32
  let c0_i32_289 : BitVec 32 := 0#32
  ![v349.toNat, 0, 0]

def k0_chk1079 (v349 : BitVec 32) : Prop :=
  (∀ a, (k0_off1079 v349) a + S1x16x128.size a ≤ S16384x16x128.size a)
theorem k0_off1079_inb : ∀ (v349 : BitVec 32) (k0_hw1079 : k0_chk1079 v349), ∀ a, (k0_off1079 v349) a + S1x16x128.size a ≤ S16384x16x128.size a := fun v349 k0_hw1079 => k0_hw1079

def k0_off1080 (v355 : BitVec 32) : Fin 3 → Nat :=
  let c0_i32_293 : BitVec 32 := 0#32
  let c0_i32_294 : BitVec 32 := 0#32
  ![v355.toNat, 0, 0]

def k0_chk1080 (v355 : BitVec 32) : Prop :=
  (∀ a, (k0_off1080 v355) a + S1x16x128.size a ≤ S16384x16x128.size a)
theorem k0_off1080_inb : ∀ (v355 : BitVec 32) (k0_hw1080 : k0_chk1080 v355), ∀ a, (k0_off1080 v355) a + S1x16x128.size a ≤ S16384x16x128.size a := fun v355 k0_hw1080 => k0_hw1080

def k0_off1081 (v361 : BitVec 32) : Fin 3 → Nat :=
  let c0_i32_298 : BitVec 32 := 0#32
  let c0_i32_299 : BitVec 32 := 0#32
  ![v361.toNat, 0, 0]

def k0_chk1081 (v361 : BitVec 32) : Prop :=
  (∀ a, (k0_off1081 v361) a + S1x16x128.size a ≤ S16384x16x128.size a)
theorem k0_off1081_inb : ∀ (v361 : BitVec 32) (k0_hw1081 : k0_chk1081 v361), ∀ a, (k0_off1081 v361) a + S1x16x128.size a ≤ S16384x16x128.size a := fun v361 k0_hw1081 => k0_hw1081

def k0_off1082 (v367 : BitVec 32) : Fin 3 → Nat :=
  let c0_i32_303 : BitVec 32 := 0#32
  let c0_i32_304 : BitVec 32 := 0#32
  ![v367.toNat, 0, 0]

def k0_chk1082 (v367 : BitVec 32) : Prop :=
  (∀ a, (k0_off1082 v367) a + S1x16x128.size a ≤ S16384x16x128.size a)
theorem k0_off1082_inb : ∀ (v367 : BitVec 32) (k0_hw1082 : k0_chk1082 v367), ∀ a, (k0_off1082 v367) a + S1x16x128.size a ≤ S16384x16x128.size a := fun v367 k0_hw1082 => k0_hw1082

def k0_off1083 (v373 : BitVec 32) : Fin 3 → Nat :=
  let c0_i32_308 : BitVec 32 := 0#32
  let c0_i32_309 : BitVec 32 := 0#32
  ![v373.toNat, 0, 0]

def k0_chk1083 (v373 : BitVec 32) : Prop :=
  (∀ a, (k0_off1083 v373) a + S1x16x128.size a ≤ S16384x16x128.size a)
theorem k0_off1083_inb : ∀ (v373 : BitVec 32) (k0_hw1083 : k0_chk1083 v373), ∀ a, (k0_off1083 v373) a + S1x16x128.size a ≤ S16384x16x128.size a := fun v373 k0_hw1083 => k0_hw1083

def k0_off1084 (v379 : BitVec 32) : Fin 3 → Nat :=
  let c0_i32_313 : BitVec 32 := 0#32
  let c0_i32_314 : BitVec 32 := 0#32
  ![v379.toNat, 0, 0]

def k0_chk1084 (v379 : BitVec 32) : Prop :=
  (∀ a, (k0_off1084 v379) a + S1x16x128.size a ≤ S16384x16x128.size a)
theorem k0_off1084_inb : ∀ (v379 : BitVec 32) (k0_hw1084 : k0_chk1084 v379), ∀ a, (k0_off1084 v379) a + S1x16x128.size a ≤ S16384x16x128.size a := fun v379 k0_hw1084 => k0_hw1084

def k0_off1085 (v385 : BitVec 32) : Fin 3 → Nat :=
  let c0_i32_318 : BitVec 32 := 0#32
  let c0_i32_319 : BitVec 32 := 0#32
  ![v385.toNat, 0, 0]

def k0_chk1085 (v385 : BitVec 32) : Prop :=
  (∀ a, (k0_off1085 v385) a + S1x16x128.size a ≤ S16384x16x128.size a)
theorem k0_off1085_inb : ∀ (v385 : BitVec 32) (k0_hw1085 : k0_chk1085 v385), ∀ a, (k0_off1085 v385) a + S1x16x128.size a ≤ S16384x16x128.size a := fun v385 k0_hw1085 => k0_hw1085

def k0_off1086 (v391 : BitVec 32) : Fin 3 → Nat :=
  let c0_i32_323 : BitVec 32 := 0#32
  let c0_i32_324 : BitVec 32 := 0#32
  ![v391.toNat, 0, 0]

def k0_chk1086 (v391 : BitVec 32) : Prop :=
  (∀ a, (k0_off1086 v391) a + S1x16x128.size a ≤ S16384x16x128.size a)
theorem k0_off1086_inb : ∀ (v391 : BitVec 32) (k0_hw1086 : k0_chk1086 v391), ∀ a, (k0_off1086 v391) a + S1x16x128.size a ≤ S16384x16x128.size a := fun v391 k0_hw1086 => k0_hw1086

def k0_off1087 (v397 : BitVec 32) : Fin 3 → Nat :=
  let c0_i32_328 : BitVec 32 := 0#32
  let c0_i32_329 : BitVec 32 := 0#32
  ![v397.toNat, 0, 0]

def k0_chk1087 (v397 : BitVec 32) : Prop :=
  (∀ a, (k0_off1087 v397) a + S1x16x128.size a ≤ S16384x16x128.size a)
theorem k0_off1087_inb : ∀ (v397 : BitVec 32) (k0_hw1087 : k0_chk1087 v397), ∀ a, (k0_off1087 v397) a + S1x16x128.size a ≤ S16384x16x128.size a := fun v397 k0_hw1087 => k0_hw1087

def k0_off1088 (v403 : BitVec 32) : Fin 3 → Nat :=
  let c0_i32_333 : BitVec 32 := 0#32
  let c0_i32_334 : BitVec 32 := 0#32
  ![v403.toNat, 0, 0]

def k0_chk1088 (v403 : BitVec 32) : Prop :=
  (∀ a, (k0_off1088 v403) a + S1x16x128.size a ≤ S16384x16x128.size a)
theorem k0_off1088_inb : ∀ (v403 : BitVec 32) (k0_hw1088 : k0_chk1088 v403), ∀ a, (k0_off1088 v403) a + S1x16x128.size a ≤ S16384x16x128.size a := fun v403 k0_hw1088 => k0_hw1088

def k0_off1089 (v409 : BitVec 32) : Fin 3 → Nat :=
  let c0_i32_338 : BitVec 32 := 0#32
  let c0_i32_339 : BitVec 32 := 0#32
  ![v409.toNat, 0, 0]

def k0_chk1089 (v409 : BitVec 32) : Prop :=
  (∀ a, (k0_off1089 v409) a + S1x16x128.size a ≤ S16384x16x128.size a)
theorem k0_off1089_inb : ∀ (v409 : BitVec 32) (k0_hw1089 : k0_chk1089 v409), ∀ a, (k0_off1089 v409) a + S1x16x128.size a ≤ S16384x16x128.size a := fun v409 k0_hw1089 => k0_hw1089

def k0_off1090 (v415 : BitVec 32) : Fin 3 → Nat :=
  let c0_i32_343 : BitVec 32 := 0#32
  let c0_i32_344 : BitVec 32 := 0#32
  ![v415.toNat, 0, 0]

def k0_chk1090 (v415 : BitVec 32) : Prop :=
  (∀ a, (k0_off1090 v415) a + S1x16x128.size a ≤ S16384x16x128.size a)
theorem k0_off1090_inb : ∀ (v415 : BitVec 32) (k0_hw1090 : k0_chk1090 v415), ∀ a, (k0_off1090 v415) a + S1x16x128.size a ≤ S16384x16x128.size a := fun v415 k0_hw1090 => k0_hw1090

def k0_off1091 (v421 : BitVec 32) : Fin 3 → Nat :=
  let c0_i32_348 : BitVec 32 := 0#32
  let c0_i32_349 : BitVec 32 := 0#32
  ![v421.toNat, 0, 0]

def k0_chk1091 (v421 : BitVec 32) : Prop :=
  (∀ a, (k0_off1091 v421) a + S1x16x128.size a ≤ S16384x16x128.size a)
theorem k0_off1091_inb : ∀ (v421 : BitVec 32) (k0_hw1091 : k0_chk1091 v421), ∀ a, (k0_off1091 v421) a + S1x16x128.size a ≤ S16384x16x128.size a := fun v421 k0_hw1091 => k0_hw1091

def k0_off1092 (v427 : BitVec 32) : Fin 3 → Nat :=
  let c0_i32_353 : BitVec 32 := 0#32
  let c0_i32_354 : BitVec 32 := 0#32
  ![v427.toNat, 0, 0]

def k0_chk1092 (v427 : BitVec 32) : Prop :=
  (∀ a, (k0_off1092 v427) a + S1x16x128.size a ≤ S16384x16x128.size a)
theorem k0_off1092_inb : ∀ (v427 : BitVec 32) (k0_hw1092 : k0_chk1092 v427), ∀ a, (k0_off1092 v427) a + S1x16x128.size a ≤ S16384x16x128.size a := fun v427 k0_hw1092 => k0_hw1092

def k0_off1093 (v433 : BitVec 32) : Fin 3 → Nat :=
  let c0_i32_358 : BitVec 32 := 0#32
  let c0_i32_359 : BitVec 32 := 0#32
  ![v433.toNat, 0, 0]

def k0_chk1093 (v433 : BitVec 32) : Prop :=
  (∀ a, (k0_off1093 v433) a + S1x16x128.size a ≤ S16384x16x128.size a)
theorem k0_off1093_inb : ∀ (v433 : BitVec 32) (k0_hw1093 : k0_chk1093 v433), ∀ a, (k0_off1093 v433) a + S1x16x128.size a ≤ S16384x16x128.size a := fun v433 k0_hw1093 => k0_hw1093

def k0_off1094 (v439 : BitVec 32) : Fin 3 → Nat :=
  let c0_i32_363 : BitVec 32 := 0#32
  let c0_i32_364 : BitVec 32 := 0#32
  ![v439.toNat, 0, 0]

def k0_chk1094 (v439 : BitVec 32) : Prop :=
  (∀ a, (k0_off1094 v439) a + S1x16x128.size a ≤ S16384x16x128.size a)
theorem k0_off1094_inb : ∀ (v439 : BitVec 32) (k0_hw1094 : k0_chk1094 v439), ∀ a, (k0_off1094 v439) a + S1x16x128.size a ≤ S16384x16x128.size a := fun v439 k0_hw1094 => k0_hw1094

def k0_off1095 (v445 : BitVec 32) : Fin 3 → Nat :=
  let c0_i32_368 : BitVec 32 := 0#32
  let c0_i32_369 : BitVec 32 := 0#32
  ![v445.toNat, 0, 0]

def k0_chk1095 (v445 : BitVec 32) : Prop :=
  (∀ a, (k0_off1095 v445) a + S1x16x128.size a ≤ S16384x16x128.size a)
theorem k0_off1095_inb : ∀ (v445 : BitVec 32) (k0_hw1095 : k0_chk1095 v445), ∀ a, (k0_off1095 v445) a + S1x16x128.size a ≤ S16384x16x128.size a := fun v445 k0_hw1095 => k0_hw1095

def k0_off1096 (v451 : BitVec 32) : Fin 3 → Nat :=
  let c0_i32_373 : BitVec 32 := 0#32
  let c0_i32_374 : BitVec 32 := 0#32
  ![v451.toNat, 0, 0]

def k0_chk1096 (v451 : BitVec 32) : Prop :=
  (∀ a, (k0_off1096 v451) a + S1x16x128.size a ≤ S16384x16x128.size a)
theorem k0_off1096_inb : ∀ (v451 : BitVec 32) (k0_hw1096 : k0_chk1096 v451), ∀ a, (k0_off1096 v451) a + S1x16x128.size a ≤ S16384x16x128.size a := fun v451 k0_hw1096 => k0_hw1096

def k0_off1097 (v457 : BitVec 32) : Fin 3 → Nat :=
  let c0_i32_378 : BitVec 32 := 0#32
  let c0_i32_379 : BitVec 32 := 0#32
  ![v457.toNat, 0, 0]

def k0_chk1097 (v457 : BitVec 32) : Prop :=
  (∀ a, (k0_off1097 v457) a + S1x16x128.size a ≤ S16384x16x128.size a)
theorem k0_off1097_inb : ∀ (v457 : BitVec 32) (k0_hw1097 : k0_chk1097 v457), ∀ a, (k0_off1097 v457) a + S1x16x128.size a ≤ S16384x16x128.size a := fun v457 k0_hw1097 => k0_hw1097

def k0_off1098 (v463 : BitVec 32) : Fin 3 → Nat :=
  let c0_i32_383 : BitVec 32 := 0#32
  let c0_i32_384 : BitVec 32 := 0#32
  ![v463.toNat, 0, 0]

def k0_chk1098 (v463 : BitVec 32) : Prop :=
  (∀ a, (k0_off1098 v463) a + S1x16x128.size a ≤ S16384x16x128.size a)
theorem k0_off1098_inb : ∀ (v463 : BitVec 32) (k0_hw1098 : k0_chk1098 v463), ∀ a, (k0_off1098 v463) a + S1x16x128.size a ≤ S16384x16x128.size a := fun v463 k0_hw1098 => k0_hw1098

def k0_off1099 (v469 : BitVec 32) : Fin 3 → Nat :=
  let c0_i32_388 : BitVec 32 := 0#32
  let c0_i32_389 : BitVec 32 := 0#32
  ![v469.toNat, 0, 0]

def k0_chk1099 (v469 : BitVec 32) : Prop :=
  (∀ a, (k0_off1099 v469) a + S1x16x128.size a ≤ S16384x16x128.size a)
theorem k0_off1099_inb : ∀ (v469 : BitVec 32) (k0_hw1099 : k0_chk1099 v469), ∀ a, (k0_off1099 v469) a + S1x16x128.size a ≤ S16384x16x128.size a := fun v469 k0_hw1099 => k0_hw1099

def k0_off1100 (v475 : BitVec 32) : Fin 3 → Nat :=
  let c0_i32_393 : BitVec 32 := 0#32
  let c0_i32_394 : BitVec 32 := 0#32
  ![v475.toNat, 0, 0]

def k0_chk1100 (v475 : BitVec 32) : Prop :=
  (∀ a, (k0_off1100 v475) a + S1x16x128.size a ≤ S16384x16x128.size a)
theorem k0_off1100_inb : ∀ (v475 : BitVec 32) (k0_hw1100 : k0_chk1100 v475), ∀ a, (k0_off1100 v475) a + S1x16x128.size a ≤ S16384x16x128.size a := fun v475 k0_hw1100 => k0_hw1100

def k0_off1101 (v481 : BitVec 32) : Fin 3 → Nat :=
  let c0_i32_398 : BitVec 32 := 0#32
  let c0_i32_399 : BitVec 32 := 0#32
  ![v481.toNat, 0, 0]

def k0_chk1101 (v481 : BitVec 32) : Prop :=
  (∀ a, (k0_off1101 v481) a + S1x16x128.size a ≤ S16384x16x128.size a)
theorem k0_off1101_inb : ∀ (v481 : BitVec 32) (k0_hw1101 : k0_chk1101 v481), ∀ a, (k0_off1101 v481) a + S1x16x128.size a ≤ S16384x16x128.size a := fun v481 k0_hw1101 => k0_hw1101

def k0_off1102 (v487 : BitVec 32) : Fin 3 → Nat :=
  let c0_i32_403 : BitVec 32 := 0#32
  let c0_i32_404 : BitVec 32 := 0#32
  ![v487.toNat, 0, 0]

def k0_chk1102 (v487 : BitVec 32) : Prop :=
  (∀ a, (k0_off1102 v487) a + S1x16x128.size a ≤ S16384x16x128.size a)
theorem k0_off1102_inb : ∀ (v487 : BitVec 32) (k0_hw1102 : k0_chk1102 v487), ∀ a, (k0_off1102 v487) a + S1x16x128.size a ≤ S16384x16x128.size a := fun v487 k0_hw1102 => k0_hw1102

def k0_off1103 (v493 : BitVec 32) : Fin 3 → Nat :=
  let c0_i32_408 : BitVec 32 := 0#32
  let c0_i32_409 : BitVec 32 := 0#32
  ![v493.toNat, 0, 0]

def k0_chk1103 (v493 : BitVec 32) : Prop :=
  (∀ a, (k0_off1103 v493) a + S1x16x128.size a ≤ S16384x16x128.size a)
theorem k0_off1103_inb : ∀ (v493 : BitVec 32) (k0_hw1103 : k0_chk1103 v493), ∀ a, (k0_off1103 v493) a + S1x16x128.size a ≤ S16384x16x128.size a := fun v493 k0_hw1103 => k0_hw1103

def k0_off1104 (v499 : BitVec 32) : Fin 3 → Nat :=
  let c0_i32_413 : BitVec 32 := 0#32
  let c0_i32_414 : BitVec 32 := 0#32
  ![v499.toNat, 0, 0]

def k0_chk1104 (v499 : BitVec 32) : Prop :=
  (∀ a, (k0_off1104 v499) a + S1x16x128.size a ≤ S16384x16x128.size a)
theorem k0_off1104_inb : ∀ (v499 : BitVec 32) (k0_hw1104 : k0_chk1104 v499), ∀ a, (k0_off1104 v499) a + S1x16x128.size a ≤ S16384x16x128.size a := fun v499 k0_hw1104 => k0_hw1104

def k0_off1105 (v505 : BitVec 32) : Fin 3 → Nat :=
  let c0_i32_418 : BitVec 32 := 0#32
  let c0_i32_419 : BitVec 32 := 0#32
  ![v505.toNat, 0, 0]

def k0_chk1105 (v505 : BitVec 32) : Prop :=
  (∀ a, (k0_off1105 v505) a + S1x16x128.size a ≤ S16384x16x128.size a)
theorem k0_off1105_inb : ∀ (v505 : BitVec 32) (k0_hw1105 : k0_chk1105 v505), ∀ a, (k0_off1105 v505) a + S1x16x128.size a ≤ S16384x16x128.size a := fun v505 k0_hw1105 => k0_hw1105

def k0_off1106 (v511 : BitVec 32) : Fin 3 → Nat :=
  let c0_i32_423 : BitVec 32 := 0#32
  let c0_i32_424 : BitVec 32 := 0#32
  ![v511.toNat, 0, 0]

def k0_chk1106 (v511 : BitVec 32) : Prop :=
  (∀ a, (k0_off1106 v511) a + S1x16x128.size a ≤ S16384x16x128.size a)
theorem k0_off1106_inb : ∀ (v511 : BitVec 32) (k0_hw1106 : k0_chk1106 v511), ∀ a, (k0_off1106 v511) a + S1x16x128.size a ≤ S16384x16x128.size a := fun v511 k0_hw1106 => k0_hw1106

def k0_off1107 (v517 : BitVec 32) : Fin 3 → Nat :=
  let c0_i32_428 : BitVec 32 := 0#32
  let c0_i32_429 : BitVec 32 := 0#32
  ![v517.toNat, 0, 0]

def k0_chk1107 (v517 : BitVec 32) : Prop :=
  (∀ a, (k0_off1107 v517) a + S1x16x128.size a ≤ S16384x16x128.size a)
theorem k0_off1107_inb : ∀ (v517 : BitVec 32) (k0_hw1107 : k0_chk1107 v517), ∀ a, (k0_off1107 v517) a + S1x16x128.size a ≤ S16384x16x128.size a := fun v517 k0_hw1107 => k0_hw1107

def k0_off1108 (v523 : BitVec 32) : Fin 3 → Nat :=
  let c0_i32_433 : BitVec 32 := 0#32
  let c0_i32_434 : BitVec 32 := 0#32
  ![v523.toNat, 0, 0]

def k0_chk1108 (v523 : BitVec 32) : Prop :=
  (∀ a, (k0_off1108 v523) a + S1x16x128.size a ≤ S16384x16x128.size a)
theorem k0_off1108_inb : ∀ (v523 : BitVec 32) (k0_hw1108 : k0_chk1108 v523), ∀ a, (k0_off1108 v523) a + S1x16x128.size a ≤ S16384x16x128.size a := fun v523 k0_hw1108 => k0_hw1108

def k0_off1109 (v529 : BitVec 32) : Fin 3 → Nat :=
  let c0_i32_438 : BitVec 32 := 0#32
  let c0_i32_439 : BitVec 32 := 0#32
  ![v529.toNat, 0, 0]

def k0_chk1109 (v529 : BitVec 32) : Prop :=
  (∀ a, (k0_off1109 v529) a + S1x16x128.size a ≤ S16384x16x128.size a)
theorem k0_off1109_inb : ∀ (v529 : BitVec 32) (k0_hw1109 : k0_chk1109 v529), ∀ a, (k0_off1109 v529) a + S1x16x128.size a ≤ S16384x16x128.size a := fun v529 k0_hw1109 => k0_hw1109

def k0_off1110 (v535 : BitVec 32) : Fin 3 → Nat :=
  let c0_i32_443 : BitVec 32 := 0#32
  let c0_i32_444 : BitVec 32 := 0#32
  ![v535.toNat, 0, 0]

def k0_chk1110 (v535 : BitVec 32) : Prop :=
  (∀ a, (k0_off1110 v535) a + S1x16x128.size a ≤ S16384x16x128.size a)
theorem k0_off1110_inb : ∀ (v535 : BitVec 32) (k0_hw1110 : k0_chk1110 v535), ∀ a, (k0_off1110 v535) a + S1x16x128.size a ≤ S16384x16x128.size a := fun v535 k0_hw1110 => k0_hw1110

def k0_off1111 (v541 : BitVec 32) : Fin 3 → Nat :=
  let c0_i32_448 : BitVec 32 := 0#32
  let c0_i32_449 : BitVec 32 := 0#32
  ![v541.toNat, 0, 0]

def k0_chk1111 (v541 : BitVec 32) : Prop :=
  (∀ a, (k0_off1111 v541) a + S1x16x128.size a ≤ S16384x16x128.size a)
theorem k0_off1111_inb : ∀ (v541 : BitVec 32) (k0_hw1111 : k0_chk1111 v541), ∀ a, (k0_off1111 v541) a + S1x16x128.size a ≤ S16384x16x128.size a := fun v541 k0_hw1111 => k0_hw1111

def k0_off1112 (v547 : BitVec 32) : Fin 3 → Nat :=
  let c0_i32_453 : BitVec 32 := 0#32
  let c0_i32_454 : BitVec 32 := 0#32
  ![v547.toNat, 0, 0]

def k0_chk1112 (v547 : BitVec 32) : Prop :=
  (∀ a, (k0_off1112 v547) a + S1x16x128.size a ≤ S16384x16x128.size a)
theorem k0_off1112_inb : ∀ (v547 : BitVec 32) (k0_hw1112 : k0_chk1112 v547), ∀ a, (k0_off1112 v547) a + S1x16x128.size a ≤ S16384x16x128.size a := fun v547 k0_hw1112 => k0_hw1112

def k0_off1113 (v553 : BitVec 32) : Fin 3 → Nat :=
  let c0_i32_458 : BitVec 32 := 0#32
  let c0_i32_459 : BitVec 32 := 0#32
  ![v553.toNat, 0, 0]

def k0_chk1113 (v553 : BitVec 32) : Prop :=
  (∀ a, (k0_off1113 v553) a + S1x16x128.size a ≤ S16384x16x128.size a)
theorem k0_off1113_inb : ∀ (v553 : BitVec 32) (k0_hw1113 : k0_chk1113 v553), ∀ a, (k0_off1113 v553) a + S1x16x128.size a ≤ S16384x16x128.size a := fun v553 k0_hw1113 => k0_hw1113

def k0_off1114 (v559 : BitVec 32) : Fin 3 → Nat :=
  let c0_i32_463 : BitVec 32 := 0#32
  let c0_i32_464 : BitVec 32 := 0#32
  ![v559.toNat, 0, 0]

def k0_chk1114 (v559 : BitVec 32) : Prop :=
  (∀ a, (k0_off1114 v559) a + S1x16x128.size a ≤ S16384x16x128.size a)
theorem k0_off1114_inb : ∀ (v559 : BitVec 32) (k0_hw1114 : k0_chk1114 v559), ∀ a, (k0_off1114 v559) a + S1x16x128.size a ≤ S16384x16x128.size a := fun v559 k0_hw1114 => k0_hw1114

def k0_off1115 (v565 : BitVec 32) : Fin 3 → Nat :=
  let c0_i32_468 : BitVec 32 := 0#32
  let c0_i32_469 : BitVec 32 := 0#32
  ![v565.toNat, 0, 0]

def k0_chk1115 (v565 : BitVec 32) : Prop :=
  (∀ a, (k0_off1115 v565) a + S1x16x128.size a ≤ S16384x16x128.size a)
theorem k0_off1115_inb : ∀ (v565 : BitVec 32) (k0_hw1115 : k0_chk1115 v565), ∀ a, (k0_off1115 v565) a + S1x16x128.size a ≤ S16384x16x128.size a := fun v565 k0_hw1115 => k0_hw1115

def k0_off1116 (v571 : BitVec 32) : Fin 3 → Nat :=
  let c0_i32_473 : BitVec 32 := 0#32
  let c0_i32_474 : BitVec 32 := 0#32
  ![v571.toNat, 0, 0]

def k0_chk1116 (v571 : BitVec 32) : Prop :=
  (∀ a, (k0_off1116 v571) a + S1x16x128.size a ≤ S16384x16x128.size a)
theorem k0_off1116_inb : ∀ (v571 : BitVec 32) (k0_hw1116 : k0_chk1116 v571), ∀ a, (k0_off1116 v571) a + S1x16x128.size a ≤ S16384x16x128.size a := fun v571 k0_hw1116 => k0_hw1116

def k0_off1117 (v577 : BitVec 32) : Fin 3 → Nat :=
  let c0_i32_478 : BitVec 32 := 0#32
  let c0_i32_479 : BitVec 32 := 0#32
  ![v577.toNat, 0, 0]

def k0_chk1117 (v577 : BitVec 32) : Prop :=
  (∀ a, (k0_off1117 v577) a + S1x16x128.size a ≤ S16384x16x128.size a)
theorem k0_off1117_inb : ∀ (v577 : BitVec 32) (k0_hw1117 : k0_chk1117 v577), ∀ a, (k0_off1117 v577) a + S1x16x128.size a ≤ S16384x16x128.size a := fun v577 k0_hw1117 => k0_hw1117

def k0_off1118 (v583 : BitVec 32) : Fin 3 → Nat :=
  let c0_i32_483 : BitVec 32 := 0#32
  let c0_i32_484 : BitVec 32 := 0#32
  ![v583.toNat, 0, 0]

def k0_chk1118 (v583 : BitVec 32) : Prop :=
  (∀ a, (k0_off1118 v583) a + S1x16x128.size a ≤ S16384x16x128.size a)
theorem k0_off1118_inb : ∀ (v583 : BitVec 32) (k0_hw1118 : k0_chk1118 v583), ∀ a, (k0_off1118 v583) a + S1x16x128.size a ≤ S16384x16x128.size a := fun v583 k0_hw1118 => k0_hw1118

def k0_off1119 (v589 : BitVec 32) : Fin 3 → Nat :=
  let c0_i32_488 : BitVec 32 := 0#32
  let c0_i32_489 : BitVec 32 := 0#32
  ![v589.toNat, 0, 0]

def k0_chk1119 (v589 : BitVec 32) : Prop :=
  (∀ a, (k0_off1119 v589) a + S1x16x128.size a ≤ S16384x16x128.size a)
theorem k0_off1119_inb : ∀ (v589 : BitVec 32) (k0_hw1119 : k0_chk1119 v589), ∀ a, (k0_off1119 v589) a + S1x16x128.size a ≤ S16384x16x128.size a := fun v589 k0_hw1119 => k0_hw1119

def k0_off1120 (v595 : BitVec 32) : Fin 3 → Nat :=
  let c0_i32_493 : BitVec 32 := 0#32
  let c0_i32_494 : BitVec 32 := 0#32
  ![v595.toNat, 0, 0]

def k0_chk1120 (v595 : BitVec 32) : Prop :=
  (∀ a, (k0_off1120 v595) a + S1x16x128.size a ≤ S16384x16x128.size a)
theorem k0_off1120_inb : ∀ (v595 : BitVec 32) (k0_hw1120 : k0_chk1120 v595), ∀ a, (k0_off1120 v595) a + S1x16x128.size a ≤ S16384x16x128.size a := fun v595 k0_hw1120 => k0_hw1120

def k0_off1121 (v601 : BitVec 32) : Fin 3 → Nat :=
  let c0_i32_498 : BitVec 32 := 0#32
  let c0_i32_499 : BitVec 32 := 0#32
  ![v601.toNat, 0, 0]

def k0_chk1121 (v601 : BitVec 32) : Prop :=
  (∀ a, (k0_off1121 v601) a + S1x16x128.size a ≤ S16384x16x128.size a)
theorem k0_off1121_inb : ∀ (v601 : BitVec 32) (k0_hw1121 : k0_chk1121 v601), ∀ a, (k0_off1121 v601) a + S1x16x128.size a ≤ S16384x16x128.size a := fun v601 k0_hw1121 => k0_hw1121

def k0_off1122 (v607 : BitVec 32) : Fin 3 → Nat :=
  let c0_i32_503 : BitVec 32 := 0#32
  let c0_i32_504 : BitVec 32 := 0#32
  ![v607.toNat, 0, 0]

def k0_chk1122 (v607 : BitVec 32) : Prop :=
  (∀ a, (k0_off1122 v607) a + S1x16x128.size a ≤ S16384x16x128.size a)
theorem k0_off1122_inb : ∀ (v607 : BitVec 32) (k0_hw1122 : k0_chk1122 v607), ∀ a, (k0_off1122 v607) a + S1x16x128.size a ≤ S16384x16x128.size a := fun v607 k0_hw1122 => k0_hw1122

def k0_off1123 (v613 : BitVec 32) : Fin 3 → Nat :=
  let c0_i32_508 : BitVec 32 := 0#32
  let c0_i32_509 : BitVec 32 := 0#32
  ![v613.toNat, 0, 0]

def k0_chk1123 (v613 : BitVec 32) : Prop :=
  (∀ a, (k0_off1123 v613) a + S1x16x128.size a ≤ S16384x16x128.size a)
theorem k0_off1123_inb : ∀ (v613 : BitVec 32) (k0_hw1123 : k0_chk1123 v613), ∀ a, (k0_off1123 v613) a + S1x16x128.size a ≤ S16384x16x128.size a := fun v613 k0_hw1123 => k0_hw1123

def k0_off1124 (v619 : BitVec 32) : Fin 3 → Nat :=
  let c0_i32_513 : BitVec 32 := 0#32
  let c0_i32_514 : BitVec 32 := 0#32
  ![v619.toNat, 0, 0]

def k0_chk1124 (v619 : BitVec 32) : Prop :=
  (∀ a, (k0_off1124 v619) a + S1x16x128.size a ≤ S16384x16x128.size a)
theorem k0_off1124_inb : ∀ (v619 : BitVec 32) (k0_hw1124 : k0_chk1124 v619), ∀ a, (k0_off1124 v619) a + S1x16x128.size a ≤ S16384x16x128.size a := fun v619 k0_hw1124 => k0_hw1124

def k0_off1125 (v625 : BitVec 32) : Fin 3 → Nat :=
  let c0_i32_518 : BitVec 32 := 0#32
  let c0_i32_519 : BitVec 32 := 0#32
  ![v625.toNat, 0, 0]

def k0_chk1125 (v625 : BitVec 32) : Prop :=
  (∀ a, (k0_off1125 v625) a + S1x16x128.size a ≤ S16384x16x128.size a)
theorem k0_off1125_inb : ∀ (v625 : BitVec 32) (k0_hw1125 : k0_chk1125 v625), ∀ a, (k0_off1125 v625) a + S1x16x128.size a ≤ S16384x16x128.size a := fun v625 k0_hw1125 => k0_hw1125

def k0_off1126 (v631 : BitVec 32) : Fin 3 → Nat :=
  let c0_i32_523 : BitVec 32 := 0#32
  let c0_i32_524 : BitVec 32 := 0#32
  ![v631.toNat, 0, 0]

def k0_chk1126 (v631 : BitVec 32) : Prop :=
  (∀ a, (k0_off1126 v631) a + S1x16x128.size a ≤ S16384x16x128.size a)
theorem k0_off1126_inb : ∀ (v631 : BitVec 32) (k0_hw1126 : k0_chk1126 v631), ∀ a, (k0_off1126 v631) a + S1x16x128.size a ≤ S16384x16x128.size a := fun v631 k0_hw1126 => k0_hw1126

def k0_off1127 (v637 : BitVec 32) : Fin 3 → Nat :=
  let c0_i32_528 : BitVec 32 := 0#32
  let c0_i32_529 : BitVec 32 := 0#32
  ![v637.toNat, 0, 0]

def k0_chk1127 (v637 : BitVec 32) : Prop :=
  (∀ a, (k0_off1127 v637) a + S1x16x128.size a ≤ S16384x16x128.size a)
theorem k0_off1127_inb : ∀ (v637 : BitVec 32) (k0_hw1127 : k0_chk1127 v637), ∀ a, (k0_off1127 v637) a + S1x16x128.size a ≤ S16384x16x128.size a := fun v637 k0_hw1127 => k0_hw1127

def k0_off1128 (v643 : BitVec 32) : Fin 3 → Nat :=
  let c0_i32_533 : BitVec 32 := 0#32
  let c0_i32_534 : BitVec 32 := 0#32
  ![v643.toNat, 0, 0]

def k0_chk1128 (v643 : BitVec 32) : Prop :=
  (∀ a, (k0_off1128 v643) a + S1x16x128.size a ≤ S16384x16x128.size a)
theorem k0_off1128_inb : ∀ (v643 : BitVec 32) (k0_hw1128 : k0_chk1128 v643), ∀ a, (k0_off1128 v643) a + S1x16x128.size a ≤ S16384x16x128.size a := fun v643 k0_hw1128 => k0_hw1128

def k0_off1129 (v649 : BitVec 32) : Fin 3 → Nat :=
  let c0_i32_538 : BitVec 32 := 0#32
  let c0_i32_539 : BitVec 32 := 0#32
  ![v649.toNat, 0, 0]

def k0_chk1129 (v649 : BitVec 32) : Prop :=
  (∀ a, (k0_off1129 v649) a + S1x16x128.size a ≤ S16384x16x128.size a)
theorem k0_off1129_inb : ∀ (v649 : BitVec 32) (k0_hw1129 : k0_chk1129 v649), ∀ a, (k0_off1129 v649) a + S1x16x128.size a ≤ S16384x16x128.size a := fun v649 k0_hw1129 => k0_hw1129

def k0_off1130 (v655 : BitVec 32) : Fin 3 → Nat :=
  let c0_i32_543 : BitVec 32 := 0#32
  let c0_i32_544 : BitVec 32 := 0#32
  ![v655.toNat, 0, 0]

def k0_chk1130 (v655 : BitVec 32) : Prop :=
  (∀ a, (k0_off1130 v655) a + S1x16x128.size a ≤ S16384x16x128.size a)
theorem k0_off1130_inb : ∀ (v655 : BitVec 32) (k0_hw1130 : k0_chk1130 v655), ∀ a, (k0_off1130 v655) a + S1x16x128.size a ≤ S16384x16x128.size a := fun v655 k0_hw1130 => k0_hw1130

def k0_off1131 (v661 : BitVec 32) : Fin 3 → Nat :=
  let c0_i32_548 : BitVec 32 := 0#32
  let c0_i32_549 : BitVec 32 := 0#32
  ![v661.toNat, 0, 0]

def k0_chk1131 (v661 : BitVec 32) : Prop :=
  (∀ a, (k0_off1131 v661) a + S1x16x128.size a ≤ S16384x16x128.size a)
theorem k0_off1131_inb : ∀ (v661 : BitVec 32) (k0_hw1131 : k0_chk1131 v661), ∀ a, (k0_off1131 v661) a + S1x16x128.size a ≤ S16384x16x128.size a := fun v661 k0_hw1131 => k0_hw1131

def k0_off1132 (v667 : BitVec 32) : Fin 3 → Nat :=
  let c0_i32_553 : BitVec 32 := 0#32
  let c0_i32_554 : BitVec 32 := 0#32
  ![v667.toNat, 0, 0]

def k0_chk1132 (v667 : BitVec 32) : Prop :=
  (∀ a, (k0_off1132 v667) a + S1x16x128.size a ≤ S16384x16x128.size a)
theorem k0_off1132_inb : ∀ (v667 : BitVec 32) (k0_hw1132 : k0_chk1132 v667), ∀ a, (k0_off1132 v667) a + S1x16x128.size a ≤ S16384x16x128.size a := fun v667 k0_hw1132 => k0_hw1132

def k0_off1133 (v673 : BitVec 32) : Fin 3 → Nat :=
  let c0_i32_558 : BitVec 32 := 0#32
  let c0_i32_559 : BitVec 32 := 0#32
  ![v673.toNat, 0, 0]

def k0_chk1133 (v673 : BitVec 32) : Prop :=
  (∀ a, (k0_off1133 v673) a + S1x16x128.size a ≤ S16384x16x128.size a)
theorem k0_off1133_inb : ∀ (v673 : BitVec 32) (k0_hw1133 : k0_chk1133 v673), ∀ a, (k0_off1133 v673) a + S1x16x128.size a ≤ S16384x16x128.size a := fun v673 k0_hw1133 => k0_hw1133

def k0_off1134 (v679 : BitVec 32) : Fin 3 → Nat :=
  let c0_i32_563 : BitVec 32 := 0#32
  let c0_i32_564 : BitVec 32 := 0#32
  ![v679.toNat, 0, 0]

def k0_chk1134 (v679 : BitVec 32) : Prop :=
  (∀ a, (k0_off1134 v679) a + S1x16x128.size a ≤ S16384x16x128.size a)
theorem k0_off1134_inb : ∀ (v679 : BitVec 32) (k0_hw1134 : k0_chk1134 v679), ∀ a, (k0_off1134 v679) a + S1x16x128.size a ≤ S16384x16x128.size a := fun v679 k0_hw1134 => k0_hw1134

def k0_off1135 (v685 : BitVec 32) : Fin 3 → Nat :=
  let c0_i32_568 : BitVec 32 := 0#32
  let c0_i32_569 : BitVec 32 := 0#32
  ![v685.toNat, 0, 0]

def k0_chk1135 (v685 : BitVec 32) : Prop :=
  (∀ a, (k0_off1135 v685) a + S1x16x128.size a ≤ S16384x16x128.size a)
theorem k0_off1135_inb : ∀ (v685 : BitVec 32) (k0_hw1135 : k0_chk1135 v685), ∀ a, (k0_off1135 v685) a + S1x16x128.size a ≤ S16384x16x128.size a := fun v685 k0_hw1135 => k0_hw1135

def k0_off1136 (v691 : BitVec 32) : Fin 3 → Nat :=
  let c0_i32_573 : BitVec 32 := 0#32
  let c0_i32_574 : BitVec 32 := 0#32
  ![v691.toNat, 0, 0]

def k0_chk1136 (v691 : BitVec 32) : Prop :=
  (∀ a, (k0_off1136 v691) a + S1x16x128.size a ≤ S16384x16x128.size a)
theorem k0_off1136_inb : ∀ (v691 : BitVec 32) (k0_hw1136 : k0_chk1136 v691), ∀ a, (k0_off1136 v691) a + S1x16x128.size a ≤ S16384x16x128.size a := fun v691 k0_hw1136 => k0_hw1136

def k0_off1137 (v697 : BitVec 32) : Fin 3 → Nat :=
  let c0_i32_578 : BitVec 32 := 0#32
  let c0_i32_579 : BitVec 32 := 0#32
  ![v697.toNat, 0, 0]

def k0_chk1137 (v697 : BitVec 32) : Prop :=
  (∀ a, (k0_off1137 v697) a + S1x16x128.size a ≤ S16384x16x128.size a)
theorem k0_off1137_inb : ∀ (v697 : BitVec 32) (k0_hw1137 : k0_chk1137 v697), ∀ a, (k0_off1137 v697) a + S1x16x128.size a ≤ S16384x16x128.size a := fun v697 k0_hw1137 => k0_hw1137

def k0_off1138 (v703 : BitVec 32) : Fin 3 → Nat :=
  let c0_i32_583 : BitVec 32 := 0#32
  let c0_i32_584 : BitVec 32 := 0#32
  ![v703.toNat, 0, 0]

def k0_chk1138 (v703 : BitVec 32) : Prop :=
  (∀ a, (k0_off1138 v703) a + S1x16x128.size a ≤ S16384x16x128.size a)
theorem k0_off1138_inb : ∀ (v703 : BitVec 32) (k0_hw1138 : k0_chk1138 v703), ∀ a, (k0_off1138 v703) a + S1x16x128.size a ≤ S16384x16x128.size a := fun v703 k0_hw1138 => k0_hw1138

def k0_off1139 (v709 : BitVec 32) : Fin 3 → Nat :=
  let c0_i32_588 : BitVec 32 := 0#32
  let c0_i32_589 : BitVec 32 := 0#32
  ![v709.toNat, 0, 0]

def k0_chk1139 (v709 : BitVec 32) : Prop :=
  (∀ a, (k0_off1139 v709) a + S1x16x128.size a ≤ S16384x16x128.size a)
theorem k0_off1139_inb : ∀ (v709 : BitVec 32) (k0_hw1139 : k0_chk1139 v709), ∀ a, (k0_off1139 v709) a + S1x16x128.size a ≤ S16384x16x128.size a := fun v709 k0_hw1139 => k0_hw1139

def k0_off1140 (v715 : BitVec 32) : Fin 3 → Nat :=
  let c0_i32_593 : BitVec 32 := 0#32
  let c0_i32_594 : BitVec 32 := 0#32
  ![v715.toNat, 0, 0]

def k0_chk1140 (v715 : BitVec 32) : Prop :=
  (∀ a, (k0_off1140 v715) a + S1x16x128.size a ≤ S16384x16x128.size a)
theorem k0_off1140_inb : ∀ (v715 : BitVec 32) (k0_hw1140 : k0_chk1140 v715), ∀ a, (k0_off1140 v715) a + S1x16x128.size a ≤ S16384x16x128.size a := fun v715 k0_hw1140 => k0_hw1140

def k0_off1141 (v721 : BitVec 32) : Fin 3 → Nat :=
  let c0_i32_598 : BitVec 32 := 0#32
  let c0_i32_599 : BitVec 32 := 0#32
  ![v721.toNat, 0, 0]

def k0_chk1141 (v721 : BitVec 32) : Prop :=
  (∀ a, (k0_off1141 v721) a + S1x16x128.size a ≤ S16384x16x128.size a)
theorem k0_off1141_inb : ∀ (v721 : BitVec 32) (k0_hw1141 : k0_chk1141 v721), ∀ a, (k0_off1141 v721) a + S1x16x128.size a ≤ S16384x16x128.size a := fun v721 k0_hw1141 => k0_hw1141

def k0_off1142 (v727 : BitVec 32) : Fin 3 → Nat :=
  let c0_i32_603 : BitVec 32 := 0#32
  let c0_i32_604 : BitVec 32 := 0#32
  ![v727.toNat, 0, 0]

def k0_chk1142 (v727 : BitVec 32) : Prop :=
  (∀ a, (k0_off1142 v727) a + S1x16x128.size a ≤ S16384x16x128.size a)
theorem k0_off1142_inb : ∀ (v727 : BitVec 32) (k0_hw1142 : k0_chk1142 v727), ∀ a, (k0_off1142 v727) a + S1x16x128.size a ≤ S16384x16x128.size a := fun v727 k0_hw1142 => k0_hw1142

def k0_off1143 (v733 : BitVec 32) : Fin 3 → Nat :=
  let c0_i32_608 : BitVec 32 := 0#32
  let c0_i32_609 : BitVec 32 := 0#32
  ![v733.toNat, 0, 0]

def k0_chk1143 (v733 : BitVec 32) : Prop :=
  (∀ a, (k0_off1143 v733) a + S1x16x128.size a ≤ S16384x16x128.size a)
theorem k0_off1143_inb : ∀ (v733 : BitVec 32) (k0_hw1143 : k0_chk1143 v733), ∀ a, (k0_off1143 v733) a + S1x16x128.size a ≤ S16384x16x128.size a := fun v733 k0_hw1143 => k0_hw1143

def k0_off1144 (v739 : BitVec 32) : Fin 3 → Nat :=
  let c0_i32_613 : BitVec 32 := 0#32
  let c0_i32_614 : BitVec 32 := 0#32
  ![v739.toNat, 0, 0]

def k0_chk1144 (v739 : BitVec 32) : Prop :=
  (∀ a, (k0_off1144 v739) a + S1x16x128.size a ≤ S16384x16x128.size a)
theorem k0_off1144_inb : ∀ (v739 : BitVec 32) (k0_hw1144 : k0_chk1144 v739), ∀ a, (k0_off1144 v739) a + S1x16x128.size a ≤ S16384x16x128.size a := fun v739 k0_hw1144 => k0_hw1144

def k0_off1145 (v745 : BitVec 32) : Fin 3 → Nat :=
  let c0_i32_618 : BitVec 32 := 0#32
  let c0_i32_619 : BitVec 32 := 0#32
  ![v745.toNat, 0, 0]

def k0_chk1145 (v745 : BitVec 32) : Prop :=
  (∀ a, (k0_off1145 v745) a + S1x16x128.size a ≤ S16384x16x128.size a)
theorem k0_off1145_inb : ∀ (v745 : BitVec 32) (k0_hw1145 : k0_chk1145 v745), ∀ a, (k0_off1145 v745) a + S1x16x128.size a ≤ S16384x16x128.size a := fun v745 k0_hw1145 => k0_hw1145

def k0_off1146 (v751 : BitVec 32) : Fin 3 → Nat :=
  let c0_i32_623 : BitVec 32 := 0#32
  let c0_i32_624 : BitVec 32 := 0#32
  ![v751.toNat, 0, 0]

def k0_chk1146 (v751 : BitVec 32) : Prop :=
  (∀ a, (k0_off1146 v751) a + S1x16x128.size a ≤ S16384x16x128.size a)
theorem k0_off1146_inb : ∀ (v751 : BitVec 32) (k0_hw1146 : k0_chk1146 v751), ∀ a, (k0_off1146 v751) a + S1x16x128.size a ≤ S16384x16x128.size a := fun v751 k0_hw1146 => k0_hw1146

def k0_off1147 (v757 : BitVec 32) : Fin 3 → Nat :=
  let c0_i32_628 : BitVec 32 := 0#32
  let c0_i32_629 : BitVec 32 := 0#32
  ![v757.toNat, 0, 0]

def k0_chk1147 (v757 : BitVec 32) : Prop :=
  (∀ a, (k0_off1147 v757) a + S1x16x128.size a ≤ S16384x16x128.size a)
theorem k0_off1147_inb : ∀ (v757 : BitVec 32) (k0_hw1147 : k0_chk1147 v757), ∀ a, (k0_off1147 v757) a + S1x16x128.size a ≤ S16384x16x128.size a := fun v757 k0_hw1147 => k0_hw1147

def k0_off1148 (v763 : BitVec 32) : Fin 3 → Nat :=
  let c0_i32_633 : BitVec 32 := 0#32
  let c0_i32_634 : BitVec 32 := 0#32
  ![v763.toNat, 0, 0]

def k0_chk1148 (v763 : BitVec 32) : Prop :=
  (∀ a, (k0_off1148 v763) a + S1x16x128.size a ≤ S16384x16x128.size a)
theorem k0_off1148_inb : ∀ (v763 : BitVec 32) (k0_hw1148 : k0_chk1148 v763), ∀ a, (k0_off1148 v763) a + S1x16x128.size a ≤ S16384x16x128.size a := fun v763 k0_hw1148 => k0_hw1148

def k0_off1149 (v769 : BitVec 32) : Fin 3 → Nat :=
  let c0_i32_638 : BitVec 32 := 0#32
  let c0_i32_639 : BitVec 32 := 0#32
  ![v769.toNat, 0, 0]

def k0_chk1149 (v769 : BitVec 32) : Prop :=
  (∀ a, (k0_off1149 v769) a + S1x16x128.size a ≤ S16384x16x128.size a)
theorem k0_off1149_inb : ∀ (v769 : BitVec 32) (k0_hw1149 : k0_chk1149 v769), ∀ a, (k0_off1149 v769) a + S1x16x128.size a ≤ S16384x16x128.size a := fun v769 k0_hw1149 => k0_hw1149

def k0_off1150 (v775 : BitVec 32) : Fin 3 → Nat :=
  let c0_i32_643 : BitVec 32 := 0#32
  let c0_i32_644 : BitVec 32 := 0#32
  ![v775.toNat, 0, 0]

def k0_chk1150 (v775 : BitVec 32) : Prop :=
  (∀ a, (k0_off1150 v775) a + S1x16x128.size a ≤ S16384x16x128.size a)
theorem k0_off1150_inb : ∀ (v775 : BitVec 32) (k0_hw1150 : k0_chk1150 v775), ∀ a, (k0_off1150 v775) a + S1x16x128.size a ≤ S16384x16x128.size a := fun v775 k0_hw1150 => k0_hw1150

def k0_off1151 (v781 : BitVec 32) : Fin 3 → Nat :=
  let c0_i32_648 : BitVec 32 := 0#32
  let c0_i32_649 : BitVec 32 := 0#32
  ![v781.toNat, 0, 0]

def k0_chk1151 (v781 : BitVec 32) : Prop :=
  (∀ a, (k0_off1151 v781) a + S1x16x128.size a ≤ S16384x16x128.size a)
theorem k0_off1151_inb : ∀ (v781 : BitVec 32) (k0_hw1151 : k0_chk1151 v781), ∀ a, (k0_off1151 v781) a + S1x16x128.size a ≤ S16384x16x128.size a := fun v781 k0_hw1151 => k0_hw1151

def k0_off1152 (v787 : BitVec 32) : Fin 3 → Nat :=
  let c0_i32_653 : BitVec 32 := 0#32
  let c0_i32_654 : BitVec 32 := 0#32
  ![v787.toNat, 0, 0]

def k0_chk1152 (v787 : BitVec 32) : Prop :=
  (∀ a, (k0_off1152 v787) a + S1x16x128.size a ≤ S16384x16x128.size a)
theorem k0_off1152_inb : ∀ (v787 : BitVec 32) (k0_hw1152 : k0_chk1152 v787), ∀ a, (k0_off1152 v787) a + S1x16x128.size a ≤ S16384x16x128.size a := fun v787 k0_hw1152 => k0_hw1152

def k0_off1153 (v1066 : BitVec 32) : Fin 3 → Nat :=
  let c0_i32_776 : BitVec 32 := 0#32
  let c0_i32_777 : BitVec 32 := 0#32
  ![v1066.toNat, 0, 0]

def k0_chk1153 (v1066 : BitVec 32) : Prop :=
  (∀ a, (k0_off1153 v1066) a + S1x16x128.size a ≤ S16384x16x128.size a)
theorem k0_off1153_inb : ∀ (v1066 : BitVec 32) (k0_hw1153 : k0_chk1153 v1066), ∀ a, (k0_off1153 v1066) a + S1x16x128.size a ≤ S16384x16x128.size a := fun v1066 k0_hw1153 => k0_hw1153

def k0_off1154 (v1072 : BitVec 32) : Fin 3 → Nat :=
  let c0_i32_782 : BitVec 32 := 0#32
  let c0_i32_783 : BitVec 32 := 0#32
  ![v1072.toNat, 0, 0]

def k0_chk1154 (v1072 : BitVec 32) : Prop :=
  (∀ a, (k0_off1154 v1072) a + S1x16x128.size a ≤ S16384x16x128.size a)
theorem k0_off1154_inb : ∀ (v1072 : BitVec 32) (k0_hw1154 : k0_chk1154 v1072), ∀ a, (k0_off1154 v1072) a + S1x16x128.size a ≤ S16384x16x128.size a := fun v1072 k0_hw1154 => k0_hw1154

def k0_off1155 (v1078 : BitVec 32) : Fin 3 → Nat :=
  let c0_i32_788 : BitVec 32 := 0#32
  let c0_i32_789 : BitVec 32 := 0#32
  ![v1078.toNat, 0, 0]

def k0_chk1155 (v1078 : BitVec 32) : Prop :=
  (∀ a, (k0_off1155 v1078) a + S1x16x128.size a ≤ S16384x16x128.size a)
theorem k0_off1155_inb : ∀ (v1078 : BitVec 32) (k0_hw1155 : k0_chk1155 v1078), ∀ a, (k0_off1155 v1078) a + S1x16x128.size a ≤ S16384x16x128.size a := fun v1078 k0_hw1155 => k0_hw1155

def k0_off1156 (v1084 : BitVec 32) : Fin 3 → Nat :=
  let c0_i32_794 : BitVec 32 := 0#32
  let c0_i32_795 : BitVec 32 := 0#32
  ![v1084.toNat, 0, 0]

def k0_chk1156 (v1084 : BitVec 32) : Prop :=
  (∀ a, (k0_off1156 v1084) a + S1x16x128.size a ≤ S16384x16x128.size a)
theorem k0_off1156_inb : ∀ (v1084 : BitVec 32) (k0_hw1156 : k0_chk1156 v1084), ∀ a, (k0_off1156 v1084) a + S1x16x128.size a ≤ S16384x16x128.size a := fun v1084 k0_hw1156 => k0_hw1156

def k0_off1157 (v1090 : BitVec 32) : Fin 3 → Nat :=
  let c0_i32_800 : BitVec 32 := 0#32
  let c0_i32_801 : BitVec 32 := 0#32
  ![v1090.toNat, 0, 0]

def k0_chk1157 (v1090 : BitVec 32) : Prop :=
  (∀ a, (k0_off1157 v1090) a + S1x16x128.size a ≤ S16384x16x128.size a)
theorem k0_off1157_inb : ∀ (v1090 : BitVec 32) (k0_hw1157 : k0_chk1157 v1090), ∀ a, (k0_off1157 v1090) a + S1x16x128.size a ≤ S16384x16x128.size a := fun v1090 k0_hw1157 => k0_hw1157

def k0_off1158 (v1096 : BitVec 32) : Fin 3 → Nat :=
  let c0_i32_806 : BitVec 32 := 0#32
  let c0_i32_807 : BitVec 32 := 0#32
  ![v1096.toNat, 0, 0]

def k0_chk1158 (v1096 : BitVec 32) : Prop :=
  (∀ a, (k0_off1158 v1096) a + S1x16x128.size a ≤ S16384x16x128.size a)
theorem k0_off1158_inb : ∀ (v1096 : BitVec 32) (k0_hw1158 : k0_chk1158 v1096), ∀ a, (k0_off1158 v1096) a + S1x16x128.size a ≤ S16384x16x128.size a := fun v1096 k0_hw1158 => k0_hw1158

def k0_off1159 (v1102 : BitVec 32) : Fin 3 → Nat :=
  let c0_i32_812 : BitVec 32 := 0#32
  let c0_i32_813 : BitVec 32 := 0#32
  ![v1102.toNat, 0, 0]

def k0_chk1159 (v1102 : BitVec 32) : Prop :=
  (∀ a, (k0_off1159 v1102) a + S1x16x128.size a ≤ S16384x16x128.size a)
theorem k0_off1159_inb : ∀ (v1102 : BitVec 32) (k0_hw1159 : k0_chk1159 v1102), ∀ a, (k0_off1159 v1102) a + S1x16x128.size a ≤ S16384x16x128.size a := fun v1102 k0_hw1159 => k0_hw1159

def k0_off1160 (v1108 : BitVec 32) : Fin 3 → Nat :=
  let c0_i32_818 : BitVec 32 := 0#32
  let c0_i32_819 : BitVec 32 := 0#32
  ![v1108.toNat, 0, 0]

def k0_chk1160 (v1108 : BitVec 32) : Prop :=
  (∀ a, (k0_off1160 v1108) a + S1x16x128.size a ≤ S16384x16x128.size a)
theorem k0_off1160_inb : ∀ (v1108 : BitVec 32) (k0_hw1160 : k0_chk1160 v1108), ∀ a, (k0_off1160 v1108) a + S1x16x128.size a ≤ S16384x16x128.size a := fun v1108 k0_hw1160 => k0_hw1160

def k0_off1161 (v1114 : BitVec 32) : Fin 3 → Nat :=
  let c0_i32_824 : BitVec 32 := 0#32
  let c0_i32_825 : BitVec 32 := 0#32
  ![v1114.toNat, 0, 0]

def k0_chk1161 (v1114 : BitVec 32) : Prop :=
  (∀ a, (k0_off1161 v1114) a + S1x16x128.size a ≤ S16384x16x128.size a)
theorem k0_off1161_inb : ∀ (v1114 : BitVec 32) (k0_hw1161 : k0_chk1161 v1114), ∀ a, (k0_off1161 v1114) a + S1x16x128.size a ≤ S16384x16x128.size a := fun v1114 k0_hw1161 => k0_hw1161

def k0_off1162 (v1120 : BitVec 32) : Fin 3 → Nat :=
  let c0_i32_830 : BitVec 32 := 0#32
  let c0_i32_831 : BitVec 32 := 0#32
  ![v1120.toNat, 0, 0]

def k0_chk1162 (v1120 : BitVec 32) : Prop :=
  (∀ a, (k0_off1162 v1120) a + S1x16x128.size a ≤ S16384x16x128.size a)
theorem k0_off1162_inb : ∀ (v1120 : BitVec 32) (k0_hw1162 : k0_chk1162 v1120), ∀ a, (k0_off1162 v1120) a + S1x16x128.size a ≤ S16384x16x128.size a := fun v1120 k0_hw1162 => k0_hw1162

def k0_off1163 (v1126 : BitVec 32) : Fin 3 → Nat :=
  let c0_i32_836 : BitVec 32 := 0#32
  let c0_i32_837 : BitVec 32 := 0#32
  ![v1126.toNat, 0, 0]

def k0_chk1163 (v1126 : BitVec 32) : Prop :=
  (∀ a, (k0_off1163 v1126) a + S1x16x128.size a ≤ S16384x16x128.size a)
theorem k0_off1163_inb : ∀ (v1126 : BitVec 32) (k0_hw1163 : k0_chk1163 v1126), ∀ a, (k0_off1163 v1126) a + S1x16x128.size a ≤ S16384x16x128.size a := fun v1126 k0_hw1163 => k0_hw1163

def k0_off1164 (v1132 : BitVec 32) : Fin 3 → Nat :=
  let c0_i32_842 : BitVec 32 := 0#32
  let c0_i32_843 : BitVec 32 := 0#32
  ![v1132.toNat, 0, 0]

def k0_chk1164 (v1132 : BitVec 32) : Prop :=
  (∀ a, (k0_off1164 v1132) a + S1x16x128.size a ≤ S16384x16x128.size a)
theorem k0_off1164_inb : ∀ (v1132 : BitVec 32) (k0_hw1164 : k0_chk1164 v1132), ∀ a, (k0_off1164 v1132) a + S1x16x128.size a ≤ S16384x16x128.size a := fun v1132 k0_hw1164 => k0_hw1164

def k0_off1165 (v1138 : BitVec 32) : Fin 3 → Nat :=
  let c0_i32_848 : BitVec 32 := 0#32
  let c0_i32_849 : BitVec 32 := 0#32
  ![v1138.toNat, 0, 0]

def k0_chk1165 (v1138 : BitVec 32) : Prop :=
  (∀ a, (k0_off1165 v1138) a + S1x16x128.size a ≤ S16384x16x128.size a)
theorem k0_off1165_inb : ∀ (v1138 : BitVec 32) (k0_hw1165 : k0_chk1165 v1138), ∀ a, (k0_off1165 v1138) a + S1x16x128.size a ≤ S16384x16x128.size a := fun v1138 k0_hw1165 => k0_hw1165

def k0_off1166 (v1144 : BitVec 32) : Fin 3 → Nat :=
  let c0_i32_854 : BitVec 32 := 0#32
  let c0_i32_855 : BitVec 32 := 0#32
  ![v1144.toNat, 0, 0]

def k0_chk1166 (v1144 : BitVec 32) : Prop :=
  (∀ a, (k0_off1166 v1144) a + S1x16x128.size a ≤ S16384x16x128.size a)
theorem k0_off1166_inb : ∀ (v1144 : BitVec 32) (k0_hw1166 : k0_chk1166 v1144), ∀ a, (k0_off1166 v1144) a + S1x16x128.size a ≤ S16384x16x128.size a := fun v1144 k0_hw1166 => k0_hw1166

def k0_off1167 (v1150 : BitVec 32) : Fin 3 → Nat :=
  let c0_i32_860 : BitVec 32 := 0#32
  let c0_i32_861 : BitVec 32 := 0#32
  ![v1150.toNat, 0, 0]

def k0_chk1167 (v1150 : BitVec 32) : Prop :=
  (∀ a, (k0_off1167 v1150) a + S1x16x128.size a ≤ S16384x16x128.size a)
theorem k0_off1167_inb : ∀ (v1150 : BitVec 32) (k0_hw1167 : k0_chk1167 v1150), ∀ a, (k0_off1167 v1150) a + S1x16x128.size a ≤ S16384x16x128.size a := fun v1150 k0_hw1167 => k0_hw1167

def k0_off1168 (v1156 : BitVec 32) : Fin 3 → Nat :=
  let c0_i32_866 : BitVec 32 := 0#32
  let c0_i32_867 : BitVec 32 := 0#32
  ![v1156.toNat, 0, 0]

def k0_chk1168 (v1156 : BitVec 32) : Prop :=
  (∀ a, (k0_off1168 v1156) a + S1x16x128.size a ≤ S16384x16x128.size a)
theorem k0_off1168_inb : ∀ (v1156 : BitVec 32) (k0_hw1168 : k0_chk1168 v1156), ∀ a, (k0_off1168 v1156) a + S1x16x128.size a ≤ S16384x16x128.size a := fun v1156 k0_hw1168 => k0_hw1168

def k0_off1169 (v1162 : BitVec 32) : Fin 3 → Nat :=
  let c0_i32_872 : BitVec 32 := 0#32
  let c0_i32_873 : BitVec 32 := 0#32
  ![v1162.toNat, 0, 0]

def k0_chk1169 (v1162 : BitVec 32) : Prop :=
  (∀ a, (k0_off1169 v1162) a + S1x16x128.size a ≤ S16384x16x128.size a)
theorem k0_off1169_inb : ∀ (v1162 : BitVec 32) (k0_hw1169 : k0_chk1169 v1162), ∀ a, (k0_off1169 v1162) a + S1x16x128.size a ≤ S16384x16x128.size a := fun v1162 k0_hw1169 => k0_hw1169

def k0_off1170 (v1168 : BitVec 32) : Fin 3 → Nat :=
  let c0_i32_878 : BitVec 32 := 0#32
  let c0_i32_879 : BitVec 32 := 0#32
  ![v1168.toNat, 0, 0]

def k0_chk1170 (v1168 : BitVec 32) : Prop :=
  (∀ a, (k0_off1170 v1168) a + S1x16x128.size a ≤ S16384x16x128.size a)
theorem k0_off1170_inb : ∀ (v1168 : BitVec 32) (k0_hw1170 : k0_chk1170 v1168), ∀ a, (k0_off1170 v1168) a + S1x16x128.size a ≤ S16384x16x128.size a := fun v1168 k0_hw1170 => k0_hw1170

def k0_off1171 (v1174 : BitVec 32) : Fin 3 → Nat :=
  let c0_i32_884 : BitVec 32 := 0#32
  let c0_i32_885 : BitVec 32 := 0#32
  ![v1174.toNat, 0, 0]

def k0_chk1171 (v1174 : BitVec 32) : Prop :=
  (∀ a, (k0_off1171 v1174) a + S1x16x128.size a ≤ S16384x16x128.size a)
theorem k0_off1171_inb : ∀ (v1174 : BitVec 32) (k0_hw1171 : k0_chk1171 v1174), ∀ a, (k0_off1171 v1174) a + S1x16x128.size a ≤ S16384x16x128.size a := fun v1174 k0_hw1171 => k0_hw1171

def k0_off1172 (v1180 : BitVec 32) : Fin 3 → Nat :=
  let c0_i32_890 : BitVec 32 := 0#32
  let c0_i32_891 : BitVec 32 := 0#32
  ![v1180.toNat, 0, 0]

def k0_chk1172 (v1180 : BitVec 32) : Prop :=
  (∀ a, (k0_off1172 v1180) a + S1x16x128.size a ≤ S16384x16x128.size a)
theorem k0_off1172_inb : ∀ (v1180 : BitVec 32) (k0_hw1172 : k0_chk1172 v1180), ∀ a, (k0_off1172 v1180) a + S1x16x128.size a ≤ S16384x16x128.size a := fun v1180 k0_hw1172 => k0_hw1172

def k0_off1173 (v1186 : BitVec 32) : Fin 3 → Nat :=
  let c0_i32_896 : BitVec 32 := 0#32
  let c0_i32_897 : BitVec 32 := 0#32
  ![v1186.toNat, 0, 0]

def k0_chk1173 (v1186 : BitVec 32) : Prop :=
  (∀ a, (k0_off1173 v1186) a + S1x16x128.size a ≤ S16384x16x128.size a)
theorem k0_off1173_inb : ∀ (v1186 : BitVec 32) (k0_hw1173 : k0_chk1173 v1186), ∀ a, (k0_off1173 v1186) a + S1x16x128.size a ≤ S16384x16x128.size a := fun v1186 k0_hw1173 => k0_hw1173

def k0_off1174 (v1192 : BitVec 32) : Fin 3 → Nat :=
  let c0_i32_902 : BitVec 32 := 0#32
  let c0_i32_903 : BitVec 32 := 0#32
  ![v1192.toNat, 0, 0]

def k0_chk1174 (v1192 : BitVec 32) : Prop :=
  (∀ a, (k0_off1174 v1192) a + S1x16x128.size a ≤ S16384x16x128.size a)
theorem k0_off1174_inb : ∀ (v1192 : BitVec 32) (k0_hw1174 : k0_chk1174 v1192), ∀ a, (k0_off1174 v1192) a + S1x16x128.size a ≤ S16384x16x128.size a := fun v1192 k0_hw1174 => k0_hw1174

def k0_off1175 (v1198 : BitVec 32) : Fin 3 → Nat :=
  let c0_i32_908 : BitVec 32 := 0#32
  let c0_i32_909 : BitVec 32 := 0#32
  ![v1198.toNat, 0, 0]

def k0_chk1175 (v1198 : BitVec 32) : Prop :=
  (∀ a, (k0_off1175 v1198) a + S1x16x128.size a ≤ S16384x16x128.size a)
theorem k0_off1175_inb : ∀ (v1198 : BitVec 32) (k0_hw1175 : k0_chk1175 v1198), ∀ a, (k0_off1175 v1198) a + S1x16x128.size a ≤ S16384x16x128.size a := fun v1198 k0_hw1175 => k0_hw1175

def k0_off1176 (v1204 : BitVec 32) : Fin 3 → Nat :=
  let c0_i32_914 : BitVec 32 := 0#32
  let c0_i32_915 : BitVec 32 := 0#32
  ![v1204.toNat, 0, 0]

def k0_chk1176 (v1204 : BitVec 32) : Prop :=
  (∀ a, (k0_off1176 v1204) a + S1x16x128.size a ≤ S16384x16x128.size a)
theorem k0_off1176_inb : ∀ (v1204 : BitVec 32) (k0_hw1176 : k0_chk1176 v1204), ∀ a, (k0_off1176 v1204) a + S1x16x128.size a ≤ S16384x16x128.size a := fun v1204 k0_hw1176 => k0_hw1176

def k0_off1177 (v1210 : BitVec 32) : Fin 3 → Nat :=
  let c0_i32_920 : BitVec 32 := 0#32
  let c0_i32_921 : BitVec 32 := 0#32
  ![v1210.toNat, 0, 0]

def k0_chk1177 (v1210 : BitVec 32) : Prop :=
  (∀ a, (k0_off1177 v1210) a + S1x16x128.size a ≤ S16384x16x128.size a)
theorem k0_off1177_inb : ∀ (v1210 : BitVec 32) (k0_hw1177 : k0_chk1177 v1210), ∀ a, (k0_off1177 v1210) a + S1x16x128.size a ≤ S16384x16x128.size a := fun v1210 k0_hw1177 => k0_hw1177

def k0_off1178 (v1216 : BitVec 32) : Fin 3 → Nat :=
  let c0_i32_926 : BitVec 32 := 0#32
  let c0_i32_927 : BitVec 32 := 0#32
  ![v1216.toNat, 0, 0]

def k0_chk1178 (v1216 : BitVec 32) : Prop :=
  (∀ a, (k0_off1178 v1216) a + S1x16x128.size a ≤ S16384x16x128.size a)
theorem k0_off1178_inb : ∀ (v1216 : BitVec 32) (k0_hw1178 : k0_chk1178 v1216), ∀ a, (k0_off1178 v1216) a + S1x16x128.size a ≤ S16384x16x128.size a := fun v1216 k0_hw1178 => k0_hw1178

def k0_off1179 (v1222 : BitVec 32) : Fin 3 → Nat :=
  let c0_i32_932 : BitVec 32 := 0#32
  let c0_i32_933 : BitVec 32 := 0#32
  ![v1222.toNat, 0, 0]

def k0_chk1179 (v1222 : BitVec 32) : Prop :=
  (∀ a, (k0_off1179 v1222) a + S1x16x128.size a ≤ S16384x16x128.size a)
theorem k0_off1179_inb : ∀ (v1222 : BitVec 32) (k0_hw1179 : k0_chk1179 v1222), ∀ a, (k0_off1179 v1222) a + S1x16x128.size a ≤ S16384x16x128.size a := fun v1222 k0_hw1179 => k0_hw1179

def k0_off1180 (v1228 : BitVec 32) : Fin 3 → Nat :=
  let c0_i32_938 : BitVec 32 := 0#32
  let c0_i32_939 : BitVec 32 := 0#32
  ![v1228.toNat, 0, 0]

def k0_chk1180 (v1228 : BitVec 32) : Prop :=
  (∀ a, (k0_off1180 v1228) a + S1x16x128.size a ≤ S16384x16x128.size a)
theorem k0_off1180_inb : ∀ (v1228 : BitVec 32) (k0_hw1180 : k0_chk1180 v1228), ∀ a, (k0_off1180 v1228) a + S1x16x128.size a ≤ S16384x16x128.size a := fun v1228 k0_hw1180 => k0_hw1180

def k0_off1181 (v1234 : BitVec 32) : Fin 3 → Nat :=
  let c0_i32_944 : BitVec 32 := 0#32
  let c0_i32_945 : BitVec 32 := 0#32
  ![v1234.toNat, 0, 0]

def k0_chk1181 (v1234 : BitVec 32) : Prop :=
  (∀ a, (k0_off1181 v1234) a + S1x16x128.size a ≤ S16384x16x128.size a)
theorem k0_off1181_inb : ∀ (v1234 : BitVec 32) (k0_hw1181 : k0_chk1181 v1234), ∀ a, (k0_off1181 v1234) a + S1x16x128.size a ≤ S16384x16x128.size a := fun v1234 k0_hw1181 => k0_hw1181

def k0_off1182 (v1240 : BitVec 32) : Fin 3 → Nat :=
  let c0_i32_950 : BitVec 32 := 0#32
  let c0_i32_951 : BitVec 32 := 0#32
  ![v1240.toNat, 0, 0]

def k0_chk1182 (v1240 : BitVec 32) : Prop :=
  (∀ a, (k0_off1182 v1240) a + S1x16x128.size a ≤ S16384x16x128.size a)
theorem k0_off1182_inb : ∀ (v1240 : BitVec 32) (k0_hw1182 : k0_chk1182 v1240), ∀ a, (k0_off1182 v1240) a + S1x16x128.size a ≤ S16384x16x128.size a := fun v1240 k0_hw1182 => k0_hw1182

def k0_off1183 (v1246 : BitVec 32) : Fin 3 → Nat :=
  let c0_i32_956 : BitVec 32 := 0#32
  let c0_i32_957 : BitVec 32 := 0#32
  ![v1246.toNat, 0, 0]

def k0_chk1183 (v1246 : BitVec 32) : Prop :=
  (∀ a, (k0_off1183 v1246) a + S1x16x128.size a ≤ S16384x16x128.size a)
theorem k0_off1183_inb : ∀ (v1246 : BitVec 32) (k0_hw1183 : k0_chk1183 v1246), ∀ a, (k0_off1183 v1246) a + S1x16x128.size a ≤ S16384x16x128.size a := fun v1246 k0_hw1183 => k0_hw1183

def k0_off1184 (v1252 : BitVec 32) : Fin 3 → Nat :=
  let c0_i32_962 : BitVec 32 := 0#32
  let c0_i32_963 : BitVec 32 := 0#32
  ![v1252.toNat, 0, 0]

def k0_chk1184 (v1252 : BitVec 32) : Prop :=
  (∀ a, (k0_off1184 v1252) a + S1x16x128.size a ≤ S16384x16x128.size a)
theorem k0_off1184_inb : ∀ (v1252 : BitVec 32) (k0_hw1184 : k0_chk1184 v1252), ∀ a, (k0_off1184 v1252) a + S1x16x128.size a ≤ S16384x16x128.size a := fun v1252 k0_hw1184 => k0_hw1184

def k0_off1185 (v1258 : BitVec 32) : Fin 3 → Nat :=
  let c0_i32_968 : BitVec 32 := 0#32
  let c0_i32_969 : BitVec 32 := 0#32
  ![v1258.toNat, 0, 0]

def k0_chk1185 (v1258 : BitVec 32) : Prop :=
  (∀ a, (k0_off1185 v1258) a + S1x16x128.size a ≤ S16384x16x128.size a)
theorem k0_off1185_inb : ∀ (v1258 : BitVec 32) (k0_hw1185 : k0_chk1185 v1258), ∀ a, (k0_off1185 v1258) a + S1x16x128.size a ≤ S16384x16x128.size a := fun v1258 k0_hw1185 => k0_hw1185

def k0_off1186 (v1264 : BitVec 32) : Fin 3 → Nat :=
  let c0_i32_974 : BitVec 32 := 0#32
  let c0_i32_975 : BitVec 32 := 0#32
  ![v1264.toNat, 0, 0]

def k0_chk1186 (v1264 : BitVec 32) : Prop :=
  (∀ a, (k0_off1186 v1264) a + S1x16x128.size a ≤ S16384x16x128.size a)
theorem k0_off1186_inb : ∀ (v1264 : BitVec 32) (k0_hw1186 : k0_chk1186 v1264), ∀ a, (k0_off1186 v1264) a + S1x16x128.size a ≤ S16384x16x128.size a := fun v1264 k0_hw1186 => k0_hw1186

def k0_off1187 (v1270 : BitVec 32) : Fin 3 → Nat :=
  let c0_i32_980 : BitVec 32 := 0#32
  let c0_i32_981 : BitVec 32 := 0#32
  ![v1270.toNat, 0, 0]

def k0_chk1187 (v1270 : BitVec 32) : Prop :=
  (∀ a, (k0_off1187 v1270) a + S1x16x128.size a ≤ S16384x16x128.size a)
theorem k0_off1187_inb : ∀ (v1270 : BitVec 32) (k0_hw1187 : k0_chk1187 v1270), ∀ a, (k0_off1187 v1270) a + S1x16x128.size a ≤ S16384x16x128.size a := fun v1270 k0_hw1187 => k0_hw1187

def k0_off1188 (v1276 : BitVec 32) : Fin 3 → Nat :=
  let c0_i32_986 : BitVec 32 := 0#32
  let c0_i32_987 : BitVec 32 := 0#32
  ![v1276.toNat, 0, 0]

def k0_chk1188 (v1276 : BitVec 32) : Prop :=
  (∀ a, (k0_off1188 v1276) a + S1x16x128.size a ≤ S16384x16x128.size a)
theorem k0_off1188_inb : ∀ (v1276 : BitVec 32) (k0_hw1188 : k0_chk1188 v1276), ∀ a, (k0_off1188 v1276) a + S1x16x128.size a ≤ S16384x16x128.size a := fun v1276 k0_hw1188 => k0_hw1188

def k0_off1189 (v1282 : BitVec 32) : Fin 3 → Nat :=
  let c0_i32_992 : BitVec 32 := 0#32
  let c0_i32_993 : BitVec 32 := 0#32
  ![v1282.toNat, 0, 0]

def k0_chk1189 (v1282 : BitVec 32) : Prop :=
  (∀ a, (k0_off1189 v1282) a + S1x16x128.size a ≤ S16384x16x128.size a)
theorem k0_off1189_inb : ∀ (v1282 : BitVec 32) (k0_hw1189 : k0_chk1189 v1282), ∀ a, (k0_off1189 v1282) a + S1x16x128.size a ≤ S16384x16x128.size a := fun v1282 k0_hw1189 => k0_hw1189

def k0_off1190 (v1288 : BitVec 32) : Fin 3 → Nat :=
  let c0_i32_998 : BitVec 32 := 0#32
  let c0_i32_999 : BitVec 32 := 0#32
  ![v1288.toNat, 0, 0]

def k0_chk1190 (v1288 : BitVec 32) : Prop :=
  (∀ a, (k0_off1190 v1288) a + S1x16x128.size a ≤ S16384x16x128.size a)
theorem k0_off1190_inb : ∀ (v1288 : BitVec 32) (k0_hw1190 : k0_chk1190 v1288), ∀ a, (k0_off1190 v1288) a + S1x16x128.size a ≤ S16384x16x128.size a := fun v1288 k0_hw1190 => k0_hw1190

def k0_off1191 (v1294 : BitVec 32) : Fin 3 → Nat :=
  let c0_i32_1004 : BitVec 32 := 0#32
  let c0_i32_1005 : BitVec 32 := 0#32
  ![v1294.toNat, 0, 0]

def k0_chk1191 (v1294 : BitVec 32) : Prop :=
  (∀ a, (k0_off1191 v1294) a + S1x16x128.size a ≤ S16384x16x128.size a)
theorem k0_off1191_inb : ∀ (v1294 : BitVec 32) (k0_hw1191 : k0_chk1191 v1294), ∀ a, (k0_off1191 v1294) a + S1x16x128.size a ≤ S16384x16x128.size a := fun v1294 k0_hw1191 => k0_hw1191

def k0_off1192 (v1300 : BitVec 32) : Fin 3 → Nat :=
  let c0_i32_1010 : BitVec 32 := 0#32
  let c0_i32_1011 : BitVec 32 := 0#32
  ![v1300.toNat, 0, 0]

def k0_chk1192 (v1300 : BitVec 32) : Prop :=
  (∀ a, (k0_off1192 v1300) a + S1x16x128.size a ≤ S16384x16x128.size a)
theorem k0_off1192_inb : ∀ (v1300 : BitVec 32) (k0_hw1192 : k0_chk1192 v1300), ∀ a, (k0_off1192 v1300) a + S1x16x128.size a ≤ S16384x16x128.size a := fun v1300 k0_hw1192 => k0_hw1192

def k0_off1193 (v1306 : BitVec 32) : Fin 3 → Nat :=
  let c0_i32_1016 : BitVec 32 := 0#32
  let c0_i32_1017 : BitVec 32 := 0#32
  ![v1306.toNat, 0, 0]

def k0_chk1193 (v1306 : BitVec 32) : Prop :=
  (∀ a, (k0_off1193 v1306) a + S1x16x128.size a ≤ S16384x16x128.size a)
theorem k0_off1193_inb : ∀ (v1306 : BitVec 32) (k0_hw1193 : k0_chk1193 v1306), ∀ a, (k0_off1193 v1306) a + S1x16x128.size a ≤ S16384x16x128.size a := fun v1306 k0_hw1193 => k0_hw1193

def k0_off1194 (v1312 : BitVec 32) : Fin 3 → Nat :=
  let c0_i32_1022 : BitVec 32 := 0#32
  let c0_i32_1023 : BitVec 32 := 0#32
  ![v1312.toNat, 0, 0]

def k0_chk1194 (v1312 : BitVec 32) : Prop :=
  (∀ a, (k0_off1194 v1312) a + S1x16x128.size a ≤ S16384x16x128.size a)
theorem k0_off1194_inb : ∀ (v1312 : BitVec 32) (k0_hw1194 : k0_chk1194 v1312), ∀ a, (k0_off1194 v1312) a + S1x16x128.size a ≤ S16384x16x128.size a := fun v1312 k0_hw1194 => k0_hw1194

def k0_off1195 (v1318 : BitVec 32) : Fin 3 → Nat :=
  let c0_i32_1028 : BitVec 32 := 0#32
  let c0_i32_1029 : BitVec 32 := 0#32
  ![v1318.toNat, 0, 0]

def k0_chk1195 (v1318 : BitVec 32) : Prop :=
  (∀ a, (k0_off1195 v1318) a + S1x16x128.size a ≤ S16384x16x128.size a)
theorem k0_off1195_inb : ∀ (v1318 : BitVec 32) (k0_hw1195 : k0_chk1195 v1318), ∀ a, (k0_off1195 v1318) a + S1x16x128.size a ≤ S16384x16x128.size a := fun v1318 k0_hw1195 => k0_hw1195

def k0_off1196 (v1324 : BitVec 32) : Fin 3 → Nat :=
  let c0_i32_1034 : BitVec 32 := 0#32
  let c0_i32_1035 : BitVec 32 := 0#32
  ![v1324.toNat, 0, 0]

def k0_chk1196 (v1324 : BitVec 32) : Prop :=
  (∀ a, (k0_off1196 v1324) a + S1x16x128.size a ≤ S16384x16x128.size a)
theorem k0_off1196_inb : ∀ (v1324 : BitVec 32) (k0_hw1196 : k0_chk1196 v1324), ∀ a, (k0_off1196 v1324) a + S1x16x128.size a ≤ S16384x16x128.size a := fun v1324 k0_hw1196 => k0_hw1196

def k0_off1197 (v1330 : BitVec 32) : Fin 3 → Nat :=
  let c0_i32_1040 : BitVec 32 := 0#32
  let c0_i32_1041 : BitVec 32 := 0#32
  ![v1330.toNat, 0, 0]

def k0_chk1197 (v1330 : BitVec 32) : Prop :=
  (∀ a, (k0_off1197 v1330) a + S1x16x128.size a ≤ S16384x16x128.size a)
theorem k0_off1197_inb : ∀ (v1330 : BitVec 32) (k0_hw1197 : k0_chk1197 v1330), ∀ a, (k0_off1197 v1330) a + S1x16x128.size a ≤ S16384x16x128.size a := fun v1330 k0_hw1197 => k0_hw1197

def k0_off1198 (v1336 : BitVec 32) : Fin 3 → Nat :=
  let c0_i32_1046 : BitVec 32 := 0#32
  let c0_i32_1047 : BitVec 32 := 0#32
  ![v1336.toNat, 0, 0]

def k0_chk1198 (v1336 : BitVec 32) : Prop :=
  (∀ a, (k0_off1198 v1336) a + S1x16x128.size a ≤ S16384x16x128.size a)
theorem k0_off1198_inb : ∀ (v1336 : BitVec 32) (k0_hw1198 : k0_chk1198 v1336), ∀ a, (k0_off1198 v1336) a + S1x16x128.size a ≤ S16384x16x128.size a := fun v1336 k0_hw1198 => k0_hw1198

def k0_off1199 (v1342 : BitVec 32) : Fin 3 → Nat :=
  let c0_i32_1052 : BitVec 32 := 0#32
  let c0_i32_1053 : BitVec 32 := 0#32
  ![v1342.toNat, 0, 0]

def k0_chk1199 (v1342 : BitVec 32) : Prop :=
  (∀ a, (k0_off1199 v1342) a + S1x16x128.size a ≤ S16384x16x128.size a)
theorem k0_off1199_inb : ∀ (v1342 : BitVec 32) (k0_hw1199 : k0_chk1199 v1342), ∀ a, (k0_off1199 v1342) a + S1x16x128.size a ≤ S16384x16x128.size a := fun v1342 k0_hw1199 => k0_hw1199

def k0_off1200 (v1348 : BitVec 32) : Fin 3 → Nat :=
  let c0_i32_1058 : BitVec 32 := 0#32
  let c0_i32_1059 : BitVec 32 := 0#32
  ![v1348.toNat, 0, 0]

def k0_chk1200 (v1348 : BitVec 32) : Prop :=
  (∀ a, (k0_off1200 v1348) a + S1x16x128.size a ≤ S16384x16x128.size a)
theorem k0_off1200_inb : ∀ (v1348 : BitVec 32) (k0_hw1200 : k0_chk1200 v1348), ∀ a, (k0_off1200 v1348) a + S1x16x128.size a ≤ S16384x16x128.size a := fun v1348 k0_hw1200 => k0_hw1200

def k0_off1201 (v1354 : BitVec 32) : Fin 3 → Nat :=
  let c0_i32_1064 : BitVec 32 := 0#32
  let c0_i32_1065 : BitVec 32 := 0#32
  ![v1354.toNat, 0, 0]

def k0_chk1201 (v1354 : BitVec 32) : Prop :=
  (∀ a, (k0_off1201 v1354) a + S1x16x128.size a ≤ S16384x16x128.size a)
theorem k0_off1201_inb : ∀ (v1354 : BitVec 32) (k0_hw1201 : k0_chk1201 v1354), ∀ a, (k0_off1201 v1354) a + S1x16x128.size a ≤ S16384x16x128.size a := fun v1354 k0_hw1201 => k0_hw1201

def k0_off1202 (v1360 : BitVec 32) : Fin 3 → Nat :=
  let c0_i32_1070 : BitVec 32 := 0#32
  let c0_i32_1071 : BitVec 32 := 0#32
  ![v1360.toNat, 0, 0]

def k0_chk1202 (v1360 : BitVec 32) : Prop :=
  (∀ a, (k0_off1202 v1360) a + S1x16x128.size a ≤ S16384x16x128.size a)
theorem k0_off1202_inb : ∀ (v1360 : BitVec 32) (k0_hw1202 : k0_chk1202 v1360), ∀ a, (k0_off1202 v1360) a + S1x16x128.size a ≤ S16384x16x128.size a := fun v1360 k0_hw1202 => k0_hw1202

def k0_off1203 (v1366 : BitVec 32) : Fin 3 → Nat :=
  let c0_i32_1076 : BitVec 32 := 0#32
  let c0_i32_1077 : BitVec 32 := 0#32
  ![v1366.toNat, 0, 0]

def k0_chk1203 (v1366 : BitVec 32) : Prop :=
  (∀ a, (k0_off1203 v1366) a + S1x16x128.size a ≤ S16384x16x128.size a)
theorem k0_off1203_inb : ∀ (v1366 : BitVec 32) (k0_hw1203 : k0_chk1203 v1366), ∀ a, (k0_off1203 v1366) a + S1x16x128.size a ≤ S16384x16x128.size a := fun v1366 k0_hw1203 => k0_hw1203

def k0_off1204 (v1372 : BitVec 32) : Fin 3 → Nat :=
  let c0_i32_1082 : BitVec 32 := 0#32
  let c0_i32_1083 : BitVec 32 := 0#32
  ![v1372.toNat, 0, 0]

def k0_chk1204 (v1372 : BitVec 32) : Prop :=
  (∀ a, (k0_off1204 v1372) a + S1x16x128.size a ≤ S16384x16x128.size a)
theorem k0_off1204_inb : ∀ (v1372 : BitVec 32) (k0_hw1204 : k0_chk1204 v1372), ∀ a, (k0_off1204 v1372) a + S1x16x128.size a ≤ S16384x16x128.size a := fun v1372 k0_hw1204 => k0_hw1204

def k0_off1205 (v1378 : BitVec 32) : Fin 3 → Nat :=
  let c0_i32_1088 : BitVec 32 := 0#32
  let c0_i32_1089 : BitVec 32 := 0#32
  ![v1378.toNat, 0, 0]

def k0_chk1205 (v1378 : BitVec 32) : Prop :=
  (∀ a, (k0_off1205 v1378) a + S1x16x128.size a ≤ S16384x16x128.size a)
theorem k0_off1205_inb : ∀ (v1378 : BitVec 32) (k0_hw1205 : k0_chk1205 v1378), ∀ a, (k0_off1205 v1378) a + S1x16x128.size a ≤ S16384x16x128.size a := fun v1378 k0_hw1205 => k0_hw1205

def k0_off1206 (v1384 : BitVec 32) : Fin 3 → Nat :=
  let c0_i32_1094 : BitVec 32 := 0#32
  let c0_i32_1095 : BitVec 32 := 0#32
  ![v1384.toNat, 0, 0]

def k0_chk1206 (v1384 : BitVec 32) : Prop :=
  (∀ a, (k0_off1206 v1384) a + S1x16x128.size a ≤ S16384x16x128.size a)
theorem k0_off1206_inb : ∀ (v1384 : BitVec 32) (k0_hw1206 : k0_chk1206 v1384), ∀ a, (k0_off1206 v1384) a + S1x16x128.size a ≤ S16384x16x128.size a := fun v1384 k0_hw1206 => k0_hw1206

def k0_off1207 (v1390 : BitVec 32) : Fin 3 → Nat :=
  let c0_i32_1100 : BitVec 32 := 0#32
  let c0_i32_1101 : BitVec 32 := 0#32
  ![v1390.toNat, 0, 0]

def k0_chk1207 (v1390 : BitVec 32) : Prop :=
  (∀ a, (k0_off1207 v1390) a + S1x16x128.size a ≤ S16384x16x128.size a)
theorem k0_off1207_inb : ∀ (v1390 : BitVec 32) (k0_hw1207 : k0_chk1207 v1390), ∀ a, (k0_off1207 v1390) a + S1x16x128.size a ≤ S16384x16x128.size a := fun v1390 k0_hw1207 => k0_hw1207

def k0_off1208 (v1396 : BitVec 32) : Fin 3 → Nat :=
  let c0_i32_1106 : BitVec 32 := 0#32
  let c0_i32_1107 : BitVec 32 := 0#32
  ![v1396.toNat, 0, 0]

def k0_chk1208 (v1396 : BitVec 32) : Prop :=
  (∀ a, (k0_off1208 v1396) a + S1x16x128.size a ≤ S16384x16x128.size a)
theorem k0_off1208_inb : ∀ (v1396 : BitVec 32) (k0_hw1208 : k0_chk1208 v1396), ∀ a, (k0_off1208 v1396) a + S1x16x128.size a ≤ S16384x16x128.size a := fun v1396 k0_hw1208 => k0_hw1208

def k0_off1209 (v1402 : BitVec 32) : Fin 3 → Nat :=
  let c0_i32_1112 : BitVec 32 := 0#32
  let c0_i32_1113 : BitVec 32 := 0#32
  ![v1402.toNat, 0, 0]

def k0_chk1209 (v1402 : BitVec 32) : Prop :=
  (∀ a, (k0_off1209 v1402) a + S1x16x128.size a ≤ S16384x16x128.size a)
theorem k0_off1209_inb : ∀ (v1402 : BitVec 32) (k0_hw1209 : k0_chk1209 v1402), ∀ a, (k0_off1209 v1402) a + S1x16x128.size a ≤ S16384x16x128.size a := fun v1402 k0_hw1209 => k0_hw1209

def k0_off1210 (v1408 : BitVec 32) : Fin 3 → Nat :=
  let c0_i32_1118 : BitVec 32 := 0#32
  let c0_i32_1119 : BitVec 32 := 0#32
  ![v1408.toNat, 0, 0]

def k0_chk1210 (v1408 : BitVec 32) : Prop :=
  (∀ a, (k0_off1210 v1408) a + S1x16x128.size a ≤ S16384x16x128.size a)
theorem k0_off1210_inb : ∀ (v1408 : BitVec 32) (k0_hw1210 : k0_chk1210 v1408), ∀ a, (k0_off1210 v1408) a + S1x16x128.size a ≤ S16384x16x128.size a := fun v1408 k0_hw1210 => k0_hw1210

def k0_off1211 (v1414 : BitVec 32) : Fin 3 → Nat :=
  let c0_i32_1124 : BitVec 32 := 0#32
  let c0_i32_1125 : BitVec 32 := 0#32
  ![v1414.toNat, 0, 0]

def k0_chk1211 (v1414 : BitVec 32) : Prop :=
  (∀ a, (k0_off1211 v1414) a + S1x16x128.size a ≤ S16384x16x128.size a)
theorem k0_off1211_inb : ∀ (v1414 : BitVec 32) (k0_hw1211 : k0_chk1211 v1414), ∀ a, (k0_off1211 v1414) a + S1x16x128.size a ≤ S16384x16x128.size a := fun v1414 k0_hw1211 => k0_hw1211

def k0_off1212 (v1420 : BitVec 32) : Fin 3 → Nat :=
  let c0_i32_1130 : BitVec 32 := 0#32
  let c0_i32_1131 : BitVec 32 := 0#32
  ![v1420.toNat, 0, 0]

def k0_chk1212 (v1420 : BitVec 32) : Prop :=
  (∀ a, (k0_off1212 v1420) a + S1x16x128.size a ≤ S16384x16x128.size a)
theorem k0_off1212_inb : ∀ (v1420 : BitVec 32) (k0_hw1212 : k0_chk1212 v1420), ∀ a, (k0_off1212 v1420) a + S1x16x128.size a ≤ S16384x16x128.size a := fun v1420 k0_hw1212 => k0_hw1212

def k0_off1213 (v1426 : BitVec 32) : Fin 3 → Nat :=
  let c0_i32_1136 : BitVec 32 := 0#32
  let c0_i32_1137 : BitVec 32 := 0#32
  ![v1426.toNat, 0, 0]

def k0_chk1213 (v1426 : BitVec 32) : Prop :=
  (∀ a, (k0_off1213 v1426) a + S1x16x128.size a ≤ S16384x16x128.size a)
theorem k0_off1213_inb : ∀ (v1426 : BitVec 32) (k0_hw1213 : k0_chk1213 v1426), ∀ a, (k0_off1213 v1426) a + S1x16x128.size a ≤ S16384x16x128.size a := fun v1426 k0_hw1213 => k0_hw1213

def k0_off1214 (v1432 : BitVec 32) : Fin 3 → Nat :=
  let c0_i32_1142 : BitVec 32 := 0#32
  let c0_i32_1143 : BitVec 32 := 0#32
  ![v1432.toNat, 0, 0]

def k0_chk1214 (v1432 : BitVec 32) : Prop :=
  (∀ a, (k0_off1214 v1432) a + S1x16x128.size a ≤ S16384x16x128.size a)
theorem k0_off1214_inb : ∀ (v1432 : BitVec 32) (k0_hw1214 : k0_chk1214 v1432), ∀ a, (k0_off1214 v1432) a + S1x16x128.size a ≤ S16384x16x128.size a := fun v1432 k0_hw1214 => k0_hw1214

def k0_off1215 (v1438 : BitVec 32) : Fin 3 → Nat :=
  let c0_i32_1148 : BitVec 32 := 0#32
  let c0_i32_1149 : BitVec 32 := 0#32
  ![v1438.toNat, 0, 0]

def k0_chk1215 (v1438 : BitVec 32) : Prop :=
  (∀ a, (k0_off1215 v1438) a + S1x16x128.size a ≤ S16384x16x128.size a)
theorem k0_off1215_inb : ∀ (v1438 : BitVec 32) (k0_hw1215 : k0_chk1215 v1438), ∀ a, (k0_off1215 v1438) a + S1x16x128.size a ≤ S16384x16x128.size a := fun v1438 k0_hw1215 => k0_hw1215

def k0_off1216 (v1444 : BitVec 32) : Fin 3 → Nat :=
  let c0_i32_1154 : BitVec 32 := 0#32
  let c0_i32_1155 : BitVec 32 := 0#32
  ![v1444.toNat, 0, 0]

def k0_chk1216 (v1444 : BitVec 32) : Prop :=
  (∀ a, (k0_off1216 v1444) a + S1x16x128.size a ≤ S16384x16x128.size a)
theorem k0_off1216_inb : ∀ (v1444 : BitVec 32) (k0_hw1216 : k0_chk1216 v1444), ∀ a, (k0_off1216 v1444) a + S1x16x128.size a ≤ S16384x16x128.size a := fun v1444 k0_hw1216 => k0_hw1216

def k0_off1217 (v1450 : BitVec 32) : Fin 3 → Nat :=
  let c0_i32_1160 : BitVec 32 := 0#32
  let c0_i32_1161 : BitVec 32 := 0#32
  ![v1450.toNat, 0, 0]

def k0_chk1217 (v1450 : BitVec 32) : Prop :=
  (∀ a, (k0_off1217 v1450) a + S1x16x128.size a ≤ S16384x16x128.size a)
theorem k0_off1217_inb : ∀ (v1450 : BitVec 32) (k0_hw1217 : k0_chk1217 v1450), ∀ a, (k0_off1217 v1450) a + S1x16x128.size a ≤ S16384x16x128.size a := fun v1450 k0_hw1217 => k0_hw1217

def k0_off1218 (v1456 : BitVec 32) : Fin 3 → Nat :=
  let c0_i32_1166 : BitVec 32 := 0#32
  let c0_i32_1167 : BitVec 32 := 0#32
  ![v1456.toNat, 0, 0]

def k0_chk1218 (v1456 : BitVec 32) : Prop :=
  (∀ a, (k0_off1218 v1456) a + S1x16x128.size a ≤ S16384x16x128.size a)
theorem k0_off1218_inb : ∀ (v1456 : BitVec 32) (k0_hw1218 : k0_chk1218 v1456), ∀ a, (k0_off1218 v1456) a + S1x16x128.size a ≤ S16384x16x128.size a := fun v1456 k0_hw1218 => k0_hw1218

def k0_off1219 (v1462 : BitVec 32) : Fin 3 → Nat :=
  let c0_i32_1172 : BitVec 32 := 0#32
  let c0_i32_1173 : BitVec 32 := 0#32
  ![v1462.toNat, 0, 0]

def k0_chk1219 (v1462 : BitVec 32) : Prop :=
  (∀ a, (k0_off1219 v1462) a + S1x16x128.size a ≤ S16384x16x128.size a)
theorem k0_off1219_inb : ∀ (v1462 : BitVec 32) (k0_hw1219 : k0_chk1219 v1462), ∀ a, (k0_off1219 v1462) a + S1x16x128.size a ≤ S16384x16x128.size a := fun v1462 k0_hw1219 => k0_hw1219

def k0_off1220 (v1468 : BitVec 32) : Fin 3 → Nat :=
  let c0_i32_1178 : BitVec 32 := 0#32
  let c0_i32_1179 : BitVec 32 := 0#32
  ![v1468.toNat, 0, 0]

def k0_chk1220 (v1468 : BitVec 32) : Prop :=
  (∀ a, (k0_off1220 v1468) a + S1x16x128.size a ≤ S16384x16x128.size a)
theorem k0_off1220_inb : ∀ (v1468 : BitVec 32) (k0_hw1220 : k0_chk1220 v1468), ∀ a, (k0_off1220 v1468) a + S1x16x128.size a ≤ S16384x16x128.size a := fun v1468 k0_hw1220 => k0_hw1220

def k0_off1221 (v1474 : BitVec 32) : Fin 3 → Nat :=
  let c0_i32_1184 : BitVec 32 := 0#32
  let c0_i32_1185 : BitVec 32 := 0#32
  ![v1474.toNat, 0, 0]

def k0_chk1221 (v1474 : BitVec 32) : Prop :=
  (∀ a, (k0_off1221 v1474) a + S1x16x128.size a ≤ S16384x16x128.size a)
theorem k0_off1221_inb : ∀ (v1474 : BitVec 32) (k0_hw1221 : k0_chk1221 v1474), ∀ a, (k0_off1221 v1474) a + S1x16x128.size a ≤ S16384x16x128.size a := fun v1474 k0_hw1221 => k0_hw1221

def k0_off1222 (v1480 : BitVec 32) : Fin 3 → Nat :=
  let c0_i32_1190 : BitVec 32 := 0#32
  let c0_i32_1191 : BitVec 32 := 0#32
  ![v1480.toNat, 0, 0]

def k0_chk1222 (v1480 : BitVec 32) : Prop :=
  (∀ a, (k0_off1222 v1480) a + S1x16x128.size a ≤ S16384x16x128.size a)
theorem k0_off1222_inb : ∀ (v1480 : BitVec 32) (k0_hw1222 : k0_chk1222 v1480), ∀ a, (k0_off1222 v1480) a + S1x16x128.size a ≤ S16384x16x128.size a := fun v1480 k0_hw1222 => k0_hw1222

def k0_off1223 (v1486 : BitVec 32) : Fin 3 → Nat :=
  let c0_i32_1196 : BitVec 32 := 0#32
  let c0_i32_1197 : BitVec 32 := 0#32
  ![v1486.toNat, 0, 0]

def k0_chk1223 (v1486 : BitVec 32) : Prop :=
  (∀ a, (k0_off1223 v1486) a + S1x16x128.size a ≤ S16384x16x128.size a)
theorem k0_off1223_inb : ∀ (v1486 : BitVec 32) (k0_hw1223 : k0_chk1223 v1486), ∀ a, (k0_off1223 v1486) a + S1x16x128.size a ≤ S16384x16x128.size a := fun v1486 k0_hw1223 => k0_hw1223

def k0_off1224 (v1492 : BitVec 32) : Fin 3 → Nat :=
  let c0_i32_1202 : BitVec 32 := 0#32
  let c0_i32_1203 : BitVec 32 := 0#32
  ![v1492.toNat, 0, 0]

def k0_chk1224 (v1492 : BitVec 32) : Prop :=
  (∀ a, (k0_off1224 v1492) a + S1x16x128.size a ≤ S16384x16x128.size a)
theorem k0_off1224_inb : ∀ (v1492 : BitVec 32) (k0_hw1224 : k0_chk1224 v1492), ∀ a, (k0_off1224 v1492) a + S1x16x128.size a ≤ S16384x16x128.size a := fun v1492 k0_hw1224 => k0_hw1224

def k0_off1225 (v1498 : BitVec 32) : Fin 3 → Nat :=
  let c0_i32_1208 : BitVec 32 := 0#32
  let c0_i32_1209 : BitVec 32 := 0#32
  ![v1498.toNat, 0, 0]

def k0_chk1225 (v1498 : BitVec 32) : Prop :=
  (∀ a, (k0_off1225 v1498) a + S1x16x128.size a ≤ S16384x16x128.size a)
theorem k0_off1225_inb : ∀ (v1498 : BitVec 32) (k0_hw1225 : k0_chk1225 v1498), ∀ a, (k0_off1225 v1498) a + S1x16x128.size a ≤ S16384x16x128.size a := fun v1498 k0_hw1225 => k0_hw1225

def k0_off1226 (v1504 : BitVec 32) : Fin 3 → Nat :=
  let c0_i32_1214 : BitVec 32 := 0#32
  let c0_i32_1215 : BitVec 32 := 0#32
  ![v1504.toNat, 0, 0]

def k0_chk1226 (v1504 : BitVec 32) : Prop :=
  (∀ a, (k0_off1226 v1504) a + S1x16x128.size a ≤ S16384x16x128.size a)
theorem k0_off1226_inb : ∀ (v1504 : BitVec 32) (k0_hw1226 : k0_chk1226 v1504), ∀ a, (k0_off1226 v1504) a + S1x16x128.size a ≤ S16384x16x128.size a := fun v1504 k0_hw1226 => k0_hw1226

def k0_off1227 (v1510 : BitVec 32) : Fin 3 → Nat :=
  let c0_i32_1220 : BitVec 32 := 0#32
  let c0_i32_1221 : BitVec 32 := 0#32
  ![v1510.toNat, 0, 0]

def k0_chk1227 (v1510 : BitVec 32) : Prop :=
  (∀ a, (k0_off1227 v1510) a + S1x16x128.size a ≤ S16384x16x128.size a)
theorem k0_off1227_inb : ∀ (v1510 : BitVec 32) (k0_hw1227 : k0_chk1227 v1510), ∀ a, (k0_off1227 v1510) a + S1x16x128.size a ≤ S16384x16x128.size a := fun v1510 k0_hw1227 => k0_hw1227

def k0_off1228 (v1516 : BitVec 32) : Fin 3 → Nat :=
  let c0_i32_1226 : BitVec 32 := 0#32
  let c0_i32_1227 : BitVec 32 := 0#32
  ![v1516.toNat, 0, 0]

def k0_chk1228 (v1516 : BitVec 32) : Prop :=
  (∀ a, (k0_off1228 v1516) a + S1x16x128.size a ≤ S16384x16x128.size a)
theorem k0_off1228_inb : ∀ (v1516 : BitVec 32) (k0_hw1228 : k0_chk1228 v1516), ∀ a, (k0_off1228 v1516) a + S1x16x128.size a ≤ S16384x16x128.size a := fun v1516 k0_hw1228 => k0_hw1228

def k0_off1229 (v1522 : BitVec 32) : Fin 3 → Nat :=
  let c0_i32_1232 : BitVec 32 := 0#32
  let c0_i32_1233 : BitVec 32 := 0#32
  ![v1522.toNat, 0, 0]

def k0_chk1229 (v1522 : BitVec 32) : Prop :=
  (∀ a, (k0_off1229 v1522) a + S1x16x128.size a ≤ S16384x16x128.size a)
theorem k0_off1229_inb : ∀ (v1522 : BitVec 32) (k0_hw1229 : k0_chk1229 v1522), ∀ a, (k0_off1229 v1522) a + S1x16x128.size a ≤ S16384x16x128.size a := fun v1522 k0_hw1229 => k0_hw1229

def k0_off1230 (v1528 : BitVec 32) : Fin 3 → Nat :=
  let c0_i32_1238 : BitVec 32 := 0#32
  let c0_i32_1239 : BitVec 32 := 0#32
  ![v1528.toNat, 0, 0]

def k0_chk1230 (v1528 : BitVec 32) : Prop :=
  (∀ a, (k0_off1230 v1528) a + S1x16x128.size a ≤ S16384x16x128.size a)
theorem k0_off1230_inb : ∀ (v1528 : BitVec 32) (k0_hw1230 : k0_chk1230 v1528), ∀ a, (k0_off1230 v1528) a + S1x16x128.size a ≤ S16384x16x128.size a := fun v1528 k0_hw1230 => k0_hw1230

def k0_off1231 (v1534 : BitVec 32) : Fin 3 → Nat :=
  let c0_i32_1244 : BitVec 32 := 0#32
  let c0_i32_1245 : BitVec 32 := 0#32
  ![v1534.toNat, 0, 0]

def k0_chk1231 (v1534 : BitVec 32) : Prop :=
  (∀ a, (k0_off1231 v1534) a + S1x16x128.size a ≤ S16384x16x128.size a)
theorem k0_off1231_inb : ∀ (v1534 : BitVec 32) (k0_hw1231 : k0_chk1231 v1534), ∀ a, (k0_off1231 v1534) a + S1x16x128.size a ≤ S16384x16x128.size a := fun v1534 k0_hw1231 => k0_hw1231

def k0_off1232 (v1540 : BitVec 32) : Fin 3 → Nat :=
  let c0_i32_1250 : BitVec 32 := 0#32
  let c0_i32_1251 : BitVec 32 := 0#32
  ![v1540.toNat, 0, 0]

def k0_chk1232 (v1540 : BitVec 32) : Prop :=
  (∀ a, (k0_off1232 v1540) a + S1x16x128.size a ≤ S16384x16x128.size a)
theorem k0_off1232_inb : ∀ (v1540 : BitVec 32) (k0_hw1232 : k0_chk1232 v1540), ∀ a, (k0_off1232 v1540) a + S1x16x128.size a ≤ S16384x16x128.size a := fun v1540 k0_hw1232 => k0_hw1232

def k0_off1233 (v1546 : BitVec 32) : Fin 3 → Nat :=
  let c0_i32_1256 : BitVec 32 := 0#32
  let c0_i32_1257 : BitVec 32 := 0#32
  ![v1546.toNat, 0, 0]

def k0_chk1233 (v1546 : BitVec 32) : Prop :=
  (∀ a, (k0_off1233 v1546) a + S1x16x128.size a ≤ S16384x16x128.size a)
theorem k0_off1233_inb : ∀ (v1546 : BitVec 32) (k0_hw1233 : k0_chk1233 v1546), ∀ a, (k0_off1233 v1546) a + S1x16x128.size a ≤ S16384x16x128.size a := fun v1546 k0_hw1233 => k0_hw1233

def k0_off1234 (v1552 : BitVec 32) : Fin 3 → Nat :=
  let c0_i32_1262 : BitVec 32 := 0#32
  let c0_i32_1263 : BitVec 32 := 0#32
  ![v1552.toNat, 0, 0]

def k0_chk1234 (v1552 : BitVec 32) : Prop :=
  (∀ a, (k0_off1234 v1552) a + S1x16x128.size a ≤ S16384x16x128.size a)
theorem k0_off1234_inb : ∀ (v1552 : BitVec 32) (k0_hw1234 : k0_chk1234 v1552), ∀ a, (k0_off1234 v1552) a + S1x16x128.size a ≤ S16384x16x128.size a := fun v1552 k0_hw1234 => k0_hw1234

def k0_off1235 (v1558 : BitVec 32) : Fin 3 → Nat :=
  let c0_i32_1268 : BitVec 32 := 0#32
  let c0_i32_1269 : BitVec 32 := 0#32
  ![v1558.toNat, 0, 0]

def k0_chk1235 (v1558 : BitVec 32) : Prop :=
  (∀ a, (k0_off1235 v1558) a + S1x16x128.size a ≤ S16384x16x128.size a)
theorem k0_off1235_inb : ∀ (v1558 : BitVec 32) (k0_hw1235 : k0_chk1235 v1558), ∀ a, (k0_off1235 v1558) a + S1x16x128.size a ≤ S16384x16x128.size a := fun v1558 k0_hw1235 => k0_hw1235

def k0_off1236 (v1564 : BitVec 32) : Fin 3 → Nat :=
  let c0_i32_1274 : BitVec 32 := 0#32
  let c0_i32_1275 : BitVec 32 := 0#32
  ![v1564.toNat, 0, 0]

def k0_chk1236 (v1564 : BitVec 32) : Prop :=
  (∀ a, (k0_off1236 v1564) a + S1x16x128.size a ≤ S16384x16x128.size a)
theorem k0_off1236_inb : ∀ (v1564 : BitVec 32) (k0_hw1236 : k0_chk1236 v1564), ∀ a, (k0_off1236 v1564) a + S1x16x128.size a ≤ S16384x16x128.size a := fun v1564 k0_hw1236 => k0_hw1236

def k0_off1237 (v1570 : BitVec 32) : Fin 3 → Nat :=
  let c0_i32_1280 : BitVec 32 := 0#32
  let c0_i32_1281 : BitVec 32 := 0#32
  ![v1570.toNat, 0, 0]

def k0_chk1237 (v1570 : BitVec 32) : Prop :=
  (∀ a, (k0_off1237 v1570) a + S1x16x128.size a ≤ S16384x16x128.size a)
theorem k0_off1237_inb : ∀ (v1570 : BitVec 32) (k0_hw1237 : k0_chk1237 v1570), ∀ a, (k0_off1237 v1570) a + S1x16x128.size a ≤ S16384x16x128.size a := fun v1570 k0_hw1237 => k0_hw1237

def k0_off1238 (v1576 : BitVec 32) : Fin 3 → Nat :=
  let c0_i32_1286 : BitVec 32 := 0#32
  let c0_i32_1287 : BitVec 32 := 0#32
  ![v1576.toNat, 0, 0]

def k0_chk1238 (v1576 : BitVec 32) : Prop :=
  (∀ a, (k0_off1238 v1576) a + S1x16x128.size a ≤ S16384x16x128.size a)
theorem k0_off1238_inb : ∀ (v1576 : BitVec 32) (k0_hw1238 : k0_chk1238 v1576), ∀ a, (k0_off1238 v1576) a + S1x16x128.size a ≤ S16384x16x128.size a := fun v1576 k0_hw1238 => k0_hw1238

def k0_off1239 (v1582 : BitVec 32) : Fin 3 → Nat :=
  let c0_i32_1292 : BitVec 32 := 0#32
  let c0_i32_1293 : BitVec 32 := 0#32
  ![v1582.toNat, 0, 0]

def k0_chk1239 (v1582 : BitVec 32) : Prop :=
  (∀ a, (k0_off1239 v1582) a + S1x16x128.size a ≤ S16384x16x128.size a)
theorem k0_off1239_inb : ∀ (v1582 : BitVec 32) (k0_hw1239 : k0_chk1239 v1582), ∀ a, (k0_off1239 v1582) a + S1x16x128.size a ≤ S16384x16x128.size a := fun v1582 k0_hw1239 => k0_hw1239

def k0_off1240 (v1588 : BitVec 32) : Fin 3 → Nat :=
  let c0_i32_1298 : BitVec 32 := 0#32
  let c0_i32_1299 : BitVec 32 := 0#32
  ![v1588.toNat, 0, 0]

def k0_chk1240 (v1588 : BitVec 32) : Prop :=
  (∀ a, (k0_off1240 v1588) a + S1x16x128.size a ≤ S16384x16x128.size a)
theorem k0_off1240_inb : ∀ (v1588 : BitVec 32) (k0_hw1240 : k0_chk1240 v1588), ∀ a, (k0_off1240 v1588) a + S1x16x128.size a ≤ S16384x16x128.size a := fun v1588 k0_hw1240 => k0_hw1240

def k0_off1241 (v1594 : BitVec 32) : Fin 3 → Nat :=
  let c0_i32_1304 : BitVec 32 := 0#32
  let c0_i32_1305 : BitVec 32 := 0#32
  ![v1594.toNat, 0, 0]

def k0_chk1241 (v1594 : BitVec 32) : Prop :=
  (∀ a, (k0_off1241 v1594) a + S1x16x128.size a ≤ S16384x16x128.size a)
theorem k0_off1241_inb : ∀ (v1594 : BitVec 32) (k0_hw1241 : k0_chk1241 v1594), ∀ a, (k0_off1241 v1594) a + S1x16x128.size a ≤ S16384x16x128.size a := fun v1594 k0_hw1241 => k0_hw1241

def k0_off1242 (v1600 : BitVec 32) : Fin 3 → Nat :=
  let c0_i32_1310 : BitVec 32 := 0#32
  let c0_i32_1311 : BitVec 32 := 0#32
  ![v1600.toNat, 0, 0]

def k0_chk1242 (v1600 : BitVec 32) : Prop :=
  (∀ a, (k0_off1242 v1600) a + S1x16x128.size a ≤ S16384x16x128.size a)
theorem k0_off1242_inb : ∀ (v1600 : BitVec 32) (k0_hw1242 : k0_chk1242 v1600), ∀ a, (k0_off1242 v1600) a + S1x16x128.size a ≤ S16384x16x128.size a := fun v1600 k0_hw1242 => k0_hw1242

def k0_off1243 (v1606 : BitVec 32) : Fin 3 → Nat :=
  let c0_i32_1316 : BitVec 32 := 0#32
  let c0_i32_1317 : BitVec 32 := 0#32
  ![v1606.toNat, 0, 0]

def k0_chk1243 (v1606 : BitVec 32) : Prop :=
  (∀ a, (k0_off1243 v1606) a + S1x16x128.size a ≤ S16384x16x128.size a)
theorem k0_off1243_inb : ∀ (v1606 : BitVec 32) (k0_hw1243 : k0_chk1243 v1606), ∀ a, (k0_off1243 v1606) a + S1x16x128.size a ≤ S16384x16x128.size a := fun v1606 k0_hw1243 => k0_hw1243

def k0_off1244 (v1612 : BitVec 32) : Fin 3 → Nat :=
  let c0_i32_1322 : BitVec 32 := 0#32
  let c0_i32_1323 : BitVec 32 := 0#32
  ![v1612.toNat, 0, 0]

def k0_chk1244 (v1612 : BitVec 32) : Prop :=
  (∀ a, (k0_off1244 v1612) a + S1x16x128.size a ≤ S16384x16x128.size a)
theorem k0_off1244_inb : ∀ (v1612 : BitVec 32) (k0_hw1244 : k0_chk1244 v1612), ∀ a, (k0_off1244 v1612) a + S1x16x128.size a ≤ S16384x16x128.size a := fun v1612 k0_hw1244 => k0_hw1244

def k0_off1245 (v1618 : BitVec 32) : Fin 3 → Nat :=
  let c0_i32_1328 : BitVec 32 := 0#32
  let c0_i32_1329 : BitVec 32 := 0#32
  ![v1618.toNat, 0, 0]

def k0_chk1245 (v1618 : BitVec 32) : Prop :=
  (∀ a, (k0_off1245 v1618) a + S1x16x128.size a ≤ S16384x16x128.size a)
theorem k0_off1245_inb : ∀ (v1618 : BitVec 32) (k0_hw1245 : k0_chk1245 v1618), ∀ a, (k0_off1245 v1618) a + S1x16x128.size a ≤ S16384x16x128.size a := fun v1618 k0_hw1245 => k0_hw1245

def k0_off1246 (v1624 : BitVec 32) : Fin 3 → Nat :=
  let c0_i32_1334 : BitVec 32 := 0#32
  let c0_i32_1335 : BitVec 32 := 0#32
  ![v1624.toNat, 0, 0]

def k0_chk1246 (v1624 : BitVec 32) : Prop :=
  (∀ a, (k0_off1246 v1624) a + S1x16x128.size a ≤ S16384x16x128.size a)
theorem k0_off1246_inb : ∀ (v1624 : BitVec 32) (k0_hw1246 : k0_chk1246 v1624), ∀ a, (k0_off1246 v1624) a + S1x16x128.size a ≤ S16384x16x128.size a := fun v1624 k0_hw1246 => k0_hw1246

def k0_off1247 (v1630 : BitVec 32) : Fin 3 → Nat :=
  let c0_i32_1340 : BitVec 32 := 0#32
  let c0_i32_1341 : BitVec 32 := 0#32
  ![v1630.toNat, 0, 0]

def k0_chk1247 (v1630 : BitVec 32) : Prop :=
  (∀ a, (k0_off1247 v1630) a + S1x16x128.size a ≤ S16384x16x128.size a)
theorem k0_off1247_inb : ∀ (v1630 : BitVec 32) (k0_hw1247 : k0_chk1247 v1630), ∀ a, (k0_off1247 v1630) a + S1x16x128.size a ≤ S16384x16x128.size a := fun v1630 k0_hw1247 => k0_hw1247

def k0_off1248 (v1636 : BitVec 32) : Fin 3 → Nat :=
  let c0_i32_1346 : BitVec 32 := 0#32
  let c0_i32_1347 : BitVec 32 := 0#32
  ![v1636.toNat, 0, 0]

def k0_chk1248 (v1636 : BitVec 32) : Prop :=
  (∀ a, (k0_off1248 v1636) a + S1x16x128.size a ≤ S16384x16x128.size a)
theorem k0_off1248_inb : ∀ (v1636 : BitVec 32) (k0_hw1248 : k0_chk1248 v1636), ∀ a, (k0_off1248 v1636) a + S1x16x128.size a ≤ S16384x16x128.size a := fun v1636 k0_hw1248 => k0_hw1248

def k0_off1249 (v1642 : BitVec 32) : Fin 3 → Nat :=
  let c0_i32_1352 : BitVec 32 := 0#32
  let c0_i32_1353 : BitVec 32 := 0#32
  ![v1642.toNat, 0, 0]

def k0_chk1249 (v1642 : BitVec 32) : Prop :=
  (∀ a, (k0_off1249 v1642) a + S1x16x128.size a ≤ S16384x16x128.size a)
theorem k0_off1249_inb : ∀ (v1642 : BitVec 32) (k0_hw1249 : k0_chk1249 v1642), ∀ a, (k0_off1249 v1642) a + S1x16x128.size a ≤ S16384x16x128.size a := fun v1642 k0_hw1249 => k0_hw1249

def k0_off1250 (v1648 : BitVec 32) : Fin 3 → Nat :=
  let c0_i32_1358 : BitVec 32 := 0#32
  let c0_i32_1359 : BitVec 32 := 0#32
  ![v1648.toNat, 0, 0]

def k0_chk1250 (v1648 : BitVec 32) : Prop :=
  (∀ a, (k0_off1250 v1648) a + S1x16x128.size a ≤ S16384x16x128.size a)
theorem k0_off1250_inb : ∀ (v1648 : BitVec 32) (k0_hw1250 : k0_chk1250 v1648), ∀ a, (k0_off1250 v1648) a + S1x16x128.size a ≤ S16384x16x128.size a := fun v1648 k0_hw1250 => k0_hw1250

def k0_off1251 (v1654 : BitVec 32) : Fin 3 → Nat :=
  let c0_i32_1364 : BitVec 32 := 0#32
  let c0_i32_1365 : BitVec 32 := 0#32
  ![v1654.toNat, 0, 0]

def k0_chk1251 (v1654 : BitVec 32) : Prop :=
  (∀ a, (k0_off1251 v1654) a + S1x16x128.size a ≤ S16384x16x128.size a)
theorem k0_off1251_inb : ∀ (v1654 : BitVec 32) (k0_hw1251 : k0_chk1251 v1654), ∀ a, (k0_off1251 v1654) a + S1x16x128.size a ≤ S16384x16x128.size a := fun v1654 k0_hw1251 => k0_hw1251

def k0_off1252 (v1660 : BitVec 32) : Fin 3 → Nat :=
  let c0_i32_1370 : BitVec 32 := 0#32
  let c0_i32_1371 : BitVec 32 := 0#32
  ![v1660.toNat, 0, 0]

def k0_chk1252 (v1660 : BitVec 32) : Prop :=
  (∀ a, (k0_off1252 v1660) a + S1x16x128.size a ≤ S16384x16x128.size a)
theorem k0_off1252_inb : ∀ (v1660 : BitVec 32) (k0_hw1252 : k0_chk1252 v1660), ∀ a, (k0_off1252 v1660) a + S1x16x128.size a ≤ S16384x16x128.size a := fun v1660 k0_hw1252 => k0_hw1252

def k0_off1253 (v1666 : BitVec 32) : Fin 3 → Nat :=
  let c0_i32_1376 : BitVec 32 := 0#32
  let c0_i32_1377 : BitVec 32 := 0#32
  ![v1666.toNat, 0, 0]

def k0_chk1253 (v1666 : BitVec 32) : Prop :=
  (∀ a, (k0_off1253 v1666) a + S1x16x128.size a ≤ S16384x16x128.size a)
theorem k0_off1253_inb : ∀ (v1666 : BitVec 32) (k0_hw1253 : k0_chk1253 v1666), ∀ a, (k0_off1253 v1666) a + S1x16x128.size a ≤ S16384x16x128.size a := fun v1666 k0_hw1253 => k0_hw1253

def k0_off1254 (v1672 : BitVec 32) : Fin 3 → Nat :=
  let c0_i32_1382 : BitVec 32 := 0#32
  let c0_i32_1383 : BitVec 32 := 0#32
  ![v1672.toNat, 0, 0]

def k0_chk1254 (v1672 : BitVec 32) : Prop :=
  (∀ a, (k0_off1254 v1672) a + S1x16x128.size a ≤ S16384x16x128.size a)
theorem k0_off1254_inb : ∀ (v1672 : BitVec 32) (k0_hw1254 : k0_chk1254 v1672), ∀ a, (k0_off1254 v1672) a + S1x16x128.size a ≤ S16384x16x128.size a := fun v1672 k0_hw1254 => k0_hw1254

def k0_off1255 (v1678 : BitVec 32) : Fin 3 → Nat :=
  let c0_i32_1388 : BitVec 32 := 0#32
  let c0_i32_1389 : BitVec 32 := 0#32
  ![v1678.toNat, 0, 0]

def k0_chk1255 (v1678 : BitVec 32) : Prop :=
  (∀ a, (k0_off1255 v1678) a + S1x16x128.size a ≤ S16384x16x128.size a)
theorem k0_off1255_inb : ∀ (v1678 : BitVec 32) (k0_hw1255 : k0_chk1255 v1678), ∀ a, (k0_off1255 v1678) a + S1x16x128.size a ≤ S16384x16x128.size a := fun v1678 k0_hw1255 => k0_hw1255

def k0_off1256 (v1684 : BitVec 32) : Fin 3 → Nat :=
  let c0_i32_1394 : BitVec 32 := 0#32
  let c0_i32_1395 : BitVec 32 := 0#32
  ![v1684.toNat, 0, 0]

def k0_chk1256 (v1684 : BitVec 32) : Prop :=
  (∀ a, (k0_off1256 v1684) a + S1x16x128.size a ≤ S16384x16x128.size a)
theorem k0_off1256_inb : ∀ (v1684 : BitVec 32) (k0_hw1256 : k0_chk1256 v1684), ∀ a, (k0_off1256 v1684) a + S1x16x128.size a ≤ S16384x16x128.size a := fun v1684 k0_hw1256 => k0_hw1256

def k0_off1257 (v1690 : BitVec 32) : Fin 3 → Nat :=
  let c0_i32_1400 : BitVec 32 := 0#32
  let c0_i32_1401 : BitVec 32 := 0#32
  ![v1690.toNat, 0, 0]

def k0_chk1257 (v1690 : BitVec 32) : Prop :=
  (∀ a, (k0_off1257 v1690) a + S1x16x128.size a ≤ S16384x16x128.size a)
theorem k0_off1257_inb : ∀ (v1690 : BitVec 32) (k0_hw1257 : k0_chk1257 v1690), ∀ a, (k0_off1257 v1690) a + S1x16x128.size a ≤ S16384x16x128.size a := fun v1690 k0_hw1257 => k0_hw1257

def k0_off1258 (v1696 : BitVec 32) : Fin 3 → Nat :=
  let c0_i32_1406 : BitVec 32 := 0#32
  let c0_i32_1407 : BitVec 32 := 0#32
  ![v1696.toNat, 0, 0]

def k0_chk1258 (v1696 : BitVec 32) : Prop :=
  (∀ a, (k0_off1258 v1696) a + S1x16x128.size a ≤ S16384x16x128.size a)
theorem k0_off1258_inb : ∀ (v1696 : BitVec 32) (k0_hw1258 : k0_chk1258 v1696), ∀ a, (k0_off1258 v1696) a + S1x16x128.size a ≤ S16384x16x128.size a := fun v1696 k0_hw1258 => k0_hw1258

def k0_off1259 (v1702 : BitVec 32) : Fin 3 → Nat :=
  let c0_i32_1412 : BitVec 32 := 0#32
  let c0_i32_1413 : BitVec 32 := 0#32
  ![v1702.toNat, 0, 0]

def k0_chk1259 (v1702 : BitVec 32) : Prop :=
  (∀ a, (k0_off1259 v1702) a + S1x16x128.size a ≤ S16384x16x128.size a)
theorem k0_off1259_inb : ∀ (v1702 : BitVec 32) (k0_hw1259 : k0_chk1259 v1702), ∀ a, (k0_off1259 v1702) a + S1x16x128.size a ≤ S16384x16x128.size a := fun v1702 k0_hw1259 => k0_hw1259

def k0_off1260 (v1708 : BitVec 32) : Fin 3 → Nat :=
  let c0_i32_1418 : BitVec 32 := 0#32
  let c0_i32_1419 : BitVec 32 := 0#32
  ![v1708.toNat, 0, 0]

def k0_chk1260 (v1708 : BitVec 32) : Prop :=
  (∀ a, (k0_off1260 v1708) a + S1x16x128.size a ≤ S16384x16x128.size a)
theorem k0_off1260_inb : ∀ (v1708 : BitVec 32) (k0_hw1260 : k0_chk1260 v1708), ∀ a, (k0_off1260 v1708) a + S1x16x128.size a ≤ S16384x16x128.size a := fun v1708 k0_hw1260 => k0_hw1260

def k0_off1261 (v1714 : BitVec 32) : Fin 3 → Nat :=
  let c0_i32_1424 : BitVec 32 := 0#32
  let c0_i32_1425 : BitVec 32 := 0#32
  ![v1714.toNat, 0, 0]

def k0_chk1261 (v1714 : BitVec 32) : Prop :=
  (∀ a, (k0_off1261 v1714) a + S1x16x128.size a ≤ S16384x16x128.size a)
theorem k0_off1261_inb : ∀ (v1714 : BitVec 32) (k0_hw1261 : k0_chk1261 v1714), ∀ a, (k0_off1261 v1714) a + S1x16x128.size a ≤ S16384x16x128.size a := fun v1714 k0_hw1261 => k0_hw1261

def k0_off1262 (v1720 : BitVec 32) : Fin 3 → Nat :=
  let c0_i32_1430 : BitVec 32 := 0#32
  let c0_i32_1431 : BitVec 32 := 0#32
  ![v1720.toNat, 0, 0]

def k0_chk1262 (v1720 : BitVec 32) : Prop :=
  (∀ a, (k0_off1262 v1720) a + S1x16x128.size a ≤ S16384x16x128.size a)
theorem k0_off1262_inb : ∀ (v1720 : BitVec 32) (k0_hw1262 : k0_chk1262 v1720), ∀ a, (k0_off1262 v1720) a + S1x16x128.size a ≤ S16384x16x128.size a := fun v1720 k0_hw1262 => k0_hw1262

def k0_off1263 (v1726 : BitVec 32) : Fin 3 → Nat :=
  let c0_i32_1436 : BitVec 32 := 0#32
  let c0_i32_1437 : BitVec 32 := 0#32
  ![v1726.toNat, 0, 0]

def k0_chk1263 (v1726 : BitVec 32) : Prop :=
  (∀ a, (k0_off1263 v1726) a + S1x16x128.size a ≤ S16384x16x128.size a)
theorem k0_off1263_inb : ∀ (v1726 : BitVec 32) (k0_hw1263 : k0_chk1263 v1726), ∀ a, (k0_off1263 v1726) a + S1x16x128.size a ≤ S16384x16x128.size a := fun v1726 k0_hw1263 => k0_hw1263

def k0_off1264 (v1732 : BitVec 32) : Fin 3 → Nat :=
  let c0_i32_1442 : BitVec 32 := 0#32
  let c0_i32_1443 : BitVec 32 := 0#32
  ![v1732.toNat, 0, 0]

def k0_chk1264 (v1732 : BitVec 32) : Prop :=
  (∀ a, (k0_off1264 v1732) a + S1x16x128.size a ≤ S16384x16x128.size a)
theorem k0_off1264_inb : ∀ (v1732 : BitVec 32) (k0_hw1264 : k0_chk1264 v1732), ∀ a, (k0_off1264 v1732) a + S1x16x128.size a ≤ S16384x16x128.size a := fun v1732 k0_hw1264 => k0_hw1264

def k0_off1265 (v1738 : BitVec 32) : Fin 3 → Nat :=
  let c0_i32_1448 : BitVec 32 := 0#32
  let c0_i32_1449 : BitVec 32 := 0#32
  ![v1738.toNat, 0, 0]

def k0_chk1265 (v1738 : BitVec 32) : Prop :=
  (∀ a, (k0_off1265 v1738) a + S1x16x128.size a ≤ S16384x16x128.size a)
theorem k0_off1265_inb : ∀ (v1738 : BitVec 32) (k0_hw1265 : k0_chk1265 v1738), ∀ a, (k0_off1265 v1738) a + S1x16x128.size a ≤ S16384x16x128.size a := fun v1738 k0_hw1265 => k0_hw1265

def k0_off1266 (v1744 : BitVec 32) : Fin 3 → Nat :=
  let c0_i32_1454 : BitVec 32 := 0#32
  let c0_i32_1455 : BitVec 32 := 0#32
  ![v1744.toNat, 0, 0]

def k0_chk1266 (v1744 : BitVec 32) : Prop :=
  (∀ a, (k0_off1266 v1744) a + S1x16x128.size a ≤ S16384x16x128.size a)
theorem k0_off1266_inb : ∀ (v1744 : BitVec 32) (k0_hw1266 : k0_chk1266 v1744), ∀ a, (k0_off1266 v1744) a + S1x16x128.size a ≤ S16384x16x128.size a := fun v1744 k0_hw1266 => k0_hw1266

def k0_off1267 (v1750 : BitVec 32) : Fin 3 → Nat :=
  let c0_i32_1460 : BitVec 32 := 0#32
  let c0_i32_1461 : BitVec 32 := 0#32
  ![v1750.toNat, 0, 0]

def k0_chk1267 (v1750 : BitVec 32) : Prop :=
  (∀ a, (k0_off1267 v1750) a + S1x16x128.size a ≤ S16384x16x128.size a)
theorem k0_off1267_inb : ∀ (v1750 : BitVec 32) (k0_hw1267 : k0_chk1267 v1750), ∀ a, (k0_off1267 v1750) a + S1x16x128.size a ≤ S16384x16x128.size a := fun v1750 k0_hw1267 => k0_hw1267

def k0_off1268 (v1756 : BitVec 32) : Fin 3 → Nat :=
  let c0_i32_1466 : BitVec 32 := 0#32
  let c0_i32_1467 : BitVec 32 := 0#32
  ![v1756.toNat, 0, 0]

def k0_chk1268 (v1756 : BitVec 32) : Prop :=
  (∀ a, (k0_off1268 v1756) a + S1x16x128.size a ≤ S16384x16x128.size a)
theorem k0_off1268_inb : ∀ (v1756 : BitVec 32) (k0_hw1268 : k0_chk1268 v1756), ∀ a, (k0_off1268 v1756) a + S1x16x128.size a ≤ S16384x16x128.size a := fun v1756 k0_hw1268 => k0_hw1268

def k0_off1269 (v1762 : BitVec 32) : Fin 3 → Nat :=
  let c0_i32_1472 : BitVec 32 := 0#32
  let c0_i32_1473 : BitVec 32 := 0#32
  ![v1762.toNat, 0, 0]

def k0_chk1269 (v1762 : BitVec 32) : Prop :=
  (∀ a, (k0_off1269 v1762) a + S1x16x128.size a ≤ S16384x16x128.size a)
theorem k0_off1269_inb : ∀ (v1762 : BitVec 32) (k0_hw1269 : k0_chk1269 v1762), ∀ a, (k0_off1269 v1762) a + S1x16x128.size a ≤ S16384x16x128.size a := fun v1762 k0_hw1269 => k0_hw1269

def k0_off1270 (v1768 : BitVec 32) : Fin 3 → Nat :=
  let c0_i32_1478 : BitVec 32 := 0#32
  let c0_i32_1479 : BitVec 32 := 0#32
  ![v1768.toNat, 0, 0]

def k0_chk1270 (v1768 : BitVec 32) : Prop :=
  (∀ a, (k0_off1270 v1768) a + S1x16x128.size a ≤ S16384x16x128.size a)
theorem k0_off1270_inb : ∀ (v1768 : BitVec 32) (k0_hw1270 : k0_chk1270 v1768), ∀ a, (k0_off1270 v1768) a + S1x16x128.size a ≤ S16384x16x128.size a := fun v1768 k0_hw1270 => k0_hw1270

def k0_off1271 (v1774 : BitVec 32) : Fin 3 → Nat :=
  let c0_i32_1484 : BitVec 32 := 0#32
  let c0_i32_1485 : BitVec 32 := 0#32
  ![v1774.toNat, 0, 0]

def k0_chk1271 (v1774 : BitVec 32) : Prop :=
  (∀ a, (k0_off1271 v1774) a + S1x16x128.size a ≤ S16384x16x128.size a)
theorem k0_off1271_inb : ∀ (v1774 : BitVec 32) (k0_hw1271 : k0_chk1271 v1774), ∀ a, (k0_off1271 v1774) a + S1x16x128.size a ≤ S16384x16x128.size a := fun v1774 k0_hw1271 => k0_hw1271

def k0_off1272 (v1780 : BitVec 32) : Fin 3 → Nat :=
  let c0_i32_1490 : BitVec 32 := 0#32
  let c0_i32_1491 : BitVec 32 := 0#32
  ![v1780.toNat, 0, 0]

def k0_chk1272 (v1780 : BitVec 32) : Prop :=
  (∀ a, (k0_off1272 v1780) a + S1x16x128.size a ≤ S16384x16x128.size a)
theorem k0_off1272_inb : ∀ (v1780 : BitVec 32) (k0_hw1272 : k0_chk1272 v1780), ∀ a, (k0_off1272 v1780) a + S1x16x128.size a ≤ S16384x16x128.size a := fun v1780 k0_hw1272 => k0_hw1272

def k0_off1273 (v1786 : BitVec 32) : Fin 3 → Nat :=
  let c0_i32_1496 : BitVec 32 := 0#32
  let c0_i32_1497 : BitVec 32 := 0#32
  ![v1786.toNat, 0, 0]

def k0_chk1273 (v1786 : BitVec 32) : Prop :=
  (∀ a, (k0_off1273 v1786) a + S1x16x128.size a ≤ S16384x16x128.size a)
theorem k0_off1273_inb : ∀ (v1786 : BitVec 32) (k0_hw1273 : k0_chk1273 v1786), ∀ a, (k0_off1273 v1786) a + S1x16x128.size a ≤ S16384x16x128.size a := fun v1786 k0_hw1273 => k0_hw1273

def k0_off1274 (v1792 : BitVec 32) : Fin 3 → Nat :=
  let c0_i32_1502 : BitVec 32 := 0#32
  let c0_i32_1503 : BitVec 32 := 0#32
  ![v1792.toNat, 0, 0]

def k0_chk1274 (v1792 : BitVec 32) : Prop :=
  (∀ a, (k0_off1274 v1792) a + S1x16x128.size a ≤ S16384x16x128.size a)
theorem k0_off1274_inb : ∀ (v1792 : BitVec 32) (k0_hw1274 : k0_chk1274 v1792), ∀ a, (k0_off1274 v1792) a + S1x16x128.size a ≤ S16384x16x128.size a := fun v1792 k0_hw1274 => k0_hw1274

def k0_off1275 (v1798 : BitVec 32) : Fin 3 → Nat :=
  let c0_i32_1508 : BitVec 32 := 0#32
  let c0_i32_1509 : BitVec 32 := 0#32
  ![v1798.toNat, 0, 0]

def k0_chk1275 (v1798 : BitVec 32) : Prop :=
  (∀ a, (k0_off1275 v1798) a + S1x16x128.size a ≤ S16384x16x128.size a)
theorem k0_off1275_inb : ∀ (v1798 : BitVec 32) (k0_hw1275 : k0_chk1275 v1798), ∀ a, (k0_off1275 v1798) a + S1x16x128.size a ≤ S16384x16x128.size a := fun v1798 k0_hw1275 => k0_hw1275

def k0_off1276 (v1804 : BitVec 32) : Fin 3 → Nat :=
  let c0_i32_1514 : BitVec 32 := 0#32
  let c0_i32_1515 : BitVec 32 := 0#32
  ![v1804.toNat, 0, 0]

def k0_chk1276 (v1804 : BitVec 32) : Prop :=
  (∀ a, (k0_off1276 v1804) a + S1x16x128.size a ≤ S16384x16x128.size a)
theorem k0_off1276_inb : ∀ (v1804 : BitVec 32) (k0_hw1276 : k0_chk1276 v1804), ∀ a, (k0_off1276 v1804) a + S1x16x128.size a ≤ S16384x16x128.size a := fun v1804 k0_hw1276 => k0_hw1276

def k0_off1277 (v1810 : BitVec 32) : Fin 3 → Nat :=
  let c0_i32_1520 : BitVec 32 := 0#32
  let c0_i32_1521 : BitVec 32 := 0#32
  ![v1810.toNat, 0, 0]

def k0_chk1277 (v1810 : BitVec 32) : Prop :=
  (∀ a, (k0_off1277 v1810) a + S1x16x128.size a ≤ S16384x16x128.size a)
theorem k0_off1277_inb : ∀ (v1810 : BitVec 32) (k0_hw1277 : k0_chk1277 v1810), ∀ a, (k0_off1277 v1810) a + S1x16x128.size a ≤ S16384x16x128.size a := fun v1810 k0_hw1277 => k0_hw1277

def k0_off1278 (v1816 : BitVec 32) : Fin 3 → Nat :=
  let c0_i32_1526 : BitVec 32 := 0#32
  let c0_i32_1527 : BitVec 32 := 0#32
  ![v1816.toNat, 0, 0]

def k0_chk1278 (v1816 : BitVec 32) : Prop :=
  (∀ a, (k0_off1278 v1816) a + S1x16x128.size a ≤ S16384x16x128.size a)
theorem k0_off1278_inb : ∀ (v1816 : BitVec 32) (k0_hw1278 : k0_chk1278 v1816), ∀ a, (k0_off1278 v1816) a + S1x16x128.size a ≤ S16384x16x128.size a := fun v1816 k0_hw1278 => k0_hw1278

def k0_off1279 (v1822 : BitVec 32) : Fin 3 → Nat :=
  let c0_i32_1532 : BitVec 32 := 0#32
  let c0_i32_1533 : BitVec 32 := 0#32
  ![v1822.toNat, 0, 0]

def k0_chk1279 (v1822 : BitVec 32) : Prop :=
  (∀ a, (k0_off1279 v1822) a + S1x16x128.size a ≤ S16384x16x128.size a)
theorem k0_off1279_inb : ∀ (v1822 : BitVec 32) (k0_hw1279 : k0_chk1279 v1822), ∀ a, (k0_off1279 v1822) a + S1x16x128.size a ≤ S16384x16x128.size a := fun v1822 k0_hw1279 => k0_hw1279

def k0_off1280 (v1828 : BitVec 32) : Fin 3 → Nat :=
  let c0_i32_1538 : BitVec 32 := 0#32
  let c0_i32_1539 : BitVec 32 := 0#32
  ![v1828.toNat, 0, 0]

def k0_chk1280 (v1828 : BitVec 32) : Prop :=
  (∀ a, (k0_off1280 v1828) a + S1x16x128.size a ≤ S16384x16x128.size a)
theorem k0_off1280_inb : ∀ (v1828 : BitVec 32) (k0_hw1280 : k0_chk1280 v1828), ∀ a, (k0_off1280 v1828) a + S1x16x128.size a ≤ S16384x16x128.size a := fun v1828 k0_hw1280 => k0_hw1280

def k0_off1281 (v2107 : BitVec 32) : Fin 3 → Nat :=
  let c0_i32_1647 : BitVec 32 := 0#32
  let c0_i32_1648 : BitVec 32 := 0#32
  ![v2107.toNat, 0, 0]

def k0_chk1281 (v2107 : BitVec 32) : Prop :=
  (∀ a, (k0_off1281 v2107) a + S1x16x128.size a ≤ S16384x16x128.size a)
theorem k0_off1281_inb : ∀ (v2107 : BitVec 32) (k0_hw1281 : k0_chk1281 v2107), ∀ a, (k0_off1281 v2107) a + S1x16x128.size a ≤ S16384x16x128.size a := fun v2107 k0_hw1281 => k0_hw1281

def k0_off1282 (v2113 : BitVec 32) : Fin 3 → Nat :=
  let c0_i32_1653 : BitVec 32 := 0#32
  let c0_i32_1654 : BitVec 32 := 0#32
  ![v2113.toNat, 0, 0]

def k0_chk1282 (v2113 : BitVec 32) : Prop :=
  (∀ a, (k0_off1282 v2113) a + S1x16x128.size a ≤ S16384x16x128.size a)
theorem k0_off1282_inb : ∀ (v2113 : BitVec 32) (k0_hw1282 : k0_chk1282 v2113), ∀ a, (k0_off1282 v2113) a + S1x16x128.size a ≤ S16384x16x128.size a := fun v2113 k0_hw1282 => k0_hw1282

def k0_off1283 (v2119 : BitVec 32) : Fin 3 → Nat :=
  let c0_i32_1659 : BitVec 32 := 0#32
  let c0_i32_1660 : BitVec 32 := 0#32
  ![v2119.toNat, 0, 0]

def k0_chk1283 (v2119 : BitVec 32) : Prop :=
  (∀ a, (k0_off1283 v2119) a + S1x16x128.size a ≤ S16384x16x128.size a)
theorem k0_off1283_inb : ∀ (v2119 : BitVec 32) (k0_hw1283 : k0_chk1283 v2119), ∀ a, (k0_off1283 v2119) a + S1x16x128.size a ≤ S16384x16x128.size a := fun v2119 k0_hw1283 => k0_hw1283

def k0_off1284 (v2125 : BitVec 32) : Fin 3 → Nat :=
  let c0_i32_1665 : BitVec 32 := 0#32
  let c0_i32_1666 : BitVec 32 := 0#32
  ![v2125.toNat, 0, 0]

def k0_chk1284 (v2125 : BitVec 32) : Prop :=
  (∀ a, (k0_off1284 v2125) a + S1x16x128.size a ≤ S16384x16x128.size a)
theorem k0_off1284_inb : ∀ (v2125 : BitVec 32) (k0_hw1284 : k0_chk1284 v2125), ∀ a, (k0_off1284 v2125) a + S1x16x128.size a ≤ S16384x16x128.size a := fun v2125 k0_hw1284 => k0_hw1284

def k0_off1285 (v2131 : BitVec 32) : Fin 3 → Nat :=
  let c0_i32_1671 : BitVec 32 := 0#32
  let c0_i32_1672 : BitVec 32 := 0#32
  ![v2131.toNat, 0, 0]

def k0_chk1285 (v2131 : BitVec 32) : Prop :=
  (∀ a, (k0_off1285 v2131) a + S1x16x128.size a ≤ S16384x16x128.size a)
theorem k0_off1285_inb : ∀ (v2131 : BitVec 32) (k0_hw1285 : k0_chk1285 v2131), ∀ a, (k0_off1285 v2131) a + S1x16x128.size a ≤ S16384x16x128.size a := fun v2131 k0_hw1285 => k0_hw1285

def k0_off1286 (v2137 : BitVec 32) : Fin 3 → Nat :=
  let c0_i32_1677 : BitVec 32 := 0#32
  let c0_i32_1678 : BitVec 32 := 0#32
  ![v2137.toNat, 0, 0]

def k0_chk1286 (v2137 : BitVec 32) : Prop :=
  (∀ a, (k0_off1286 v2137) a + S1x16x128.size a ≤ S16384x16x128.size a)
theorem k0_off1286_inb : ∀ (v2137 : BitVec 32) (k0_hw1286 : k0_chk1286 v2137), ∀ a, (k0_off1286 v2137) a + S1x16x128.size a ≤ S16384x16x128.size a := fun v2137 k0_hw1286 => k0_hw1286

def k0_off1287 (v2143 : BitVec 32) : Fin 3 → Nat :=
  let c0_i32_1683 : BitVec 32 := 0#32
  let c0_i32_1684 : BitVec 32 := 0#32
  ![v2143.toNat, 0, 0]

def k0_chk1287 (v2143 : BitVec 32) : Prop :=
  (∀ a, (k0_off1287 v2143) a + S1x16x128.size a ≤ S16384x16x128.size a)
theorem k0_off1287_inb : ∀ (v2143 : BitVec 32) (k0_hw1287 : k0_chk1287 v2143), ∀ a, (k0_off1287 v2143) a + S1x16x128.size a ≤ S16384x16x128.size a := fun v2143 k0_hw1287 => k0_hw1287

def k0_off1288 (v2149 : BitVec 32) : Fin 3 → Nat :=
  let c0_i32_1689 : BitVec 32 := 0#32
  let c0_i32_1690 : BitVec 32 := 0#32
  ![v2149.toNat, 0, 0]

def k0_chk1288 (v2149 : BitVec 32) : Prop :=
  (∀ a, (k0_off1288 v2149) a + S1x16x128.size a ≤ S16384x16x128.size a)
theorem k0_off1288_inb : ∀ (v2149 : BitVec 32) (k0_hw1288 : k0_chk1288 v2149), ∀ a, (k0_off1288 v2149) a + S1x16x128.size a ≤ S16384x16x128.size a := fun v2149 k0_hw1288 => k0_hw1288

def k0_off1289 (v2155 : BitVec 32) : Fin 3 → Nat :=
  let c0_i32_1695 : BitVec 32 := 0#32
  let c0_i32_1696 : BitVec 32 := 0#32
  ![v2155.toNat, 0, 0]

def k0_chk1289 (v2155 : BitVec 32) : Prop :=
  (∀ a, (k0_off1289 v2155) a + S1x16x128.size a ≤ S16384x16x128.size a)
theorem k0_off1289_inb : ∀ (v2155 : BitVec 32) (k0_hw1289 : k0_chk1289 v2155), ∀ a, (k0_off1289 v2155) a + S1x16x128.size a ≤ S16384x16x128.size a := fun v2155 k0_hw1289 => k0_hw1289

def k0_off1290 (v2161 : BitVec 32) : Fin 3 → Nat :=
  let c0_i32_1701 : BitVec 32 := 0#32
  let c0_i32_1702 : BitVec 32 := 0#32
  ![v2161.toNat, 0, 0]

def k0_chk1290 (v2161 : BitVec 32) : Prop :=
  (∀ a, (k0_off1290 v2161) a + S1x16x128.size a ≤ S16384x16x128.size a)
theorem k0_off1290_inb : ∀ (v2161 : BitVec 32) (k0_hw1290 : k0_chk1290 v2161), ∀ a, (k0_off1290 v2161) a + S1x16x128.size a ≤ S16384x16x128.size a := fun v2161 k0_hw1290 => k0_hw1290

def k0_off1291 (v2167 : BitVec 32) : Fin 3 → Nat :=
  let c0_i32_1707 : BitVec 32 := 0#32
  let c0_i32_1708 : BitVec 32 := 0#32
  ![v2167.toNat, 0, 0]

def k0_chk1291 (v2167 : BitVec 32) : Prop :=
  (∀ a, (k0_off1291 v2167) a + S1x16x128.size a ≤ S16384x16x128.size a)
theorem k0_off1291_inb : ∀ (v2167 : BitVec 32) (k0_hw1291 : k0_chk1291 v2167), ∀ a, (k0_off1291 v2167) a + S1x16x128.size a ≤ S16384x16x128.size a := fun v2167 k0_hw1291 => k0_hw1291

def k0_off1292 (v2173 : BitVec 32) : Fin 3 → Nat :=
  let c0_i32_1713 : BitVec 32 := 0#32
  let c0_i32_1714 : BitVec 32 := 0#32
  ![v2173.toNat, 0, 0]

def k0_chk1292 (v2173 : BitVec 32) : Prop :=
  (∀ a, (k0_off1292 v2173) a + S1x16x128.size a ≤ S16384x16x128.size a)
theorem k0_off1292_inb : ∀ (v2173 : BitVec 32) (k0_hw1292 : k0_chk1292 v2173), ∀ a, (k0_off1292 v2173) a + S1x16x128.size a ≤ S16384x16x128.size a := fun v2173 k0_hw1292 => k0_hw1292

def k0_off1293 (v2179 : BitVec 32) : Fin 3 → Nat :=
  let c0_i32_1719 : BitVec 32 := 0#32
  let c0_i32_1720 : BitVec 32 := 0#32
  ![v2179.toNat, 0, 0]

def k0_chk1293 (v2179 : BitVec 32) : Prop :=
  (∀ a, (k0_off1293 v2179) a + S1x16x128.size a ≤ S16384x16x128.size a)
theorem k0_off1293_inb : ∀ (v2179 : BitVec 32) (k0_hw1293 : k0_chk1293 v2179), ∀ a, (k0_off1293 v2179) a + S1x16x128.size a ≤ S16384x16x128.size a := fun v2179 k0_hw1293 => k0_hw1293

def k0_off1294 (v2185 : BitVec 32) : Fin 3 → Nat :=
  let c0_i32_1725 : BitVec 32 := 0#32
  let c0_i32_1726 : BitVec 32 := 0#32
  ![v2185.toNat, 0, 0]

def k0_chk1294 (v2185 : BitVec 32) : Prop :=
  (∀ a, (k0_off1294 v2185) a + S1x16x128.size a ≤ S16384x16x128.size a)
theorem k0_off1294_inb : ∀ (v2185 : BitVec 32) (k0_hw1294 : k0_chk1294 v2185), ∀ a, (k0_off1294 v2185) a + S1x16x128.size a ≤ S16384x16x128.size a := fun v2185 k0_hw1294 => k0_hw1294

def k0_off1295 (v2191 : BitVec 32) : Fin 3 → Nat :=
  let c0_i32_1731 : BitVec 32 := 0#32
  let c0_i32_1732 : BitVec 32 := 0#32
  ![v2191.toNat, 0, 0]

def k0_chk1295 (v2191 : BitVec 32) : Prop :=
  (∀ a, (k0_off1295 v2191) a + S1x16x128.size a ≤ S16384x16x128.size a)
theorem k0_off1295_inb : ∀ (v2191 : BitVec 32) (k0_hw1295 : k0_chk1295 v2191), ∀ a, (k0_off1295 v2191) a + S1x16x128.size a ≤ S16384x16x128.size a := fun v2191 k0_hw1295 => k0_hw1295

def k0_off1296 (v2197 : BitVec 32) : Fin 3 → Nat :=
  let c0_i32_1737 : BitVec 32 := 0#32
  let c0_i32_1738 : BitVec 32 := 0#32
  ![v2197.toNat, 0, 0]

def k0_chk1296 (v2197 : BitVec 32) : Prop :=
  (∀ a, (k0_off1296 v2197) a + S1x16x128.size a ≤ S16384x16x128.size a)
theorem k0_off1296_inb : ∀ (v2197 : BitVec 32) (k0_hw1296 : k0_chk1296 v2197), ∀ a, (k0_off1296 v2197) a + S1x16x128.size a ≤ S16384x16x128.size a := fun v2197 k0_hw1296 => k0_hw1296

def k0_off1297 (v2203 : BitVec 32) : Fin 3 → Nat :=
  let c0_i32_1743 : BitVec 32 := 0#32
  let c0_i32_1744 : BitVec 32 := 0#32
  ![v2203.toNat, 0, 0]

def k0_chk1297 (v2203 : BitVec 32) : Prop :=
  (∀ a, (k0_off1297 v2203) a + S1x16x128.size a ≤ S16384x16x128.size a)
theorem k0_off1297_inb : ∀ (v2203 : BitVec 32) (k0_hw1297 : k0_chk1297 v2203), ∀ a, (k0_off1297 v2203) a + S1x16x128.size a ≤ S16384x16x128.size a := fun v2203 k0_hw1297 => k0_hw1297

def k0_off1298 (v2209 : BitVec 32) : Fin 3 → Nat :=
  let c0_i32_1749 : BitVec 32 := 0#32
  let c0_i32_1750 : BitVec 32 := 0#32
  ![v2209.toNat, 0, 0]

def k0_chk1298 (v2209 : BitVec 32) : Prop :=
  (∀ a, (k0_off1298 v2209) a + S1x16x128.size a ≤ S16384x16x128.size a)
theorem k0_off1298_inb : ∀ (v2209 : BitVec 32) (k0_hw1298 : k0_chk1298 v2209), ∀ a, (k0_off1298 v2209) a + S1x16x128.size a ≤ S16384x16x128.size a := fun v2209 k0_hw1298 => k0_hw1298

def k0_off1299 (v2215 : BitVec 32) : Fin 3 → Nat :=
  let c0_i32_1755 : BitVec 32 := 0#32
  let c0_i32_1756 : BitVec 32 := 0#32
  ![v2215.toNat, 0, 0]

def k0_chk1299 (v2215 : BitVec 32) : Prop :=
  (∀ a, (k0_off1299 v2215) a + S1x16x128.size a ≤ S16384x16x128.size a)
theorem k0_off1299_inb : ∀ (v2215 : BitVec 32) (k0_hw1299 : k0_chk1299 v2215), ∀ a, (k0_off1299 v2215) a + S1x16x128.size a ≤ S16384x16x128.size a := fun v2215 k0_hw1299 => k0_hw1299

def k0_off1300 (v2221 : BitVec 32) : Fin 3 → Nat :=
  let c0_i32_1761 : BitVec 32 := 0#32
  let c0_i32_1762 : BitVec 32 := 0#32
  ![v2221.toNat, 0, 0]

def k0_chk1300 (v2221 : BitVec 32) : Prop :=
  (∀ a, (k0_off1300 v2221) a + S1x16x128.size a ≤ S16384x16x128.size a)
theorem k0_off1300_inb : ∀ (v2221 : BitVec 32) (k0_hw1300 : k0_chk1300 v2221), ∀ a, (k0_off1300 v2221) a + S1x16x128.size a ≤ S16384x16x128.size a := fun v2221 k0_hw1300 => k0_hw1300

def k0_off1301 (v2227 : BitVec 32) : Fin 3 → Nat :=
  let c0_i32_1767 : BitVec 32 := 0#32
  let c0_i32_1768 : BitVec 32 := 0#32
  ![v2227.toNat, 0, 0]

def k0_chk1301 (v2227 : BitVec 32) : Prop :=
  (∀ a, (k0_off1301 v2227) a + S1x16x128.size a ≤ S16384x16x128.size a)
theorem k0_off1301_inb : ∀ (v2227 : BitVec 32) (k0_hw1301 : k0_chk1301 v2227), ∀ a, (k0_off1301 v2227) a + S1x16x128.size a ≤ S16384x16x128.size a := fun v2227 k0_hw1301 => k0_hw1301

def k0_off1302 (v2233 : BitVec 32) : Fin 3 → Nat :=
  let c0_i32_1773 : BitVec 32 := 0#32
  let c0_i32_1774 : BitVec 32 := 0#32
  ![v2233.toNat, 0, 0]

def k0_chk1302 (v2233 : BitVec 32) : Prop :=
  (∀ a, (k0_off1302 v2233) a + S1x16x128.size a ≤ S16384x16x128.size a)
theorem k0_off1302_inb : ∀ (v2233 : BitVec 32) (k0_hw1302 : k0_chk1302 v2233), ∀ a, (k0_off1302 v2233) a + S1x16x128.size a ≤ S16384x16x128.size a := fun v2233 k0_hw1302 => k0_hw1302

def k0_off1303 (v2239 : BitVec 32) : Fin 3 → Nat :=
  let c0_i32_1779 : BitVec 32 := 0#32
  let c0_i32_1780 : BitVec 32 := 0#32
  ![v2239.toNat, 0, 0]

def k0_chk1303 (v2239 : BitVec 32) : Prop :=
  (∀ a, (k0_off1303 v2239) a + S1x16x128.size a ≤ S16384x16x128.size a)
theorem k0_off1303_inb : ∀ (v2239 : BitVec 32) (k0_hw1303 : k0_chk1303 v2239), ∀ a, (k0_off1303 v2239) a + S1x16x128.size a ≤ S16384x16x128.size a := fun v2239 k0_hw1303 => k0_hw1303

def k0_off1304 (v2245 : BitVec 32) : Fin 3 → Nat :=
  let c0_i32_1785 : BitVec 32 := 0#32
  let c0_i32_1786 : BitVec 32 := 0#32
  ![v2245.toNat, 0, 0]

def k0_chk1304 (v2245 : BitVec 32) : Prop :=
  (∀ a, (k0_off1304 v2245) a + S1x16x128.size a ≤ S16384x16x128.size a)
theorem k0_off1304_inb : ∀ (v2245 : BitVec 32) (k0_hw1304 : k0_chk1304 v2245), ∀ a, (k0_off1304 v2245) a + S1x16x128.size a ≤ S16384x16x128.size a := fun v2245 k0_hw1304 => k0_hw1304

def k0_off1305 (v2251 : BitVec 32) : Fin 3 → Nat :=
  let c0_i32_1791 : BitVec 32 := 0#32
  let c0_i32_1792 : BitVec 32 := 0#32
  ![v2251.toNat, 0, 0]

def k0_chk1305 (v2251 : BitVec 32) : Prop :=
  (∀ a, (k0_off1305 v2251) a + S1x16x128.size a ≤ S16384x16x128.size a)
theorem k0_off1305_inb : ∀ (v2251 : BitVec 32) (k0_hw1305 : k0_chk1305 v2251), ∀ a, (k0_off1305 v2251) a + S1x16x128.size a ≤ S16384x16x128.size a := fun v2251 k0_hw1305 => k0_hw1305

def k0_off1306 (v2257 : BitVec 32) : Fin 3 → Nat :=
  let c0_i32_1797 : BitVec 32 := 0#32
  let c0_i32_1798 : BitVec 32 := 0#32
  ![v2257.toNat, 0, 0]

def k0_chk1306 (v2257 : BitVec 32) : Prop :=
  (∀ a, (k0_off1306 v2257) a + S1x16x128.size a ≤ S16384x16x128.size a)
theorem k0_off1306_inb : ∀ (v2257 : BitVec 32) (k0_hw1306 : k0_chk1306 v2257), ∀ a, (k0_off1306 v2257) a + S1x16x128.size a ≤ S16384x16x128.size a := fun v2257 k0_hw1306 => k0_hw1306

def k0_off1307 (v2263 : BitVec 32) : Fin 3 → Nat :=
  let c0_i32_1803 : BitVec 32 := 0#32
  let c0_i32_1804 : BitVec 32 := 0#32
  ![v2263.toNat, 0, 0]

def k0_chk1307 (v2263 : BitVec 32) : Prop :=
  (∀ a, (k0_off1307 v2263) a + S1x16x128.size a ≤ S16384x16x128.size a)
theorem k0_off1307_inb : ∀ (v2263 : BitVec 32) (k0_hw1307 : k0_chk1307 v2263), ∀ a, (k0_off1307 v2263) a + S1x16x128.size a ≤ S16384x16x128.size a := fun v2263 k0_hw1307 => k0_hw1307

def k0_off1308 (v2269 : BitVec 32) : Fin 3 → Nat :=
  let c0_i32_1809 : BitVec 32 := 0#32
  let c0_i32_1810 : BitVec 32 := 0#32
  ![v2269.toNat, 0, 0]

def k0_chk1308 (v2269 : BitVec 32) : Prop :=
  (∀ a, (k0_off1308 v2269) a + S1x16x128.size a ≤ S16384x16x128.size a)
theorem k0_off1308_inb : ∀ (v2269 : BitVec 32) (k0_hw1308 : k0_chk1308 v2269), ∀ a, (k0_off1308 v2269) a + S1x16x128.size a ≤ S16384x16x128.size a := fun v2269 k0_hw1308 => k0_hw1308

def k0_off1309 (v2275 : BitVec 32) : Fin 3 → Nat :=
  let c0_i32_1815 : BitVec 32 := 0#32
  let c0_i32_1816 : BitVec 32 := 0#32
  ![v2275.toNat, 0, 0]

def k0_chk1309 (v2275 : BitVec 32) : Prop :=
  (∀ a, (k0_off1309 v2275) a + S1x16x128.size a ≤ S16384x16x128.size a)
theorem k0_off1309_inb : ∀ (v2275 : BitVec 32) (k0_hw1309 : k0_chk1309 v2275), ∀ a, (k0_off1309 v2275) a + S1x16x128.size a ≤ S16384x16x128.size a := fun v2275 k0_hw1309 => k0_hw1309

def k0_off1310 (v2281 : BitVec 32) : Fin 3 → Nat :=
  let c0_i32_1821 : BitVec 32 := 0#32
  let c0_i32_1822 : BitVec 32 := 0#32
  ![v2281.toNat, 0, 0]

def k0_chk1310 (v2281 : BitVec 32) : Prop :=
  (∀ a, (k0_off1310 v2281) a + S1x16x128.size a ≤ S16384x16x128.size a)
theorem k0_off1310_inb : ∀ (v2281 : BitVec 32) (k0_hw1310 : k0_chk1310 v2281), ∀ a, (k0_off1310 v2281) a + S1x16x128.size a ≤ S16384x16x128.size a := fun v2281 k0_hw1310 => k0_hw1310

def k0_off1311 (v2287 : BitVec 32) : Fin 3 → Nat :=
  let c0_i32_1827 : BitVec 32 := 0#32
  let c0_i32_1828 : BitVec 32 := 0#32
  ![v2287.toNat, 0, 0]

def k0_chk1311 (v2287 : BitVec 32) : Prop :=
  (∀ a, (k0_off1311 v2287) a + S1x16x128.size a ≤ S16384x16x128.size a)
theorem k0_off1311_inb : ∀ (v2287 : BitVec 32) (k0_hw1311 : k0_chk1311 v2287), ∀ a, (k0_off1311 v2287) a + S1x16x128.size a ≤ S16384x16x128.size a := fun v2287 k0_hw1311 => k0_hw1311

def k0_off1312 (v2293 : BitVec 32) : Fin 3 → Nat :=
  let c0_i32_1833 : BitVec 32 := 0#32
  let c0_i32_1834 : BitVec 32 := 0#32
  ![v2293.toNat, 0, 0]

def k0_chk1312 (v2293 : BitVec 32) : Prop :=
  (∀ a, (k0_off1312 v2293) a + S1x16x128.size a ≤ S16384x16x128.size a)
theorem k0_off1312_inb : ∀ (v2293 : BitVec 32) (k0_hw1312 : k0_chk1312 v2293), ∀ a, (k0_off1312 v2293) a + S1x16x128.size a ≤ S16384x16x128.size a := fun v2293 k0_hw1312 => k0_hw1312

def k0_off1313 (v2299 : BitVec 32) : Fin 3 → Nat :=
  let c0_i32_1839 : BitVec 32 := 0#32
  let c0_i32_1840 : BitVec 32 := 0#32
  ![v2299.toNat, 0, 0]

def k0_chk1313 (v2299 : BitVec 32) : Prop :=
  (∀ a, (k0_off1313 v2299) a + S1x16x128.size a ≤ S16384x16x128.size a)
theorem k0_off1313_inb : ∀ (v2299 : BitVec 32) (k0_hw1313 : k0_chk1313 v2299), ∀ a, (k0_off1313 v2299) a + S1x16x128.size a ≤ S16384x16x128.size a := fun v2299 k0_hw1313 => k0_hw1313

def k0_off1314 (v2305 : BitVec 32) : Fin 3 → Nat :=
  let c0_i32_1845 : BitVec 32 := 0#32
  let c0_i32_1846 : BitVec 32 := 0#32
  ![v2305.toNat, 0, 0]

def k0_chk1314 (v2305 : BitVec 32) : Prop :=
  (∀ a, (k0_off1314 v2305) a + S1x16x128.size a ≤ S16384x16x128.size a)
theorem k0_off1314_inb : ∀ (v2305 : BitVec 32) (k0_hw1314 : k0_chk1314 v2305), ∀ a, (k0_off1314 v2305) a + S1x16x128.size a ≤ S16384x16x128.size a := fun v2305 k0_hw1314 => k0_hw1314

def k0_off1315 (v2311 : BitVec 32) : Fin 3 → Nat :=
  let c0_i32_1851 : BitVec 32 := 0#32
  let c0_i32_1852 : BitVec 32 := 0#32
  ![v2311.toNat, 0, 0]

def k0_chk1315 (v2311 : BitVec 32) : Prop :=
  (∀ a, (k0_off1315 v2311) a + S1x16x128.size a ≤ S16384x16x128.size a)
theorem k0_off1315_inb : ∀ (v2311 : BitVec 32) (k0_hw1315 : k0_chk1315 v2311), ∀ a, (k0_off1315 v2311) a + S1x16x128.size a ≤ S16384x16x128.size a := fun v2311 k0_hw1315 => k0_hw1315

def k0_off1316 (v2317 : BitVec 32) : Fin 3 → Nat :=
  let c0_i32_1857 : BitVec 32 := 0#32
  let c0_i32_1858 : BitVec 32 := 0#32
  ![v2317.toNat, 0, 0]

def k0_chk1316 (v2317 : BitVec 32) : Prop :=
  (∀ a, (k0_off1316 v2317) a + S1x16x128.size a ≤ S16384x16x128.size a)
theorem k0_off1316_inb : ∀ (v2317 : BitVec 32) (k0_hw1316 : k0_chk1316 v2317), ∀ a, (k0_off1316 v2317) a + S1x16x128.size a ≤ S16384x16x128.size a := fun v2317 k0_hw1316 => k0_hw1316

def k0_off1317 (v2323 : BitVec 32) : Fin 3 → Nat :=
  let c0_i32_1863 : BitVec 32 := 0#32
  let c0_i32_1864 : BitVec 32 := 0#32
  ![v2323.toNat, 0, 0]

def k0_chk1317 (v2323 : BitVec 32) : Prop :=
  (∀ a, (k0_off1317 v2323) a + S1x16x128.size a ≤ S16384x16x128.size a)
theorem k0_off1317_inb : ∀ (v2323 : BitVec 32) (k0_hw1317 : k0_chk1317 v2323), ∀ a, (k0_off1317 v2323) a + S1x16x128.size a ≤ S16384x16x128.size a := fun v2323 k0_hw1317 => k0_hw1317

def k0_off1318 (v2329 : BitVec 32) : Fin 3 → Nat :=
  let c0_i32_1869 : BitVec 32 := 0#32
  let c0_i32_1870 : BitVec 32 := 0#32
  ![v2329.toNat, 0, 0]

def k0_chk1318 (v2329 : BitVec 32) : Prop :=
  (∀ a, (k0_off1318 v2329) a + S1x16x128.size a ≤ S16384x16x128.size a)
theorem k0_off1318_inb : ∀ (v2329 : BitVec 32) (k0_hw1318 : k0_chk1318 v2329), ∀ a, (k0_off1318 v2329) a + S1x16x128.size a ≤ S16384x16x128.size a := fun v2329 k0_hw1318 => k0_hw1318

def k0_off1319 (v2335 : BitVec 32) : Fin 3 → Nat :=
  let c0_i32_1875 : BitVec 32 := 0#32
  let c0_i32_1876 : BitVec 32 := 0#32
  ![v2335.toNat, 0, 0]

def k0_chk1319 (v2335 : BitVec 32) : Prop :=
  (∀ a, (k0_off1319 v2335) a + S1x16x128.size a ≤ S16384x16x128.size a)
theorem k0_off1319_inb : ∀ (v2335 : BitVec 32) (k0_hw1319 : k0_chk1319 v2335), ∀ a, (k0_off1319 v2335) a + S1x16x128.size a ≤ S16384x16x128.size a := fun v2335 k0_hw1319 => k0_hw1319

def k0_off1320 (v2341 : BitVec 32) : Fin 3 → Nat :=
  let c0_i32_1881 : BitVec 32 := 0#32
  let c0_i32_1882 : BitVec 32 := 0#32
  ![v2341.toNat, 0, 0]

def k0_chk1320 (v2341 : BitVec 32) : Prop :=
  (∀ a, (k0_off1320 v2341) a + S1x16x128.size a ≤ S16384x16x128.size a)
theorem k0_off1320_inb : ∀ (v2341 : BitVec 32) (k0_hw1320 : k0_chk1320 v2341), ∀ a, (k0_off1320 v2341) a + S1x16x128.size a ≤ S16384x16x128.size a := fun v2341 k0_hw1320 => k0_hw1320

def k0_off1321 (v2347 : BitVec 32) : Fin 3 → Nat :=
  let c0_i32_1887 : BitVec 32 := 0#32
  let c0_i32_1888 : BitVec 32 := 0#32
  ![v2347.toNat, 0, 0]

def k0_chk1321 (v2347 : BitVec 32) : Prop :=
  (∀ a, (k0_off1321 v2347) a + S1x16x128.size a ≤ S16384x16x128.size a)
theorem k0_off1321_inb : ∀ (v2347 : BitVec 32) (k0_hw1321 : k0_chk1321 v2347), ∀ a, (k0_off1321 v2347) a + S1x16x128.size a ≤ S16384x16x128.size a := fun v2347 k0_hw1321 => k0_hw1321

def k0_off1322 (v2353 : BitVec 32) : Fin 3 → Nat :=
  let c0_i32_1893 : BitVec 32 := 0#32
  let c0_i32_1894 : BitVec 32 := 0#32
  ![v2353.toNat, 0, 0]

def k0_chk1322 (v2353 : BitVec 32) : Prop :=
  (∀ a, (k0_off1322 v2353) a + S1x16x128.size a ≤ S16384x16x128.size a)
theorem k0_off1322_inb : ∀ (v2353 : BitVec 32) (k0_hw1322 : k0_chk1322 v2353), ∀ a, (k0_off1322 v2353) a + S1x16x128.size a ≤ S16384x16x128.size a := fun v2353 k0_hw1322 => k0_hw1322

def k0_off1323 (v2359 : BitVec 32) : Fin 3 → Nat :=
  let c0_i32_1899 : BitVec 32 := 0#32
  let c0_i32_1900 : BitVec 32 := 0#32
  ![v2359.toNat, 0, 0]

def k0_chk1323 (v2359 : BitVec 32) : Prop :=
  (∀ a, (k0_off1323 v2359) a + S1x16x128.size a ≤ S16384x16x128.size a)
theorem k0_off1323_inb : ∀ (v2359 : BitVec 32) (k0_hw1323 : k0_chk1323 v2359), ∀ a, (k0_off1323 v2359) a + S1x16x128.size a ≤ S16384x16x128.size a := fun v2359 k0_hw1323 => k0_hw1323

def k0_off1324 (v2365 : BitVec 32) : Fin 3 → Nat :=
  let c0_i32_1905 : BitVec 32 := 0#32
  let c0_i32_1906 : BitVec 32 := 0#32
  ![v2365.toNat, 0, 0]

def k0_chk1324 (v2365 : BitVec 32) : Prop :=
  (∀ a, (k0_off1324 v2365) a + S1x16x128.size a ≤ S16384x16x128.size a)
theorem k0_off1324_inb : ∀ (v2365 : BitVec 32) (k0_hw1324 : k0_chk1324 v2365), ∀ a, (k0_off1324 v2365) a + S1x16x128.size a ≤ S16384x16x128.size a := fun v2365 k0_hw1324 => k0_hw1324

def k0_off1325 (v2371 : BitVec 32) : Fin 3 → Nat :=
  let c0_i32_1911 : BitVec 32 := 0#32
  let c0_i32_1912 : BitVec 32 := 0#32
  ![v2371.toNat, 0, 0]

def k0_chk1325 (v2371 : BitVec 32) : Prop :=
  (∀ a, (k0_off1325 v2371) a + S1x16x128.size a ≤ S16384x16x128.size a)
theorem k0_off1325_inb : ∀ (v2371 : BitVec 32) (k0_hw1325 : k0_chk1325 v2371), ∀ a, (k0_off1325 v2371) a + S1x16x128.size a ≤ S16384x16x128.size a := fun v2371 k0_hw1325 => k0_hw1325

def k0_off1326 (v2377 : BitVec 32) : Fin 3 → Nat :=
  let c0_i32_1917 : BitVec 32 := 0#32
  let c0_i32_1918 : BitVec 32 := 0#32
  ![v2377.toNat, 0, 0]

def k0_chk1326 (v2377 : BitVec 32) : Prop :=
  (∀ a, (k0_off1326 v2377) a + S1x16x128.size a ≤ S16384x16x128.size a)
theorem k0_off1326_inb : ∀ (v2377 : BitVec 32) (k0_hw1326 : k0_chk1326 v2377), ∀ a, (k0_off1326 v2377) a + S1x16x128.size a ≤ S16384x16x128.size a := fun v2377 k0_hw1326 => k0_hw1326

def k0_off1327 (v2383 : BitVec 32) : Fin 3 → Nat :=
  let c0_i32_1923 : BitVec 32 := 0#32
  let c0_i32_1924 : BitVec 32 := 0#32
  ![v2383.toNat, 0, 0]

def k0_chk1327 (v2383 : BitVec 32) : Prop :=
  (∀ a, (k0_off1327 v2383) a + S1x16x128.size a ≤ S16384x16x128.size a)
theorem k0_off1327_inb : ∀ (v2383 : BitVec 32) (k0_hw1327 : k0_chk1327 v2383), ∀ a, (k0_off1327 v2383) a + S1x16x128.size a ≤ S16384x16x128.size a := fun v2383 k0_hw1327 => k0_hw1327

def k0_off1328 (v2389 : BitVec 32) : Fin 3 → Nat :=
  let c0_i32_1929 : BitVec 32 := 0#32
  let c0_i32_1930 : BitVec 32 := 0#32
  ![v2389.toNat, 0, 0]

def k0_chk1328 (v2389 : BitVec 32) : Prop :=
  (∀ a, (k0_off1328 v2389) a + S1x16x128.size a ≤ S16384x16x128.size a)
theorem k0_off1328_inb : ∀ (v2389 : BitVec 32) (k0_hw1328 : k0_chk1328 v2389), ∀ a, (k0_off1328 v2389) a + S1x16x128.size a ≤ S16384x16x128.size a := fun v2389 k0_hw1328 => k0_hw1328

def k0_off1329 (v2395 : BitVec 32) : Fin 3 → Nat :=
  let c0_i32_1935 : BitVec 32 := 0#32
  let c0_i32_1936 : BitVec 32 := 0#32
  ![v2395.toNat, 0, 0]

def k0_chk1329 (v2395 : BitVec 32) : Prop :=
  (∀ a, (k0_off1329 v2395) a + S1x16x128.size a ≤ S16384x16x128.size a)
theorem k0_off1329_inb : ∀ (v2395 : BitVec 32) (k0_hw1329 : k0_chk1329 v2395), ∀ a, (k0_off1329 v2395) a + S1x16x128.size a ≤ S16384x16x128.size a := fun v2395 k0_hw1329 => k0_hw1329

def k0_off1330 (v2401 : BitVec 32) : Fin 3 → Nat :=
  let c0_i32_1941 : BitVec 32 := 0#32
  let c0_i32_1942 : BitVec 32 := 0#32
  ![v2401.toNat, 0, 0]

def k0_chk1330 (v2401 : BitVec 32) : Prop :=
  (∀ a, (k0_off1330 v2401) a + S1x16x128.size a ≤ S16384x16x128.size a)
theorem k0_off1330_inb : ∀ (v2401 : BitVec 32) (k0_hw1330 : k0_chk1330 v2401), ∀ a, (k0_off1330 v2401) a + S1x16x128.size a ≤ S16384x16x128.size a := fun v2401 k0_hw1330 => k0_hw1330

def k0_off1331 (v2407 : BitVec 32) : Fin 3 → Nat :=
  let c0_i32_1947 : BitVec 32 := 0#32
  let c0_i32_1948 : BitVec 32 := 0#32
  ![v2407.toNat, 0, 0]

def k0_chk1331 (v2407 : BitVec 32) : Prop :=
  (∀ a, (k0_off1331 v2407) a + S1x16x128.size a ≤ S16384x16x128.size a)
theorem k0_off1331_inb : ∀ (v2407 : BitVec 32) (k0_hw1331 : k0_chk1331 v2407), ∀ a, (k0_off1331 v2407) a + S1x16x128.size a ≤ S16384x16x128.size a := fun v2407 k0_hw1331 => k0_hw1331

def k0_off1332 (v2413 : BitVec 32) : Fin 3 → Nat :=
  let c0_i32_1953 : BitVec 32 := 0#32
  let c0_i32_1954 : BitVec 32 := 0#32
  ![v2413.toNat, 0, 0]

def k0_chk1332 (v2413 : BitVec 32) : Prop :=
  (∀ a, (k0_off1332 v2413) a + S1x16x128.size a ≤ S16384x16x128.size a)
theorem k0_off1332_inb : ∀ (v2413 : BitVec 32) (k0_hw1332 : k0_chk1332 v2413), ∀ a, (k0_off1332 v2413) a + S1x16x128.size a ≤ S16384x16x128.size a := fun v2413 k0_hw1332 => k0_hw1332

def k0_off1333 (v2419 : BitVec 32) : Fin 3 → Nat :=
  let c0_i32_1959 : BitVec 32 := 0#32
  let c0_i32_1960 : BitVec 32 := 0#32
  ![v2419.toNat, 0, 0]

def k0_chk1333 (v2419 : BitVec 32) : Prop :=
  (∀ a, (k0_off1333 v2419) a + S1x16x128.size a ≤ S16384x16x128.size a)
theorem k0_off1333_inb : ∀ (v2419 : BitVec 32) (k0_hw1333 : k0_chk1333 v2419), ∀ a, (k0_off1333 v2419) a + S1x16x128.size a ≤ S16384x16x128.size a := fun v2419 k0_hw1333 => k0_hw1333

def k0_off1334 (v2425 : BitVec 32) : Fin 3 → Nat :=
  let c0_i32_1965 : BitVec 32 := 0#32
  let c0_i32_1966 : BitVec 32 := 0#32
  ![v2425.toNat, 0, 0]

def k0_chk1334 (v2425 : BitVec 32) : Prop :=
  (∀ a, (k0_off1334 v2425) a + S1x16x128.size a ≤ S16384x16x128.size a)
theorem k0_off1334_inb : ∀ (v2425 : BitVec 32) (k0_hw1334 : k0_chk1334 v2425), ∀ a, (k0_off1334 v2425) a + S1x16x128.size a ≤ S16384x16x128.size a := fun v2425 k0_hw1334 => k0_hw1334

def k0_off1335 (v2431 : BitVec 32) : Fin 3 → Nat :=
  let c0_i32_1971 : BitVec 32 := 0#32
  let c0_i32_1972 : BitVec 32 := 0#32
  ![v2431.toNat, 0, 0]

def k0_chk1335 (v2431 : BitVec 32) : Prop :=
  (∀ a, (k0_off1335 v2431) a + S1x16x128.size a ≤ S16384x16x128.size a)
theorem k0_off1335_inb : ∀ (v2431 : BitVec 32) (k0_hw1335 : k0_chk1335 v2431), ∀ a, (k0_off1335 v2431) a + S1x16x128.size a ≤ S16384x16x128.size a := fun v2431 k0_hw1335 => k0_hw1335

def k0_off1336 (v2437 : BitVec 32) : Fin 3 → Nat :=
  let c0_i32_1977 : BitVec 32 := 0#32
  let c0_i32_1978 : BitVec 32 := 0#32
  ![v2437.toNat, 0, 0]

def k0_chk1336 (v2437 : BitVec 32) : Prop :=
  (∀ a, (k0_off1336 v2437) a + S1x16x128.size a ≤ S16384x16x128.size a)
theorem k0_off1336_inb : ∀ (v2437 : BitVec 32) (k0_hw1336 : k0_chk1336 v2437), ∀ a, (k0_off1336 v2437) a + S1x16x128.size a ≤ S16384x16x128.size a := fun v2437 k0_hw1336 => k0_hw1336

def k0_off1337 (v2443 : BitVec 32) : Fin 3 → Nat :=
  let c0_i32_1983 : BitVec 32 := 0#32
  let c0_i32_1984 : BitVec 32 := 0#32
  ![v2443.toNat, 0, 0]

def k0_chk1337 (v2443 : BitVec 32) : Prop :=
  (∀ a, (k0_off1337 v2443) a + S1x16x128.size a ≤ S16384x16x128.size a)
theorem k0_off1337_inb : ∀ (v2443 : BitVec 32) (k0_hw1337 : k0_chk1337 v2443), ∀ a, (k0_off1337 v2443) a + S1x16x128.size a ≤ S16384x16x128.size a := fun v2443 k0_hw1337 => k0_hw1337

def k0_off1338 (v2449 : BitVec 32) : Fin 3 → Nat :=
  let c0_i32_1989 : BitVec 32 := 0#32
  let c0_i32_1990 : BitVec 32 := 0#32
  ![v2449.toNat, 0, 0]

def k0_chk1338 (v2449 : BitVec 32) : Prop :=
  (∀ a, (k0_off1338 v2449) a + S1x16x128.size a ≤ S16384x16x128.size a)
theorem k0_off1338_inb : ∀ (v2449 : BitVec 32) (k0_hw1338 : k0_chk1338 v2449), ∀ a, (k0_off1338 v2449) a + S1x16x128.size a ≤ S16384x16x128.size a := fun v2449 k0_hw1338 => k0_hw1338

def k0_off1339 (v2455 : BitVec 32) : Fin 3 → Nat :=
  let c0_i32_1995 : BitVec 32 := 0#32
  let c0_i32_1996 : BitVec 32 := 0#32
  ![v2455.toNat, 0, 0]

def k0_chk1339 (v2455 : BitVec 32) : Prop :=
  (∀ a, (k0_off1339 v2455) a + S1x16x128.size a ≤ S16384x16x128.size a)
theorem k0_off1339_inb : ∀ (v2455 : BitVec 32) (k0_hw1339 : k0_chk1339 v2455), ∀ a, (k0_off1339 v2455) a + S1x16x128.size a ≤ S16384x16x128.size a := fun v2455 k0_hw1339 => k0_hw1339

def k0_off1340 (v2461 : BitVec 32) : Fin 3 → Nat :=
  let c0_i32_2001 : BitVec 32 := 0#32
  let c0_i32_2002 : BitVec 32 := 0#32
  ![v2461.toNat, 0, 0]

def k0_chk1340 (v2461 : BitVec 32) : Prop :=
  (∀ a, (k0_off1340 v2461) a + S1x16x128.size a ≤ S16384x16x128.size a)
theorem k0_off1340_inb : ∀ (v2461 : BitVec 32) (k0_hw1340 : k0_chk1340 v2461), ∀ a, (k0_off1340 v2461) a + S1x16x128.size a ≤ S16384x16x128.size a := fun v2461 k0_hw1340 => k0_hw1340

def k0_off1341 (v2467 : BitVec 32) : Fin 3 → Nat :=
  let c0_i32_2007 : BitVec 32 := 0#32
  let c0_i32_2008 : BitVec 32 := 0#32
  ![v2467.toNat, 0, 0]

def k0_chk1341 (v2467 : BitVec 32) : Prop :=
  (∀ a, (k0_off1341 v2467) a + S1x16x128.size a ≤ S16384x16x128.size a)
theorem k0_off1341_inb : ∀ (v2467 : BitVec 32) (k0_hw1341 : k0_chk1341 v2467), ∀ a, (k0_off1341 v2467) a + S1x16x128.size a ≤ S16384x16x128.size a := fun v2467 k0_hw1341 => k0_hw1341

def k0_off1342 (v2473 : BitVec 32) : Fin 3 → Nat :=
  let c0_i32_2013 : BitVec 32 := 0#32
  let c0_i32_2014 : BitVec 32 := 0#32
  ![v2473.toNat, 0, 0]

def k0_chk1342 (v2473 : BitVec 32) : Prop :=
  (∀ a, (k0_off1342 v2473) a + S1x16x128.size a ≤ S16384x16x128.size a)
theorem k0_off1342_inb : ∀ (v2473 : BitVec 32) (k0_hw1342 : k0_chk1342 v2473), ∀ a, (k0_off1342 v2473) a + S1x16x128.size a ≤ S16384x16x128.size a := fun v2473 k0_hw1342 => k0_hw1342

def k0_off1343 (v2479 : BitVec 32) : Fin 3 → Nat :=
  let c0_i32_2019 : BitVec 32 := 0#32
  let c0_i32_2020 : BitVec 32 := 0#32
  ![v2479.toNat, 0, 0]

def k0_chk1343 (v2479 : BitVec 32) : Prop :=
  (∀ a, (k0_off1343 v2479) a + S1x16x128.size a ≤ S16384x16x128.size a)
theorem k0_off1343_inb : ∀ (v2479 : BitVec 32) (k0_hw1343 : k0_chk1343 v2479), ∀ a, (k0_off1343 v2479) a + S1x16x128.size a ≤ S16384x16x128.size a := fun v2479 k0_hw1343 => k0_hw1343

def k0_off1344 (v2485 : BitVec 32) : Fin 3 → Nat :=
  let c0_i32_2025 : BitVec 32 := 0#32
  let c0_i32_2026 : BitVec 32 := 0#32
  ![v2485.toNat, 0, 0]

def k0_chk1344 (v2485 : BitVec 32) : Prop :=
  (∀ a, (k0_off1344 v2485) a + S1x16x128.size a ≤ S16384x16x128.size a)
theorem k0_off1344_inb : ∀ (v2485 : BitVec 32) (k0_hw1344 : k0_chk1344 v2485), ∀ a, (k0_off1344 v2485) a + S1x16x128.size a ≤ S16384x16x128.size a := fun v2485 k0_hw1344 => k0_hw1344

def k0_off1345 (v2491 : BitVec 32) : Fin 3 → Nat :=
  let c0_i32_2031 : BitVec 32 := 0#32
  let c0_i32_2032 : BitVec 32 := 0#32
  ![v2491.toNat, 0, 0]

def k0_chk1345 (v2491 : BitVec 32) : Prop :=
  (∀ a, (k0_off1345 v2491) a + S1x16x128.size a ≤ S16384x16x128.size a)
theorem k0_off1345_inb : ∀ (v2491 : BitVec 32) (k0_hw1345 : k0_chk1345 v2491), ∀ a, (k0_off1345 v2491) a + S1x16x128.size a ≤ S16384x16x128.size a := fun v2491 k0_hw1345 => k0_hw1345

def k0_off1346 (v2497 : BitVec 32) : Fin 3 → Nat :=
  let c0_i32_2037 : BitVec 32 := 0#32
  let c0_i32_2038 : BitVec 32 := 0#32
  ![v2497.toNat, 0, 0]

def k0_chk1346 (v2497 : BitVec 32) : Prop :=
  (∀ a, (k0_off1346 v2497) a + S1x16x128.size a ≤ S16384x16x128.size a)
theorem k0_off1346_inb : ∀ (v2497 : BitVec 32) (k0_hw1346 : k0_chk1346 v2497), ∀ a, (k0_off1346 v2497) a + S1x16x128.size a ≤ S16384x16x128.size a := fun v2497 k0_hw1346 => k0_hw1346

def k0_off1347 (v2503 : BitVec 32) : Fin 3 → Nat :=
  let c0_i32_2043 : BitVec 32 := 0#32
  let c0_i32_2044 : BitVec 32 := 0#32
  ![v2503.toNat, 0, 0]

def k0_chk1347 (v2503 : BitVec 32) : Prop :=
  (∀ a, (k0_off1347 v2503) a + S1x16x128.size a ≤ S16384x16x128.size a)
theorem k0_off1347_inb : ∀ (v2503 : BitVec 32) (k0_hw1347 : k0_chk1347 v2503), ∀ a, (k0_off1347 v2503) a + S1x16x128.size a ≤ S16384x16x128.size a := fun v2503 k0_hw1347 => k0_hw1347

def k0_off1348 (v2509 : BitVec 32) : Fin 3 → Nat :=
  let c0_i32_2049 : BitVec 32 := 0#32
  let c0_i32_2050 : BitVec 32 := 0#32
  ![v2509.toNat, 0, 0]

def k0_chk1348 (v2509 : BitVec 32) : Prop :=
  (∀ a, (k0_off1348 v2509) a + S1x16x128.size a ≤ S16384x16x128.size a)
theorem k0_off1348_inb : ∀ (v2509 : BitVec 32) (k0_hw1348 : k0_chk1348 v2509), ∀ a, (k0_off1348 v2509) a + S1x16x128.size a ≤ S16384x16x128.size a := fun v2509 k0_hw1348 => k0_hw1348

def k0_off1349 (v2515 : BitVec 32) : Fin 3 → Nat :=
  let c0_i32_2055 : BitVec 32 := 0#32
  let c0_i32_2056 : BitVec 32 := 0#32
  ![v2515.toNat, 0, 0]

def k0_chk1349 (v2515 : BitVec 32) : Prop :=
  (∀ a, (k0_off1349 v2515) a + S1x16x128.size a ≤ S16384x16x128.size a)
theorem k0_off1349_inb : ∀ (v2515 : BitVec 32) (k0_hw1349 : k0_chk1349 v2515), ∀ a, (k0_off1349 v2515) a + S1x16x128.size a ≤ S16384x16x128.size a := fun v2515 k0_hw1349 => k0_hw1349

def k0_off1350 (v2521 : BitVec 32) : Fin 3 → Nat :=
  let c0_i32_2061 : BitVec 32 := 0#32
  let c0_i32_2062 : BitVec 32 := 0#32
  ![v2521.toNat, 0, 0]

def k0_chk1350 (v2521 : BitVec 32) : Prop :=
  (∀ a, (k0_off1350 v2521) a + S1x16x128.size a ≤ S16384x16x128.size a)
theorem k0_off1350_inb : ∀ (v2521 : BitVec 32) (k0_hw1350 : k0_chk1350 v2521), ∀ a, (k0_off1350 v2521) a + S1x16x128.size a ≤ S16384x16x128.size a := fun v2521 k0_hw1350 => k0_hw1350

def k0_off1351 (v2527 : BitVec 32) : Fin 3 → Nat :=
  let c0_i32_2067 : BitVec 32 := 0#32
  let c0_i32_2068 : BitVec 32 := 0#32
  ![v2527.toNat, 0, 0]

def k0_chk1351 (v2527 : BitVec 32) : Prop :=
  (∀ a, (k0_off1351 v2527) a + S1x16x128.size a ≤ S16384x16x128.size a)
theorem k0_off1351_inb : ∀ (v2527 : BitVec 32) (k0_hw1351 : k0_chk1351 v2527), ∀ a, (k0_off1351 v2527) a + S1x16x128.size a ≤ S16384x16x128.size a := fun v2527 k0_hw1351 => k0_hw1351

def k0_off1352 (v2533 : BitVec 32) : Fin 3 → Nat :=
  let c0_i32_2073 : BitVec 32 := 0#32
  let c0_i32_2074 : BitVec 32 := 0#32
  ![v2533.toNat, 0, 0]

def k0_chk1352 (v2533 : BitVec 32) : Prop :=
  (∀ a, (k0_off1352 v2533) a + S1x16x128.size a ≤ S16384x16x128.size a)
theorem k0_off1352_inb : ∀ (v2533 : BitVec 32) (k0_hw1352 : k0_chk1352 v2533), ∀ a, (k0_off1352 v2533) a + S1x16x128.size a ≤ S16384x16x128.size a := fun v2533 k0_hw1352 => k0_hw1352

def k0_off1353 (v2539 : BitVec 32) : Fin 3 → Nat :=
  let c0_i32_2079 : BitVec 32 := 0#32
  let c0_i32_2080 : BitVec 32 := 0#32
  ![v2539.toNat, 0, 0]

def k0_chk1353 (v2539 : BitVec 32) : Prop :=
  (∀ a, (k0_off1353 v2539) a + S1x16x128.size a ≤ S16384x16x128.size a)
theorem k0_off1353_inb : ∀ (v2539 : BitVec 32) (k0_hw1353 : k0_chk1353 v2539), ∀ a, (k0_off1353 v2539) a + S1x16x128.size a ≤ S16384x16x128.size a := fun v2539 k0_hw1353 => k0_hw1353

def k0_off1354 (v2545 : BitVec 32) : Fin 3 → Nat :=
  let c0_i32_2085 : BitVec 32 := 0#32
  let c0_i32_2086 : BitVec 32 := 0#32
  ![v2545.toNat, 0, 0]

def k0_chk1354 (v2545 : BitVec 32) : Prop :=
  (∀ a, (k0_off1354 v2545) a + S1x16x128.size a ≤ S16384x16x128.size a)
theorem k0_off1354_inb : ∀ (v2545 : BitVec 32) (k0_hw1354 : k0_chk1354 v2545), ∀ a, (k0_off1354 v2545) a + S1x16x128.size a ≤ S16384x16x128.size a := fun v2545 k0_hw1354 => k0_hw1354

def k0_off1355 (v2551 : BitVec 32) : Fin 3 → Nat :=
  let c0_i32_2091 : BitVec 32 := 0#32
  let c0_i32_2092 : BitVec 32 := 0#32
  ![v2551.toNat, 0, 0]

def k0_chk1355 (v2551 : BitVec 32) : Prop :=
  (∀ a, (k0_off1355 v2551) a + S1x16x128.size a ≤ S16384x16x128.size a)
theorem k0_off1355_inb : ∀ (v2551 : BitVec 32) (k0_hw1355 : k0_chk1355 v2551), ∀ a, (k0_off1355 v2551) a + S1x16x128.size a ≤ S16384x16x128.size a := fun v2551 k0_hw1355 => k0_hw1355

def k0_off1356 (v2557 : BitVec 32) : Fin 3 → Nat :=
  let c0_i32_2097 : BitVec 32 := 0#32
  let c0_i32_2098 : BitVec 32 := 0#32
  ![v2557.toNat, 0, 0]

def k0_chk1356 (v2557 : BitVec 32) : Prop :=
  (∀ a, (k0_off1356 v2557) a + S1x16x128.size a ≤ S16384x16x128.size a)
theorem k0_off1356_inb : ∀ (v2557 : BitVec 32) (k0_hw1356 : k0_chk1356 v2557), ∀ a, (k0_off1356 v2557) a + S1x16x128.size a ≤ S16384x16x128.size a := fun v2557 k0_hw1356 => k0_hw1356

def k0_off1357 (v2563 : BitVec 32) : Fin 3 → Nat :=
  let c0_i32_2103 : BitVec 32 := 0#32
  let c0_i32_2104 : BitVec 32 := 0#32
  ![v2563.toNat, 0, 0]

def k0_chk1357 (v2563 : BitVec 32) : Prop :=
  (∀ a, (k0_off1357 v2563) a + S1x16x128.size a ≤ S16384x16x128.size a)
theorem k0_off1357_inb : ∀ (v2563 : BitVec 32) (k0_hw1357 : k0_chk1357 v2563), ∀ a, (k0_off1357 v2563) a + S1x16x128.size a ≤ S16384x16x128.size a := fun v2563 k0_hw1357 => k0_hw1357

def k0_off1358 (v2569 : BitVec 32) : Fin 3 → Nat :=
  let c0_i32_2109 : BitVec 32 := 0#32
  let c0_i32_2110 : BitVec 32 := 0#32
  ![v2569.toNat, 0, 0]

def k0_chk1358 (v2569 : BitVec 32) : Prop :=
  (∀ a, (k0_off1358 v2569) a + S1x16x128.size a ≤ S16384x16x128.size a)
theorem k0_off1358_inb : ∀ (v2569 : BitVec 32) (k0_hw1358 : k0_chk1358 v2569), ∀ a, (k0_off1358 v2569) a + S1x16x128.size a ≤ S16384x16x128.size a := fun v2569 k0_hw1358 => k0_hw1358

def k0_off1359 (v2575 : BitVec 32) : Fin 3 → Nat :=
  let c0_i32_2115 : BitVec 32 := 0#32
  let c0_i32_2116 : BitVec 32 := 0#32
  ![v2575.toNat, 0, 0]

def k0_chk1359 (v2575 : BitVec 32) : Prop :=
  (∀ a, (k0_off1359 v2575) a + S1x16x128.size a ≤ S16384x16x128.size a)
theorem k0_off1359_inb : ∀ (v2575 : BitVec 32) (k0_hw1359 : k0_chk1359 v2575), ∀ a, (k0_off1359 v2575) a + S1x16x128.size a ≤ S16384x16x128.size a := fun v2575 k0_hw1359 => k0_hw1359

def k0_off1360 (v2581 : BitVec 32) : Fin 3 → Nat :=
  let c0_i32_2121 : BitVec 32 := 0#32
  let c0_i32_2122 : BitVec 32 := 0#32
  ![v2581.toNat, 0, 0]

def k0_chk1360 (v2581 : BitVec 32) : Prop :=
  (∀ a, (k0_off1360 v2581) a + S1x16x128.size a ≤ S16384x16x128.size a)
theorem k0_off1360_inb : ∀ (v2581 : BitVec 32) (k0_hw1360 : k0_chk1360 v2581), ∀ a, (k0_off1360 v2581) a + S1x16x128.size a ≤ S16384x16x128.size a := fun v2581 k0_hw1360 => k0_hw1360

def k0_off1361 (v2587 : BitVec 32) : Fin 3 → Nat :=
  let c0_i32_2127 : BitVec 32 := 0#32
  let c0_i32_2128 : BitVec 32 := 0#32
  ![v2587.toNat, 0, 0]

def k0_chk1361 (v2587 : BitVec 32) : Prop :=
  (∀ a, (k0_off1361 v2587) a + S1x16x128.size a ≤ S16384x16x128.size a)
theorem k0_off1361_inb : ∀ (v2587 : BitVec 32) (k0_hw1361 : k0_chk1361 v2587), ∀ a, (k0_off1361 v2587) a + S1x16x128.size a ≤ S16384x16x128.size a := fun v2587 k0_hw1361 => k0_hw1361

def k0_off1362 (v2593 : BitVec 32) : Fin 3 → Nat :=
  let c0_i32_2133 : BitVec 32 := 0#32
  let c0_i32_2134 : BitVec 32 := 0#32
  ![v2593.toNat, 0, 0]

def k0_chk1362 (v2593 : BitVec 32) : Prop :=
  (∀ a, (k0_off1362 v2593) a + S1x16x128.size a ≤ S16384x16x128.size a)
theorem k0_off1362_inb : ∀ (v2593 : BitVec 32) (k0_hw1362 : k0_chk1362 v2593), ∀ a, (k0_off1362 v2593) a + S1x16x128.size a ≤ S16384x16x128.size a := fun v2593 k0_hw1362 => k0_hw1362

def k0_off1363 (v2599 : BitVec 32) : Fin 3 → Nat :=
  let c0_i32_2139 : BitVec 32 := 0#32
  let c0_i32_2140 : BitVec 32 := 0#32
  ![v2599.toNat, 0, 0]

def k0_chk1363 (v2599 : BitVec 32) : Prop :=
  (∀ a, (k0_off1363 v2599) a + S1x16x128.size a ≤ S16384x16x128.size a)
theorem k0_off1363_inb : ∀ (v2599 : BitVec 32) (k0_hw1363 : k0_chk1363 v2599), ∀ a, (k0_off1363 v2599) a + S1x16x128.size a ≤ S16384x16x128.size a := fun v2599 k0_hw1363 => k0_hw1363

def k0_off1364 (v2605 : BitVec 32) : Fin 3 → Nat :=
  let c0_i32_2145 : BitVec 32 := 0#32
  let c0_i32_2146 : BitVec 32 := 0#32
  ![v2605.toNat, 0, 0]

def k0_chk1364 (v2605 : BitVec 32) : Prop :=
  (∀ a, (k0_off1364 v2605) a + S1x16x128.size a ≤ S16384x16x128.size a)
theorem k0_off1364_inb : ∀ (v2605 : BitVec 32) (k0_hw1364 : k0_chk1364 v2605), ∀ a, (k0_off1364 v2605) a + S1x16x128.size a ≤ S16384x16x128.size a := fun v2605 k0_hw1364 => k0_hw1364

def k0_off1365 (v2611 : BitVec 32) : Fin 3 → Nat :=
  let c0_i32_2151 : BitVec 32 := 0#32
  let c0_i32_2152 : BitVec 32 := 0#32
  ![v2611.toNat, 0, 0]

def k0_chk1365 (v2611 : BitVec 32) : Prop :=
  (∀ a, (k0_off1365 v2611) a + S1x16x128.size a ≤ S16384x16x128.size a)
theorem k0_off1365_inb : ∀ (v2611 : BitVec 32) (k0_hw1365 : k0_chk1365 v2611), ∀ a, (k0_off1365 v2611) a + S1x16x128.size a ≤ S16384x16x128.size a := fun v2611 k0_hw1365 => k0_hw1365

def k0_off1366 (v2617 : BitVec 32) : Fin 3 → Nat :=
  let c0_i32_2157 : BitVec 32 := 0#32
  let c0_i32_2158 : BitVec 32 := 0#32
  ![v2617.toNat, 0, 0]

def k0_chk1366 (v2617 : BitVec 32) : Prop :=
  (∀ a, (k0_off1366 v2617) a + S1x16x128.size a ≤ S16384x16x128.size a)
theorem k0_off1366_inb : ∀ (v2617 : BitVec 32) (k0_hw1366 : k0_chk1366 v2617), ∀ a, (k0_off1366 v2617) a + S1x16x128.size a ≤ S16384x16x128.size a := fun v2617 k0_hw1366 => k0_hw1366

def k0_off1367 (v2623 : BitVec 32) : Fin 3 → Nat :=
  let c0_i32_2163 : BitVec 32 := 0#32
  let c0_i32_2164 : BitVec 32 := 0#32
  ![v2623.toNat, 0, 0]

def k0_chk1367 (v2623 : BitVec 32) : Prop :=
  (∀ a, (k0_off1367 v2623) a + S1x16x128.size a ≤ S16384x16x128.size a)
theorem k0_off1367_inb : ∀ (v2623 : BitVec 32) (k0_hw1367 : k0_chk1367 v2623), ∀ a, (k0_off1367 v2623) a + S1x16x128.size a ≤ S16384x16x128.size a := fun v2623 k0_hw1367 => k0_hw1367

def k0_off1368 (v2629 : BitVec 32) : Fin 3 → Nat :=
  let c0_i32_2169 : BitVec 32 := 0#32
  let c0_i32_2170 : BitVec 32 := 0#32
  ![v2629.toNat, 0, 0]

def k0_chk1368 (v2629 : BitVec 32) : Prop :=
  (∀ a, (k0_off1368 v2629) a + S1x16x128.size a ≤ S16384x16x128.size a)
theorem k0_off1368_inb : ∀ (v2629 : BitVec 32) (k0_hw1368 : k0_chk1368 v2629), ∀ a, (k0_off1368 v2629) a + S1x16x128.size a ≤ S16384x16x128.size a := fun v2629 k0_hw1368 => k0_hw1368

def k0_off1369 (v2635 : BitVec 32) : Fin 3 → Nat :=
  let c0_i32_2175 : BitVec 32 := 0#32
  let c0_i32_2176 : BitVec 32 := 0#32
  ![v2635.toNat, 0, 0]

def k0_chk1369 (v2635 : BitVec 32) : Prop :=
  (∀ a, (k0_off1369 v2635) a + S1x16x128.size a ≤ S16384x16x128.size a)
theorem k0_off1369_inb : ∀ (v2635 : BitVec 32) (k0_hw1369 : k0_chk1369 v2635), ∀ a, (k0_off1369 v2635) a + S1x16x128.size a ≤ S16384x16x128.size a := fun v2635 k0_hw1369 => k0_hw1369

def k0_off1370 (v2641 : BitVec 32) : Fin 3 → Nat :=
  let c0_i32_2181 : BitVec 32 := 0#32
  let c0_i32_2182 : BitVec 32 := 0#32
  ![v2641.toNat, 0, 0]

def k0_chk1370 (v2641 : BitVec 32) : Prop :=
  (∀ a, (k0_off1370 v2641) a + S1x16x128.size a ≤ S16384x16x128.size a)
theorem k0_off1370_inb : ∀ (v2641 : BitVec 32) (k0_hw1370 : k0_chk1370 v2641), ∀ a, (k0_off1370 v2641) a + S1x16x128.size a ≤ S16384x16x128.size a := fun v2641 k0_hw1370 => k0_hw1370

def k0_off1371 (v2647 : BitVec 32) : Fin 3 → Nat :=
  let c0_i32_2187 : BitVec 32 := 0#32
  let c0_i32_2188 : BitVec 32 := 0#32
  ![v2647.toNat, 0, 0]

def k0_chk1371 (v2647 : BitVec 32) : Prop :=
  (∀ a, (k0_off1371 v2647) a + S1x16x128.size a ≤ S16384x16x128.size a)
theorem k0_off1371_inb : ∀ (v2647 : BitVec 32) (k0_hw1371 : k0_chk1371 v2647), ∀ a, (k0_off1371 v2647) a + S1x16x128.size a ≤ S16384x16x128.size a := fun v2647 k0_hw1371 => k0_hw1371

def k0_off1372 (v2653 : BitVec 32) : Fin 3 → Nat :=
  let c0_i32_2193 : BitVec 32 := 0#32
  let c0_i32_2194 : BitVec 32 := 0#32
  ![v2653.toNat, 0, 0]

def k0_chk1372 (v2653 : BitVec 32) : Prop :=
  (∀ a, (k0_off1372 v2653) a + S1x16x128.size a ≤ S16384x16x128.size a)
theorem k0_off1372_inb : ∀ (v2653 : BitVec 32) (k0_hw1372 : k0_chk1372 v2653), ∀ a, (k0_off1372 v2653) a + S1x16x128.size a ≤ S16384x16x128.size a := fun v2653 k0_hw1372 => k0_hw1372

def k0_off1373 (v2659 : BitVec 32) : Fin 3 → Nat :=
  let c0_i32_2199 : BitVec 32 := 0#32
  let c0_i32_2200 : BitVec 32 := 0#32
  ![v2659.toNat, 0, 0]

def k0_chk1373 (v2659 : BitVec 32) : Prop :=
  (∀ a, (k0_off1373 v2659) a + S1x16x128.size a ≤ S16384x16x128.size a)
theorem k0_off1373_inb : ∀ (v2659 : BitVec 32) (k0_hw1373 : k0_chk1373 v2659), ∀ a, (k0_off1373 v2659) a + S1x16x128.size a ≤ S16384x16x128.size a := fun v2659 k0_hw1373 => k0_hw1373

def k0_off1374 (v2665 : BitVec 32) : Fin 3 → Nat :=
  let c0_i32_2205 : BitVec 32 := 0#32
  let c0_i32_2206 : BitVec 32 := 0#32
  ![v2665.toNat, 0, 0]

def k0_chk1374 (v2665 : BitVec 32) : Prop :=
  (∀ a, (k0_off1374 v2665) a + S1x16x128.size a ≤ S16384x16x128.size a)
theorem k0_off1374_inb : ∀ (v2665 : BitVec 32) (k0_hw1374 : k0_chk1374 v2665), ∀ a, (k0_off1374 v2665) a + S1x16x128.size a ≤ S16384x16x128.size a := fun v2665 k0_hw1374 => k0_hw1374

def k0_off1375 (v2671 : BitVec 32) : Fin 3 → Nat :=
  let c0_i32_2211 : BitVec 32 := 0#32
  let c0_i32_2212 : BitVec 32 := 0#32
  ![v2671.toNat, 0, 0]

def k0_chk1375 (v2671 : BitVec 32) : Prop :=
  (∀ a, (k0_off1375 v2671) a + S1x16x128.size a ≤ S16384x16x128.size a)
theorem k0_off1375_inb : ∀ (v2671 : BitVec 32) (k0_hw1375 : k0_chk1375 v2671), ∀ a, (k0_off1375 v2671) a + S1x16x128.size a ≤ S16384x16x128.size a := fun v2671 k0_hw1375 => k0_hw1375

def k0_off1376 (v2677 : BitVec 32) : Fin 3 → Nat :=
  let c0_i32_2217 : BitVec 32 := 0#32
  let c0_i32_2218 : BitVec 32 := 0#32
  ![v2677.toNat, 0, 0]

def k0_chk1376 (v2677 : BitVec 32) : Prop :=
  (∀ a, (k0_off1376 v2677) a + S1x16x128.size a ≤ S16384x16x128.size a)
theorem k0_off1376_inb : ∀ (v2677 : BitVec 32) (k0_hw1376 : k0_chk1376 v2677), ∀ a, (k0_off1376 v2677) a + S1x16x128.size a ≤ S16384x16x128.size a := fun v2677 k0_hw1376 => k0_hw1376

def k0_off1377 (v2683 : BitVec 32) : Fin 3 → Nat :=
  let c0_i32_2223 : BitVec 32 := 0#32
  let c0_i32_2224 : BitVec 32 := 0#32
  ![v2683.toNat, 0, 0]

def k0_chk1377 (v2683 : BitVec 32) : Prop :=
  (∀ a, (k0_off1377 v2683) a + S1x16x128.size a ≤ S16384x16x128.size a)
theorem k0_off1377_inb : ∀ (v2683 : BitVec 32) (k0_hw1377 : k0_chk1377 v2683), ∀ a, (k0_off1377 v2683) a + S1x16x128.size a ≤ S16384x16x128.size a := fun v2683 k0_hw1377 => k0_hw1377

def k0_off1378 (v2689 : BitVec 32) : Fin 3 → Nat :=
  let c0_i32_2229 : BitVec 32 := 0#32
  let c0_i32_2230 : BitVec 32 := 0#32
  ![v2689.toNat, 0, 0]

def k0_chk1378 (v2689 : BitVec 32) : Prop :=
  (∀ a, (k0_off1378 v2689) a + S1x16x128.size a ≤ S16384x16x128.size a)
theorem k0_off1378_inb : ∀ (v2689 : BitVec 32) (k0_hw1378 : k0_chk1378 v2689), ∀ a, (k0_off1378 v2689) a + S1x16x128.size a ≤ S16384x16x128.size a := fun v2689 k0_hw1378 => k0_hw1378

def k0_off1379 (v2695 : BitVec 32) : Fin 3 → Nat :=
  let c0_i32_2235 : BitVec 32 := 0#32
  let c0_i32_2236 : BitVec 32 := 0#32
  ![v2695.toNat, 0, 0]

def k0_chk1379 (v2695 : BitVec 32) : Prop :=
  (∀ a, (k0_off1379 v2695) a + S1x16x128.size a ≤ S16384x16x128.size a)
theorem k0_off1379_inb : ∀ (v2695 : BitVec 32) (k0_hw1379 : k0_chk1379 v2695), ∀ a, (k0_off1379 v2695) a + S1x16x128.size a ≤ S16384x16x128.size a := fun v2695 k0_hw1379 => k0_hw1379

def k0_off1380 (v2701 : BitVec 32) : Fin 3 → Nat :=
  let c0_i32_2241 : BitVec 32 := 0#32
  let c0_i32_2242 : BitVec 32 := 0#32
  ![v2701.toNat, 0, 0]

def k0_chk1380 (v2701 : BitVec 32) : Prop :=
  (∀ a, (k0_off1380 v2701) a + S1x16x128.size a ≤ S16384x16x128.size a)
theorem k0_off1380_inb : ∀ (v2701 : BitVec 32) (k0_hw1380 : k0_chk1380 v2701), ∀ a, (k0_off1380 v2701) a + S1x16x128.size a ≤ S16384x16x128.size a := fun v2701 k0_hw1380 => k0_hw1380

def k0_off1381 (v2707 : BitVec 32) : Fin 3 → Nat :=
  let c0_i32_2247 : BitVec 32 := 0#32
  let c0_i32_2248 : BitVec 32 := 0#32
  ![v2707.toNat, 0, 0]

def k0_chk1381 (v2707 : BitVec 32) : Prop :=
  (∀ a, (k0_off1381 v2707) a + S1x16x128.size a ≤ S16384x16x128.size a)
theorem k0_off1381_inb : ∀ (v2707 : BitVec 32) (k0_hw1381 : k0_chk1381 v2707), ∀ a, (k0_off1381 v2707) a + S1x16x128.size a ≤ S16384x16x128.size a := fun v2707 k0_hw1381 => k0_hw1381

def k0_off1382 (v2713 : BitVec 32) : Fin 3 → Nat :=
  let c0_i32_2253 : BitVec 32 := 0#32
  let c0_i32_2254 : BitVec 32 := 0#32
  ![v2713.toNat, 0, 0]

def k0_chk1382 (v2713 : BitVec 32) : Prop :=
  (∀ a, (k0_off1382 v2713) a + S1x16x128.size a ≤ S16384x16x128.size a)
theorem k0_off1382_inb : ∀ (v2713 : BitVec 32) (k0_hw1382 : k0_chk1382 v2713), ∀ a, (k0_off1382 v2713) a + S1x16x128.size a ≤ S16384x16x128.size a := fun v2713 k0_hw1382 => k0_hw1382

def k0_off1383 (v2719 : BitVec 32) : Fin 3 → Nat :=
  let c0_i32_2259 : BitVec 32 := 0#32
  let c0_i32_2260 : BitVec 32 := 0#32
  ![v2719.toNat, 0, 0]

def k0_chk1383 (v2719 : BitVec 32) : Prop :=
  (∀ a, (k0_off1383 v2719) a + S1x16x128.size a ≤ S16384x16x128.size a)
theorem k0_off1383_inb : ∀ (v2719 : BitVec 32) (k0_hw1383 : k0_chk1383 v2719), ∀ a, (k0_off1383 v2719) a + S1x16x128.size a ≤ S16384x16x128.size a := fun v2719 k0_hw1383 => k0_hw1383

def k0_off1384 (v2725 : BitVec 32) : Fin 3 → Nat :=
  let c0_i32_2265 : BitVec 32 := 0#32
  let c0_i32_2266 : BitVec 32 := 0#32
  ![v2725.toNat, 0, 0]

def k0_chk1384 (v2725 : BitVec 32) : Prop :=
  (∀ a, (k0_off1384 v2725) a + S1x16x128.size a ≤ S16384x16x128.size a)
theorem k0_off1384_inb : ∀ (v2725 : BitVec 32) (k0_hw1384 : k0_chk1384 v2725), ∀ a, (k0_off1384 v2725) a + S1x16x128.size a ≤ S16384x16x128.size a := fun v2725 k0_hw1384 => k0_hw1384

def k0_off1385 (v2731 : BitVec 32) : Fin 3 → Nat :=
  let c0_i32_2271 : BitVec 32 := 0#32
  let c0_i32_2272 : BitVec 32 := 0#32
  ![v2731.toNat, 0, 0]

def k0_chk1385 (v2731 : BitVec 32) : Prop :=
  (∀ a, (k0_off1385 v2731) a + S1x16x128.size a ≤ S16384x16x128.size a)
theorem k0_off1385_inb : ∀ (v2731 : BitVec 32) (k0_hw1385 : k0_chk1385 v2731), ∀ a, (k0_off1385 v2731) a + S1x16x128.size a ≤ S16384x16x128.size a := fun v2731 k0_hw1385 => k0_hw1385

def k0_off1386 (v2737 : BitVec 32) : Fin 3 → Nat :=
  let c0_i32_2277 : BitVec 32 := 0#32
  let c0_i32_2278 : BitVec 32 := 0#32
  ![v2737.toNat, 0, 0]

def k0_chk1386 (v2737 : BitVec 32) : Prop :=
  (∀ a, (k0_off1386 v2737) a + S1x16x128.size a ≤ S16384x16x128.size a)
theorem k0_off1386_inb : ∀ (v2737 : BitVec 32) (k0_hw1386 : k0_chk1386 v2737), ∀ a, (k0_off1386 v2737) a + S1x16x128.size a ≤ S16384x16x128.size a := fun v2737 k0_hw1386 => k0_hw1386

def k0_off1387 (v2743 : BitVec 32) : Fin 3 → Nat :=
  let c0_i32_2283 : BitVec 32 := 0#32
  let c0_i32_2284 : BitVec 32 := 0#32
  ![v2743.toNat, 0, 0]

def k0_chk1387 (v2743 : BitVec 32) : Prop :=
  (∀ a, (k0_off1387 v2743) a + S1x16x128.size a ≤ S16384x16x128.size a)
theorem k0_off1387_inb : ∀ (v2743 : BitVec 32) (k0_hw1387 : k0_chk1387 v2743), ∀ a, (k0_off1387 v2743) a + S1x16x128.size a ≤ S16384x16x128.size a := fun v2743 k0_hw1387 => k0_hw1387

def k0_off1388 (v2749 : BitVec 32) : Fin 3 → Nat :=
  let c0_i32_2289 : BitVec 32 := 0#32
  let c0_i32_2290 : BitVec 32 := 0#32
  ![v2749.toNat, 0, 0]

def k0_chk1388 (v2749 : BitVec 32) : Prop :=
  (∀ a, (k0_off1388 v2749) a + S1x16x128.size a ≤ S16384x16x128.size a)
theorem k0_off1388_inb : ∀ (v2749 : BitVec 32) (k0_hw1388 : k0_chk1388 v2749), ∀ a, (k0_off1388 v2749) a + S1x16x128.size a ≤ S16384x16x128.size a := fun v2749 k0_hw1388 => k0_hw1388

def k0_off1389 (v2755 : BitVec 32) : Fin 3 → Nat :=
  let c0_i32_2295 : BitVec 32 := 0#32
  let c0_i32_2296 : BitVec 32 := 0#32
  ![v2755.toNat, 0, 0]

def k0_chk1389 (v2755 : BitVec 32) : Prop :=
  (∀ a, (k0_off1389 v2755) a + S1x16x128.size a ≤ S16384x16x128.size a)
theorem k0_off1389_inb : ∀ (v2755 : BitVec 32) (k0_hw1389 : k0_chk1389 v2755), ∀ a, (k0_off1389 v2755) a + S1x16x128.size a ≤ S16384x16x128.size a := fun v2755 k0_hw1389 => k0_hw1389

def k0_off1390 (v2761 : BitVec 32) : Fin 3 → Nat :=
  let c0_i32_2301 : BitVec 32 := 0#32
  let c0_i32_2302 : BitVec 32 := 0#32
  ![v2761.toNat, 0, 0]

def k0_chk1390 (v2761 : BitVec 32) : Prop :=
  (∀ a, (k0_off1390 v2761) a + S1x16x128.size a ≤ S16384x16x128.size a)
theorem k0_off1390_inb : ∀ (v2761 : BitVec 32) (k0_hw1390 : k0_chk1390 v2761), ∀ a, (k0_off1390 v2761) a + S1x16x128.size a ≤ S16384x16x128.size a := fun v2761 k0_hw1390 => k0_hw1390

def k0_off1391 (v2767 : BitVec 32) : Fin 3 → Nat :=
  let c0_i32_2307 : BitVec 32 := 0#32
  let c0_i32_2308 : BitVec 32 := 0#32
  ![v2767.toNat, 0, 0]

def k0_chk1391 (v2767 : BitVec 32) : Prop :=
  (∀ a, (k0_off1391 v2767) a + S1x16x128.size a ≤ S16384x16x128.size a)
theorem k0_off1391_inb : ∀ (v2767 : BitVec 32) (k0_hw1391 : k0_chk1391 v2767), ∀ a, (k0_off1391 v2767) a + S1x16x128.size a ≤ S16384x16x128.size a := fun v2767 k0_hw1391 => k0_hw1391

def k0_off1392 (v2773 : BitVec 32) : Fin 3 → Nat :=
  let c0_i32_2313 : BitVec 32 := 0#32
  let c0_i32_2314 : BitVec 32 := 0#32
  ![v2773.toNat, 0, 0]

def k0_chk1392 (v2773 : BitVec 32) : Prop :=
  (∀ a, (k0_off1392 v2773) a + S1x16x128.size a ≤ S16384x16x128.size a)
theorem k0_off1392_inb : ∀ (v2773 : BitVec 32) (k0_hw1392 : k0_chk1392 v2773), ∀ a, (k0_off1392 v2773) a + S1x16x128.size a ≤ S16384x16x128.size a := fun v2773 k0_hw1392 => k0_hw1392

def k0_off1393 (v2779 : BitVec 32) : Fin 3 → Nat :=
  let c0_i32_2319 : BitVec 32 := 0#32
  let c0_i32_2320 : BitVec 32 := 0#32
  ![v2779.toNat, 0, 0]

def k0_chk1393 (v2779 : BitVec 32) : Prop :=
  (∀ a, (k0_off1393 v2779) a + S1x16x128.size a ≤ S16384x16x128.size a)
theorem k0_off1393_inb : ∀ (v2779 : BitVec 32) (k0_hw1393 : k0_chk1393 v2779), ∀ a, (k0_off1393 v2779) a + S1x16x128.size a ≤ S16384x16x128.size a := fun v2779 k0_hw1393 => k0_hw1393

def k0_off1394 (v2785 : BitVec 32) : Fin 3 → Nat :=
  let c0_i32_2325 : BitVec 32 := 0#32
  let c0_i32_2326 : BitVec 32 := 0#32
  ![v2785.toNat, 0, 0]

def k0_chk1394 (v2785 : BitVec 32) : Prop :=
  (∀ a, (k0_off1394 v2785) a + S1x16x128.size a ≤ S16384x16x128.size a)
theorem k0_off1394_inb : ∀ (v2785 : BitVec 32) (k0_hw1394 : k0_chk1394 v2785), ∀ a, (k0_off1394 v2785) a + S1x16x128.size a ≤ S16384x16x128.size a := fun v2785 k0_hw1394 => k0_hw1394

def k0_off1395 (v2791 : BitVec 32) : Fin 3 → Nat :=
  let c0_i32_2331 : BitVec 32 := 0#32
  let c0_i32_2332 : BitVec 32 := 0#32
  ![v2791.toNat, 0, 0]

def k0_chk1395 (v2791 : BitVec 32) : Prop :=
  (∀ a, (k0_off1395 v2791) a + S1x16x128.size a ≤ S16384x16x128.size a)
theorem k0_off1395_inb : ∀ (v2791 : BitVec 32) (k0_hw1395 : k0_chk1395 v2791), ∀ a, (k0_off1395 v2791) a + S1x16x128.size a ≤ S16384x16x128.size a := fun v2791 k0_hw1395 => k0_hw1395

def k0_off1396 (v2797 : BitVec 32) : Fin 3 → Nat :=
  let c0_i32_2337 : BitVec 32 := 0#32
  let c0_i32_2338 : BitVec 32 := 0#32
  ![v2797.toNat, 0, 0]

def k0_chk1396 (v2797 : BitVec 32) : Prop :=
  (∀ a, (k0_off1396 v2797) a + S1x16x128.size a ≤ S16384x16x128.size a)
theorem k0_off1396_inb : ∀ (v2797 : BitVec 32) (k0_hw1396 : k0_chk1396 v2797), ∀ a, (k0_off1396 v2797) a + S1x16x128.size a ≤ S16384x16x128.size a := fun v2797 k0_hw1396 => k0_hw1396

def k0_off1397 (v2803 : BitVec 32) : Fin 3 → Nat :=
  let c0_i32_2343 : BitVec 32 := 0#32
  let c0_i32_2344 : BitVec 32 := 0#32
  ![v2803.toNat, 0, 0]

def k0_chk1397 (v2803 : BitVec 32) : Prop :=
  (∀ a, (k0_off1397 v2803) a + S1x16x128.size a ≤ S16384x16x128.size a)
theorem k0_off1397_inb : ∀ (v2803 : BitVec 32) (k0_hw1397 : k0_chk1397 v2803), ∀ a, (k0_off1397 v2803) a + S1x16x128.size a ≤ S16384x16x128.size a := fun v2803 k0_hw1397 => k0_hw1397

def k0_off1398 (v2809 : BitVec 32) : Fin 3 → Nat :=
  let c0_i32_2349 : BitVec 32 := 0#32
  let c0_i32_2350 : BitVec 32 := 0#32
  ![v2809.toNat, 0, 0]

def k0_chk1398 (v2809 : BitVec 32) : Prop :=
  (∀ a, (k0_off1398 v2809) a + S1x16x128.size a ≤ S16384x16x128.size a)
theorem k0_off1398_inb : ∀ (v2809 : BitVec 32) (k0_hw1398 : k0_chk1398 v2809), ∀ a, (k0_off1398 v2809) a + S1x16x128.size a ≤ S16384x16x128.size a := fun v2809 k0_hw1398 => k0_hw1398

def k0_off1399 (v2815 : BitVec 32) : Fin 3 → Nat :=
  let c0_i32_2355 : BitVec 32 := 0#32
  let c0_i32_2356 : BitVec 32 := 0#32
  ![v2815.toNat, 0, 0]

def k0_chk1399 (v2815 : BitVec 32) : Prop :=
  (∀ a, (k0_off1399 v2815) a + S1x16x128.size a ≤ S16384x16x128.size a)
theorem k0_off1399_inb : ∀ (v2815 : BitVec 32) (k0_hw1399 : k0_chk1399 v2815), ∀ a, (k0_off1399 v2815) a + S1x16x128.size a ≤ S16384x16x128.size a := fun v2815 k0_hw1399 => k0_hw1399

def k0_off1400 (v2821 : BitVec 32) : Fin 3 → Nat :=
  let c0_i32_2361 : BitVec 32 := 0#32
  let c0_i32_2362 : BitVec 32 := 0#32
  ![v2821.toNat, 0, 0]

def k0_chk1400 (v2821 : BitVec 32) : Prop :=
  (∀ a, (k0_off1400 v2821) a + S1x16x128.size a ≤ S16384x16x128.size a)
theorem k0_off1400_inb : ∀ (v2821 : BitVec 32) (k0_hw1400 : k0_chk1400 v2821), ∀ a, (k0_off1400 v2821) a + S1x16x128.size a ≤ S16384x16x128.size a := fun v2821 k0_hw1400 => k0_hw1400

def k0_off1401 (v2827 : BitVec 32) : Fin 3 → Nat :=
  let c0_i32_2367 : BitVec 32 := 0#32
  let c0_i32_2368 : BitVec 32 := 0#32
  ![v2827.toNat, 0, 0]

def k0_chk1401 (v2827 : BitVec 32) : Prop :=
  (∀ a, (k0_off1401 v2827) a + S1x16x128.size a ≤ S16384x16x128.size a)
theorem k0_off1401_inb : ∀ (v2827 : BitVec 32) (k0_hw1401 : k0_chk1401 v2827), ∀ a, (k0_off1401 v2827) a + S1x16x128.size a ≤ S16384x16x128.size a := fun v2827 k0_hw1401 => k0_hw1401

def k0_off1402 (v2833 : BitVec 32) : Fin 3 → Nat :=
  let c0_i32_2373 : BitVec 32 := 0#32
  let c0_i32_2374 : BitVec 32 := 0#32
  ![v2833.toNat, 0, 0]

def k0_chk1402 (v2833 : BitVec 32) : Prop :=
  (∀ a, (k0_off1402 v2833) a + S1x16x128.size a ≤ S16384x16x128.size a)
theorem k0_off1402_inb : ∀ (v2833 : BitVec 32) (k0_hw1402 : k0_chk1402 v2833), ∀ a, (k0_off1402 v2833) a + S1x16x128.size a ≤ S16384x16x128.size a := fun v2833 k0_hw1402 => k0_hw1402

def k0_off1403 (v2839 : BitVec 32) : Fin 3 → Nat :=
  let c0_i32_2379 : BitVec 32 := 0#32
  let c0_i32_2380 : BitVec 32 := 0#32
  ![v2839.toNat, 0, 0]

def k0_chk1403 (v2839 : BitVec 32) : Prop :=
  (∀ a, (k0_off1403 v2839) a + S1x16x128.size a ≤ S16384x16x128.size a)
theorem k0_off1403_inb : ∀ (v2839 : BitVec 32) (k0_hw1403 : k0_chk1403 v2839), ∀ a, (k0_off1403 v2839) a + S1x16x128.size a ≤ S16384x16x128.size a := fun v2839 k0_hw1403 => k0_hw1403

def k0_off1404 (v2845 : BitVec 32) : Fin 3 → Nat :=
  let c0_i32_2385 : BitVec 32 := 0#32
  let c0_i32_2386 : BitVec 32 := 0#32
  ![v2845.toNat, 0, 0]

def k0_chk1404 (v2845 : BitVec 32) : Prop :=
  (∀ a, (k0_off1404 v2845) a + S1x16x128.size a ≤ S16384x16x128.size a)
theorem k0_off1404_inb : ∀ (v2845 : BitVec 32) (k0_hw1404 : k0_chk1404 v2845), ∀ a, (k0_off1404 v2845) a + S1x16x128.size a ≤ S16384x16x128.size a := fun v2845 k0_hw1404 => k0_hw1404

def k0_off1405 (v2851 : BitVec 32) : Fin 3 → Nat :=
  let c0_i32_2391 : BitVec 32 := 0#32
  let c0_i32_2392 : BitVec 32 := 0#32
  ![v2851.toNat, 0, 0]

def k0_chk1405 (v2851 : BitVec 32) : Prop :=
  (∀ a, (k0_off1405 v2851) a + S1x16x128.size a ≤ S16384x16x128.size a)
theorem k0_off1405_inb : ∀ (v2851 : BitVec 32) (k0_hw1405 : k0_chk1405 v2851), ∀ a, (k0_off1405 v2851) a + S1x16x128.size a ≤ S16384x16x128.size a := fun v2851 k0_hw1405 => k0_hw1405

def k0_off1406 (v2857 : BitVec 32) : Fin 3 → Nat :=
  let c0_i32_2397 : BitVec 32 := 0#32
  let c0_i32_2398 : BitVec 32 := 0#32
  ![v2857.toNat, 0, 0]

def k0_chk1406 (v2857 : BitVec 32) : Prop :=
  (∀ a, (k0_off1406 v2857) a + S1x16x128.size a ≤ S16384x16x128.size a)
theorem k0_off1406_inb : ∀ (v2857 : BitVec 32) (k0_hw1406 : k0_chk1406 v2857), ∀ a, (k0_off1406 v2857) a + S1x16x128.size a ≤ S16384x16x128.size a := fun v2857 k0_hw1406 => k0_hw1406

def k0_off1407 (v2863 : BitVec 32) : Fin 3 → Nat :=
  let c0_i32_2403 : BitVec 32 := 0#32
  let c0_i32_2404 : BitVec 32 := 0#32
  ![v2863.toNat, 0, 0]

def k0_chk1407 (v2863 : BitVec 32) : Prop :=
  (∀ a, (k0_off1407 v2863) a + S1x16x128.size a ≤ S16384x16x128.size a)
theorem k0_off1407_inb : ∀ (v2863 : BitVec 32) (k0_hw1407 : k0_chk1407 v2863), ∀ a, (k0_off1407 v2863) a + S1x16x128.size a ≤ S16384x16x128.size a := fun v2863 k0_hw1407 => k0_hw1407

def k0_off1408 (v2869 : BitVec 32) : Fin 3 → Nat :=
  let c0_i32_2409 : BitVec 32 := 0#32
  let c0_i32_2410 : BitVec 32 := 0#32
  ![v2869.toNat, 0, 0]

def k0_chk1408 (v2869 : BitVec 32) : Prop :=
  (∀ a, (k0_off1408 v2869) a + S1x16x128.size a ≤ S16384x16x128.size a)
theorem k0_off1408_inb : ∀ (v2869 : BitVec 32) (k0_hw1408 : k0_chk1408 v2869), ∀ a, (k0_off1408 v2869) a + S1x16x128.size a ≤ S16384x16x128.size a := fun v2869 k0_hw1408 => k0_hw1408

def k0_off1409 (v3148 : BitVec 32) : Fin 3 → Nat :=
  let c0_i32_2517 : BitVec 32 := 0#32
  let c0_i32_2518 : BitVec 32 := 0#32
  ![v3148.toNat, 0, 0]

def k0_chk1409 (v3148 : BitVec 32) : Prop :=
  (∀ a, (k0_off1409 v3148) a + S1x16x128.size a ≤ S16384x16x128.size a)
theorem k0_off1409_inb : ∀ (v3148 : BitVec 32) (k0_hw1409 : k0_chk1409 v3148), ∀ a, (k0_off1409 v3148) a + S1x16x128.size a ≤ S16384x16x128.size a := fun v3148 k0_hw1409 => k0_hw1409

def k0_off1410 (v3154 : BitVec 32) : Fin 3 → Nat :=
  let c0_i32_2523 : BitVec 32 := 0#32
  let c0_i32_2524 : BitVec 32 := 0#32
  ![v3154.toNat, 0, 0]

def k0_chk1410 (v3154 : BitVec 32) : Prop :=
  (∀ a, (k0_off1410 v3154) a + S1x16x128.size a ≤ S16384x16x128.size a)
theorem k0_off1410_inb : ∀ (v3154 : BitVec 32) (k0_hw1410 : k0_chk1410 v3154), ∀ a, (k0_off1410 v3154) a + S1x16x128.size a ≤ S16384x16x128.size a := fun v3154 k0_hw1410 => k0_hw1410

def k0_off1411 (v3160 : BitVec 32) : Fin 3 → Nat :=
  let c0_i32_2529 : BitVec 32 := 0#32
  let c0_i32_2530 : BitVec 32 := 0#32
  ![v3160.toNat, 0, 0]

def k0_chk1411 (v3160 : BitVec 32) : Prop :=
  (∀ a, (k0_off1411 v3160) a + S1x16x128.size a ≤ S16384x16x128.size a)
theorem k0_off1411_inb : ∀ (v3160 : BitVec 32) (k0_hw1411 : k0_chk1411 v3160), ∀ a, (k0_off1411 v3160) a + S1x16x128.size a ≤ S16384x16x128.size a := fun v3160 k0_hw1411 => k0_hw1411

def k0_off1412 (v3166 : BitVec 32) : Fin 3 → Nat :=
  let c0_i32_2535 : BitVec 32 := 0#32
  let c0_i32_2536 : BitVec 32 := 0#32
  ![v3166.toNat, 0, 0]

def k0_chk1412 (v3166 : BitVec 32) : Prop :=
  (∀ a, (k0_off1412 v3166) a + S1x16x128.size a ≤ S16384x16x128.size a)
theorem k0_off1412_inb : ∀ (v3166 : BitVec 32) (k0_hw1412 : k0_chk1412 v3166), ∀ a, (k0_off1412 v3166) a + S1x16x128.size a ≤ S16384x16x128.size a := fun v3166 k0_hw1412 => k0_hw1412

def k0_off1413 (v3172 : BitVec 32) : Fin 3 → Nat :=
  let c0_i32_2541 : BitVec 32 := 0#32
  let c0_i32_2542 : BitVec 32 := 0#32
  ![v3172.toNat, 0, 0]

def k0_chk1413 (v3172 : BitVec 32) : Prop :=
  (∀ a, (k0_off1413 v3172) a + S1x16x128.size a ≤ S16384x16x128.size a)
theorem k0_off1413_inb : ∀ (v3172 : BitVec 32) (k0_hw1413 : k0_chk1413 v3172), ∀ a, (k0_off1413 v3172) a + S1x16x128.size a ≤ S16384x16x128.size a := fun v3172 k0_hw1413 => k0_hw1413

def k0_off1414 (v3178 : BitVec 32) : Fin 3 → Nat :=
  let c0_i32_2547 : BitVec 32 := 0#32
  let c0_i32_2548 : BitVec 32 := 0#32
  ![v3178.toNat, 0, 0]

def k0_chk1414 (v3178 : BitVec 32) : Prop :=
  (∀ a, (k0_off1414 v3178) a + S1x16x128.size a ≤ S16384x16x128.size a)
theorem k0_off1414_inb : ∀ (v3178 : BitVec 32) (k0_hw1414 : k0_chk1414 v3178), ∀ a, (k0_off1414 v3178) a + S1x16x128.size a ≤ S16384x16x128.size a := fun v3178 k0_hw1414 => k0_hw1414

def k0_off1415 (v3184 : BitVec 32) : Fin 3 → Nat :=
  let c0_i32_2553 : BitVec 32 := 0#32
  let c0_i32_2554 : BitVec 32 := 0#32
  ![v3184.toNat, 0, 0]

def k0_chk1415 (v3184 : BitVec 32) : Prop :=
  (∀ a, (k0_off1415 v3184) a + S1x16x128.size a ≤ S16384x16x128.size a)
theorem k0_off1415_inb : ∀ (v3184 : BitVec 32) (k0_hw1415 : k0_chk1415 v3184), ∀ a, (k0_off1415 v3184) a + S1x16x128.size a ≤ S16384x16x128.size a := fun v3184 k0_hw1415 => k0_hw1415

def k0_off1416 (v3190 : BitVec 32) : Fin 3 → Nat :=
  let c0_i32_2559 : BitVec 32 := 0#32
  let c0_i32_2560 : BitVec 32 := 0#32
  ![v3190.toNat, 0, 0]

def k0_chk1416 (v3190 : BitVec 32) : Prop :=
  (∀ a, (k0_off1416 v3190) a + S1x16x128.size a ≤ S16384x16x128.size a)
theorem k0_off1416_inb : ∀ (v3190 : BitVec 32) (k0_hw1416 : k0_chk1416 v3190), ∀ a, (k0_off1416 v3190) a + S1x16x128.size a ≤ S16384x16x128.size a := fun v3190 k0_hw1416 => k0_hw1416

def k0_off1417 (v3196 : BitVec 32) : Fin 3 → Nat :=
  let c0_i32_2565 : BitVec 32 := 0#32
  let c0_i32_2566 : BitVec 32 := 0#32
  ![v3196.toNat, 0, 0]

def k0_chk1417 (v3196 : BitVec 32) : Prop :=
  (∀ a, (k0_off1417 v3196) a + S1x16x128.size a ≤ S16384x16x128.size a)
theorem k0_off1417_inb : ∀ (v3196 : BitVec 32) (k0_hw1417 : k0_chk1417 v3196), ∀ a, (k0_off1417 v3196) a + S1x16x128.size a ≤ S16384x16x128.size a := fun v3196 k0_hw1417 => k0_hw1417

def k0_off1418 (v3202 : BitVec 32) : Fin 3 → Nat :=
  let c0_i32_2571 : BitVec 32 := 0#32
  let c0_i32_2572 : BitVec 32 := 0#32
  ![v3202.toNat, 0, 0]

def k0_chk1418 (v3202 : BitVec 32) : Prop :=
  (∀ a, (k0_off1418 v3202) a + S1x16x128.size a ≤ S16384x16x128.size a)
theorem k0_off1418_inb : ∀ (v3202 : BitVec 32) (k0_hw1418 : k0_chk1418 v3202), ∀ a, (k0_off1418 v3202) a + S1x16x128.size a ≤ S16384x16x128.size a := fun v3202 k0_hw1418 => k0_hw1418

def k0_off1419 (v3208 : BitVec 32) : Fin 3 → Nat :=
  let c0_i32_2577 : BitVec 32 := 0#32
  let c0_i32_2578 : BitVec 32 := 0#32
  ![v3208.toNat, 0, 0]

def k0_chk1419 (v3208 : BitVec 32) : Prop :=
  (∀ a, (k0_off1419 v3208) a + S1x16x128.size a ≤ S16384x16x128.size a)
theorem k0_off1419_inb : ∀ (v3208 : BitVec 32) (k0_hw1419 : k0_chk1419 v3208), ∀ a, (k0_off1419 v3208) a + S1x16x128.size a ≤ S16384x16x128.size a := fun v3208 k0_hw1419 => k0_hw1419

def k0_off1420 (v3214 : BitVec 32) : Fin 3 → Nat :=
  let c0_i32_2583 : BitVec 32 := 0#32
  let c0_i32_2584 : BitVec 32 := 0#32
  ![v3214.toNat, 0, 0]

def k0_chk1420 (v3214 : BitVec 32) : Prop :=
  (∀ a, (k0_off1420 v3214) a + S1x16x128.size a ≤ S16384x16x128.size a)
theorem k0_off1420_inb : ∀ (v3214 : BitVec 32) (k0_hw1420 : k0_chk1420 v3214), ∀ a, (k0_off1420 v3214) a + S1x16x128.size a ≤ S16384x16x128.size a := fun v3214 k0_hw1420 => k0_hw1420

def k0_off1421 (v3220 : BitVec 32) : Fin 3 → Nat :=
  let c0_i32_2589 : BitVec 32 := 0#32
  let c0_i32_2590 : BitVec 32 := 0#32
  ![v3220.toNat, 0, 0]

def k0_chk1421 (v3220 : BitVec 32) : Prop :=
  (∀ a, (k0_off1421 v3220) a + S1x16x128.size a ≤ S16384x16x128.size a)
theorem k0_off1421_inb : ∀ (v3220 : BitVec 32) (k0_hw1421 : k0_chk1421 v3220), ∀ a, (k0_off1421 v3220) a + S1x16x128.size a ≤ S16384x16x128.size a := fun v3220 k0_hw1421 => k0_hw1421

def k0_off1422 (v3226 : BitVec 32) : Fin 3 → Nat :=
  let c0_i32_2595 : BitVec 32 := 0#32
  let c0_i32_2596 : BitVec 32 := 0#32
  ![v3226.toNat, 0, 0]

def k0_chk1422 (v3226 : BitVec 32) : Prop :=
  (∀ a, (k0_off1422 v3226) a + S1x16x128.size a ≤ S16384x16x128.size a)
theorem k0_off1422_inb : ∀ (v3226 : BitVec 32) (k0_hw1422 : k0_chk1422 v3226), ∀ a, (k0_off1422 v3226) a + S1x16x128.size a ≤ S16384x16x128.size a := fun v3226 k0_hw1422 => k0_hw1422

def k0_off1423 (v3232 : BitVec 32) : Fin 3 → Nat :=
  let c0_i32_2601 : BitVec 32 := 0#32
  let c0_i32_2602 : BitVec 32 := 0#32
  ![v3232.toNat, 0, 0]

def k0_chk1423 (v3232 : BitVec 32) : Prop :=
  (∀ a, (k0_off1423 v3232) a + S1x16x128.size a ≤ S16384x16x128.size a)
theorem k0_off1423_inb : ∀ (v3232 : BitVec 32) (k0_hw1423 : k0_chk1423 v3232), ∀ a, (k0_off1423 v3232) a + S1x16x128.size a ≤ S16384x16x128.size a := fun v3232 k0_hw1423 => k0_hw1423

def k0_off1424 (v3238 : BitVec 32) : Fin 3 → Nat :=
  let c0_i32_2607 : BitVec 32 := 0#32
  let c0_i32_2608 : BitVec 32 := 0#32
  ![v3238.toNat, 0, 0]

def k0_chk1424 (v3238 : BitVec 32) : Prop :=
  (∀ a, (k0_off1424 v3238) a + S1x16x128.size a ≤ S16384x16x128.size a)
theorem k0_off1424_inb : ∀ (v3238 : BitVec 32) (k0_hw1424 : k0_chk1424 v3238), ∀ a, (k0_off1424 v3238) a + S1x16x128.size a ≤ S16384x16x128.size a := fun v3238 k0_hw1424 => k0_hw1424

def k0_off1425 (v3244 : BitVec 32) : Fin 3 → Nat :=
  let c0_i32_2613 : BitVec 32 := 0#32
  let c0_i32_2614 : BitVec 32 := 0#32
  ![v3244.toNat, 0, 0]

def k0_chk1425 (v3244 : BitVec 32) : Prop :=
  (∀ a, (k0_off1425 v3244) a + S1x16x128.size a ≤ S16384x16x128.size a)
theorem k0_off1425_inb : ∀ (v3244 : BitVec 32) (k0_hw1425 : k0_chk1425 v3244), ∀ a, (k0_off1425 v3244) a + S1x16x128.size a ≤ S16384x16x128.size a := fun v3244 k0_hw1425 => k0_hw1425

def k0_off1426 (v3250 : BitVec 32) : Fin 3 → Nat :=
  let c0_i32_2619 : BitVec 32 := 0#32
  let c0_i32_2620 : BitVec 32 := 0#32
  ![v3250.toNat, 0, 0]

def k0_chk1426 (v3250 : BitVec 32) : Prop :=
  (∀ a, (k0_off1426 v3250) a + S1x16x128.size a ≤ S16384x16x128.size a)
theorem k0_off1426_inb : ∀ (v3250 : BitVec 32) (k0_hw1426 : k0_chk1426 v3250), ∀ a, (k0_off1426 v3250) a + S1x16x128.size a ≤ S16384x16x128.size a := fun v3250 k0_hw1426 => k0_hw1426

def k0_off1427 (v3256 : BitVec 32) : Fin 3 → Nat :=
  let c0_i32_2625 : BitVec 32 := 0#32
  let c0_i32_2626 : BitVec 32 := 0#32
  ![v3256.toNat, 0, 0]

def k0_chk1427 (v3256 : BitVec 32) : Prop :=
  (∀ a, (k0_off1427 v3256) a + S1x16x128.size a ≤ S16384x16x128.size a)
theorem k0_off1427_inb : ∀ (v3256 : BitVec 32) (k0_hw1427 : k0_chk1427 v3256), ∀ a, (k0_off1427 v3256) a + S1x16x128.size a ≤ S16384x16x128.size a := fun v3256 k0_hw1427 => k0_hw1427

def k0_off1428 (v3262 : BitVec 32) : Fin 3 → Nat :=
  let c0_i32_2631 : BitVec 32 := 0#32
  let c0_i32_2632 : BitVec 32 := 0#32
  ![v3262.toNat, 0, 0]

def k0_chk1428 (v3262 : BitVec 32) : Prop :=
  (∀ a, (k0_off1428 v3262) a + S1x16x128.size a ≤ S16384x16x128.size a)
theorem k0_off1428_inb : ∀ (v3262 : BitVec 32) (k0_hw1428 : k0_chk1428 v3262), ∀ a, (k0_off1428 v3262) a + S1x16x128.size a ≤ S16384x16x128.size a := fun v3262 k0_hw1428 => k0_hw1428

def k0_off1429 (v3268 : BitVec 32) : Fin 3 → Nat :=
  let c0_i32_2637 : BitVec 32 := 0#32
  let c0_i32_2638 : BitVec 32 := 0#32
  ![v3268.toNat, 0, 0]

def k0_chk1429 (v3268 : BitVec 32) : Prop :=
  (∀ a, (k0_off1429 v3268) a + S1x16x128.size a ≤ S16384x16x128.size a)
theorem k0_off1429_inb : ∀ (v3268 : BitVec 32) (k0_hw1429 : k0_chk1429 v3268), ∀ a, (k0_off1429 v3268) a + S1x16x128.size a ≤ S16384x16x128.size a := fun v3268 k0_hw1429 => k0_hw1429

def k0_off1430 (v3274 : BitVec 32) : Fin 3 → Nat :=
  let c0_i32_2643 : BitVec 32 := 0#32
  let c0_i32_2644 : BitVec 32 := 0#32
  ![v3274.toNat, 0, 0]

def k0_chk1430 (v3274 : BitVec 32) : Prop :=
  (∀ a, (k0_off1430 v3274) a + S1x16x128.size a ≤ S16384x16x128.size a)
theorem k0_off1430_inb : ∀ (v3274 : BitVec 32) (k0_hw1430 : k0_chk1430 v3274), ∀ a, (k0_off1430 v3274) a + S1x16x128.size a ≤ S16384x16x128.size a := fun v3274 k0_hw1430 => k0_hw1430

def k0_off1431 (v3280 : BitVec 32) : Fin 3 → Nat :=
  let c0_i32_2649 : BitVec 32 := 0#32
  let c0_i32_2650 : BitVec 32 := 0#32
  ![v3280.toNat, 0, 0]

def k0_chk1431 (v3280 : BitVec 32) : Prop :=
  (∀ a, (k0_off1431 v3280) a + S1x16x128.size a ≤ S16384x16x128.size a)
theorem k0_off1431_inb : ∀ (v3280 : BitVec 32) (k0_hw1431 : k0_chk1431 v3280), ∀ a, (k0_off1431 v3280) a + S1x16x128.size a ≤ S16384x16x128.size a := fun v3280 k0_hw1431 => k0_hw1431

def k0_off1432 (v3286 : BitVec 32) : Fin 3 → Nat :=
  let c0_i32_2655 : BitVec 32 := 0#32
  let c0_i32_2656 : BitVec 32 := 0#32
  ![v3286.toNat, 0, 0]

def k0_chk1432 (v3286 : BitVec 32) : Prop :=
  (∀ a, (k0_off1432 v3286) a + S1x16x128.size a ≤ S16384x16x128.size a)
theorem k0_off1432_inb : ∀ (v3286 : BitVec 32) (k0_hw1432 : k0_chk1432 v3286), ∀ a, (k0_off1432 v3286) a + S1x16x128.size a ≤ S16384x16x128.size a := fun v3286 k0_hw1432 => k0_hw1432

def k0_off1433 (v3292 : BitVec 32) : Fin 3 → Nat :=
  let c0_i32_2661 : BitVec 32 := 0#32
  let c0_i32_2662 : BitVec 32 := 0#32
  ![v3292.toNat, 0, 0]

def k0_chk1433 (v3292 : BitVec 32) : Prop :=
  (∀ a, (k0_off1433 v3292) a + S1x16x128.size a ≤ S16384x16x128.size a)
theorem k0_off1433_inb : ∀ (v3292 : BitVec 32) (k0_hw1433 : k0_chk1433 v3292), ∀ a, (k0_off1433 v3292) a + S1x16x128.size a ≤ S16384x16x128.size a := fun v3292 k0_hw1433 => k0_hw1433

def k0_off1434 (v3298 : BitVec 32) : Fin 3 → Nat :=
  let c0_i32_2667 : BitVec 32 := 0#32
  let c0_i32_2668 : BitVec 32 := 0#32
  ![v3298.toNat, 0, 0]

def k0_chk1434 (v3298 : BitVec 32) : Prop :=
  (∀ a, (k0_off1434 v3298) a + S1x16x128.size a ≤ S16384x16x128.size a)
theorem k0_off1434_inb : ∀ (v3298 : BitVec 32) (k0_hw1434 : k0_chk1434 v3298), ∀ a, (k0_off1434 v3298) a + S1x16x128.size a ≤ S16384x16x128.size a := fun v3298 k0_hw1434 => k0_hw1434

def k0_off1435 (v3304 : BitVec 32) : Fin 3 → Nat :=
  let c0_i32_2673 : BitVec 32 := 0#32
  let c0_i32_2674 : BitVec 32 := 0#32
  ![v3304.toNat, 0, 0]

def k0_chk1435 (v3304 : BitVec 32) : Prop :=
  (∀ a, (k0_off1435 v3304) a + S1x16x128.size a ≤ S16384x16x128.size a)
theorem k0_off1435_inb : ∀ (v3304 : BitVec 32) (k0_hw1435 : k0_chk1435 v3304), ∀ a, (k0_off1435 v3304) a + S1x16x128.size a ≤ S16384x16x128.size a := fun v3304 k0_hw1435 => k0_hw1435

def k0_off1436 (v3310 : BitVec 32) : Fin 3 → Nat :=
  let c0_i32_2679 : BitVec 32 := 0#32
  let c0_i32_2680 : BitVec 32 := 0#32
  ![v3310.toNat, 0, 0]

def k0_chk1436 (v3310 : BitVec 32) : Prop :=
  (∀ a, (k0_off1436 v3310) a + S1x16x128.size a ≤ S16384x16x128.size a)
theorem k0_off1436_inb : ∀ (v3310 : BitVec 32) (k0_hw1436 : k0_chk1436 v3310), ∀ a, (k0_off1436 v3310) a + S1x16x128.size a ≤ S16384x16x128.size a := fun v3310 k0_hw1436 => k0_hw1436

def k0_off1437 (v3316 : BitVec 32) : Fin 3 → Nat :=
  let c0_i32_2685 : BitVec 32 := 0#32
  let c0_i32_2686 : BitVec 32 := 0#32
  ![v3316.toNat, 0, 0]

def k0_chk1437 (v3316 : BitVec 32) : Prop :=
  (∀ a, (k0_off1437 v3316) a + S1x16x128.size a ≤ S16384x16x128.size a)
theorem k0_off1437_inb : ∀ (v3316 : BitVec 32) (k0_hw1437 : k0_chk1437 v3316), ∀ a, (k0_off1437 v3316) a + S1x16x128.size a ≤ S16384x16x128.size a := fun v3316 k0_hw1437 => k0_hw1437

def k0_off1438 (v3322 : BitVec 32) : Fin 3 → Nat :=
  let c0_i32_2691 : BitVec 32 := 0#32
  let c0_i32_2692 : BitVec 32 := 0#32
  ![v3322.toNat, 0, 0]

def k0_chk1438 (v3322 : BitVec 32) : Prop :=
  (∀ a, (k0_off1438 v3322) a + S1x16x128.size a ≤ S16384x16x128.size a)
theorem k0_off1438_inb : ∀ (v3322 : BitVec 32) (k0_hw1438 : k0_chk1438 v3322), ∀ a, (k0_off1438 v3322) a + S1x16x128.size a ≤ S16384x16x128.size a := fun v3322 k0_hw1438 => k0_hw1438

def k0_off1439 (v3328 : BitVec 32) : Fin 3 → Nat :=
  let c0_i32_2697 : BitVec 32 := 0#32
  let c0_i32_2698 : BitVec 32 := 0#32
  ![v3328.toNat, 0, 0]

def k0_chk1439 (v3328 : BitVec 32) : Prop :=
  (∀ a, (k0_off1439 v3328) a + S1x16x128.size a ≤ S16384x16x128.size a)
theorem k0_off1439_inb : ∀ (v3328 : BitVec 32) (k0_hw1439 : k0_chk1439 v3328), ∀ a, (k0_off1439 v3328) a + S1x16x128.size a ≤ S16384x16x128.size a := fun v3328 k0_hw1439 => k0_hw1439

def k0_off1440 (v3334 : BitVec 32) : Fin 3 → Nat :=
  let c0_i32_2703 : BitVec 32 := 0#32
  let c0_i32_2704 : BitVec 32 := 0#32
  ![v3334.toNat, 0, 0]

def k0_chk1440 (v3334 : BitVec 32) : Prop :=
  (∀ a, (k0_off1440 v3334) a + S1x16x128.size a ≤ S16384x16x128.size a)
theorem k0_off1440_inb : ∀ (v3334 : BitVec 32) (k0_hw1440 : k0_chk1440 v3334), ∀ a, (k0_off1440 v3334) a + S1x16x128.size a ≤ S16384x16x128.size a := fun v3334 k0_hw1440 => k0_hw1440

def k0_off1441 (v3340 : BitVec 32) : Fin 3 → Nat :=
  let c0_i32_2709 : BitVec 32 := 0#32
  let c0_i32_2710 : BitVec 32 := 0#32
  ![v3340.toNat, 0, 0]

def k0_chk1441 (v3340 : BitVec 32) : Prop :=
  (∀ a, (k0_off1441 v3340) a + S1x16x128.size a ≤ S16384x16x128.size a)
theorem k0_off1441_inb : ∀ (v3340 : BitVec 32) (k0_hw1441 : k0_chk1441 v3340), ∀ a, (k0_off1441 v3340) a + S1x16x128.size a ≤ S16384x16x128.size a := fun v3340 k0_hw1441 => k0_hw1441

def k0_off1442 (v3346 : BitVec 32) : Fin 3 → Nat :=
  let c0_i32_2715 : BitVec 32 := 0#32
  let c0_i32_2716 : BitVec 32 := 0#32
  ![v3346.toNat, 0, 0]

def k0_chk1442 (v3346 : BitVec 32) : Prop :=
  (∀ a, (k0_off1442 v3346) a + S1x16x128.size a ≤ S16384x16x128.size a)
theorem k0_off1442_inb : ∀ (v3346 : BitVec 32) (k0_hw1442 : k0_chk1442 v3346), ∀ a, (k0_off1442 v3346) a + S1x16x128.size a ≤ S16384x16x128.size a := fun v3346 k0_hw1442 => k0_hw1442

def k0_off1443 (v3352 : BitVec 32) : Fin 3 → Nat :=
  let c0_i32_2721 : BitVec 32 := 0#32
  let c0_i32_2722 : BitVec 32 := 0#32
  ![v3352.toNat, 0, 0]

def k0_chk1443 (v3352 : BitVec 32) : Prop :=
  (∀ a, (k0_off1443 v3352) a + S1x16x128.size a ≤ S16384x16x128.size a)
theorem k0_off1443_inb : ∀ (v3352 : BitVec 32) (k0_hw1443 : k0_chk1443 v3352), ∀ a, (k0_off1443 v3352) a + S1x16x128.size a ≤ S16384x16x128.size a := fun v3352 k0_hw1443 => k0_hw1443

def k0_off1444 (v3358 : BitVec 32) : Fin 3 → Nat :=
  let c0_i32_2727 : BitVec 32 := 0#32
  let c0_i32_2728 : BitVec 32 := 0#32
  ![v3358.toNat, 0, 0]

def k0_chk1444 (v3358 : BitVec 32) : Prop :=
  (∀ a, (k0_off1444 v3358) a + S1x16x128.size a ≤ S16384x16x128.size a)
theorem k0_off1444_inb : ∀ (v3358 : BitVec 32) (k0_hw1444 : k0_chk1444 v3358), ∀ a, (k0_off1444 v3358) a + S1x16x128.size a ≤ S16384x16x128.size a := fun v3358 k0_hw1444 => k0_hw1444

def k0_off1445 (v3364 : BitVec 32) : Fin 3 → Nat :=
  let c0_i32_2733 : BitVec 32 := 0#32
  let c0_i32_2734 : BitVec 32 := 0#32
  ![v3364.toNat, 0, 0]

def k0_chk1445 (v3364 : BitVec 32) : Prop :=
  (∀ a, (k0_off1445 v3364) a + S1x16x128.size a ≤ S16384x16x128.size a)
theorem k0_off1445_inb : ∀ (v3364 : BitVec 32) (k0_hw1445 : k0_chk1445 v3364), ∀ a, (k0_off1445 v3364) a + S1x16x128.size a ≤ S16384x16x128.size a := fun v3364 k0_hw1445 => k0_hw1445

def k0_off1446 (v3370 : BitVec 32) : Fin 3 → Nat :=
  let c0_i32_2739 : BitVec 32 := 0#32
  let c0_i32_2740 : BitVec 32 := 0#32
  ![v3370.toNat, 0, 0]

def k0_chk1446 (v3370 : BitVec 32) : Prop :=
  (∀ a, (k0_off1446 v3370) a + S1x16x128.size a ≤ S16384x16x128.size a)
theorem k0_off1446_inb : ∀ (v3370 : BitVec 32) (k0_hw1446 : k0_chk1446 v3370), ∀ a, (k0_off1446 v3370) a + S1x16x128.size a ≤ S16384x16x128.size a := fun v3370 k0_hw1446 => k0_hw1446

def k0_off1447 (v3376 : BitVec 32) : Fin 3 → Nat :=
  let c0_i32_2745 : BitVec 32 := 0#32
  let c0_i32_2746 : BitVec 32 := 0#32
  ![v3376.toNat, 0, 0]

def k0_chk1447 (v3376 : BitVec 32) : Prop :=
  (∀ a, (k0_off1447 v3376) a + S1x16x128.size a ≤ S16384x16x128.size a)
theorem k0_off1447_inb : ∀ (v3376 : BitVec 32) (k0_hw1447 : k0_chk1447 v3376), ∀ a, (k0_off1447 v3376) a + S1x16x128.size a ≤ S16384x16x128.size a := fun v3376 k0_hw1447 => k0_hw1447

def k0_off1448 (v3382 : BitVec 32) : Fin 3 → Nat :=
  let c0_i32_2751 : BitVec 32 := 0#32
  let c0_i32_2752 : BitVec 32 := 0#32
  ![v3382.toNat, 0, 0]

def k0_chk1448 (v3382 : BitVec 32) : Prop :=
  (∀ a, (k0_off1448 v3382) a + S1x16x128.size a ≤ S16384x16x128.size a)
theorem k0_off1448_inb : ∀ (v3382 : BitVec 32) (k0_hw1448 : k0_chk1448 v3382), ∀ a, (k0_off1448 v3382) a + S1x16x128.size a ≤ S16384x16x128.size a := fun v3382 k0_hw1448 => k0_hw1448

def k0_off1449 (v3388 : BitVec 32) : Fin 3 → Nat :=
  let c0_i32_2757 : BitVec 32 := 0#32
  let c0_i32_2758 : BitVec 32 := 0#32
  ![v3388.toNat, 0, 0]

def k0_chk1449 (v3388 : BitVec 32) : Prop :=
  (∀ a, (k0_off1449 v3388) a + S1x16x128.size a ≤ S16384x16x128.size a)
theorem k0_off1449_inb : ∀ (v3388 : BitVec 32) (k0_hw1449 : k0_chk1449 v3388), ∀ a, (k0_off1449 v3388) a + S1x16x128.size a ≤ S16384x16x128.size a := fun v3388 k0_hw1449 => k0_hw1449

def k0_off1450 (v3394 : BitVec 32) : Fin 3 → Nat :=
  let c0_i32_2763 : BitVec 32 := 0#32
  let c0_i32_2764 : BitVec 32 := 0#32
  ![v3394.toNat, 0, 0]

def k0_chk1450 (v3394 : BitVec 32) : Prop :=
  (∀ a, (k0_off1450 v3394) a + S1x16x128.size a ≤ S16384x16x128.size a)
theorem k0_off1450_inb : ∀ (v3394 : BitVec 32) (k0_hw1450 : k0_chk1450 v3394), ∀ a, (k0_off1450 v3394) a + S1x16x128.size a ≤ S16384x16x128.size a := fun v3394 k0_hw1450 => k0_hw1450

def k0_off1451 (v3400 : BitVec 32) : Fin 3 → Nat :=
  let c0_i32_2769 : BitVec 32 := 0#32
  let c0_i32_2770 : BitVec 32 := 0#32
  ![v3400.toNat, 0, 0]

def k0_chk1451 (v3400 : BitVec 32) : Prop :=
  (∀ a, (k0_off1451 v3400) a + S1x16x128.size a ≤ S16384x16x128.size a)
theorem k0_off1451_inb : ∀ (v3400 : BitVec 32) (k0_hw1451 : k0_chk1451 v3400), ∀ a, (k0_off1451 v3400) a + S1x16x128.size a ≤ S16384x16x128.size a := fun v3400 k0_hw1451 => k0_hw1451

def k0_off1452 (v3406 : BitVec 32) : Fin 3 → Nat :=
  let c0_i32_2775 : BitVec 32 := 0#32
  let c0_i32_2776 : BitVec 32 := 0#32
  ![v3406.toNat, 0, 0]

def k0_chk1452 (v3406 : BitVec 32) : Prop :=
  (∀ a, (k0_off1452 v3406) a + S1x16x128.size a ≤ S16384x16x128.size a)
theorem k0_off1452_inb : ∀ (v3406 : BitVec 32) (k0_hw1452 : k0_chk1452 v3406), ∀ a, (k0_off1452 v3406) a + S1x16x128.size a ≤ S16384x16x128.size a := fun v3406 k0_hw1452 => k0_hw1452

def k0_off1453 (v3412 : BitVec 32) : Fin 3 → Nat :=
  let c0_i32_2781 : BitVec 32 := 0#32
  let c0_i32_2782 : BitVec 32 := 0#32
  ![v3412.toNat, 0, 0]

def k0_chk1453 (v3412 : BitVec 32) : Prop :=
  (∀ a, (k0_off1453 v3412) a + S1x16x128.size a ≤ S16384x16x128.size a)
theorem k0_off1453_inb : ∀ (v3412 : BitVec 32) (k0_hw1453 : k0_chk1453 v3412), ∀ a, (k0_off1453 v3412) a + S1x16x128.size a ≤ S16384x16x128.size a := fun v3412 k0_hw1453 => k0_hw1453

def k0_off1454 (v3418 : BitVec 32) : Fin 3 → Nat :=
  let c0_i32_2787 : BitVec 32 := 0#32
  let c0_i32_2788 : BitVec 32 := 0#32
  ![v3418.toNat, 0, 0]

def k0_chk1454 (v3418 : BitVec 32) : Prop :=
  (∀ a, (k0_off1454 v3418) a + S1x16x128.size a ≤ S16384x16x128.size a)
theorem k0_off1454_inb : ∀ (v3418 : BitVec 32) (k0_hw1454 : k0_chk1454 v3418), ∀ a, (k0_off1454 v3418) a + S1x16x128.size a ≤ S16384x16x128.size a := fun v3418 k0_hw1454 => k0_hw1454

def k0_off1455 (v3424 : BitVec 32) : Fin 3 → Nat :=
  let c0_i32_2793 : BitVec 32 := 0#32
  let c0_i32_2794 : BitVec 32 := 0#32
  ![v3424.toNat, 0, 0]

variable {F : FTy → Type} [FloatOps F]

def k0_chk1455 (v3424 : BitVec 32) : Prop :=
  (∀ a, (k0_off1455 v3424) a + S1x16x128.size a ≤ S16384x16x128.size a)
theorem k0_off1455_inb : ∀ (v3424 : BitVec 32) (k0_hw1455 : k0_chk1455 v3424), ∀ a, (k0_off1455 v3424) a + S1x16x128.size a ≤ S16384x16x128.size a := fun v3424 k0_hw1455 => k0_hw1455

def k0_off1456 (v3430 : BitVec 32) : Fin 3 → Nat :=
  let c0_i32_2799 : BitVec 32 := 0#32
  let c0_i32_2800 : BitVec 32 := 0#32
  ![v3430.toNat, 0, 0]

def k0_chk1456 (v3430 : BitVec 32) : Prop :=
  (∀ a, (k0_off1456 v3430) a + S1x16x128.size a ≤ S16384x16x128.size a)
theorem k0_off1456_inb : ∀ (v3430 : BitVec 32) (k0_hw1456 : k0_chk1456 v3430), ∀ a, (k0_off1456 v3430) a + S1x16x128.size a ≤ S16384x16x128.size a := fun v3430 k0_hw1456 => k0_hw1456

def k0_off1457 (v3436 : BitVec 32) : Fin 3 → Nat :=
  let c0_i32_2805 : BitVec 32 := 0#32
  let c0_i32_2806 : BitVec 32 := 0#32
  ![v3436.toNat, 0, 0]

def k0_chk1457 (v3436 : BitVec 32) : Prop :=
  (∀ a, (k0_off1457 v3436) a + S1x16x128.size a ≤ S16384x16x128.size a)
theorem k0_off1457_inb : ∀ (v3436 : BitVec 32) (k0_hw1457 : k0_chk1457 v3436), ∀ a, (k0_off1457 v3436) a + S1x16x128.size a ≤ S16384x16x128.size a := fun v3436 k0_hw1457 => k0_hw1457

def k0_off1458 (v3442 : BitVec 32) : Fin 3 → Nat :=
  let c0_i32_2811 : BitVec 32 := 0#32
  let c0_i32_2812 : BitVec 32 := 0#32
  ![v3442.toNat, 0, 0]

def k0_chk1458 (v3442 : BitVec 32) : Prop :=
  (∀ a, (k0_off1458 v3442) a + S1x16x128.size a ≤ S16384x16x128.size a)
theorem k0_off1458_inb : ∀ (v3442 : BitVec 32) (k0_hw1458 : k0_chk1458 v3442), ∀ a, (k0_off1458 v3442) a + S1x16x128.size a ≤ S16384x16x128.size a := fun v3442 k0_hw1458 => k0_hw1458

def k0_off1459 (v3448 : BitVec 32) : Fin 3 → Nat :=
  let c0_i32_2817 : BitVec 32 := 0#32
  let c0_i32_2818 : BitVec 32 := 0#32
  ![v3448.toNat, 0, 0]

def k0_chk1459 (v3448 : BitVec 32) : Prop :=
  (∀ a, (k0_off1459 v3448) a + S1x16x128.size a ≤ S16384x16x128.size a)
theorem k0_off1459_inb : ∀ (v3448 : BitVec 32) (k0_hw1459 : k0_chk1459 v3448), ∀ a, (k0_off1459 v3448) a + S1x16x128.size a ≤ S16384x16x128.size a := fun v3448 k0_hw1459 => k0_hw1459

def k0_off1460 (v3454 : BitVec 32) : Fin 3 → Nat :=
  let c0_i32_2823 : BitVec 32 := 0#32
  let c0_i32_2824 : BitVec 32 := 0#32
  ![v3454.toNat, 0, 0]

def k0_chk1460 (v3454 : BitVec 32) : Prop :=
  (∀ a, (k0_off1460 v3454) a + S1x16x128.size a ≤ S16384x16x128.size a)
theorem k0_off1460_inb : ∀ (v3454 : BitVec 32) (k0_hw1460 : k0_chk1460 v3454), ∀ a, (k0_off1460 v3454) a + S1x16x128.size a ≤ S16384x16x128.size a := fun v3454 k0_hw1460 => k0_hw1460

def k0_off1461 (v3460 : BitVec 32) : Fin 3 → Nat :=
  let c0_i32_2829 : BitVec 32 := 0#32
  let c0_i32_2830 : BitVec 32 := 0#32
  ![v3460.toNat, 0, 0]

def k0_chk1461 (v3460 : BitVec 32) : Prop :=
  (∀ a, (k0_off1461 v3460) a + S1x16x128.size a ≤ S16384x16x128.size a)
theorem k0_off1461_inb : ∀ (v3460 : BitVec 32) (k0_hw1461 : k0_chk1461 v3460), ∀ a, (k0_off1461 v3460) a + S1x16x128.size a ≤ S16384x16x128.size a := fun v3460 k0_hw1461 => k0_hw1461

def k0_off1462 (v3466 : BitVec 32) : Fin 3 → Nat :=
  let c0_i32_2835 : BitVec 32 := 0#32
  let c0_i32_2836 : BitVec 32 := 0#32
  ![v3466.toNat, 0, 0]

def k0_chk1462 (v3466 : BitVec 32) : Prop :=
  (∀ a, (k0_off1462 v3466) a + S1x16x128.size a ≤ S16384x16x128.size a)
theorem k0_off1462_inb : ∀ (v3466 : BitVec 32) (k0_hw1462 : k0_chk1462 v3466), ∀ a, (k0_off1462 v3466) a + S1x16x128.size a ≤ S16384x16x128.size a := fun v3466 k0_hw1462 => k0_hw1462

def k0_off1463 (v3472 : BitVec 32) : Fin 3 → Nat :=
  let c0_i32_2841 : BitVec 32 := 0#32
  let c0_i32_2842 : BitVec 32 := 0#32
  ![v3472.toNat, 0, 0]

def k0_chk1463 (v3472 : BitVec 32) : Prop :=
  (∀ a, (k0_off1463 v3472) a + S1x16x128.size a ≤ S16384x16x128.size a)
theorem k0_off1463_inb : ∀ (v3472 : BitVec 32) (k0_hw1463 : k0_chk1463 v3472), ∀ a, (k0_off1463 v3472) a + S1x16x128.size a ≤ S16384x16x128.size a := fun v3472 k0_hw1463 => k0_hw1463

def k0_off1464 (v3478 : BitVec 32) : Fin 3 → Nat :=
  let c0_i32_2847 : BitVec 32 := 0#32
  let c0_i32_2848 : BitVec 32 := 0#32
  ![v3478.toNat, 0, 0]

def k0_chk1464 (v3478 : BitVec 32) : Prop :=
  (∀ a, (k0_off1464 v3478) a + S1x16x128.size a ≤ S16384x16x128.size a)
theorem k0_off1464_inb : ∀ (v3478 : BitVec 32) (k0_hw1464 : k0_chk1464 v3478), ∀ a, (k0_off1464 v3478) a + S1x16x128.size a ≤ S16384x16x128.size a := fun v3478 k0_hw1464 => k0_hw1464

def k0_off1465 (v3484 : BitVec 32) : Fin 3 → Nat :=
  let c0_i32_2853 : BitVec 32 := 0#32
  let c0_i32_2854 : BitVec 32 := 0#32
  ![v3484.toNat, 0, 0]

def k0_chk1465 (v3484 : BitVec 32) : Prop :=
  (∀ a, (k0_off1465 v3484) a + S1x16x128.size a ≤ S16384x16x128.size a)
theorem k0_off1465_inb : ∀ (v3484 : BitVec 32) (k0_hw1465 : k0_chk1465 v3484), ∀ a, (k0_off1465 v3484) a + S1x16x128.size a ≤ S16384x16x128.size a := fun v3484 k0_hw1465 => k0_hw1465

def k0_off1466 (v3490 : BitVec 32) : Fin 3 → Nat :=
  let c0_i32_2859 : BitVec 32 := 0#32
  let c0_i32_2860 : BitVec 32 := 0#32
  ![v3490.toNat, 0, 0]

def k0_chk1466 (v3490 : BitVec 32) : Prop :=
  (∀ a, (k0_off1466 v3490) a + S1x16x128.size a ≤ S16384x16x128.size a)
theorem k0_off1466_inb : ∀ (v3490 : BitVec 32) (k0_hw1466 : k0_chk1466 v3490), ∀ a, (k0_off1466 v3490) a + S1x16x128.size a ≤ S16384x16x128.size a := fun v3490 k0_hw1466 => k0_hw1466

def k0_off1467 (v3496 : BitVec 32) : Fin 3 → Nat :=
  let c0_i32_2865 : BitVec 32 := 0#32
  let c0_i32_2866 : BitVec 32 := 0#32
  ![v3496.toNat, 0, 0]

def k0_chk1467 (v3496 : BitVec 32) : Prop :=
  (∀ a, (k0_off1467 v3496) a + S1x16x128.size a ≤ S16384x16x128.size a)
theorem k0_off1467_inb : ∀ (v3496 : BitVec 32) (k0_hw1467 : k0_chk1467 v3496), ∀ a, (k0_off1467 v3496) a + S1x16x128.size a ≤ S16384x16x128.size a := fun v3496 k0_hw1467 => k0_hw1467

def k0_off1468 (v3502 : BitVec 32) : Fin 3 → Nat :=
  let c0_i32_2871 : BitVec 32 := 0#32
  let c0_i32_2872 : BitVec 32 := 0#32
  ![v3502.toNat, 0, 0]

def k0_chk1468 (v3502 : BitVec 32) : Prop :=
  (∀ a, (k0_off1468 v3502) a + S1x16x128.size a ≤ S16384x16x128.size a)
theorem k0_off1468_inb : ∀ (v3502 : BitVec 32) (k0_hw1468 : k0_chk1468 v3502), ∀ a, (k0_off1468 v3502) a + S1x16x128.size a ≤ S16384x16x128.size a := fun v3502 k0_hw1468 => k0_hw1468

def k0_off1469 (v3508 : BitVec 32) : Fin 3 → Nat :=
  let c0_i32_2877 : BitVec 32 := 0#32
  let c0_i32_2878 : BitVec 32 := 0#32
  ![v3508.toNat, 0, 0]

def k0_chk1469 (v3508 : BitVec 32) : Prop :=
  (∀ a, (k0_off1469 v3508) a + S1x16x128.size a ≤ S16384x16x128.size a)
theorem k0_off1469_inb : ∀ (v3508 : BitVec 32) (k0_hw1469 : k0_chk1469 v3508), ∀ a, (k0_off1469 v3508) a + S1x16x128.size a ≤ S16384x16x128.size a := fun v3508 k0_hw1469 => k0_hw1469

def k0_off1470 (v3514 : BitVec 32) : Fin 3 → Nat :=
  let c0_i32_2883 : BitVec 32 := 0#32
  let c0_i32_2884 : BitVec 32 := 0#32
  ![v3514.toNat, 0, 0]

def k0_chk1470 (v3514 : BitVec 32) : Prop :=
  (∀ a, (k0_off1470 v3514) a + S1x16x128.size a ≤ S16384x16x128.size a)
theorem k0_off1470_inb : ∀ (v3514 : BitVec 32) (k0_hw1470 : k0_chk1470 v3514), ∀ a, (k0_off1470 v3514) a + S1x16x128.size a ≤ S16384x16x128.size a := fun v3514 k0_hw1470 => k0_hw1470

def k0_off1471 (v3520 : BitVec 32) : Fin 3 → Nat :=
  let c0_i32_2889 : BitVec 32 := 0#32
  let c0_i32_2890 : BitVec 32 := 0#32
  ![v3520.toNat, 0, 0]

def k0_chk1471 (v3520 : BitVec 32) : Prop :=
  (∀ a, (k0_off1471 v3520) a + S1x16x128.size a ≤ S16384x16x128.size a)
theorem k0_off1471_inb : ∀ (v3520 : BitVec 32) (k0_hw1471 : k0_chk1471 v3520), ∀ a, (k0_off1471 v3520) a + S1x16x128.size a ≤ S16384x16x128.size a := fun v3520 k0_hw1471 => k0_hw1471

def k0_off1472 (v3526 : BitVec 32) : Fin 3 → Nat :=
  let c0_i32_2895 : BitVec 32 := 0#32
  let c0_i32_2896 : BitVec 32 := 0#32
  ![v3526.toNat, 0, 0]

def k0_chk1472 (v3526 : BitVec 32) : Prop :=
  (∀ a, (k0_off1472 v3526) a + S1x16x128.size a ≤ S16384x16x128.size a)
theorem k0_off1472_inb : ∀ (v3526 : BitVec 32) (k0_hw1472 : k0_chk1472 v3526), ∀ a, (k0_off1472 v3526) a + S1x16x128.size a ≤ S16384x16x128.size a := fun v3526 k0_hw1472 => k0_hw1472

def k0_off1473 (v3532 : BitVec 32) : Fin 3 → Nat :=
  let c0_i32_2901 : BitVec 32 := 0#32
  let c0_i32_2902 : BitVec 32 := 0#32
  ![v3532.toNat, 0, 0]

def k0_chk1473 (v3532 : BitVec 32) : Prop :=
  (∀ a, (k0_off1473 v3532) a + S1x16x128.size a ≤ S16384x16x128.size a)
theorem k0_off1473_inb : ∀ (v3532 : BitVec 32) (k0_hw1473 : k0_chk1473 v3532), ∀ a, (k0_off1473 v3532) a + S1x16x128.size a ≤ S16384x16x128.size a := fun v3532 k0_hw1473 => k0_hw1473

def k0_off1474 (v3538 : BitVec 32) : Fin 3 → Nat :=
  let c0_i32_2907 : BitVec 32 := 0#32
  let c0_i32_2908 : BitVec 32 := 0#32
  ![v3538.toNat, 0, 0]

def k0_chk1474 (v3538 : BitVec 32) : Prop :=
  (∀ a, (k0_off1474 v3538) a + S1x16x128.size a ≤ S16384x16x128.size a)
theorem k0_off1474_inb : ∀ (v3538 : BitVec 32) (k0_hw1474 : k0_chk1474 v3538), ∀ a, (k0_off1474 v3538) a + S1x16x128.size a ≤ S16384x16x128.size a := fun v3538 k0_hw1474 => k0_hw1474

def k0_off1475 (v3544 : BitVec 32) : Fin 3 → Nat :=
  let c0_i32_2913 : BitVec 32 := 0#32
  let c0_i32_2914 : BitVec 32 := 0#32
  ![v3544.toNat, 0, 0]

def k0_chk1475 (v3544 : BitVec 32) : Prop :=
  (∀ a, (k0_off1475 v3544) a + S1x16x128.size a ≤ S16384x16x128.size a)
theorem k0_off1475_inb : ∀ (v3544 : BitVec 32) (k0_hw1475 : k0_chk1475 v3544), ∀ a, (k0_off1475 v3544) a + S1x16x128.size a ≤ S16384x16x128.size a := fun v3544 k0_hw1475 => k0_hw1475

def k0_off1476 (v3550 : BitVec 32) : Fin 3 → Nat :=
  let c0_i32_2919 : BitVec 32 := 0#32
  let c0_i32_2920 : BitVec 32 := 0#32
  ![v3550.toNat, 0, 0]

def k0_chk1476 (v3550 : BitVec 32) : Prop :=
  (∀ a, (k0_off1476 v3550) a + S1x16x128.size a ≤ S16384x16x128.size a)
theorem k0_off1476_inb : ∀ (v3550 : BitVec 32) (k0_hw1476 : k0_chk1476 v3550), ∀ a, (k0_off1476 v3550) a + S1x16x128.size a ≤ S16384x16x128.size a := fun v3550 k0_hw1476 => k0_hw1476

def k0_off1477 (v3556 : BitVec 32) : Fin 3 → Nat :=
  let c0_i32_2925 : BitVec 32 := 0#32
  let c0_i32_2926 : BitVec 32 := 0#32
  ![v3556.toNat, 0, 0]

def k0_chk1477 (v3556 : BitVec 32) : Prop :=
  (∀ a, (k0_off1477 v3556) a + S1x16x128.size a ≤ S16384x16x128.size a)
theorem k0_off1477_inb : ∀ (v3556 : BitVec 32) (k0_hw1477 : k0_chk1477 v3556), ∀ a, (k0_off1477 v3556) a + S1x16x128.size a ≤ S16384x16x128.size a := fun v3556 k0_hw1477 => k0_hw1477

def k0_off1478 (v3562 : BitVec 32) : Fin 3 → Nat :=
  let c0_i32_2931 : BitVec 32 := 0#32
  let c0_i32_2932 : BitVec 32 := 0#32
  ![v3562.toNat, 0, 0]

def k0_chk1478 (v3562 : BitVec 32) : Prop :=
  (∀ a, (k0_off1478 v3562) a + S1x16x128.size a ≤ S16384x16x128.size a)
theorem k0_off1478_inb : ∀ (v3562 : BitVec 32) (k0_hw1478 : k0_chk1478 v3562), ∀ a, (k0_off1478 v3562) a + S1x16x128.size a ≤ S16384x16x128.size a := fun v3562 k0_hw1478 => k0_hw1478

def k0_off1479 (v3568 : BitVec 32) : Fin 3 → Nat :=
  let c0_i32_2937 : BitVec 32 := 0#32
  let c0_i32_2938 : BitVec 32 := 0#32
  ![v3568.toNat, 0, 0]

def k0_chk1479 (v3568 : BitVec 32) : Prop :=
  (∀ a, (k0_off1479 v3568) a + S1x16x128.size a ≤ S16384x16x128.size a)
theorem k0_off1479_inb : ∀ (v3568 : BitVec 32) (k0_hw1479 : k0_chk1479 v3568), ∀ a, (k0_off1479 v3568) a + S1x16x128.size a ≤ S16384x16x128.size a := fun v3568 k0_hw1479 => k0_hw1479

def k0_off1480 (v3574 : BitVec 32) : Fin 3 → Nat :=
  let c0_i32_2943 : BitVec 32 := 0#32
  let c0_i32_2944 : BitVec 32 := 0#32
  ![v3574.toNat, 0, 0]

def k0_chk1480 (v3574 : BitVec 32) : Prop :=
  (∀ a, (k0_off1480 v3574) a + S1x16x128.size a ≤ S16384x16x128.size a)
theorem k0_off1480_inb : ∀ (v3574 : BitVec 32) (k0_hw1480 : k0_chk1480 v3574), ∀ a, (k0_off1480 v3574) a + S1x16x128.size a ≤ S16384x16x128.size a := fun v3574 k0_hw1480 => k0_hw1480

def k0_off1481 (v3580 : BitVec 32) : Fin 3 → Nat :=
  let c0_i32_2949 : BitVec 32 := 0#32
  let c0_i32_2950 : BitVec 32 := 0#32
  ![v3580.toNat, 0, 0]

def k0_chk1481 (v3580 : BitVec 32) : Prop :=
  (∀ a, (k0_off1481 v3580) a + S1x16x128.size a ≤ S16384x16x128.size a)
theorem k0_off1481_inb : ∀ (v3580 : BitVec 32) (k0_hw1481 : k0_chk1481 v3580), ∀ a, (k0_off1481 v3580) a + S1x16x128.size a ≤ S16384x16x128.size a := fun v3580 k0_hw1481 => k0_hw1481

def k0_off1482 (v3586 : BitVec 32) : Fin 3 → Nat :=
  let c0_i32_2955 : BitVec 32 := 0#32
  let c0_i32_2956 : BitVec 32 := 0#32
  ![v3586.toNat, 0, 0]

def k0_chk1482 (v3586 : BitVec 32) : Prop :=
  (∀ a, (k0_off1482 v3586) a + S1x16x128.size a ≤ S16384x16x128.size a)
theorem k0_off1482_inb : ∀ (v3586 : BitVec 32) (k0_hw1482 : k0_chk1482 v3586), ∀ a, (k0_off1482 v3586) a + S1x16x128.size a ≤ S16384x16x128.size a := fun v3586 k0_hw1482 => k0_hw1482

def k0_off1483 (v3592 : BitVec 32) : Fin 3 → Nat :=
  let c0_i32_2961 : BitVec 32 := 0#32
  let c0_i32_2962 : BitVec 32 := 0#32
  ![v3592.toNat, 0, 0]

def k0_chk1483 (v3592 : BitVec 32) : Prop :=
  (∀ a, (k0_off1483 v3592) a + S1x16x128.size a ≤ S16384x16x128.size a)
theorem k0_off1483_inb : ∀ (v3592 : BitVec 32) (k0_hw1483 : k0_chk1483 v3592), ∀ a, (k0_off1483 v3592) a + S1x16x128.size a ≤ S16384x16x128.size a := fun v3592 k0_hw1483 => k0_hw1483

def k0_off1484 (v3598 : BitVec 32) : Fin 3 → Nat :=
  let c0_i32_2967 : BitVec 32 := 0#32
  let c0_i32_2968 : BitVec 32 := 0#32
  ![v3598.toNat, 0, 0]

def k0_chk1484 (v3598 : BitVec 32) : Prop :=
  (∀ a, (k0_off1484 v3598) a + S1x16x128.size a ≤ S16384x16x128.size a)
theorem k0_off1484_inb : ∀ (v3598 : BitVec 32) (k0_hw1484 : k0_chk1484 v3598), ∀ a, (k0_off1484 v3598) a + S1x16x128.size a ≤ S16384x16x128.size a := fun v3598 k0_hw1484 => k0_hw1484

def k0_off1485 (v3604 : BitVec 32) : Fin 3 → Nat :=
  let c0_i32_2973 : BitVec 32 := 0#32
  let c0_i32_2974 : BitVec 32 := 0#32
  ![v3604.toNat, 0, 0]

def k0_chk1485 (v3604 : BitVec 32) : Prop :=
  (∀ a, (k0_off1485 v3604) a + S1x16x128.size a ≤ S16384x16x128.size a)
theorem k0_off1485_inb : ∀ (v3604 : BitVec 32) (k0_hw1485 : k0_chk1485 v3604), ∀ a, (k0_off1485 v3604) a + S1x16x128.size a ≤ S16384x16x128.size a := fun v3604 k0_hw1485 => k0_hw1485

def k0_off1486 (v3610 : BitVec 32) : Fin 3 → Nat :=
  let c0_i32_2979 : BitVec 32 := 0#32
  let c0_i32_2980 : BitVec 32 := 0#32
  ![v3610.toNat, 0, 0]

def k0_chk1486 (v3610 : BitVec 32) : Prop :=
  (∀ a, (k0_off1486 v3610) a + S1x16x128.size a ≤ S16384x16x128.size a)
theorem k0_off1486_inb : ∀ (v3610 : BitVec 32) (k0_hw1486 : k0_chk1486 v3610), ∀ a, (k0_off1486 v3610) a + S1x16x128.size a ≤ S16384x16x128.size a := fun v3610 k0_hw1486 => k0_hw1486

def k0_off1487 (v3616 : BitVec 32) : Fin 3 → Nat :=
  let c0_i32_2985 : BitVec 32 := 0#32
  let c0_i32_2986 : BitVec 32 := 0#32
  ![v3616.toNat, 0, 0]

def k0_chk1487 (v3616 : BitVec 32) : Prop :=
  (∀ a, (k0_off1487 v3616) a + S1x16x128.size a ≤ S16384x16x128.size a)
theorem k0_off1487_inb : ∀ (v3616 : BitVec 32) (k0_hw1487 : k0_chk1487 v3616), ∀ a, (k0_off1487 v3616) a + S1x16x128.size a ≤ S16384x16x128.size a := fun v3616 k0_hw1487 => k0_hw1487

def k0_off1488 (v3622 : BitVec 32) : Fin 3 → Nat :=
  let c0_i32_2991 : BitVec 32 := 0#32
  let c0_i32_2992 : BitVec 32 := 0#32
  ![v3622.toNat, 0, 0]

def k0_chk1488 (v3622 : BitVec 32) : Prop :=
  (∀ a, (k0_off1488 v3622) a + S1x16x128.size a ≤ S16384x16x128.size a)
theorem k0_off1488_inb : ∀ (v3622 : BitVec 32) (k0_hw1488 : k0_chk1488 v3622), ∀ a, (k0_off1488 v3622) a + S1x16x128.size a ≤ S16384x16x128.size a := fun v3622 k0_hw1488 => k0_hw1488

def k0_off1489 (v3628 : BitVec 32) : Fin 3 → Nat :=
  let c0_i32_2997 : BitVec 32 := 0#32
  let c0_i32_2998 : BitVec 32 := 0#32
  ![v3628.toNat, 0, 0]

def k0_chk1489 (v3628 : BitVec 32) : Prop :=
  (∀ a, (k0_off1489 v3628) a + S1x16x128.size a ≤ S16384x16x128.size a)
theorem k0_off1489_inb : ∀ (v3628 : BitVec 32) (k0_hw1489 : k0_chk1489 v3628), ∀ a, (k0_off1489 v3628) a + S1x16x128.size a ≤ S16384x16x128.size a := fun v3628 k0_hw1489 => k0_hw1489

def k0_off1490 (v3634 : BitVec 32) : Fin 3 → Nat :=
  let c0_i32_3003 : BitVec 32 := 0#32
  let c0_i32_3004 : BitVec 32 := 0#32
  ![v3634.toNat, 0, 0]

def k0_chk1490 (v3634 : BitVec 32) : Prop :=
  (∀ a, (k0_off1490 v3634) a + S1x16x128.size a ≤ S16384x16x128.size a)
theorem k0_off1490_inb : ∀ (v3634 : BitVec 32) (k0_hw1490 : k0_chk1490 v3634), ∀ a, (k0_off1490 v3634) a + S1x16x128.size a ≤ S16384x16x128.size a := fun v3634 k0_hw1490 => k0_hw1490

def k0_off1491 (v3640 : BitVec 32) : Fin 3 → Nat :=
  let c0_i32_3009 : BitVec 32 := 0#32
  let c0_i32_3010 : BitVec 32 := 0#32
  ![v3640.toNat, 0, 0]

def k0_chk1491 (v3640 : BitVec 32) : Prop :=
  (∀ a, (k0_off1491 v3640) a + S1x16x128.size a ≤ S16384x16x128.size a)
theorem k0_off1491_inb : ∀ (v3640 : BitVec 32) (k0_hw1491 : k0_chk1491 v3640), ∀ a, (k0_off1491 v3640) a + S1x16x128.size a ≤ S16384x16x128.size a := fun v3640 k0_hw1491 => k0_hw1491

def k0_off1492 (v3646 : BitVec 32) : Fin 3 → Nat :=
  let c0_i32_3015 : BitVec 32 := 0#32
  let c0_i32_3016 : BitVec 32 := 0#32
  ![v3646.toNat, 0, 0]

def k0_chk1492 (v3646 : BitVec 32) : Prop :=
  (∀ a, (k0_off1492 v3646) a + S1x16x128.size a ≤ S16384x16x128.size a)
theorem k0_off1492_inb : ∀ (v3646 : BitVec 32) (k0_hw1492 : k0_chk1492 v3646), ∀ a, (k0_off1492 v3646) a + S1x16x128.size a ≤ S16384x16x128.size a := fun v3646 k0_hw1492 => k0_hw1492

def k0_off1493 (v3652 : BitVec 32) : Fin 3 → Nat :=
  let c0_i32_3021 : BitVec 32 := 0#32
  let c0_i32_3022 : BitVec 32 := 0#32
  ![v3652.toNat, 0, 0]

def k0_chk1493 (v3652 : BitVec 32) : Prop :=
  (∀ a, (k0_off1493 v3652) a + S1x16x128.size a ≤ S16384x16x128.size a)
theorem k0_off1493_inb : ∀ (v3652 : BitVec 32) (k0_hw1493 : k0_chk1493 v3652), ∀ a, (k0_off1493 v3652) a + S1x16x128.size a ≤ S16384x16x128.size a := fun v3652 k0_hw1493 => k0_hw1493

def k0_off1494 (v3658 : BitVec 32) : Fin 3 → Nat :=
  let c0_i32_3027 : BitVec 32 := 0#32
  let c0_i32_3028 : BitVec 32 := 0#32
  ![v3658.toNat, 0, 0]

def k0_chk1494 (v3658 : BitVec 32) : Prop :=
  (∀ a, (k0_off1494 v3658) a + S1x16x128.size a ≤ S16384x16x128.size a)
theorem k0_off1494_inb : ∀ (v3658 : BitVec 32) (k0_hw1494 : k0_chk1494 v3658), ∀ a, (k0_off1494 v3658) a + S1x16x128.size a ≤ S16384x16x128.size a := fun v3658 k0_hw1494 => k0_hw1494

def k0_off1495 (v3664 : BitVec 32) : Fin 3 → Nat :=
  let c0_i32_3033 : BitVec 32 := 0#32
  let c0_i32_3034 : BitVec 32 := 0#32
  ![v3664.toNat, 0, 0]

def k0_chk1495 (v3664 : BitVec 32) : Prop :=
  (∀ a, (k0_off1495 v3664) a + S1x16x128.size a ≤ S16384x16x128.size a)
theorem k0_off1495_inb : ∀ (v3664 : BitVec 32) (k0_hw1495 : k0_chk1495 v3664), ∀ a, (k0_off1495 v3664) a + S1x16x128.size a ≤ S16384x16x128.size a := fun v3664 k0_hw1495 => k0_hw1495

def k0_off1496 (v3670 : BitVec 32) : Fin 3 → Nat :=
  let c0_i32_3039 : BitVec 32 := 0#32
  let c0_i32_3040 : BitVec 32 := 0#32
  ![v3670.toNat, 0, 0]

def k0_chk1496 (v3670 : BitVec 32) : Prop :=
  (∀ a, (k0_off1496 v3670) a + S1x16x128.size a ≤ S16384x16x128.size a)
theorem k0_off1496_inb : ∀ (v3670 : BitVec 32) (k0_hw1496 : k0_chk1496 v3670), ∀ a, (k0_off1496 v3670) a + S1x16x128.size a ≤ S16384x16x128.size a := fun v3670 k0_hw1496 => k0_hw1496

def k0_off1497 (v3676 : BitVec 32) : Fin 3 → Nat :=
  let c0_i32_3045 : BitVec 32 := 0#32
  let c0_i32_3046 : BitVec 32 := 0#32
  ![v3676.toNat, 0, 0]

def k0_chk1497 (v3676 : BitVec 32) : Prop :=
  (∀ a, (k0_off1497 v3676) a + S1x16x128.size a ≤ S16384x16x128.size a)
theorem k0_off1497_inb : ∀ (v3676 : BitVec 32) (k0_hw1497 : k0_chk1497 v3676), ∀ a, (k0_off1497 v3676) a + S1x16x128.size a ≤ S16384x16x128.size a := fun v3676 k0_hw1497 => k0_hw1497

def k0_off1498 (v3682 : BitVec 32) : Fin 3 → Nat :=
  let c0_i32_3051 : BitVec 32 := 0#32
  let c0_i32_3052 : BitVec 32 := 0#32
  ![v3682.toNat, 0, 0]

def k0_chk1498 (v3682 : BitVec 32) : Prop :=
  (∀ a, (k0_off1498 v3682) a + S1x16x128.size a ≤ S16384x16x128.size a)
theorem k0_off1498_inb : ∀ (v3682 : BitVec 32) (k0_hw1498 : k0_chk1498 v3682), ∀ a, (k0_off1498 v3682) a + S1x16x128.size a ≤ S16384x16x128.size a := fun v3682 k0_hw1498 => k0_hw1498

def k0_off1499 (v3688 : BitVec 32) : Fin 3 → Nat :=
  let c0_i32_3057 : BitVec 32 := 0#32
  let c0_i32_3058 : BitVec 32 := 0#32
  ![v3688.toNat, 0, 0]

def k0_chk1499 (v3688 : BitVec 32) : Prop :=
  (∀ a, (k0_off1499 v3688) a + S1x16x128.size a ≤ S16384x16x128.size a)
theorem k0_off1499_inb : ∀ (v3688 : BitVec 32) (k0_hw1499 : k0_chk1499 v3688), ∀ a, (k0_off1499 v3688) a + S1x16x128.size a ≤ S16384x16x128.size a := fun v3688 k0_hw1499 => k0_hw1499

def k0_off1500 (v3694 : BitVec 32) : Fin 3 → Nat :=
  let c0_i32_3063 : BitVec 32 := 0#32
  let c0_i32_3064 : BitVec 32 := 0#32
  ![v3694.toNat, 0, 0]

def k0_chk1500 (v3694 : BitVec 32) : Prop :=
  (∀ a, (k0_off1500 v3694) a + S1x16x128.size a ≤ S16384x16x128.size a)
theorem k0_off1500_inb : ∀ (v3694 : BitVec 32) (k0_hw1500 : k0_chk1500 v3694), ∀ a, (k0_off1500 v3694) a + S1x16x128.size a ≤ S16384x16x128.size a := fun v3694 k0_hw1500 => k0_hw1500

def k0_off1501 (v3700 : BitVec 32) : Fin 3 → Nat :=
  let c0_i32_3069 : BitVec 32 := 0#32
  let c0_i32_3070 : BitVec 32 := 0#32
  ![v3700.toNat, 0, 0]

def k0_chk1501 (v3700 : BitVec 32) : Prop :=
  (∀ a, (k0_off1501 v3700) a + S1x16x128.size a ≤ S16384x16x128.size a)
theorem k0_off1501_inb : ∀ (v3700 : BitVec 32) (k0_hw1501 : k0_chk1501 v3700), ∀ a, (k0_off1501 v3700) a + S1x16x128.size a ≤ S16384x16x128.size a := fun v3700 k0_hw1501 => k0_hw1501

def k0_off1502 (v3706 : BitVec 32) : Fin 3 → Nat :=
  let c0_i32_3075 : BitVec 32 := 0#32
  let c0_i32_3076 : BitVec 32 := 0#32
  ![v3706.toNat, 0, 0]

def k0_chk1502 (v3706 : BitVec 32) : Prop :=
  (∀ a, (k0_off1502 v3706) a + S1x16x128.size a ≤ S16384x16x128.size a)
theorem k0_off1502_inb : ∀ (v3706 : BitVec 32) (k0_hw1502 : k0_chk1502 v3706), ∀ a, (k0_off1502 v3706) a + S1x16x128.size a ≤ S16384x16x128.size a := fun v3706 k0_hw1502 => k0_hw1502

def k0_off1503 (v3712 : BitVec 32) : Fin 3 → Nat :=
  let c0_i32_3081 : BitVec 32 := 0#32
  let c0_i32_3082 : BitVec 32 := 0#32
  ![v3712.toNat, 0, 0]

def k0_chk1503 (v3712 : BitVec 32) : Prop :=
  (∀ a, (k0_off1503 v3712) a + S1x16x128.size a ≤ S16384x16x128.size a)
theorem k0_off1503_inb : ∀ (v3712 : BitVec 32) (k0_hw1503 : k0_chk1503 v3712), ∀ a, (k0_off1503 v3712) a + S1x16x128.size a ≤ S16384x16x128.size a := fun v3712 k0_hw1503 => k0_hw1503

def k0_off1504 (v3718 : BitVec 32) : Fin 3 → Nat :=
  let c0_i32_3087 : BitVec 32 := 0#32
  let c0_i32_3088 : BitVec 32 := 0#32
  ![v3718.toNat, 0, 0]

def k0_chk1504 (v3718 : BitVec 32) : Prop :=
  (∀ a, (k0_off1504 v3718) a + S1x16x128.size a ≤ S16384x16x128.size a)
theorem k0_off1504_inb : ∀ (v3718 : BitVec 32) (k0_hw1504 : k0_chk1504 v3718), ∀ a, (k0_off1504 v3718) a + S1x16x128.size a ≤ S16384x16x128.size a := fun v3718 k0_hw1504 => k0_hw1504

def k0_off1505 (v3724 : BitVec 32) : Fin 3 → Nat :=
  let c0_i32_3093 : BitVec 32 := 0#32
  let c0_i32_3094 : BitVec 32 := 0#32
  ![v3724.toNat, 0, 0]

def k0_chk1505 (v3724 : BitVec 32) : Prop :=
  (∀ a, (k0_off1505 v3724) a + S1x16x128.size a ≤ S16384x16x128.size a)
theorem k0_off1505_inb : ∀ (v3724 : BitVec 32) (k0_hw1505 : k0_chk1505 v3724), ∀ a, (k0_off1505 v3724) a + S1x16x128.size a ≤ S16384x16x128.size a := fun v3724 k0_hw1505 => k0_hw1505

def k0_off1506 (v3730 : BitVec 32) : Fin 3 → Nat :=
  let c0_i32_3099 : BitVec 32 := 0#32
  let c0_i32_3100 : BitVec 32 := 0#32
  ![v3730.toNat, 0, 0]

def k0_chk1506 (v3730 : BitVec 32) : Prop :=
  (∀ a, (k0_off1506 v3730) a + S1x16x128.size a ≤ S16384x16x128.size a)
theorem k0_off1506_inb : ∀ (v3730 : BitVec 32) (k0_hw1506 : k0_chk1506 v3730), ∀ a, (k0_off1506 v3730) a + S1x16x128.size a ≤ S16384x16x128.size a := fun v3730 k0_hw1506 => k0_hw1506

def k0_off1507 (v3736 : BitVec 32) : Fin 3 → Nat :=
  let c0_i32_3105 : BitVec 32 := 0#32
  let c0_i32_3106 : BitVec 32 := 0#32
  ![v3736.toNat, 0, 0]

def k0_chk1507 (v3736 : BitVec 32) : Prop :=
  (∀ a, (k0_off1507 v3736) a + S1x16x128.size a ≤ S16384x16x128.size a)
theorem k0_off1507_inb : ∀ (v3736 : BitVec 32) (k0_hw1507 : k0_chk1507 v3736), ∀ a, (k0_off1507 v3736) a + S1x16x128.size a ≤ S16384x16x128.size a := fun v3736 k0_hw1507 => k0_hw1507

def k0_off1508 (v3742 : BitVec 32) : Fin 3 → Nat :=
  let c0_i32_3111 : BitVec 32 := 0#32
  let c0_i32_3112 : BitVec 32 := 0#32
  ![v3742.toNat, 0, 0]

def k0_chk1508 (v3742 : BitVec 32) : Prop :=
  (∀ a, (k0_off1508 v3742) a + S1x16x128.size a ≤ S16384x16x128.size a)
theorem k0_off1508_inb : ∀ (v3742 : BitVec 32) (k0_hw1508 : k0_chk1508 v3742), ∀ a, (k0_off1508 v3742) a + S1x16x128.size a ≤ S16384x16x128.size a := fun v3742 k0_hw1508 => k0_hw1508

def k0_off1509 (v3748 : BitVec 32) : Fin 3 → Nat :=
  let c0_i32_3117 : BitVec 32 := 0#32
  let c0_i32_3118 : BitVec 32 := 0#32
  ![v3748.toNat, 0, 0]

def k0_chk1509 (v3748 : BitVec 32) : Prop :=
  (∀ a, (k0_off1509 v3748) a + S1x16x128.size a ≤ S16384x16x128.size a)
theorem k0_off1509_inb : ∀ (v3748 : BitVec 32) (k0_hw1509 : k0_chk1509 v3748), ∀ a, (k0_off1509 v3748) a + S1x16x128.size a ≤ S16384x16x128.size a := fun v3748 k0_hw1509 => k0_hw1509

def k0_off1510 (v3754 : BitVec 32) : Fin 3 → Nat :=
  let c0_i32_3123 : BitVec 32 := 0#32
  let c0_i32_3124 : BitVec 32 := 0#32
  ![v3754.toNat, 0, 0]

def k0_chk1510 (v3754 : BitVec 32) : Prop :=
  (∀ a, (k0_off1510 v3754) a + S1x16x128.size a ≤ S16384x16x128.size a)
theorem k0_off1510_inb : ∀ (v3754 : BitVec 32) (k0_hw1510 : k0_chk1510 v3754), ∀ a, (k0_off1510 v3754) a + S1x16x128.size a ≤ S16384x16x128.size a := fun v3754 k0_hw1510 => k0_hw1510

def k0_off1511 (v3760 : BitVec 32) : Fin 3 → Nat :=
  let c0_i32_3129 : BitVec 32 := 0#32
  let c0_i32_3130 : BitVec 32 := 0#32
  ![v3760.toNat, 0, 0]

def k0_chk1511 (v3760 : BitVec 32) : Prop :=
  (∀ a, (k0_off1511 v3760) a + S1x16x128.size a ≤ S16384x16x128.size a)
theorem k0_off1511_inb : ∀ (v3760 : BitVec 32) (k0_hw1511 : k0_chk1511 v3760), ∀ a, (k0_off1511 v3760) a + S1x16x128.size a ≤ S16384x16x128.size a := fun v3760 k0_hw1511 => k0_hw1511

def k0_off1512 (v3766 : BitVec 32) : Fin 3 → Nat :=
  let c0_i32_3135 : BitVec 32 := 0#32
  let c0_i32_3136 : BitVec 32 := 0#32
  ![v3766.toNat, 0, 0]

def k0_chk1512 (v3766 : BitVec 32) : Prop :=
  (∀ a, (k0_off1512 v3766) a + S1x16x128.size a ≤ S16384x16x128.size a)
theorem k0_off1512_inb : ∀ (v3766 : BitVec 32) (k0_hw1512 : k0_chk1512 v3766), ∀ a, (k0_off1512 v3766) a + S1x16x128.size a ≤ S16384x16x128.size a := fun v3766 k0_hw1512 => k0_hw1512

def k0_off1513 (v3772 : BitVec 32) : Fin 3 → Nat :=
  let c0_i32_3141 : BitVec 32 := 0#32
  let c0_i32_3142 : BitVec 32 := 0#32
  ![v3772.toNat, 0, 0]

def k0_chk1513 (v3772 : BitVec 32) : Prop :=
  (∀ a, (k0_off1513 v3772) a + S1x16x128.size a ≤ S16384x16x128.size a)
theorem k0_off1513_inb : ∀ (v3772 : BitVec 32) (k0_hw1513 : k0_chk1513 v3772), ∀ a, (k0_off1513 v3772) a + S1x16x128.size a ≤ S16384x16x128.size a := fun v3772 k0_hw1513 => k0_hw1513

def k0_off1514 (v3778 : BitVec 32) : Fin 3 → Nat :=
  let c0_i32_3147 : BitVec 32 := 0#32
  let c0_i32_3148 : BitVec 32 := 0#32
  ![v3778.toNat, 0, 0]

def k0_chk1514 (v3778 : BitVec 32) : Prop :=
  (∀ a, (k0_off1514 v3778) a + S1x16x128.size a ≤ S16384x16x128.size a)
theorem k0_off1514_inb : ∀ (v3778 : BitVec 32) (k0_hw1514 : k0_chk1514 v3778), ∀ a, (k0_off1514 v3778) a + S1x16x128.size a ≤ S16384x16x128.size a := fun v3778 k0_hw1514 => k0_hw1514

def k0_off1515 (v3784 : BitVec 32) : Fin 3 → Nat :=
  let c0_i32_3153 : BitVec 32 := 0#32
  let c0_i32_3154 : BitVec 32 := 0#32
  ![v3784.toNat, 0, 0]

def k0_chk1515 (v3784 : BitVec 32) : Prop :=
  (∀ a, (k0_off1515 v3784) a + S1x16x128.size a ≤ S16384x16x128.size a)
theorem k0_off1515_inb : ∀ (v3784 : BitVec 32) (k0_hw1515 : k0_chk1515 v3784), ∀ a, (k0_off1515 v3784) a + S1x16x128.size a ≤ S16384x16x128.size a := fun v3784 k0_hw1515 => k0_hw1515

def k0_off1516 (v3790 : BitVec 32) : Fin 3 → Nat :=
  let c0_i32_3159 : BitVec 32 := 0#32
  let c0_i32_3160 : BitVec 32 := 0#32
  ![v3790.toNat, 0, 0]

def k0_chk1516 (v3790 : BitVec 32) : Prop :=
  (∀ a, (k0_off1516 v3790) a + S1x16x128.size a ≤ S16384x16x128.size a)
theorem k0_off1516_inb : ∀ (v3790 : BitVec 32) (k0_hw1516 : k0_chk1516 v3790), ∀ a, (k0_off1516 v3790) a + S1x16x128.size a ≤ S16384x16x128.size a := fun v3790 k0_hw1516 => k0_hw1516

def k0_off1517 (v3796 : BitVec 32) : Fin 3 → Nat :=
  let c0_i32_3165 : BitVec 32 := 0#32
  let c0_i32_3166 : BitVec 32 := 0#32
  ![v3796.toNat, 0, 0]

def k0_chk1517 (v3796 : BitVec 32) : Prop :=
  (∀ a, (k0_off1517 v3796) a + S1x16x128.size a ≤ S16384x16x128.size a)
theorem k0_off1517_inb : ∀ (v3796 : BitVec 32) (k0_hw1517 : k0_chk1517 v3796), ∀ a, (k0_off1517 v3796) a + S1x16x128.size a ≤ S16384x16x128.size a := fun v3796 k0_hw1517 => k0_hw1517

def k0_off1518 (v3802 : BitVec 32) : Fin 3 → Nat :=
  let c0_i32_3171 : BitVec 32 := 0#32
  let c0_i32_3172 : BitVec 32 := 0#32
  ![v3802.toNat, 0, 0]

def k0_chk1518 (v3802 : BitVec 32) : Prop :=
  (∀ a, (k0_off1518 v3802) a + S1x16x128.size a ≤ S16384x16x128.size a)
theorem k0_off1518_inb : ∀ (v3802 : BitVec 32) (k0_hw1518 : k0_chk1518 v3802), ∀ a, (k0_off1518 v3802) a + S1x16x128.size a ≤ S16384x16x128.size a := fun v3802 k0_hw1518 => k0_hw1518

def k0_off1519 (v3808 : BitVec 32) : Fin 3 → Nat :=
  let c0_i32_3177 : BitVec 32 := 0#32
  let c0_i32_3178 : BitVec 32 := 0#32
  ![v3808.toNat, 0, 0]

def k0_chk1519 (v3808 : BitVec 32) : Prop :=
  (∀ a, (k0_off1519 v3808) a + S1x16x128.size a ≤ S16384x16x128.size a)
theorem k0_off1519_inb : ∀ (v3808 : BitVec 32) (k0_hw1519 : k0_chk1519 v3808), ∀ a, (k0_off1519 v3808) a + S1x16x128.size a ≤ S16384x16x128.size a := fun v3808 k0_hw1519 => k0_hw1519

def k0_off1520 (v3814 : BitVec 32) : Fin 3 → Nat :=
  let c0_i32_3183 : BitVec 32 := 0#32
  let c0_i32_3184 : BitVec 32 := 0#32
  ![v3814.toNat, 0, 0]

def k0_chk1520 (v3814 : BitVec 32) : Prop :=
  (∀ a, (k0_off1520 v3814) a + S1x16x128.size a ≤ S16384x16x128.size a)
theorem k0_off1520_inb : ∀ (v3814 : BitVec 32) (k0_hw1520 : k0_chk1520 v3814), ∀ a, (k0_off1520 v3814) a + S1x16x128.size a ≤ S16384x16x128.size a := fun v3814 k0_hw1520 => k0_hw1520

def k0_off1521 (v3820 : BitVec 32) : Fin 3 → Nat :=
  let c0_i32_3189 : BitVec 32 := 0#32
  let c0_i32_3190 : BitVec 32 := 0#32
  ![v3820.toNat, 0, 0]

def k0_chk1521 (v3820 : BitVec 32) : Prop :=
  (∀ a, (k0_off1521 v3820) a + S1x16x128.size a ≤ S16384x16x128.size a)
theorem k0_off1521_inb : ∀ (v3820 : BitVec 32) (k0_hw1521 : k0_chk1521 v3820), ∀ a, (k0_off1521 v3820) a + S1x16x128.size a ≤ S16384x16x128.size a := fun v3820 k0_hw1521 => k0_hw1521

def k0_off1522 (v3826 : BitVec 32) : Fin 3 → Nat :=
  let c0_i32_3195 : BitVec 32 := 0#32
  let c0_i32_3196 : BitVec 32 := 0#32
  ![v3826.toNat, 0, 0]

def k0_chk1522 (v3826 : BitVec 32) : Prop :=
  (∀ a, (k0_off1522 v3826) a + S1x16x128.size a ≤ S16384x16x128.size a)
theorem k0_off1522_inb : ∀ (v3826 : BitVec 32) (k0_hw1522 : k0_chk1522 v3826), ∀ a, (k0_off1522 v3826) a + S1x16x128.size a ≤ S16384x16x128.size a := fun v3826 k0_hw1522 => k0_hw1522

def k0_off1523 (v3832 : BitVec 32) : Fin 3 → Nat :=
  let c0_i32_3201 : BitVec 32 := 0#32
  let c0_i32_3202 : BitVec 32 := 0#32
  ![v3832.toNat, 0, 0]

def k0_chk1523 (v3832 : BitVec 32) : Prop :=
  (∀ a, (k0_off1523 v3832) a + S1x16x128.size a ≤ S16384x16x128.size a)
theorem k0_off1523_inb : ∀ (v3832 : BitVec 32) (k0_hw1523 : k0_chk1523 v3832), ∀ a, (k0_off1523 v3832) a + S1x16x128.size a ≤ S16384x16x128.size a := fun v3832 k0_hw1523 => k0_hw1523

def k0_off1524 (v3838 : BitVec 32) : Fin 3 → Nat :=
  let c0_i32_3207 : BitVec 32 := 0#32
  let c0_i32_3208 : BitVec 32 := 0#32
  ![v3838.toNat, 0, 0]

def k0_chk1524 (v3838 : BitVec 32) : Prop :=
  (∀ a, (k0_off1524 v3838) a + S1x16x128.size a ≤ S16384x16x128.size a)
theorem k0_off1524_inb : ∀ (v3838 : BitVec 32) (k0_hw1524 : k0_chk1524 v3838), ∀ a, (k0_off1524 v3838) a + S1x16x128.size a ≤ S16384x16x128.size a := fun v3838 k0_hw1524 => k0_hw1524

def k0_off1525 (v3844 : BitVec 32) : Fin 3 → Nat :=
  let c0_i32_3213 : BitVec 32 := 0#32
  let c0_i32_3214 : BitVec 32 := 0#32
  ![v3844.toNat, 0, 0]

def k0_chk1525 (v3844 : BitVec 32) : Prop :=
  (∀ a, (k0_off1525 v3844) a + S1x16x128.size a ≤ S16384x16x128.size a)
theorem k0_off1525_inb : ∀ (v3844 : BitVec 32) (k0_hw1525 : k0_chk1525 v3844), ∀ a, (k0_off1525 v3844) a + S1x16x128.size a ≤ S16384x16x128.size a := fun v3844 k0_hw1525 => k0_hw1525

def k0_off1526 (v3850 : BitVec 32) : Fin 3 → Nat :=
  let c0_i32_3219 : BitVec 32 := 0#32
  let c0_i32_3220 : BitVec 32 := 0#32
  ![v3850.toNat, 0, 0]

def k0_chk1526 (v3850 : BitVec 32) : Prop :=
  (∀ a, (k0_off1526 v3850) a + S1x16x128.size a ≤ S16384x16x128.size a)
theorem k0_off1526_inb : ∀ (v3850 : BitVec 32) (k0_hw1526 : k0_chk1526 v3850), ∀ a, (k0_off1526 v3850) a + S1x16x128.size a ≤ S16384x16x128.size a := fun v3850 k0_hw1526 => k0_hw1526

def k0_off1527 (v3856 : BitVec 32) : Fin 3 → Nat :=
  let c0_i32_3225 : BitVec 32 := 0#32
  let c0_i32_3226 : BitVec 32 := 0#32
  ![v3856.toNat, 0, 0]

def k0_chk1527 (v3856 : BitVec 32) : Prop :=
  (∀ a, (k0_off1527 v3856) a + S1x16x128.size a ≤ S16384x16x128.size a)
theorem k0_off1527_inb : ∀ (v3856 : BitVec 32) (k0_hw1527 : k0_chk1527 v3856), ∀ a, (k0_off1527 v3856) a + S1x16x128.size a ≤ S16384x16x128.size a := fun v3856 k0_hw1527 => k0_hw1527

def k0_off1528 (v3862 : BitVec 32) : Fin 3 → Nat :=
  let c0_i32_3231 : BitVec 32 := 0#32
  let c0_i32_3232 : BitVec 32 := 0#32
  ![v3862.toNat, 0, 0]

def k0_chk1528 (v3862 : BitVec 32) : Prop :=
  (∀ a, (k0_off1528 v3862) a + S1x16x128.size a ≤ S16384x16x128.size a)
theorem k0_off1528_inb : ∀ (v3862 : BitVec 32) (k0_hw1528 : k0_chk1528 v3862), ∀ a, (k0_off1528 v3862) a + S1x16x128.size a ≤ S16384x16x128.size a := fun v3862 k0_hw1528 => k0_hw1528

def k0_off1529 (v3868 : BitVec 32) : Fin 3 → Nat :=
  let c0_i32_3237 : BitVec 32 := 0#32
  let c0_i32_3238 : BitVec 32 := 0#32
  ![v3868.toNat, 0, 0]

def k0_chk1529 (v3868 : BitVec 32) : Prop :=
  (∀ a, (k0_off1529 v3868) a + S1x16x128.size a ≤ S16384x16x128.size a)
theorem k0_off1529_inb : ∀ (v3868 : BitVec 32) (k0_hw1529 : k0_chk1529 v3868), ∀ a, (k0_off1529 v3868) a + S1x16x128.size a ≤ S16384x16x128.size a := fun v3868 k0_hw1529 => k0_hw1529

def k0_off1530 (v3874 : BitVec 32) : Fin 3 → Nat :=
  let c0_i32_3243 : BitVec 32 := 0#32
  let c0_i32_3244 : BitVec 32 := 0#32
  ![v3874.toNat, 0, 0]

def k0_chk1530 (v3874 : BitVec 32) : Prop :=
  (∀ a, (k0_off1530 v3874) a + S1x16x128.size a ≤ S16384x16x128.size a)
theorem k0_off1530_inb : ∀ (v3874 : BitVec 32) (k0_hw1530 : k0_chk1530 v3874), ∀ a, (k0_off1530 v3874) a + S1x16x128.size a ≤ S16384x16x128.size a := fun v3874 k0_hw1530 => k0_hw1530

def k0_off1531 (v3880 : BitVec 32) : Fin 3 → Nat :=
  let c0_i32_3249 : BitVec 32 := 0#32
  let c0_i32_3250 : BitVec 32 := 0#32
  ![v3880.toNat, 0, 0]

def k0_chk1531 (v3880 : BitVec 32) : Prop :=
  (∀ a, (k0_off1531 v3880) a + S1x16x128.size a ≤ S16384x16x128.size a)
theorem k0_off1531_inb : ∀ (v3880 : BitVec 32) (k0_hw1531 : k0_chk1531 v3880), ∀ a, (k0_off1531 v3880) a + S1x16x128.size a ≤ S16384x16x128.size a := fun v3880 k0_hw1531 => k0_hw1531

def k0_off1532 (v3886 : BitVec 32) : Fin 3 → Nat :=
  let c0_i32_3255 : BitVec 32 := 0#32
  let c0_i32_3256 : BitVec 32 := 0#32
  ![v3886.toNat, 0, 0]

def k0_chk1532 (v3886 : BitVec 32) : Prop :=
  (∀ a, (k0_off1532 v3886) a + S1x16x128.size a ≤ S16384x16x128.size a)
theorem k0_off1532_inb : ∀ (v3886 : BitVec 32) (k0_hw1532 : k0_chk1532 v3886), ∀ a, (k0_off1532 v3886) a + S1x16x128.size a ≤ S16384x16x128.size a := fun v3886 k0_hw1532 => k0_hw1532

def k0_off1533 (v3892 : BitVec 32) : Fin 3 → Nat :=
  let c0_i32_3261 : BitVec 32 := 0#32
  let c0_i32_3262 : BitVec 32 := 0#32
  ![v3892.toNat, 0, 0]

def k0_chk1533 (v3892 : BitVec 32) : Prop :=
  (∀ a, (k0_off1533 v3892) a + S1x16x128.size a ≤ S16384x16x128.size a)
theorem k0_off1533_inb : ∀ (v3892 : BitVec 32) (k0_hw1533 : k0_chk1533 v3892), ∀ a, (k0_off1533 v3892) a + S1x16x128.size a ≤ S16384x16x128.size a := fun v3892 k0_hw1533 => k0_hw1533

def k0_off1534 (v3898 : BitVec 32) : Fin 3 → Nat :=
  let c0_i32_3267 : BitVec 32 := 0#32
  let c0_i32_3268 : BitVec 32 := 0#32
  ![v3898.toNat, 0, 0]

def k0_chk1534 (v3898 : BitVec 32) : Prop :=
  (∀ a, (k0_off1534 v3898) a + S1x16x128.size a ≤ S16384x16x128.size a)
theorem k0_off1534_inb : ∀ (v3898 : BitVec 32) (k0_hw1534 : k0_chk1534 v3898), ∀ a, (k0_off1534 v3898) a + S1x16x128.size a ≤ S16384x16x128.size a := fun v3898 k0_hw1534 => k0_hw1534

def k0_off1535 (v3904 : BitVec 32) : Fin 3 → Nat :=
  let c0_i32_3273 : BitVec 32 := 0#32
  let c0_i32_3274 : BitVec 32 := 0#32
  ![v3904.toNat, 0, 0]

def k0_chk1535 (v3904 : BitVec 32) : Prop :=
  (∀ a, (k0_off1535 v3904) a + S1x16x128.size a ≤ S16384x16x128.size a)
theorem k0_off1535_inb : ∀ (v3904 : BitVec 32) (k0_hw1535 : k0_chk1535 v3904), ∀ a, (k0_off1535 v3904) a + S1x16x128.size a ≤ S16384x16x128.size a := fun v3904 k0_hw1535 => k0_hw1535

def k0_off1536 (v3910 : BitVec 32) : Fin 3 → Nat :=
  let c0_i32_3279 : BitVec 32 := 0#32
  let c0_i32_3280 : BitVec 32 := 0#32
  ![v3910.toNat, 0, 0]

def k0_chk1536 (v3910 : BitVec 32) : Prop :=
  (∀ a, (k0_off1536 v3910) a + S1x16x128.size a ≤ S16384x16x128.size a)
theorem k0_off1536_inb : ∀ (v3910 : BitVec 32) (k0_hw1536 : k0_chk1536 v3910), ∀ a, (k0_off1536 v3910) a + S1x16x128.size a ≤ S16384x16x128.size a := fun v3910 k0_hw1536 => k0_hw1536

def k0_off1537 (v4193 : BitVec 32) : Fin 3 → Nat :=
  let c0_i32_3391 : BitVec 32 := 0#32
  let c0_i32_3392 : BitVec 32 := 0#32
  ![v4193.toNat, 0, 0]

def k0_chk1537 (v4193 : BitVec 32) : Prop :=
  (∀ a, (k0_off1537 v4193) a + S1x16x128.size a ≤ S16384x16x128.size a)
theorem k0_off1537_inb : ∀ (v4193 : BitVec 32) (k0_hw1537 : k0_chk1537 v4193), ∀ a, (k0_off1537 v4193) a + S1x16x128.size a ≤ S16384x16x128.size a := fun v4193 k0_hw1537 => k0_hw1537

def k0_off1538 (v4199 : BitVec 32) : Fin 3 → Nat :=
  let c0_i32_3397 : BitVec 32 := 0#32
  let c0_i32_3398 : BitVec 32 := 0#32
  ![v4199.toNat, 0, 0]

def k0_chk1538 (v4199 : BitVec 32) : Prop :=
  (∀ a, (k0_off1538 v4199) a + S1x16x128.size a ≤ S16384x16x128.size a)
theorem k0_off1538_inb : ∀ (v4199 : BitVec 32) (k0_hw1538 : k0_chk1538 v4199), ∀ a, (k0_off1538 v4199) a + S1x16x128.size a ≤ S16384x16x128.size a := fun v4199 k0_hw1538 => k0_hw1538

def k0_off1539 (v4205 : BitVec 32) : Fin 3 → Nat :=
  let c0_i32_3403 : BitVec 32 := 0#32
  let c0_i32_3404 : BitVec 32 := 0#32
  ![v4205.toNat, 0, 0]

def k0_chk1539 (v4205 : BitVec 32) : Prop :=
  (∀ a, (k0_off1539 v4205) a + S1x16x128.size a ≤ S16384x16x128.size a)
theorem k0_off1539_inb : ∀ (v4205 : BitVec 32) (k0_hw1539 : k0_chk1539 v4205), ∀ a, (k0_off1539 v4205) a + S1x16x128.size a ≤ S16384x16x128.size a := fun v4205 k0_hw1539 => k0_hw1539

def k0_off1540 (v4211 : BitVec 32) : Fin 3 → Nat :=
  let c0_i32_3409 : BitVec 32 := 0#32
  let c0_i32_3410 : BitVec 32 := 0#32
  ![v4211.toNat, 0, 0]

def k0_chk1540 (v4211 : BitVec 32) : Prop :=
  (∀ a, (k0_off1540 v4211) a + S1x16x128.size a ≤ S16384x16x128.size a)
theorem k0_off1540_inb : ∀ (v4211 : BitVec 32) (k0_hw1540 : k0_chk1540 v4211), ∀ a, (k0_off1540 v4211) a + S1x16x128.size a ≤ S16384x16x128.size a := fun v4211 k0_hw1540 => k0_hw1540

def k0_off1541 (v4217 : BitVec 32) : Fin 3 → Nat :=
  let c0_i32_3415 : BitVec 32 := 0#32
  let c0_i32_3416 : BitVec 32 := 0#32
  ![v4217.toNat, 0, 0]

def k0_chk1541 (v4217 : BitVec 32) : Prop :=
  (∀ a, (k0_off1541 v4217) a + S1x16x128.size a ≤ S16384x16x128.size a)
theorem k0_off1541_inb : ∀ (v4217 : BitVec 32) (k0_hw1541 : k0_chk1541 v4217), ∀ a, (k0_off1541 v4217) a + S1x16x128.size a ≤ S16384x16x128.size a := fun v4217 k0_hw1541 => k0_hw1541

def k0_off1542 (v4223 : BitVec 32) : Fin 3 → Nat :=
  let c0_i32_3421 : BitVec 32 := 0#32
  let c0_i32_3422 : BitVec 32 := 0#32
  ![v4223.toNat, 0, 0]

def k0_chk1542 (v4223 : BitVec 32) : Prop :=
  (∀ a, (k0_off1542 v4223) a + S1x16x128.size a ≤ S16384x16x128.size a)
theorem k0_off1542_inb : ∀ (v4223 : BitVec 32) (k0_hw1542 : k0_chk1542 v4223), ∀ a, (k0_off1542 v4223) a + S1x16x128.size a ≤ S16384x16x128.size a := fun v4223 k0_hw1542 => k0_hw1542

def k0_off1543 (v4229 : BitVec 32) : Fin 3 → Nat :=
  let c0_i32_3427 : BitVec 32 := 0#32
  let c0_i32_3428 : BitVec 32 := 0#32
  ![v4229.toNat, 0, 0]

def k0_chk1543 (v4229 : BitVec 32) : Prop :=
  (∀ a, (k0_off1543 v4229) a + S1x16x128.size a ≤ S16384x16x128.size a)
theorem k0_off1543_inb : ∀ (v4229 : BitVec 32) (k0_hw1543 : k0_chk1543 v4229), ∀ a, (k0_off1543 v4229) a + S1x16x128.size a ≤ S16384x16x128.size a := fun v4229 k0_hw1543 => k0_hw1543

def k0_off1544 (v4235 : BitVec 32) : Fin 3 → Nat :=
  let c0_i32_3433 : BitVec 32 := 0#32
  let c0_i32_3434 : BitVec 32 := 0#32
  ![v4235.toNat, 0, 0]

def k0_chk1544 (v4235 : BitVec 32) : Prop :=
  (∀ a, (k0_off1544 v4235) a + S1x16x128.size a ≤ S16384x16x128.size a)
theorem k0_off1544_inb : ∀ (v4235 : BitVec 32) (k0_hw1544 : k0_chk1544 v4235), ∀ a, (k0_off1544 v4235) a + S1x16x128.size a ≤ S16384x16x128.size a := fun v4235 k0_hw1544 => k0_hw1544

def k0_off1545 (v4241 : BitVec 32) : Fin 3 → Nat :=
  let c0_i32_3439 : BitVec 32 := 0#32
  let c0_i32_3440 : BitVec 32 := 0#32
  ![v4241.toNat, 0, 0]

def k0_chk1545 (v4241 : BitVec 32) : Prop :=
  (∀ a, (k0_off1545 v4241) a + S1x16x128.size a ≤ S16384x16x128.size a)
theorem k0_off1545_inb : ∀ (v4241 : BitVec 32) (k0_hw1545 : k0_chk1545 v4241), ∀ a, (k0_off1545 v4241) a + S1x16x128.size a ≤ S16384x16x128.size a := fun v4241 k0_hw1545 => k0_hw1545

def k0_off1546 (v4247 : BitVec 32) : Fin 3 → Nat :=
  let c0_i32_3445 : BitVec 32 := 0#32
  let c0_i32_3446 : BitVec 32 := 0#32
  ![v4247.toNat, 0, 0]

def k0_chk1546 (v4247 : BitVec 32) : Prop :=
  (∀ a, (k0_off1546 v4247) a + S1x16x128.size a ≤ S16384x16x128.size a)
theorem k0_off1546_inb : ∀ (v4247 : BitVec 32) (k0_hw1546 : k0_chk1546 v4247), ∀ a, (k0_off1546 v4247) a + S1x16x128.size a ≤ S16384x16x128.size a := fun v4247 k0_hw1546 => k0_hw1546

def k0_off1547 (v4253 : BitVec 32) : Fin 3 → Nat :=
  let c0_i32_3451 : BitVec 32 := 0#32
  let c0_i32_3452 : BitVec 32 := 0#32
  ![v4253.toNat, 0, 0]

def k0_chk1547 (v4253 : BitVec 32) : Prop :=
  (∀ a, (k0_off1547 v4253) a + S1x16x128.size a ≤ S16384x16x128.size a)
theorem k0_off1547_inb : ∀ (v4253 : BitVec 32) (k0_hw1547 : k0_chk1547 v4253), ∀ a, (k0_off1547 v4253) a + S1x16x128.size a ≤ S16384x16x128.size a := fun v4253 k0_hw1547 => k0_hw1547

def k0_off1548 (v4259 : BitVec 32) : Fin 3 → Nat :=
  let c0_i32_3457 : BitVec 32 := 0#32
  let c0_i32_3458 : BitVec 32 := 0#32
  ![v4259.toNat, 0, 0]

def k0_chk1548 (v4259 : BitVec 32) : Prop :=
  (∀ a, (k0_off1548 v4259) a + S1x16x128.size a ≤ S16384x16x128.size a)
theorem k0_off1548_inb : ∀ (v4259 : BitVec 32) (k0_hw1548 : k0_chk1548 v4259), ∀ a, (k0_off1548 v4259) a + S1x16x128.size a ≤ S16384x16x128.size a := fun v4259 k0_hw1548 => k0_hw1548

def k0_off1549 (v4265 : BitVec 32) : Fin 3 → Nat :=
  let c0_i32_3463 : BitVec 32 := 0#32
  let c0_i32_3464 : BitVec 32 := 0#32
  ![v4265.toNat, 0, 0]

def k0_chk1549 (v4265 : BitVec 32) : Prop :=
  (∀ a, (k0_off1549 v4265) a + S1x16x128.size a ≤ S16384x16x128.size a)
theorem k0_off1549_inb : ∀ (v4265 : BitVec 32) (k0_hw1549 : k0_chk1549 v4265), ∀ a, (k0_off1549 v4265) a + S1x16x128.size a ≤ S16384x16x128.size a := fun v4265 k0_hw1549 => k0_hw1549

def k0_off1550 (v4271 : BitVec 32) : Fin 3 → Nat :=
  let c0_i32_3469 : BitVec 32 := 0#32
  let c0_i32_3470 : BitVec 32 := 0#32
  ![v4271.toNat, 0, 0]

def k0_chk1550 (v4271 : BitVec 32) : Prop :=
  (∀ a, (k0_off1550 v4271) a + S1x16x128.size a ≤ S16384x16x128.size a)
theorem k0_off1550_inb : ∀ (v4271 : BitVec 32) (k0_hw1550 : k0_chk1550 v4271), ∀ a, (k0_off1550 v4271) a + S1x16x128.size a ≤ S16384x16x128.size a := fun v4271 k0_hw1550 => k0_hw1550

def k0_off1551 (v4277 : BitVec 32) : Fin 3 → Nat :=
  let c0_i32_3475 : BitVec 32 := 0#32
  let c0_i32_3476 : BitVec 32 := 0#32
  ![v4277.toNat, 0, 0]

def k0_chk1551 (v4277 : BitVec 32) : Prop :=
  (∀ a, (k0_off1551 v4277) a + S1x16x128.size a ≤ S16384x16x128.size a)
theorem k0_off1551_inb : ∀ (v4277 : BitVec 32) (k0_hw1551 : k0_chk1551 v4277), ∀ a, (k0_off1551 v4277) a + S1x16x128.size a ≤ S16384x16x128.size a := fun v4277 k0_hw1551 => k0_hw1551

def k0_off1552 (v4283 : BitVec 32) : Fin 3 → Nat :=
  let c0_i32_3481 : BitVec 32 := 0#32
  let c0_i32_3482 : BitVec 32 := 0#32
  ![v4283.toNat, 0, 0]

def k0_chk1552 (v4283 : BitVec 32) : Prop :=
  (∀ a, (k0_off1552 v4283) a + S1x16x128.size a ≤ S16384x16x128.size a)
theorem k0_off1552_inb : ∀ (v4283 : BitVec 32) (k0_hw1552 : k0_chk1552 v4283), ∀ a, (k0_off1552 v4283) a + S1x16x128.size a ≤ S16384x16x128.size a := fun v4283 k0_hw1552 => k0_hw1552

def k0_off1553 (v4289 : BitVec 32) : Fin 3 → Nat :=
  let c0_i32_3487 : BitVec 32 := 0#32
  let c0_i32_3488 : BitVec 32 := 0#32
  ![v4289.toNat, 0, 0]

def k0_chk1553 (v4289 : BitVec 32) : Prop :=
  (∀ a, (k0_off1553 v4289) a + S1x16x128.size a ≤ S16384x16x128.size a)
theorem k0_off1553_inb : ∀ (v4289 : BitVec 32) (k0_hw1553 : k0_chk1553 v4289), ∀ a, (k0_off1553 v4289) a + S1x16x128.size a ≤ S16384x16x128.size a := fun v4289 k0_hw1553 => k0_hw1553

def k0_off1554 (v4295 : BitVec 32) : Fin 3 → Nat :=
  let c0_i32_3493 : BitVec 32 := 0#32
  let c0_i32_3494 : BitVec 32 := 0#32
  ![v4295.toNat, 0, 0]

def k0_chk1554 (v4295 : BitVec 32) : Prop :=
  (∀ a, (k0_off1554 v4295) a + S1x16x128.size a ≤ S16384x16x128.size a)
theorem k0_off1554_inb : ∀ (v4295 : BitVec 32) (k0_hw1554 : k0_chk1554 v4295), ∀ a, (k0_off1554 v4295) a + S1x16x128.size a ≤ S16384x16x128.size a := fun v4295 k0_hw1554 => k0_hw1554

def k0_off1555 (v4301 : BitVec 32) : Fin 3 → Nat :=
  let c0_i32_3499 : BitVec 32 := 0#32
  let c0_i32_3500 : BitVec 32 := 0#32
  ![v4301.toNat, 0, 0]

def k0_chk1555 (v4301 : BitVec 32) : Prop :=
  (∀ a, (k0_off1555 v4301) a + S1x16x128.size a ≤ S16384x16x128.size a)
theorem k0_off1555_inb : ∀ (v4301 : BitVec 32) (k0_hw1555 : k0_chk1555 v4301), ∀ a, (k0_off1555 v4301) a + S1x16x128.size a ≤ S16384x16x128.size a := fun v4301 k0_hw1555 => k0_hw1555

def k0_off1556 (v4307 : BitVec 32) : Fin 3 → Nat :=
  let c0_i32_3505 : BitVec 32 := 0#32
  let c0_i32_3506 : BitVec 32 := 0#32
  ![v4307.toNat, 0, 0]

def k0_chk1556 (v4307 : BitVec 32) : Prop :=
  (∀ a, (k0_off1556 v4307) a + S1x16x128.size a ≤ S16384x16x128.size a)
theorem k0_off1556_inb : ∀ (v4307 : BitVec 32) (k0_hw1556 : k0_chk1556 v4307), ∀ a, (k0_off1556 v4307) a + S1x16x128.size a ≤ S16384x16x128.size a := fun v4307 k0_hw1556 => k0_hw1556

def k0_off1557 (v4313 : BitVec 32) : Fin 3 → Nat :=
  let c0_i32_3511 : BitVec 32 := 0#32
  let c0_i32_3512 : BitVec 32 := 0#32
  ![v4313.toNat, 0, 0]

def k0_chk1557 (v4313 : BitVec 32) : Prop :=
  (∀ a, (k0_off1557 v4313) a + S1x16x128.size a ≤ S16384x16x128.size a)
theorem k0_off1557_inb : ∀ (v4313 : BitVec 32) (k0_hw1557 : k0_chk1557 v4313), ∀ a, (k0_off1557 v4313) a + S1x16x128.size a ≤ S16384x16x128.size a := fun v4313 k0_hw1557 => k0_hw1557

def k0_off1558 (v4319 : BitVec 32) : Fin 3 → Nat :=
  let c0_i32_3517 : BitVec 32 := 0#32
  let c0_i32_3518 : BitVec 32 := 0#32
  ![v4319.toNat, 0, 0]

def k0_chk1558 (v4319 : BitVec 32) : Prop :=
  (∀ a, (k0_off1558 v4319) a + S1x16x128.size a ≤ S16384x16x128.size a)
theorem k0_off1558_inb : ∀ (v4319 : BitVec 32) (k0_hw1558 : k0_chk1558 v4319), ∀ a, (k0_off1558 v4319) a + S1x16x128.size a ≤ S16384x16x128.size a := fun v4319 k0_hw1558 => k0_hw1558

def k0_off1559 (v4325 : BitVec 32) : Fin 3 → Nat :=
  let c0_i32_3523 : BitVec 32 := 0#32
  let c0_i32_3524 : BitVec 32 := 0#32
  ![v4325.toNat, 0, 0]

def k0_chk1559 (v4325 : BitVec 32) : Prop :=
  (∀ a, (k0_off1559 v4325) a + S1x16x128.size a ≤ S16384x16x128.size a)
theorem k0_off1559_inb : ∀ (v4325 : BitVec 32) (k0_hw1559 : k0_chk1559 v4325), ∀ a, (k0_off1559 v4325) a + S1x16x128.size a ≤ S16384x16x128.size a := fun v4325 k0_hw1559 => k0_hw1559

def k0_off1560 (v4331 : BitVec 32) : Fin 3 → Nat :=
  let c0_i32_3529 : BitVec 32 := 0#32
  let c0_i32_3530 : BitVec 32 := 0#32
  ![v4331.toNat, 0, 0]

def k0_chk1560 (v4331 : BitVec 32) : Prop :=
  (∀ a, (k0_off1560 v4331) a + S1x16x128.size a ≤ S16384x16x128.size a)
theorem k0_off1560_inb : ∀ (v4331 : BitVec 32) (k0_hw1560 : k0_chk1560 v4331), ∀ a, (k0_off1560 v4331) a + S1x16x128.size a ≤ S16384x16x128.size a := fun v4331 k0_hw1560 => k0_hw1560

def k0_off1561 (v4337 : BitVec 32) : Fin 3 → Nat :=
  let c0_i32_3535 : BitVec 32 := 0#32
  let c0_i32_3536 : BitVec 32 := 0#32
  ![v4337.toNat, 0, 0]

def k0_chk1561 (v4337 : BitVec 32) : Prop :=
  (∀ a, (k0_off1561 v4337) a + S1x16x128.size a ≤ S16384x16x128.size a)
theorem k0_off1561_inb : ∀ (v4337 : BitVec 32) (k0_hw1561 : k0_chk1561 v4337), ∀ a, (k0_off1561 v4337) a + S1x16x128.size a ≤ S16384x16x128.size a := fun v4337 k0_hw1561 => k0_hw1561

def k0_off1562 (v4343 : BitVec 32) : Fin 3 → Nat :=
  let c0_i32_3541 : BitVec 32 := 0#32
  let c0_i32_3542 : BitVec 32 := 0#32
  ![v4343.toNat, 0, 0]

def k0_chk1562 (v4343 : BitVec 32) : Prop :=
  (∀ a, (k0_off1562 v4343) a + S1x16x128.size a ≤ S16384x16x128.size a)
theorem k0_off1562_inb : ∀ (v4343 : BitVec 32) (k0_hw1562 : k0_chk1562 v4343), ∀ a, (k0_off1562 v4343) a + S1x16x128.size a ≤ S16384x16x128.size a := fun v4343 k0_hw1562 => k0_hw1562

def k0_off1563 (v4349 : BitVec 32) : Fin 3 → Nat :=
  let c0_i32_3547 : BitVec 32 := 0#32
  let c0_i32_3548 : BitVec 32 := 0#32
  ![v4349.toNat, 0, 0]

def k0_chk1563 (v4349 : BitVec 32) : Prop :=
  (∀ a, (k0_off1563 v4349) a + S1x16x128.size a ≤ S16384x16x128.size a)
theorem k0_off1563_inb : ∀ (v4349 : BitVec 32) (k0_hw1563 : k0_chk1563 v4349), ∀ a, (k0_off1563 v4349) a + S1x16x128.size a ≤ S16384x16x128.size a := fun v4349 k0_hw1563 => k0_hw1563

def k0_off1564 (v4355 : BitVec 32) : Fin 3 → Nat :=
  let c0_i32_3553 : BitVec 32 := 0#32
  let c0_i32_3554 : BitVec 32 := 0#32
  ![v4355.toNat, 0, 0]

def k0_chk1564 (v4355 : BitVec 32) : Prop :=
  (∀ a, (k0_off1564 v4355) a + S1x16x128.size a ≤ S16384x16x128.size a)
theorem k0_off1564_inb : ∀ (v4355 : BitVec 32) (k0_hw1564 : k0_chk1564 v4355), ∀ a, (k0_off1564 v4355) a + S1x16x128.size a ≤ S16384x16x128.size a := fun v4355 k0_hw1564 => k0_hw1564

def k0_off1565 (v4361 : BitVec 32) : Fin 3 → Nat :=
  let c0_i32_3559 : BitVec 32 := 0#32
  let c0_i32_3560 : BitVec 32 := 0#32
  ![v4361.toNat, 0, 0]

def k0_chk1565 (v4361 : BitVec 32) : Prop :=
  (∀ a, (k0_off1565 v4361) a + S1x16x128.size a ≤ S16384x16x128.size a)
theorem k0_off1565_inb : ∀ (v4361 : BitVec 32) (k0_hw1565 : k0_chk1565 v4361), ∀ a, (k0_off1565 v4361) a + S1x16x128.size a ≤ S16384x16x128.size a := fun v4361 k0_hw1565 => k0_hw1565

def k0_off1566 (v4367 : BitVec 32) : Fin 3 → Nat :=
  let c0_i32_3565 : BitVec 32 := 0#32
  let c0_i32_3566 : BitVec 32 := 0#32
  ![v4367.toNat, 0, 0]

def k0_chk1566 (v4367 : BitVec 32) : Prop :=
  (∀ a, (k0_off1566 v4367) a + S1x16x128.size a ≤ S16384x16x128.size a)
theorem k0_off1566_inb : ∀ (v4367 : BitVec 32) (k0_hw1566 : k0_chk1566 v4367), ∀ a, (k0_off1566 v4367) a + S1x16x128.size a ≤ S16384x16x128.size a := fun v4367 k0_hw1566 => k0_hw1566

def k0_off1567 (v4373 : BitVec 32) : Fin 3 → Nat :=
  let c0_i32_3571 : BitVec 32 := 0#32
  let c0_i32_3572 : BitVec 32 := 0#32
  ![v4373.toNat, 0, 0]

def k0_chk1567 (v4373 : BitVec 32) : Prop :=
  (∀ a, (k0_off1567 v4373) a + S1x16x128.size a ≤ S16384x16x128.size a)
theorem k0_off1567_inb : ∀ (v4373 : BitVec 32) (k0_hw1567 : k0_chk1567 v4373), ∀ a, (k0_off1567 v4373) a + S1x16x128.size a ≤ S16384x16x128.size a := fun v4373 k0_hw1567 => k0_hw1567

def k0_off1568 (v4379 : BitVec 32) : Fin 3 → Nat :=
  let c0_i32_3577 : BitVec 32 := 0#32
  let c0_i32_3578 : BitVec 32 := 0#32
  ![v4379.toNat, 0, 0]

def k0_chk1568 (v4379 : BitVec 32) : Prop :=
  (∀ a, (k0_off1568 v4379) a + S1x16x128.size a ≤ S16384x16x128.size a)
theorem k0_off1568_inb : ∀ (v4379 : BitVec 32) (k0_hw1568 : k0_chk1568 v4379), ∀ a, (k0_off1568 v4379) a + S1x16x128.size a ≤ S16384x16x128.size a := fun v4379 k0_hw1568 => k0_hw1568

def k0_off1569 (v4385 : BitVec 32) : Fin 3 → Nat :=
  let c0_i32_3583 : BitVec 32 := 0#32
  let c0_i32_3584 : BitVec 32 := 0#32
  ![v4385.toNat, 0, 0]

def k0_chk1569 (v4385 : BitVec 32) : Prop :=
  (∀ a, (k0_off1569 v4385) a + S1x16x128.size a ≤ S16384x16x128.size a)
theorem k0_off1569_inb : ∀ (v4385 : BitVec 32) (k0_hw1569 : k0_chk1569 v4385), ∀ a, (k0_off1569 v4385) a + S1x16x128.size a ≤ S16384x16x128.size a := fun v4385 k0_hw1569 => k0_hw1569

def k0_off1570 (v4391 : BitVec 32) : Fin 3 → Nat :=
  let c0_i32_3589 : BitVec 32 := 0#32
  let c0_i32_3590 : BitVec 32 := 0#32
  ![v4391.toNat, 0, 0]

def k0_chk1570 (v4391 : BitVec 32) : Prop :=
  (∀ a, (k0_off1570 v4391) a + S1x16x128.size a ≤ S16384x16x128.size a)
theorem k0_off1570_inb : ∀ (v4391 : BitVec 32) (k0_hw1570 : k0_chk1570 v4391), ∀ a, (k0_off1570 v4391) a + S1x16x128.size a ≤ S16384x16x128.size a := fun v4391 k0_hw1570 => k0_hw1570

def k0_off1571 (v4397 : BitVec 32) : Fin 3 → Nat :=
  let c0_i32_3595 : BitVec 32 := 0#32
  let c0_i32_3596 : BitVec 32 := 0#32
  ![v4397.toNat, 0, 0]

def k0_chk1571 (v4397 : BitVec 32) : Prop :=
  (∀ a, (k0_off1571 v4397) a + S1x16x128.size a ≤ S16384x16x128.size a)
theorem k0_off1571_inb : ∀ (v4397 : BitVec 32) (k0_hw1571 : k0_chk1571 v4397), ∀ a, (k0_off1571 v4397) a + S1x16x128.size a ≤ S16384x16x128.size a := fun v4397 k0_hw1571 => k0_hw1571

def k0_off1572 (v4403 : BitVec 32) : Fin 3 → Nat :=
  let c0_i32_3601 : BitVec 32 := 0#32
  let c0_i32_3602 : BitVec 32 := 0#32
  ![v4403.toNat, 0, 0]

def k0_chk1572 (v4403 : BitVec 32) : Prop :=
  (∀ a, (k0_off1572 v4403) a + S1x16x128.size a ≤ S16384x16x128.size a)
theorem k0_off1572_inb : ∀ (v4403 : BitVec 32) (k0_hw1572 : k0_chk1572 v4403), ∀ a, (k0_off1572 v4403) a + S1x16x128.size a ≤ S16384x16x128.size a := fun v4403 k0_hw1572 => k0_hw1572

def k0_off1573 (v4409 : BitVec 32) : Fin 3 → Nat :=
  let c0_i32_3607 : BitVec 32 := 0#32
  let c0_i32_3608 : BitVec 32 := 0#32
  ![v4409.toNat, 0, 0]

def k0_chk1573 (v4409 : BitVec 32) : Prop :=
  (∀ a, (k0_off1573 v4409) a + S1x16x128.size a ≤ S16384x16x128.size a)
theorem k0_off1573_inb : ∀ (v4409 : BitVec 32) (k0_hw1573 : k0_chk1573 v4409), ∀ a, (k0_off1573 v4409) a + S1x16x128.size a ≤ S16384x16x128.size a := fun v4409 k0_hw1573 => k0_hw1573

def k0_off1574 (v4415 : BitVec 32) : Fin 3 → Nat :=
  let c0_i32_3613 : BitVec 32 := 0#32
  let c0_i32_3614 : BitVec 32 := 0#32
  ![v4415.toNat, 0, 0]

def k0_chk1574 (v4415 : BitVec 32) : Prop :=
  (∀ a, (k0_off1574 v4415) a + S1x16x128.size a ≤ S16384x16x128.size a)
theorem k0_off1574_inb : ∀ (v4415 : BitVec 32) (k0_hw1574 : k0_chk1574 v4415), ∀ a, (k0_off1574 v4415) a + S1x16x128.size a ≤ S16384x16x128.size a := fun v4415 k0_hw1574 => k0_hw1574

def k0_off1575 (v4421 : BitVec 32) : Fin 3 → Nat :=
  let c0_i32_3619 : BitVec 32 := 0#32
  let c0_i32_3620 : BitVec 32 := 0#32
  ![v4421.toNat, 0, 0]

def k0_chk1575 (v4421 : BitVec 32) : Prop :=
  (∀ a, (k0_off1575 v4421) a + S1x16x128.size a ≤ S16384x16x128.size a)
theorem k0_off1575_inb : ∀ (v4421 : BitVec 32) (k0_hw1575 : k0_chk1575 v4421), ∀ a, (k0_off1575 v4421) a + S1x16x128.size a ≤ S16384x16x128.size a := fun v4421 k0_hw1575 => k0_hw1575

def k0_off1576 (v4427 : BitVec 32) : Fin 3 → Nat :=
  let c0_i32_3625 : BitVec 32 := 0#32
  let c0_i32_3626 : BitVec 32 := 0#32
  ![v4427.toNat, 0, 0]

def k0_chk1576 (v4427 : BitVec 32) : Prop :=
  (∀ a, (k0_off1576 v4427) a + S1x16x128.size a ≤ S16384x16x128.size a)
theorem k0_off1576_inb : ∀ (v4427 : BitVec 32) (k0_hw1576 : k0_chk1576 v4427), ∀ a, (k0_off1576 v4427) a + S1x16x128.size a ≤ S16384x16x128.size a := fun v4427 k0_hw1576 => k0_hw1576

def k0_off1577 (v4433 : BitVec 32) : Fin 3 → Nat :=
  let c0_i32_3631 : BitVec 32 := 0#32
  let c0_i32_3632 : BitVec 32 := 0#32
  ![v4433.toNat, 0, 0]

def k0_chk1577 (v4433 : BitVec 32) : Prop :=
  (∀ a, (k0_off1577 v4433) a + S1x16x128.size a ≤ S16384x16x128.size a)
theorem k0_off1577_inb : ∀ (v4433 : BitVec 32) (k0_hw1577 : k0_chk1577 v4433), ∀ a, (k0_off1577 v4433) a + S1x16x128.size a ≤ S16384x16x128.size a := fun v4433 k0_hw1577 => k0_hw1577

def k0_off1578 (v4439 : BitVec 32) : Fin 3 → Nat :=
  let c0_i32_3637 : BitVec 32 := 0#32
  let c0_i32_3638 : BitVec 32 := 0#32
  ![v4439.toNat, 0, 0]

def k0_chk1578 (v4439 : BitVec 32) : Prop :=
  (∀ a, (k0_off1578 v4439) a + S1x16x128.size a ≤ S16384x16x128.size a)
theorem k0_off1578_inb : ∀ (v4439 : BitVec 32) (k0_hw1578 : k0_chk1578 v4439), ∀ a, (k0_off1578 v4439) a + S1x16x128.size a ≤ S16384x16x128.size a := fun v4439 k0_hw1578 => k0_hw1578

def k0_off1579 (v4445 : BitVec 32) : Fin 3 → Nat :=
  let c0_i32_3643 : BitVec 32 := 0#32
  let c0_i32_3644 : BitVec 32 := 0#32
  ![v4445.toNat, 0, 0]

def k0_chk1579 (v4445 : BitVec 32) : Prop :=
  (∀ a, (k0_off1579 v4445) a + S1x16x128.size a ≤ S16384x16x128.size a)
theorem k0_off1579_inb : ∀ (v4445 : BitVec 32) (k0_hw1579 : k0_chk1579 v4445), ∀ a, (k0_off1579 v4445) a + S1x16x128.size a ≤ S16384x16x128.size a := fun v4445 k0_hw1579 => k0_hw1579

def k0_off1580 (v4451 : BitVec 32) : Fin 3 → Nat :=
  let c0_i32_3649 : BitVec 32 := 0#32
  let c0_i32_3650 : BitVec 32 := 0#32
  ![v4451.toNat, 0, 0]

def k0_chk1580 (v4451 : BitVec 32) : Prop :=
  (∀ a, (k0_off1580 v4451) a + S1x16x128.size a ≤ S16384x16x128.size a)
theorem k0_off1580_inb : ∀ (v4451 : BitVec 32) (k0_hw1580 : k0_chk1580 v4451), ∀ a, (k0_off1580 v4451) a + S1x16x128.size a ≤ S16384x16x128.size a := fun v4451 k0_hw1580 => k0_hw1580

def k0_off1581 (v4457 : BitVec 32) : Fin 3 → Nat :=
  let c0_i32_3655 : BitVec 32 := 0#32
  let c0_i32_3656 : BitVec 32 := 0#32
  ![v4457.toNat, 0, 0]

def k0_chk1581 (v4457 : BitVec 32) : Prop :=
  (∀ a, (k0_off1581 v4457) a + S1x16x128.size a ≤ S16384x16x128.size a)
theorem k0_off1581_inb : ∀ (v4457 : BitVec 32) (k0_hw1581 : k0_chk1581 v4457), ∀ a, (k0_off1581 v4457) a + S1x16x128.size a ≤ S16384x16x128.size a := fun v4457 k0_hw1581 => k0_hw1581

def k0_off1582 (v4463 : BitVec 32) : Fin 3 → Nat :=
  let c0_i32_3661 : BitVec 32 := 0#32
  let c0_i32_3662 : BitVec 32 := 0#32
  ![v4463.toNat, 0, 0]

def k0_chk1582 (v4463 : BitVec 32) : Prop :=
  (∀ a, (k0_off1582 v4463) a + S1x16x128.size a ≤ S16384x16x128.size a)
theorem k0_off1582_inb : ∀ (v4463 : BitVec 32) (k0_hw1582 : k0_chk1582 v4463), ∀ a, (k0_off1582 v4463) a + S1x16x128.size a ≤ S16384x16x128.size a := fun v4463 k0_hw1582 => k0_hw1582

def k0_off1583 (v4469 : BitVec 32) : Fin 3 → Nat :=
  let c0_i32_3667 : BitVec 32 := 0#32
  let c0_i32_3668 : BitVec 32 := 0#32
  ![v4469.toNat, 0, 0]

def k0_chk1583 (v4469 : BitVec 32) : Prop :=
  (∀ a, (k0_off1583 v4469) a + S1x16x128.size a ≤ S16384x16x128.size a)
theorem k0_off1583_inb : ∀ (v4469 : BitVec 32) (k0_hw1583 : k0_chk1583 v4469), ∀ a, (k0_off1583 v4469) a + S1x16x128.size a ≤ S16384x16x128.size a := fun v4469 k0_hw1583 => k0_hw1583

def k0_off1584 (v4475 : BitVec 32) : Fin 3 → Nat :=
  let c0_i32_3673 : BitVec 32 := 0#32
  let c0_i32_3674 : BitVec 32 := 0#32
  ![v4475.toNat, 0, 0]

def k0_chk1584 (v4475 : BitVec 32) : Prop :=
  (∀ a, (k0_off1584 v4475) a + S1x16x128.size a ≤ S16384x16x128.size a)
theorem k0_off1584_inb : ∀ (v4475 : BitVec 32) (k0_hw1584 : k0_chk1584 v4475), ∀ a, (k0_off1584 v4475) a + S1x16x128.size a ≤ S16384x16x128.size a := fun v4475 k0_hw1584 => k0_hw1584

def k0_off1585 (v4481 : BitVec 32) : Fin 3 → Nat :=
  let c0_i32_3679 : BitVec 32 := 0#32
  let c0_i32_3680 : BitVec 32 := 0#32
  ![v4481.toNat, 0, 0]

def k0_chk1585 (v4481 : BitVec 32) : Prop :=
  (∀ a, (k0_off1585 v4481) a + S1x16x128.size a ≤ S16384x16x128.size a)
theorem k0_off1585_inb : ∀ (v4481 : BitVec 32) (k0_hw1585 : k0_chk1585 v4481), ∀ a, (k0_off1585 v4481) a + S1x16x128.size a ≤ S16384x16x128.size a := fun v4481 k0_hw1585 => k0_hw1585

def k0_off1586 (v4487 : BitVec 32) : Fin 3 → Nat :=
  let c0_i32_3685 : BitVec 32 := 0#32
  let c0_i32_3686 : BitVec 32 := 0#32
  ![v4487.toNat, 0, 0]

def k0_chk1586 (v4487 : BitVec 32) : Prop :=
  (∀ a, (k0_off1586 v4487) a + S1x16x128.size a ≤ S16384x16x128.size a)
theorem k0_off1586_inb : ∀ (v4487 : BitVec 32) (k0_hw1586 : k0_chk1586 v4487), ∀ a, (k0_off1586 v4487) a + S1x16x128.size a ≤ S16384x16x128.size a := fun v4487 k0_hw1586 => k0_hw1586

def k0_off1587 (v4493 : BitVec 32) : Fin 3 → Nat :=
  let c0_i32_3691 : BitVec 32 := 0#32
  let c0_i32_3692 : BitVec 32 := 0#32
  ![v4493.toNat, 0, 0]

def k0_chk1587 (v4493 : BitVec 32) : Prop :=
  (∀ a, (k0_off1587 v4493) a + S1x16x128.size a ≤ S16384x16x128.size a)
theorem k0_off1587_inb : ∀ (v4493 : BitVec 32) (k0_hw1587 : k0_chk1587 v4493), ∀ a, (k0_off1587 v4493) a + S1x16x128.size a ≤ S16384x16x128.size a := fun v4493 k0_hw1587 => k0_hw1587

def k0_off1588 (v4499 : BitVec 32) : Fin 3 → Nat :=
  let c0_i32_3697 : BitVec 32 := 0#32
  let c0_i32_3698 : BitVec 32 := 0#32
  ![v4499.toNat, 0, 0]

def k0_chk1588 (v4499 : BitVec 32) : Prop :=
  (∀ a, (k0_off1588 v4499) a + S1x16x128.size a ≤ S16384x16x128.size a)
theorem k0_off1588_inb : ∀ (v4499 : BitVec 32) (k0_hw1588 : k0_chk1588 v4499), ∀ a, (k0_off1588 v4499) a + S1x16x128.size a ≤ S16384x16x128.size a := fun v4499 k0_hw1588 => k0_hw1588

def k0_off1589 (v4505 : BitVec 32) : Fin 3 → Nat :=
  let c0_i32_3703 : BitVec 32 := 0#32
  let c0_i32_3704 : BitVec 32 := 0#32
  ![v4505.toNat, 0, 0]

def k0_chk1589 (v4505 : BitVec 32) : Prop :=
  (∀ a, (k0_off1589 v4505) a + S1x16x128.size a ≤ S16384x16x128.size a)
theorem k0_off1589_inb : ∀ (v4505 : BitVec 32) (k0_hw1589 : k0_chk1589 v4505), ∀ a, (k0_off1589 v4505) a + S1x16x128.size a ≤ S16384x16x128.size a := fun v4505 k0_hw1589 => k0_hw1589

def k0_off1590 (v4511 : BitVec 32) : Fin 3 → Nat :=
  let c0_i32_3709 : BitVec 32 := 0#32
  let c0_i32_3710 : BitVec 32 := 0#32
  ![v4511.toNat, 0, 0]

def k0_chk1590 (v4511 : BitVec 32) : Prop :=
  (∀ a, (k0_off1590 v4511) a + S1x16x128.size a ≤ S16384x16x128.size a)
theorem k0_off1590_inb : ∀ (v4511 : BitVec 32) (k0_hw1590 : k0_chk1590 v4511), ∀ a, (k0_off1590 v4511) a + S1x16x128.size a ≤ S16384x16x128.size a := fun v4511 k0_hw1590 => k0_hw1590

def k0_off1591 (v4517 : BitVec 32) : Fin 3 → Nat :=
  let c0_i32_3715 : BitVec 32 := 0#32
  let c0_i32_3716 : BitVec 32 := 0#32
  ![v4517.toNat, 0, 0]

def k0_chk1591 (v4517 : BitVec 32) : Prop :=
  (∀ a, (k0_off1591 v4517) a + S1x16x128.size a ≤ S16384x16x128.size a)
theorem k0_off1591_inb : ∀ (v4517 : BitVec 32) (k0_hw1591 : k0_chk1591 v4517), ∀ a, (k0_off1591 v4517) a + S1x16x128.size a ≤ S16384x16x128.size a := fun v4517 k0_hw1591 => k0_hw1591

def k0_off1592 (v4523 : BitVec 32) : Fin 3 → Nat :=
  let c0_i32_3721 : BitVec 32 := 0#32
  let c0_i32_3722 : BitVec 32 := 0#32
  ![v4523.toNat, 0, 0]

def k0_chk1592 (v4523 : BitVec 32) : Prop :=
  (∀ a, (k0_off1592 v4523) a + S1x16x128.size a ≤ S16384x16x128.size a)
theorem k0_off1592_inb : ∀ (v4523 : BitVec 32) (k0_hw1592 : k0_chk1592 v4523), ∀ a, (k0_off1592 v4523) a + S1x16x128.size a ≤ S16384x16x128.size a := fun v4523 k0_hw1592 => k0_hw1592

def k0_off1593 (v4529 : BitVec 32) : Fin 3 → Nat :=
  let c0_i32_3727 : BitVec 32 := 0#32
  let c0_i32_3728 : BitVec 32 := 0#32
  ![v4529.toNat, 0, 0]

def k0_chk1593 (v4529 : BitVec 32) : Prop :=
  (∀ a, (k0_off1593 v4529) a + S1x16x128.size a ≤ S16384x16x128.size a)
theorem k0_off1593_inb : ∀ (v4529 : BitVec 32) (k0_hw1593 : k0_chk1593 v4529), ∀ a, (k0_off1593 v4529) a + S1x16x128.size a ≤ S16384x16x128.size a := fun v4529 k0_hw1593 => k0_hw1593

def k0_off1594 (v4535 : BitVec 32) : Fin 3 → Nat :=
  let c0_i32_3733 : BitVec 32 := 0#32
  let c0_i32_3734 : BitVec 32 := 0#32
  ![v4535.toNat, 0, 0]

def k0_chk1594 (v4535 : BitVec 32) : Prop :=
  (∀ a, (k0_off1594 v4535) a + S1x16x128.size a ≤ S16384x16x128.size a)
theorem k0_off1594_inb : ∀ (v4535 : BitVec 32) (k0_hw1594 : k0_chk1594 v4535), ∀ a, (k0_off1594 v4535) a + S1x16x128.size a ≤ S16384x16x128.size a := fun v4535 k0_hw1594 => k0_hw1594

def k0_off1595 (v4541 : BitVec 32) : Fin 3 → Nat :=
  let c0_i32_3739 : BitVec 32 := 0#32
  let c0_i32_3740 : BitVec 32 := 0#32
  ![v4541.toNat, 0, 0]

def k0_chk1595 (v4541 : BitVec 32) : Prop :=
  (∀ a, (k0_off1595 v4541) a + S1x16x128.size a ≤ S16384x16x128.size a)
theorem k0_off1595_inb : ∀ (v4541 : BitVec 32) (k0_hw1595 : k0_chk1595 v4541), ∀ a, (k0_off1595 v4541) a + S1x16x128.size a ≤ S16384x16x128.size a := fun v4541 k0_hw1595 => k0_hw1595

def k0_off1596 (v4547 : BitVec 32) : Fin 3 → Nat :=
  let c0_i32_3745 : BitVec 32 := 0#32
  let c0_i32_3746 : BitVec 32 := 0#32
  ![v4547.toNat, 0, 0]

def k0_chk1596 (v4547 : BitVec 32) : Prop :=
  (∀ a, (k0_off1596 v4547) a + S1x16x128.size a ≤ S16384x16x128.size a)
theorem k0_off1596_inb : ∀ (v4547 : BitVec 32) (k0_hw1596 : k0_chk1596 v4547), ∀ a, (k0_off1596 v4547) a + S1x16x128.size a ≤ S16384x16x128.size a := fun v4547 k0_hw1596 => k0_hw1596

def k0_off1597 (v4553 : BitVec 32) : Fin 3 → Nat :=
  let c0_i32_3751 : BitVec 32 := 0#32
  let c0_i32_3752 : BitVec 32 := 0#32
  ![v4553.toNat, 0, 0]

def k0_chk1597 (v4553 : BitVec 32) : Prop :=
  (∀ a, (k0_off1597 v4553) a + S1x16x128.size a ≤ S16384x16x128.size a)
theorem k0_off1597_inb : ∀ (v4553 : BitVec 32) (k0_hw1597 : k0_chk1597 v4553), ∀ a, (k0_off1597 v4553) a + S1x16x128.size a ≤ S16384x16x128.size a := fun v4553 k0_hw1597 => k0_hw1597

def k0_off1598 (v4559 : BitVec 32) : Fin 3 → Nat :=
  let c0_i32_3757 : BitVec 32 := 0#32
  let c0_i32_3758 : BitVec 32 := 0#32
  ![v4559.toNat, 0, 0]

def k0_chk1598 (v4559 : BitVec 32) : Prop :=
  (∀ a, (k0_off1598 v4559) a + S1x16x128.size a ≤ S16384x16x128.size a)
theorem k0_off1598_inb : ∀ (v4559 : BitVec 32) (k0_hw1598 : k0_chk1598 v4559), ∀ a, (k0_off1598 v4559) a + S1x16x128.size a ≤ S16384x16x128.size a := fun v4559 k0_hw1598 => k0_hw1598

def k0_off1599 (v4565 : BitVec 32) : Fin 3 → Nat :=
  let c0_i32_3763 : BitVec 32 := 0#32
  let c0_i32_3764 : BitVec 32 := 0#32
  ![v4565.toNat, 0, 0]

def k0_chk1599 (v4565 : BitVec 32) : Prop :=
  (∀ a, (k0_off1599 v4565) a + S1x16x128.size a ≤ S16384x16x128.size a)
theorem k0_off1599_inb : ∀ (v4565 : BitVec 32) (k0_hw1599 : k0_chk1599 v4565), ∀ a, (k0_off1599 v4565) a + S1x16x128.size a ≤ S16384x16x128.size a := fun v4565 k0_hw1599 => k0_hw1599

def k0_off1600 (v4571 : BitVec 32) : Fin 3 → Nat :=
  let c0_i32_3769 : BitVec 32 := 0#32
  let c0_i32_3770 : BitVec 32 := 0#32
  ![v4571.toNat, 0, 0]

def k0_chk1600 (v4571 : BitVec 32) : Prop :=
  (∀ a, (k0_off1600 v4571) a + S1x16x128.size a ≤ S16384x16x128.size a)
theorem k0_off1600_inb : ∀ (v4571 : BitVec 32) (k0_hw1600 : k0_chk1600 v4571), ∀ a, (k0_off1600 v4571) a + S1x16x128.size a ≤ S16384x16x128.size a := fun v4571 k0_hw1600 => k0_hw1600

def k0_off1601 (v4577 : BitVec 32) : Fin 3 → Nat :=
  let c0_i32_3775 : BitVec 32 := 0#32
  let c0_i32_3776 : BitVec 32 := 0#32
  ![v4577.toNat, 0, 0]

def k0_chk1601 (v4577 : BitVec 32) : Prop :=
  (∀ a, (k0_off1601 v4577) a + S1x16x128.size a ≤ S16384x16x128.size a)
theorem k0_off1601_inb : ∀ (v4577 : BitVec 32) (k0_hw1601 : k0_chk1601 v4577), ∀ a, (k0_off1601 v4577) a + S1x16x128.size a ≤ S16384x16x128.size a := fun v4577 k0_hw1601 => k0_hw1601

def k0_off1602 (v4583 : BitVec 32) : Fin 3 → Nat :=
  let c0_i32_3781 : BitVec 32 := 0#32
  let c0_i32_3782 : BitVec 32 := 0#32
  ![v4583.toNat, 0, 0]

def k0_chk1602 (v4583 : BitVec 32) : Prop :=
  (∀ a, (k0_off1602 v4583) a + S1x16x128.size a ≤ S16384x16x128.size a)
theorem k0_off1602_inb : ∀ (v4583 : BitVec 32) (k0_hw1602 : k0_chk1602 v4583), ∀ a, (k0_off1602 v4583) a + S1x16x128.size a ≤ S16384x16x128.size a := fun v4583 k0_hw1602 => k0_hw1602

def k0_off1603 (v4589 : BitVec 32) : Fin 3 → Nat :=
  let c0_i32_3787 : BitVec 32 := 0#32
  let c0_i32_3788 : BitVec 32 := 0#32
  ![v4589.toNat, 0, 0]

def k0_chk1603 (v4589 : BitVec 32) : Prop :=
  (∀ a, (k0_off1603 v4589) a + S1x16x128.size a ≤ S16384x16x128.size a)
theorem k0_off1603_inb : ∀ (v4589 : BitVec 32) (k0_hw1603 : k0_chk1603 v4589), ∀ a, (k0_off1603 v4589) a + S1x16x128.size a ≤ S16384x16x128.size a := fun v4589 k0_hw1603 => k0_hw1603

def k0_off1604 (v4595 : BitVec 32) : Fin 3 → Nat :=
  let c0_i32_3793 : BitVec 32 := 0#32
  let c0_i32_3794 : BitVec 32 := 0#32
  ![v4595.toNat, 0, 0]

def k0_chk1604 (v4595 : BitVec 32) : Prop :=
  (∀ a, (k0_off1604 v4595) a + S1x16x128.size a ≤ S16384x16x128.size a)
theorem k0_off1604_inb : ∀ (v4595 : BitVec 32) (k0_hw1604 : k0_chk1604 v4595), ∀ a, (k0_off1604 v4595) a + S1x16x128.size a ≤ S16384x16x128.size a := fun v4595 k0_hw1604 => k0_hw1604

def k0_off1605 (v4601 : BitVec 32) : Fin 3 → Nat :=
  let c0_i32_3799 : BitVec 32 := 0#32
  let c0_i32_3800 : BitVec 32 := 0#32
  ![v4601.toNat, 0, 0]

def k0_chk1605 (v4601 : BitVec 32) : Prop :=
  (∀ a, (k0_off1605 v4601) a + S1x16x128.size a ≤ S16384x16x128.size a)
theorem k0_off1605_inb : ∀ (v4601 : BitVec 32) (k0_hw1605 : k0_chk1605 v4601), ∀ a, (k0_off1605 v4601) a + S1x16x128.size a ≤ S16384x16x128.size a := fun v4601 k0_hw1605 => k0_hw1605

def k0_off1606 (v4607 : BitVec 32) : Fin 3 → Nat :=
  let c0_i32_3805 : BitVec 32 := 0#32
  let c0_i32_3806 : BitVec 32 := 0#32
  ![v4607.toNat, 0, 0]

def k0_chk1606 (v4607 : BitVec 32) : Prop :=
  (∀ a, (k0_off1606 v4607) a + S1x16x128.size a ≤ S16384x16x128.size a)
theorem k0_off1606_inb : ∀ (v4607 : BitVec 32) (k0_hw1606 : k0_chk1606 v4607), ∀ a, (k0_off1606 v4607) a + S1x16x128.size a ≤ S16384x16x128.size a := fun v4607 k0_hw1606 => k0_hw1606

def k0_off1607 (v4613 : BitVec 32) : Fin 3 → Nat :=
  let c0_i32_3811 : BitVec 32 := 0#32
  let c0_i32_3812 : BitVec 32 := 0#32
  ![v4613.toNat, 0, 0]

def k0_chk1607 (v4613 : BitVec 32) : Prop :=
  (∀ a, (k0_off1607 v4613) a + S1x16x128.size a ≤ S16384x16x128.size a)
theorem k0_off1607_inb : ∀ (v4613 : BitVec 32) (k0_hw1607 : k0_chk1607 v4613), ∀ a, (k0_off1607 v4613) a + S1x16x128.size a ≤ S16384x16x128.size a := fun v4613 k0_hw1607 => k0_hw1607

def k0_off1608 (v4619 : BitVec 32) : Fin 3 → Nat :=
  let c0_i32_3817 : BitVec 32 := 0#32
  let c0_i32_3818 : BitVec 32 := 0#32
  ![v4619.toNat, 0, 0]

def k0_chk1608 (v4619 : BitVec 32) : Prop :=
  (∀ a, (k0_off1608 v4619) a + S1x16x128.size a ≤ S16384x16x128.size a)
theorem k0_off1608_inb : ∀ (v4619 : BitVec 32) (k0_hw1608 : k0_chk1608 v4619), ∀ a, (k0_off1608 v4619) a + S1x16x128.size a ≤ S16384x16x128.size a := fun v4619 k0_hw1608 => k0_hw1608

def k0_off1609 (v4625 : BitVec 32) : Fin 3 → Nat :=
  let c0_i32_3823 : BitVec 32 := 0#32
  let c0_i32_3824 : BitVec 32 := 0#32
  ![v4625.toNat, 0, 0]

def k0_chk1609 (v4625 : BitVec 32) : Prop :=
  (∀ a, (k0_off1609 v4625) a + S1x16x128.size a ≤ S16384x16x128.size a)
theorem k0_off1609_inb : ∀ (v4625 : BitVec 32) (k0_hw1609 : k0_chk1609 v4625), ∀ a, (k0_off1609 v4625) a + S1x16x128.size a ≤ S16384x16x128.size a := fun v4625 k0_hw1609 => k0_hw1609

def k0_off1610 (v4631 : BitVec 32) : Fin 3 → Nat :=
  let c0_i32_3829 : BitVec 32 := 0#32
  let c0_i32_3830 : BitVec 32 := 0#32
  ![v4631.toNat, 0, 0]

def k0_chk1610 (v4631 : BitVec 32) : Prop :=
  (∀ a, (k0_off1610 v4631) a + S1x16x128.size a ≤ S16384x16x128.size a)
theorem k0_off1610_inb : ∀ (v4631 : BitVec 32) (k0_hw1610 : k0_chk1610 v4631), ∀ a, (k0_off1610 v4631) a + S1x16x128.size a ≤ S16384x16x128.size a := fun v4631 k0_hw1610 => k0_hw1610

def k0_off1611 (v4637 : BitVec 32) : Fin 3 → Nat :=
  let c0_i32_3835 : BitVec 32 := 0#32
  let c0_i32_3836 : BitVec 32 := 0#32
  ![v4637.toNat, 0, 0]

def k0_chk1611 (v4637 : BitVec 32) : Prop :=
  (∀ a, (k0_off1611 v4637) a + S1x16x128.size a ≤ S16384x16x128.size a)
theorem k0_off1611_inb : ∀ (v4637 : BitVec 32) (k0_hw1611 : k0_chk1611 v4637), ∀ a, (k0_off1611 v4637) a + S1x16x128.size a ≤ S16384x16x128.size a := fun v4637 k0_hw1611 => k0_hw1611

def k0_off1612 (v4643 : BitVec 32) : Fin 3 → Nat :=
  let c0_i32_3841 : BitVec 32 := 0#32
  let c0_i32_3842 : BitVec 32 := 0#32
  ![v4643.toNat, 0, 0]

def k0_chk1612 (v4643 : BitVec 32) : Prop :=
  (∀ a, (k0_off1612 v4643) a + S1x16x128.size a ≤ S16384x16x128.size a)
theorem k0_off1612_inb : ∀ (v4643 : BitVec 32) (k0_hw1612 : k0_chk1612 v4643), ∀ a, (k0_off1612 v4643) a + S1x16x128.size a ≤ S16384x16x128.size a := fun v4643 k0_hw1612 => k0_hw1612

def k0_off1613 (v4649 : BitVec 32) : Fin 3 → Nat :=
  let c0_i32_3847 : BitVec 32 := 0#32
  let c0_i32_3848 : BitVec 32 := 0#32
  ![v4649.toNat, 0, 0]

def k0_chk1613 (v4649 : BitVec 32) : Prop :=
  (∀ a, (k0_off1613 v4649) a + S1x16x128.size a ≤ S16384x16x128.size a)
theorem k0_off1613_inb : ∀ (v4649 : BitVec 32) (k0_hw1613 : k0_chk1613 v4649), ∀ a, (k0_off1613 v4649) a + S1x16x128.size a ≤ S16384x16x128.size a := fun v4649 k0_hw1613 => k0_hw1613

def k0_off1614 (v4655 : BitVec 32) : Fin 3 → Nat :=
  let c0_i32_3853 : BitVec 32 := 0#32
  let c0_i32_3854 : BitVec 32 := 0#32
  ![v4655.toNat, 0, 0]

def k0_chk1614 (v4655 : BitVec 32) : Prop :=
  (∀ a, (k0_off1614 v4655) a + S1x16x128.size a ≤ S16384x16x128.size a)
theorem k0_off1614_inb : ∀ (v4655 : BitVec 32) (k0_hw1614 : k0_chk1614 v4655), ∀ a, (k0_off1614 v4655) a + S1x16x128.size a ≤ S16384x16x128.size a := fun v4655 k0_hw1614 => k0_hw1614

def k0_off1615 (v4661 : BitVec 32) : Fin 3 → Nat :=
  let c0_i32_3859 : BitVec 32 := 0#32
  let c0_i32_3860 : BitVec 32 := 0#32
  ![v4661.toNat, 0, 0]

def k0_chk1615 (v4661 : BitVec 32) : Prop :=
  (∀ a, (k0_off1615 v4661) a + S1x16x128.size a ≤ S16384x16x128.size a)
theorem k0_off1615_inb : ∀ (v4661 : BitVec 32) (k0_hw1615 : k0_chk1615 v4661), ∀ a, (k0_off1615 v4661) a + S1x16x128.size a ≤ S16384x16x128.size a := fun v4661 k0_hw1615 => k0_hw1615

def k0_off1616 (v4667 : BitVec 32) : Fin 3 → Nat :=
  let c0_i32_3865 : BitVec 32 := 0#32
  let c0_i32_3866 : BitVec 32 := 0#32
  ![v4667.toNat, 0, 0]

def k0_chk1616 (v4667 : BitVec 32) : Prop :=
  (∀ a, (k0_off1616 v4667) a + S1x16x128.size a ≤ S16384x16x128.size a)
theorem k0_off1616_inb : ∀ (v4667 : BitVec 32) (k0_hw1616 : k0_chk1616 v4667), ∀ a, (k0_off1616 v4667) a + S1x16x128.size a ≤ S16384x16x128.size a := fun v4667 k0_hw1616 => k0_hw1616

def k0_off1617 (v4673 : BitVec 32) : Fin 3 → Nat :=
  let c0_i32_3871 : BitVec 32 := 0#32
  let c0_i32_3872 : BitVec 32 := 0#32
  ![v4673.toNat, 0, 0]

def k0_chk1617 (v4673 : BitVec 32) : Prop :=
  (∀ a, (k0_off1617 v4673) a + S1x16x128.size a ≤ S16384x16x128.size a)
theorem k0_off1617_inb : ∀ (v4673 : BitVec 32) (k0_hw1617 : k0_chk1617 v4673), ∀ a, (k0_off1617 v4673) a + S1x16x128.size a ≤ S16384x16x128.size a := fun v4673 k0_hw1617 => k0_hw1617

def k0_off1618 (v4679 : BitVec 32) : Fin 3 → Nat :=
  let c0_i32_3877 : BitVec 32 := 0#32
  let c0_i32_3878 : BitVec 32 := 0#32
  ![v4679.toNat, 0, 0]

def k0_chk1618 (v4679 : BitVec 32) : Prop :=
  (∀ a, (k0_off1618 v4679) a + S1x16x128.size a ≤ S16384x16x128.size a)
theorem k0_off1618_inb : ∀ (v4679 : BitVec 32) (k0_hw1618 : k0_chk1618 v4679), ∀ a, (k0_off1618 v4679) a + S1x16x128.size a ≤ S16384x16x128.size a := fun v4679 k0_hw1618 => k0_hw1618

def k0_off1619 (v4685 : BitVec 32) : Fin 3 → Nat :=
  let c0_i32_3883 : BitVec 32 := 0#32
  let c0_i32_3884 : BitVec 32 := 0#32
  ![v4685.toNat, 0, 0]

def k0_chk1619 (v4685 : BitVec 32) : Prop :=
  (∀ a, (k0_off1619 v4685) a + S1x16x128.size a ≤ S16384x16x128.size a)
theorem k0_off1619_inb : ∀ (v4685 : BitVec 32) (k0_hw1619 : k0_chk1619 v4685), ∀ a, (k0_off1619 v4685) a + S1x16x128.size a ≤ S16384x16x128.size a := fun v4685 k0_hw1619 => k0_hw1619

def k0_off1620 (v4691 : BitVec 32) : Fin 3 → Nat :=
  let c0_i32_3889 : BitVec 32 := 0#32
  let c0_i32_3890 : BitVec 32 := 0#32
  ![v4691.toNat, 0, 0]

def k0_chk1620 (v4691 : BitVec 32) : Prop :=
  (∀ a, (k0_off1620 v4691) a + S1x16x128.size a ≤ S16384x16x128.size a)
theorem k0_off1620_inb : ∀ (v4691 : BitVec 32) (k0_hw1620 : k0_chk1620 v4691), ∀ a, (k0_off1620 v4691) a + S1x16x128.size a ≤ S16384x16x128.size a := fun v4691 k0_hw1620 => k0_hw1620

def k0_off1621 (v4697 : BitVec 32) : Fin 3 → Nat :=
  let c0_i32_3895 : BitVec 32 := 0#32
  let c0_i32_3896 : BitVec 32 := 0#32
  ![v4697.toNat, 0, 0]

def k0_chk1621 (v4697 : BitVec 32) : Prop :=
  (∀ a, (k0_off1621 v4697) a + S1x16x128.size a ≤ S16384x16x128.size a)
theorem k0_off1621_inb : ∀ (v4697 : BitVec 32) (k0_hw1621 : k0_chk1621 v4697), ∀ a, (k0_off1621 v4697) a + S1x16x128.size a ≤ S16384x16x128.size a := fun v4697 k0_hw1621 => k0_hw1621

def k0_off1622 (v4703 : BitVec 32) : Fin 3 → Nat :=
  let c0_i32_3901 : BitVec 32 := 0#32
  let c0_i32_3902 : BitVec 32 := 0#32
  ![v4703.toNat, 0, 0]

def k0_chk1622 (v4703 : BitVec 32) : Prop :=
  (∀ a, (k0_off1622 v4703) a + S1x16x128.size a ≤ S16384x16x128.size a)
theorem k0_off1622_inb : ∀ (v4703 : BitVec 32) (k0_hw1622 : k0_chk1622 v4703), ∀ a, (k0_off1622 v4703) a + S1x16x128.size a ≤ S16384x16x128.size a := fun v4703 k0_hw1622 => k0_hw1622

def k0_off1623 (v4709 : BitVec 32) : Fin 3 → Nat :=
  let c0_i32_3907 : BitVec 32 := 0#32
  let c0_i32_3908 : BitVec 32 := 0#32
  ![v4709.toNat, 0, 0]

def k0_chk1623 (v4709 : BitVec 32) : Prop :=
  (∀ a, (k0_off1623 v4709) a + S1x16x128.size a ≤ S16384x16x128.size a)
theorem k0_off1623_inb : ∀ (v4709 : BitVec 32) (k0_hw1623 : k0_chk1623 v4709), ∀ a, (k0_off1623 v4709) a + S1x16x128.size a ≤ S16384x16x128.size a := fun v4709 k0_hw1623 => k0_hw1623

def k0_off1624 (v4715 : BitVec 32) : Fin 3 → Nat :=
  let c0_i32_3913 : BitVec 32 := 0#32
  let c0_i32_3914 : BitVec 32 := 0#32
  ![v4715.toNat, 0, 0]

def k0_chk1624 (v4715 : BitVec 32) : Prop :=
  (∀ a, (k0_off1624 v4715) a + S1x16x128.size a ≤ S16384x16x128.size a)
theorem k0_off1624_inb : ∀ (v4715 : BitVec 32) (k0_hw1624 : k0_chk1624 v4715), ∀ a, (k0_off1624 v4715) a + S1x16x128.size a ≤ S16384x16x128.size a := fun v4715 k0_hw1624 => k0_hw1624

def k0_off1625 (v4721 : BitVec 32) : Fin 3 → Nat :=
  let c0_i32_3919 : BitVec 32 := 0#32
  let c0_i32_3920 : BitVec 32 := 0#32
  ![v4721.toNat, 0, 0]

def k0_chk1625 (v4721 : BitVec 32) : Prop :=
  (∀ a, (k0_off1625 v4721) a + S1x16x128.size a ≤ S16384x16x128.size a)
theorem k0_off1625_inb : ∀ (v4721 : BitVec 32) (k0_hw1625 : k0_chk1625 v4721), ∀ a, (k0_off1625 v4721) a + S1x16x128.size a ≤ S16384x16x128.size a := fun v4721 k0_hw1625 => k0_hw1625

def k0_off1626 (v4727 : BitVec 32) : Fin 3 → Nat :=
  let c0_i32_3925 : BitVec 32 := 0#32
  let c0_i32_3926 : BitVec 32 := 0#32
  ![v4727.toNat, 0, 0]

def k0_chk1626 (v4727 : BitVec 32) : Prop :=
  (∀ a, (k0_off1626 v4727) a + S1x16x128.size a ≤ S16384x16x128.size a)
theorem k0_off1626_inb : ∀ (v4727 : BitVec 32) (k0_hw1626 : k0_chk1626 v4727), ∀ a, (k0_off1626 v4727) a + S1x16x128.size a ≤ S16384x16x128.size a := fun v4727 k0_hw1626 => k0_hw1626

def k0_off1627 (v4733 : BitVec 32) : Fin 3 → Nat :=
  let c0_i32_3931 : BitVec 32 := 0#32
  let c0_i32_3932 : BitVec 32 := 0#32
  ![v4733.toNat, 0, 0]

def k0_chk1627 (v4733 : BitVec 32) : Prop :=
  (∀ a, (k0_off1627 v4733) a + S1x16x128.size a ≤ S16384x16x128.size a)
theorem k0_off1627_inb : ∀ (v4733 : BitVec 32) (k0_hw1627 : k0_chk1627 v4733), ∀ a, (k0_off1627 v4733) a + S1x16x128.size a ≤ S16384x16x128.size a := fun v4733 k0_hw1627 => k0_hw1627

def k0_off1628 (v4739 : BitVec 32) : Fin 3 → Nat :=
  let c0_i32_3937 : BitVec 32 := 0#32
  let c0_i32_3938 : BitVec 32 := 0#32
  ![v4739.toNat, 0, 0]

def k0_chk1628 (v4739 : BitVec 32) : Prop :=
  (∀ a, (k0_off1628 v4739) a + S1x16x128.size a ≤ S16384x16x128.size a)
theorem k0_off1628_inb : ∀ (v4739 : BitVec 32) (k0_hw1628 : k0_chk1628 v4739), ∀ a, (k0_off1628 v4739) a + S1x16x128.size a ≤ S16384x16x128.size a := fun v4739 k0_hw1628 => k0_hw1628

def k0_off1629 (v4745 : BitVec 32) : Fin 3 → Nat :=
  let c0_i32_3943 : BitVec 32 := 0#32
  let c0_i32_3944 : BitVec 32 := 0#32
  ![v4745.toNat, 0, 0]

def k0_chk1629 (v4745 : BitVec 32) : Prop :=
  (∀ a, (k0_off1629 v4745) a + S1x16x128.size a ≤ S16384x16x128.size a)
theorem k0_off1629_inb : ∀ (v4745 : BitVec 32) (k0_hw1629 : k0_chk1629 v4745), ∀ a, (k0_off1629 v4745) a + S1x16x128.size a ≤ S16384x16x128.size a := fun v4745 k0_hw1629 => k0_hw1629

def k0_off1630 (v4751 : BitVec 32) : Fin 3 → Nat :=
  let c0_i32_3949 : BitVec 32 := 0#32
  let c0_i32_3950 : BitVec 32 := 0#32
  ![v4751.toNat, 0, 0]

def k0_chk1630 (v4751 : BitVec 32) : Prop :=
  (∀ a, (k0_off1630 v4751) a + S1x16x128.size a ≤ S16384x16x128.size a)
theorem k0_off1630_inb : ∀ (v4751 : BitVec 32) (k0_hw1630 : k0_chk1630 v4751), ∀ a, (k0_off1630 v4751) a + S1x16x128.size a ≤ S16384x16x128.size a := fun v4751 k0_hw1630 => k0_hw1630

def k0_off1631 (v4757 : BitVec 32) : Fin 3 → Nat :=
  let c0_i32_3955 : BitVec 32 := 0#32
  let c0_i32_3956 : BitVec 32 := 0#32
  ![v4757.toNat, 0, 0]

def k0_chk1631 (v4757 : BitVec 32) : Prop :=
  (∀ a, (k0_off1631 v4757) a + S1x16x128.size a ≤ S16384x16x128.size a)
theorem k0_off1631_inb : ∀ (v4757 : BitVec 32) (k0_hw1631 : k0_chk1631 v4757), ∀ a, (k0_off1631 v4757) a + S1x16x128.size a ≤ S16384x16x128.size a := fun v4757 k0_hw1631 => k0_hw1631

def k0_off1632 (v4763 : BitVec 32) : Fin 3 → Nat :=
  let c0_i32_3961 : BitVec 32 := 0#32
  let c0_i32_3962 : BitVec 32 := 0#32
  ![v4763.toNat, 0, 0]

def k0_chk1632 (v4763 : BitVec 32) : Prop :=
  (∀ a, (k0_off1632 v4763) a + S1x16x128.size a ≤ S16384x16x128.size a)
theorem k0_off1632_inb : ∀ (v4763 : BitVec 32) (k0_hw1632 : k0_chk1632 v4763), ∀ a, (k0_off1632 v4763) a + S1x16x128.size a ≤ S16384x16x128.size a := fun v4763 k0_hw1632 => k0_hw1632

def k0_off1633 (v4769 : BitVec 32) : Fin 3 → Nat :=
  let c0_i32_3967 : BitVec 32 := 0#32
  let c0_i32_3968 : BitVec 32 := 0#32
  ![v4769.toNat, 0, 0]

def k0_chk1633 (v4769 : BitVec 32) : Prop :=
  (∀ a, (k0_off1633 v4769) a + S1x16x128.size a ≤ S16384x16x128.size a)
theorem k0_off1633_inb : ∀ (v4769 : BitVec 32) (k0_hw1633 : k0_chk1633 v4769), ∀ a, (k0_off1633 v4769) a + S1x16x128.size a ≤ S16384x16x128.size a := fun v4769 k0_hw1633 => k0_hw1633

def k0_off1634 (v4775 : BitVec 32) : Fin 3 → Nat :=
  let c0_i32_3973 : BitVec 32 := 0#32
  let c0_i32_3974 : BitVec 32 := 0#32
  ![v4775.toNat, 0, 0]

def k0_chk1634 (v4775 : BitVec 32) : Prop :=
  (∀ a, (k0_off1634 v4775) a + S1x16x128.size a ≤ S16384x16x128.size a)
theorem k0_off1634_inb : ∀ (v4775 : BitVec 32) (k0_hw1634 : k0_chk1634 v4775), ∀ a, (k0_off1634 v4775) a + S1x16x128.size a ≤ S16384x16x128.size a := fun v4775 k0_hw1634 => k0_hw1634

def k0_off1635 (v4781 : BitVec 32) : Fin 3 → Nat :=
  let c0_i32_3979 : BitVec 32 := 0#32
  let c0_i32_3980 : BitVec 32 := 0#32
  ![v4781.toNat, 0, 0]

def k0_chk1635 (v4781 : BitVec 32) : Prop :=
  (∀ a, (k0_off1635 v4781) a + S1x16x128.size a ≤ S16384x16x128.size a)
theorem k0_off1635_inb : ∀ (v4781 : BitVec 32) (k0_hw1635 : k0_chk1635 v4781), ∀ a, (k0_off1635 v4781) a + S1x16x128.size a ≤ S16384x16x128.size a := fun v4781 k0_hw1635 => k0_hw1635

def k0_off1636 (v4787 : BitVec 32) : Fin 3 → Nat :=
  let c0_i32_3985 : BitVec 32 := 0#32
  let c0_i32_3986 : BitVec 32 := 0#32
  ![v4787.toNat, 0, 0]

def k0_chk1636 (v4787 : BitVec 32) : Prop :=
  (∀ a, (k0_off1636 v4787) a + S1x16x128.size a ≤ S16384x16x128.size a)
theorem k0_off1636_inb : ∀ (v4787 : BitVec 32) (k0_hw1636 : k0_chk1636 v4787), ∀ a, (k0_off1636 v4787) a + S1x16x128.size a ≤ S16384x16x128.size a := fun v4787 k0_hw1636 => k0_hw1636

def k0_off1637 (v4793 : BitVec 32) : Fin 3 → Nat :=
  let c0_i32_3991 : BitVec 32 := 0#32
  let c0_i32_3992 : BitVec 32 := 0#32
  ![v4793.toNat, 0, 0]

def k0_chk1637 (v4793 : BitVec 32) : Prop :=
  (∀ a, (k0_off1637 v4793) a + S1x16x128.size a ≤ S16384x16x128.size a)
theorem k0_off1637_inb : ∀ (v4793 : BitVec 32) (k0_hw1637 : k0_chk1637 v4793), ∀ a, (k0_off1637 v4793) a + S1x16x128.size a ≤ S16384x16x128.size a := fun v4793 k0_hw1637 => k0_hw1637

def k0_off1638 (v4799 : BitVec 32) : Fin 3 → Nat :=
  let c0_i32_3997 : BitVec 32 := 0#32
  let c0_i32_3998 : BitVec 32 := 0#32
  ![v4799.toNat, 0, 0]

def k0_chk1638 (v4799 : BitVec 32) : Prop :=
  (∀ a, (k0_off1638 v4799) a + S1x16x128.size a ≤ S16384x16x128.size a)
theorem k0_off1638_inb : ∀ (v4799 : BitVec 32) (k0_hw1638 : k0_chk1638 v4799), ∀ a, (k0_off1638 v4799) a + S1x16x128.size a ≤ S16384x16x128.size a := fun v4799 k0_hw1638 => k0_hw1638

def k0_off1639 (v4805 : BitVec 32) : Fin 3 → Nat :=
  let c0_i32_4003 : BitVec 32 := 0#32
  let c0_i32_4004 : BitVec 32 := 0#32
  ![v4805.toNat, 0, 0]

def k0_chk1639 (v4805 : BitVec 32) : Prop :=
  (∀ a, (k0_off1639 v4805) a + S1x16x128.size a ≤ S16384x16x128.size a)
theorem k0_off1639_inb : ∀ (v4805 : BitVec 32) (k0_hw1639 : k0_chk1639 v4805), ∀ a, (k0_off1639 v4805) a + S1x16x128.size a ≤ S16384x16x128.size a := fun v4805 k0_hw1639 => k0_hw1639

def k0_off1640 (v4811 : BitVec 32) : Fin 3 → Nat :=
  let c0_i32_4009 : BitVec 32 := 0#32
  let c0_i32_4010 : BitVec 32 := 0#32
  ![v4811.toNat, 0, 0]

def k0_chk1640 (v4811 : BitVec 32) : Prop :=
  (∀ a, (k0_off1640 v4811) a + S1x16x128.size a ≤ S16384x16x128.size a)
theorem k0_off1640_inb : ∀ (v4811 : BitVec 32) (k0_hw1640 : k0_chk1640 v4811), ∀ a, (k0_off1640 v4811) a + S1x16x128.size a ≤ S16384x16x128.size a := fun v4811 k0_hw1640 => k0_hw1640

def k0_off1641 (v4817 : BitVec 32) : Fin 3 → Nat :=
  let c0_i32_4015 : BitVec 32 := 0#32
  let c0_i32_4016 : BitVec 32 := 0#32
  ![v4817.toNat, 0, 0]

def k0_chk1641 (v4817 : BitVec 32) : Prop :=
  (∀ a, (k0_off1641 v4817) a + S1x16x128.size a ≤ S16384x16x128.size a)
theorem k0_off1641_inb : ∀ (v4817 : BitVec 32) (k0_hw1641 : k0_chk1641 v4817), ∀ a, (k0_off1641 v4817) a + S1x16x128.size a ≤ S16384x16x128.size a := fun v4817 k0_hw1641 => k0_hw1641

def k0_off1642 (v4823 : BitVec 32) : Fin 3 → Nat :=
  let c0_i32_4021 : BitVec 32 := 0#32
  let c0_i32_4022 : BitVec 32 := 0#32
  ![v4823.toNat, 0, 0]

def k0_chk1642 (v4823 : BitVec 32) : Prop :=
  (∀ a, (k0_off1642 v4823) a + S1x16x128.size a ≤ S16384x16x128.size a)
theorem k0_off1642_inb : ∀ (v4823 : BitVec 32) (k0_hw1642 : k0_chk1642 v4823), ∀ a, (k0_off1642 v4823) a + S1x16x128.size a ≤ S16384x16x128.size a := fun v4823 k0_hw1642 => k0_hw1642

def k0_off1643 (v4829 : BitVec 32) : Fin 3 → Nat :=
  let c0_i32_4027 : BitVec 32 := 0#32
  let c0_i32_4028 : BitVec 32 := 0#32
  ![v4829.toNat, 0, 0]

def k0_chk1643 (v4829 : BitVec 32) : Prop :=
  (∀ a, (k0_off1643 v4829) a + S1x16x128.size a ≤ S16384x16x128.size a)
theorem k0_off1643_inb : ∀ (v4829 : BitVec 32) (k0_hw1643 : k0_chk1643 v4829), ∀ a, (k0_off1643 v4829) a + S1x16x128.size a ≤ S16384x16x128.size a := fun v4829 k0_hw1643 => k0_hw1643

def k0_off1644 (v4835 : BitVec 32) : Fin 3 → Nat :=
  let c0_i32_4033 : BitVec 32 := 0#32
  let c0_i32_4034 : BitVec 32 := 0#32
  ![v4835.toNat, 0, 0]

def k0_chk1644 (v4835 : BitVec 32) : Prop :=
  (∀ a, (k0_off1644 v4835) a + S1x16x128.size a ≤ S16384x16x128.size a)
theorem k0_off1644_inb : ∀ (v4835 : BitVec 32) (k0_hw1644 : k0_chk1644 v4835), ∀ a, (k0_off1644 v4835) a + S1x16x128.size a ≤ S16384x16x128.size a := fun v4835 k0_hw1644 => k0_hw1644

def k0_off1645 (v4841 : BitVec 32) : Fin 3 → Nat :=
  let c0_i32_4039 : BitVec 32 := 0#32
  let c0_i32_4040 : BitVec 32 := 0#32
  ![v4841.toNat, 0, 0]

def k0_chk1645 (v4841 : BitVec 32) : Prop :=
  (∀ a, (k0_off1645 v4841) a + S1x16x128.size a ≤ S16384x16x128.size a)
theorem k0_off1645_inb : ∀ (v4841 : BitVec 32) (k0_hw1645 : k0_chk1645 v4841), ∀ a, (k0_off1645 v4841) a + S1x16x128.size a ≤ S16384x16x128.size a := fun v4841 k0_hw1645 => k0_hw1645

def k0_off1646 (v4847 : BitVec 32) : Fin 3 → Nat :=
  let c0_i32_4045 : BitVec 32 := 0#32
  let c0_i32_4046 : BitVec 32 := 0#32
  ![v4847.toNat, 0, 0]

def k0_chk1646 (v4847 : BitVec 32) : Prop :=
  (∀ a, (k0_off1646 v4847) a + S1x16x128.size a ≤ S16384x16x128.size a)
theorem k0_off1646_inb : ∀ (v4847 : BitVec 32) (k0_hw1646 : k0_chk1646 v4847), ∀ a, (k0_off1646 v4847) a + S1x16x128.size a ≤ S16384x16x128.size a := fun v4847 k0_hw1646 => k0_hw1646

def k0_off1647 (v4853 : BitVec 32) : Fin 3 → Nat :=
  let c0_i32_4051 : BitVec 32 := 0#32
  let c0_i32_4052 : BitVec 32 := 0#32
  ![v4853.toNat, 0, 0]

def k0_chk1647 (v4853 : BitVec 32) : Prop :=
  (∀ a, (k0_off1647 v4853) a + S1x16x128.size a ≤ S16384x16x128.size a)
theorem k0_off1647_inb : ∀ (v4853 : BitVec 32) (k0_hw1647 : k0_chk1647 v4853), ∀ a, (k0_off1647 v4853) a + S1x16x128.size a ≤ S16384x16x128.size a := fun v4853 k0_hw1647 => k0_hw1647

def k0_off1648 (v4859 : BitVec 32) : Fin 3 → Nat :=
  let c0_i32_4057 : BitVec 32 := 0#32
  let c0_i32_4058 : BitVec 32 := 0#32
  ![v4859.toNat, 0, 0]

def k0_chk1648 (v4859 : BitVec 32) : Prop :=
  (∀ a, (k0_off1648 v4859) a + S1x16x128.size a ≤ S16384x16x128.size a)
theorem k0_off1648_inb : ∀ (v4859 : BitVec 32) (k0_hw1648 : k0_chk1648 v4859), ∀ a, (k0_off1648 v4859) a + S1x16x128.size a ≤ S16384x16x128.size a := fun v4859 k0_hw1648 => k0_hw1648

def k0_off1649 (v4865 : BitVec 32) : Fin 3 → Nat :=
  let c0_i32_4063 : BitVec 32 := 0#32
  let c0_i32_4064 : BitVec 32 := 0#32
  ![v4865.toNat, 0, 0]

def k0_chk1649 (v4865 : BitVec 32) : Prop :=
  (∀ a, (k0_off1649 v4865) a + S1x16x128.size a ≤ S16384x16x128.size a)
theorem k0_off1649_inb : ∀ (v4865 : BitVec 32) (k0_hw1649 : k0_chk1649 v4865), ∀ a, (k0_off1649 v4865) a + S1x16x128.size a ≤ S16384x16x128.size a := fun v4865 k0_hw1649 => k0_hw1649

def k0_off1650 (v4871 : BitVec 32) : Fin 3 → Nat :=
  let c0_i32_4069 : BitVec 32 := 0#32
  let c0_i32_4070 : BitVec 32 := 0#32
  ![v4871.toNat, 0, 0]

def k0_chk1650 (v4871 : BitVec 32) : Prop :=
  (∀ a, (k0_off1650 v4871) a + S1x16x128.size a ≤ S16384x16x128.size a)
theorem k0_off1650_inb : ∀ (v4871 : BitVec 32) (k0_hw1650 : k0_chk1650 v4871), ∀ a, (k0_off1650 v4871) a + S1x16x128.size a ≤ S16384x16x128.size a := fun v4871 k0_hw1650 => k0_hw1650

def k0_off1651 (v4877 : BitVec 32) : Fin 3 → Nat :=
  let c0_i32_4075 : BitVec 32 := 0#32
  let c0_i32_4076 : BitVec 32 := 0#32
  ![v4877.toNat, 0, 0]

def k0_chk1651 (v4877 : BitVec 32) : Prop :=
  (∀ a, (k0_off1651 v4877) a + S1x16x128.size a ≤ S16384x16x128.size a)
theorem k0_off1651_inb : ∀ (v4877 : BitVec 32) (k0_hw1651 : k0_chk1651 v4877), ∀ a, (k0_off1651 v4877) a + S1x16x128.size a ≤ S16384x16x128.size a := fun v4877 k0_hw1651 => k0_hw1651

def k0_off1652 (v4883 : BitVec 32) : Fin 3 → Nat :=
  let c0_i32_4081 : BitVec 32 := 0#32
  let c0_i32_4082 : BitVec 32 := 0#32
  ![v4883.toNat, 0, 0]

def k0_chk1652 (v4883 : BitVec 32) : Prop :=
  (∀ a, (k0_off1652 v4883) a + S1x16x128.size a ≤ S16384x16x128.size a)
theorem k0_off1652_inb : ∀ (v4883 : BitVec 32) (k0_hw1652 : k0_chk1652 v4883), ∀ a, (k0_off1652 v4883) a + S1x16x128.size a ≤ S16384x16x128.size a := fun v4883 k0_hw1652 => k0_hw1652

def k0_off1653 (v4889 : BitVec 32) : Fin 3 → Nat :=
  let c0_i32_4087 : BitVec 32 := 0#32
  let c0_i32_4088 : BitVec 32 := 0#32
  ![v4889.toNat, 0, 0]

def k0_chk1653 (v4889 : BitVec 32) : Prop :=
  (∀ a, (k0_off1653 v4889) a + S1x16x128.size a ≤ S16384x16x128.size a)
theorem k0_off1653_inb : ∀ (v4889 : BitVec 32) (k0_hw1653 : k0_chk1653 v4889), ∀ a, (k0_off1653 v4889) a + S1x16x128.size a ≤ S16384x16x128.size a := fun v4889 k0_hw1653 => k0_hw1653

def k0_off1654 (v4895 : BitVec 32) : Fin 3 → Nat :=
  let c0_i32_4093 : BitVec 32 := 0#32
  let c0_i32_4094 : BitVec 32 := 0#32
  ![v4895.toNat, 0, 0]

def k0_chk1654 (v4895 : BitVec 32) : Prop :=
  (∀ a, (k0_off1654 v4895) a + S1x16x128.size a ≤ S16384x16x128.size a)
theorem k0_off1654_inb : ∀ (v4895 : BitVec 32) (k0_hw1654 : k0_chk1654 v4895), ∀ a, (k0_off1654 v4895) a + S1x16x128.size a ≤ S16384x16x128.size a := fun v4895 k0_hw1654 => k0_hw1654

def k0_off1655 (v4901 : BitVec 32) : Fin 3 → Nat :=
  let c0_i32_4099 : BitVec 32 := 0#32
  let c0_i32_4100 : BitVec 32 := 0#32
  ![v4901.toNat, 0, 0]

def k0_chk1655 (v4901 : BitVec 32) : Prop :=
  (∀ a, (k0_off1655 v4901) a + S1x16x128.size a ≤ S16384x16x128.size a)
theorem k0_off1655_inb : ∀ (v4901 : BitVec 32) (k0_hw1655 : k0_chk1655 v4901), ∀ a, (k0_off1655 v4901) a + S1x16x128.size a ≤ S16384x16x128.size a := fun v4901 k0_hw1655 => k0_hw1655

def k0_off1656 (v4907 : BitVec 32) : Fin 3 → Nat :=
  let c0_i32_4105 : BitVec 32 := 0#32
  let c0_i32_4106 : BitVec 32 := 0#32
  ![v4907.toNat, 0, 0]

def k0_chk1656 (v4907 : BitVec 32) : Prop :=
  (∀ a, (k0_off1656 v4907) a + S1x16x128.size a ≤ S16384x16x128.size a)
theorem k0_off1656_inb : ∀ (v4907 : BitVec 32) (k0_hw1656 : k0_chk1656 v4907), ∀ a, (k0_off1656 v4907) a + S1x16x128.size a ≤ S16384x16x128.size a := fun v4907 k0_hw1656 => k0_hw1656

def k0_off1657 (v4913 : BitVec 32) : Fin 3 → Nat :=
  let c0_i32_4111 : BitVec 32 := 0#32
  let c0_i32_4112 : BitVec 32 := 0#32
  ![v4913.toNat, 0, 0]

def k0_chk1657 (v4913 : BitVec 32) : Prop :=
  (∀ a, (k0_off1657 v4913) a + S1x16x128.size a ≤ S16384x16x128.size a)
theorem k0_off1657_inb : ∀ (v4913 : BitVec 32) (k0_hw1657 : k0_chk1657 v4913), ∀ a, (k0_off1657 v4913) a + S1x16x128.size a ≤ S16384x16x128.size a := fun v4913 k0_hw1657 => k0_hw1657

def k0_off1658 (v4919 : BitVec 32) : Fin 3 → Nat :=
  let c0_i32_4117 : BitVec 32 := 0#32
  let c0_i32_4118 : BitVec 32 := 0#32
  ![v4919.toNat, 0, 0]

def k0_chk1658 (v4919 : BitVec 32) : Prop :=
  (∀ a, (k0_off1658 v4919) a + S1x16x128.size a ≤ S16384x16x128.size a)
theorem k0_off1658_inb : ∀ (v4919 : BitVec 32) (k0_hw1658 : k0_chk1658 v4919), ∀ a, (k0_off1658 v4919) a + S1x16x128.size a ≤ S16384x16x128.size a := fun v4919 k0_hw1658 => k0_hw1658

def k0_off1659 (v4925 : BitVec 32) : Fin 3 → Nat :=
  let c0_i32_4123 : BitVec 32 := 0#32
  let c0_i32_4124 : BitVec 32 := 0#32
  ![v4925.toNat, 0, 0]

def k0_chk1659 (v4925 : BitVec 32) : Prop :=
  (∀ a, (k0_off1659 v4925) a + S1x16x128.size a ≤ S16384x16x128.size a)
theorem k0_off1659_inb : ∀ (v4925 : BitVec 32) (k0_hw1659 : k0_chk1659 v4925), ∀ a, (k0_off1659 v4925) a + S1x16x128.size a ≤ S16384x16x128.size a := fun v4925 k0_hw1659 => k0_hw1659

def k0_off1660 (v4931 : BitVec 32) : Fin 3 → Nat :=
  let c0_i32_4129 : BitVec 32 := 0#32
  let c0_i32_4130 : BitVec 32 := 0#32
  ![v4931.toNat, 0, 0]

def k0_chk1660 (v4931 : BitVec 32) : Prop :=
  (∀ a, (k0_off1660 v4931) a + S1x16x128.size a ≤ S16384x16x128.size a)
theorem k0_off1660_inb : ∀ (v4931 : BitVec 32) (k0_hw1660 : k0_chk1660 v4931), ∀ a, (k0_off1660 v4931) a + S1x16x128.size a ≤ S16384x16x128.size a := fun v4931 k0_hw1660 => k0_hw1660

def k0_off1661 (v4937 : BitVec 32) : Fin 3 → Nat :=
  let c0_i32_4135 : BitVec 32 := 0#32
  let c0_i32_4136 : BitVec 32 := 0#32
  ![v4937.toNat, 0, 0]

def k0_chk1661 (v4937 : BitVec 32) : Prop :=
  (∀ a, (k0_off1661 v4937) a + S1x16x128.size a ≤ S16384x16x128.size a)
theorem k0_off1661_inb : ∀ (v4937 : BitVec 32) (k0_hw1661 : k0_chk1661 v4937), ∀ a, (k0_off1661 v4937) a + S1x16x128.size a ≤ S16384x16x128.size a := fun v4937 k0_hw1661 => k0_hw1661

def k0_off1662 (v4943 : BitVec 32) : Fin 3 → Nat :=
  let c0_i32_4141 : BitVec 32 := 0#32
  let c0_i32_4142 : BitVec 32 := 0#32
  ![v4943.toNat, 0, 0]

def k0_chk1662 (v4943 : BitVec 32) : Prop :=
  (∀ a, (k0_off1662 v4943) a + S1x16x128.size a ≤ S16384x16x128.size a)
theorem k0_off1662_inb : ∀ (v4943 : BitVec 32) (k0_hw1662 : k0_chk1662 v4943), ∀ a, (k0_off1662 v4943) a + S1x16x128.size a ≤ S16384x16x128.size a := fun v4943 k0_hw1662 => k0_hw1662

def k0_off1663 (v4949 : BitVec 32) : Fin 3 → Nat :=
  let c0_i32_4147 : BitVec 32 := 0#32
  let c0_i32_4148 : BitVec 32 := 0#32
  ![v4949.toNat, 0, 0]

def k0_chk1663 (v4949 : BitVec 32) : Prop :=
  (∀ a, (k0_off1663 v4949) a + S1x16x128.size a ≤ S16384x16x128.size a)
theorem k0_off1663_inb : ∀ (v4949 : BitVec 32) (k0_hw1663 : k0_chk1663 v4949), ∀ a, (k0_off1663 v4949) a + S1x16x128.size a ≤ S16384x16x128.size a := fun v4949 k0_hw1663 => k0_hw1663

def k0_off1664 (v4955 : BitVec 32) : Fin 3 → Nat :=
  let c0_i32_4153 : BitVec 32 := 0#32
  let c0_i32_4154 : BitVec 32 := 0#32
  ![v4955.toNat, 0, 0]

def k0_chk1664 (v4955 : BitVec 32) : Prop :=
  (∀ a, (k0_off1664 v4955) a + S1x16x128.size a ≤ S16384x16x128.size a)
theorem k0_off1664_inb : ∀ (v4955 : BitVec 32) (k0_hw1664 : k0_chk1664 v4955), ∀ a, (k0_off1664 v4955) a + S1x16x128.size a ≤ S16384x16x128.size a := fun v4955 k0_hw1664 => k0_hw1664

def k0_off1665 (v5234 : BitVec 32) : Fin 3 → Nat :=
  let c0_i32_4261 : BitVec 32 := 0#32
  let c0_i32_4262 : BitVec 32 := 0#32
  ![v5234.toNat, 0, 0]

def k0_chk1665 (v5234 : BitVec 32) : Prop :=
  (∀ a, (k0_off1665 v5234) a + S1x16x128.size a ≤ S16384x16x128.size a)
theorem k0_off1665_inb : ∀ (v5234 : BitVec 32) (k0_hw1665 : k0_chk1665 v5234), ∀ a, (k0_off1665 v5234) a + S1x16x128.size a ≤ S16384x16x128.size a := fun v5234 k0_hw1665 => k0_hw1665

def k0_off1666 (v5240 : BitVec 32) : Fin 3 → Nat :=
  let c0_i32_4267 : BitVec 32 := 0#32
  let c0_i32_4268 : BitVec 32 := 0#32
  ![v5240.toNat, 0, 0]

def k0_chk1666 (v5240 : BitVec 32) : Prop :=
  (∀ a, (k0_off1666 v5240) a + S1x16x128.size a ≤ S16384x16x128.size a)
theorem k0_off1666_inb : ∀ (v5240 : BitVec 32) (k0_hw1666 : k0_chk1666 v5240), ∀ a, (k0_off1666 v5240) a + S1x16x128.size a ≤ S16384x16x128.size a := fun v5240 k0_hw1666 => k0_hw1666

def k0_off1667 (v5246 : BitVec 32) : Fin 3 → Nat :=
  let c0_i32_4273 : BitVec 32 := 0#32
  let c0_i32_4274 : BitVec 32 := 0#32
  ![v5246.toNat, 0, 0]

def k0_chk1667 (v5246 : BitVec 32) : Prop :=
  (∀ a, (k0_off1667 v5246) a + S1x16x128.size a ≤ S16384x16x128.size a)
theorem k0_off1667_inb : ∀ (v5246 : BitVec 32) (k0_hw1667 : k0_chk1667 v5246), ∀ a, (k0_off1667 v5246) a + S1x16x128.size a ≤ S16384x16x128.size a := fun v5246 k0_hw1667 => k0_hw1667

def k0_off1668 (v5252 : BitVec 32) : Fin 3 → Nat :=
  let c0_i32_4279 : BitVec 32 := 0#32
  let c0_i32_4280 : BitVec 32 := 0#32
  ![v5252.toNat, 0, 0]

def k0_chk1668 (v5252 : BitVec 32) : Prop :=
  (∀ a, (k0_off1668 v5252) a + S1x16x128.size a ≤ S16384x16x128.size a)
theorem k0_off1668_inb : ∀ (v5252 : BitVec 32) (k0_hw1668 : k0_chk1668 v5252), ∀ a, (k0_off1668 v5252) a + S1x16x128.size a ≤ S16384x16x128.size a := fun v5252 k0_hw1668 => k0_hw1668

def k0_off1669 (v5258 : BitVec 32) : Fin 3 → Nat :=
  let c0_i32_4285 : BitVec 32 := 0#32
  let c0_i32_4286 : BitVec 32 := 0#32
  ![v5258.toNat, 0, 0]

def k0_chk1669 (v5258 : BitVec 32) : Prop :=
  (∀ a, (k0_off1669 v5258) a + S1x16x128.size a ≤ S16384x16x128.size a)
theorem k0_off1669_inb : ∀ (v5258 : BitVec 32) (k0_hw1669 : k0_chk1669 v5258), ∀ a, (k0_off1669 v5258) a + S1x16x128.size a ≤ S16384x16x128.size a := fun v5258 k0_hw1669 => k0_hw1669

def k0_off1670 (v5264 : BitVec 32) : Fin 3 → Nat :=
  let c0_i32_4291 : BitVec 32 := 0#32
  let c0_i32_4292 : BitVec 32 := 0#32
  ![v5264.toNat, 0, 0]

def k0_chk1670 (v5264 : BitVec 32) : Prop :=
  (∀ a, (k0_off1670 v5264) a + S1x16x128.size a ≤ S16384x16x128.size a)
theorem k0_off1670_inb : ∀ (v5264 : BitVec 32) (k0_hw1670 : k0_chk1670 v5264), ∀ a, (k0_off1670 v5264) a + S1x16x128.size a ≤ S16384x16x128.size a := fun v5264 k0_hw1670 => k0_hw1670

def k0_off1671 (v5270 : BitVec 32) : Fin 3 → Nat :=
  let c0_i32_4297 : BitVec 32 := 0#32
  let c0_i32_4298 : BitVec 32 := 0#32
  ![v5270.toNat, 0, 0]

def k0_chk1671 (v5270 : BitVec 32) : Prop :=
  (∀ a, (k0_off1671 v5270) a + S1x16x128.size a ≤ S16384x16x128.size a)
theorem k0_off1671_inb : ∀ (v5270 : BitVec 32) (k0_hw1671 : k0_chk1671 v5270), ∀ a, (k0_off1671 v5270) a + S1x16x128.size a ≤ S16384x16x128.size a := fun v5270 k0_hw1671 => k0_hw1671

def k0_off1672 (v5276 : BitVec 32) : Fin 3 → Nat :=
  let c0_i32_4303 : BitVec 32 := 0#32
  let c0_i32_4304 : BitVec 32 := 0#32
  ![v5276.toNat, 0, 0]

def k0_chk1672 (v5276 : BitVec 32) : Prop :=
  (∀ a, (k0_off1672 v5276) a + S1x16x128.size a ≤ S16384x16x128.size a)
theorem k0_off1672_inb : ∀ (v5276 : BitVec 32) (k0_hw1672 : k0_chk1672 v5276), ∀ a, (k0_off1672 v5276) a + S1x16x128.size a ≤ S16384x16x128.size a := fun v5276 k0_hw1672 => k0_hw1672

def k0_off1673 (v5282 : BitVec 32) : Fin 3 → Nat :=
  let c0_i32_4309 : BitVec 32 := 0#32
  let c0_i32_4310 : BitVec 32 := 0#32
  ![v5282.toNat, 0, 0]

def k0_chk1673 (v5282 : BitVec 32) : Prop :=
  (∀ a, (k0_off1673 v5282) a + S1x16x128.size a ≤ S16384x16x128.size a)
theorem k0_off1673_inb : ∀ (v5282 : BitVec 32) (k0_hw1673 : k0_chk1673 v5282), ∀ a, (k0_off1673 v5282) a + S1x16x128.size a ≤ S16384x16x128.size a := fun v5282 k0_hw1673 => k0_hw1673

def k0_off1674 (v5288 : BitVec 32) : Fin 3 → Nat :=
  let c0_i32_4315 : BitVec 32 := 0#32
  let c0_i32_4316 : BitVec 32 := 0#32
  ![v5288.toNat, 0, 0]

def k0_chk1674 (v5288 : BitVec 32) : Prop :=
  (∀ a, (k0_off1674 v5288) a + S1x16x128.size a ≤ S16384x16x128.size a)
theorem k0_off1674_inb : ∀ (v5288 : BitVec 32) (k0_hw1674 : k0_chk1674 v5288), ∀ a, (k0_off1674 v5288) a + S1x16x128.size a ≤ S16384x16x128.size a := fun v5288 k0_hw1674 => k0_hw1674

def k0_off1675 (v5294 : BitVec 32) : Fin 3 → Nat :=
  let c0_i32_4321 : BitVec 32 := 0#32
  let c0_i32_4322 : BitVec 32 := 0#32
  ![v5294.toNat, 0, 0]

def k0_chk1675 (v5294 : BitVec 32) : Prop :=
  (∀ a, (k0_off1675 v5294) a + S1x16x128.size a ≤ S16384x16x128.size a)
theorem k0_off1675_inb : ∀ (v5294 : BitVec 32) (k0_hw1675 : k0_chk1675 v5294), ∀ a, (k0_off1675 v5294) a + S1x16x128.size a ≤ S16384x16x128.size a := fun v5294 k0_hw1675 => k0_hw1675

def k0_off1676 (v5300 : BitVec 32) : Fin 3 → Nat :=
  let c0_i32_4327 : BitVec 32 := 0#32
  let c0_i32_4328 : BitVec 32 := 0#32
  ![v5300.toNat, 0, 0]

def k0_chk1676 (v5300 : BitVec 32) : Prop :=
  (∀ a, (k0_off1676 v5300) a + S1x16x128.size a ≤ S16384x16x128.size a)
theorem k0_off1676_inb : ∀ (v5300 : BitVec 32) (k0_hw1676 : k0_chk1676 v5300), ∀ a, (k0_off1676 v5300) a + S1x16x128.size a ≤ S16384x16x128.size a := fun v5300 k0_hw1676 => k0_hw1676

def k0_off1677 (v5306 : BitVec 32) : Fin 3 → Nat :=
  let c0_i32_4333 : BitVec 32 := 0#32
  let c0_i32_4334 : BitVec 32 := 0#32
  ![v5306.toNat, 0, 0]

def k0_chk1677 (v5306 : BitVec 32) : Prop :=
  (∀ a, (k0_off1677 v5306) a + S1x16x128.size a ≤ S16384x16x128.size a)
theorem k0_off1677_inb : ∀ (v5306 : BitVec 32) (k0_hw1677 : k0_chk1677 v5306), ∀ a, (k0_off1677 v5306) a + S1x16x128.size a ≤ S16384x16x128.size a := fun v5306 k0_hw1677 => k0_hw1677

def k0_off1678 (v5312 : BitVec 32) : Fin 3 → Nat :=
  let c0_i32_4339 : BitVec 32 := 0#32
  let c0_i32_4340 : BitVec 32 := 0#32
  ![v5312.toNat, 0, 0]

def k0_chk1678 (v5312 : BitVec 32) : Prop :=
  (∀ a, (k0_off1678 v5312) a + S1x16x128.size a ≤ S16384x16x128.size a)
theorem k0_off1678_inb : ∀ (v5312 : BitVec 32) (k0_hw1678 : k0_chk1678 v5312), ∀ a, (k0_off1678 v5312) a + S1x16x128.size a ≤ S16384x16x128.size a := fun v5312 k0_hw1678 => k0_hw1678

def k0_off1679 (v5318 : BitVec 32) : Fin 3 → Nat :=
  let c0_i32_4345 : BitVec 32 := 0#32
  let c0_i32_4346 : BitVec 32 := 0#32
  ![v5318.toNat, 0, 0]

def k0_chk1679 (v5318 : BitVec 32) : Prop :=
  (∀ a, (k0_off1679 v5318) a + S1x16x128.size a ≤ S16384x16x128.size a)
theorem k0_off1679_inb : ∀ (v5318 : BitVec 32) (k0_hw1679 : k0_chk1679 v5318), ∀ a, (k0_off1679 v5318) a + S1x16x128.size a ≤ S16384x16x128.size a := fun v5318 k0_hw1679 => k0_hw1679

def k0_off1680 (v5324 : BitVec 32) : Fin 3 → Nat :=
  let c0_i32_4351 : BitVec 32 := 0#32
  let c0_i32_4352 : BitVec 32 := 0#32
  ![v5324.toNat, 0, 0]

def k0_chk1680 (v5324 : BitVec 32) : Prop :=
  (∀ a, (k0_off1680 v5324) a + S1x16x128.size a ≤ S16384x16x128.size a)
theorem k0_off1680_inb : ∀ (v5324 : BitVec 32) (k0_hw1680 : k0_chk1680 v5324), ∀ a, (k0_off1680 v5324) a + S1x16x128.size a ≤ S16384x16x128.size a := fun v5324 k0_hw1680 => k0_hw1680

def k0_off1681 (v5330 : BitVec 32) : Fin 3 → Nat :=
  let c0_i32_4357 : BitVec 32 := 0#32
  let c0_i32_4358 : BitVec 32 := 0#32
  ![v5330.toNat, 0, 0]

def k0_chk1681 (v5330 : BitVec 32) : Prop :=
  (∀ a, (k0_off1681 v5330) a + S1x16x128.size a ≤ S16384x16x128.size a)
theorem k0_off1681_inb : ∀ (v5330 : BitVec 32) (k0_hw1681 : k0_chk1681 v5330), ∀ a, (k0_off1681 v5330) a + S1x16x128.size a ≤ S16384x16x128.size a := fun v5330 k0_hw1681 => k0_hw1681

def k0_off1682 (v5336 : BitVec 32) : Fin 3 → Nat :=
  let c0_i32_4363 : BitVec 32 := 0#32
  let c0_i32_4364 : BitVec 32 := 0#32
  ![v5336.toNat, 0, 0]

def k0_chk1682 (v5336 : BitVec 32) : Prop :=
  (∀ a, (k0_off1682 v5336) a + S1x16x128.size a ≤ S16384x16x128.size a)
theorem k0_off1682_inb : ∀ (v5336 : BitVec 32) (k0_hw1682 : k0_chk1682 v5336), ∀ a, (k0_off1682 v5336) a + S1x16x128.size a ≤ S16384x16x128.size a := fun v5336 k0_hw1682 => k0_hw1682

def k0_off1683 (v5342 : BitVec 32) : Fin 3 → Nat :=
  let c0_i32_4369 : BitVec 32 := 0#32
  let c0_i32_4370 : BitVec 32 := 0#32
  ![v5342.toNat, 0, 0]

def k0_chk1683 (v5342 : BitVec 32) : Prop :=
  (∀ a, (k0_off1683 v5342) a + S1x16x128.size a ≤ S16384x16x128.size a)
theorem k0_off1683_inb : ∀ (v5342 : BitVec 32) (k0_hw1683 : k0_chk1683 v5342), ∀ a, (k0_off1683 v5342) a + S1x16x128.size a ≤ S16384x16x128.size a := fun v5342 k0_hw1683 => k0_hw1683

def k0_off1684 (v5348 : BitVec 32) : Fin 3 → Nat :=
  let c0_i32_4375 : BitVec 32 := 0#32
  let c0_i32_4376 : BitVec 32 := 0#32
  ![v5348.toNat, 0, 0]

def k0_chk1684 (v5348 : BitVec 32) : Prop :=
  (∀ a, (k0_off1684 v5348) a + S1x16x128.size a ≤ S16384x16x128.size a)
theorem k0_off1684_inb : ∀ (v5348 : BitVec 32) (k0_hw1684 : k0_chk1684 v5348), ∀ a, (k0_off1684 v5348) a + S1x16x128.size a ≤ S16384x16x128.size a := fun v5348 k0_hw1684 => k0_hw1684

def k0_off1685 (v5354 : BitVec 32) : Fin 3 → Nat :=
  let c0_i32_4381 : BitVec 32 := 0#32
  let c0_i32_4382 : BitVec 32 := 0#32
  ![v5354.toNat, 0, 0]

def k0_chk1685 (v5354 : BitVec 32) : Prop :=
  (∀ a, (k0_off1685 v5354) a + S1x16x128.size a ≤ S16384x16x128.size a)
theorem k0_off1685_inb : ∀ (v5354 : BitVec 32) (k0_hw1685 : k0_chk1685 v5354), ∀ a, (k0_off1685 v5354) a + S1x16x128.size a ≤ S16384x16x128.size a := fun v5354 k0_hw1685 => k0_hw1685

def k0_off1686 (v5360 : BitVec 32) : Fin 3 → Nat :=
  let c0_i32_4387 : BitVec 32 := 0#32
  let c0_i32_4388 : BitVec 32 := 0#32
  ![v5360.toNat, 0, 0]

def k0_chk1686 (v5360 : BitVec 32) : Prop :=
  (∀ a, (k0_off1686 v5360) a + S1x16x128.size a ≤ S16384x16x128.size a)
theorem k0_off1686_inb : ∀ (v5360 : BitVec 32) (k0_hw1686 : k0_chk1686 v5360), ∀ a, (k0_off1686 v5360) a + S1x16x128.size a ≤ S16384x16x128.size a := fun v5360 k0_hw1686 => k0_hw1686

def k0_off1687 (v5366 : BitVec 32) : Fin 3 → Nat :=
  let c0_i32_4393 : BitVec 32 := 0#32
  let c0_i32_4394 : BitVec 32 := 0#32
  ![v5366.toNat, 0, 0]

def k0_chk1687 (v5366 : BitVec 32) : Prop :=
  (∀ a, (k0_off1687 v5366) a + S1x16x128.size a ≤ S16384x16x128.size a)
theorem k0_off1687_inb : ∀ (v5366 : BitVec 32) (k0_hw1687 : k0_chk1687 v5366), ∀ a, (k0_off1687 v5366) a + S1x16x128.size a ≤ S16384x16x128.size a := fun v5366 k0_hw1687 => k0_hw1687

def k0_off1688 (v5372 : BitVec 32) : Fin 3 → Nat :=
  let c0_i32_4399 : BitVec 32 := 0#32
  let c0_i32_4400 : BitVec 32 := 0#32
  ![v5372.toNat, 0, 0]

def k0_chk1688 (v5372 : BitVec 32) : Prop :=
  (∀ a, (k0_off1688 v5372) a + S1x16x128.size a ≤ S16384x16x128.size a)
theorem k0_off1688_inb : ∀ (v5372 : BitVec 32) (k0_hw1688 : k0_chk1688 v5372), ∀ a, (k0_off1688 v5372) a + S1x16x128.size a ≤ S16384x16x128.size a := fun v5372 k0_hw1688 => k0_hw1688

def k0_off1689 (v5378 : BitVec 32) : Fin 3 → Nat :=
  let c0_i32_4405 : BitVec 32 := 0#32
  let c0_i32_4406 : BitVec 32 := 0#32
  ![v5378.toNat, 0, 0]

def k0_chk1689 (v5378 : BitVec 32) : Prop :=
  (∀ a, (k0_off1689 v5378) a + S1x16x128.size a ≤ S16384x16x128.size a)
theorem k0_off1689_inb : ∀ (v5378 : BitVec 32) (k0_hw1689 : k0_chk1689 v5378), ∀ a, (k0_off1689 v5378) a + S1x16x128.size a ≤ S16384x16x128.size a := fun v5378 k0_hw1689 => k0_hw1689

def k0_off1690 (v5384 : BitVec 32) : Fin 3 → Nat :=
  let c0_i32_4411 : BitVec 32 := 0#32
  let c0_i32_4412 : BitVec 32 := 0#32
  ![v5384.toNat, 0, 0]

def k0_chk1690 (v5384 : BitVec 32) : Prop :=
  (∀ a, (k0_off1690 v5384) a + S1x16x128.size a ≤ S16384x16x128.size a)
theorem k0_off1690_inb : ∀ (v5384 : BitVec 32) (k0_hw1690 : k0_chk1690 v5384), ∀ a, (k0_off1690 v5384) a + S1x16x128.size a ≤ S16384x16x128.size a := fun v5384 k0_hw1690 => k0_hw1690

def k0_off1691 (v5390 : BitVec 32) : Fin 3 → Nat :=
  let c0_i32_4417 : BitVec 32 := 0#32
  let c0_i32_4418 : BitVec 32 := 0#32
  ![v5390.toNat, 0, 0]

def k0_chk1691 (v5390 : BitVec 32) : Prop :=
  (∀ a, (k0_off1691 v5390) a + S1x16x128.size a ≤ S16384x16x128.size a)
theorem k0_off1691_inb : ∀ (v5390 : BitVec 32) (k0_hw1691 : k0_chk1691 v5390), ∀ a, (k0_off1691 v5390) a + S1x16x128.size a ≤ S16384x16x128.size a := fun v5390 k0_hw1691 => k0_hw1691

def k0_off1692 (v5396 : BitVec 32) : Fin 3 → Nat :=
  let c0_i32_4423 : BitVec 32 := 0#32
  let c0_i32_4424 : BitVec 32 := 0#32
  ![v5396.toNat, 0, 0]

def k0_chk1692 (v5396 : BitVec 32) : Prop :=
  (∀ a, (k0_off1692 v5396) a + S1x16x128.size a ≤ S16384x16x128.size a)
theorem k0_off1692_inb : ∀ (v5396 : BitVec 32) (k0_hw1692 : k0_chk1692 v5396), ∀ a, (k0_off1692 v5396) a + S1x16x128.size a ≤ S16384x16x128.size a := fun v5396 k0_hw1692 => k0_hw1692

def k0_off1693 (v5402 : BitVec 32) : Fin 3 → Nat :=
  let c0_i32_4429 : BitVec 32 := 0#32
  let c0_i32_4430 : BitVec 32 := 0#32
  ![v5402.toNat, 0, 0]

def k0_chk1693 (v5402 : BitVec 32) : Prop :=
  (∀ a, (k0_off1693 v5402) a + S1x16x128.size a ≤ S16384x16x128.size a)
theorem k0_off1693_inb : ∀ (v5402 : BitVec 32) (k0_hw1693 : k0_chk1693 v5402), ∀ a, (k0_off1693 v5402) a + S1x16x128.size a ≤ S16384x16x128.size a := fun v5402 k0_hw1693 => k0_hw1693

def k0_off1694 (v5408 : BitVec 32) : Fin 3 → Nat :=
  let c0_i32_4435 : BitVec 32 := 0#32
  let c0_i32_4436 : BitVec 32 := 0#32
  ![v5408.toNat, 0, 0]

def k0_chk1694 (v5408 : BitVec 32) : Prop :=
  (∀ a, (k0_off1694 v5408) a + S1x16x128.size a ≤ S16384x16x128.size a)
theorem k0_off1694_inb : ∀ (v5408 : BitVec 32) (k0_hw1694 : k0_chk1694 v5408), ∀ a, (k0_off1694 v5408) a + S1x16x128.size a ≤ S16384x16x128.size a := fun v5408 k0_hw1694 => k0_hw1694

def k0_off1695 (v5414 : BitVec 32) : Fin 3 → Nat :=
  let c0_i32_4441 : BitVec 32 := 0#32
  let c0_i32_4442 : BitVec 32 := 0#32
  ![v5414.toNat, 0, 0]

def k0_chk1695 (v5414 : BitVec 32) : Prop :=
  (∀ a, (k0_off1695 v5414) a + S1x16x128.size a ≤ S16384x16x128.size a)
theorem k0_off1695_inb : ∀ (v5414 : BitVec 32) (k0_hw1695 : k0_chk1695 v5414), ∀ a, (k0_off1695 v5414) a + S1x16x128.size a ≤ S16384x16x128.size a := fun v5414 k0_hw1695 => k0_hw1695

def k0_off1696 (v5420 : BitVec 32) : Fin 3 → Nat :=
  let c0_i32_4447 : BitVec 32 := 0#32
  let c0_i32_4448 : BitVec 32 := 0#32
  ![v5420.toNat, 0, 0]

def k0_chk1696 (v5420 : BitVec 32) : Prop :=
  (∀ a, (k0_off1696 v5420) a + S1x16x128.size a ≤ S16384x16x128.size a)
theorem k0_off1696_inb : ∀ (v5420 : BitVec 32) (k0_hw1696 : k0_chk1696 v5420), ∀ a, (k0_off1696 v5420) a + S1x16x128.size a ≤ S16384x16x128.size a := fun v5420 k0_hw1696 => k0_hw1696

def k0_off1697 (v5426 : BitVec 32) : Fin 3 → Nat :=
  let c0_i32_4453 : BitVec 32 := 0#32
  let c0_i32_4454 : BitVec 32 := 0#32
  ![v5426.toNat, 0, 0]

def k0_chk1697 (v5426 : BitVec 32) : Prop :=
  (∀ a, (k0_off1697 v5426) a + S1x16x128.size a ≤ S16384x16x128.size a)
theorem k0_off1697_inb : ∀ (v5426 : BitVec 32) (k0_hw1697 : k0_chk1697 v5426), ∀ a, (k0_off1697 v5426) a + S1x16x128.size a ≤ S16384x16x128.size a := fun v5426 k0_hw1697 => k0_hw1697

def k0_off1698 (v5432 : BitVec 32) : Fin 3 → Nat :=
  let c0_i32_4459 : BitVec 32 := 0#32
  let c0_i32_4460 : BitVec 32 := 0#32
  ![v5432.toNat, 0, 0]

def k0_chk1698 (v5432 : BitVec 32) : Prop :=
  (∀ a, (k0_off1698 v5432) a + S1x16x128.size a ≤ S16384x16x128.size a)
theorem k0_off1698_inb : ∀ (v5432 : BitVec 32) (k0_hw1698 : k0_chk1698 v5432), ∀ a, (k0_off1698 v5432) a + S1x16x128.size a ≤ S16384x16x128.size a := fun v5432 k0_hw1698 => k0_hw1698

def k0_off1699 (v5438 : BitVec 32) : Fin 3 → Nat :=
  let c0_i32_4465 : BitVec 32 := 0#32
  let c0_i32_4466 : BitVec 32 := 0#32
  ![v5438.toNat, 0, 0]

def k0_chk1699 (v5438 : BitVec 32) : Prop :=
  (∀ a, (k0_off1699 v5438) a + S1x16x128.size a ≤ S16384x16x128.size a)
theorem k0_off1699_inb : ∀ (v5438 : BitVec 32) (k0_hw1699 : k0_chk1699 v5438), ∀ a, (k0_off1699 v5438) a + S1x16x128.size a ≤ S16384x16x128.size a := fun v5438 k0_hw1699 => k0_hw1699

def k0_off1700 (v5444 : BitVec 32) : Fin 3 → Nat :=
  let c0_i32_4471 : BitVec 32 := 0#32
  let c0_i32_4472 : BitVec 32 := 0#32
  ![v5444.toNat, 0, 0]

def k0_chk1700 (v5444 : BitVec 32) : Prop :=
  (∀ a, (k0_off1700 v5444) a + S1x16x128.size a ≤ S16384x16x128.size a)
theorem k0_off1700_inb : ∀ (v5444 : BitVec 32) (k0_hw1700 : k0_chk1700 v5444), ∀ a, (k0_off1700 v5444) a + S1x16x128.size a ≤ S16384x16x128.size a := fun v5444 k0_hw1700 => k0_hw1700

def k0_off1701 (v5450 : BitVec 32) : Fin 3 → Nat :=
  let c0_i32_4477 : BitVec 32 := 0#32
  let c0_i32_4478 : BitVec 32 := 0#32
  ![v5450.toNat, 0, 0]

def k0_chk1701 (v5450 : BitVec 32) : Prop :=
  (∀ a, (k0_off1701 v5450) a + S1x16x128.size a ≤ S16384x16x128.size a)
theorem k0_off1701_inb : ∀ (v5450 : BitVec 32) (k0_hw1701 : k0_chk1701 v5450), ∀ a, (k0_off1701 v5450) a + S1x16x128.size a ≤ S16384x16x128.size a := fun v5450 k0_hw1701 => k0_hw1701

def k0_off1702 (v5456 : BitVec 32) : Fin 3 → Nat :=
  let c0_i32_4483 : BitVec 32 := 0#32
  let c0_i32_4484 : BitVec 32 := 0#32
  ![v5456.toNat, 0, 0]

def k0_chk1702 (v5456 : BitVec 32) : Prop :=
  (∀ a, (k0_off1702 v5456) a + S1x16x128.size a ≤ S16384x16x128.size a)
theorem k0_off1702_inb : ∀ (v5456 : BitVec 32) (k0_hw1702 : k0_chk1702 v5456), ∀ a, (k0_off1702 v5456) a + S1x16x128.size a ≤ S16384x16x128.size a := fun v5456 k0_hw1702 => k0_hw1702

def k0_off1703 (v5462 : BitVec 32) : Fin 3 → Nat :=
  let c0_i32_4489 : BitVec 32 := 0#32
  let c0_i32_4490 : BitVec 32 := 0#32
  ![v5462.toNat, 0, 0]

def k0_chk1703 (v5462 : BitVec 32) : Prop :=
  (∀ a, (k0_off1703 v5462) a + S1x16x128.size a ≤ S16384x16x128.size a)
theorem k0_off1703_inb : ∀ (v5462 : BitVec 32) (k0_hw1703 : k0_chk1703 v5462), ∀ a, (k0_off1703 v5462) a + S1x16x128.size a ≤ S16384x16x128.size a := fun v5462 k0_hw1703 => k0_hw1703

def k0_off1704 (v5468 : BitVec 32) : Fin 3 → Nat :=
  let c0_i32_4495 : BitVec 32 := 0#32
  let c0_i32_4496 : BitVec 32 := 0#32
  ![v5468.toNat, 0, 0]

def k0_chk1704 (v5468 : BitVec 32) : Prop :=
  (∀ a, (k0_off1704 v5468) a + S1x16x128.size a ≤ S16384x16x128.size a)
theorem k0_off1704_inb : ∀ (v5468 : BitVec 32) (k0_hw1704 : k0_chk1704 v5468), ∀ a, (k0_off1704 v5468) a + S1x16x128.size a ≤ S16384x16x128.size a := fun v5468 k0_hw1704 => k0_hw1704

def k0_off1705 (v5474 : BitVec 32) : Fin 3 → Nat :=
  let c0_i32_4501 : BitVec 32 := 0#32
  let c0_i32_4502 : BitVec 32 := 0#32
  ![v5474.toNat, 0, 0]

def k0_chk1705 (v5474 : BitVec 32) : Prop :=
  (∀ a, (k0_off1705 v5474) a + S1x16x128.size a ≤ S16384x16x128.size a)
theorem k0_off1705_inb : ∀ (v5474 : BitVec 32) (k0_hw1705 : k0_chk1705 v5474), ∀ a, (k0_off1705 v5474) a + S1x16x128.size a ≤ S16384x16x128.size a := fun v5474 k0_hw1705 => k0_hw1705

def k0_off1706 (v5480 : BitVec 32) : Fin 3 → Nat :=
  let c0_i32_4507 : BitVec 32 := 0#32
  let c0_i32_4508 : BitVec 32 := 0#32
  ![v5480.toNat, 0, 0]

def k0_chk1706 (v5480 : BitVec 32) : Prop :=
  (∀ a, (k0_off1706 v5480) a + S1x16x128.size a ≤ S16384x16x128.size a)
theorem k0_off1706_inb : ∀ (v5480 : BitVec 32) (k0_hw1706 : k0_chk1706 v5480), ∀ a, (k0_off1706 v5480) a + S1x16x128.size a ≤ S16384x16x128.size a := fun v5480 k0_hw1706 => k0_hw1706

def k0_off1707 (v5486 : BitVec 32) : Fin 3 → Nat :=
  let c0_i32_4513 : BitVec 32 := 0#32
  let c0_i32_4514 : BitVec 32 := 0#32
  ![v5486.toNat, 0, 0]

def k0_chk1707 (v5486 : BitVec 32) : Prop :=
  (∀ a, (k0_off1707 v5486) a + S1x16x128.size a ≤ S16384x16x128.size a)
theorem k0_off1707_inb : ∀ (v5486 : BitVec 32) (k0_hw1707 : k0_chk1707 v5486), ∀ a, (k0_off1707 v5486) a + S1x16x128.size a ≤ S16384x16x128.size a := fun v5486 k0_hw1707 => k0_hw1707

def k0_off1708 (v5492 : BitVec 32) : Fin 3 → Nat :=
  let c0_i32_4519 : BitVec 32 := 0#32
  let c0_i32_4520 : BitVec 32 := 0#32
  ![v5492.toNat, 0, 0]

def k0_chk1708 (v5492 : BitVec 32) : Prop :=
  (∀ a, (k0_off1708 v5492) a + S1x16x128.size a ≤ S16384x16x128.size a)
theorem k0_off1708_inb : ∀ (v5492 : BitVec 32) (k0_hw1708 : k0_chk1708 v5492), ∀ a, (k0_off1708 v5492) a + S1x16x128.size a ≤ S16384x16x128.size a := fun v5492 k0_hw1708 => k0_hw1708

def k0_off1709 (v5498 : BitVec 32) : Fin 3 → Nat :=
  let c0_i32_4525 : BitVec 32 := 0#32
  let c0_i32_4526 : BitVec 32 := 0#32
  ![v5498.toNat, 0, 0]

def k0_chk1709 (v5498 : BitVec 32) : Prop :=
  (∀ a, (k0_off1709 v5498) a + S1x16x128.size a ≤ S16384x16x128.size a)
theorem k0_off1709_inb : ∀ (v5498 : BitVec 32) (k0_hw1709 : k0_chk1709 v5498), ∀ a, (k0_off1709 v5498) a + S1x16x128.size a ≤ S16384x16x128.size a := fun v5498 k0_hw1709 => k0_hw1709

def k0_off1710 (v5504 : BitVec 32) : Fin 3 → Nat :=
  let c0_i32_4531 : BitVec 32 := 0#32
  let c0_i32_4532 : BitVec 32 := 0#32
  ![v5504.toNat, 0, 0]

def k0_chk1710 (v5504 : BitVec 32) : Prop :=
  (∀ a, (k0_off1710 v5504) a + S1x16x128.size a ≤ S16384x16x128.size a)
theorem k0_off1710_inb : ∀ (v5504 : BitVec 32) (k0_hw1710 : k0_chk1710 v5504), ∀ a, (k0_off1710 v5504) a + S1x16x128.size a ≤ S16384x16x128.size a := fun v5504 k0_hw1710 => k0_hw1710

def k0_off1711 (v5510 : BitVec 32) : Fin 3 → Nat :=
  let c0_i32_4537 : BitVec 32 := 0#32
  let c0_i32_4538 : BitVec 32 := 0#32
  ![v5510.toNat, 0, 0]

def k0_chk1711 (v5510 : BitVec 32) : Prop :=
  (∀ a, (k0_off1711 v5510) a + S1x16x128.size a ≤ S16384x16x128.size a)
theorem k0_off1711_inb : ∀ (v5510 : BitVec 32) (k0_hw1711 : k0_chk1711 v5510), ∀ a, (k0_off1711 v5510) a + S1x16x128.size a ≤ S16384x16x128.size a := fun v5510 k0_hw1711 => k0_hw1711

def k0_off1712 (v5516 : BitVec 32) : Fin 3 → Nat :=
  let c0_i32_4543 : BitVec 32 := 0#32
  let c0_i32_4544 : BitVec 32 := 0#32
  ![v5516.toNat, 0, 0]

def k0_chk1712 (v5516 : BitVec 32) : Prop :=
  (∀ a, (k0_off1712 v5516) a + S1x16x128.size a ≤ S16384x16x128.size a)
theorem k0_off1712_inb : ∀ (v5516 : BitVec 32) (k0_hw1712 : k0_chk1712 v5516), ∀ a, (k0_off1712 v5516) a + S1x16x128.size a ≤ S16384x16x128.size a := fun v5516 k0_hw1712 => k0_hw1712

def k0_off1713 (v5522 : BitVec 32) : Fin 3 → Nat :=
  let c0_i32_4549 : BitVec 32 := 0#32
  let c0_i32_4550 : BitVec 32 := 0#32
  ![v5522.toNat, 0, 0]

def k0_chk1713 (v5522 : BitVec 32) : Prop :=
  (∀ a, (k0_off1713 v5522) a + S1x16x128.size a ≤ S16384x16x128.size a)
theorem k0_off1713_inb : ∀ (v5522 : BitVec 32) (k0_hw1713 : k0_chk1713 v5522), ∀ a, (k0_off1713 v5522) a + S1x16x128.size a ≤ S16384x16x128.size a := fun v5522 k0_hw1713 => k0_hw1713

def k0_off1714 (v5528 : BitVec 32) : Fin 3 → Nat :=
  let c0_i32_4555 : BitVec 32 := 0#32
  let c0_i32_4556 : BitVec 32 := 0#32
  ![v5528.toNat, 0, 0]

def k0_chk1714 (v5528 : BitVec 32) : Prop :=
  (∀ a, (k0_off1714 v5528) a + S1x16x128.size a ≤ S16384x16x128.size a)
theorem k0_off1714_inb : ∀ (v5528 : BitVec 32) (k0_hw1714 : k0_chk1714 v5528), ∀ a, (k0_off1714 v5528) a + S1x16x128.size a ≤ S16384x16x128.size a := fun v5528 k0_hw1714 => k0_hw1714

def k0_off1715 (v5534 : BitVec 32) : Fin 3 → Nat :=
  let c0_i32_4561 : BitVec 32 := 0#32
  let c0_i32_4562 : BitVec 32 := 0#32
  ![v5534.toNat, 0, 0]

def k0_chk1715 (v5534 : BitVec 32) : Prop :=
  (∀ a, (k0_off1715 v5534) a + S1x16x128.size a ≤ S16384x16x128.size a)
theorem k0_off1715_inb : ∀ (v5534 : BitVec 32) (k0_hw1715 : k0_chk1715 v5534), ∀ a, (k0_off1715 v5534) a + S1x16x128.size a ≤ S16384x16x128.size a := fun v5534 k0_hw1715 => k0_hw1715

def k0_off1716 (v5540 : BitVec 32) : Fin 3 → Nat :=
  let c0_i32_4567 : BitVec 32 := 0#32
  let c0_i32_4568 : BitVec 32 := 0#32
  ![v5540.toNat, 0, 0]

def k0_chk1716 (v5540 : BitVec 32) : Prop :=
  (∀ a, (k0_off1716 v5540) a + S1x16x128.size a ≤ S16384x16x128.size a)
theorem k0_off1716_inb : ∀ (v5540 : BitVec 32) (k0_hw1716 : k0_chk1716 v5540), ∀ a, (k0_off1716 v5540) a + S1x16x128.size a ≤ S16384x16x128.size a := fun v5540 k0_hw1716 => k0_hw1716

def k0_off1717 (v5546 : BitVec 32) : Fin 3 → Nat :=
  let c0_i32_4573 : BitVec 32 := 0#32
  let c0_i32_4574 : BitVec 32 := 0#32
  ![v5546.toNat, 0, 0]

def k0_chk1717 (v5546 : BitVec 32) : Prop :=
  (∀ a, (k0_off1717 v5546) a + S1x16x128.size a ≤ S16384x16x128.size a)
theorem k0_off1717_inb : ∀ (v5546 : BitVec 32) (k0_hw1717 : k0_chk1717 v5546), ∀ a, (k0_off1717 v5546) a + S1x16x128.size a ≤ S16384x16x128.size a := fun v5546 k0_hw1717 => k0_hw1717

def k0_off1718 (v5552 : BitVec 32) : Fin 3 → Nat :=
  let c0_i32_4579 : BitVec 32 := 0#32
  let c0_i32_4580 : BitVec 32 := 0#32
  ![v5552.toNat, 0, 0]

def k0_chk1718 (v5552 : BitVec 32) : Prop :=
  (∀ a, (k0_off1718 v5552) a + S1x16x128.size a ≤ S16384x16x128.size a)
theorem k0_off1718_inb : ∀ (v5552 : BitVec 32) (k0_hw1718 : k0_chk1718 v5552), ∀ a, (k0_off1718 v5552) a + S1x16x128.size a ≤ S16384x16x128.size a := fun v5552 k0_hw1718 => k0_hw1718

def k0_off1719 (v5558 : BitVec 32) : Fin 3 → Nat :=
  let c0_i32_4585 : BitVec 32 := 0#32
  let c0_i32_4586 : BitVec 32 := 0#32
  ![v5558.toNat, 0, 0]

def k0_chk1719 (v5558 : BitVec 32) : Prop :=
  (∀ a, (k0_off1719 v5558) a + S1x16x128.size a ≤ S16384x16x128.size a)
theorem k0_off1719_inb : ∀ (v5558 : BitVec 32) (k0_hw1719 : k0_chk1719 v5558), ∀ a, (k0_off1719 v5558) a + S1x16x128.size a ≤ S16384x16x128.size a := fun v5558 k0_hw1719 => k0_hw1719

def k0_off1720 (v5564 : BitVec 32) : Fin 3 → Nat :=
  let c0_i32_4591 : BitVec 32 := 0#32
  let c0_i32_4592 : BitVec 32 := 0#32
  ![v5564.toNat, 0, 0]

def k0_chk1720 (v5564 : BitVec 32) : Prop :=
  (∀ a, (k0_off1720 v5564) a + S1x16x128.size a ≤ S16384x16x128.size a)
theorem k0_off1720_inb : ∀ (v5564 : BitVec 32) (k0_hw1720 : k0_chk1720 v5564), ∀ a, (k0_off1720 v5564) a + S1x16x128.size a ≤ S16384x16x128.size a := fun v5564 k0_hw1720 => k0_hw1720

def k0_off1721 (v5570 : BitVec 32) : Fin 3 → Nat :=
  let c0_i32_4597 : BitVec 32 := 0#32
  let c0_i32_4598 : BitVec 32 := 0#32
  ![v5570.toNat, 0, 0]

def k0_chk1721 (v5570 : BitVec 32) : Prop :=
  (∀ a, (k0_off1721 v5570) a + S1x16x128.size a ≤ S16384x16x128.size a)
theorem k0_off1721_inb : ∀ (v5570 : BitVec 32) (k0_hw1721 : k0_chk1721 v5570), ∀ a, (k0_off1721 v5570) a + S1x16x128.size a ≤ S16384x16x128.size a := fun v5570 k0_hw1721 => k0_hw1721

def k0_off1722 (v5576 : BitVec 32) : Fin 3 → Nat :=
  let c0_i32_4603 : BitVec 32 := 0#32
  let c0_i32_4604 : BitVec 32 := 0#32
  ![v5576.toNat, 0, 0]

def k0_chk1722 (v5576 : BitVec 32) : Prop :=
  (∀ a, (k0_off1722 v5576) a + S1x16x128.size a ≤ S16384x16x128.size a)
theorem k0_off1722_inb : ∀ (v5576 : BitVec 32) (k0_hw1722 : k0_chk1722 v5576), ∀ a, (k0_off1722 v5576) a + S1x16x128.size a ≤ S16384x16x128.size a := fun v5576 k0_hw1722 => k0_hw1722

def k0_off1723 (v5582 : BitVec 32) : Fin 3 → Nat :=
  let c0_i32_4609 : BitVec 32 := 0#32
  let c0_i32_4610 : BitVec 32 := 0#32
  ![v5582.toNat, 0, 0]

def k0_chk1723 (v5582 : BitVec 32) : Prop :=
  (∀ a, (k0_off1723 v5582) a + S1x16x128.size a ≤ S16384x16x128.size a)
theorem k0_off1723_inb : ∀ (v5582 : BitVec 32) (k0_hw1723 : k0_chk1723 v5582), ∀ a, (k0_off1723 v5582) a + S1x16x128.size a ≤ S16384x16x128.size a := fun v5582 k0_hw1723 => k0_hw1723

def k0_off1724 (v5588 : BitVec 32) : Fin 3 → Nat :=
  let c0_i32_4615 : BitVec 32 := 0#32
  let c0_i32_4616 : BitVec 32 := 0#32
  ![v5588.toNat, 0, 0]

def k0_chk1724 (v5588 : BitVec 32) : Prop :=
  (∀ a, (k0_off1724 v5588) a + S1x16x128.size a ≤ S16384x16x128.size a)
theorem k0_off1724_inb : ∀ (v5588 : BitVec 32) (k0_hw1724 : k0_chk1724 v5588), ∀ a, (k0_off1724 v5588) a + S1x16x128.size a ≤ S16384x16x128.size a := fun v5588 k0_hw1724 => k0_hw1724

def k0_off1725 (v5594 : BitVec 32) : Fin 3 → Nat :=
  let c0_i32_4621 : BitVec 32 := 0#32
  let c0_i32_4622 : BitVec 32 := 0#32
  ![v5594.toNat, 0, 0]

def k0_chk1725 (v5594 : BitVec 32) : Prop :=
  (∀ a, (k0_off1725 v5594) a + S1x16x128.size a ≤ S16384x16x128.size a)
theorem k0_off1725_inb : ∀ (v5594 : BitVec 32) (k0_hw1725 : k0_chk1725 v5594), ∀ a, (k0_off1725 v5594) a + S1x16x128.size a ≤ S16384x16x128.size a := fun v5594 k0_hw1725 => k0_hw1725

def k0_off1726 (v5600 : BitVec 32) : Fin 3 → Nat :=
  let c0_i32_4627 : BitVec 32 := 0#32
  let c0_i32_4628 : BitVec 32 := 0#32
  ![v5600.toNat, 0, 0]

def k0_chk1726 (v5600 : BitVec 32) : Prop :=
  (∀ a, (k0_off1726 v5600) a + S1x16x128.size a ≤ S16384x16x128.size a)
theorem k0_off1726_inb : ∀ (v5600 : BitVec 32) (k0_hw1726 : k0_chk1726 v5600), ∀ a, (k0_off1726 v5600) a + S1x16x128.size a ≤ S16384x16x128.size a := fun v5600 k0_hw1726 => k0_hw1726

def k0_off1727 (v5606 : BitVec 32) : Fin 3 → Nat :=
  let c0_i32_4633 : BitVec 32 := 0#32
  let c0_i32_4634 : BitVec 32 := 0#32
  ![v5606.toNat, 0, 0]

def k0_chk1727 (v5606 : BitVec 32) : Prop :=
  (∀ a, (k0_off1727 v5606) a + S1x16x128.size a ≤ S16384x16x128.size a)
theorem k0_off1727_inb : ∀ (v5606 : BitVec 32) (k0_hw1727 : k0_chk1727 v5606), ∀ a, (k0_off1727 v5606) a + S1x16x128.size a ≤ S16384x16x128.size a := fun v5606 k0_hw1727 => k0_hw1727

def k0_off1728 (v5612 : BitVec 32) : Fin 3 → Nat :=
  let c0_i32_4639 : BitVec 32 := 0#32
  let c0_i32_4640 : BitVec 32 := 0#32
  ![v5612.toNat, 0, 0]

def k0_chk1728 (v5612 : BitVec 32) : Prop :=
  (∀ a, (k0_off1728 v5612) a + S1x16x128.size a ≤ S16384x16x128.size a)
theorem k0_off1728_inb : ∀ (v5612 : BitVec 32) (k0_hw1728 : k0_chk1728 v5612), ∀ a, (k0_off1728 v5612) a + S1x16x128.size a ≤ S16384x16x128.size a := fun v5612 k0_hw1728 => k0_hw1728

def k0_off1729 (v5618 : BitVec 32) : Fin 3 → Nat :=
  let c0_i32_4645 : BitVec 32 := 0#32
  let c0_i32_4646 : BitVec 32 := 0#32
  ![v5618.toNat, 0, 0]

def k0_chk1729 (v5618 : BitVec 32) : Prop :=
  (∀ a, (k0_off1729 v5618) a + S1x16x128.size a ≤ S16384x16x128.size a)
theorem k0_off1729_inb : ∀ (v5618 : BitVec 32) (k0_hw1729 : k0_chk1729 v5618), ∀ a, (k0_off1729 v5618) a + S1x16x128.size a ≤ S16384x16x128.size a := fun v5618 k0_hw1729 => k0_hw1729

def k0_off1730 (v5624 : BitVec 32) : Fin 3 → Nat :=
  let c0_i32_4651 : BitVec 32 := 0#32
  let c0_i32_4652 : BitVec 32 := 0#32
  ![v5624.toNat, 0, 0]

def k0_chk1730 (v5624 : BitVec 32) : Prop :=
  (∀ a, (k0_off1730 v5624) a + S1x16x128.size a ≤ S16384x16x128.size a)
theorem k0_off1730_inb : ∀ (v5624 : BitVec 32) (k0_hw1730 : k0_chk1730 v5624), ∀ a, (k0_off1730 v5624) a + S1x16x128.size a ≤ S16384x16x128.size a := fun v5624 k0_hw1730 => k0_hw1730

def k0_off1731 (v5630 : BitVec 32) : Fin 3 → Nat :=
  let c0_i32_4657 : BitVec 32 := 0#32
  let c0_i32_4658 : BitVec 32 := 0#32
  ![v5630.toNat, 0, 0]

def k0_chk1731 (v5630 : BitVec 32) : Prop :=
  (∀ a, (k0_off1731 v5630) a + S1x16x128.size a ≤ S16384x16x128.size a)
theorem k0_off1731_inb : ∀ (v5630 : BitVec 32) (k0_hw1731 : k0_chk1731 v5630), ∀ a, (k0_off1731 v5630) a + S1x16x128.size a ≤ S16384x16x128.size a := fun v5630 k0_hw1731 => k0_hw1731

def k0_off1732 (v5636 : BitVec 32) : Fin 3 → Nat :=
  let c0_i32_4663 : BitVec 32 := 0#32
  let c0_i32_4664 : BitVec 32 := 0#32
  ![v5636.toNat, 0, 0]

def k0_chk1732 (v5636 : BitVec 32) : Prop :=
  (∀ a, (k0_off1732 v5636) a + S1x16x128.size a ≤ S16384x16x128.size a)
theorem k0_off1732_inb : ∀ (v5636 : BitVec 32) (k0_hw1732 : k0_chk1732 v5636), ∀ a, (k0_off1732 v5636) a + S1x16x128.size a ≤ S16384x16x128.size a := fun v5636 k0_hw1732 => k0_hw1732

def k0_off1733 (v5642 : BitVec 32) : Fin 3 → Nat :=
  let c0_i32_4669 : BitVec 32 := 0#32
  let c0_i32_4670 : BitVec 32 := 0#32
  ![v5642.toNat, 0, 0]

def k0_chk1733 (v5642 : BitVec 32) : Prop :=
  (∀ a, (k0_off1733 v5642) a + S1x16x128.size a ≤ S16384x16x128.size a)
theorem k0_off1733_inb : ∀ (v5642 : BitVec 32) (k0_hw1733 : k0_chk1733 v5642), ∀ a, (k0_off1733 v5642) a + S1x16x128.size a ≤ S16384x16x128.size a := fun v5642 k0_hw1733 => k0_hw1733

def k0_off1734 (v5648 : BitVec 32) : Fin 3 → Nat :=
  let c0_i32_4675 : BitVec 32 := 0#32
  let c0_i32_4676 : BitVec 32 := 0#32
  ![v5648.toNat, 0, 0]

def k0_chk1734 (v5648 : BitVec 32) : Prop :=
  (∀ a, (k0_off1734 v5648) a + S1x16x128.size a ≤ S16384x16x128.size a)
theorem k0_off1734_inb : ∀ (v5648 : BitVec 32) (k0_hw1734 : k0_chk1734 v5648), ∀ a, (k0_off1734 v5648) a + S1x16x128.size a ≤ S16384x16x128.size a := fun v5648 k0_hw1734 => k0_hw1734

def k0_off1735 (v5654 : BitVec 32) : Fin 3 → Nat :=
  let c0_i32_4681 : BitVec 32 := 0#32
  let c0_i32_4682 : BitVec 32 := 0#32
  ![v5654.toNat, 0, 0]

def k0_chk1735 (v5654 : BitVec 32) : Prop :=
  (∀ a, (k0_off1735 v5654) a + S1x16x128.size a ≤ S16384x16x128.size a)
theorem k0_off1735_inb : ∀ (v5654 : BitVec 32) (k0_hw1735 : k0_chk1735 v5654), ∀ a, (k0_off1735 v5654) a + S1x16x128.size a ≤ S16384x16x128.size a := fun v5654 k0_hw1735 => k0_hw1735

def k0_off1736 (v5660 : BitVec 32) : Fin 3 → Nat :=
  let c0_i32_4687 : BitVec 32 := 0#32
  let c0_i32_4688 : BitVec 32 := 0#32
  ![v5660.toNat, 0, 0]

def k0_chk1736 (v5660 : BitVec 32) : Prop :=
  (∀ a, (k0_off1736 v5660) a + S1x16x128.size a ≤ S16384x16x128.size a)
theorem k0_off1736_inb : ∀ (v5660 : BitVec 32) (k0_hw1736 : k0_chk1736 v5660), ∀ a, (k0_off1736 v5660) a + S1x16x128.size a ≤ S16384x16x128.size a := fun v5660 k0_hw1736 => k0_hw1736

def k0_off1737 (v5666 : BitVec 32) : Fin 3 → Nat :=
  let c0_i32_4693 : BitVec 32 := 0#32
  let c0_i32_4694 : BitVec 32 := 0#32
  ![v5666.toNat, 0, 0]

def k0_chk1737 (v5666 : BitVec 32) : Prop :=
  (∀ a, (k0_off1737 v5666) a + S1x16x128.size a ≤ S16384x16x128.size a)
theorem k0_off1737_inb : ∀ (v5666 : BitVec 32) (k0_hw1737 : k0_chk1737 v5666), ∀ a, (k0_off1737 v5666) a + S1x16x128.size a ≤ S16384x16x128.size a := fun v5666 k0_hw1737 => k0_hw1737

def k0_off1738 (v5672 : BitVec 32) : Fin 3 → Nat :=
  let c0_i32_4699 : BitVec 32 := 0#32
  let c0_i32_4700 : BitVec 32 := 0#32
  ![v5672.toNat, 0, 0]

def k0_chk1738 (v5672 : BitVec 32) : Prop :=
  (∀ a, (k0_off1738 v5672) a + S1x16x128.size a ≤ S16384x16x128.size a)
theorem k0_off1738_inb : ∀ (v5672 : BitVec 32) (k0_hw1738 : k0_chk1738 v5672), ∀ a, (k0_off1738 v5672) a + S1x16x128.size a ≤ S16384x16x128.size a := fun v5672 k0_hw1738 => k0_hw1738

def k0_off1739 (v5678 : BitVec 32) : Fin 3 → Nat :=
  let c0_i32_4705 : BitVec 32 := 0#32
  let c0_i32_4706 : BitVec 32 := 0#32
  ![v5678.toNat, 0, 0]

def k0_chk1739 (v5678 : BitVec 32) : Prop :=
  (∀ a, (k0_off1739 v5678) a + S1x16x128.size a ≤ S16384x16x128.size a)
theorem k0_off1739_inb : ∀ (v5678 : BitVec 32) (k0_hw1739 : k0_chk1739 v5678), ∀ a, (k0_off1739 v5678) a + S1x16x128.size a ≤ S16384x16x128.size a := fun v5678 k0_hw1739 => k0_hw1739

def k0_off1740 (v5684 : BitVec 32) : Fin 3 → Nat :=
  let c0_i32_4711 : BitVec 32 := 0#32
  let c0_i32_4712 : BitVec 32 := 0#32
  ![v5684.toNat, 0, 0]

def k0_chk1740 (v5684 : BitVec 32) : Prop :=
  (∀ a, (k0_off1740 v5684) a + S1x16x128.size a ≤ S16384x16x128.size a)
theorem k0_off1740_inb : ∀ (v5684 : BitVec 32) (k0_hw1740 : k0_chk1740 v5684), ∀ a, (k0_off1740 v5684) a + S1x16x128.size a ≤ S16384x16x128.size a := fun v5684 k0_hw1740 => k0_hw1740

def k0_off1741 (v5690 : BitVec 32) : Fin 3 → Nat :=
  let c0_i32_4717 : BitVec 32 := 0#32
  let c0_i32_4718 : BitVec 32 := 0#32
  ![v5690.toNat, 0, 0]

def k0_chk1741 (v5690 : BitVec 32) : Prop :=
  (∀ a, (k0_off1741 v5690) a + S1x16x128.size a ≤ S16384x16x128.size a)
theorem k0_off1741_inb : ∀ (v5690 : BitVec 32) (k0_hw1741 : k0_chk1741 v5690), ∀ a, (k0_off1741 v5690) a + S1x16x128.size a ≤ S16384x16x128.size a := fun v5690 k0_hw1741 => k0_hw1741

def k0_off1742 (v5696 : BitVec 32) : Fin 3 → Nat :=
  let c0_i32_4723 : BitVec 32 := 0#32
  let c0_i32_4724 : BitVec 32 := 0#32
  ![v5696.toNat, 0, 0]

def k0_chk1742 (v5696 : BitVec 32) : Prop :=
  (∀ a, (k0_off1742 v5696) a + S1x16x128.size a ≤ S16384x16x128.size a)
theorem k0_off1742_inb : ∀ (v5696 : BitVec 32) (k0_hw1742 : k0_chk1742 v5696), ∀ a, (k0_off1742 v5696) a + S1x16x128.size a ≤ S16384x16x128.size a := fun v5696 k0_hw1742 => k0_hw1742

def k0_off1743 (v5702 : BitVec 32) : Fin 3 → Nat :=
  let c0_i32_4729 : BitVec 32 := 0#32
  let c0_i32_4730 : BitVec 32 := 0#32
  ![v5702.toNat, 0, 0]

def k0_chk1743 (v5702 : BitVec 32) : Prop :=
  (∀ a, (k0_off1743 v5702) a + S1x16x128.size a ≤ S16384x16x128.size a)
theorem k0_off1743_inb : ∀ (v5702 : BitVec 32) (k0_hw1743 : k0_chk1743 v5702), ∀ a, (k0_off1743 v5702) a + S1x16x128.size a ≤ S16384x16x128.size a := fun v5702 k0_hw1743 => k0_hw1743

def k0_off1744 (v5708 : BitVec 32) : Fin 3 → Nat :=
  let c0_i32_4735 : BitVec 32 := 0#32
  let c0_i32_4736 : BitVec 32 := 0#32
  ![v5708.toNat, 0, 0]

def k0_chk1744 (v5708 : BitVec 32) : Prop :=
  (∀ a, (k0_off1744 v5708) a + S1x16x128.size a ≤ S16384x16x128.size a)
theorem k0_off1744_inb : ∀ (v5708 : BitVec 32) (k0_hw1744 : k0_chk1744 v5708), ∀ a, (k0_off1744 v5708) a + S1x16x128.size a ≤ S16384x16x128.size a := fun v5708 k0_hw1744 => k0_hw1744

def k0_off1745 (v5714 : BitVec 32) : Fin 3 → Nat :=
  let c0_i32_4741 : BitVec 32 := 0#32
  let c0_i32_4742 : BitVec 32 := 0#32
  ![v5714.toNat, 0, 0]

def k0_chk1745 (v5714 : BitVec 32) : Prop :=
  (∀ a, (k0_off1745 v5714) a + S1x16x128.size a ≤ S16384x16x128.size a)
theorem k0_off1745_inb : ∀ (v5714 : BitVec 32) (k0_hw1745 : k0_chk1745 v5714), ∀ a, (k0_off1745 v5714) a + S1x16x128.size a ≤ S16384x16x128.size a := fun v5714 k0_hw1745 => k0_hw1745

def k0_off1746 (v5720 : BitVec 32) : Fin 3 → Nat :=
  let c0_i32_4747 : BitVec 32 := 0#32
  let c0_i32_4748 : BitVec 32 := 0#32
  ![v5720.toNat, 0, 0]

def k0_chk1746 (v5720 : BitVec 32) : Prop :=
  (∀ a, (k0_off1746 v5720) a + S1x16x128.size a ≤ S16384x16x128.size a)
theorem k0_off1746_inb : ∀ (v5720 : BitVec 32) (k0_hw1746 : k0_chk1746 v5720), ∀ a, (k0_off1746 v5720) a + S1x16x128.size a ≤ S16384x16x128.size a := fun v5720 k0_hw1746 => k0_hw1746

def k0_off1747 (v5726 : BitVec 32) : Fin 3 → Nat :=
  let c0_i32_4753 : BitVec 32 := 0#32
  let c0_i32_4754 : BitVec 32 := 0#32
  ![v5726.toNat, 0, 0]

def k0_chk1747 (v5726 : BitVec 32) : Prop :=
  (∀ a, (k0_off1747 v5726) a + S1x16x128.size a ≤ S16384x16x128.size a)
theorem k0_off1747_inb : ∀ (v5726 : BitVec 32) (k0_hw1747 : k0_chk1747 v5726), ∀ a, (k0_off1747 v5726) a + S1x16x128.size a ≤ S16384x16x128.size a := fun v5726 k0_hw1747 => k0_hw1747

def k0_off1748 (v5732 : BitVec 32) : Fin 3 → Nat :=
  let c0_i32_4759 : BitVec 32 := 0#32
  let c0_i32_4760 : BitVec 32 := 0#32
  ![v5732.toNat, 0, 0]

def k0_chk1748 (v5732 : BitVec 32) : Prop :=
  (∀ a, (k0_off1748 v5732) a + S1x16x128.size a ≤ S16384x16x128.size a)
theorem k0_off1748_inb : ∀ (v5732 : BitVec 32) (k0_hw1748 : k0_chk1748 v5732), ∀ a, (k0_off1748 v5732) a + S1x16x128.size a ≤ S16384x16x128.size a := fun v5732 k0_hw1748 => k0_hw1748

def k0_off1749 (v5738 : BitVec 32) : Fin 3 → Nat :=
  let c0_i32_4765 : BitVec 32 := 0#32
  let c0_i32_4766 : BitVec 32 := 0#32
  ![v5738.toNat, 0, 0]

def k0_chk1749 (v5738 : BitVec 32) : Prop :=
  (∀ a, (k0_off1749 v5738) a + S1x16x128.size a ≤ S16384x16x128.size a)
theorem k0_off1749_inb : ∀ (v5738 : BitVec 32) (k0_hw1749 : k0_chk1749 v5738), ∀ a, (k0_off1749 v5738) a + S1x16x128.size a ≤ S16384x16x128.size a := fun v5738 k0_hw1749 => k0_hw1749

def k0_off1750 (v5744 : BitVec 32) : Fin 3 → Nat :=
  let c0_i32_4771 : BitVec 32 := 0#32
  let c0_i32_4772 : BitVec 32 := 0#32
  ![v5744.toNat, 0, 0]

def k0_chk1750 (v5744 : BitVec 32) : Prop :=
  (∀ a, (k0_off1750 v5744) a + S1x16x128.size a ≤ S16384x16x128.size a)
theorem k0_off1750_inb : ∀ (v5744 : BitVec 32) (k0_hw1750 : k0_chk1750 v5744), ∀ a, (k0_off1750 v5744) a + S1x16x128.size a ≤ S16384x16x128.size a := fun v5744 k0_hw1750 => k0_hw1750

def k0_off1751 (v5750 : BitVec 32) : Fin 3 → Nat :=
  let c0_i32_4777 : BitVec 32 := 0#32
  let c0_i32_4778 : BitVec 32 := 0#32
  ![v5750.toNat, 0, 0]

def k0_chk1751 (v5750 : BitVec 32) : Prop :=
  (∀ a, (k0_off1751 v5750) a + S1x16x128.size a ≤ S16384x16x128.size a)
theorem k0_off1751_inb : ∀ (v5750 : BitVec 32) (k0_hw1751 : k0_chk1751 v5750), ∀ a, (k0_off1751 v5750) a + S1x16x128.size a ≤ S16384x16x128.size a := fun v5750 k0_hw1751 => k0_hw1751

def k0_off1752 (v5756 : BitVec 32) : Fin 3 → Nat :=
  let c0_i32_4783 : BitVec 32 := 0#32
  let c0_i32_4784 : BitVec 32 := 0#32
  ![v5756.toNat, 0, 0]

def k0_chk1752 (v5756 : BitVec 32) : Prop :=
  (∀ a, (k0_off1752 v5756) a + S1x16x128.size a ≤ S16384x16x128.size a)
theorem k0_off1752_inb : ∀ (v5756 : BitVec 32) (k0_hw1752 : k0_chk1752 v5756), ∀ a, (k0_off1752 v5756) a + S1x16x128.size a ≤ S16384x16x128.size a := fun v5756 k0_hw1752 => k0_hw1752

def k0_off1753 (v5762 : BitVec 32) : Fin 3 → Nat :=
  let c0_i32_4789 : BitVec 32 := 0#32
  let c0_i32_4790 : BitVec 32 := 0#32
  ![v5762.toNat, 0, 0]

def k0_chk1753 (v5762 : BitVec 32) : Prop :=
  (∀ a, (k0_off1753 v5762) a + S1x16x128.size a ≤ S16384x16x128.size a)
theorem k0_off1753_inb : ∀ (v5762 : BitVec 32) (k0_hw1753 : k0_chk1753 v5762), ∀ a, (k0_off1753 v5762) a + S1x16x128.size a ≤ S16384x16x128.size a := fun v5762 k0_hw1753 => k0_hw1753

def k0_off1754 (v5768 : BitVec 32) : Fin 3 → Nat :=
  let c0_i32_4795 : BitVec 32 := 0#32
  let c0_i32_4796 : BitVec 32 := 0#32
  ![v5768.toNat, 0, 0]

def k0_chk1754 (v5768 : BitVec 32) : Prop :=
  (∀ a, (k0_off1754 v5768) a + S1x16x128.size a ≤ S16384x16x128.size a)
theorem k0_off1754_inb : ∀ (v5768 : BitVec 32) (k0_hw1754 : k0_chk1754 v5768), ∀ a, (k0_off1754 v5768) a + S1x16x128.size a ≤ S16384x16x128.size a := fun v5768 k0_hw1754 => k0_hw1754

def k0_off1755 (v5774 : BitVec 32) : Fin 3 → Nat :=
  let c0_i32_4801 : BitVec 32 := 0#32
  let c0_i32_4802 : BitVec 32 := 0#32
  ![v5774.toNat, 0, 0]

def k0_chk1755 (v5774 : BitVec 32) : Prop :=
  (∀ a, (k0_off1755 v5774) a + S1x16x128.size a ≤ S16384x16x128.size a)
theorem k0_off1755_inb : ∀ (v5774 : BitVec 32) (k0_hw1755 : k0_chk1755 v5774), ∀ a, (k0_off1755 v5774) a + S1x16x128.size a ≤ S16384x16x128.size a := fun v5774 k0_hw1755 => k0_hw1755

def k0_off1756 (v5780 : BitVec 32) : Fin 3 → Nat :=
  let c0_i32_4807 : BitVec 32 := 0#32
  let c0_i32_4808 : BitVec 32 := 0#32
  ![v5780.toNat, 0, 0]

def k0_chk1756 (v5780 : BitVec 32) : Prop :=
  (∀ a, (k0_off1756 v5780) a + S1x16x128.size a ≤ S16384x16x128.size a)
theorem k0_off1756_inb : ∀ (v5780 : BitVec 32) (k0_hw1756 : k0_chk1756 v5780), ∀ a, (k0_off1756 v5780) a + S1x16x128.size a ≤ S16384x16x128.size a := fun v5780 k0_hw1756 => k0_hw1756

def k0_off1757 (v5786 : BitVec 32) : Fin 3 → Nat :=
  let c0_i32_4813 : BitVec 32 := 0#32
  let c0_i32_4814 : BitVec 32 := 0#32
  ![v5786.toNat, 0, 0]

def k0_chk1757 (v5786 : BitVec 32) : Prop :=
  (∀ a, (k0_off1757 v5786) a + S1x16x128.size a ≤ S16384x16x128.size a)
theorem k0_off1757_inb : ∀ (v5786 : BitVec 32) (k0_hw1757 : k0_chk1757 v5786), ∀ a, (k0_off1757 v5786) a + S1x16x128.size a ≤ S16384x16x128.size a := fun v5786 k0_hw1757 => k0_hw1757

def k0_off1758 (v5792 : BitVec 32) : Fin 3 → Nat :=
  let c0_i32_4819 : BitVec 32 := 0#32
  let c0_i32_4820 : BitVec 32 := 0#32
  ![v5792.toNat, 0, 0]

def k0_chk1758 (v5792 : BitVec 32) : Prop :=
  (∀ a, (k0_off1758 v5792) a + S1x16x128.size a ≤ S16384x16x128.size a)
theorem k0_off1758_inb : ∀ (v5792 : BitVec 32) (k0_hw1758 : k0_chk1758 v5792), ∀ a, (k0_off1758 v5792) a + S1x16x128.size a ≤ S16384x16x128.size a := fun v5792 k0_hw1758 => k0_hw1758

def k0_off1759 (v5798 : BitVec 32) : Fin 3 → Nat :=
  let c0_i32_4825 : BitVec 32 := 0#32
  let c0_i32_4826 : BitVec 32 := 0#32
  ![v5798.toNat, 0, 0]

def k0_chk1759 (v5798 : BitVec 32) : Prop :=
  (∀ a, (k0_off1759 v5798) a + S1x16x128.size a ≤ S16384x16x128.size a)
theorem k0_off1759_inb : ∀ (v5798 : BitVec 32) (k0_hw1759 : k0_chk1759 v5798), ∀ a, (k0_off1759 v5798) a + S1x16x128.size a ≤ S16384x16x128.size a := fun v5798 k0_hw1759 => k0_hw1759

def k0_off1760 (v5804 : BitVec 32) : Fin 3 → Nat :=
  let c0_i32_4831 : BitVec 32 := 0#32
  let c0_i32_4832 : BitVec 32 := 0#32
  ![v5804.toNat, 0, 0]

def k0_chk1760 (v5804 : BitVec 32) : Prop :=
  (∀ a, (k0_off1760 v5804) a + S1x16x128.size a ≤ S16384x16x128.size a)
theorem k0_off1760_inb : ∀ (v5804 : BitVec 32) (k0_hw1760 : k0_chk1760 v5804), ∀ a, (k0_off1760 v5804) a + S1x16x128.size a ≤ S16384x16x128.size a := fun v5804 k0_hw1760 => k0_hw1760

def k0_off1761 (v5810 : BitVec 32) : Fin 3 → Nat :=
  let c0_i32_4837 : BitVec 32 := 0#32
  let c0_i32_4838 : BitVec 32 := 0#32
  ![v5810.toNat, 0, 0]

def k0_chk1761 (v5810 : BitVec 32) : Prop :=
  (∀ a, (k0_off1761 v5810) a + S1x16x128.size a ≤ S16384x16x128.size a)
theorem k0_off1761_inb : ∀ (v5810 : BitVec 32) (k0_hw1761 : k0_chk1761 v5810), ∀ a, (k0_off1761 v5810) a + S1x16x128.size a ≤ S16384x16x128.size a := fun v5810 k0_hw1761 => k0_hw1761

def k0_off1762 (v5816 : BitVec 32) : Fin 3 → Nat :=
  let c0_i32_4843 : BitVec 32 := 0#32
  let c0_i32_4844 : BitVec 32 := 0#32
  ![v5816.toNat, 0, 0]

def k0_chk1762 (v5816 : BitVec 32) : Prop :=
  (∀ a, (k0_off1762 v5816) a + S1x16x128.size a ≤ S16384x16x128.size a)
theorem k0_off1762_inb : ∀ (v5816 : BitVec 32) (k0_hw1762 : k0_chk1762 v5816), ∀ a, (k0_off1762 v5816) a + S1x16x128.size a ≤ S16384x16x128.size a := fun v5816 k0_hw1762 => k0_hw1762

def k0_off1763 (v5822 : BitVec 32) : Fin 3 → Nat :=
  let c0_i32_4849 : BitVec 32 := 0#32
  let c0_i32_4850 : BitVec 32 := 0#32
  ![v5822.toNat, 0, 0]

def k0_chk1763 (v5822 : BitVec 32) : Prop :=
  (∀ a, (k0_off1763 v5822) a + S1x16x128.size a ≤ S16384x16x128.size a)
theorem k0_off1763_inb : ∀ (v5822 : BitVec 32) (k0_hw1763 : k0_chk1763 v5822), ∀ a, (k0_off1763 v5822) a + S1x16x128.size a ≤ S16384x16x128.size a := fun v5822 k0_hw1763 => k0_hw1763

def k0_off1764 (v5828 : BitVec 32) : Fin 3 → Nat :=
  let c0_i32_4855 : BitVec 32 := 0#32
  let c0_i32_4856 : BitVec 32 := 0#32
  ![v5828.toNat, 0, 0]

def k0_chk1764 (v5828 : BitVec 32) : Prop :=
  (∀ a, (k0_off1764 v5828) a + S1x16x128.size a ≤ S16384x16x128.size a)
theorem k0_off1764_inb : ∀ (v5828 : BitVec 32) (k0_hw1764 : k0_chk1764 v5828), ∀ a, (k0_off1764 v5828) a + S1x16x128.size a ≤ S16384x16x128.size a := fun v5828 k0_hw1764 => k0_hw1764

def k0_off1765 (v5834 : BitVec 32) : Fin 3 → Nat :=
  let c0_i32_4861 : BitVec 32 := 0#32
  let c0_i32_4862 : BitVec 32 := 0#32
  ![v5834.toNat, 0, 0]

def k0_chk1765 (v5834 : BitVec 32) : Prop :=
  (∀ a, (k0_off1765 v5834) a + S1x16x128.size a ≤ S16384x16x128.size a)
theorem k0_off1765_inb : ∀ (v5834 : BitVec 32) (k0_hw1765 : k0_chk1765 v5834), ∀ a, (k0_off1765 v5834) a + S1x16x128.size a ≤ S16384x16x128.size a := fun v5834 k0_hw1765 => k0_hw1765

def k0_off1766 (v5840 : BitVec 32) : Fin 3 → Nat :=
  let c0_i32_4867 : BitVec 32 := 0#32
  let c0_i32_4868 : BitVec 32 := 0#32
  ![v5840.toNat, 0, 0]

def k0_chk1766 (v5840 : BitVec 32) : Prop :=
  (∀ a, (k0_off1766 v5840) a + S1x16x128.size a ≤ S16384x16x128.size a)
theorem k0_off1766_inb : ∀ (v5840 : BitVec 32) (k0_hw1766 : k0_chk1766 v5840), ∀ a, (k0_off1766 v5840) a + S1x16x128.size a ≤ S16384x16x128.size a := fun v5840 k0_hw1766 => k0_hw1766

def k0_off1767 (v5846 : BitVec 32) : Fin 3 → Nat :=
  let c0_i32_4873 : BitVec 32 := 0#32
  let c0_i32_4874 : BitVec 32 := 0#32
  ![v5846.toNat, 0, 0]

def k0_chk1767 (v5846 : BitVec 32) : Prop :=
  (∀ a, (k0_off1767 v5846) a + S1x16x128.size a ≤ S16384x16x128.size a)
theorem k0_off1767_inb : ∀ (v5846 : BitVec 32) (k0_hw1767 : k0_chk1767 v5846), ∀ a, (k0_off1767 v5846) a + S1x16x128.size a ≤ S16384x16x128.size a := fun v5846 k0_hw1767 => k0_hw1767

def k0_off1768 (v5852 : BitVec 32) : Fin 3 → Nat :=
  let c0_i32_4879 : BitVec 32 := 0#32
  let c0_i32_4880 : BitVec 32 := 0#32
  ![v5852.toNat, 0, 0]

def k0_chk1768 (v5852 : BitVec 32) : Prop :=
  (∀ a, (k0_off1768 v5852) a + S1x16x128.size a ≤ S16384x16x128.size a)
theorem k0_off1768_inb : ∀ (v5852 : BitVec 32) (k0_hw1768 : k0_chk1768 v5852), ∀ a, (k0_off1768 v5852) a + S1x16x128.size a ≤ S16384x16x128.size a := fun v5852 k0_hw1768 => k0_hw1768

def k0_off1769 (v5858 : BitVec 32) : Fin 3 → Nat :=
  let c0_i32_4885 : BitVec 32 := 0#32
  let c0_i32_4886 : BitVec 32 := 0#32
  ![v5858.toNat, 0, 0]

def k0_chk1769 (v5858 : BitVec 32) : Prop :=
  (∀ a, (k0_off1769 v5858) a + S1x16x128.size a ≤ S16384x16x128.size a)
theorem k0_off1769_inb : ∀ (v5858 : BitVec 32) (k0_hw1769 : k0_chk1769 v5858), ∀ a, (k0_off1769 v5858) a + S1x16x128.size a ≤ S16384x16x128.size a := fun v5858 k0_hw1769 => k0_hw1769

def k0_off1770 (v5864 : BitVec 32) : Fin 3 → Nat :=
  let c0_i32_4891 : BitVec 32 := 0#32
  let c0_i32_4892 : BitVec 32 := 0#32
  ![v5864.toNat, 0, 0]

def k0_chk1770 (v5864 : BitVec 32) : Prop :=
  (∀ a, (k0_off1770 v5864) a + S1x16x128.size a ≤ S16384x16x128.size a)
theorem k0_off1770_inb : ∀ (v5864 : BitVec 32) (k0_hw1770 : k0_chk1770 v5864), ∀ a, (k0_off1770 v5864) a + S1x16x128.size a ≤ S16384x16x128.size a := fun v5864 k0_hw1770 => k0_hw1770

def k0_off1771 (v5870 : BitVec 32) : Fin 3 → Nat :=
  let c0_i32_4897 : BitVec 32 := 0#32
  let c0_i32_4898 : BitVec 32 := 0#32
  ![v5870.toNat, 0, 0]

def k0_chk1771 (v5870 : BitVec 32) : Prop :=
  (∀ a, (k0_off1771 v5870) a + S1x16x128.size a ≤ S16384x16x128.size a)
theorem k0_off1771_inb : ∀ (v5870 : BitVec 32) (k0_hw1771 : k0_chk1771 v5870), ∀ a, (k0_off1771 v5870) a + S1x16x128.size a ≤ S16384x16x128.size a := fun v5870 k0_hw1771 => k0_hw1771

def k0_off1772 (v5876 : BitVec 32) : Fin 3 → Nat :=
  let c0_i32_4903 : BitVec 32 := 0#32
  let c0_i32_4904 : BitVec 32 := 0#32
  ![v5876.toNat, 0, 0]

def k0_chk1772 (v5876 : BitVec 32) : Prop :=
  (∀ a, (k0_off1772 v5876) a + S1x16x128.size a ≤ S16384x16x128.size a)
theorem k0_off1772_inb : ∀ (v5876 : BitVec 32) (k0_hw1772 : k0_chk1772 v5876), ∀ a, (k0_off1772 v5876) a + S1x16x128.size a ≤ S16384x16x128.size a := fun v5876 k0_hw1772 => k0_hw1772

def k0_off1773 (v5882 : BitVec 32) : Fin 3 → Nat :=
  let c0_i32_4909 : BitVec 32 := 0#32
  let c0_i32_4910 : BitVec 32 := 0#32
  ![v5882.toNat, 0, 0]

def k0_chk1773 (v5882 : BitVec 32) : Prop :=
  (∀ a, (k0_off1773 v5882) a + S1x16x128.size a ≤ S16384x16x128.size a)
theorem k0_off1773_inb : ∀ (v5882 : BitVec 32) (k0_hw1773 : k0_chk1773 v5882), ∀ a, (k0_off1773 v5882) a + S1x16x128.size a ≤ S16384x16x128.size a := fun v5882 k0_hw1773 => k0_hw1773

def k0_off1774 (v5888 : BitVec 32) : Fin 3 → Nat :=
  let c0_i32_4915 : BitVec 32 := 0#32
  let c0_i32_4916 : BitVec 32 := 0#32
  ![v5888.toNat, 0, 0]

def k0_chk1774 (v5888 : BitVec 32) : Prop :=
  (∀ a, (k0_off1774 v5888) a + S1x16x128.size a ≤ S16384x16x128.size a)
theorem k0_off1774_inb : ∀ (v5888 : BitVec 32) (k0_hw1774 : k0_chk1774 v5888), ∀ a, (k0_off1774 v5888) a + S1x16x128.size a ≤ S16384x16x128.size a := fun v5888 k0_hw1774 => k0_hw1774

def k0_off1775 (v5894 : BitVec 32) : Fin 3 → Nat :=
  let c0_i32_4921 : BitVec 32 := 0#32
  let c0_i32_4922 : BitVec 32 := 0#32
  ![v5894.toNat, 0, 0]

def k0_chk1775 (v5894 : BitVec 32) : Prop :=
  (∀ a, (k0_off1775 v5894) a + S1x16x128.size a ≤ S16384x16x128.size a)
theorem k0_off1775_inb : ∀ (v5894 : BitVec 32) (k0_hw1775 : k0_chk1775 v5894), ∀ a, (k0_off1775 v5894) a + S1x16x128.size a ≤ S16384x16x128.size a := fun v5894 k0_hw1775 => k0_hw1775

def k0_off1776 (v5900 : BitVec 32) : Fin 3 → Nat :=
  let c0_i32_4927 : BitVec 32 := 0#32
  let c0_i32_4928 : BitVec 32 := 0#32
  ![v5900.toNat, 0, 0]

def k0_chk1776 (v5900 : BitVec 32) : Prop :=
  (∀ a, (k0_off1776 v5900) a + S1x16x128.size a ≤ S16384x16x128.size a)
theorem k0_off1776_inb : ∀ (v5900 : BitVec 32) (k0_hw1776 : k0_chk1776 v5900), ∀ a, (k0_off1776 v5900) a + S1x16x128.size a ≤ S16384x16x128.size a := fun v5900 k0_hw1776 => k0_hw1776

def k0_off1777 (v5906 : BitVec 32) : Fin 3 → Nat :=
  let c0_i32_4933 : BitVec 32 := 0#32
  let c0_i32_4934 : BitVec 32 := 0#32
  ![v5906.toNat, 0, 0]

def k0_chk1777 (v5906 : BitVec 32) : Prop :=
  (∀ a, (k0_off1777 v5906) a + S1x16x128.size a ≤ S16384x16x128.size a)
theorem k0_off1777_inb : ∀ (v5906 : BitVec 32) (k0_hw1777 : k0_chk1777 v5906), ∀ a, (k0_off1777 v5906) a + S1x16x128.size a ≤ S16384x16x128.size a := fun v5906 k0_hw1777 => k0_hw1777

def k0_off1778 (v5912 : BitVec 32) : Fin 3 → Nat :=
  let c0_i32_4939 : BitVec 32 := 0#32
  let c0_i32_4940 : BitVec 32 := 0#32
  ![v5912.toNat, 0, 0]

def k0_chk1778 (v5912 : BitVec 32) : Prop :=
  (∀ a, (k0_off1778 v5912) a + S1x16x128.size a ≤ S16384x16x128.size a)
theorem k0_off1778_inb : ∀ (v5912 : BitVec 32) (k0_hw1778 : k0_chk1778 v5912), ∀ a, (k0_off1778 v5912) a + S1x16x128.size a ≤ S16384x16x128.size a := fun v5912 k0_hw1778 => k0_hw1778

def k0_off1779 (v5918 : BitVec 32) : Fin 3 → Nat :=
  let c0_i32_4945 : BitVec 32 := 0#32
  let c0_i32_4946 : BitVec 32 := 0#32
  ![v5918.toNat, 0, 0]

def k0_chk1779 (v5918 : BitVec 32) : Prop :=
  (∀ a, (k0_off1779 v5918) a + S1x16x128.size a ≤ S16384x16x128.size a)
theorem k0_off1779_inb : ∀ (v5918 : BitVec 32) (k0_hw1779 : k0_chk1779 v5918), ∀ a, (k0_off1779 v5918) a + S1x16x128.size a ≤ S16384x16x128.size a := fun v5918 k0_hw1779 => k0_hw1779

def k0_off1780 (v5924 : BitVec 32) : Fin 3 → Nat :=
  let c0_i32_4951 : BitVec 32 := 0#32
  let c0_i32_4952 : BitVec 32 := 0#32
  ![v5924.toNat, 0, 0]

def k0_chk1780 (v5924 : BitVec 32) : Prop :=
  (∀ a, (k0_off1780 v5924) a + S1x16x128.size a ≤ S16384x16x128.size a)
theorem k0_off1780_inb : ∀ (v5924 : BitVec 32) (k0_hw1780 : k0_chk1780 v5924), ∀ a, (k0_off1780 v5924) a + S1x16x128.size a ≤ S16384x16x128.size a := fun v5924 k0_hw1780 => k0_hw1780

def k0_off1781 (v5930 : BitVec 32) : Fin 3 → Nat :=
  let c0_i32_4957 : BitVec 32 := 0#32
  let c0_i32_4958 : BitVec 32 := 0#32
  ![v5930.toNat, 0, 0]

def k0_chk1781 (v5930 : BitVec 32) : Prop :=
  (∀ a, (k0_off1781 v5930) a + S1x16x128.size a ≤ S16384x16x128.size a)
theorem k0_off1781_inb : ∀ (v5930 : BitVec 32) (k0_hw1781 : k0_chk1781 v5930), ∀ a, (k0_off1781 v5930) a + S1x16x128.size a ≤ S16384x16x128.size a := fun v5930 k0_hw1781 => k0_hw1781

def k0_off1782 (v5936 : BitVec 32) : Fin 3 → Nat :=
  let c0_i32_4963 : BitVec 32 := 0#32
  let c0_i32_4964 : BitVec 32 := 0#32
  ![v5936.toNat, 0, 0]

def k0_chk1782 (v5936 : BitVec 32) : Prop :=
  (∀ a, (k0_off1782 v5936) a + S1x16x128.size a ≤ S16384x16x128.size a)
theorem k0_off1782_inb : ∀ (v5936 : BitVec 32) (k0_hw1782 : k0_chk1782 v5936), ∀ a, (k0_off1782 v5936) a + S1x16x128.size a ≤ S16384x16x128.size a := fun v5936 k0_hw1782 => k0_hw1782

def k0_off1783 (v5942 : BitVec 32) : Fin 3 → Nat :=
  let c0_i32_4969 : BitVec 32 := 0#32
  let c0_i32_4970 : BitVec 32 := 0#32
  ![v5942.toNat, 0, 0]

def k0_chk1783 (v5942 : BitVec 32) : Prop :=
  (∀ a, (k0_off1783 v5942) a + S1x16x128.size a ≤ S16384x16x128.size a)
theorem k0_off1783_inb : ∀ (v5942 : BitVec 32) (k0_hw1783 : k0_chk1783 v5942), ∀ a, (k0_off1783 v5942) a + S1x16x128.size a ≤ S16384x16x128.size a := fun v5942 k0_hw1783 => k0_hw1783

def k0_off1784 (v5948 : BitVec 32) : Fin 3 → Nat :=
  let c0_i32_4975 : BitVec 32 := 0#32
  let c0_i32_4976 : BitVec 32 := 0#32
  ![v5948.toNat, 0, 0]

def k0_chk1784 (v5948 : BitVec 32) : Prop :=
  (∀ a, (k0_off1784 v5948) a + S1x16x128.size a ≤ S16384x16x128.size a)
theorem k0_off1784_inb : ∀ (v5948 : BitVec 32) (k0_hw1784 : k0_chk1784 v5948), ∀ a, (k0_off1784 v5948) a + S1x16x128.size a ≤ S16384x16x128.size a := fun v5948 k0_hw1784 => k0_hw1784

def k0_off1785 (v5954 : BitVec 32) : Fin 3 → Nat :=
  let c0_i32_4981 : BitVec 32 := 0#32
  let c0_i32_4982 : BitVec 32 := 0#32
  ![v5954.toNat, 0, 0]

def k0_chk1785 (v5954 : BitVec 32) : Prop :=
  (∀ a, (k0_off1785 v5954) a + S1x16x128.size a ≤ S16384x16x128.size a)
theorem k0_off1785_inb : ∀ (v5954 : BitVec 32) (k0_hw1785 : k0_chk1785 v5954), ∀ a, (k0_off1785 v5954) a + S1x16x128.size a ≤ S16384x16x128.size a := fun v5954 k0_hw1785 => k0_hw1785

def k0_off1786 (v5960 : BitVec 32) : Fin 3 → Nat :=
  let c0_i32_4987 : BitVec 32 := 0#32
  let c0_i32_4988 : BitVec 32 := 0#32
  ![v5960.toNat, 0, 0]

def k0_chk1786 (v5960 : BitVec 32) : Prop :=
  (∀ a, (k0_off1786 v5960) a + S1x16x128.size a ≤ S16384x16x128.size a)
theorem k0_off1786_inb : ∀ (v5960 : BitVec 32) (k0_hw1786 : k0_chk1786 v5960), ∀ a, (k0_off1786 v5960) a + S1x16x128.size a ≤ S16384x16x128.size a := fun v5960 k0_hw1786 => k0_hw1786

def k0_off1787 (v5966 : BitVec 32) : Fin 3 → Nat :=
  let c0_i32_4993 : BitVec 32 := 0#32
  let c0_i32_4994 : BitVec 32 := 0#32
  ![v5966.toNat, 0, 0]

def k0_chk1787 (v5966 : BitVec 32) : Prop :=
  (∀ a, (k0_off1787 v5966) a + S1x16x128.size a ≤ S16384x16x128.size a)
theorem k0_off1787_inb : ∀ (v5966 : BitVec 32) (k0_hw1787 : k0_chk1787 v5966), ∀ a, (k0_off1787 v5966) a + S1x16x128.size a ≤ S16384x16x128.size a := fun v5966 k0_hw1787 => k0_hw1787

def k0_off1788 (v5972 : BitVec 32) : Fin 3 → Nat :=
  let c0_i32_4999 : BitVec 32 := 0#32
  let c0_i32_5000 : BitVec 32 := 0#32
  ![v5972.toNat, 0, 0]

def k0_chk1788 (v5972 : BitVec 32) : Prop :=
  (∀ a, (k0_off1788 v5972) a + S1x16x128.size a ≤ S16384x16x128.size a)
theorem k0_off1788_inb : ∀ (v5972 : BitVec 32) (k0_hw1788 : k0_chk1788 v5972), ∀ a, (k0_off1788 v5972) a + S1x16x128.size a ≤ S16384x16x128.size a := fun v5972 k0_hw1788 => k0_hw1788

def k0_off1789 (v5978 : BitVec 32) : Fin 3 → Nat :=
  let c0_i32_5005 : BitVec 32 := 0#32
  let c0_i32_5006 : BitVec 32 := 0#32
  ![v5978.toNat, 0, 0]

def k0_chk1789 (v5978 : BitVec 32) : Prop :=
  (∀ a, (k0_off1789 v5978) a + S1x16x128.size a ≤ S16384x16x128.size a)
theorem k0_off1789_inb : ∀ (v5978 : BitVec 32) (k0_hw1789 : k0_chk1789 v5978), ∀ a, (k0_off1789 v5978) a + S1x16x128.size a ≤ S16384x16x128.size a := fun v5978 k0_hw1789 => k0_hw1789

def k0_off1790 (v5984 : BitVec 32) : Fin 3 → Nat :=
  let c0_i32_5011 : BitVec 32 := 0#32
  let c0_i32_5012 : BitVec 32 := 0#32
  ![v5984.toNat, 0, 0]

def k0_chk1790 (v5984 : BitVec 32) : Prop :=
  (∀ a, (k0_off1790 v5984) a + S1x16x128.size a ≤ S16384x16x128.size a)
theorem k0_off1790_inb : ∀ (v5984 : BitVec 32) (k0_hw1790 : k0_chk1790 v5984), ∀ a, (k0_off1790 v5984) a + S1x16x128.size a ≤ S16384x16x128.size a := fun v5984 k0_hw1790 => k0_hw1790

def k0_off1791 (v5990 : BitVec 32) : Fin 3 → Nat :=
  let c0_i32_5017 : BitVec 32 := 0#32
  let c0_i32_5018 : BitVec 32 := 0#32
  ![v5990.toNat, 0, 0]

def k0_chk1791 (v5990 : BitVec 32) : Prop :=
  (∀ a, (k0_off1791 v5990) a + S1x16x128.size a ≤ S16384x16x128.size a)
theorem k0_off1791_inb : ∀ (v5990 : BitVec 32) (k0_hw1791 : k0_chk1791 v5990), ∀ a, (k0_off1791 v5990) a + S1x16x128.size a ≤ S16384x16x128.size a := fun v5990 k0_hw1791 => k0_hw1791

def k0_off1792 (v5996 : BitVec 32) : Fin 3 → Nat :=
  let c0_i32_5023 : BitVec 32 := 0#32
  let c0_i32_5024 : BitVec 32 := 0#32
  ![v5996.toNat, 0, 0]

def k0_chk1792 (v5996 : BitVec 32) : Prop :=
  (∀ a, (k0_off1792 v5996) a + S1x16x128.size a ≤ S16384x16x128.size a)
theorem k0_off1792_inb : ∀ (v5996 : BitVec 32) (k0_hw1792 : k0_chk1792 v5996), ∀ a, (k0_off1792 v5996) a + S1x16x128.size a ≤ S16384x16x128.size a := fun v5996 k0_hw1792 => k0_hw1792

def k0_off1793 (v6275 : BitVec 32) : Fin 3 → Nat :=
  let c0_i32_5131 : BitVec 32 := 0#32
  let c0_i32_5132 : BitVec 32 := 0#32
  ![v6275.toNat, 0, 0]

def k0_chk1793 (v6275 : BitVec 32) : Prop :=
  (∀ a, (k0_off1793 v6275) a + S1x16x128.size a ≤ S16384x16x128.size a)
theorem k0_off1793_inb : ∀ (v6275 : BitVec 32) (k0_hw1793 : k0_chk1793 v6275), ∀ a, (k0_off1793 v6275) a + S1x16x128.size a ≤ S16384x16x128.size a := fun v6275 k0_hw1793 => k0_hw1793

def k0_off1794 (v6281 : BitVec 32) : Fin 3 → Nat :=
  let c0_i32_5137 : BitVec 32 := 0#32
  let c0_i32_5138 : BitVec 32 := 0#32
  ![v6281.toNat, 0, 0]

def k0_chk1794 (v6281 : BitVec 32) : Prop :=
  (∀ a, (k0_off1794 v6281) a + S1x16x128.size a ≤ S16384x16x128.size a)
theorem k0_off1794_inb : ∀ (v6281 : BitVec 32) (k0_hw1794 : k0_chk1794 v6281), ∀ a, (k0_off1794 v6281) a + S1x16x128.size a ≤ S16384x16x128.size a := fun v6281 k0_hw1794 => k0_hw1794

def k0_off1795 (v6287 : BitVec 32) : Fin 3 → Nat :=
  let c0_i32_5143 : BitVec 32 := 0#32
  let c0_i32_5144 : BitVec 32 := 0#32
  ![v6287.toNat, 0, 0]

def k0_chk1795 (v6287 : BitVec 32) : Prop :=
  (∀ a, (k0_off1795 v6287) a + S1x16x128.size a ≤ S16384x16x128.size a)
theorem k0_off1795_inb : ∀ (v6287 : BitVec 32) (k0_hw1795 : k0_chk1795 v6287), ∀ a, (k0_off1795 v6287) a + S1x16x128.size a ≤ S16384x16x128.size a := fun v6287 k0_hw1795 => k0_hw1795

def k0_off1796 (v6293 : BitVec 32) : Fin 3 → Nat :=
  let c0_i32_5149 : BitVec 32 := 0#32
  let c0_i32_5150 : BitVec 32 := 0#32
  ![v6293.toNat, 0, 0]

def k0_chk1796 (v6293 : BitVec 32) : Prop :=
  (∀ a, (k0_off1796 v6293) a + S1x16x128.size a ≤ S16384x16x128.size a)
theorem k0_off1796_inb : ∀ (v6293 : BitVec 32) (k0_hw1796 : k0_chk1796 v6293), ∀ a, (k0_off1796 v6293) a + S1x16x128.size a ≤ S16384x16x128.size a := fun v6293 k0_hw1796 => k0_hw1796

def k0_off1797 (v6299 : BitVec 32) : Fin 3 → Nat :=
  let c0_i32_5155 : BitVec 32 := 0#32
  let c0_i32_5156 : BitVec 32 := 0#32
  ![v6299.toNat, 0, 0]

def k0_chk1797 (v6299 : BitVec 32) : Prop :=
  (∀ a, (k0_off1797 v6299) a + S1x16x128.size a ≤ S16384x16x128.size a)
theorem k0_off1797_inb : ∀ (v6299 : BitVec 32) (k0_hw1797 : k0_chk1797 v6299), ∀ a, (k0_off1797 v6299) a + S1x16x128.size a ≤ S16384x16x128.size a := fun v6299 k0_hw1797 => k0_hw1797

def k0_off1798 (v6305 : BitVec 32) : Fin 3 → Nat :=
  let c0_i32_5161 : BitVec 32 := 0#32
  let c0_i32_5162 : BitVec 32 := 0#32
  ![v6305.toNat, 0, 0]

def k0_chk1798 (v6305 : BitVec 32) : Prop :=
  (∀ a, (k0_off1798 v6305) a + S1x16x128.size a ≤ S16384x16x128.size a)
theorem k0_off1798_inb : ∀ (v6305 : BitVec 32) (k0_hw1798 : k0_chk1798 v6305), ∀ a, (k0_off1798 v6305) a + S1x16x128.size a ≤ S16384x16x128.size a := fun v6305 k0_hw1798 => k0_hw1798

def k0_off1799 (v6311 : BitVec 32) : Fin 3 → Nat :=
  let c0_i32_5167 : BitVec 32 := 0#32
  let c0_i32_5168 : BitVec 32 := 0#32
  ![v6311.toNat, 0, 0]

def k0_chk1799 (v6311 : BitVec 32) : Prop :=
  (∀ a, (k0_off1799 v6311) a + S1x16x128.size a ≤ S16384x16x128.size a)
theorem k0_off1799_inb : ∀ (v6311 : BitVec 32) (k0_hw1799 : k0_chk1799 v6311), ∀ a, (k0_off1799 v6311) a + S1x16x128.size a ≤ S16384x16x128.size a := fun v6311 k0_hw1799 => k0_hw1799

def k0_off1800 (v6317 : BitVec 32) : Fin 3 → Nat :=
  let c0_i32_5173 : BitVec 32 := 0#32
  let c0_i32_5174 : BitVec 32 := 0#32
  ![v6317.toNat, 0, 0]

def k0_chk1800 (v6317 : BitVec 32) : Prop :=
  (∀ a, (k0_off1800 v6317) a + S1x16x128.size a ≤ S16384x16x128.size a)
theorem k0_off1800_inb : ∀ (v6317 : BitVec 32) (k0_hw1800 : k0_chk1800 v6317), ∀ a, (k0_off1800 v6317) a + S1x16x128.size a ≤ S16384x16x128.size a := fun v6317 k0_hw1800 => k0_hw1800

def k0_off1801 (v6323 : BitVec 32) : Fin 3 → Nat :=
  let c0_i32_5179 : BitVec 32 := 0#32
  let c0_i32_5180 : BitVec 32 := 0#32
  ![v6323.toNat, 0, 0]

def k0_chk1801 (v6323 : BitVec 32) : Prop :=
  (∀ a, (k0_off1801 v6323) a + S1x16x128.size a ≤ S16384x16x128.size a)
theorem k0_off1801_inb : ∀ (v6323 : BitVec 32) (k0_hw1801 : k0_chk1801 v6323), ∀ a, (k0_off1801 v6323) a + S1x16x128.size a ≤ S16384x16x128.size a := fun v6323 k0_hw1801 => k0_hw1801

def k0_off1802 (v6329 : BitVec 32) : Fin 3 → Nat :=
  let c0_i32_5185 : BitVec 32 := 0#32
  let c0_i32_5186 : BitVec 32 := 0#32
  ![v6329.toNat, 0, 0]

def k0_chk1802 (v6329 : BitVec 32) : Prop :=
  (∀ a, (k0_off1802 v6329) a + S1x16x128.size a ≤ S16384x16x128.size a)
theorem k0_off1802_inb : ∀ (v6329 : BitVec 32) (k0_hw1802 : k0_chk1802 v6329), ∀ a, (k0_off1802 v6329) a + S1x16x128.size a ≤ S16384x16x128.size a := fun v6329 k0_hw1802 => k0_hw1802

def k0_off1803 (v6335 : BitVec 32) : Fin 3 → Nat :=
  let c0_i32_5191 : BitVec 32 := 0#32
  let c0_i32_5192 : BitVec 32 := 0#32
  ![v6335.toNat, 0, 0]

def k0_chk1803 (v6335 : BitVec 32) : Prop :=
  (∀ a, (k0_off1803 v6335) a + S1x16x128.size a ≤ S16384x16x128.size a)
theorem k0_off1803_inb : ∀ (v6335 : BitVec 32) (k0_hw1803 : k0_chk1803 v6335), ∀ a, (k0_off1803 v6335) a + S1x16x128.size a ≤ S16384x16x128.size a := fun v6335 k0_hw1803 => k0_hw1803

def k0_off1804 (v6341 : BitVec 32) : Fin 3 → Nat :=
  let c0_i32_5197 : BitVec 32 := 0#32
  let c0_i32_5198 : BitVec 32 := 0#32
  ![v6341.toNat, 0, 0]

def k0_chk1804 (v6341 : BitVec 32) : Prop :=
  (∀ a, (k0_off1804 v6341) a + S1x16x128.size a ≤ S16384x16x128.size a)
theorem k0_off1804_inb : ∀ (v6341 : BitVec 32) (k0_hw1804 : k0_chk1804 v6341), ∀ a, (k0_off1804 v6341) a + S1x16x128.size a ≤ S16384x16x128.size a := fun v6341 k0_hw1804 => k0_hw1804

def k0_off1805 (v6347 : BitVec 32) : Fin 3 → Nat :=
  let c0_i32_5203 : BitVec 32 := 0#32
  let c0_i32_5204 : BitVec 32 := 0#32
  ![v6347.toNat, 0, 0]

def k0_chk1805 (v6347 : BitVec 32) : Prop :=
  (∀ a, (k0_off1805 v6347) a + S1x16x128.size a ≤ S16384x16x128.size a)
theorem k0_off1805_inb : ∀ (v6347 : BitVec 32) (k0_hw1805 : k0_chk1805 v6347), ∀ a, (k0_off1805 v6347) a + S1x16x128.size a ≤ S16384x16x128.size a := fun v6347 k0_hw1805 => k0_hw1805

def k0_off1806 (v6353 : BitVec 32) : Fin 3 → Nat :=
  let c0_i32_5209 : BitVec 32 := 0#32
  let c0_i32_5210 : BitVec 32 := 0#32
  ![v6353.toNat, 0, 0]

def k0_chk1806 (v6353 : BitVec 32) : Prop :=
  (∀ a, (k0_off1806 v6353) a + S1x16x128.size a ≤ S16384x16x128.size a)
theorem k0_off1806_inb : ∀ (v6353 : BitVec 32) (k0_hw1806 : k0_chk1806 v6353), ∀ a, (k0_off1806 v6353) a + S1x16x128.size a ≤ S16384x16x128.size a := fun v6353 k0_hw1806 => k0_hw1806

def k0_off1807 (v6359 : BitVec 32) : Fin 3 → Nat :=
  let c0_i32_5215 : BitVec 32 := 0#32
  let c0_i32_5216 : BitVec 32 := 0#32
  ![v6359.toNat, 0, 0]

def k0_chk1807 (v6359 : BitVec 32) : Prop :=
  (∀ a, (k0_off1807 v6359) a + S1x16x128.size a ≤ S16384x16x128.size a)
theorem k0_off1807_inb : ∀ (v6359 : BitVec 32) (k0_hw1807 : k0_chk1807 v6359), ∀ a, (k0_off1807 v6359) a + S1x16x128.size a ≤ S16384x16x128.size a := fun v6359 k0_hw1807 => k0_hw1807

def k0_off1808 (v6365 : BitVec 32) : Fin 3 → Nat :=
  let c0_i32_5221 : BitVec 32 := 0#32
  let c0_i32_5222 : BitVec 32 := 0#32
  ![v6365.toNat, 0, 0]

def k0_chk1808 (v6365 : BitVec 32) : Prop :=
  (∀ a, (k0_off1808 v6365) a + S1x16x128.size a ≤ S16384x16x128.size a)
theorem k0_off1808_inb : ∀ (v6365 : BitVec 32) (k0_hw1808 : k0_chk1808 v6365), ∀ a, (k0_off1808 v6365) a + S1x16x128.size a ≤ S16384x16x128.size a := fun v6365 k0_hw1808 => k0_hw1808

def k0_off1809 (v6371 : BitVec 32) : Fin 3 → Nat :=
  let c0_i32_5227 : BitVec 32 := 0#32
  let c0_i32_5228 : BitVec 32 := 0#32
  ![v6371.toNat, 0, 0]

def k0_chk1809 (v6371 : BitVec 32) : Prop :=
  (∀ a, (k0_off1809 v6371) a + S1x16x128.size a ≤ S16384x16x128.size a)
theorem k0_off1809_inb : ∀ (v6371 : BitVec 32) (k0_hw1809 : k0_chk1809 v6371), ∀ a, (k0_off1809 v6371) a + S1x16x128.size a ≤ S16384x16x128.size a := fun v6371 k0_hw1809 => k0_hw1809

def k0_off1810 (v6377 : BitVec 32) : Fin 3 → Nat :=
  let c0_i32_5233 : BitVec 32 := 0#32
  let c0_i32_5234 : BitVec 32 := 0#32
  ![v6377.toNat, 0, 0]

def k0_chk1810 (v6377 : BitVec 32) : Prop :=
  (∀ a, (k0_off1810 v6377) a + S1x16x128.size a ≤ S16384x16x128.size a)
theorem k0_off1810_inb : ∀ (v6377 : BitVec 32) (k0_hw1810 : k0_chk1810 v6377), ∀ a, (k0_off1810 v6377) a + S1x16x128.size a ≤ S16384x16x128.size a := fun v6377 k0_hw1810 => k0_hw1810

def k0_off1811 (v6383 : BitVec 32) : Fin 3 → Nat :=
  let c0_i32_5239 : BitVec 32 := 0#32
  let c0_i32_5240 : BitVec 32 := 0#32
  ![v6383.toNat, 0, 0]

def k0_chk1811 (v6383 : BitVec 32) : Prop :=
  (∀ a, (k0_off1811 v6383) a + S1x16x128.size a ≤ S16384x16x128.size a)
theorem k0_off1811_inb : ∀ (v6383 : BitVec 32) (k0_hw1811 : k0_chk1811 v6383), ∀ a, (k0_off1811 v6383) a + S1x16x128.size a ≤ S16384x16x128.size a := fun v6383 k0_hw1811 => k0_hw1811

def k0_off1812 (v6389 : BitVec 32) : Fin 3 → Nat :=
  let c0_i32_5245 : BitVec 32 := 0#32
  let c0_i32_5246 : BitVec 32 := 0#32
  ![v6389.toNat, 0, 0]

def k0_chk1812 (v6389 : BitVec 32) : Prop :=
  (∀ a, (k0_off1812 v6389) a + S1x16x128.size a ≤ S16384x16x128.size a)
theorem k0_off1812_inb : ∀ (v6389 : BitVec 32) (k0_hw1812 : k0_chk1812 v6389), ∀ a, (k0_off1812 v6389) a + S1x16x128.size a ≤ S16384x16x128.size a := fun v6389 k0_hw1812 => k0_hw1812

def k0_off1813 (v6395 : BitVec 32) : Fin 3 → Nat :=
  let c0_i32_5251 : BitVec 32 := 0#32
  let c0_i32_5252 : BitVec 32 := 0#32
  ![v6395.toNat, 0, 0]

def k0_chk1813 (v6395 : BitVec 32) : Prop :=
  (∀ a, (k0_off1813 v6395) a + S1x16x128.size a ≤ S16384x16x128.size a)
theorem k0_off1813_inb : ∀ (v6395 : BitVec 32) (k0_hw1813 : k0_chk1813 v6395), ∀ a, (k0_off1813 v6395) a + S1x16x128.size a ≤ S16384x16x128.size a := fun v6395 k0_hw1813 => k0_hw1813

def k0_off1814 (v6401 : BitVec 32) : Fin 3 → Nat :=
  let c0_i32_5257 : BitVec 32 := 0#32
  let c0_i32_5258 : BitVec 32 := 0#32
  ![v6401.toNat, 0, 0]

def k0_chk1814 (v6401 : BitVec 32) : Prop :=
  (∀ a, (k0_off1814 v6401) a + S1x16x128.size a ≤ S16384x16x128.size a)
theorem k0_off1814_inb : ∀ (v6401 : BitVec 32) (k0_hw1814 : k0_chk1814 v6401), ∀ a, (k0_off1814 v6401) a + S1x16x128.size a ≤ S16384x16x128.size a := fun v6401 k0_hw1814 => k0_hw1814

def k0_off1815 (v6407 : BitVec 32) : Fin 3 → Nat :=
  let c0_i32_5263 : BitVec 32 := 0#32
  let c0_i32_5264 : BitVec 32 := 0#32
  ![v6407.toNat, 0, 0]

def k0_chk1815 (v6407 : BitVec 32) : Prop :=
  (∀ a, (k0_off1815 v6407) a + S1x16x128.size a ≤ S16384x16x128.size a)
theorem k0_off1815_inb : ∀ (v6407 : BitVec 32) (k0_hw1815 : k0_chk1815 v6407), ∀ a, (k0_off1815 v6407) a + S1x16x128.size a ≤ S16384x16x128.size a := fun v6407 k0_hw1815 => k0_hw1815

def k0_off1816 (v6413 : BitVec 32) : Fin 3 → Nat :=
  let c0_i32_5269 : BitVec 32 := 0#32
  let c0_i32_5270 : BitVec 32 := 0#32
  ![v6413.toNat, 0, 0]

def k0_chk1816 (v6413 : BitVec 32) : Prop :=
  (∀ a, (k0_off1816 v6413) a + S1x16x128.size a ≤ S16384x16x128.size a)
theorem k0_off1816_inb : ∀ (v6413 : BitVec 32) (k0_hw1816 : k0_chk1816 v6413), ∀ a, (k0_off1816 v6413) a + S1x16x128.size a ≤ S16384x16x128.size a := fun v6413 k0_hw1816 => k0_hw1816

def k0_off1817 (v6419 : BitVec 32) : Fin 3 → Nat :=
  let c0_i32_5275 : BitVec 32 := 0#32
  let c0_i32_5276 : BitVec 32 := 0#32
  ![v6419.toNat, 0, 0]

def k0_chk1817 (v6419 : BitVec 32) : Prop :=
  (∀ a, (k0_off1817 v6419) a + S1x16x128.size a ≤ S16384x16x128.size a)
theorem k0_off1817_inb : ∀ (v6419 : BitVec 32) (k0_hw1817 : k0_chk1817 v6419), ∀ a, (k0_off1817 v6419) a + S1x16x128.size a ≤ S16384x16x128.size a := fun v6419 k0_hw1817 => k0_hw1817

def k0_off1818 (v6425 : BitVec 32) : Fin 3 → Nat :=
  let c0_i32_5281 : BitVec 32 := 0#32
  let c0_i32_5282 : BitVec 32 := 0#32
  ![v6425.toNat, 0, 0]

def k0_chk1818 (v6425 : BitVec 32) : Prop :=
  (∀ a, (k0_off1818 v6425) a + S1x16x128.size a ≤ S16384x16x128.size a)
theorem k0_off1818_inb : ∀ (v6425 : BitVec 32) (k0_hw1818 : k0_chk1818 v6425), ∀ a, (k0_off1818 v6425) a + S1x16x128.size a ≤ S16384x16x128.size a := fun v6425 k0_hw1818 => k0_hw1818

def k0_off1819 (v6431 : BitVec 32) : Fin 3 → Nat :=
  let c0_i32_5287 : BitVec 32 := 0#32
  let c0_i32_5288 : BitVec 32 := 0#32
  ![v6431.toNat, 0, 0]

def k0_chk1819 (v6431 : BitVec 32) : Prop :=
  (∀ a, (k0_off1819 v6431) a + S1x16x128.size a ≤ S16384x16x128.size a)
theorem k0_off1819_inb : ∀ (v6431 : BitVec 32) (k0_hw1819 : k0_chk1819 v6431), ∀ a, (k0_off1819 v6431) a + S1x16x128.size a ≤ S16384x16x128.size a := fun v6431 k0_hw1819 => k0_hw1819

def k0_off1820 (v6437 : BitVec 32) : Fin 3 → Nat :=
  let c0_i32_5293 : BitVec 32 := 0#32
  let c0_i32_5294 : BitVec 32 := 0#32
  ![v6437.toNat, 0, 0]

def k0_chk1820 (v6437 : BitVec 32) : Prop :=
  (∀ a, (k0_off1820 v6437) a + S1x16x128.size a ≤ S16384x16x128.size a)
theorem k0_off1820_inb : ∀ (v6437 : BitVec 32) (k0_hw1820 : k0_chk1820 v6437), ∀ a, (k0_off1820 v6437) a + S1x16x128.size a ≤ S16384x16x128.size a := fun v6437 k0_hw1820 => k0_hw1820

def k0_off1821 (v6443 : BitVec 32) : Fin 3 → Nat :=
  let c0_i32_5299 : BitVec 32 := 0#32
  let c0_i32_5300 : BitVec 32 := 0#32
  ![v6443.toNat, 0, 0]

def k0_chk1821 (v6443 : BitVec 32) : Prop :=
  (∀ a, (k0_off1821 v6443) a + S1x16x128.size a ≤ S16384x16x128.size a)
theorem k0_off1821_inb : ∀ (v6443 : BitVec 32) (k0_hw1821 : k0_chk1821 v6443), ∀ a, (k0_off1821 v6443) a + S1x16x128.size a ≤ S16384x16x128.size a := fun v6443 k0_hw1821 => k0_hw1821

def k0_off1822 (v6449 : BitVec 32) : Fin 3 → Nat :=
  let c0_i32_5305 : BitVec 32 := 0#32
  let c0_i32_5306 : BitVec 32 := 0#32
  ![v6449.toNat, 0, 0]

def k0_chk1822 (v6449 : BitVec 32) : Prop :=
  (∀ a, (k0_off1822 v6449) a + S1x16x128.size a ≤ S16384x16x128.size a)
theorem k0_off1822_inb : ∀ (v6449 : BitVec 32) (k0_hw1822 : k0_chk1822 v6449), ∀ a, (k0_off1822 v6449) a + S1x16x128.size a ≤ S16384x16x128.size a := fun v6449 k0_hw1822 => k0_hw1822

def k0_off1823 (v6455 : BitVec 32) : Fin 3 → Nat :=
  let c0_i32_5311 : BitVec 32 := 0#32
  let c0_i32_5312 : BitVec 32 := 0#32
  ![v6455.toNat, 0, 0]

def k0_chk1823 (v6455 : BitVec 32) : Prop :=
  (∀ a, (k0_off1823 v6455) a + S1x16x128.size a ≤ S16384x16x128.size a)
theorem k0_off1823_inb : ∀ (v6455 : BitVec 32) (k0_hw1823 : k0_chk1823 v6455), ∀ a, (k0_off1823 v6455) a + S1x16x128.size a ≤ S16384x16x128.size a := fun v6455 k0_hw1823 => k0_hw1823

def k0_off1824 (v6461 : BitVec 32) : Fin 3 → Nat :=
  let c0_i32_5317 : BitVec 32 := 0#32
  let c0_i32_5318 : BitVec 32 := 0#32
  ![v6461.toNat, 0, 0]

def k0_chk1824 (v6461 : BitVec 32) : Prop :=
  (∀ a, (k0_off1824 v6461) a + S1x16x128.size a ≤ S16384x16x128.size a)
theorem k0_off1824_inb : ∀ (v6461 : BitVec 32) (k0_hw1824 : k0_chk1824 v6461), ∀ a, (k0_off1824 v6461) a + S1x16x128.size a ≤ S16384x16x128.size a := fun v6461 k0_hw1824 => k0_hw1824

def k0_off1825 (v6467 : BitVec 32) : Fin 3 → Nat :=
  let c0_i32_5323 : BitVec 32 := 0#32
  let c0_i32_5324 : BitVec 32 := 0#32
  ![v6467.toNat, 0, 0]

def k0_chk1825 (v6467 : BitVec 32) : Prop :=
  (∀ a, (k0_off1825 v6467) a + S1x16x128.size a ≤ S16384x16x128.size a)
theorem k0_off1825_inb : ∀ (v6467 : BitVec 32) (k0_hw1825 : k0_chk1825 v6467), ∀ a, (k0_off1825 v6467) a + S1x16x128.size a ≤ S16384x16x128.size a := fun v6467 k0_hw1825 => k0_hw1825

def k0_off1826 (v6473 : BitVec 32) : Fin 3 → Nat :=
  let c0_i32_5329 : BitVec 32 := 0#32
  let c0_i32_5330 : BitVec 32 := 0#32
  ![v6473.toNat, 0, 0]

def k0_chk1826 (v6473 : BitVec 32) : Prop :=
  (∀ a, (k0_off1826 v6473) a + S1x16x128.size a ≤ S16384x16x128.size a)
theorem k0_off1826_inb : ∀ (v6473 : BitVec 32) (k0_hw1826 : k0_chk1826 v6473), ∀ a, (k0_off1826 v6473) a + S1x16x128.size a ≤ S16384x16x128.size a := fun v6473 k0_hw1826 => k0_hw1826

def k0_off1827 (v6479 : BitVec 32) : Fin 3 → Nat :=
  let c0_i32_5335 : BitVec 32 := 0#32
  let c0_i32_5336 : BitVec 32 := 0#32
  ![v6479.toNat, 0, 0]

def k0_chk1827 (v6479 : BitVec 32) : Prop :=
  (∀ a, (k0_off1827 v6479) a + S1x16x128.size a ≤ S16384x16x128.size a)
theorem k0_off1827_inb : ∀ (v6479 : BitVec 32) (k0_hw1827 : k0_chk1827 v6479), ∀ a, (k0_off1827 v6479) a + S1x16x128.size a ≤ S16384x16x128.size a := fun v6479 k0_hw1827 => k0_hw1827

def k0_off1828 (v6485 : BitVec 32) : Fin 3 → Nat :=
  let c0_i32_5341 : BitVec 32 := 0#32
  let c0_i32_5342 : BitVec 32 := 0#32
  ![v6485.toNat, 0, 0]

def k0_chk1828 (v6485 : BitVec 32) : Prop :=
  (∀ a, (k0_off1828 v6485) a + S1x16x128.size a ≤ S16384x16x128.size a)
theorem k0_off1828_inb : ∀ (v6485 : BitVec 32) (k0_hw1828 : k0_chk1828 v6485), ∀ a, (k0_off1828 v6485) a + S1x16x128.size a ≤ S16384x16x128.size a := fun v6485 k0_hw1828 => k0_hw1828

def k0_off1829 (v6491 : BitVec 32) : Fin 3 → Nat :=
  let c0_i32_5347 : BitVec 32 := 0#32
  let c0_i32_5348 : BitVec 32 := 0#32
  ![v6491.toNat, 0, 0]

def k0_chk1829 (v6491 : BitVec 32) : Prop :=
  (∀ a, (k0_off1829 v6491) a + S1x16x128.size a ≤ S16384x16x128.size a)
theorem k0_off1829_inb : ∀ (v6491 : BitVec 32) (k0_hw1829 : k0_chk1829 v6491), ∀ a, (k0_off1829 v6491) a + S1x16x128.size a ≤ S16384x16x128.size a := fun v6491 k0_hw1829 => k0_hw1829

def k0_off1830 (v6497 : BitVec 32) : Fin 3 → Nat :=
  let c0_i32_5353 : BitVec 32 := 0#32
  let c0_i32_5354 : BitVec 32 := 0#32
  ![v6497.toNat, 0, 0]

def k0_chk1830 (v6497 : BitVec 32) : Prop :=
  (∀ a, (k0_off1830 v6497) a + S1x16x128.size a ≤ S16384x16x128.size a)
theorem k0_off1830_inb : ∀ (v6497 : BitVec 32) (k0_hw1830 : k0_chk1830 v6497), ∀ a, (k0_off1830 v6497) a + S1x16x128.size a ≤ S16384x16x128.size a := fun v6497 k0_hw1830 => k0_hw1830

def k0_off1831 (v6503 : BitVec 32) : Fin 3 → Nat :=
  let c0_i32_5359 : BitVec 32 := 0#32
  let c0_i32_5360 : BitVec 32 := 0#32
  ![v6503.toNat, 0, 0]

def k0_chk1831 (v6503 : BitVec 32) : Prop :=
  (∀ a, (k0_off1831 v6503) a + S1x16x128.size a ≤ S16384x16x128.size a)
theorem k0_off1831_inb : ∀ (v6503 : BitVec 32) (k0_hw1831 : k0_chk1831 v6503), ∀ a, (k0_off1831 v6503) a + S1x16x128.size a ≤ S16384x16x128.size a := fun v6503 k0_hw1831 => k0_hw1831

def k0_off1832 (v6509 : BitVec 32) : Fin 3 → Nat :=
  let c0_i32_5365 : BitVec 32 := 0#32
  let c0_i32_5366 : BitVec 32 := 0#32
  ![v6509.toNat, 0, 0]

def k0_chk1832 (v6509 : BitVec 32) : Prop :=
  (∀ a, (k0_off1832 v6509) a + S1x16x128.size a ≤ S16384x16x128.size a)
theorem k0_off1832_inb : ∀ (v6509 : BitVec 32) (k0_hw1832 : k0_chk1832 v6509), ∀ a, (k0_off1832 v6509) a + S1x16x128.size a ≤ S16384x16x128.size a := fun v6509 k0_hw1832 => k0_hw1832

def k0_off1833 (v6515 : BitVec 32) : Fin 3 → Nat :=
  let c0_i32_5371 : BitVec 32 := 0#32
  let c0_i32_5372 : BitVec 32 := 0#32
  ![v6515.toNat, 0, 0]

def k0_chk1833 (v6515 : BitVec 32) : Prop :=
  (∀ a, (k0_off1833 v6515) a + S1x16x128.size a ≤ S16384x16x128.size a)
theorem k0_off1833_inb : ∀ (v6515 : BitVec 32) (k0_hw1833 : k0_chk1833 v6515), ∀ a, (k0_off1833 v6515) a + S1x16x128.size a ≤ S16384x16x128.size a := fun v6515 k0_hw1833 => k0_hw1833

def k0_off1834 (v6521 : BitVec 32) : Fin 3 → Nat :=
  let c0_i32_5377 : BitVec 32 := 0#32
  let c0_i32_5378 : BitVec 32 := 0#32
  ![v6521.toNat, 0, 0]

def k0_chk1834 (v6521 : BitVec 32) : Prop :=
  (∀ a, (k0_off1834 v6521) a + S1x16x128.size a ≤ S16384x16x128.size a)
theorem k0_off1834_inb : ∀ (v6521 : BitVec 32) (k0_hw1834 : k0_chk1834 v6521), ∀ a, (k0_off1834 v6521) a + S1x16x128.size a ≤ S16384x16x128.size a := fun v6521 k0_hw1834 => k0_hw1834

def k0_off1835 (v6527 : BitVec 32) : Fin 3 → Nat :=
  let c0_i32_5383 : BitVec 32 := 0#32
  let c0_i32_5384 : BitVec 32 := 0#32
  ![v6527.toNat, 0, 0]

def k0_chk1835 (v6527 : BitVec 32) : Prop :=
  (∀ a, (k0_off1835 v6527) a + S1x16x128.size a ≤ S16384x16x128.size a)
theorem k0_off1835_inb : ∀ (v6527 : BitVec 32) (k0_hw1835 : k0_chk1835 v6527), ∀ a, (k0_off1835 v6527) a + S1x16x128.size a ≤ S16384x16x128.size a := fun v6527 k0_hw1835 => k0_hw1835

def k0_off1836 (v6533 : BitVec 32) : Fin 3 → Nat :=
  let c0_i32_5389 : BitVec 32 := 0#32
  let c0_i32_5390 : BitVec 32 := 0#32
  ![v6533.toNat, 0, 0]

def k0_chk1836 (v6533 : BitVec 32) : Prop :=
  (∀ a, (k0_off1836 v6533) a + S1x16x128.size a ≤ S16384x16x128.size a)
theorem k0_off1836_inb : ∀ (v6533 : BitVec 32) (k0_hw1836 : k0_chk1836 v6533), ∀ a, (k0_off1836 v6533) a + S1x16x128.size a ≤ S16384x16x128.size a := fun v6533 k0_hw1836 => k0_hw1836

def k0_off1837 (v6539 : BitVec 32) : Fin 3 → Nat :=
  let c0_i32_5395 : BitVec 32 := 0#32
  let c0_i32_5396 : BitVec 32 := 0#32
  ![v6539.toNat, 0, 0]

def k0_chk1837 (v6539 : BitVec 32) : Prop :=
  (∀ a, (k0_off1837 v6539) a + S1x16x128.size a ≤ S16384x16x128.size a)
theorem k0_off1837_inb : ∀ (v6539 : BitVec 32) (k0_hw1837 : k0_chk1837 v6539), ∀ a, (k0_off1837 v6539) a + S1x16x128.size a ≤ S16384x16x128.size a := fun v6539 k0_hw1837 => k0_hw1837

def k0_off1838 (v6545 : BitVec 32) : Fin 3 → Nat :=
  let c0_i32_5401 : BitVec 32 := 0#32
  let c0_i32_5402 : BitVec 32 := 0#32
  ![v6545.toNat, 0, 0]

def k0_chk1838 (v6545 : BitVec 32) : Prop :=
  (∀ a, (k0_off1838 v6545) a + S1x16x128.size a ≤ S16384x16x128.size a)
theorem k0_off1838_inb : ∀ (v6545 : BitVec 32) (k0_hw1838 : k0_chk1838 v6545), ∀ a, (k0_off1838 v6545) a + S1x16x128.size a ≤ S16384x16x128.size a := fun v6545 k0_hw1838 => k0_hw1838

def k0_off1839 (v6551 : BitVec 32) : Fin 3 → Nat :=
  let c0_i32_5407 : BitVec 32 := 0#32
  let c0_i32_5408 : BitVec 32 := 0#32
  ![v6551.toNat, 0, 0]

def k0_chk1839 (v6551 : BitVec 32) : Prop :=
  (∀ a, (k0_off1839 v6551) a + S1x16x128.size a ≤ S16384x16x128.size a)
theorem k0_off1839_inb : ∀ (v6551 : BitVec 32) (k0_hw1839 : k0_chk1839 v6551), ∀ a, (k0_off1839 v6551) a + S1x16x128.size a ≤ S16384x16x128.size a := fun v6551 k0_hw1839 => k0_hw1839

def k0_off1840 (v6557 : BitVec 32) : Fin 3 → Nat :=
  let c0_i32_5413 : BitVec 32 := 0#32
  let c0_i32_5414 : BitVec 32 := 0#32
  ![v6557.toNat, 0, 0]

def k0_chk1840 (v6557 : BitVec 32) : Prop :=
  (∀ a, (k0_off1840 v6557) a + S1x16x128.size a ≤ S16384x16x128.size a)
theorem k0_off1840_inb : ∀ (v6557 : BitVec 32) (k0_hw1840 : k0_chk1840 v6557), ∀ a, (k0_off1840 v6557) a + S1x16x128.size a ≤ S16384x16x128.size a := fun v6557 k0_hw1840 => k0_hw1840

def k0_off1841 (v6563 : BitVec 32) : Fin 3 → Nat :=
  let c0_i32_5419 : BitVec 32 := 0#32
  let c0_i32_5420 : BitVec 32 := 0#32
  ![v6563.toNat, 0, 0]

def k0_chk1841 (v6563 : BitVec 32) : Prop :=
  (∀ a, (k0_off1841 v6563) a + S1x16x128.size a ≤ S16384x16x128.size a)
theorem k0_off1841_inb : ∀ (v6563 : BitVec 32) (k0_hw1841 : k0_chk1841 v6563), ∀ a, (k0_off1841 v6563) a + S1x16x128.size a ≤ S16384x16x128.size a := fun v6563 k0_hw1841 => k0_hw1841

def k0_off1842 (v6569 : BitVec 32) : Fin 3 → Nat :=
  let c0_i32_5425 : BitVec 32 := 0#32
  let c0_i32_5426 : BitVec 32 := 0#32
  ![v6569.toNat, 0, 0]

def k0_chk1842 (v6569 : BitVec 32) : Prop :=
  (∀ a, (k0_off1842 v6569) a + S1x16x128.size a ≤ S16384x16x128.size a)
theorem k0_off1842_inb : ∀ (v6569 : BitVec 32) (k0_hw1842 : k0_chk1842 v6569), ∀ a, (k0_off1842 v6569) a + S1x16x128.size a ≤ S16384x16x128.size a := fun v6569 k0_hw1842 => k0_hw1842

def k0_off1843 (v6575 : BitVec 32) : Fin 3 → Nat :=
  let c0_i32_5431 : BitVec 32 := 0#32
  let c0_i32_5432 : BitVec 32 := 0#32
  ![v6575.toNat, 0, 0]

def k0_chk1843 (v6575 : BitVec 32) : Prop :=
  (∀ a, (k0_off1843 v6575) a + S1x16x128.size a ≤ S16384x16x128.size a)
theorem k0_off1843_inb : ∀ (v6575 : BitVec 32) (k0_hw1843 : k0_chk1843 v6575), ∀ a, (k0_off1843 v6575) a + S1x16x128.size a ≤ S16384x16x128.size a := fun v6575 k0_hw1843 => k0_hw1843

def k0_off1844 (v6581 : BitVec 32) : Fin 3 → Nat :=
  let c0_i32_5437 : BitVec 32 := 0#32
  let c0_i32_5438 : BitVec 32 := 0#32
  ![v6581.toNat, 0, 0]

def k0_chk1844 (v6581 : BitVec 32) : Prop :=
  (∀ a, (k0_off1844 v6581) a + S1x16x128.size a ≤ S16384x16x128.size a)
theorem k0_off1844_inb : ∀ (v6581 : BitVec 32) (k0_hw1844 : k0_chk1844 v6581), ∀ a, (k0_off1844 v6581) a + S1x16x128.size a ≤ S16384x16x128.size a := fun v6581 k0_hw1844 => k0_hw1844

def k0_off1845 (v6587 : BitVec 32) : Fin 3 → Nat :=
  let c0_i32_5443 : BitVec 32 := 0#32
  let c0_i32_5444 : BitVec 32 := 0#32
  ![v6587.toNat, 0, 0]

def k0_chk1845 (v6587 : BitVec 32) : Prop :=
  (∀ a, (k0_off1845 v6587) a + S1x16x128.size a ≤ S16384x16x128.size a)
theorem k0_off1845_inb : ∀ (v6587 : BitVec 32) (k0_hw1845 : k0_chk1845 v6587), ∀ a, (k0_off1845 v6587) a + S1x16x128.size a ≤ S16384x16x128.size a := fun v6587 k0_hw1845 => k0_hw1845

def k0_off1846 (v6593 : BitVec 32) : Fin 3 → Nat :=
  let c0_i32_5449 : BitVec 32 := 0#32
  let c0_i32_5450 : BitVec 32 := 0#32
  ![v6593.toNat, 0, 0]

def k0_chk1846 (v6593 : BitVec 32) : Prop :=
  (∀ a, (k0_off1846 v6593) a + S1x16x128.size a ≤ S16384x16x128.size a)
theorem k0_off1846_inb : ∀ (v6593 : BitVec 32) (k0_hw1846 : k0_chk1846 v6593), ∀ a, (k0_off1846 v6593) a + S1x16x128.size a ≤ S16384x16x128.size a := fun v6593 k0_hw1846 => k0_hw1846

def k0_off1847 (v6599 : BitVec 32) : Fin 3 → Nat :=
  let c0_i32_5455 : BitVec 32 := 0#32
  let c0_i32_5456 : BitVec 32 := 0#32
  ![v6599.toNat, 0, 0]

def k0_chk1847 (v6599 : BitVec 32) : Prop :=
  (∀ a, (k0_off1847 v6599) a + S1x16x128.size a ≤ S16384x16x128.size a)
theorem k0_off1847_inb : ∀ (v6599 : BitVec 32) (k0_hw1847 : k0_chk1847 v6599), ∀ a, (k0_off1847 v6599) a + S1x16x128.size a ≤ S16384x16x128.size a := fun v6599 k0_hw1847 => k0_hw1847

def k0_off1848 (v6605 : BitVec 32) : Fin 3 → Nat :=
  let c0_i32_5461 : BitVec 32 := 0#32
  let c0_i32_5462 : BitVec 32 := 0#32
  ![v6605.toNat, 0, 0]

def k0_chk1848 (v6605 : BitVec 32) : Prop :=
  (∀ a, (k0_off1848 v6605) a + S1x16x128.size a ≤ S16384x16x128.size a)
theorem k0_off1848_inb : ∀ (v6605 : BitVec 32) (k0_hw1848 : k0_chk1848 v6605), ∀ a, (k0_off1848 v6605) a + S1x16x128.size a ≤ S16384x16x128.size a := fun v6605 k0_hw1848 => k0_hw1848

def k0_off1849 (v6611 : BitVec 32) : Fin 3 → Nat :=
  let c0_i32_5467 : BitVec 32 := 0#32
  let c0_i32_5468 : BitVec 32 := 0#32
  ![v6611.toNat, 0, 0]

def k0_chk1849 (v6611 : BitVec 32) : Prop :=
  (∀ a, (k0_off1849 v6611) a + S1x16x128.size a ≤ S16384x16x128.size a)
theorem k0_off1849_inb : ∀ (v6611 : BitVec 32) (k0_hw1849 : k0_chk1849 v6611), ∀ a, (k0_off1849 v6611) a + S1x16x128.size a ≤ S16384x16x128.size a := fun v6611 k0_hw1849 => k0_hw1849

def k0_off1850 (v6617 : BitVec 32) : Fin 3 → Nat :=
  let c0_i32_5473 : BitVec 32 := 0#32
  let c0_i32_5474 : BitVec 32 := 0#32
  ![v6617.toNat, 0, 0]

def k0_chk1850 (v6617 : BitVec 32) : Prop :=
  (∀ a, (k0_off1850 v6617) a + S1x16x128.size a ≤ S16384x16x128.size a)
theorem k0_off1850_inb : ∀ (v6617 : BitVec 32) (k0_hw1850 : k0_chk1850 v6617), ∀ a, (k0_off1850 v6617) a + S1x16x128.size a ≤ S16384x16x128.size a := fun v6617 k0_hw1850 => k0_hw1850

def k0_off1851 (v6623 : BitVec 32) : Fin 3 → Nat :=
  let c0_i32_5479 : BitVec 32 := 0#32
  let c0_i32_5480 : BitVec 32 := 0#32
  ![v6623.toNat, 0, 0]

def k0_chk1851 (v6623 : BitVec 32) : Prop :=
  (∀ a, (k0_off1851 v6623) a + S1x16x128.size a ≤ S16384x16x128.size a)
theorem k0_off1851_inb : ∀ (v6623 : BitVec 32) (k0_hw1851 : k0_chk1851 v6623), ∀ a, (k0_off1851 v6623) a + S1x16x128.size a ≤ S16384x16x128.size a := fun v6623 k0_hw1851 => k0_hw1851

def k0_off1852 (v6629 : BitVec 32) : Fin 3 → Nat :=
  let c0_i32_5485 : BitVec 32 := 0#32
  let c0_i32_5486 : BitVec 32 := 0#32
  ![v6629.toNat, 0, 0]

def k0_chk1852 (v6629 : BitVec 32) : Prop :=
  (∀ a, (k0_off1852 v6629) a + S1x16x128.size a ≤ S16384x16x128.size a)
theorem k0_off1852_inb : ∀ (v6629 : BitVec 32) (k0_hw1852 : k0_chk1852 v6629), ∀ a, (k0_off1852 v6629) a + S1x16x128.size a ≤ S16384x16x128.size a := fun v6629 k0_hw1852 => k0_hw1852

def k0_off1853 (v6635 : BitVec 32) : Fin 3 → Nat :=
  let c0_i32_5491 : BitVec 32 := 0#32
  let c0_i32_5492 : BitVec 32 := 0#32
  ![v6635.toNat, 0, 0]

def k0_chk1853 (v6635 : BitVec 32) : Prop :=
  (∀ a, (k0_off1853 v6635) a + S1x16x128.size a ≤ S16384x16x128.size a)
theorem k0_off1853_inb : ∀ (v6635 : BitVec 32) (k0_hw1853 : k0_chk1853 v6635), ∀ a, (k0_off1853 v6635) a + S1x16x128.size a ≤ S16384x16x128.size a := fun v6635 k0_hw1853 => k0_hw1853

def k0_off1854 (v6641 : BitVec 32) : Fin 3 → Nat :=
  let c0_i32_5497 : BitVec 32 := 0#32
  let c0_i32_5498 : BitVec 32 := 0#32
  ![v6641.toNat, 0, 0]

def k0_chk1854 (v6641 : BitVec 32) : Prop :=
  (∀ a, (k0_off1854 v6641) a + S1x16x128.size a ≤ S16384x16x128.size a)
theorem k0_off1854_inb : ∀ (v6641 : BitVec 32) (k0_hw1854 : k0_chk1854 v6641), ∀ a, (k0_off1854 v6641) a + S1x16x128.size a ≤ S16384x16x128.size a := fun v6641 k0_hw1854 => k0_hw1854

def k0_off1855 (v6647 : BitVec 32) : Fin 3 → Nat :=
  let c0_i32_5503 : BitVec 32 := 0#32
  let c0_i32_5504 : BitVec 32 := 0#32
  ![v6647.toNat, 0, 0]

def k0_chk1855 (v6647 : BitVec 32) : Prop :=
  (∀ a, (k0_off1855 v6647) a + S1x16x128.size a ≤ S16384x16x128.size a)
theorem k0_off1855_inb : ∀ (v6647 : BitVec 32) (k0_hw1855 : k0_chk1855 v6647), ∀ a, (k0_off1855 v6647) a + S1x16x128.size a ≤ S16384x16x128.size a := fun v6647 k0_hw1855 => k0_hw1855

def k0_off1856 (v6653 : BitVec 32) : Fin 3 → Nat :=
  let c0_i32_5509 : BitVec 32 := 0#32
  let c0_i32_5510 : BitVec 32 := 0#32
  ![v6653.toNat, 0, 0]

def k0_chk1856 (v6653 : BitVec 32) : Prop :=
  (∀ a, (k0_off1856 v6653) a + S1x16x128.size a ≤ S16384x16x128.size a)
theorem k0_off1856_inb : ∀ (v6653 : BitVec 32) (k0_hw1856 : k0_chk1856 v6653), ∀ a, (k0_off1856 v6653) a + S1x16x128.size a ≤ S16384x16x128.size a := fun v6653 k0_hw1856 => k0_hw1856

def k0_off1857 (v6659 : BitVec 32) : Fin 3 → Nat :=
  let c0_i32_5515 : BitVec 32 := 0#32
  let c0_i32_5516 : BitVec 32 := 0#32
  ![v6659.toNat, 0, 0]

def k0_chk1857 (v6659 : BitVec 32) : Prop :=
  (∀ a, (k0_off1857 v6659) a + S1x16x128.size a ≤ S16384x16x128.size a)
theorem k0_off1857_inb : ∀ (v6659 : BitVec 32) (k0_hw1857 : k0_chk1857 v6659), ∀ a, (k0_off1857 v6659) a + S1x16x128.size a ≤ S16384x16x128.size a := fun v6659 k0_hw1857 => k0_hw1857

def k0_off1858 (v6665 : BitVec 32) : Fin 3 → Nat :=
  let c0_i32_5521 : BitVec 32 := 0#32
  let c0_i32_5522 : BitVec 32 := 0#32
  ![v6665.toNat, 0, 0]

def k0_chk1858 (v6665 : BitVec 32) : Prop :=
  (∀ a, (k0_off1858 v6665) a + S1x16x128.size a ≤ S16384x16x128.size a)
theorem k0_off1858_inb : ∀ (v6665 : BitVec 32) (k0_hw1858 : k0_chk1858 v6665), ∀ a, (k0_off1858 v6665) a + S1x16x128.size a ≤ S16384x16x128.size a := fun v6665 k0_hw1858 => k0_hw1858

def k0_off1859 (v6671 : BitVec 32) : Fin 3 → Nat :=
  let c0_i32_5527 : BitVec 32 := 0#32
  let c0_i32_5528 : BitVec 32 := 0#32
  ![v6671.toNat, 0, 0]

def k0_chk1859 (v6671 : BitVec 32) : Prop :=
  (∀ a, (k0_off1859 v6671) a + S1x16x128.size a ≤ S16384x16x128.size a)
theorem k0_off1859_inb : ∀ (v6671 : BitVec 32) (k0_hw1859 : k0_chk1859 v6671), ∀ a, (k0_off1859 v6671) a + S1x16x128.size a ≤ S16384x16x128.size a := fun v6671 k0_hw1859 => k0_hw1859

def k0_off1860 (v6677 : BitVec 32) : Fin 3 → Nat :=
  let c0_i32_5533 : BitVec 32 := 0#32
  let c0_i32_5534 : BitVec 32 := 0#32
  ![v6677.toNat, 0, 0]

def k0_chk1860 (v6677 : BitVec 32) : Prop :=
  (∀ a, (k0_off1860 v6677) a + S1x16x128.size a ≤ S16384x16x128.size a)
theorem k0_off1860_inb : ∀ (v6677 : BitVec 32) (k0_hw1860 : k0_chk1860 v6677), ∀ a, (k0_off1860 v6677) a + S1x16x128.size a ≤ S16384x16x128.size a := fun v6677 k0_hw1860 => k0_hw1860

def k0_off1861 (v6683 : BitVec 32) : Fin 3 → Nat :=
  let c0_i32_5539 : BitVec 32 := 0#32
  let c0_i32_5540 : BitVec 32 := 0#32
  ![v6683.toNat, 0, 0]

def k0_chk1861 (v6683 : BitVec 32) : Prop :=
  (∀ a, (k0_off1861 v6683) a + S1x16x128.size a ≤ S16384x16x128.size a)
theorem k0_off1861_inb : ∀ (v6683 : BitVec 32) (k0_hw1861 : k0_chk1861 v6683), ∀ a, (k0_off1861 v6683) a + S1x16x128.size a ≤ S16384x16x128.size a := fun v6683 k0_hw1861 => k0_hw1861

def k0_off1862 (v6689 : BitVec 32) : Fin 3 → Nat :=
  let c0_i32_5545 : BitVec 32 := 0#32
  let c0_i32_5546 : BitVec 32 := 0#32
  ![v6689.toNat, 0, 0]

def k0_chk1862 (v6689 : BitVec 32) : Prop :=
  (∀ a, (k0_off1862 v6689) a + S1x16x128.size a ≤ S16384x16x128.size a)
theorem k0_off1862_inb : ∀ (v6689 : BitVec 32) (k0_hw1862 : k0_chk1862 v6689), ∀ a, (k0_off1862 v6689) a + S1x16x128.size a ≤ S16384x16x128.size a := fun v6689 k0_hw1862 => k0_hw1862

def k0_off1863 (v6695 : BitVec 32) : Fin 3 → Nat :=
  let c0_i32_5551 : BitVec 32 := 0#32
  let c0_i32_5552 : BitVec 32 := 0#32
  ![v6695.toNat, 0, 0]

def k0_chk1863 (v6695 : BitVec 32) : Prop :=
  (∀ a, (k0_off1863 v6695) a + S1x16x128.size a ≤ S16384x16x128.size a)
theorem k0_off1863_inb : ∀ (v6695 : BitVec 32) (k0_hw1863 : k0_chk1863 v6695), ∀ a, (k0_off1863 v6695) a + S1x16x128.size a ≤ S16384x16x128.size a := fun v6695 k0_hw1863 => k0_hw1863

def k0_off1864 (v6701 : BitVec 32) : Fin 3 → Nat :=
  let c0_i32_5557 : BitVec 32 := 0#32
  let c0_i32_5558 : BitVec 32 := 0#32
  ![v6701.toNat, 0, 0]

def k0_chk1864 (v6701 : BitVec 32) : Prop :=
  (∀ a, (k0_off1864 v6701) a + S1x16x128.size a ≤ S16384x16x128.size a)
theorem k0_off1864_inb : ∀ (v6701 : BitVec 32) (k0_hw1864 : k0_chk1864 v6701), ∀ a, (k0_off1864 v6701) a + S1x16x128.size a ≤ S16384x16x128.size a := fun v6701 k0_hw1864 => k0_hw1864

def k0_off1865 (v6707 : BitVec 32) : Fin 3 → Nat :=
  let c0_i32_5563 : BitVec 32 := 0#32
  let c0_i32_5564 : BitVec 32 := 0#32
  ![v6707.toNat, 0, 0]

def k0_chk1865 (v6707 : BitVec 32) : Prop :=
  (∀ a, (k0_off1865 v6707) a + S1x16x128.size a ≤ S16384x16x128.size a)
theorem k0_off1865_inb : ∀ (v6707 : BitVec 32) (k0_hw1865 : k0_chk1865 v6707), ∀ a, (k0_off1865 v6707) a + S1x16x128.size a ≤ S16384x16x128.size a := fun v6707 k0_hw1865 => k0_hw1865

def k0_off1866 (v6713 : BitVec 32) : Fin 3 → Nat :=
  let c0_i32_5569 : BitVec 32 := 0#32
  let c0_i32_5570 : BitVec 32 := 0#32
  ![v6713.toNat, 0, 0]

def k0_chk1866 (v6713 : BitVec 32) : Prop :=
  (∀ a, (k0_off1866 v6713) a + S1x16x128.size a ≤ S16384x16x128.size a)
theorem k0_off1866_inb : ∀ (v6713 : BitVec 32) (k0_hw1866 : k0_chk1866 v6713), ∀ a, (k0_off1866 v6713) a + S1x16x128.size a ≤ S16384x16x128.size a := fun v6713 k0_hw1866 => k0_hw1866

def k0_off1867 (v6719 : BitVec 32) : Fin 3 → Nat :=
  let c0_i32_5575 : BitVec 32 := 0#32
  let c0_i32_5576 : BitVec 32 := 0#32
  ![v6719.toNat, 0, 0]

def k0_chk1867 (v6719 : BitVec 32) : Prop :=
  (∀ a, (k0_off1867 v6719) a + S1x16x128.size a ≤ S16384x16x128.size a)
theorem k0_off1867_inb : ∀ (v6719 : BitVec 32) (k0_hw1867 : k0_chk1867 v6719), ∀ a, (k0_off1867 v6719) a + S1x16x128.size a ≤ S16384x16x128.size a := fun v6719 k0_hw1867 => k0_hw1867

def k0_off1868 (v6725 : BitVec 32) : Fin 3 → Nat :=
  let c0_i32_5581 : BitVec 32 := 0#32
  let c0_i32_5582 : BitVec 32 := 0#32
  ![v6725.toNat, 0, 0]

def k0_chk1868 (v6725 : BitVec 32) : Prop :=
  (∀ a, (k0_off1868 v6725) a + S1x16x128.size a ≤ S16384x16x128.size a)
theorem k0_off1868_inb : ∀ (v6725 : BitVec 32) (k0_hw1868 : k0_chk1868 v6725), ∀ a, (k0_off1868 v6725) a + S1x16x128.size a ≤ S16384x16x128.size a := fun v6725 k0_hw1868 => k0_hw1868

def k0_off1869 (v6731 : BitVec 32) : Fin 3 → Nat :=
  let c0_i32_5587 : BitVec 32 := 0#32
  let c0_i32_5588 : BitVec 32 := 0#32
  ![v6731.toNat, 0, 0]

def k0_chk1869 (v6731 : BitVec 32) : Prop :=
  (∀ a, (k0_off1869 v6731) a + S1x16x128.size a ≤ S16384x16x128.size a)
theorem k0_off1869_inb : ∀ (v6731 : BitVec 32) (k0_hw1869 : k0_chk1869 v6731), ∀ a, (k0_off1869 v6731) a + S1x16x128.size a ≤ S16384x16x128.size a := fun v6731 k0_hw1869 => k0_hw1869

def k0_off1870 (v6737 : BitVec 32) : Fin 3 → Nat :=
  let c0_i32_5593 : BitVec 32 := 0#32
  let c0_i32_5594 : BitVec 32 := 0#32
  ![v6737.toNat, 0, 0]

def k0_chk1870 (v6737 : BitVec 32) : Prop :=
  (∀ a, (k0_off1870 v6737) a + S1x16x128.size a ≤ S16384x16x128.size a)
theorem k0_off1870_inb : ∀ (v6737 : BitVec 32) (k0_hw1870 : k0_chk1870 v6737), ∀ a, (k0_off1870 v6737) a + S1x16x128.size a ≤ S16384x16x128.size a := fun v6737 k0_hw1870 => k0_hw1870

def k0_off1871 (v6743 : BitVec 32) : Fin 3 → Nat :=
  let c0_i32_5599 : BitVec 32 := 0#32
  let c0_i32_5600 : BitVec 32 := 0#32
  ![v6743.toNat, 0, 0]

def k0_chk1871 (v6743 : BitVec 32) : Prop :=
  (∀ a, (k0_off1871 v6743) a + S1x16x128.size a ≤ S16384x16x128.size a)
theorem k0_off1871_inb : ∀ (v6743 : BitVec 32) (k0_hw1871 : k0_chk1871 v6743), ∀ a, (k0_off1871 v6743) a + S1x16x128.size a ≤ S16384x16x128.size a := fun v6743 k0_hw1871 => k0_hw1871

def k0_off1872 (v6749 : BitVec 32) : Fin 3 → Nat :=
  let c0_i32_5605 : BitVec 32 := 0#32
  let c0_i32_5606 : BitVec 32 := 0#32
  ![v6749.toNat, 0, 0]

def k0_chk1872 (v6749 : BitVec 32) : Prop :=
  (∀ a, (k0_off1872 v6749) a + S1x16x128.size a ≤ S16384x16x128.size a)
theorem k0_off1872_inb : ∀ (v6749 : BitVec 32) (k0_hw1872 : k0_chk1872 v6749), ∀ a, (k0_off1872 v6749) a + S1x16x128.size a ≤ S16384x16x128.size a := fun v6749 k0_hw1872 => k0_hw1872

def k0_off1873 (v6755 : BitVec 32) : Fin 3 → Nat :=
  let c0_i32_5611 : BitVec 32 := 0#32
  let c0_i32_5612 : BitVec 32 := 0#32
  ![v6755.toNat, 0, 0]

def k0_chk1873 (v6755 : BitVec 32) : Prop :=
  (∀ a, (k0_off1873 v6755) a + S1x16x128.size a ≤ S16384x16x128.size a)
theorem k0_off1873_inb : ∀ (v6755 : BitVec 32) (k0_hw1873 : k0_chk1873 v6755), ∀ a, (k0_off1873 v6755) a + S1x16x128.size a ≤ S16384x16x128.size a := fun v6755 k0_hw1873 => k0_hw1873

def k0_off1874 (v6761 : BitVec 32) : Fin 3 → Nat :=
  let c0_i32_5617 : BitVec 32 := 0#32
  let c0_i32_5618 : BitVec 32 := 0#32
  ![v6761.toNat, 0, 0]

def k0_chk1874 (v6761 : BitVec 32) : Prop :=
  (∀ a, (k0_off1874 v6761) a + S1x16x128.size a ≤ S16384x16x128.size a)
theorem k0_off1874_inb : ∀ (v6761 : BitVec 32) (k0_hw1874 : k0_chk1874 v6761), ∀ a, (k0_off1874 v6761) a + S1x16x128.size a ≤ S16384x16x128.size a := fun v6761 k0_hw1874 => k0_hw1874

def k0_off1875 (v6767 : BitVec 32) : Fin 3 → Nat :=
  let c0_i32_5623 : BitVec 32 := 0#32
  let c0_i32_5624 : BitVec 32 := 0#32
  ![v6767.toNat, 0, 0]

def k0_chk1875 (v6767 : BitVec 32) : Prop :=
  (∀ a, (k0_off1875 v6767) a + S1x16x128.size a ≤ S16384x16x128.size a)
theorem k0_off1875_inb : ∀ (v6767 : BitVec 32) (k0_hw1875 : k0_chk1875 v6767), ∀ a, (k0_off1875 v6767) a + S1x16x128.size a ≤ S16384x16x128.size a := fun v6767 k0_hw1875 => k0_hw1875

def k0_off1876 (v6773 : BitVec 32) : Fin 3 → Nat :=
  let c0_i32_5629 : BitVec 32 := 0#32
  let c0_i32_5630 : BitVec 32 := 0#32
  ![v6773.toNat, 0, 0]

def k0_chk1876 (v6773 : BitVec 32) : Prop :=
  (∀ a, (k0_off1876 v6773) a + S1x16x128.size a ≤ S16384x16x128.size a)
theorem k0_off1876_inb : ∀ (v6773 : BitVec 32) (k0_hw1876 : k0_chk1876 v6773), ∀ a, (k0_off1876 v6773) a + S1x16x128.size a ≤ S16384x16x128.size a := fun v6773 k0_hw1876 => k0_hw1876

def k0_off1877 (v6779 : BitVec 32) : Fin 3 → Nat :=
  let c0_i32_5635 : BitVec 32 := 0#32
  let c0_i32_5636 : BitVec 32 := 0#32
  ![v6779.toNat, 0, 0]

def k0_chk1877 (v6779 : BitVec 32) : Prop :=
  (∀ a, (k0_off1877 v6779) a + S1x16x128.size a ≤ S16384x16x128.size a)
theorem k0_off1877_inb : ∀ (v6779 : BitVec 32) (k0_hw1877 : k0_chk1877 v6779), ∀ a, (k0_off1877 v6779) a + S1x16x128.size a ≤ S16384x16x128.size a := fun v6779 k0_hw1877 => k0_hw1877

def k0_off1878 (v6785 : BitVec 32) : Fin 3 → Nat :=
  let c0_i32_5641 : BitVec 32 := 0#32
  let c0_i32_5642 : BitVec 32 := 0#32
  ![v6785.toNat, 0, 0]

def k0_chk1878 (v6785 : BitVec 32) : Prop :=
  (∀ a, (k0_off1878 v6785) a + S1x16x128.size a ≤ S16384x16x128.size a)
theorem k0_off1878_inb : ∀ (v6785 : BitVec 32) (k0_hw1878 : k0_chk1878 v6785), ∀ a, (k0_off1878 v6785) a + S1x16x128.size a ≤ S16384x16x128.size a := fun v6785 k0_hw1878 => k0_hw1878

def k0_off1879 (v6791 : BitVec 32) : Fin 3 → Nat :=
  let c0_i32_5647 : BitVec 32 := 0#32
  let c0_i32_5648 : BitVec 32 := 0#32
  ![v6791.toNat, 0, 0]

def k0_chk1879 (v6791 : BitVec 32) : Prop :=
  (∀ a, (k0_off1879 v6791) a + S1x16x128.size a ≤ S16384x16x128.size a)
theorem k0_off1879_inb : ∀ (v6791 : BitVec 32) (k0_hw1879 : k0_chk1879 v6791), ∀ a, (k0_off1879 v6791) a + S1x16x128.size a ≤ S16384x16x128.size a := fun v6791 k0_hw1879 => k0_hw1879

def k0_off1880 (v6797 : BitVec 32) : Fin 3 → Nat :=
  let c0_i32_5653 : BitVec 32 := 0#32
  let c0_i32_5654 : BitVec 32 := 0#32
  ![v6797.toNat, 0, 0]

def k0_chk1880 (v6797 : BitVec 32) : Prop :=
  (∀ a, (k0_off1880 v6797) a + S1x16x128.size a ≤ S16384x16x128.size a)
theorem k0_off1880_inb : ∀ (v6797 : BitVec 32) (k0_hw1880 : k0_chk1880 v6797), ∀ a, (k0_off1880 v6797) a + S1x16x128.size a ≤ S16384x16x128.size a := fun v6797 k0_hw1880 => k0_hw1880

def k0_off1881 (v6803 : BitVec 32) : Fin 3 → Nat :=
  let c0_i32_5659 : BitVec 32 := 0#32
  let c0_i32_5660 : BitVec 32 := 0#32
  ![v6803.toNat, 0, 0]

def k0_chk1881 (v6803 : BitVec 32) : Prop :=
  (∀ a, (k0_off1881 v6803) a + S1x16x128.size a ≤ S16384x16x128.size a)
theorem k0_off1881_inb : ∀ (v6803 : BitVec 32) (k0_hw1881 : k0_chk1881 v6803), ∀ a, (k0_off1881 v6803) a + S1x16x128.size a ≤ S16384x16x128.size a := fun v6803 k0_hw1881 => k0_hw1881

def k0_off1882 (v6809 : BitVec 32) : Fin 3 → Nat :=
  let c0_i32_5665 : BitVec 32 := 0#32
  let c0_i32_5666 : BitVec 32 := 0#32
  ![v6809.toNat, 0, 0]

def k0_chk1882 (v6809 : BitVec 32) : Prop :=
  (∀ a, (k0_off1882 v6809) a + S1x16x128.size a ≤ S16384x16x128.size a)
theorem k0_off1882_inb : ∀ (v6809 : BitVec 32) (k0_hw1882 : k0_chk1882 v6809), ∀ a, (k0_off1882 v6809) a + S1x16x128.size a ≤ S16384x16x128.size a := fun v6809 k0_hw1882 => k0_hw1882

def k0_off1883 (v6815 : BitVec 32) : Fin 3 → Nat :=
  let c0_i32_5671 : BitVec 32 := 0#32
  let c0_i32_5672 : BitVec 32 := 0#32
  ![v6815.toNat, 0, 0]

def k0_chk1883 (v6815 : BitVec 32) : Prop :=
  (∀ a, (k0_off1883 v6815) a + S1x16x128.size a ≤ S16384x16x128.size a)
theorem k0_off1883_inb : ∀ (v6815 : BitVec 32) (k0_hw1883 : k0_chk1883 v6815), ∀ a, (k0_off1883 v6815) a + S1x16x128.size a ≤ S16384x16x128.size a := fun v6815 k0_hw1883 => k0_hw1883

def k0_off1884 (v6821 : BitVec 32) : Fin 3 → Nat :=
  let c0_i32_5677 : BitVec 32 := 0#32
  let c0_i32_5678 : BitVec 32 := 0#32
  ![v6821.toNat, 0, 0]

def k0_chk1884 (v6821 : BitVec 32) : Prop :=
  (∀ a, (k0_off1884 v6821) a + S1x16x128.size a ≤ S16384x16x128.size a)
theorem k0_off1884_inb : ∀ (v6821 : BitVec 32) (k0_hw1884 : k0_chk1884 v6821), ∀ a, (k0_off1884 v6821) a + S1x16x128.size a ≤ S16384x16x128.size a := fun v6821 k0_hw1884 => k0_hw1884

def k0_off1885 (v6827 : BitVec 32) : Fin 3 → Nat :=
  let c0_i32_5683 : BitVec 32 := 0#32
  let c0_i32_5684 : BitVec 32 := 0#32
  ![v6827.toNat, 0, 0]

def k0_chk1885 (v6827 : BitVec 32) : Prop :=
  (∀ a, (k0_off1885 v6827) a + S1x16x128.size a ≤ S16384x16x128.size a)
theorem k0_off1885_inb : ∀ (v6827 : BitVec 32) (k0_hw1885 : k0_chk1885 v6827), ∀ a, (k0_off1885 v6827) a + S1x16x128.size a ≤ S16384x16x128.size a := fun v6827 k0_hw1885 => k0_hw1885

def k0_off1886 (v6833 : BitVec 32) : Fin 3 → Nat :=
  let c0_i32_5689 : BitVec 32 := 0#32
  let c0_i32_5690 : BitVec 32 := 0#32
  ![v6833.toNat, 0, 0]

def k0_chk1886 (v6833 : BitVec 32) : Prop :=
  (∀ a, (k0_off1886 v6833) a + S1x16x128.size a ≤ S16384x16x128.size a)
theorem k0_off1886_inb : ∀ (v6833 : BitVec 32) (k0_hw1886 : k0_chk1886 v6833), ∀ a, (k0_off1886 v6833) a + S1x16x128.size a ≤ S16384x16x128.size a := fun v6833 k0_hw1886 => k0_hw1886

def k0_off1887 (v6839 : BitVec 32) : Fin 3 → Nat :=
  let c0_i32_5695 : BitVec 32 := 0#32
  let c0_i32_5696 : BitVec 32 := 0#32
  ![v6839.toNat, 0, 0]

def k0_chk1887 (v6839 : BitVec 32) : Prop :=
  (∀ a, (k0_off1887 v6839) a + S1x16x128.size a ≤ S16384x16x128.size a)
theorem k0_off1887_inb : ∀ (v6839 : BitVec 32) (k0_hw1887 : k0_chk1887 v6839), ∀ a, (k0_off1887 v6839) a + S1x16x128.size a ≤ S16384x16x128.size a := fun v6839 k0_hw1887 => k0_hw1887

def k0_off1888 (v6845 : BitVec 32) : Fin 3 → Nat :=
  let c0_i32_5701 : BitVec 32 := 0#32
  let c0_i32_5702 : BitVec 32 := 0#32
  ![v6845.toNat, 0, 0]

def k0_chk1888 (v6845 : BitVec 32) : Prop :=
  (∀ a, (k0_off1888 v6845) a + S1x16x128.size a ≤ S16384x16x128.size a)
theorem k0_off1888_inb : ∀ (v6845 : BitVec 32) (k0_hw1888 : k0_chk1888 v6845), ∀ a, (k0_off1888 v6845) a + S1x16x128.size a ≤ S16384x16x128.size a := fun v6845 k0_hw1888 => k0_hw1888

def k0_off1889 (v6851 : BitVec 32) : Fin 3 → Nat :=
  let c0_i32_5707 : BitVec 32 := 0#32
  let c0_i32_5708 : BitVec 32 := 0#32
  ![v6851.toNat, 0, 0]

def k0_chk1889 (v6851 : BitVec 32) : Prop :=
  (∀ a, (k0_off1889 v6851) a + S1x16x128.size a ≤ S16384x16x128.size a)
theorem k0_off1889_inb : ∀ (v6851 : BitVec 32) (k0_hw1889 : k0_chk1889 v6851), ∀ a, (k0_off1889 v6851) a + S1x16x128.size a ≤ S16384x16x128.size a := fun v6851 k0_hw1889 => k0_hw1889

def k0_off1890 (v6857 : BitVec 32) : Fin 3 → Nat :=
  let c0_i32_5713 : BitVec 32 := 0#32
  let c0_i32_5714 : BitVec 32 := 0#32
  ![v6857.toNat, 0, 0]

def k0_chk1890 (v6857 : BitVec 32) : Prop :=
  (∀ a, (k0_off1890 v6857) a + S1x16x128.size a ≤ S16384x16x128.size a)
theorem k0_off1890_inb : ∀ (v6857 : BitVec 32) (k0_hw1890 : k0_chk1890 v6857), ∀ a, (k0_off1890 v6857) a + S1x16x128.size a ≤ S16384x16x128.size a := fun v6857 k0_hw1890 => k0_hw1890

def k0_off1891 (v6863 : BitVec 32) : Fin 3 → Nat :=
  let c0_i32_5719 : BitVec 32 := 0#32
  let c0_i32_5720 : BitVec 32 := 0#32
  ![v6863.toNat, 0, 0]

def k0_chk1891 (v6863 : BitVec 32) : Prop :=
  (∀ a, (k0_off1891 v6863) a + S1x16x128.size a ≤ S16384x16x128.size a)
theorem k0_off1891_inb : ∀ (v6863 : BitVec 32) (k0_hw1891 : k0_chk1891 v6863), ∀ a, (k0_off1891 v6863) a + S1x16x128.size a ≤ S16384x16x128.size a := fun v6863 k0_hw1891 => k0_hw1891

def k0_off1892 (v6869 : BitVec 32) : Fin 3 → Nat :=
  let c0_i32_5725 : BitVec 32 := 0#32
  let c0_i32_5726 : BitVec 32 := 0#32
  ![v6869.toNat, 0, 0]

def k0_chk1892 (v6869 : BitVec 32) : Prop :=
  (∀ a, (k0_off1892 v6869) a + S1x16x128.size a ≤ S16384x16x128.size a)
theorem k0_off1892_inb : ∀ (v6869 : BitVec 32) (k0_hw1892 : k0_chk1892 v6869), ∀ a, (k0_off1892 v6869) a + S1x16x128.size a ≤ S16384x16x128.size a := fun v6869 k0_hw1892 => k0_hw1892

def k0_off1893 (v6875 : BitVec 32) : Fin 3 → Nat :=
  let c0_i32_5731 : BitVec 32 := 0#32
  let c0_i32_5732 : BitVec 32 := 0#32
  ![v6875.toNat, 0, 0]

def k0_chk1893 (v6875 : BitVec 32) : Prop :=
  (∀ a, (k0_off1893 v6875) a + S1x16x128.size a ≤ S16384x16x128.size a)
theorem k0_off1893_inb : ∀ (v6875 : BitVec 32) (k0_hw1893 : k0_chk1893 v6875), ∀ a, (k0_off1893 v6875) a + S1x16x128.size a ≤ S16384x16x128.size a := fun v6875 k0_hw1893 => k0_hw1893

def k0_off1894 (v6881 : BitVec 32) : Fin 3 → Nat :=
  let c0_i32_5737 : BitVec 32 := 0#32
  let c0_i32_5738 : BitVec 32 := 0#32
  ![v6881.toNat, 0, 0]

def k0_chk1894 (v6881 : BitVec 32) : Prop :=
  (∀ a, (k0_off1894 v6881) a + S1x16x128.size a ≤ S16384x16x128.size a)
theorem k0_off1894_inb : ∀ (v6881 : BitVec 32) (k0_hw1894 : k0_chk1894 v6881), ∀ a, (k0_off1894 v6881) a + S1x16x128.size a ≤ S16384x16x128.size a := fun v6881 k0_hw1894 => k0_hw1894

def k0_off1895 (v6887 : BitVec 32) : Fin 3 → Nat :=
  let c0_i32_5743 : BitVec 32 := 0#32
  let c0_i32_5744 : BitVec 32 := 0#32
  ![v6887.toNat, 0, 0]

def k0_chk1895 (v6887 : BitVec 32) : Prop :=
  (∀ a, (k0_off1895 v6887) a + S1x16x128.size a ≤ S16384x16x128.size a)
theorem k0_off1895_inb : ∀ (v6887 : BitVec 32) (k0_hw1895 : k0_chk1895 v6887), ∀ a, (k0_off1895 v6887) a + S1x16x128.size a ≤ S16384x16x128.size a := fun v6887 k0_hw1895 => k0_hw1895

def k0_off1896 (v6893 : BitVec 32) : Fin 3 → Nat :=
  let c0_i32_5749 : BitVec 32 := 0#32
  let c0_i32_5750 : BitVec 32 := 0#32
  ![v6893.toNat, 0, 0]

def k0_chk1896 (v6893 : BitVec 32) : Prop :=
  (∀ a, (k0_off1896 v6893) a + S1x16x128.size a ≤ S16384x16x128.size a)
theorem k0_off1896_inb : ∀ (v6893 : BitVec 32) (k0_hw1896 : k0_chk1896 v6893), ∀ a, (k0_off1896 v6893) a + S1x16x128.size a ≤ S16384x16x128.size a := fun v6893 k0_hw1896 => k0_hw1896

def k0_off1897 (v6899 : BitVec 32) : Fin 3 → Nat :=
  let c0_i32_5755 : BitVec 32 := 0#32
  let c0_i32_5756 : BitVec 32 := 0#32
  ![v6899.toNat, 0, 0]

def k0_chk1897 (v6899 : BitVec 32) : Prop :=
  (∀ a, (k0_off1897 v6899) a + S1x16x128.size a ≤ S16384x16x128.size a)
theorem k0_off1897_inb : ∀ (v6899 : BitVec 32) (k0_hw1897 : k0_chk1897 v6899), ∀ a, (k0_off1897 v6899) a + S1x16x128.size a ≤ S16384x16x128.size a := fun v6899 k0_hw1897 => k0_hw1897

def k0_off1898 (v6905 : BitVec 32) : Fin 3 → Nat :=
  let c0_i32_5761 : BitVec 32 := 0#32
  let c0_i32_5762 : BitVec 32 := 0#32
  ![v6905.toNat, 0, 0]

def k0_chk1898 (v6905 : BitVec 32) : Prop :=
  (∀ a, (k0_off1898 v6905) a + S1x16x128.size a ≤ S16384x16x128.size a)
theorem k0_off1898_inb : ∀ (v6905 : BitVec 32) (k0_hw1898 : k0_chk1898 v6905), ∀ a, (k0_off1898 v6905) a + S1x16x128.size a ≤ S16384x16x128.size a := fun v6905 k0_hw1898 => k0_hw1898

def k0_off1899 (v6911 : BitVec 32) : Fin 3 → Nat :=
  let c0_i32_5767 : BitVec 32 := 0#32
  let c0_i32_5768 : BitVec 32 := 0#32
  ![v6911.toNat, 0, 0]

def k0_chk1899 (v6911 : BitVec 32) : Prop :=
  (∀ a, (k0_off1899 v6911) a + S1x16x128.size a ≤ S16384x16x128.size a)
theorem k0_off1899_inb : ∀ (v6911 : BitVec 32) (k0_hw1899 : k0_chk1899 v6911), ∀ a, (k0_off1899 v6911) a + S1x16x128.size a ≤ S16384x16x128.size a := fun v6911 k0_hw1899 => k0_hw1899

def k0_off1900 (v6917 : BitVec 32) : Fin 3 → Nat :=
  let c0_i32_5773 : BitVec 32 := 0#32
  let c0_i32_5774 : BitVec 32 := 0#32
  ![v6917.toNat, 0, 0]

def k0_chk1900 (v6917 : BitVec 32) : Prop :=
  (∀ a, (k0_off1900 v6917) a + S1x16x128.size a ≤ S16384x16x128.size a)
theorem k0_off1900_inb : ∀ (v6917 : BitVec 32) (k0_hw1900 : k0_chk1900 v6917), ∀ a, (k0_off1900 v6917) a + S1x16x128.size a ≤ S16384x16x128.size a := fun v6917 k0_hw1900 => k0_hw1900

def k0_off1901 (v6923 : BitVec 32) : Fin 3 → Nat :=
  let c0_i32_5779 : BitVec 32 := 0#32
  let c0_i32_5780 : BitVec 32 := 0#32
  ![v6923.toNat, 0, 0]

def k0_chk1901 (v6923 : BitVec 32) : Prop :=
  (∀ a, (k0_off1901 v6923) a + S1x16x128.size a ≤ S16384x16x128.size a)
theorem k0_off1901_inb : ∀ (v6923 : BitVec 32) (k0_hw1901 : k0_chk1901 v6923), ∀ a, (k0_off1901 v6923) a + S1x16x128.size a ≤ S16384x16x128.size a := fun v6923 k0_hw1901 => k0_hw1901

def k0_off1902 (v6929 : BitVec 32) : Fin 3 → Nat :=
  let c0_i32_5785 : BitVec 32 := 0#32
  let c0_i32_5786 : BitVec 32 := 0#32
  ![v6929.toNat, 0, 0]

def k0_chk1902 (v6929 : BitVec 32) : Prop :=
  (∀ a, (k0_off1902 v6929) a + S1x16x128.size a ≤ S16384x16x128.size a)
theorem k0_off1902_inb : ∀ (v6929 : BitVec 32) (k0_hw1902 : k0_chk1902 v6929), ∀ a, (k0_off1902 v6929) a + S1x16x128.size a ≤ S16384x16x128.size a := fun v6929 k0_hw1902 => k0_hw1902

def k0_off1903 (v6935 : BitVec 32) : Fin 3 → Nat :=
  let c0_i32_5791 : BitVec 32 := 0#32
  let c0_i32_5792 : BitVec 32 := 0#32
  ![v6935.toNat, 0, 0]

def k0_chk1903 (v6935 : BitVec 32) : Prop :=
  (∀ a, (k0_off1903 v6935) a + S1x16x128.size a ≤ S16384x16x128.size a)
theorem k0_off1903_inb : ∀ (v6935 : BitVec 32) (k0_hw1903 : k0_chk1903 v6935), ∀ a, (k0_off1903 v6935) a + S1x16x128.size a ≤ S16384x16x128.size a := fun v6935 k0_hw1903 => k0_hw1903

def k0_off1904 (v6941 : BitVec 32) : Fin 3 → Nat :=
  let c0_i32_5797 : BitVec 32 := 0#32
  let c0_i32_5798 : BitVec 32 := 0#32
  ![v6941.toNat, 0, 0]

def k0_chk1904 (v6941 : BitVec 32) : Prop :=
  (∀ a, (k0_off1904 v6941) a + S1x16x128.size a ≤ S16384x16x128.size a)
theorem k0_off1904_inb : ∀ (v6941 : BitVec 32) (k0_hw1904 : k0_chk1904 v6941), ∀ a, (k0_off1904 v6941) a + S1x16x128.size a ≤ S16384x16x128.size a := fun v6941 k0_hw1904 => k0_hw1904

def k0_off1905 (v6947 : BitVec 32) : Fin 3 → Nat :=
  let c0_i32_5803 : BitVec 32 := 0#32
  let c0_i32_5804 : BitVec 32 := 0#32
  ![v6947.toNat, 0, 0]

def k0_chk1905 (v6947 : BitVec 32) : Prop :=
  (∀ a, (k0_off1905 v6947) a + S1x16x128.size a ≤ S16384x16x128.size a)
theorem k0_off1905_inb : ∀ (v6947 : BitVec 32) (k0_hw1905 : k0_chk1905 v6947), ∀ a, (k0_off1905 v6947) a + S1x16x128.size a ≤ S16384x16x128.size a := fun v6947 k0_hw1905 => k0_hw1905

def k0_off1906 (v6953 : BitVec 32) : Fin 3 → Nat :=
  let c0_i32_5809 : BitVec 32 := 0#32
  let c0_i32_5810 : BitVec 32 := 0#32
  ![v6953.toNat, 0, 0]

def k0_chk1906 (v6953 : BitVec 32) : Prop :=
  (∀ a, (k0_off1906 v6953) a + S1x16x128.size a ≤ S16384x16x128.size a)
theorem k0_off1906_inb : ∀ (v6953 : BitVec 32) (k0_hw1906 : k0_chk1906 v6953), ∀ a, (k0_off1906 v6953) a + S1x16x128.size a ≤ S16384x16x128.size a := fun v6953 k0_hw1906 => k0_hw1906

def k0_off1907 (v6959 : BitVec 32) : Fin 3 → Nat :=
  let c0_i32_5815 : BitVec 32 := 0#32
  let c0_i32_5816 : BitVec 32 := 0#32
  ![v6959.toNat, 0, 0]

def k0_chk1907 (v6959 : BitVec 32) : Prop :=
  (∀ a, (k0_off1907 v6959) a + S1x16x128.size a ≤ S16384x16x128.size a)
theorem k0_off1907_inb : ∀ (v6959 : BitVec 32) (k0_hw1907 : k0_chk1907 v6959), ∀ a, (k0_off1907 v6959) a + S1x16x128.size a ≤ S16384x16x128.size a := fun v6959 k0_hw1907 => k0_hw1907

def k0_off1908 (v6965 : BitVec 32) : Fin 3 → Nat :=
  let c0_i32_5821 : BitVec 32 := 0#32
  let c0_i32_5822 : BitVec 32 := 0#32
  ![v6965.toNat, 0, 0]

def k0_chk1908 (v6965 : BitVec 32) : Prop :=
  (∀ a, (k0_off1908 v6965) a + S1x16x128.size a ≤ S16384x16x128.size a)
theorem k0_off1908_inb : ∀ (v6965 : BitVec 32) (k0_hw1908 : k0_chk1908 v6965), ∀ a, (k0_off1908 v6965) a + S1x16x128.size a ≤ S16384x16x128.size a := fun v6965 k0_hw1908 => k0_hw1908

def k0_off1909 (v6971 : BitVec 32) : Fin 3 → Nat :=
  let c0_i32_5827 : BitVec 32 := 0#32
  let c0_i32_5828 : BitVec 32 := 0#32
  ![v6971.toNat, 0, 0]

def k0_chk1909 (v6971 : BitVec 32) : Prop :=
  (∀ a, (k0_off1909 v6971) a + S1x16x128.size a ≤ S16384x16x128.size a)
theorem k0_off1909_inb : ∀ (v6971 : BitVec 32) (k0_hw1909 : k0_chk1909 v6971), ∀ a, (k0_off1909 v6971) a + S1x16x128.size a ≤ S16384x16x128.size a := fun v6971 k0_hw1909 => k0_hw1909

def k0_off1910 (v6977 : BitVec 32) : Fin 3 → Nat :=
  let c0_i32_5833 : BitVec 32 := 0#32
  let c0_i32_5834 : BitVec 32 := 0#32
  ![v6977.toNat, 0, 0]

def k0_chk1910 (v6977 : BitVec 32) : Prop :=
  (∀ a, (k0_off1910 v6977) a + S1x16x128.size a ≤ S16384x16x128.size a)
theorem k0_off1910_inb : ∀ (v6977 : BitVec 32) (k0_hw1910 : k0_chk1910 v6977), ∀ a, (k0_off1910 v6977) a + S1x16x128.size a ≤ S16384x16x128.size a := fun v6977 k0_hw1910 => k0_hw1910

def k0_off1911 (v6983 : BitVec 32) : Fin 3 → Nat :=
  let c0_i32_5839 : BitVec 32 := 0#32
  let c0_i32_5840 : BitVec 32 := 0#32
  ![v6983.toNat, 0, 0]

def k0_chk1911 (v6983 : BitVec 32) : Prop :=
  (∀ a, (k0_off1911 v6983) a + S1x16x128.size a ≤ S16384x16x128.size a)
theorem k0_off1911_inb : ∀ (v6983 : BitVec 32) (k0_hw1911 : k0_chk1911 v6983), ∀ a, (k0_off1911 v6983) a + S1x16x128.size a ≤ S16384x16x128.size a := fun v6983 k0_hw1911 => k0_hw1911

def k0_off1912 (v6989 : BitVec 32) : Fin 3 → Nat :=
  let c0_i32_5845 : BitVec 32 := 0#32
  let c0_i32_5846 : BitVec 32 := 0#32
  ![v6989.toNat, 0, 0]

def k0_chk1912 (v6989 : BitVec 32) : Prop :=
  (∀ a, (k0_off1912 v6989) a + S1x16x128.size a ≤ S16384x16x128.size a)
theorem k0_off1912_inb : ∀ (v6989 : BitVec 32) (k0_hw1912 : k0_chk1912 v6989), ∀ a, (k0_off1912 v6989) a + S1x16x128.size a ≤ S16384x16x128.size a := fun v6989 k0_hw1912 => k0_hw1912

def k0_off1913 (v6995 : BitVec 32) : Fin 3 → Nat :=
  let c0_i32_5851 : BitVec 32 := 0#32
  let c0_i32_5852 : BitVec 32 := 0#32
  ![v6995.toNat, 0, 0]

def k0_chk1913 (v6995 : BitVec 32) : Prop :=
  (∀ a, (k0_off1913 v6995) a + S1x16x128.size a ≤ S16384x16x128.size a)
theorem k0_off1913_inb : ∀ (v6995 : BitVec 32) (k0_hw1913 : k0_chk1913 v6995), ∀ a, (k0_off1913 v6995) a + S1x16x128.size a ≤ S16384x16x128.size a := fun v6995 k0_hw1913 => k0_hw1913

def k0_off1914 (v7001 : BitVec 32) : Fin 3 → Nat :=
  let c0_i32_5857 : BitVec 32 := 0#32
  let c0_i32_5858 : BitVec 32 := 0#32
  ![v7001.toNat, 0, 0]

def k0_chk1914 (v7001 : BitVec 32) : Prop :=
  (∀ a, (k0_off1914 v7001) a + S1x16x128.size a ≤ S16384x16x128.size a)
theorem k0_off1914_inb : ∀ (v7001 : BitVec 32) (k0_hw1914 : k0_chk1914 v7001), ∀ a, (k0_off1914 v7001) a + S1x16x128.size a ≤ S16384x16x128.size a := fun v7001 k0_hw1914 => k0_hw1914

def k0_off1915 (v7007 : BitVec 32) : Fin 3 → Nat :=
  let c0_i32_5863 : BitVec 32 := 0#32
  let c0_i32_5864 : BitVec 32 := 0#32
  ![v7007.toNat, 0, 0]

def k0_chk1915 (v7007 : BitVec 32) : Prop :=
  (∀ a, (k0_off1915 v7007) a + S1x16x128.size a ≤ S16384x16x128.size a)
theorem k0_off1915_inb : ∀ (v7007 : BitVec 32) (k0_hw1915 : k0_chk1915 v7007), ∀ a, (k0_off1915 v7007) a + S1x16x128.size a ≤ S16384x16x128.size a := fun v7007 k0_hw1915 => k0_hw1915

def k0_off1916 (v7013 : BitVec 32) : Fin 3 → Nat :=
  let c0_i32_5869 : BitVec 32 := 0#32
  let c0_i32_5870 : BitVec 32 := 0#32
  ![v7013.toNat, 0, 0]

def k0_chk1916 (v7013 : BitVec 32) : Prop :=
  (∀ a, (k0_off1916 v7013) a + S1x16x128.size a ≤ S16384x16x128.size a)
theorem k0_off1916_inb : ∀ (v7013 : BitVec 32) (k0_hw1916 : k0_chk1916 v7013), ∀ a, (k0_off1916 v7013) a + S1x16x128.size a ≤ S16384x16x128.size a := fun v7013 k0_hw1916 => k0_hw1916

def k0_off1917 (v7019 : BitVec 32) : Fin 3 → Nat :=
  let c0_i32_5875 : BitVec 32 := 0#32
  let c0_i32_5876 : BitVec 32 := 0#32
  ![v7019.toNat, 0, 0]

def k0_chk1917 (v7019 : BitVec 32) : Prop :=
  (∀ a, (k0_off1917 v7019) a + S1x16x128.size a ≤ S16384x16x128.size a)
theorem k0_off1917_inb : ∀ (v7019 : BitVec 32) (k0_hw1917 : k0_chk1917 v7019), ∀ a, (k0_off1917 v7019) a + S1x16x128.size a ≤ S16384x16x128.size a := fun v7019 k0_hw1917 => k0_hw1917

def k0_off1918 (v7025 : BitVec 32) : Fin 3 → Nat :=
  let c0_i32_5881 : BitVec 32 := 0#32
  let c0_i32_5882 : BitVec 32 := 0#32
  ![v7025.toNat, 0, 0]

def k0_chk1918 (v7025 : BitVec 32) : Prop :=
  (∀ a, (k0_off1918 v7025) a + S1x16x128.size a ≤ S16384x16x128.size a)
theorem k0_off1918_inb : ∀ (v7025 : BitVec 32) (k0_hw1918 : k0_chk1918 v7025), ∀ a, (k0_off1918 v7025) a + S1x16x128.size a ≤ S16384x16x128.size a := fun v7025 k0_hw1918 => k0_hw1918

def k0_off1919 (v7031 : BitVec 32) : Fin 3 → Nat :=
  let c0_i32_5887 : BitVec 32 := 0#32
  let c0_i32_5888 : BitVec 32 := 0#32
  ![v7031.toNat, 0, 0]

def k0_chk1919 (v7031 : BitVec 32) : Prop :=
  (∀ a, (k0_off1919 v7031) a + S1x16x128.size a ≤ S16384x16x128.size a)
theorem k0_off1919_inb : ∀ (v7031 : BitVec 32) (k0_hw1919 : k0_chk1919 v7031), ∀ a, (k0_off1919 v7031) a + S1x16x128.size a ≤ S16384x16x128.size a := fun v7031 k0_hw1919 => k0_hw1919

def k0_off1920 (v7037 : BitVec 32) : Fin 3 → Nat :=
  let c0_i32_5893 : BitVec 32 := 0#32
  let c0_i32_5894 : BitVec 32 := 0#32
  ![v7037.toNat, 0, 0]

def k0_chk1920 (v7037 : BitVec 32) : Prop :=
  (∀ a, (k0_off1920 v7037) a + S1x16x128.size a ≤ S16384x16x128.size a)
theorem k0_off1920_inb : ∀ (v7037 : BitVec 32) (k0_hw1920 : k0_chk1920 v7037), ∀ a, (k0_off1920 v7037) a + S1x16x128.size a ≤ S16384x16x128.size a := fun v7037 k0_hw1920 => k0_hw1920

def k0_off1921 (v7316 : BitVec 32) : Fin 3 → Nat :=
  let c0_i32_6001 : BitVec 32 := 0#32
  let c0_i32_6002 : BitVec 32 := 0#32
  ![v7316.toNat, 0, 0]

def k0_chk1921 (v7316 : BitVec 32) : Prop :=
  (∀ a, (k0_off1921 v7316) a + S1x16x128.size a ≤ S16384x16x128.size a)
theorem k0_off1921_inb : ∀ (v7316 : BitVec 32) (k0_hw1921 : k0_chk1921 v7316), ∀ a, (k0_off1921 v7316) a + S1x16x128.size a ≤ S16384x16x128.size a := fun v7316 k0_hw1921 => k0_hw1921

def k0_off1922 (v7322 : BitVec 32) : Fin 3 → Nat :=
  let c0_i32_6007 : BitVec 32 := 0#32
  let c0_i32_6008 : BitVec 32 := 0#32
  ![v7322.toNat, 0, 0]

def k0_chk1922 (v7322 : BitVec 32) : Prop :=
  (∀ a, (k0_off1922 v7322) a + S1x16x128.size a ≤ S16384x16x128.size a)
theorem k0_off1922_inb : ∀ (v7322 : BitVec 32) (k0_hw1922 : k0_chk1922 v7322), ∀ a, (k0_off1922 v7322) a + S1x16x128.size a ≤ S16384x16x128.size a := fun v7322 k0_hw1922 => k0_hw1922

def k0_off1923 (v7328 : BitVec 32) : Fin 3 → Nat :=
  let c0_i32_6013 : BitVec 32 := 0#32
  let c0_i32_6014 : BitVec 32 := 0#32
  ![v7328.toNat, 0, 0]

def k0_chk1923 (v7328 : BitVec 32) : Prop :=
  (∀ a, (k0_off1923 v7328) a + S1x16x128.size a ≤ S16384x16x128.size a)
theorem k0_off1923_inb : ∀ (v7328 : BitVec 32) (k0_hw1923 : k0_chk1923 v7328), ∀ a, (k0_off1923 v7328) a + S1x16x128.size a ≤ S16384x16x128.size a := fun v7328 k0_hw1923 => k0_hw1923

def k0_off1924 (v7334 : BitVec 32) : Fin 3 → Nat :=
  let c0_i32_6019 : BitVec 32 := 0#32
  let c0_i32_6020 : BitVec 32 := 0#32
  ![v7334.toNat, 0, 0]

def k0_chk1924 (v7334 : BitVec 32) : Prop :=
  (∀ a, (k0_off1924 v7334) a + S1x16x128.size a ≤ S16384x16x128.size a)
theorem k0_off1924_inb : ∀ (v7334 : BitVec 32) (k0_hw1924 : k0_chk1924 v7334), ∀ a, (k0_off1924 v7334) a + S1x16x128.size a ≤ S16384x16x128.size a := fun v7334 k0_hw1924 => k0_hw1924

def k0_off1925 (v7340 : BitVec 32) : Fin 3 → Nat :=
  let c0_i32_6025 : BitVec 32 := 0#32
  let c0_i32_6026 : BitVec 32 := 0#32
  ![v7340.toNat, 0, 0]

def k0_chk1925 (v7340 : BitVec 32) : Prop :=
  (∀ a, (k0_off1925 v7340) a + S1x16x128.size a ≤ S16384x16x128.size a)
theorem k0_off1925_inb : ∀ (v7340 : BitVec 32) (k0_hw1925 : k0_chk1925 v7340), ∀ a, (k0_off1925 v7340) a + S1x16x128.size a ≤ S16384x16x128.size a := fun v7340 k0_hw1925 => k0_hw1925

def k0_off1926 (v7346 : BitVec 32) : Fin 3 → Nat :=
  let c0_i32_6031 : BitVec 32 := 0#32
  let c0_i32_6032 : BitVec 32 := 0#32
  ![v7346.toNat, 0, 0]

def k0_chk1926 (v7346 : BitVec 32) : Prop :=
  (∀ a, (k0_off1926 v7346) a + S1x16x128.size a ≤ S16384x16x128.size a)
theorem k0_off1926_inb : ∀ (v7346 : BitVec 32) (k0_hw1926 : k0_chk1926 v7346), ∀ a, (k0_off1926 v7346) a + S1x16x128.size a ≤ S16384x16x128.size a := fun v7346 k0_hw1926 => k0_hw1926

def k0_off1927 (v7352 : BitVec 32) : Fin 3 → Nat :=
  let c0_i32_6037 : BitVec 32 := 0#32
  let c0_i32_6038 : BitVec 32 := 0#32
  ![v7352.toNat, 0, 0]

def k0_chk1927 (v7352 : BitVec 32) : Prop :=
  (∀ a, (k0_off1927 v7352) a + S1x16x128.size a ≤ S16384x16x128.size a)
theorem k0_off1927_inb : ∀ (v7352 : BitVec 32) (k0_hw1927 : k0_chk1927 v7352), ∀ a, (k0_off1927 v7352) a + S1x16x128.size a ≤ S16384x16x128.size a := fun v7352 k0_hw1927 => k0_hw1927

def k0_off1928 (v7358 : BitVec 32) : Fin 3 → Nat :=
  let c0_i32_6043 : BitVec 32 := 0#32
  let c0_i32_6044 : BitVec 32 := 0#32
  ![v7358.toNat, 0, 0]

def k0_chk1928 (v7358 : BitVec 32) : Prop :=
  (∀ a, (k0_off1928 v7358) a + S1x16x128.size a ≤ S16384x16x128.size a)
theorem k0_off1928_inb : ∀ (v7358 : BitVec 32) (k0_hw1928 : k0_chk1928 v7358), ∀ a, (k0_off1928 v7358) a + S1x16x128.size a ≤ S16384x16x128.size a := fun v7358 k0_hw1928 => k0_hw1928

def k0_off1929 (v7364 : BitVec 32) : Fin 3 → Nat :=
  let c0_i32_6049 : BitVec 32 := 0#32
  let c0_i32_6050 : BitVec 32 := 0#32
  ![v7364.toNat, 0, 0]

def k0_chk1929 (v7364 : BitVec 32) : Prop :=
  (∀ a, (k0_off1929 v7364) a + S1x16x128.size a ≤ S16384x16x128.size a)
theorem k0_off1929_inb : ∀ (v7364 : BitVec 32) (k0_hw1929 : k0_chk1929 v7364), ∀ a, (k0_off1929 v7364) a + S1x16x128.size a ≤ S16384x16x128.size a := fun v7364 k0_hw1929 => k0_hw1929

def k0_off1930 (v7370 : BitVec 32) : Fin 3 → Nat :=
  let c0_i32_6055 : BitVec 32 := 0#32
  let c0_i32_6056 : BitVec 32 := 0#32
  ![v7370.toNat, 0, 0]

def k0_chk1930 (v7370 : BitVec 32) : Prop :=
  (∀ a, (k0_off1930 v7370) a + S1x16x128.size a ≤ S16384x16x128.size a)
theorem k0_off1930_inb : ∀ (v7370 : BitVec 32) (k0_hw1930 : k0_chk1930 v7370), ∀ a, (k0_off1930 v7370) a + S1x16x128.size a ≤ S16384x16x128.size a := fun v7370 k0_hw1930 => k0_hw1930

def k0_off1931 (v7376 : BitVec 32) : Fin 3 → Nat :=
  let c0_i32_6061 : BitVec 32 := 0#32
  let c0_i32_6062 : BitVec 32 := 0#32
  ![v7376.toNat, 0, 0]

def k0_chk1931 (v7376 : BitVec 32) : Prop :=
  (∀ a, (k0_off1931 v7376) a + S1x16x128.size a ≤ S16384x16x128.size a)
theorem k0_off1931_inb : ∀ (v7376 : BitVec 32) (k0_hw1931 : k0_chk1931 v7376), ∀ a, (k0_off1931 v7376) a + S1x16x128.size a ≤ S16384x16x128.size a := fun v7376 k0_hw1931 => k0_hw1931

def k0_off1932 (v7382 : BitVec 32) : Fin 3 → Nat :=
  let c0_i32_6067 : BitVec 32 := 0#32
  let c0_i32_6068 : BitVec 32 := 0#32
  ![v7382.toNat, 0, 0]

def k0_chk1932 (v7382 : BitVec 32) : Prop :=
  (∀ a, (k0_off1932 v7382) a + S1x16x128.size a ≤ S16384x16x128.size a)
theorem k0_off1932_inb : ∀ (v7382 : BitVec 32) (k0_hw1932 : k0_chk1932 v7382), ∀ a, (k0_off1932 v7382) a + S1x16x128.size a ≤ S16384x16x128.size a := fun v7382 k0_hw1932 => k0_hw1932

def k0_off1933 (v7388 : BitVec 32) : Fin 3 → Nat :=
  let c0_i32_6073 : BitVec 32 := 0#32
  let c0_i32_6074 : BitVec 32 := 0#32
  ![v7388.toNat, 0, 0]

def k0_chk1933 (v7388 : BitVec 32) : Prop :=
  (∀ a, (k0_off1933 v7388) a + S1x16x128.size a ≤ S16384x16x128.size a)
theorem k0_off1933_inb : ∀ (v7388 : BitVec 32) (k0_hw1933 : k0_chk1933 v7388), ∀ a, (k0_off1933 v7388) a + S1x16x128.size a ≤ S16384x16x128.size a := fun v7388 k0_hw1933 => k0_hw1933

def k0_off1934 (v7394 : BitVec 32) : Fin 3 → Nat :=
  let c0_i32_6079 : BitVec 32 := 0#32
  let c0_i32_6080 : BitVec 32 := 0#32
  ![v7394.toNat, 0, 0]

def k0_chk1934 (v7394 : BitVec 32) : Prop :=
  (∀ a, (k0_off1934 v7394) a + S1x16x128.size a ≤ S16384x16x128.size a)
theorem k0_off1934_inb : ∀ (v7394 : BitVec 32) (k0_hw1934 : k0_chk1934 v7394), ∀ a, (k0_off1934 v7394) a + S1x16x128.size a ≤ S16384x16x128.size a := fun v7394 k0_hw1934 => k0_hw1934

def k0_off1935 (v7400 : BitVec 32) : Fin 3 → Nat :=
  let c0_i32_6085 : BitVec 32 := 0#32
  let c0_i32_6086 : BitVec 32 := 0#32
  ![v7400.toNat, 0, 0]

def k0_chk1935 (v7400 : BitVec 32) : Prop :=
  (∀ a, (k0_off1935 v7400) a + S1x16x128.size a ≤ S16384x16x128.size a)
theorem k0_off1935_inb : ∀ (v7400 : BitVec 32) (k0_hw1935 : k0_chk1935 v7400), ∀ a, (k0_off1935 v7400) a + S1x16x128.size a ≤ S16384x16x128.size a := fun v7400 k0_hw1935 => k0_hw1935

def k0_off1936 (v7406 : BitVec 32) : Fin 3 → Nat :=
  let c0_i32_6091 : BitVec 32 := 0#32
  let c0_i32_6092 : BitVec 32 := 0#32
  ![v7406.toNat, 0, 0]

def k0_chk1936 (v7406 : BitVec 32) : Prop :=
  (∀ a, (k0_off1936 v7406) a + S1x16x128.size a ≤ S16384x16x128.size a)
theorem k0_off1936_inb : ∀ (v7406 : BitVec 32) (k0_hw1936 : k0_chk1936 v7406), ∀ a, (k0_off1936 v7406) a + S1x16x128.size a ≤ S16384x16x128.size a := fun v7406 k0_hw1936 => k0_hw1936

def k0_off1937 (v7412 : BitVec 32) : Fin 3 → Nat :=
  let c0_i32_6097 : BitVec 32 := 0#32
  let c0_i32_6098 : BitVec 32 := 0#32
  ![v7412.toNat, 0, 0]

def k0_chk1937 (v7412 : BitVec 32) : Prop :=
  (∀ a, (k0_off1937 v7412) a + S1x16x128.size a ≤ S16384x16x128.size a)
theorem k0_off1937_inb : ∀ (v7412 : BitVec 32) (k0_hw1937 : k0_chk1937 v7412), ∀ a, (k0_off1937 v7412) a + S1x16x128.size a ≤ S16384x16x128.size a := fun v7412 k0_hw1937 => k0_hw1937

def k0_off1938 (v7418 : BitVec 32) : Fin 3 → Nat :=
  let c0_i32_6103 : BitVec 32 := 0#32
  let c0_i32_6104 : BitVec 32 := 0#32
  ![v7418.toNat, 0, 0]

def k0_chk1938 (v7418 : BitVec 32) : Prop :=
  (∀ a, (k0_off1938 v7418) a + S1x16x128.size a ≤ S16384x16x128.size a)
theorem k0_off1938_inb : ∀ (v7418 : BitVec 32) (k0_hw1938 : k0_chk1938 v7418), ∀ a, (k0_off1938 v7418) a + S1x16x128.size a ≤ S16384x16x128.size a := fun v7418 k0_hw1938 => k0_hw1938

def k0_off1939 (v7424 : BitVec 32) : Fin 3 → Nat :=
  let c0_i32_6109 : BitVec 32 := 0#32
  let c0_i32_6110 : BitVec 32 := 0#32
  ![v7424.toNat, 0, 0]

def k0_chk1939 (v7424 : BitVec 32) : Prop :=
  (∀ a, (k0_off1939 v7424) a + S1x16x128.size a ≤ S16384x16x128.size a)
theorem k0_off1939_inb : ∀ (v7424 : BitVec 32) (k0_hw1939 : k0_chk1939 v7424), ∀ a, (k0_off1939 v7424) a + S1x16x128.size a ≤ S16384x16x128.size a := fun v7424 k0_hw1939 => k0_hw1939

def k0_off1940 (v7430 : BitVec 32) : Fin 3 → Nat :=
  let c0_i32_6115 : BitVec 32 := 0#32
  let c0_i32_6116 : BitVec 32 := 0#32
  ![v7430.toNat, 0, 0]

def k0_chk1940 (v7430 : BitVec 32) : Prop :=
  (∀ a, (k0_off1940 v7430) a + S1x16x128.size a ≤ S16384x16x128.size a)
theorem k0_off1940_inb : ∀ (v7430 : BitVec 32) (k0_hw1940 : k0_chk1940 v7430), ∀ a, (k0_off1940 v7430) a + S1x16x128.size a ≤ S16384x16x128.size a := fun v7430 k0_hw1940 => k0_hw1940

def k0_off1941 (v7436 : BitVec 32) : Fin 3 → Nat :=
  let c0_i32_6121 : BitVec 32 := 0#32
  let c0_i32_6122 : BitVec 32 := 0#32
  ![v7436.toNat, 0, 0]

def k0_chk1941 (v7436 : BitVec 32) : Prop :=
  (∀ a, (k0_off1941 v7436) a + S1x16x128.size a ≤ S16384x16x128.size a)
theorem k0_off1941_inb : ∀ (v7436 : BitVec 32) (k0_hw1941 : k0_chk1941 v7436), ∀ a, (k0_off1941 v7436) a + S1x16x128.size a ≤ S16384x16x128.size a := fun v7436 k0_hw1941 => k0_hw1941

def k0_off1942 (v7442 : BitVec 32) : Fin 3 → Nat :=
  let c0_i32_6127 : BitVec 32 := 0#32
  let c0_i32_6128 : BitVec 32 := 0#32
  ![v7442.toNat, 0, 0]

def k0_chk1942 (v7442 : BitVec 32) : Prop :=
  (∀ a, (k0_off1942 v7442) a + S1x16x128.size a ≤ S16384x16x128.size a)
theorem k0_off1942_inb : ∀ (v7442 : BitVec 32) (k0_hw1942 : k0_chk1942 v7442), ∀ a, (k0_off1942 v7442) a + S1x16x128.size a ≤ S16384x16x128.size a := fun v7442 k0_hw1942 => k0_hw1942

def k0_off1943 (v7448 : BitVec 32) : Fin 3 → Nat :=
  let c0_i32_6133 : BitVec 32 := 0#32
  let c0_i32_6134 : BitVec 32 := 0#32
  ![v7448.toNat, 0, 0]

def k0_chk1943 (v7448 : BitVec 32) : Prop :=
  (∀ a, (k0_off1943 v7448) a + S1x16x128.size a ≤ S16384x16x128.size a)
theorem k0_off1943_inb : ∀ (v7448 : BitVec 32) (k0_hw1943 : k0_chk1943 v7448), ∀ a, (k0_off1943 v7448) a + S1x16x128.size a ≤ S16384x16x128.size a := fun v7448 k0_hw1943 => k0_hw1943

def k0_off1944 (v7454 : BitVec 32) : Fin 3 → Nat :=
  let c0_i32_6139 : BitVec 32 := 0#32
  let c0_i32_6140 : BitVec 32 := 0#32
  ![v7454.toNat, 0, 0]

def k0_chk1944 (v7454 : BitVec 32) : Prop :=
  (∀ a, (k0_off1944 v7454) a + S1x16x128.size a ≤ S16384x16x128.size a)
theorem k0_off1944_inb : ∀ (v7454 : BitVec 32) (k0_hw1944 : k0_chk1944 v7454), ∀ a, (k0_off1944 v7454) a + S1x16x128.size a ≤ S16384x16x128.size a := fun v7454 k0_hw1944 => k0_hw1944

def k0_off1945 (v7460 : BitVec 32) : Fin 3 → Nat :=
  let c0_i32_6145 : BitVec 32 := 0#32
  let c0_i32_6146 : BitVec 32 := 0#32
  ![v7460.toNat, 0, 0]

def k0_chk1945 (v7460 : BitVec 32) : Prop :=
  (∀ a, (k0_off1945 v7460) a + S1x16x128.size a ≤ S16384x16x128.size a)
theorem k0_off1945_inb : ∀ (v7460 : BitVec 32) (k0_hw1945 : k0_chk1945 v7460), ∀ a, (k0_off1945 v7460) a + S1x16x128.size a ≤ S16384x16x128.size a := fun v7460 k0_hw1945 => k0_hw1945

def k0_off1946 (v7466 : BitVec 32) : Fin 3 → Nat :=
  let c0_i32_6151 : BitVec 32 := 0#32
  let c0_i32_6152 : BitVec 32 := 0#32
  ![v7466.toNat, 0, 0]

def k0_chk1946 (v7466 : BitVec 32) : Prop :=
  (∀ a, (k0_off1946 v7466) a + S1x16x128.size a ≤ S16384x16x128.size a)
theorem k0_off1946_inb : ∀ (v7466 : BitVec 32) (k0_hw1946 : k0_chk1946 v7466), ∀ a, (k0_off1946 v7466) a + S1x16x128.size a ≤ S16384x16x128.size a := fun v7466 k0_hw1946 => k0_hw1946

def k0_off1947 (v7472 : BitVec 32) : Fin 3 → Nat :=
  let c0_i32_6157 : BitVec 32 := 0#32
  let c0_i32_6158 : BitVec 32 := 0#32
  ![v7472.toNat, 0, 0]

def k0_chk1947 (v7472 : BitVec 32) : Prop :=
  (∀ a, (k0_off1947 v7472) a + S1x16x128.size a ≤ S16384x16x128.size a)
theorem k0_off1947_inb : ∀ (v7472 : BitVec 32) (k0_hw1947 : k0_chk1947 v7472), ∀ a, (k0_off1947 v7472) a + S1x16x128.size a ≤ S16384x16x128.size a := fun v7472 k0_hw1947 => k0_hw1947

def k0_off1948 (v7478 : BitVec 32) : Fin 3 → Nat :=
  let c0_i32_6163 : BitVec 32 := 0#32
  let c0_i32_6164 : BitVec 32 := 0#32
  ![v7478.toNat, 0, 0]

def k0_chk1948 (v7478 : BitVec 32) : Prop :=
  (∀ a, (k0_off1948 v7478) a + S1x16x128.size a ≤ S16384x16x128.size a)
theorem k0_off1948_inb : ∀ (v7478 : BitVec 32) (k0_hw1948 : k0_chk1948 v7478), ∀ a, (k0_off1948 v7478) a + S1x16x128.size a ≤ S16384x16x128.size a := fun v7478 k0_hw1948 => k0_hw1948

def k0_off1949 (v7484 : BitVec 32) : Fin 3 → Nat :=
  let c0_i32_6169 : BitVec 32 := 0#32
  let c0_i32_6170 : BitVec 32 := 0#32
  ![v7484.toNat, 0, 0]

def k0_chk1949 (v7484 : BitVec 32) : Prop :=
  (∀ a, (k0_off1949 v7484) a + S1x16x128.size a ≤ S16384x16x128.size a)
theorem k0_off1949_inb : ∀ (v7484 : BitVec 32) (k0_hw1949 : k0_chk1949 v7484), ∀ a, (k0_off1949 v7484) a + S1x16x128.size a ≤ S16384x16x128.size a := fun v7484 k0_hw1949 => k0_hw1949

def k0_off1950 (v7490 : BitVec 32) : Fin 3 → Nat :=
  let c0_i32_6175 : BitVec 32 := 0#32
  let c0_i32_6176 : BitVec 32 := 0#32
  ![v7490.toNat, 0, 0]

def k0_chk1950 (v7490 : BitVec 32) : Prop :=
  (∀ a, (k0_off1950 v7490) a + S1x16x128.size a ≤ S16384x16x128.size a)
theorem k0_off1950_inb : ∀ (v7490 : BitVec 32) (k0_hw1950 : k0_chk1950 v7490), ∀ a, (k0_off1950 v7490) a + S1x16x128.size a ≤ S16384x16x128.size a := fun v7490 k0_hw1950 => k0_hw1950

def k0_off1951 (v7496 : BitVec 32) : Fin 3 → Nat :=
  let c0_i32_6181 : BitVec 32 := 0#32
  let c0_i32_6182 : BitVec 32 := 0#32
  ![v7496.toNat, 0, 0]

def k0_chk1951 (v7496 : BitVec 32) : Prop :=
  (∀ a, (k0_off1951 v7496) a + S1x16x128.size a ≤ S16384x16x128.size a)
theorem k0_off1951_inb : ∀ (v7496 : BitVec 32) (k0_hw1951 : k0_chk1951 v7496), ∀ a, (k0_off1951 v7496) a + S1x16x128.size a ≤ S16384x16x128.size a := fun v7496 k0_hw1951 => k0_hw1951

def k0_off1952 (v7502 : BitVec 32) : Fin 3 → Nat :=
  let c0_i32_6187 : BitVec 32 := 0#32
  let c0_i32_6188 : BitVec 32 := 0#32
  ![v7502.toNat, 0, 0]

def k0_chk1952 (v7502 : BitVec 32) : Prop :=
  (∀ a, (k0_off1952 v7502) a + S1x16x128.size a ≤ S16384x16x128.size a)
theorem k0_off1952_inb : ∀ (v7502 : BitVec 32) (k0_hw1952 : k0_chk1952 v7502), ∀ a, (k0_off1952 v7502) a + S1x16x128.size a ≤ S16384x16x128.size a := fun v7502 k0_hw1952 => k0_hw1952

def k0_off1953 (v7508 : BitVec 32) : Fin 3 → Nat :=
  let c0_i32_6193 : BitVec 32 := 0#32
  let c0_i32_6194 : BitVec 32 := 0#32
  ![v7508.toNat, 0, 0]

def k0_chk1953 (v7508 : BitVec 32) : Prop :=
  (∀ a, (k0_off1953 v7508) a + S1x16x128.size a ≤ S16384x16x128.size a)
theorem k0_off1953_inb : ∀ (v7508 : BitVec 32) (k0_hw1953 : k0_chk1953 v7508), ∀ a, (k0_off1953 v7508) a + S1x16x128.size a ≤ S16384x16x128.size a := fun v7508 k0_hw1953 => k0_hw1953

def k0_off1954 (v7514 : BitVec 32) : Fin 3 → Nat :=
  let c0_i32_6199 : BitVec 32 := 0#32
  let c0_i32_6200 : BitVec 32 := 0#32
  ![v7514.toNat, 0, 0]

def k0_chk1954 (v7514 : BitVec 32) : Prop :=
  (∀ a, (k0_off1954 v7514) a + S1x16x128.size a ≤ S16384x16x128.size a)
theorem k0_off1954_inb : ∀ (v7514 : BitVec 32) (k0_hw1954 : k0_chk1954 v7514), ∀ a, (k0_off1954 v7514) a + S1x16x128.size a ≤ S16384x16x128.size a := fun v7514 k0_hw1954 => k0_hw1954

def k0_off1955 (v7520 : BitVec 32) : Fin 3 → Nat :=
  let c0_i32_6205 : BitVec 32 := 0#32
  let c0_i32_6206 : BitVec 32 := 0#32
  ![v7520.toNat, 0, 0]

def k0_chk1955 (v7520 : BitVec 32) : Prop :=
  (∀ a, (k0_off1955 v7520) a + S1x16x128.size a ≤ S16384x16x128.size a)
theorem k0_off1955_inb : ∀ (v7520 : BitVec 32) (k0_hw1955 : k0_chk1955 v7520), ∀ a, (k0_off1955 v7520) a + S1x16x128.size a ≤ S16384x16x128.size a := fun v7520 k0_hw1955 => k0_hw1955

def k0_off1956 (v7526 : BitVec 32) : Fin 3 → Nat :=
  let c0_i32_6211 : BitVec 32 := 0#32
  let c0_i32_6212 : BitVec 32 := 0#32
  ![v7526.toNat, 0, 0]

def k0_chk1956 (v7526 : BitVec 32) : Prop :=
  (∀ a, (k0_off1956 v7526) a + S1x16x128.size a ≤ S16384x16x128.size a)
theorem k0_off1956_inb : ∀ (v7526 : BitVec 32) (k0_hw1956 : k0_chk1956 v7526), ∀ a, (k0_off1956 v7526) a + S1x16x128.size a ≤ S16384x16x128.size a := fun v7526 k0_hw1956 => k0_hw1956

def k0_off1957 (v7532 : BitVec 32) : Fin 3 → Nat :=
  let c0_i32_6217 : BitVec 32 := 0#32
  let c0_i32_6218 : BitVec 32 := 0#32
  ![v7532.toNat, 0, 0]

def k0_chk1957 (v7532 : BitVec 32) : Prop :=
  (∀ a, (k0_off1957 v7532) a + S1x16x128.size a ≤ S16384x16x128.size a)
theorem k0_off1957_inb : ∀ (v7532 : BitVec 32) (k0_hw1957 : k0_chk1957 v7532), ∀ a, (k0_off1957 v7532) a + S1x16x128.size a ≤ S16384x16x128.size a := fun v7532 k0_hw1957 => k0_hw1957

def k0_off1958 (v7538 : BitVec 32) : Fin 3 → Nat :=
  let c0_i32_6223 : BitVec 32 := 0#32
  let c0_i32_6224 : BitVec 32 := 0#32
  ![v7538.toNat, 0, 0]

def k0_chk1958 (v7538 : BitVec 32) : Prop :=
  (∀ a, (k0_off1958 v7538) a + S1x16x128.size a ≤ S16384x16x128.size a)
theorem k0_off1958_inb : ∀ (v7538 : BitVec 32) (k0_hw1958 : k0_chk1958 v7538), ∀ a, (k0_off1958 v7538) a + S1x16x128.size a ≤ S16384x16x128.size a := fun v7538 k0_hw1958 => k0_hw1958

def k0_off1959 (v7544 : BitVec 32) : Fin 3 → Nat :=
  let c0_i32_6229 : BitVec 32 := 0#32
  let c0_i32_6230 : BitVec 32 := 0#32
  ![v7544.toNat, 0, 0]

def k0_chk1959 (v7544 : BitVec 32) : Prop :=
  (∀ a, (k0_off1959 v7544) a + S1x16x128.size a ≤ S16384x16x128.size a)
theorem k0_off1959_inb : ∀ (v7544 : BitVec 32) (k0_hw1959 : k0_chk1959 v7544), ∀ a, (k0_off1959 v7544) a + S1x16x128.size a ≤ S16384x16x128.size a := fun v7544 k0_hw1959 => k0_hw1959

def k0_off1960 (v7550 : BitVec 32) : Fin 3 → Nat :=
  let c0_i32_6235 : BitVec 32 := 0#32
  let c0_i32_6236 : BitVec 32 := 0#32
  ![v7550.toNat, 0, 0]

def k0_chk1960 (v7550 : BitVec 32) : Prop :=
  (∀ a, (k0_off1960 v7550) a + S1x16x128.size a ≤ S16384x16x128.size a)
theorem k0_off1960_inb : ∀ (v7550 : BitVec 32) (k0_hw1960 : k0_chk1960 v7550), ∀ a, (k0_off1960 v7550) a + S1x16x128.size a ≤ S16384x16x128.size a := fun v7550 k0_hw1960 => k0_hw1960

def k0_off1961 (v7556 : BitVec 32) : Fin 3 → Nat :=
  let c0_i32_6241 : BitVec 32 := 0#32
  let c0_i32_6242 : BitVec 32 := 0#32
  ![v7556.toNat, 0, 0]

def k0_chk1961 (v7556 : BitVec 32) : Prop :=
  (∀ a, (k0_off1961 v7556) a + S1x16x128.size a ≤ S16384x16x128.size a)
theorem k0_off1961_inb : ∀ (v7556 : BitVec 32) (k0_hw1961 : k0_chk1961 v7556), ∀ a, (k0_off1961 v7556) a + S1x16x128.size a ≤ S16384x16x128.size a := fun v7556 k0_hw1961 => k0_hw1961

def k0_off1962 (v7562 : BitVec 32) : Fin 3 → Nat :=
  let c0_i32_6247 : BitVec 32 := 0#32
  let c0_i32_6248 : BitVec 32 := 0#32
  ![v7562.toNat, 0, 0]

def k0_chk1962 (v7562 : BitVec 32) : Prop :=
  (∀ a, (k0_off1962 v7562) a + S1x16x128.size a ≤ S16384x16x128.size a)
theorem k0_off1962_inb : ∀ (v7562 : BitVec 32) (k0_hw1962 : k0_chk1962 v7562), ∀ a, (k0_off1962 v7562) a + S1x16x128.size a ≤ S16384x16x128.size a := fun v7562 k0_hw1962 => k0_hw1962

def k0_off1963 (v7568 : BitVec 32) : Fin 3 → Nat :=
  let c0_i32_6253 : BitVec 32 := 0#32
  let c0_i32_6254 : BitVec 32 := 0#32
  ![v7568.toNat, 0, 0]

def k0_chk1963 (v7568 : BitVec 32) : Prop :=
  (∀ a, (k0_off1963 v7568) a + S1x16x128.size a ≤ S16384x16x128.size a)
theorem k0_off1963_inb : ∀ (v7568 : BitVec 32) (k0_hw1963 : k0_chk1963 v7568), ∀ a, (k0_off1963 v7568) a + S1x16x128.size a ≤ S16384x16x128.size a := fun v7568 k0_hw1963 => k0_hw1963

def k0_off1964 (v7574 : BitVec 32) : Fin 3 → Nat :=
  let c0_i32_6259 : BitVec 32 := 0#32
  let c0_i32_6260 : BitVec 32 := 0#32
  ![v7574.toNat, 0, 0]

def k0_chk1964 (v7574 : BitVec 32) : Prop :=
  (∀ a, (k0_off1964 v7574) a + S1x16x128.size a ≤ S16384x16x128.size a)
theorem k0_off1964_inb : ∀ (v7574 : BitVec 32) (k0_hw1964 : k0_chk1964 v7574), ∀ a, (k0_off1964 v7574) a + S1x16x128.size a ≤ S16384x16x128.size a := fun v7574 k0_hw1964 => k0_hw1964

def k0_off1965 (v7580 : BitVec 32) : Fin 3 → Nat :=
  let c0_i32_6265 : BitVec 32 := 0#32
  let c0_i32_6266 : BitVec 32 := 0#32
  ![v7580.toNat, 0, 0]

def k0_chk1965 (v7580 : BitVec 32) : Prop :=
  (∀ a, (k0_off1965 v7580) a + S1x16x128.size a ≤ S16384x16x128.size a)
theorem k0_off1965_inb : ∀ (v7580 : BitVec 32) (k0_hw1965 : k0_chk1965 v7580), ∀ a, (k0_off1965 v7580) a + S1x16x128.size a ≤ S16384x16x128.size a := fun v7580 k0_hw1965 => k0_hw1965

def k0_off1966 (v7586 : BitVec 32) : Fin 3 → Nat :=
  let c0_i32_6271 : BitVec 32 := 0#32
  let c0_i32_6272 : BitVec 32 := 0#32
  ![v7586.toNat, 0, 0]

def k0_chk1966 (v7586 : BitVec 32) : Prop :=
  (∀ a, (k0_off1966 v7586) a + S1x16x128.size a ≤ S16384x16x128.size a)
theorem k0_off1966_inb : ∀ (v7586 : BitVec 32) (k0_hw1966 : k0_chk1966 v7586), ∀ a, (k0_off1966 v7586) a + S1x16x128.size a ≤ S16384x16x128.size a := fun v7586 k0_hw1966 => k0_hw1966

def k0_off1967 (v7592 : BitVec 32) : Fin 3 → Nat :=
  let c0_i32_6277 : BitVec 32 := 0#32
  let c0_i32_6278 : BitVec 32 := 0#32
  ![v7592.toNat, 0, 0]

def k0_chk1967 (v7592 : BitVec 32) : Prop :=
  (∀ a, (k0_off1967 v7592) a + S1x16x128.size a ≤ S16384x16x128.size a)
theorem k0_off1967_inb : ∀ (v7592 : BitVec 32) (k0_hw1967 : k0_chk1967 v7592), ∀ a, (k0_off1967 v7592) a + S1x16x128.size a ≤ S16384x16x128.size a := fun v7592 k0_hw1967 => k0_hw1967

def k0_off1968 (v7598 : BitVec 32) : Fin 3 → Nat :=
  let c0_i32_6283 : BitVec 32 := 0#32
  let c0_i32_6284 : BitVec 32 := 0#32
  ![v7598.toNat, 0, 0]

def k0_chk1968 (v7598 : BitVec 32) : Prop :=
  (∀ a, (k0_off1968 v7598) a + S1x16x128.size a ≤ S16384x16x128.size a)
theorem k0_off1968_inb : ∀ (v7598 : BitVec 32) (k0_hw1968 : k0_chk1968 v7598), ∀ a, (k0_off1968 v7598) a + S1x16x128.size a ≤ S16384x16x128.size a := fun v7598 k0_hw1968 => k0_hw1968

def k0_off1969 (v7604 : BitVec 32) : Fin 3 → Nat :=
  let c0_i32_6289 : BitVec 32 := 0#32
  let c0_i32_6290 : BitVec 32 := 0#32
  ![v7604.toNat, 0, 0]

def k0_chk1969 (v7604 : BitVec 32) : Prop :=
  (∀ a, (k0_off1969 v7604) a + S1x16x128.size a ≤ S16384x16x128.size a)
theorem k0_off1969_inb : ∀ (v7604 : BitVec 32) (k0_hw1969 : k0_chk1969 v7604), ∀ a, (k0_off1969 v7604) a + S1x16x128.size a ≤ S16384x16x128.size a := fun v7604 k0_hw1969 => k0_hw1969

def k0_off1970 (v7610 : BitVec 32) : Fin 3 → Nat :=
  let c0_i32_6295 : BitVec 32 := 0#32
  let c0_i32_6296 : BitVec 32 := 0#32
  ![v7610.toNat, 0, 0]

def k0_chk1970 (v7610 : BitVec 32) : Prop :=
  (∀ a, (k0_off1970 v7610) a + S1x16x128.size a ≤ S16384x16x128.size a)
theorem k0_off1970_inb : ∀ (v7610 : BitVec 32) (k0_hw1970 : k0_chk1970 v7610), ∀ a, (k0_off1970 v7610) a + S1x16x128.size a ≤ S16384x16x128.size a := fun v7610 k0_hw1970 => k0_hw1970

def k0_off1971 (v7616 : BitVec 32) : Fin 3 → Nat :=
  let c0_i32_6301 : BitVec 32 := 0#32
  let c0_i32_6302 : BitVec 32 := 0#32
  ![v7616.toNat, 0, 0]

def k0_chk1971 (v7616 : BitVec 32) : Prop :=
  (∀ a, (k0_off1971 v7616) a + S1x16x128.size a ≤ S16384x16x128.size a)
theorem k0_off1971_inb : ∀ (v7616 : BitVec 32) (k0_hw1971 : k0_chk1971 v7616), ∀ a, (k0_off1971 v7616) a + S1x16x128.size a ≤ S16384x16x128.size a := fun v7616 k0_hw1971 => k0_hw1971

def k0_off1972 (v7622 : BitVec 32) : Fin 3 → Nat :=
  let c0_i32_6307 : BitVec 32 := 0#32
  let c0_i32_6308 : BitVec 32 := 0#32
  ![v7622.toNat, 0, 0]

def k0_chk1972 (v7622 : BitVec 32) : Prop :=
  (∀ a, (k0_off1972 v7622) a + S1x16x128.size a ≤ S16384x16x128.size a)
theorem k0_off1972_inb : ∀ (v7622 : BitVec 32) (k0_hw1972 : k0_chk1972 v7622), ∀ a, (k0_off1972 v7622) a + S1x16x128.size a ≤ S16384x16x128.size a := fun v7622 k0_hw1972 => k0_hw1972

def k0_off1973 (v7628 : BitVec 32) : Fin 3 → Nat :=
  let c0_i32_6313 : BitVec 32 := 0#32
  let c0_i32_6314 : BitVec 32 := 0#32
  ![v7628.toNat, 0, 0]

def k0_chk1973 (v7628 : BitVec 32) : Prop :=
  (∀ a, (k0_off1973 v7628) a + S1x16x128.size a ≤ S16384x16x128.size a)
theorem k0_off1973_inb : ∀ (v7628 : BitVec 32) (k0_hw1973 : k0_chk1973 v7628), ∀ a, (k0_off1973 v7628) a + S1x16x128.size a ≤ S16384x16x128.size a := fun v7628 k0_hw1973 => k0_hw1973

def k0_off1974 (v7634 : BitVec 32) : Fin 3 → Nat :=
  let c0_i32_6319 : BitVec 32 := 0#32
  let c0_i32_6320 : BitVec 32 := 0#32
  ![v7634.toNat, 0, 0]

def k0_chk1974 (v7634 : BitVec 32) : Prop :=
  (∀ a, (k0_off1974 v7634) a + S1x16x128.size a ≤ S16384x16x128.size a)
theorem k0_off1974_inb : ∀ (v7634 : BitVec 32) (k0_hw1974 : k0_chk1974 v7634), ∀ a, (k0_off1974 v7634) a + S1x16x128.size a ≤ S16384x16x128.size a := fun v7634 k0_hw1974 => k0_hw1974

def k0_off1975 (v7640 : BitVec 32) : Fin 3 → Nat :=
  let c0_i32_6325 : BitVec 32 := 0#32
  let c0_i32_6326 : BitVec 32 := 0#32
  ![v7640.toNat, 0, 0]

def k0_chk1975 (v7640 : BitVec 32) : Prop :=
  (∀ a, (k0_off1975 v7640) a + S1x16x128.size a ≤ S16384x16x128.size a)
theorem k0_off1975_inb : ∀ (v7640 : BitVec 32) (k0_hw1975 : k0_chk1975 v7640), ∀ a, (k0_off1975 v7640) a + S1x16x128.size a ≤ S16384x16x128.size a := fun v7640 k0_hw1975 => k0_hw1975

def k0_off1976 (v7646 : BitVec 32) : Fin 3 → Nat :=
  let c0_i32_6331 : BitVec 32 := 0#32
  let c0_i32_6332 : BitVec 32 := 0#32
  ![v7646.toNat, 0, 0]

def k0_chk1976 (v7646 : BitVec 32) : Prop :=
  (∀ a, (k0_off1976 v7646) a + S1x16x128.size a ≤ S16384x16x128.size a)
theorem k0_off1976_inb : ∀ (v7646 : BitVec 32) (k0_hw1976 : k0_chk1976 v7646), ∀ a, (k0_off1976 v7646) a + S1x16x128.size a ≤ S16384x16x128.size a := fun v7646 k0_hw1976 => k0_hw1976

def k0_off1977 (v7652 : BitVec 32) : Fin 3 → Nat :=
  let c0_i32_6337 : BitVec 32 := 0#32
  let c0_i32_6338 : BitVec 32 := 0#32
  ![v7652.toNat, 0, 0]

def k0_chk1977 (v7652 : BitVec 32) : Prop :=
  (∀ a, (k0_off1977 v7652) a + S1x16x128.size a ≤ S16384x16x128.size a)
theorem k0_off1977_inb : ∀ (v7652 : BitVec 32) (k0_hw1977 : k0_chk1977 v7652), ∀ a, (k0_off1977 v7652) a + S1x16x128.size a ≤ S16384x16x128.size a := fun v7652 k0_hw1977 => k0_hw1977

def k0_off1978 (v7658 : BitVec 32) : Fin 3 → Nat :=
  let c0_i32_6343 : BitVec 32 := 0#32
  let c0_i32_6344 : BitVec 32 := 0#32
  ![v7658.toNat, 0, 0]

def k0_chk1978 (v7658 : BitVec 32) : Prop :=
  (∀ a, (k0_off1978 v7658) a + S1x16x128.size a ≤ S16384x16x128.size a)
theorem k0_off1978_inb : ∀ (v7658 : BitVec 32) (k0_hw1978 : k0_chk1978 v7658), ∀ a, (k0_off1978 v7658) a + S1x16x128.size a ≤ S16384x16x128.size a := fun v7658 k0_hw1978 => k0_hw1978

def k0_off1979 (v7664 : BitVec 32) : Fin 3 → Nat :=
  let c0_i32_6349 : BitVec 32 := 0#32
  let c0_i32_6350 : BitVec 32 := 0#32
  ![v7664.toNat, 0, 0]

def k0_chk1979 (v7664 : BitVec 32) : Prop :=
  (∀ a, (k0_off1979 v7664) a + S1x16x128.size a ≤ S16384x16x128.size a)
theorem k0_off1979_inb : ∀ (v7664 : BitVec 32) (k0_hw1979 : k0_chk1979 v7664), ∀ a, (k0_off1979 v7664) a + S1x16x128.size a ≤ S16384x16x128.size a := fun v7664 k0_hw1979 => k0_hw1979

def k0_off1980 (v7670 : BitVec 32) : Fin 3 → Nat :=
  let c0_i32_6355 : BitVec 32 := 0#32
  let c0_i32_6356 : BitVec 32 := 0#32
  ![v7670.toNat, 0, 0]

def k0_chk1980 (v7670 : BitVec 32) : Prop :=
  (∀ a, (k0_off1980 v7670) a + S1x16x128.size a ≤ S16384x16x128.size a)
theorem k0_off1980_inb : ∀ (v7670 : BitVec 32) (k0_hw1980 : k0_chk1980 v7670), ∀ a, (k0_off1980 v7670) a + S1x16x128.size a ≤ S16384x16x128.size a := fun v7670 k0_hw1980 => k0_hw1980

def k0_off1981 (v7676 : BitVec 32) : Fin 3 → Nat :=
  let c0_i32_6361 : BitVec 32 := 0#32
  let c0_i32_6362 : BitVec 32 := 0#32
  ![v7676.toNat, 0, 0]

def k0_chk1981 (v7676 : BitVec 32) : Prop :=
  (∀ a, (k0_off1981 v7676) a + S1x16x128.size a ≤ S16384x16x128.size a)
theorem k0_off1981_inb : ∀ (v7676 : BitVec 32) (k0_hw1981 : k0_chk1981 v7676), ∀ a, (k0_off1981 v7676) a + S1x16x128.size a ≤ S16384x16x128.size a := fun v7676 k0_hw1981 => k0_hw1981

def k0_off1982 (v7682 : BitVec 32) : Fin 3 → Nat :=
  let c0_i32_6367 : BitVec 32 := 0#32
  let c0_i32_6368 : BitVec 32 := 0#32
  ![v7682.toNat, 0, 0]

def k0_chk1982 (v7682 : BitVec 32) : Prop :=
  (∀ a, (k0_off1982 v7682) a + S1x16x128.size a ≤ S16384x16x128.size a)
theorem k0_off1982_inb : ∀ (v7682 : BitVec 32) (k0_hw1982 : k0_chk1982 v7682), ∀ a, (k0_off1982 v7682) a + S1x16x128.size a ≤ S16384x16x128.size a := fun v7682 k0_hw1982 => k0_hw1982

def k0_off1983 (v7688 : BitVec 32) : Fin 3 → Nat :=
  let c0_i32_6373 : BitVec 32 := 0#32
  let c0_i32_6374 : BitVec 32 := 0#32
  ![v7688.toNat, 0, 0]

def k0_chk1983 (v7688 : BitVec 32) : Prop :=
  (∀ a, (k0_off1983 v7688) a + S1x16x128.size a ≤ S16384x16x128.size a)
theorem k0_off1983_inb : ∀ (v7688 : BitVec 32) (k0_hw1983 : k0_chk1983 v7688), ∀ a, (k0_off1983 v7688) a + S1x16x128.size a ≤ S16384x16x128.size a := fun v7688 k0_hw1983 => k0_hw1983

def k0_off1984 (v7694 : BitVec 32) : Fin 3 → Nat :=
  let c0_i32_6379 : BitVec 32 := 0#32
  let c0_i32_6380 : BitVec 32 := 0#32
  ![v7694.toNat, 0, 0]

def k0_chk1984 (v7694 : BitVec 32) : Prop :=
  (∀ a, (k0_off1984 v7694) a + S1x16x128.size a ≤ S16384x16x128.size a)
theorem k0_off1984_inb : ∀ (v7694 : BitVec 32) (k0_hw1984 : k0_chk1984 v7694), ∀ a, (k0_off1984 v7694) a + S1x16x128.size a ≤ S16384x16x128.size a := fun v7694 k0_hw1984 => k0_hw1984

def k0_off1985 (v7700 : BitVec 32) : Fin 3 → Nat :=
  let c0_i32_6385 : BitVec 32 := 0#32
  let c0_i32_6386 : BitVec 32 := 0#32
  ![v7700.toNat, 0, 0]

def k0_chk1985 (v7700 : BitVec 32) : Prop :=
  (∀ a, (k0_off1985 v7700) a + S1x16x128.size a ≤ S16384x16x128.size a)
theorem k0_off1985_inb : ∀ (v7700 : BitVec 32) (k0_hw1985 : k0_chk1985 v7700), ∀ a, (k0_off1985 v7700) a + S1x16x128.size a ≤ S16384x16x128.size a := fun v7700 k0_hw1985 => k0_hw1985

def k0_off1986 (v7706 : BitVec 32) : Fin 3 → Nat :=
  let c0_i32_6391 : BitVec 32 := 0#32
  let c0_i32_6392 : BitVec 32 := 0#32
  ![v7706.toNat, 0, 0]

def k0_chk1986 (v7706 : BitVec 32) : Prop :=
  (∀ a, (k0_off1986 v7706) a + S1x16x128.size a ≤ S16384x16x128.size a)
theorem k0_off1986_inb : ∀ (v7706 : BitVec 32) (k0_hw1986 : k0_chk1986 v7706), ∀ a, (k0_off1986 v7706) a + S1x16x128.size a ≤ S16384x16x128.size a := fun v7706 k0_hw1986 => k0_hw1986

def k0_off1987 (v7712 : BitVec 32) : Fin 3 → Nat :=
  let c0_i32_6397 : BitVec 32 := 0#32
  let c0_i32_6398 : BitVec 32 := 0#32
  ![v7712.toNat, 0, 0]

def k0_chk1987 (v7712 : BitVec 32) : Prop :=
  (∀ a, (k0_off1987 v7712) a + S1x16x128.size a ≤ S16384x16x128.size a)
theorem k0_off1987_inb : ∀ (v7712 : BitVec 32) (k0_hw1987 : k0_chk1987 v7712), ∀ a, (k0_off1987 v7712) a + S1x16x128.size a ≤ S16384x16x128.size a := fun v7712 k0_hw1987 => k0_hw1987

def k0_off1988 (v7718 : BitVec 32) : Fin 3 → Nat :=
  let c0_i32_6403 : BitVec 32 := 0#32
  let c0_i32_6404 : BitVec 32 := 0#32
  ![v7718.toNat, 0, 0]

def k0_chk1988 (v7718 : BitVec 32) : Prop :=
  (∀ a, (k0_off1988 v7718) a + S1x16x128.size a ≤ S16384x16x128.size a)
theorem k0_off1988_inb : ∀ (v7718 : BitVec 32) (k0_hw1988 : k0_chk1988 v7718), ∀ a, (k0_off1988 v7718) a + S1x16x128.size a ≤ S16384x16x128.size a := fun v7718 k0_hw1988 => k0_hw1988

def k0_off1989 (v7724 : BitVec 32) : Fin 3 → Nat :=
  let c0_i32_6409 : BitVec 32 := 0#32
  let c0_i32_6410 : BitVec 32 := 0#32
  ![v7724.toNat, 0, 0]

def k0_chk1989 (v7724 : BitVec 32) : Prop :=
  (∀ a, (k0_off1989 v7724) a + S1x16x128.size a ≤ S16384x16x128.size a)
theorem k0_off1989_inb : ∀ (v7724 : BitVec 32) (k0_hw1989 : k0_chk1989 v7724), ∀ a, (k0_off1989 v7724) a + S1x16x128.size a ≤ S16384x16x128.size a := fun v7724 k0_hw1989 => k0_hw1989

def k0_off1990 (v7730 : BitVec 32) : Fin 3 → Nat :=
  let c0_i32_6415 : BitVec 32 := 0#32
  let c0_i32_6416 : BitVec 32 := 0#32
  ![v7730.toNat, 0, 0]

def k0_chk1990 (v7730 : BitVec 32) : Prop :=
  (∀ a, (k0_off1990 v7730) a + S1x16x128.size a ≤ S16384x16x128.size a)
theorem k0_off1990_inb : ∀ (v7730 : BitVec 32) (k0_hw1990 : k0_chk1990 v7730), ∀ a, (k0_off1990 v7730) a + S1x16x128.size a ≤ S16384x16x128.size a := fun v7730 k0_hw1990 => k0_hw1990

def k0_off1991 (v7736 : BitVec 32) : Fin 3 → Nat :=
  let c0_i32_6421 : BitVec 32 := 0#32
  let c0_i32_6422 : BitVec 32 := 0#32
  ![v7736.toNat, 0, 0]

def k0_chk1991 (v7736 : BitVec 32) : Prop :=
  (∀ a, (k0_off1991 v7736) a + S1x16x128.size a ≤ S16384x16x128.size a)
theorem k0_off1991_inb : ∀ (v7736 : BitVec 32) (k0_hw1991 : k0_chk1991 v7736), ∀ a, (k0_off1991 v7736) a + S1x16x128.size a ≤ S16384x16x128.size a := fun v7736 k0_hw1991 => k0_hw1991

def k0_off1992 (v7742 : BitVec 32) : Fin 3 → Nat :=
  let c0_i32_6427 : BitVec 32 := 0#32
  let c0_i32_6428 : BitVec 32 := 0#32
  ![v7742.toNat, 0, 0]

def k0_chk1992 (v7742 : BitVec 32) : Prop :=
  (∀ a, (k0_off1992 v7742) a + S1x16x128.size a ≤ S16384x16x128.size a)
theorem k0_off1992_inb : ∀ (v7742 : BitVec 32) (k0_hw1992 : k0_chk1992 v7742), ∀ a, (k0_off1992 v7742) a + S1x16x128.size a ≤ S16384x16x128.size a := fun v7742 k0_hw1992 => k0_hw1992

def k0_off1993 (v7748 : BitVec 32) : Fin 3 → Nat :=
  let c0_i32_6433 : BitVec 32 := 0#32
  let c0_i32_6434 : BitVec 32 := 0#32
  ![v7748.toNat, 0, 0]

def k0_chk1993 (v7748 : BitVec 32) : Prop :=
  (∀ a, (k0_off1993 v7748) a + S1x16x128.size a ≤ S16384x16x128.size a)
theorem k0_off1993_inb : ∀ (v7748 : BitVec 32) (k0_hw1993 : k0_chk1993 v7748), ∀ a, (k0_off1993 v7748) a + S1x16x128.size a ≤ S16384x16x128.size a := fun v7748 k0_hw1993 => k0_hw1993

def k0_off1994 (v7754 : BitVec 32) : Fin 3 → Nat :=
  let c0_i32_6439 : BitVec 32 := 0#32
  let c0_i32_6440 : BitVec 32 := 0#32
  ![v7754.toNat, 0, 0]

def k0_chk1994 (v7754 : BitVec 32) : Prop :=
  (∀ a, (k0_off1994 v7754) a + S1x16x128.size a ≤ S16384x16x128.size a)
theorem k0_off1994_inb : ∀ (v7754 : BitVec 32) (k0_hw1994 : k0_chk1994 v7754), ∀ a, (k0_off1994 v7754) a + S1x16x128.size a ≤ S16384x16x128.size a := fun v7754 k0_hw1994 => k0_hw1994

def k0_off1995 (v7760 : BitVec 32) : Fin 3 → Nat :=
  let c0_i32_6445 : BitVec 32 := 0#32
  let c0_i32_6446 : BitVec 32 := 0#32
  ![v7760.toNat, 0, 0]

def k0_chk1995 (v7760 : BitVec 32) : Prop :=
  (∀ a, (k0_off1995 v7760) a + S1x16x128.size a ≤ S16384x16x128.size a)
theorem k0_off1995_inb : ∀ (v7760 : BitVec 32) (k0_hw1995 : k0_chk1995 v7760), ∀ a, (k0_off1995 v7760) a + S1x16x128.size a ≤ S16384x16x128.size a := fun v7760 k0_hw1995 => k0_hw1995

def k0_off1996 (v7766 : BitVec 32) : Fin 3 → Nat :=
  let c0_i32_6451 : BitVec 32 := 0#32
  let c0_i32_6452 : BitVec 32 := 0#32
  ![v7766.toNat, 0, 0]

def k0_chk1996 (v7766 : BitVec 32) : Prop :=
  (∀ a, (k0_off1996 v7766) a + S1x16x128.size a ≤ S16384x16x128.size a)
theorem k0_off1996_inb : ∀ (v7766 : BitVec 32) (k0_hw1996 : k0_chk1996 v7766), ∀ a, (k0_off1996 v7766) a + S1x16x128.size a ≤ S16384x16x128.size a := fun v7766 k0_hw1996 => k0_hw1996

def k0_off1997 (v7772 : BitVec 32) : Fin 3 → Nat :=
  let c0_i32_6457 : BitVec 32 := 0#32
  let c0_i32_6458 : BitVec 32 := 0#32
  ![v7772.toNat, 0, 0]

def k0_chk1997 (v7772 : BitVec 32) : Prop :=
  (∀ a, (k0_off1997 v7772) a + S1x16x128.size a ≤ S16384x16x128.size a)
theorem k0_off1997_inb : ∀ (v7772 : BitVec 32) (k0_hw1997 : k0_chk1997 v7772), ∀ a, (k0_off1997 v7772) a + S1x16x128.size a ≤ S16384x16x128.size a := fun v7772 k0_hw1997 => k0_hw1997

def k0_off1998 (v7778 : BitVec 32) : Fin 3 → Nat :=
  let c0_i32_6463 : BitVec 32 := 0#32
  let c0_i32_6464 : BitVec 32 := 0#32
  ![v7778.toNat, 0, 0]

def k0_chk1998 (v7778 : BitVec 32) : Prop :=
  (∀ a, (k0_off1998 v7778) a + S1x16x128.size a ≤ S16384x16x128.size a)
theorem k0_off1998_inb : ∀ (v7778 : BitVec 32) (k0_hw1998 : k0_chk1998 v7778), ∀ a, (k0_off1998 v7778) a + S1x16x128.size a ≤ S16384x16x128.size a := fun v7778 k0_hw1998 => k0_hw1998

def k0_off1999 (v7784 : BitVec 32) : Fin 3 → Nat :=
  let c0_i32_6469 : BitVec 32 := 0#32
  let c0_i32_6470 : BitVec 32 := 0#32
  ![v7784.toNat, 0, 0]

def k0_chk1999 (v7784 : BitVec 32) : Prop :=
  (∀ a, (k0_off1999 v7784) a + S1x16x128.size a ≤ S16384x16x128.size a)
theorem k0_off1999_inb : ∀ (v7784 : BitVec 32) (k0_hw1999 : k0_chk1999 v7784), ∀ a, (k0_off1999 v7784) a + S1x16x128.size a ≤ S16384x16x128.size a := fun v7784 k0_hw1999 => k0_hw1999

def k0_off2000 (v7790 : BitVec 32) : Fin 3 → Nat :=
  let c0_i32_6475 : BitVec 32 := 0#32
  let c0_i32_6476 : BitVec 32 := 0#32
  ![v7790.toNat, 0, 0]

def k0_chk2000 (v7790 : BitVec 32) : Prop :=
  (∀ a, (k0_off2000 v7790) a + S1x16x128.size a ≤ S16384x16x128.size a)
theorem k0_off2000_inb : ∀ (v7790 : BitVec 32) (k0_hw2000 : k0_chk2000 v7790), ∀ a, (k0_off2000 v7790) a + S1x16x128.size a ≤ S16384x16x128.size a := fun v7790 k0_hw2000 => k0_hw2000

def k0_off2001 (v7796 : BitVec 32) : Fin 3 → Nat :=
  let c0_i32_6481 : BitVec 32 := 0#32
  let c0_i32_6482 : BitVec 32 := 0#32
  ![v7796.toNat, 0, 0]

def k0_chk2001 (v7796 : BitVec 32) : Prop :=
  (∀ a, (k0_off2001 v7796) a + S1x16x128.size a ≤ S16384x16x128.size a)
theorem k0_off2001_inb : ∀ (v7796 : BitVec 32) (k0_hw2001 : k0_chk2001 v7796), ∀ a, (k0_off2001 v7796) a + S1x16x128.size a ≤ S16384x16x128.size a := fun v7796 k0_hw2001 => k0_hw2001

def k0_off2002 (v7802 : BitVec 32) : Fin 3 → Nat :=
  let c0_i32_6487 : BitVec 32 := 0#32
  let c0_i32_6488 : BitVec 32 := 0#32
  ![v7802.toNat, 0, 0]

def k0_chk2002 (v7802 : BitVec 32) : Prop :=
  (∀ a, (k0_off2002 v7802) a + S1x16x128.size a ≤ S16384x16x128.size a)
theorem k0_off2002_inb : ∀ (v7802 : BitVec 32) (k0_hw2002 : k0_chk2002 v7802), ∀ a, (k0_off2002 v7802) a + S1x16x128.size a ≤ S16384x16x128.size a := fun v7802 k0_hw2002 => k0_hw2002

def k0_off2003 (v7808 : BitVec 32) : Fin 3 → Nat :=
  let c0_i32_6493 : BitVec 32 := 0#32
  let c0_i32_6494 : BitVec 32 := 0#32
  ![v7808.toNat, 0, 0]

def k0_chk2003 (v7808 : BitVec 32) : Prop :=
  (∀ a, (k0_off2003 v7808) a + S1x16x128.size a ≤ S16384x16x128.size a)
theorem k0_off2003_inb : ∀ (v7808 : BitVec 32) (k0_hw2003 : k0_chk2003 v7808), ∀ a, (k0_off2003 v7808) a + S1x16x128.size a ≤ S16384x16x128.size a := fun v7808 k0_hw2003 => k0_hw2003

def k0_off2004 (v7814 : BitVec 32) : Fin 3 → Nat :=
  let c0_i32_6499 : BitVec 32 := 0#32
  let c0_i32_6500 : BitVec 32 := 0#32
  ![v7814.toNat, 0, 0]

def k0_chk2004 (v7814 : BitVec 32) : Prop :=
  (∀ a, (k0_off2004 v7814) a + S1x16x128.size a ≤ S16384x16x128.size a)
theorem k0_off2004_inb : ∀ (v7814 : BitVec 32) (k0_hw2004 : k0_chk2004 v7814), ∀ a, (k0_off2004 v7814) a + S1x16x128.size a ≤ S16384x16x128.size a := fun v7814 k0_hw2004 => k0_hw2004

def k0_off2005 (v7820 : BitVec 32) : Fin 3 → Nat :=
  let c0_i32_6505 : BitVec 32 := 0#32
  let c0_i32_6506 : BitVec 32 := 0#32
  ![v7820.toNat, 0, 0]

def k0_chk2005 (v7820 : BitVec 32) : Prop :=
  (∀ a, (k0_off2005 v7820) a + S1x16x128.size a ≤ S16384x16x128.size a)
theorem k0_off2005_inb : ∀ (v7820 : BitVec 32) (k0_hw2005 : k0_chk2005 v7820), ∀ a, (k0_off2005 v7820) a + S1x16x128.size a ≤ S16384x16x128.size a := fun v7820 k0_hw2005 => k0_hw2005

def k0_off2006 (v7826 : BitVec 32) : Fin 3 → Nat :=
  let c0_i32_6511 : BitVec 32 := 0#32
  let c0_i32_6512 : BitVec 32 := 0#32
  ![v7826.toNat, 0, 0]

def k0_chk2006 (v7826 : BitVec 32) : Prop :=
  (∀ a, (k0_off2006 v7826) a + S1x16x128.size a ≤ S16384x16x128.size a)
theorem k0_off2006_inb : ∀ (v7826 : BitVec 32) (k0_hw2006 : k0_chk2006 v7826), ∀ a, (k0_off2006 v7826) a + S1x16x128.size a ≤ S16384x16x128.size a := fun v7826 k0_hw2006 => k0_hw2006

def k0_off2007 (v7832 : BitVec 32) : Fin 3 → Nat :=
  let c0_i32_6517 : BitVec 32 := 0#32
  let c0_i32_6518 : BitVec 32 := 0#32
  ![v7832.toNat, 0, 0]

def k0_chk2007 (v7832 : BitVec 32) : Prop :=
  (∀ a, (k0_off2007 v7832) a + S1x16x128.size a ≤ S16384x16x128.size a)
theorem k0_off2007_inb : ∀ (v7832 : BitVec 32) (k0_hw2007 : k0_chk2007 v7832), ∀ a, (k0_off2007 v7832) a + S1x16x128.size a ≤ S16384x16x128.size a := fun v7832 k0_hw2007 => k0_hw2007

def k0_off2008 (v7838 : BitVec 32) : Fin 3 → Nat :=
  let c0_i32_6523 : BitVec 32 := 0#32
  let c0_i32_6524 : BitVec 32 := 0#32
  ![v7838.toNat, 0, 0]

def k0_chk2008 (v7838 : BitVec 32) : Prop :=
  (∀ a, (k0_off2008 v7838) a + S1x16x128.size a ≤ S16384x16x128.size a)
theorem k0_off2008_inb : ∀ (v7838 : BitVec 32) (k0_hw2008 : k0_chk2008 v7838), ∀ a, (k0_off2008 v7838) a + S1x16x128.size a ≤ S16384x16x128.size a := fun v7838 k0_hw2008 => k0_hw2008

def k0_off2009 (v7844 : BitVec 32) : Fin 3 → Nat :=
  let c0_i32_6529 : BitVec 32 := 0#32
  let c0_i32_6530 : BitVec 32 := 0#32
  ![v7844.toNat, 0, 0]

def k0_chk2009 (v7844 : BitVec 32) : Prop :=
  (∀ a, (k0_off2009 v7844) a + S1x16x128.size a ≤ S16384x16x128.size a)
theorem k0_off2009_inb : ∀ (v7844 : BitVec 32) (k0_hw2009 : k0_chk2009 v7844), ∀ a, (k0_off2009 v7844) a + S1x16x128.size a ≤ S16384x16x128.size a := fun v7844 k0_hw2009 => k0_hw2009

def k0_off2010 (v7850 : BitVec 32) : Fin 3 → Nat :=
  let c0_i32_6535 : BitVec 32 := 0#32
  let c0_i32_6536 : BitVec 32 := 0#32
  ![v7850.toNat, 0, 0]

def k0_chk2010 (v7850 : BitVec 32) : Prop :=
  (∀ a, (k0_off2010 v7850) a + S1x16x128.size a ≤ S16384x16x128.size a)
theorem k0_off2010_inb : ∀ (v7850 : BitVec 32) (k0_hw2010 : k0_chk2010 v7850), ∀ a, (k0_off2010 v7850) a + S1x16x128.size a ≤ S16384x16x128.size a := fun v7850 k0_hw2010 => k0_hw2010

def k0_off2011 (v7856 : BitVec 32) : Fin 3 → Nat :=
  let c0_i32_6541 : BitVec 32 := 0#32
  let c0_i32_6542 : BitVec 32 := 0#32
  ![v7856.toNat, 0, 0]

def k0_chk2011 (v7856 : BitVec 32) : Prop :=
  (∀ a, (k0_off2011 v7856) a + S1x16x128.size a ≤ S16384x16x128.size a)
theorem k0_off2011_inb : ∀ (v7856 : BitVec 32) (k0_hw2011 : k0_chk2011 v7856), ∀ a, (k0_off2011 v7856) a + S1x16x128.size a ≤ S16384x16x128.size a := fun v7856 k0_hw2011 => k0_hw2011

def k0_off2012 (v7862 : BitVec 32) : Fin 3 → Nat :=
  let c0_i32_6547 : BitVec 32 := 0#32
  let c0_i32_6548 : BitVec 32 := 0#32
  ![v7862.toNat, 0, 0]

def k0_chk2012 (v7862 : BitVec 32) : Prop :=
  (∀ a, (k0_off2012 v7862) a + S1x16x128.size a ≤ S16384x16x128.size a)
theorem k0_off2012_inb : ∀ (v7862 : BitVec 32) (k0_hw2012 : k0_chk2012 v7862), ∀ a, (k0_off2012 v7862) a + S1x16x128.size a ≤ S16384x16x128.size a := fun v7862 k0_hw2012 => k0_hw2012

def k0_off2013 (v7868 : BitVec 32) : Fin 3 → Nat :=
  let c0_i32_6553 : BitVec 32 := 0#32
  let c0_i32_6554 : BitVec 32 := 0#32
  ![v7868.toNat, 0, 0]

def k0_chk2013 (v7868 : BitVec 32) : Prop :=
  (∀ a, (k0_off2013 v7868) a + S1x16x128.size a ≤ S16384x16x128.size a)
theorem k0_off2013_inb : ∀ (v7868 : BitVec 32) (k0_hw2013 : k0_chk2013 v7868), ∀ a, (k0_off2013 v7868) a + S1x16x128.size a ≤ S16384x16x128.size a := fun v7868 k0_hw2013 => k0_hw2013

def k0_off2014 (v7874 : BitVec 32) : Fin 3 → Nat :=
  let c0_i32_6559 : BitVec 32 := 0#32
  let c0_i32_6560 : BitVec 32 := 0#32
  ![v7874.toNat, 0, 0]

def k0_chk2014 (v7874 : BitVec 32) : Prop :=
  (∀ a, (k0_off2014 v7874) a + S1x16x128.size a ≤ S16384x16x128.size a)
theorem k0_off2014_inb : ∀ (v7874 : BitVec 32) (k0_hw2014 : k0_chk2014 v7874), ∀ a, (k0_off2014 v7874) a + S1x16x128.size a ≤ S16384x16x128.size a := fun v7874 k0_hw2014 => k0_hw2014

def k0_off2015 (v7880 : BitVec 32) : Fin 3 → Nat :=
  let c0_i32_6565 : BitVec 32 := 0#32
  let c0_i32_6566 : BitVec 32 := 0#32
  ![v7880.toNat, 0, 0]

def k0_chk2015 (v7880 : BitVec 32) : Prop :=
  (∀ a, (k0_off2015 v7880) a + S1x16x128.size a ≤ S16384x16x128.size a)
theorem k0_off2015_inb : ∀ (v7880 : BitVec 32) (k0_hw2015 : k0_chk2015 v7880), ∀ a, (k0_off2015 v7880) a + S1x16x128.size a ≤ S16384x16x128.size a := fun v7880 k0_hw2015 => k0_hw2015

def k0_off2016 (v7886 : BitVec 32) : Fin 3 → Nat :=
  let c0_i32_6571 : BitVec 32 := 0#32
  let c0_i32_6572 : BitVec 32 := 0#32
  ![v7886.toNat, 0, 0]

def k0_chk2016 (v7886 : BitVec 32) : Prop :=
  (∀ a, (k0_off2016 v7886) a + S1x16x128.size a ≤ S16384x16x128.size a)
theorem k0_off2016_inb : ∀ (v7886 : BitVec 32) (k0_hw2016 : k0_chk2016 v7886), ∀ a, (k0_off2016 v7886) a + S1x16x128.size a ≤ S16384x16x128.size a := fun v7886 k0_hw2016 => k0_hw2016

def k0_off2017 (v7892 : BitVec 32) : Fin 3 → Nat :=
  let c0_i32_6577 : BitVec 32 := 0#32
  let c0_i32_6578 : BitVec 32 := 0#32
  ![v7892.toNat, 0, 0]

def k0_chk2017 (v7892 : BitVec 32) : Prop :=
  (∀ a, (k0_off2017 v7892) a + S1x16x128.size a ≤ S16384x16x128.size a)
theorem k0_off2017_inb : ∀ (v7892 : BitVec 32) (k0_hw2017 : k0_chk2017 v7892), ∀ a, (k0_off2017 v7892) a + S1x16x128.size a ≤ S16384x16x128.size a := fun v7892 k0_hw2017 => k0_hw2017

def k0_off2018 (v7898 : BitVec 32) : Fin 3 → Nat :=
  let c0_i32_6583 : BitVec 32 := 0#32
  let c0_i32_6584 : BitVec 32 := 0#32
  ![v7898.toNat, 0, 0]

def k0_chk2018 (v7898 : BitVec 32) : Prop :=
  (∀ a, (k0_off2018 v7898) a + S1x16x128.size a ≤ S16384x16x128.size a)
theorem k0_off2018_inb : ∀ (v7898 : BitVec 32) (k0_hw2018 : k0_chk2018 v7898), ∀ a, (k0_off2018 v7898) a + S1x16x128.size a ≤ S16384x16x128.size a := fun v7898 k0_hw2018 => k0_hw2018

def k0_off2019 (v7904 : BitVec 32) : Fin 3 → Nat :=
  let c0_i32_6589 : BitVec 32 := 0#32
  let c0_i32_6590 : BitVec 32 := 0#32
  ![v7904.toNat, 0, 0]

def k0_chk2019 (v7904 : BitVec 32) : Prop :=
  (∀ a, (k0_off2019 v7904) a + S1x16x128.size a ≤ S16384x16x128.size a)
theorem k0_off2019_inb : ∀ (v7904 : BitVec 32) (k0_hw2019 : k0_chk2019 v7904), ∀ a, (k0_off2019 v7904) a + S1x16x128.size a ≤ S16384x16x128.size a := fun v7904 k0_hw2019 => k0_hw2019

def k0_off2020 (v7910 : BitVec 32) : Fin 3 → Nat :=
  let c0_i32_6595 : BitVec 32 := 0#32
  let c0_i32_6596 : BitVec 32 := 0#32
  ![v7910.toNat, 0, 0]

def k0_chk2020 (v7910 : BitVec 32) : Prop :=
  (∀ a, (k0_off2020 v7910) a + S1x16x128.size a ≤ S16384x16x128.size a)
theorem k0_off2020_inb : ∀ (v7910 : BitVec 32) (k0_hw2020 : k0_chk2020 v7910), ∀ a, (k0_off2020 v7910) a + S1x16x128.size a ≤ S16384x16x128.size a := fun v7910 k0_hw2020 => k0_hw2020

def k0_off2021 (v7916 : BitVec 32) : Fin 3 → Nat :=
  let c0_i32_6601 : BitVec 32 := 0#32
  let c0_i32_6602 : BitVec 32 := 0#32
  ![v7916.toNat, 0, 0]

def k0_chk2021 (v7916 : BitVec 32) : Prop :=
  (∀ a, (k0_off2021 v7916) a + S1x16x128.size a ≤ S16384x16x128.size a)
theorem k0_off2021_inb : ∀ (v7916 : BitVec 32) (k0_hw2021 : k0_chk2021 v7916), ∀ a, (k0_off2021 v7916) a + S1x16x128.size a ≤ S16384x16x128.size a := fun v7916 k0_hw2021 => k0_hw2021

def k0_off2022 (v7922 : BitVec 32) : Fin 3 → Nat :=
  let c0_i32_6607 : BitVec 32 := 0#32
  let c0_i32_6608 : BitVec 32 := 0#32
  ![v7922.toNat, 0, 0]

def k0_chk2022 (v7922 : BitVec 32) : Prop :=
  (∀ a, (k0_off2022 v7922) a + S1x16x128.size a ≤ S16384x16x128.size a)
theorem k0_off2022_inb : ∀ (v7922 : BitVec 32) (k0_hw2022 : k0_chk2022 v7922), ∀ a, (k0_off2022 v7922) a + S1x16x128.size a ≤ S16384x16x128.size a := fun v7922 k0_hw2022 => k0_hw2022

def k0_off2023 (v7928 : BitVec 32) : Fin 3 → Nat :=
  let c0_i32_6613 : BitVec 32 := 0#32
  let c0_i32_6614 : BitVec 32 := 0#32
  ![v7928.toNat, 0, 0]

def k0_chk2023 (v7928 : BitVec 32) : Prop :=
  (∀ a, (k0_off2023 v7928) a + S1x16x128.size a ≤ S16384x16x128.size a)
theorem k0_off2023_inb : ∀ (v7928 : BitVec 32) (k0_hw2023 : k0_chk2023 v7928), ∀ a, (k0_off2023 v7928) a + S1x16x128.size a ≤ S16384x16x128.size a := fun v7928 k0_hw2023 => k0_hw2023

def k0_off2024 (v7934 : BitVec 32) : Fin 3 → Nat :=
  let c0_i32_6619 : BitVec 32 := 0#32
  let c0_i32_6620 : BitVec 32 := 0#32
  ![v7934.toNat, 0, 0]

def k0_chk2024 (v7934 : BitVec 32) : Prop :=
  (∀ a, (k0_off2024 v7934) a + S1x16x128.size a ≤ S16384x16x128.size a)
theorem k0_off2024_inb : ∀ (v7934 : BitVec 32) (k0_hw2024 : k0_chk2024 v7934), ∀ a, (k0_off2024 v7934) a + S1x16x128.size a ≤ S16384x16x128.size a := fun v7934 k0_hw2024 => k0_hw2024

def k0_off2025 (v7940 : BitVec 32) : Fin 3 → Nat :=
  let c0_i32_6625 : BitVec 32 := 0#32
  let c0_i32_6626 : BitVec 32 := 0#32
  ![v7940.toNat, 0, 0]

def k0_chk2025 (v7940 : BitVec 32) : Prop :=
  (∀ a, (k0_off2025 v7940) a + S1x16x128.size a ≤ S16384x16x128.size a)
theorem k0_off2025_inb : ∀ (v7940 : BitVec 32) (k0_hw2025 : k0_chk2025 v7940), ∀ a, (k0_off2025 v7940) a + S1x16x128.size a ≤ S16384x16x128.size a := fun v7940 k0_hw2025 => k0_hw2025

def k0_off2026 (v7946 : BitVec 32) : Fin 3 → Nat :=
  let c0_i32_6631 : BitVec 32 := 0#32
  let c0_i32_6632 : BitVec 32 := 0#32
  ![v7946.toNat, 0, 0]

def k0_chk2026 (v7946 : BitVec 32) : Prop :=
  (∀ a, (k0_off2026 v7946) a + S1x16x128.size a ≤ S16384x16x128.size a)
theorem k0_off2026_inb : ∀ (v7946 : BitVec 32) (k0_hw2026 : k0_chk2026 v7946), ∀ a, (k0_off2026 v7946) a + S1x16x128.size a ≤ S16384x16x128.size a := fun v7946 k0_hw2026 => k0_hw2026

def k0_off2027 (v7952 : BitVec 32) : Fin 3 → Nat :=
  let c0_i32_6637 : BitVec 32 := 0#32
  let c0_i32_6638 : BitVec 32 := 0#32
  ![v7952.toNat, 0, 0]

def k0_chk2027 (v7952 : BitVec 32) : Prop :=
  (∀ a, (k0_off2027 v7952) a + S1x16x128.size a ≤ S16384x16x128.size a)
theorem k0_off2027_inb : ∀ (v7952 : BitVec 32) (k0_hw2027 : k0_chk2027 v7952), ∀ a, (k0_off2027 v7952) a + S1x16x128.size a ≤ S16384x16x128.size a := fun v7952 k0_hw2027 => k0_hw2027

def k0_off2028 (v7958 : BitVec 32) : Fin 3 → Nat :=
  let c0_i32_6643 : BitVec 32 := 0#32
  let c0_i32_6644 : BitVec 32 := 0#32
  ![v7958.toNat, 0, 0]

def k0_chk2028 (v7958 : BitVec 32) : Prop :=
  (∀ a, (k0_off2028 v7958) a + S1x16x128.size a ≤ S16384x16x128.size a)
theorem k0_off2028_inb : ∀ (v7958 : BitVec 32) (k0_hw2028 : k0_chk2028 v7958), ∀ a, (k0_off2028 v7958) a + S1x16x128.size a ≤ S16384x16x128.size a := fun v7958 k0_hw2028 => k0_hw2028

def k0_off2029 (v7964 : BitVec 32) : Fin 3 → Nat :=
  let c0_i32_6649 : BitVec 32 := 0#32
  let c0_i32_6650 : BitVec 32 := 0#32
  ![v7964.toNat, 0, 0]

def k0_chk2029 (v7964 : BitVec 32) : Prop :=
  (∀ a, (k0_off2029 v7964) a + S1x16x128.size a ≤ S16384x16x128.size a)
theorem k0_off2029_inb : ∀ (v7964 : BitVec 32) (k0_hw2029 : k0_chk2029 v7964), ∀ a, (k0_off2029 v7964) a + S1x16x128.size a ≤ S16384x16x128.size a := fun v7964 k0_hw2029 => k0_hw2029

def k0_off2030 (v7970 : BitVec 32) : Fin 3 → Nat :=
  let c0_i32_6655 : BitVec 32 := 0#32
  let c0_i32_6656 : BitVec 32 := 0#32
  ![v7970.toNat, 0, 0]

def k0_chk2030 (v7970 : BitVec 32) : Prop :=
  (∀ a, (k0_off2030 v7970) a + S1x16x128.size a ≤ S16384x16x128.size a)
theorem k0_off2030_inb : ∀ (v7970 : BitVec 32) (k0_hw2030 : k0_chk2030 v7970), ∀ a, (k0_off2030 v7970) a + S1x16x128.size a ≤ S16384x16x128.size a := fun v7970 k0_hw2030 => k0_hw2030

def k0_off2031 (v7976 : BitVec 32) : Fin 3 → Nat :=
  let c0_i32_6661 : BitVec 32 := 0#32
  let c0_i32_6662 : BitVec 32 := 0#32
  ![v7976.toNat, 0, 0]

def k0_chk2031 (v7976 : BitVec 32) : Prop :=
  (∀ a, (k0_off2031 v7976) a + S1x16x128.size a ≤ S16384x16x128.size a)
theorem k0_off2031_inb : ∀ (v7976 : BitVec 32) (k0_hw2031 : k0_chk2031 v7976), ∀ a, (k0_off2031 v7976) a + S1x16x128.size a ≤ S16384x16x128.size a := fun v7976 k0_hw2031 => k0_hw2031

def k0_off2032 (v7982 : BitVec 32) : Fin 3 → Nat :=
  let c0_i32_6667 : BitVec 32 := 0#32
  let c0_i32_6668 : BitVec 32 := 0#32
  ![v7982.toNat, 0, 0]

def k0_chk2032 (v7982 : BitVec 32) : Prop :=
  (∀ a, (k0_off2032 v7982) a + S1x16x128.size a ≤ S16384x16x128.size a)
theorem k0_off2032_inb : ∀ (v7982 : BitVec 32) (k0_hw2032 : k0_chk2032 v7982), ∀ a, (k0_off2032 v7982) a + S1x16x128.size a ≤ S16384x16x128.size a := fun v7982 k0_hw2032 => k0_hw2032

def k0_off2033 (v7988 : BitVec 32) : Fin 3 → Nat :=
  let c0_i32_6673 : BitVec 32 := 0#32
  let c0_i32_6674 : BitVec 32 := 0#32
  ![v7988.toNat, 0, 0]

def k0_chk2033 (v7988 : BitVec 32) : Prop :=
  (∀ a, (k0_off2033 v7988) a + S1x16x128.size a ≤ S16384x16x128.size a)
theorem k0_off2033_inb : ∀ (v7988 : BitVec 32) (k0_hw2033 : k0_chk2033 v7988), ∀ a, (k0_off2033 v7988) a + S1x16x128.size a ≤ S16384x16x128.size a := fun v7988 k0_hw2033 => k0_hw2033

def k0_off2034 (v7994 : BitVec 32) : Fin 3 → Nat :=
  let c0_i32_6679 : BitVec 32 := 0#32
  let c0_i32_6680 : BitVec 32 := 0#32
  ![v7994.toNat, 0, 0]

def k0_chk2034 (v7994 : BitVec 32) : Prop :=
  (∀ a, (k0_off2034 v7994) a + S1x16x128.size a ≤ S16384x16x128.size a)
theorem k0_off2034_inb : ∀ (v7994 : BitVec 32) (k0_hw2034 : k0_chk2034 v7994), ∀ a, (k0_off2034 v7994) a + S1x16x128.size a ≤ S16384x16x128.size a := fun v7994 k0_hw2034 => k0_hw2034

def k0_off2035 (v8000 : BitVec 32) : Fin 3 → Nat :=
  let c0_i32_6685 : BitVec 32 := 0#32
  let c0_i32_6686 : BitVec 32 := 0#32
  ![v8000.toNat, 0, 0]

def k0_chk2035 (v8000 : BitVec 32) : Prop :=
  (∀ a, (k0_off2035 v8000) a + S1x16x128.size a ≤ S16384x16x128.size a)
theorem k0_off2035_inb : ∀ (v8000 : BitVec 32) (k0_hw2035 : k0_chk2035 v8000), ∀ a, (k0_off2035 v8000) a + S1x16x128.size a ≤ S16384x16x128.size a := fun v8000 k0_hw2035 => k0_hw2035

def k0_off2036 (v8006 : BitVec 32) : Fin 3 → Nat :=
  let c0_i32_6691 : BitVec 32 := 0#32
  let c0_i32_6692 : BitVec 32 := 0#32
  ![v8006.toNat, 0, 0]

def k0_chk2036 (v8006 : BitVec 32) : Prop :=
  (∀ a, (k0_off2036 v8006) a + S1x16x128.size a ≤ S16384x16x128.size a)
theorem k0_off2036_inb : ∀ (v8006 : BitVec 32) (k0_hw2036 : k0_chk2036 v8006), ∀ a, (k0_off2036 v8006) a + S1x16x128.size a ≤ S16384x16x128.size a := fun v8006 k0_hw2036 => k0_hw2036

def k0_off2037 (v8012 : BitVec 32) : Fin 3 → Nat :=
  let c0_i32_6697 : BitVec 32 := 0#32
  let c0_i32_6698 : BitVec 32 := 0#32
  ![v8012.toNat, 0, 0]

def k0_chk2037 (v8012 : BitVec 32) : Prop :=
  (∀ a, (k0_off2037 v8012) a + S1x16x128.size a ≤ S16384x16x128.size a)
theorem k0_off2037_inb : ∀ (v8012 : BitVec 32) (k0_hw2037 : k0_chk2037 v8012), ∀ a, (k0_off2037 v8012) a + S1x16x128.size a ≤ S16384x16x128.size a := fun v8012 k0_hw2037 => k0_hw2037

def k0_off2038 (v8018 : BitVec 32) : Fin 3 → Nat :=
  let c0_i32_6703 : BitVec 32 := 0#32
  let c0_i32_6704 : BitVec 32 := 0#32
  ![v8018.toNat, 0, 0]

def k0_chk2038 (v8018 : BitVec 32) : Prop :=
  (∀ a, (k0_off2038 v8018) a + S1x16x128.size a ≤ S16384x16x128.size a)
theorem k0_off2038_inb : ∀ (v8018 : BitVec 32) (k0_hw2038 : k0_chk2038 v8018), ∀ a, (k0_off2038 v8018) a + S1x16x128.size a ≤ S16384x16x128.size a := fun v8018 k0_hw2038 => k0_hw2038

def k0_off2039 (v8024 : BitVec 32) : Fin 3 → Nat :=
  let c0_i32_6709 : BitVec 32 := 0#32
  let c0_i32_6710 : BitVec 32 := 0#32
  ![v8024.toNat, 0, 0]

def k0_chk2039 (v8024 : BitVec 32) : Prop :=
  (∀ a, (k0_off2039 v8024) a + S1x16x128.size a ≤ S16384x16x128.size a)
theorem k0_off2039_inb : ∀ (v8024 : BitVec 32) (k0_hw2039 : k0_chk2039 v8024), ∀ a, (k0_off2039 v8024) a + S1x16x128.size a ≤ S16384x16x128.size a := fun v8024 k0_hw2039 => k0_hw2039

def k0_off2040 (v8030 : BitVec 32) : Fin 3 → Nat :=
  let c0_i32_6715 : BitVec 32 := 0#32
  let c0_i32_6716 : BitVec 32 := 0#32
  ![v8030.toNat, 0, 0]

def k0_chk2040 (v8030 : BitVec 32) : Prop :=
  (∀ a, (k0_off2040 v8030) a + S1x16x128.size a ≤ S16384x16x128.size a)
theorem k0_off2040_inb : ∀ (v8030 : BitVec 32) (k0_hw2040 : k0_chk2040 v8030), ∀ a, (k0_off2040 v8030) a + S1x16x128.size a ≤ S16384x16x128.size a := fun v8030 k0_hw2040 => k0_hw2040

def k0_off2041 (v8036 : BitVec 32) : Fin 3 → Nat :=
  let c0_i32_6721 : BitVec 32 := 0#32
  let c0_i32_6722 : BitVec 32 := 0#32
  ![v8036.toNat, 0, 0]

def k0_chk2041 (v8036 : BitVec 32) : Prop :=
  (∀ a, (k0_off2041 v8036) a + S1x16x128.size a ≤ S16384x16x128.size a)
theorem k0_off2041_inb : ∀ (v8036 : BitVec 32) (k0_hw2041 : k0_chk2041 v8036), ∀ a, (k0_off2041 v8036) a + S1x16x128.size a ≤ S16384x16x128.size a := fun v8036 k0_hw2041 => k0_hw2041

def k0_off2042 (v8042 : BitVec 32) : Fin 3 → Nat :=
  let c0_i32_6727 : BitVec 32 := 0#32
  let c0_i32_6728 : BitVec 32 := 0#32
  ![v8042.toNat, 0, 0]

def k0_chk2042 (v8042 : BitVec 32) : Prop :=
  (∀ a, (k0_off2042 v8042) a + S1x16x128.size a ≤ S16384x16x128.size a)
theorem k0_off2042_inb : ∀ (v8042 : BitVec 32) (k0_hw2042 : k0_chk2042 v8042), ∀ a, (k0_off2042 v8042) a + S1x16x128.size a ≤ S16384x16x128.size a := fun v8042 k0_hw2042 => k0_hw2042

def k0_off2043 (v8048 : BitVec 32) : Fin 3 → Nat :=
  let c0_i32_6733 : BitVec 32 := 0#32
  let c0_i32_6734 : BitVec 32 := 0#32
  ![v8048.toNat, 0, 0]

def k0_chk2043 (v8048 : BitVec 32) : Prop :=
  (∀ a, (k0_off2043 v8048) a + S1x16x128.size a ≤ S16384x16x128.size a)
theorem k0_off2043_inb : ∀ (v8048 : BitVec 32) (k0_hw2043 : k0_chk2043 v8048), ∀ a, (k0_off2043 v8048) a + S1x16x128.size a ≤ S16384x16x128.size a := fun v8048 k0_hw2043 => k0_hw2043

def k0_off2044 (v8054 : BitVec 32) : Fin 3 → Nat :=
  let c0_i32_6739 : BitVec 32 := 0#32
  let c0_i32_6740 : BitVec 32 := 0#32
  ![v8054.toNat, 0, 0]

def k0_chk2044 (v8054 : BitVec 32) : Prop :=
  (∀ a, (k0_off2044 v8054) a + S1x16x128.size a ≤ S16384x16x128.size a)
theorem k0_off2044_inb : ∀ (v8054 : BitVec 32) (k0_hw2044 : k0_chk2044 v8054), ∀ a, (k0_off2044 v8054) a + S1x16x128.size a ≤ S16384x16x128.size a := fun v8054 k0_hw2044 => k0_hw2044

def k0_off2045 (v8060 : BitVec 32) : Fin 3 → Nat :=
  let c0_i32_6745 : BitVec 32 := 0#32
  let c0_i32_6746 : BitVec 32 := 0#32
  ![v8060.toNat, 0, 0]

def k0_chk2045 (v8060 : BitVec 32) : Prop :=
  (∀ a, (k0_off2045 v8060) a + S1x16x128.size a ≤ S16384x16x128.size a)
theorem k0_off2045_inb : ∀ (v8060 : BitVec 32) (k0_hw2045 : k0_chk2045 v8060), ∀ a, (k0_off2045 v8060) a + S1x16x128.size a ≤ S16384x16x128.size a := fun v8060 k0_hw2045 => k0_hw2045

def k0_off2046 (v8066 : BitVec 32) : Fin 3 → Nat :=
  let c0_i32_6751 : BitVec 32 := 0#32
  let c0_i32_6752 : BitVec 32 := 0#32
  ![v8066.toNat, 0, 0]

def k0_chk2046 (v8066 : BitVec 32) : Prop :=
  (∀ a, (k0_off2046 v8066) a + S1x16x128.size a ≤ S16384x16x128.size a)
theorem k0_off2046_inb : ∀ (v8066 : BitVec 32) (k0_hw2046 : k0_chk2046 v8066), ∀ a, (k0_off2046 v8066) a + S1x16x128.size a ≤ S16384x16x128.size a := fun v8066 k0_hw2046 => k0_hw2046

def k0_off2047 (v8072 : BitVec 32) : Fin 3 → Nat :=
  let c0_i32_6757 : BitVec 32 := 0#32
  let c0_i32_6758 : BitVec 32 := 0#32
  ![v8072.toNat, 0, 0]

def k0_chk2047 (v8072 : BitVec 32) : Prop :=
  (∀ a, (k0_off2047 v8072) a + S1x16x128.size a ≤ S16384x16x128.size a)
theorem k0_off2047_inb : ∀ (v8072 : BitVec 32) (k0_hw2047 : k0_chk2047 v8072), ∀ a, (k0_off2047 v8072) a + S1x16x128.size a ≤ S16384x16x128.size a := fun v8072 k0_hw2047 => k0_hw2047

def k0_off2048 (v8078 : BitVec 32) : Fin 3 → Nat :=
  let c0_i32_6763 : BitVec 32 := 0#32
  let c0_i32_6764 : BitVec 32 := 0#32
  ![v8078.toNat, 0, 0]

def k0_chk2048 (v8078 : BitVec 32) : Prop :=
  (∀ a, (k0_off2048 v8078) a + S1x16x128.size a ≤ S16384x16x128.size a)
theorem k0_off2048_inb : ∀ (v8078 : BitVec 32) (k0_hw2048 : k0_chk2048 v8078), ∀ a, (k0_off2048 v8078) a + S1x16x128.size a ≤ S16384x16x128.size a := fun v8078 k0_hw2048 => k0_hw2048

def k0_off2049 (v8365 : BitVec 32) : Fin 3 → Nat :=
  let c0_i32_6881 : BitVec 32 := 0#32
  let c0_i32_6882 : BitVec 32 := 0#32
  ![v8365.toNat, 0, 0]

def k0_chk2049 (v8365 : BitVec 32) : Prop :=
  (∀ a, (k0_off2049 v8365) a + S1x16x128.size a ≤ S16384x16x128.size a)
theorem k0_off2049_inb : ∀ (v8365 : BitVec 32) (k0_hw2049 : k0_chk2049 v8365), ∀ a, (k0_off2049 v8365) a + S1x16x128.size a ≤ S16384x16x128.size a := fun v8365 k0_hw2049 => k0_hw2049

def k0_off2050 (v8371 : BitVec 32) : Fin 3 → Nat :=
  let c0_i32_6888 : BitVec 32 := 0#32
  let c0_i32_6889 : BitVec 32 := 0#32
  ![v8371.toNat, 0, 0]

def k0_chk2050 (v8371 : BitVec 32) : Prop :=
  (∀ a, (k0_off2050 v8371) a + S1x16x128.size a ≤ S16384x16x128.size a)
theorem k0_off2050_inb : ∀ (v8371 : BitVec 32) (k0_hw2050 : k0_chk2050 v8371), ∀ a, (k0_off2050 v8371) a + S1x16x128.size a ≤ S16384x16x128.size a := fun v8371 k0_hw2050 => k0_hw2050

def k0_off2051 (v8377 : BitVec 32) : Fin 3 → Nat :=
  let c0_i32_6895 : BitVec 32 := 0#32
  let c0_i32_6896 : BitVec 32 := 0#32
  ![v8377.toNat, 0, 0]

def k0_chk2051 (v8377 : BitVec 32) : Prop :=
  (∀ a, (k0_off2051 v8377) a + S1x16x128.size a ≤ S16384x16x128.size a)
theorem k0_off2051_inb : ∀ (v8377 : BitVec 32) (k0_hw2051 : k0_chk2051 v8377), ∀ a, (k0_off2051 v8377) a + S1x16x128.size a ≤ S16384x16x128.size a := fun v8377 k0_hw2051 => k0_hw2051

def k0_off2052 (v8383 : BitVec 32) : Fin 3 → Nat :=
  let c0_i32_6902 : BitVec 32 := 0#32
  let c0_i32_6903 : BitVec 32 := 0#32
  ![v8383.toNat, 0, 0]

def k0_chk2052 (v8383 : BitVec 32) : Prop :=
  (∀ a, (k0_off2052 v8383) a + S1x16x128.size a ≤ S16384x16x128.size a)
theorem k0_off2052_inb : ∀ (v8383 : BitVec 32) (k0_hw2052 : k0_chk2052 v8383), ∀ a, (k0_off2052 v8383) a + S1x16x128.size a ≤ S16384x16x128.size a := fun v8383 k0_hw2052 => k0_hw2052

def k0_off2053 (v8389 : BitVec 32) : Fin 3 → Nat :=
  let c0_i32_6909 : BitVec 32 := 0#32
  let c0_i32_6910 : BitVec 32 := 0#32
  ![v8389.toNat, 0, 0]

def k0_chk2053 (v8389 : BitVec 32) : Prop :=
  (∀ a, (k0_off2053 v8389) a + S1x16x128.size a ≤ S16384x16x128.size a)
theorem k0_off2053_inb : ∀ (v8389 : BitVec 32) (k0_hw2053 : k0_chk2053 v8389), ∀ a, (k0_off2053 v8389) a + S1x16x128.size a ≤ S16384x16x128.size a := fun v8389 k0_hw2053 => k0_hw2053

def k0_off2054 (v8395 : BitVec 32) : Fin 3 → Nat :=
  let c0_i32_6916 : BitVec 32 := 0#32
  let c0_i32_6917 : BitVec 32 := 0#32
  ![v8395.toNat, 0, 0]

def k0_chk2054 (v8395 : BitVec 32) : Prop :=
  (∀ a, (k0_off2054 v8395) a + S1x16x128.size a ≤ S16384x16x128.size a)
theorem k0_off2054_inb : ∀ (v8395 : BitVec 32) (k0_hw2054 : k0_chk2054 v8395), ∀ a, (k0_off2054 v8395) a + S1x16x128.size a ≤ S16384x16x128.size a := fun v8395 k0_hw2054 => k0_hw2054

def k0_off2055 (v8401 : BitVec 32) : Fin 3 → Nat :=
  let c0_i32_6923 : BitVec 32 := 0#32
  let c0_i32_6924 : BitVec 32 := 0#32
  ![v8401.toNat, 0, 0]

def k0_chk2055 (v8401 : BitVec 32) : Prop :=
  (∀ a, (k0_off2055 v8401) a + S1x16x128.size a ≤ S16384x16x128.size a)
theorem k0_off2055_inb : ∀ (v8401 : BitVec 32) (k0_hw2055 : k0_chk2055 v8401), ∀ a, (k0_off2055 v8401) a + S1x16x128.size a ≤ S16384x16x128.size a := fun v8401 k0_hw2055 => k0_hw2055

def k0_off2056 (v8407 : BitVec 32) : Fin 3 → Nat :=
  let c0_i32_6930 : BitVec 32 := 0#32
  let c0_i32_6931 : BitVec 32 := 0#32
  ![v8407.toNat, 0, 0]

def k0_chk2056 (v8407 : BitVec 32) : Prop :=
  (∀ a, (k0_off2056 v8407) a + S1x16x128.size a ≤ S16384x16x128.size a)
theorem k0_off2056_inb : ∀ (v8407 : BitVec 32) (k0_hw2056 : k0_chk2056 v8407), ∀ a, (k0_off2056 v8407) a + S1x16x128.size a ≤ S16384x16x128.size a := fun v8407 k0_hw2056 => k0_hw2056

def k0_off2057 (v8413 : BitVec 32) : Fin 3 → Nat :=
  let c0_i32_6937 : BitVec 32 := 0#32
  let c0_i32_6938 : BitVec 32 := 0#32
  ![v8413.toNat, 0, 0]

def k0_chk2057 (v8413 : BitVec 32) : Prop :=
  (∀ a, (k0_off2057 v8413) a + S1x16x128.size a ≤ S16384x16x128.size a)
theorem k0_off2057_inb : ∀ (v8413 : BitVec 32) (k0_hw2057 : k0_chk2057 v8413), ∀ a, (k0_off2057 v8413) a + S1x16x128.size a ≤ S16384x16x128.size a := fun v8413 k0_hw2057 => k0_hw2057

def k0_off2058 (v8419 : BitVec 32) : Fin 3 → Nat :=
  let c0_i32_6944 : BitVec 32 := 0#32
  let c0_i32_6945 : BitVec 32 := 0#32
  ![v8419.toNat, 0, 0]

def k0_chk2058 (v8419 : BitVec 32) : Prop :=
  (∀ a, (k0_off2058 v8419) a + S1x16x128.size a ≤ S16384x16x128.size a)
theorem k0_off2058_inb : ∀ (v8419 : BitVec 32) (k0_hw2058 : k0_chk2058 v8419), ∀ a, (k0_off2058 v8419) a + S1x16x128.size a ≤ S16384x16x128.size a := fun v8419 k0_hw2058 => k0_hw2058

def k0_off2059 (v8425 : BitVec 32) : Fin 3 → Nat :=
  let c0_i32_6951 : BitVec 32 := 0#32
  let c0_i32_6952 : BitVec 32 := 0#32
  ![v8425.toNat, 0, 0]

def k0_chk2059 (v8425 : BitVec 32) : Prop :=
  (∀ a, (k0_off2059 v8425) a + S1x16x128.size a ≤ S16384x16x128.size a)
theorem k0_off2059_inb : ∀ (v8425 : BitVec 32) (k0_hw2059 : k0_chk2059 v8425), ∀ a, (k0_off2059 v8425) a + S1x16x128.size a ≤ S16384x16x128.size a := fun v8425 k0_hw2059 => k0_hw2059

def k0_off2060 (v8431 : BitVec 32) : Fin 3 → Nat :=
  let c0_i32_6958 : BitVec 32 := 0#32
  let c0_i32_6959 : BitVec 32 := 0#32
  ![v8431.toNat, 0, 0]

def k0_chk2060 (v8431 : BitVec 32) : Prop :=
  (∀ a, (k0_off2060 v8431) a + S1x16x128.size a ≤ S16384x16x128.size a)
theorem k0_off2060_inb : ∀ (v8431 : BitVec 32) (k0_hw2060 : k0_chk2060 v8431), ∀ a, (k0_off2060 v8431) a + S1x16x128.size a ≤ S16384x16x128.size a := fun v8431 k0_hw2060 => k0_hw2060

def k0_off2061 (v8437 : BitVec 32) : Fin 3 → Nat :=
  let c0_i32_6965 : BitVec 32 := 0#32
  let c0_i32_6966 : BitVec 32 := 0#32
  ![v8437.toNat, 0, 0]

def k0_chk2061 (v8437 : BitVec 32) : Prop :=
  (∀ a, (k0_off2061 v8437) a + S1x16x128.size a ≤ S16384x16x128.size a)
theorem k0_off2061_inb : ∀ (v8437 : BitVec 32) (k0_hw2061 : k0_chk2061 v8437), ∀ a, (k0_off2061 v8437) a + S1x16x128.size a ≤ S16384x16x128.size a := fun v8437 k0_hw2061 => k0_hw2061

def k0_off2062 (v8443 : BitVec 32) : Fin 3 → Nat :=
  let c0_i32_6972 : BitVec 32 := 0#32
  let c0_i32_6973 : BitVec 32 := 0#32
  ![v8443.toNat, 0, 0]

def k0_chk2062 (v8443 : BitVec 32) : Prop :=
  (∀ a, (k0_off2062 v8443) a + S1x16x128.size a ≤ S16384x16x128.size a)
theorem k0_off2062_inb : ∀ (v8443 : BitVec 32) (k0_hw2062 : k0_chk2062 v8443), ∀ a, (k0_off2062 v8443) a + S1x16x128.size a ≤ S16384x16x128.size a := fun v8443 k0_hw2062 => k0_hw2062

def k0_off2063 (v8449 : BitVec 32) : Fin 3 → Nat :=
  let c0_i32_6979 : BitVec 32 := 0#32
  let c0_i32_6980 : BitVec 32 := 0#32
  ![v8449.toNat, 0, 0]

def k0_chk2063 (v8449 : BitVec 32) : Prop :=
  (∀ a, (k0_off2063 v8449) a + S1x16x128.size a ≤ S16384x16x128.size a)
theorem k0_off2063_inb : ∀ (v8449 : BitVec 32) (k0_hw2063 : k0_chk2063 v8449), ∀ a, (k0_off2063 v8449) a + S1x16x128.size a ≤ S16384x16x128.size a := fun v8449 k0_hw2063 => k0_hw2063

def k0_off2064 (v8455 : BitVec 32) : Fin 3 → Nat :=
  let c0_i32_6986 : BitVec 32 := 0#32
  let c0_i32_6987 : BitVec 32 := 0#32
  ![v8455.toNat, 0, 0]

def k0_chk2064 (v8455 : BitVec 32) : Prop :=
  (∀ a, (k0_off2064 v8455) a + S1x16x128.size a ≤ S16384x16x128.size a)
theorem k0_off2064_inb : ∀ (v8455 : BitVec 32) (k0_hw2064 : k0_chk2064 v8455), ∀ a, (k0_off2064 v8455) a + S1x16x128.size a ≤ S16384x16x128.size a := fun v8455 k0_hw2064 => k0_hw2064

def k0_off2065 (v8461 : BitVec 32) : Fin 3 → Nat :=
  let c0_i32_6993 : BitVec 32 := 0#32
  let c0_i32_6994 : BitVec 32 := 0#32
  ![v8461.toNat, 0, 0]

def k0_chk2065 (v8461 : BitVec 32) : Prop :=
  (∀ a, (k0_off2065 v8461) a + S1x16x128.size a ≤ S16384x16x128.size a)
theorem k0_off2065_inb : ∀ (v8461 : BitVec 32) (k0_hw2065 : k0_chk2065 v8461), ∀ a, (k0_off2065 v8461) a + S1x16x128.size a ≤ S16384x16x128.size a := fun v8461 k0_hw2065 => k0_hw2065

def k0_off2066 (v8467 : BitVec 32) : Fin 3 → Nat :=
  let c0_i32_7000 : BitVec 32 := 0#32
  let c0_i32_7001 : BitVec 32 := 0#32
  ![v8467.toNat, 0, 0]

def k0_chk2066 (v8467 : BitVec 32) : Prop :=
  (∀ a, (k0_off2066 v8467) a + S1x16x128.size a ≤ S16384x16x128.size a)
theorem k0_off2066_inb : ∀ (v8467 : BitVec 32) (k0_hw2066 : k0_chk2066 v8467), ∀ a, (k0_off2066 v8467) a + S1x16x128.size a ≤ S16384x16x128.size a := fun v8467 k0_hw2066 => k0_hw2066

def k0_off2067 (v8473 : BitVec 32) : Fin 3 → Nat :=
  let c0_i32_7007 : BitVec 32 := 0#32
  let c0_i32_7008 : BitVec 32 := 0#32
  ![v8473.toNat, 0, 0]

def k0_chk2067 (v8473 : BitVec 32) : Prop :=
  (∀ a, (k0_off2067 v8473) a + S1x16x128.size a ≤ S16384x16x128.size a)
theorem k0_off2067_inb : ∀ (v8473 : BitVec 32) (k0_hw2067 : k0_chk2067 v8473), ∀ a, (k0_off2067 v8473) a + S1x16x128.size a ≤ S16384x16x128.size a := fun v8473 k0_hw2067 => k0_hw2067

def k0_off2068 (v8479 : BitVec 32) : Fin 3 → Nat :=
  let c0_i32_7014 : BitVec 32 := 0#32
  let c0_i32_7015 : BitVec 32 := 0#32
  ![v8479.toNat, 0, 0]

def k0_chk2068 (v8479 : BitVec 32) : Prop :=
  (∀ a, (k0_off2068 v8479) a + S1x16x128.size a ≤ S16384x16x128.size a)
theorem k0_off2068_inb : ∀ (v8479 : BitVec 32) (k0_hw2068 : k0_chk2068 v8479), ∀ a, (k0_off2068 v8479) a + S1x16x128.size a ≤ S16384x16x128.size a := fun v8479 k0_hw2068 => k0_hw2068

def k0_off2069 (v8485 : BitVec 32) : Fin 3 → Nat :=
  let c0_i32_7021 : BitVec 32 := 0#32
  let c0_i32_7022 : BitVec 32 := 0#32
  ![v8485.toNat, 0, 0]

def k0_chk2069 (v8485 : BitVec 32) : Prop :=
  (∀ a, (k0_off2069 v8485) a + S1x16x128.size a ≤ S16384x16x128.size a)
theorem k0_off2069_inb : ∀ (v8485 : BitVec 32) (k0_hw2069 : k0_chk2069 v8485), ∀ a, (k0_off2069 v8485) a + S1x16x128.size a ≤ S16384x16x128.size a := fun v8485 k0_hw2069 => k0_hw2069

def k0_off2070 (v8491 : BitVec 32) : Fin 3 → Nat :=
  let c0_i32_7028 : BitVec 32 := 0#32
  let c0_i32_7029 : BitVec 32 := 0#32
  ![v8491.toNat, 0, 0]

def k0_chk2070 (v8491 : BitVec 32) : Prop :=
  (∀ a, (k0_off2070 v8491) a + S1x16x128.size a ≤ S16384x16x128.size a)
theorem k0_off2070_inb : ∀ (v8491 : BitVec 32) (k0_hw2070 : k0_chk2070 v8491), ∀ a, (k0_off2070 v8491) a + S1x16x128.size a ≤ S16384x16x128.size a := fun v8491 k0_hw2070 => k0_hw2070

def k0_off2071 (v8497 : BitVec 32) : Fin 3 → Nat :=
  let c0_i32_7035 : BitVec 32 := 0#32
  let c0_i32_7036 : BitVec 32 := 0#32
  ![v8497.toNat, 0, 0]

def k0_chk2071 (v8497 : BitVec 32) : Prop :=
  (∀ a, (k0_off2071 v8497) a + S1x16x128.size a ≤ S16384x16x128.size a)
theorem k0_off2071_inb : ∀ (v8497 : BitVec 32) (k0_hw2071 : k0_chk2071 v8497), ∀ a, (k0_off2071 v8497) a + S1x16x128.size a ≤ S16384x16x128.size a := fun v8497 k0_hw2071 => k0_hw2071

def k0_off2072 (v8503 : BitVec 32) : Fin 3 → Nat :=
  let c0_i32_7042 : BitVec 32 := 0#32
  let c0_i32_7043 : BitVec 32 := 0#32
  ![v8503.toNat, 0, 0]

def k0_chk2072 (v8503 : BitVec 32) : Prop :=
  (∀ a, (k0_off2072 v8503) a + S1x16x128.size a ≤ S16384x16x128.size a)
theorem k0_off2072_inb : ∀ (v8503 : BitVec 32) (k0_hw2072 : k0_chk2072 v8503), ∀ a, (k0_off2072 v8503) a + S1x16x128.size a ≤ S16384x16x128.size a := fun v8503 k0_hw2072 => k0_hw2072

def k0_off2073 (v8509 : BitVec 32) : Fin 3 → Nat :=
  let c0_i32_7049 : BitVec 32 := 0#32
  let c0_i32_7050 : BitVec 32 := 0#32
  ![v8509.toNat, 0, 0]

def k0_chk2073 (v8509 : BitVec 32) : Prop :=
  (∀ a, (k0_off2073 v8509) a + S1x16x128.size a ≤ S16384x16x128.size a)
theorem k0_off2073_inb : ∀ (v8509 : BitVec 32) (k0_hw2073 : k0_chk2073 v8509), ∀ a, (k0_off2073 v8509) a + S1x16x128.size a ≤ S16384x16x128.size a := fun v8509 k0_hw2073 => k0_hw2073

def k0_off2074 (v8515 : BitVec 32) : Fin 3 → Nat :=
  let c0_i32_7056 : BitVec 32 := 0#32
  let c0_i32_7057 : BitVec 32 := 0#32
  ![v8515.toNat, 0, 0]

def k0_chk2074 (v8515 : BitVec 32) : Prop :=
  (∀ a, (k0_off2074 v8515) a + S1x16x128.size a ≤ S16384x16x128.size a)
theorem k0_off2074_inb : ∀ (v8515 : BitVec 32) (k0_hw2074 : k0_chk2074 v8515), ∀ a, (k0_off2074 v8515) a + S1x16x128.size a ≤ S16384x16x128.size a := fun v8515 k0_hw2074 => k0_hw2074

def k0_off2075 (v8521 : BitVec 32) : Fin 3 → Nat :=
  let c0_i32_7063 : BitVec 32 := 0#32
  let c0_i32_7064 : BitVec 32 := 0#32
  ![v8521.toNat, 0, 0]

def k0_chk2075 (v8521 : BitVec 32) : Prop :=
  (∀ a, (k0_off2075 v8521) a + S1x16x128.size a ≤ S16384x16x128.size a)
theorem k0_off2075_inb : ∀ (v8521 : BitVec 32) (k0_hw2075 : k0_chk2075 v8521), ∀ a, (k0_off2075 v8521) a + S1x16x128.size a ≤ S16384x16x128.size a := fun v8521 k0_hw2075 => k0_hw2075

def k0_off2076 (v8527 : BitVec 32) : Fin 3 → Nat :=
  let c0_i32_7070 : BitVec 32 := 0#32
  let c0_i32_7071 : BitVec 32 := 0#32
  ![v8527.toNat, 0, 0]

def k0_chk2076 (v8527 : BitVec 32) : Prop :=
  (∀ a, (k0_off2076 v8527) a + S1x16x128.size a ≤ S16384x16x128.size a)
theorem k0_off2076_inb : ∀ (v8527 : BitVec 32) (k0_hw2076 : k0_chk2076 v8527), ∀ a, (k0_off2076 v8527) a + S1x16x128.size a ≤ S16384x16x128.size a := fun v8527 k0_hw2076 => k0_hw2076

def k0_off2077 (v8533 : BitVec 32) : Fin 3 → Nat :=
  let c0_i32_7077 : BitVec 32 := 0#32
  let c0_i32_7078 : BitVec 32 := 0#32
  ![v8533.toNat, 0, 0]

def k0_chk2077 (v8533 : BitVec 32) : Prop :=
  (∀ a, (k0_off2077 v8533) a + S1x16x128.size a ≤ S16384x16x128.size a)
theorem k0_off2077_inb : ∀ (v8533 : BitVec 32) (k0_hw2077 : k0_chk2077 v8533), ∀ a, (k0_off2077 v8533) a + S1x16x128.size a ≤ S16384x16x128.size a := fun v8533 k0_hw2077 => k0_hw2077

def k0_off2078 (v8539 : BitVec 32) : Fin 3 → Nat :=
  let c0_i32_7084 : BitVec 32 := 0#32
  let c0_i32_7085 : BitVec 32 := 0#32
  ![v8539.toNat, 0, 0]

def k0_chk2078 (v8539 : BitVec 32) : Prop :=
  (∀ a, (k0_off2078 v8539) a + S1x16x128.size a ≤ S16384x16x128.size a)
theorem k0_off2078_inb : ∀ (v8539 : BitVec 32) (k0_hw2078 : k0_chk2078 v8539), ∀ a, (k0_off2078 v8539) a + S1x16x128.size a ≤ S16384x16x128.size a := fun v8539 k0_hw2078 => k0_hw2078

def k0_off2079 (v8545 : BitVec 32) : Fin 3 → Nat :=
  let c0_i32_7091 : BitVec 32 := 0#32
  let c0_i32_7092 : BitVec 32 := 0#32
  ![v8545.toNat, 0, 0]

def k0_chk2079 (v8545 : BitVec 32) : Prop :=
  (∀ a, (k0_off2079 v8545) a + S1x16x128.size a ≤ S16384x16x128.size a)
theorem k0_off2079_inb : ∀ (v8545 : BitVec 32) (k0_hw2079 : k0_chk2079 v8545), ∀ a, (k0_off2079 v8545) a + S1x16x128.size a ≤ S16384x16x128.size a := fun v8545 k0_hw2079 => k0_hw2079

def k0_off2080 (v8551 : BitVec 32) : Fin 3 → Nat :=
  let c0_i32_7098 : BitVec 32 := 0#32
  let c0_i32_7099 : BitVec 32 := 0#32
  ![v8551.toNat, 0, 0]

def k0_chk2080 (v8551 : BitVec 32) : Prop :=
  (∀ a, (k0_off2080 v8551) a + S1x16x128.size a ≤ S16384x16x128.size a)
theorem k0_off2080_inb : ∀ (v8551 : BitVec 32) (k0_hw2080 : k0_chk2080 v8551), ∀ a, (k0_off2080 v8551) a + S1x16x128.size a ≤ S16384x16x128.size a := fun v8551 k0_hw2080 => k0_hw2080

def k0_off2081 (v8557 : BitVec 32) : Fin 3 → Nat :=
  let c0_i32_7105 : BitVec 32 := 0#32
  let c0_i32_7106 : BitVec 32 := 0#32
  ![v8557.toNat, 0, 0]

def k0_chk2081 (v8557 : BitVec 32) : Prop :=
  (∀ a, (k0_off2081 v8557) a + S1x16x128.size a ≤ S16384x16x128.size a)
theorem k0_off2081_inb : ∀ (v8557 : BitVec 32) (k0_hw2081 : k0_chk2081 v8557), ∀ a, (k0_off2081 v8557) a + S1x16x128.size a ≤ S16384x16x128.size a := fun v8557 k0_hw2081 => k0_hw2081

def k0_off2082 (v8563 : BitVec 32) : Fin 3 → Nat :=
  let c0_i32_7112 : BitVec 32 := 0#32
  let c0_i32_7113 : BitVec 32 := 0#32
  ![v8563.toNat, 0, 0]

def k0_chk2082 (v8563 : BitVec 32) : Prop :=
  (∀ a, (k0_off2082 v8563) a + S1x16x128.size a ≤ S16384x16x128.size a)
theorem k0_off2082_inb : ∀ (v8563 : BitVec 32) (k0_hw2082 : k0_chk2082 v8563), ∀ a, (k0_off2082 v8563) a + S1x16x128.size a ≤ S16384x16x128.size a := fun v8563 k0_hw2082 => k0_hw2082

def k0_off2083 (v8569 : BitVec 32) : Fin 3 → Nat :=
  let c0_i32_7119 : BitVec 32 := 0#32
  let c0_i32_7120 : BitVec 32 := 0#32
  ![v8569.toNat, 0, 0]

def k0_chk2083 (v8569 : BitVec 32) : Prop :=
  (∀ a, (k0_off2083 v8569) a + S1x16x128.size a ≤ S16384x16x128.size a)
theorem k0_off2083_inb : ∀ (v8569 : BitVec 32) (k0_hw2083 : k0_chk2083 v8569), ∀ a, (k0_off2083 v8569) a + S1x16x128.size a ≤ S16384x16x128.size a := fun v8569 k0_hw2083 => k0_hw2083

def k0_off2084 (v8575 : BitVec 32) : Fin 3 → Nat :=
  let c0_i32_7126 : BitVec 32 := 0#32
  let c0_i32_7127 : BitVec 32 := 0#32
  ![v8575.toNat, 0, 0]

def k0_chk2084 (v8575 : BitVec 32) : Prop :=
  (∀ a, (k0_off2084 v8575) a + S1x16x128.size a ≤ S16384x16x128.size a)
theorem k0_off2084_inb : ∀ (v8575 : BitVec 32) (k0_hw2084 : k0_chk2084 v8575), ∀ a, (k0_off2084 v8575) a + S1x16x128.size a ≤ S16384x16x128.size a := fun v8575 k0_hw2084 => k0_hw2084

def k0_off2085 (v8581 : BitVec 32) : Fin 3 → Nat :=
  let c0_i32_7133 : BitVec 32 := 0#32
  let c0_i32_7134 : BitVec 32 := 0#32
  ![v8581.toNat, 0, 0]

def k0_chk2085 (v8581 : BitVec 32) : Prop :=
  (∀ a, (k0_off2085 v8581) a + S1x16x128.size a ≤ S16384x16x128.size a)
theorem k0_off2085_inb : ∀ (v8581 : BitVec 32) (k0_hw2085 : k0_chk2085 v8581), ∀ a, (k0_off2085 v8581) a + S1x16x128.size a ≤ S16384x16x128.size a := fun v8581 k0_hw2085 => k0_hw2085

def k0_off2086 (v8587 : BitVec 32) : Fin 3 → Nat :=
  let c0_i32_7140 : BitVec 32 := 0#32
  let c0_i32_7141 : BitVec 32 := 0#32
  ![v8587.toNat, 0, 0]

def k0_chk2086 (v8587 : BitVec 32) : Prop :=
  (∀ a, (k0_off2086 v8587) a + S1x16x128.size a ≤ S16384x16x128.size a)
theorem k0_off2086_inb : ∀ (v8587 : BitVec 32) (k0_hw2086 : k0_chk2086 v8587), ∀ a, (k0_off2086 v8587) a + S1x16x128.size a ≤ S16384x16x128.size a := fun v8587 k0_hw2086 => k0_hw2086

def k0_off2087 (v8593 : BitVec 32) : Fin 3 → Nat :=
  let c0_i32_7147 : BitVec 32 := 0#32
  let c0_i32_7148 : BitVec 32 := 0#32
  ![v8593.toNat, 0, 0]

def k0_chk2087 (v8593 : BitVec 32) : Prop :=
  (∀ a, (k0_off2087 v8593) a + S1x16x128.size a ≤ S16384x16x128.size a)
theorem k0_off2087_inb : ∀ (v8593 : BitVec 32) (k0_hw2087 : k0_chk2087 v8593), ∀ a, (k0_off2087 v8593) a + S1x16x128.size a ≤ S16384x16x128.size a := fun v8593 k0_hw2087 => k0_hw2087

def k0_off2088 (v8599 : BitVec 32) : Fin 3 → Nat :=
  let c0_i32_7154 : BitVec 32 := 0#32
  let c0_i32_7155 : BitVec 32 := 0#32
  ![v8599.toNat, 0, 0]

def k0_chk2088 (v8599 : BitVec 32) : Prop :=
  (∀ a, (k0_off2088 v8599) a + S1x16x128.size a ≤ S16384x16x128.size a)
theorem k0_off2088_inb : ∀ (v8599 : BitVec 32) (k0_hw2088 : k0_chk2088 v8599), ∀ a, (k0_off2088 v8599) a + S1x16x128.size a ≤ S16384x16x128.size a := fun v8599 k0_hw2088 => k0_hw2088

def k0_off2089 (v8605 : BitVec 32) : Fin 3 → Nat :=
  let c0_i32_7161 : BitVec 32 := 0#32
  let c0_i32_7162 : BitVec 32 := 0#32
  ![v8605.toNat, 0, 0]

def k0_chk2089 (v8605 : BitVec 32) : Prop :=
  (∀ a, (k0_off2089 v8605) a + S1x16x128.size a ≤ S16384x16x128.size a)
theorem k0_off2089_inb : ∀ (v8605 : BitVec 32) (k0_hw2089 : k0_chk2089 v8605), ∀ a, (k0_off2089 v8605) a + S1x16x128.size a ≤ S16384x16x128.size a := fun v8605 k0_hw2089 => k0_hw2089

def k0_off2090 (v8611 : BitVec 32) : Fin 3 → Nat :=
  let c0_i32_7168 : BitVec 32 := 0#32
  let c0_i32_7169 : BitVec 32 := 0#32
  ![v8611.toNat, 0, 0]

def k0_chk2090 (v8611 : BitVec 32) : Prop :=
  (∀ a, (k0_off2090 v8611) a + S1x16x128.size a ≤ S16384x16x128.size a)
theorem k0_off2090_inb : ∀ (v8611 : BitVec 32) (k0_hw2090 : k0_chk2090 v8611), ∀ a, (k0_off2090 v8611) a + S1x16x128.size a ≤ S16384x16x128.size a := fun v8611 k0_hw2090 => k0_hw2090

def k0_off2091 (v8617 : BitVec 32) : Fin 3 → Nat :=
  let c0_i32_7175 : BitVec 32 := 0#32
  let c0_i32_7176 : BitVec 32 := 0#32
  ![v8617.toNat, 0, 0]

def k0_chk2091 (v8617 : BitVec 32) : Prop :=
  (∀ a, (k0_off2091 v8617) a + S1x16x128.size a ≤ S16384x16x128.size a)
theorem k0_off2091_inb : ∀ (v8617 : BitVec 32) (k0_hw2091 : k0_chk2091 v8617), ∀ a, (k0_off2091 v8617) a + S1x16x128.size a ≤ S16384x16x128.size a := fun v8617 k0_hw2091 => k0_hw2091

def k0_off2092 (v8623 : BitVec 32) : Fin 3 → Nat :=
  let c0_i32_7182 : BitVec 32 := 0#32
  let c0_i32_7183 : BitVec 32 := 0#32
  ![v8623.toNat, 0, 0]

def k0_chk2092 (v8623 : BitVec 32) : Prop :=
  (∀ a, (k0_off2092 v8623) a + S1x16x128.size a ≤ S16384x16x128.size a)
theorem k0_off2092_inb : ∀ (v8623 : BitVec 32) (k0_hw2092 : k0_chk2092 v8623), ∀ a, (k0_off2092 v8623) a + S1x16x128.size a ≤ S16384x16x128.size a := fun v8623 k0_hw2092 => k0_hw2092

def k0_off2093 (v8629 : BitVec 32) : Fin 3 → Nat :=
  let c0_i32_7189 : BitVec 32 := 0#32
  let c0_i32_7190 : BitVec 32 := 0#32
  ![v8629.toNat, 0, 0]

def k0_chk2093 (v8629 : BitVec 32) : Prop :=
  (∀ a, (k0_off2093 v8629) a + S1x16x128.size a ≤ S16384x16x128.size a)
theorem k0_off2093_inb : ∀ (v8629 : BitVec 32) (k0_hw2093 : k0_chk2093 v8629), ∀ a, (k0_off2093 v8629) a + S1x16x128.size a ≤ S16384x16x128.size a := fun v8629 k0_hw2093 => k0_hw2093

def k0_off2094 (v8635 : BitVec 32) : Fin 3 → Nat :=
  let c0_i32_7196 : BitVec 32 := 0#32
  let c0_i32_7197 : BitVec 32 := 0#32
  ![v8635.toNat, 0, 0]

def k0_chk2094 (v8635 : BitVec 32) : Prop :=
  (∀ a, (k0_off2094 v8635) a + S1x16x128.size a ≤ S16384x16x128.size a)
theorem k0_off2094_inb : ∀ (v8635 : BitVec 32) (k0_hw2094 : k0_chk2094 v8635), ∀ a, (k0_off2094 v8635) a + S1x16x128.size a ≤ S16384x16x128.size a := fun v8635 k0_hw2094 => k0_hw2094

def k0_off2095 (v8641 : BitVec 32) : Fin 3 → Nat :=
  let c0_i32_7203 : BitVec 32 := 0#32
  let c0_i32_7204 : BitVec 32 := 0#32
  ![v8641.toNat, 0, 0]

def k0_chk2095 (v8641 : BitVec 32) : Prop :=
  (∀ a, (k0_off2095 v8641) a + S1x16x128.size a ≤ S16384x16x128.size a)
theorem k0_off2095_inb : ∀ (v8641 : BitVec 32) (k0_hw2095 : k0_chk2095 v8641), ∀ a, (k0_off2095 v8641) a + S1x16x128.size a ≤ S16384x16x128.size a := fun v8641 k0_hw2095 => k0_hw2095

def k0_off2096 (v8647 : BitVec 32) : Fin 3 → Nat :=
  let c0_i32_7210 : BitVec 32 := 0#32
  let c0_i32_7211 : BitVec 32 := 0#32
  ![v8647.toNat, 0, 0]

def k0_chk2096 (v8647 : BitVec 32) : Prop :=
  (∀ a, (k0_off2096 v8647) a + S1x16x128.size a ≤ S16384x16x128.size a)
theorem k0_off2096_inb : ∀ (v8647 : BitVec 32) (k0_hw2096 : k0_chk2096 v8647), ∀ a, (k0_off2096 v8647) a + S1x16x128.size a ≤ S16384x16x128.size a := fun v8647 k0_hw2096 => k0_hw2096

def k0_off2097 (v8653 : BitVec 32) : Fin 3 → Nat :=
  let c0_i32_7217 : BitVec 32 := 0#32
  let c0_i32_7218 : BitVec 32 := 0#32
  ![v8653.toNat, 0, 0]

def k0_chk2097 (v8653 : BitVec 32) : Prop :=
  (∀ a, (k0_off2097 v8653) a + S1x16x128.size a ≤ S16384x16x128.size a)
theorem k0_off2097_inb : ∀ (v8653 : BitVec 32) (k0_hw2097 : k0_chk2097 v8653), ∀ a, (k0_off2097 v8653) a + S1x16x128.size a ≤ S16384x16x128.size a := fun v8653 k0_hw2097 => k0_hw2097

def k0_off2098 (v8659 : BitVec 32) : Fin 3 → Nat :=
  let c0_i32_7224 : BitVec 32 := 0#32
  let c0_i32_7225 : BitVec 32 := 0#32
  ![v8659.toNat, 0, 0]

def k0_chk2098 (v8659 : BitVec 32) : Prop :=
  (∀ a, (k0_off2098 v8659) a + S1x16x128.size a ≤ S16384x16x128.size a)
theorem k0_off2098_inb : ∀ (v8659 : BitVec 32) (k0_hw2098 : k0_chk2098 v8659), ∀ a, (k0_off2098 v8659) a + S1x16x128.size a ≤ S16384x16x128.size a := fun v8659 k0_hw2098 => k0_hw2098

def k0_off2099 (v8665 : BitVec 32) : Fin 3 → Nat :=
  let c0_i32_7231 : BitVec 32 := 0#32
  let c0_i32_7232 : BitVec 32 := 0#32
  ![v8665.toNat, 0, 0]

def k0_chk2099 (v8665 : BitVec 32) : Prop :=
  (∀ a, (k0_off2099 v8665) a + S1x16x128.size a ≤ S16384x16x128.size a)
theorem k0_off2099_inb : ∀ (v8665 : BitVec 32) (k0_hw2099 : k0_chk2099 v8665), ∀ a, (k0_off2099 v8665) a + S1x16x128.size a ≤ S16384x16x128.size a := fun v8665 k0_hw2099 => k0_hw2099

def k0_off2100 (v8671 : BitVec 32) : Fin 3 → Nat :=
  let c0_i32_7238 : BitVec 32 := 0#32
  let c0_i32_7239 : BitVec 32 := 0#32
  ![v8671.toNat, 0, 0]

def k0_chk2100 (v8671 : BitVec 32) : Prop :=
  (∀ a, (k0_off2100 v8671) a + S1x16x128.size a ≤ S16384x16x128.size a)
theorem k0_off2100_inb : ∀ (v8671 : BitVec 32) (k0_hw2100 : k0_chk2100 v8671), ∀ a, (k0_off2100 v8671) a + S1x16x128.size a ≤ S16384x16x128.size a := fun v8671 k0_hw2100 => k0_hw2100

def k0_off2101 (v8677 : BitVec 32) : Fin 3 → Nat :=
  let c0_i32_7245 : BitVec 32 := 0#32
  let c0_i32_7246 : BitVec 32 := 0#32
  ![v8677.toNat, 0, 0]

def k0_chk2101 (v8677 : BitVec 32) : Prop :=
  (∀ a, (k0_off2101 v8677) a + S1x16x128.size a ≤ S16384x16x128.size a)
theorem k0_off2101_inb : ∀ (v8677 : BitVec 32) (k0_hw2101 : k0_chk2101 v8677), ∀ a, (k0_off2101 v8677) a + S1x16x128.size a ≤ S16384x16x128.size a := fun v8677 k0_hw2101 => k0_hw2101

def k0_off2102 (v8683 : BitVec 32) : Fin 3 → Nat :=
  let c0_i32_7252 : BitVec 32 := 0#32
  let c0_i32_7253 : BitVec 32 := 0#32
  ![v8683.toNat, 0, 0]

def k0_chk2102 (v8683 : BitVec 32) : Prop :=
  (∀ a, (k0_off2102 v8683) a + S1x16x128.size a ≤ S16384x16x128.size a)
theorem k0_off2102_inb : ∀ (v8683 : BitVec 32) (k0_hw2102 : k0_chk2102 v8683), ∀ a, (k0_off2102 v8683) a + S1x16x128.size a ≤ S16384x16x128.size a := fun v8683 k0_hw2102 => k0_hw2102

def k0_off2103 (v8689 : BitVec 32) : Fin 3 → Nat :=
  let c0_i32_7259 : BitVec 32 := 0#32
  let c0_i32_7260 : BitVec 32 := 0#32
  ![v8689.toNat, 0, 0]

def k0_chk2103 (v8689 : BitVec 32) : Prop :=
  (∀ a, (k0_off2103 v8689) a + S1x16x128.size a ≤ S16384x16x128.size a)
theorem k0_off2103_inb : ∀ (v8689 : BitVec 32) (k0_hw2103 : k0_chk2103 v8689), ∀ a, (k0_off2103 v8689) a + S1x16x128.size a ≤ S16384x16x128.size a := fun v8689 k0_hw2103 => k0_hw2103

def k0_off2104 (v8695 : BitVec 32) : Fin 3 → Nat :=
  let c0_i32_7266 : BitVec 32 := 0#32
  let c0_i32_7267 : BitVec 32 := 0#32
  ![v8695.toNat, 0, 0]

def k0_chk2104 (v8695 : BitVec 32) : Prop :=
  (∀ a, (k0_off2104 v8695) a + S1x16x128.size a ≤ S16384x16x128.size a)
theorem k0_off2104_inb : ∀ (v8695 : BitVec 32) (k0_hw2104 : k0_chk2104 v8695), ∀ a, (k0_off2104 v8695) a + S1x16x128.size a ≤ S16384x16x128.size a := fun v8695 k0_hw2104 => k0_hw2104

def k0_off2105 (v8701 : BitVec 32) : Fin 3 → Nat :=
  let c0_i32_7273 : BitVec 32 := 0#32
  let c0_i32_7274 : BitVec 32 := 0#32
  ![v8701.toNat, 0, 0]

def k0_chk2105 (v8701 : BitVec 32) : Prop :=
  (∀ a, (k0_off2105 v8701) a + S1x16x128.size a ≤ S16384x16x128.size a)
theorem k0_off2105_inb : ∀ (v8701 : BitVec 32) (k0_hw2105 : k0_chk2105 v8701), ∀ a, (k0_off2105 v8701) a + S1x16x128.size a ≤ S16384x16x128.size a := fun v8701 k0_hw2105 => k0_hw2105

def k0_off2106 (v8707 : BitVec 32) : Fin 3 → Nat :=
  let c0_i32_7280 : BitVec 32 := 0#32
  let c0_i32_7281 : BitVec 32 := 0#32
  ![v8707.toNat, 0, 0]

def k0_chk2106 (v8707 : BitVec 32) : Prop :=
  (∀ a, (k0_off2106 v8707) a + S1x16x128.size a ≤ S16384x16x128.size a)
theorem k0_off2106_inb : ∀ (v8707 : BitVec 32) (k0_hw2106 : k0_chk2106 v8707), ∀ a, (k0_off2106 v8707) a + S1x16x128.size a ≤ S16384x16x128.size a := fun v8707 k0_hw2106 => k0_hw2106

def k0_off2107 (v8713 : BitVec 32) : Fin 3 → Nat :=
  let c0_i32_7287 : BitVec 32 := 0#32
  let c0_i32_7288 : BitVec 32 := 0#32
  ![v8713.toNat, 0, 0]

def k0_chk2107 (v8713 : BitVec 32) : Prop :=
  (∀ a, (k0_off2107 v8713) a + S1x16x128.size a ≤ S16384x16x128.size a)
theorem k0_off2107_inb : ∀ (v8713 : BitVec 32) (k0_hw2107 : k0_chk2107 v8713), ∀ a, (k0_off2107 v8713) a + S1x16x128.size a ≤ S16384x16x128.size a := fun v8713 k0_hw2107 => k0_hw2107

def k0_off2108 (v8719 : BitVec 32) : Fin 3 → Nat :=
  let c0_i32_7294 : BitVec 32 := 0#32
  let c0_i32_7295 : BitVec 32 := 0#32
  ![v8719.toNat, 0, 0]

def k0_chk2108 (v8719 : BitVec 32) : Prop :=
  (∀ a, (k0_off2108 v8719) a + S1x16x128.size a ≤ S16384x16x128.size a)
theorem k0_off2108_inb : ∀ (v8719 : BitVec 32) (k0_hw2108 : k0_chk2108 v8719), ∀ a, (k0_off2108 v8719) a + S1x16x128.size a ≤ S16384x16x128.size a := fun v8719 k0_hw2108 => k0_hw2108

def k0_off2109 (v8725 : BitVec 32) : Fin 3 → Nat :=
  let c0_i32_7301 : BitVec 32 := 0#32
  let c0_i32_7302 : BitVec 32 := 0#32
  ![v8725.toNat, 0, 0]

def k0_chk2109 (v8725 : BitVec 32) : Prop :=
  (∀ a, (k0_off2109 v8725) a + S1x16x128.size a ≤ S16384x16x128.size a)
theorem k0_off2109_inb : ∀ (v8725 : BitVec 32) (k0_hw2109 : k0_chk2109 v8725), ∀ a, (k0_off2109 v8725) a + S1x16x128.size a ≤ S16384x16x128.size a := fun v8725 k0_hw2109 => k0_hw2109

def k0_off2110 (v8731 : BitVec 32) : Fin 3 → Nat :=
  let c0_i32_7308 : BitVec 32 := 0#32
  let c0_i32_7309 : BitVec 32 := 0#32
  ![v8731.toNat, 0, 0]

def k0_chk2110 (v8731 : BitVec 32) : Prop :=
  (∀ a, (k0_off2110 v8731) a + S1x16x128.size a ≤ S16384x16x128.size a)
theorem k0_off2110_inb : ∀ (v8731 : BitVec 32) (k0_hw2110 : k0_chk2110 v8731), ∀ a, (k0_off2110 v8731) a + S1x16x128.size a ≤ S16384x16x128.size a := fun v8731 k0_hw2110 => k0_hw2110

def k0_off2111 (v8737 : BitVec 32) : Fin 3 → Nat :=
  let c0_i32_7315 : BitVec 32 := 0#32
  let c0_i32_7316 : BitVec 32 := 0#32
  ![v8737.toNat, 0, 0]

def k0_chk2111 (v8737 : BitVec 32) : Prop :=
  (∀ a, (k0_off2111 v8737) a + S1x16x128.size a ≤ S16384x16x128.size a)
theorem k0_off2111_inb : ∀ (v8737 : BitVec 32) (k0_hw2111 : k0_chk2111 v8737), ∀ a, (k0_off2111 v8737) a + S1x16x128.size a ≤ S16384x16x128.size a := fun v8737 k0_hw2111 => k0_hw2111

def k0_off2112 (v8743 : BitVec 32) : Fin 3 → Nat :=
  let c0_i32_7322 : BitVec 32 := 0#32
  let c0_i32_7323 : BitVec 32 := 0#32
  ![v8743.toNat, 0, 0]

def k0_chk2112 (v8743 : BitVec 32) : Prop :=
  (∀ a, (k0_off2112 v8743) a + S1x16x128.size a ≤ S16384x16x128.size a)
theorem k0_off2112_inb : ∀ (v8743 : BitVec 32) (k0_hw2112 : k0_chk2112 v8743), ∀ a, (k0_off2112 v8743) a + S1x16x128.size a ≤ S16384x16x128.size a := fun v8743 k0_hw2112 => k0_hw2112

def k0_off2113 (v8749 : BitVec 32) : Fin 3 → Nat :=
  let c0_i32_7329 : BitVec 32 := 0#32
  let c0_i32_7330 : BitVec 32 := 0#32
  ![v8749.toNat, 0, 0]

def k0_chk2113 (v8749 : BitVec 32) : Prop :=
  (∀ a, (k0_off2113 v8749) a + S1x16x128.size a ≤ S16384x16x128.size a)
theorem k0_off2113_inb : ∀ (v8749 : BitVec 32) (k0_hw2113 : k0_chk2113 v8749), ∀ a, (k0_off2113 v8749) a + S1x16x128.size a ≤ S16384x16x128.size a := fun v8749 k0_hw2113 => k0_hw2113

def k0_off2114 (v8755 : BitVec 32) : Fin 3 → Nat :=
  let c0_i32_7336 : BitVec 32 := 0#32
  let c0_i32_7337 : BitVec 32 := 0#32
  ![v8755.toNat, 0, 0]

def k0_chk2114 (v8755 : BitVec 32) : Prop :=
  (∀ a, (k0_off2114 v8755) a + S1x16x128.size a ≤ S16384x16x128.size a)
theorem k0_off2114_inb : ∀ (v8755 : BitVec 32) (k0_hw2114 : k0_chk2114 v8755), ∀ a, (k0_off2114 v8755) a + S1x16x128.size a ≤ S16384x16x128.size a := fun v8755 k0_hw2114 => k0_hw2114

def k0_off2115 (v8761 : BitVec 32) : Fin 3 → Nat :=
  let c0_i32_7343 : BitVec 32 := 0#32
  let c0_i32_7344 : BitVec 32 := 0#32
  ![v8761.toNat, 0, 0]

def k0_chk2115 (v8761 : BitVec 32) : Prop :=
  (∀ a, (k0_off2115 v8761) a + S1x16x128.size a ≤ S16384x16x128.size a)
theorem k0_off2115_inb : ∀ (v8761 : BitVec 32) (k0_hw2115 : k0_chk2115 v8761), ∀ a, (k0_off2115 v8761) a + S1x16x128.size a ≤ S16384x16x128.size a := fun v8761 k0_hw2115 => k0_hw2115

def k0_off2116 (v8767 : BitVec 32) : Fin 3 → Nat :=
  let c0_i32_7350 : BitVec 32 := 0#32
  let c0_i32_7351 : BitVec 32 := 0#32
  ![v8767.toNat, 0, 0]

def k0_chk2116 (v8767 : BitVec 32) : Prop :=
  (∀ a, (k0_off2116 v8767) a + S1x16x128.size a ≤ S16384x16x128.size a)
theorem k0_off2116_inb : ∀ (v8767 : BitVec 32) (k0_hw2116 : k0_chk2116 v8767), ∀ a, (k0_off2116 v8767) a + S1x16x128.size a ≤ S16384x16x128.size a := fun v8767 k0_hw2116 => k0_hw2116

def k0_off2117 (v8773 : BitVec 32) : Fin 3 → Nat :=
  let c0_i32_7357 : BitVec 32 := 0#32
  let c0_i32_7358 : BitVec 32 := 0#32
  ![v8773.toNat, 0, 0]

def k0_chk2117 (v8773 : BitVec 32) : Prop :=
  (∀ a, (k0_off2117 v8773) a + S1x16x128.size a ≤ S16384x16x128.size a)
theorem k0_off2117_inb : ∀ (v8773 : BitVec 32) (k0_hw2117 : k0_chk2117 v8773), ∀ a, (k0_off2117 v8773) a + S1x16x128.size a ≤ S16384x16x128.size a := fun v8773 k0_hw2117 => k0_hw2117

def k0_off2118 (v8779 : BitVec 32) : Fin 3 → Nat :=
  let c0_i32_7364 : BitVec 32 := 0#32
  let c0_i32_7365 : BitVec 32 := 0#32
  ![v8779.toNat, 0, 0]

def k0_chk2118 (v8779 : BitVec 32) : Prop :=
  (∀ a, (k0_off2118 v8779) a + S1x16x128.size a ≤ S16384x16x128.size a)
theorem k0_off2118_inb : ∀ (v8779 : BitVec 32) (k0_hw2118 : k0_chk2118 v8779), ∀ a, (k0_off2118 v8779) a + S1x16x128.size a ≤ S16384x16x128.size a := fun v8779 k0_hw2118 => k0_hw2118

def k0_off2119 (v8785 : BitVec 32) : Fin 3 → Nat :=
  let c0_i32_7371 : BitVec 32 := 0#32
  let c0_i32_7372 : BitVec 32 := 0#32
  ![v8785.toNat, 0, 0]

def k0_chk2119 (v8785 : BitVec 32) : Prop :=
  (∀ a, (k0_off2119 v8785) a + S1x16x128.size a ≤ S16384x16x128.size a)
theorem k0_off2119_inb : ∀ (v8785 : BitVec 32) (k0_hw2119 : k0_chk2119 v8785), ∀ a, (k0_off2119 v8785) a + S1x16x128.size a ≤ S16384x16x128.size a := fun v8785 k0_hw2119 => k0_hw2119

def k0_off2120 (v8791 : BitVec 32) : Fin 3 → Nat :=
  let c0_i32_7378 : BitVec 32 := 0#32
  let c0_i32_7379 : BitVec 32 := 0#32
  ![v8791.toNat, 0, 0]

def k0_chk2120 (v8791 : BitVec 32) : Prop :=
  (∀ a, (k0_off2120 v8791) a + S1x16x128.size a ≤ S16384x16x128.size a)
theorem k0_off2120_inb : ∀ (v8791 : BitVec 32) (k0_hw2120 : k0_chk2120 v8791), ∀ a, (k0_off2120 v8791) a + S1x16x128.size a ≤ S16384x16x128.size a := fun v8791 k0_hw2120 => k0_hw2120

def k0_off2121 (v8797 : BitVec 32) : Fin 3 → Nat :=
  let c0_i32_7385 : BitVec 32 := 0#32
  let c0_i32_7386 : BitVec 32 := 0#32
  ![v8797.toNat, 0, 0]

def k0_chk2121 (v8797 : BitVec 32) : Prop :=
  (∀ a, (k0_off2121 v8797) a + S1x16x128.size a ≤ S16384x16x128.size a)
theorem k0_off2121_inb : ∀ (v8797 : BitVec 32) (k0_hw2121 : k0_chk2121 v8797), ∀ a, (k0_off2121 v8797) a + S1x16x128.size a ≤ S16384x16x128.size a := fun v8797 k0_hw2121 => k0_hw2121

def k0_off2122 (v8803 : BitVec 32) : Fin 3 → Nat :=
  let c0_i32_7392 : BitVec 32 := 0#32
  let c0_i32_7393 : BitVec 32 := 0#32
  ![v8803.toNat, 0, 0]

def k0_chk2122 (v8803 : BitVec 32) : Prop :=
  (∀ a, (k0_off2122 v8803) a + S1x16x128.size a ≤ S16384x16x128.size a)
theorem k0_off2122_inb : ∀ (v8803 : BitVec 32) (k0_hw2122 : k0_chk2122 v8803), ∀ a, (k0_off2122 v8803) a + S1x16x128.size a ≤ S16384x16x128.size a := fun v8803 k0_hw2122 => k0_hw2122

def k0_off2123 (v8809 : BitVec 32) : Fin 3 → Nat :=
  let c0_i32_7399 : BitVec 32 := 0#32
  let c0_i32_7400 : BitVec 32 := 0#32
  ![v8809.toNat, 0, 0]

def k0_chk2123 (v8809 : BitVec 32) : Prop :=
  (∀ a, (k0_off2123 v8809) a + S1x16x128.size a ≤ S16384x16x128.size a)
theorem k0_off2123_inb : ∀ (v8809 : BitVec 32) (k0_hw2123 : k0_chk2123 v8809), ∀ a, (k0_off2123 v8809) a + S1x16x128.size a ≤ S16384x16x128.size a := fun v8809 k0_hw2123 => k0_hw2123

def k0_off2124 (v8815 : BitVec 32) : Fin 3 → Nat :=
  let c0_i32_7406 : BitVec 32 := 0#32
  let c0_i32_7407 : BitVec 32 := 0#32
  ![v8815.toNat, 0, 0]

def k0_chk2124 (v8815 : BitVec 32) : Prop :=
  (∀ a, (k0_off2124 v8815) a + S1x16x128.size a ≤ S16384x16x128.size a)
theorem k0_off2124_inb : ∀ (v8815 : BitVec 32) (k0_hw2124 : k0_chk2124 v8815), ∀ a, (k0_off2124 v8815) a + S1x16x128.size a ≤ S16384x16x128.size a := fun v8815 k0_hw2124 => k0_hw2124

def k0_off2125 (v8821 : BitVec 32) : Fin 3 → Nat :=
  let c0_i32_7413 : BitVec 32 := 0#32
  let c0_i32_7414 : BitVec 32 := 0#32
  ![v8821.toNat, 0, 0]

def k0_chk2125 (v8821 : BitVec 32) : Prop :=
  (∀ a, (k0_off2125 v8821) a + S1x16x128.size a ≤ S16384x16x128.size a)
theorem k0_off2125_inb : ∀ (v8821 : BitVec 32) (k0_hw2125 : k0_chk2125 v8821), ∀ a, (k0_off2125 v8821) a + S1x16x128.size a ≤ S16384x16x128.size a := fun v8821 k0_hw2125 => k0_hw2125

def k0_off2126 (v8827 : BitVec 32) : Fin 3 → Nat :=
  let c0_i32_7420 : BitVec 32 := 0#32
  let c0_i32_7421 : BitVec 32 := 0#32
  ![v8827.toNat, 0, 0]

def k0_chk2126 (v8827 : BitVec 32) : Prop :=
  (∀ a, (k0_off2126 v8827) a + S1x16x128.size a ≤ S16384x16x128.size a)
theorem k0_off2126_inb : ∀ (v8827 : BitVec 32) (k0_hw2126 : k0_chk2126 v8827), ∀ a, (k0_off2126 v8827) a + S1x16x128.size a ≤ S16384x16x128.size a := fun v8827 k0_hw2126 => k0_hw2126

def k0_off2127 (v8833 : BitVec 32) : Fin 3 → Nat :=
  let c0_i32_7427 : BitVec 32 := 0#32
  let c0_i32_7428 : BitVec 32 := 0#32
  ![v8833.toNat, 0, 0]

def k0_chk2127 (v8833 : BitVec 32) : Prop :=
  (∀ a, (k0_off2127 v8833) a + S1x16x128.size a ≤ S16384x16x128.size a)
theorem k0_off2127_inb : ∀ (v8833 : BitVec 32) (k0_hw2127 : k0_chk2127 v8833), ∀ a, (k0_off2127 v8833) a + S1x16x128.size a ≤ S16384x16x128.size a := fun v8833 k0_hw2127 => k0_hw2127

def k0_off2128 (v8839 : BitVec 32) : Fin 3 → Nat :=
  let c0_i32_7434 : BitVec 32 := 0#32
  let c0_i32_7435 : BitVec 32 := 0#32
  ![v8839.toNat, 0, 0]

def k0_chk2128 (v8839 : BitVec 32) : Prop :=
  (∀ a, (k0_off2128 v8839) a + S1x16x128.size a ≤ S16384x16x128.size a)
theorem k0_off2128_inb : ∀ (v8839 : BitVec 32) (k0_hw2128 : k0_chk2128 v8839), ∀ a, (k0_off2128 v8839) a + S1x16x128.size a ≤ S16384x16x128.size a := fun v8839 k0_hw2128 => k0_hw2128

def k0_off2129 (v8845 : BitVec 32) : Fin 3 → Nat :=
  let c0_i32_7441 : BitVec 32 := 0#32
  let c0_i32_7442 : BitVec 32 := 0#32
  ![v8845.toNat, 0, 0]

def k0_chk2129 (v8845 : BitVec 32) : Prop :=
  (∀ a, (k0_off2129 v8845) a + S1x16x128.size a ≤ S16384x16x128.size a)
theorem k0_off2129_inb : ∀ (v8845 : BitVec 32) (k0_hw2129 : k0_chk2129 v8845), ∀ a, (k0_off2129 v8845) a + S1x16x128.size a ≤ S16384x16x128.size a := fun v8845 k0_hw2129 => k0_hw2129

def k0_off2130 (v8851 : BitVec 32) : Fin 3 → Nat :=
  let c0_i32_7448 : BitVec 32 := 0#32
  let c0_i32_7449 : BitVec 32 := 0#32
  ![v8851.toNat, 0, 0]

def k0_chk2130 (v8851 : BitVec 32) : Prop :=
  (∀ a, (k0_off2130 v8851) a + S1x16x128.size a ≤ S16384x16x128.size a)
theorem k0_off2130_inb : ∀ (v8851 : BitVec 32) (k0_hw2130 : k0_chk2130 v8851), ∀ a, (k0_off2130 v8851) a + S1x16x128.size a ≤ S16384x16x128.size a := fun v8851 k0_hw2130 => k0_hw2130

def k0_off2131 (v8857 : BitVec 32) : Fin 3 → Nat :=
  let c0_i32_7455 : BitVec 32 := 0#32
  let c0_i32_7456 : BitVec 32 := 0#32
  ![v8857.toNat, 0, 0]

def k0_chk2131 (v8857 : BitVec 32) : Prop :=
  (∀ a, (k0_off2131 v8857) a + S1x16x128.size a ≤ S16384x16x128.size a)
theorem k0_off2131_inb : ∀ (v8857 : BitVec 32) (k0_hw2131 : k0_chk2131 v8857), ∀ a, (k0_off2131 v8857) a + S1x16x128.size a ≤ S16384x16x128.size a := fun v8857 k0_hw2131 => k0_hw2131

def k0_off2132 (v8863 : BitVec 32) : Fin 3 → Nat :=
  let c0_i32_7462 : BitVec 32 := 0#32
  let c0_i32_7463 : BitVec 32 := 0#32
  ![v8863.toNat, 0, 0]

def k0_chk2132 (v8863 : BitVec 32) : Prop :=
  (∀ a, (k0_off2132 v8863) a + S1x16x128.size a ≤ S16384x16x128.size a)
theorem k0_off2132_inb : ∀ (v8863 : BitVec 32) (k0_hw2132 : k0_chk2132 v8863), ∀ a, (k0_off2132 v8863) a + S1x16x128.size a ≤ S16384x16x128.size a := fun v8863 k0_hw2132 => k0_hw2132

def k0_off2133 (v8869 : BitVec 32) : Fin 3 → Nat :=
  let c0_i32_7469 : BitVec 32 := 0#32
  let c0_i32_7470 : BitVec 32 := 0#32
  ![v8869.toNat, 0, 0]

def k0_chk2133 (v8869 : BitVec 32) : Prop :=
  (∀ a, (k0_off2133 v8869) a + S1x16x128.size a ≤ S16384x16x128.size a)
theorem k0_off2133_inb : ∀ (v8869 : BitVec 32) (k0_hw2133 : k0_chk2133 v8869), ∀ a, (k0_off2133 v8869) a + S1x16x128.size a ≤ S16384x16x128.size a := fun v8869 k0_hw2133 => k0_hw2133

def k0_off2134 (v8875 : BitVec 32) : Fin 3 → Nat :=
  let c0_i32_7476 : BitVec 32 := 0#32
  let c0_i32_7477 : BitVec 32 := 0#32
  ![v8875.toNat, 0, 0]

def k0_chk2134 (v8875 : BitVec 32) : Prop :=
  (∀ a, (k0_off2134 v8875) a + S1x16x128.size a ≤ S16384x16x128.size a)
theorem k0_off2134_inb : ∀ (v8875 : BitVec 32) (k0_hw2134 : k0_chk2134 v8875), ∀ a, (k0_off2134 v8875) a + S1x16x128.size a ≤ S16384x16x128.size a := fun v8875 k0_hw2134 => k0_hw2134

def k0_off2135 (v8881 : BitVec 32) : Fin 3 → Nat :=
  let c0_i32_7483 : BitVec 32 := 0#32
  let c0_i32_7484 : BitVec 32 := 0#32
  ![v8881.toNat, 0, 0]

def k0_chk2135 (v8881 : BitVec 32) : Prop :=
  (∀ a, (k0_off2135 v8881) a + S1x16x128.size a ≤ S16384x16x128.size a)
theorem k0_off2135_inb : ∀ (v8881 : BitVec 32) (k0_hw2135 : k0_chk2135 v8881), ∀ a, (k0_off2135 v8881) a + S1x16x128.size a ≤ S16384x16x128.size a := fun v8881 k0_hw2135 => k0_hw2135

def k0_off2136 (v8887 : BitVec 32) : Fin 3 → Nat :=
  let c0_i32_7490 : BitVec 32 := 0#32
  let c0_i32_7491 : BitVec 32 := 0#32
  ![v8887.toNat, 0, 0]

def k0_chk2136 (v8887 : BitVec 32) : Prop :=
  (∀ a, (k0_off2136 v8887) a + S1x16x128.size a ≤ S16384x16x128.size a)
theorem k0_off2136_inb : ∀ (v8887 : BitVec 32) (k0_hw2136 : k0_chk2136 v8887), ∀ a, (k0_off2136 v8887) a + S1x16x128.size a ≤ S16384x16x128.size a := fun v8887 k0_hw2136 => k0_hw2136

def k0_off2137 (v8893 : BitVec 32) : Fin 3 → Nat :=
  let c0_i32_7497 : BitVec 32 := 0#32
  let c0_i32_7498 : BitVec 32 := 0#32
  ![v8893.toNat, 0, 0]

def k0_chk2137 (v8893 : BitVec 32) : Prop :=
  (∀ a, (k0_off2137 v8893) a + S1x16x128.size a ≤ S16384x16x128.size a)
theorem k0_off2137_inb : ∀ (v8893 : BitVec 32) (k0_hw2137 : k0_chk2137 v8893), ∀ a, (k0_off2137 v8893) a + S1x16x128.size a ≤ S16384x16x128.size a := fun v8893 k0_hw2137 => k0_hw2137

def k0_off2138 (v8899 : BitVec 32) : Fin 3 → Nat :=
  let c0_i32_7504 : BitVec 32 := 0#32
  let c0_i32_7505 : BitVec 32 := 0#32
  ![v8899.toNat, 0, 0]

def k0_chk2138 (v8899 : BitVec 32) : Prop :=
  (∀ a, (k0_off2138 v8899) a + S1x16x128.size a ≤ S16384x16x128.size a)
theorem k0_off2138_inb : ∀ (v8899 : BitVec 32) (k0_hw2138 : k0_chk2138 v8899), ∀ a, (k0_off2138 v8899) a + S1x16x128.size a ≤ S16384x16x128.size a := fun v8899 k0_hw2138 => k0_hw2138

def k0_off2139 (v8905 : BitVec 32) : Fin 3 → Nat :=
  let c0_i32_7511 : BitVec 32 := 0#32
  let c0_i32_7512 : BitVec 32 := 0#32
  ![v8905.toNat, 0, 0]

def k0_chk2139 (v8905 : BitVec 32) : Prop :=
  (∀ a, (k0_off2139 v8905) a + S1x16x128.size a ≤ S16384x16x128.size a)
theorem k0_off2139_inb : ∀ (v8905 : BitVec 32) (k0_hw2139 : k0_chk2139 v8905), ∀ a, (k0_off2139 v8905) a + S1x16x128.size a ≤ S16384x16x128.size a := fun v8905 k0_hw2139 => k0_hw2139

def k0_off2140 (v8911 : BitVec 32) : Fin 3 → Nat :=
  let c0_i32_7518 : BitVec 32 := 0#32
  let c0_i32_7519 : BitVec 32 := 0#32
  ![v8911.toNat, 0, 0]

def k0_chk2140 (v8911 : BitVec 32) : Prop :=
  (∀ a, (k0_off2140 v8911) a + S1x16x128.size a ≤ S16384x16x128.size a)
theorem k0_off2140_inb : ∀ (v8911 : BitVec 32) (k0_hw2140 : k0_chk2140 v8911), ∀ a, (k0_off2140 v8911) a + S1x16x128.size a ≤ S16384x16x128.size a := fun v8911 k0_hw2140 => k0_hw2140

def k0_off2141 (v8917 : BitVec 32) : Fin 3 → Nat :=
  let c0_i32_7525 : BitVec 32 := 0#32
  let c0_i32_7526 : BitVec 32 := 0#32
  ![v8917.toNat, 0, 0]

def k0_chk2141 (v8917 : BitVec 32) : Prop :=
  (∀ a, (k0_off2141 v8917) a + S1x16x128.size a ≤ S16384x16x128.size a)
theorem k0_off2141_inb : ∀ (v8917 : BitVec 32) (k0_hw2141 : k0_chk2141 v8917), ∀ a, (k0_off2141 v8917) a + S1x16x128.size a ≤ S16384x16x128.size a := fun v8917 k0_hw2141 => k0_hw2141

def k0_off2142 (v8923 : BitVec 32) : Fin 3 → Nat :=
  let c0_i32_7532 : BitVec 32 := 0#32
  let c0_i32_7533 : BitVec 32 := 0#32
  ![v8923.toNat, 0, 0]

def k0_chk2142 (v8923 : BitVec 32) : Prop :=
  (∀ a, (k0_off2142 v8923) a + S1x16x128.size a ≤ S16384x16x128.size a)
theorem k0_off2142_inb : ∀ (v8923 : BitVec 32) (k0_hw2142 : k0_chk2142 v8923), ∀ a, (k0_off2142 v8923) a + S1x16x128.size a ≤ S16384x16x128.size a := fun v8923 k0_hw2142 => k0_hw2142

def k0_off2143 (v8929 : BitVec 32) : Fin 3 → Nat :=
  let c0_i32_7539 : BitVec 32 := 0#32
  let c0_i32_7540 : BitVec 32 := 0#32
  ![v8929.toNat, 0, 0]

def k0_chk2143 (v8929 : BitVec 32) : Prop :=
  (∀ a, (k0_off2143 v8929) a + S1x16x128.size a ≤ S16384x16x128.size a)
theorem k0_off2143_inb : ∀ (v8929 : BitVec 32) (k0_hw2143 : k0_chk2143 v8929), ∀ a, (k0_off2143 v8929) a + S1x16x128.size a ≤ S16384x16x128.size a := fun v8929 k0_hw2143 => k0_hw2143

def k0_off2144 (v8935 : BitVec 32) : Fin 3 → Nat :=
  let c0_i32_7546 : BitVec 32 := 0#32
  let c0_i32_7547 : BitVec 32 := 0#32
  ![v8935.toNat, 0, 0]

def k0_chk2144 (v8935 : BitVec 32) : Prop :=
  (∀ a, (k0_off2144 v8935) a + S1x16x128.size a ≤ S16384x16x128.size a)
theorem k0_off2144_inb : ∀ (v8935 : BitVec 32) (k0_hw2144 : k0_chk2144 v8935), ∀ a, (k0_off2144 v8935) a + S1x16x128.size a ≤ S16384x16x128.size a := fun v8935 k0_hw2144 => k0_hw2144

def k0_off2145 (v8941 : BitVec 32) : Fin 3 → Nat :=
  let c0_i32_7553 : BitVec 32 := 0#32
  let c0_i32_7554 : BitVec 32 := 0#32
  ![v8941.toNat, 0, 0]

def k0_chk2145 (v8941 : BitVec 32) : Prop :=
  (∀ a, (k0_off2145 v8941) a + S1x16x128.size a ≤ S16384x16x128.size a)
theorem k0_off2145_inb : ∀ (v8941 : BitVec 32) (k0_hw2145 : k0_chk2145 v8941), ∀ a, (k0_off2145 v8941) a + S1x16x128.size a ≤ S16384x16x128.size a := fun v8941 k0_hw2145 => k0_hw2145

def k0_off2146 (v8947 : BitVec 32) : Fin 3 → Nat :=
  let c0_i32_7560 : BitVec 32 := 0#32
  let c0_i32_7561 : BitVec 32 := 0#32
  ![v8947.toNat, 0, 0]

def k0_chk2146 (v8947 : BitVec 32) : Prop :=
  (∀ a, (k0_off2146 v8947) a + S1x16x128.size a ≤ S16384x16x128.size a)
theorem k0_off2146_inb : ∀ (v8947 : BitVec 32) (k0_hw2146 : k0_chk2146 v8947), ∀ a, (k0_off2146 v8947) a + S1x16x128.size a ≤ S16384x16x128.size a := fun v8947 k0_hw2146 => k0_hw2146

def k0_off2147 (v8953 : BitVec 32) : Fin 3 → Nat :=
  let c0_i32_7567 : BitVec 32 := 0#32
  let c0_i32_7568 : BitVec 32 := 0#32
  ![v8953.toNat, 0, 0]

def k0_chk2147 (v8953 : BitVec 32) : Prop :=
  (∀ a, (k0_off2147 v8953) a + S1x16x128.size a ≤ S16384x16x128.size a)
theorem k0_off2147_inb : ∀ (v8953 : BitVec 32) (k0_hw2147 : k0_chk2147 v8953), ∀ a, (k0_off2147 v8953) a + S1x16x128.size a ≤ S16384x16x128.size a := fun v8953 k0_hw2147 => k0_hw2147

def k0_off2148 (v8959 : BitVec 32) : Fin 3 → Nat :=
  let c0_i32_7574 : BitVec 32 := 0#32
  let c0_i32_7575 : BitVec 32 := 0#32
  ![v8959.toNat, 0, 0]

def k0_chk2148 (v8959 : BitVec 32) : Prop :=
  (∀ a, (k0_off2148 v8959) a + S1x16x128.size a ≤ S16384x16x128.size a)
theorem k0_off2148_inb : ∀ (v8959 : BitVec 32) (k0_hw2148 : k0_chk2148 v8959), ∀ a, (k0_off2148 v8959) a + S1x16x128.size a ≤ S16384x16x128.size a := fun v8959 k0_hw2148 => k0_hw2148

def k0_off2149 (v8965 : BitVec 32) : Fin 3 → Nat :=
  let c0_i32_7581 : BitVec 32 := 0#32
  let c0_i32_7582 : BitVec 32 := 0#32
  ![v8965.toNat, 0, 0]

def k0_chk2149 (v8965 : BitVec 32) : Prop :=
  (∀ a, (k0_off2149 v8965) a + S1x16x128.size a ≤ S16384x16x128.size a)
theorem k0_off2149_inb : ∀ (v8965 : BitVec 32) (k0_hw2149 : k0_chk2149 v8965), ∀ a, (k0_off2149 v8965) a + S1x16x128.size a ≤ S16384x16x128.size a := fun v8965 k0_hw2149 => k0_hw2149

def k0_off2150 (v8971 : BitVec 32) : Fin 3 → Nat :=
  let c0_i32_7588 : BitVec 32 := 0#32
  let c0_i32_7589 : BitVec 32 := 0#32
  ![v8971.toNat, 0, 0]

def k0_chk2150 (v8971 : BitVec 32) : Prop :=
  (∀ a, (k0_off2150 v8971) a + S1x16x128.size a ≤ S16384x16x128.size a)
theorem k0_off2150_inb : ∀ (v8971 : BitVec 32) (k0_hw2150 : k0_chk2150 v8971), ∀ a, (k0_off2150 v8971) a + S1x16x128.size a ≤ S16384x16x128.size a := fun v8971 k0_hw2150 => k0_hw2150

def k0_off2151 (v8977 : BitVec 32) : Fin 3 → Nat :=
  let c0_i32_7595 : BitVec 32 := 0#32
  let c0_i32_7596 : BitVec 32 := 0#32
  ![v8977.toNat, 0, 0]

def k0_chk2151 (v8977 : BitVec 32) : Prop :=
  (∀ a, (k0_off2151 v8977) a + S1x16x128.size a ≤ S16384x16x128.size a)
theorem k0_off2151_inb : ∀ (v8977 : BitVec 32) (k0_hw2151 : k0_chk2151 v8977), ∀ a, (k0_off2151 v8977) a + S1x16x128.size a ≤ S16384x16x128.size a := fun v8977 k0_hw2151 => k0_hw2151

def k0_off2152 (v8983 : BitVec 32) : Fin 3 → Nat :=
  let c0_i32_7602 : BitVec 32 := 0#32
  let c0_i32_7603 : BitVec 32 := 0#32
  ![v8983.toNat, 0, 0]

def k0_chk2152 (v8983 : BitVec 32) : Prop :=
  (∀ a, (k0_off2152 v8983) a + S1x16x128.size a ≤ S16384x16x128.size a)
theorem k0_off2152_inb : ∀ (v8983 : BitVec 32) (k0_hw2152 : k0_chk2152 v8983), ∀ a, (k0_off2152 v8983) a + S1x16x128.size a ≤ S16384x16x128.size a := fun v8983 k0_hw2152 => k0_hw2152

def k0_off2153 (v8989 : BitVec 32) : Fin 3 → Nat :=
  let c0_i32_7609 : BitVec 32 := 0#32
  let c0_i32_7610 : BitVec 32 := 0#32
  ![v8989.toNat, 0, 0]

def k0_chk2153 (v8989 : BitVec 32) : Prop :=
  (∀ a, (k0_off2153 v8989) a + S1x16x128.size a ≤ S16384x16x128.size a)
theorem k0_off2153_inb : ∀ (v8989 : BitVec 32) (k0_hw2153 : k0_chk2153 v8989), ∀ a, (k0_off2153 v8989) a + S1x16x128.size a ≤ S16384x16x128.size a := fun v8989 k0_hw2153 => k0_hw2153

def k0_off2154 (v8995 : BitVec 32) : Fin 3 → Nat :=
  let c0_i32_7616 : BitVec 32 := 0#32
  let c0_i32_7617 : BitVec 32 := 0#32
  ![v8995.toNat, 0, 0]

def k0_chk2154 (v8995 : BitVec 32) : Prop :=
  (∀ a, (k0_off2154 v8995) a + S1x16x128.size a ≤ S16384x16x128.size a)
theorem k0_off2154_inb : ∀ (v8995 : BitVec 32) (k0_hw2154 : k0_chk2154 v8995), ∀ a, (k0_off2154 v8995) a + S1x16x128.size a ≤ S16384x16x128.size a := fun v8995 k0_hw2154 => k0_hw2154

def k0_off2155 (v9001 : BitVec 32) : Fin 3 → Nat :=
  let c0_i32_7623 : BitVec 32 := 0#32
  let c0_i32_7624 : BitVec 32 := 0#32
  ![v9001.toNat, 0, 0]

def k0_chk2155 (v9001 : BitVec 32) : Prop :=
  (∀ a, (k0_off2155 v9001) a + S1x16x128.size a ≤ S16384x16x128.size a)
theorem k0_off2155_inb : ∀ (v9001 : BitVec 32) (k0_hw2155 : k0_chk2155 v9001), ∀ a, (k0_off2155 v9001) a + S1x16x128.size a ≤ S16384x16x128.size a := fun v9001 k0_hw2155 => k0_hw2155

def k0_off2156 (v9007 : BitVec 32) : Fin 3 → Nat :=
  let c0_i32_7630 : BitVec 32 := 0#32
  let c0_i32_7631 : BitVec 32 := 0#32
  ![v9007.toNat, 0, 0]

def k0_chk2156 (v9007 : BitVec 32) : Prop :=
  (∀ a, (k0_off2156 v9007) a + S1x16x128.size a ≤ S16384x16x128.size a)
theorem k0_off2156_inb : ∀ (v9007 : BitVec 32) (k0_hw2156 : k0_chk2156 v9007), ∀ a, (k0_off2156 v9007) a + S1x16x128.size a ≤ S16384x16x128.size a := fun v9007 k0_hw2156 => k0_hw2156

def k0_off2157 (v9013 : BitVec 32) : Fin 3 → Nat :=
  let c0_i32_7637 : BitVec 32 := 0#32
  let c0_i32_7638 : BitVec 32 := 0#32
  ![v9013.toNat, 0, 0]

def k0_chk2157 (v9013 : BitVec 32) : Prop :=
  (∀ a, (k0_off2157 v9013) a + S1x16x128.size a ≤ S16384x16x128.size a)
theorem k0_off2157_inb : ∀ (v9013 : BitVec 32) (k0_hw2157 : k0_chk2157 v9013), ∀ a, (k0_off2157 v9013) a + S1x16x128.size a ≤ S16384x16x128.size a := fun v9013 k0_hw2157 => k0_hw2157

def k0_off2158 (v9019 : BitVec 32) : Fin 3 → Nat :=
  let c0_i32_7644 : BitVec 32 := 0#32
  let c0_i32_7645 : BitVec 32 := 0#32
  ![v9019.toNat, 0, 0]

def k0_chk2158 (v9019 : BitVec 32) : Prop :=
  (∀ a, (k0_off2158 v9019) a + S1x16x128.size a ≤ S16384x16x128.size a)
theorem k0_off2158_inb : ∀ (v9019 : BitVec 32) (k0_hw2158 : k0_chk2158 v9019), ∀ a, (k0_off2158 v9019) a + S1x16x128.size a ≤ S16384x16x128.size a := fun v9019 k0_hw2158 => k0_hw2158

def k0_off2159 (v9025 : BitVec 32) : Fin 3 → Nat :=
  let c0_i32_7651 : BitVec 32 := 0#32
  let c0_i32_7652 : BitVec 32 := 0#32
  ![v9025.toNat, 0, 0]

def k0_chk2159 (v9025 : BitVec 32) : Prop :=
  (∀ a, (k0_off2159 v9025) a + S1x16x128.size a ≤ S16384x16x128.size a)
theorem k0_off2159_inb : ∀ (v9025 : BitVec 32) (k0_hw2159 : k0_chk2159 v9025), ∀ a, (k0_off2159 v9025) a + S1x16x128.size a ≤ S16384x16x128.size a := fun v9025 k0_hw2159 => k0_hw2159

def k0_off2160 (v9031 : BitVec 32) : Fin 3 → Nat :=
  let c0_i32_7658 : BitVec 32 := 0#32
  let c0_i32_7659 : BitVec 32 := 0#32
  ![v9031.toNat, 0, 0]

def k0_chk2160 (v9031 : BitVec 32) : Prop :=
  (∀ a, (k0_off2160 v9031) a + S1x16x128.size a ≤ S16384x16x128.size a)
theorem k0_off2160_inb : ∀ (v9031 : BitVec 32) (k0_hw2160 : k0_chk2160 v9031), ∀ a, (k0_off2160 v9031) a + S1x16x128.size a ≤ S16384x16x128.size a := fun v9031 k0_hw2160 => k0_hw2160

def k0_off2161 (v9037 : BitVec 32) : Fin 3 → Nat :=
  let c0_i32_7665 : BitVec 32 := 0#32
  let c0_i32_7666 : BitVec 32 := 0#32
  ![v9037.toNat, 0, 0]

def k0_chk2161 (v9037 : BitVec 32) : Prop :=
  (∀ a, (k0_off2161 v9037) a + S1x16x128.size a ≤ S16384x16x128.size a)
theorem k0_off2161_inb : ∀ (v9037 : BitVec 32) (k0_hw2161 : k0_chk2161 v9037), ∀ a, (k0_off2161 v9037) a + S1x16x128.size a ≤ S16384x16x128.size a := fun v9037 k0_hw2161 => k0_hw2161

def k0_off2162 (v9043 : BitVec 32) : Fin 3 → Nat :=
  let c0_i32_7672 : BitVec 32 := 0#32
  let c0_i32_7673 : BitVec 32 := 0#32
  ![v9043.toNat, 0, 0]

def k0_chk2162 (v9043 : BitVec 32) : Prop :=
  (∀ a, (k0_off2162 v9043) a + S1x16x128.size a ≤ S16384x16x128.size a)
theorem k0_off2162_inb : ∀ (v9043 : BitVec 32) (k0_hw2162 : k0_chk2162 v9043), ∀ a, (k0_off2162 v9043) a + S1x16x128.size a ≤ S16384x16x128.size a := fun v9043 k0_hw2162 => k0_hw2162

def k0_off2163 (v9049 : BitVec 32) : Fin 3 → Nat :=
  let c0_i32_7679 : BitVec 32 := 0#32
  let c0_i32_7680 : BitVec 32 := 0#32
  ![v9049.toNat, 0, 0]

def k0_chk2163 (v9049 : BitVec 32) : Prop :=
  (∀ a, (k0_off2163 v9049) a + S1x16x128.size a ≤ S16384x16x128.size a)
theorem k0_off2163_inb : ∀ (v9049 : BitVec 32) (k0_hw2163 : k0_chk2163 v9049), ∀ a, (k0_off2163 v9049) a + S1x16x128.size a ≤ S16384x16x128.size a := fun v9049 k0_hw2163 => k0_hw2163

def k0_off2164 (v9055 : BitVec 32) : Fin 3 → Nat :=
  let c0_i32_7686 : BitVec 32 := 0#32
  let c0_i32_7687 : BitVec 32 := 0#32
  ![v9055.toNat, 0, 0]

def k0_chk2164 (v9055 : BitVec 32) : Prop :=
  (∀ a, (k0_off2164 v9055) a + S1x16x128.size a ≤ S16384x16x128.size a)
theorem k0_off2164_inb : ∀ (v9055 : BitVec 32) (k0_hw2164 : k0_chk2164 v9055), ∀ a, (k0_off2164 v9055) a + S1x16x128.size a ≤ S16384x16x128.size a := fun v9055 k0_hw2164 => k0_hw2164

def k0_off2165 (v9061 : BitVec 32) : Fin 3 → Nat :=
  let c0_i32_7693 : BitVec 32 := 0#32
  let c0_i32_7694 : BitVec 32 := 0#32
  ![v9061.toNat, 0, 0]

def k0_chk2165 (v9061 : BitVec 32) : Prop :=
  (∀ a, (k0_off2165 v9061) a + S1x16x128.size a ≤ S16384x16x128.size a)
theorem k0_off2165_inb : ∀ (v9061 : BitVec 32) (k0_hw2165 : k0_chk2165 v9061), ∀ a, (k0_off2165 v9061) a + S1x16x128.size a ≤ S16384x16x128.size a := fun v9061 k0_hw2165 => k0_hw2165

def k0_off2166 (v9067 : BitVec 32) : Fin 3 → Nat :=
  let c0_i32_7700 : BitVec 32 := 0#32
  let c0_i32_7701 : BitVec 32 := 0#32
  ![v9067.toNat, 0, 0]

def k0_chk2166 (v9067 : BitVec 32) : Prop :=
  (∀ a, (k0_off2166 v9067) a + S1x16x128.size a ≤ S16384x16x128.size a)
theorem k0_off2166_inb : ∀ (v9067 : BitVec 32) (k0_hw2166 : k0_chk2166 v9067), ∀ a, (k0_off2166 v9067) a + S1x16x128.size a ≤ S16384x16x128.size a := fun v9067 k0_hw2166 => k0_hw2166

def k0_off2167 (v9073 : BitVec 32) : Fin 3 → Nat :=
  let c0_i32_7707 : BitVec 32 := 0#32
  let c0_i32_7708 : BitVec 32 := 0#32
  ![v9073.toNat, 0, 0]

def k0_chk2167 (v9073 : BitVec 32) : Prop :=
  (∀ a, (k0_off2167 v9073) a + S1x16x128.size a ≤ S16384x16x128.size a)
theorem k0_off2167_inb : ∀ (v9073 : BitVec 32) (k0_hw2167 : k0_chk2167 v9073), ∀ a, (k0_off2167 v9073) a + S1x16x128.size a ≤ S16384x16x128.size a := fun v9073 k0_hw2167 => k0_hw2167

def k0_off2168 (v9079 : BitVec 32) : Fin 3 → Nat :=
  let c0_i32_7714 : BitVec 32 := 0#32
  let c0_i32_7715 : BitVec 32 := 0#32
  ![v9079.toNat, 0, 0]

def k0_chk2168 (v9079 : BitVec 32) : Prop :=
  (∀ a, (k0_off2168 v9079) a + S1x16x128.size a ≤ S16384x16x128.size a)
theorem k0_off2168_inb : ∀ (v9079 : BitVec 32) (k0_hw2168 : k0_chk2168 v9079), ∀ a, (k0_off2168 v9079) a + S1x16x128.size a ≤ S16384x16x128.size a := fun v9079 k0_hw2168 => k0_hw2168

def k0_off2169 (v9085 : BitVec 32) : Fin 3 → Nat :=
  let c0_i32_7721 : BitVec 32 := 0#32
  let c0_i32_7722 : BitVec 32 := 0#32
  ![v9085.toNat, 0, 0]

def k0_chk2169 (v9085 : BitVec 32) : Prop :=
  (∀ a, (k0_off2169 v9085) a + S1x16x128.size a ≤ S16384x16x128.size a)
theorem k0_off2169_inb : ∀ (v9085 : BitVec 32) (k0_hw2169 : k0_chk2169 v9085), ∀ a, (k0_off2169 v9085) a + S1x16x128.size a ≤ S16384x16x128.size a := fun v9085 k0_hw2169 => k0_hw2169

def k0_off2170 (v9091 : BitVec 32) : Fin 3 → Nat :=
  let c0_i32_7728 : BitVec 32 := 0#32
  let c0_i32_7729 : BitVec 32 := 0#32
  ![v9091.toNat, 0, 0]

def k0_chk2170 (v9091 : BitVec 32) : Prop :=
  (∀ a, (k0_off2170 v9091) a + S1x16x128.size a ≤ S16384x16x128.size a)
theorem k0_off2170_inb : ∀ (v9091 : BitVec 32) (k0_hw2170 : k0_chk2170 v9091), ∀ a, (k0_off2170 v9091) a + S1x16x128.size a ≤ S16384x16x128.size a := fun v9091 k0_hw2170 => k0_hw2170

def k0_off2171 (v9097 : BitVec 32) : Fin 3 → Nat :=
  let c0_i32_7735 : BitVec 32 := 0#32
  let c0_i32_7736 : BitVec 32 := 0#32
  ![v9097.toNat, 0, 0]

def k0_chk2171 (v9097 : BitVec 32) : Prop :=
  (∀ a, (k0_off2171 v9097) a + S1x16x128.size a ≤ S16384x16x128.size a)
theorem k0_off2171_inb : ∀ (v9097 : BitVec 32) (k0_hw2171 : k0_chk2171 v9097), ∀ a, (k0_off2171 v9097) a + S1x16x128.size a ≤ S16384x16x128.size a := fun v9097 k0_hw2171 => k0_hw2171

def k0_off2172 (v9103 : BitVec 32) : Fin 3 → Nat :=
  let c0_i32_7742 : BitVec 32 := 0#32
  let c0_i32_7743 : BitVec 32 := 0#32
  ![v9103.toNat, 0, 0]

def k0_chk2172 (v9103 : BitVec 32) : Prop :=
  (∀ a, (k0_off2172 v9103) a + S1x16x128.size a ≤ S16384x16x128.size a)
theorem k0_off2172_inb : ∀ (v9103 : BitVec 32) (k0_hw2172 : k0_chk2172 v9103), ∀ a, (k0_off2172 v9103) a + S1x16x128.size a ≤ S16384x16x128.size a := fun v9103 k0_hw2172 => k0_hw2172

def k0_off2173 (v9109 : BitVec 32) : Fin 3 → Nat :=
  let c0_i32_7749 : BitVec 32 := 0#32
  let c0_i32_7750 : BitVec 32 := 0#32
  ![v9109.toNat, 0, 0]

def k0_chk2173 (v9109 : BitVec 32) : Prop :=
  (∀ a, (k0_off2173 v9109) a + S1x16x128.size a ≤ S16384x16x128.size a)
theorem k0_off2173_inb : ∀ (v9109 : BitVec 32) (k0_hw2173 : k0_chk2173 v9109), ∀ a, (k0_off2173 v9109) a + S1x16x128.size a ≤ S16384x16x128.size a := fun v9109 k0_hw2173 => k0_hw2173

def k0_off2174 (v9115 : BitVec 32) : Fin 3 → Nat :=
  let c0_i32_7756 : BitVec 32 := 0#32
  let c0_i32_7757 : BitVec 32 := 0#32
  ![v9115.toNat, 0, 0]

def k0_chk2174 (v9115 : BitVec 32) : Prop :=
  (∀ a, (k0_off2174 v9115) a + S1x16x128.size a ≤ S16384x16x128.size a)
theorem k0_off2174_inb : ∀ (v9115 : BitVec 32) (k0_hw2174 : k0_chk2174 v9115), ∀ a, (k0_off2174 v9115) a + S1x16x128.size a ≤ S16384x16x128.size a := fun v9115 k0_hw2174 => k0_hw2174

def k0_off2175 (v9121 : BitVec 32) : Fin 3 → Nat :=
  let c0_i32_7763 : BitVec 32 := 0#32
  let c0_i32_7764 : BitVec 32 := 0#32
  ![v9121.toNat, 0, 0]

def k0_chk2175 (v9121 : BitVec 32) : Prop :=
  (∀ a, (k0_off2175 v9121) a + S1x16x128.size a ≤ S16384x16x128.size a)
theorem k0_off2175_inb : ∀ (v9121 : BitVec 32) (k0_hw2175 : k0_chk2175 v9121), ∀ a, (k0_off2175 v9121) a + S1x16x128.size a ≤ S16384x16x128.size a := fun v9121 k0_hw2175 => k0_hw2175

def k0_off2176 (v9127 : BitVec 32) : Fin 3 → Nat :=
  let c0_i32_7770 : BitVec 32 := 0#32
  let c0_i32_7771 : BitVec 32 := 0#32
  ![v9127.toNat, 0, 0]

def k0_chk2176 (v9127 : BitVec 32) : Prop :=
  (∀ a, (k0_off2176 v9127) a + S1x16x128.size a ≤ S16384x16x128.size a)
theorem k0_off2176_inb : ∀ (v9127 : BitVec 32) (k0_hw2176 : k0_chk2176 v9127), ∀ a, (k0_off2176 v9127) a + S1x16x128.size a ≤ S16384x16x128.size a := fun v9127 k0_hw2176 => k0_hw2176

def k0_off2177 (v9406 : BitVec 32) : Fin 3 → Nat :=
  let c0_i32_7896 : BitVec 32 := 0#32
  let c0_i32_7897 : BitVec 32 := 0#32
  ![v9406.toNat, 0, 0]

def k0_chk2177 (v9406 : BitVec 32) : Prop :=
  (∀ a, (k0_off2177 v9406) a + S1x16x128.size a ≤ S16384x16x128.size a)
theorem k0_off2177_inb : ∀ (v9406 : BitVec 32) (k0_hw2177 : k0_chk2177 v9406), ∀ a, (k0_off2177 v9406) a + S1x16x128.size a ≤ S16384x16x128.size a := fun v9406 k0_hw2177 => k0_hw2177

def k0_off2178 (v9412 : BitVec 32) : Fin 3 → Nat :=
  let c0_i32_7903 : BitVec 32 := 0#32
  let c0_i32_7904 : BitVec 32 := 0#32
  ![v9412.toNat, 0, 0]

def k0_chk2178 (v9412 : BitVec 32) : Prop :=
  (∀ a, (k0_off2178 v9412) a + S1x16x128.size a ≤ S16384x16x128.size a)
theorem k0_off2178_inb : ∀ (v9412 : BitVec 32) (k0_hw2178 : k0_chk2178 v9412), ∀ a, (k0_off2178 v9412) a + S1x16x128.size a ≤ S16384x16x128.size a := fun v9412 k0_hw2178 => k0_hw2178

def k0_off2179 (v9418 : BitVec 32) : Fin 3 → Nat :=
  let c0_i32_7910 : BitVec 32 := 0#32
  let c0_i32_7911 : BitVec 32 := 0#32
  ![v9418.toNat, 0, 0]

def k0_chk2179 (v9418 : BitVec 32) : Prop :=
  (∀ a, (k0_off2179 v9418) a + S1x16x128.size a ≤ S16384x16x128.size a)
theorem k0_off2179_inb : ∀ (v9418 : BitVec 32) (k0_hw2179 : k0_chk2179 v9418), ∀ a, (k0_off2179 v9418) a + S1x16x128.size a ≤ S16384x16x128.size a := fun v9418 k0_hw2179 => k0_hw2179

def k0_off2180 (v9424 : BitVec 32) : Fin 3 → Nat :=
  let c0_i32_7917 : BitVec 32 := 0#32
  let c0_i32_7918 : BitVec 32 := 0#32
  ![v9424.toNat, 0, 0]

def k0_chk2180 (v9424 : BitVec 32) : Prop :=
  (∀ a, (k0_off2180 v9424) a + S1x16x128.size a ≤ S16384x16x128.size a)
theorem k0_off2180_inb : ∀ (v9424 : BitVec 32) (k0_hw2180 : k0_chk2180 v9424), ∀ a, (k0_off2180 v9424) a + S1x16x128.size a ≤ S16384x16x128.size a := fun v9424 k0_hw2180 => k0_hw2180

def k0_off2181 (v9430 : BitVec 32) : Fin 3 → Nat :=
  let c0_i32_7924 : BitVec 32 := 0#32
  let c0_i32_7925 : BitVec 32 := 0#32
  ![v9430.toNat, 0, 0]

def k0_chk2181 (v9430 : BitVec 32) : Prop :=
  (∀ a, (k0_off2181 v9430) a + S1x16x128.size a ≤ S16384x16x128.size a)
theorem k0_off2181_inb : ∀ (v9430 : BitVec 32) (k0_hw2181 : k0_chk2181 v9430), ∀ a, (k0_off2181 v9430) a + S1x16x128.size a ≤ S16384x16x128.size a := fun v9430 k0_hw2181 => k0_hw2181

def k0_off2182 (v9436 : BitVec 32) : Fin 3 → Nat :=
  let c0_i32_7931 : BitVec 32 := 0#32
  let c0_i32_7932 : BitVec 32 := 0#32
  ![v9436.toNat, 0, 0]

def k0_chk2182 (v9436 : BitVec 32) : Prop :=
  (∀ a, (k0_off2182 v9436) a + S1x16x128.size a ≤ S16384x16x128.size a)
theorem k0_off2182_inb : ∀ (v9436 : BitVec 32) (k0_hw2182 : k0_chk2182 v9436), ∀ a, (k0_off2182 v9436) a + S1x16x128.size a ≤ S16384x16x128.size a := fun v9436 k0_hw2182 => k0_hw2182

def k0_off2183 (v9442 : BitVec 32) : Fin 3 → Nat :=
  let c0_i32_7938 : BitVec 32 := 0#32
  let c0_i32_7939 : BitVec 32 := 0#32
  ![v9442.toNat, 0, 0]

def k0_chk2183 (v9442 : BitVec 32) : Prop :=
  (∀ a, (k0_off2183 v9442) a + S1x16x128.size a ≤ S16384x16x128.size a)
theorem k0_off2183_inb : ∀ (v9442 : BitVec 32) (k0_hw2183 : k0_chk2183 v9442), ∀ a, (k0_off2183 v9442) a + S1x16x128.size a ≤ S16384x16x128.size a := fun v9442 k0_hw2183 => k0_hw2183

def k0_off2184 (v9448 : BitVec 32) : Fin 3 → Nat :=
  let c0_i32_7945 : BitVec 32 := 0#32
  let c0_i32_7946 : BitVec 32 := 0#32
  ![v9448.toNat, 0, 0]

def k0_chk2184 (v9448 : BitVec 32) : Prop :=
  (∀ a, (k0_off2184 v9448) a + S1x16x128.size a ≤ S16384x16x128.size a)
theorem k0_off2184_inb : ∀ (v9448 : BitVec 32) (k0_hw2184 : k0_chk2184 v9448), ∀ a, (k0_off2184 v9448) a + S1x16x128.size a ≤ S16384x16x128.size a := fun v9448 k0_hw2184 => k0_hw2184

def k0_off2185 (v9454 : BitVec 32) : Fin 3 → Nat :=
  let c0_i32_7952 : BitVec 32 := 0#32
  let c0_i32_7953 : BitVec 32 := 0#32
  ![v9454.toNat, 0, 0]

def k0_chk2185 (v9454 : BitVec 32) : Prop :=
  (∀ a, (k0_off2185 v9454) a + S1x16x128.size a ≤ S16384x16x128.size a)
theorem k0_off2185_inb : ∀ (v9454 : BitVec 32) (k0_hw2185 : k0_chk2185 v9454), ∀ a, (k0_off2185 v9454) a + S1x16x128.size a ≤ S16384x16x128.size a := fun v9454 k0_hw2185 => k0_hw2185

def k0_off2186 (v9460 : BitVec 32) : Fin 3 → Nat :=
  let c0_i32_7959 : BitVec 32 := 0#32
  let c0_i32_7960 : BitVec 32 := 0#32
  ![v9460.toNat, 0, 0]

def k0_chk2186 (v9460 : BitVec 32) : Prop :=
  (∀ a, (k0_off2186 v9460) a + S1x16x128.size a ≤ S16384x16x128.size a)
theorem k0_off2186_inb : ∀ (v9460 : BitVec 32) (k0_hw2186 : k0_chk2186 v9460), ∀ a, (k0_off2186 v9460) a + S1x16x128.size a ≤ S16384x16x128.size a := fun v9460 k0_hw2186 => k0_hw2186

def k0_off2187 (v9466 : BitVec 32) : Fin 3 → Nat :=
  let c0_i32_7966 : BitVec 32 := 0#32
  let c0_i32_7967 : BitVec 32 := 0#32
  ![v9466.toNat, 0, 0]

def k0_chk2187 (v9466 : BitVec 32) : Prop :=
  (∀ a, (k0_off2187 v9466) a + S1x16x128.size a ≤ S16384x16x128.size a)
theorem k0_off2187_inb : ∀ (v9466 : BitVec 32) (k0_hw2187 : k0_chk2187 v9466), ∀ a, (k0_off2187 v9466) a + S1x16x128.size a ≤ S16384x16x128.size a := fun v9466 k0_hw2187 => k0_hw2187

def k0_off2188 (v9472 : BitVec 32) : Fin 3 → Nat :=
  let c0_i32_7973 : BitVec 32 := 0#32
  let c0_i32_7974 : BitVec 32 := 0#32
  ![v9472.toNat, 0, 0]

def k0_chk2188 (v9472 : BitVec 32) : Prop :=
  (∀ a, (k0_off2188 v9472) a + S1x16x128.size a ≤ S16384x16x128.size a)
theorem k0_off2188_inb : ∀ (v9472 : BitVec 32) (k0_hw2188 : k0_chk2188 v9472), ∀ a, (k0_off2188 v9472) a + S1x16x128.size a ≤ S16384x16x128.size a := fun v9472 k0_hw2188 => k0_hw2188

def k0_off2189 (v9478 : BitVec 32) : Fin 3 → Nat :=
  let c0_i32_7980 : BitVec 32 := 0#32
  let c0_i32_7981 : BitVec 32 := 0#32
  ![v9478.toNat, 0, 0]

def k0_chk2189 (v9478 : BitVec 32) : Prop :=
  (∀ a, (k0_off2189 v9478) a + S1x16x128.size a ≤ S16384x16x128.size a)
theorem k0_off2189_inb : ∀ (v9478 : BitVec 32) (k0_hw2189 : k0_chk2189 v9478), ∀ a, (k0_off2189 v9478) a + S1x16x128.size a ≤ S16384x16x128.size a := fun v9478 k0_hw2189 => k0_hw2189

def k0_off2190 (v9484 : BitVec 32) : Fin 3 → Nat :=
  let c0_i32_7987 : BitVec 32 := 0#32
  let c0_i32_7988 : BitVec 32 := 0#32
  ![v9484.toNat, 0, 0]

def k0_chk2190 (v9484 : BitVec 32) : Prop :=
  (∀ a, (k0_off2190 v9484) a + S1x16x128.size a ≤ S16384x16x128.size a)
theorem k0_off2190_inb : ∀ (v9484 : BitVec 32) (k0_hw2190 : k0_chk2190 v9484), ∀ a, (k0_off2190 v9484) a + S1x16x128.size a ≤ S16384x16x128.size a := fun v9484 k0_hw2190 => k0_hw2190

def k0_off2191 (v9490 : BitVec 32) : Fin 3 → Nat :=
  let c0_i32_7994 : BitVec 32 := 0#32
  let c0_i32_7995 : BitVec 32 := 0#32
  ![v9490.toNat, 0, 0]

def k0_chk2191 (v9490 : BitVec 32) : Prop :=
  (∀ a, (k0_off2191 v9490) a + S1x16x128.size a ≤ S16384x16x128.size a)
theorem k0_off2191_inb : ∀ (v9490 : BitVec 32) (k0_hw2191 : k0_chk2191 v9490), ∀ a, (k0_off2191 v9490) a + S1x16x128.size a ≤ S16384x16x128.size a := fun v9490 k0_hw2191 => k0_hw2191

def k0_off2192 (v9496 : BitVec 32) : Fin 3 → Nat :=
  let c0_i32_8001 : BitVec 32 := 0#32
  let c0_i32_8002 : BitVec 32 := 0#32
  ![v9496.toNat, 0, 0]

def k0_chk2192 (v9496 : BitVec 32) : Prop :=
  (∀ a, (k0_off2192 v9496) a + S1x16x128.size a ≤ S16384x16x128.size a)
theorem k0_off2192_inb : ∀ (v9496 : BitVec 32) (k0_hw2192 : k0_chk2192 v9496), ∀ a, (k0_off2192 v9496) a + S1x16x128.size a ≤ S16384x16x128.size a := fun v9496 k0_hw2192 => k0_hw2192

def k0_off2193 (v9502 : BitVec 32) : Fin 3 → Nat :=
  let c0_i32_8008 : BitVec 32 := 0#32
  let c0_i32_8009 : BitVec 32 := 0#32
  ![v9502.toNat, 0, 0]

def k0_chk2193 (v9502 : BitVec 32) : Prop :=
  (∀ a, (k0_off2193 v9502) a + S1x16x128.size a ≤ S16384x16x128.size a)
theorem k0_off2193_inb : ∀ (v9502 : BitVec 32) (k0_hw2193 : k0_chk2193 v9502), ∀ a, (k0_off2193 v9502) a + S1x16x128.size a ≤ S16384x16x128.size a := fun v9502 k0_hw2193 => k0_hw2193

def k0_off2194 (v9508 : BitVec 32) : Fin 3 → Nat :=
  let c0_i32_8015 : BitVec 32 := 0#32
  let c0_i32_8016 : BitVec 32 := 0#32
  ![v9508.toNat, 0, 0]

def k0_chk2194 (v9508 : BitVec 32) : Prop :=
  (∀ a, (k0_off2194 v9508) a + S1x16x128.size a ≤ S16384x16x128.size a)
theorem k0_off2194_inb : ∀ (v9508 : BitVec 32) (k0_hw2194 : k0_chk2194 v9508), ∀ a, (k0_off2194 v9508) a + S1x16x128.size a ≤ S16384x16x128.size a := fun v9508 k0_hw2194 => k0_hw2194

def k0_off2195 (v9514 : BitVec 32) : Fin 3 → Nat :=
  let c0_i32_8022 : BitVec 32 := 0#32
  let c0_i32_8023 : BitVec 32 := 0#32
  ![v9514.toNat, 0, 0]

def k0_chk2195 (v9514 : BitVec 32) : Prop :=
  (∀ a, (k0_off2195 v9514) a + S1x16x128.size a ≤ S16384x16x128.size a)
theorem k0_off2195_inb : ∀ (v9514 : BitVec 32) (k0_hw2195 : k0_chk2195 v9514), ∀ a, (k0_off2195 v9514) a + S1x16x128.size a ≤ S16384x16x128.size a := fun v9514 k0_hw2195 => k0_hw2195

def k0_off2196 (v9520 : BitVec 32) : Fin 3 → Nat :=
  let c0_i32_8029 : BitVec 32 := 0#32
  let c0_i32_8030 : BitVec 32 := 0#32
  ![v9520.toNat, 0, 0]

def k0_chk2196 (v9520 : BitVec 32) : Prop :=
  (∀ a, (k0_off2196 v9520) a + S1x16x128.size a ≤ S16384x16x128.size a)
theorem k0_off2196_inb : ∀ (v9520 : BitVec 32) (k0_hw2196 : k0_chk2196 v9520), ∀ a, (k0_off2196 v9520) a + S1x16x128.size a ≤ S16384x16x128.size a := fun v9520 k0_hw2196 => k0_hw2196

def k0_off2197 (v9526 : BitVec 32) : Fin 3 → Nat :=
  let c0_i32_8036 : BitVec 32 := 0#32
  let c0_i32_8037 : BitVec 32 := 0#32
  ![v9526.toNat, 0, 0]

def k0_chk2197 (v9526 : BitVec 32) : Prop :=
  (∀ a, (k0_off2197 v9526) a + S1x16x128.size a ≤ S16384x16x128.size a)
theorem k0_off2197_inb : ∀ (v9526 : BitVec 32) (k0_hw2197 : k0_chk2197 v9526), ∀ a, (k0_off2197 v9526) a + S1x16x128.size a ≤ S16384x16x128.size a := fun v9526 k0_hw2197 => k0_hw2197

def k0_off2198 (v9532 : BitVec 32) : Fin 3 → Nat :=
  let c0_i32_8043 : BitVec 32 := 0#32
  let c0_i32_8044 : BitVec 32 := 0#32
  ![v9532.toNat, 0, 0]

def k0_chk2198 (v9532 : BitVec 32) : Prop :=
  (∀ a, (k0_off2198 v9532) a + S1x16x128.size a ≤ S16384x16x128.size a)
theorem k0_off2198_inb : ∀ (v9532 : BitVec 32) (k0_hw2198 : k0_chk2198 v9532), ∀ a, (k0_off2198 v9532) a + S1x16x128.size a ≤ S16384x16x128.size a := fun v9532 k0_hw2198 => k0_hw2198

def k0_off2199 (v9538 : BitVec 32) : Fin 3 → Nat :=
  let c0_i32_8050 : BitVec 32 := 0#32
  let c0_i32_8051 : BitVec 32 := 0#32
  ![v9538.toNat, 0, 0]

def k0_chk2199 (v9538 : BitVec 32) : Prop :=
  (∀ a, (k0_off2199 v9538) a + S1x16x128.size a ≤ S16384x16x128.size a)
theorem k0_off2199_inb : ∀ (v9538 : BitVec 32) (k0_hw2199 : k0_chk2199 v9538), ∀ a, (k0_off2199 v9538) a + S1x16x128.size a ≤ S16384x16x128.size a := fun v9538 k0_hw2199 => k0_hw2199

def k0_off2200 (v9544 : BitVec 32) : Fin 3 → Nat :=
  let c0_i32_8057 : BitVec 32 := 0#32
  let c0_i32_8058 : BitVec 32 := 0#32
  ![v9544.toNat, 0, 0]

def k0_chk2200 (v9544 : BitVec 32) : Prop :=
  (∀ a, (k0_off2200 v9544) a + S1x16x128.size a ≤ S16384x16x128.size a)
theorem k0_off2200_inb : ∀ (v9544 : BitVec 32) (k0_hw2200 : k0_chk2200 v9544), ∀ a, (k0_off2200 v9544) a + S1x16x128.size a ≤ S16384x16x128.size a := fun v9544 k0_hw2200 => k0_hw2200

def k0_off2201 (v9550 : BitVec 32) : Fin 3 → Nat :=
  let c0_i32_8064 : BitVec 32 := 0#32
  let c0_i32_8065 : BitVec 32 := 0#32
  ![v9550.toNat, 0, 0]

def k0_chk2201 (v9550 : BitVec 32) : Prop :=
  (∀ a, (k0_off2201 v9550) a + S1x16x128.size a ≤ S16384x16x128.size a)
theorem k0_off2201_inb : ∀ (v9550 : BitVec 32) (k0_hw2201 : k0_chk2201 v9550), ∀ a, (k0_off2201 v9550) a + S1x16x128.size a ≤ S16384x16x128.size a := fun v9550 k0_hw2201 => k0_hw2201

def k0_off2202 (v9556 : BitVec 32) : Fin 3 → Nat :=
  let c0_i32_8071 : BitVec 32 := 0#32
  let c0_i32_8072 : BitVec 32 := 0#32
  ![v9556.toNat, 0, 0]

def k0_chk2202 (v9556 : BitVec 32) : Prop :=
  (∀ a, (k0_off2202 v9556) a + S1x16x128.size a ≤ S16384x16x128.size a)
theorem k0_off2202_inb : ∀ (v9556 : BitVec 32) (k0_hw2202 : k0_chk2202 v9556), ∀ a, (k0_off2202 v9556) a + S1x16x128.size a ≤ S16384x16x128.size a := fun v9556 k0_hw2202 => k0_hw2202

def k0_off2203 (v9562 : BitVec 32) : Fin 3 → Nat :=
  let c0_i32_8078 : BitVec 32 := 0#32
  let c0_i32_8079 : BitVec 32 := 0#32
  ![v9562.toNat, 0, 0]

def k0_chk2203 (v9562 : BitVec 32) : Prop :=
  (∀ a, (k0_off2203 v9562) a + S1x16x128.size a ≤ S16384x16x128.size a)
theorem k0_off2203_inb : ∀ (v9562 : BitVec 32) (k0_hw2203 : k0_chk2203 v9562), ∀ a, (k0_off2203 v9562) a + S1x16x128.size a ≤ S16384x16x128.size a := fun v9562 k0_hw2203 => k0_hw2203

def k0_off2204 (v9568 : BitVec 32) : Fin 3 → Nat :=
  let c0_i32_8085 : BitVec 32 := 0#32
  let c0_i32_8086 : BitVec 32 := 0#32
  ![v9568.toNat, 0, 0]

def k0_chk2204 (v9568 : BitVec 32) : Prop :=
  (∀ a, (k0_off2204 v9568) a + S1x16x128.size a ≤ S16384x16x128.size a)
theorem k0_off2204_inb : ∀ (v9568 : BitVec 32) (k0_hw2204 : k0_chk2204 v9568), ∀ a, (k0_off2204 v9568) a + S1x16x128.size a ≤ S16384x16x128.size a := fun v9568 k0_hw2204 => k0_hw2204

def k0_off2205 (v9574 : BitVec 32) : Fin 3 → Nat :=
  let c0_i32_8092 : BitVec 32 := 0#32
  let c0_i32_8093 : BitVec 32 := 0#32
  ![v9574.toNat, 0, 0]

def k0_chk2205 (v9574 : BitVec 32) : Prop :=
  (∀ a, (k0_off2205 v9574) a + S1x16x128.size a ≤ S16384x16x128.size a)
theorem k0_off2205_inb : ∀ (v9574 : BitVec 32) (k0_hw2205 : k0_chk2205 v9574), ∀ a, (k0_off2205 v9574) a + S1x16x128.size a ≤ S16384x16x128.size a := fun v9574 k0_hw2205 => k0_hw2205

def k0_off2206 (v9580 : BitVec 32) : Fin 3 → Nat :=
  let c0_i32_8099 : BitVec 32 := 0#32
  let c0_i32_8100 : BitVec 32 := 0#32
  ![v9580.toNat, 0, 0]

def k0_chk2206 (v9580 : BitVec 32) : Prop :=
  (∀ a, (k0_off2206 v9580) a + S1x16x128.size a ≤ S16384x16x128.size a)
theorem k0_off2206_inb : ∀ (v9580 : BitVec 32) (k0_hw2206 : k0_chk2206 v9580), ∀ a, (k0_off2206 v9580) a + S1x16x128.size a ≤ S16384x16x128.size a := fun v9580 k0_hw2206 => k0_hw2206

def k0_off2207 (v9586 : BitVec 32) : Fin 3 → Nat :=
  let c0_i32_8106 : BitVec 32 := 0#32
  let c0_i32_8107 : BitVec 32 := 0#32
  ![v9586.toNat, 0, 0]

def k0_chk2207 (v9586 : BitVec 32) : Prop :=
  (∀ a, (k0_off2207 v9586) a + S1x16x128.size a ≤ S16384x16x128.size a)
theorem k0_off2207_inb : ∀ (v9586 : BitVec 32) (k0_hw2207 : k0_chk2207 v9586), ∀ a, (k0_off2207 v9586) a + S1x16x128.size a ≤ S16384x16x128.size a := fun v9586 k0_hw2207 => k0_hw2207

def k0_off2208 (v9592 : BitVec 32) : Fin 3 → Nat :=
  let c0_i32_8113 : BitVec 32 := 0#32
  let c0_i32_8114 : BitVec 32 := 0#32
  ![v9592.toNat, 0, 0]

def k0_chk2208 (v9592 : BitVec 32) : Prop :=
  (∀ a, (k0_off2208 v9592) a + S1x16x128.size a ≤ S16384x16x128.size a)
theorem k0_off2208_inb : ∀ (v9592 : BitVec 32) (k0_hw2208 : k0_chk2208 v9592), ∀ a, (k0_off2208 v9592) a + S1x16x128.size a ≤ S16384x16x128.size a := fun v9592 k0_hw2208 => k0_hw2208

def k0_off2209 (v9598 : BitVec 32) : Fin 3 → Nat :=
  let c0_i32_8120 : BitVec 32 := 0#32
  let c0_i32_8121 : BitVec 32 := 0#32
  ![v9598.toNat, 0, 0]

def k0_chk2209 (v9598 : BitVec 32) : Prop :=
  (∀ a, (k0_off2209 v9598) a + S1x16x128.size a ≤ S16384x16x128.size a)
theorem k0_off2209_inb : ∀ (v9598 : BitVec 32) (k0_hw2209 : k0_chk2209 v9598), ∀ a, (k0_off2209 v9598) a + S1x16x128.size a ≤ S16384x16x128.size a := fun v9598 k0_hw2209 => k0_hw2209

def k0_off2210 (v9604 : BitVec 32) : Fin 3 → Nat :=
  let c0_i32_8127 : BitVec 32 := 0#32
  let c0_i32_8128 : BitVec 32 := 0#32
  ![v9604.toNat, 0, 0]

def k0_chk2210 (v9604 : BitVec 32) : Prop :=
  (∀ a, (k0_off2210 v9604) a + S1x16x128.size a ≤ S16384x16x128.size a)
theorem k0_off2210_inb : ∀ (v9604 : BitVec 32) (k0_hw2210 : k0_chk2210 v9604), ∀ a, (k0_off2210 v9604) a + S1x16x128.size a ≤ S16384x16x128.size a := fun v9604 k0_hw2210 => k0_hw2210

def k0_off2211 (v9610 : BitVec 32) : Fin 3 → Nat :=
  let c0_i32_8134 : BitVec 32 := 0#32
  let c0_i32_8135 : BitVec 32 := 0#32
  ![v9610.toNat, 0, 0]

def k0_chk2211 (v9610 : BitVec 32) : Prop :=
  (∀ a, (k0_off2211 v9610) a + S1x16x128.size a ≤ S16384x16x128.size a)
theorem k0_off2211_inb : ∀ (v9610 : BitVec 32) (k0_hw2211 : k0_chk2211 v9610), ∀ a, (k0_off2211 v9610) a + S1x16x128.size a ≤ S16384x16x128.size a := fun v9610 k0_hw2211 => k0_hw2211

def k0_off2212 (v9616 : BitVec 32) : Fin 3 → Nat :=
  let c0_i32_8141 : BitVec 32 := 0#32
  let c0_i32_8142 : BitVec 32 := 0#32
  ![v9616.toNat, 0, 0]

def k0_chk2212 (v9616 : BitVec 32) : Prop :=
  (∀ a, (k0_off2212 v9616) a + S1x16x128.size a ≤ S16384x16x128.size a)
theorem k0_off2212_inb : ∀ (v9616 : BitVec 32) (k0_hw2212 : k0_chk2212 v9616), ∀ a, (k0_off2212 v9616) a + S1x16x128.size a ≤ S16384x16x128.size a := fun v9616 k0_hw2212 => k0_hw2212

def k0_off2213 (v9622 : BitVec 32) : Fin 3 → Nat :=
  let c0_i32_8148 : BitVec 32 := 0#32
  let c0_i32_8149 : BitVec 32 := 0#32
  ![v9622.toNat, 0, 0]

def k0_chk2213 (v9622 : BitVec 32) : Prop :=
  (∀ a, (k0_off2213 v9622) a + S1x16x128.size a ≤ S16384x16x128.size a)
theorem k0_off2213_inb : ∀ (v9622 : BitVec 32) (k0_hw2213 : k0_chk2213 v9622), ∀ a, (k0_off2213 v9622) a + S1x16x128.size a ≤ S16384x16x128.size a := fun v9622 k0_hw2213 => k0_hw2213

def k0_off2214 (v9628 : BitVec 32) : Fin 3 → Nat :=
  let c0_i32_8155 : BitVec 32 := 0#32
  let c0_i32_8156 : BitVec 32 := 0#32
  ![v9628.toNat, 0, 0]

def k0_chk2214 (v9628 : BitVec 32) : Prop :=
  (∀ a, (k0_off2214 v9628) a + S1x16x128.size a ≤ S16384x16x128.size a)
theorem k0_off2214_inb : ∀ (v9628 : BitVec 32) (k0_hw2214 : k0_chk2214 v9628), ∀ a, (k0_off2214 v9628) a + S1x16x128.size a ≤ S16384x16x128.size a := fun v9628 k0_hw2214 => k0_hw2214

def k0_off2215 (v9634 : BitVec 32) : Fin 3 → Nat :=
  let c0_i32_8162 : BitVec 32 := 0#32
  let c0_i32_8163 : BitVec 32 := 0#32
  ![v9634.toNat, 0, 0]

def k0_chk2215 (v9634 : BitVec 32) : Prop :=
  (∀ a, (k0_off2215 v9634) a + S1x16x128.size a ≤ S16384x16x128.size a)
theorem k0_off2215_inb : ∀ (v9634 : BitVec 32) (k0_hw2215 : k0_chk2215 v9634), ∀ a, (k0_off2215 v9634) a + S1x16x128.size a ≤ S16384x16x128.size a := fun v9634 k0_hw2215 => k0_hw2215

def k0_off2216 (v9640 : BitVec 32) : Fin 3 → Nat :=
  let c0_i32_8169 : BitVec 32 := 0#32
  let c0_i32_8170 : BitVec 32 := 0#32
  ![v9640.toNat, 0, 0]

def k0_chk2216 (v9640 : BitVec 32) : Prop :=
  (∀ a, (k0_off2216 v9640) a + S1x16x128.size a ≤ S16384x16x128.size a)
theorem k0_off2216_inb : ∀ (v9640 : BitVec 32) (k0_hw2216 : k0_chk2216 v9640), ∀ a, (k0_off2216 v9640) a + S1x16x128.size a ≤ S16384x16x128.size a := fun v9640 k0_hw2216 => k0_hw2216

def k0_off2217 (v9646 : BitVec 32) : Fin 3 → Nat :=
  let c0_i32_8176 : BitVec 32 := 0#32
  let c0_i32_8177 : BitVec 32 := 0#32
  ![v9646.toNat, 0, 0]

def k0_chk2217 (v9646 : BitVec 32) : Prop :=
  (∀ a, (k0_off2217 v9646) a + S1x16x128.size a ≤ S16384x16x128.size a)
theorem k0_off2217_inb : ∀ (v9646 : BitVec 32) (k0_hw2217 : k0_chk2217 v9646), ∀ a, (k0_off2217 v9646) a + S1x16x128.size a ≤ S16384x16x128.size a := fun v9646 k0_hw2217 => k0_hw2217

def k0_off2218 (v9652 : BitVec 32) : Fin 3 → Nat :=
  let c0_i32_8183 : BitVec 32 := 0#32
  let c0_i32_8184 : BitVec 32 := 0#32
  ![v9652.toNat, 0, 0]

def k0_chk2218 (v9652 : BitVec 32) : Prop :=
  (∀ a, (k0_off2218 v9652) a + S1x16x128.size a ≤ S16384x16x128.size a)
theorem k0_off2218_inb : ∀ (v9652 : BitVec 32) (k0_hw2218 : k0_chk2218 v9652), ∀ a, (k0_off2218 v9652) a + S1x16x128.size a ≤ S16384x16x128.size a := fun v9652 k0_hw2218 => k0_hw2218

def k0_off2219 (v9658 : BitVec 32) : Fin 3 → Nat :=
  let c0_i32_8190 : BitVec 32 := 0#32
  let c0_i32_8191 : BitVec 32 := 0#32
  ![v9658.toNat, 0, 0]

def k0_chk2219 (v9658 : BitVec 32) : Prop :=
  (∀ a, (k0_off2219 v9658) a + S1x16x128.size a ≤ S16384x16x128.size a)
theorem k0_off2219_inb : ∀ (v9658 : BitVec 32) (k0_hw2219 : k0_chk2219 v9658), ∀ a, (k0_off2219 v9658) a + S1x16x128.size a ≤ S16384x16x128.size a := fun v9658 k0_hw2219 => k0_hw2219

def k0_off2220 (v9664 : BitVec 32) : Fin 3 → Nat :=
  let c0_i32_8197 : BitVec 32 := 0#32
  let c0_i32_8198 : BitVec 32 := 0#32
  ![v9664.toNat, 0, 0]

def k0_chk2220 (v9664 : BitVec 32) : Prop :=
  (∀ a, (k0_off2220 v9664) a + S1x16x128.size a ≤ S16384x16x128.size a)
theorem k0_off2220_inb : ∀ (v9664 : BitVec 32) (k0_hw2220 : k0_chk2220 v9664), ∀ a, (k0_off2220 v9664) a + S1x16x128.size a ≤ S16384x16x128.size a := fun v9664 k0_hw2220 => k0_hw2220

def k0_off2221 (v9670 : BitVec 32) : Fin 3 → Nat :=
  let c0_i32_8204 : BitVec 32 := 0#32
  let c0_i32_8205 : BitVec 32 := 0#32
  ![v9670.toNat, 0, 0]

def k0_chk2221 (v9670 : BitVec 32) : Prop :=
  (∀ a, (k0_off2221 v9670) a + S1x16x128.size a ≤ S16384x16x128.size a)
theorem k0_off2221_inb : ∀ (v9670 : BitVec 32) (k0_hw2221 : k0_chk2221 v9670), ∀ a, (k0_off2221 v9670) a + S1x16x128.size a ≤ S16384x16x128.size a := fun v9670 k0_hw2221 => k0_hw2221

def k0_off2222 (v9676 : BitVec 32) : Fin 3 → Nat :=
  let c0_i32_8211 : BitVec 32 := 0#32
  let c0_i32_8212 : BitVec 32 := 0#32
  ![v9676.toNat, 0, 0]

def k0_chk2222 (v9676 : BitVec 32) : Prop :=
  (∀ a, (k0_off2222 v9676) a + S1x16x128.size a ≤ S16384x16x128.size a)
theorem k0_off2222_inb : ∀ (v9676 : BitVec 32) (k0_hw2222 : k0_chk2222 v9676), ∀ a, (k0_off2222 v9676) a + S1x16x128.size a ≤ S16384x16x128.size a := fun v9676 k0_hw2222 => k0_hw2222

def k0_off2223 (v9682 : BitVec 32) : Fin 3 → Nat :=
  let c0_i32_8218 : BitVec 32 := 0#32
  let c0_i32_8219 : BitVec 32 := 0#32
  ![v9682.toNat, 0, 0]

def k0_chk2223 (v9682 : BitVec 32) : Prop :=
  (∀ a, (k0_off2223 v9682) a + S1x16x128.size a ≤ S16384x16x128.size a)
theorem k0_off2223_inb : ∀ (v9682 : BitVec 32) (k0_hw2223 : k0_chk2223 v9682), ∀ a, (k0_off2223 v9682) a + S1x16x128.size a ≤ S16384x16x128.size a := fun v9682 k0_hw2223 => k0_hw2223

def k0_off2224 (v9688 : BitVec 32) : Fin 3 → Nat :=
  let c0_i32_8225 : BitVec 32 := 0#32
  let c0_i32_8226 : BitVec 32 := 0#32
  ![v9688.toNat, 0, 0]

def k0_chk2224 (v9688 : BitVec 32) : Prop :=
  (∀ a, (k0_off2224 v9688) a + S1x16x128.size a ≤ S16384x16x128.size a)
theorem k0_off2224_inb : ∀ (v9688 : BitVec 32) (k0_hw2224 : k0_chk2224 v9688), ∀ a, (k0_off2224 v9688) a + S1x16x128.size a ≤ S16384x16x128.size a := fun v9688 k0_hw2224 => k0_hw2224

def k0_off2225 (v9694 : BitVec 32) : Fin 3 → Nat :=
  let c0_i32_8232 : BitVec 32 := 0#32
  let c0_i32_8233 : BitVec 32 := 0#32
  ![v9694.toNat, 0, 0]

def k0_chk2225 (v9694 : BitVec 32) : Prop :=
  (∀ a, (k0_off2225 v9694) a + S1x16x128.size a ≤ S16384x16x128.size a)
theorem k0_off2225_inb : ∀ (v9694 : BitVec 32) (k0_hw2225 : k0_chk2225 v9694), ∀ a, (k0_off2225 v9694) a + S1x16x128.size a ≤ S16384x16x128.size a := fun v9694 k0_hw2225 => k0_hw2225

def k0_off2226 (v9700 : BitVec 32) : Fin 3 → Nat :=
  let c0_i32_8239 : BitVec 32 := 0#32
  let c0_i32_8240 : BitVec 32 := 0#32
  ![v9700.toNat, 0, 0]

def k0_chk2226 (v9700 : BitVec 32) : Prop :=
  (∀ a, (k0_off2226 v9700) a + S1x16x128.size a ≤ S16384x16x128.size a)
theorem k0_off2226_inb : ∀ (v9700 : BitVec 32) (k0_hw2226 : k0_chk2226 v9700), ∀ a, (k0_off2226 v9700) a + S1x16x128.size a ≤ S16384x16x128.size a := fun v9700 k0_hw2226 => k0_hw2226

def k0_off2227 (v9706 : BitVec 32) : Fin 3 → Nat :=
  let c0_i32_8246 : BitVec 32 := 0#32
  let c0_i32_8247 : BitVec 32 := 0#32
  ![v9706.toNat, 0, 0]

def k0_chk2227 (v9706 : BitVec 32) : Prop :=
  (∀ a, (k0_off2227 v9706) a + S1x16x128.size a ≤ S16384x16x128.size a)
theorem k0_off2227_inb : ∀ (v9706 : BitVec 32) (k0_hw2227 : k0_chk2227 v9706), ∀ a, (k0_off2227 v9706) a + S1x16x128.size a ≤ S16384x16x128.size a := fun v9706 k0_hw2227 => k0_hw2227

def k0_off2228 (v9712 : BitVec 32) : Fin 3 → Nat :=
  let c0_i32_8253 : BitVec 32 := 0#32
  let c0_i32_8254 : BitVec 32 := 0#32
  ![v9712.toNat, 0, 0]

def k0_chk2228 (v9712 : BitVec 32) : Prop :=
  (∀ a, (k0_off2228 v9712) a + S1x16x128.size a ≤ S16384x16x128.size a)
theorem k0_off2228_inb : ∀ (v9712 : BitVec 32) (k0_hw2228 : k0_chk2228 v9712), ∀ a, (k0_off2228 v9712) a + S1x16x128.size a ≤ S16384x16x128.size a := fun v9712 k0_hw2228 => k0_hw2228

def k0_off2229 (v9718 : BitVec 32) : Fin 3 → Nat :=
  let c0_i32_8260 : BitVec 32 := 0#32
  let c0_i32_8261 : BitVec 32 := 0#32
  ![v9718.toNat, 0, 0]

def k0_chk2229 (v9718 : BitVec 32) : Prop :=
  (∀ a, (k0_off2229 v9718) a + S1x16x128.size a ≤ S16384x16x128.size a)
theorem k0_off2229_inb : ∀ (v9718 : BitVec 32) (k0_hw2229 : k0_chk2229 v9718), ∀ a, (k0_off2229 v9718) a + S1x16x128.size a ≤ S16384x16x128.size a := fun v9718 k0_hw2229 => k0_hw2229

def k0_off2230 (v9724 : BitVec 32) : Fin 3 → Nat :=
  let c0_i32_8267 : BitVec 32 := 0#32
  let c0_i32_8268 : BitVec 32 := 0#32
  ![v9724.toNat, 0, 0]

def k0_chk2230 (v9724 : BitVec 32) : Prop :=
  (∀ a, (k0_off2230 v9724) a + S1x16x128.size a ≤ S16384x16x128.size a)
theorem k0_off2230_inb : ∀ (v9724 : BitVec 32) (k0_hw2230 : k0_chk2230 v9724), ∀ a, (k0_off2230 v9724) a + S1x16x128.size a ≤ S16384x16x128.size a := fun v9724 k0_hw2230 => k0_hw2230

def k0_off2231 (v9730 : BitVec 32) : Fin 3 → Nat :=
  let c0_i32_8274 : BitVec 32 := 0#32
  let c0_i32_8275 : BitVec 32 := 0#32
  ![v9730.toNat, 0, 0]

def k0_chk2231 (v9730 : BitVec 32) : Prop :=
  (∀ a, (k0_off2231 v9730) a + S1x16x128.size a ≤ S16384x16x128.size a)
theorem k0_off2231_inb : ∀ (v9730 : BitVec 32) (k0_hw2231 : k0_chk2231 v9730), ∀ a, (k0_off2231 v9730) a + S1x16x128.size a ≤ S16384x16x128.size a := fun v9730 k0_hw2231 => k0_hw2231

def k0_off2232 (v9736 : BitVec 32) : Fin 3 → Nat :=
  let c0_i32_8281 : BitVec 32 := 0#32
  let c0_i32_8282 : BitVec 32 := 0#32
  ![v9736.toNat, 0, 0]

def k0_chk2232 (v9736 : BitVec 32) : Prop :=
  (∀ a, (k0_off2232 v9736) a + S1x16x128.size a ≤ S16384x16x128.size a)
theorem k0_off2232_inb : ∀ (v9736 : BitVec 32) (k0_hw2232 : k0_chk2232 v9736), ∀ a, (k0_off2232 v9736) a + S1x16x128.size a ≤ S16384x16x128.size a := fun v9736 k0_hw2232 => k0_hw2232

def k0_off2233 (v9742 : BitVec 32) : Fin 3 → Nat :=
  let c0_i32_8288 : BitVec 32 := 0#32
  let c0_i32_8289 : BitVec 32 := 0#32
  ![v9742.toNat, 0, 0]

def k0_chk2233 (v9742 : BitVec 32) : Prop :=
  (∀ a, (k0_off2233 v9742) a + S1x16x128.size a ≤ S16384x16x128.size a)
theorem k0_off2233_inb : ∀ (v9742 : BitVec 32) (k0_hw2233 : k0_chk2233 v9742), ∀ a, (k0_off2233 v9742) a + S1x16x128.size a ≤ S16384x16x128.size a := fun v9742 k0_hw2233 => k0_hw2233

def k0_off2234 (v9748 : BitVec 32) : Fin 3 → Nat :=
  let c0_i32_8295 : BitVec 32 := 0#32
  let c0_i32_8296 : BitVec 32 := 0#32
  ![v9748.toNat, 0, 0]

def k0_chk2234 (v9748 : BitVec 32) : Prop :=
  (∀ a, (k0_off2234 v9748) a + S1x16x128.size a ≤ S16384x16x128.size a)
theorem k0_off2234_inb : ∀ (v9748 : BitVec 32) (k0_hw2234 : k0_chk2234 v9748), ∀ a, (k0_off2234 v9748) a + S1x16x128.size a ≤ S16384x16x128.size a := fun v9748 k0_hw2234 => k0_hw2234

def k0_off2235 (v9754 : BitVec 32) : Fin 3 → Nat :=
  let c0_i32_8302 : BitVec 32 := 0#32
  let c0_i32_8303 : BitVec 32 := 0#32
  ![v9754.toNat, 0, 0]

def k0_chk2235 (v9754 : BitVec 32) : Prop :=
  (∀ a, (k0_off2235 v9754) a + S1x16x128.size a ≤ S16384x16x128.size a)
theorem k0_off2235_inb : ∀ (v9754 : BitVec 32) (k0_hw2235 : k0_chk2235 v9754), ∀ a, (k0_off2235 v9754) a + S1x16x128.size a ≤ S16384x16x128.size a := fun v9754 k0_hw2235 => k0_hw2235

def k0_off2236 (v9760 : BitVec 32) : Fin 3 → Nat :=
  let c0_i32_8309 : BitVec 32 := 0#32
  let c0_i32_8310 : BitVec 32 := 0#32
  ![v9760.toNat, 0, 0]

def k0_chk2236 (v9760 : BitVec 32) : Prop :=
  (∀ a, (k0_off2236 v9760) a + S1x16x128.size a ≤ S16384x16x128.size a)
theorem k0_off2236_inb : ∀ (v9760 : BitVec 32) (k0_hw2236 : k0_chk2236 v9760), ∀ a, (k0_off2236 v9760) a + S1x16x128.size a ≤ S16384x16x128.size a := fun v9760 k0_hw2236 => k0_hw2236

def k0_off2237 (v9766 : BitVec 32) : Fin 3 → Nat :=
  let c0_i32_8316 : BitVec 32 := 0#32
  let c0_i32_8317 : BitVec 32 := 0#32
  ![v9766.toNat, 0, 0]

def k0_chk2237 (v9766 : BitVec 32) : Prop :=
  (∀ a, (k0_off2237 v9766) a + S1x16x128.size a ≤ S16384x16x128.size a)
theorem k0_off2237_inb : ∀ (v9766 : BitVec 32) (k0_hw2237 : k0_chk2237 v9766), ∀ a, (k0_off2237 v9766) a + S1x16x128.size a ≤ S16384x16x128.size a := fun v9766 k0_hw2237 => k0_hw2237

def k0_off2238 (v9772 : BitVec 32) : Fin 3 → Nat :=
  let c0_i32_8323 : BitVec 32 := 0#32
  let c0_i32_8324 : BitVec 32 := 0#32
  ![v9772.toNat, 0, 0]

def k0_chk2238 (v9772 : BitVec 32) : Prop :=
  (∀ a, (k0_off2238 v9772) a + S1x16x128.size a ≤ S16384x16x128.size a)
theorem k0_off2238_inb : ∀ (v9772 : BitVec 32) (k0_hw2238 : k0_chk2238 v9772), ∀ a, (k0_off2238 v9772) a + S1x16x128.size a ≤ S16384x16x128.size a := fun v9772 k0_hw2238 => k0_hw2238

def k0_off2239 (v9778 : BitVec 32) : Fin 3 → Nat :=
  let c0_i32_8330 : BitVec 32 := 0#32
  let c0_i32_8331 : BitVec 32 := 0#32
  ![v9778.toNat, 0, 0]

def k0_chk2239 (v9778 : BitVec 32) : Prop :=
  (∀ a, (k0_off2239 v9778) a + S1x16x128.size a ≤ S16384x16x128.size a)
theorem k0_off2239_inb : ∀ (v9778 : BitVec 32) (k0_hw2239 : k0_chk2239 v9778), ∀ a, (k0_off2239 v9778) a + S1x16x128.size a ≤ S16384x16x128.size a := fun v9778 k0_hw2239 => k0_hw2239

def k0_off2240 (v9784 : BitVec 32) : Fin 3 → Nat :=
  let c0_i32_8337 : BitVec 32 := 0#32
  let c0_i32_8338 : BitVec 32 := 0#32
  ![v9784.toNat, 0, 0]

def k0_chk2240 (v9784 : BitVec 32) : Prop :=
  (∀ a, (k0_off2240 v9784) a + S1x16x128.size a ≤ S16384x16x128.size a)
theorem k0_off2240_inb : ∀ (v9784 : BitVec 32) (k0_hw2240 : k0_chk2240 v9784), ∀ a, (k0_off2240 v9784) a + S1x16x128.size a ≤ S16384x16x128.size a := fun v9784 k0_hw2240 => k0_hw2240

def k0_off2241 (v9790 : BitVec 32) : Fin 3 → Nat :=
  let c0_i32_8344 : BitVec 32 := 0#32
  let c0_i32_8345 : BitVec 32 := 0#32
  ![v9790.toNat, 0, 0]

def k0_chk2241 (v9790 : BitVec 32) : Prop :=
  (∀ a, (k0_off2241 v9790) a + S1x16x128.size a ≤ S16384x16x128.size a)
theorem k0_off2241_inb : ∀ (v9790 : BitVec 32) (k0_hw2241 : k0_chk2241 v9790), ∀ a, (k0_off2241 v9790) a + S1x16x128.size a ≤ S16384x16x128.size a := fun v9790 k0_hw2241 => k0_hw2241

def k0_off2242 (v9796 : BitVec 32) : Fin 3 → Nat :=
  let c0_i32_8351 : BitVec 32 := 0#32
  let c0_i32_8352 : BitVec 32 := 0#32
  ![v9796.toNat, 0, 0]

def k0_chk2242 (v9796 : BitVec 32) : Prop :=
  (∀ a, (k0_off2242 v9796) a + S1x16x128.size a ≤ S16384x16x128.size a)
theorem k0_off2242_inb : ∀ (v9796 : BitVec 32) (k0_hw2242 : k0_chk2242 v9796), ∀ a, (k0_off2242 v9796) a + S1x16x128.size a ≤ S16384x16x128.size a := fun v9796 k0_hw2242 => k0_hw2242

def k0_off2243 (v9802 : BitVec 32) : Fin 3 → Nat :=
  let c0_i32_8358 : BitVec 32 := 0#32
  let c0_i32_8359 : BitVec 32 := 0#32
  ![v9802.toNat, 0, 0]

def k0_chk2243 (v9802 : BitVec 32) : Prop :=
  (∀ a, (k0_off2243 v9802) a + S1x16x128.size a ≤ S16384x16x128.size a)
theorem k0_off2243_inb : ∀ (v9802 : BitVec 32) (k0_hw2243 : k0_chk2243 v9802), ∀ a, (k0_off2243 v9802) a + S1x16x128.size a ≤ S16384x16x128.size a := fun v9802 k0_hw2243 => k0_hw2243

def k0_off2244 (v9808 : BitVec 32) : Fin 3 → Nat :=
  let c0_i32_8365 : BitVec 32 := 0#32
  let c0_i32_8366 : BitVec 32 := 0#32
  ![v9808.toNat, 0, 0]

def k0_chk2244 (v9808 : BitVec 32) : Prop :=
  (∀ a, (k0_off2244 v9808) a + S1x16x128.size a ≤ S16384x16x128.size a)
theorem k0_off2244_inb : ∀ (v9808 : BitVec 32) (k0_hw2244 : k0_chk2244 v9808), ∀ a, (k0_off2244 v9808) a + S1x16x128.size a ≤ S16384x16x128.size a := fun v9808 k0_hw2244 => k0_hw2244

def k0_off2245 (v9814 : BitVec 32) : Fin 3 → Nat :=
  let c0_i32_8372 : BitVec 32 := 0#32
  let c0_i32_8373 : BitVec 32 := 0#32
  ![v9814.toNat, 0, 0]

def k0_chk2245 (v9814 : BitVec 32) : Prop :=
  (∀ a, (k0_off2245 v9814) a + S1x16x128.size a ≤ S16384x16x128.size a)
theorem k0_off2245_inb : ∀ (v9814 : BitVec 32) (k0_hw2245 : k0_chk2245 v9814), ∀ a, (k0_off2245 v9814) a + S1x16x128.size a ≤ S16384x16x128.size a := fun v9814 k0_hw2245 => k0_hw2245

def k0_off2246 (v9820 : BitVec 32) : Fin 3 → Nat :=
  let c0_i32_8379 : BitVec 32 := 0#32
  let c0_i32_8380 : BitVec 32 := 0#32
  ![v9820.toNat, 0, 0]

def k0_chk2246 (v9820 : BitVec 32) : Prop :=
  (∀ a, (k0_off2246 v9820) a + S1x16x128.size a ≤ S16384x16x128.size a)
theorem k0_off2246_inb : ∀ (v9820 : BitVec 32) (k0_hw2246 : k0_chk2246 v9820), ∀ a, (k0_off2246 v9820) a + S1x16x128.size a ≤ S16384x16x128.size a := fun v9820 k0_hw2246 => k0_hw2246

def k0_off2247 (v9826 : BitVec 32) : Fin 3 → Nat :=
  let c0_i32_8386 : BitVec 32 := 0#32
  let c0_i32_8387 : BitVec 32 := 0#32
  ![v9826.toNat, 0, 0]

def k0_chk2247 (v9826 : BitVec 32) : Prop :=
  (∀ a, (k0_off2247 v9826) a + S1x16x128.size a ≤ S16384x16x128.size a)
theorem k0_off2247_inb : ∀ (v9826 : BitVec 32) (k0_hw2247 : k0_chk2247 v9826), ∀ a, (k0_off2247 v9826) a + S1x16x128.size a ≤ S16384x16x128.size a := fun v9826 k0_hw2247 => k0_hw2247

def k0_off2248 (v9832 : BitVec 32) : Fin 3 → Nat :=
  let c0_i32_8393 : BitVec 32 := 0#32
  let c0_i32_8394 : BitVec 32 := 0#32
  ![v9832.toNat, 0, 0]

def k0_chk2248 (v9832 : BitVec 32) : Prop :=
  (∀ a, (k0_off2248 v9832) a + S1x16x128.size a ≤ S16384x16x128.size a)
theorem k0_off2248_inb : ∀ (v9832 : BitVec 32) (k0_hw2248 : k0_chk2248 v9832), ∀ a, (k0_off2248 v9832) a + S1x16x128.size a ≤ S16384x16x128.size a := fun v9832 k0_hw2248 => k0_hw2248

def k0_off2249 (v9838 : BitVec 32) : Fin 3 → Nat :=
  let c0_i32_8400 : BitVec 32 := 0#32
  let c0_i32_8401 : BitVec 32 := 0#32
  ![v9838.toNat, 0, 0]

def k0_chk2249 (v9838 : BitVec 32) : Prop :=
  (∀ a, (k0_off2249 v9838) a + S1x16x128.size a ≤ S16384x16x128.size a)
theorem k0_off2249_inb : ∀ (v9838 : BitVec 32) (k0_hw2249 : k0_chk2249 v9838), ∀ a, (k0_off2249 v9838) a + S1x16x128.size a ≤ S16384x16x128.size a := fun v9838 k0_hw2249 => k0_hw2249

def k0_off2250 (v9844 : BitVec 32) : Fin 3 → Nat :=
  let c0_i32_8407 : BitVec 32 := 0#32
  let c0_i32_8408 : BitVec 32 := 0#32
  ![v9844.toNat, 0, 0]

def k0_chk2250 (v9844 : BitVec 32) : Prop :=
  (∀ a, (k0_off2250 v9844) a + S1x16x128.size a ≤ S16384x16x128.size a)
theorem k0_off2250_inb : ∀ (v9844 : BitVec 32) (k0_hw2250 : k0_chk2250 v9844), ∀ a, (k0_off2250 v9844) a + S1x16x128.size a ≤ S16384x16x128.size a := fun v9844 k0_hw2250 => k0_hw2250

def k0_off2251 (v9850 : BitVec 32) : Fin 3 → Nat :=
  let c0_i32_8414 : BitVec 32 := 0#32
  let c0_i32_8415 : BitVec 32 := 0#32
  ![v9850.toNat, 0, 0]

def k0_chk2251 (v9850 : BitVec 32) : Prop :=
  (∀ a, (k0_off2251 v9850) a + S1x16x128.size a ≤ S16384x16x128.size a)
theorem k0_off2251_inb : ∀ (v9850 : BitVec 32) (k0_hw2251 : k0_chk2251 v9850), ∀ a, (k0_off2251 v9850) a + S1x16x128.size a ≤ S16384x16x128.size a := fun v9850 k0_hw2251 => k0_hw2251

def k0_off2252 (v9856 : BitVec 32) : Fin 3 → Nat :=
  let c0_i32_8421 : BitVec 32 := 0#32
  let c0_i32_8422 : BitVec 32 := 0#32
  ![v9856.toNat, 0, 0]

def k0_chk2252 (v9856 : BitVec 32) : Prop :=
  (∀ a, (k0_off2252 v9856) a + S1x16x128.size a ≤ S16384x16x128.size a)
theorem k0_off2252_inb : ∀ (v9856 : BitVec 32) (k0_hw2252 : k0_chk2252 v9856), ∀ a, (k0_off2252 v9856) a + S1x16x128.size a ≤ S16384x16x128.size a := fun v9856 k0_hw2252 => k0_hw2252

def k0_off2253 (v9862 : BitVec 32) : Fin 3 → Nat :=
  let c0_i32_8428 : BitVec 32 := 0#32
  let c0_i32_8429 : BitVec 32 := 0#32
  ![v9862.toNat, 0, 0]

def k0_chk2253 (v9862 : BitVec 32) : Prop :=
  (∀ a, (k0_off2253 v9862) a + S1x16x128.size a ≤ S16384x16x128.size a)
theorem k0_off2253_inb : ∀ (v9862 : BitVec 32) (k0_hw2253 : k0_chk2253 v9862), ∀ a, (k0_off2253 v9862) a + S1x16x128.size a ≤ S16384x16x128.size a := fun v9862 k0_hw2253 => k0_hw2253

def k0_off2254 (v9868 : BitVec 32) : Fin 3 → Nat :=
  let c0_i32_8435 : BitVec 32 := 0#32
  let c0_i32_8436 : BitVec 32 := 0#32
  ![v9868.toNat, 0, 0]

def k0_chk2254 (v9868 : BitVec 32) : Prop :=
  (∀ a, (k0_off2254 v9868) a + S1x16x128.size a ≤ S16384x16x128.size a)
theorem k0_off2254_inb : ∀ (v9868 : BitVec 32) (k0_hw2254 : k0_chk2254 v9868), ∀ a, (k0_off2254 v9868) a + S1x16x128.size a ≤ S16384x16x128.size a := fun v9868 k0_hw2254 => k0_hw2254

def k0_off2255 (v9874 : BitVec 32) : Fin 3 → Nat :=
  let c0_i32_8442 : BitVec 32 := 0#32
  let c0_i32_8443 : BitVec 32 := 0#32
  ![v9874.toNat, 0, 0]

def k0_chk2255 (v9874 : BitVec 32) : Prop :=
  (∀ a, (k0_off2255 v9874) a + S1x16x128.size a ≤ S16384x16x128.size a)
theorem k0_off2255_inb : ∀ (v9874 : BitVec 32) (k0_hw2255 : k0_chk2255 v9874), ∀ a, (k0_off2255 v9874) a + S1x16x128.size a ≤ S16384x16x128.size a := fun v9874 k0_hw2255 => k0_hw2255

def k0_off2256 (v9880 : BitVec 32) : Fin 3 → Nat :=
  let c0_i32_8449 : BitVec 32 := 0#32
  let c0_i32_8450 : BitVec 32 := 0#32
  ![v9880.toNat, 0, 0]

def k0_chk2256 (v9880 : BitVec 32) : Prop :=
  (∀ a, (k0_off2256 v9880) a + S1x16x128.size a ≤ S16384x16x128.size a)
theorem k0_off2256_inb : ∀ (v9880 : BitVec 32) (k0_hw2256 : k0_chk2256 v9880), ∀ a, (k0_off2256 v9880) a + S1x16x128.size a ≤ S16384x16x128.size a := fun v9880 k0_hw2256 => k0_hw2256

def k0_off2257 (v9886 : BitVec 32) : Fin 3 → Nat :=
  let c0_i32_8456 : BitVec 32 := 0#32
  let c0_i32_8457 : BitVec 32 := 0#32
  ![v9886.toNat, 0, 0]

def k0_chk2257 (v9886 : BitVec 32) : Prop :=
  (∀ a, (k0_off2257 v9886) a + S1x16x128.size a ≤ S16384x16x128.size a)
theorem k0_off2257_inb : ∀ (v9886 : BitVec 32) (k0_hw2257 : k0_chk2257 v9886), ∀ a, (k0_off2257 v9886) a + S1x16x128.size a ≤ S16384x16x128.size a := fun v9886 k0_hw2257 => k0_hw2257

def k0_off2258 (v9892 : BitVec 32) : Fin 3 → Nat :=
  let c0_i32_8463 : BitVec 32 := 0#32
  let c0_i32_8464 : BitVec 32 := 0#32
  ![v9892.toNat, 0, 0]

def k0_chk2258 (v9892 : BitVec 32) : Prop :=
  (∀ a, (k0_off2258 v9892) a + S1x16x128.size a ≤ S16384x16x128.size a)
theorem k0_off2258_inb : ∀ (v9892 : BitVec 32) (k0_hw2258 : k0_chk2258 v9892), ∀ a, (k0_off2258 v9892) a + S1x16x128.size a ≤ S16384x16x128.size a := fun v9892 k0_hw2258 => k0_hw2258

def k0_off2259 (v9898 : BitVec 32) : Fin 3 → Nat :=
  let c0_i32_8470 : BitVec 32 := 0#32
  let c0_i32_8471 : BitVec 32 := 0#32
  ![v9898.toNat, 0, 0]

def k0_chk2259 (v9898 : BitVec 32) : Prop :=
  (∀ a, (k0_off2259 v9898) a + S1x16x128.size a ≤ S16384x16x128.size a)
theorem k0_off2259_inb : ∀ (v9898 : BitVec 32) (k0_hw2259 : k0_chk2259 v9898), ∀ a, (k0_off2259 v9898) a + S1x16x128.size a ≤ S16384x16x128.size a := fun v9898 k0_hw2259 => k0_hw2259

def k0_off2260 (v9904 : BitVec 32) : Fin 3 → Nat :=
  let c0_i32_8477 : BitVec 32 := 0#32
  let c0_i32_8478 : BitVec 32 := 0#32
  ![v9904.toNat, 0, 0]

def k0_chk2260 (v9904 : BitVec 32) : Prop :=
  (∀ a, (k0_off2260 v9904) a + S1x16x128.size a ≤ S16384x16x128.size a)
theorem k0_off2260_inb : ∀ (v9904 : BitVec 32) (k0_hw2260 : k0_chk2260 v9904), ∀ a, (k0_off2260 v9904) a + S1x16x128.size a ≤ S16384x16x128.size a := fun v9904 k0_hw2260 => k0_hw2260

def k0_off2261 (v9910 : BitVec 32) : Fin 3 → Nat :=
  let c0_i32_8484 : BitVec 32 := 0#32
  let c0_i32_8485 : BitVec 32 := 0#32
  ![v9910.toNat, 0, 0]

def k0_chk2261 (v9910 : BitVec 32) : Prop :=
  (∀ a, (k0_off2261 v9910) a + S1x16x128.size a ≤ S16384x16x128.size a)
theorem k0_off2261_inb : ∀ (v9910 : BitVec 32) (k0_hw2261 : k0_chk2261 v9910), ∀ a, (k0_off2261 v9910) a + S1x16x128.size a ≤ S16384x16x128.size a := fun v9910 k0_hw2261 => k0_hw2261

def k0_off2262 (v9916 : BitVec 32) : Fin 3 → Nat :=
  let c0_i32_8491 : BitVec 32 := 0#32
  let c0_i32_8492 : BitVec 32 := 0#32
  ![v9916.toNat, 0, 0]

def k0_chk2262 (v9916 : BitVec 32) : Prop :=
  (∀ a, (k0_off2262 v9916) a + S1x16x128.size a ≤ S16384x16x128.size a)
theorem k0_off2262_inb : ∀ (v9916 : BitVec 32) (k0_hw2262 : k0_chk2262 v9916), ∀ a, (k0_off2262 v9916) a + S1x16x128.size a ≤ S16384x16x128.size a := fun v9916 k0_hw2262 => k0_hw2262

def k0_off2263 (v9922 : BitVec 32) : Fin 3 → Nat :=
  let c0_i32_8498 : BitVec 32 := 0#32
  let c0_i32_8499 : BitVec 32 := 0#32
  ![v9922.toNat, 0, 0]

def k0_chk2263 (v9922 : BitVec 32) : Prop :=
  (∀ a, (k0_off2263 v9922) a + S1x16x128.size a ≤ S16384x16x128.size a)
theorem k0_off2263_inb : ∀ (v9922 : BitVec 32) (k0_hw2263 : k0_chk2263 v9922), ∀ a, (k0_off2263 v9922) a + S1x16x128.size a ≤ S16384x16x128.size a := fun v9922 k0_hw2263 => k0_hw2263

def k0_off2264 (v9928 : BitVec 32) : Fin 3 → Nat :=
  let c0_i32_8505 : BitVec 32 := 0#32
  let c0_i32_8506 : BitVec 32 := 0#32
  ![v9928.toNat, 0, 0]

def k0_chk2264 (v9928 : BitVec 32) : Prop :=
  (∀ a, (k0_off2264 v9928) a + S1x16x128.size a ≤ S16384x16x128.size a)
theorem k0_off2264_inb : ∀ (v9928 : BitVec 32) (k0_hw2264 : k0_chk2264 v9928), ∀ a, (k0_off2264 v9928) a + S1x16x128.size a ≤ S16384x16x128.size a := fun v9928 k0_hw2264 => k0_hw2264

def k0_off2265 (v9934 : BitVec 32) : Fin 3 → Nat :=
  let c0_i32_8512 : BitVec 32 := 0#32
  let c0_i32_8513 : BitVec 32 := 0#32
  ![v9934.toNat, 0, 0]

def k0_chk2265 (v9934 : BitVec 32) : Prop :=
  (∀ a, (k0_off2265 v9934) a + S1x16x128.size a ≤ S16384x16x128.size a)
theorem k0_off2265_inb : ∀ (v9934 : BitVec 32) (k0_hw2265 : k0_chk2265 v9934), ∀ a, (k0_off2265 v9934) a + S1x16x128.size a ≤ S16384x16x128.size a := fun v9934 k0_hw2265 => k0_hw2265

def k0_off2266 (v9940 : BitVec 32) : Fin 3 → Nat :=
  let c0_i32_8519 : BitVec 32 := 0#32
  let c0_i32_8520 : BitVec 32 := 0#32
  ![v9940.toNat, 0, 0]

def k0_chk2266 (v9940 : BitVec 32) : Prop :=
  (∀ a, (k0_off2266 v9940) a + S1x16x128.size a ≤ S16384x16x128.size a)
theorem k0_off2266_inb : ∀ (v9940 : BitVec 32) (k0_hw2266 : k0_chk2266 v9940), ∀ a, (k0_off2266 v9940) a + S1x16x128.size a ≤ S16384x16x128.size a := fun v9940 k0_hw2266 => k0_hw2266

def k0_off2267 (v9946 : BitVec 32) : Fin 3 → Nat :=
  let c0_i32_8526 : BitVec 32 := 0#32
  let c0_i32_8527 : BitVec 32 := 0#32
  ![v9946.toNat, 0, 0]

def k0_chk2267 (v9946 : BitVec 32) : Prop :=
  (∀ a, (k0_off2267 v9946) a + S1x16x128.size a ≤ S16384x16x128.size a)
theorem k0_off2267_inb : ∀ (v9946 : BitVec 32) (k0_hw2267 : k0_chk2267 v9946), ∀ a, (k0_off2267 v9946) a + S1x16x128.size a ≤ S16384x16x128.size a := fun v9946 k0_hw2267 => k0_hw2267

def k0_off2268 (v9952 : BitVec 32) : Fin 3 → Nat :=
  let c0_i32_8533 : BitVec 32 := 0#32
  let c0_i32_8534 : BitVec 32 := 0#32
  ![v9952.toNat, 0, 0]

def k0_chk2268 (v9952 : BitVec 32) : Prop :=
  (∀ a, (k0_off2268 v9952) a + S1x16x128.size a ≤ S16384x16x128.size a)
theorem k0_off2268_inb : ∀ (v9952 : BitVec 32) (k0_hw2268 : k0_chk2268 v9952), ∀ a, (k0_off2268 v9952) a + S1x16x128.size a ≤ S16384x16x128.size a := fun v9952 k0_hw2268 => k0_hw2268

def k0_off2269 (v9958 : BitVec 32) : Fin 3 → Nat :=
  let c0_i32_8540 : BitVec 32 := 0#32
  let c0_i32_8541 : BitVec 32 := 0#32
  ![v9958.toNat, 0, 0]

def k0_chk2269 (v9958 : BitVec 32) : Prop :=
  (∀ a, (k0_off2269 v9958) a + S1x16x128.size a ≤ S16384x16x128.size a)
theorem k0_off2269_inb : ∀ (v9958 : BitVec 32) (k0_hw2269 : k0_chk2269 v9958), ∀ a, (k0_off2269 v9958) a + S1x16x128.size a ≤ S16384x16x128.size a := fun v9958 k0_hw2269 => k0_hw2269

def k0_off2270 (v9964 : BitVec 32) : Fin 3 → Nat :=
  let c0_i32_8547 : BitVec 32 := 0#32
  let c0_i32_8548 : BitVec 32 := 0#32
  ![v9964.toNat, 0, 0]

def k0_chk2270 (v9964 : BitVec 32) : Prop :=
  (∀ a, (k0_off2270 v9964) a + S1x16x128.size a ≤ S16384x16x128.size a)
theorem k0_off2270_inb : ∀ (v9964 : BitVec 32) (k0_hw2270 : k0_chk2270 v9964), ∀ a, (k0_off2270 v9964) a + S1x16x128.size a ≤ S16384x16x128.size a := fun v9964 k0_hw2270 => k0_hw2270

def k0_off2271 (v9970 : BitVec 32) : Fin 3 → Nat :=
  let c0_i32_8554 : BitVec 32 := 0#32
  let c0_i32_8555 : BitVec 32 := 0#32
  ![v9970.toNat, 0, 0]

def k0_chk2271 (v9970 : BitVec 32) : Prop :=
  (∀ a, (k0_off2271 v9970) a + S1x16x128.size a ≤ S16384x16x128.size a)
theorem k0_off2271_inb : ∀ (v9970 : BitVec 32) (k0_hw2271 : k0_chk2271 v9970), ∀ a, (k0_off2271 v9970) a + S1x16x128.size a ≤ S16384x16x128.size a := fun v9970 k0_hw2271 => k0_hw2271

def k0_off2272 (v9976 : BitVec 32) : Fin 3 → Nat :=
  let c0_i32_8561 : BitVec 32 := 0#32
  let c0_i32_8562 : BitVec 32 := 0#32
  ![v9976.toNat, 0, 0]

def k0_chk2272 (v9976 : BitVec 32) : Prop :=
  (∀ a, (k0_off2272 v9976) a + S1x16x128.size a ≤ S16384x16x128.size a)
theorem k0_off2272_inb : ∀ (v9976 : BitVec 32) (k0_hw2272 : k0_chk2272 v9976), ∀ a, (k0_off2272 v9976) a + S1x16x128.size a ≤ S16384x16x128.size a := fun v9976 k0_hw2272 => k0_hw2272

def k0_off2273 (v9982 : BitVec 32) : Fin 3 → Nat :=
  let c0_i32_8568 : BitVec 32 := 0#32
  let c0_i32_8569 : BitVec 32 := 0#32
  ![v9982.toNat, 0, 0]

def k0_chk2273 (v9982 : BitVec 32) : Prop :=
  (∀ a, (k0_off2273 v9982) a + S1x16x128.size a ≤ S16384x16x128.size a)
theorem k0_off2273_inb : ∀ (v9982 : BitVec 32) (k0_hw2273 : k0_chk2273 v9982), ∀ a, (k0_off2273 v9982) a + S1x16x128.size a ≤ S16384x16x128.size a := fun v9982 k0_hw2273 => k0_hw2273

def k0_off2274 (v9988 : BitVec 32) : Fin 3 → Nat :=
  let c0_i32_8575 : BitVec 32 := 0#32
  let c0_i32_8576 : BitVec 32 := 0#32
  ![v9988.toNat, 0, 0]

def k0_chk2274 (v9988 : BitVec 32) : Prop :=
  (∀ a, (k0_off2274 v9988) a + S1x16x128.size a ≤ S16384x16x128.size a)
theorem k0_off2274_inb : ∀ (v9988 : BitVec 32) (k0_hw2274 : k0_chk2274 v9988), ∀ a, (k0_off2274 v9988) a + S1x16x128.size a ≤ S16384x16x128.size a := fun v9988 k0_hw2274 => k0_hw2274

def k0_off2275 (v9994 : BitVec 32) : Fin 3 → Nat :=
  let c0_i32_8582 : BitVec 32 := 0#32
  let c0_i32_8583 : BitVec 32 := 0#32
  ![v9994.toNat, 0, 0]

def k0_chk2275 (v9994 : BitVec 32) : Prop :=
  (∀ a, (k0_off2275 v9994) a + S1x16x128.size a ≤ S16384x16x128.size a)
theorem k0_off2275_inb : ∀ (v9994 : BitVec 32) (k0_hw2275 : k0_chk2275 v9994), ∀ a, (k0_off2275 v9994) a + S1x16x128.size a ≤ S16384x16x128.size a := fun v9994 k0_hw2275 => k0_hw2275

def k0_off2276 (v10000 : BitVec 32) : Fin 3 → Nat :=
  let c0_i32_8589 : BitVec 32 := 0#32
  let c0_i32_8590 : BitVec 32 := 0#32
  ![v10000.toNat, 0, 0]

def k0_chk2276 (v10000 : BitVec 32) : Prop :=
  (∀ a, (k0_off2276 v10000) a + S1x16x128.size a ≤ S16384x16x128.size a)
theorem k0_off2276_inb : ∀ (v10000 : BitVec 32) (k0_hw2276 : k0_chk2276 v10000), ∀ a, (k0_off2276 v10000) a + S1x16x128.size a ≤ S16384x16x128.size a := fun v10000 k0_hw2276 => k0_hw2276

def k0_off2277 (v10006 : BitVec 32) : Fin 3 → Nat :=
  let c0_i32_8596 : BitVec 32 := 0#32
  let c0_i32_8597 : BitVec 32 := 0#32
  ![v10006.toNat, 0, 0]

def k0_chk2277 (v10006 : BitVec 32) : Prop :=
  (∀ a, (k0_off2277 v10006) a + S1x16x128.size a ≤ S16384x16x128.size a)
theorem k0_off2277_inb : ∀ (v10006 : BitVec 32) (k0_hw2277 : k0_chk2277 v10006), ∀ a, (k0_off2277 v10006) a + S1x16x128.size a ≤ S16384x16x128.size a := fun v10006 k0_hw2277 => k0_hw2277

def k0_off2278 (v10012 : BitVec 32) : Fin 3 → Nat :=
  let c0_i32_8603 : BitVec 32 := 0#32
  let c0_i32_8604 : BitVec 32 := 0#32
  ![v10012.toNat, 0, 0]

def k0_chk2278 (v10012 : BitVec 32) : Prop :=
  (∀ a, (k0_off2278 v10012) a + S1x16x128.size a ≤ S16384x16x128.size a)
theorem k0_off2278_inb : ∀ (v10012 : BitVec 32) (k0_hw2278 : k0_chk2278 v10012), ∀ a, (k0_off2278 v10012) a + S1x16x128.size a ≤ S16384x16x128.size a := fun v10012 k0_hw2278 => k0_hw2278

def k0_off2279 (v10018 : BitVec 32) : Fin 3 → Nat :=
  let c0_i32_8610 : BitVec 32 := 0#32
  let c0_i32_8611 : BitVec 32 := 0#32
  ![v10018.toNat, 0, 0]

def k0_chk2279 (v10018 : BitVec 32) : Prop :=
  (∀ a, (k0_off2279 v10018) a + S1x16x128.size a ≤ S16384x16x128.size a)
theorem k0_off2279_inb : ∀ (v10018 : BitVec 32) (k0_hw2279 : k0_chk2279 v10018), ∀ a, (k0_off2279 v10018) a + S1x16x128.size a ≤ S16384x16x128.size a := fun v10018 k0_hw2279 => k0_hw2279

def k0_off2280 (v10024 : BitVec 32) : Fin 3 → Nat :=
  let c0_i32_8617 : BitVec 32 := 0#32
  let c0_i32_8618 : BitVec 32 := 0#32
  ![v10024.toNat, 0, 0]

def k0_chk2280 (v10024 : BitVec 32) : Prop :=
  (∀ a, (k0_off2280 v10024) a + S1x16x128.size a ≤ S16384x16x128.size a)
theorem k0_off2280_inb : ∀ (v10024 : BitVec 32) (k0_hw2280 : k0_chk2280 v10024), ∀ a, (k0_off2280 v10024) a + S1x16x128.size a ≤ S16384x16x128.size a := fun v10024 k0_hw2280 => k0_hw2280

def k0_off2281 (v10030 : BitVec 32) : Fin 3 → Nat :=
  let c0_i32_8624 : BitVec 32 := 0#32
  let c0_i32_8625 : BitVec 32 := 0#32
  ![v10030.toNat, 0, 0]

def k0_chk2281 (v10030 : BitVec 32) : Prop :=
  (∀ a, (k0_off2281 v10030) a + S1x16x128.size a ≤ S16384x16x128.size a)
theorem k0_off2281_inb : ∀ (v10030 : BitVec 32) (k0_hw2281 : k0_chk2281 v10030), ∀ a, (k0_off2281 v10030) a + S1x16x128.size a ≤ S16384x16x128.size a := fun v10030 k0_hw2281 => k0_hw2281

def k0_off2282 (v10036 : BitVec 32) : Fin 3 → Nat :=
  let c0_i32_8631 : BitVec 32 := 0#32
  let c0_i32_8632 : BitVec 32 := 0#32
  ![v10036.toNat, 0, 0]

def k0_chk2282 (v10036 : BitVec 32) : Prop :=
  (∀ a, (k0_off2282 v10036) a + S1x16x128.size a ≤ S16384x16x128.size a)
theorem k0_off2282_inb : ∀ (v10036 : BitVec 32) (k0_hw2282 : k0_chk2282 v10036), ∀ a, (k0_off2282 v10036) a + S1x16x128.size a ≤ S16384x16x128.size a := fun v10036 k0_hw2282 => k0_hw2282

def k0_off2283 (v10042 : BitVec 32) : Fin 3 → Nat :=
  let c0_i32_8638 : BitVec 32 := 0#32
  let c0_i32_8639 : BitVec 32 := 0#32
  ![v10042.toNat, 0, 0]

def k0_chk2283 (v10042 : BitVec 32) : Prop :=
  (∀ a, (k0_off2283 v10042) a + S1x16x128.size a ≤ S16384x16x128.size a)
theorem k0_off2283_inb : ∀ (v10042 : BitVec 32) (k0_hw2283 : k0_chk2283 v10042), ∀ a, (k0_off2283 v10042) a + S1x16x128.size a ≤ S16384x16x128.size a := fun v10042 k0_hw2283 => k0_hw2283

def k0_off2284 (v10048 : BitVec 32) : Fin 3 → Nat :=
  let c0_i32_8645 : BitVec 32 := 0#32
  let c0_i32_8646 : BitVec 32 := 0#32
  ![v10048.toNat, 0, 0]

def k0_chk2284 (v10048 : BitVec 32) : Prop :=
  (∀ a, (k0_off2284 v10048) a + S1x16x128.size a ≤ S16384x16x128.size a)
theorem k0_off2284_inb : ∀ (v10048 : BitVec 32) (k0_hw2284 : k0_chk2284 v10048), ∀ a, (k0_off2284 v10048) a + S1x16x128.size a ≤ S16384x16x128.size a := fun v10048 k0_hw2284 => k0_hw2284

def k0_off2285 (v10054 : BitVec 32) : Fin 3 → Nat :=
  let c0_i32_8652 : BitVec 32 := 0#32
  let c0_i32_8653 : BitVec 32 := 0#32
  ![v10054.toNat, 0, 0]

def k0_chk2285 (v10054 : BitVec 32) : Prop :=
  (∀ a, (k0_off2285 v10054) a + S1x16x128.size a ≤ S16384x16x128.size a)
theorem k0_off2285_inb : ∀ (v10054 : BitVec 32) (k0_hw2285 : k0_chk2285 v10054), ∀ a, (k0_off2285 v10054) a + S1x16x128.size a ≤ S16384x16x128.size a := fun v10054 k0_hw2285 => k0_hw2285

def k0_off2286 (v10060 : BitVec 32) : Fin 3 → Nat :=
  let c0_i32_8659 : BitVec 32 := 0#32
  let c0_i32_8660 : BitVec 32 := 0#32
  ![v10060.toNat, 0, 0]

def k0_chk2286 (v10060 : BitVec 32) : Prop :=
  (∀ a, (k0_off2286 v10060) a + S1x16x128.size a ≤ S16384x16x128.size a)
theorem k0_off2286_inb : ∀ (v10060 : BitVec 32) (k0_hw2286 : k0_chk2286 v10060), ∀ a, (k0_off2286 v10060) a + S1x16x128.size a ≤ S16384x16x128.size a := fun v10060 k0_hw2286 => k0_hw2286

def k0_off2287 (v10066 : BitVec 32) : Fin 3 → Nat :=
  let c0_i32_8666 : BitVec 32 := 0#32
  let c0_i32_8667 : BitVec 32 := 0#32
  ![v10066.toNat, 0, 0]

def k0_chk2287 (v10066 : BitVec 32) : Prop :=
  (∀ a, (k0_off2287 v10066) a + S1x16x128.size a ≤ S16384x16x128.size a)
theorem k0_off2287_inb : ∀ (v10066 : BitVec 32) (k0_hw2287 : k0_chk2287 v10066), ∀ a, (k0_off2287 v10066) a + S1x16x128.size a ≤ S16384x16x128.size a := fun v10066 k0_hw2287 => k0_hw2287

def k0_off2288 (v10072 : BitVec 32) : Fin 3 → Nat :=
  let c0_i32_8673 : BitVec 32 := 0#32
  let c0_i32_8674 : BitVec 32 := 0#32
  ![v10072.toNat, 0, 0]

def k0_chk2288 (v10072 : BitVec 32) : Prop :=
  (∀ a, (k0_off2288 v10072) a + S1x16x128.size a ≤ S16384x16x128.size a)
theorem k0_off2288_inb : ∀ (v10072 : BitVec 32) (k0_hw2288 : k0_chk2288 v10072), ∀ a, (k0_off2288 v10072) a + S1x16x128.size a ≤ S16384x16x128.size a := fun v10072 k0_hw2288 => k0_hw2288

def k0_off2289 (v10078 : BitVec 32) : Fin 3 → Nat :=
  let c0_i32_8680 : BitVec 32 := 0#32
  let c0_i32_8681 : BitVec 32 := 0#32
  ![v10078.toNat, 0, 0]

def k0_chk2289 (v10078 : BitVec 32) : Prop :=
  (∀ a, (k0_off2289 v10078) a + S1x16x128.size a ≤ S16384x16x128.size a)
theorem k0_off2289_inb : ∀ (v10078 : BitVec 32) (k0_hw2289 : k0_chk2289 v10078), ∀ a, (k0_off2289 v10078) a + S1x16x128.size a ≤ S16384x16x128.size a := fun v10078 k0_hw2289 => k0_hw2289

def k0_off2290 (v10084 : BitVec 32) : Fin 3 → Nat :=
  let c0_i32_8687 : BitVec 32 := 0#32
  let c0_i32_8688 : BitVec 32 := 0#32
  ![v10084.toNat, 0, 0]

def k0_chk2290 (v10084 : BitVec 32) : Prop :=
  (∀ a, (k0_off2290 v10084) a + S1x16x128.size a ≤ S16384x16x128.size a)
theorem k0_off2290_inb : ∀ (v10084 : BitVec 32) (k0_hw2290 : k0_chk2290 v10084), ∀ a, (k0_off2290 v10084) a + S1x16x128.size a ≤ S16384x16x128.size a := fun v10084 k0_hw2290 => k0_hw2290

def k0_off2291 (v10090 : BitVec 32) : Fin 3 → Nat :=
  let c0_i32_8694 : BitVec 32 := 0#32
  let c0_i32_8695 : BitVec 32 := 0#32
  ![v10090.toNat, 0, 0]

def k0_chk2291 (v10090 : BitVec 32) : Prop :=
  (∀ a, (k0_off2291 v10090) a + S1x16x128.size a ≤ S16384x16x128.size a)
theorem k0_off2291_inb : ∀ (v10090 : BitVec 32) (k0_hw2291 : k0_chk2291 v10090), ∀ a, (k0_off2291 v10090) a + S1x16x128.size a ≤ S16384x16x128.size a := fun v10090 k0_hw2291 => k0_hw2291

def k0_off2292 (v10096 : BitVec 32) : Fin 3 → Nat :=
  let c0_i32_8701 : BitVec 32 := 0#32
  let c0_i32_8702 : BitVec 32 := 0#32
  ![v10096.toNat, 0, 0]

def k0_chk2292 (v10096 : BitVec 32) : Prop :=
  (∀ a, (k0_off2292 v10096) a + S1x16x128.size a ≤ S16384x16x128.size a)
theorem k0_off2292_inb : ∀ (v10096 : BitVec 32) (k0_hw2292 : k0_chk2292 v10096), ∀ a, (k0_off2292 v10096) a + S1x16x128.size a ≤ S16384x16x128.size a := fun v10096 k0_hw2292 => k0_hw2292

def k0_off2293 (v10102 : BitVec 32) : Fin 3 → Nat :=
  let c0_i32_8708 : BitVec 32 := 0#32
  let c0_i32_8709 : BitVec 32 := 0#32
  ![v10102.toNat, 0, 0]

def k0_chk2293 (v10102 : BitVec 32) : Prop :=
  (∀ a, (k0_off2293 v10102) a + S1x16x128.size a ≤ S16384x16x128.size a)
theorem k0_off2293_inb : ∀ (v10102 : BitVec 32) (k0_hw2293 : k0_chk2293 v10102), ∀ a, (k0_off2293 v10102) a + S1x16x128.size a ≤ S16384x16x128.size a := fun v10102 k0_hw2293 => k0_hw2293

def k0_off2294 (v10108 : BitVec 32) : Fin 3 → Nat :=
  let c0_i32_8715 : BitVec 32 := 0#32
  let c0_i32_8716 : BitVec 32 := 0#32
  ![v10108.toNat, 0, 0]

def k0_chk2294 (v10108 : BitVec 32) : Prop :=
  (∀ a, (k0_off2294 v10108) a + S1x16x128.size a ≤ S16384x16x128.size a)
theorem k0_off2294_inb : ∀ (v10108 : BitVec 32) (k0_hw2294 : k0_chk2294 v10108), ∀ a, (k0_off2294 v10108) a + S1x16x128.size a ≤ S16384x16x128.size a := fun v10108 k0_hw2294 => k0_hw2294

def k0_off2295 (v10114 : BitVec 32) : Fin 3 → Nat :=
  let c0_i32_8722 : BitVec 32 := 0#32
  let c0_i32_8723 : BitVec 32 := 0#32
  ![v10114.toNat, 0, 0]

def k0_chk2295 (v10114 : BitVec 32) : Prop :=
  (∀ a, (k0_off2295 v10114) a + S1x16x128.size a ≤ S16384x16x128.size a)
theorem k0_off2295_inb : ∀ (v10114 : BitVec 32) (k0_hw2295 : k0_chk2295 v10114), ∀ a, (k0_off2295 v10114) a + S1x16x128.size a ≤ S16384x16x128.size a := fun v10114 k0_hw2295 => k0_hw2295

def k0_off2296 (v10120 : BitVec 32) : Fin 3 → Nat :=
  let c0_i32_8729 : BitVec 32 := 0#32
  let c0_i32_8730 : BitVec 32 := 0#32
  ![v10120.toNat, 0, 0]

def k0_chk2296 (v10120 : BitVec 32) : Prop :=
  (∀ a, (k0_off2296 v10120) a + S1x16x128.size a ≤ S16384x16x128.size a)
theorem k0_off2296_inb : ∀ (v10120 : BitVec 32) (k0_hw2296 : k0_chk2296 v10120), ∀ a, (k0_off2296 v10120) a + S1x16x128.size a ≤ S16384x16x128.size a := fun v10120 k0_hw2296 => k0_hw2296

def k0_off2297 (v10126 : BitVec 32) : Fin 3 → Nat :=
  let c0_i32_8736 : BitVec 32 := 0#32
  let c0_i32_8737 : BitVec 32 := 0#32
  ![v10126.toNat, 0, 0]

def k0_chk2297 (v10126 : BitVec 32) : Prop :=
  (∀ a, (k0_off2297 v10126) a + S1x16x128.size a ≤ S16384x16x128.size a)
theorem k0_off2297_inb : ∀ (v10126 : BitVec 32) (k0_hw2297 : k0_chk2297 v10126), ∀ a, (k0_off2297 v10126) a + S1x16x128.size a ≤ S16384x16x128.size a := fun v10126 k0_hw2297 => k0_hw2297

def k0_off2298 (v10132 : BitVec 32) : Fin 3 → Nat :=
  let c0_i32_8743 : BitVec 32 := 0#32
  let c0_i32_8744 : BitVec 32 := 0#32
  ![v10132.toNat, 0, 0]

def k0_chk2298 (v10132 : BitVec 32) : Prop :=
  (∀ a, (k0_off2298 v10132) a + S1x16x128.size a ≤ S16384x16x128.size a)
theorem k0_off2298_inb : ∀ (v10132 : BitVec 32) (k0_hw2298 : k0_chk2298 v10132), ∀ a, (k0_off2298 v10132) a + S1x16x128.size a ≤ S16384x16x128.size a := fun v10132 k0_hw2298 => k0_hw2298

def k0_off2299 (v10138 : BitVec 32) : Fin 3 → Nat :=
  let c0_i32_8750 : BitVec 32 := 0#32
  let c0_i32_8751 : BitVec 32 := 0#32
  ![v10138.toNat, 0, 0]

def k0_chk2299 (v10138 : BitVec 32) : Prop :=
  (∀ a, (k0_off2299 v10138) a + S1x16x128.size a ≤ S16384x16x128.size a)
theorem k0_off2299_inb : ∀ (v10138 : BitVec 32) (k0_hw2299 : k0_chk2299 v10138), ∀ a, (k0_off2299 v10138) a + S1x16x128.size a ≤ S16384x16x128.size a := fun v10138 k0_hw2299 => k0_hw2299

def k0_off2300 (v10144 : BitVec 32) : Fin 3 → Nat :=
  let c0_i32_8757 : BitVec 32 := 0#32
  let c0_i32_8758 : BitVec 32 := 0#32
  ![v10144.toNat, 0, 0]

def k0_chk2300 (v10144 : BitVec 32) : Prop :=
  (∀ a, (k0_off2300 v10144) a + S1x16x128.size a ≤ S16384x16x128.size a)
theorem k0_off2300_inb : ∀ (v10144 : BitVec 32) (k0_hw2300 : k0_chk2300 v10144), ∀ a, (k0_off2300 v10144) a + S1x16x128.size a ≤ S16384x16x128.size a := fun v10144 k0_hw2300 => k0_hw2300

def k0_off2301 (v10150 : BitVec 32) : Fin 3 → Nat :=
  let c0_i32_8764 : BitVec 32 := 0#32
  let c0_i32_8765 : BitVec 32 := 0#32
  ![v10150.toNat, 0, 0]

def k0_chk2301 (v10150 : BitVec 32) : Prop :=
  (∀ a, (k0_off2301 v10150) a + S1x16x128.size a ≤ S16384x16x128.size a)
theorem k0_off2301_inb : ∀ (v10150 : BitVec 32) (k0_hw2301 : k0_chk2301 v10150), ∀ a, (k0_off2301 v10150) a + S1x16x128.size a ≤ S16384x16x128.size a := fun v10150 k0_hw2301 => k0_hw2301

def k0_off2302 (v10156 : BitVec 32) : Fin 3 → Nat :=
  let c0_i32_8771 : BitVec 32 := 0#32
  let c0_i32_8772 : BitVec 32 := 0#32
  ![v10156.toNat, 0, 0]

def k0_chk2302 (v10156 : BitVec 32) : Prop :=
  (∀ a, (k0_off2302 v10156) a + S1x16x128.size a ≤ S16384x16x128.size a)
theorem k0_off2302_inb : ∀ (v10156 : BitVec 32) (k0_hw2302 : k0_chk2302 v10156), ∀ a, (k0_off2302 v10156) a + S1x16x128.size a ≤ S16384x16x128.size a := fun v10156 k0_hw2302 => k0_hw2302

def k0_off2303 (v10162 : BitVec 32) : Fin 3 → Nat :=
  let c0_i32_8778 : BitVec 32 := 0#32
  let c0_i32_8779 : BitVec 32 := 0#32
  ![v10162.toNat, 0, 0]

def k0_chk2303 (v10162 : BitVec 32) : Prop :=
  (∀ a, (k0_off2303 v10162) a + S1x16x128.size a ≤ S16384x16x128.size a)
theorem k0_off2303_inb : ∀ (v10162 : BitVec 32) (k0_hw2303 : k0_chk2303 v10162), ∀ a, (k0_off2303 v10162) a + S1x16x128.size a ≤ S16384x16x128.size a := fun v10162 k0_hw2303 => k0_hw2303

def k0_off2304 (v10168 : BitVec 32) : Fin 3 → Nat :=
  let c0_i32_8785 : BitVec 32 := 0#32
  let c0_i32_8786 : BitVec 32 := 0#32
  ![v10168.toNat, 0, 0]

def k0_chk2304 (v10168 : BitVec 32) : Prop :=
  (∀ a, (k0_off2304 v10168) a + S1x16x128.size a ≤ S16384x16x128.size a)
theorem k0_off2304_inb : ∀ (v10168 : BitVec 32) (k0_hw2304 : k0_chk2304 v10168), ∀ a, (k0_off2304 v10168) a + S1x16x128.size a ≤ S16384x16x128.size a := fun v10168 k0_hw2304 => k0_hw2304

def k0_off2305 (v10447 : BitVec 32) : Fin 3 → Nat :=
  let c0_i32_8911 : BitVec 32 := 0#32
  let c0_i32_8912 : BitVec 32 := 0#32
  ![v10447.toNat, 0, 0]

def k0_chk2305 (v10447 : BitVec 32) : Prop :=
  (∀ a, (k0_off2305 v10447) a + S1x16x128.size a ≤ S16384x16x128.size a)
theorem k0_off2305_inb : ∀ (v10447 : BitVec 32) (k0_hw2305 : k0_chk2305 v10447), ∀ a, (k0_off2305 v10447) a + S1x16x128.size a ≤ S16384x16x128.size a := fun v10447 k0_hw2305 => k0_hw2305

def k0_off2306 (v10453 : BitVec 32) : Fin 3 → Nat :=
  let c0_i32_8918 : BitVec 32 := 0#32
  let c0_i32_8919 : BitVec 32 := 0#32
  ![v10453.toNat, 0, 0]

def k0_chk2306 (v10453 : BitVec 32) : Prop :=
  (∀ a, (k0_off2306 v10453) a + S1x16x128.size a ≤ S16384x16x128.size a)
theorem k0_off2306_inb : ∀ (v10453 : BitVec 32) (k0_hw2306 : k0_chk2306 v10453), ∀ a, (k0_off2306 v10453) a + S1x16x128.size a ≤ S16384x16x128.size a := fun v10453 k0_hw2306 => k0_hw2306

def k0_off2307 (v10459 : BitVec 32) : Fin 3 → Nat :=
  let c0_i32_8925 : BitVec 32 := 0#32
  let c0_i32_8926 : BitVec 32 := 0#32
  ![v10459.toNat, 0, 0]

def k0_chk2307 (v10459 : BitVec 32) : Prop :=
  (∀ a, (k0_off2307 v10459) a + S1x16x128.size a ≤ S16384x16x128.size a)
theorem k0_off2307_inb : ∀ (v10459 : BitVec 32) (k0_hw2307 : k0_chk2307 v10459), ∀ a, (k0_off2307 v10459) a + S1x16x128.size a ≤ S16384x16x128.size a := fun v10459 k0_hw2307 => k0_hw2307

def k0_off2308 (v10465 : BitVec 32) : Fin 3 → Nat :=
  let c0_i32_8932 : BitVec 32 := 0#32
  let c0_i32_8933 : BitVec 32 := 0#32
  ![v10465.toNat, 0, 0]

def k0_chk2308 (v10465 : BitVec 32) : Prop :=
  (∀ a, (k0_off2308 v10465) a + S1x16x128.size a ≤ S16384x16x128.size a)
theorem k0_off2308_inb : ∀ (v10465 : BitVec 32) (k0_hw2308 : k0_chk2308 v10465), ∀ a, (k0_off2308 v10465) a + S1x16x128.size a ≤ S16384x16x128.size a := fun v10465 k0_hw2308 => k0_hw2308

def k0_off2309 (v10471 : BitVec 32) : Fin 3 → Nat :=
  let c0_i32_8939 : BitVec 32 := 0#32
  let c0_i32_8940 : BitVec 32 := 0#32
  ![v10471.toNat, 0, 0]

def k0_chk2309 (v10471 : BitVec 32) : Prop :=
  (∀ a, (k0_off2309 v10471) a + S1x16x128.size a ≤ S16384x16x128.size a)
theorem k0_off2309_inb : ∀ (v10471 : BitVec 32) (k0_hw2309 : k0_chk2309 v10471), ∀ a, (k0_off2309 v10471) a + S1x16x128.size a ≤ S16384x16x128.size a := fun v10471 k0_hw2309 => k0_hw2309

def k0_off2310 (v10477 : BitVec 32) : Fin 3 → Nat :=
  let c0_i32_8946 : BitVec 32 := 0#32
  let c0_i32_8947 : BitVec 32 := 0#32
  ![v10477.toNat, 0, 0]

def k0_chk2310 (v10477 : BitVec 32) : Prop :=
  (∀ a, (k0_off2310 v10477) a + S1x16x128.size a ≤ S16384x16x128.size a)
theorem k0_off2310_inb : ∀ (v10477 : BitVec 32) (k0_hw2310 : k0_chk2310 v10477), ∀ a, (k0_off2310 v10477) a + S1x16x128.size a ≤ S16384x16x128.size a := fun v10477 k0_hw2310 => k0_hw2310

def k0_off2311 (v10483 : BitVec 32) : Fin 3 → Nat :=
  let c0_i32_8953 : BitVec 32 := 0#32
  let c0_i32_8954 : BitVec 32 := 0#32
  ![v10483.toNat, 0, 0]

def k0_chk2311 (v10483 : BitVec 32) : Prop :=
  (∀ a, (k0_off2311 v10483) a + S1x16x128.size a ≤ S16384x16x128.size a)
theorem k0_off2311_inb : ∀ (v10483 : BitVec 32) (k0_hw2311 : k0_chk2311 v10483), ∀ a, (k0_off2311 v10483) a + S1x16x128.size a ≤ S16384x16x128.size a := fun v10483 k0_hw2311 => k0_hw2311

def k0_off2312 (v10489 : BitVec 32) : Fin 3 → Nat :=
  let c0_i32_8960 : BitVec 32 := 0#32
  let c0_i32_8961 : BitVec 32 := 0#32
  ![v10489.toNat, 0, 0]

def k0_chk2312 (v10489 : BitVec 32) : Prop :=
  (∀ a, (k0_off2312 v10489) a + S1x16x128.size a ≤ S16384x16x128.size a)
theorem k0_off2312_inb : ∀ (v10489 : BitVec 32) (k0_hw2312 : k0_chk2312 v10489), ∀ a, (k0_off2312 v10489) a + S1x16x128.size a ≤ S16384x16x128.size a := fun v10489 k0_hw2312 => k0_hw2312

def k0_off2313 (v10495 : BitVec 32) : Fin 3 → Nat :=
  let c0_i32_8967 : BitVec 32 := 0#32
  let c0_i32_8968 : BitVec 32 := 0#32
  ![v10495.toNat, 0, 0]

def k0_chk2313 (v10495 : BitVec 32) : Prop :=
  (∀ a, (k0_off2313 v10495) a + S1x16x128.size a ≤ S16384x16x128.size a)
theorem k0_off2313_inb : ∀ (v10495 : BitVec 32) (k0_hw2313 : k0_chk2313 v10495), ∀ a, (k0_off2313 v10495) a + S1x16x128.size a ≤ S16384x16x128.size a := fun v10495 k0_hw2313 => k0_hw2313

def k0_off2314 (v10501 : BitVec 32) : Fin 3 → Nat :=
  let c0_i32_8974 : BitVec 32 := 0#32
  let c0_i32_8975 : BitVec 32 := 0#32
  ![v10501.toNat, 0, 0]

def k0_chk2314 (v10501 : BitVec 32) : Prop :=
  (∀ a, (k0_off2314 v10501) a + S1x16x128.size a ≤ S16384x16x128.size a)
theorem k0_off2314_inb : ∀ (v10501 : BitVec 32) (k0_hw2314 : k0_chk2314 v10501), ∀ a, (k0_off2314 v10501) a + S1x16x128.size a ≤ S16384x16x128.size a := fun v10501 k0_hw2314 => k0_hw2314

def k0_off2315 (v10507 : BitVec 32) : Fin 3 → Nat :=
  let c0_i32_8981 : BitVec 32 := 0#32
  let c0_i32_8982 : BitVec 32 := 0#32
  ![v10507.toNat, 0, 0]

def k0_chk2315 (v10507 : BitVec 32) : Prop :=
  (∀ a, (k0_off2315 v10507) a + S1x16x128.size a ≤ S16384x16x128.size a)
theorem k0_off2315_inb : ∀ (v10507 : BitVec 32) (k0_hw2315 : k0_chk2315 v10507), ∀ a, (k0_off2315 v10507) a + S1x16x128.size a ≤ S16384x16x128.size a := fun v10507 k0_hw2315 => k0_hw2315

def k0_off2316 (v10513 : BitVec 32) : Fin 3 → Nat :=
  let c0_i32_8988 : BitVec 32 := 0#32
  let c0_i32_8989 : BitVec 32 := 0#32
  ![v10513.toNat, 0, 0]

def k0_chk2316 (v10513 : BitVec 32) : Prop :=
  (∀ a, (k0_off2316 v10513) a + S1x16x128.size a ≤ S16384x16x128.size a)
theorem k0_off2316_inb : ∀ (v10513 : BitVec 32) (k0_hw2316 : k0_chk2316 v10513), ∀ a, (k0_off2316 v10513) a + S1x16x128.size a ≤ S16384x16x128.size a := fun v10513 k0_hw2316 => k0_hw2316

def k0_off2317 (v10519 : BitVec 32) : Fin 3 → Nat :=
  let c0_i32_8995 : BitVec 32 := 0#32
  let c0_i32_8996 : BitVec 32 := 0#32
  ![v10519.toNat, 0, 0]

def k0_chk2317 (v10519 : BitVec 32) : Prop :=
  (∀ a, (k0_off2317 v10519) a + S1x16x128.size a ≤ S16384x16x128.size a)
theorem k0_off2317_inb : ∀ (v10519 : BitVec 32) (k0_hw2317 : k0_chk2317 v10519), ∀ a, (k0_off2317 v10519) a + S1x16x128.size a ≤ S16384x16x128.size a := fun v10519 k0_hw2317 => k0_hw2317

def k0_off2318 (v10525 : BitVec 32) : Fin 3 → Nat :=
  let c0_i32_9002 : BitVec 32 := 0#32
  let c0_i32_9003 : BitVec 32 := 0#32
  ![v10525.toNat, 0, 0]

def k0_chk2318 (v10525 : BitVec 32) : Prop :=
  (∀ a, (k0_off2318 v10525) a + S1x16x128.size a ≤ S16384x16x128.size a)
theorem k0_off2318_inb : ∀ (v10525 : BitVec 32) (k0_hw2318 : k0_chk2318 v10525), ∀ a, (k0_off2318 v10525) a + S1x16x128.size a ≤ S16384x16x128.size a := fun v10525 k0_hw2318 => k0_hw2318

def k0_off2319 (v10531 : BitVec 32) : Fin 3 → Nat :=
  let c0_i32_9009 : BitVec 32 := 0#32
  let c0_i32_9010 : BitVec 32 := 0#32
  ![v10531.toNat, 0, 0]

def k0_chk2319 (v10531 : BitVec 32) : Prop :=
  (∀ a, (k0_off2319 v10531) a + S1x16x128.size a ≤ S16384x16x128.size a)
theorem k0_off2319_inb : ∀ (v10531 : BitVec 32) (k0_hw2319 : k0_chk2319 v10531), ∀ a, (k0_off2319 v10531) a + S1x16x128.size a ≤ S16384x16x128.size a := fun v10531 k0_hw2319 => k0_hw2319

def k0_off2320 (v10537 : BitVec 32) : Fin 3 → Nat :=
  let c0_i32_9016 : BitVec 32 := 0#32
  let c0_i32_9017 : BitVec 32 := 0#32
  ![v10537.toNat, 0, 0]

def k0_chk2320 (v10537 : BitVec 32) : Prop :=
  (∀ a, (k0_off2320 v10537) a + S1x16x128.size a ≤ S16384x16x128.size a)
theorem k0_off2320_inb : ∀ (v10537 : BitVec 32) (k0_hw2320 : k0_chk2320 v10537), ∀ a, (k0_off2320 v10537) a + S1x16x128.size a ≤ S16384x16x128.size a := fun v10537 k0_hw2320 => k0_hw2320

def k0_off2321 (v10543 : BitVec 32) : Fin 3 → Nat :=
  let c0_i32_9023 : BitVec 32 := 0#32
  let c0_i32_9024 : BitVec 32 := 0#32
  ![v10543.toNat, 0, 0]

def k0_chk2321 (v10543 : BitVec 32) : Prop :=
  (∀ a, (k0_off2321 v10543) a + S1x16x128.size a ≤ S16384x16x128.size a)
theorem k0_off2321_inb : ∀ (v10543 : BitVec 32) (k0_hw2321 : k0_chk2321 v10543), ∀ a, (k0_off2321 v10543) a + S1x16x128.size a ≤ S16384x16x128.size a := fun v10543 k0_hw2321 => k0_hw2321

def k0_off2322 (v10549 : BitVec 32) : Fin 3 → Nat :=
  let c0_i32_9030 : BitVec 32 := 0#32
  let c0_i32_9031 : BitVec 32 := 0#32
  ![v10549.toNat, 0, 0]

def k0_chk2322 (v10549 : BitVec 32) : Prop :=
  (∀ a, (k0_off2322 v10549) a + S1x16x128.size a ≤ S16384x16x128.size a)
theorem k0_off2322_inb : ∀ (v10549 : BitVec 32) (k0_hw2322 : k0_chk2322 v10549), ∀ a, (k0_off2322 v10549) a + S1x16x128.size a ≤ S16384x16x128.size a := fun v10549 k0_hw2322 => k0_hw2322

def k0_off2323 (v10555 : BitVec 32) : Fin 3 → Nat :=
  let c0_i32_9037 : BitVec 32 := 0#32
  let c0_i32_9038 : BitVec 32 := 0#32
  ![v10555.toNat, 0, 0]

def k0_chk2323 (v10555 : BitVec 32) : Prop :=
  (∀ a, (k0_off2323 v10555) a + S1x16x128.size a ≤ S16384x16x128.size a)
theorem k0_off2323_inb : ∀ (v10555 : BitVec 32) (k0_hw2323 : k0_chk2323 v10555), ∀ a, (k0_off2323 v10555) a + S1x16x128.size a ≤ S16384x16x128.size a := fun v10555 k0_hw2323 => k0_hw2323

def k0_off2324 (v10561 : BitVec 32) : Fin 3 → Nat :=
  let c0_i32_9044 : BitVec 32 := 0#32
  let c0_i32_9045 : BitVec 32 := 0#32
  ![v10561.toNat, 0, 0]

def k0_chk2324 (v10561 : BitVec 32) : Prop :=
  (∀ a, (k0_off2324 v10561) a + S1x16x128.size a ≤ S16384x16x128.size a)
theorem k0_off2324_inb : ∀ (v10561 : BitVec 32) (k0_hw2324 : k0_chk2324 v10561), ∀ a, (k0_off2324 v10561) a + S1x16x128.size a ≤ S16384x16x128.size a := fun v10561 k0_hw2324 => k0_hw2324

def k0_off2325 (v10567 : BitVec 32) : Fin 3 → Nat :=
  let c0_i32_9051 : BitVec 32 := 0#32
  let c0_i32_9052 : BitVec 32 := 0#32
  ![v10567.toNat, 0, 0]

def k0_chk2325 (v10567 : BitVec 32) : Prop :=
  (∀ a, (k0_off2325 v10567) a + S1x16x128.size a ≤ S16384x16x128.size a)
theorem k0_off2325_inb : ∀ (v10567 : BitVec 32) (k0_hw2325 : k0_chk2325 v10567), ∀ a, (k0_off2325 v10567) a + S1x16x128.size a ≤ S16384x16x128.size a := fun v10567 k0_hw2325 => k0_hw2325

def k0_off2326 (v10573 : BitVec 32) : Fin 3 → Nat :=
  let c0_i32_9058 : BitVec 32 := 0#32
  let c0_i32_9059 : BitVec 32 := 0#32
  ![v10573.toNat, 0, 0]

def k0_chk2326 (v10573 : BitVec 32) : Prop :=
  (∀ a, (k0_off2326 v10573) a + S1x16x128.size a ≤ S16384x16x128.size a)
theorem k0_off2326_inb : ∀ (v10573 : BitVec 32) (k0_hw2326 : k0_chk2326 v10573), ∀ a, (k0_off2326 v10573) a + S1x16x128.size a ≤ S16384x16x128.size a := fun v10573 k0_hw2326 => k0_hw2326

def k0_off2327 (v10579 : BitVec 32) : Fin 3 → Nat :=
  let c0_i32_9065 : BitVec 32 := 0#32
  let c0_i32_9066 : BitVec 32 := 0#32
  ![v10579.toNat, 0, 0]

def k0_chk2327 (v10579 : BitVec 32) : Prop :=
  (∀ a, (k0_off2327 v10579) a + S1x16x128.size a ≤ S16384x16x128.size a)
theorem k0_off2327_inb : ∀ (v10579 : BitVec 32) (k0_hw2327 : k0_chk2327 v10579), ∀ a, (k0_off2327 v10579) a + S1x16x128.size a ≤ S16384x16x128.size a := fun v10579 k0_hw2327 => k0_hw2327

def k0_off2328 (v10585 : BitVec 32) : Fin 3 → Nat :=
  let c0_i32_9072 : BitVec 32 := 0#32
  let c0_i32_9073 : BitVec 32 := 0#32
  ![v10585.toNat, 0, 0]

def k0_chk2328 (v10585 : BitVec 32) : Prop :=
  (∀ a, (k0_off2328 v10585) a + S1x16x128.size a ≤ S16384x16x128.size a)
theorem k0_off2328_inb : ∀ (v10585 : BitVec 32) (k0_hw2328 : k0_chk2328 v10585), ∀ a, (k0_off2328 v10585) a + S1x16x128.size a ≤ S16384x16x128.size a := fun v10585 k0_hw2328 => k0_hw2328

def k0_off2329 (v10591 : BitVec 32) : Fin 3 → Nat :=
  let c0_i32_9079 : BitVec 32 := 0#32
  let c0_i32_9080 : BitVec 32 := 0#32
  ![v10591.toNat, 0, 0]

def k0_chk2329 (v10591 : BitVec 32) : Prop :=
  (∀ a, (k0_off2329 v10591) a + S1x16x128.size a ≤ S16384x16x128.size a)
theorem k0_off2329_inb : ∀ (v10591 : BitVec 32) (k0_hw2329 : k0_chk2329 v10591), ∀ a, (k0_off2329 v10591) a + S1x16x128.size a ≤ S16384x16x128.size a := fun v10591 k0_hw2329 => k0_hw2329

def k0_off2330 (v10597 : BitVec 32) : Fin 3 → Nat :=
  let c0_i32_9086 : BitVec 32 := 0#32
  let c0_i32_9087 : BitVec 32 := 0#32
  ![v10597.toNat, 0, 0]

def k0_chk2330 (v10597 : BitVec 32) : Prop :=
  (∀ a, (k0_off2330 v10597) a + S1x16x128.size a ≤ S16384x16x128.size a)
theorem k0_off2330_inb : ∀ (v10597 : BitVec 32) (k0_hw2330 : k0_chk2330 v10597), ∀ a, (k0_off2330 v10597) a + S1x16x128.size a ≤ S16384x16x128.size a := fun v10597 k0_hw2330 => k0_hw2330

def k0_off2331 (v10603 : BitVec 32) : Fin 3 → Nat :=
  let c0_i32_9093 : BitVec 32 := 0#32
  let c0_i32_9094 : BitVec 32 := 0#32
  ![v10603.toNat, 0, 0]

def k0_chk2331 (v10603 : BitVec 32) : Prop :=
  (∀ a, (k0_off2331 v10603) a + S1x16x128.size a ≤ S16384x16x128.size a)
theorem k0_off2331_inb : ∀ (v10603 : BitVec 32) (k0_hw2331 : k0_chk2331 v10603), ∀ a, (k0_off2331 v10603) a + S1x16x128.size a ≤ S16384x16x128.size a := fun v10603 k0_hw2331 => k0_hw2331

def k0_off2332 (v10609 : BitVec 32) : Fin 3 → Nat :=
  let c0_i32_9100 : BitVec 32 := 0#32
  let c0_i32_9101 : BitVec 32 := 0#32
  ![v10609.toNat, 0, 0]

def k0_chk2332 (v10609 : BitVec 32) : Prop :=
  (∀ a, (k0_off2332 v10609) a + S1x16x128.size a ≤ S16384x16x128.size a)
theorem k0_off2332_inb : ∀ (v10609 : BitVec 32) (k0_hw2332 : k0_chk2332 v10609), ∀ a, (k0_off2332 v10609) a + S1x16x128.size a ≤ S16384x16x128.size a := fun v10609 k0_hw2332 => k0_hw2332

def k0_off2333 (v10615 : BitVec 32) : Fin 3 → Nat :=
  let c0_i32_9107 : BitVec 32 := 0#32
  let c0_i32_9108 : BitVec 32 := 0#32
  ![v10615.toNat, 0, 0]

def k0_chk2333 (v10615 : BitVec 32) : Prop :=
  (∀ a, (k0_off2333 v10615) a + S1x16x128.size a ≤ S16384x16x128.size a)
theorem k0_off2333_inb : ∀ (v10615 : BitVec 32) (k0_hw2333 : k0_chk2333 v10615), ∀ a, (k0_off2333 v10615) a + S1x16x128.size a ≤ S16384x16x128.size a := fun v10615 k0_hw2333 => k0_hw2333

def k0_off2334 (v10621 : BitVec 32) : Fin 3 → Nat :=
  let c0_i32_9114 : BitVec 32 := 0#32
  let c0_i32_9115 : BitVec 32 := 0#32
  ![v10621.toNat, 0, 0]

def k0_chk2334 (v10621 : BitVec 32) : Prop :=
  (∀ a, (k0_off2334 v10621) a + S1x16x128.size a ≤ S16384x16x128.size a)
theorem k0_off2334_inb : ∀ (v10621 : BitVec 32) (k0_hw2334 : k0_chk2334 v10621), ∀ a, (k0_off2334 v10621) a + S1x16x128.size a ≤ S16384x16x128.size a := fun v10621 k0_hw2334 => k0_hw2334

def k0_off2335 (v10627 : BitVec 32) : Fin 3 → Nat :=
  let c0_i32_9121 : BitVec 32 := 0#32
  let c0_i32_9122 : BitVec 32 := 0#32
  ![v10627.toNat, 0, 0]

def k0_chk2335 (v10627 : BitVec 32) : Prop :=
  (∀ a, (k0_off2335 v10627) a + S1x16x128.size a ≤ S16384x16x128.size a)
theorem k0_off2335_inb : ∀ (v10627 : BitVec 32) (k0_hw2335 : k0_chk2335 v10627), ∀ a, (k0_off2335 v10627) a + S1x16x128.size a ≤ S16384x16x128.size a := fun v10627 k0_hw2335 => k0_hw2335

def k0_off2336 (v10633 : BitVec 32) : Fin 3 → Nat :=
  let c0_i32_9128 : BitVec 32 := 0#32
  let c0_i32_9129 : BitVec 32 := 0#32
  ![v10633.toNat, 0, 0]

def k0_chk2336 (v10633 : BitVec 32) : Prop :=
  (∀ a, (k0_off2336 v10633) a + S1x16x128.size a ≤ S16384x16x128.size a)
theorem k0_off2336_inb : ∀ (v10633 : BitVec 32) (k0_hw2336 : k0_chk2336 v10633), ∀ a, (k0_off2336 v10633) a + S1x16x128.size a ≤ S16384x16x128.size a := fun v10633 k0_hw2336 => k0_hw2336

def k0_off2337 (v10639 : BitVec 32) : Fin 3 → Nat :=
  let c0_i32_9135 : BitVec 32 := 0#32
  let c0_i32_9136 : BitVec 32 := 0#32
  ![v10639.toNat, 0, 0]

def k0_chk2337 (v10639 : BitVec 32) : Prop :=
  (∀ a, (k0_off2337 v10639) a + S1x16x128.size a ≤ S16384x16x128.size a)
theorem k0_off2337_inb : ∀ (v10639 : BitVec 32) (k0_hw2337 : k0_chk2337 v10639), ∀ a, (k0_off2337 v10639) a + S1x16x128.size a ≤ S16384x16x128.size a := fun v10639 k0_hw2337 => k0_hw2337

def k0_off2338 (v10645 : BitVec 32) : Fin 3 → Nat :=
  let c0_i32_9142 : BitVec 32 := 0#32
  let c0_i32_9143 : BitVec 32 := 0#32
  ![v10645.toNat, 0, 0]

def k0_chk2338 (v10645 : BitVec 32) : Prop :=
  (∀ a, (k0_off2338 v10645) a + S1x16x128.size a ≤ S16384x16x128.size a)
theorem k0_off2338_inb : ∀ (v10645 : BitVec 32) (k0_hw2338 : k0_chk2338 v10645), ∀ a, (k0_off2338 v10645) a + S1x16x128.size a ≤ S16384x16x128.size a := fun v10645 k0_hw2338 => k0_hw2338

def k0_off2339 (v10651 : BitVec 32) : Fin 3 → Nat :=
  let c0_i32_9149 : BitVec 32 := 0#32
  let c0_i32_9150 : BitVec 32 := 0#32
  ![v10651.toNat, 0, 0]

def k0_chk2339 (v10651 : BitVec 32) : Prop :=
  (∀ a, (k0_off2339 v10651) a + S1x16x128.size a ≤ S16384x16x128.size a)
theorem k0_off2339_inb : ∀ (v10651 : BitVec 32) (k0_hw2339 : k0_chk2339 v10651), ∀ a, (k0_off2339 v10651) a + S1x16x128.size a ≤ S16384x16x128.size a := fun v10651 k0_hw2339 => k0_hw2339

def k0_off2340 (v10657 : BitVec 32) : Fin 3 → Nat :=
  let c0_i32_9156 : BitVec 32 := 0#32
  let c0_i32_9157 : BitVec 32 := 0#32
  ![v10657.toNat, 0, 0]

def k0_chk2340 (v10657 : BitVec 32) : Prop :=
  (∀ a, (k0_off2340 v10657) a + S1x16x128.size a ≤ S16384x16x128.size a)
theorem k0_off2340_inb : ∀ (v10657 : BitVec 32) (k0_hw2340 : k0_chk2340 v10657), ∀ a, (k0_off2340 v10657) a + S1x16x128.size a ≤ S16384x16x128.size a := fun v10657 k0_hw2340 => k0_hw2340

def k0_off2341 (v10663 : BitVec 32) : Fin 3 → Nat :=
  let c0_i32_9163 : BitVec 32 := 0#32
  let c0_i32_9164 : BitVec 32 := 0#32
  ![v10663.toNat, 0, 0]

def k0_chk2341 (v10663 : BitVec 32) : Prop :=
  (∀ a, (k0_off2341 v10663) a + S1x16x128.size a ≤ S16384x16x128.size a)
theorem k0_off2341_inb : ∀ (v10663 : BitVec 32) (k0_hw2341 : k0_chk2341 v10663), ∀ a, (k0_off2341 v10663) a + S1x16x128.size a ≤ S16384x16x128.size a := fun v10663 k0_hw2341 => k0_hw2341

def k0_off2342 (v10669 : BitVec 32) : Fin 3 → Nat :=
  let c0_i32_9170 : BitVec 32 := 0#32
  let c0_i32_9171 : BitVec 32 := 0#32
  ![v10669.toNat, 0, 0]

def k0_chk2342 (v10669 : BitVec 32) : Prop :=
  (∀ a, (k0_off2342 v10669) a + S1x16x128.size a ≤ S16384x16x128.size a)
theorem k0_off2342_inb : ∀ (v10669 : BitVec 32) (k0_hw2342 : k0_chk2342 v10669), ∀ a, (k0_off2342 v10669) a + S1x16x128.size a ≤ S16384x16x128.size a := fun v10669 k0_hw2342 => k0_hw2342

def k0_off2343 (v10675 : BitVec 32) : Fin 3 → Nat :=
  let c0_i32_9177 : BitVec 32 := 0#32
  let c0_i32_9178 : BitVec 32 := 0#32
  ![v10675.toNat, 0, 0]

def k0_chk2343 (v10675 : BitVec 32) : Prop :=
  (∀ a, (k0_off2343 v10675) a + S1x16x128.size a ≤ S16384x16x128.size a)
theorem k0_off2343_inb : ∀ (v10675 : BitVec 32) (k0_hw2343 : k0_chk2343 v10675), ∀ a, (k0_off2343 v10675) a + S1x16x128.size a ≤ S16384x16x128.size a := fun v10675 k0_hw2343 => k0_hw2343

def k0_off2344 (v10681 : BitVec 32) : Fin 3 → Nat :=
  let c0_i32_9184 : BitVec 32 := 0#32
  let c0_i32_9185 : BitVec 32 := 0#32
  ![v10681.toNat, 0, 0]

def k0_chk2344 (v10681 : BitVec 32) : Prop :=
  (∀ a, (k0_off2344 v10681) a + S1x16x128.size a ≤ S16384x16x128.size a)
theorem k0_off2344_inb : ∀ (v10681 : BitVec 32) (k0_hw2344 : k0_chk2344 v10681), ∀ a, (k0_off2344 v10681) a + S1x16x128.size a ≤ S16384x16x128.size a := fun v10681 k0_hw2344 => k0_hw2344

def k0_off2345 (v10687 : BitVec 32) : Fin 3 → Nat :=
  let c0_i32_9191 : BitVec 32 := 0#32
  let c0_i32_9192 : BitVec 32 := 0#32
  ![v10687.toNat, 0, 0]

def k0_chk2345 (v10687 : BitVec 32) : Prop :=
  (∀ a, (k0_off2345 v10687) a + S1x16x128.size a ≤ S16384x16x128.size a)
theorem k0_off2345_inb : ∀ (v10687 : BitVec 32) (k0_hw2345 : k0_chk2345 v10687), ∀ a, (k0_off2345 v10687) a + S1x16x128.size a ≤ S16384x16x128.size a := fun v10687 k0_hw2345 => k0_hw2345

def k0_off2346 (v10693 : BitVec 32) : Fin 3 → Nat :=
  let c0_i32_9198 : BitVec 32 := 0#32
  let c0_i32_9199 : BitVec 32 := 0#32
  ![v10693.toNat, 0, 0]

def k0_chk2346 (v10693 : BitVec 32) : Prop :=
  (∀ a, (k0_off2346 v10693) a + S1x16x128.size a ≤ S16384x16x128.size a)
theorem k0_off2346_inb : ∀ (v10693 : BitVec 32) (k0_hw2346 : k0_chk2346 v10693), ∀ a, (k0_off2346 v10693) a + S1x16x128.size a ≤ S16384x16x128.size a := fun v10693 k0_hw2346 => k0_hw2346

def k0_off2347 (v10699 : BitVec 32) : Fin 3 → Nat :=
  let c0_i32_9205 : BitVec 32 := 0#32
  let c0_i32_9206 : BitVec 32 := 0#32
  ![v10699.toNat, 0, 0]

def k0_chk2347 (v10699 : BitVec 32) : Prop :=
  (∀ a, (k0_off2347 v10699) a + S1x16x128.size a ≤ S16384x16x128.size a)
theorem k0_off2347_inb : ∀ (v10699 : BitVec 32) (k0_hw2347 : k0_chk2347 v10699), ∀ a, (k0_off2347 v10699) a + S1x16x128.size a ≤ S16384x16x128.size a := fun v10699 k0_hw2347 => k0_hw2347

def k0_off2348 (v10705 : BitVec 32) : Fin 3 → Nat :=
  let c0_i32_9212 : BitVec 32 := 0#32
  let c0_i32_9213 : BitVec 32 := 0#32
  ![v10705.toNat, 0, 0]

def k0_chk2348 (v10705 : BitVec 32) : Prop :=
  (∀ a, (k0_off2348 v10705) a + S1x16x128.size a ≤ S16384x16x128.size a)
theorem k0_off2348_inb : ∀ (v10705 : BitVec 32) (k0_hw2348 : k0_chk2348 v10705), ∀ a, (k0_off2348 v10705) a + S1x16x128.size a ≤ S16384x16x128.size a := fun v10705 k0_hw2348 => k0_hw2348

def k0_off2349 (v10711 : BitVec 32) : Fin 3 → Nat :=
  let c0_i32_9219 : BitVec 32 := 0#32
  let c0_i32_9220 : BitVec 32 := 0#32
  ![v10711.toNat, 0, 0]

def k0_chk2349 (v10711 : BitVec 32) : Prop :=
  (∀ a, (k0_off2349 v10711) a + S1x16x128.size a ≤ S16384x16x128.size a)
theorem k0_off2349_inb : ∀ (v10711 : BitVec 32) (k0_hw2349 : k0_chk2349 v10711), ∀ a, (k0_off2349 v10711) a + S1x16x128.size a ≤ S16384x16x128.size a := fun v10711 k0_hw2349 => k0_hw2349

def k0_off2350 (v10717 : BitVec 32) : Fin 3 → Nat :=
  let c0_i32_9226 : BitVec 32 := 0#32
  let c0_i32_9227 : BitVec 32 := 0#32
  ![v10717.toNat, 0, 0]

def k0_chk2350 (v10717 : BitVec 32) : Prop :=
  (∀ a, (k0_off2350 v10717) a + S1x16x128.size a ≤ S16384x16x128.size a)
theorem k0_off2350_inb : ∀ (v10717 : BitVec 32) (k0_hw2350 : k0_chk2350 v10717), ∀ a, (k0_off2350 v10717) a + S1x16x128.size a ≤ S16384x16x128.size a := fun v10717 k0_hw2350 => k0_hw2350

def k0_off2351 (v10723 : BitVec 32) : Fin 3 → Nat :=
  let c0_i32_9233 : BitVec 32 := 0#32
  let c0_i32_9234 : BitVec 32 := 0#32
  ![v10723.toNat, 0, 0]

def k0_chk2351 (v10723 : BitVec 32) : Prop :=
  (∀ a, (k0_off2351 v10723) a + S1x16x128.size a ≤ S16384x16x128.size a)
theorem k0_off2351_inb : ∀ (v10723 : BitVec 32) (k0_hw2351 : k0_chk2351 v10723), ∀ a, (k0_off2351 v10723) a + S1x16x128.size a ≤ S16384x16x128.size a := fun v10723 k0_hw2351 => k0_hw2351

def k0_off2352 (v10729 : BitVec 32) : Fin 3 → Nat :=
  let c0_i32_9240 : BitVec 32 := 0#32
  let c0_i32_9241 : BitVec 32 := 0#32
  ![v10729.toNat, 0, 0]

def k0_chk2352 (v10729 : BitVec 32) : Prop :=
  (∀ a, (k0_off2352 v10729) a + S1x16x128.size a ≤ S16384x16x128.size a)
theorem k0_off2352_inb : ∀ (v10729 : BitVec 32) (k0_hw2352 : k0_chk2352 v10729), ∀ a, (k0_off2352 v10729) a + S1x16x128.size a ≤ S16384x16x128.size a := fun v10729 k0_hw2352 => k0_hw2352

def k0_off2353 (v10735 : BitVec 32) : Fin 3 → Nat :=
  let c0_i32_9247 : BitVec 32 := 0#32
  let c0_i32_9248 : BitVec 32 := 0#32
  ![v10735.toNat, 0, 0]

def k0_chk2353 (v10735 : BitVec 32) : Prop :=
  (∀ a, (k0_off2353 v10735) a + S1x16x128.size a ≤ S16384x16x128.size a)
theorem k0_off2353_inb : ∀ (v10735 : BitVec 32) (k0_hw2353 : k0_chk2353 v10735), ∀ a, (k0_off2353 v10735) a + S1x16x128.size a ≤ S16384x16x128.size a := fun v10735 k0_hw2353 => k0_hw2353

def k0_off2354 (v10741 : BitVec 32) : Fin 3 → Nat :=
  let c0_i32_9254 : BitVec 32 := 0#32
  let c0_i32_9255 : BitVec 32 := 0#32
  ![v10741.toNat, 0, 0]

def k0_chk2354 (v10741 : BitVec 32) : Prop :=
  (∀ a, (k0_off2354 v10741) a + S1x16x128.size a ≤ S16384x16x128.size a)
theorem k0_off2354_inb : ∀ (v10741 : BitVec 32) (k0_hw2354 : k0_chk2354 v10741), ∀ a, (k0_off2354 v10741) a + S1x16x128.size a ≤ S16384x16x128.size a := fun v10741 k0_hw2354 => k0_hw2354

def k0_off2355 (v10747 : BitVec 32) : Fin 3 → Nat :=
  let c0_i32_9261 : BitVec 32 := 0#32
  let c0_i32_9262 : BitVec 32 := 0#32
  ![v10747.toNat, 0, 0]

def k0_chk2355 (v10747 : BitVec 32) : Prop :=
  (∀ a, (k0_off2355 v10747) a + S1x16x128.size a ≤ S16384x16x128.size a)
theorem k0_off2355_inb : ∀ (v10747 : BitVec 32) (k0_hw2355 : k0_chk2355 v10747), ∀ a, (k0_off2355 v10747) a + S1x16x128.size a ≤ S16384x16x128.size a := fun v10747 k0_hw2355 => k0_hw2355

def k0_off2356 (v10753 : BitVec 32) : Fin 3 → Nat :=
  let c0_i32_9268 : BitVec 32 := 0#32
  let c0_i32_9269 : BitVec 32 := 0#32
  ![v10753.toNat, 0, 0]

def k0_chk2356 (v10753 : BitVec 32) : Prop :=
  (∀ a, (k0_off2356 v10753) a + S1x16x128.size a ≤ S16384x16x128.size a)
theorem k0_off2356_inb : ∀ (v10753 : BitVec 32) (k0_hw2356 : k0_chk2356 v10753), ∀ a, (k0_off2356 v10753) a + S1x16x128.size a ≤ S16384x16x128.size a := fun v10753 k0_hw2356 => k0_hw2356

def k0_off2357 (v10759 : BitVec 32) : Fin 3 → Nat :=
  let c0_i32_9275 : BitVec 32 := 0#32
  let c0_i32_9276 : BitVec 32 := 0#32
  ![v10759.toNat, 0, 0]

def k0_chk2357 (v10759 : BitVec 32) : Prop :=
  (∀ a, (k0_off2357 v10759) a + S1x16x128.size a ≤ S16384x16x128.size a)
theorem k0_off2357_inb : ∀ (v10759 : BitVec 32) (k0_hw2357 : k0_chk2357 v10759), ∀ a, (k0_off2357 v10759) a + S1x16x128.size a ≤ S16384x16x128.size a := fun v10759 k0_hw2357 => k0_hw2357

def k0_off2358 (v10765 : BitVec 32) : Fin 3 → Nat :=
  let c0_i32_9282 : BitVec 32 := 0#32
  let c0_i32_9283 : BitVec 32 := 0#32
  ![v10765.toNat, 0, 0]

def k0_chk2358 (v10765 : BitVec 32) : Prop :=
  (∀ a, (k0_off2358 v10765) a + S1x16x128.size a ≤ S16384x16x128.size a)
theorem k0_off2358_inb : ∀ (v10765 : BitVec 32) (k0_hw2358 : k0_chk2358 v10765), ∀ a, (k0_off2358 v10765) a + S1x16x128.size a ≤ S16384x16x128.size a := fun v10765 k0_hw2358 => k0_hw2358

def k0_off2359 (v10771 : BitVec 32) : Fin 3 → Nat :=
  let c0_i32_9289 : BitVec 32 := 0#32
  let c0_i32_9290 : BitVec 32 := 0#32
  ![v10771.toNat, 0, 0]

def k0_chk2359 (v10771 : BitVec 32) : Prop :=
  (∀ a, (k0_off2359 v10771) a + S1x16x128.size a ≤ S16384x16x128.size a)
theorem k0_off2359_inb : ∀ (v10771 : BitVec 32) (k0_hw2359 : k0_chk2359 v10771), ∀ a, (k0_off2359 v10771) a + S1x16x128.size a ≤ S16384x16x128.size a := fun v10771 k0_hw2359 => k0_hw2359

def k0_off2360 (v10777 : BitVec 32) : Fin 3 → Nat :=
  let c0_i32_9296 : BitVec 32 := 0#32
  let c0_i32_9297 : BitVec 32 := 0#32
  ![v10777.toNat, 0, 0]

def k0_chk2360 (v10777 : BitVec 32) : Prop :=
  (∀ a, (k0_off2360 v10777) a + S1x16x128.size a ≤ S16384x16x128.size a)
theorem k0_off2360_inb : ∀ (v10777 : BitVec 32) (k0_hw2360 : k0_chk2360 v10777), ∀ a, (k0_off2360 v10777) a + S1x16x128.size a ≤ S16384x16x128.size a := fun v10777 k0_hw2360 => k0_hw2360

def k0_off2361 (v10783 : BitVec 32) : Fin 3 → Nat :=
  let c0_i32_9303 : BitVec 32 := 0#32
  let c0_i32_9304 : BitVec 32 := 0#32
  ![v10783.toNat, 0, 0]

def k0_chk2361 (v10783 : BitVec 32) : Prop :=
  (∀ a, (k0_off2361 v10783) a + S1x16x128.size a ≤ S16384x16x128.size a)
theorem k0_off2361_inb : ∀ (v10783 : BitVec 32) (k0_hw2361 : k0_chk2361 v10783), ∀ a, (k0_off2361 v10783) a + S1x16x128.size a ≤ S16384x16x128.size a := fun v10783 k0_hw2361 => k0_hw2361

def k0_off2362 (v10789 : BitVec 32) : Fin 3 → Nat :=
  let c0_i32_9310 : BitVec 32 := 0#32
  let c0_i32_9311 : BitVec 32 := 0#32
  ![v10789.toNat, 0, 0]

def k0_chk2362 (v10789 : BitVec 32) : Prop :=
  (∀ a, (k0_off2362 v10789) a + S1x16x128.size a ≤ S16384x16x128.size a)
theorem k0_off2362_inb : ∀ (v10789 : BitVec 32) (k0_hw2362 : k0_chk2362 v10789), ∀ a, (k0_off2362 v10789) a + S1x16x128.size a ≤ S16384x16x128.size a := fun v10789 k0_hw2362 => k0_hw2362

def k0_off2363 (v10795 : BitVec 32) : Fin 3 → Nat :=
  let c0_i32_9317 : BitVec 32 := 0#32
  let c0_i32_9318 : BitVec 32 := 0#32
  ![v10795.toNat, 0, 0]

def k0_chk2363 (v10795 : BitVec 32) : Prop :=
  (∀ a, (k0_off2363 v10795) a + S1x16x128.size a ≤ S16384x16x128.size a)
theorem k0_off2363_inb : ∀ (v10795 : BitVec 32) (k0_hw2363 : k0_chk2363 v10795), ∀ a, (k0_off2363 v10795) a + S1x16x128.size a ≤ S16384x16x128.size a := fun v10795 k0_hw2363 => k0_hw2363

def k0_off2364 (v10801 : BitVec 32) : Fin 3 → Nat :=
  let c0_i32_9324 : BitVec 32 := 0#32
  let c0_i32_9325 : BitVec 32 := 0#32
  ![v10801.toNat, 0, 0]

def k0_chk2364 (v10801 : BitVec 32) : Prop :=
  (∀ a, (k0_off2364 v10801) a + S1x16x128.size a ≤ S16384x16x128.size a)
theorem k0_off2364_inb : ∀ (v10801 : BitVec 32) (k0_hw2364 : k0_chk2364 v10801), ∀ a, (k0_off2364 v10801) a + S1x16x128.size a ≤ S16384x16x128.size a := fun v10801 k0_hw2364 => k0_hw2364

def k0_off2365 (v10807 : BitVec 32) : Fin 3 → Nat :=
  let c0_i32_9331 : BitVec 32 := 0#32
  let c0_i32_9332 : BitVec 32 := 0#32
  ![v10807.toNat, 0, 0]

def k0_chk2365 (v10807 : BitVec 32) : Prop :=
  (∀ a, (k0_off2365 v10807) a + S1x16x128.size a ≤ S16384x16x128.size a)
theorem k0_off2365_inb : ∀ (v10807 : BitVec 32) (k0_hw2365 : k0_chk2365 v10807), ∀ a, (k0_off2365 v10807) a + S1x16x128.size a ≤ S16384x16x128.size a := fun v10807 k0_hw2365 => k0_hw2365

def k0_off2366 (v10813 : BitVec 32) : Fin 3 → Nat :=
  let c0_i32_9338 : BitVec 32 := 0#32
  let c0_i32_9339 : BitVec 32 := 0#32
  ![v10813.toNat, 0, 0]

def k0_chk2366 (v10813 : BitVec 32) : Prop :=
  (∀ a, (k0_off2366 v10813) a + S1x16x128.size a ≤ S16384x16x128.size a)
theorem k0_off2366_inb : ∀ (v10813 : BitVec 32) (k0_hw2366 : k0_chk2366 v10813), ∀ a, (k0_off2366 v10813) a + S1x16x128.size a ≤ S16384x16x128.size a := fun v10813 k0_hw2366 => k0_hw2366

def k0_off2367 (v10819 : BitVec 32) : Fin 3 → Nat :=
  let c0_i32_9345 : BitVec 32 := 0#32
  let c0_i32_9346 : BitVec 32 := 0#32
  ![v10819.toNat, 0, 0]

def k0_chk2367 (v10819 : BitVec 32) : Prop :=
  (∀ a, (k0_off2367 v10819) a + S1x16x128.size a ≤ S16384x16x128.size a)
theorem k0_off2367_inb : ∀ (v10819 : BitVec 32) (k0_hw2367 : k0_chk2367 v10819), ∀ a, (k0_off2367 v10819) a + S1x16x128.size a ≤ S16384x16x128.size a := fun v10819 k0_hw2367 => k0_hw2367

def k0_off2368 (v10825 : BitVec 32) : Fin 3 → Nat :=
  let c0_i32_9352 : BitVec 32 := 0#32
  let c0_i32_9353 : BitVec 32 := 0#32
  ![v10825.toNat, 0, 0]

def k0_chk2368 (v10825 : BitVec 32) : Prop :=
  (∀ a, (k0_off2368 v10825) a + S1x16x128.size a ≤ S16384x16x128.size a)
theorem k0_off2368_inb : ∀ (v10825 : BitVec 32) (k0_hw2368 : k0_chk2368 v10825), ∀ a, (k0_off2368 v10825) a + S1x16x128.size a ≤ S16384x16x128.size a := fun v10825 k0_hw2368 => k0_hw2368

def k0_off2369 (v10831 : BitVec 32) : Fin 3 → Nat :=
  let c0_i32_9359 : BitVec 32 := 0#32
  let c0_i32_9360 : BitVec 32 := 0#32
  ![v10831.toNat, 0, 0]

def k0_chk2369 (v10831 : BitVec 32) : Prop :=
  (∀ a, (k0_off2369 v10831) a + S1x16x128.size a ≤ S16384x16x128.size a)
theorem k0_off2369_inb : ∀ (v10831 : BitVec 32) (k0_hw2369 : k0_chk2369 v10831), ∀ a, (k0_off2369 v10831) a + S1x16x128.size a ≤ S16384x16x128.size a := fun v10831 k0_hw2369 => k0_hw2369

def k0_off2370 (v10837 : BitVec 32) : Fin 3 → Nat :=
  let c0_i32_9366 : BitVec 32 := 0#32
  let c0_i32_9367 : BitVec 32 := 0#32
  ![v10837.toNat, 0, 0]

def k0_chk2370 (v10837 : BitVec 32) : Prop :=
  (∀ a, (k0_off2370 v10837) a + S1x16x128.size a ≤ S16384x16x128.size a)
theorem k0_off2370_inb : ∀ (v10837 : BitVec 32) (k0_hw2370 : k0_chk2370 v10837), ∀ a, (k0_off2370 v10837) a + S1x16x128.size a ≤ S16384x16x128.size a := fun v10837 k0_hw2370 => k0_hw2370

def k0_off2371 (v10843 : BitVec 32) : Fin 3 → Nat :=
  let c0_i32_9373 : BitVec 32 := 0#32
  let c0_i32_9374 : BitVec 32 := 0#32
  ![v10843.toNat, 0, 0]

def k0_chk2371 (v10843 : BitVec 32) : Prop :=
  (∀ a, (k0_off2371 v10843) a + S1x16x128.size a ≤ S16384x16x128.size a)
theorem k0_off2371_inb : ∀ (v10843 : BitVec 32) (k0_hw2371 : k0_chk2371 v10843), ∀ a, (k0_off2371 v10843) a + S1x16x128.size a ≤ S16384x16x128.size a := fun v10843 k0_hw2371 => k0_hw2371

def k0_off2372 (v10849 : BitVec 32) : Fin 3 → Nat :=
  let c0_i32_9380 : BitVec 32 := 0#32
  let c0_i32_9381 : BitVec 32 := 0#32
  ![v10849.toNat, 0, 0]

def k0_chk2372 (v10849 : BitVec 32) : Prop :=
  (∀ a, (k0_off2372 v10849) a + S1x16x128.size a ≤ S16384x16x128.size a)
theorem k0_off2372_inb : ∀ (v10849 : BitVec 32) (k0_hw2372 : k0_chk2372 v10849), ∀ a, (k0_off2372 v10849) a + S1x16x128.size a ≤ S16384x16x128.size a := fun v10849 k0_hw2372 => k0_hw2372

def k0_off2373 (v10855 : BitVec 32) : Fin 3 → Nat :=
  let c0_i32_9387 : BitVec 32 := 0#32
  let c0_i32_9388 : BitVec 32 := 0#32
  ![v10855.toNat, 0, 0]

def k0_chk2373 (v10855 : BitVec 32) : Prop :=
  (∀ a, (k0_off2373 v10855) a + S1x16x128.size a ≤ S16384x16x128.size a)
theorem k0_off2373_inb : ∀ (v10855 : BitVec 32) (k0_hw2373 : k0_chk2373 v10855), ∀ a, (k0_off2373 v10855) a + S1x16x128.size a ≤ S16384x16x128.size a := fun v10855 k0_hw2373 => k0_hw2373

def k0_off2374 (v10861 : BitVec 32) : Fin 3 → Nat :=
  let c0_i32_9394 : BitVec 32 := 0#32
  let c0_i32_9395 : BitVec 32 := 0#32
  ![v10861.toNat, 0, 0]

def k0_chk2374 (v10861 : BitVec 32) : Prop :=
  (∀ a, (k0_off2374 v10861) a + S1x16x128.size a ≤ S16384x16x128.size a)
theorem k0_off2374_inb : ∀ (v10861 : BitVec 32) (k0_hw2374 : k0_chk2374 v10861), ∀ a, (k0_off2374 v10861) a + S1x16x128.size a ≤ S16384x16x128.size a := fun v10861 k0_hw2374 => k0_hw2374

def k0_off2375 (v10867 : BitVec 32) : Fin 3 → Nat :=
  let c0_i32_9401 : BitVec 32 := 0#32
  let c0_i32_9402 : BitVec 32 := 0#32
  ![v10867.toNat, 0, 0]

def k0_chk2375 (v10867 : BitVec 32) : Prop :=
  (∀ a, (k0_off2375 v10867) a + S1x16x128.size a ≤ S16384x16x128.size a)
theorem k0_off2375_inb : ∀ (v10867 : BitVec 32) (k0_hw2375 : k0_chk2375 v10867), ∀ a, (k0_off2375 v10867) a + S1x16x128.size a ≤ S16384x16x128.size a := fun v10867 k0_hw2375 => k0_hw2375

def k0_off2376 (v10873 : BitVec 32) : Fin 3 → Nat :=
  let c0_i32_9408 : BitVec 32 := 0#32
  let c0_i32_9409 : BitVec 32 := 0#32
  ![v10873.toNat, 0, 0]

def k0_chk2376 (v10873 : BitVec 32) : Prop :=
  (∀ a, (k0_off2376 v10873) a + S1x16x128.size a ≤ S16384x16x128.size a)
theorem k0_off2376_inb : ∀ (v10873 : BitVec 32) (k0_hw2376 : k0_chk2376 v10873), ∀ a, (k0_off2376 v10873) a + S1x16x128.size a ≤ S16384x16x128.size a := fun v10873 k0_hw2376 => k0_hw2376

def k0_off2377 (v10879 : BitVec 32) : Fin 3 → Nat :=
  let c0_i32_9415 : BitVec 32 := 0#32
  let c0_i32_9416 : BitVec 32 := 0#32
  ![v10879.toNat, 0, 0]

def k0_chk2377 (v10879 : BitVec 32) : Prop :=
  (∀ a, (k0_off2377 v10879) a + S1x16x128.size a ≤ S16384x16x128.size a)
theorem k0_off2377_inb : ∀ (v10879 : BitVec 32) (k0_hw2377 : k0_chk2377 v10879), ∀ a, (k0_off2377 v10879) a + S1x16x128.size a ≤ S16384x16x128.size a := fun v10879 k0_hw2377 => k0_hw2377

def k0_off2378 (v10885 : BitVec 32) : Fin 3 → Nat :=
  let c0_i32_9422 : BitVec 32 := 0#32
  let c0_i32_9423 : BitVec 32 := 0#32
  ![v10885.toNat, 0, 0]

def k0_chk2378 (v10885 : BitVec 32) : Prop :=
  (∀ a, (k0_off2378 v10885) a + S1x16x128.size a ≤ S16384x16x128.size a)
theorem k0_off2378_inb : ∀ (v10885 : BitVec 32) (k0_hw2378 : k0_chk2378 v10885), ∀ a, (k0_off2378 v10885) a + S1x16x128.size a ≤ S16384x16x128.size a := fun v10885 k0_hw2378 => k0_hw2378

def k0_off2379 (v10891 : BitVec 32) : Fin 3 → Nat :=
  let c0_i32_9429 : BitVec 32 := 0#32
  let c0_i32_9430 : BitVec 32 := 0#32
  ![v10891.toNat, 0, 0]

def k0_chk2379 (v10891 : BitVec 32) : Prop :=
  (∀ a, (k0_off2379 v10891) a + S1x16x128.size a ≤ S16384x16x128.size a)
theorem k0_off2379_inb : ∀ (v10891 : BitVec 32) (k0_hw2379 : k0_chk2379 v10891), ∀ a, (k0_off2379 v10891) a + S1x16x128.size a ≤ S16384x16x128.size a := fun v10891 k0_hw2379 => k0_hw2379

def k0_off2380 (v10897 : BitVec 32) : Fin 3 → Nat :=
  let c0_i32_9436 : BitVec 32 := 0#32
  let c0_i32_9437 : BitVec 32 := 0#32
  ![v10897.toNat, 0, 0]

def k0_chk2380 (v10897 : BitVec 32) : Prop :=
  (∀ a, (k0_off2380 v10897) a + S1x16x128.size a ≤ S16384x16x128.size a)
theorem k0_off2380_inb : ∀ (v10897 : BitVec 32) (k0_hw2380 : k0_chk2380 v10897), ∀ a, (k0_off2380 v10897) a + S1x16x128.size a ≤ S16384x16x128.size a := fun v10897 k0_hw2380 => k0_hw2380

def k0_off2381 (v10903 : BitVec 32) : Fin 3 → Nat :=
  let c0_i32_9443 : BitVec 32 := 0#32
  let c0_i32_9444 : BitVec 32 := 0#32
  ![v10903.toNat, 0, 0]

def k0_chk2381 (v10903 : BitVec 32) : Prop :=
  (∀ a, (k0_off2381 v10903) a + S1x16x128.size a ≤ S16384x16x128.size a)
theorem k0_off2381_inb : ∀ (v10903 : BitVec 32) (k0_hw2381 : k0_chk2381 v10903), ∀ a, (k0_off2381 v10903) a + S1x16x128.size a ≤ S16384x16x128.size a := fun v10903 k0_hw2381 => k0_hw2381

def k0_off2382 (v10909 : BitVec 32) : Fin 3 → Nat :=
  let c0_i32_9450 : BitVec 32 := 0#32
  let c0_i32_9451 : BitVec 32 := 0#32
  ![v10909.toNat, 0, 0]

def k0_chk2382 (v10909 : BitVec 32) : Prop :=
  (∀ a, (k0_off2382 v10909) a + S1x16x128.size a ≤ S16384x16x128.size a)
theorem k0_off2382_inb : ∀ (v10909 : BitVec 32) (k0_hw2382 : k0_chk2382 v10909), ∀ a, (k0_off2382 v10909) a + S1x16x128.size a ≤ S16384x16x128.size a := fun v10909 k0_hw2382 => k0_hw2382

def k0_off2383 (v10915 : BitVec 32) : Fin 3 → Nat :=
  let c0_i32_9457 : BitVec 32 := 0#32
  let c0_i32_9458 : BitVec 32 := 0#32
  ![v10915.toNat, 0, 0]

def k0_chk2383 (v10915 : BitVec 32) : Prop :=
  (∀ a, (k0_off2383 v10915) a + S1x16x128.size a ≤ S16384x16x128.size a)
theorem k0_off2383_inb : ∀ (v10915 : BitVec 32) (k0_hw2383 : k0_chk2383 v10915), ∀ a, (k0_off2383 v10915) a + S1x16x128.size a ≤ S16384x16x128.size a := fun v10915 k0_hw2383 => k0_hw2383

def k0_off2384 (v10921 : BitVec 32) : Fin 3 → Nat :=
  let c0_i32_9464 : BitVec 32 := 0#32
  let c0_i32_9465 : BitVec 32 := 0#32
  ![v10921.toNat, 0, 0]

def k0_chk2384 (v10921 : BitVec 32) : Prop :=
  (∀ a, (k0_off2384 v10921) a + S1x16x128.size a ≤ S16384x16x128.size a)
theorem k0_off2384_inb : ∀ (v10921 : BitVec 32) (k0_hw2384 : k0_chk2384 v10921), ∀ a, (k0_off2384 v10921) a + S1x16x128.size a ≤ S16384x16x128.size a := fun v10921 k0_hw2384 => k0_hw2384

def k0_off2385 (v10927 : BitVec 32) : Fin 3 → Nat :=
  let c0_i32_9471 : BitVec 32 := 0#32
  let c0_i32_9472 : BitVec 32 := 0#32
  ![v10927.toNat, 0, 0]

def k0_chk2385 (v10927 : BitVec 32) : Prop :=
  (∀ a, (k0_off2385 v10927) a + S1x16x128.size a ≤ S16384x16x128.size a)
theorem k0_off2385_inb : ∀ (v10927 : BitVec 32) (k0_hw2385 : k0_chk2385 v10927), ∀ a, (k0_off2385 v10927) a + S1x16x128.size a ≤ S16384x16x128.size a := fun v10927 k0_hw2385 => k0_hw2385

def k0_off2386 (v10933 : BitVec 32) : Fin 3 → Nat :=
  let c0_i32_9478 : BitVec 32 := 0#32
  let c0_i32_9479 : BitVec 32 := 0#32
  ![v10933.toNat, 0, 0]

def k0_chk2386 (v10933 : BitVec 32) : Prop :=
  (∀ a, (k0_off2386 v10933) a + S1x16x128.size a ≤ S16384x16x128.size a)
theorem k0_off2386_inb : ∀ (v10933 : BitVec 32) (k0_hw2386 : k0_chk2386 v10933), ∀ a, (k0_off2386 v10933) a + S1x16x128.size a ≤ S16384x16x128.size a := fun v10933 k0_hw2386 => k0_hw2386

def k0_off2387 (v10939 : BitVec 32) : Fin 3 → Nat :=
  let c0_i32_9485 : BitVec 32 := 0#32
  let c0_i32_9486 : BitVec 32 := 0#32
  ![v10939.toNat, 0, 0]

def k0_chk2387 (v10939 : BitVec 32) : Prop :=
  (∀ a, (k0_off2387 v10939) a + S1x16x128.size a ≤ S16384x16x128.size a)
theorem k0_off2387_inb : ∀ (v10939 : BitVec 32) (k0_hw2387 : k0_chk2387 v10939), ∀ a, (k0_off2387 v10939) a + S1x16x128.size a ≤ S16384x16x128.size a := fun v10939 k0_hw2387 => k0_hw2387

def k0_off2388 (v10945 : BitVec 32) : Fin 3 → Nat :=
  let c0_i32_9492 : BitVec 32 := 0#32
  let c0_i32_9493 : BitVec 32 := 0#32
  ![v10945.toNat, 0, 0]

def k0_chk2388 (v10945 : BitVec 32) : Prop :=
  (∀ a, (k0_off2388 v10945) a + S1x16x128.size a ≤ S16384x16x128.size a)
theorem k0_off2388_inb : ∀ (v10945 : BitVec 32) (k0_hw2388 : k0_chk2388 v10945), ∀ a, (k0_off2388 v10945) a + S1x16x128.size a ≤ S16384x16x128.size a := fun v10945 k0_hw2388 => k0_hw2388

def k0_off2389 (v10951 : BitVec 32) : Fin 3 → Nat :=
  let c0_i32_9499 : BitVec 32 := 0#32
  let c0_i32_9500 : BitVec 32 := 0#32
  ![v10951.toNat, 0, 0]

def k0_chk2389 (v10951 : BitVec 32) : Prop :=
  (∀ a, (k0_off2389 v10951) a + S1x16x128.size a ≤ S16384x16x128.size a)
theorem k0_off2389_inb : ∀ (v10951 : BitVec 32) (k0_hw2389 : k0_chk2389 v10951), ∀ a, (k0_off2389 v10951) a + S1x16x128.size a ≤ S16384x16x128.size a := fun v10951 k0_hw2389 => k0_hw2389

def k0_off2390 (v10957 : BitVec 32) : Fin 3 → Nat :=
  let c0_i32_9506 : BitVec 32 := 0#32
  let c0_i32_9507 : BitVec 32 := 0#32
  ![v10957.toNat, 0, 0]

def k0_chk2390 (v10957 : BitVec 32) : Prop :=
  (∀ a, (k0_off2390 v10957) a + S1x16x128.size a ≤ S16384x16x128.size a)
theorem k0_off2390_inb : ∀ (v10957 : BitVec 32) (k0_hw2390 : k0_chk2390 v10957), ∀ a, (k0_off2390 v10957) a + S1x16x128.size a ≤ S16384x16x128.size a := fun v10957 k0_hw2390 => k0_hw2390

def k0_off2391 (v10963 : BitVec 32) : Fin 3 → Nat :=
  let c0_i32_9513 : BitVec 32 := 0#32
  let c0_i32_9514 : BitVec 32 := 0#32
  ![v10963.toNat, 0, 0]

def k0_chk2391 (v10963 : BitVec 32) : Prop :=
  (∀ a, (k0_off2391 v10963) a + S1x16x128.size a ≤ S16384x16x128.size a)
theorem k0_off2391_inb : ∀ (v10963 : BitVec 32) (k0_hw2391 : k0_chk2391 v10963), ∀ a, (k0_off2391 v10963) a + S1x16x128.size a ≤ S16384x16x128.size a := fun v10963 k0_hw2391 => k0_hw2391

def k0_off2392 (v10969 : BitVec 32) : Fin 3 → Nat :=
  let c0_i32_9520 : BitVec 32 := 0#32
  let c0_i32_9521 : BitVec 32 := 0#32
  ![v10969.toNat, 0, 0]

def k0_chk2392 (v10969 : BitVec 32) : Prop :=
  (∀ a, (k0_off2392 v10969) a + S1x16x128.size a ≤ S16384x16x128.size a)
theorem k0_off2392_inb : ∀ (v10969 : BitVec 32) (k0_hw2392 : k0_chk2392 v10969), ∀ a, (k0_off2392 v10969) a + S1x16x128.size a ≤ S16384x16x128.size a := fun v10969 k0_hw2392 => k0_hw2392

def k0_off2393 (v10975 : BitVec 32) : Fin 3 → Nat :=
  let c0_i32_9527 : BitVec 32 := 0#32
  let c0_i32_9528 : BitVec 32 := 0#32
  ![v10975.toNat, 0, 0]

def k0_chk2393 (v10975 : BitVec 32) : Prop :=
  (∀ a, (k0_off2393 v10975) a + S1x16x128.size a ≤ S16384x16x128.size a)
theorem k0_off2393_inb : ∀ (v10975 : BitVec 32) (k0_hw2393 : k0_chk2393 v10975), ∀ a, (k0_off2393 v10975) a + S1x16x128.size a ≤ S16384x16x128.size a := fun v10975 k0_hw2393 => k0_hw2393

def k0_off2394 (v10981 : BitVec 32) : Fin 3 → Nat :=
  let c0_i32_9534 : BitVec 32 := 0#32
  let c0_i32_9535 : BitVec 32 := 0#32
  ![v10981.toNat, 0, 0]

def k0_chk2394 (v10981 : BitVec 32) : Prop :=
  (∀ a, (k0_off2394 v10981) a + S1x16x128.size a ≤ S16384x16x128.size a)
theorem k0_off2394_inb : ∀ (v10981 : BitVec 32) (k0_hw2394 : k0_chk2394 v10981), ∀ a, (k0_off2394 v10981) a + S1x16x128.size a ≤ S16384x16x128.size a := fun v10981 k0_hw2394 => k0_hw2394

def k0_off2395 (v10987 : BitVec 32) : Fin 3 → Nat :=
  let c0_i32_9541 : BitVec 32 := 0#32
  let c0_i32_9542 : BitVec 32 := 0#32
  ![v10987.toNat, 0, 0]

def k0_chk2395 (v10987 : BitVec 32) : Prop :=
  (∀ a, (k0_off2395 v10987) a + S1x16x128.size a ≤ S16384x16x128.size a)
theorem k0_off2395_inb : ∀ (v10987 : BitVec 32) (k0_hw2395 : k0_chk2395 v10987), ∀ a, (k0_off2395 v10987) a + S1x16x128.size a ≤ S16384x16x128.size a := fun v10987 k0_hw2395 => k0_hw2395

def k0_off2396 (v10993 : BitVec 32) : Fin 3 → Nat :=
  let c0_i32_9548 : BitVec 32 := 0#32
  let c0_i32_9549 : BitVec 32 := 0#32
  ![v10993.toNat, 0, 0]

def k0_chk2396 (v10993 : BitVec 32) : Prop :=
  (∀ a, (k0_off2396 v10993) a + S1x16x128.size a ≤ S16384x16x128.size a)
theorem k0_off2396_inb : ∀ (v10993 : BitVec 32) (k0_hw2396 : k0_chk2396 v10993), ∀ a, (k0_off2396 v10993) a + S1x16x128.size a ≤ S16384x16x128.size a := fun v10993 k0_hw2396 => k0_hw2396

def k0_off2397 (v10999 : BitVec 32) : Fin 3 → Nat :=
  let c0_i32_9555 : BitVec 32 := 0#32
  let c0_i32_9556 : BitVec 32 := 0#32
  ![v10999.toNat, 0, 0]

def k0_chk2397 (v10999 : BitVec 32) : Prop :=
  (∀ a, (k0_off2397 v10999) a + S1x16x128.size a ≤ S16384x16x128.size a)
theorem k0_off2397_inb : ∀ (v10999 : BitVec 32) (k0_hw2397 : k0_chk2397 v10999), ∀ a, (k0_off2397 v10999) a + S1x16x128.size a ≤ S16384x16x128.size a := fun v10999 k0_hw2397 => k0_hw2397

def k0_off2398 (v11005 : BitVec 32) : Fin 3 → Nat :=
  let c0_i32_9562 : BitVec 32 := 0#32
  let c0_i32_9563 : BitVec 32 := 0#32
  ![v11005.toNat, 0, 0]

def k0_chk2398 (v11005 : BitVec 32) : Prop :=
  (∀ a, (k0_off2398 v11005) a + S1x16x128.size a ≤ S16384x16x128.size a)
theorem k0_off2398_inb : ∀ (v11005 : BitVec 32) (k0_hw2398 : k0_chk2398 v11005), ∀ a, (k0_off2398 v11005) a + S1x16x128.size a ≤ S16384x16x128.size a := fun v11005 k0_hw2398 => k0_hw2398

def k0_off2399 (v11011 : BitVec 32) : Fin 3 → Nat :=
  let c0_i32_9569 : BitVec 32 := 0#32
  let c0_i32_9570 : BitVec 32 := 0#32
  ![v11011.toNat, 0, 0]

def k0_chk2399 (v11011 : BitVec 32) : Prop :=
  (∀ a, (k0_off2399 v11011) a + S1x16x128.size a ≤ S16384x16x128.size a)
theorem k0_off2399_inb : ∀ (v11011 : BitVec 32) (k0_hw2399 : k0_chk2399 v11011), ∀ a, (k0_off2399 v11011) a + S1x16x128.size a ≤ S16384x16x128.size a := fun v11011 k0_hw2399 => k0_hw2399

def k0_off2400 (v11017 : BitVec 32) : Fin 3 → Nat :=
  let c0_i32_9576 : BitVec 32 := 0#32
  let c0_i32_9577 : BitVec 32 := 0#32
  ![v11017.toNat, 0, 0]

def k0_chk2400 (v11017 : BitVec 32) : Prop :=
  (∀ a, (k0_off2400 v11017) a + S1x16x128.size a ≤ S16384x16x128.size a)
theorem k0_off2400_inb : ∀ (v11017 : BitVec 32) (k0_hw2400 : k0_chk2400 v11017), ∀ a, (k0_off2400 v11017) a + S1x16x128.size a ≤ S16384x16x128.size a := fun v11017 k0_hw2400 => k0_hw2400

def k0_off2401 (v11023 : BitVec 32) : Fin 3 → Nat :=
  let c0_i32_9583 : BitVec 32 := 0#32
  let c0_i32_9584 : BitVec 32 := 0#32
  ![v11023.toNat, 0, 0]

def k0_chk2401 (v11023 : BitVec 32) : Prop :=
  (∀ a, (k0_off2401 v11023) a + S1x16x128.size a ≤ S16384x16x128.size a)
theorem k0_off2401_inb : ∀ (v11023 : BitVec 32) (k0_hw2401 : k0_chk2401 v11023), ∀ a, (k0_off2401 v11023) a + S1x16x128.size a ≤ S16384x16x128.size a := fun v11023 k0_hw2401 => k0_hw2401

def k0_off2402 (v11029 : BitVec 32) : Fin 3 → Nat :=
  let c0_i32_9590 : BitVec 32 := 0#32
  let c0_i32_9591 : BitVec 32 := 0#32
  ![v11029.toNat, 0, 0]

def k0_chk2402 (v11029 : BitVec 32) : Prop :=
  (∀ a, (k0_off2402 v11029) a + S1x16x128.size a ≤ S16384x16x128.size a)
theorem k0_off2402_inb : ∀ (v11029 : BitVec 32) (k0_hw2402 : k0_chk2402 v11029), ∀ a, (k0_off2402 v11029) a + S1x16x128.size a ≤ S16384x16x128.size a := fun v11029 k0_hw2402 => k0_hw2402

def k0_off2403 (v11035 : BitVec 32) : Fin 3 → Nat :=
  let c0_i32_9597 : BitVec 32 := 0#32
  let c0_i32_9598 : BitVec 32 := 0#32
  ![v11035.toNat, 0, 0]

def k0_chk2403 (v11035 : BitVec 32) : Prop :=
  (∀ a, (k0_off2403 v11035) a + S1x16x128.size a ≤ S16384x16x128.size a)
theorem k0_off2403_inb : ∀ (v11035 : BitVec 32) (k0_hw2403 : k0_chk2403 v11035), ∀ a, (k0_off2403 v11035) a + S1x16x128.size a ≤ S16384x16x128.size a := fun v11035 k0_hw2403 => k0_hw2403

def k0_off2404 (v11041 : BitVec 32) : Fin 3 → Nat :=
  let c0_i32_9604 : BitVec 32 := 0#32
  let c0_i32_9605 : BitVec 32 := 0#32
  ![v11041.toNat, 0, 0]

def k0_chk2404 (v11041 : BitVec 32) : Prop :=
  (∀ a, (k0_off2404 v11041) a + S1x16x128.size a ≤ S16384x16x128.size a)
theorem k0_off2404_inb : ∀ (v11041 : BitVec 32) (k0_hw2404 : k0_chk2404 v11041), ∀ a, (k0_off2404 v11041) a + S1x16x128.size a ≤ S16384x16x128.size a := fun v11041 k0_hw2404 => k0_hw2404

def k0_off2405 (v11047 : BitVec 32) : Fin 3 → Nat :=
  let c0_i32_9611 : BitVec 32 := 0#32
  let c0_i32_9612 : BitVec 32 := 0#32
  ![v11047.toNat, 0, 0]

def k0_chk2405 (v11047 : BitVec 32) : Prop :=
  (∀ a, (k0_off2405 v11047) a + S1x16x128.size a ≤ S16384x16x128.size a)
theorem k0_off2405_inb : ∀ (v11047 : BitVec 32) (k0_hw2405 : k0_chk2405 v11047), ∀ a, (k0_off2405 v11047) a + S1x16x128.size a ≤ S16384x16x128.size a := fun v11047 k0_hw2405 => k0_hw2405

def k0_off2406 (v11053 : BitVec 32) : Fin 3 → Nat :=
  let c0_i32_9618 : BitVec 32 := 0#32
  let c0_i32_9619 : BitVec 32 := 0#32
  ![v11053.toNat, 0, 0]

def k0_chk2406 (v11053 : BitVec 32) : Prop :=
  (∀ a, (k0_off2406 v11053) a + S1x16x128.size a ≤ S16384x16x128.size a)
theorem k0_off2406_inb : ∀ (v11053 : BitVec 32) (k0_hw2406 : k0_chk2406 v11053), ∀ a, (k0_off2406 v11053) a + S1x16x128.size a ≤ S16384x16x128.size a := fun v11053 k0_hw2406 => k0_hw2406

def k0_off2407 (v11059 : BitVec 32) : Fin 3 → Nat :=
  let c0_i32_9625 : BitVec 32 := 0#32
  let c0_i32_9626 : BitVec 32 := 0#32
  ![v11059.toNat, 0, 0]

def k0_chk2407 (v11059 : BitVec 32) : Prop :=
  (∀ a, (k0_off2407 v11059) a + S1x16x128.size a ≤ S16384x16x128.size a)
theorem k0_off2407_inb : ∀ (v11059 : BitVec 32) (k0_hw2407 : k0_chk2407 v11059), ∀ a, (k0_off2407 v11059) a + S1x16x128.size a ≤ S16384x16x128.size a := fun v11059 k0_hw2407 => k0_hw2407

def k0_off2408 (v11065 : BitVec 32) : Fin 3 → Nat :=
  let c0_i32_9632 : BitVec 32 := 0#32
  let c0_i32_9633 : BitVec 32 := 0#32
  ![v11065.toNat, 0, 0]

def k0_chk2408 (v11065 : BitVec 32) : Prop :=
  (∀ a, (k0_off2408 v11065) a + S1x16x128.size a ≤ S16384x16x128.size a)
theorem k0_off2408_inb : ∀ (v11065 : BitVec 32) (k0_hw2408 : k0_chk2408 v11065), ∀ a, (k0_off2408 v11065) a + S1x16x128.size a ≤ S16384x16x128.size a := fun v11065 k0_hw2408 => k0_hw2408

def k0_off2409 (v11071 : BitVec 32) : Fin 3 → Nat :=
  let c0_i32_9639 : BitVec 32 := 0#32
  let c0_i32_9640 : BitVec 32 := 0#32
  ![v11071.toNat, 0, 0]

def k0_chk2409 (v11071 : BitVec 32) : Prop :=
  (∀ a, (k0_off2409 v11071) a + S1x16x128.size a ≤ S16384x16x128.size a)
theorem k0_off2409_inb : ∀ (v11071 : BitVec 32) (k0_hw2409 : k0_chk2409 v11071), ∀ a, (k0_off2409 v11071) a + S1x16x128.size a ≤ S16384x16x128.size a := fun v11071 k0_hw2409 => k0_hw2409

def k0_off2410 (v11077 : BitVec 32) : Fin 3 → Nat :=
  let c0_i32_9646 : BitVec 32 := 0#32
  let c0_i32_9647 : BitVec 32 := 0#32
  ![v11077.toNat, 0, 0]

def k0_chk2410 (v11077 : BitVec 32) : Prop :=
  (∀ a, (k0_off2410 v11077) a + S1x16x128.size a ≤ S16384x16x128.size a)
theorem k0_off2410_inb : ∀ (v11077 : BitVec 32) (k0_hw2410 : k0_chk2410 v11077), ∀ a, (k0_off2410 v11077) a + S1x16x128.size a ≤ S16384x16x128.size a := fun v11077 k0_hw2410 => k0_hw2410

def k0_off2411 (v11083 : BitVec 32) : Fin 3 → Nat :=
  let c0_i32_9653 : BitVec 32 := 0#32
  let c0_i32_9654 : BitVec 32 := 0#32
  ![v11083.toNat, 0, 0]

def k0_chk2411 (v11083 : BitVec 32) : Prop :=
  (∀ a, (k0_off2411 v11083) a + S1x16x128.size a ≤ S16384x16x128.size a)
theorem k0_off2411_inb : ∀ (v11083 : BitVec 32) (k0_hw2411 : k0_chk2411 v11083), ∀ a, (k0_off2411 v11083) a + S1x16x128.size a ≤ S16384x16x128.size a := fun v11083 k0_hw2411 => k0_hw2411

def k0_off2412 (v11089 : BitVec 32) : Fin 3 → Nat :=
  let c0_i32_9660 : BitVec 32 := 0#32
  let c0_i32_9661 : BitVec 32 := 0#32
  ![v11089.toNat, 0, 0]

def k0_chk2412 (v11089 : BitVec 32) : Prop :=
  (∀ a, (k0_off2412 v11089) a + S1x16x128.size a ≤ S16384x16x128.size a)
theorem k0_off2412_inb : ∀ (v11089 : BitVec 32) (k0_hw2412 : k0_chk2412 v11089), ∀ a, (k0_off2412 v11089) a + S1x16x128.size a ≤ S16384x16x128.size a := fun v11089 k0_hw2412 => k0_hw2412

def k0_off2413 (v11095 : BitVec 32) : Fin 3 → Nat :=
  let c0_i32_9667 : BitVec 32 := 0#32
  let c0_i32_9668 : BitVec 32 := 0#32
  ![v11095.toNat, 0, 0]

def k0_chk2413 (v11095 : BitVec 32) : Prop :=
  (∀ a, (k0_off2413 v11095) a + S1x16x128.size a ≤ S16384x16x128.size a)
theorem k0_off2413_inb : ∀ (v11095 : BitVec 32) (k0_hw2413 : k0_chk2413 v11095), ∀ a, (k0_off2413 v11095) a + S1x16x128.size a ≤ S16384x16x128.size a := fun v11095 k0_hw2413 => k0_hw2413

def k0_off2414 (v11101 : BitVec 32) : Fin 3 → Nat :=
  let c0_i32_9674 : BitVec 32 := 0#32
  let c0_i32_9675 : BitVec 32 := 0#32
  ![v11101.toNat, 0, 0]

def k0_chk2414 (v11101 : BitVec 32) : Prop :=
  (∀ a, (k0_off2414 v11101) a + S1x16x128.size a ≤ S16384x16x128.size a)
theorem k0_off2414_inb : ∀ (v11101 : BitVec 32) (k0_hw2414 : k0_chk2414 v11101), ∀ a, (k0_off2414 v11101) a + S1x16x128.size a ≤ S16384x16x128.size a := fun v11101 k0_hw2414 => k0_hw2414

def k0_off2415 (v11107 : BitVec 32) : Fin 3 → Nat :=
  let c0_i32_9681 : BitVec 32 := 0#32
  let c0_i32_9682 : BitVec 32 := 0#32
  ![v11107.toNat, 0, 0]

def k0_chk2415 (v11107 : BitVec 32) : Prop :=
  (∀ a, (k0_off2415 v11107) a + S1x16x128.size a ≤ S16384x16x128.size a)
theorem k0_off2415_inb : ∀ (v11107 : BitVec 32) (k0_hw2415 : k0_chk2415 v11107), ∀ a, (k0_off2415 v11107) a + S1x16x128.size a ≤ S16384x16x128.size a := fun v11107 k0_hw2415 => k0_hw2415

def k0_off2416 (v11113 : BitVec 32) : Fin 3 → Nat :=
  let c0_i32_9688 : BitVec 32 := 0#32
  let c0_i32_9689 : BitVec 32 := 0#32
  ![v11113.toNat, 0, 0]

def k0_chk2416 (v11113 : BitVec 32) : Prop :=
  (∀ a, (k0_off2416 v11113) a + S1x16x128.size a ≤ S16384x16x128.size a)
theorem k0_off2416_inb : ∀ (v11113 : BitVec 32) (k0_hw2416 : k0_chk2416 v11113), ∀ a, (k0_off2416 v11113) a + S1x16x128.size a ≤ S16384x16x128.size a := fun v11113 k0_hw2416 => k0_hw2416

def k0_off2417 (v11119 : BitVec 32) : Fin 3 → Nat :=
  let c0_i32_9695 : BitVec 32 := 0#32
  let c0_i32_9696 : BitVec 32 := 0#32
  ![v11119.toNat, 0, 0]

def k0_chk2417 (v11119 : BitVec 32) : Prop :=
  (∀ a, (k0_off2417 v11119) a + S1x16x128.size a ≤ S16384x16x128.size a)
theorem k0_off2417_inb : ∀ (v11119 : BitVec 32) (k0_hw2417 : k0_chk2417 v11119), ∀ a, (k0_off2417 v11119) a + S1x16x128.size a ≤ S16384x16x128.size a := fun v11119 k0_hw2417 => k0_hw2417

def k0_off2418 (v11125 : BitVec 32) : Fin 3 → Nat :=
  let c0_i32_9702 : BitVec 32 := 0#32
  let c0_i32_9703 : BitVec 32 := 0#32
  ![v11125.toNat, 0, 0]

def k0_chk2418 (v11125 : BitVec 32) : Prop :=
  (∀ a, (k0_off2418 v11125) a + S1x16x128.size a ≤ S16384x16x128.size a)
theorem k0_off2418_inb : ∀ (v11125 : BitVec 32) (k0_hw2418 : k0_chk2418 v11125), ∀ a, (k0_off2418 v11125) a + S1x16x128.size a ≤ S16384x16x128.size a := fun v11125 k0_hw2418 => k0_hw2418

def k0_off2419 (v11131 : BitVec 32) : Fin 3 → Nat :=
  let c0_i32_9709 : BitVec 32 := 0#32
  let c0_i32_9710 : BitVec 32 := 0#32
  ![v11131.toNat, 0, 0]

def k0_chk2419 (v11131 : BitVec 32) : Prop :=
  (∀ a, (k0_off2419 v11131) a + S1x16x128.size a ≤ S16384x16x128.size a)
theorem k0_off2419_inb : ∀ (v11131 : BitVec 32) (k0_hw2419 : k0_chk2419 v11131), ∀ a, (k0_off2419 v11131) a + S1x16x128.size a ≤ S16384x16x128.size a := fun v11131 k0_hw2419 => k0_hw2419

def k0_off2420 (v11137 : BitVec 32) : Fin 3 → Nat :=
  let c0_i32_9716 : BitVec 32 := 0#32
  let c0_i32_9717 : BitVec 32 := 0#32
  ![v11137.toNat, 0, 0]

def k0_chk2420 (v11137 : BitVec 32) : Prop :=
  (∀ a, (k0_off2420 v11137) a + S1x16x128.size a ≤ S16384x16x128.size a)
theorem k0_off2420_inb : ∀ (v11137 : BitVec 32) (k0_hw2420 : k0_chk2420 v11137), ∀ a, (k0_off2420 v11137) a + S1x16x128.size a ≤ S16384x16x128.size a := fun v11137 k0_hw2420 => k0_hw2420

def k0_off2421 (v11143 : BitVec 32) : Fin 3 → Nat :=
  let c0_i32_9723 : BitVec 32 := 0#32
  let c0_i32_9724 : BitVec 32 := 0#32
  ![v11143.toNat, 0, 0]

def k0_chk2421 (v11143 : BitVec 32) : Prop :=
  (∀ a, (k0_off2421 v11143) a + S1x16x128.size a ≤ S16384x16x128.size a)
theorem k0_off2421_inb : ∀ (v11143 : BitVec 32) (k0_hw2421 : k0_chk2421 v11143), ∀ a, (k0_off2421 v11143) a + S1x16x128.size a ≤ S16384x16x128.size a := fun v11143 k0_hw2421 => k0_hw2421

def k0_off2422 (v11149 : BitVec 32) : Fin 3 → Nat :=
  let c0_i32_9730 : BitVec 32 := 0#32
  let c0_i32_9731 : BitVec 32 := 0#32
  ![v11149.toNat, 0, 0]

def k0_chk2422 (v11149 : BitVec 32) : Prop :=
  (∀ a, (k0_off2422 v11149) a + S1x16x128.size a ≤ S16384x16x128.size a)
theorem k0_off2422_inb : ∀ (v11149 : BitVec 32) (k0_hw2422 : k0_chk2422 v11149), ∀ a, (k0_off2422 v11149) a + S1x16x128.size a ≤ S16384x16x128.size a := fun v11149 k0_hw2422 => k0_hw2422

def k0_off2423 (v11155 : BitVec 32) : Fin 3 → Nat :=
  let c0_i32_9737 : BitVec 32 := 0#32
  let c0_i32_9738 : BitVec 32 := 0#32
  ![v11155.toNat, 0, 0]

def k0_chk2423 (v11155 : BitVec 32) : Prop :=
  (∀ a, (k0_off2423 v11155) a + S1x16x128.size a ≤ S16384x16x128.size a)
theorem k0_off2423_inb : ∀ (v11155 : BitVec 32) (k0_hw2423 : k0_chk2423 v11155), ∀ a, (k0_off2423 v11155) a + S1x16x128.size a ≤ S16384x16x128.size a := fun v11155 k0_hw2423 => k0_hw2423

def k0_off2424 (v11161 : BitVec 32) : Fin 3 → Nat :=
  let c0_i32_9744 : BitVec 32 := 0#32
  let c0_i32_9745 : BitVec 32 := 0#32
  ![v11161.toNat, 0, 0]

def k0_chk2424 (v11161 : BitVec 32) : Prop :=
  (∀ a, (k0_off2424 v11161) a + S1x16x128.size a ≤ S16384x16x128.size a)
theorem k0_off2424_inb : ∀ (v11161 : BitVec 32) (k0_hw2424 : k0_chk2424 v11161), ∀ a, (k0_off2424 v11161) a + S1x16x128.size a ≤ S16384x16x128.size a := fun v11161 k0_hw2424 => k0_hw2424

def k0_off2425 (v11167 : BitVec 32) : Fin 3 → Nat :=
  let c0_i32_9751 : BitVec 32 := 0#32
  let c0_i32_9752 : BitVec 32 := 0#32
  ![v11167.toNat, 0, 0]

def k0_chk2425 (v11167 : BitVec 32) : Prop :=
  (∀ a, (k0_off2425 v11167) a + S1x16x128.size a ≤ S16384x16x128.size a)
theorem k0_off2425_inb : ∀ (v11167 : BitVec 32) (k0_hw2425 : k0_chk2425 v11167), ∀ a, (k0_off2425 v11167) a + S1x16x128.size a ≤ S16384x16x128.size a := fun v11167 k0_hw2425 => k0_hw2425

def k0_off2426 (v11173 : BitVec 32) : Fin 3 → Nat :=
  let c0_i32_9758 : BitVec 32 := 0#32
  let c0_i32_9759 : BitVec 32 := 0#32
  ![v11173.toNat, 0, 0]

def k0_chk2426 (v11173 : BitVec 32) : Prop :=
  (∀ a, (k0_off2426 v11173) a + S1x16x128.size a ≤ S16384x16x128.size a)
theorem k0_off2426_inb : ∀ (v11173 : BitVec 32) (k0_hw2426 : k0_chk2426 v11173), ∀ a, (k0_off2426 v11173) a + S1x16x128.size a ≤ S16384x16x128.size a := fun v11173 k0_hw2426 => k0_hw2426

def k0_off2427 (v11179 : BitVec 32) : Fin 3 → Nat :=
  let c0_i32_9765 : BitVec 32 := 0#32
  let c0_i32_9766 : BitVec 32 := 0#32
  ![v11179.toNat, 0, 0]

def k0_chk2427 (v11179 : BitVec 32) : Prop :=
  (∀ a, (k0_off2427 v11179) a + S1x16x128.size a ≤ S16384x16x128.size a)
theorem k0_off2427_inb : ∀ (v11179 : BitVec 32) (k0_hw2427 : k0_chk2427 v11179), ∀ a, (k0_off2427 v11179) a + S1x16x128.size a ≤ S16384x16x128.size a := fun v11179 k0_hw2427 => k0_hw2427

def k0_off2428 (v11185 : BitVec 32) : Fin 3 → Nat :=
  let c0_i32_9772 : BitVec 32 := 0#32
  let c0_i32_9773 : BitVec 32 := 0#32
  ![v11185.toNat, 0, 0]

def k0_chk2428 (v11185 : BitVec 32) : Prop :=
  (∀ a, (k0_off2428 v11185) a + S1x16x128.size a ≤ S16384x16x128.size a)
theorem k0_off2428_inb : ∀ (v11185 : BitVec 32) (k0_hw2428 : k0_chk2428 v11185), ∀ a, (k0_off2428 v11185) a + S1x16x128.size a ≤ S16384x16x128.size a := fun v11185 k0_hw2428 => k0_hw2428

def k0_off2429 (v11191 : BitVec 32) : Fin 3 → Nat :=
  let c0_i32_9779 : BitVec 32 := 0#32
  let c0_i32_9780 : BitVec 32 := 0#32
  ![v11191.toNat, 0, 0]

def k0_chk2429 (v11191 : BitVec 32) : Prop :=
  (∀ a, (k0_off2429 v11191) a + S1x16x128.size a ≤ S16384x16x128.size a)
theorem k0_off2429_inb : ∀ (v11191 : BitVec 32) (k0_hw2429 : k0_chk2429 v11191), ∀ a, (k0_off2429 v11191) a + S1x16x128.size a ≤ S16384x16x128.size a := fun v11191 k0_hw2429 => k0_hw2429

def k0_off2430 (v11197 : BitVec 32) : Fin 3 → Nat :=
  let c0_i32_9786 : BitVec 32 := 0#32
  let c0_i32_9787 : BitVec 32 := 0#32
  ![v11197.toNat, 0, 0]

def k0_chk2430 (v11197 : BitVec 32) : Prop :=
  (∀ a, (k0_off2430 v11197) a + S1x16x128.size a ≤ S16384x16x128.size a)
theorem k0_off2430_inb : ∀ (v11197 : BitVec 32) (k0_hw2430 : k0_chk2430 v11197), ∀ a, (k0_off2430 v11197) a + S1x16x128.size a ≤ S16384x16x128.size a := fun v11197 k0_hw2430 => k0_hw2430

def k0_off2431 (v11203 : BitVec 32) : Fin 3 → Nat :=
  let c0_i32_9793 : BitVec 32 := 0#32
  let c0_i32_9794 : BitVec 32 := 0#32
  ![v11203.toNat, 0, 0]

def k0_chk2431 (v11203 : BitVec 32) : Prop :=
  (∀ a, (k0_off2431 v11203) a + S1x16x128.size a ≤ S16384x16x128.size a)
theorem k0_off2431_inb : ∀ (v11203 : BitVec 32) (k0_hw2431 : k0_chk2431 v11203), ∀ a, (k0_off2431 v11203) a + S1x16x128.size a ≤ S16384x16x128.size a := fun v11203 k0_hw2431 => k0_hw2431

def k0_off2432 (v11209 : BitVec 32) : Fin 3 → Nat :=
  let c0_i32_9800 : BitVec 32 := 0#32
  let c0_i32_9801 : BitVec 32 := 0#32
  ![v11209.toNat, 0, 0]

def k0_chk2432 (v11209 : BitVec 32) : Prop :=
  (∀ a, (k0_off2432 v11209) a + S1x16x128.size a ≤ S16384x16x128.size a)
theorem k0_off2432_inb : ∀ (v11209 : BitVec 32) (k0_hw2432 : k0_chk2432 v11209), ∀ a, (k0_off2432 v11209) a + S1x16x128.size a ≤ S16384x16x128.size a := fun v11209 k0_hw2432 => k0_hw2432

def k0_off2433 (v11488 : BitVec 32) : Fin 3 → Nat :=
  let c0_i32_9925 : BitVec 32 := 0#32
  let c0_i32_9926 : BitVec 32 := 0#32
  ![v11488.toNat, 0, 0]

def k0_chk2433 (v11488 : BitVec 32) : Prop :=
  (∀ a, (k0_off2433 v11488) a + S1x16x128.size a ≤ S16384x16x128.size a)
theorem k0_off2433_inb : ∀ (v11488 : BitVec 32) (k0_hw2433 : k0_chk2433 v11488), ∀ a, (k0_off2433 v11488) a + S1x16x128.size a ≤ S16384x16x128.size a := fun v11488 k0_hw2433 => k0_hw2433

def k0_off2434 (v11494 : BitVec 32) : Fin 3 → Nat :=
  let c0_i32_9932 : BitVec 32 := 0#32
  let c0_i32_9933 : BitVec 32 := 0#32
  ![v11494.toNat, 0, 0]

def k0_chk2434 (v11494 : BitVec 32) : Prop :=
  (∀ a, (k0_off2434 v11494) a + S1x16x128.size a ≤ S16384x16x128.size a)
theorem k0_off2434_inb : ∀ (v11494 : BitVec 32) (k0_hw2434 : k0_chk2434 v11494), ∀ a, (k0_off2434 v11494) a + S1x16x128.size a ≤ S16384x16x128.size a := fun v11494 k0_hw2434 => k0_hw2434

def k0_off2435 (v11500 : BitVec 32) : Fin 3 → Nat :=
  let c0_i32_9939 : BitVec 32 := 0#32
  let c0_i32_9940 : BitVec 32 := 0#32
  ![v11500.toNat, 0, 0]

def k0_chk2435 (v11500 : BitVec 32) : Prop :=
  (∀ a, (k0_off2435 v11500) a + S1x16x128.size a ≤ S16384x16x128.size a)
theorem k0_off2435_inb : ∀ (v11500 : BitVec 32) (k0_hw2435 : k0_chk2435 v11500), ∀ a, (k0_off2435 v11500) a + S1x16x128.size a ≤ S16384x16x128.size a := fun v11500 k0_hw2435 => k0_hw2435

def k0_off2436 (v11506 : BitVec 32) : Fin 3 → Nat :=
  let c0_i32_9946 : BitVec 32 := 0#32
  let c0_i32_9947 : BitVec 32 := 0#32
  ![v11506.toNat, 0, 0]

def k0_chk2436 (v11506 : BitVec 32) : Prop :=
  (∀ a, (k0_off2436 v11506) a + S1x16x128.size a ≤ S16384x16x128.size a)
theorem k0_off2436_inb : ∀ (v11506 : BitVec 32) (k0_hw2436 : k0_chk2436 v11506), ∀ a, (k0_off2436 v11506) a + S1x16x128.size a ≤ S16384x16x128.size a := fun v11506 k0_hw2436 => k0_hw2436

def k0_off2437 (v11512 : BitVec 32) : Fin 3 → Nat :=
  let c0_i32_9953 : BitVec 32 := 0#32
  let c0_i32_9954 : BitVec 32 := 0#32
  ![v11512.toNat, 0, 0]

def k0_chk2437 (v11512 : BitVec 32) : Prop :=
  (∀ a, (k0_off2437 v11512) a + S1x16x128.size a ≤ S16384x16x128.size a)
theorem k0_off2437_inb : ∀ (v11512 : BitVec 32) (k0_hw2437 : k0_chk2437 v11512), ∀ a, (k0_off2437 v11512) a + S1x16x128.size a ≤ S16384x16x128.size a := fun v11512 k0_hw2437 => k0_hw2437

def k0_off2438 (v11518 : BitVec 32) : Fin 3 → Nat :=
  let c0_i32_9960 : BitVec 32 := 0#32
  let c0_i32_9961 : BitVec 32 := 0#32
  ![v11518.toNat, 0, 0]

def k0_chk2438 (v11518 : BitVec 32) : Prop :=
  (∀ a, (k0_off2438 v11518) a + S1x16x128.size a ≤ S16384x16x128.size a)
theorem k0_off2438_inb : ∀ (v11518 : BitVec 32) (k0_hw2438 : k0_chk2438 v11518), ∀ a, (k0_off2438 v11518) a + S1x16x128.size a ≤ S16384x16x128.size a := fun v11518 k0_hw2438 => k0_hw2438

def k0_off2439 (v11524 : BitVec 32) : Fin 3 → Nat :=
  let c0_i32_9967 : BitVec 32 := 0#32
  let c0_i32_9968 : BitVec 32 := 0#32
  ![v11524.toNat, 0, 0]

def k0_chk2439 (v11524 : BitVec 32) : Prop :=
  (∀ a, (k0_off2439 v11524) a + S1x16x128.size a ≤ S16384x16x128.size a)
theorem k0_off2439_inb : ∀ (v11524 : BitVec 32) (k0_hw2439 : k0_chk2439 v11524), ∀ a, (k0_off2439 v11524) a + S1x16x128.size a ≤ S16384x16x128.size a := fun v11524 k0_hw2439 => k0_hw2439

def k0_off2440 (v11530 : BitVec 32) : Fin 3 → Nat :=
  let c0_i32_9974 : BitVec 32 := 0#32
  let c0_i32_9975 : BitVec 32 := 0#32
  ![v11530.toNat, 0, 0]

def k0_chk2440 (v11530 : BitVec 32) : Prop :=
  (∀ a, (k0_off2440 v11530) a + S1x16x128.size a ≤ S16384x16x128.size a)
theorem k0_off2440_inb : ∀ (v11530 : BitVec 32) (k0_hw2440 : k0_chk2440 v11530), ∀ a, (k0_off2440 v11530) a + S1x16x128.size a ≤ S16384x16x128.size a := fun v11530 k0_hw2440 => k0_hw2440

def k0_off2441 (v11536 : BitVec 32) : Fin 3 → Nat :=
  let c0_i32_9981 : BitVec 32 := 0#32
  let c0_i32_9982 : BitVec 32 := 0#32
  ![v11536.toNat, 0, 0]

def k0_chk2441 (v11536 : BitVec 32) : Prop :=
  (∀ a, (k0_off2441 v11536) a + S1x16x128.size a ≤ S16384x16x128.size a)
theorem k0_off2441_inb : ∀ (v11536 : BitVec 32) (k0_hw2441 : k0_chk2441 v11536), ∀ a, (k0_off2441 v11536) a + S1x16x128.size a ≤ S16384x16x128.size a := fun v11536 k0_hw2441 => k0_hw2441

def k0_off2442 (v11542 : BitVec 32) : Fin 3 → Nat :=
  let c0_i32_9988 : BitVec 32 := 0#32
  let c0_i32_9989 : BitVec 32 := 0#32
  ![v11542.toNat, 0, 0]

def k0_chk2442 (v11542 : BitVec 32) : Prop :=
  (∀ a, (k0_off2442 v11542) a + S1x16x128.size a ≤ S16384x16x128.size a)
theorem k0_off2442_inb : ∀ (v11542 : BitVec 32) (k0_hw2442 : k0_chk2442 v11542), ∀ a, (k0_off2442 v11542) a + S1x16x128.size a ≤ S16384x16x128.size a := fun v11542 k0_hw2442 => k0_hw2442

def k0_off2443 (v11548 : BitVec 32) : Fin 3 → Nat :=
  let c0_i32_9995 : BitVec 32 := 0#32
  let c0_i32_9996 : BitVec 32 := 0#32
  ![v11548.toNat, 0, 0]

def k0_chk2443 (v11548 : BitVec 32) : Prop :=
  (∀ a, (k0_off2443 v11548) a + S1x16x128.size a ≤ S16384x16x128.size a)
theorem k0_off2443_inb : ∀ (v11548 : BitVec 32) (k0_hw2443 : k0_chk2443 v11548), ∀ a, (k0_off2443 v11548) a + S1x16x128.size a ≤ S16384x16x128.size a := fun v11548 k0_hw2443 => k0_hw2443

def k0_off2444 (v11554 : BitVec 32) : Fin 3 → Nat :=
  let c0_i32_10002 : BitVec 32 := 0#32
  let c0_i32_10003 : BitVec 32 := 0#32
  ![v11554.toNat, 0, 0]

def k0_chk2444 (v11554 : BitVec 32) : Prop :=
  (∀ a, (k0_off2444 v11554) a + S1x16x128.size a ≤ S16384x16x128.size a)
theorem k0_off2444_inb : ∀ (v11554 : BitVec 32) (k0_hw2444 : k0_chk2444 v11554), ∀ a, (k0_off2444 v11554) a + S1x16x128.size a ≤ S16384x16x128.size a := fun v11554 k0_hw2444 => k0_hw2444

def k0_off2445 (v11560 : BitVec 32) : Fin 3 → Nat :=
  let c0_i32_10009 : BitVec 32 := 0#32
  let c0_i32_10010 : BitVec 32 := 0#32
  ![v11560.toNat, 0, 0]

def k0_chk2445 (v11560 : BitVec 32) : Prop :=
  (∀ a, (k0_off2445 v11560) a + S1x16x128.size a ≤ S16384x16x128.size a)
theorem k0_off2445_inb : ∀ (v11560 : BitVec 32) (k0_hw2445 : k0_chk2445 v11560), ∀ a, (k0_off2445 v11560) a + S1x16x128.size a ≤ S16384x16x128.size a := fun v11560 k0_hw2445 => k0_hw2445

def k0_off2446 (v11566 : BitVec 32) : Fin 3 → Nat :=
  let c0_i32_10016 : BitVec 32 := 0#32
  let c0_i32_10017 : BitVec 32 := 0#32
  ![v11566.toNat, 0, 0]

def k0_chk2446 (v11566 : BitVec 32) : Prop :=
  (∀ a, (k0_off2446 v11566) a + S1x16x128.size a ≤ S16384x16x128.size a)
theorem k0_off2446_inb : ∀ (v11566 : BitVec 32) (k0_hw2446 : k0_chk2446 v11566), ∀ a, (k0_off2446 v11566) a + S1x16x128.size a ≤ S16384x16x128.size a := fun v11566 k0_hw2446 => k0_hw2446

def k0_off2447 (v11572 : BitVec 32) : Fin 3 → Nat :=
  let c0_i32_10023 : BitVec 32 := 0#32
  let c0_i32_10024 : BitVec 32 := 0#32
  ![v11572.toNat, 0, 0]

def k0_chk2447 (v11572 : BitVec 32) : Prop :=
  (∀ a, (k0_off2447 v11572) a + S1x16x128.size a ≤ S16384x16x128.size a)
theorem k0_off2447_inb : ∀ (v11572 : BitVec 32) (k0_hw2447 : k0_chk2447 v11572), ∀ a, (k0_off2447 v11572) a + S1x16x128.size a ≤ S16384x16x128.size a := fun v11572 k0_hw2447 => k0_hw2447

def k0_off2448 (v11578 : BitVec 32) : Fin 3 → Nat :=
  let c0_i32_10030 : BitVec 32 := 0#32
  let c0_i32_10031 : BitVec 32 := 0#32
  ![v11578.toNat, 0, 0]

def k0_chk2448 (v11578 : BitVec 32) : Prop :=
  (∀ a, (k0_off2448 v11578) a + S1x16x128.size a ≤ S16384x16x128.size a)
theorem k0_off2448_inb : ∀ (v11578 : BitVec 32) (k0_hw2448 : k0_chk2448 v11578), ∀ a, (k0_off2448 v11578) a + S1x16x128.size a ≤ S16384x16x128.size a := fun v11578 k0_hw2448 => k0_hw2448

def k0_off2449 (v11584 : BitVec 32) : Fin 3 → Nat :=
  let c0_i32_10037 : BitVec 32 := 0#32
  let c0_i32_10038 : BitVec 32 := 0#32
  ![v11584.toNat, 0, 0]

def k0_chk2449 (v11584 : BitVec 32) : Prop :=
  (∀ a, (k0_off2449 v11584) a + S1x16x128.size a ≤ S16384x16x128.size a)
theorem k0_off2449_inb : ∀ (v11584 : BitVec 32) (k0_hw2449 : k0_chk2449 v11584), ∀ a, (k0_off2449 v11584) a + S1x16x128.size a ≤ S16384x16x128.size a := fun v11584 k0_hw2449 => k0_hw2449

def k0_off2450 (v11590 : BitVec 32) : Fin 3 → Nat :=
  let c0_i32_10044 : BitVec 32 := 0#32
  let c0_i32_10045 : BitVec 32 := 0#32
  ![v11590.toNat, 0, 0]

def k0_chk2450 (v11590 : BitVec 32) : Prop :=
  (∀ a, (k0_off2450 v11590) a + S1x16x128.size a ≤ S16384x16x128.size a)
theorem k0_off2450_inb : ∀ (v11590 : BitVec 32) (k0_hw2450 : k0_chk2450 v11590), ∀ a, (k0_off2450 v11590) a + S1x16x128.size a ≤ S16384x16x128.size a := fun v11590 k0_hw2450 => k0_hw2450

def k0_off2451 (v11596 : BitVec 32) : Fin 3 → Nat :=
  let c0_i32_10051 : BitVec 32 := 0#32
  let c0_i32_10052 : BitVec 32 := 0#32
  ![v11596.toNat, 0, 0]

def k0_chk2451 (v11596 : BitVec 32) : Prop :=
  (∀ a, (k0_off2451 v11596) a + S1x16x128.size a ≤ S16384x16x128.size a)
theorem k0_off2451_inb : ∀ (v11596 : BitVec 32) (k0_hw2451 : k0_chk2451 v11596), ∀ a, (k0_off2451 v11596) a + S1x16x128.size a ≤ S16384x16x128.size a := fun v11596 k0_hw2451 => k0_hw2451

def k0_off2452 (v11602 : BitVec 32) : Fin 3 → Nat :=
  let c0_i32_10058 : BitVec 32 := 0#32
  let c0_i32_10059 : BitVec 32 := 0#32
  ![v11602.toNat, 0, 0]

def k0_chk2452 (v11602 : BitVec 32) : Prop :=
  (∀ a, (k0_off2452 v11602) a + S1x16x128.size a ≤ S16384x16x128.size a)
theorem k0_off2452_inb : ∀ (v11602 : BitVec 32) (k0_hw2452 : k0_chk2452 v11602), ∀ a, (k0_off2452 v11602) a + S1x16x128.size a ≤ S16384x16x128.size a := fun v11602 k0_hw2452 => k0_hw2452

def k0_off2453 (v11608 : BitVec 32) : Fin 3 → Nat :=
  let c0_i32_10065 : BitVec 32 := 0#32
  let c0_i32_10066 : BitVec 32 := 0#32
  ![v11608.toNat, 0, 0]

def k0_chk2453 (v11608 : BitVec 32) : Prop :=
  (∀ a, (k0_off2453 v11608) a + S1x16x128.size a ≤ S16384x16x128.size a)
theorem k0_off2453_inb : ∀ (v11608 : BitVec 32) (k0_hw2453 : k0_chk2453 v11608), ∀ a, (k0_off2453 v11608) a + S1x16x128.size a ≤ S16384x16x128.size a := fun v11608 k0_hw2453 => k0_hw2453

def k0_off2454 (v11614 : BitVec 32) : Fin 3 → Nat :=
  let c0_i32_10072 : BitVec 32 := 0#32
  let c0_i32_10073 : BitVec 32 := 0#32
  ![v11614.toNat, 0, 0]

def k0_chk2454 (v11614 : BitVec 32) : Prop :=
  (∀ a, (k0_off2454 v11614) a + S1x16x128.size a ≤ S16384x16x128.size a)
theorem k0_off2454_inb : ∀ (v11614 : BitVec 32) (k0_hw2454 : k0_chk2454 v11614), ∀ a, (k0_off2454 v11614) a + S1x16x128.size a ≤ S16384x16x128.size a := fun v11614 k0_hw2454 => k0_hw2454

def k0_off2455 (v11620 : BitVec 32) : Fin 3 → Nat :=
  let c0_i32_10079 : BitVec 32 := 0#32
  let c0_i32_10080 : BitVec 32 := 0#32
  ![v11620.toNat, 0, 0]

def k0_chk2455 (v11620 : BitVec 32) : Prop :=
  (∀ a, (k0_off2455 v11620) a + S1x16x128.size a ≤ S16384x16x128.size a)
theorem k0_off2455_inb : ∀ (v11620 : BitVec 32) (k0_hw2455 : k0_chk2455 v11620), ∀ a, (k0_off2455 v11620) a + S1x16x128.size a ≤ S16384x16x128.size a := fun v11620 k0_hw2455 => k0_hw2455

def k0_off2456 (v11626 : BitVec 32) : Fin 3 → Nat :=
  let c0_i32_10086 : BitVec 32 := 0#32
  let c0_i32_10087 : BitVec 32 := 0#32
  ![v11626.toNat, 0, 0]

def k0_chk2456 (v11626 : BitVec 32) : Prop :=
  (∀ a, (k0_off2456 v11626) a + S1x16x128.size a ≤ S16384x16x128.size a)
theorem k0_off2456_inb : ∀ (v11626 : BitVec 32) (k0_hw2456 : k0_chk2456 v11626), ∀ a, (k0_off2456 v11626) a + S1x16x128.size a ≤ S16384x16x128.size a := fun v11626 k0_hw2456 => k0_hw2456

def k0_off2457 (v11632 : BitVec 32) : Fin 3 → Nat :=
  let c0_i32_10093 : BitVec 32 := 0#32
  let c0_i32_10094 : BitVec 32 := 0#32
  ![v11632.toNat, 0, 0]

def k0_chk2457 (v11632 : BitVec 32) : Prop :=
  (∀ a, (k0_off2457 v11632) a + S1x16x128.size a ≤ S16384x16x128.size a)
theorem k0_off2457_inb : ∀ (v11632 : BitVec 32) (k0_hw2457 : k0_chk2457 v11632), ∀ a, (k0_off2457 v11632) a + S1x16x128.size a ≤ S16384x16x128.size a := fun v11632 k0_hw2457 => k0_hw2457

def k0_off2458 (v11638 : BitVec 32) : Fin 3 → Nat :=
  let c0_i32_10100 : BitVec 32 := 0#32
  let c0_i32_10101 : BitVec 32 := 0#32
  ![v11638.toNat, 0, 0]

def k0_chk2458 (v11638 : BitVec 32) : Prop :=
  (∀ a, (k0_off2458 v11638) a + S1x16x128.size a ≤ S16384x16x128.size a)
theorem k0_off2458_inb : ∀ (v11638 : BitVec 32) (k0_hw2458 : k0_chk2458 v11638), ∀ a, (k0_off2458 v11638) a + S1x16x128.size a ≤ S16384x16x128.size a := fun v11638 k0_hw2458 => k0_hw2458

def k0_off2459 (v11644 : BitVec 32) : Fin 3 → Nat :=
  let c0_i32_10107 : BitVec 32 := 0#32
  let c0_i32_10108 : BitVec 32 := 0#32
  ![v11644.toNat, 0, 0]

def k0_chk2459 (v11644 : BitVec 32) : Prop :=
  (∀ a, (k0_off2459 v11644) a + S1x16x128.size a ≤ S16384x16x128.size a)
theorem k0_off2459_inb : ∀ (v11644 : BitVec 32) (k0_hw2459 : k0_chk2459 v11644), ∀ a, (k0_off2459 v11644) a + S1x16x128.size a ≤ S16384x16x128.size a := fun v11644 k0_hw2459 => k0_hw2459

def k0_off2460 (v11650 : BitVec 32) : Fin 3 → Nat :=
  let c0_i32_10114 : BitVec 32 := 0#32
  let c0_i32_10115 : BitVec 32 := 0#32
  ![v11650.toNat, 0, 0]

def k0_chk2460 (v11650 : BitVec 32) : Prop :=
  (∀ a, (k0_off2460 v11650) a + S1x16x128.size a ≤ S16384x16x128.size a)
theorem k0_off2460_inb : ∀ (v11650 : BitVec 32) (k0_hw2460 : k0_chk2460 v11650), ∀ a, (k0_off2460 v11650) a + S1x16x128.size a ≤ S16384x16x128.size a := fun v11650 k0_hw2460 => k0_hw2460

def k0_off2461 (v11656 : BitVec 32) : Fin 3 → Nat :=
  let c0_i32_10121 : BitVec 32 := 0#32
  let c0_i32_10122 : BitVec 32 := 0#32
  ![v11656.toNat, 0, 0]

def k0_chk2461 (v11656 : BitVec 32) : Prop :=
  (∀ a, (k0_off2461 v11656) a + S1x16x128.size a ≤ S16384x16x128.size a)
theorem k0_off2461_inb : ∀ (v11656 : BitVec 32) (k0_hw2461 : k0_chk2461 v11656), ∀ a, (k0_off2461 v11656) a + S1x16x128.size a ≤ S16384x16x128.size a := fun v11656 k0_hw2461 => k0_hw2461

def k0_off2462 (v11662 : BitVec 32) : Fin 3 → Nat :=
  let c0_i32_10128 : BitVec 32 := 0#32
  let c0_i32_10129 : BitVec 32 := 0#32
  ![v11662.toNat, 0, 0]

def k0_chk2462 (v11662 : BitVec 32) : Prop :=
  (∀ a, (k0_off2462 v11662) a + S1x16x128.size a ≤ S16384x16x128.size a)
theorem k0_off2462_inb : ∀ (v11662 : BitVec 32) (k0_hw2462 : k0_chk2462 v11662), ∀ a, (k0_off2462 v11662) a + S1x16x128.size a ≤ S16384x16x128.size a := fun v11662 k0_hw2462 => k0_hw2462

def k0_off2463 (v11668 : BitVec 32) : Fin 3 → Nat :=
  let c0_i32_10135 : BitVec 32 := 0#32
  let c0_i32_10136 : BitVec 32 := 0#32
  ![v11668.toNat, 0, 0]

def k0_chk2463 (v11668 : BitVec 32) : Prop :=
  (∀ a, (k0_off2463 v11668) a + S1x16x128.size a ≤ S16384x16x128.size a)
theorem k0_off2463_inb : ∀ (v11668 : BitVec 32) (k0_hw2463 : k0_chk2463 v11668), ∀ a, (k0_off2463 v11668) a + S1x16x128.size a ≤ S16384x16x128.size a := fun v11668 k0_hw2463 => k0_hw2463

def k0_off2464 (v11674 : BitVec 32) : Fin 3 → Nat :=
  let c0_i32_10142 : BitVec 32 := 0#32
  let c0_i32_10143 : BitVec 32 := 0#32
  ![v11674.toNat, 0, 0]

def k0_chk2464 (v11674 : BitVec 32) : Prop :=
  (∀ a, (k0_off2464 v11674) a + S1x16x128.size a ≤ S16384x16x128.size a)
theorem k0_off2464_inb : ∀ (v11674 : BitVec 32) (k0_hw2464 : k0_chk2464 v11674), ∀ a, (k0_off2464 v11674) a + S1x16x128.size a ≤ S16384x16x128.size a := fun v11674 k0_hw2464 => k0_hw2464

def k0_off2465 (v11680 : BitVec 32) : Fin 3 → Nat :=
  let c0_i32_10149 : BitVec 32 := 0#32
  let c0_i32_10150 : BitVec 32 := 0#32
  ![v11680.toNat, 0, 0]

def k0_chk2465 (v11680 : BitVec 32) : Prop :=
  (∀ a, (k0_off2465 v11680) a + S1x16x128.size a ≤ S16384x16x128.size a)
theorem k0_off2465_inb : ∀ (v11680 : BitVec 32) (k0_hw2465 : k0_chk2465 v11680), ∀ a, (k0_off2465 v11680) a + S1x16x128.size a ≤ S16384x16x128.size a := fun v11680 k0_hw2465 => k0_hw2465

def k0_off2466 (v11686 : BitVec 32) : Fin 3 → Nat :=
  let c0_i32_10156 : BitVec 32 := 0#32
  let c0_i32_10157 : BitVec 32 := 0#32
  ![v11686.toNat, 0, 0]

def k0_chk2466 (v11686 : BitVec 32) : Prop :=
  (∀ a, (k0_off2466 v11686) a + S1x16x128.size a ≤ S16384x16x128.size a)
theorem k0_off2466_inb : ∀ (v11686 : BitVec 32) (k0_hw2466 : k0_chk2466 v11686), ∀ a, (k0_off2466 v11686) a + S1x16x128.size a ≤ S16384x16x128.size a := fun v11686 k0_hw2466 => k0_hw2466

def k0_off2467 (v11692 : BitVec 32) : Fin 3 → Nat :=
  let c0_i32_10163 : BitVec 32 := 0#32
  let c0_i32_10164 : BitVec 32 := 0#32
  ![v11692.toNat, 0, 0]

def k0_chk2467 (v11692 : BitVec 32) : Prop :=
  (∀ a, (k0_off2467 v11692) a + S1x16x128.size a ≤ S16384x16x128.size a)
theorem k0_off2467_inb : ∀ (v11692 : BitVec 32) (k0_hw2467 : k0_chk2467 v11692), ∀ a, (k0_off2467 v11692) a + S1x16x128.size a ≤ S16384x16x128.size a := fun v11692 k0_hw2467 => k0_hw2467

def k0_off2468 (v11698 : BitVec 32) : Fin 3 → Nat :=
  let c0_i32_10170 : BitVec 32 := 0#32
  let c0_i32_10171 : BitVec 32 := 0#32
  ![v11698.toNat, 0, 0]

def k0_chk2468 (v11698 : BitVec 32) : Prop :=
  (∀ a, (k0_off2468 v11698) a + S1x16x128.size a ≤ S16384x16x128.size a)
theorem k0_off2468_inb : ∀ (v11698 : BitVec 32) (k0_hw2468 : k0_chk2468 v11698), ∀ a, (k0_off2468 v11698) a + S1x16x128.size a ≤ S16384x16x128.size a := fun v11698 k0_hw2468 => k0_hw2468

def k0_off2469 (v11704 : BitVec 32) : Fin 3 → Nat :=
  let c0_i32_10177 : BitVec 32 := 0#32
  let c0_i32_10178 : BitVec 32 := 0#32
  ![v11704.toNat, 0, 0]

def k0_chk2469 (v11704 : BitVec 32) : Prop :=
  (∀ a, (k0_off2469 v11704) a + S1x16x128.size a ≤ S16384x16x128.size a)
theorem k0_off2469_inb : ∀ (v11704 : BitVec 32) (k0_hw2469 : k0_chk2469 v11704), ∀ a, (k0_off2469 v11704) a + S1x16x128.size a ≤ S16384x16x128.size a := fun v11704 k0_hw2469 => k0_hw2469

def k0_off2470 (v11710 : BitVec 32) : Fin 3 → Nat :=
  let c0_i32_10184 : BitVec 32 := 0#32
  let c0_i32_10185 : BitVec 32 := 0#32
  ![v11710.toNat, 0, 0]

def k0_chk2470 (v11710 : BitVec 32) : Prop :=
  (∀ a, (k0_off2470 v11710) a + S1x16x128.size a ≤ S16384x16x128.size a)
theorem k0_off2470_inb : ∀ (v11710 : BitVec 32) (k0_hw2470 : k0_chk2470 v11710), ∀ a, (k0_off2470 v11710) a + S1x16x128.size a ≤ S16384x16x128.size a := fun v11710 k0_hw2470 => k0_hw2470

def k0_off2471 (v11716 : BitVec 32) : Fin 3 → Nat :=
  let c0_i32_10191 : BitVec 32 := 0#32
  let c0_i32_10192 : BitVec 32 := 0#32
  ![v11716.toNat, 0, 0]

def k0_chk2471 (v11716 : BitVec 32) : Prop :=
  (∀ a, (k0_off2471 v11716) a + S1x16x128.size a ≤ S16384x16x128.size a)
theorem k0_off2471_inb : ∀ (v11716 : BitVec 32) (k0_hw2471 : k0_chk2471 v11716), ∀ a, (k0_off2471 v11716) a + S1x16x128.size a ≤ S16384x16x128.size a := fun v11716 k0_hw2471 => k0_hw2471

def k0_off2472 (v11722 : BitVec 32) : Fin 3 → Nat :=
  let c0_i32_10198 : BitVec 32 := 0#32
  let c0_i32_10199 : BitVec 32 := 0#32
  ![v11722.toNat, 0, 0]

def k0_chk2472 (v11722 : BitVec 32) : Prop :=
  (∀ a, (k0_off2472 v11722) a + S1x16x128.size a ≤ S16384x16x128.size a)
theorem k0_off2472_inb : ∀ (v11722 : BitVec 32) (k0_hw2472 : k0_chk2472 v11722), ∀ a, (k0_off2472 v11722) a + S1x16x128.size a ≤ S16384x16x128.size a := fun v11722 k0_hw2472 => k0_hw2472

def k0_off2473 (v11728 : BitVec 32) : Fin 3 → Nat :=
  let c0_i32_10205 : BitVec 32 := 0#32
  let c0_i32_10206 : BitVec 32 := 0#32
  ![v11728.toNat, 0, 0]

def k0_chk2473 (v11728 : BitVec 32) : Prop :=
  (∀ a, (k0_off2473 v11728) a + S1x16x128.size a ≤ S16384x16x128.size a)
theorem k0_off2473_inb : ∀ (v11728 : BitVec 32) (k0_hw2473 : k0_chk2473 v11728), ∀ a, (k0_off2473 v11728) a + S1x16x128.size a ≤ S16384x16x128.size a := fun v11728 k0_hw2473 => k0_hw2473

def k0_off2474 (v11734 : BitVec 32) : Fin 3 → Nat :=
  let c0_i32_10212 : BitVec 32 := 0#32
  let c0_i32_10213 : BitVec 32 := 0#32
  ![v11734.toNat, 0, 0]

def k0_chk2474 (v11734 : BitVec 32) : Prop :=
  (∀ a, (k0_off2474 v11734) a + S1x16x128.size a ≤ S16384x16x128.size a)
theorem k0_off2474_inb : ∀ (v11734 : BitVec 32) (k0_hw2474 : k0_chk2474 v11734), ∀ a, (k0_off2474 v11734) a + S1x16x128.size a ≤ S16384x16x128.size a := fun v11734 k0_hw2474 => k0_hw2474

def k0_off2475 (v11740 : BitVec 32) : Fin 3 → Nat :=
  let c0_i32_10219 : BitVec 32 := 0#32
  let c0_i32_10220 : BitVec 32 := 0#32
  ![v11740.toNat, 0, 0]

def k0_chk2475 (v11740 : BitVec 32) : Prop :=
  (∀ a, (k0_off2475 v11740) a + S1x16x128.size a ≤ S16384x16x128.size a)
theorem k0_off2475_inb : ∀ (v11740 : BitVec 32) (k0_hw2475 : k0_chk2475 v11740), ∀ a, (k0_off2475 v11740) a + S1x16x128.size a ≤ S16384x16x128.size a := fun v11740 k0_hw2475 => k0_hw2475

def k0_off2476 (v11746 : BitVec 32) : Fin 3 → Nat :=
  let c0_i32_10226 : BitVec 32 := 0#32
  let c0_i32_10227 : BitVec 32 := 0#32
  ![v11746.toNat, 0, 0]

def k0_chk2476 (v11746 : BitVec 32) : Prop :=
  (∀ a, (k0_off2476 v11746) a + S1x16x128.size a ≤ S16384x16x128.size a)
theorem k0_off2476_inb : ∀ (v11746 : BitVec 32) (k0_hw2476 : k0_chk2476 v11746), ∀ a, (k0_off2476 v11746) a + S1x16x128.size a ≤ S16384x16x128.size a := fun v11746 k0_hw2476 => k0_hw2476

def k0_off2477 (v11752 : BitVec 32) : Fin 3 → Nat :=
  let c0_i32_10233 : BitVec 32 := 0#32
  let c0_i32_10234 : BitVec 32 := 0#32
  ![v11752.toNat, 0, 0]

def k0_chk2477 (v11752 : BitVec 32) : Prop :=
  (∀ a, (k0_off2477 v11752) a + S1x16x128.size a ≤ S16384x16x128.size a)
theorem k0_off2477_inb : ∀ (v11752 : BitVec 32) (k0_hw2477 : k0_chk2477 v11752), ∀ a, (k0_off2477 v11752) a + S1x16x128.size a ≤ S16384x16x128.size a := fun v11752 k0_hw2477 => k0_hw2477

def k0_off2478 (v11758 : BitVec 32) : Fin 3 → Nat :=
  let c0_i32_10240 : BitVec 32 := 0#32
  let c0_i32_10241 : BitVec 32 := 0#32
  ![v11758.toNat, 0, 0]

def k0_chk2478 (v11758 : BitVec 32) : Prop :=
  (∀ a, (k0_off2478 v11758) a + S1x16x128.size a ≤ S16384x16x128.size a)
theorem k0_off2478_inb : ∀ (v11758 : BitVec 32) (k0_hw2478 : k0_chk2478 v11758), ∀ a, (k0_off2478 v11758) a + S1x16x128.size a ≤ S16384x16x128.size a := fun v11758 k0_hw2478 => k0_hw2478

def k0_off2479 (v11764 : BitVec 32) : Fin 3 → Nat :=
  let c0_i32_10247 : BitVec 32 := 0#32
  let c0_i32_10248 : BitVec 32 := 0#32
  ![v11764.toNat, 0, 0]

def k0_chk2479 (v11764 : BitVec 32) : Prop :=
  (∀ a, (k0_off2479 v11764) a + S1x16x128.size a ≤ S16384x16x128.size a)
theorem k0_off2479_inb : ∀ (v11764 : BitVec 32) (k0_hw2479 : k0_chk2479 v11764), ∀ a, (k0_off2479 v11764) a + S1x16x128.size a ≤ S16384x16x128.size a := fun v11764 k0_hw2479 => k0_hw2479

def k0_off2480 (v11770 : BitVec 32) : Fin 3 → Nat :=
  let c0_i32_10254 : BitVec 32 := 0#32
  let c0_i32_10255 : BitVec 32 := 0#32
  ![v11770.toNat, 0, 0]

def k0_chk2480 (v11770 : BitVec 32) : Prop :=
  (∀ a, (k0_off2480 v11770) a + S1x16x128.size a ≤ S16384x16x128.size a)
theorem k0_off2480_inb : ∀ (v11770 : BitVec 32) (k0_hw2480 : k0_chk2480 v11770), ∀ a, (k0_off2480 v11770) a + S1x16x128.size a ≤ S16384x16x128.size a := fun v11770 k0_hw2480 => k0_hw2480

def k0_off2481 (v11776 : BitVec 32) : Fin 3 → Nat :=
  let c0_i32_10261 : BitVec 32 := 0#32
  let c0_i32_10262 : BitVec 32 := 0#32
  ![v11776.toNat, 0, 0]

def k0_chk2481 (v11776 : BitVec 32) : Prop :=
  (∀ a, (k0_off2481 v11776) a + S1x16x128.size a ≤ S16384x16x128.size a)
theorem k0_off2481_inb : ∀ (v11776 : BitVec 32) (k0_hw2481 : k0_chk2481 v11776), ∀ a, (k0_off2481 v11776) a + S1x16x128.size a ≤ S16384x16x128.size a := fun v11776 k0_hw2481 => k0_hw2481

def k0_off2482 (v11782 : BitVec 32) : Fin 3 → Nat :=
  let c0_i32_10268 : BitVec 32 := 0#32
  let c0_i32_10269 : BitVec 32 := 0#32
  ![v11782.toNat, 0, 0]

def k0_chk2482 (v11782 : BitVec 32) : Prop :=
  (∀ a, (k0_off2482 v11782) a + S1x16x128.size a ≤ S16384x16x128.size a)
theorem k0_off2482_inb : ∀ (v11782 : BitVec 32) (k0_hw2482 : k0_chk2482 v11782), ∀ a, (k0_off2482 v11782) a + S1x16x128.size a ≤ S16384x16x128.size a := fun v11782 k0_hw2482 => k0_hw2482

def k0_off2483 (v11788 : BitVec 32) : Fin 3 → Nat :=
  let c0_i32_10275 : BitVec 32 := 0#32
  let c0_i32_10276 : BitVec 32 := 0#32
  ![v11788.toNat, 0, 0]

def k0_chk2483 (v11788 : BitVec 32) : Prop :=
  (∀ a, (k0_off2483 v11788) a + S1x16x128.size a ≤ S16384x16x128.size a)
theorem k0_off2483_inb : ∀ (v11788 : BitVec 32) (k0_hw2483 : k0_chk2483 v11788), ∀ a, (k0_off2483 v11788) a + S1x16x128.size a ≤ S16384x16x128.size a := fun v11788 k0_hw2483 => k0_hw2483

def k0_off2484 (v11794 : BitVec 32) : Fin 3 → Nat :=
  let c0_i32_10282 : BitVec 32 := 0#32
  let c0_i32_10283 : BitVec 32 := 0#32
  ![v11794.toNat, 0, 0]

def k0_chk2484 (v11794 : BitVec 32) : Prop :=
  (∀ a, (k0_off2484 v11794) a + S1x16x128.size a ≤ S16384x16x128.size a)
theorem k0_off2484_inb : ∀ (v11794 : BitVec 32) (k0_hw2484 : k0_chk2484 v11794), ∀ a, (k0_off2484 v11794) a + S1x16x128.size a ≤ S16384x16x128.size a := fun v11794 k0_hw2484 => k0_hw2484

def k0_off2485 (v11800 : BitVec 32) : Fin 3 → Nat :=
  let c0_i32_10289 : BitVec 32 := 0#32
  let c0_i32_10290 : BitVec 32 := 0#32
  ![v11800.toNat, 0, 0]

def k0_chk2485 (v11800 : BitVec 32) : Prop :=
  (∀ a, (k0_off2485 v11800) a + S1x16x128.size a ≤ S16384x16x128.size a)
theorem k0_off2485_inb : ∀ (v11800 : BitVec 32) (k0_hw2485 : k0_chk2485 v11800), ∀ a, (k0_off2485 v11800) a + S1x16x128.size a ≤ S16384x16x128.size a := fun v11800 k0_hw2485 => k0_hw2485

def k0_off2486 (v11806 : BitVec 32) : Fin 3 → Nat :=
  let c0_i32_10296 : BitVec 32 := 0#32
  let c0_i32_10297 : BitVec 32 := 0#32
  ![v11806.toNat, 0, 0]

def k0_chk2486 (v11806 : BitVec 32) : Prop :=
  (∀ a, (k0_off2486 v11806) a + S1x16x128.size a ≤ S16384x16x128.size a)
theorem k0_off2486_inb : ∀ (v11806 : BitVec 32) (k0_hw2486 : k0_chk2486 v11806), ∀ a, (k0_off2486 v11806) a + S1x16x128.size a ≤ S16384x16x128.size a := fun v11806 k0_hw2486 => k0_hw2486

def k0_off2487 (v11812 : BitVec 32) : Fin 3 → Nat :=
  let c0_i32_10303 : BitVec 32 := 0#32
  let c0_i32_10304 : BitVec 32 := 0#32
  ![v11812.toNat, 0, 0]

def k0_chk2487 (v11812 : BitVec 32) : Prop :=
  (∀ a, (k0_off2487 v11812) a + S1x16x128.size a ≤ S16384x16x128.size a)
theorem k0_off2487_inb : ∀ (v11812 : BitVec 32) (k0_hw2487 : k0_chk2487 v11812), ∀ a, (k0_off2487 v11812) a + S1x16x128.size a ≤ S16384x16x128.size a := fun v11812 k0_hw2487 => k0_hw2487

def k0_off2488 (v11818 : BitVec 32) : Fin 3 → Nat :=
  let c0_i32_10310 : BitVec 32 := 0#32
  let c0_i32_10311 : BitVec 32 := 0#32
  ![v11818.toNat, 0, 0]

def k0_chk2488 (v11818 : BitVec 32) : Prop :=
  (∀ a, (k0_off2488 v11818) a + S1x16x128.size a ≤ S16384x16x128.size a)
theorem k0_off2488_inb : ∀ (v11818 : BitVec 32) (k0_hw2488 : k0_chk2488 v11818), ∀ a, (k0_off2488 v11818) a + S1x16x128.size a ≤ S16384x16x128.size a := fun v11818 k0_hw2488 => k0_hw2488

def k0_off2489 (v11824 : BitVec 32) : Fin 3 → Nat :=
  let c0_i32_10317 : BitVec 32 := 0#32
  let c0_i32_10318 : BitVec 32 := 0#32
  ![v11824.toNat, 0, 0]

def k0_chk2489 (v11824 : BitVec 32) : Prop :=
  (∀ a, (k0_off2489 v11824) a + S1x16x128.size a ≤ S16384x16x128.size a)
theorem k0_off2489_inb : ∀ (v11824 : BitVec 32) (k0_hw2489 : k0_chk2489 v11824), ∀ a, (k0_off2489 v11824) a + S1x16x128.size a ≤ S16384x16x128.size a := fun v11824 k0_hw2489 => k0_hw2489

def k0_off2490 (v11830 : BitVec 32) : Fin 3 → Nat :=
  let c0_i32_10324 : BitVec 32 := 0#32
  let c0_i32_10325 : BitVec 32 := 0#32
  ![v11830.toNat, 0, 0]

def k0_chk2490 (v11830 : BitVec 32) : Prop :=
  (∀ a, (k0_off2490 v11830) a + S1x16x128.size a ≤ S16384x16x128.size a)
theorem k0_off2490_inb : ∀ (v11830 : BitVec 32) (k0_hw2490 : k0_chk2490 v11830), ∀ a, (k0_off2490 v11830) a + S1x16x128.size a ≤ S16384x16x128.size a := fun v11830 k0_hw2490 => k0_hw2490

def k0_off2491 (v11836 : BitVec 32) : Fin 3 → Nat :=
  let c0_i32_10331 : BitVec 32 := 0#32
  let c0_i32_10332 : BitVec 32 := 0#32
  ![v11836.toNat, 0, 0]

def k0_chk2491 (v11836 : BitVec 32) : Prop :=
  (∀ a, (k0_off2491 v11836) a + S1x16x128.size a ≤ S16384x16x128.size a)
theorem k0_off2491_inb : ∀ (v11836 : BitVec 32) (k0_hw2491 : k0_chk2491 v11836), ∀ a, (k0_off2491 v11836) a + S1x16x128.size a ≤ S16384x16x128.size a := fun v11836 k0_hw2491 => k0_hw2491

def k0_off2492 (v11842 : BitVec 32) : Fin 3 → Nat :=
  let c0_i32_10338 : BitVec 32 := 0#32
  let c0_i32_10339 : BitVec 32 := 0#32
  ![v11842.toNat, 0, 0]

def k0_chk2492 (v11842 : BitVec 32) : Prop :=
  (∀ a, (k0_off2492 v11842) a + S1x16x128.size a ≤ S16384x16x128.size a)
theorem k0_off2492_inb : ∀ (v11842 : BitVec 32) (k0_hw2492 : k0_chk2492 v11842), ∀ a, (k0_off2492 v11842) a + S1x16x128.size a ≤ S16384x16x128.size a := fun v11842 k0_hw2492 => k0_hw2492

def k0_off2493 (v11848 : BitVec 32) : Fin 3 → Nat :=
  let c0_i32_10345 : BitVec 32 := 0#32
  let c0_i32_10346 : BitVec 32 := 0#32
  ![v11848.toNat, 0, 0]

def k0_chk2493 (v11848 : BitVec 32) : Prop :=
  (∀ a, (k0_off2493 v11848) a + S1x16x128.size a ≤ S16384x16x128.size a)
theorem k0_off2493_inb : ∀ (v11848 : BitVec 32) (k0_hw2493 : k0_chk2493 v11848), ∀ a, (k0_off2493 v11848) a + S1x16x128.size a ≤ S16384x16x128.size a := fun v11848 k0_hw2493 => k0_hw2493

def k0_off2494 (v11854 : BitVec 32) : Fin 3 → Nat :=
  let c0_i32_10352 : BitVec 32 := 0#32
  let c0_i32_10353 : BitVec 32 := 0#32
  ![v11854.toNat, 0, 0]

def k0_chk2494 (v11854 : BitVec 32) : Prop :=
  (∀ a, (k0_off2494 v11854) a + S1x16x128.size a ≤ S16384x16x128.size a)
theorem k0_off2494_inb : ∀ (v11854 : BitVec 32) (k0_hw2494 : k0_chk2494 v11854), ∀ a, (k0_off2494 v11854) a + S1x16x128.size a ≤ S16384x16x128.size a := fun v11854 k0_hw2494 => k0_hw2494

def k0_off2495 (v11860 : BitVec 32) : Fin 3 → Nat :=
  let c0_i32_10359 : BitVec 32 := 0#32
  let c0_i32_10360 : BitVec 32 := 0#32
  ![v11860.toNat, 0, 0]

def k0_chk2495 (v11860 : BitVec 32) : Prop :=
  (∀ a, (k0_off2495 v11860) a + S1x16x128.size a ≤ S16384x16x128.size a)
theorem k0_off2495_inb : ∀ (v11860 : BitVec 32) (k0_hw2495 : k0_chk2495 v11860), ∀ a, (k0_off2495 v11860) a + S1x16x128.size a ≤ S16384x16x128.size a := fun v11860 k0_hw2495 => k0_hw2495

def k0_off2496 (v11866 : BitVec 32) : Fin 3 → Nat :=
  let c0_i32_10366 : BitVec 32 := 0#32
  let c0_i32_10367 : BitVec 32 := 0#32
  ![v11866.toNat, 0, 0]

def k0_chk2496 (v11866 : BitVec 32) : Prop :=
  (∀ a, (k0_off2496 v11866) a + S1x16x128.size a ≤ S16384x16x128.size a)
theorem k0_off2496_inb : ∀ (v11866 : BitVec 32) (k0_hw2496 : k0_chk2496 v11866), ∀ a, (k0_off2496 v11866) a + S1x16x128.size a ≤ S16384x16x128.size a := fun v11866 k0_hw2496 => k0_hw2496

def k0_off2497 (v11872 : BitVec 32) : Fin 3 → Nat :=
  let c0_i32_10373 : BitVec 32 := 0#32
  let c0_i32_10374 : BitVec 32 := 0#32
  ![v11872.toNat, 0, 0]

def k0_chk2497 (v11872 : BitVec 32) : Prop :=
  (∀ a, (k0_off2497 v11872) a + S1x16x128.size a ≤ S16384x16x128.size a)
theorem k0_off2497_inb : ∀ (v11872 : BitVec 32) (k0_hw2497 : k0_chk2497 v11872), ∀ a, (k0_off2497 v11872) a + S1x16x128.size a ≤ S16384x16x128.size a := fun v11872 k0_hw2497 => k0_hw2497

def k0_off2498 (v11878 : BitVec 32) : Fin 3 → Nat :=
  let c0_i32_10380 : BitVec 32 := 0#32
  let c0_i32_10381 : BitVec 32 := 0#32
  ![v11878.toNat, 0, 0]

def k0_chk2498 (v11878 : BitVec 32) : Prop :=
  (∀ a, (k0_off2498 v11878) a + S1x16x128.size a ≤ S16384x16x128.size a)
theorem k0_off2498_inb : ∀ (v11878 : BitVec 32) (k0_hw2498 : k0_chk2498 v11878), ∀ a, (k0_off2498 v11878) a + S1x16x128.size a ≤ S16384x16x128.size a := fun v11878 k0_hw2498 => k0_hw2498

def k0_off2499 (v11884 : BitVec 32) : Fin 3 → Nat :=
  let c0_i32_10387 : BitVec 32 := 0#32
  let c0_i32_10388 : BitVec 32 := 0#32
  ![v11884.toNat, 0, 0]

def k0_chk2499 (v11884 : BitVec 32) : Prop :=
  (∀ a, (k0_off2499 v11884) a + S1x16x128.size a ≤ S16384x16x128.size a)
theorem k0_off2499_inb : ∀ (v11884 : BitVec 32) (k0_hw2499 : k0_chk2499 v11884), ∀ a, (k0_off2499 v11884) a + S1x16x128.size a ≤ S16384x16x128.size a := fun v11884 k0_hw2499 => k0_hw2499

def k0_off2500 (v11890 : BitVec 32) : Fin 3 → Nat :=
  let c0_i32_10394 : BitVec 32 := 0#32
  let c0_i32_10395 : BitVec 32 := 0#32
  ![v11890.toNat, 0, 0]

def k0_chk2500 (v11890 : BitVec 32) : Prop :=
  (∀ a, (k0_off2500 v11890) a + S1x16x128.size a ≤ S16384x16x128.size a)
theorem k0_off2500_inb : ∀ (v11890 : BitVec 32) (k0_hw2500 : k0_chk2500 v11890), ∀ a, (k0_off2500 v11890) a + S1x16x128.size a ≤ S16384x16x128.size a := fun v11890 k0_hw2500 => k0_hw2500

def k0_off2501 (v11896 : BitVec 32) : Fin 3 → Nat :=
  let c0_i32_10401 : BitVec 32 := 0#32
  let c0_i32_10402 : BitVec 32 := 0#32
  ![v11896.toNat, 0, 0]

def k0_chk2501 (v11896 : BitVec 32) : Prop :=
  (∀ a, (k0_off2501 v11896) a + S1x16x128.size a ≤ S16384x16x128.size a)
theorem k0_off2501_inb : ∀ (v11896 : BitVec 32) (k0_hw2501 : k0_chk2501 v11896), ∀ a, (k0_off2501 v11896) a + S1x16x128.size a ≤ S16384x16x128.size a := fun v11896 k0_hw2501 => k0_hw2501

def k0_off2502 (v11902 : BitVec 32) : Fin 3 → Nat :=
  let c0_i32_10408 : BitVec 32 := 0#32
  let c0_i32_10409 : BitVec 32 := 0#32
  ![v11902.toNat, 0, 0]

def k0_chk2502 (v11902 : BitVec 32) : Prop :=
  (∀ a, (k0_off2502 v11902) a + S1x16x128.size a ≤ S16384x16x128.size a)
theorem k0_off2502_inb : ∀ (v11902 : BitVec 32) (k0_hw2502 : k0_chk2502 v11902), ∀ a, (k0_off2502 v11902) a + S1x16x128.size a ≤ S16384x16x128.size a := fun v11902 k0_hw2502 => k0_hw2502

def k0_off2503 (v11908 : BitVec 32) : Fin 3 → Nat :=
  let c0_i32_10415 : BitVec 32 := 0#32
  let c0_i32_10416 : BitVec 32 := 0#32
  ![v11908.toNat, 0, 0]

def k0_chk2503 (v11908 : BitVec 32) : Prop :=
  (∀ a, (k0_off2503 v11908) a + S1x16x128.size a ≤ S16384x16x128.size a)
theorem k0_off2503_inb : ∀ (v11908 : BitVec 32) (k0_hw2503 : k0_chk2503 v11908), ∀ a, (k0_off2503 v11908) a + S1x16x128.size a ≤ S16384x16x128.size a := fun v11908 k0_hw2503 => k0_hw2503

def k0_off2504 (v11914 : BitVec 32) : Fin 3 → Nat :=
  let c0_i32_10422 : BitVec 32 := 0#32
  let c0_i32_10423 : BitVec 32 := 0#32
  ![v11914.toNat, 0, 0]

def k0_chk2504 (v11914 : BitVec 32) : Prop :=
  (∀ a, (k0_off2504 v11914) a + S1x16x128.size a ≤ S16384x16x128.size a)
theorem k0_off2504_inb : ∀ (v11914 : BitVec 32) (k0_hw2504 : k0_chk2504 v11914), ∀ a, (k0_off2504 v11914) a + S1x16x128.size a ≤ S16384x16x128.size a := fun v11914 k0_hw2504 => k0_hw2504

def k0_off2505 (v11920 : BitVec 32) : Fin 3 → Nat :=
  let c0_i32_10429 : BitVec 32 := 0#32
  let c0_i32_10430 : BitVec 32 := 0#32
  ![v11920.toNat, 0, 0]

def k0_chk2505 (v11920 : BitVec 32) : Prop :=
  (∀ a, (k0_off2505 v11920) a + S1x16x128.size a ≤ S16384x16x128.size a)
theorem k0_off2505_inb : ∀ (v11920 : BitVec 32) (k0_hw2505 : k0_chk2505 v11920), ∀ a, (k0_off2505 v11920) a + S1x16x128.size a ≤ S16384x16x128.size a := fun v11920 k0_hw2505 => k0_hw2505

def k0_off2506 (v11926 : BitVec 32) : Fin 3 → Nat :=
  let c0_i32_10436 : BitVec 32 := 0#32
  let c0_i32_10437 : BitVec 32 := 0#32
  ![v11926.toNat, 0, 0]

def k0_chk2506 (v11926 : BitVec 32) : Prop :=
  (∀ a, (k0_off2506 v11926) a + S1x16x128.size a ≤ S16384x16x128.size a)
theorem k0_off2506_inb : ∀ (v11926 : BitVec 32) (k0_hw2506 : k0_chk2506 v11926), ∀ a, (k0_off2506 v11926) a + S1x16x128.size a ≤ S16384x16x128.size a := fun v11926 k0_hw2506 => k0_hw2506

def k0_off2507 (v11932 : BitVec 32) : Fin 3 → Nat :=
  let c0_i32_10443 : BitVec 32 := 0#32
  let c0_i32_10444 : BitVec 32 := 0#32
  ![v11932.toNat, 0, 0]

def k0_chk2507 (v11932 : BitVec 32) : Prop :=
  (∀ a, (k0_off2507 v11932) a + S1x16x128.size a ≤ S16384x16x128.size a)
theorem k0_off2507_inb : ∀ (v11932 : BitVec 32) (k0_hw2507 : k0_chk2507 v11932), ∀ a, (k0_off2507 v11932) a + S1x16x128.size a ≤ S16384x16x128.size a := fun v11932 k0_hw2507 => k0_hw2507

def k0_off2508 (v11938 : BitVec 32) : Fin 3 → Nat :=
  let c0_i32_10450 : BitVec 32 := 0#32
  let c0_i32_10451 : BitVec 32 := 0#32
  ![v11938.toNat, 0, 0]

def k0_chk2508 (v11938 : BitVec 32) : Prop :=
  (∀ a, (k0_off2508 v11938) a + S1x16x128.size a ≤ S16384x16x128.size a)
theorem k0_off2508_inb : ∀ (v11938 : BitVec 32) (k0_hw2508 : k0_chk2508 v11938), ∀ a, (k0_off2508 v11938) a + S1x16x128.size a ≤ S16384x16x128.size a := fun v11938 k0_hw2508 => k0_hw2508

def k0_off2509 (v11944 : BitVec 32) : Fin 3 → Nat :=
  let c0_i32_10457 : BitVec 32 := 0#32
  let c0_i32_10458 : BitVec 32 := 0#32
  ![v11944.toNat, 0, 0]

def k0_chk2509 (v11944 : BitVec 32) : Prop :=
  (∀ a, (k0_off2509 v11944) a + S1x16x128.size a ≤ S16384x16x128.size a)
theorem k0_off2509_inb : ∀ (v11944 : BitVec 32) (k0_hw2509 : k0_chk2509 v11944), ∀ a, (k0_off2509 v11944) a + S1x16x128.size a ≤ S16384x16x128.size a := fun v11944 k0_hw2509 => k0_hw2509

def k0_off2510 (v11950 : BitVec 32) : Fin 3 → Nat :=
  let c0_i32_10464 : BitVec 32 := 0#32
  let c0_i32_10465 : BitVec 32 := 0#32
  ![v11950.toNat, 0, 0]

def k0_chk2510 (v11950 : BitVec 32) : Prop :=
  (∀ a, (k0_off2510 v11950) a + S1x16x128.size a ≤ S16384x16x128.size a)
theorem k0_off2510_inb : ∀ (v11950 : BitVec 32) (k0_hw2510 : k0_chk2510 v11950), ∀ a, (k0_off2510 v11950) a + S1x16x128.size a ≤ S16384x16x128.size a := fun v11950 k0_hw2510 => k0_hw2510

def k0_off2511 (v11956 : BitVec 32) : Fin 3 → Nat :=
  let c0_i32_10471 : BitVec 32 := 0#32
  let c0_i32_10472 : BitVec 32 := 0#32
  ![v11956.toNat, 0, 0]

def k0_chk2511 (v11956 : BitVec 32) : Prop :=
  (∀ a, (k0_off2511 v11956) a + S1x16x128.size a ≤ S16384x16x128.size a)
theorem k0_off2511_inb : ∀ (v11956 : BitVec 32) (k0_hw2511 : k0_chk2511 v11956), ∀ a, (k0_off2511 v11956) a + S1x16x128.size a ≤ S16384x16x128.size a := fun v11956 k0_hw2511 => k0_hw2511

def k0_off2512 (v11962 : BitVec 32) : Fin 3 → Nat :=
  let c0_i32_10478 : BitVec 32 := 0#32
  let c0_i32_10479 : BitVec 32 := 0#32
  ![v11962.toNat, 0, 0]

def k0_chk2512 (v11962 : BitVec 32) : Prop :=
  (∀ a, (k0_off2512 v11962) a + S1x16x128.size a ≤ S16384x16x128.size a)
theorem k0_off2512_inb : ∀ (v11962 : BitVec 32) (k0_hw2512 : k0_chk2512 v11962), ∀ a, (k0_off2512 v11962) a + S1x16x128.size a ≤ S16384x16x128.size a := fun v11962 k0_hw2512 => k0_hw2512

def k0_off2513 (v11968 : BitVec 32) : Fin 3 → Nat :=
  let c0_i32_10485 : BitVec 32 := 0#32
  let c0_i32_10486 : BitVec 32 := 0#32
  ![v11968.toNat, 0, 0]

def k0_chk2513 (v11968 : BitVec 32) : Prop :=
  (∀ a, (k0_off2513 v11968) a + S1x16x128.size a ≤ S16384x16x128.size a)
theorem k0_off2513_inb : ∀ (v11968 : BitVec 32) (k0_hw2513 : k0_chk2513 v11968), ∀ a, (k0_off2513 v11968) a + S1x16x128.size a ≤ S16384x16x128.size a := fun v11968 k0_hw2513 => k0_hw2513

def k0_off2514 (v11974 : BitVec 32) : Fin 3 → Nat :=
  let c0_i32_10492 : BitVec 32 := 0#32
  let c0_i32_10493 : BitVec 32 := 0#32
  ![v11974.toNat, 0, 0]

def k0_chk2514 (v11974 : BitVec 32) : Prop :=
  (∀ a, (k0_off2514 v11974) a + S1x16x128.size a ≤ S16384x16x128.size a)
theorem k0_off2514_inb : ∀ (v11974 : BitVec 32) (k0_hw2514 : k0_chk2514 v11974), ∀ a, (k0_off2514 v11974) a + S1x16x128.size a ≤ S16384x16x128.size a := fun v11974 k0_hw2514 => k0_hw2514

def k0_off2515 (v11980 : BitVec 32) : Fin 3 → Nat :=
  let c0_i32_10499 : BitVec 32 := 0#32
  let c0_i32_10500 : BitVec 32 := 0#32
  ![v11980.toNat, 0, 0]

def k0_chk2515 (v11980 : BitVec 32) : Prop :=
  (∀ a, (k0_off2515 v11980) a + S1x16x128.size a ≤ S16384x16x128.size a)
theorem k0_off2515_inb : ∀ (v11980 : BitVec 32) (k0_hw2515 : k0_chk2515 v11980), ∀ a, (k0_off2515 v11980) a + S1x16x128.size a ≤ S16384x16x128.size a := fun v11980 k0_hw2515 => k0_hw2515

def k0_off2516 (v11986 : BitVec 32) : Fin 3 → Nat :=
  let c0_i32_10506 : BitVec 32 := 0#32
  let c0_i32_10507 : BitVec 32 := 0#32
  ![v11986.toNat, 0, 0]

def k0_chk2516 (v11986 : BitVec 32) : Prop :=
  (∀ a, (k0_off2516 v11986) a + S1x16x128.size a ≤ S16384x16x128.size a)
theorem k0_off2516_inb : ∀ (v11986 : BitVec 32) (k0_hw2516 : k0_chk2516 v11986), ∀ a, (k0_off2516 v11986) a + S1x16x128.size a ≤ S16384x16x128.size a := fun v11986 k0_hw2516 => k0_hw2516

def k0_off2517 (v11992 : BitVec 32) : Fin 3 → Nat :=
  let c0_i32_10513 : BitVec 32 := 0#32
  let c0_i32_10514 : BitVec 32 := 0#32
  ![v11992.toNat, 0, 0]

def k0_chk2517 (v11992 : BitVec 32) : Prop :=
  (∀ a, (k0_off2517 v11992) a + S1x16x128.size a ≤ S16384x16x128.size a)
theorem k0_off2517_inb : ∀ (v11992 : BitVec 32) (k0_hw2517 : k0_chk2517 v11992), ∀ a, (k0_off2517 v11992) a + S1x16x128.size a ≤ S16384x16x128.size a := fun v11992 k0_hw2517 => k0_hw2517

def k0_off2518 (v11998 : BitVec 32) : Fin 3 → Nat :=
  let c0_i32_10520 : BitVec 32 := 0#32
  let c0_i32_10521 : BitVec 32 := 0#32
  ![v11998.toNat, 0, 0]

def k0_chk2518 (v11998 : BitVec 32) : Prop :=
  (∀ a, (k0_off2518 v11998) a + S1x16x128.size a ≤ S16384x16x128.size a)
theorem k0_off2518_inb : ∀ (v11998 : BitVec 32) (k0_hw2518 : k0_chk2518 v11998), ∀ a, (k0_off2518 v11998) a + S1x16x128.size a ≤ S16384x16x128.size a := fun v11998 k0_hw2518 => k0_hw2518

def k0_off2519 (v12004 : BitVec 32) : Fin 3 → Nat :=
  let c0_i32_10527 : BitVec 32 := 0#32
  let c0_i32_10528 : BitVec 32 := 0#32
  ![v12004.toNat, 0, 0]

def k0_chk2519 (v12004 : BitVec 32) : Prop :=
  (∀ a, (k0_off2519 v12004) a + S1x16x128.size a ≤ S16384x16x128.size a)
theorem k0_off2519_inb : ∀ (v12004 : BitVec 32) (k0_hw2519 : k0_chk2519 v12004), ∀ a, (k0_off2519 v12004) a + S1x16x128.size a ≤ S16384x16x128.size a := fun v12004 k0_hw2519 => k0_hw2519

def k0_off2520 (v12010 : BitVec 32) : Fin 3 → Nat :=
  let c0_i32_10534 : BitVec 32 := 0#32
  let c0_i32_10535 : BitVec 32 := 0#32
  ![v12010.toNat, 0, 0]

def k0_chk2520 (v12010 : BitVec 32) : Prop :=
  (∀ a, (k0_off2520 v12010) a + S1x16x128.size a ≤ S16384x16x128.size a)
theorem k0_off2520_inb : ∀ (v12010 : BitVec 32) (k0_hw2520 : k0_chk2520 v12010), ∀ a, (k0_off2520 v12010) a + S1x16x128.size a ≤ S16384x16x128.size a := fun v12010 k0_hw2520 => k0_hw2520

def k0_off2521 (v12016 : BitVec 32) : Fin 3 → Nat :=
  let c0_i32_10541 : BitVec 32 := 0#32
  let c0_i32_10542 : BitVec 32 := 0#32
  ![v12016.toNat, 0, 0]

def k0_chk2521 (v12016 : BitVec 32) : Prop :=
  (∀ a, (k0_off2521 v12016) a + S1x16x128.size a ≤ S16384x16x128.size a)
theorem k0_off2521_inb : ∀ (v12016 : BitVec 32) (k0_hw2521 : k0_chk2521 v12016), ∀ a, (k0_off2521 v12016) a + S1x16x128.size a ≤ S16384x16x128.size a := fun v12016 k0_hw2521 => k0_hw2521

def k0_off2522 (v12022 : BitVec 32) : Fin 3 → Nat :=
  let c0_i32_10548 : BitVec 32 := 0#32
  let c0_i32_10549 : BitVec 32 := 0#32
  ![v12022.toNat, 0, 0]

def k0_chk2522 (v12022 : BitVec 32) : Prop :=
  (∀ a, (k0_off2522 v12022) a + S1x16x128.size a ≤ S16384x16x128.size a)
theorem k0_off2522_inb : ∀ (v12022 : BitVec 32) (k0_hw2522 : k0_chk2522 v12022), ∀ a, (k0_off2522 v12022) a + S1x16x128.size a ≤ S16384x16x128.size a := fun v12022 k0_hw2522 => k0_hw2522

def k0_off2523 (v12028 : BitVec 32) : Fin 3 → Nat :=
  let c0_i32_10555 : BitVec 32 := 0#32
  let c0_i32_10556 : BitVec 32 := 0#32
  ![v12028.toNat, 0, 0]

def k0_chk2523 (v12028 : BitVec 32) : Prop :=
  (∀ a, (k0_off2523 v12028) a + S1x16x128.size a ≤ S16384x16x128.size a)
theorem k0_off2523_inb : ∀ (v12028 : BitVec 32) (k0_hw2523 : k0_chk2523 v12028), ∀ a, (k0_off2523 v12028) a + S1x16x128.size a ≤ S16384x16x128.size a := fun v12028 k0_hw2523 => k0_hw2523

def k0_off2524 (v12034 : BitVec 32) : Fin 3 → Nat :=
  let c0_i32_10562 : BitVec 32 := 0#32
  let c0_i32_10563 : BitVec 32 := 0#32
  ![v12034.toNat, 0, 0]

def k0_chk2524 (v12034 : BitVec 32) : Prop :=
  (∀ a, (k0_off2524 v12034) a + S1x16x128.size a ≤ S16384x16x128.size a)
theorem k0_off2524_inb : ∀ (v12034 : BitVec 32) (k0_hw2524 : k0_chk2524 v12034), ∀ a, (k0_off2524 v12034) a + S1x16x128.size a ≤ S16384x16x128.size a := fun v12034 k0_hw2524 => k0_hw2524

def k0_off2525 (v12040 : BitVec 32) : Fin 3 → Nat :=
  let c0_i32_10569 : BitVec 32 := 0#32
  let c0_i32_10570 : BitVec 32 := 0#32
  ![v12040.toNat, 0, 0]

def k0_chk2525 (v12040 : BitVec 32) : Prop :=
  (∀ a, (k0_off2525 v12040) a + S1x16x128.size a ≤ S16384x16x128.size a)
theorem k0_off2525_inb : ∀ (v12040 : BitVec 32) (k0_hw2525 : k0_chk2525 v12040), ∀ a, (k0_off2525 v12040) a + S1x16x128.size a ≤ S16384x16x128.size a := fun v12040 k0_hw2525 => k0_hw2525

def k0_off2526 (v12046 : BitVec 32) : Fin 3 → Nat :=
  let c0_i32_10576 : BitVec 32 := 0#32
  let c0_i32_10577 : BitVec 32 := 0#32
  ![v12046.toNat, 0, 0]

def k0_chk2526 (v12046 : BitVec 32) : Prop :=
  (∀ a, (k0_off2526 v12046) a + S1x16x128.size a ≤ S16384x16x128.size a)
theorem k0_off2526_inb : ∀ (v12046 : BitVec 32) (k0_hw2526 : k0_chk2526 v12046), ∀ a, (k0_off2526 v12046) a + S1x16x128.size a ≤ S16384x16x128.size a := fun v12046 k0_hw2526 => k0_hw2526

def k0_off2527 (v12052 : BitVec 32) : Fin 3 → Nat :=
  let c0_i32_10583 : BitVec 32 := 0#32
  let c0_i32_10584 : BitVec 32 := 0#32
  ![v12052.toNat, 0, 0]

def k0_chk2527 (v12052 : BitVec 32) : Prop :=
  (∀ a, (k0_off2527 v12052) a + S1x16x128.size a ≤ S16384x16x128.size a)
theorem k0_off2527_inb : ∀ (v12052 : BitVec 32) (k0_hw2527 : k0_chk2527 v12052), ∀ a, (k0_off2527 v12052) a + S1x16x128.size a ≤ S16384x16x128.size a := fun v12052 k0_hw2527 => k0_hw2527

def k0_off2528 (v12058 : BitVec 32) : Fin 3 → Nat :=
  let c0_i32_10590 : BitVec 32 := 0#32
  let c0_i32_10591 : BitVec 32 := 0#32
  ![v12058.toNat, 0, 0]

def k0_chk2528 (v12058 : BitVec 32) : Prop :=
  (∀ a, (k0_off2528 v12058) a + S1x16x128.size a ≤ S16384x16x128.size a)
theorem k0_off2528_inb : ∀ (v12058 : BitVec 32) (k0_hw2528 : k0_chk2528 v12058), ∀ a, (k0_off2528 v12058) a + S1x16x128.size a ≤ S16384x16x128.size a := fun v12058 k0_hw2528 => k0_hw2528

def k0_off2529 (v12064 : BitVec 32) : Fin 3 → Nat :=
  let c0_i32_10597 : BitVec 32 := 0#32
  let c0_i32_10598 : BitVec 32 := 0#32
  ![v12064.toNat, 0, 0]

def k0_chk2529 (v12064 : BitVec 32) : Prop :=
  (∀ a, (k0_off2529 v12064) a + S1x16x128.size a ≤ S16384x16x128.size a)
theorem k0_off2529_inb : ∀ (v12064 : BitVec 32) (k0_hw2529 : k0_chk2529 v12064), ∀ a, (k0_off2529 v12064) a + S1x16x128.size a ≤ S16384x16x128.size a := fun v12064 k0_hw2529 => k0_hw2529

def k0_off2530 (v12070 : BitVec 32) : Fin 3 → Nat :=
  let c0_i32_10604 : BitVec 32 := 0#32
  let c0_i32_10605 : BitVec 32 := 0#32
  ![v12070.toNat, 0, 0]

def k0_chk2530 (v12070 : BitVec 32) : Prop :=
  (∀ a, (k0_off2530 v12070) a + S1x16x128.size a ≤ S16384x16x128.size a)
theorem k0_off2530_inb : ∀ (v12070 : BitVec 32) (k0_hw2530 : k0_chk2530 v12070), ∀ a, (k0_off2530 v12070) a + S1x16x128.size a ≤ S16384x16x128.size a := fun v12070 k0_hw2530 => k0_hw2530

def k0_off2531 (v12076 : BitVec 32) : Fin 3 → Nat :=
  let c0_i32_10611 : BitVec 32 := 0#32
  let c0_i32_10612 : BitVec 32 := 0#32
  ![v12076.toNat, 0, 0]

def k0_chk2531 (v12076 : BitVec 32) : Prop :=
  (∀ a, (k0_off2531 v12076) a + S1x16x128.size a ≤ S16384x16x128.size a)
theorem k0_off2531_inb : ∀ (v12076 : BitVec 32) (k0_hw2531 : k0_chk2531 v12076), ∀ a, (k0_off2531 v12076) a + S1x16x128.size a ≤ S16384x16x128.size a := fun v12076 k0_hw2531 => k0_hw2531

def k0_off2532 (v12082 : BitVec 32) : Fin 3 → Nat :=
  let c0_i32_10618 : BitVec 32 := 0#32
  let c0_i32_10619 : BitVec 32 := 0#32
  ![v12082.toNat, 0, 0]

def k0_chk2532 (v12082 : BitVec 32) : Prop :=
  (∀ a, (k0_off2532 v12082) a + S1x16x128.size a ≤ S16384x16x128.size a)
theorem k0_off2532_inb : ∀ (v12082 : BitVec 32) (k0_hw2532 : k0_chk2532 v12082), ∀ a, (k0_off2532 v12082) a + S1x16x128.size a ≤ S16384x16x128.size a := fun v12082 k0_hw2532 => k0_hw2532

def k0_off2533 (v12088 : BitVec 32) : Fin 3 → Nat :=
  let c0_i32_10625 : BitVec 32 := 0#32
  let c0_i32_10626 : BitVec 32 := 0#32
  ![v12088.toNat, 0, 0]

def k0_chk2533 (v12088 : BitVec 32) : Prop :=
  (∀ a, (k0_off2533 v12088) a + S1x16x128.size a ≤ S16384x16x128.size a)
theorem k0_off2533_inb : ∀ (v12088 : BitVec 32) (k0_hw2533 : k0_chk2533 v12088), ∀ a, (k0_off2533 v12088) a + S1x16x128.size a ≤ S16384x16x128.size a := fun v12088 k0_hw2533 => k0_hw2533

def k0_off2534 (v12094 : BitVec 32) : Fin 3 → Nat :=
  let c0_i32_10632 : BitVec 32 := 0#32
  let c0_i32_10633 : BitVec 32 := 0#32
  ![v12094.toNat, 0, 0]

def k0_chk2534 (v12094 : BitVec 32) : Prop :=
  (∀ a, (k0_off2534 v12094) a + S1x16x128.size a ≤ S16384x16x128.size a)
theorem k0_off2534_inb : ∀ (v12094 : BitVec 32) (k0_hw2534 : k0_chk2534 v12094), ∀ a, (k0_off2534 v12094) a + S1x16x128.size a ≤ S16384x16x128.size a := fun v12094 k0_hw2534 => k0_hw2534

def k0_off2535 (v12100 : BitVec 32) : Fin 3 → Nat :=
  let c0_i32_10639 : BitVec 32 := 0#32
  let c0_i32_10640 : BitVec 32 := 0#32
  ![v12100.toNat, 0, 0]

def k0_chk2535 (v12100 : BitVec 32) : Prop :=
  (∀ a, (k0_off2535 v12100) a + S1x16x128.size a ≤ S16384x16x128.size a)
theorem k0_off2535_inb : ∀ (v12100 : BitVec 32) (k0_hw2535 : k0_chk2535 v12100), ∀ a, (k0_off2535 v12100) a + S1x16x128.size a ≤ S16384x16x128.size a := fun v12100 k0_hw2535 => k0_hw2535

def k0_off2536 (v12106 : BitVec 32) : Fin 3 → Nat :=
  let c0_i32_10646 : BitVec 32 := 0#32
  let c0_i32_10647 : BitVec 32 := 0#32
  ![v12106.toNat, 0, 0]

def k0_chk2536 (v12106 : BitVec 32) : Prop :=
  (∀ a, (k0_off2536 v12106) a + S1x16x128.size a ≤ S16384x16x128.size a)
theorem k0_off2536_inb : ∀ (v12106 : BitVec 32) (k0_hw2536 : k0_chk2536 v12106), ∀ a, (k0_off2536 v12106) a + S1x16x128.size a ≤ S16384x16x128.size a := fun v12106 k0_hw2536 => k0_hw2536

def k0_off2537 (v12112 : BitVec 32) : Fin 3 → Nat :=
  let c0_i32_10653 : BitVec 32 := 0#32
  let c0_i32_10654 : BitVec 32 := 0#32
  ![v12112.toNat, 0, 0]

def k0_chk2537 (v12112 : BitVec 32) : Prop :=
  (∀ a, (k0_off2537 v12112) a + S1x16x128.size a ≤ S16384x16x128.size a)
theorem k0_off2537_inb : ∀ (v12112 : BitVec 32) (k0_hw2537 : k0_chk2537 v12112), ∀ a, (k0_off2537 v12112) a + S1x16x128.size a ≤ S16384x16x128.size a := fun v12112 k0_hw2537 => k0_hw2537

def k0_off2538 (v12118 : BitVec 32) : Fin 3 → Nat :=
  let c0_i32_10660 : BitVec 32 := 0#32
  let c0_i32_10661 : BitVec 32 := 0#32
  ![v12118.toNat, 0, 0]

def k0_chk2538 (v12118 : BitVec 32) : Prop :=
  (∀ a, (k0_off2538 v12118) a + S1x16x128.size a ≤ S16384x16x128.size a)
theorem k0_off2538_inb : ∀ (v12118 : BitVec 32) (k0_hw2538 : k0_chk2538 v12118), ∀ a, (k0_off2538 v12118) a + S1x16x128.size a ≤ S16384x16x128.size a := fun v12118 k0_hw2538 => k0_hw2538

def k0_off2539 (v12124 : BitVec 32) : Fin 3 → Nat :=
  let c0_i32_10667 : BitVec 32 := 0#32
  let c0_i32_10668 : BitVec 32 := 0#32
  ![v12124.toNat, 0, 0]

def k0_chk2539 (v12124 : BitVec 32) : Prop :=
  (∀ a, (k0_off2539 v12124) a + S1x16x128.size a ≤ S16384x16x128.size a)
theorem k0_off2539_inb : ∀ (v12124 : BitVec 32) (k0_hw2539 : k0_chk2539 v12124), ∀ a, (k0_off2539 v12124) a + S1x16x128.size a ≤ S16384x16x128.size a := fun v12124 k0_hw2539 => k0_hw2539

def k0_off2540 (v12130 : BitVec 32) : Fin 3 → Nat :=
  let c0_i32_10674 : BitVec 32 := 0#32
  let c0_i32_10675 : BitVec 32 := 0#32
  ![v12130.toNat, 0, 0]

def k0_chk2540 (v12130 : BitVec 32) : Prop :=
  (∀ a, (k0_off2540 v12130) a + S1x16x128.size a ≤ S16384x16x128.size a)
theorem k0_off2540_inb : ∀ (v12130 : BitVec 32) (k0_hw2540 : k0_chk2540 v12130), ∀ a, (k0_off2540 v12130) a + S1x16x128.size a ≤ S16384x16x128.size a := fun v12130 k0_hw2540 => k0_hw2540

def k0_off2541 (v12136 : BitVec 32) : Fin 3 → Nat :=
  let c0_i32_10681 : BitVec 32 := 0#32
  let c0_i32_10682 : BitVec 32 := 0#32
  ![v12136.toNat, 0, 0]

def k0_chk2541 (v12136 : BitVec 32) : Prop :=
  (∀ a, (k0_off2541 v12136) a + S1x16x128.size a ≤ S16384x16x128.size a)
theorem k0_off2541_inb : ∀ (v12136 : BitVec 32) (k0_hw2541 : k0_chk2541 v12136), ∀ a, (k0_off2541 v12136) a + S1x16x128.size a ≤ S16384x16x128.size a := fun v12136 k0_hw2541 => k0_hw2541

def k0_off2542 (v12142 : BitVec 32) : Fin 3 → Nat :=
  let c0_i32_10688 : BitVec 32 := 0#32
  let c0_i32_10689 : BitVec 32 := 0#32
  ![v12142.toNat, 0, 0]

def k0_chk2542 (v12142 : BitVec 32) : Prop :=
  (∀ a, (k0_off2542 v12142) a + S1x16x128.size a ≤ S16384x16x128.size a)
theorem k0_off2542_inb : ∀ (v12142 : BitVec 32) (k0_hw2542 : k0_chk2542 v12142), ∀ a, (k0_off2542 v12142) a + S1x16x128.size a ≤ S16384x16x128.size a := fun v12142 k0_hw2542 => k0_hw2542

def k0_off2543 (v12148 : BitVec 32) : Fin 3 → Nat :=
  let c0_i32_10695 : BitVec 32 := 0#32
  let c0_i32_10696 : BitVec 32 := 0#32
  ![v12148.toNat, 0, 0]

def k0_chk2543 (v12148 : BitVec 32) : Prop :=
  (∀ a, (k0_off2543 v12148) a + S1x16x128.size a ≤ S16384x16x128.size a)
theorem k0_off2543_inb : ∀ (v12148 : BitVec 32) (k0_hw2543 : k0_chk2543 v12148), ∀ a, (k0_off2543 v12148) a + S1x16x128.size a ≤ S16384x16x128.size a := fun v12148 k0_hw2543 => k0_hw2543

def k0_off2544 (v12154 : BitVec 32) : Fin 3 → Nat :=
  let c0_i32_10702 : BitVec 32 := 0#32
  let c0_i32_10703 : BitVec 32 := 0#32
  ![v12154.toNat, 0, 0]

def k0_chk2544 (v12154 : BitVec 32) : Prop :=
  (∀ a, (k0_off2544 v12154) a + S1x16x128.size a ≤ S16384x16x128.size a)
theorem k0_off2544_inb : ∀ (v12154 : BitVec 32) (k0_hw2544 : k0_chk2544 v12154), ∀ a, (k0_off2544 v12154) a + S1x16x128.size a ≤ S16384x16x128.size a := fun v12154 k0_hw2544 => k0_hw2544

def k0_off2545 (v12160 : BitVec 32) : Fin 3 → Nat :=
  let c0_i32_10709 : BitVec 32 := 0#32
  let c0_i32_10710 : BitVec 32 := 0#32
  ![v12160.toNat, 0, 0]

def k0_chk2545 (v12160 : BitVec 32) : Prop :=
  (∀ a, (k0_off2545 v12160) a + S1x16x128.size a ≤ S16384x16x128.size a)
theorem k0_off2545_inb : ∀ (v12160 : BitVec 32) (k0_hw2545 : k0_chk2545 v12160), ∀ a, (k0_off2545 v12160) a + S1x16x128.size a ≤ S16384x16x128.size a := fun v12160 k0_hw2545 => k0_hw2545

def k0_off2546 (v12166 : BitVec 32) : Fin 3 → Nat :=
  let c0_i32_10716 : BitVec 32 := 0#32
  let c0_i32_10717 : BitVec 32 := 0#32
  ![v12166.toNat, 0, 0]

def k0_chk2546 (v12166 : BitVec 32) : Prop :=
  (∀ a, (k0_off2546 v12166) a + S1x16x128.size a ≤ S16384x16x128.size a)
theorem k0_off2546_inb : ∀ (v12166 : BitVec 32) (k0_hw2546 : k0_chk2546 v12166), ∀ a, (k0_off2546 v12166) a + S1x16x128.size a ≤ S16384x16x128.size a := fun v12166 k0_hw2546 => k0_hw2546

def k0_off2547 (v12172 : BitVec 32) : Fin 3 → Nat :=
  let c0_i32_10723 : BitVec 32 := 0#32
  let c0_i32_10724 : BitVec 32 := 0#32
  ![v12172.toNat, 0, 0]

def k0_chk2547 (v12172 : BitVec 32) : Prop :=
  (∀ a, (k0_off2547 v12172) a + S1x16x128.size a ≤ S16384x16x128.size a)
theorem k0_off2547_inb : ∀ (v12172 : BitVec 32) (k0_hw2547 : k0_chk2547 v12172), ∀ a, (k0_off2547 v12172) a + S1x16x128.size a ≤ S16384x16x128.size a := fun v12172 k0_hw2547 => k0_hw2547

def k0_off2548 (v12178 : BitVec 32) : Fin 3 → Nat :=
  let c0_i32_10730 : BitVec 32 := 0#32
  let c0_i32_10731 : BitVec 32 := 0#32
  ![v12178.toNat, 0, 0]

def k0_chk2548 (v12178 : BitVec 32) : Prop :=
  (∀ a, (k0_off2548 v12178) a + S1x16x128.size a ≤ S16384x16x128.size a)
theorem k0_off2548_inb : ∀ (v12178 : BitVec 32) (k0_hw2548 : k0_chk2548 v12178), ∀ a, (k0_off2548 v12178) a + S1x16x128.size a ≤ S16384x16x128.size a := fun v12178 k0_hw2548 => k0_hw2548

def k0_off2549 (v12184 : BitVec 32) : Fin 3 → Nat :=
  let c0_i32_10737 : BitVec 32 := 0#32
  let c0_i32_10738 : BitVec 32 := 0#32
  ![v12184.toNat, 0, 0]

def k0_chk2549 (v12184 : BitVec 32) : Prop :=
  (∀ a, (k0_off2549 v12184) a + S1x16x128.size a ≤ S16384x16x128.size a)
theorem k0_off2549_inb : ∀ (v12184 : BitVec 32) (k0_hw2549 : k0_chk2549 v12184), ∀ a, (k0_off2549 v12184) a + S1x16x128.size a ≤ S16384x16x128.size a := fun v12184 k0_hw2549 => k0_hw2549

def k0_off2550 (v12190 : BitVec 32) : Fin 3 → Nat :=
  let c0_i32_10744 : BitVec 32 := 0#32
  let c0_i32_10745 : BitVec 32 := 0#32
  ![v12190.toNat, 0, 0]

def k0_chk2550 (v12190 : BitVec 32) : Prop :=
  (∀ a, (k0_off2550 v12190) a + S1x16x128.size a ≤ S16384x16x128.size a)
theorem k0_off2550_inb : ∀ (v12190 : BitVec 32) (k0_hw2550 : k0_chk2550 v12190), ∀ a, (k0_off2550 v12190) a + S1x16x128.size a ≤ S16384x16x128.size a := fun v12190 k0_hw2550 => k0_hw2550

def k0_off2551 (v12196 : BitVec 32) : Fin 3 → Nat :=
  let c0_i32_10751 : BitVec 32 := 0#32
  let c0_i32_10752 : BitVec 32 := 0#32
  ![v12196.toNat, 0, 0]

def k0_chk2551 (v12196 : BitVec 32) : Prop :=
  (∀ a, (k0_off2551 v12196) a + S1x16x128.size a ≤ S16384x16x128.size a)
theorem k0_off2551_inb : ∀ (v12196 : BitVec 32) (k0_hw2551 : k0_chk2551 v12196), ∀ a, (k0_off2551 v12196) a + S1x16x128.size a ≤ S16384x16x128.size a := fun v12196 k0_hw2551 => k0_hw2551

def k0_off2552 (v12202 : BitVec 32) : Fin 3 → Nat :=
  let c0_i32_10758 : BitVec 32 := 0#32
  let c0_i32_10759 : BitVec 32 := 0#32
  ![v12202.toNat, 0, 0]

def k0_chk2552 (v12202 : BitVec 32) : Prop :=
  (∀ a, (k0_off2552 v12202) a + S1x16x128.size a ≤ S16384x16x128.size a)
theorem k0_off2552_inb : ∀ (v12202 : BitVec 32) (k0_hw2552 : k0_chk2552 v12202), ∀ a, (k0_off2552 v12202) a + S1x16x128.size a ≤ S16384x16x128.size a := fun v12202 k0_hw2552 => k0_hw2552

def k0_off2553 (v12208 : BitVec 32) : Fin 3 → Nat :=
  let c0_i32_10765 : BitVec 32 := 0#32
  let c0_i32_10766 : BitVec 32 := 0#32
  ![v12208.toNat, 0, 0]

def k0_chk2553 (v12208 : BitVec 32) : Prop :=
  (∀ a, (k0_off2553 v12208) a + S1x16x128.size a ≤ S16384x16x128.size a)
theorem k0_off2553_inb : ∀ (v12208 : BitVec 32) (k0_hw2553 : k0_chk2553 v12208), ∀ a, (k0_off2553 v12208) a + S1x16x128.size a ≤ S16384x16x128.size a := fun v12208 k0_hw2553 => k0_hw2553

def k0_off2554 (v12214 : BitVec 32) : Fin 3 → Nat :=
  let c0_i32_10772 : BitVec 32 := 0#32
  let c0_i32_10773 : BitVec 32 := 0#32
  ![v12214.toNat, 0, 0]

def k0_chk2554 (v12214 : BitVec 32) : Prop :=
  (∀ a, (k0_off2554 v12214) a + S1x16x128.size a ≤ S16384x16x128.size a)
theorem k0_off2554_inb : ∀ (v12214 : BitVec 32) (k0_hw2554 : k0_chk2554 v12214), ∀ a, (k0_off2554 v12214) a + S1x16x128.size a ≤ S16384x16x128.size a := fun v12214 k0_hw2554 => k0_hw2554

def k0_off2555 (v12220 : BitVec 32) : Fin 3 → Nat :=
  let c0_i32_10779 : BitVec 32 := 0#32
  let c0_i32_10780 : BitVec 32 := 0#32
  ![v12220.toNat, 0, 0]

def k0_chk2555 (v12220 : BitVec 32) : Prop :=
  (∀ a, (k0_off2555 v12220) a + S1x16x128.size a ≤ S16384x16x128.size a)
theorem k0_off2555_inb : ∀ (v12220 : BitVec 32) (k0_hw2555 : k0_chk2555 v12220), ∀ a, (k0_off2555 v12220) a + S1x16x128.size a ≤ S16384x16x128.size a := fun v12220 k0_hw2555 => k0_hw2555

def k0_off2556 (v12226 : BitVec 32) : Fin 3 → Nat :=
  let c0_i32_10786 : BitVec 32 := 0#32
  let c0_i32_10787 : BitVec 32 := 0#32
  ![v12226.toNat, 0, 0]

def k0_chk2556 (v12226 : BitVec 32) : Prop :=
  (∀ a, (k0_off2556 v12226) a + S1x16x128.size a ≤ S16384x16x128.size a)
theorem k0_off2556_inb : ∀ (v12226 : BitVec 32) (k0_hw2556 : k0_chk2556 v12226), ∀ a, (k0_off2556 v12226) a + S1x16x128.size a ≤ S16384x16x128.size a := fun v12226 k0_hw2556 => k0_hw2556

def k0_off2557 (v12232 : BitVec 32) : Fin 3 → Nat :=
  let c0_i32_10793 : BitVec 32 := 0#32
  let c0_i32_10794 : BitVec 32 := 0#32
  ![v12232.toNat, 0, 0]

def k0_chk2557 (v12232 : BitVec 32) : Prop :=
  (∀ a, (k0_off2557 v12232) a + S1x16x128.size a ≤ S16384x16x128.size a)
theorem k0_off2557_inb : ∀ (v12232 : BitVec 32) (k0_hw2557 : k0_chk2557 v12232), ∀ a, (k0_off2557 v12232) a + S1x16x128.size a ≤ S16384x16x128.size a := fun v12232 k0_hw2557 => k0_hw2557

def k0_off2558 (v12238 : BitVec 32) : Fin 3 → Nat :=
  let c0_i32_10800 : BitVec 32 := 0#32
  let c0_i32_10801 : BitVec 32 := 0#32
  ![v12238.toNat, 0, 0]

def k0_chk2558 (v12238 : BitVec 32) : Prop :=
  (∀ a, (k0_off2558 v12238) a + S1x16x128.size a ≤ S16384x16x128.size a)
theorem k0_off2558_inb : ∀ (v12238 : BitVec 32) (k0_hw2558 : k0_chk2558 v12238), ∀ a, (k0_off2558 v12238) a + S1x16x128.size a ≤ S16384x16x128.size a := fun v12238 k0_hw2558 => k0_hw2558

def k0_off2559 (v12244 : BitVec 32) : Fin 3 → Nat :=
  let c0_i32_10807 : BitVec 32 := 0#32
  let c0_i32_10808 : BitVec 32 := 0#32
  ![v12244.toNat, 0, 0]

def k0_chk2559 (v12244 : BitVec 32) : Prop :=
  (∀ a, (k0_off2559 v12244) a + S1x16x128.size a ≤ S16384x16x128.size a)
theorem k0_off2559_inb : ∀ (v12244 : BitVec 32) (k0_hw2559 : k0_chk2559 v12244), ∀ a, (k0_off2559 v12244) a + S1x16x128.size a ≤ S16384x16x128.size a := fun v12244 k0_hw2559 => k0_hw2559

def k0_off2560 (v12250 : BitVec 32) : Fin 3 → Nat :=
  let c0_i32_10814 : BitVec 32 := 0#32
  let c0_i32_10815 : BitVec 32 := 0#32
  ![v12250.toNat, 0, 0]

def k0_chk2560 (v12250 : BitVec 32) : Prop :=
  (∀ a, (k0_off2560 v12250) a + S1x16x128.size a ≤ S16384x16x128.size a)
theorem k0_off2560_inb : ∀ (v12250 : BitVec 32) (k0_hw2560 : k0_chk2560 v12250), ∀ a, (k0_off2560 v12250) a + S1x16x128.size a ≤ S16384x16x128.size a := fun v12250 k0_hw2560 => k0_hw2560

def k0_off2561 (v12533 : BitVec 32) : Fin 3 → Nat :=
  let c0_i32_10943 : BitVec 32 := 0#32
  let c0_i32_10944 : BitVec 32 := 0#32
  ![v12533.toNat, 0, 0]

def k0_chk2561 (v12533 : BitVec 32) : Prop :=
  (∀ a, (k0_off2561 v12533) a + S1x16x128.size a ≤ S16384x16x128.size a)
theorem k0_off2561_inb : ∀ (v12533 : BitVec 32) (k0_hw2561 : k0_chk2561 v12533), ∀ a, (k0_off2561 v12533) a + S1x16x128.size a ≤ S16384x16x128.size a := fun v12533 k0_hw2561 => k0_hw2561

def k0_off2562 (v12539 : BitVec 32) : Fin 3 → Nat :=
  let c0_i32_10950 : BitVec 32 := 0#32
  let c0_i32_10951 : BitVec 32 := 0#32
  ![v12539.toNat, 0, 0]

def k0_chk2562 (v12539 : BitVec 32) : Prop :=
  (∀ a, (k0_off2562 v12539) a + S1x16x128.size a ≤ S16384x16x128.size a)
theorem k0_off2562_inb : ∀ (v12539 : BitVec 32) (k0_hw2562 : k0_chk2562 v12539), ∀ a, (k0_off2562 v12539) a + S1x16x128.size a ≤ S16384x16x128.size a := fun v12539 k0_hw2562 => k0_hw2562

def k0_off2563 (v12545 : BitVec 32) : Fin 3 → Nat :=
  let c0_i32_10957 : BitVec 32 := 0#32
  let c0_i32_10958 : BitVec 32 := 0#32
  ![v12545.toNat, 0, 0]

def k0_chk2563 (v12545 : BitVec 32) : Prop :=
  (∀ a, (k0_off2563 v12545) a + S1x16x128.size a ≤ S16384x16x128.size a)
theorem k0_off2563_inb : ∀ (v12545 : BitVec 32) (k0_hw2563 : k0_chk2563 v12545), ∀ a, (k0_off2563 v12545) a + S1x16x128.size a ≤ S16384x16x128.size a := fun v12545 k0_hw2563 => k0_hw2563

def k0_off2564 (v12551 : BitVec 32) : Fin 3 → Nat :=
  let c0_i32_10964 : BitVec 32 := 0#32
  let c0_i32_10965 : BitVec 32 := 0#32
  ![v12551.toNat, 0, 0]

def k0_chk2564 (v12551 : BitVec 32) : Prop :=
  (∀ a, (k0_off2564 v12551) a + S1x16x128.size a ≤ S16384x16x128.size a)
theorem k0_off2564_inb : ∀ (v12551 : BitVec 32) (k0_hw2564 : k0_chk2564 v12551), ∀ a, (k0_off2564 v12551) a + S1x16x128.size a ≤ S16384x16x128.size a := fun v12551 k0_hw2564 => k0_hw2564

def k0_off2565 (v12557 : BitVec 32) : Fin 3 → Nat :=
  let c0_i32_10971 : BitVec 32 := 0#32
  let c0_i32_10972 : BitVec 32 := 0#32
  ![v12557.toNat, 0, 0]

def k0_chk2565 (v12557 : BitVec 32) : Prop :=
  (∀ a, (k0_off2565 v12557) a + S1x16x128.size a ≤ S16384x16x128.size a)
theorem k0_off2565_inb : ∀ (v12557 : BitVec 32) (k0_hw2565 : k0_chk2565 v12557), ∀ a, (k0_off2565 v12557) a + S1x16x128.size a ≤ S16384x16x128.size a := fun v12557 k0_hw2565 => k0_hw2565

def k0_off2566 (v12563 : BitVec 32) : Fin 3 → Nat :=
  let c0_i32_10978 : BitVec 32 := 0#32
  let c0_i32_10979 : BitVec 32 := 0#32
  ![v12563.toNat, 0, 0]

def k0_chk2566 (v12563 : BitVec 32) : Prop :=
  (∀ a, (k0_off2566 v12563) a + S1x16x128.size a ≤ S16384x16x128.size a)
theorem k0_off2566_inb : ∀ (v12563 : BitVec 32) (k0_hw2566 : k0_chk2566 v12563), ∀ a, (k0_off2566 v12563) a + S1x16x128.size a ≤ S16384x16x128.size a := fun v12563 k0_hw2566 => k0_hw2566

def k0_off2567 (v12569 : BitVec 32) : Fin 3 → Nat :=
  let c0_i32_10985 : BitVec 32 := 0#32
  let c0_i32_10986 : BitVec 32 := 0#32
  ![v12569.toNat, 0, 0]

def k0_chk2567 (v12569 : BitVec 32) : Prop :=
  (∀ a, (k0_off2567 v12569) a + S1x16x128.size a ≤ S16384x16x128.size a)
theorem k0_off2567_inb : ∀ (v12569 : BitVec 32) (k0_hw2567 : k0_chk2567 v12569), ∀ a, (k0_off2567 v12569) a + S1x16x128.size a ≤ S16384x16x128.size a := fun v12569 k0_hw2567 => k0_hw2567

def k0_off2568 (v12575 : BitVec 32) : Fin 3 → Nat :=
  let c0_i32_10992 : BitVec 32 := 0#32
  let c0_i32_10993 : BitVec 32 := 0#32
  ![v12575.toNat, 0, 0]

def k0_chk2568 (v12575 : BitVec 32) : Prop :=
  (∀ a, (k0_off2568 v12575) a + S1x16x128.size a ≤ S16384x16x128.size a)
theorem k0_off2568_inb : ∀ (v12575 : BitVec 32) (k0_hw2568 : k0_chk2568 v12575), ∀ a, (k0_off2568 v12575) a + S1x16x128.size a ≤ S16384x16x128.size a := fun v12575 k0_hw2568 => k0_hw2568

def k0_off2569 (v12581 : BitVec 32) : Fin 3 → Nat :=
  let c0_i32_10999 : BitVec 32 := 0#32
  let c0_i32_11000 : BitVec 32 := 0#32
  ![v12581.toNat, 0, 0]

def k0_chk2569 (v12581 : BitVec 32) : Prop :=
  (∀ a, (k0_off2569 v12581) a + S1x16x128.size a ≤ S16384x16x128.size a)
theorem k0_off2569_inb : ∀ (v12581 : BitVec 32) (k0_hw2569 : k0_chk2569 v12581), ∀ a, (k0_off2569 v12581) a + S1x16x128.size a ≤ S16384x16x128.size a := fun v12581 k0_hw2569 => k0_hw2569

def k0_off2570 (v12587 : BitVec 32) : Fin 3 → Nat :=
  let c0_i32_11006 : BitVec 32 := 0#32
  let c0_i32_11007 : BitVec 32 := 0#32
  ![v12587.toNat, 0, 0]

def k0_chk2570 (v12587 : BitVec 32) : Prop :=
  (∀ a, (k0_off2570 v12587) a + S1x16x128.size a ≤ S16384x16x128.size a)
theorem k0_off2570_inb : ∀ (v12587 : BitVec 32) (k0_hw2570 : k0_chk2570 v12587), ∀ a, (k0_off2570 v12587) a + S1x16x128.size a ≤ S16384x16x128.size a := fun v12587 k0_hw2570 => k0_hw2570

def k0_off2571 (v12593 : BitVec 32) : Fin 3 → Nat :=
  let c0_i32_11013 : BitVec 32 := 0#32
  let c0_i32_11014 : BitVec 32 := 0#32
  ![v12593.toNat, 0, 0]

def k0_chk2571 (v12593 : BitVec 32) : Prop :=
  (∀ a, (k0_off2571 v12593) a + S1x16x128.size a ≤ S16384x16x128.size a)
theorem k0_off2571_inb : ∀ (v12593 : BitVec 32) (k0_hw2571 : k0_chk2571 v12593), ∀ a, (k0_off2571 v12593) a + S1x16x128.size a ≤ S16384x16x128.size a := fun v12593 k0_hw2571 => k0_hw2571

def k0_off2572 (v12599 : BitVec 32) : Fin 3 → Nat :=
  let c0_i32_11020 : BitVec 32 := 0#32
  let c0_i32_11021 : BitVec 32 := 0#32
  ![v12599.toNat, 0, 0]

def k0_chk2572 (v12599 : BitVec 32) : Prop :=
  (∀ a, (k0_off2572 v12599) a + S1x16x128.size a ≤ S16384x16x128.size a)
theorem k0_off2572_inb : ∀ (v12599 : BitVec 32) (k0_hw2572 : k0_chk2572 v12599), ∀ a, (k0_off2572 v12599) a + S1x16x128.size a ≤ S16384x16x128.size a := fun v12599 k0_hw2572 => k0_hw2572

def k0_off2573 (v12605 : BitVec 32) : Fin 3 → Nat :=
  let c0_i32_11027 : BitVec 32 := 0#32
  let c0_i32_11028 : BitVec 32 := 0#32
  ![v12605.toNat, 0, 0]

def k0_chk2573 (v12605 : BitVec 32) : Prop :=
  (∀ a, (k0_off2573 v12605) a + S1x16x128.size a ≤ S16384x16x128.size a)
theorem k0_off2573_inb : ∀ (v12605 : BitVec 32) (k0_hw2573 : k0_chk2573 v12605), ∀ a, (k0_off2573 v12605) a + S1x16x128.size a ≤ S16384x16x128.size a := fun v12605 k0_hw2573 => k0_hw2573

def k0_off2574 (v12611 : BitVec 32) : Fin 3 → Nat :=
  let c0_i32_11034 : BitVec 32 := 0#32
  let c0_i32_11035 : BitVec 32 := 0#32
  ![v12611.toNat, 0, 0]

def k0_chk2574 (v12611 : BitVec 32) : Prop :=
  (∀ a, (k0_off2574 v12611) a + S1x16x128.size a ≤ S16384x16x128.size a)
theorem k0_off2574_inb : ∀ (v12611 : BitVec 32) (k0_hw2574 : k0_chk2574 v12611), ∀ a, (k0_off2574 v12611) a + S1x16x128.size a ≤ S16384x16x128.size a := fun v12611 k0_hw2574 => k0_hw2574

def k0_off2575 (v12617 : BitVec 32) : Fin 3 → Nat :=
  let c0_i32_11041 : BitVec 32 := 0#32
  let c0_i32_11042 : BitVec 32 := 0#32
  ![v12617.toNat, 0, 0]

def k0_chk2575 (v12617 : BitVec 32) : Prop :=
  (∀ a, (k0_off2575 v12617) a + S1x16x128.size a ≤ S16384x16x128.size a)
theorem k0_off2575_inb : ∀ (v12617 : BitVec 32) (k0_hw2575 : k0_chk2575 v12617), ∀ a, (k0_off2575 v12617) a + S1x16x128.size a ≤ S16384x16x128.size a := fun v12617 k0_hw2575 => k0_hw2575

def k0_off2576 (v12623 : BitVec 32) : Fin 3 → Nat :=
  let c0_i32_11048 : BitVec 32 := 0#32
  let c0_i32_11049 : BitVec 32 := 0#32
  ![v12623.toNat, 0, 0]

def k0_chk2576 (v12623 : BitVec 32) : Prop :=
  (∀ a, (k0_off2576 v12623) a + S1x16x128.size a ≤ S16384x16x128.size a)
theorem k0_off2576_inb : ∀ (v12623 : BitVec 32) (k0_hw2576 : k0_chk2576 v12623), ∀ a, (k0_off2576 v12623) a + S1x16x128.size a ≤ S16384x16x128.size a := fun v12623 k0_hw2576 => k0_hw2576

def k0_off2577 (v12629 : BitVec 32) : Fin 3 → Nat :=
  let c0_i32_11055 : BitVec 32 := 0#32
  let c0_i32_11056 : BitVec 32 := 0#32
  ![v12629.toNat, 0, 0]

def k0_chk2577 (v12629 : BitVec 32) : Prop :=
  (∀ a, (k0_off2577 v12629) a + S1x16x128.size a ≤ S16384x16x128.size a)
theorem k0_off2577_inb : ∀ (v12629 : BitVec 32) (k0_hw2577 : k0_chk2577 v12629), ∀ a, (k0_off2577 v12629) a + S1x16x128.size a ≤ S16384x16x128.size a := fun v12629 k0_hw2577 => k0_hw2577

def k0_off2578 (v12635 : BitVec 32) : Fin 3 → Nat :=
  let c0_i32_11062 : BitVec 32 := 0#32
  let c0_i32_11063 : BitVec 32 := 0#32
  ![v12635.toNat, 0, 0]

def k0_chk2578 (v12635 : BitVec 32) : Prop :=
  (∀ a, (k0_off2578 v12635) a + S1x16x128.size a ≤ S16384x16x128.size a)
theorem k0_off2578_inb : ∀ (v12635 : BitVec 32) (k0_hw2578 : k0_chk2578 v12635), ∀ a, (k0_off2578 v12635) a + S1x16x128.size a ≤ S16384x16x128.size a := fun v12635 k0_hw2578 => k0_hw2578

def k0_off2579 (v12641 : BitVec 32) : Fin 3 → Nat :=
  let c0_i32_11069 : BitVec 32 := 0#32
  let c0_i32_11070 : BitVec 32 := 0#32
  ![v12641.toNat, 0, 0]

def k0_chk2579 (v12641 : BitVec 32) : Prop :=
  (∀ a, (k0_off2579 v12641) a + S1x16x128.size a ≤ S16384x16x128.size a)
theorem k0_off2579_inb : ∀ (v12641 : BitVec 32) (k0_hw2579 : k0_chk2579 v12641), ∀ a, (k0_off2579 v12641) a + S1x16x128.size a ≤ S16384x16x128.size a := fun v12641 k0_hw2579 => k0_hw2579

def k0_off2580 (v12647 : BitVec 32) : Fin 3 → Nat :=
  let c0_i32_11076 : BitVec 32 := 0#32
  let c0_i32_11077 : BitVec 32 := 0#32
  ![v12647.toNat, 0, 0]

def k0_chk2580 (v12647 : BitVec 32) : Prop :=
  (∀ a, (k0_off2580 v12647) a + S1x16x128.size a ≤ S16384x16x128.size a)
theorem k0_off2580_inb : ∀ (v12647 : BitVec 32) (k0_hw2580 : k0_chk2580 v12647), ∀ a, (k0_off2580 v12647) a + S1x16x128.size a ≤ S16384x16x128.size a := fun v12647 k0_hw2580 => k0_hw2580

def k0_off2581 (v12653 : BitVec 32) : Fin 3 → Nat :=
  let c0_i32_11083 : BitVec 32 := 0#32
  let c0_i32_11084 : BitVec 32 := 0#32
  ![v12653.toNat, 0, 0]

def k0_chk2581 (v12653 : BitVec 32) : Prop :=
  (∀ a, (k0_off2581 v12653) a + S1x16x128.size a ≤ S16384x16x128.size a)
theorem k0_off2581_inb : ∀ (v12653 : BitVec 32) (k0_hw2581 : k0_chk2581 v12653), ∀ a, (k0_off2581 v12653) a + S1x16x128.size a ≤ S16384x16x128.size a := fun v12653 k0_hw2581 => k0_hw2581

def k0_off2582 (v12659 : BitVec 32) : Fin 3 → Nat :=
  let c0_i32_11090 : BitVec 32 := 0#32
  let c0_i32_11091 : BitVec 32 := 0#32
  ![v12659.toNat, 0, 0]

def k0_chk2582 (v12659 : BitVec 32) : Prop :=
  (∀ a, (k0_off2582 v12659) a + S1x16x128.size a ≤ S16384x16x128.size a)
theorem k0_off2582_inb : ∀ (v12659 : BitVec 32) (k0_hw2582 : k0_chk2582 v12659), ∀ a, (k0_off2582 v12659) a + S1x16x128.size a ≤ S16384x16x128.size a := fun v12659 k0_hw2582 => k0_hw2582

def k0_off2583 (v12665 : BitVec 32) : Fin 3 → Nat :=
  let c0_i32_11097 : BitVec 32 := 0#32
  let c0_i32_11098 : BitVec 32 := 0#32
  ![v12665.toNat, 0, 0]

def k0_chk2583 (v12665 : BitVec 32) : Prop :=
  (∀ a, (k0_off2583 v12665) a + S1x16x128.size a ≤ S16384x16x128.size a)
theorem k0_off2583_inb : ∀ (v12665 : BitVec 32) (k0_hw2583 : k0_chk2583 v12665), ∀ a, (k0_off2583 v12665) a + S1x16x128.size a ≤ S16384x16x128.size a := fun v12665 k0_hw2583 => k0_hw2583

def k0_off2584 (v12671 : BitVec 32) : Fin 3 → Nat :=
  let c0_i32_11104 : BitVec 32 := 0#32
  let c0_i32_11105 : BitVec 32 := 0#32
  ![v12671.toNat, 0, 0]

def k0_chk2584 (v12671 : BitVec 32) : Prop :=
  (∀ a, (k0_off2584 v12671) a + S1x16x128.size a ≤ S16384x16x128.size a)
theorem k0_off2584_inb : ∀ (v12671 : BitVec 32) (k0_hw2584 : k0_chk2584 v12671), ∀ a, (k0_off2584 v12671) a + S1x16x128.size a ≤ S16384x16x128.size a := fun v12671 k0_hw2584 => k0_hw2584

def k0_off2585 (v12677 : BitVec 32) : Fin 3 → Nat :=
  let c0_i32_11111 : BitVec 32 := 0#32
  let c0_i32_11112 : BitVec 32 := 0#32
  ![v12677.toNat, 0, 0]

def k0_chk2585 (v12677 : BitVec 32) : Prop :=
  (∀ a, (k0_off2585 v12677) a + S1x16x128.size a ≤ S16384x16x128.size a)
theorem k0_off2585_inb : ∀ (v12677 : BitVec 32) (k0_hw2585 : k0_chk2585 v12677), ∀ a, (k0_off2585 v12677) a + S1x16x128.size a ≤ S16384x16x128.size a := fun v12677 k0_hw2585 => k0_hw2585

def k0_off2586 (v12683 : BitVec 32) : Fin 3 → Nat :=
  let c0_i32_11118 : BitVec 32 := 0#32
  let c0_i32_11119 : BitVec 32 := 0#32
  ![v12683.toNat, 0, 0]

def k0_chk2586 (v12683 : BitVec 32) : Prop :=
  (∀ a, (k0_off2586 v12683) a + S1x16x128.size a ≤ S16384x16x128.size a)
theorem k0_off2586_inb : ∀ (v12683 : BitVec 32) (k0_hw2586 : k0_chk2586 v12683), ∀ a, (k0_off2586 v12683) a + S1x16x128.size a ≤ S16384x16x128.size a := fun v12683 k0_hw2586 => k0_hw2586

def k0_off2587 (v12689 : BitVec 32) : Fin 3 → Nat :=
  let c0_i32_11125 : BitVec 32 := 0#32
  let c0_i32_11126 : BitVec 32 := 0#32
  ![v12689.toNat, 0, 0]

def k0_chk2587 (v12689 : BitVec 32) : Prop :=
  (∀ a, (k0_off2587 v12689) a + S1x16x128.size a ≤ S16384x16x128.size a)
theorem k0_off2587_inb : ∀ (v12689 : BitVec 32) (k0_hw2587 : k0_chk2587 v12689), ∀ a, (k0_off2587 v12689) a + S1x16x128.size a ≤ S16384x16x128.size a := fun v12689 k0_hw2587 => k0_hw2587

def k0_off2588 (v12695 : BitVec 32) : Fin 3 → Nat :=
  let c0_i32_11132 : BitVec 32 := 0#32
  let c0_i32_11133 : BitVec 32 := 0#32
  ![v12695.toNat, 0, 0]

def k0_chk2588 (v12695 : BitVec 32) : Prop :=
  (∀ a, (k0_off2588 v12695) a + S1x16x128.size a ≤ S16384x16x128.size a)
theorem k0_off2588_inb : ∀ (v12695 : BitVec 32) (k0_hw2588 : k0_chk2588 v12695), ∀ a, (k0_off2588 v12695) a + S1x16x128.size a ≤ S16384x16x128.size a := fun v12695 k0_hw2588 => k0_hw2588

def k0_off2589 (v12701 : BitVec 32) : Fin 3 → Nat :=
  let c0_i32_11139 : BitVec 32 := 0#32
  let c0_i32_11140 : BitVec 32 := 0#32
  ![v12701.toNat, 0, 0]

def k0_chk2589 (v12701 : BitVec 32) : Prop :=
  (∀ a, (k0_off2589 v12701) a + S1x16x128.size a ≤ S16384x16x128.size a)
theorem k0_off2589_inb : ∀ (v12701 : BitVec 32) (k0_hw2589 : k0_chk2589 v12701), ∀ a, (k0_off2589 v12701) a + S1x16x128.size a ≤ S16384x16x128.size a := fun v12701 k0_hw2589 => k0_hw2589

def k0_off2590 (v12707 : BitVec 32) : Fin 3 → Nat :=
  let c0_i32_11146 : BitVec 32 := 0#32
  let c0_i32_11147 : BitVec 32 := 0#32
  ![v12707.toNat, 0, 0]

def k0_chk2590 (v12707 : BitVec 32) : Prop :=
  (∀ a, (k0_off2590 v12707) a + S1x16x128.size a ≤ S16384x16x128.size a)
theorem k0_off2590_inb : ∀ (v12707 : BitVec 32) (k0_hw2590 : k0_chk2590 v12707), ∀ a, (k0_off2590 v12707) a + S1x16x128.size a ≤ S16384x16x128.size a := fun v12707 k0_hw2590 => k0_hw2590

def k0_off2591 (v12713 : BitVec 32) : Fin 3 → Nat :=
  let c0_i32_11153 : BitVec 32 := 0#32
  let c0_i32_11154 : BitVec 32 := 0#32
  ![v12713.toNat, 0, 0]

def k0_chk2591 (v12713 : BitVec 32) : Prop :=
  (∀ a, (k0_off2591 v12713) a + S1x16x128.size a ≤ S16384x16x128.size a)
theorem k0_off2591_inb : ∀ (v12713 : BitVec 32) (k0_hw2591 : k0_chk2591 v12713), ∀ a, (k0_off2591 v12713) a + S1x16x128.size a ≤ S16384x16x128.size a := fun v12713 k0_hw2591 => k0_hw2591

def k0_off2592 (v12719 : BitVec 32) : Fin 3 → Nat :=
  let c0_i32_11160 : BitVec 32 := 0#32
  let c0_i32_11161 : BitVec 32 := 0#32
  ![v12719.toNat, 0, 0]

def k0_chk2592 (v12719 : BitVec 32) : Prop :=
  (∀ a, (k0_off2592 v12719) a + S1x16x128.size a ≤ S16384x16x128.size a)
theorem k0_off2592_inb : ∀ (v12719 : BitVec 32) (k0_hw2592 : k0_chk2592 v12719), ∀ a, (k0_off2592 v12719) a + S1x16x128.size a ≤ S16384x16x128.size a := fun v12719 k0_hw2592 => k0_hw2592

def k0_off2593 (v12725 : BitVec 32) : Fin 3 → Nat :=
  let c0_i32_11167 : BitVec 32 := 0#32
  let c0_i32_11168 : BitVec 32 := 0#32
  ![v12725.toNat, 0, 0]

def k0_chk2593 (v12725 : BitVec 32) : Prop :=
  (∀ a, (k0_off2593 v12725) a + S1x16x128.size a ≤ S16384x16x128.size a)
theorem k0_off2593_inb : ∀ (v12725 : BitVec 32) (k0_hw2593 : k0_chk2593 v12725), ∀ a, (k0_off2593 v12725) a + S1x16x128.size a ≤ S16384x16x128.size a := fun v12725 k0_hw2593 => k0_hw2593

def k0_off2594 (v12731 : BitVec 32) : Fin 3 → Nat :=
  let c0_i32_11174 : BitVec 32 := 0#32
  let c0_i32_11175 : BitVec 32 := 0#32
  ![v12731.toNat, 0, 0]

def k0_chk2594 (v12731 : BitVec 32) : Prop :=
  (∀ a, (k0_off2594 v12731) a + S1x16x128.size a ≤ S16384x16x128.size a)
theorem k0_off2594_inb : ∀ (v12731 : BitVec 32) (k0_hw2594 : k0_chk2594 v12731), ∀ a, (k0_off2594 v12731) a + S1x16x128.size a ≤ S16384x16x128.size a := fun v12731 k0_hw2594 => k0_hw2594

def k0_off2595 (v12737 : BitVec 32) : Fin 3 → Nat :=
  let c0_i32_11181 : BitVec 32 := 0#32
  let c0_i32_11182 : BitVec 32 := 0#32
  ![v12737.toNat, 0, 0]

def k0_chk2595 (v12737 : BitVec 32) : Prop :=
  (∀ a, (k0_off2595 v12737) a + S1x16x128.size a ≤ S16384x16x128.size a)
theorem k0_off2595_inb : ∀ (v12737 : BitVec 32) (k0_hw2595 : k0_chk2595 v12737), ∀ a, (k0_off2595 v12737) a + S1x16x128.size a ≤ S16384x16x128.size a := fun v12737 k0_hw2595 => k0_hw2595

def k0_off2596 (v12743 : BitVec 32) : Fin 3 → Nat :=
  let c0_i32_11188 : BitVec 32 := 0#32
  let c0_i32_11189 : BitVec 32 := 0#32
  ![v12743.toNat, 0, 0]

def k0_chk2596 (v12743 : BitVec 32) : Prop :=
  (∀ a, (k0_off2596 v12743) a + S1x16x128.size a ≤ S16384x16x128.size a)
theorem k0_off2596_inb : ∀ (v12743 : BitVec 32) (k0_hw2596 : k0_chk2596 v12743), ∀ a, (k0_off2596 v12743) a + S1x16x128.size a ≤ S16384x16x128.size a := fun v12743 k0_hw2596 => k0_hw2596

def k0_off2597 (v12749 : BitVec 32) : Fin 3 → Nat :=
  let c0_i32_11195 : BitVec 32 := 0#32
  let c0_i32_11196 : BitVec 32 := 0#32
  ![v12749.toNat, 0, 0]

def k0_chk2597 (v12749 : BitVec 32) : Prop :=
  (∀ a, (k0_off2597 v12749) a + S1x16x128.size a ≤ S16384x16x128.size a)
theorem k0_off2597_inb : ∀ (v12749 : BitVec 32) (k0_hw2597 : k0_chk2597 v12749), ∀ a, (k0_off2597 v12749) a + S1x16x128.size a ≤ S16384x16x128.size a := fun v12749 k0_hw2597 => k0_hw2597

def k0_off2598 (v12755 : BitVec 32) : Fin 3 → Nat :=
  let c0_i32_11202 : BitVec 32 := 0#32
  let c0_i32_11203 : BitVec 32 := 0#32
  ![v12755.toNat, 0, 0]

def k0_chk2598 (v12755 : BitVec 32) : Prop :=
  (∀ a, (k0_off2598 v12755) a + S1x16x128.size a ≤ S16384x16x128.size a)
theorem k0_off2598_inb : ∀ (v12755 : BitVec 32) (k0_hw2598 : k0_chk2598 v12755), ∀ a, (k0_off2598 v12755) a + S1x16x128.size a ≤ S16384x16x128.size a := fun v12755 k0_hw2598 => k0_hw2598

def k0_off2599 (v12761 : BitVec 32) : Fin 3 → Nat :=
  let c0_i32_11209 : BitVec 32 := 0#32
  let c0_i32_11210 : BitVec 32 := 0#32
  ![v12761.toNat, 0, 0]

def k0_chk2599 (v12761 : BitVec 32) : Prop :=
  (∀ a, (k0_off2599 v12761) a + S1x16x128.size a ≤ S16384x16x128.size a)
theorem k0_off2599_inb : ∀ (v12761 : BitVec 32) (k0_hw2599 : k0_chk2599 v12761), ∀ a, (k0_off2599 v12761) a + S1x16x128.size a ≤ S16384x16x128.size a := fun v12761 k0_hw2599 => k0_hw2599

def k0_off2600 (v12767 : BitVec 32) : Fin 3 → Nat :=
  let c0_i32_11216 : BitVec 32 := 0#32
  let c0_i32_11217 : BitVec 32 := 0#32
  ![v12767.toNat, 0, 0]

def k0_chk2600 (v12767 : BitVec 32) : Prop :=
  (∀ a, (k0_off2600 v12767) a + S1x16x128.size a ≤ S16384x16x128.size a)
theorem k0_off2600_inb : ∀ (v12767 : BitVec 32) (k0_hw2600 : k0_chk2600 v12767), ∀ a, (k0_off2600 v12767) a + S1x16x128.size a ≤ S16384x16x128.size a := fun v12767 k0_hw2600 => k0_hw2600

def k0_off2601 (v12773 : BitVec 32) : Fin 3 → Nat :=
  let c0_i32_11223 : BitVec 32 := 0#32
  let c0_i32_11224 : BitVec 32 := 0#32
  ![v12773.toNat, 0, 0]

def k0_chk2601 (v12773 : BitVec 32) : Prop :=
  (∀ a, (k0_off2601 v12773) a + S1x16x128.size a ≤ S16384x16x128.size a)
theorem k0_off2601_inb : ∀ (v12773 : BitVec 32) (k0_hw2601 : k0_chk2601 v12773), ∀ a, (k0_off2601 v12773) a + S1x16x128.size a ≤ S16384x16x128.size a := fun v12773 k0_hw2601 => k0_hw2601

def k0_off2602 (v12779 : BitVec 32) : Fin 3 → Nat :=
  let c0_i32_11230 : BitVec 32 := 0#32
  let c0_i32_11231 : BitVec 32 := 0#32
  ![v12779.toNat, 0, 0]

def k0_chk2602 (v12779 : BitVec 32) : Prop :=
  (∀ a, (k0_off2602 v12779) a + S1x16x128.size a ≤ S16384x16x128.size a)
theorem k0_off2602_inb : ∀ (v12779 : BitVec 32) (k0_hw2602 : k0_chk2602 v12779), ∀ a, (k0_off2602 v12779) a + S1x16x128.size a ≤ S16384x16x128.size a := fun v12779 k0_hw2602 => k0_hw2602

def k0_off2603 (v12785 : BitVec 32) : Fin 3 → Nat :=
  let c0_i32_11237 : BitVec 32 := 0#32
  let c0_i32_11238 : BitVec 32 := 0#32
  ![v12785.toNat, 0, 0]

def k0_chk2603 (v12785 : BitVec 32) : Prop :=
  (∀ a, (k0_off2603 v12785) a + S1x16x128.size a ≤ S16384x16x128.size a)
theorem k0_off2603_inb : ∀ (v12785 : BitVec 32) (k0_hw2603 : k0_chk2603 v12785), ∀ a, (k0_off2603 v12785) a + S1x16x128.size a ≤ S16384x16x128.size a := fun v12785 k0_hw2603 => k0_hw2603

def k0_off2604 (v12791 : BitVec 32) : Fin 3 → Nat :=
  let c0_i32_11244 : BitVec 32 := 0#32
  let c0_i32_11245 : BitVec 32 := 0#32
  ![v12791.toNat, 0, 0]

def k0_chk2604 (v12791 : BitVec 32) : Prop :=
  (∀ a, (k0_off2604 v12791) a + S1x16x128.size a ≤ S16384x16x128.size a)
theorem k0_off2604_inb : ∀ (v12791 : BitVec 32) (k0_hw2604 : k0_chk2604 v12791), ∀ a, (k0_off2604 v12791) a + S1x16x128.size a ≤ S16384x16x128.size a := fun v12791 k0_hw2604 => k0_hw2604

def k0_off2605 (v12797 : BitVec 32) : Fin 3 → Nat :=
  let c0_i32_11251 : BitVec 32 := 0#32
  let c0_i32_11252 : BitVec 32 := 0#32
  ![v12797.toNat, 0, 0]

def k0_chk2605 (v12797 : BitVec 32) : Prop :=
  (∀ a, (k0_off2605 v12797) a + S1x16x128.size a ≤ S16384x16x128.size a)
theorem k0_off2605_inb : ∀ (v12797 : BitVec 32) (k0_hw2605 : k0_chk2605 v12797), ∀ a, (k0_off2605 v12797) a + S1x16x128.size a ≤ S16384x16x128.size a := fun v12797 k0_hw2605 => k0_hw2605

def k0_off2606 (v12803 : BitVec 32) : Fin 3 → Nat :=
  let c0_i32_11258 : BitVec 32 := 0#32
  let c0_i32_11259 : BitVec 32 := 0#32
  ![v12803.toNat, 0, 0]

def k0_chk2606 (v12803 : BitVec 32) : Prop :=
  (∀ a, (k0_off2606 v12803) a + S1x16x128.size a ≤ S16384x16x128.size a)
theorem k0_off2606_inb : ∀ (v12803 : BitVec 32) (k0_hw2606 : k0_chk2606 v12803), ∀ a, (k0_off2606 v12803) a + S1x16x128.size a ≤ S16384x16x128.size a := fun v12803 k0_hw2606 => k0_hw2606

def k0_off2607 (v12809 : BitVec 32) : Fin 3 → Nat :=
  let c0_i32_11265 : BitVec 32 := 0#32
  let c0_i32_11266 : BitVec 32 := 0#32
  ![v12809.toNat, 0, 0]

def k0_chk2607 (v12809 : BitVec 32) : Prop :=
  (∀ a, (k0_off2607 v12809) a + S1x16x128.size a ≤ S16384x16x128.size a)
theorem k0_off2607_inb : ∀ (v12809 : BitVec 32) (k0_hw2607 : k0_chk2607 v12809), ∀ a, (k0_off2607 v12809) a + S1x16x128.size a ≤ S16384x16x128.size a := fun v12809 k0_hw2607 => k0_hw2607

def k0_off2608 (v12815 : BitVec 32) : Fin 3 → Nat :=
  let c0_i32_11272 : BitVec 32 := 0#32
  let c0_i32_11273 : BitVec 32 := 0#32
  ![v12815.toNat, 0, 0]

def k0_chk2608 (v12815 : BitVec 32) : Prop :=
  (∀ a, (k0_off2608 v12815) a + S1x16x128.size a ≤ S16384x16x128.size a)
theorem k0_off2608_inb : ∀ (v12815 : BitVec 32) (k0_hw2608 : k0_chk2608 v12815), ∀ a, (k0_off2608 v12815) a + S1x16x128.size a ≤ S16384x16x128.size a := fun v12815 k0_hw2608 => k0_hw2608

def k0_off2609 (v12821 : BitVec 32) : Fin 3 → Nat :=
  let c0_i32_11279 : BitVec 32 := 0#32
  let c0_i32_11280 : BitVec 32 := 0#32
  ![v12821.toNat, 0, 0]

def k0_chk2609 (v12821 : BitVec 32) : Prop :=
  (∀ a, (k0_off2609 v12821) a + S1x16x128.size a ≤ S16384x16x128.size a)
theorem k0_off2609_inb : ∀ (v12821 : BitVec 32) (k0_hw2609 : k0_chk2609 v12821), ∀ a, (k0_off2609 v12821) a + S1x16x128.size a ≤ S16384x16x128.size a := fun v12821 k0_hw2609 => k0_hw2609

def k0_off2610 (v12827 : BitVec 32) : Fin 3 → Nat :=
  let c0_i32_11286 : BitVec 32 := 0#32
  let c0_i32_11287 : BitVec 32 := 0#32
  ![v12827.toNat, 0, 0]

def k0_chk2610 (v12827 : BitVec 32) : Prop :=
  (∀ a, (k0_off2610 v12827) a + S1x16x128.size a ≤ S16384x16x128.size a)
theorem k0_off2610_inb : ∀ (v12827 : BitVec 32) (k0_hw2610 : k0_chk2610 v12827), ∀ a, (k0_off2610 v12827) a + S1x16x128.size a ≤ S16384x16x128.size a := fun v12827 k0_hw2610 => k0_hw2610

def k0_off2611 (v12833 : BitVec 32) : Fin 3 → Nat :=
  let c0_i32_11293 : BitVec 32 := 0#32
  let c0_i32_11294 : BitVec 32 := 0#32
  ![v12833.toNat, 0, 0]

def k0_chk2611 (v12833 : BitVec 32) : Prop :=
  (∀ a, (k0_off2611 v12833) a + S1x16x128.size a ≤ S16384x16x128.size a)
theorem k0_off2611_inb : ∀ (v12833 : BitVec 32) (k0_hw2611 : k0_chk2611 v12833), ∀ a, (k0_off2611 v12833) a + S1x16x128.size a ≤ S16384x16x128.size a := fun v12833 k0_hw2611 => k0_hw2611

def k0_off2612 (v12839 : BitVec 32) : Fin 3 → Nat :=
  let c0_i32_11300 : BitVec 32 := 0#32
  let c0_i32_11301 : BitVec 32 := 0#32
  ![v12839.toNat, 0, 0]

def k0_chk2612 (v12839 : BitVec 32) : Prop :=
  (∀ a, (k0_off2612 v12839) a + S1x16x128.size a ≤ S16384x16x128.size a)
theorem k0_off2612_inb : ∀ (v12839 : BitVec 32) (k0_hw2612 : k0_chk2612 v12839), ∀ a, (k0_off2612 v12839) a + S1x16x128.size a ≤ S16384x16x128.size a := fun v12839 k0_hw2612 => k0_hw2612

def k0_off2613 (v12845 : BitVec 32) : Fin 3 → Nat :=
  let c0_i32_11307 : BitVec 32 := 0#32
  let c0_i32_11308 : BitVec 32 := 0#32
  ![v12845.toNat, 0, 0]

def k0_chk2613 (v12845 : BitVec 32) : Prop :=
  (∀ a, (k0_off2613 v12845) a + S1x16x128.size a ≤ S16384x16x128.size a)
theorem k0_off2613_inb : ∀ (v12845 : BitVec 32) (k0_hw2613 : k0_chk2613 v12845), ∀ a, (k0_off2613 v12845) a + S1x16x128.size a ≤ S16384x16x128.size a := fun v12845 k0_hw2613 => k0_hw2613

def k0_off2614 (v12851 : BitVec 32) : Fin 3 → Nat :=
  let c0_i32_11314 : BitVec 32 := 0#32
  let c0_i32_11315 : BitVec 32 := 0#32
  ![v12851.toNat, 0, 0]

def k0_chk2614 (v12851 : BitVec 32) : Prop :=
  (∀ a, (k0_off2614 v12851) a + S1x16x128.size a ≤ S16384x16x128.size a)
theorem k0_off2614_inb : ∀ (v12851 : BitVec 32) (k0_hw2614 : k0_chk2614 v12851), ∀ a, (k0_off2614 v12851) a + S1x16x128.size a ≤ S16384x16x128.size a := fun v12851 k0_hw2614 => k0_hw2614

def k0_off2615 (v12857 : BitVec 32) : Fin 3 → Nat :=
  let c0_i32_11321 : BitVec 32 := 0#32
  let c0_i32_11322 : BitVec 32 := 0#32
  ![v12857.toNat, 0, 0]

def k0_chk2615 (v12857 : BitVec 32) : Prop :=
  (∀ a, (k0_off2615 v12857) a + S1x16x128.size a ≤ S16384x16x128.size a)
theorem k0_off2615_inb : ∀ (v12857 : BitVec 32) (k0_hw2615 : k0_chk2615 v12857), ∀ a, (k0_off2615 v12857) a + S1x16x128.size a ≤ S16384x16x128.size a := fun v12857 k0_hw2615 => k0_hw2615

def k0_off2616 (v12863 : BitVec 32) : Fin 3 → Nat :=
  let c0_i32_11328 : BitVec 32 := 0#32
  let c0_i32_11329 : BitVec 32 := 0#32
  ![v12863.toNat, 0, 0]

def k0_chk2616 (v12863 : BitVec 32) : Prop :=
  (∀ a, (k0_off2616 v12863) a + S1x16x128.size a ≤ S16384x16x128.size a)
theorem k0_off2616_inb : ∀ (v12863 : BitVec 32) (k0_hw2616 : k0_chk2616 v12863), ∀ a, (k0_off2616 v12863) a + S1x16x128.size a ≤ S16384x16x128.size a := fun v12863 k0_hw2616 => k0_hw2616

def k0_off2617 (v12869 : BitVec 32) : Fin 3 → Nat :=
  let c0_i32_11335 : BitVec 32 := 0#32
  let c0_i32_11336 : BitVec 32 := 0#32
  ![v12869.toNat, 0, 0]

def k0_chk2617 (v12869 : BitVec 32) : Prop :=
  (∀ a, (k0_off2617 v12869) a + S1x16x128.size a ≤ S16384x16x128.size a)
theorem k0_off2617_inb : ∀ (v12869 : BitVec 32) (k0_hw2617 : k0_chk2617 v12869), ∀ a, (k0_off2617 v12869) a + S1x16x128.size a ≤ S16384x16x128.size a := fun v12869 k0_hw2617 => k0_hw2617

def k0_off2618 (v12875 : BitVec 32) : Fin 3 → Nat :=
  let c0_i32_11342 : BitVec 32 := 0#32
  let c0_i32_11343 : BitVec 32 := 0#32
  ![v12875.toNat, 0, 0]

def k0_chk2618 (v12875 : BitVec 32) : Prop :=
  (∀ a, (k0_off2618 v12875) a + S1x16x128.size a ≤ S16384x16x128.size a)
theorem k0_off2618_inb : ∀ (v12875 : BitVec 32) (k0_hw2618 : k0_chk2618 v12875), ∀ a, (k0_off2618 v12875) a + S1x16x128.size a ≤ S16384x16x128.size a := fun v12875 k0_hw2618 => k0_hw2618

def k0_off2619 (v12881 : BitVec 32) : Fin 3 → Nat :=
  let c0_i32_11349 : BitVec 32 := 0#32
  let c0_i32_11350 : BitVec 32 := 0#32
  ![v12881.toNat, 0, 0]

def k0_chk2619 (v12881 : BitVec 32) : Prop :=
  (∀ a, (k0_off2619 v12881) a + S1x16x128.size a ≤ S16384x16x128.size a)
theorem k0_off2619_inb : ∀ (v12881 : BitVec 32) (k0_hw2619 : k0_chk2619 v12881), ∀ a, (k0_off2619 v12881) a + S1x16x128.size a ≤ S16384x16x128.size a := fun v12881 k0_hw2619 => k0_hw2619

def k0_off2620 (v12887 : BitVec 32) : Fin 3 → Nat :=
  let c0_i32_11356 : BitVec 32 := 0#32
  let c0_i32_11357 : BitVec 32 := 0#32
  ![v12887.toNat, 0, 0]

def k0_chk2620 (v12887 : BitVec 32) : Prop :=
  (∀ a, (k0_off2620 v12887) a + S1x16x128.size a ≤ S16384x16x128.size a)
theorem k0_off2620_inb : ∀ (v12887 : BitVec 32) (k0_hw2620 : k0_chk2620 v12887), ∀ a, (k0_off2620 v12887) a + S1x16x128.size a ≤ S16384x16x128.size a := fun v12887 k0_hw2620 => k0_hw2620

def k0_off2621 (v12893 : BitVec 32) : Fin 3 → Nat :=
  let c0_i32_11363 : BitVec 32 := 0#32
  let c0_i32_11364 : BitVec 32 := 0#32
  ![v12893.toNat, 0, 0]

def k0_chk2621 (v12893 : BitVec 32) : Prop :=
  (∀ a, (k0_off2621 v12893) a + S1x16x128.size a ≤ S16384x16x128.size a)
theorem k0_off2621_inb : ∀ (v12893 : BitVec 32) (k0_hw2621 : k0_chk2621 v12893), ∀ a, (k0_off2621 v12893) a + S1x16x128.size a ≤ S16384x16x128.size a := fun v12893 k0_hw2621 => k0_hw2621

def k0_off2622 (v12899 : BitVec 32) : Fin 3 → Nat :=
  let c0_i32_11370 : BitVec 32 := 0#32
  let c0_i32_11371 : BitVec 32 := 0#32
  ![v12899.toNat, 0, 0]

def k0_chk2622 (v12899 : BitVec 32) : Prop :=
  (∀ a, (k0_off2622 v12899) a + S1x16x128.size a ≤ S16384x16x128.size a)
theorem k0_off2622_inb : ∀ (v12899 : BitVec 32) (k0_hw2622 : k0_chk2622 v12899), ∀ a, (k0_off2622 v12899) a + S1x16x128.size a ≤ S16384x16x128.size a := fun v12899 k0_hw2622 => k0_hw2622

def k0_off2623 (v12905 : BitVec 32) : Fin 3 → Nat :=
  let c0_i32_11377 : BitVec 32 := 0#32
  let c0_i32_11378 : BitVec 32 := 0#32
  ![v12905.toNat, 0, 0]

def k0_chk2623 (v12905 : BitVec 32) : Prop :=
  (∀ a, (k0_off2623 v12905) a + S1x16x128.size a ≤ S16384x16x128.size a)
theorem k0_off2623_inb : ∀ (v12905 : BitVec 32) (k0_hw2623 : k0_chk2623 v12905), ∀ a, (k0_off2623 v12905) a + S1x16x128.size a ≤ S16384x16x128.size a := fun v12905 k0_hw2623 => k0_hw2623

def k0_off2624 (v12911 : BitVec 32) : Fin 3 → Nat :=
  let c0_i32_11384 : BitVec 32 := 0#32
  let c0_i32_11385 : BitVec 32 := 0#32
  ![v12911.toNat, 0, 0]

def k0_chk2624 (v12911 : BitVec 32) : Prop :=
  (∀ a, (k0_off2624 v12911) a + S1x16x128.size a ≤ S16384x16x128.size a)
theorem k0_off2624_inb : ∀ (v12911 : BitVec 32) (k0_hw2624 : k0_chk2624 v12911), ∀ a, (k0_off2624 v12911) a + S1x16x128.size a ≤ S16384x16x128.size a := fun v12911 k0_hw2624 => k0_hw2624

def k0_off2625 (v12917 : BitVec 32) : Fin 3 → Nat :=
  let c0_i32_11391 : BitVec 32 := 0#32
  let c0_i32_11392 : BitVec 32 := 0#32
  ![v12917.toNat, 0, 0]

def k0_chk2625 (v12917 : BitVec 32) : Prop :=
  (∀ a, (k0_off2625 v12917) a + S1x16x128.size a ≤ S16384x16x128.size a)
theorem k0_off2625_inb : ∀ (v12917 : BitVec 32) (k0_hw2625 : k0_chk2625 v12917), ∀ a, (k0_off2625 v12917) a + S1x16x128.size a ≤ S16384x16x128.size a := fun v12917 k0_hw2625 => k0_hw2625

def k0_off2626 (v12923 : BitVec 32) : Fin 3 → Nat :=
  let c0_i32_11398 : BitVec 32 := 0#32
  let c0_i32_11399 : BitVec 32 := 0#32
  ![v12923.toNat, 0, 0]

def k0_chk2626 (v12923 : BitVec 32) : Prop :=
  (∀ a, (k0_off2626 v12923) a + S1x16x128.size a ≤ S16384x16x128.size a)
theorem k0_off2626_inb : ∀ (v12923 : BitVec 32) (k0_hw2626 : k0_chk2626 v12923), ∀ a, (k0_off2626 v12923) a + S1x16x128.size a ≤ S16384x16x128.size a := fun v12923 k0_hw2626 => k0_hw2626

def k0_off2627 (v12929 : BitVec 32) : Fin 3 → Nat :=
  let c0_i32_11405 : BitVec 32 := 0#32
  let c0_i32_11406 : BitVec 32 := 0#32
  ![v12929.toNat, 0, 0]

def k0_chk2627 (v12929 : BitVec 32) : Prop :=
  (∀ a, (k0_off2627 v12929) a + S1x16x128.size a ≤ S16384x16x128.size a)
theorem k0_off2627_inb : ∀ (v12929 : BitVec 32) (k0_hw2627 : k0_chk2627 v12929), ∀ a, (k0_off2627 v12929) a + S1x16x128.size a ≤ S16384x16x128.size a := fun v12929 k0_hw2627 => k0_hw2627

def k0_off2628 (v12935 : BitVec 32) : Fin 3 → Nat :=
  let c0_i32_11412 : BitVec 32 := 0#32
  let c0_i32_11413 : BitVec 32 := 0#32
  ![v12935.toNat, 0, 0]

def k0_chk2628 (v12935 : BitVec 32) : Prop :=
  (∀ a, (k0_off2628 v12935) a + S1x16x128.size a ≤ S16384x16x128.size a)
theorem k0_off2628_inb : ∀ (v12935 : BitVec 32) (k0_hw2628 : k0_chk2628 v12935), ∀ a, (k0_off2628 v12935) a + S1x16x128.size a ≤ S16384x16x128.size a := fun v12935 k0_hw2628 => k0_hw2628

def k0_off2629 (v12941 : BitVec 32) : Fin 3 → Nat :=
  let c0_i32_11419 : BitVec 32 := 0#32
  let c0_i32_11420 : BitVec 32 := 0#32
  ![v12941.toNat, 0, 0]

def k0_chk2629 (v12941 : BitVec 32) : Prop :=
  (∀ a, (k0_off2629 v12941) a + S1x16x128.size a ≤ S16384x16x128.size a)
theorem k0_off2629_inb : ∀ (v12941 : BitVec 32) (k0_hw2629 : k0_chk2629 v12941), ∀ a, (k0_off2629 v12941) a + S1x16x128.size a ≤ S16384x16x128.size a := fun v12941 k0_hw2629 => k0_hw2629

def k0_off2630 (v12947 : BitVec 32) : Fin 3 → Nat :=
  let c0_i32_11426 : BitVec 32 := 0#32
  let c0_i32_11427 : BitVec 32 := 0#32
  ![v12947.toNat, 0, 0]

def k0_chk2630 (v12947 : BitVec 32) : Prop :=
  (∀ a, (k0_off2630 v12947) a + S1x16x128.size a ≤ S16384x16x128.size a)
theorem k0_off2630_inb : ∀ (v12947 : BitVec 32) (k0_hw2630 : k0_chk2630 v12947), ∀ a, (k0_off2630 v12947) a + S1x16x128.size a ≤ S16384x16x128.size a := fun v12947 k0_hw2630 => k0_hw2630

def k0_off2631 (v12953 : BitVec 32) : Fin 3 → Nat :=
  let c0_i32_11433 : BitVec 32 := 0#32
  let c0_i32_11434 : BitVec 32 := 0#32
  ![v12953.toNat, 0, 0]

def k0_chk2631 (v12953 : BitVec 32) : Prop :=
  (∀ a, (k0_off2631 v12953) a + S1x16x128.size a ≤ S16384x16x128.size a)
theorem k0_off2631_inb : ∀ (v12953 : BitVec 32) (k0_hw2631 : k0_chk2631 v12953), ∀ a, (k0_off2631 v12953) a + S1x16x128.size a ≤ S16384x16x128.size a := fun v12953 k0_hw2631 => k0_hw2631

def k0_off2632 (v12959 : BitVec 32) : Fin 3 → Nat :=
  let c0_i32_11440 : BitVec 32 := 0#32
  let c0_i32_11441 : BitVec 32 := 0#32
  ![v12959.toNat, 0, 0]

def k0_chk2632 (v12959 : BitVec 32) : Prop :=
  (∀ a, (k0_off2632 v12959) a + S1x16x128.size a ≤ S16384x16x128.size a)
theorem k0_off2632_inb : ∀ (v12959 : BitVec 32) (k0_hw2632 : k0_chk2632 v12959), ∀ a, (k0_off2632 v12959) a + S1x16x128.size a ≤ S16384x16x128.size a := fun v12959 k0_hw2632 => k0_hw2632

def k0_off2633 (v12965 : BitVec 32) : Fin 3 → Nat :=
  let c0_i32_11447 : BitVec 32 := 0#32
  let c0_i32_11448 : BitVec 32 := 0#32
  ![v12965.toNat, 0, 0]

def k0_chk2633 (v12965 : BitVec 32) : Prop :=
  (∀ a, (k0_off2633 v12965) a + S1x16x128.size a ≤ S16384x16x128.size a)
theorem k0_off2633_inb : ∀ (v12965 : BitVec 32) (k0_hw2633 : k0_chk2633 v12965), ∀ a, (k0_off2633 v12965) a + S1x16x128.size a ≤ S16384x16x128.size a := fun v12965 k0_hw2633 => k0_hw2633

def k0_off2634 (v12971 : BitVec 32) : Fin 3 → Nat :=
  let c0_i32_11454 : BitVec 32 := 0#32
  let c0_i32_11455 : BitVec 32 := 0#32
  ![v12971.toNat, 0, 0]

def k0_chk2634 (v12971 : BitVec 32) : Prop :=
  (∀ a, (k0_off2634 v12971) a + S1x16x128.size a ≤ S16384x16x128.size a)
theorem k0_off2634_inb : ∀ (v12971 : BitVec 32) (k0_hw2634 : k0_chk2634 v12971), ∀ a, (k0_off2634 v12971) a + S1x16x128.size a ≤ S16384x16x128.size a := fun v12971 k0_hw2634 => k0_hw2634

def k0_off2635 (v12977 : BitVec 32) : Fin 3 → Nat :=
  let c0_i32_11461 : BitVec 32 := 0#32
  let c0_i32_11462 : BitVec 32 := 0#32
  ![v12977.toNat, 0, 0]

def k0_chk2635 (v12977 : BitVec 32) : Prop :=
  (∀ a, (k0_off2635 v12977) a + S1x16x128.size a ≤ S16384x16x128.size a)
theorem k0_off2635_inb : ∀ (v12977 : BitVec 32) (k0_hw2635 : k0_chk2635 v12977), ∀ a, (k0_off2635 v12977) a + S1x16x128.size a ≤ S16384x16x128.size a := fun v12977 k0_hw2635 => k0_hw2635

def k0_off2636 (v12983 : BitVec 32) : Fin 3 → Nat :=
  let c0_i32_11468 : BitVec 32 := 0#32
  let c0_i32_11469 : BitVec 32 := 0#32
  ![v12983.toNat, 0, 0]

def k0_chk2636 (v12983 : BitVec 32) : Prop :=
  (∀ a, (k0_off2636 v12983) a + S1x16x128.size a ≤ S16384x16x128.size a)
theorem k0_off2636_inb : ∀ (v12983 : BitVec 32) (k0_hw2636 : k0_chk2636 v12983), ∀ a, (k0_off2636 v12983) a + S1x16x128.size a ≤ S16384x16x128.size a := fun v12983 k0_hw2636 => k0_hw2636

def k0_off2637 (v12989 : BitVec 32) : Fin 3 → Nat :=
  let c0_i32_11475 : BitVec 32 := 0#32
  let c0_i32_11476 : BitVec 32 := 0#32
  ![v12989.toNat, 0, 0]

def k0_chk2637 (v12989 : BitVec 32) : Prop :=
  (∀ a, (k0_off2637 v12989) a + S1x16x128.size a ≤ S16384x16x128.size a)
theorem k0_off2637_inb : ∀ (v12989 : BitVec 32) (k0_hw2637 : k0_chk2637 v12989), ∀ a, (k0_off2637 v12989) a + S1x16x128.size a ≤ S16384x16x128.size a := fun v12989 k0_hw2637 => k0_hw2637

def k0_off2638 (v12995 : BitVec 32) : Fin 3 → Nat :=
  let c0_i32_11482 : BitVec 32 := 0#32
  let c0_i32_11483 : BitVec 32 := 0#32
  ![v12995.toNat, 0, 0]

def k0_chk2638 (v12995 : BitVec 32) : Prop :=
  (∀ a, (k0_off2638 v12995) a + S1x16x128.size a ≤ S16384x16x128.size a)
theorem k0_off2638_inb : ∀ (v12995 : BitVec 32) (k0_hw2638 : k0_chk2638 v12995), ∀ a, (k0_off2638 v12995) a + S1x16x128.size a ≤ S16384x16x128.size a := fun v12995 k0_hw2638 => k0_hw2638

def k0_off2639 (v13001 : BitVec 32) : Fin 3 → Nat :=
  let c0_i32_11489 : BitVec 32 := 0#32
  let c0_i32_11490 : BitVec 32 := 0#32
  ![v13001.toNat, 0, 0]

def k0_chk2639 (v13001 : BitVec 32) : Prop :=
  (∀ a, (k0_off2639 v13001) a + S1x16x128.size a ≤ S16384x16x128.size a)
theorem k0_off2639_inb : ∀ (v13001 : BitVec 32) (k0_hw2639 : k0_chk2639 v13001), ∀ a, (k0_off2639 v13001) a + S1x16x128.size a ≤ S16384x16x128.size a := fun v13001 k0_hw2639 => k0_hw2639

def k0_off2640 (v13007 : BitVec 32) : Fin 3 → Nat :=
  let c0_i32_11496 : BitVec 32 := 0#32
  let c0_i32_11497 : BitVec 32 := 0#32
  ![v13007.toNat, 0, 0]

def k0_chk2640 (v13007 : BitVec 32) : Prop :=
  (∀ a, (k0_off2640 v13007) a + S1x16x128.size a ≤ S16384x16x128.size a)
theorem k0_off2640_inb : ∀ (v13007 : BitVec 32) (k0_hw2640 : k0_chk2640 v13007), ∀ a, (k0_off2640 v13007) a + S1x16x128.size a ≤ S16384x16x128.size a := fun v13007 k0_hw2640 => k0_hw2640

def k0_off2641 (v13013 : BitVec 32) : Fin 3 → Nat :=
  let c0_i32_11503 : BitVec 32 := 0#32
  let c0_i32_11504 : BitVec 32 := 0#32
  ![v13013.toNat, 0, 0]

def k0_chk2641 (v13013 : BitVec 32) : Prop :=
  (∀ a, (k0_off2641 v13013) a + S1x16x128.size a ≤ S16384x16x128.size a)
theorem k0_off2641_inb : ∀ (v13013 : BitVec 32) (k0_hw2641 : k0_chk2641 v13013), ∀ a, (k0_off2641 v13013) a + S1x16x128.size a ≤ S16384x16x128.size a := fun v13013 k0_hw2641 => k0_hw2641

def k0_off2642 (v13019 : BitVec 32) : Fin 3 → Nat :=
  let c0_i32_11510 : BitVec 32 := 0#32
  let c0_i32_11511 : BitVec 32 := 0#32
  ![v13019.toNat, 0, 0]

def k0_chk2642 (v13019 : BitVec 32) : Prop :=
  (∀ a, (k0_off2642 v13019) a + S1x16x128.size a ≤ S16384x16x128.size a)
theorem k0_off2642_inb : ∀ (v13019 : BitVec 32) (k0_hw2642 : k0_chk2642 v13019), ∀ a, (k0_off2642 v13019) a + S1x16x128.size a ≤ S16384x16x128.size a := fun v13019 k0_hw2642 => k0_hw2642

def k0_off2643 (v13025 : BitVec 32) : Fin 3 → Nat :=
  let c0_i32_11517 : BitVec 32 := 0#32
  let c0_i32_11518 : BitVec 32 := 0#32
  ![v13025.toNat, 0, 0]

def k0_chk2643 (v13025 : BitVec 32) : Prop :=
  (∀ a, (k0_off2643 v13025) a + S1x16x128.size a ≤ S16384x16x128.size a)
theorem k0_off2643_inb : ∀ (v13025 : BitVec 32) (k0_hw2643 : k0_chk2643 v13025), ∀ a, (k0_off2643 v13025) a + S1x16x128.size a ≤ S16384x16x128.size a := fun v13025 k0_hw2643 => k0_hw2643

def k0_off2644 (v13031 : BitVec 32) : Fin 3 → Nat :=
  let c0_i32_11524 : BitVec 32 := 0#32
  let c0_i32_11525 : BitVec 32 := 0#32
  ![v13031.toNat, 0, 0]

def k0_chk2644 (v13031 : BitVec 32) : Prop :=
  (∀ a, (k0_off2644 v13031) a + S1x16x128.size a ≤ S16384x16x128.size a)
theorem k0_off2644_inb : ∀ (v13031 : BitVec 32) (k0_hw2644 : k0_chk2644 v13031), ∀ a, (k0_off2644 v13031) a + S1x16x128.size a ≤ S16384x16x128.size a := fun v13031 k0_hw2644 => k0_hw2644

def k0_off2645 (v13037 : BitVec 32) : Fin 3 → Nat :=
  let c0_i32_11531 : BitVec 32 := 0#32
  let c0_i32_11532 : BitVec 32 := 0#32
  ![v13037.toNat, 0, 0]

def k0_chk2645 (v13037 : BitVec 32) : Prop :=
  (∀ a, (k0_off2645 v13037) a + S1x16x128.size a ≤ S16384x16x128.size a)
theorem k0_off2645_inb : ∀ (v13037 : BitVec 32) (k0_hw2645 : k0_chk2645 v13037), ∀ a, (k0_off2645 v13037) a + S1x16x128.size a ≤ S16384x16x128.size a := fun v13037 k0_hw2645 => k0_hw2645

def k0_off2646 (v13043 : BitVec 32) : Fin 3 → Nat :=
  let c0_i32_11538 : BitVec 32 := 0#32
  let c0_i32_11539 : BitVec 32 := 0#32
  ![v13043.toNat, 0, 0]

def k0_chk2646 (v13043 : BitVec 32) : Prop :=
  (∀ a, (k0_off2646 v13043) a + S1x16x128.size a ≤ S16384x16x128.size a)
theorem k0_off2646_inb : ∀ (v13043 : BitVec 32) (k0_hw2646 : k0_chk2646 v13043), ∀ a, (k0_off2646 v13043) a + S1x16x128.size a ≤ S16384x16x128.size a := fun v13043 k0_hw2646 => k0_hw2646

def k0_off2647 (v13049 : BitVec 32) : Fin 3 → Nat :=
  let c0_i32_11545 : BitVec 32 := 0#32
  let c0_i32_11546 : BitVec 32 := 0#32
  ![v13049.toNat, 0, 0]

def k0_chk2647 (v13049 : BitVec 32) : Prop :=
  (∀ a, (k0_off2647 v13049) a + S1x16x128.size a ≤ S16384x16x128.size a)
theorem k0_off2647_inb : ∀ (v13049 : BitVec 32) (k0_hw2647 : k0_chk2647 v13049), ∀ a, (k0_off2647 v13049) a + S1x16x128.size a ≤ S16384x16x128.size a := fun v13049 k0_hw2647 => k0_hw2647

def k0_off2648 (v13055 : BitVec 32) : Fin 3 → Nat :=
  let c0_i32_11552 : BitVec 32 := 0#32
  let c0_i32_11553 : BitVec 32 := 0#32
  ![v13055.toNat, 0, 0]

def k0_chk2648 (v13055 : BitVec 32) : Prop :=
  (∀ a, (k0_off2648 v13055) a + S1x16x128.size a ≤ S16384x16x128.size a)
theorem k0_off2648_inb : ∀ (v13055 : BitVec 32) (k0_hw2648 : k0_chk2648 v13055), ∀ a, (k0_off2648 v13055) a + S1x16x128.size a ≤ S16384x16x128.size a := fun v13055 k0_hw2648 => k0_hw2648

def k0_off2649 (v13061 : BitVec 32) : Fin 3 → Nat :=
  let c0_i32_11559 : BitVec 32 := 0#32
  let c0_i32_11560 : BitVec 32 := 0#32
  ![v13061.toNat, 0, 0]

def k0_chk2649 (v13061 : BitVec 32) : Prop :=
  (∀ a, (k0_off2649 v13061) a + S1x16x128.size a ≤ S16384x16x128.size a)
theorem k0_off2649_inb : ∀ (v13061 : BitVec 32) (k0_hw2649 : k0_chk2649 v13061), ∀ a, (k0_off2649 v13061) a + S1x16x128.size a ≤ S16384x16x128.size a := fun v13061 k0_hw2649 => k0_hw2649

def k0_off2650 (v13067 : BitVec 32) : Fin 3 → Nat :=
  let c0_i32_11566 : BitVec 32 := 0#32
  let c0_i32_11567 : BitVec 32 := 0#32
  ![v13067.toNat, 0, 0]

def k0_chk2650 (v13067 : BitVec 32) : Prop :=
  (∀ a, (k0_off2650 v13067) a + S1x16x128.size a ≤ S16384x16x128.size a)
theorem k0_off2650_inb : ∀ (v13067 : BitVec 32) (k0_hw2650 : k0_chk2650 v13067), ∀ a, (k0_off2650 v13067) a + S1x16x128.size a ≤ S16384x16x128.size a := fun v13067 k0_hw2650 => k0_hw2650

def k0_off2651 (v13073 : BitVec 32) : Fin 3 → Nat :=
  let c0_i32_11573 : BitVec 32 := 0#32
  let c0_i32_11574 : BitVec 32 := 0#32
  ![v13073.toNat, 0, 0]

def k0_chk2651 (v13073 : BitVec 32) : Prop :=
  (∀ a, (k0_off2651 v13073) a + S1x16x128.size a ≤ S16384x16x128.size a)
theorem k0_off2651_inb : ∀ (v13073 : BitVec 32) (k0_hw2651 : k0_chk2651 v13073), ∀ a, (k0_off2651 v13073) a + S1x16x128.size a ≤ S16384x16x128.size a := fun v13073 k0_hw2651 => k0_hw2651

def k0_off2652 (v13079 : BitVec 32) : Fin 3 → Nat :=
  let c0_i32_11580 : BitVec 32 := 0#32
  let c0_i32_11581 : BitVec 32 := 0#32
  ![v13079.toNat, 0, 0]

def k0_chk2652 (v13079 : BitVec 32) : Prop :=
  (∀ a, (k0_off2652 v13079) a + S1x16x128.size a ≤ S16384x16x128.size a)
theorem k0_off2652_inb : ∀ (v13079 : BitVec 32) (k0_hw2652 : k0_chk2652 v13079), ∀ a, (k0_off2652 v13079) a + S1x16x128.size a ≤ S16384x16x128.size a := fun v13079 k0_hw2652 => k0_hw2652

def k0_off2653 (v13085 : BitVec 32) : Fin 3 → Nat :=
  let c0_i32_11587 : BitVec 32 := 0#32
  let c0_i32_11588 : BitVec 32 := 0#32
  ![v13085.toNat, 0, 0]

def k0_chk2653 (v13085 : BitVec 32) : Prop :=
  (∀ a, (k0_off2653 v13085) a + S1x16x128.size a ≤ S16384x16x128.size a)
theorem k0_off2653_inb : ∀ (v13085 : BitVec 32) (k0_hw2653 : k0_chk2653 v13085), ∀ a, (k0_off2653 v13085) a + S1x16x128.size a ≤ S16384x16x128.size a := fun v13085 k0_hw2653 => k0_hw2653

def k0_off2654 (v13091 : BitVec 32) : Fin 3 → Nat :=
  let c0_i32_11594 : BitVec 32 := 0#32
  let c0_i32_11595 : BitVec 32 := 0#32
  ![v13091.toNat, 0, 0]

def k0_chk2654 (v13091 : BitVec 32) : Prop :=
  (∀ a, (k0_off2654 v13091) a + S1x16x128.size a ≤ S16384x16x128.size a)
theorem k0_off2654_inb : ∀ (v13091 : BitVec 32) (k0_hw2654 : k0_chk2654 v13091), ∀ a, (k0_off2654 v13091) a + S1x16x128.size a ≤ S16384x16x128.size a := fun v13091 k0_hw2654 => k0_hw2654

def k0_off2655 (v13097 : BitVec 32) : Fin 3 → Nat :=
  let c0_i32_11601 : BitVec 32 := 0#32
  let c0_i32_11602 : BitVec 32 := 0#32
  ![v13097.toNat, 0, 0]

def k0_chk2655 (v13097 : BitVec 32) : Prop :=
  (∀ a, (k0_off2655 v13097) a + S1x16x128.size a ≤ S16384x16x128.size a)
theorem k0_off2655_inb : ∀ (v13097 : BitVec 32) (k0_hw2655 : k0_chk2655 v13097), ∀ a, (k0_off2655 v13097) a + S1x16x128.size a ≤ S16384x16x128.size a := fun v13097 k0_hw2655 => k0_hw2655

def k0_off2656 (v13103 : BitVec 32) : Fin 3 → Nat :=
  let c0_i32_11608 : BitVec 32 := 0#32
  let c0_i32_11609 : BitVec 32 := 0#32
  ![v13103.toNat, 0, 0]

def k0_chk2656 (v13103 : BitVec 32) : Prop :=
  (∀ a, (k0_off2656 v13103) a + S1x16x128.size a ≤ S16384x16x128.size a)
theorem k0_off2656_inb : ∀ (v13103 : BitVec 32) (k0_hw2656 : k0_chk2656 v13103), ∀ a, (k0_off2656 v13103) a + S1x16x128.size a ≤ S16384x16x128.size a := fun v13103 k0_hw2656 => k0_hw2656

def k0_off2657 (v13109 : BitVec 32) : Fin 3 → Nat :=
  let c0_i32_11615 : BitVec 32 := 0#32
  let c0_i32_11616 : BitVec 32 := 0#32
  ![v13109.toNat, 0, 0]

def k0_chk2657 (v13109 : BitVec 32) : Prop :=
  (∀ a, (k0_off2657 v13109) a + S1x16x128.size a ≤ S16384x16x128.size a)
theorem k0_off2657_inb : ∀ (v13109 : BitVec 32) (k0_hw2657 : k0_chk2657 v13109), ∀ a, (k0_off2657 v13109) a + S1x16x128.size a ≤ S16384x16x128.size a := fun v13109 k0_hw2657 => k0_hw2657

def k0_off2658 (v13115 : BitVec 32) : Fin 3 → Nat :=
  let c0_i32_11622 : BitVec 32 := 0#32
  let c0_i32_11623 : BitVec 32 := 0#32
  ![v13115.toNat, 0, 0]

def k0_chk2658 (v13115 : BitVec 32) : Prop :=
  (∀ a, (k0_off2658 v13115) a + S1x16x128.size a ≤ S16384x16x128.size a)
theorem k0_off2658_inb : ∀ (v13115 : BitVec 32) (k0_hw2658 : k0_chk2658 v13115), ∀ a, (k0_off2658 v13115) a + S1x16x128.size a ≤ S16384x16x128.size a := fun v13115 k0_hw2658 => k0_hw2658

def k0_off2659 (v13121 : BitVec 32) : Fin 3 → Nat :=
  let c0_i32_11629 : BitVec 32 := 0#32
  let c0_i32_11630 : BitVec 32 := 0#32
  ![v13121.toNat, 0, 0]

def k0_chk2659 (v13121 : BitVec 32) : Prop :=
  (∀ a, (k0_off2659 v13121) a + S1x16x128.size a ≤ S16384x16x128.size a)
theorem k0_off2659_inb : ∀ (v13121 : BitVec 32) (k0_hw2659 : k0_chk2659 v13121), ∀ a, (k0_off2659 v13121) a + S1x16x128.size a ≤ S16384x16x128.size a := fun v13121 k0_hw2659 => k0_hw2659

def k0_off2660 (v13127 : BitVec 32) : Fin 3 → Nat :=
  let c0_i32_11636 : BitVec 32 := 0#32
  let c0_i32_11637 : BitVec 32 := 0#32
  ![v13127.toNat, 0, 0]

def k0_chk2660 (v13127 : BitVec 32) : Prop :=
  (∀ a, (k0_off2660 v13127) a + S1x16x128.size a ≤ S16384x16x128.size a)
theorem k0_off2660_inb : ∀ (v13127 : BitVec 32) (k0_hw2660 : k0_chk2660 v13127), ∀ a, (k0_off2660 v13127) a + S1x16x128.size a ≤ S16384x16x128.size a := fun v13127 k0_hw2660 => k0_hw2660

def k0_off2661 (v13133 : BitVec 32) : Fin 3 → Nat :=
  let c0_i32_11643 : BitVec 32 := 0#32
  let c0_i32_11644 : BitVec 32 := 0#32
  ![v13133.toNat, 0, 0]

def k0_chk2661 (v13133 : BitVec 32) : Prop :=
  (∀ a, (k0_off2661 v13133) a + S1x16x128.size a ≤ S16384x16x128.size a)
theorem k0_off2661_inb : ∀ (v13133 : BitVec 32) (k0_hw2661 : k0_chk2661 v13133), ∀ a, (k0_off2661 v13133) a + S1x16x128.size a ≤ S16384x16x128.size a := fun v13133 k0_hw2661 => k0_hw2661

def k0_off2662 (v13139 : BitVec 32) : Fin 3 → Nat :=
  let c0_i32_11650 : BitVec 32 := 0#32
  let c0_i32_11651 : BitVec 32 := 0#32
  ![v13139.toNat, 0, 0]

def k0_chk2662 (v13139 : BitVec 32) : Prop :=
  (∀ a, (k0_off2662 v13139) a + S1x16x128.size a ≤ S16384x16x128.size a)
theorem k0_off2662_inb : ∀ (v13139 : BitVec 32) (k0_hw2662 : k0_chk2662 v13139), ∀ a, (k0_off2662 v13139) a + S1x16x128.size a ≤ S16384x16x128.size a := fun v13139 k0_hw2662 => k0_hw2662

def k0_off2663 (v13145 : BitVec 32) : Fin 3 → Nat :=
  let c0_i32_11657 : BitVec 32 := 0#32
  let c0_i32_11658 : BitVec 32 := 0#32
  ![v13145.toNat, 0, 0]

def k0_chk2663 (v13145 : BitVec 32) : Prop :=
  (∀ a, (k0_off2663 v13145) a + S1x16x128.size a ≤ S16384x16x128.size a)
theorem k0_off2663_inb : ∀ (v13145 : BitVec 32) (k0_hw2663 : k0_chk2663 v13145), ∀ a, (k0_off2663 v13145) a + S1x16x128.size a ≤ S16384x16x128.size a := fun v13145 k0_hw2663 => k0_hw2663

def k0_off2664 (v13151 : BitVec 32) : Fin 3 → Nat :=
  let c0_i32_11664 : BitVec 32 := 0#32
  let c0_i32_11665 : BitVec 32 := 0#32
  ![v13151.toNat, 0, 0]

def k0_chk2664 (v13151 : BitVec 32) : Prop :=
  (∀ a, (k0_off2664 v13151) a + S1x16x128.size a ≤ S16384x16x128.size a)
theorem k0_off2664_inb : ∀ (v13151 : BitVec 32) (k0_hw2664 : k0_chk2664 v13151), ∀ a, (k0_off2664 v13151) a + S1x16x128.size a ≤ S16384x16x128.size a := fun v13151 k0_hw2664 => k0_hw2664

def k0_off2665 (v13157 : BitVec 32) : Fin 3 → Nat :=
  let c0_i32_11671 : BitVec 32 := 0#32
  let c0_i32_11672 : BitVec 32 := 0#32
  ![v13157.toNat, 0, 0]

def k0_chk2665 (v13157 : BitVec 32) : Prop :=
  (∀ a, (k0_off2665 v13157) a + S1x16x128.size a ≤ S16384x16x128.size a)
theorem k0_off2665_inb : ∀ (v13157 : BitVec 32) (k0_hw2665 : k0_chk2665 v13157), ∀ a, (k0_off2665 v13157) a + S1x16x128.size a ≤ S16384x16x128.size a := fun v13157 k0_hw2665 => k0_hw2665

def k0_off2666 (v13163 : BitVec 32) : Fin 3 → Nat :=
  let c0_i32_11678 : BitVec 32 := 0#32
  let c0_i32_11679 : BitVec 32 := 0#32
  ![v13163.toNat, 0, 0]

def k0_chk2666 (v13163 : BitVec 32) : Prop :=
  (∀ a, (k0_off2666 v13163) a + S1x16x128.size a ≤ S16384x16x128.size a)
theorem k0_off2666_inb : ∀ (v13163 : BitVec 32) (k0_hw2666 : k0_chk2666 v13163), ∀ a, (k0_off2666 v13163) a + S1x16x128.size a ≤ S16384x16x128.size a := fun v13163 k0_hw2666 => k0_hw2666

def k0_off2667 (v13169 : BitVec 32) : Fin 3 → Nat :=
  let c0_i32_11685 : BitVec 32 := 0#32
  let c0_i32_11686 : BitVec 32 := 0#32
  ![v13169.toNat, 0, 0]

def k0_chk2667 (v13169 : BitVec 32) : Prop :=
  (∀ a, (k0_off2667 v13169) a + S1x16x128.size a ≤ S16384x16x128.size a)
theorem k0_off2667_inb : ∀ (v13169 : BitVec 32) (k0_hw2667 : k0_chk2667 v13169), ∀ a, (k0_off2667 v13169) a + S1x16x128.size a ≤ S16384x16x128.size a := fun v13169 k0_hw2667 => k0_hw2667

def k0_off2668 (v13175 : BitVec 32) : Fin 3 → Nat :=
  let c0_i32_11692 : BitVec 32 := 0#32
  let c0_i32_11693 : BitVec 32 := 0#32
  ![v13175.toNat, 0, 0]

def k0_chk2668 (v13175 : BitVec 32) : Prop :=
  (∀ a, (k0_off2668 v13175) a + S1x16x128.size a ≤ S16384x16x128.size a)
theorem k0_off2668_inb : ∀ (v13175 : BitVec 32) (k0_hw2668 : k0_chk2668 v13175), ∀ a, (k0_off2668 v13175) a + S1x16x128.size a ≤ S16384x16x128.size a := fun v13175 k0_hw2668 => k0_hw2668

def k0_off2669 (v13181 : BitVec 32) : Fin 3 → Nat :=
  let c0_i32_11699 : BitVec 32 := 0#32
  let c0_i32_11700 : BitVec 32 := 0#32
  ![v13181.toNat, 0, 0]

def k0_chk2669 (v13181 : BitVec 32) : Prop :=
  (∀ a, (k0_off2669 v13181) a + S1x16x128.size a ≤ S16384x16x128.size a)
theorem k0_off2669_inb : ∀ (v13181 : BitVec 32) (k0_hw2669 : k0_chk2669 v13181), ∀ a, (k0_off2669 v13181) a + S1x16x128.size a ≤ S16384x16x128.size a := fun v13181 k0_hw2669 => k0_hw2669

def k0_off2670 (v13187 : BitVec 32) : Fin 3 → Nat :=
  let c0_i32_11706 : BitVec 32 := 0#32
  let c0_i32_11707 : BitVec 32 := 0#32
  ![v13187.toNat, 0, 0]

def k0_chk2670 (v13187 : BitVec 32) : Prop :=
  (∀ a, (k0_off2670 v13187) a + S1x16x128.size a ≤ S16384x16x128.size a)
theorem k0_off2670_inb : ∀ (v13187 : BitVec 32) (k0_hw2670 : k0_chk2670 v13187), ∀ a, (k0_off2670 v13187) a + S1x16x128.size a ≤ S16384x16x128.size a := fun v13187 k0_hw2670 => k0_hw2670

def k0_off2671 (v13193 : BitVec 32) : Fin 3 → Nat :=
  let c0_i32_11713 : BitVec 32 := 0#32
  let c0_i32_11714 : BitVec 32 := 0#32
  ![v13193.toNat, 0, 0]

def k0_chk2671 (v13193 : BitVec 32) : Prop :=
  (∀ a, (k0_off2671 v13193) a + S1x16x128.size a ≤ S16384x16x128.size a)
theorem k0_off2671_inb : ∀ (v13193 : BitVec 32) (k0_hw2671 : k0_chk2671 v13193), ∀ a, (k0_off2671 v13193) a + S1x16x128.size a ≤ S16384x16x128.size a := fun v13193 k0_hw2671 => k0_hw2671

def k0_off2672 (v13199 : BitVec 32) : Fin 3 → Nat :=
  let c0_i32_11720 : BitVec 32 := 0#32
  let c0_i32_11721 : BitVec 32 := 0#32
  ![v13199.toNat, 0, 0]

def k0_chk2672 (v13199 : BitVec 32) : Prop :=
  (∀ a, (k0_off2672 v13199) a + S1x16x128.size a ≤ S16384x16x128.size a)
theorem k0_off2672_inb : ∀ (v13199 : BitVec 32) (k0_hw2672 : k0_chk2672 v13199), ∀ a, (k0_off2672 v13199) a + S1x16x128.size a ≤ S16384x16x128.size a := fun v13199 k0_hw2672 => k0_hw2672

def k0_off2673 (v13205 : BitVec 32) : Fin 3 → Nat :=
  let c0_i32_11727 : BitVec 32 := 0#32
  let c0_i32_11728 : BitVec 32 := 0#32
  ![v13205.toNat, 0, 0]

def k0_chk2673 (v13205 : BitVec 32) : Prop :=
  (∀ a, (k0_off2673 v13205) a + S1x16x128.size a ≤ S16384x16x128.size a)
theorem k0_off2673_inb : ∀ (v13205 : BitVec 32) (k0_hw2673 : k0_chk2673 v13205), ∀ a, (k0_off2673 v13205) a + S1x16x128.size a ≤ S16384x16x128.size a := fun v13205 k0_hw2673 => k0_hw2673

def k0_off2674 (v13211 : BitVec 32) : Fin 3 → Nat :=
  let c0_i32_11734 : BitVec 32 := 0#32
  let c0_i32_11735 : BitVec 32 := 0#32
  ![v13211.toNat, 0, 0]

def k0_chk2674 (v13211 : BitVec 32) : Prop :=
  (∀ a, (k0_off2674 v13211) a + S1x16x128.size a ≤ S16384x16x128.size a)
theorem k0_off2674_inb : ∀ (v13211 : BitVec 32) (k0_hw2674 : k0_chk2674 v13211), ∀ a, (k0_off2674 v13211) a + S1x16x128.size a ≤ S16384x16x128.size a := fun v13211 k0_hw2674 => k0_hw2674

def k0_off2675 (v13217 : BitVec 32) : Fin 3 → Nat :=
  let c0_i32_11741 : BitVec 32 := 0#32
  let c0_i32_11742 : BitVec 32 := 0#32
  ![v13217.toNat, 0, 0]

def k0_chk2675 (v13217 : BitVec 32) : Prop :=
  (∀ a, (k0_off2675 v13217) a + S1x16x128.size a ≤ S16384x16x128.size a)
theorem k0_off2675_inb : ∀ (v13217 : BitVec 32) (k0_hw2675 : k0_chk2675 v13217), ∀ a, (k0_off2675 v13217) a + S1x16x128.size a ≤ S16384x16x128.size a := fun v13217 k0_hw2675 => k0_hw2675

def k0_off2676 (v13223 : BitVec 32) : Fin 3 → Nat :=
  let c0_i32_11748 : BitVec 32 := 0#32
  let c0_i32_11749 : BitVec 32 := 0#32
  ![v13223.toNat, 0, 0]

def k0_chk2676 (v13223 : BitVec 32) : Prop :=
  (∀ a, (k0_off2676 v13223) a + S1x16x128.size a ≤ S16384x16x128.size a)
theorem k0_off2676_inb : ∀ (v13223 : BitVec 32) (k0_hw2676 : k0_chk2676 v13223), ∀ a, (k0_off2676 v13223) a + S1x16x128.size a ≤ S16384x16x128.size a := fun v13223 k0_hw2676 => k0_hw2676

def k0_off2677 (v13229 : BitVec 32) : Fin 3 → Nat :=
  let c0_i32_11755 : BitVec 32 := 0#32
  let c0_i32_11756 : BitVec 32 := 0#32
  ![v13229.toNat, 0, 0]

def k0_chk2677 (v13229 : BitVec 32) : Prop :=
  (∀ a, (k0_off2677 v13229) a + S1x16x128.size a ≤ S16384x16x128.size a)
theorem k0_off2677_inb : ∀ (v13229 : BitVec 32) (k0_hw2677 : k0_chk2677 v13229), ∀ a, (k0_off2677 v13229) a + S1x16x128.size a ≤ S16384x16x128.size a := fun v13229 k0_hw2677 => k0_hw2677

def k0_off2678 (v13235 : BitVec 32) : Fin 3 → Nat :=
  let c0_i32_11762 : BitVec 32 := 0#32
  let c0_i32_11763 : BitVec 32 := 0#32
  ![v13235.toNat, 0, 0]

def k0_chk2678 (v13235 : BitVec 32) : Prop :=
  (∀ a, (k0_off2678 v13235) a + S1x16x128.size a ≤ S16384x16x128.size a)
theorem k0_off2678_inb : ∀ (v13235 : BitVec 32) (k0_hw2678 : k0_chk2678 v13235), ∀ a, (k0_off2678 v13235) a + S1x16x128.size a ≤ S16384x16x128.size a := fun v13235 k0_hw2678 => k0_hw2678

def k0_off2679 (v13241 : BitVec 32) : Fin 3 → Nat :=
  let c0_i32_11769 : BitVec 32 := 0#32
  let c0_i32_11770 : BitVec 32 := 0#32
  ![v13241.toNat, 0, 0]

def k0_chk2679 (v13241 : BitVec 32) : Prop :=
  (∀ a, (k0_off2679 v13241) a + S1x16x128.size a ≤ S16384x16x128.size a)
theorem k0_off2679_inb : ∀ (v13241 : BitVec 32) (k0_hw2679 : k0_chk2679 v13241), ∀ a, (k0_off2679 v13241) a + S1x16x128.size a ≤ S16384x16x128.size a := fun v13241 k0_hw2679 => k0_hw2679

def k0_off2680 (v13247 : BitVec 32) : Fin 3 → Nat :=
  let c0_i32_11776 : BitVec 32 := 0#32
  let c0_i32_11777 : BitVec 32 := 0#32
  ![v13247.toNat, 0, 0]

def k0_chk2680 (v13247 : BitVec 32) : Prop :=
  (∀ a, (k0_off2680 v13247) a + S1x16x128.size a ≤ S16384x16x128.size a)
theorem k0_off2680_inb : ∀ (v13247 : BitVec 32) (k0_hw2680 : k0_chk2680 v13247), ∀ a, (k0_off2680 v13247) a + S1x16x128.size a ≤ S16384x16x128.size a := fun v13247 k0_hw2680 => k0_hw2680

def k0_off2681 (v13253 : BitVec 32) : Fin 3 → Nat :=
  let c0_i32_11783 : BitVec 32 := 0#32
  let c0_i32_11784 : BitVec 32 := 0#32
  ![v13253.toNat, 0, 0]

def k0_chk2681 (v13253 : BitVec 32) : Prop :=
  (∀ a, (k0_off2681 v13253) a + S1x16x128.size a ≤ S16384x16x128.size a)
theorem k0_off2681_inb : ∀ (v13253 : BitVec 32) (k0_hw2681 : k0_chk2681 v13253), ∀ a, (k0_off2681 v13253) a + S1x16x128.size a ≤ S16384x16x128.size a := fun v13253 k0_hw2681 => k0_hw2681

def k0_off2682 (v13259 : BitVec 32) : Fin 3 → Nat :=
  let c0_i32_11790 : BitVec 32 := 0#32
  let c0_i32_11791 : BitVec 32 := 0#32
  ![v13259.toNat, 0, 0]

def k0_chk2682 (v13259 : BitVec 32) : Prop :=
  (∀ a, (k0_off2682 v13259) a + S1x16x128.size a ≤ S16384x16x128.size a)
theorem k0_off2682_inb : ∀ (v13259 : BitVec 32) (k0_hw2682 : k0_chk2682 v13259), ∀ a, (k0_off2682 v13259) a + S1x16x128.size a ≤ S16384x16x128.size a := fun v13259 k0_hw2682 => k0_hw2682

def k0_off2683 (v13265 : BitVec 32) : Fin 3 → Nat :=
  let c0_i32_11797 : BitVec 32 := 0#32
  let c0_i32_11798 : BitVec 32 := 0#32
  ![v13265.toNat, 0, 0]

def k0_chk2683 (v13265 : BitVec 32) : Prop :=
  (∀ a, (k0_off2683 v13265) a + S1x16x128.size a ≤ S16384x16x128.size a)
theorem k0_off2683_inb : ∀ (v13265 : BitVec 32) (k0_hw2683 : k0_chk2683 v13265), ∀ a, (k0_off2683 v13265) a + S1x16x128.size a ≤ S16384x16x128.size a := fun v13265 k0_hw2683 => k0_hw2683

def k0_off2684 (v13271 : BitVec 32) : Fin 3 → Nat :=
  let c0_i32_11804 : BitVec 32 := 0#32
  let c0_i32_11805 : BitVec 32 := 0#32
  ![v13271.toNat, 0, 0]

def k0_chk2684 (v13271 : BitVec 32) : Prop :=
  (∀ a, (k0_off2684 v13271) a + S1x16x128.size a ≤ S16384x16x128.size a)
theorem k0_off2684_inb : ∀ (v13271 : BitVec 32) (k0_hw2684 : k0_chk2684 v13271), ∀ a, (k0_off2684 v13271) a + S1x16x128.size a ≤ S16384x16x128.size a := fun v13271 k0_hw2684 => k0_hw2684

def k0_off2685 (v13277 : BitVec 32) : Fin 3 → Nat :=
  let c0_i32_11811 : BitVec 32 := 0#32
  let c0_i32_11812 : BitVec 32 := 0#32
  ![v13277.toNat, 0, 0]

def k0_chk2685 (v13277 : BitVec 32) : Prop :=
  (∀ a, (k0_off2685 v13277) a + S1x16x128.size a ≤ S16384x16x128.size a)
theorem k0_off2685_inb : ∀ (v13277 : BitVec 32) (k0_hw2685 : k0_chk2685 v13277), ∀ a, (k0_off2685 v13277) a + S1x16x128.size a ≤ S16384x16x128.size a := fun v13277 k0_hw2685 => k0_hw2685

def k0_off2686 (v13283 : BitVec 32) : Fin 3 → Nat :=
  let c0_i32_11818 : BitVec 32 := 0#32
  let c0_i32_11819 : BitVec 32 := 0#32
  ![v13283.toNat, 0, 0]

def k0_chk2686 (v13283 : BitVec 32) : Prop :=
  (∀ a, (k0_off2686 v13283) a + S1x16x128.size a ≤ S16384x16x128.size a)
theorem k0_off2686_inb : ∀ (v13283 : BitVec 32) (k0_hw2686 : k0_chk2686 v13283), ∀ a, (k0_off2686 v13283) a + S1x16x128.size a ≤ S16384x16x128.size a := fun v13283 k0_hw2686 => k0_hw2686

def k0_off2687 (v13289 : BitVec 32) : Fin 3 → Nat :=
  let c0_i32_11825 : BitVec 32 := 0#32
  let c0_i32_11826 : BitVec 32 := 0#32
  ![v13289.toNat, 0, 0]

def k0_chk2687 (v13289 : BitVec 32) : Prop :=
  (∀ a, (k0_off2687 v13289) a + S1x16x128.size a ≤ S16384x16x128.size a)
theorem k0_off2687_inb : ∀ (v13289 : BitVec 32) (k0_hw2687 : k0_chk2687 v13289), ∀ a, (k0_off2687 v13289) a + S1x16x128.size a ≤ S16384x16x128.size a := fun v13289 k0_hw2687 => k0_hw2687

def k0_off2688 (v13295 : BitVec 32) : Fin 3 → Nat :=
  let c0_i32_11832 : BitVec 32 := 0#32
  let c0_i32_11833 : BitVec 32 := 0#32
  ![v13295.toNat, 0, 0]

def k0_chk2688 (v13295 : BitVec 32) : Prop :=
  (∀ a, (k0_off2688 v13295) a + S1x16x128.size a ≤ S16384x16x128.size a)
theorem k0_off2688_inb : ∀ (v13295 : BitVec 32) (k0_hw2688 : k0_chk2688 v13295), ∀ a, (k0_off2688 v13295) a + S1x16x128.size a ≤ S16384x16x128.size a := fun v13295 k0_hw2688 => k0_hw2688

def k0_off2689 (v13574 : BitVec 32) : Fin 3 → Nat :=
  let c0_i32_11957 : BitVec 32 := 0#32
  let c0_i32_11958 : BitVec 32 := 0#32
  ![v13574.toNat, 0, 0]

def k0_chk2689 (v13574 : BitVec 32) : Prop :=
  (∀ a, (k0_off2689 v13574) a + S1x16x128.size a ≤ S16384x16x128.size a)
theorem k0_off2689_inb : ∀ (v13574 : BitVec 32) (k0_hw2689 : k0_chk2689 v13574), ∀ a, (k0_off2689 v13574) a + S1x16x128.size a ≤ S16384x16x128.size a := fun v13574 k0_hw2689 => k0_hw2689

def k0_off2690 (v13580 : BitVec 32) : Fin 3 → Nat :=
  let c0_i32_11964 : BitVec 32 := 0#32
  let c0_i32_11965 : BitVec 32 := 0#32
  ![v13580.toNat, 0, 0]

def k0_chk2690 (v13580 : BitVec 32) : Prop :=
  (∀ a, (k0_off2690 v13580) a + S1x16x128.size a ≤ S16384x16x128.size a)
theorem k0_off2690_inb : ∀ (v13580 : BitVec 32) (k0_hw2690 : k0_chk2690 v13580), ∀ a, (k0_off2690 v13580) a + S1x16x128.size a ≤ S16384x16x128.size a := fun v13580 k0_hw2690 => k0_hw2690

def k0_off2691 (v13586 : BitVec 32) : Fin 3 → Nat :=
  let c0_i32_11971 : BitVec 32 := 0#32
  let c0_i32_11972 : BitVec 32 := 0#32
  ![v13586.toNat, 0, 0]

def k0_chk2691 (v13586 : BitVec 32) : Prop :=
  (∀ a, (k0_off2691 v13586) a + S1x16x128.size a ≤ S16384x16x128.size a)
theorem k0_off2691_inb : ∀ (v13586 : BitVec 32) (k0_hw2691 : k0_chk2691 v13586), ∀ a, (k0_off2691 v13586) a + S1x16x128.size a ≤ S16384x16x128.size a := fun v13586 k0_hw2691 => k0_hw2691

def k0_off2692 (v13592 : BitVec 32) : Fin 3 → Nat :=
  let c0_i32_11978 : BitVec 32 := 0#32
  let c0_i32_11979 : BitVec 32 := 0#32
  ![v13592.toNat, 0, 0]

def k0_chk2692 (v13592 : BitVec 32) : Prop :=
  (∀ a, (k0_off2692 v13592) a + S1x16x128.size a ≤ S16384x16x128.size a)
theorem k0_off2692_inb : ∀ (v13592 : BitVec 32) (k0_hw2692 : k0_chk2692 v13592), ∀ a, (k0_off2692 v13592) a + S1x16x128.size a ≤ S16384x16x128.size a := fun v13592 k0_hw2692 => k0_hw2692

def k0_off2693 (v13598 : BitVec 32) : Fin 3 → Nat :=
  let c0_i32_11985 : BitVec 32 := 0#32
  let c0_i32_11986 : BitVec 32 := 0#32
  ![v13598.toNat, 0, 0]

def k0_chk2693 (v13598 : BitVec 32) : Prop :=
  (∀ a, (k0_off2693 v13598) a + S1x16x128.size a ≤ S16384x16x128.size a)
theorem k0_off2693_inb : ∀ (v13598 : BitVec 32) (k0_hw2693 : k0_chk2693 v13598), ∀ a, (k0_off2693 v13598) a + S1x16x128.size a ≤ S16384x16x128.size a := fun v13598 k0_hw2693 => k0_hw2693

def k0_off2694 (v13604 : BitVec 32) : Fin 3 → Nat :=
  let c0_i32_11992 : BitVec 32 := 0#32
  let c0_i32_11993 : BitVec 32 := 0#32
  ![v13604.toNat, 0, 0]

def k0_chk2694 (v13604 : BitVec 32) : Prop :=
  (∀ a, (k0_off2694 v13604) a + S1x16x128.size a ≤ S16384x16x128.size a)
theorem k0_off2694_inb : ∀ (v13604 : BitVec 32) (k0_hw2694 : k0_chk2694 v13604), ∀ a, (k0_off2694 v13604) a + S1x16x128.size a ≤ S16384x16x128.size a := fun v13604 k0_hw2694 => k0_hw2694

def k0_off2695 (v13610 : BitVec 32) : Fin 3 → Nat :=
  let c0_i32_11999 : BitVec 32 := 0#32
  let c0_i32_12000 : BitVec 32 := 0#32
  ![v13610.toNat, 0, 0]

def k0_chk2695 (v13610 : BitVec 32) : Prop :=
  (∀ a, (k0_off2695 v13610) a + S1x16x128.size a ≤ S16384x16x128.size a)
theorem k0_off2695_inb : ∀ (v13610 : BitVec 32) (k0_hw2695 : k0_chk2695 v13610), ∀ a, (k0_off2695 v13610) a + S1x16x128.size a ≤ S16384x16x128.size a := fun v13610 k0_hw2695 => k0_hw2695

def k0_off2696 (v13616 : BitVec 32) : Fin 3 → Nat :=
  let c0_i32_12006 : BitVec 32 := 0#32
  let c0_i32_12007 : BitVec 32 := 0#32
  ![v13616.toNat, 0, 0]

def k0_chk2696 (v13616 : BitVec 32) : Prop :=
  (∀ a, (k0_off2696 v13616) a + S1x16x128.size a ≤ S16384x16x128.size a)
theorem k0_off2696_inb : ∀ (v13616 : BitVec 32) (k0_hw2696 : k0_chk2696 v13616), ∀ a, (k0_off2696 v13616) a + S1x16x128.size a ≤ S16384x16x128.size a := fun v13616 k0_hw2696 => k0_hw2696

def k0_off2697 (v13622 : BitVec 32) : Fin 3 → Nat :=
  let c0_i32_12013 : BitVec 32 := 0#32
  let c0_i32_12014 : BitVec 32 := 0#32
  ![v13622.toNat, 0, 0]

def k0_chk2697 (v13622 : BitVec 32) : Prop :=
  (∀ a, (k0_off2697 v13622) a + S1x16x128.size a ≤ S16384x16x128.size a)
theorem k0_off2697_inb : ∀ (v13622 : BitVec 32) (k0_hw2697 : k0_chk2697 v13622), ∀ a, (k0_off2697 v13622) a + S1x16x128.size a ≤ S16384x16x128.size a := fun v13622 k0_hw2697 => k0_hw2697

def k0_off2698 (v13628 : BitVec 32) : Fin 3 → Nat :=
  let c0_i32_12020 : BitVec 32 := 0#32
  let c0_i32_12021 : BitVec 32 := 0#32
  ![v13628.toNat, 0, 0]

def k0_chk2698 (v13628 : BitVec 32) : Prop :=
  (∀ a, (k0_off2698 v13628) a + S1x16x128.size a ≤ S16384x16x128.size a)
theorem k0_off2698_inb : ∀ (v13628 : BitVec 32) (k0_hw2698 : k0_chk2698 v13628), ∀ a, (k0_off2698 v13628) a + S1x16x128.size a ≤ S16384x16x128.size a := fun v13628 k0_hw2698 => k0_hw2698

def k0_off2699 (v13634 : BitVec 32) : Fin 3 → Nat :=
  let c0_i32_12027 : BitVec 32 := 0#32
  let c0_i32_12028 : BitVec 32 := 0#32
  ![v13634.toNat, 0, 0]

def k0_chk2699 (v13634 : BitVec 32) : Prop :=
  (∀ a, (k0_off2699 v13634) a + S1x16x128.size a ≤ S16384x16x128.size a)
theorem k0_off2699_inb : ∀ (v13634 : BitVec 32) (k0_hw2699 : k0_chk2699 v13634), ∀ a, (k0_off2699 v13634) a + S1x16x128.size a ≤ S16384x16x128.size a := fun v13634 k0_hw2699 => k0_hw2699

def k0_off2700 (v13640 : BitVec 32) : Fin 3 → Nat :=
  let c0_i32_12034 : BitVec 32 := 0#32
  let c0_i32_12035 : BitVec 32 := 0#32
  ![v13640.toNat, 0, 0]

def k0_chk2700 (v13640 : BitVec 32) : Prop :=
  (∀ a, (k0_off2700 v13640) a + S1x16x128.size a ≤ S16384x16x128.size a)
theorem k0_off2700_inb : ∀ (v13640 : BitVec 32) (k0_hw2700 : k0_chk2700 v13640), ∀ a, (k0_off2700 v13640) a + S1x16x128.size a ≤ S16384x16x128.size a := fun v13640 k0_hw2700 => k0_hw2700

def k0_off2701 (v13646 : BitVec 32) : Fin 3 → Nat :=
  let c0_i32_12041 : BitVec 32 := 0#32
  let c0_i32_12042 : BitVec 32 := 0#32
  ![v13646.toNat, 0, 0]

def k0_chk2701 (v13646 : BitVec 32) : Prop :=
  (∀ a, (k0_off2701 v13646) a + S1x16x128.size a ≤ S16384x16x128.size a)
theorem k0_off2701_inb : ∀ (v13646 : BitVec 32) (k0_hw2701 : k0_chk2701 v13646), ∀ a, (k0_off2701 v13646) a + S1x16x128.size a ≤ S16384x16x128.size a := fun v13646 k0_hw2701 => k0_hw2701

def k0_off2702 (v13652 : BitVec 32) : Fin 3 → Nat :=
  let c0_i32_12048 : BitVec 32 := 0#32
  let c0_i32_12049 : BitVec 32 := 0#32
  ![v13652.toNat, 0, 0]

def k0_chk2702 (v13652 : BitVec 32) : Prop :=
  (∀ a, (k0_off2702 v13652) a + S1x16x128.size a ≤ S16384x16x128.size a)
theorem k0_off2702_inb : ∀ (v13652 : BitVec 32) (k0_hw2702 : k0_chk2702 v13652), ∀ a, (k0_off2702 v13652) a + S1x16x128.size a ≤ S16384x16x128.size a := fun v13652 k0_hw2702 => k0_hw2702

def k0_off2703 (v13658 : BitVec 32) : Fin 3 → Nat :=
  let c0_i32_12055 : BitVec 32 := 0#32
  let c0_i32_12056 : BitVec 32 := 0#32
  ![v13658.toNat, 0, 0]

def k0_chk2703 (v13658 : BitVec 32) : Prop :=
  (∀ a, (k0_off2703 v13658) a + S1x16x128.size a ≤ S16384x16x128.size a)
theorem k0_off2703_inb : ∀ (v13658 : BitVec 32) (k0_hw2703 : k0_chk2703 v13658), ∀ a, (k0_off2703 v13658) a + S1x16x128.size a ≤ S16384x16x128.size a := fun v13658 k0_hw2703 => k0_hw2703

def k0_off2704 (v13664 : BitVec 32) : Fin 3 → Nat :=
  let c0_i32_12062 : BitVec 32 := 0#32
  let c0_i32_12063 : BitVec 32 := 0#32
  ![v13664.toNat, 0, 0]

def k0_chk2704 (v13664 : BitVec 32) : Prop :=
  (∀ a, (k0_off2704 v13664) a + S1x16x128.size a ≤ S16384x16x128.size a)
theorem k0_off2704_inb : ∀ (v13664 : BitVec 32) (k0_hw2704 : k0_chk2704 v13664), ∀ a, (k0_off2704 v13664) a + S1x16x128.size a ≤ S16384x16x128.size a := fun v13664 k0_hw2704 => k0_hw2704

def k0_off2705 (v13670 : BitVec 32) : Fin 3 → Nat :=
  let c0_i32_12069 : BitVec 32 := 0#32
  let c0_i32_12070 : BitVec 32 := 0#32
  ![v13670.toNat, 0, 0]

def k0_chk2705 (v13670 : BitVec 32) : Prop :=
  (∀ a, (k0_off2705 v13670) a + S1x16x128.size a ≤ S16384x16x128.size a)
theorem k0_off2705_inb : ∀ (v13670 : BitVec 32) (k0_hw2705 : k0_chk2705 v13670), ∀ a, (k0_off2705 v13670) a + S1x16x128.size a ≤ S16384x16x128.size a := fun v13670 k0_hw2705 => k0_hw2705

def k0_off2706 (v13676 : BitVec 32) : Fin 3 → Nat :=
  let c0_i32_12076 : BitVec 32 := 0#32
  let c0_i32_12077 : BitVec 32 := 0#32
  ![v13676.toNat, 0, 0]

def k0_chk2706 (v13676 : BitVec 32) : Prop :=
  (∀ a, (k0_off2706 v13676) a + S1x16x128.size a ≤ S16384x16x128.size a)
theorem k0_off2706_inb : ∀ (v13676 : BitVec 32) (k0_hw2706 : k0_chk2706 v13676), ∀ a, (k0_off2706 v13676) a + S1x16x128.size a ≤ S16384x16x128.size a := fun v13676 k0_hw2706 => k0_hw2706

def k0_off2707 (v13682 : BitVec 32) : Fin 3 → Nat :=
  let c0_i32_12083 : BitVec 32 := 0#32
  let c0_i32_12084 : BitVec 32 := 0#32
  ![v13682.toNat, 0, 0]

def k0_chk2707 (v13682 : BitVec 32) : Prop :=
  (∀ a, (k0_off2707 v13682) a + S1x16x128.size a ≤ S16384x16x128.size a)
theorem k0_off2707_inb : ∀ (v13682 : BitVec 32) (k0_hw2707 : k0_chk2707 v13682), ∀ a, (k0_off2707 v13682) a + S1x16x128.size a ≤ S16384x16x128.size a := fun v13682 k0_hw2707 => k0_hw2707

def k0_off2708 (v13688 : BitVec 32) : Fin 3 → Nat :=
  let c0_i32_12090 : BitVec 32 := 0#32
  let c0_i32_12091 : BitVec 32 := 0#32
  ![v13688.toNat, 0, 0]

def k0_chk2708 (v13688 : BitVec 32) : Prop :=
  (∀ a, (k0_off2708 v13688) a + S1x16x128.size a ≤ S16384x16x128.size a)
theorem k0_off2708_inb : ∀ (v13688 : BitVec 32) (k0_hw2708 : k0_chk2708 v13688), ∀ a, (k0_off2708 v13688) a + S1x16x128.size a ≤ S16384x16x128.size a := fun v13688 k0_hw2708 => k0_hw2708

def k0_off2709 (v13694 : BitVec 32) : Fin 3 → Nat :=
  let c0_i32_12097 : BitVec 32 := 0#32
  let c0_i32_12098 : BitVec 32 := 0#32
  ![v13694.toNat, 0, 0]

def k0_chk2709 (v13694 : BitVec 32) : Prop :=
  (∀ a, (k0_off2709 v13694) a + S1x16x128.size a ≤ S16384x16x128.size a)
theorem k0_off2709_inb : ∀ (v13694 : BitVec 32) (k0_hw2709 : k0_chk2709 v13694), ∀ a, (k0_off2709 v13694) a + S1x16x128.size a ≤ S16384x16x128.size a := fun v13694 k0_hw2709 => k0_hw2709

def k0_off2710 (v13700 : BitVec 32) : Fin 3 → Nat :=
  let c0_i32_12104 : BitVec 32 := 0#32
  let c0_i32_12105 : BitVec 32 := 0#32
  ![v13700.toNat, 0, 0]

def k0_chk2710 (v13700 : BitVec 32) : Prop :=
  (∀ a, (k0_off2710 v13700) a + S1x16x128.size a ≤ S16384x16x128.size a)
theorem k0_off2710_inb : ∀ (v13700 : BitVec 32) (k0_hw2710 : k0_chk2710 v13700), ∀ a, (k0_off2710 v13700) a + S1x16x128.size a ≤ S16384x16x128.size a := fun v13700 k0_hw2710 => k0_hw2710

def k0_off2711 (v13706 : BitVec 32) : Fin 3 → Nat :=
  let c0_i32_12111 : BitVec 32 := 0#32
  let c0_i32_12112 : BitVec 32 := 0#32
  ![v13706.toNat, 0, 0]

def k0_chk2711 (v13706 : BitVec 32) : Prop :=
  (∀ a, (k0_off2711 v13706) a + S1x16x128.size a ≤ S16384x16x128.size a)
theorem k0_off2711_inb : ∀ (v13706 : BitVec 32) (k0_hw2711 : k0_chk2711 v13706), ∀ a, (k0_off2711 v13706) a + S1x16x128.size a ≤ S16384x16x128.size a := fun v13706 k0_hw2711 => k0_hw2711

def k0_off2712 (v13712 : BitVec 32) : Fin 3 → Nat :=
  let c0_i32_12118 : BitVec 32 := 0#32
  let c0_i32_12119 : BitVec 32 := 0#32
  ![v13712.toNat, 0, 0]

def k0_chk2712 (v13712 : BitVec 32) : Prop :=
  (∀ a, (k0_off2712 v13712) a + S1x16x128.size a ≤ S16384x16x128.size a)
theorem k0_off2712_inb : ∀ (v13712 : BitVec 32) (k0_hw2712 : k0_chk2712 v13712), ∀ a, (k0_off2712 v13712) a + S1x16x128.size a ≤ S16384x16x128.size a := fun v13712 k0_hw2712 => k0_hw2712

def k0_off2713 (v13718 : BitVec 32) : Fin 3 → Nat :=
  let c0_i32_12125 : BitVec 32 := 0#32
  let c0_i32_12126 : BitVec 32 := 0#32
  ![v13718.toNat, 0, 0]

def k0_chk2713 (v13718 : BitVec 32) : Prop :=
  (∀ a, (k0_off2713 v13718) a + S1x16x128.size a ≤ S16384x16x128.size a)
theorem k0_off2713_inb : ∀ (v13718 : BitVec 32) (k0_hw2713 : k0_chk2713 v13718), ∀ a, (k0_off2713 v13718) a + S1x16x128.size a ≤ S16384x16x128.size a := fun v13718 k0_hw2713 => k0_hw2713

def k0_off2714 (v13724 : BitVec 32) : Fin 3 → Nat :=
  let c0_i32_12132 : BitVec 32 := 0#32
  let c0_i32_12133 : BitVec 32 := 0#32
  ![v13724.toNat, 0, 0]

def k0_chk2714 (v13724 : BitVec 32) : Prop :=
  (∀ a, (k0_off2714 v13724) a + S1x16x128.size a ≤ S16384x16x128.size a)
theorem k0_off2714_inb : ∀ (v13724 : BitVec 32) (k0_hw2714 : k0_chk2714 v13724), ∀ a, (k0_off2714 v13724) a + S1x16x128.size a ≤ S16384x16x128.size a := fun v13724 k0_hw2714 => k0_hw2714

def k0_off2715 (v13730 : BitVec 32) : Fin 3 → Nat :=
  let c0_i32_12139 : BitVec 32 := 0#32
  let c0_i32_12140 : BitVec 32 := 0#32
  ![v13730.toNat, 0, 0]

def k0_chk2715 (v13730 : BitVec 32) : Prop :=
  (∀ a, (k0_off2715 v13730) a + S1x16x128.size a ≤ S16384x16x128.size a)
theorem k0_off2715_inb : ∀ (v13730 : BitVec 32) (k0_hw2715 : k0_chk2715 v13730), ∀ a, (k0_off2715 v13730) a + S1x16x128.size a ≤ S16384x16x128.size a := fun v13730 k0_hw2715 => k0_hw2715

def k0_off2716 (v13736 : BitVec 32) : Fin 3 → Nat :=
  let c0_i32_12146 : BitVec 32 := 0#32
  let c0_i32_12147 : BitVec 32 := 0#32
  ![v13736.toNat, 0, 0]

def k0_chk2716 (v13736 : BitVec 32) : Prop :=
  (∀ a, (k0_off2716 v13736) a + S1x16x128.size a ≤ S16384x16x128.size a)
theorem k0_off2716_inb : ∀ (v13736 : BitVec 32) (k0_hw2716 : k0_chk2716 v13736), ∀ a, (k0_off2716 v13736) a + S1x16x128.size a ≤ S16384x16x128.size a := fun v13736 k0_hw2716 => k0_hw2716

def k0_off2717 (v13742 : BitVec 32) : Fin 3 → Nat :=
  let c0_i32_12153 : BitVec 32 := 0#32
  let c0_i32_12154 : BitVec 32 := 0#32
  ![v13742.toNat, 0, 0]

def k0_chk2717 (v13742 : BitVec 32) : Prop :=
  (∀ a, (k0_off2717 v13742) a + S1x16x128.size a ≤ S16384x16x128.size a)
theorem k0_off2717_inb : ∀ (v13742 : BitVec 32) (k0_hw2717 : k0_chk2717 v13742), ∀ a, (k0_off2717 v13742) a + S1x16x128.size a ≤ S16384x16x128.size a := fun v13742 k0_hw2717 => k0_hw2717

def k0_off2718 (v13748 : BitVec 32) : Fin 3 → Nat :=
  let c0_i32_12160 : BitVec 32 := 0#32
  let c0_i32_12161 : BitVec 32 := 0#32
  ![v13748.toNat, 0, 0]

def k0_chk2718 (v13748 : BitVec 32) : Prop :=
  (∀ a, (k0_off2718 v13748) a + S1x16x128.size a ≤ S16384x16x128.size a)
theorem k0_off2718_inb : ∀ (v13748 : BitVec 32) (k0_hw2718 : k0_chk2718 v13748), ∀ a, (k0_off2718 v13748) a + S1x16x128.size a ≤ S16384x16x128.size a := fun v13748 k0_hw2718 => k0_hw2718

def k0_off2719 (v13754 : BitVec 32) : Fin 3 → Nat :=
  let c0_i32_12167 : BitVec 32 := 0#32
  let c0_i32_12168 : BitVec 32 := 0#32
  ![v13754.toNat, 0, 0]

def k0_chk2719 (v13754 : BitVec 32) : Prop :=
  (∀ a, (k0_off2719 v13754) a + S1x16x128.size a ≤ S16384x16x128.size a)
theorem k0_off2719_inb : ∀ (v13754 : BitVec 32) (k0_hw2719 : k0_chk2719 v13754), ∀ a, (k0_off2719 v13754) a + S1x16x128.size a ≤ S16384x16x128.size a := fun v13754 k0_hw2719 => k0_hw2719

def k0_off2720 (v13760 : BitVec 32) : Fin 3 → Nat :=
  let c0_i32_12174 : BitVec 32 := 0#32
  let c0_i32_12175 : BitVec 32 := 0#32
  ![v13760.toNat, 0, 0]

def k0_chk2720 (v13760 : BitVec 32) : Prop :=
  (∀ a, (k0_off2720 v13760) a + S1x16x128.size a ≤ S16384x16x128.size a)
theorem k0_off2720_inb : ∀ (v13760 : BitVec 32) (k0_hw2720 : k0_chk2720 v13760), ∀ a, (k0_off2720 v13760) a + S1x16x128.size a ≤ S16384x16x128.size a := fun v13760 k0_hw2720 => k0_hw2720

def k0_off2721 (v13766 : BitVec 32) : Fin 3 → Nat :=
  let c0_i32_12181 : BitVec 32 := 0#32
  let c0_i32_12182 : BitVec 32 := 0#32
  ![v13766.toNat, 0, 0]

def k0_chk2721 (v13766 : BitVec 32) : Prop :=
  (∀ a, (k0_off2721 v13766) a + S1x16x128.size a ≤ S16384x16x128.size a)
theorem k0_off2721_inb : ∀ (v13766 : BitVec 32) (k0_hw2721 : k0_chk2721 v13766), ∀ a, (k0_off2721 v13766) a + S1x16x128.size a ≤ S16384x16x128.size a := fun v13766 k0_hw2721 => k0_hw2721

def k0_off2722 (v13772 : BitVec 32) : Fin 3 → Nat :=
  let c0_i32_12188 : BitVec 32 := 0#32
  let c0_i32_12189 : BitVec 32 := 0#32
  ![v13772.toNat, 0, 0]

def k0_chk2722 (v13772 : BitVec 32) : Prop :=
  (∀ a, (k0_off2722 v13772) a + S1x16x128.size a ≤ S16384x16x128.size a)
theorem k0_off2722_inb : ∀ (v13772 : BitVec 32) (k0_hw2722 : k0_chk2722 v13772), ∀ a, (k0_off2722 v13772) a + S1x16x128.size a ≤ S16384x16x128.size a := fun v13772 k0_hw2722 => k0_hw2722

def k0_off2723 (v13778 : BitVec 32) : Fin 3 → Nat :=
  let c0_i32_12195 : BitVec 32 := 0#32
  let c0_i32_12196 : BitVec 32 := 0#32
  ![v13778.toNat, 0, 0]

def k0_chk2723 (v13778 : BitVec 32) : Prop :=
  (∀ a, (k0_off2723 v13778) a + S1x16x128.size a ≤ S16384x16x128.size a)
theorem k0_off2723_inb : ∀ (v13778 : BitVec 32) (k0_hw2723 : k0_chk2723 v13778), ∀ a, (k0_off2723 v13778) a + S1x16x128.size a ≤ S16384x16x128.size a := fun v13778 k0_hw2723 => k0_hw2723

def k0_off2724 (v13784 : BitVec 32) : Fin 3 → Nat :=
  let c0_i32_12202 : BitVec 32 := 0#32
  let c0_i32_12203 : BitVec 32 := 0#32
  ![v13784.toNat, 0, 0]

def k0_chk2724 (v13784 : BitVec 32) : Prop :=
  (∀ a, (k0_off2724 v13784) a + S1x16x128.size a ≤ S16384x16x128.size a)
theorem k0_off2724_inb : ∀ (v13784 : BitVec 32) (k0_hw2724 : k0_chk2724 v13784), ∀ a, (k0_off2724 v13784) a + S1x16x128.size a ≤ S16384x16x128.size a := fun v13784 k0_hw2724 => k0_hw2724

def k0_off2725 (v13790 : BitVec 32) : Fin 3 → Nat :=
  let c0_i32_12209 : BitVec 32 := 0#32
  let c0_i32_12210 : BitVec 32 := 0#32
  ![v13790.toNat, 0, 0]

def k0_chk2725 (v13790 : BitVec 32) : Prop :=
  (∀ a, (k0_off2725 v13790) a + S1x16x128.size a ≤ S16384x16x128.size a)
theorem k0_off2725_inb : ∀ (v13790 : BitVec 32) (k0_hw2725 : k0_chk2725 v13790), ∀ a, (k0_off2725 v13790) a + S1x16x128.size a ≤ S16384x16x128.size a := fun v13790 k0_hw2725 => k0_hw2725

def k0_off2726 (v13796 : BitVec 32) : Fin 3 → Nat :=
  let c0_i32_12216 : BitVec 32 := 0#32
  let c0_i32_12217 : BitVec 32 := 0#32
  ![v13796.toNat, 0, 0]

def k0_chk2726 (v13796 : BitVec 32) : Prop :=
  (∀ a, (k0_off2726 v13796) a + S1x16x128.size a ≤ S16384x16x128.size a)
theorem k0_off2726_inb : ∀ (v13796 : BitVec 32) (k0_hw2726 : k0_chk2726 v13796), ∀ a, (k0_off2726 v13796) a + S1x16x128.size a ≤ S16384x16x128.size a := fun v13796 k0_hw2726 => k0_hw2726

def k0_off2727 (v13802 : BitVec 32) : Fin 3 → Nat :=
  let c0_i32_12223 : BitVec 32 := 0#32
  let c0_i32_12224 : BitVec 32 := 0#32
  ![v13802.toNat, 0, 0]

def k0_chk2727 (v13802 : BitVec 32) : Prop :=
  (∀ a, (k0_off2727 v13802) a + S1x16x128.size a ≤ S16384x16x128.size a)
theorem k0_off2727_inb : ∀ (v13802 : BitVec 32) (k0_hw2727 : k0_chk2727 v13802), ∀ a, (k0_off2727 v13802) a + S1x16x128.size a ≤ S16384x16x128.size a := fun v13802 k0_hw2727 => k0_hw2727

def k0_off2728 (v13808 : BitVec 32) : Fin 3 → Nat :=
  let c0_i32_12230 : BitVec 32 := 0#32
  let c0_i32_12231 : BitVec 32 := 0#32
  ![v13808.toNat, 0, 0]

def k0_chk2728 (v13808 : BitVec 32) : Prop :=
  (∀ a, (k0_off2728 v13808) a + S1x16x128.size a ≤ S16384x16x128.size a)
theorem k0_off2728_inb : ∀ (v13808 : BitVec 32) (k0_hw2728 : k0_chk2728 v13808), ∀ a, (k0_off2728 v13808) a + S1x16x128.size a ≤ S16384x16x128.size a := fun v13808 k0_hw2728 => k0_hw2728

def k0_off2729 (v13814 : BitVec 32) : Fin 3 → Nat :=
  let c0_i32_12237 : BitVec 32 := 0#32
  let c0_i32_12238 : BitVec 32 := 0#32
  ![v13814.toNat, 0, 0]

def k0_chk2729 (v13814 : BitVec 32) : Prop :=
  (∀ a, (k0_off2729 v13814) a + S1x16x128.size a ≤ S16384x16x128.size a)
theorem k0_off2729_inb : ∀ (v13814 : BitVec 32) (k0_hw2729 : k0_chk2729 v13814), ∀ a, (k0_off2729 v13814) a + S1x16x128.size a ≤ S16384x16x128.size a := fun v13814 k0_hw2729 => k0_hw2729

def k0_off2730 (v13820 : BitVec 32) : Fin 3 → Nat :=
  let c0_i32_12244 : BitVec 32 := 0#32
  let c0_i32_12245 : BitVec 32 := 0#32
  ![v13820.toNat, 0, 0]

def k0_chk2730 (v13820 : BitVec 32) : Prop :=
  (∀ a, (k0_off2730 v13820) a + S1x16x128.size a ≤ S16384x16x128.size a)
theorem k0_off2730_inb : ∀ (v13820 : BitVec 32) (k0_hw2730 : k0_chk2730 v13820), ∀ a, (k0_off2730 v13820) a + S1x16x128.size a ≤ S16384x16x128.size a := fun v13820 k0_hw2730 => k0_hw2730

def k0_off2731 (v13826 : BitVec 32) : Fin 3 → Nat :=
  let c0_i32_12251 : BitVec 32 := 0#32
  let c0_i32_12252 : BitVec 32 := 0#32
  ![v13826.toNat, 0, 0]

def k0_chk2731 (v13826 : BitVec 32) : Prop :=
  (∀ a, (k0_off2731 v13826) a + S1x16x128.size a ≤ S16384x16x128.size a)
theorem k0_off2731_inb : ∀ (v13826 : BitVec 32) (k0_hw2731 : k0_chk2731 v13826), ∀ a, (k0_off2731 v13826) a + S1x16x128.size a ≤ S16384x16x128.size a := fun v13826 k0_hw2731 => k0_hw2731

def k0_off2732 (v13832 : BitVec 32) : Fin 3 → Nat :=
  let c0_i32_12258 : BitVec 32 := 0#32
  let c0_i32_12259 : BitVec 32 := 0#32
  ![v13832.toNat, 0, 0]

def k0_chk2732 (v13832 : BitVec 32) : Prop :=
  (∀ a, (k0_off2732 v13832) a + S1x16x128.size a ≤ S16384x16x128.size a)
theorem k0_off2732_inb : ∀ (v13832 : BitVec 32) (k0_hw2732 : k0_chk2732 v13832), ∀ a, (k0_off2732 v13832) a + S1x16x128.size a ≤ S16384x16x128.size a := fun v13832 k0_hw2732 => k0_hw2732

def k0_off2733 (v13838 : BitVec 32) : Fin 3 → Nat :=
  let c0_i32_12265 : BitVec 32 := 0#32
  let c0_i32_12266 : BitVec 32 := 0#32
  ![v13838.toNat, 0, 0]

def k0_chk2733 (v13838 : BitVec 32) : Prop :=
  (∀ a, (k0_off2733 v13838) a + S1x16x128.size a ≤ S16384x16x128.size a)
theorem k0_off2733_inb : ∀ (v13838 : BitVec 32) (k0_hw2733 : k0_chk2733 v13838), ∀ a, (k0_off2733 v13838) a + S1x16x128.size a ≤ S16384x16x128.size a := fun v13838 k0_hw2733 => k0_hw2733

def k0_off2734 (v13844 : BitVec 32) : Fin 3 → Nat :=
  let c0_i32_12272 : BitVec 32 := 0#32
  let c0_i32_12273 : BitVec 32 := 0#32
  ![v13844.toNat, 0, 0]

def k0_chk2734 (v13844 : BitVec 32) : Prop :=
  (∀ a, (k0_off2734 v13844) a + S1x16x128.size a ≤ S16384x16x128.size a)
theorem k0_off2734_inb : ∀ (v13844 : BitVec 32) (k0_hw2734 : k0_chk2734 v13844), ∀ a, (k0_off2734 v13844) a + S1x16x128.size a ≤ S16384x16x128.size a := fun v13844 k0_hw2734 => k0_hw2734

def k0_off2735 (v13850 : BitVec 32) : Fin 3 → Nat :=
  let c0_i32_12279 : BitVec 32 := 0#32
  let c0_i32_12280 : BitVec 32 := 0#32
  ![v13850.toNat, 0, 0]

def k0_chk2735 (v13850 : BitVec 32) : Prop :=
  (∀ a, (k0_off2735 v13850) a + S1x16x128.size a ≤ S16384x16x128.size a)
theorem k0_off2735_inb : ∀ (v13850 : BitVec 32) (k0_hw2735 : k0_chk2735 v13850), ∀ a, (k0_off2735 v13850) a + S1x16x128.size a ≤ S16384x16x128.size a := fun v13850 k0_hw2735 => k0_hw2735

def k0_off2736 (v13856 : BitVec 32) : Fin 3 → Nat :=
  let c0_i32_12286 : BitVec 32 := 0#32
  let c0_i32_12287 : BitVec 32 := 0#32
  ![v13856.toNat, 0, 0]

def k0_chk2736 (v13856 : BitVec 32) : Prop :=
  (∀ a, (k0_off2736 v13856) a + S1x16x128.size a ≤ S16384x16x128.size a)
theorem k0_off2736_inb : ∀ (v13856 : BitVec 32) (k0_hw2736 : k0_chk2736 v13856), ∀ a, (k0_off2736 v13856) a + S1x16x128.size a ≤ S16384x16x128.size a := fun v13856 k0_hw2736 => k0_hw2736

def k0_off2737 (v13862 : BitVec 32) : Fin 3 → Nat :=
  let c0_i32_12293 : BitVec 32 := 0#32
  let c0_i32_12294 : BitVec 32 := 0#32
  ![v13862.toNat, 0, 0]

def k0_chk2737 (v13862 : BitVec 32) : Prop :=
  (∀ a, (k0_off2737 v13862) a + S1x16x128.size a ≤ S16384x16x128.size a)
theorem k0_off2737_inb : ∀ (v13862 : BitVec 32) (k0_hw2737 : k0_chk2737 v13862), ∀ a, (k0_off2737 v13862) a + S1x16x128.size a ≤ S16384x16x128.size a := fun v13862 k0_hw2737 => k0_hw2737

def k0_off2738 (v13868 : BitVec 32) : Fin 3 → Nat :=
  let c0_i32_12300 : BitVec 32 := 0#32
  let c0_i32_12301 : BitVec 32 := 0#32
  ![v13868.toNat, 0, 0]

def k0_chk2738 (v13868 : BitVec 32) : Prop :=
  (∀ a, (k0_off2738 v13868) a + S1x16x128.size a ≤ S16384x16x128.size a)
theorem k0_off2738_inb : ∀ (v13868 : BitVec 32) (k0_hw2738 : k0_chk2738 v13868), ∀ a, (k0_off2738 v13868) a + S1x16x128.size a ≤ S16384x16x128.size a := fun v13868 k0_hw2738 => k0_hw2738

def k0_off2739 (v13874 : BitVec 32) : Fin 3 → Nat :=
  let c0_i32_12307 : BitVec 32 := 0#32
  let c0_i32_12308 : BitVec 32 := 0#32
  ![v13874.toNat, 0, 0]

def k0_chk2739 (v13874 : BitVec 32) : Prop :=
  (∀ a, (k0_off2739 v13874) a + S1x16x128.size a ≤ S16384x16x128.size a)
theorem k0_off2739_inb : ∀ (v13874 : BitVec 32) (k0_hw2739 : k0_chk2739 v13874), ∀ a, (k0_off2739 v13874) a + S1x16x128.size a ≤ S16384x16x128.size a := fun v13874 k0_hw2739 => k0_hw2739

def k0_off2740 (v13880 : BitVec 32) : Fin 3 → Nat :=
  let c0_i32_12314 : BitVec 32 := 0#32
  let c0_i32_12315 : BitVec 32 := 0#32
  ![v13880.toNat, 0, 0]

def k0_chk2740 (v13880 : BitVec 32) : Prop :=
  (∀ a, (k0_off2740 v13880) a + S1x16x128.size a ≤ S16384x16x128.size a)
theorem k0_off2740_inb : ∀ (v13880 : BitVec 32) (k0_hw2740 : k0_chk2740 v13880), ∀ a, (k0_off2740 v13880) a + S1x16x128.size a ≤ S16384x16x128.size a := fun v13880 k0_hw2740 => k0_hw2740

def k0_off2741 (v13886 : BitVec 32) : Fin 3 → Nat :=
  let c0_i32_12321 : BitVec 32 := 0#32
  let c0_i32_12322 : BitVec 32 := 0#32
  ![v13886.toNat, 0, 0]

def k0_chk2741 (v13886 : BitVec 32) : Prop :=
  (∀ a, (k0_off2741 v13886) a + S1x16x128.size a ≤ S16384x16x128.size a)
theorem k0_off2741_inb : ∀ (v13886 : BitVec 32) (k0_hw2741 : k0_chk2741 v13886), ∀ a, (k0_off2741 v13886) a + S1x16x128.size a ≤ S16384x16x128.size a := fun v13886 k0_hw2741 => k0_hw2741

def k0_off2742 (v13892 : BitVec 32) : Fin 3 → Nat :=
  let c0_i32_12328 : BitVec 32 := 0#32
  let c0_i32_12329 : BitVec 32 := 0#32
  ![v13892.toNat, 0, 0]

def k0_chk2742 (v13892 : BitVec 32) : Prop :=
  (∀ a, (k0_off2742 v13892) a + S1x16x128.size a ≤ S16384x16x128.size a)
theorem k0_off2742_inb : ∀ (v13892 : BitVec 32) (k0_hw2742 : k0_chk2742 v13892), ∀ a, (k0_off2742 v13892) a + S1x16x128.size a ≤ S16384x16x128.size a := fun v13892 k0_hw2742 => k0_hw2742

def k0_off2743 (v13898 : BitVec 32) : Fin 3 → Nat :=
  let c0_i32_12335 : BitVec 32 := 0#32
  let c0_i32_12336 : BitVec 32 := 0#32
  ![v13898.toNat, 0, 0]

def k0_chk2743 (v13898 : BitVec 32) : Prop :=
  (∀ a, (k0_off2743 v13898) a + S1x16x128.size a ≤ S16384x16x128.size a)
theorem k0_off2743_inb : ∀ (v13898 : BitVec 32) (k0_hw2743 : k0_chk2743 v13898), ∀ a, (k0_off2743 v13898) a + S1x16x128.size a ≤ S16384x16x128.size a := fun v13898 k0_hw2743 => k0_hw2743

def k0_off2744 (v13904 : BitVec 32) : Fin 3 → Nat :=
  let c0_i32_12342 : BitVec 32 := 0#32
  let c0_i32_12343 : BitVec 32 := 0#32
  ![v13904.toNat, 0, 0]

def k0_chk2744 (v13904 : BitVec 32) : Prop :=
  (∀ a, (k0_off2744 v13904) a + S1x16x128.size a ≤ S16384x16x128.size a)
theorem k0_off2744_inb : ∀ (v13904 : BitVec 32) (k0_hw2744 : k0_chk2744 v13904), ∀ a, (k0_off2744 v13904) a + S1x16x128.size a ≤ S16384x16x128.size a := fun v13904 k0_hw2744 => k0_hw2744

def k0_off2745 (v13910 : BitVec 32) : Fin 3 → Nat :=
  let c0_i32_12349 : BitVec 32 := 0#32
  let c0_i32_12350 : BitVec 32 := 0#32
  ![v13910.toNat, 0, 0]

def k0_chk2745 (v13910 : BitVec 32) : Prop :=
  (∀ a, (k0_off2745 v13910) a + S1x16x128.size a ≤ S16384x16x128.size a)
theorem k0_off2745_inb : ∀ (v13910 : BitVec 32) (k0_hw2745 : k0_chk2745 v13910), ∀ a, (k0_off2745 v13910) a + S1x16x128.size a ≤ S16384x16x128.size a := fun v13910 k0_hw2745 => k0_hw2745

def k0_off2746 (v13916 : BitVec 32) : Fin 3 → Nat :=
  let c0_i32_12356 : BitVec 32 := 0#32
  let c0_i32_12357 : BitVec 32 := 0#32
  ![v13916.toNat, 0, 0]

def k0_chk2746 (v13916 : BitVec 32) : Prop :=
  (∀ a, (k0_off2746 v13916) a + S1x16x128.size a ≤ S16384x16x128.size a)
theorem k0_off2746_inb : ∀ (v13916 : BitVec 32) (k0_hw2746 : k0_chk2746 v13916), ∀ a, (k0_off2746 v13916) a + S1x16x128.size a ≤ S16384x16x128.size a := fun v13916 k0_hw2746 => k0_hw2746

def k0_off2747 (v13922 : BitVec 32) : Fin 3 → Nat :=
  let c0_i32_12363 : BitVec 32 := 0#32
  let c0_i32_12364 : BitVec 32 := 0#32
  ![v13922.toNat, 0, 0]

def k0_chk2747 (v13922 : BitVec 32) : Prop :=
  (∀ a, (k0_off2747 v13922) a + S1x16x128.size a ≤ S16384x16x128.size a)
theorem k0_off2747_inb : ∀ (v13922 : BitVec 32) (k0_hw2747 : k0_chk2747 v13922), ∀ a, (k0_off2747 v13922) a + S1x16x128.size a ≤ S16384x16x128.size a := fun v13922 k0_hw2747 => k0_hw2747

def k0_off2748 (v13928 : BitVec 32) : Fin 3 → Nat :=
  let c0_i32_12370 : BitVec 32 := 0#32
  let c0_i32_12371 : BitVec 32 := 0#32
  ![v13928.toNat, 0, 0]

def k0_chk2748 (v13928 : BitVec 32) : Prop :=
  (∀ a, (k0_off2748 v13928) a + S1x16x128.size a ≤ S16384x16x128.size a)
theorem k0_off2748_inb : ∀ (v13928 : BitVec 32) (k0_hw2748 : k0_chk2748 v13928), ∀ a, (k0_off2748 v13928) a + S1x16x128.size a ≤ S16384x16x128.size a := fun v13928 k0_hw2748 => k0_hw2748

def k0_off2749 (v13934 : BitVec 32) : Fin 3 → Nat :=
  let c0_i32_12377 : BitVec 32 := 0#32
  let c0_i32_12378 : BitVec 32 := 0#32
  ![v13934.toNat, 0, 0]

def k0_chk2749 (v13934 : BitVec 32) : Prop :=
  (∀ a, (k0_off2749 v13934) a + S1x16x128.size a ≤ S16384x16x128.size a)
theorem k0_off2749_inb : ∀ (v13934 : BitVec 32) (k0_hw2749 : k0_chk2749 v13934), ∀ a, (k0_off2749 v13934) a + S1x16x128.size a ≤ S16384x16x128.size a := fun v13934 k0_hw2749 => k0_hw2749

def k0_off2750 (v13940 : BitVec 32) : Fin 3 → Nat :=
  let c0_i32_12384 : BitVec 32 := 0#32
  let c0_i32_12385 : BitVec 32 := 0#32
  ![v13940.toNat, 0, 0]

def k0_chk2750 (v13940 : BitVec 32) : Prop :=
  (∀ a, (k0_off2750 v13940) a + S1x16x128.size a ≤ S16384x16x128.size a)
theorem k0_off2750_inb : ∀ (v13940 : BitVec 32) (k0_hw2750 : k0_chk2750 v13940), ∀ a, (k0_off2750 v13940) a + S1x16x128.size a ≤ S16384x16x128.size a := fun v13940 k0_hw2750 => k0_hw2750

def k0_off2751 (v13946 : BitVec 32) : Fin 3 → Nat :=
  let c0_i32_12391 : BitVec 32 := 0#32
  let c0_i32_12392 : BitVec 32 := 0#32
  ![v13946.toNat, 0, 0]

def k0_chk2751 (v13946 : BitVec 32) : Prop :=
  (∀ a, (k0_off2751 v13946) a + S1x16x128.size a ≤ S16384x16x128.size a)
theorem k0_off2751_inb : ∀ (v13946 : BitVec 32) (k0_hw2751 : k0_chk2751 v13946), ∀ a, (k0_off2751 v13946) a + S1x16x128.size a ≤ S16384x16x128.size a := fun v13946 k0_hw2751 => k0_hw2751

def k0_off2752 (v13952 : BitVec 32) : Fin 3 → Nat :=
  let c0_i32_12398 : BitVec 32 := 0#32
  let c0_i32_12399 : BitVec 32 := 0#32
  ![v13952.toNat, 0, 0]

def k0_chk2752 (v13952 : BitVec 32) : Prop :=
  (∀ a, (k0_off2752 v13952) a + S1x16x128.size a ≤ S16384x16x128.size a)
theorem k0_off2752_inb : ∀ (v13952 : BitVec 32) (k0_hw2752 : k0_chk2752 v13952), ∀ a, (k0_off2752 v13952) a + S1x16x128.size a ≤ S16384x16x128.size a := fun v13952 k0_hw2752 => k0_hw2752

def k0_off2753 (v13958 : BitVec 32) : Fin 3 → Nat :=
  let c0_i32_12405 : BitVec 32 := 0#32
  let c0_i32_12406 : BitVec 32 := 0#32
  ![v13958.toNat, 0, 0]

def k0_chk2753 (v13958 : BitVec 32) : Prop :=
  (∀ a, (k0_off2753 v13958) a + S1x16x128.size a ≤ S16384x16x128.size a)
theorem k0_off2753_inb : ∀ (v13958 : BitVec 32) (k0_hw2753 : k0_chk2753 v13958), ∀ a, (k0_off2753 v13958) a + S1x16x128.size a ≤ S16384x16x128.size a := fun v13958 k0_hw2753 => k0_hw2753

def k0_off2754 (v13964 : BitVec 32) : Fin 3 → Nat :=
  let c0_i32_12412 : BitVec 32 := 0#32
  let c0_i32_12413 : BitVec 32 := 0#32
  ![v13964.toNat, 0, 0]

def k0_chk2754 (v13964 : BitVec 32) : Prop :=
  (∀ a, (k0_off2754 v13964) a + S1x16x128.size a ≤ S16384x16x128.size a)
theorem k0_off2754_inb : ∀ (v13964 : BitVec 32) (k0_hw2754 : k0_chk2754 v13964), ∀ a, (k0_off2754 v13964) a + S1x16x128.size a ≤ S16384x16x128.size a := fun v13964 k0_hw2754 => k0_hw2754

def k0_off2755 (v13970 : BitVec 32) : Fin 3 → Nat :=
  let c0_i32_12419 : BitVec 32 := 0#32
  let c0_i32_12420 : BitVec 32 := 0#32
  ![v13970.toNat, 0, 0]

def k0_chk2755 (v13970 : BitVec 32) : Prop :=
  (∀ a, (k0_off2755 v13970) a + S1x16x128.size a ≤ S16384x16x128.size a)
theorem k0_off2755_inb : ∀ (v13970 : BitVec 32) (k0_hw2755 : k0_chk2755 v13970), ∀ a, (k0_off2755 v13970) a + S1x16x128.size a ≤ S16384x16x128.size a := fun v13970 k0_hw2755 => k0_hw2755

def k0_off2756 (v13976 : BitVec 32) : Fin 3 → Nat :=
  let c0_i32_12426 : BitVec 32 := 0#32
  let c0_i32_12427 : BitVec 32 := 0#32
  ![v13976.toNat, 0, 0]

def k0_chk2756 (v13976 : BitVec 32) : Prop :=
  (∀ a, (k0_off2756 v13976) a + S1x16x128.size a ≤ S16384x16x128.size a)
theorem k0_off2756_inb : ∀ (v13976 : BitVec 32) (k0_hw2756 : k0_chk2756 v13976), ∀ a, (k0_off2756 v13976) a + S1x16x128.size a ≤ S16384x16x128.size a := fun v13976 k0_hw2756 => k0_hw2756

def k0_off2757 (v13982 : BitVec 32) : Fin 3 → Nat :=
  let c0_i32_12433 : BitVec 32 := 0#32
  let c0_i32_12434 : BitVec 32 := 0#32
  ![v13982.toNat, 0, 0]

def k0_chk2757 (v13982 : BitVec 32) : Prop :=
  (∀ a, (k0_off2757 v13982) a + S1x16x128.size a ≤ S16384x16x128.size a)
theorem k0_off2757_inb : ∀ (v13982 : BitVec 32) (k0_hw2757 : k0_chk2757 v13982), ∀ a, (k0_off2757 v13982) a + S1x16x128.size a ≤ S16384x16x128.size a := fun v13982 k0_hw2757 => k0_hw2757

def k0_off2758 (v13988 : BitVec 32) : Fin 3 → Nat :=
  let c0_i32_12440 : BitVec 32 := 0#32
  let c0_i32_12441 : BitVec 32 := 0#32
  ![v13988.toNat, 0, 0]

def k0_chk2758 (v13988 : BitVec 32) : Prop :=
  (∀ a, (k0_off2758 v13988) a + S1x16x128.size a ≤ S16384x16x128.size a)
theorem k0_off2758_inb : ∀ (v13988 : BitVec 32) (k0_hw2758 : k0_chk2758 v13988), ∀ a, (k0_off2758 v13988) a + S1x16x128.size a ≤ S16384x16x128.size a := fun v13988 k0_hw2758 => k0_hw2758

def k0_off2759 (v13994 : BitVec 32) : Fin 3 → Nat :=
  let c0_i32_12447 : BitVec 32 := 0#32
  let c0_i32_12448 : BitVec 32 := 0#32
  ![v13994.toNat, 0, 0]

def k0_chk2759 (v13994 : BitVec 32) : Prop :=
  (∀ a, (k0_off2759 v13994) a + S1x16x128.size a ≤ S16384x16x128.size a)
theorem k0_off2759_inb : ∀ (v13994 : BitVec 32) (k0_hw2759 : k0_chk2759 v13994), ∀ a, (k0_off2759 v13994) a + S1x16x128.size a ≤ S16384x16x128.size a := fun v13994 k0_hw2759 => k0_hw2759

def k0_off2760 (v14000 : BitVec 32) : Fin 3 → Nat :=
  let c0_i32_12454 : BitVec 32 := 0#32
  let c0_i32_12455 : BitVec 32 := 0#32
  ![v14000.toNat, 0, 0]

def k0_chk2760 (v14000 : BitVec 32) : Prop :=
  (∀ a, (k0_off2760 v14000) a + S1x16x128.size a ≤ S16384x16x128.size a)
theorem k0_off2760_inb : ∀ (v14000 : BitVec 32) (k0_hw2760 : k0_chk2760 v14000), ∀ a, (k0_off2760 v14000) a + S1x16x128.size a ≤ S16384x16x128.size a := fun v14000 k0_hw2760 => k0_hw2760

def k0_off2761 (v14006 : BitVec 32) : Fin 3 → Nat :=
  let c0_i32_12461 : BitVec 32 := 0#32
  let c0_i32_12462 : BitVec 32 := 0#32
  ![v14006.toNat, 0, 0]

def k0_chk2761 (v14006 : BitVec 32) : Prop :=
  (∀ a, (k0_off2761 v14006) a + S1x16x128.size a ≤ S16384x16x128.size a)
theorem k0_off2761_inb : ∀ (v14006 : BitVec 32) (k0_hw2761 : k0_chk2761 v14006), ∀ a, (k0_off2761 v14006) a + S1x16x128.size a ≤ S16384x16x128.size a := fun v14006 k0_hw2761 => k0_hw2761

def k0_off2762 (v14012 : BitVec 32) : Fin 3 → Nat :=
  let c0_i32_12468 : BitVec 32 := 0#32
  let c0_i32_12469 : BitVec 32 := 0#32
  ![v14012.toNat, 0, 0]

def k0_chk2762 (v14012 : BitVec 32) : Prop :=
  (∀ a, (k0_off2762 v14012) a + S1x16x128.size a ≤ S16384x16x128.size a)
theorem k0_off2762_inb : ∀ (v14012 : BitVec 32) (k0_hw2762 : k0_chk2762 v14012), ∀ a, (k0_off2762 v14012) a + S1x16x128.size a ≤ S16384x16x128.size a := fun v14012 k0_hw2762 => k0_hw2762

def k0_off2763 (v14018 : BitVec 32) : Fin 3 → Nat :=
  let c0_i32_12475 : BitVec 32 := 0#32
  let c0_i32_12476 : BitVec 32 := 0#32
  ![v14018.toNat, 0, 0]

def k0_chk2763 (v14018 : BitVec 32) : Prop :=
  (∀ a, (k0_off2763 v14018) a + S1x16x128.size a ≤ S16384x16x128.size a)
theorem k0_off2763_inb : ∀ (v14018 : BitVec 32) (k0_hw2763 : k0_chk2763 v14018), ∀ a, (k0_off2763 v14018) a + S1x16x128.size a ≤ S16384x16x128.size a := fun v14018 k0_hw2763 => k0_hw2763

def k0_off2764 (v14024 : BitVec 32) : Fin 3 → Nat :=
  let c0_i32_12482 : BitVec 32 := 0#32
  let c0_i32_12483 : BitVec 32 := 0#32
  ![v14024.toNat, 0, 0]

def k0_chk2764 (v14024 : BitVec 32) : Prop :=
  (∀ a, (k0_off2764 v14024) a + S1x16x128.size a ≤ S16384x16x128.size a)
theorem k0_off2764_inb : ∀ (v14024 : BitVec 32) (k0_hw2764 : k0_chk2764 v14024), ∀ a, (k0_off2764 v14024) a + S1x16x128.size a ≤ S16384x16x128.size a := fun v14024 k0_hw2764 => k0_hw2764

def k0_off2765 (v14030 : BitVec 32) : Fin 3 → Nat :=
  let c0_i32_12489 : BitVec 32 := 0#32
  let c0_i32_12490 : BitVec 32 := 0#32
  ![v14030.toNat, 0, 0]

def k0_chk2765 (v14030 : BitVec 32) : Prop :=
  (∀ a, (k0_off2765 v14030) a + S1x16x128.size a ≤ S16384x16x128.size a)
theorem k0_off2765_inb : ∀ (v14030 : BitVec 32) (k0_hw2765 : k0_chk2765 v14030), ∀ a, (k0_off2765 v14030) a + S1x16x128.size a ≤ S16384x16x128.size a := fun v14030 k0_hw2765 => k0_hw2765

def k0_off2766 (v14036 : BitVec 32) : Fin 3 → Nat :=
  let c0_i32_12496 : BitVec 32 := 0#32
  let c0_i32_12497 : BitVec 32 := 0#32
  ![v14036.toNat, 0, 0]

def k0_chk2766 (v14036 : BitVec 32) : Prop :=
  (∀ a, (k0_off2766 v14036) a + S1x16x128.size a ≤ S16384x16x128.size a)
theorem k0_off2766_inb : ∀ (v14036 : BitVec 32) (k0_hw2766 : k0_chk2766 v14036), ∀ a, (k0_off2766 v14036) a + S1x16x128.size a ≤ S16384x16x128.size a := fun v14036 k0_hw2766 => k0_hw2766

def k0_off2767 (v14042 : BitVec 32) : Fin 3 → Nat :=
  let c0_i32_12503 : BitVec 32 := 0#32
  let c0_i32_12504 : BitVec 32 := 0#32
  ![v14042.toNat, 0, 0]

def k0_chk2767 (v14042 : BitVec 32) : Prop :=
  (∀ a, (k0_off2767 v14042) a + S1x16x128.size a ≤ S16384x16x128.size a)
theorem k0_off2767_inb : ∀ (v14042 : BitVec 32) (k0_hw2767 : k0_chk2767 v14042), ∀ a, (k0_off2767 v14042) a + S1x16x128.size a ≤ S16384x16x128.size a := fun v14042 k0_hw2767 => k0_hw2767

def k0_off2768 (v14048 : BitVec 32) : Fin 3 → Nat :=
  let c0_i32_12510 : BitVec 32 := 0#32
  let c0_i32_12511 : BitVec 32 := 0#32
  ![v14048.toNat, 0, 0]

def k0_chk2768 (v14048 : BitVec 32) : Prop :=
  (∀ a, (k0_off2768 v14048) a + S1x16x128.size a ≤ S16384x16x128.size a)
theorem k0_off2768_inb : ∀ (v14048 : BitVec 32) (k0_hw2768 : k0_chk2768 v14048), ∀ a, (k0_off2768 v14048) a + S1x16x128.size a ≤ S16384x16x128.size a := fun v14048 k0_hw2768 => k0_hw2768

def k0_off2769 (v14054 : BitVec 32) : Fin 3 → Nat :=
  let c0_i32_12517 : BitVec 32 := 0#32
  let c0_i32_12518 : BitVec 32 := 0#32
  ![v14054.toNat, 0, 0]

def k0_chk2769 (v14054 : BitVec 32) : Prop :=
  (∀ a, (k0_off2769 v14054) a + S1x16x128.size a ≤ S16384x16x128.size a)
theorem k0_off2769_inb : ∀ (v14054 : BitVec 32) (k0_hw2769 : k0_chk2769 v14054), ∀ a, (k0_off2769 v14054) a + S1x16x128.size a ≤ S16384x16x128.size a := fun v14054 k0_hw2769 => k0_hw2769

def k0_off2770 (v14060 : BitVec 32) : Fin 3 → Nat :=
  let c0_i32_12524 : BitVec 32 := 0#32
  let c0_i32_12525 : BitVec 32 := 0#32
  ![v14060.toNat, 0, 0]

def k0_chk2770 (v14060 : BitVec 32) : Prop :=
  (∀ a, (k0_off2770 v14060) a + S1x16x128.size a ≤ S16384x16x128.size a)
theorem k0_off2770_inb : ∀ (v14060 : BitVec 32) (k0_hw2770 : k0_chk2770 v14060), ∀ a, (k0_off2770 v14060) a + S1x16x128.size a ≤ S16384x16x128.size a := fun v14060 k0_hw2770 => k0_hw2770

def k0_off2771 (v14066 : BitVec 32) : Fin 3 → Nat :=
  let c0_i32_12531 : BitVec 32 := 0#32
  let c0_i32_12532 : BitVec 32 := 0#32
  ![v14066.toNat, 0, 0]

def k0_chk2771 (v14066 : BitVec 32) : Prop :=
  (∀ a, (k0_off2771 v14066) a + S1x16x128.size a ≤ S16384x16x128.size a)
theorem k0_off2771_inb : ∀ (v14066 : BitVec 32) (k0_hw2771 : k0_chk2771 v14066), ∀ a, (k0_off2771 v14066) a + S1x16x128.size a ≤ S16384x16x128.size a := fun v14066 k0_hw2771 => k0_hw2771

def k0_off2772 (v14072 : BitVec 32) : Fin 3 → Nat :=
  let c0_i32_12538 : BitVec 32 := 0#32
  let c0_i32_12539 : BitVec 32 := 0#32
  ![v14072.toNat, 0, 0]

def k0_chk2772 (v14072 : BitVec 32) : Prop :=
  (∀ a, (k0_off2772 v14072) a + S1x16x128.size a ≤ S16384x16x128.size a)
theorem k0_off2772_inb : ∀ (v14072 : BitVec 32) (k0_hw2772 : k0_chk2772 v14072), ∀ a, (k0_off2772 v14072) a + S1x16x128.size a ≤ S16384x16x128.size a := fun v14072 k0_hw2772 => k0_hw2772

def k0_off2773 (v14078 : BitVec 32) : Fin 3 → Nat :=
  let c0_i32_12545 : BitVec 32 := 0#32
  let c0_i32_12546 : BitVec 32 := 0#32
  ![v14078.toNat, 0, 0]

def k0_chk2773 (v14078 : BitVec 32) : Prop :=
  (∀ a, (k0_off2773 v14078) a + S1x16x128.size a ≤ S16384x16x128.size a)
theorem k0_off2773_inb : ∀ (v14078 : BitVec 32) (k0_hw2773 : k0_chk2773 v14078), ∀ a, (k0_off2773 v14078) a + S1x16x128.size a ≤ S16384x16x128.size a := fun v14078 k0_hw2773 => k0_hw2773

def k0_off2774 (v14084 : BitVec 32) : Fin 3 → Nat :=
  let c0_i32_12552 : BitVec 32 := 0#32
  let c0_i32_12553 : BitVec 32 := 0#32
  ![v14084.toNat, 0, 0]

def k0_chk2774 (v14084 : BitVec 32) : Prop :=
  (∀ a, (k0_off2774 v14084) a + S1x16x128.size a ≤ S16384x16x128.size a)
theorem k0_off2774_inb : ∀ (v14084 : BitVec 32) (k0_hw2774 : k0_chk2774 v14084), ∀ a, (k0_off2774 v14084) a + S1x16x128.size a ≤ S16384x16x128.size a := fun v14084 k0_hw2774 => k0_hw2774

def k0_off2775 (v14090 : BitVec 32) : Fin 3 → Nat :=
  let c0_i32_12559 : BitVec 32 := 0#32
  let c0_i32_12560 : BitVec 32 := 0#32
  ![v14090.toNat, 0, 0]

def k0_chk2775 (v14090 : BitVec 32) : Prop :=
  (∀ a, (k0_off2775 v14090) a + S1x16x128.size a ≤ S16384x16x128.size a)
theorem k0_off2775_inb : ∀ (v14090 : BitVec 32) (k0_hw2775 : k0_chk2775 v14090), ∀ a, (k0_off2775 v14090) a + S1x16x128.size a ≤ S16384x16x128.size a := fun v14090 k0_hw2775 => k0_hw2775

def k0_off2776 (v14096 : BitVec 32) : Fin 3 → Nat :=
  let c0_i32_12566 : BitVec 32 := 0#32
  let c0_i32_12567 : BitVec 32 := 0#32
  ![v14096.toNat, 0, 0]

def k0_chk2776 (v14096 : BitVec 32) : Prop :=
  (∀ a, (k0_off2776 v14096) a + S1x16x128.size a ≤ S16384x16x128.size a)
theorem k0_off2776_inb : ∀ (v14096 : BitVec 32) (k0_hw2776 : k0_chk2776 v14096), ∀ a, (k0_off2776 v14096) a + S1x16x128.size a ≤ S16384x16x128.size a := fun v14096 k0_hw2776 => k0_hw2776

def k0_off2777 (v14102 : BitVec 32) : Fin 3 → Nat :=
  let c0_i32_12573 : BitVec 32 := 0#32
  let c0_i32_12574 : BitVec 32 := 0#32
  ![v14102.toNat, 0, 0]

def k0_chk2777 (v14102 : BitVec 32) : Prop :=
  (∀ a, (k0_off2777 v14102) a + S1x16x128.size a ≤ S16384x16x128.size a)
theorem k0_off2777_inb : ∀ (v14102 : BitVec 32) (k0_hw2777 : k0_chk2777 v14102), ∀ a, (k0_off2777 v14102) a + S1x16x128.size a ≤ S16384x16x128.size a := fun v14102 k0_hw2777 => k0_hw2777

def k0_off2778 (v14108 : BitVec 32) : Fin 3 → Nat :=
  let c0_i32_12580 : BitVec 32 := 0#32
  let c0_i32_12581 : BitVec 32 := 0#32
  ![v14108.toNat, 0, 0]

def k0_chk2778 (v14108 : BitVec 32) : Prop :=
  (∀ a, (k0_off2778 v14108) a + S1x16x128.size a ≤ S16384x16x128.size a)
theorem k0_off2778_inb : ∀ (v14108 : BitVec 32) (k0_hw2778 : k0_chk2778 v14108), ∀ a, (k0_off2778 v14108) a + S1x16x128.size a ≤ S16384x16x128.size a := fun v14108 k0_hw2778 => k0_hw2778

def k0_off2779 (v14114 : BitVec 32) : Fin 3 → Nat :=
  let c0_i32_12587 : BitVec 32 := 0#32
  let c0_i32_12588 : BitVec 32 := 0#32
  ![v14114.toNat, 0, 0]

def k0_chk2779 (v14114 : BitVec 32) : Prop :=
  (∀ a, (k0_off2779 v14114) a + S1x16x128.size a ≤ S16384x16x128.size a)
theorem k0_off2779_inb : ∀ (v14114 : BitVec 32) (k0_hw2779 : k0_chk2779 v14114), ∀ a, (k0_off2779 v14114) a + S1x16x128.size a ≤ S16384x16x128.size a := fun v14114 k0_hw2779 => k0_hw2779

def k0_off2780 (v14120 : BitVec 32) : Fin 3 → Nat :=
  let c0_i32_12594 : BitVec 32 := 0#32
  let c0_i32_12595 : BitVec 32 := 0#32
  ![v14120.toNat, 0, 0]

def k0_chk2780 (v14120 : BitVec 32) : Prop :=
  (∀ a, (k0_off2780 v14120) a + S1x16x128.size a ≤ S16384x16x128.size a)
theorem k0_off2780_inb : ∀ (v14120 : BitVec 32) (k0_hw2780 : k0_chk2780 v14120), ∀ a, (k0_off2780 v14120) a + S1x16x128.size a ≤ S16384x16x128.size a := fun v14120 k0_hw2780 => k0_hw2780

def k0_off2781 (v14126 : BitVec 32) : Fin 3 → Nat :=
  let c0_i32_12601 : BitVec 32 := 0#32
  let c0_i32_12602 : BitVec 32 := 0#32
  ![v14126.toNat, 0, 0]

def k0_chk2781 (v14126 : BitVec 32) : Prop :=
  (∀ a, (k0_off2781 v14126) a + S1x16x128.size a ≤ S16384x16x128.size a)
theorem k0_off2781_inb : ∀ (v14126 : BitVec 32) (k0_hw2781 : k0_chk2781 v14126), ∀ a, (k0_off2781 v14126) a + S1x16x128.size a ≤ S16384x16x128.size a := fun v14126 k0_hw2781 => k0_hw2781

def k0_off2782 (v14132 : BitVec 32) : Fin 3 → Nat :=
  let c0_i32_12608 : BitVec 32 := 0#32
  let c0_i32_12609 : BitVec 32 := 0#32
  ![v14132.toNat, 0, 0]

def k0_chk2782 (v14132 : BitVec 32) : Prop :=
  (∀ a, (k0_off2782 v14132) a + S1x16x128.size a ≤ S16384x16x128.size a)
theorem k0_off2782_inb : ∀ (v14132 : BitVec 32) (k0_hw2782 : k0_chk2782 v14132), ∀ a, (k0_off2782 v14132) a + S1x16x128.size a ≤ S16384x16x128.size a := fun v14132 k0_hw2782 => k0_hw2782

def k0_off2783 (v14138 : BitVec 32) : Fin 3 → Nat :=
  let c0_i32_12615 : BitVec 32 := 0#32
  let c0_i32_12616 : BitVec 32 := 0#32
  ![v14138.toNat, 0, 0]

def k0_chk2783 (v14138 : BitVec 32) : Prop :=
  (∀ a, (k0_off2783 v14138) a + S1x16x128.size a ≤ S16384x16x128.size a)
theorem k0_off2783_inb : ∀ (v14138 : BitVec 32) (k0_hw2783 : k0_chk2783 v14138), ∀ a, (k0_off2783 v14138) a + S1x16x128.size a ≤ S16384x16x128.size a := fun v14138 k0_hw2783 => k0_hw2783

def k0_off2784 (v14144 : BitVec 32) : Fin 3 → Nat :=
  let c0_i32_12622 : BitVec 32 := 0#32
  let c0_i32_12623 : BitVec 32 := 0#32
  ![v14144.toNat, 0, 0]

def k0_chk2784 (v14144 : BitVec 32) : Prop :=
  (∀ a, (k0_off2784 v14144) a + S1x16x128.size a ≤ S16384x16x128.size a)
theorem k0_off2784_inb : ∀ (v14144 : BitVec 32) (k0_hw2784 : k0_chk2784 v14144), ∀ a, (k0_off2784 v14144) a + S1x16x128.size a ≤ S16384x16x128.size a := fun v14144 k0_hw2784 => k0_hw2784

def k0_off2785 (v14150 : BitVec 32) : Fin 3 → Nat :=
  let c0_i32_12629 : BitVec 32 := 0#32
  let c0_i32_12630 : BitVec 32 := 0#32
  ![v14150.toNat, 0, 0]

def k0_chk2785 (v14150 : BitVec 32) : Prop :=
  (∀ a, (k0_off2785 v14150) a + S1x16x128.size a ≤ S16384x16x128.size a)
theorem k0_off2785_inb : ∀ (v14150 : BitVec 32) (k0_hw2785 : k0_chk2785 v14150), ∀ a, (k0_off2785 v14150) a + S1x16x128.size a ≤ S16384x16x128.size a := fun v14150 k0_hw2785 => k0_hw2785

def k0_off2786 (v14156 : BitVec 32) : Fin 3 → Nat :=
  let c0_i32_12636 : BitVec 32 := 0#32
  let c0_i32_12637 : BitVec 32 := 0#32
  ![v14156.toNat, 0, 0]

def k0_chk2786 (v14156 : BitVec 32) : Prop :=
  (∀ a, (k0_off2786 v14156) a + S1x16x128.size a ≤ S16384x16x128.size a)
theorem k0_off2786_inb : ∀ (v14156 : BitVec 32) (k0_hw2786 : k0_chk2786 v14156), ∀ a, (k0_off2786 v14156) a + S1x16x128.size a ≤ S16384x16x128.size a := fun v14156 k0_hw2786 => k0_hw2786

def k0_off2787 (v14162 : BitVec 32) : Fin 3 → Nat :=
  let c0_i32_12643 : BitVec 32 := 0#32
  let c0_i32_12644 : BitVec 32 := 0#32
  ![v14162.toNat, 0, 0]

def k0_chk2787 (v14162 : BitVec 32) : Prop :=
  (∀ a, (k0_off2787 v14162) a + S1x16x128.size a ≤ S16384x16x128.size a)
theorem k0_off2787_inb : ∀ (v14162 : BitVec 32) (k0_hw2787 : k0_chk2787 v14162), ∀ a, (k0_off2787 v14162) a + S1x16x128.size a ≤ S16384x16x128.size a := fun v14162 k0_hw2787 => k0_hw2787

def k0_off2788 (v14168 : BitVec 32) : Fin 3 → Nat :=
  let c0_i32_12650 : BitVec 32 := 0#32
  let c0_i32_12651 : BitVec 32 := 0#32
  ![v14168.toNat, 0, 0]

def k0_chk2788 (v14168 : BitVec 32) : Prop :=
  (∀ a, (k0_off2788 v14168) a + S1x16x128.size a ≤ S16384x16x128.size a)
theorem k0_off2788_inb : ∀ (v14168 : BitVec 32) (k0_hw2788 : k0_chk2788 v14168), ∀ a, (k0_off2788 v14168) a + S1x16x128.size a ≤ S16384x16x128.size a := fun v14168 k0_hw2788 => k0_hw2788

def k0_off2789 (v14174 : BitVec 32) : Fin 3 → Nat :=
  let c0_i32_12657 : BitVec 32 := 0#32
  let c0_i32_12658 : BitVec 32 := 0#32
  ![v14174.toNat, 0, 0]

def k0_chk2789 (v14174 : BitVec 32) : Prop :=
  (∀ a, (k0_off2789 v14174) a + S1x16x128.size a ≤ S16384x16x128.size a)
theorem k0_off2789_inb : ∀ (v14174 : BitVec 32) (k0_hw2789 : k0_chk2789 v14174), ∀ a, (k0_off2789 v14174) a + S1x16x128.size a ≤ S16384x16x128.size a := fun v14174 k0_hw2789 => k0_hw2789

def k0_off2790 (v14180 : BitVec 32) : Fin 3 → Nat :=
  let c0_i32_12664 : BitVec 32 := 0#32
  let c0_i32_12665 : BitVec 32 := 0#32
  ![v14180.toNat, 0, 0]

def k0_chk2790 (v14180 : BitVec 32) : Prop :=
  (∀ a, (k0_off2790 v14180) a + S1x16x128.size a ≤ S16384x16x128.size a)
theorem k0_off2790_inb : ∀ (v14180 : BitVec 32) (k0_hw2790 : k0_chk2790 v14180), ∀ a, (k0_off2790 v14180) a + S1x16x128.size a ≤ S16384x16x128.size a := fun v14180 k0_hw2790 => k0_hw2790

def k0_off2791 (v14186 : BitVec 32) : Fin 3 → Nat :=
  let c0_i32_12671 : BitVec 32 := 0#32
  let c0_i32_12672 : BitVec 32 := 0#32
  ![v14186.toNat, 0, 0]

def k0_chk2791 (v14186 : BitVec 32) : Prop :=
  (∀ a, (k0_off2791 v14186) a + S1x16x128.size a ≤ S16384x16x128.size a)
theorem k0_off2791_inb : ∀ (v14186 : BitVec 32) (k0_hw2791 : k0_chk2791 v14186), ∀ a, (k0_off2791 v14186) a + S1x16x128.size a ≤ S16384x16x128.size a := fun v14186 k0_hw2791 => k0_hw2791

def k0_off2792 (v14192 : BitVec 32) : Fin 3 → Nat :=
  let c0_i32_12678 : BitVec 32 := 0#32
  let c0_i32_12679 : BitVec 32 := 0#32
  ![v14192.toNat, 0, 0]

def k0_chk2792 (v14192 : BitVec 32) : Prop :=
  (∀ a, (k0_off2792 v14192) a + S1x16x128.size a ≤ S16384x16x128.size a)
theorem k0_off2792_inb : ∀ (v14192 : BitVec 32) (k0_hw2792 : k0_chk2792 v14192), ∀ a, (k0_off2792 v14192) a + S1x16x128.size a ≤ S16384x16x128.size a := fun v14192 k0_hw2792 => k0_hw2792

def k0_off2793 (v14198 : BitVec 32) : Fin 3 → Nat :=
  let c0_i32_12685 : BitVec 32 := 0#32
  let c0_i32_12686 : BitVec 32 := 0#32
  ![v14198.toNat, 0, 0]

def k0_chk2793 (v14198 : BitVec 32) : Prop :=
  (∀ a, (k0_off2793 v14198) a + S1x16x128.size a ≤ S16384x16x128.size a)
theorem k0_off2793_inb : ∀ (v14198 : BitVec 32) (k0_hw2793 : k0_chk2793 v14198), ∀ a, (k0_off2793 v14198) a + S1x16x128.size a ≤ S16384x16x128.size a := fun v14198 k0_hw2793 => k0_hw2793

def k0_off2794 (v14204 : BitVec 32) : Fin 3 → Nat :=
  let c0_i32_12692 : BitVec 32 := 0#32
  let c0_i32_12693 : BitVec 32 := 0#32
  ![v14204.toNat, 0, 0]

def k0_chk2794 (v14204 : BitVec 32) : Prop :=
  (∀ a, (k0_off2794 v14204) a + S1x16x128.size a ≤ S16384x16x128.size a)
theorem k0_off2794_inb : ∀ (v14204 : BitVec 32) (k0_hw2794 : k0_chk2794 v14204), ∀ a, (k0_off2794 v14204) a + S1x16x128.size a ≤ S16384x16x128.size a := fun v14204 k0_hw2794 => k0_hw2794

def k0_off2795 (v14210 : BitVec 32) : Fin 3 → Nat :=
  let c0_i32_12699 : BitVec 32 := 0#32
  let c0_i32_12700 : BitVec 32 := 0#32
  ![v14210.toNat, 0, 0]

def k0_chk2795 (v14210 : BitVec 32) : Prop :=
  (∀ a, (k0_off2795 v14210) a + S1x16x128.size a ≤ S16384x16x128.size a)
theorem k0_off2795_inb : ∀ (v14210 : BitVec 32) (k0_hw2795 : k0_chk2795 v14210), ∀ a, (k0_off2795 v14210) a + S1x16x128.size a ≤ S16384x16x128.size a := fun v14210 k0_hw2795 => k0_hw2795

def k0_off2796 (v14216 : BitVec 32) : Fin 3 → Nat :=
  let c0_i32_12706 : BitVec 32 := 0#32
  let c0_i32_12707 : BitVec 32 := 0#32
  ![v14216.toNat, 0, 0]

def k0_chk2796 (v14216 : BitVec 32) : Prop :=
  (∀ a, (k0_off2796 v14216) a + S1x16x128.size a ≤ S16384x16x128.size a)
theorem k0_off2796_inb : ∀ (v14216 : BitVec 32) (k0_hw2796 : k0_chk2796 v14216), ∀ a, (k0_off2796 v14216) a + S1x16x128.size a ≤ S16384x16x128.size a := fun v14216 k0_hw2796 => k0_hw2796

def k0_off2797 (v14222 : BitVec 32) : Fin 3 → Nat :=
  let c0_i32_12713 : BitVec 32 := 0#32
  let c0_i32_12714 : BitVec 32 := 0#32
  ![v14222.toNat, 0, 0]

def k0_chk2797 (v14222 : BitVec 32) : Prop :=
  (∀ a, (k0_off2797 v14222) a + S1x16x128.size a ≤ S16384x16x128.size a)
theorem k0_off2797_inb : ∀ (v14222 : BitVec 32) (k0_hw2797 : k0_chk2797 v14222), ∀ a, (k0_off2797 v14222) a + S1x16x128.size a ≤ S16384x16x128.size a := fun v14222 k0_hw2797 => k0_hw2797

def k0_off2798 (v14228 : BitVec 32) : Fin 3 → Nat :=
  let c0_i32_12720 : BitVec 32 := 0#32
  let c0_i32_12721 : BitVec 32 := 0#32
  ![v14228.toNat, 0, 0]

def k0_chk2798 (v14228 : BitVec 32) : Prop :=
  (∀ a, (k0_off2798 v14228) a + S1x16x128.size a ≤ S16384x16x128.size a)
theorem k0_off2798_inb : ∀ (v14228 : BitVec 32) (k0_hw2798 : k0_chk2798 v14228), ∀ a, (k0_off2798 v14228) a + S1x16x128.size a ≤ S16384x16x128.size a := fun v14228 k0_hw2798 => k0_hw2798

def k0_off2799 (v14234 : BitVec 32) : Fin 3 → Nat :=
  let c0_i32_12727 : BitVec 32 := 0#32
  let c0_i32_12728 : BitVec 32 := 0#32
  ![v14234.toNat, 0, 0]

def k0_chk2799 (v14234 : BitVec 32) : Prop :=
  (∀ a, (k0_off2799 v14234) a + S1x16x128.size a ≤ S16384x16x128.size a)
theorem k0_off2799_inb : ∀ (v14234 : BitVec 32) (k0_hw2799 : k0_chk2799 v14234), ∀ a, (k0_off2799 v14234) a + S1x16x128.size a ≤ S16384x16x128.size a := fun v14234 k0_hw2799 => k0_hw2799

def k0_off2800 (v14240 : BitVec 32) : Fin 3 → Nat :=
  let c0_i32_12734 : BitVec 32 := 0#32
  let c0_i32_12735 : BitVec 32 := 0#32
  ![v14240.toNat, 0, 0]

def k0_chk2800 (v14240 : BitVec 32) : Prop :=
  (∀ a, (k0_off2800 v14240) a + S1x16x128.size a ≤ S16384x16x128.size a)
theorem k0_off2800_inb : ∀ (v14240 : BitVec 32) (k0_hw2800 : k0_chk2800 v14240), ∀ a, (k0_off2800 v14240) a + S1x16x128.size a ≤ S16384x16x128.size a := fun v14240 k0_hw2800 => k0_hw2800

def k0_off2801 (v14246 : BitVec 32) : Fin 3 → Nat :=
  let c0_i32_12741 : BitVec 32 := 0#32
  let c0_i32_12742 : BitVec 32 := 0#32
  ![v14246.toNat, 0, 0]

def k0_chk2801 (v14246 : BitVec 32) : Prop :=
  (∀ a, (k0_off2801 v14246) a + S1x16x128.size a ≤ S16384x16x128.size a)
theorem k0_off2801_inb : ∀ (v14246 : BitVec 32) (k0_hw2801 : k0_chk2801 v14246), ∀ a, (k0_off2801 v14246) a + S1x16x128.size a ≤ S16384x16x128.size a := fun v14246 k0_hw2801 => k0_hw2801

def k0_off2802 (v14252 : BitVec 32) : Fin 3 → Nat :=
  let c0_i32_12748 : BitVec 32 := 0#32
  let c0_i32_12749 : BitVec 32 := 0#32
  ![v14252.toNat, 0, 0]

def k0_chk2802 (v14252 : BitVec 32) : Prop :=
  (∀ a, (k0_off2802 v14252) a + S1x16x128.size a ≤ S16384x16x128.size a)
theorem k0_off2802_inb : ∀ (v14252 : BitVec 32) (k0_hw2802 : k0_chk2802 v14252), ∀ a, (k0_off2802 v14252) a + S1x16x128.size a ≤ S16384x16x128.size a := fun v14252 k0_hw2802 => k0_hw2802

def k0_off2803 (v14258 : BitVec 32) : Fin 3 → Nat :=
  let c0_i32_12755 : BitVec 32 := 0#32
  let c0_i32_12756 : BitVec 32 := 0#32
  ![v14258.toNat, 0, 0]

def k0_chk2803 (v14258 : BitVec 32) : Prop :=
  (∀ a, (k0_off2803 v14258) a + S1x16x128.size a ≤ S16384x16x128.size a)
theorem k0_off2803_inb : ∀ (v14258 : BitVec 32) (k0_hw2803 : k0_chk2803 v14258), ∀ a, (k0_off2803 v14258) a + S1x16x128.size a ≤ S16384x16x128.size a := fun v14258 k0_hw2803 => k0_hw2803

def k0_off2804 (v14264 : BitVec 32) : Fin 3 → Nat :=
  let c0_i32_12762 : BitVec 32 := 0#32
  let c0_i32_12763 : BitVec 32 := 0#32
  ![v14264.toNat, 0, 0]

def k0_chk2804 (v14264 : BitVec 32) : Prop :=
  (∀ a, (k0_off2804 v14264) a + S1x16x128.size a ≤ S16384x16x128.size a)
theorem k0_off2804_inb : ∀ (v14264 : BitVec 32) (k0_hw2804 : k0_chk2804 v14264), ∀ a, (k0_off2804 v14264) a + S1x16x128.size a ≤ S16384x16x128.size a := fun v14264 k0_hw2804 => k0_hw2804

def k0_off2805 (v14270 : BitVec 32) : Fin 3 → Nat :=
  let c0_i32_12769 : BitVec 32 := 0#32
  let c0_i32_12770 : BitVec 32 := 0#32
  ![v14270.toNat, 0, 0]

def k0_chk2805 (v14270 : BitVec 32) : Prop :=
  (∀ a, (k0_off2805 v14270) a + S1x16x128.size a ≤ S16384x16x128.size a)
theorem k0_off2805_inb : ∀ (v14270 : BitVec 32) (k0_hw2805 : k0_chk2805 v14270), ∀ a, (k0_off2805 v14270) a + S1x16x128.size a ≤ S16384x16x128.size a := fun v14270 k0_hw2805 => k0_hw2805

def k0_off2806 (v14276 : BitVec 32) : Fin 3 → Nat :=
  let c0_i32_12776 : BitVec 32 := 0#32
  let c0_i32_12777 : BitVec 32 := 0#32
  ![v14276.toNat, 0, 0]

def k0_chk2806 (v14276 : BitVec 32) : Prop :=
  (∀ a, (k0_off2806 v14276) a + S1x16x128.size a ≤ S16384x16x128.size a)
theorem k0_off2806_inb : ∀ (v14276 : BitVec 32) (k0_hw2806 : k0_chk2806 v14276), ∀ a, (k0_off2806 v14276) a + S1x16x128.size a ≤ S16384x16x128.size a := fun v14276 k0_hw2806 => k0_hw2806

def k0_off2807 (v14282 : BitVec 32) : Fin 3 → Nat :=
  let c0_i32_12783 : BitVec 32 := 0#32
  let c0_i32_12784 : BitVec 32 := 0#32
  ![v14282.toNat, 0, 0]

def k0_chk2807 (v14282 : BitVec 32) : Prop :=
  (∀ a, (k0_off2807 v14282) a + S1x16x128.size a ≤ S16384x16x128.size a)
theorem k0_off2807_inb : ∀ (v14282 : BitVec 32) (k0_hw2807 : k0_chk2807 v14282), ∀ a, (k0_off2807 v14282) a + S1x16x128.size a ≤ S16384x16x128.size a := fun v14282 k0_hw2807 => k0_hw2807

def k0_off2808 (v14288 : BitVec 32) : Fin 3 → Nat :=
  let c0_i32_12790 : BitVec 32 := 0#32
  let c0_i32_12791 : BitVec 32 := 0#32
  ![v14288.toNat, 0, 0]

def k0_chk2808 (v14288 : BitVec 32) : Prop :=
  (∀ a, (k0_off2808 v14288) a + S1x16x128.size a ≤ S16384x16x128.size a)
theorem k0_off2808_inb : ∀ (v14288 : BitVec 32) (k0_hw2808 : k0_chk2808 v14288), ∀ a, (k0_off2808 v14288) a + S1x16x128.size a ≤ S16384x16x128.size a := fun v14288 k0_hw2808 => k0_hw2808

def k0_off2809 (v14294 : BitVec 32) : Fin 3 → Nat :=
  let c0_i32_12797 : BitVec 32 := 0#32
  let c0_i32_12798 : BitVec 32 := 0#32
  ![v14294.toNat, 0, 0]

def k0_chk2809 (v14294 : BitVec 32) : Prop :=
  (∀ a, (k0_off2809 v14294) a + S1x16x128.size a ≤ S16384x16x128.size a)
theorem k0_off2809_inb : ∀ (v14294 : BitVec 32) (k0_hw2809 : k0_chk2809 v14294), ∀ a, (k0_off2809 v14294) a + S1x16x128.size a ≤ S16384x16x128.size a := fun v14294 k0_hw2809 => k0_hw2809

def k0_off2810 (v14300 : BitVec 32) : Fin 3 → Nat :=
  let c0_i32_12804 : BitVec 32 := 0#32
  let c0_i32_12805 : BitVec 32 := 0#32
  ![v14300.toNat, 0, 0]

def k0_chk2810 (v14300 : BitVec 32) : Prop :=
  (∀ a, (k0_off2810 v14300) a + S1x16x128.size a ≤ S16384x16x128.size a)
theorem k0_off2810_inb : ∀ (v14300 : BitVec 32) (k0_hw2810 : k0_chk2810 v14300), ∀ a, (k0_off2810 v14300) a + S1x16x128.size a ≤ S16384x16x128.size a := fun v14300 k0_hw2810 => k0_hw2810

def k0_off2811 (v14306 : BitVec 32) : Fin 3 → Nat :=
  let c0_i32_12811 : BitVec 32 := 0#32
  let c0_i32_12812 : BitVec 32 := 0#32
  ![v14306.toNat, 0, 0]

def k0_chk2811 (v14306 : BitVec 32) : Prop :=
  (∀ a, (k0_off2811 v14306) a + S1x16x128.size a ≤ S16384x16x128.size a)
theorem k0_off2811_inb : ∀ (v14306 : BitVec 32) (k0_hw2811 : k0_chk2811 v14306), ∀ a, (k0_off2811 v14306) a + S1x16x128.size a ≤ S16384x16x128.size a := fun v14306 k0_hw2811 => k0_hw2811

def k0_off2812 (v14312 : BitVec 32) : Fin 3 → Nat :=
  let c0_i32_12818 : BitVec 32 := 0#32
  let c0_i32_12819 : BitVec 32 := 0#32
  ![v14312.toNat, 0, 0]

def k0_chk2812 (v14312 : BitVec 32) : Prop :=
  (∀ a, (k0_off2812 v14312) a + S1x16x128.size a ≤ S16384x16x128.size a)
theorem k0_off2812_inb : ∀ (v14312 : BitVec 32) (k0_hw2812 : k0_chk2812 v14312), ∀ a, (k0_off2812 v14312) a + S1x16x128.size a ≤ S16384x16x128.size a := fun v14312 k0_hw2812 => k0_hw2812

def k0_off2813 (v14318 : BitVec 32) : Fin 3 → Nat :=
  let c0_i32_12825 : BitVec 32 := 0#32
  let c0_i32_12826 : BitVec 32 := 0#32
  ![v14318.toNat, 0, 0]

def k0_chk2813 (v14318 : BitVec 32) : Prop :=
  (∀ a, (k0_off2813 v14318) a + S1x16x128.size a ≤ S16384x16x128.size a)
theorem k0_off2813_inb : ∀ (v14318 : BitVec 32) (k0_hw2813 : k0_chk2813 v14318), ∀ a, (k0_off2813 v14318) a + S1x16x128.size a ≤ S16384x16x128.size a := fun v14318 k0_hw2813 => k0_hw2813

def k0_off2814 (v14324 : BitVec 32) : Fin 3 → Nat :=
  let c0_i32_12832 : BitVec 32 := 0#32
  let c0_i32_12833 : BitVec 32 := 0#32
  ![v14324.toNat, 0, 0]

def k0_chk2814 (v14324 : BitVec 32) : Prop :=
  (∀ a, (k0_off2814 v14324) a + S1x16x128.size a ≤ S16384x16x128.size a)
theorem k0_off2814_inb : ∀ (v14324 : BitVec 32) (k0_hw2814 : k0_chk2814 v14324), ∀ a, (k0_off2814 v14324) a + S1x16x128.size a ≤ S16384x16x128.size a := fun v14324 k0_hw2814 => k0_hw2814

def k0_off2815 (v14330 : BitVec 32) : Fin 3 → Nat :=
  let c0_i32_12839 : BitVec 32 := 0#32
  let c0_i32_12840 : BitVec 32 := 0#32
  ![v14330.toNat, 0, 0]

def k0_chk2815 (v14330 : BitVec 32) : Prop :=
  (∀ a, (k0_off2815 v14330) a + S1x16x128.size a ≤ S16384x16x128.size a)
theorem k0_off2815_inb : ∀ (v14330 : BitVec 32) (k0_hw2815 : k0_chk2815 v14330), ∀ a, (k0_off2815 v14330) a + S1x16x128.size a ≤ S16384x16x128.size a := fun v14330 k0_hw2815 => k0_hw2815

def k0_off2816 (v14336 : BitVec 32) : Fin 3 → Nat :=
  let c0_i32_12846 : BitVec 32 := 0#32
  let c0_i32_12847 : BitVec 32 := 0#32
  ![v14336.toNat, 0, 0]

def k0_chk2816 (v14336 : BitVec 32) : Prop :=
  (∀ a, (k0_off2816 v14336) a + S1x16x128.size a ≤ S16384x16x128.size a)
theorem k0_off2816_inb : ∀ (v14336 : BitVec 32) (k0_hw2816 : k0_chk2816 v14336), ∀ a, (k0_off2816 v14336) a + S1x16x128.size a ≤ S16384x16x128.size a := fun v14336 k0_hw2816 => k0_hw2816

def k0_off2817 (v14615 : BitVec 32) : Fin 3 → Nat :=
  let c0_i32_12971 : BitVec 32 := 0#32
  let c0_i32_12972 : BitVec 32 := 0#32
  ![v14615.toNat, 0, 0]

def k0_chk2817 (v14615 : BitVec 32) : Prop :=
  (∀ a, (k0_off2817 v14615) a + S1x16x128.size a ≤ S16384x16x128.size a)
theorem k0_off2817_inb : ∀ (v14615 : BitVec 32) (k0_hw2817 : k0_chk2817 v14615), ∀ a, (k0_off2817 v14615) a + S1x16x128.size a ≤ S16384x16x128.size a := fun v14615 k0_hw2817 => k0_hw2817

def k0_off2818 (v14621 : BitVec 32) : Fin 3 → Nat :=
  let c0_i32_12978 : BitVec 32 := 0#32
  let c0_i32_12979 : BitVec 32 := 0#32
  ![v14621.toNat, 0, 0]

def k0_chk2818 (v14621 : BitVec 32) : Prop :=
  (∀ a, (k0_off2818 v14621) a + S1x16x128.size a ≤ S16384x16x128.size a)
theorem k0_off2818_inb : ∀ (v14621 : BitVec 32) (k0_hw2818 : k0_chk2818 v14621), ∀ a, (k0_off2818 v14621) a + S1x16x128.size a ≤ S16384x16x128.size a := fun v14621 k0_hw2818 => k0_hw2818

def k0_off2819 (v14627 : BitVec 32) : Fin 3 → Nat :=
  let c0_i32_12985 : BitVec 32 := 0#32
  let c0_i32_12986 : BitVec 32 := 0#32
  ![v14627.toNat, 0, 0]

def k0_chk2819 (v14627 : BitVec 32) : Prop :=
  (∀ a, (k0_off2819 v14627) a + S1x16x128.size a ≤ S16384x16x128.size a)
theorem k0_off2819_inb : ∀ (v14627 : BitVec 32) (k0_hw2819 : k0_chk2819 v14627), ∀ a, (k0_off2819 v14627) a + S1x16x128.size a ≤ S16384x16x128.size a := fun v14627 k0_hw2819 => k0_hw2819

def k0_off2820 (v14633 : BitVec 32) : Fin 3 → Nat :=
  let c0_i32_12992 : BitVec 32 := 0#32
  let c0_i32_12993 : BitVec 32 := 0#32
  ![v14633.toNat, 0, 0]

def k0_chk2820 (v14633 : BitVec 32) : Prop :=
  (∀ a, (k0_off2820 v14633) a + S1x16x128.size a ≤ S16384x16x128.size a)
theorem k0_off2820_inb : ∀ (v14633 : BitVec 32) (k0_hw2820 : k0_chk2820 v14633), ∀ a, (k0_off2820 v14633) a + S1x16x128.size a ≤ S16384x16x128.size a := fun v14633 k0_hw2820 => k0_hw2820

def k0_off2821 (v14639 : BitVec 32) : Fin 3 → Nat :=
  let c0_i32_12999 : BitVec 32 := 0#32
  let c0_i32_13000 : BitVec 32 := 0#32
  ![v14639.toNat, 0, 0]

def k0_chk2821 (v14639 : BitVec 32) : Prop :=
  (∀ a, (k0_off2821 v14639) a + S1x16x128.size a ≤ S16384x16x128.size a)
theorem k0_off2821_inb : ∀ (v14639 : BitVec 32) (k0_hw2821 : k0_chk2821 v14639), ∀ a, (k0_off2821 v14639) a + S1x16x128.size a ≤ S16384x16x128.size a := fun v14639 k0_hw2821 => k0_hw2821

def k0_off2822 (v14645 : BitVec 32) : Fin 3 → Nat :=
  let c0_i32_13006 : BitVec 32 := 0#32
  let c0_i32_13007 : BitVec 32 := 0#32
  ![v14645.toNat, 0, 0]

def k0_chk2822 (v14645 : BitVec 32) : Prop :=
  (∀ a, (k0_off2822 v14645) a + S1x16x128.size a ≤ S16384x16x128.size a)
theorem k0_off2822_inb : ∀ (v14645 : BitVec 32) (k0_hw2822 : k0_chk2822 v14645), ∀ a, (k0_off2822 v14645) a + S1x16x128.size a ≤ S16384x16x128.size a := fun v14645 k0_hw2822 => k0_hw2822

def k0_off2823 (v14651 : BitVec 32) : Fin 3 → Nat :=
  let c0_i32_13013 : BitVec 32 := 0#32
  let c0_i32_13014 : BitVec 32 := 0#32
  ![v14651.toNat, 0, 0]

def k0_chk2823 (v14651 : BitVec 32) : Prop :=
  (∀ a, (k0_off2823 v14651) a + S1x16x128.size a ≤ S16384x16x128.size a)
theorem k0_off2823_inb : ∀ (v14651 : BitVec 32) (k0_hw2823 : k0_chk2823 v14651), ∀ a, (k0_off2823 v14651) a + S1x16x128.size a ≤ S16384x16x128.size a := fun v14651 k0_hw2823 => k0_hw2823

def k0_off2824 (v14657 : BitVec 32) : Fin 3 → Nat :=
  let c0_i32_13020 : BitVec 32 := 0#32
  let c0_i32_13021 : BitVec 32 := 0#32
  ![v14657.toNat, 0, 0]

def k0_chk2824 (v14657 : BitVec 32) : Prop :=
  (∀ a, (k0_off2824 v14657) a + S1x16x128.size a ≤ S16384x16x128.size a)
theorem k0_off2824_inb : ∀ (v14657 : BitVec 32) (k0_hw2824 : k0_chk2824 v14657), ∀ a, (k0_off2824 v14657) a + S1x16x128.size a ≤ S16384x16x128.size a := fun v14657 k0_hw2824 => k0_hw2824

def k0_off2825 (v14663 : BitVec 32) : Fin 3 → Nat :=
  let c0_i32_13027 : BitVec 32 := 0#32
  let c0_i32_13028 : BitVec 32 := 0#32
  ![v14663.toNat, 0, 0]

def k0_chk2825 (v14663 : BitVec 32) : Prop :=
  (∀ a, (k0_off2825 v14663) a + S1x16x128.size a ≤ S16384x16x128.size a)
theorem k0_off2825_inb : ∀ (v14663 : BitVec 32) (k0_hw2825 : k0_chk2825 v14663), ∀ a, (k0_off2825 v14663) a + S1x16x128.size a ≤ S16384x16x128.size a := fun v14663 k0_hw2825 => k0_hw2825

def k0_off2826 (v14669 : BitVec 32) : Fin 3 → Nat :=
  let c0_i32_13034 : BitVec 32 := 0#32
  let c0_i32_13035 : BitVec 32 := 0#32
  ![v14669.toNat, 0, 0]

def k0_chk2826 (v14669 : BitVec 32) : Prop :=
  (∀ a, (k0_off2826 v14669) a + S1x16x128.size a ≤ S16384x16x128.size a)
theorem k0_off2826_inb : ∀ (v14669 : BitVec 32) (k0_hw2826 : k0_chk2826 v14669), ∀ a, (k0_off2826 v14669) a + S1x16x128.size a ≤ S16384x16x128.size a := fun v14669 k0_hw2826 => k0_hw2826

def k0_off2827 (v14675 : BitVec 32) : Fin 3 → Nat :=
  let c0_i32_13041 : BitVec 32 := 0#32
  let c0_i32_13042 : BitVec 32 := 0#32
  ![v14675.toNat, 0, 0]

def k0_chk2827 (v14675 : BitVec 32) : Prop :=
  (∀ a, (k0_off2827 v14675) a + S1x16x128.size a ≤ S16384x16x128.size a)
theorem k0_off2827_inb : ∀ (v14675 : BitVec 32) (k0_hw2827 : k0_chk2827 v14675), ∀ a, (k0_off2827 v14675) a + S1x16x128.size a ≤ S16384x16x128.size a := fun v14675 k0_hw2827 => k0_hw2827

def k0_off2828 (v14681 : BitVec 32) : Fin 3 → Nat :=
  let c0_i32_13048 : BitVec 32 := 0#32
  let c0_i32_13049 : BitVec 32 := 0#32
  ![v14681.toNat, 0, 0]

def k0_chk2828 (v14681 : BitVec 32) : Prop :=
  (∀ a, (k0_off2828 v14681) a + S1x16x128.size a ≤ S16384x16x128.size a)
theorem k0_off2828_inb : ∀ (v14681 : BitVec 32) (k0_hw2828 : k0_chk2828 v14681), ∀ a, (k0_off2828 v14681) a + S1x16x128.size a ≤ S16384x16x128.size a := fun v14681 k0_hw2828 => k0_hw2828

def k0_off2829 (v14687 : BitVec 32) : Fin 3 → Nat :=
  let c0_i32_13055 : BitVec 32 := 0#32
  let c0_i32_13056 : BitVec 32 := 0#32
  ![v14687.toNat, 0, 0]

def k0_chk2829 (v14687 : BitVec 32) : Prop :=
  (∀ a, (k0_off2829 v14687) a + S1x16x128.size a ≤ S16384x16x128.size a)
theorem k0_off2829_inb : ∀ (v14687 : BitVec 32) (k0_hw2829 : k0_chk2829 v14687), ∀ a, (k0_off2829 v14687) a + S1x16x128.size a ≤ S16384x16x128.size a := fun v14687 k0_hw2829 => k0_hw2829

def k0_off2830 (v14693 : BitVec 32) : Fin 3 → Nat :=
  let c0_i32_13062 : BitVec 32 := 0#32
  let c0_i32_13063 : BitVec 32 := 0#32
  ![v14693.toNat, 0, 0]

def k0_chk2830 (v14693 : BitVec 32) : Prop :=
  (∀ a, (k0_off2830 v14693) a + S1x16x128.size a ≤ S16384x16x128.size a)
theorem k0_off2830_inb : ∀ (v14693 : BitVec 32) (k0_hw2830 : k0_chk2830 v14693), ∀ a, (k0_off2830 v14693) a + S1x16x128.size a ≤ S16384x16x128.size a := fun v14693 k0_hw2830 => k0_hw2830

def k0_off2831 (v14699 : BitVec 32) : Fin 3 → Nat :=
  let c0_i32_13069 : BitVec 32 := 0#32
  let c0_i32_13070 : BitVec 32 := 0#32
  ![v14699.toNat, 0, 0]

def k0_chk2831 (v14699 : BitVec 32) : Prop :=
  (∀ a, (k0_off2831 v14699) a + S1x16x128.size a ≤ S16384x16x128.size a)
theorem k0_off2831_inb : ∀ (v14699 : BitVec 32) (k0_hw2831 : k0_chk2831 v14699), ∀ a, (k0_off2831 v14699) a + S1x16x128.size a ≤ S16384x16x128.size a := fun v14699 k0_hw2831 => k0_hw2831

def k0_off2832 (v14705 : BitVec 32) : Fin 3 → Nat :=
  let c0_i32_13076 : BitVec 32 := 0#32
  let c0_i32_13077 : BitVec 32 := 0#32
  ![v14705.toNat, 0, 0]

def k0_chk2832 (v14705 : BitVec 32) : Prop :=
  (∀ a, (k0_off2832 v14705) a + S1x16x128.size a ≤ S16384x16x128.size a)
theorem k0_off2832_inb : ∀ (v14705 : BitVec 32) (k0_hw2832 : k0_chk2832 v14705), ∀ a, (k0_off2832 v14705) a + S1x16x128.size a ≤ S16384x16x128.size a := fun v14705 k0_hw2832 => k0_hw2832

def k0_off2833 (v14711 : BitVec 32) : Fin 3 → Nat :=
  let c0_i32_13083 : BitVec 32 := 0#32
  let c0_i32_13084 : BitVec 32 := 0#32
  ![v14711.toNat, 0, 0]

def k0_chk2833 (v14711 : BitVec 32) : Prop :=
  (∀ a, (k0_off2833 v14711) a + S1x16x128.size a ≤ S16384x16x128.size a)
theorem k0_off2833_inb : ∀ (v14711 : BitVec 32) (k0_hw2833 : k0_chk2833 v14711), ∀ a, (k0_off2833 v14711) a + S1x16x128.size a ≤ S16384x16x128.size a := fun v14711 k0_hw2833 => k0_hw2833

def k0_off2834 (v14717 : BitVec 32) : Fin 3 → Nat :=
  let c0_i32_13090 : BitVec 32 := 0#32
  let c0_i32_13091 : BitVec 32 := 0#32
  ![v14717.toNat, 0, 0]

def k0_chk2834 (v14717 : BitVec 32) : Prop :=
  (∀ a, (k0_off2834 v14717) a + S1x16x128.size a ≤ S16384x16x128.size a)
theorem k0_off2834_inb : ∀ (v14717 : BitVec 32) (k0_hw2834 : k0_chk2834 v14717), ∀ a, (k0_off2834 v14717) a + S1x16x128.size a ≤ S16384x16x128.size a := fun v14717 k0_hw2834 => k0_hw2834

def k0_off2835 (v14723 : BitVec 32) : Fin 3 → Nat :=
  let c0_i32_13097 : BitVec 32 := 0#32
  let c0_i32_13098 : BitVec 32 := 0#32
  ![v14723.toNat, 0, 0]

def k0_chk2835 (v14723 : BitVec 32) : Prop :=
  (∀ a, (k0_off2835 v14723) a + S1x16x128.size a ≤ S16384x16x128.size a)
theorem k0_off2835_inb : ∀ (v14723 : BitVec 32) (k0_hw2835 : k0_chk2835 v14723), ∀ a, (k0_off2835 v14723) a + S1x16x128.size a ≤ S16384x16x128.size a := fun v14723 k0_hw2835 => k0_hw2835

def k0_off2836 (v14729 : BitVec 32) : Fin 3 → Nat :=
  let c0_i32_13104 : BitVec 32 := 0#32
  let c0_i32_13105 : BitVec 32 := 0#32
  ![v14729.toNat, 0, 0]

def k0_chk2836 (v14729 : BitVec 32) : Prop :=
  (∀ a, (k0_off2836 v14729) a + S1x16x128.size a ≤ S16384x16x128.size a)
theorem k0_off2836_inb : ∀ (v14729 : BitVec 32) (k0_hw2836 : k0_chk2836 v14729), ∀ a, (k0_off2836 v14729) a + S1x16x128.size a ≤ S16384x16x128.size a := fun v14729 k0_hw2836 => k0_hw2836

def k0_off2837 (v14735 : BitVec 32) : Fin 3 → Nat :=
  let c0_i32_13111 : BitVec 32 := 0#32
  let c0_i32_13112 : BitVec 32 := 0#32
  ![v14735.toNat, 0, 0]

def k0_chk2837 (v14735 : BitVec 32) : Prop :=
  (∀ a, (k0_off2837 v14735) a + S1x16x128.size a ≤ S16384x16x128.size a)
theorem k0_off2837_inb : ∀ (v14735 : BitVec 32) (k0_hw2837 : k0_chk2837 v14735), ∀ a, (k0_off2837 v14735) a + S1x16x128.size a ≤ S16384x16x128.size a := fun v14735 k0_hw2837 => k0_hw2837

def k0_off2838 (v14741 : BitVec 32) : Fin 3 → Nat :=
  let c0_i32_13118 : BitVec 32 := 0#32
  let c0_i32_13119 : BitVec 32 := 0#32
  ![v14741.toNat, 0, 0]

def k0_chk2838 (v14741 : BitVec 32) : Prop :=
  (∀ a, (k0_off2838 v14741) a + S1x16x128.size a ≤ S16384x16x128.size a)
theorem k0_off2838_inb : ∀ (v14741 : BitVec 32) (k0_hw2838 : k0_chk2838 v14741), ∀ a, (k0_off2838 v14741) a + S1x16x128.size a ≤ S16384x16x128.size a := fun v14741 k0_hw2838 => k0_hw2838

def k0_off2839 (v14747 : BitVec 32) : Fin 3 → Nat :=
  let c0_i32_13125 : BitVec 32 := 0#32
  let c0_i32_13126 : BitVec 32 := 0#32
  ![v14747.toNat, 0, 0]

def k0_chk2839 (v14747 : BitVec 32) : Prop :=
  (∀ a, (k0_off2839 v14747) a + S1x16x128.size a ≤ S16384x16x128.size a)
theorem k0_off2839_inb : ∀ (v14747 : BitVec 32) (k0_hw2839 : k0_chk2839 v14747), ∀ a, (k0_off2839 v14747) a + S1x16x128.size a ≤ S16384x16x128.size a := fun v14747 k0_hw2839 => k0_hw2839

def k0_off2840 (v14753 : BitVec 32) : Fin 3 → Nat :=
  let c0_i32_13132 : BitVec 32 := 0#32
  let c0_i32_13133 : BitVec 32 := 0#32
  ![v14753.toNat, 0, 0]

def k0_chk2840 (v14753 : BitVec 32) : Prop :=
  (∀ a, (k0_off2840 v14753) a + S1x16x128.size a ≤ S16384x16x128.size a)
theorem k0_off2840_inb : ∀ (v14753 : BitVec 32) (k0_hw2840 : k0_chk2840 v14753), ∀ a, (k0_off2840 v14753) a + S1x16x128.size a ≤ S16384x16x128.size a := fun v14753 k0_hw2840 => k0_hw2840

def k0_off2841 (v14759 : BitVec 32) : Fin 3 → Nat :=
  let c0_i32_13139 : BitVec 32 := 0#32
  let c0_i32_13140 : BitVec 32 := 0#32
  ![v14759.toNat, 0, 0]

def k0_chk2841 (v14759 : BitVec 32) : Prop :=
  (∀ a, (k0_off2841 v14759) a + S1x16x128.size a ≤ S16384x16x128.size a)
theorem k0_off2841_inb : ∀ (v14759 : BitVec 32) (k0_hw2841 : k0_chk2841 v14759), ∀ a, (k0_off2841 v14759) a + S1x16x128.size a ≤ S16384x16x128.size a := fun v14759 k0_hw2841 => k0_hw2841

def k0_off2842 (v14765 : BitVec 32) : Fin 3 → Nat :=
  let c0_i32_13146 : BitVec 32 := 0#32
  let c0_i32_13147 : BitVec 32 := 0#32
  ![v14765.toNat, 0, 0]

def k0_chk2842 (v14765 : BitVec 32) : Prop :=
  (∀ a, (k0_off2842 v14765) a + S1x16x128.size a ≤ S16384x16x128.size a)
theorem k0_off2842_inb : ∀ (v14765 : BitVec 32) (k0_hw2842 : k0_chk2842 v14765), ∀ a, (k0_off2842 v14765) a + S1x16x128.size a ≤ S16384x16x128.size a := fun v14765 k0_hw2842 => k0_hw2842

def k0_off2843 (v14771 : BitVec 32) : Fin 3 → Nat :=
  let c0_i32_13153 : BitVec 32 := 0#32
  let c0_i32_13154 : BitVec 32 := 0#32
  ![v14771.toNat, 0, 0]

def k0_chk2843 (v14771 : BitVec 32) : Prop :=
  (∀ a, (k0_off2843 v14771) a + S1x16x128.size a ≤ S16384x16x128.size a)
theorem k0_off2843_inb : ∀ (v14771 : BitVec 32) (k0_hw2843 : k0_chk2843 v14771), ∀ a, (k0_off2843 v14771) a + S1x16x128.size a ≤ S16384x16x128.size a := fun v14771 k0_hw2843 => k0_hw2843

def k0_off2844 (v14777 : BitVec 32) : Fin 3 → Nat :=
  let c0_i32_13160 : BitVec 32 := 0#32
  let c0_i32_13161 : BitVec 32 := 0#32
  ![v14777.toNat, 0, 0]

def k0_chk2844 (v14777 : BitVec 32) : Prop :=
  (∀ a, (k0_off2844 v14777) a + S1x16x128.size a ≤ S16384x16x128.size a)
theorem k0_off2844_inb : ∀ (v14777 : BitVec 32) (k0_hw2844 : k0_chk2844 v14777), ∀ a, (k0_off2844 v14777) a + S1x16x128.size a ≤ S16384x16x128.size a := fun v14777 k0_hw2844 => k0_hw2844

def k0_off2845 (v14783 : BitVec 32) : Fin 3 → Nat :=
  let c0_i32_13167 : BitVec 32 := 0#32
  let c0_i32_13168 : BitVec 32 := 0#32
  ![v14783.toNat, 0, 0]

def k0_chk2845 (v14783 : BitVec 32) : Prop :=
  (∀ a, (k0_off2845 v14783) a + S1x16x128.size a ≤ S16384x16x128.size a)
theorem k0_off2845_inb : ∀ (v14783 : BitVec 32) (k0_hw2845 : k0_chk2845 v14783), ∀ a, (k0_off2845 v14783) a + S1x16x128.size a ≤ S16384x16x128.size a := fun v14783 k0_hw2845 => k0_hw2845

def k0_off2846 (v14789 : BitVec 32) : Fin 3 → Nat :=
  let c0_i32_13174 : BitVec 32 := 0#32
  let c0_i32_13175 : BitVec 32 := 0#32
  ![v14789.toNat, 0, 0]

def k0_chk2846 (v14789 : BitVec 32) : Prop :=
  (∀ a, (k0_off2846 v14789) a + S1x16x128.size a ≤ S16384x16x128.size a)
theorem k0_off2846_inb : ∀ (v14789 : BitVec 32) (k0_hw2846 : k0_chk2846 v14789), ∀ a, (k0_off2846 v14789) a + S1x16x128.size a ≤ S16384x16x128.size a := fun v14789 k0_hw2846 => k0_hw2846

def k0_off2847 (v14795 : BitVec 32) : Fin 3 → Nat :=
  let c0_i32_13181 : BitVec 32 := 0#32
  let c0_i32_13182 : BitVec 32 := 0#32
  ![v14795.toNat, 0, 0]

def k0_chk2847 (v14795 : BitVec 32) : Prop :=
  (∀ a, (k0_off2847 v14795) a + S1x16x128.size a ≤ S16384x16x128.size a)
theorem k0_off2847_inb : ∀ (v14795 : BitVec 32) (k0_hw2847 : k0_chk2847 v14795), ∀ a, (k0_off2847 v14795) a + S1x16x128.size a ≤ S16384x16x128.size a := fun v14795 k0_hw2847 => k0_hw2847

def k0_off2848 (v14801 : BitVec 32) : Fin 3 → Nat :=
  let c0_i32_13188 : BitVec 32 := 0#32
  let c0_i32_13189 : BitVec 32 := 0#32
  ![v14801.toNat, 0, 0]

def k0_chk2848 (v14801 : BitVec 32) : Prop :=
  (∀ a, (k0_off2848 v14801) a + S1x16x128.size a ≤ S16384x16x128.size a)
theorem k0_off2848_inb : ∀ (v14801 : BitVec 32) (k0_hw2848 : k0_chk2848 v14801), ∀ a, (k0_off2848 v14801) a + S1x16x128.size a ≤ S16384x16x128.size a := fun v14801 k0_hw2848 => k0_hw2848

def k0_off2849 (v14807 : BitVec 32) : Fin 3 → Nat :=
  let c0_i32_13195 : BitVec 32 := 0#32
  let c0_i32_13196 : BitVec 32 := 0#32
  ![v14807.toNat, 0, 0]

def k0_chk2849 (v14807 : BitVec 32) : Prop :=
  (∀ a, (k0_off2849 v14807) a + S1x16x128.size a ≤ S16384x16x128.size a)
theorem k0_off2849_inb : ∀ (v14807 : BitVec 32) (k0_hw2849 : k0_chk2849 v14807), ∀ a, (k0_off2849 v14807) a + S1x16x128.size a ≤ S16384x16x128.size a := fun v14807 k0_hw2849 => k0_hw2849

def k0_off2850 (v14813 : BitVec 32) : Fin 3 → Nat :=
  let c0_i32_13202 : BitVec 32 := 0#32
  let c0_i32_13203 : BitVec 32 := 0#32
  ![v14813.toNat, 0, 0]

def k0_chk2850 (v14813 : BitVec 32) : Prop :=
  (∀ a, (k0_off2850 v14813) a + S1x16x128.size a ≤ S16384x16x128.size a)
theorem k0_off2850_inb : ∀ (v14813 : BitVec 32) (k0_hw2850 : k0_chk2850 v14813), ∀ a, (k0_off2850 v14813) a + S1x16x128.size a ≤ S16384x16x128.size a := fun v14813 k0_hw2850 => k0_hw2850

def k0_off2851 (v14819 : BitVec 32) : Fin 3 → Nat :=
  let c0_i32_13209 : BitVec 32 := 0#32
  let c0_i32_13210 : BitVec 32 := 0#32
  ![v14819.toNat, 0, 0]

def k0_chk2851 (v14819 : BitVec 32) : Prop :=
  (∀ a, (k0_off2851 v14819) a + S1x16x128.size a ≤ S16384x16x128.size a)
theorem k0_off2851_inb : ∀ (v14819 : BitVec 32) (k0_hw2851 : k0_chk2851 v14819), ∀ a, (k0_off2851 v14819) a + S1x16x128.size a ≤ S16384x16x128.size a := fun v14819 k0_hw2851 => k0_hw2851

def k0_off2852 (v14825 : BitVec 32) : Fin 3 → Nat :=
  let c0_i32_13216 : BitVec 32 := 0#32
  let c0_i32_13217 : BitVec 32 := 0#32
  ![v14825.toNat, 0, 0]

def k0_chk2852 (v14825 : BitVec 32) : Prop :=
  (∀ a, (k0_off2852 v14825) a + S1x16x128.size a ≤ S16384x16x128.size a)
theorem k0_off2852_inb : ∀ (v14825 : BitVec 32) (k0_hw2852 : k0_chk2852 v14825), ∀ a, (k0_off2852 v14825) a + S1x16x128.size a ≤ S16384x16x128.size a := fun v14825 k0_hw2852 => k0_hw2852

def k0_off2853 (v14831 : BitVec 32) : Fin 3 → Nat :=
  let c0_i32_13223 : BitVec 32 := 0#32
  let c0_i32_13224 : BitVec 32 := 0#32
  ![v14831.toNat, 0, 0]

def k0_chk2853 (v14831 : BitVec 32) : Prop :=
  (∀ a, (k0_off2853 v14831) a + S1x16x128.size a ≤ S16384x16x128.size a)
theorem k0_off2853_inb : ∀ (v14831 : BitVec 32) (k0_hw2853 : k0_chk2853 v14831), ∀ a, (k0_off2853 v14831) a + S1x16x128.size a ≤ S16384x16x128.size a := fun v14831 k0_hw2853 => k0_hw2853

def k0_off2854 (v14837 : BitVec 32) : Fin 3 → Nat :=
  let c0_i32_13230 : BitVec 32 := 0#32
  let c0_i32_13231 : BitVec 32 := 0#32
  ![v14837.toNat, 0, 0]

def k0_chk2854 (v14837 : BitVec 32) : Prop :=
  (∀ a, (k0_off2854 v14837) a + S1x16x128.size a ≤ S16384x16x128.size a)
theorem k0_off2854_inb : ∀ (v14837 : BitVec 32) (k0_hw2854 : k0_chk2854 v14837), ∀ a, (k0_off2854 v14837) a + S1x16x128.size a ≤ S16384x16x128.size a := fun v14837 k0_hw2854 => k0_hw2854

def k0_off2855 (v14843 : BitVec 32) : Fin 3 → Nat :=
  let c0_i32_13237 : BitVec 32 := 0#32
  let c0_i32_13238 : BitVec 32 := 0#32
  ![v14843.toNat, 0, 0]

def k0_chk2855 (v14843 : BitVec 32) : Prop :=
  (∀ a, (k0_off2855 v14843) a + S1x16x128.size a ≤ S16384x16x128.size a)
theorem k0_off2855_inb : ∀ (v14843 : BitVec 32) (k0_hw2855 : k0_chk2855 v14843), ∀ a, (k0_off2855 v14843) a + S1x16x128.size a ≤ S16384x16x128.size a := fun v14843 k0_hw2855 => k0_hw2855

def k0_off2856 (v14849 : BitVec 32) : Fin 3 → Nat :=
  let c0_i32_13244 : BitVec 32 := 0#32
  let c0_i32_13245 : BitVec 32 := 0#32
  ![v14849.toNat, 0, 0]

def k0_chk2856 (v14849 : BitVec 32) : Prop :=
  (∀ a, (k0_off2856 v14849) a + S1x16x128.size a ≤ S16384x16x128.size a)
theorem k0_off2856_inb : ∀ (v14849 : BitVec 32) (k0_hw2856 : k0_chk2856 v14849), ∀ a, (k0_off2856 v14849) a + S1x16x128.size a ≤ S16384x16x128.size a := fun v14849 k0_hw2856 => k0_hw2856

def k0_off2857 (v14855 : BitVec 32) : Fin 3 → Nat :=
  let c0_i32_13251 : BitVec 32 := 0#32
  let c0_i32_13252 : BitVec 32 := 0#32
  ![v14855.toNat, 0, 0]

def k0_chk2857 (v14855 : BitVec 32) : Prop :=
  (∀ a, (k0_off2857 v14855) a + S1x16x128.size a ≤ S16384x16x128.size a)
theorem k0_off2857_inb : ∀ (v14855 : BitVec 32) (k0_hw2857 : k0_chk2857 v14855), ∀ a, (k0_off2857 v14855) a + S1x16x128.size a ≤ S16384x16x128.size a := fun v14855 k0_hw2857 => k0_hw2857

def k0_off2858 (v14861 : BitVec 32) : Fin 3 → Nat :=
  let c0_i32_13258 : BitVec 32 := 0#32
  let c0_i32_13259 : BitVec 32 := 0#32
  ![v14861.toNat, 0, 0]

def k0_chk2858 (v14861 : BitVec 32) : Prop :=
  (∀ a, (k0_off2858 v14861) a + S1x16x128.size a ≤ S16384x16x128.size a)
theorem k0_off2858_inb : ∀ (v14861 : BitVec 32) (k0_hw2858 : k0_chk2858 v14861), ∀ a, (k0_off2858 v14861) a + S1x16x128.size a ≤ S16384x16x128.size a := fun v14861 k0_hw2858 => k0_hw2858

def k0_off2859 (v14867 : BitVec 32) : Fin 3 → Nat :=
  let c0_i32_13265 : BitVec 32 := 0#32
  let c0_i32_13266 : BitVec 32 := 0#32
  ![v14867.toNat, 0, 0]

def k0_chk2859 (v14867 : BitVec 32) : Prop :=
  (∀ a, (k0_off2859 v14867) a + S1x16x128.size a ≤ S16384x16x128.size a)
theorem k0_off2859_inb : ∀ (v14867 : BitVec 32) (k0_hw2859 : k0_chk2859 v14867), ∀ a, (k0_off2859 v14867) a + S1x16x128.size a ≤ S16384x16x128.size a := fun v14867 k0_hw2859 => k0_hw2859

def k0_off2860 (v14873 : BitVec 32) : Fin 3 → Nat :=
  let c0_i32_13272 : BitVec 32 := 0#32
  let c0_i32_13273 : BitVec 32 := 0#32
  ![v14873.toNat, 0, 0]

def k0_chk2860 (v14873 : BitVec 32) : Prop :=
  (∀ a, (k0_off2860 v14873) a + S1x16x128.size a ≤ S16384x16x128.size a)
theorem k0_off2860_inb : ∀ (v14873 : BitVec 32) (k0_hw2860 : k0_chk2860 v14873), ∀ a, (k0_off2860 v14873) a + S1x16x128.size a ≤ S16384x16x128.size a := fun v14873 k0_hw2860 => k0_hw2860

def k0_off2861 (v14879 : BitVec 32) : Fin 3 → Nat :=
  let c0_i32_13279 : BitVec 32 := 0#32
  let c0_i32_13280 : BitVec 32 := 0#32
  ![v14879.toNat, 0, 0]

def k0_chk2861 (v14879 : BitVec 32) : Prop :=
  (∀ a, (k0_off2861 v14879) a + S1x16x128.size a ≤ S16384x16x128.size a)
theorem k0_off2861_inb : ∀ (v14879 : BitVec 32) (k0_hw2861 : k0_chk2861 v14879), ∀ a, (k0_off2861 v14879) a + S1x16x128.size a ≤ S16384x16x128.size a := fun v14879 k0_hw2861 => k0_hw2861

def k0_off2862 (v14885 : BitVec 32) : Fin 3 → Nat :=
  let c0_i32_13286 : BitVec 32 := 0#32
  let c0_i32_13287 : BitVec 32 := 0#32
  ![v14885.toNat, 0, 0]

def k0_chk2862 (v14885 : BitVec 32) : Prop :=
  (∀ a, (k0_off2862 v14885) a + S1x16x128.size a ≤ S16384x16x128.size a)
theorem k0_off2862_inb : ∀ (v14885 : BitVec 32) (k0_hw2862 : k0_chk2862 v14885), ∀ a, (k0_off2862 v14885) a + S1x16x128.size a ≤ S16384x16x128.size a := fun v14885 k0_hw2862 => k0_hw2862

def k0_off2863 (v14891 : BitVec 32) : Fin 3 → Nat :=
  let c0_i32_13293 : BitVec 32 := 0#32
  let c0_i32_13294 : BitVec 32 := 0#32
  ![v14891.toNat, 0, 0]

def k0_chk2863 (v14891 : BitVec 32) : Prop :=
  (∀ a, (k0_off2863 v14891) a + S1x16x128.size a ≤ S16384x16x128.size a)
theorem k0_off2863_inb : ∀ (v14891 : BitVec 32) (k0_hw2863 : k0_chk2863 v14891), ∀ a, (k0_off2863 v14891) a + S1x16x128.size a ≤ S16384x16x128.size a := fun v14891 k0_hw2863 => k0_hw2863

def k0_off2864 (v14897 : BitVec 32) : Fin 3 → Nat :=
  let c0_i32_13300 : BitVec 32 := 0#32
  let c0_i32_13301 : BitVec 32 := 0#32
  ![v14897.toNat, 0, 0]

def k0_chk2864 (v14897 : BitVec 32) : Prop :=
  (∀ a, (k0_off2864 v14897) a + S1x16x128.size a ≤ S16384x16x128.size a)
theorem k0_off2864_inb : ∀ (v14897 : BitVec 32) (k0_hw2864 : k0_chk2864 v14897), ∀ a, (k0_off2864 v14897) a + S1x16x128.size a ≤ S16384x16x128.size a := fun v14897 k0_hw2864 => k0_hw2864

def k0_off2865 (v14903 : BitVec 32) : Fin 3 → Nat :=
  let c0_i32_13307 : BitVec 32 := 0#32
  let c0_i32_13308 : BitVec 32 := 0#32
  ![v14903.toNat, 0, 0]

def k0_chk2865 (v14903 : BitVec 32) : Prop :=
  (∀ a, (k0_off2865 v14903) a + S1x16x128.size a ≤ S16384x16x128.size a)
theorem k0_off2865_inb : ∀ (v14903 : BitVec 32) (k0_hw2865 : k0_chk2865 v14903), ∀ a, (k0_off2865 v14903) a + S1x16x128.size a ≤ S16384x16x128.size a := fun v14903 k0_hw2865 => k0_hw2865

def k0_off2866 (v14909 : BitVec 32) : Fin 3 → Nat :=
  let c0_i32_13314 : BitVec 32 := 0#32
  let c0_i32_13315 : BitVec 32 := 0#32
  ![v14909.toNat, 0, 0]

def k0_chk2866 (v14909 : BitVec 32) : Prop :=
  (∀ a, (k0_off2866 v14909) a + S1x16x128.size a ≤ S16384x16x128.size a)
theorem k0_off2866_inb : ∀ (v14909 : BitVec 32) (k0_hw2866 : k0_chk2866 v14909), ∀ a, (k0_off2866 v14909) a + S1x16x128.size a ≤ S16384x16x128.size a := fun v14909 k0_hw2866 => k0_hw2866

def k0_off2867 (v14915 : BitVec 32) : Fin 3 → Nat :=
  let c0_i32_13321 : BitVec 32 := 0#32
  let c0_i32_13322 : BitVec 32 := 0#32
  ![v14915.toNat, 0, 0]

def k0_chk2867 (v14915 : BitVec 32) : Prop :=
  (∀ a, (k0_off2867 v14915) a + S1x16x128.size a ≤ S16384x16x128.size a)
theorem k0_off2867_inb : ∀ (v14915 : BitVec 32) (k0_hw2867 : k0_chk2867 v14915), ∀ a, (k0_off2867 v14915) a + S1x16x128.size a ≤ S16384x16x128.size a := fun v14915 k0_hw2867 => k0_hw2867

def k0_off2868 (v14921 : BitVec 32) : Fin 3 → Nat :=
  let c0_i32_13328 : BitVec 32 := 0#32
  let c0_i32_13329 : BitVec 32 := 0#32
  ![v14921.toNat, 0, 0]

def k0_chk2868 (v14921 : BitVec 32) : Prop :=
  (∀ a, (k0_off2868 v14921) a + S1x16x128.size a ≤ S16384x16x128.size a)
theorem k0_off2868_inb : ∀ (v14921 : BitVec 32) (k0_hw2868 : k0_chk2868 v14921), ∀ a, (k0_off2868 v14921) a + S1x16x128.size a ≤ S16384x16x128.size a := fun v14921 k0_hw2868 => k0_hw2868

def k0_off2869 (v14927 : BitVec 32) : Fin 3 → Nat :=
  let c0_i32_13335 : BitVec 32 := 0#32
  let c0_i32_13336 : BitVec 32 := 0#32
  ![v14927.toNat, 0, 0]

def k0_chk2869 (v14927 : BitVec 32) : Prop :=
  (∀ a, (k0_off2869 v14927) a + S1x16x128.size a ≤ S16384x16x128.size a)
theorem k0_off2869_inb : ∀ (v14927 : BitVec 32) (k0_hw2869 : k0_chk2869 v14927), ∀ a, (k0_off2869 v14927) a + S1x16x128.size a ≤ S16384x16x128.size a := fun v14927 k0_hw2869 => k0_hw2869

def k0_off2870 (v14933 : BitVec 32) : Fin 3 → Nat :=
  let c0_i32_13342 : BitVec 32 := 0#32
  let c0_i32_13343 : BitVec 32 := 0#32
  ![v14933.toNat, 0, 0]

def k0_chk2870 (v14933 : BitVec 32) : Prop :=
  (∀ a, (k0_off2870 v14933) a + S1x16x128.size a ≤ S16384x16x128.size a)
theorem k0_off2870_inb : ∀ (v14933 : BitVec 32) (k0_hw2870 : k0_chk2870 v14933), ∀ a, (k0_off2870 v14933) a + S1x16x128.size a ≤ S16384x16x128.size a := fun v14933 k0_hw2870 => k0_hw2870

def k0_off2871 (v14939 : BitVec 32) : Fin 3 → Nat :=
  let c0_i32_13349 : BitVec 32 := 0#32
  let c0_i32_13350 : BitVec 32 := 0#32
  ![v14939.toNat, 0, 0]

def k0_chk2871 (v14939 : BitVec 32) : Prop :=
  (∀ a, (k0_off2871 v14939) a + S1x16x128.size a ≤ S16384x16x128.size a)
theorem k0_off2871_inb : ∀ (v14939 : BitVec 32) (k0_hw2871 : k0_chk2871 v14939), ∀ a, (k0_off2871 v14939) a + S1x16x128.size a ≤ S16384x16x128.size a := fun v14939 k0_hw2871 => k0_hw2871

def k0_off2872 (v14945 : BitVec 32) : Fin 3 → Nat :=
  let c0_i32_13356 : BitVec 32 := 0#32
  let c0_i32_13357 : BitVec 32 := 0#32
  ![v14945.toNat, 0, 0]

def k0_chk2872 (v14945 : BitVec 32) : Prop :=
  (∀ a, (k0_off2872 v14945) a + S1x16x128.size a ≤ S16384x16x128.size a)
theorem k0_off2872_inb : ∀ (v14945 : BitVec 32) (k0_hw2872 : k0_chk2872 v14945), ∀ a, (k0_off2872 v14945) a + S1x16x128.size a ≤ S16384x16x128.size a := fun v14945 k0_hw2872 => k0_hw2872

def k0_off2873 (v14951 : BitVec 32) : Fin 3 → Nat :=
  let c0_i32_13363 : BitVec 32 := 0#32
  let c0_i32_13364 : BitVec 32 := 0#32
  ![v14951.toNat, 0, 0]

def k0_chk2873 (v14951 : BitVec 32) : Prop :=
  (∀ a, (k0_off2873 v14951) a + S1x16x128.size a ≤ S16384x16x128.size a)
theorem k0_off2873_inb : ∀ (v14951 : BitVec 32) (k0_hw2873 : k0_chk2873 v14951), ∀ a, (k0_off2873 v14951) a + S1x16x128.size a ≤ S16384x16x128.size a := fun v14951 k0_hw2873 => k0_hw2873

def k0_off2874 (v14957 : BitVec 32) : Fin 3 → Nat :=
  let c0_i32_13370 : BitVec 32 := 0#32
  let c0_i32_13371 : BitVec 32 := 0#32
  ![v14957.toNat, 0, 0]

def k0_chk2874 (v14957 : BitVec 32) : Prop :=
  (∀ a, (k0_off2874 v14957) a + S1x16x128.size a ≤ S16384x16x128.size a)
theorem k0_off2874_inb : ∀ (v14957 : BitVec 32) (k0_hw2874 : k0_chk2874 v14957), ∀ a, (k0_off2874 v14957) a + S1x16x128.size a ≤ S16384x16x128.size a := fun v14957 k0_hw2874 => k0_hw2874

def k0_off2875 (v14963 : BitVec 32) : Fin 3 → Nat :=
  let c0_i32_13377 : BitVec 32 := 0#32
  let c0_i32_13378 : BitVec 32 := 0#32
  ![v14963.toNat, 0, 0]

def k0_chk2875 (v14963 : BitVec 32) : Prop :=
  (∀ a, (k0_off2875 v14963) a + S1x16x128.size a ≤ S16384x16x128.size a)
theorem k0_off2875_inb : ∀ (v14963 : BitVec 32) (k0_hw2875 : k0_chk2875 v14963), ∀ a, (k0_off2875 v14963) a + S1x16x128.size a ≤ S16384x16x128.size a := fun v14963 k0_hw2875 => k0_hw2875

def k0_off2876 (v14969 : BitVec 32) : Fin 3 → Nat :=
  let c0_i32_13384 : BitVec 32 := 0#32
  let c0_i32_13385 : BitVec 32 := 0#32
  ![v14969.toNat, 0, 0]

def k0_chk2876 (v14969 : BitVec 32) : Prop :=
  (∀ a, (k0_off2876 v14969) a + S1x16x128.size a ≤ S16384x16x128.size a)
theorem k0_off2876_inb : ∀ (v14969 : BitVec 32) (k0_hw2876 : k0_chk2876 v14969), ∀ a, (k0_off2876 v14969) a + S1x16x128.size a ≤ S16384x16x128.size a := fun v14969 k0_hw2876 => k0_hw2876

def k0_off2877 (v14975 : BitVec 32) : Fin 3 → Nat :=
  let c0_i32_13391 : BitVec 32 := 0#32
  let c0_i32_13392 : BitVec 32 := 0#32
  ![v14975.toNat, 0, 0]

def k0_chk2877 (v14975 : BitVec 32) : Prop :=
  (∀ a, (k0_off2877 v14975) a + S1x16x128.size a ≤ S16384x16x128.size a)
theorem k0_off2877_inb : ∀ (v14975 : BitVec 32) (k0_hw2877 : k0_chk2877 v14975), ∀ a, (k0_off2877 v14975) a + S1x16x128.size a ≤ S16384x16x128.size a := fun v14975 k0_hw2877 => k0_hw2877

def k0_off2878 (v14981 : BitVec 32) : Fin 3 → Nat :=
  let c0_i32_13398 : BitVec 32 := 0#32
  let c0_i32_13399 : BitVec 32 := 0#32
  ![v14981.toNat, 0, 0]

def k0_chk2878 (v14981 : BitVec 32) : Prop :=
  (∀ a, (k0_off2878 v14981) a + S1x16x128.size a ≤ S16384x16x128.size a)
theorem k0_off2878_inb : ∀ (v14981 : BitVec 32) (k0_hw2878 : k0_chk2878 v14981), ∀ a, (k0_off2878 v14981) a + S1x16x128.size a ≤ S16384x16x128.size a := fun v14981 k0_hw2878 => k0_hw2878

def k0_off2879 (v14987 : BitVec 32) : Fin 3 → Nat :=
  let c0_i32_13405 : BitVec 32 := 0#32
  let c0_i32_13406 : BitVec 32 := 0#32
  ![v14987.toNat, 0, 0]

def k0_chk2879 (v14987 : BitVec 32) : Prop :=
  (∀ a, (k0_off2879 v14987) a + S1x16x128.size a ≤ S16384x16x128.size a)
theorem k0_off2879_inb : ∀ (v14987 : BitVec 32) (k0_hw2879 : k0_chk2879 v14987), ∀ a, (k0_off2879 v14987) a + S1x16x128.size a ≤ S16384x16x128.size a := fun v14987 k0_hw2879 => k0_hw2879

def k0_off2880 (v14993 : BitVec 32) : Fin 3 → Nat :=
  let c0_i32_13412 : BitVec 32 := 0#32
  let c0_i32_13413 : BitVec 32 := 0#32
  ![v14993.toNat, 0, 0]

def k0_chk2880 (v14993 : BitVec 32) : Prop :=
  (∀ a, (k0_off2880 v14993) a + S1x16x128.size a ≤ S16384x16x128.size a)
theorem k0_off2880_inb : ∀ (v14993 : BitVec 32) (k0_hw2880 : k0_chk2880 v14993), ∀ a, (k0_off2880 v14993) a + S1x16x128.size a ≤ S16384x16x128.size a := fun v14993 k0_hw2880 => k0_hw2880

def k0_off2881 (v14999 : BitVec 32) : Fin 3 → Nat :=
  let c0_i32_13419 : BitVec 32 := 0#32
  let c0_i32_13420 : BitVec 32 := 0#32
  ![v14999.toNat, 0, 0]

def k0_chk2881 (v14999 : BitVec 32) : Prop :=
  (∀ a, (k0_off2881 v14999) a + S1x16x128.size a ≤ S16384x16x128.size a)
theorem k0_off2881_inb : ∀ (v14999 : BitVec 32) (k0_hw2881 : k0_chk2881 v14999), ∀ a, (k0_off2881 v14999) a + S1x16x128.size a ≤ S16384x16x128.size a := fun v14999 k0_hw2881 => k0_hw2881

def k0_off2882 (v15005 : BitVec 32) : Fin 3 → Nat :=
  let c0_i32_13426 : BitVec 32 := 0#32
  let c0_i32_13427 : BitVec 32 := 0#32
  ![v15005.toNat, 0, 0]

def k0_chk2882 (v15005 : BitVec 32) : Prop :=
  (∀ a, (k0_off2882 v15005) a + S1x16x128.size a ≤ S16384x16x128.size a)
theorem k0_off2882_inb : ∀ (v15005 : BitVec 32) (k0_hw2882 : k0_chk2882 v15005), ∀ a, (k0_off2882 v15005) a + S1x16x128.size a ≤ S16384x16x128.size a := fun v15005 k0_hw2882 => k0_hw2882

def k0_off2883 (v15011 : BitVec 32) : Fin 3 → Nat :=
  let c0_i32_13433 : BitVec 32 := 0#32
  let c0_i32_13434 : BitVec 32 := 0#32
  ![v15011.toNat, 0, 0]

def k0_chk2883 (v15011 : BitVec 32) : Prop :=
  (∀ a, (k0_off2883 v15011) a + S1x16x128.size a ≤ S16384x16x128.size a)
theorem k0_off2883_inb : ∀ (v15011 : BitVec 32) (k0_hw2883 : k0_chk2883 v15011), ∀ a, (k0_off2883 v15011) a + S1x16x128.size a ≤ S16384x16x128.size a := fun v15011 k0_hw2883 => k0_hw2883

def k0_off2884 (v15017 : BitVec 32) : Fin 3 → Nat :=
  let c0_i32_13440 : BitVec 32 := 0#32
  let c0_i32_13441 : BitVec 32 := 0#32
  ![v15017.toNat, 0, 0]

def k0_chk2884 (v15017 : BitVec 32) : Prop :=
  (∀ a, (k0_off2884 v15017) a + S1x16x128.size a ≤ S16384x16x128.size a)
theorem k0_off2884_inb : ∀ (v15017 : BitVec 32) (k0_hw2884 : k0_chk2884 v15017), ∀ a, (k0_off2884 v15017) a + S1x16x128.size a ≤ S16384x16x128.size a := fun v15017 k0_hw2884 => k0_hw2884

def k0_off2885 (v15023 : BitVec 32) : Fin 3 → Nat :=
  let c0_i32_13447 : BitVec 32 := 0#32
  let c0_i32_13448 : BitVec 32 := 0#32
  ![v15023.toNat, 0, 0]

def k0_chk2885 (v15023 : BitVec 32) : Prop :=
  (∀ a, (k0_off2885 v15023) a + S1x16x128.size a ≤ S16384x16x128.size a)
theorem k0_off2885_inb : ∀ (v15023 : BitVec 32) (k0_hw2885 : k0_chk2885 v15023), ∀ a, (k0_off2885 v15023) a + S1x16x128.size a ≤ S16384x16x128.size a := fun v15023 k0_hw2885 => k0_hw2885

def k0_off2886 (v15029 : BitVec 32) : Fin 3 → Nat :=
  let c0_i32_13454 : BitVec 32 := 0#32
  let c0_i32_13455 : BitVec 32 := 0#32
  ![v15029.toNat, 0, 0]

def k0_chk2886 (v15029 : BitVec 32) : Prop :=
  (∀ a, (k0_off2886 v15029) a + S1x16x128.size a ≤ S16384x16x128.size a)
theorem k0_off2886_inb : ∀ (v15029 : BitVec 32) (k0_hw2886 : k0_chk2886 v15029), ∀ a, (k0_off2886 v15029) a + S1x16x128.size a ≤ S16384x16x128.size a := fun v15029 k0_hw2886 => k0_hw2886

def k0_off2887 (v15035 : BitVec 32) : Fin 3 → Nat :=
  let c0_i32_13461 : BitVec 32 := 0#32
  let c0_i32_13462 : BitVec 32 := 0#32
  ![v15035.toNat, 0, 0]

def k0_chk2887 (v15035 : BitVec 32) : Prop :=
  (∀ a, (k0_off2887 v15035) a + S1x16x128.size a ≤ S16384x16x128.size a)
theorem k0_off2887_inb : ∀ (v15035 : BitVec 32) (k0_hw2887 : k0_chk2887 v15035), ∀ a, (k0_off2887 v15035) a + S1x16x128.size a ≤ S16384x16x128.size a := fun v15035 k0_hw2887 => k0_hw2887

def k0_off2888 (v15041 : BitVec 32) : Fin 3 → Nat :=
  let c0_i32_13468 : BitVec 32 := 0#32
  let c0_i32_13469 : BitVec 32 := 0#32
  ![v15041.toNat, 0, 0]

def k0_chk2888 (v15041 : BitVec 32) : Prop :=
  (∀ a, (k0_off2888 v15041) a + S1x16x128.size a ≤ S16384x16x128.size a)
theorem k0_off2888_inb : ∀ (v15041 : BitVec 32) (k0_hw2888 : k0_chk2888 v15041), ∀ a, (k0_off2888 v15041) a + S1x16x128.size a ≤ S16384x16x128.size a := fun v15041 k0_hw2888 => k0_hw2888

def k0_off2889 (v15047 : BitVec 32) : Fin 3 → Nat :=
  let c0_i32_13475 : BitVec 32 := 0#32
  let c0_i32_13476 : BitVec 32 := 0#32
  ![v15047.toNat, 0, 0]

def k0_chk2889 (v15047 : BitVec 32) : Prop :=
  (∀ a, (k0_off2889 v15047) a + S1x16x128.size a ≤ S16384x16x128.size a)
theorem k0_off2889_inb : ∀ (v15047 : BitVec 32) (k0_hw2889 : k0_chk2889 v15047), ∀ a, (k0_off2889 v15047) a + S1x16x128.size a ≤ S16384x16x128.size a := fun v15047 k0_hw2889 => k0_hw2889

def k0_off2890 (v15053 : BitVec 32) : Fin 3 → Nat :=
  let c0_i32_13482 : BitVec 32 := 0#32
  let c0_i32_13483 : BitVec 32 := 0#32
  ![v15053.toNat, 0, 0]

def k0_chk2890 (v15053 : BitVec 32) : Prop :=
  (∀ a, (k0_off2890 v15053) a + S1x16x128.size a ≤ S16384x16x128.size a)
theorem k0_off2890_inb : ∀ (v15053 : BitVec 32) (k0_hw2890 : k0_chk2890 v15053), ∀ a, (k0_off2890 v15053) a + S1x16x128.size a ≤ S16384x16x128.size a := fun v15053 k0_hw2890 => k0_hw2890

def k0_off2891 (v15059 : BitVec 32) : Fin 3 → Nat :=
  let c0_i32_13489 : BitVec 32 := 0#32
  let c0_i32_13490 : BitVec 32 := 0#32
  ![v15059.toNat, 0, 0]

def k0_chk2891 (v15059 : BitVec 32) : Prop :=
  (∀ a, (k0_off2891 v15059) a + S1x16x128.size a ≤ S16384x16x128.size a)
theorem k0_off2891_inb : ∀ (v15059 : BitVec 32) (k0_hw2891 : k0_chk2891 v15059), ∀ a, (k0_off2891 v15059) a + S1x16x128.size a ≤ S16384x16x128.size a := fun v15059 k0_hw2891 => k0_hw2891

def k0_off2892 (v15065 : BitVec 32) : Fin 3 → Nat :=
  let c0_i32_13496 : BitVec 32 := 0#32
  let c0_i32_13497 : BitVec 32 := 0#32
  ![v15065.toNat, 0, 0]

def k0_chk2892 (v15065 : BitVec 32) : Prop :=
  (∀ a, (k0_off2892 v15065) a + S1x16x128.size a ≤ S16384x16x128.size a)
theorem k0_off2892_inb : ∀ (v15065 : BitVec 32) (k0_hw2892 : k0_chk2892 v15065), ∀ a, (k0_off2892 v15065) a + S1x16x128.size a ≤ S16384x16x128.size a := fun v15065 k0_hw2892 => k0_hw2892

def k0_off2893 (v15071 : BitVec 32) : Fin 3 → Nat :=
  let c0_i32_13503 : BitVec 32 := 0#32
  let c0_i32_13504 : BitVec 32 := 0#32
  ![v15071.toNat, 0, 0]

def k0_chk2893 (v15071 : BitVec 32) : Prop :=
  (∀ a, (k0_off2893 v15071) a + S1x16x128.size a ≤ S16384x16x128.size a)
theorem k0_off2893_inb : ∀ (v15071 : BitVec 32) (k0_hw2893 : k0_chk2893 v15071), ∀ a, (k0_off2893 v15071) a + S1x16x128.size a ≤ S16384x16x128.size a := fun v15071 k0_hw2893 => k0_hw2893

def k0_off2894 (v15077 : BitVec 32) : Fin 3 → Nat :=
  let c0_i32_13510 : BitVec 32 := 0#32
  let c0_i32_13511 : BitVec 32 := 0#32
  ![v15077.toNat, 0, 0]

def k0_chk2894 (v15077 : BitVec 32) : Prop :=
  (∀ a, (k0_off2894 v15077) a + S1x16x128.size a ≤ S16384x16x128.size a)
theorem k0_off2894_inb : ∀ (v15077 : BitVec 32) (k0_hw2894 : k0_chk2894 v15077), ∀ a, (k0_off2894 v15077) a + S1x16x128.size a ≤ S16384x16x128.size a := fun v15077 k0_hw2894 => k0_hw2894

def k0_off2895 (v15083 : BitVec 32) : Fin 3 → Nat :=
  let c0_i32_13517 : BitVec 32 := 0#32
  let c0_i32_13518 : BitVec 32 := 0#32
  ![v15083.toNat, 0, 0]

def k0_chk2895 (v15083 : BitVec 32) : Prop :=
  (∀ a, (k0_off2895 v15083) a + S1x16x128.size a ≤ S16384x16x128.size a)
theorem k0_off2895_inb : ∀ (v15083 : BitVec 32) (k0_hw2895 : k0_chk2895 v15083), ∀ a, (k0_off2895 v15083) a + S1x16x128.size a ≤ S16384x16x128.size a := fun v15083 k0_hw2895 => k0_hw2895

def k0_off2896 (v15089 : BitVec 32) : Fin 3 → Nat :=
  let c0_i32_13524 : BitVec 32 := 0#32
  let c0_i32_13525 : BitVec 32 := 0#32
  ![v15089.toNat, 0, 0]

def k0_chk2896 (v15089 : BitVec 32) : Prop :=
  (∀ a, (k0_off2896 v15089) a + S1x16x128.size a ≤ S16384x16x128.size a)
theorem k0_off2896_inb : ∀ (v15089 : BitVec 32) (k0_hw2896 : k0_chk2896 v15089), ∀ a, (k0_off2896 v15089) a + S1x16x128.size a ≤ S16384x16x128.size a := fun v15089 k0_hw2896 => k0_hw2896

def k0_off2897 (v15095 : BitVec 32) : Fin 3 → Nat :=
  let c0_i32_13531 : BitVec 32 := 0#32
  let c0_i32_13532 : BitVec 32 := 0#32
  ![v15095.toNat, 0, 0]

def k0_chk2897 (v15095 : BitVec 32) : Prop :=
  (∀ a, (k0_off2897 v15095) a + S1x16x128.size a ≤ S16384x16x128.size a)
theorem k0_off2897_inb : ∀ (v15095 : BitVec 32) (k0_hw2897 : k0_chk2897 v15095), ∀ a, (k0_off2897 v15095) a + S1x16x128.size a ≤ S16384x16x128.size a := fun v15095 k0_hw2897 => k0_hw2897

def k0_off2898 (v15101 : BitVec 32) : Fin 3 → Nat :=
  let c0_i32_13538 : BitVec 32 := 0#32
  let c0_i32_13539 : BitVec 32 := 0#32
  ![v15101.toNat, 0, 0]

def k0_chk2898 (v15101 : BitVec 32) : Prop :=
  (∀ a, (k0_off2898 v15101) a + S1x16x128.size a ≤ S16384x16x128.size a)
theorem k0_off2898_inb : ∀ (v15101 : BitVec 32) (k0_hw2898 : k0_chk2898 v15101), ∀ a, (k0_off2898 v15101) a + S1x16x128.size a ≤ S16384x16x128.size a := fun v15101 k0_hw2898 => k0_hw2898

def k0_off2899 (v15107 : BitVec 32) : Fin 3 → Nat :=
  let c0_i32_13545 : BitVec 32 := 0#32
  let c0_i32_13546 : BitVec 32 := 0#32
  ![v15107.toNat, 0, 0]

def k0_chk2899 (v15107 : BitVec 32) : Prop :=
  (∀ a, (k0_off2899 v15107) a + S1x16x128.size a ≤ S16384x16x128.size a)
theorem k0_off2899_inb : ∀ (v15107 : BitVec 32) (k0_hw2899 : k0_chk2899 v15107), ∀ a, (k0_off2899 v15107) a + S1x16x128.size a ≤ S16384x16x128.size a := fun v15107 k0_hw2899 => k0_hw2899

def k0_off2900 (v15113 : BitVec 32) : Fin 3 → Nat :=
  let c0_i32_13552 : BitVec 32 := 0#32
  let c0_i32_13553 : BitVec 32 := 0#32
  ![v15113.toNat, 0, 0]

def k0_chk2900 (v15113 : BitVec 32) : Prop :=
  (∀ a, (k0_off2900 v15113) a + S1x16x128.size a ≤ S16384x16x128.size a)
theorem k0_off2900_inb : ∀ (v15113 : BitVec 32) (k0_hw2900 : k0_chk2900 v15113), ∀ a, (k0_off2900 v15113) a + S1x16x128.size a ≤ S16384x16x128.size a := fun v15113 k0_hw2900 => k0_hw2900

def k0_off2901 (v15119 : BitVec 32) : Fin 3 → Nat :=
  let c0_i32_13559 : BitVec 32 := 0#32
  let c0_i32_13560 : BitVec 32 := 0#32
  ![v15119.toNat, 0, 0]

def k0_chk2901 (v15119 : BitVec 32) : Prop :=
  (∀ a, (k0_off2901 v15119) a + S1x16x128.size a ≤ S16384x16x128.size a)
theorem k0_off2901_inb : ∀ (v15119 : BitVec 32) (k0_hw2901 : k0_chk2901 v15119), ∀ a, (k0_off2901 v15119) a + S1x16x128.size a ≤ S16384x16x128.size a := fun v15119 k0_hw2901 => k0_hw2901

def k0_off2902 (v15125 : BitVec 32) : Fin 3 → Nat :=
  let c0_i32_13566 : BitVec 32 := 0#32
  let c0_i32_13567 : BitVec 32 := 0#32
  ![v15125.toNat, 0, 0]

def k0_chk2902 (v15125 : BitVec 32) : Prop :=
  (∀ a, (k0_off2902 v15125) a + S1x16x128.size a ≤ S16384x16x128.size a)
theorem k0_off2902_inb : ∀ (v15125 : BitVec 32) (k0_hw2902 : k0_chk2902 v15125), ∀ a, (k0_off2902 v15125) a + S1x16x128.size a ≤ S16384x16x128.size a := fun v15125 k0_hw2902 => k0_hw2902

def k0_off2903 (v15131 : BitVec 32) : Fin 3 → Nat :=
  let c0_i32_13573 : BitVec 32 := 0#32
  let c0_i32_13574 : BitVec 32 := 0#32
  ![v15131.toNat, 0, 0]

def k0_chk2903 (v15131 : BitVec 32) : Prop :=
  (∀ a, (k0_off2903 v15131) a + S1x16x128.size a ≤ S16384x16x128.size a)
theorem k0_off2903_inb : ∀ (v15131 : BitVec 32) (k0_hw2903 : k0_chk2903 v15131), ∀ a, (k0_off2903 v15131) a + S1x16x128.size a ≤ S16384x16x128.size a := fun v15131 k0_hw2903 => k0_hw2903

def k0_off2904 (v15137 : BitVec 32) : Fin 3 → Nat :=
  let c0_i32_13580 : BitVec 32 := 0#32
  let c0_i32_13581 : BitVec 32 := 0#32
  ![v15137.toNat, 0, 0]

def k0_chk2904 (v15137 : BitVec 32) : Prop :=
  (∀ a, (k0_off2904 v15137) a + S1x16x128.size a ≤ S16384x16x128.size a)
theorem k0_off2904_inb : ∀ (v15137 : BitVec 32) (k0_hw2904 : k0_chk2904 v15137), ∀ a, (k0_off2904 v15137) a + S1x16x128.size a ≤ S16384x16x128.size a := fun v15137 k0_hw2904 => k0_hw2904

def k0_off2905 (v15143 : BitVec 32) : Fin 3 → Nat :=
  let c0_i32_13587 : BitVec 32 := 0#32
  let c0_i32_13588 : BitVec 32 := 0#32
  ![v15143.toNat, 0, 0]

def k0_chk2905 (v15143 : BitVec 32) : Prop :=
  (∀ a, (k0_off2905 v15143) a + S1x16x128.size a ≤ S16384x16x128.size a)
theorem k0_off2905_inb : ∀ (v15143 : BitVec 32) (k0_hw2905 : k0_chk2905 v15143), ∀ a, (k0_off2905 v15143) a + S1x16x128.size a ≤ S16384x16x128.size a := fun v15143 k0_hw2905 => k0_hw2905

def k0_off2906 (v15149 : BitVec 32) : Fin 3 → Nat :=
  let c0_i32_13594 : BitVec 32 := 0#32
  let c0_i32_13595 : BitVec 32 := 0#32
  ![v15149.toNat, 0, 0]

def k0_chk2906 (v15149 : BitVec 32) : Prop :=
  (∀ a, (k0_off2906 v15149) a + S1x16x128.size a ≤ S16384x16x128.size a)
theorem k0_off2906_inb : ∀ (v15149 : BitVec 32) (k0_hw2906 : k0_chk2906 v15149), ∀ a, (k0_off2906 v15149) a + S1x16x128.size a ≤ S16384x16x128.size a := fun v15149 k0_hw2906 => k0_hw2906

def k0_off2907 (v15155 : BitVec 32) : Fin 3 → Nat :=
  let c0_i32_13601 : BitVec 32 := 0#32
  let c0_i32_13602 : BitVec 32 := 0#32
  ![v15155.toNat, 0, 0]

def k0_chk2907 (v15155 : BitVec 32) : Prop :=
  (∀ a, (k0_off2907 v15155) a + S1x16x128.size a ≤ S16384x16x128.size a)
theorem k0_off2907_inb : ∀ (v15155 : BitVec 32) (k0_hw2907 : k0_chk2907 v15155), ∀ a, (k0_off2907 v15155) a + S1x16x128.size a ≤ S16384x16x128.size a := fun v15155 k0_hw2907 => k0_hw2907

def k0_off2908 (v15161 : BitVec 32) : Fin 3 → Nat :=
  let c0_i32_13608 : BitVec 32 := 0#32
  let c0_i32_13609 : BitVec 32 := 0#32
  ![v15161.toNat, 0, 0]

def k0_chk2908 (v15161 : BitVec 32) : Prop :=
  (∀ a, (k0_off2908 v15161) a + S1x16x128.size a ≤ S16384x16x128.size a)
theorem k0_off2908_inb : ∀ (v15161 : BitVec 32) (k0_hw2908 : k0_chk2908 v15161), ∀ a, (k0_off2908 v15161) a + S1x16x128.size a ≤ S16384x16x128.size a := fun v15161 k0_hw2908 => k0_hw2908

def k0_off2909 (v15167 : BitVec 32) : Fin 3 → Nat :=
  let c0_i32_13615 : BitVec 32 := 0#32
  let c0_i32_13616 : BitVec 32 := 0#32
  ![v15167.toNat, 0, 0]

def k0_chk2909 (v15167 : BitVec 32) : Prop :=
  (∀ a, (k0_off2909 v15167) a + S1x16x128.size a ≤ S16384x16x128.size a)
theorem k0_off2909_inb : ∀ (v15167 : BitVec 32) (k0_hw2909 : k0_chk2909 v15167), ∀ a, (k0_off2909 v15167) a + S1x16x128.size a ≤ S16384x16x128.size a := fun v15167 k0_hw2909 => k0_hw2909

def k0_off2910 (v15173 : BitVec 32) : Fin 3 → Nat :=
  let c0_i32_13622 : BitVec 32 := 0#32
  let c0_i32_13623 : BitVec 32 := 0#32
  ![v15173.toNat, 0, 0]

def k0_chk2910 (v15173 : BitVec 32) : Prop :=
  (∀ a, (k0_off2910 v15173) a + S1x16x128.size a ≤ S16384x16x128.size a)
theorem k0_off2910_inb : ∀ (v15173 : BitVec 32) (k0_hw2910 : k0_chk2910 v15173), ∀ a, (k0_off2910 v15173) a + S1x16x128.size a ≤ S16384x16x128.size a := fun v15173 k0_hw2910 => k0_hw2910

def k0_off2911 (v15179 : BitVec 32) : Fin 3 → Nat :=
  let c0_i32_13629 : BitVec 32 := 0#32
  let c0_i32_13630 : BitVec 32 := 0#32
  ![v15179.toNat, 0, 0]

def k0_chk2911 (v15179 : BitVec 32) : Prop :=
  (∀ a, (k0_off2911 v15179) a + S1x16x128.size a ≤ S16384x16x128.size a)
theorem k0_off2911_inb : ∀ (v15179 : BitVec 32) (k0_hw2911 : k0_chk2911 v15179), ∀ a, (k0_off2911 v15179) a + S1x16x128.size a ≤ S16384x16x128.size a := fun v15179 k0_hw2911 => k0_hw2911

def k0_off2912 (v15185 : BitVec 32) : Fin 3 → Nat :=
  let c0_i32_13636 : BitVec 32 := 0#32
  let c0_i32_13637 : BitVec 32 := 0#32
  ![v15185.toNat, 0, 0]

def k0_chk2912 (v15185 : BitVec 32) : Prop :=
  (∀ a, (k0_off2912 v15185) a + S1x16x128.size a ≤ S16384x16x128.size a)
theorem k0_off2912_inb : ∀ (v15185 : BitVec 32) (k0_hw2912 : k0_chk2912 v15185), ∀ a, (k0_off2912 v15185) a + S1x16x128.size a ≤ S16384x16x128.size a := fun v15185 k0_hw2912 => k0_hw2912

def k0_off2913 (v15191 : BitVec 32) : Fin 3 → Nat :=
  let c0_i32_13643 : BitVec 32 := 0#32
  let c0_i32_13644 : BitVec 32 := 0#32
  ![v15191.toNat, 0, 0]

def k0_chk2913 (v15191 : BitVec 32) : Prop :=
  (∀ a, (k0_off2913 v15191) a + S1x16x128.size a ≤ S16384x16x128.size a)
theorem k0_off2913_inb : ∀ (v15191 : BitVec 32) (k0_hw2913 : k0_chk2913 v15191), ∀ a, (k0_off2913 v15191) a + S1x16x128.size a ≤ S16384x16x128.size a := fun v15191 k0_hw2913 => k0_hw2913

def k0_off2914 (v15197 : BitVec 32) : Fin 3 → Nat :=
  let c0_i32_13650 : BitVec 32 := 0#32
  let c0_i32_13651 : BitVec 32 := 0#32
  ![v15197.toNat, 0, 0]

def k0_chk2914 (v15197 : BitVec 32) : Prop :=
  (∀ a, (k0_off2914 v15197) a + S1x16x128.size a ≤ S16384x16x128.size a)
theorem k0_off2914_inb : ∀ (v15197 : BitVec 32) (k0_hw2914 : k0_chk2914 v15197), ∀ a, (k0_off2914 v15197) a + S1x16x128.size a ≤ S16384x16x128.size a := fun v15197 k0_hw2914 => k0_hw2914

def k0_off2915 (v15203 : BitVec 32) : Fin 3 → Nat :=
  let c0_i32_13657 : BitVec 32 := 0#32
  let c0_i32_13658 : BitVec 32 := 0#32
  ![v15203.toNat, 0, 0]

def k0_chk2915 (v15203 : BitVec 32) : Prop :=
  (∀ a, (k0_off2915 v15203) a + S1x16x128.size a ≤ S16384x16x128.size a)
theorem k0_off2915_inb : ∀ (v15203 : BitVec 32) (k0_hw2915 : k0_chk2915 v15203), ∀ a, (k0_off2915 v15203) a + S1x16x128.size a ≤ S16384x16x128.size a := fun v15203 k0_hw2915 => k0_hw2915

def k0_off2916 (v15209 : BitVec 32) : Fin 3 → Nat :=
  let c0_i32_13664 : BitVec 32 := 0#32
  let c0_i32_13665 : BitVec 32 := 0#32
  ![v15209.toNat, 0, 0]

def k0_chk2916 (v15209 : BitVec 32) : Prop :=
  (∀ a, (k0_off2916 v15209) a + S1x16x128.size a ≤ S16384x16x128.size a)
theorem k0_off2916_inb : ∀ (v15209 : BitVec 32) (k0_hw2916 : k0_chk2916 v15209), ∀ a, (k0_off2916 v15209) a + S1x16x128.size a ≤ S16384x16x128.size a := fun v15209 k0_hw2916 => k0_hw2916

def k0_off2917 (v15215 : BitVec 32) : Fin 3 → Nat :=
  let c0_i32_13671 : BitVec 32 := 0#32
  let c0_i32_13672 : BitVec 32 := 0#32
  ![v15215.toNat, 0, 0]

def k0_chk2917 (v15215 : BitVec 32) : Prop :=
  (∀ a, (k0_off2917 v15215) a + S1x16x128.size a ≤ S16384x16x128.size a)
theorem k0_off2917_inb : ∀ (v15215 : BitVec 32) (k0_hw2917 : k0_chk2917 v15215), ∀ a, (k0_off2917 v15215) a + S1x16x128.size a ≤ S16384x16x128.size a := fun v15215 k0_hw2917 => k0_hw2917

def k0_off2918 (v15221 : BitVec 32) : Fin 3 → Nat :=
  let c0_i32_13678 : BitVec 32 := 0#32
  let c0_i32_13679 : BitVec 32 := 0#32
  ![v15221.toNat, 0, 0]

def k0_chk2918 (v15221 : BitVec 32) : Prop :=
  (∀ a, (k0_off2918 v15221) a + S1x16x128.size a ≤ S16384x16x128.size a)
theorem k0_off2918_inb : ∀ (v15221 : BitVec 32) (k0_hw2918 : k0_chk2918 v15221), ∀ a, (k0_off2918 v15221) a + S1x16x128.size a ≤ S16384x16x128.size a := fun v15221 k0_hw2918 => k0_hw2918

def k0_off2919 (v15227 : BitVec 32) : Fin 3 → Nat :=
  let c0_i32_13685 : BitVec 32 := 0#32
  let c0_i32_13686 : BitVec 32 := 0#32
  ![v15227.toNat, 0, 0]

def k0_chk2919 (v15227 : BitVec 32) : Prop :=
  (∀ a, (k0_off2919 v15227) a + S1x16x128.size a ≤ S16384x16x128.size a)
theorem k0_off2919_inb : ∀ (v15227 : BitVec 32) (k0_hw2919 : k0_chk2919 v15227), ∀ a, (k0_off2919 v15227) a + S1x16x128.size a ≤ S16384x16x128.size a := fun v15227 k0_hw2919 => k0_hw2919

def k0_off2920 (v15233 : BitVec 32) : Fin 3 → Nat :=
  let c0_i32_13692 : BitVec 32 := 0#32
  let c0_i32_13693 : BitVec 32 := 0#32
  ![v15233.toNat, 0, 0]

def k0_chk2920 (v15233 : BitVec 32) : Prop :=
  (∀ a, (k0_off2920 v15233) a + S1x16x128.size a ≤ S16384x16x128.size a)
theorem k0_off2920_inb : ∀ (v15233 : BitVec 32) (k0_hw2920 : k0_chk2920 v15233), ∀ a, (k0_off2920 v15233) a + S1x16x128.size a ≤ S16384x16x128.size a := fun v15233 k0_hw2920 => k0_hw2920

def k0_off2921 (v15239 : BitVec 32) : Fin 3 → Nat :=
  let c0_i32_13699 : BitVec 32 := 0#32
  let c0_i32_13700 : BitVec 32 := 0#32
  ![v15239.toNat, 0, 0]

def k0_chk2921 (v15239 : BitVec 32) : Prop :=
  (∀ a, (k0_off2921 v15239) a + S1x16x128.size a ≤ S16384x16x128.size a)
theorem k0_off2921_inb : ∀ (v15239 : BitVec 32) (k0_hw2921 : k0_chk2921 v15239), ∀ a, (k0_off2921 v15239) a + S1x16x128.size a ≤ S16384x16x128.size a := fun v15239 k0_hw2921 => k0_hw2921

def k0_off2922 (v15245 : BitVec 32) : Fin 3 → Nat :=
  let c0_i32_13706 : BitVec 32 := 0#32
  let c0_i32_13707 : BitVec 32 := 0#32
  ![v15245.toNat, 0, 0]

def k0_chk2922 (v15245 : BitVec 32) : Prop :=
  (∀ a, (k0_off2922 v15245) a + S1x16x128.size a ≤ S16384x16x128.size a)
theorem k0_off2922_inb : ∀ (v15245 : BitVec 32) (k0_hw2922 : k0_chk2922 v15245), ∀ a, (k0_off2922 v15245) a + S1x16x128.size a ≤ S16384x16x128.size a := fun v15245 k0_hw2922 => k0_hw2922

def k0_off2923 (v15251 : BitVec 32) : Fin 3 → Nat :=
  let c0_i32_13713 : BitVec 32 := 0#32
  let c0_i32_13714 : BitVec 32 := 0#32
  ![v15251.toNat, 0, 0]

def k0_chk2923 (v15251 : BitVec 32) : Prop :=
  (∀ a, (k0_off2923 v15251) a + S1x16x128.size a ≤ S16384x16x128.size a)
theorem k0_off2923_inb : ∀ (v15251 : BitVec 32) (k0_hw2923 : k0_chk2923 v15251), ∀ a, (k0_off2923 v15251) a + S1x16x128.size a ≤ S16384x16x128.size a := fun v15251 k0_hw2923 => k0_hw2923

def k0_off2924 (v15257 : BitVec 32) : Fin 3 → Nat :=
  let c0_i32_13720 : BitVec 32 := 0#32
  let c0_i32_13721 : BitVec 32 := 0#32
  ![v15257.toNat, 0, 0]

def k0_chk2924 (v15257 : BitVec 32) : Prop :=
  (∀ a, (k0_off2924 v15257) a + S1x16x128.size a ≤ S16384x16x128.size a)
theorem k0_off2924_inb : ∀ (v15257 : BitVec 32) (k0_hw2924 : k0_chk2924 v15257), ∀ a, (k0_off2924 v15257) a + S1x16x128.size a ≤ S16384x16x128.size a := fun v15257 k0_hw2924 => k0_hw2924

def k0_off2925 (v15263 : BitVec 32) : Fin 3 → Nat :=
  let c0_i32_13727 : BitVec 32 := 0#32
  let c0_i32_13728 : BitVec 32 := 0#32
  ![v15263.toNat, 0, 0]

def k0_chk2925 (v15263 : BitVec 32) : Prop :=
  (∀ a, (k0_off2925 v15263) a + S1x16x128.size a ≤ S16384x16x128.size a)
theorem k0_off2925_inb : ∀ (v15263 : BitVec 32) (k0_hw2925 : k0_chk2925 v15263), ∀ a, (k0_off2925 v15263) a + S1x16x128.size a ≤ S16384x16x128.size a := fun v15263 k0_hw2925 => k0_hw2925

def k0_off2926 (v15269 : BitVec 32) : Fin 3 → Nat :=
  let c0_i32_13734 : BitVec 32 := 0#32
  let c0_i32_13735 : BitVec 32 := 0#32
  ![v15269.toNat, 0, 0]

def k0_chk2926 (v15269 : BitVec 32) : Prop :=
  (∀ a, (k0_off2926 v15269) a + S1x16x128.size a ≤ S16384x16x128.size a)
theorem k0_off2926_inb : ∀ (v15269 : BitVec 32) (k0_hw2926 : k0_chk2926 v15269), ∀ a, (k0_off2926 v15269) a + S1x16x128.size a ≤ S16384x16x128.size a := fun v15269 k0_hw2926 => k0_hw2926

def k0_off2927 (v15275 : BitVec 32) : Fin 3 → Nat :=
  let c0_i32_13741 : BitVec 32 := 0#32
  let c0_i32_13742 : BitVec 32 := 0#32
  ![v15275.toNat, 0, 0]

def k0_chk2927 (v15275 : BitVec 32) : Prop :=
  (∀ a, (k0_off2927 v15275) a + S1x16x128.size a ≤ S16384x16x128.size a)
theorem k0_off2927_inb : ∀ (v15275 : BitVec 32) (k0_hw2927 : k0_chk2927 v15275), ∀ a, (k0_off2927 v15275) a + S1x16x128.size a ≤ S16384x16x128.size a := fun v15275 k0_hw2927 => k0_hw2927

def k0_off2928 (v15281 : BitVec 32) : Fin 3 → Nat :=
  let c0_i32_13748 : BitVec 32 := 0#32
  let c0_i32_13749 : BitVec 32 := 0#32
  ![v15281.toNat, 0, 0]

def k0_chk2928 (v15281 : BitVec 32) : Prop :=
  (∀ a, (k0_off2928 v15281) a + S1x16x128.size a ≤ S16384x16x128.size a)
theorem k0_off2928_inb : ∀ (v15281 : BitVec 32) (k0_hw2928 : k0_chk2928 v15281), ∀ a, (k0_off2928 v15281) a + S1x16x128.size a ≤ S16384x16x128.size a := fun v15281 k0_hw2928 => k0_hw2928

def k0_off2929 (v15287 : BitVec 32) : Fin 3 → Nat :=
  let c0_i32_13755 : BitVec 32 := 0#32
  let c0_i32_13756 : BitVec 32 := 0#32
  ![v15287.toNat, 0, 0]

def k0_chk2929 (v15287 : BitVec 32) : Prop :=
  (∀ a, (k0_off2929 v15287) a + S1x16x128.size a ≤ S16384x16x128.size a)
theorem k0_off2929_inb : ∀ (v15287 : BitVec 32) (k0_hw2929 : k0_chk2929 v15287), ∀ a, (k0_off2929 v15287) a + S1x16x128.size a ≤ S16384x16x128.size a := fun v15287 k0_hw2929 => k0_hw2929

def k0_off2930 (v15293 : BitVec 32) : Fin 3 → Nat :=
  let c0_i32_13762 : BitVec 32 := 0#32
  let c0_i32_13763 : BitVec 32 := 0#32
  ![v15293.toNat, 0, 0]

def k0_chk2930 (v15293 : BitVec 32) : Prop :=
  (∀ a, (k0_off2930 v15293) a + S1x16x128.size a ≤ S16384x16x128.size a)
theorem k0_off2930_inb : ∀ (v15293 : BitVec 32) (k0_hw2930 : k0_chk2930 v15293), ∀ a, (k0_off2930 v15293) a + S1x16x128.size a ≤ S16384x16x128.size a := fun v15293 k0_hw2930 => k0_hw2930

def k0_off2931 (v15299 : BitVec 32) : Fin 3 → Nat :=
  let c0_i32_13769 : BitVec 32 := 0#32
  let c0_i32_13770 : BitVec 32 := 0#32
  ![v15299.toNat, 0, 0]

def k0_chk2931 (v15299 : BitVec 32) : Prop :=
  (∀ a, (k0_off2931 v15299) a + S1x16x128.size a ≤ S16384x16x128.size a)
theorem k0_off2931_inb : ∀ (v15299 : BitVec 32) (k0_hw2931 : k0_chk2931 v15299), ∀ a, (k0_off2931 v15299) a + S1x16x128.size a ≤ S16384x16x128.size a := fun v15299 k0_hw2931 => k0_hw2931

def k0_off2932 (v15305 : BitVec 32) : Fin 3 → Nat :=
  let c0_i32_13776 : BitVec 32 := 0#32
  let c0_i32_13777 : BitVec 32 := 0#32
  ![v15305.toNat, 0, 0]

def k0_chk2932 (v15305 : BitVec 32) : Prop :=
  (∀ a, (k0_off2932 v15305) a + S1x16x128.size a ≤ S16384x16x128.size a)
theorem k0_off2932_inb : ∀ (v15305 : BitVec 32) (k0_hw2932 : k0_chk2932 v15305), ∀ a, (k0_off2932 v15305) a + S1x16x128.size a ≤ S16384x16x128.size a := fun v15305 k0_hw2932 => k0_hw2932

def k0_off2933 (v15311 : BitVec 32) : Fin 3 → Nat :=
  let c0_i32_13783 : BitVec 32 := 0#32
  let c0_i32_13784 : BitVec 32 := 0#32
  ![v15311.toNat, 0, 0]

def k0_chk2933 (v15311 : BitVec 32) : Prop :=
  (∀ a, (k0_off2933 v15311) a + S1x16x128.size a ≤ S16384x16x128.size a)
theorem k0_off2933_inb : ∀ (v15311 : BitVec 32) (k0_hw2933 : k0_chk2933 v15311), ∀ a, (k0_off2933 v15311) a + S1x16x128.size a ≤ S16384x16x128.size a := fun v15311 k0_hw2933 => k0_hw2933

def k0_off2934 (v15317 : BitVec 32) : Fin 3 → Nat :=
  let c0_i32_13790 : BitVec 32 := 0#32
  let c0_i32_13791 : BitVec 32 := 0#32
  ![v15317.toNat, 0, 0]

def k0_chk2934 (v15317 : BitVec 32) : Prop :=
  (∀ a, (k0_off2934 v15317) a + S1x16x128.size a ≤ S16384x16x128.size a)
theorem k0_off2934_inb : ∀ (v15317 : BitVec 32) (k0_hw2934 : k0_chk2934 v15317), ∀ a, (k0_off2934 v15317) a + S1x16x128.size a ≤ S16384x16x128.size a := fun v15317 k0_hw2934 => k0_hw2934

def k0_off2935 (v15323 : BitVec 32) : Fin 3 → Nat :=
  let c0_i32_13797 : BitVec 32 := 0#32
  let c0_i32_13798 : BitVec 32 := 0#32
  ![v15323.toNat, 0, 0]

def k0_chk2935 (v15323 : BitVec 32) : Prop :=
  (∀ a, (k0_off2935 v15323) a + S1x16x128.size a ≤ S16384x16x128.size a)
theorem k0_off2935_inb : ∀ (v15323 : BitVec 32) (k0_hw2935 : k0_chk2935 v15323), ∀ a, (k0_off2935 v15323) a + S1x16x128.size a ≤ S16384x16x128.size a := fun v15323 k0_hw2935 => k0_hw2935

def k0_off2936 (v15329 : BitVec 32) : Fin 3 → Nat :=
  let c0_i32_13804 : BitVec 32 := 0#32
  let c0_i32_13805 : BitVec 32 := 0#32
  ![v15329.toNat, 0, 0]

def k0_chk2936 (v15329 : BitVec 32) : Prop :=
  (∀ a, (k0_off2936 v15329) a + S1x16x128.size a ≤ S16384x16x128.size a)
theorem k0_off2936_inb : ∀ (v15329 : BitVec 32) (k0_hw2936 : k0_chk2936 v15329), ∀ a, (k0_off2936 v15329) a + S1x16x128.size a ≤ S16384x16x128.size a := fun v15329 k0_hw2936 => k0_hw2936

def k0_off2937 (v15335 : BitVec 32) : Fin 3 → Nat :=
  let c0_i32_13811 : BitVec 32 := 0#32
  let c0_i32_13812 : BitVec 32 := 0#32
  ![v15335.toNat, 0, 0]

def k0_chk2937 (v15335 : BitVec 32) : Prop :=
  (∀ a, (k0_off2937 v15335) a + S1x16x128.size a ≤ S16384x16x128.size a)
theorem k0_off2937_inb : ∀ (v15335 : BitVec 32) (k0_hw2937 : k0_chk2937 v15335), ∀ a, (k0_off2937 v15335) a + S1x16x128.size a ≤ S16384x16x128.size a := fun v15335 k0_hw2937 => k0_hw2937

def k0_off2938 (v15341 : BitVec 32) : Fin 3 → Nat :=
  let c0_i32_13818 : BitVec 32 := 0#32
  let c0_i32_13819 : BitVec 32 := 0#32
  ![v15341.toNat, 0, 0]

def k0_chk2938 (v15341 : BitVec 32) : Prop :=
  (∀ a, (k0_off2938 v15341) a + S1x16x128.size a ≤ S16384x16x128.size a)
theorem k0_off2938_inb : ∀ (v15341 : BitVec 32) (k0_hw2938 : k0_chk2938 v15341), ∀ a, (k0_off2938 v15341) a + S1x16x128.size a ≤ S16384x16x128.size a := fun v15341 k0_hw2938 => k0_hw2938

def k0_off2939 (v15347 : BitVec 32) : Fin 3 → Nat :=
  let c0_i32_13825 : BitVec 32 := 0#32
  let c0_i32_13826 : BitVec 32 := 0#32
  ![v15347.toNat, 0, 0]

def k0_chk2939 (v15347 : BitVec 32) : Prop :=
  (∀ a, (k0_off2939 v15347) a + S1x16x128.size a ≤ S16384x16x128.size a)
theorem k0_off2939_inb : ∀ (v15347 : BitVec 32) (k0_hw2939 : k0_chk2939 v15347), ∀ a, (k0_off2939 v15347) a + S1x16x128.size a ≤ S16384x16x128.size a := fun v15347 k0_hw2939 => k0_hw2939

def k0_off2940 (v15353 : BitVec 32) : Fin 3 → Nat :=
  let c0_i32_13832 : BitVec 32 := 0#32
  let c0_i32_13833 : BitVec 32 := 0#32
  ![v15353.toNat, 0, 0]

def k0_chk2940 (v15353 : BitVec 32) : Prop :=
  (∀ a, (k0_off2940 v15353) a + S1x16x128.size a ≤ S16384x16x128.size a)
theorem k0_off2940_inb : ∀ (v15353 : BitVec 32) (k0_hw2940 : k0_chk2940 v15353), ∀ a, (k0_off2940 v15353) a + S1x16x128.size a ≤ S16384x16x128.size a := fun v15353 k0_hw2940 => k0_hw2940

def k0_off2941 (v15359 : BitVec 32) : Fin 3 → Nat :=
  let c0_i32_13839 : BitVec 32 := 0#32
  let c0_i32_13840 : BitVec 32 := 0#32
  ![v15359.toNat, 0, 0]

def k0_chk2941 (v15359 : BitVec 32) : Prop :=
  (∀ a, (k0_off2941 v15359) a + S1x16x128.size a ≤ S16384x16x128.size a)
theorem k0_off2941_inb : ∀ (v15359 : BitVec 32) (k0_hw2941 : k0_chk2941 v15359), ∀ a, (k0_off2941 v15359) a + S1x16x128.size a ≤ S16384x16x128.size a := fun v15359 k0_hw2941 => k0_hw2941

def k0_off2942 (v15365 : BitVec 32) : Fin 3 → Nat :=
  let c0_i32_13846 : BitVec 32 := 0#32
  let c0_i32_13847 : BitVec 32 := 0#32
  ![v15365.toNat, 0, 0]

def k0_chk2942 (v15365 : BitVec 32) : Prop :=
  (∀ a, (k0_off2942 v15365) a + S1x16x128.size a ≤ S16384x16x128.size a)
theorem k0_off2942_inb : ∀ (v15365 : BitVec 32) (k0_hw2942 : k0_chk2942 v15365), ∀ a, (k0_off2942 v15365) a + S1x16x128.size a ≤ S16384x16x128.size a := fun v15365 k0_hw2942 => k0_hw2942

def k0_off2943 (v15371 : BitVec 32) : Fin 3 → Nat :=
  let c0_i32_13853 : BitVec 32 := 0#32
  let c0_i32_13854 : BitVec 32 := 0#32
  ![v15371.toNat, 0, 0]

def k0_chk2943 (v15371 : BitVec 32) : Prop :=
  (∀ a, (k0_off2943 v15371) a + S1x16x128.size a ≤ S16384x16x128.size a)
theorem k0_off2943_inb : ∀ (v15371 : BitVec 32) (k0_hw2943 : k0_chk2943 v15371), ∀ a, (k0_off2943 v15371) a + S1x16x128.size a ≤ S16384x16x128.size a := fun v15371 k0_hw2943 => k0_hw2943

def k0_off2944 (v15377 : BitVec 32) : Fin 3 → Nat :=
  let c0_i32_13860 : BitVec 32 := 0#32
  let c0_i32_13861 : BitVec 32 := 0#32
  ![v15377.toNat, 0, 0]

def k0_chk2944 (v15377 : BitVec 32) : Prop :=
  (∀ a, (k0_off2944 v15377) a + S1x16x128.size a ≤ S16384x16x128.size a)
theorem k0_off2944_inb : ∀ (v15377 : BitVec 32) (k0_hw2944 : k0_chk2944 v15377), ∀ a, (k0_off2944 v15377) a + S1x16x128.size a ≤ S16384x16x128.size a := fun v15377 k0_hw2944 => k0_hw2944

def k0_off2945 (v15656 : BitVec 32) : Fin 3 → Nat :=
  let c0_i32_13985 : BitVec 32 := 0#32
  let c0_i32_13986 : BitVec 32 := 0#32
  ![v15656.toNat, 0, 0]

def k0_chk2945 (v15656 : BitVec 32) : Prop :=
  (∀ a, (k0_off2945 v15656) a + S1x16x128.size a ≤ S16384x16x128.size a)
theorem k0_off2945_inb : ∀ (v15656 : BitVec 32) (k0_hw2945 : k0_chk2945 v15656), ∀ a, (k0_off2945 v15656) a + S1x16x128.size a ≤ S16384x16x128.size a := fun v15656 k0_hw2945 => k0_hw2945

def k0_off2946 (v15662 : BitVec 32) : Fin 3 → Nat :=
  let c0_i32_13992 : BitVec 32 := 0#32
  let c0_i32_13993 : BitVec 32 := 0#32
  ![v15662.toNat, 0, 0]

def k0_chk2946 (v15662 : BitVec 32) : Prop :=
  (∀ a, (k0_off2946 v15662) a + S1x16x128.size a ≤ S16384x16x128.size a)
theorem k0_off2946_inb : ∀ (v15662 : BitVec 32) (k0_hw2946 : k0_chk2946 v15662), ∀ a, (k0_off2946 v15662) a + S1x16x128.size a ≤ S16384x16x128.size a := fun v15662 k0_hw2946 => k0_hw2946

def k0_off2947 (v15668 : BitVec 32) : Fin 3 → Nat :=
  let c0_i32_13999 : BitVec 32 := 0#32
  let c0_i32_14000 : BitVec 32 := 0#32
  ![v15668.toNat, 0, 0]

def k0_chk2947 (v15668 : BitVec 32) : Prop :=
  (∀ a, (k0_off2947 v15668) a + S1x16x128.size a ≤ S16384x16x128.size a)
theorem k0_off2947_inb : ∀ (v15668 : BitVec 32) (k0_hw2947 : k0_chk2947 v15668), ∀ a, (k0_off2947 v15668) a + S1x16x128.size a ≤ S16384x16x128.size a := fun v15668 k0_hw2947 => k0_hw2947

def k0_off2948 (v15674 : BitVec 32) : Fin 3 → Nat :=
  let c0_i32_14006 : BitVec 32 := 0#32
  let c0_i32_14007 : BitVec 32 := 0#32
  ![v15674.toNat, 0, 0]

def k0_chk2948 (v15674 : BitVec 32) : Prop :=
  (∀ a, (k0_off2948 v15674) a + S1x16x128.size a ≤ S16384x16x128.size a)
theorem k0_off2948_inb : ∀ (v15674 : BitVec 32) (k0_hw2948 : k0_chk2948 v15674), ∀ a, (k0_off2948 v15674) a + S1x16x128.size a ≤ S16384x16x128.size a := fun v15674 k0_hw2948 => k0_hw2948

def k0_off2949 (v15680 : BitVec 32) : Fin 3 → Nat :=
  let c0_i32_14013 : BitVec 32 := 0#32
  let c0_i32_14014 : BitVec 32 := 0#32
  ![v15680.toNat, 0, 0]

def k0_chk2949 (v15680 : BitVec 32) : Prop :=
  (∀ a, (k0_off2949 v15680) a + S1x16x128.size a ≤ S16384x16x128.size a)
theorem k0_off2949_inb : ∀ (v15680 : BitVec 32) (k0_hw2949 : k0_chk2949 v15680), ∀ a, (k0_off2949 v15680) a + S1x16x128.size a ≤ S16384x16x128.size a := fun v15680 k0_hw2949 => k0_hw2949

def k0_off2950 (v15686 : BitVec 32) : Fin 3 → Nat :=
  let c0_i32_14020 : BitVec 32 := 0#32
  let c0_i32_14021 : BitVec 32 := 0#32
  ![v15686.toNat, 0, 0]

def k0_chk2950 (v15686 : BitVec 32) : Prop :=
  (∀ a, (k0_off2950 v15686) a + S1x16x128.size a ≤ S16384x16x128.size a)
theorem k0_off2950_inb : ∀ (v15686 : BitVec 32) (k0_hw2950 : k0_chk2950 v15686), ∀ a, (k0_off2950 v15686) a + S1x16x128.size a ≤ S16384x16x128.size a := fun v15686 k0_hw2950 => k0_hw2950

def k0_off2951 (v15692 : BitVec 32) : Fin 3 → Nat :=
  let c0_i32_14027 : BitVec 32 := 0#32
  let c0_i32_14028 : BitVec 32 := 0#32
  ![v15692.toNat, 0, 0]

def k0_chk2951 (v15692 : BitVec 32) : Prop :=
  (∀ a, (k0_off2951 v15692) a + S1x16x128.size a ≤ S16384x16x128.size a)
theorem k0_off2951_inb : ∀ (v15692 : BitVec 32) (k0_hw2951 : k0_chk2951 v15692), ∀ a, (k0_off2951 v15692) a + S1x16x128.size a ≤ S16384x16x128.size a := fun v15692 k0_hw2951 => k0_hw2951

def k0_off2952 (v15698 : BitVec 32) : Fin 3 → Nat :=
  let c0_i32_14034 : BitVec 32 := 0#32
  let c0_i32_14035 : BitVec 32 := 0#32
  ![v15698.toNat, 0, 0]

def k0_chk2952 (v15698 : BitVec 32) : Prop :=
  (∀ a, (k0_off2952 v15698) a + S1x16x128.size a ≤ S16384x16x128.size a)
theorem k0_off2952_inb : ∀ (v15698 : BitVec 32) (k0_hw2952 : k0_chk2952 v15698), ∀ a, (k0_off2952 v15698) a + S1x16x128.size a ≤ S16384x16x128.size a := fun v15698 k0_hw2952 => k0_hw2952

def k0_off2953 (v15704 : BitVec 32) : Fin 3 → Nat :=
  let c0_i32_14041 : BitVec 32 := 0#32
  let c0_i32_14042 : BitVec 32 := 0#32
  ![v15704.toNat, 0, 0]

def k0_chk2953 (v15704 : BitVec 32) : Prop :=
  (∀ a, (k0_off2953 v15704) a + S1x16x128.size a ≤ S16384x16x128.size a)
theorem k0_off2953_inb : ∀ (v15704 : BitVec 32) (k0_hw2953 : k0_chk2953 v15704), ∀ a, (k0_off2953 v15704) a + S1x16x128.size a ≤ S16384x16x128.size a := fun v15704 k0_hw2953 => k0_hw2953

def k0_off2954 (v15710 : BitVec 32) : Fin 3 → Nat :=
  let c0_i32_14048 : BitVec 32 := 0#32
  let c0_i32_14049 : BitVec 32 := 0#32
  ![v15710.toNat, 0, 0]

def k0_chk2954 (v15710 : BitVec 32) : Prop :=
  (∀ a, (k0_off2954 v15710) a + S1x16x128.size a ≤ S16384x16x128.size a)
theorem k0_off2954_inb : ∀ (v15710 : BitVec 32) (k0_hw2954 : k0_chk2954 v15710), ∀ a, (k0_off2954 v15710) a + S1x16x128.size a ≤ S16384x16x128.size a := fun v15710 k0_hw2954 => k0_hw2954

def k0_off2955 (v15716 : BitVec 32) : Fin 3 → Nat :=
  let c0_i32_14055 : BitVec 32 := 0#32
  let c0_i32_14056 : BitVec 32 := 0#32
  ![v15716.toNat, 0, 0]

def k0_chk2955 (v15716 : BitVec 32) : Prop :=
  (∀ a, (k0_off2955 v15716) a + S1x16x128.size a ≤ S16384x16x128.size a)
theorem k0_off2955_inb : ∀ (v15716 : BitVec 32) (k0_hw2955 : k0_chk2955 v15716), ∀ a, (k0_off2955 v15716) a + S1x16x128.size a ≤ S16384x16x128.size a := fun v15716 k0_hw2955 => k0_hw2955

def k0_off2956 (v15722 : BitVec 32) : Fin 3 → Nat :=
  let c0_i32_14062 : BitVec 32 := 0#32
  let c0_i32_14063 : BitVec 32 := 0#32
  ![v15722.toNat, 0, 0]

def k0_chk2956 (v15722 : BitVec 32) : Prop :=
  (∀ a, (k0_off2956 v15722) a + S1x16x128.size a ≤ S16384x16x128.size a)
theorem k0_off2956_inb : ∀ (v15722 : BitVec 32) (k0_hw2956 : k0_chk2956 v15722), ∀ a, (k0_off2956 v15722) a + S1x16x128.size a ≤ S16384x16x128.size a := fun v15722 k0_hw2956 => k0_hw2956

def k0_off2957 (v15728 : BitVec 32) : Fin 3 → Nat :=
  let c0_i32_14069 : BitVec 32 := 0#32
  let c0_i32_14070 : BitVec 32 := 0#32
  ![v15728.toNat, 0, 0]

def k0_chk2957 (v15728 : BitVec 32) : Prop :=
  (∀ a, (k0_off2957 v15728) a + S1x16x128.size a ≤ S16384x16x128.size a)
theorem k0_off2957_inb : ∀ (v15728 : BitVec 32) (k0_hw2957 : k0_chk2957 v15728), ∀ a, (k0_off2957 v15728) a + S1x16x128.size a ≤ S16384x16x128.size a := fun v15728 k0_hw2957 => k0_hw2957

def k0_off2958 (v15734 : BitVec 32) : Fin 3 → Nat :=
  let c0_i32_14076 : BitVec 32 := 0#32
  let c0_i32_14077 : BitVec 32 := 0#32
  ![v15734.toNat, 0, 0]

def k0_chk2958 (v15734 : BitVec 32) : Prop :=
  (∀ a, (k0_off2958 v15734) a + S1x16x128.size a ≤ S16384x16x128.size a)
theorem k0_off2958_inb : ∀ (v15734 : BitVec 32) (k0_hw2958 : k0_chk2958 v15734), ∀ a, (k0_off2958 v15734) a + S1x16x128.size a ≤ S16384x16x128.size a := fun v15734 k0_hw2958 => k0_hw2958

def k0_off2959 (v15740 : BitVec 32) : Fin 3 → Nat :=
  let c0_i32_14083 : BitVec 32 := 0#32
  let c0_i32_14084 : BitVec 32 := 0#32
  ![v15740.toNat, 0, 0]

def k0_chk2959 (v15740 : BitVec 32) : Prop :=
  (∀ a, (k0_off2959 v15740) a + S1x16x128.size a ≤ S16384x16x128.size a)
theorem k0_off2959_inb : ∀ (v15740 : BitVec 32) (k0_hw2959 : k0_chk2959 v15740), ∀ a, (k0_off2959 v15740) a + S1x16x128.size a ≤ S16384x16x128.size a := fun v15740 k0_hw2959 => k0_hw2959

def k0_off2960 (v15746 : BitVec 32) : Fin 3 → Nat :=
  let c0_i32_14090 : BitVec 32 := 0#32
  let c0_i32_14091 : BitVec 32 := 0#32
  ![v15746.toNat, 0, 0]

def k0_chk2960 (v15746 : BitVec 32) : Prop :=
  (∀ a, (k0_off2960 v15746) a + S1x16x128.size a ≤ S16384x16x128.size a)
theorem k0_off2960_inb : ∀ (v15746 : BitVec 32) (k0_hw2960 : k0_chk2960 v15746), ∀ a, (k0_off2960 v15746) a + S1x16x128.size a ≤ S16384x16x128.size a := fun v15746 k0_hw2960 => k0_hw2960

def k0_off2961 (v15752 : BitVec 32) : Fin 3 → Nat :=
  let c0_i32_14097 : BitVec 32 := 0#32
  let c0_i32_14098 : BitVec 32 := 0#32
  ![v15752.toNat, 0, 0]

def k0_chk2961 (v15752 : BitVec 32) : Prop :=
  (∀ a, (k0_off2961 v15752) a + S1x16x128.size a ≤ S16384x16x128.size a)
theorem k0_off2961_inb : ∀ (v15752 : BitVec 32) (k0_hw2961 : k0_chk2961 v15752), ∀ a, (k0_off2961 v15752) a + S1x16x128.size a ≤ S16384x16x128.size a := fun v15752 k0_hw2961 => k0_hw2961

def k0_off2962 (v15758 : BitVec 32) : Fin 3 → Nat :=
  let c0_i32_14104 : BitVec 32 := 0#32
  let c0_i32_14105 : BitVec 32 := 0#32
  ![v15758.toNat, 0, 0]

def k0_chk2962 (v15758 : BitVec 32) : Prop :=
  (∀ a, (k0_off2962 v15758) a + S1x16x128.size a ≤ S16384x16x128.size a)
theorem k0_off2962_inb : ∀ (v15758 : BitVec 32) (k0_hw2962 : k0_chk2962 v15758), ∀ a, (k0_off2962 v15758) a + S1x16x128.size a ≤ S16384x16x128.size a := fun v15758 k0_hw2962 => k0_hw2962

def k0_off2963 (v15764 : BitVec 32) : Fin 3 → Nat :=
  let c0_i32_14111 : BitVec 32 := 0#32
  let c0_i32_14112 : BitVec 32 := 0#32
  ![v15764.toNat, 0, 0]

def k0_chk2963 (v15764 : BitVec 32) : Prop :=
  (∀ a, (k0_off2963 v15764) a + S1x16x128.size a ≤ S16384x16x128.size a)
theorem k0_off2963_inb : ∀ (v15764 : BitVec 32) (k0_hw2963 : k0_chk2963 v15764), ∀ a, (k0_off2963 v15764) a + S1x16x128.size a ≤ S16384x16x128.size a := fun v15764 k0_hw2963 => k0_hw2963

def k0_off2964 (v15770 : BitVec 32) : Fin 3 → Nat :=
  let c0_i32_14118 : BitVec 32 := 0#32
  let c0_i32_14119 : BitVec 32 := 0#32
  ![v15770.toNat, 0, 0]

def k0_chk2964 (v15770 : BitVec 32) : Prop :=
  (∀ a, (k0_off2964 v15770) a + S1x16x128.size a ≤ S16384x16x128.size a)
theorem k0_off2964_inb : ∀ (v15770 : BitVec 32) (k0_hw2964 : k0_chk2964 v15770), ∀ a, (k0_off2964 v15770) a + S1x16x128.size a ≤ S16384x16x128.size a := fun v15770 k0_hw2964 => k0_hw2964

def k0_off2965 (v15776 : BitVec 32) : Fin 3 → Nat :=
  let c0_i32_14125 : BitVec 32 := 0#32
  let c0_i32_14126 : BitVec 32 := 0#32
  ![v15776.toNat, 0, 0]

def k0_chk2965 (v15776 : BitVec 32) : Prop :=
  (∀ a, (k0_off2965 v15776) a + S1x16x128.size a ≤ S16384x16x128.size a)
theorem k0_off2965_inb : ∀ (v15776 : BitVec 32) (k0_hw2965 : k0_chk2965 v15776), ∀ a, (k0_off2965 v15776) a + S1x16x128.size a ≤ S16384x16x128.size a := fun v15776 k0_hw2965 => k0_hw2965

def k0_off2966 (v15782 : BitVec 32) : Fin 3 → Nat :=
  let c0_i32_14132 : BitVec 32 := 0#32
  let c0_i32_14133 : BitVec 32 := 0#32
  ![v15782.toNat, 0, 0]

def k0_chk2966 (v15782 : BitVec 32) : Prop :=
  (∀ a, (k0_off2966 v15782) a + S1x16x128.size a ≤ S16384x16x128.size a)
theorem k0_off2966_inb : ∀ (v15782 : BitVec 32) (k0_hw2966 : k0_chk2966 v15782), ∀ a, (k0_off2966 v15782) a + S1x16x128.size a ≤ S16384x16x128.size a := fun v15782 k0_hw2966 => k0_hw2966

def k0_off2967 (v15788 : BitVec 32) : Fin 3 → Nat :=
  let c0_i32_14139 : BitVec 32 := 0#32
  let c0_i32_14140 : BitVec 32 := 0#32
  ![v15788.toNat, 0, 0]

def k0_chk2967 (v15788 : BitVec 32) : Prop :=
  (∀ a, (k0_off2967 v15788) a + S1x16x128.size a ≤ S16384x16x128.size a)
theorem k0_off2967_inb : ∀ (v15788 : BitVec 32) (k0_hw2967 : k0_chk2967 v15788), ∀ a, (k0_off2967 v15788) a + S1x16x128.size a ≤ S16384x16x128.size a := fun v15788 k0_hw2967 => k0_hw2967

def k0_off2968 (v15794 : BitVec 32) : Fin 3 → Nat :=
  let c0_i32_14146 : BitVec 32 := 0#32
  let c0_i32_14147 : BitVec 32 := 0#32
  ![v15794.toNat, 0, 0]

def k0_chk2968 (v15794 : BitVec 32) : Prop :=
  (∀ a, (k0_off2968 v15794) a + S1x16x128.size a ≤ S16384x16x128.size a)
theorem k0_off2968_inb : ∀ (v15794 : BitVec 32) (k0_hw2968 : k0_chk2968 v15794), ∀ a, (k0_off2968 v15794) a + S1x16x128.size a ≤ S16384x16x128.size a := fun v15794 k0_hw2968 => k0_hw2968

def k0_off2969 (v15800 : BitVec 32) : Fin 3 → Nat :=
  let c0_i32_14153 : BitVec 32 := 0#32
  let c0_i32_14154 : BitVec 32 := 0#32
  ![v15800.toNat, 0, 0]

def k0_chk2969 (v15800 : BitVec 32) : Prop :=
  (∀ a, (k0_off2969 v15800) a + S1x16x128.size a ≤ S16384x16x128.size a)
theorem k0_off2969_inb : ∀ (v15800 : BitVec 32) (k0_hw2969 : k0_chk2969 v15800), ∀ a, (k0_off2969 v15800) a + S1x16x128.size a ≤ S16384x16x128.size a := fun v15800 k0_hw2969 => k0_hw2969

def k0_off2970 (v15806 : BitVec 32) : Fin 3 → Nat :=
  let c0_i32_14160 : BitVec 32 := 0#32
  let c0_i32_14161 : BitVec 32 := 0#32
  ![v15806.toNat, 0, 0]

def k0_chk2970 (v15806 : BitVec 32) : Prop :=
  (∀ a, (k0_off2970 v15806) a + S1x16x128.size a ≤ S16384x16x128.size a)
theorem k0_off2970_inb : ∀ (v15806 : BitVec 32) (k0_hw2970 : k0_chk2970 v15806), ∀ a, (k0_off2970 v15806) a + S1x16x128.size a ≤ S16384x16x128.size a := fun v15806 k0_hw2970 => k0_hw2970

def k0_off2971 (v15812 : BitVec 32) : Fin 3 → Nat :=
  let c0_i32_14167 : BitVec 32 := 0#32
  let c0_i32_14168 : BitVec 32 := 0#32
  ![v15812.toNat, 0, 0]

def k0_chk2971 (v15812 : BitVec 32) : Prop :=
  (∀ a, (k0_off2971 v15812) a + S1x16x128.size a ≤ S16384x16x128.size a)
theorem k0_off2971_inb : ∀ (v15812 : BitVec 32) (k0_hw2971 : k0_chk2971 v15812), ∀ a, (k0_off2971 v15812) a + S1x16x128.size a ≤ S16384x16x128.size a := fun v15812 k0_hw2971 => k0_hw2971

def k0_off2972 (v15818 : BitVec 32) : Fin 3 → Nat :=
  let c0_i32_14174 : BitVec 32 := 0#32
  let c0_i32_14175 : BitVec 32 := 0#32
  ![v15818.toNat, 0, 0]

def k0_chk2972 (v15818 : BitVec 32) : Prop :=
  (∀ a, (k0_off2972 v15818) a + S1x16x128.size a ≤ S16384x16x128.size a)
theorem k0_off2972_inb : ∀ (v15818 : BitVec 32) (k0_hw2972 : k0_chk2972 v15818), ∀ a, (k0_off2972 v15818) a + S1x16x128.size a ≤ S16384x16x128.size a := fun v15818 k0_hw2972 => k0_hw2972

def k0_off2973 (v15824 : BitVec 32) : Fin 3 → Nat :=
  let c0_i32_14181 : BitVec 32 := 0#32
  let c0_i32_14182 : BitVec 32 := 0#32
  ![v15824.toNat, 0, 0]

def k0_chk2973 (v15824 : BitVec 32) : Prop :=
  (∀ a, (k0_off2973 v15824) a + S1x16x128.size a ≤ S16384x16x128.size a)
theorem k0_off2973_inb : ∀ (v15824 : BitVec 32) (k0_hw2973 : k0_chk2973 v15824), ∀ a, (k0_off2973 v15824) a + S1x16x128.size a ≤ S16384x16x128.size a := fun v15824 k0_hw2973 => k0_hw2973

def k0_off2974 (v15830 : BitVec 32) : Fin 3 → Nat :=
  let c0_i32_14188 : BitVec 32 := 0#32
  let c0_i32_14189 : BitVec 32 := 0#32
  ![v15830.toNat, 0, 0]

def k0_chk2974 (v15830 : BitVec 32) : Prop :=
  (∀ a, (k0_off2974 v15830) a + S1x16x128.size a ≤ S16384x16x128.size a)
theorem k0_off2974_inb : ∀ (v15830 : BitVec 32) (k0_hw2974 : k0_chk2974 v15830), ∀ a, (k0_off2974 v15830) a + S1x16x128.size a ≤ S16384x16x128.size a := fun v15830 k0_hw2974 => k0_hw2974

def k0_off2975 (v15836 : BitVec 32) : Fin 3 → Nat :=
  let c0_i32_14195 : BitVec 32 := 0#32
  let c0_i32_14196 : BitVec 32 := 0#32
  ![v15836.toNat, 0, 0]

def k0_chk2975 (v15836 : BitVec 32) : Prop :=
  (∀ a, (k0_off2975 v15836) a + S1x16x128.size a ≤ S16384x16x128.size a)
theorem k0_off2975_inb : ∀ (v15836 : BitVec 32) (k0_hw2975 : k0_chk2975 v15836), ∀ a, (k0_off2975 v15836) a + S1x16x128.size a ≤ S16384x16x128.size a := fun v15836 k0_hw2975 => k0_hw2975

def k0_off2976 (v15842 : BitVec 32) : Fin 3 → Nat :=
  let c0_i32_14202 : BitVec 32 := 0#32
  let c0_i32_14203 : BitVec 32 := 0#32
  ![v15842.toNat, 0, 0]

def k0_chk2976 (v15842 : BitVec 32) : Prop :=
  (∀ a, (k0_off2976 v15842) a + S1x16x128.size a ≤ S16384x16x128.size a)
theorem k0_off2976_inb : ∀ (v15842 : BitVec 32) (k0_hw2976 : k0_chk2976 v15842), ∀ a, (k0_off2976 v15842) a + S1x16x128.size a ≤ S16384x16x128.size a := fun v15842 k0_hw2976 => k0_hw2976

def k0_off2977 (v15848 : BitVec 32) : Fin 3 → Nat :=
  let c0_i32_14209 : BitVec 32 := 0#32
  let c0_i32_14210 : BitVec 32 := 0#32
  ![v15848.toNat, 0, 0]

def k0_chk2977 (v15848 : BitVec 32) : Prop :=
  (∀ a, (k0_off2977 v15848) a + S1x16x128.size a ≤ S16384x16x128.size a)
theorem k0_off2977_inb : ∀ (v15848 : BitVec 32) (k0_hw2977 : k0_chk2977 v15848), ∀ a, (k0_off2977 v15848) a + S1x16x128.size a ≤ S16384x16x128.size a := fun v15848 k0_hw2977 => k0_hw2977

def k0_off2978 (v15854 : BitVec 32) : Fin 3 → Nat :=
  let c0_i32_14216 : BitVec 32 := 0#32
  let c0_i32_14217 : BitVec 32 := 0#32
  ![v15854.toNat, 0, 0]

def k0_chk2978 (v15854 : BitVec 32) : Prop :=
  (∀ a, (k0_off2978 v15854) a + S1x16x128.size a ≤ S16384x16x128.size a)
theorem k0_off2978_inb : ∀ (v15854 : BitVec 32) (k0_hw2978 : k0_chk2978 v15854), ∀ a, (k0_off2978 v15854) a + S1x16x128.size a ≤ S16384x16x128.size a := fun v15854 k0_hw2978 => k0_hw2978

def k0_off2979 (v15860 : BitVec 32) : Fin 3 → Nat :=
  let c0_i32_14223 : BitVec 32 := 0#32
  let c0_i32_14224 : BitVec 32 := 0#32
  ![v15860.toNat, 0, 0]

def k0_chk2979 (v15860 : BitVec 32) : Prop :=
  (∀ a, (k0_off2979 v15860) a + S1x16x128.size a ≤ S16384x16x128.size a)
theorem k0_off2979_inb : ∀ (v15860 : BitVec 32) (k0_hw2979 : k0_chk2979 v15860), ∀ a, (k0_off2979 v15860) a + S1x16x128.size a ≤ S16384x16x128.size a := fun v15860 k0_hw2979 => k0_hw2979

def k0_off2980 (v15866 : BitVec 32) : Fin 3 → Nat :=
  let c0_i32_14230 : BitVec 32 := 0#32
  let c0_i32_14231 : BitVec 32 := 0#32
  ![v15866.toNat, 0, 0]

def k0_chk2980 (v15866 : BitVec 32) : Prop :=
  (∀ a, (k0_off2980 v15866) a + S1x16x128.size a ≤ S16384x16x128.size a)
theorem k0_off2980_inb : ∀ (v15866 : BitVec 32) (k0_hw2980 : k0_chk2980 v15866), ∀ a, (k0_off2980 v15866) a + S1x16x128.size a ≤ S16384x16x128.size a := fun v15866 k0_hw2980 => k0_hw2980

def k0_off2981 (v15872 : BitVec 32) : Fin 3 → Nat :=
  let c0_i32_14237 : BitVec 32 := 0#32
  let c0_i32_14238 : BitVec 32 := 0#32
  ![v15872.toNat, 0, 0]

def k0_chk2981 (v15872 : BitVec 32) : Prop :=
  (∀ a, (k0_off2981 v15872) a + S1x16x128.size a ≤ S16384x16x128.size a)
theorem k0_off2981_inb : ∀ (v15872 : BitVec 32) (k0_hw2981 : k0_chk2981 v15872), ∀ a, (k0_off2981 v15872) a + S1x16x128.size a ≤ S16384x16x128.size a := fun v15872 k0_hw2981 => k0_hw2981

def k0_off2982 (v15878 : BitVec 32) : Fin 3 → Nat :=
  let c0_i32_14244 : BitVec 32 := 0#32
  let c0_i32_14245 : BitVec 32 := 0#32
  ![v15878.toNat, 0, 0]

def k0_chk2982 (v15878 : BitVec 32) : Prop :=
  (∀ a, (k0_off2982 v15878) a + S1x16x128.size a ≤ S16384x16x128.size a)
theorem k0_off2982_inb : ∀ (v15878 : BitVec 32) (k0_hw2982 : k0_chk2982 v15878), ∀ a, (k0_off2982 v15878) a + S1x16x128.size a ≤ S16384x16x128.size a := fun v15878 k0_hw2982 => k0_hw2982

def k0_off2983 (v15884 : BitVec 32) : Fin 3 → Nat :=
  let c0_i32_14251 : BitVec 32 := 0#32
  let c0_i32_14252 : BitVec 32 := 0#32
  ![v15884.toNat, 0, 0]

def k0_chk2983 (v15884 : BitVec 32) : Prop :=
  (∀ a, (k0_off2983 v15884) a + S1x16x128.size a ≤ S16384x16x128.size a)
theorem k0_off2983_inb : ∀ (v15884 : BitVec 32) (k0_hw2983 : k0_chk2983 v15884), ∀ a, (k0_off2983 v15884) a + S1x16x128.size a ≤ S16384x16x128.size a := fun v15884 k0_hw2983 => k0_hw2983

def k0_off2984 (v15890 : BitVec 32) : Fin 3 → Nat :=
  let c0_i32_14258 : BitVec 32 := 0#32
  let c0_i32_14259 : BitVec 32 := 0#32
  ![v15890.toNat, 0, 0]

def k0_chk2984 (v15890 : BitVec 32) : Prop :=
  (∀ a, (k0_off2984 v15890) a + S1x16x128.size a ≤ S16384x16x128.size a)
theorem k0_off2984_inb : ∀ (v15890 : BitVec 32) (k0_hw2984 : k0_chk2984 v15890), ∀ a, (k0_off2984 v15890) a + S1x16x128.size a ≤ S16384x16x128.size a := fun v15890 k0_hw2984 => k0_hw2984

def k0_off2985 (v15896 : BitVec 32) : Fin 3 → Nat :=
  let c0_i32_14265 : BitVec 32 := 0#32
  let c0_i32_14266 : BitVec 32 := 0#32
  ![v15896.toNat, 0, 0]

def k0_chk2985 (v15896 : BitVec 32) : Prop :=
  (∀ a, (k0_off2985 v15896) a + S1x16x128.size a ≤ S16384x16x128.size a)
theorem k0_off2985_inb : ∀ (v15896 : BitVec 32) (k0_hw2985 : k0_chk2985 v15896), ∀ a, (k0_off2985 v15896) a + S1x16x128.size a ≤ S16384x16x128.size a := fun v15896 k0_hw2985 => k0_hw2985

def k0_off2986 (v15902 : BitVec 32) : Fin 3 → Nat :=
  let c0_i32_14272 : BitVec 32 := 0#32
  let c0_i32_14273 : BitVec 32 := 0#32
  ![v15902.toNat, 0, 0]

def k0_chk2986 (v15902 : BitVec 32) : Prop :=
  (∀ a, (k0_off2986 v15902) a + S1x16x128.size a ≤ S16384x16x128.size a)
theorem k0_off2986_inb : ∀ (v15902 : BitVec 32) (k0_hw2986 : k0_chk2986 v15902), ∀ a, (k0_off2986 v15902) a + S1x16x128.size a ≤ S16384x16x128.size a := fun v15902 k0_hw2986 => k0_hw2986

def k0_off2987 (v15908 : BitVec 32) : Fin 3 → Nat :=
  let c0_i32_14279 : BitVec 32 := 0#32
  let c0_i32_14280 : BitVec 32 := 0#32
  ![v15908.toNat, 0, 0]

def k0_chk2987 (v15908 : BitVec 32) : Prop :=
  (∀ a, (k0_off2987 v15908) a + S1x16x128.size a ≤ S16384x16x128.size a)
theorem k0_off2987_inb : ∀ (v15908 : BitVec 32) (k0_hw2987 : k0_chk2987 v15908), ∀ a, (k0_off2987 v15908) a + S1x16x128.size a ≤ S16384x16x128.size a := fun v15908 k0_hw2987 => k0_hw2987

def k0_off2988 (v15914 : BitVec 32) : Fin 3 → Nat :=
  let c0_i32_14286 : BitVec 32 := 0#32
  let c0_i32_14287 : BitVec 32 := 0#32
  ![v15914.toNat, 0, 0]

def k0_chk2988 (v15914 : BitVec 32) : Prop :=
  (∀ a, (k0_off2988 v15914) a + S1x16x128.size a ≤ S16384x16x128.size a)
theorem k0_off2988_inb : ∀ (v15914 : BitVec 32) (k0_hw2988 : k0_chk2988 v15914), ∀ a, (k0_off2988 v15914) a + S1x16x128.size a ≤ S16384x16x128.size a := fun v15914 k0_hw2988 => k0_hw2988

def k0_off2989 (v15920 : BitVec 32) : Fin 3 → Nat :=
  let c0_i32_14293 : BitVec 32 := 0#32
  let c0_i32_14294 : BitVec 32 := 0#32
  ![v15920.toNat, 0, 0]

def k0_chk2989 (v15920 : BitVec 32) : Prop :=
  (∀ a, (k0_off2989 v15920) a + S1x16x128.size a ≤ S16384x16x128.size a)
theorem k0_off2989_inb : ∀ (v15920 : BitVec 32) (k0_hw2989 : k0_chk2989 v15920), ∀ a, (k0_off2989 v15920) a + S1x16x128.size a ≤ S16384x16x128.size a := fun v15920 k0_hw2989 => k0_hw2989

def k0_off2990 (v15926 : BitVec 32) : Fin 3 → Nat :=
  let c0_i32_14300 : BitVec 32 := 0#32
  let c0_i32_14301 : BitVec 32 := 0#32
  ![v15926.toNat, 0, 0]

def k0_chk2990 (v15926 : BitVec 32) : Prop :=
  (∀ a, (k0_off2990 v15926) a + S1x16x128.size a ≤ S16384x16x128.size a)
theorem k0_off2990_inb : ∀ (v15926 : BitVec 32) (k0_hw2990 : k0_chk2990 v15926), ∀ a, (k0_off2990 v15926) a + S1x16x128.size a ≤ S16384x16x128.size a := fun v15926 k0_hw2990 => k0_hw2990

def k0_off2991 (v15932 : BitVec 32) : Fin 3 → Nat :=
  let c0_i32_14307 : BitVec 32 := 0#32
  let c0_i32_14308 : BitVec 32 := 0#32
  ![v15932.toNat, 0, 0]

def k0_chk2991 (v15932 : BitVec 32) : Prop :=
  (∀ a, (k0_off2991 v15932) a + S1x16x128.size a ≤ S16384x16x128.size a)
theorem k0_off2991_inb : ∀ (v15932 : BitVec 32) (k0_hw2991 : k0_chk2991 v15932), ∀ a, (k0_off2991 v15932) a + S1x16x128.size a ≤ S16384x16x128.size a := fun v15932 k0_hw2991 => k0_hw2991

def k0_off2992 (v15938 : BitVec 32) : Fin 3 → Nat :=
  let c0_i32_14314 : BitVec 32 := 0#32
  let c0_i32_14315 : BitVec 32 := 0#32
  ![v15938.toNat, 0, 0]

def k0_chk2992 (v15938 : BitVec 32) : Prop :=
  (∀ a, (k0_off2992 v15938) a + S1x16x128.size a ≤ S16384x16x128.size a)
theorem k0_off2992_inb : ∀ (v15938 : BitVec 32) (k0_hw2992 : k0_chk2992 v15938), ∀ a, (k0_off2992 v15938) a + S1x16x128.size a ≤ S16384x16x128.size a := fun v15938 k0_hw2992 => k0_hw2992

def k0_off2993 (v15944 : BitVec 32) : Fin 3 → Nat :=
  let c0_i32_14321 : BitVec 32 := 0#32
  let c0_i32_14322 : BitVec 32 := 0#32
  ![v15944.toNat, 0, 0]

def k0_chk2993 (v15944 : BitVec 32) : Prop :=
  (∀ a, (k0_off2993 v15944) a + S1x16x128.size a ≤ S16384x16x128.size a)
theorem k0_off2993_inb : ∀ (v15944 : BitVec 32) (k0_hw2993 : k0_chk2993 v15944), ∀ a, (k0_off2993 v15944) a + S1x16x128.size a ≤ S16384x16x128.size a := fun v15944 k0_hw2993 => k0_hw2993

def k0_off2994 (v15950 : BitVec 32) : Fin 3 → Nat :=
  let c0_i32_14328 : BitVec 32 := 0#32
  let c0_i32_14329 : BitVec 32 := 0#32
  ![v15950.toNat, 0, 0]

def k0_chk2994 (v15950 : BitVec 32) : Prop :=
  (∀ a, (k0_off2994 v15950) a + S1x16x128.size a ≤ S16384x16x128.size a)
theorem k0_off2994_inb : ∀ (v15950 : BitVec 32) (k0_hw2994 : k0_chk2994 v15950), ∀ a, (k0_off2994 v15950) a + S1x16x128.size a ≤ S16384x16x128.size a := fun v15950 k0_hw2994 => k0_hw2994

def k0_off2995 (v15956 : BitVec 32) : Fin 3 → Nat :=
  let c0_i32_14335 : BitVec 32 := 0#32
  let c0_i32_14336 : BitVec 32 := 0#32
  ![v15956.toNat, 0, 0]

def k0_chk2995 (v15956 : BitVec 32) : Prop :=
  (∀ a, (k0_off2995 v15956) a + S1x16x128.size a ≤ S16384x16x128.size a)
theorem k0_off2995_inb : ∀ (v15956 : BitVec 32) (k0_hw2995 : k0_chk2995 v15956), ∀ a, (k0_off2995 v15956) a + S1x16x128.size a ≤ S16384x16x128.size a := fun v15956 k0_hw2995 => k0_hw2995

def k0_off2996 (v15962 : BitVec 32) : Fin 3 → Nat :=
  let c0_i32_14342 : BitVec 32 := 0#32
  let c0_i32_14343 : BitVec 32 := 0#32
  ![v15962.toNat, 0, 0]

def k0_chk2996 (v15962 : BitVec 32) : Prop :=
  (∀ a, (k0_off2996 v15962) a + S1x16x128.size a ≤ S16384x16x128.size a)
theorem k0_off2996_inb : ∀ (v15962 : BitVec 32) (k0_hw2996 : k0_chk2996 v15962), ∀ a, (k0_off2996 v15962) a + S1x16x128.size a ≤ S16384x16x128.size a := fun v15962 k0_hw2996 => k0_hw2996

def k0_off2997 (v15968 : BitVec 32) : Fin 3 → Nat :=
  let c0_i32_14349 : BitVec 32 := 0#32
  let c0_i32_14350 : BitVec 32 := 0#32
  ![v15968.toNat, 0, 0]

def k0_chk2997 (v15968 : BitVec 32) : Prop :=
  (∀ a, (k0_off2997 v15968) a + S1x16x128.size a ≤ S16384x16x128.size a)
theorem k0_off2997_inb : ∀ (v15968 : BitVec 32) (k0_hw2997 : k0_chk2997 v15968), ∀ a, (k0_off2997 v15968) a + S1x16x128.size a ≤ S16384x16x128.size a := fun v15968 k0_hw2997 => k0_hw2997

def k0_off2998 (v15974 : BitVec 32) : Fin 3 → Nat :=
  let c0_i32_14356 : BitVec 32 := 0#32
  let c0_i32_14357 : BitVec 32 := 0#32
  ![v15974.toNat, 0, 0]

def k0_chk2998 (v15974 : BitVec 32) : Prop :=
  (∀ a, (k0_off2998 v15974) a + S1x16x128.size a ≤ S16384x16x128.size a)
theorem k0_off2998_inb : ∀ (v15974 : BitVec 32) (k0_hw2998 : k0_chk2998 v15974), ∀ a, (k0_off2998 v15974) a + S1x16x128.size a ≤ S16384x16x128.size a := fun v15974 k0_hw2998 => k0_hw2998

def k0_off2999 (v15980 : BitVec 32) : Fin 3 → Nat :=
  let c0_i32_14363 : BitVec 32 := 0#32
  let c0_i32_14364 : BitVec 32 := 0#32
  ![v15980.toNat, 0, 0]

def k0_chk2999 (v15980 : BitVec 32) : Prop :=
  (∀ a, (k0_off2999 v15980) a + S1x16x128.size a ≤ S16384x16x128.size a)
theorem k0_off2999_inb : ∀ (v15980 : BitVec 32) (k0_hw2999 : k0_chk2999 v15980), ∀ a, (k0_off2999 v15980) a + S1x16x128.size a ≤ S16384x16x128.size a := fun v15980 k0_hw2999 => k0_hw2999

def k0_off3000 (v15986 : BitVec 32) : Fin 3 → Nat :=
  let c0_i32_14370 : BitVec 32 := 0#32
  let c0_i32_14371 : BitVec 32 := 0#32
  ![v15986.toNat, 0, 0]

def k0_chk3000 (v15986 : BitVec 32) : Prop :=
  (∀ a, (k0_off3000 v15986) a + S1x16x128.size a ≤ S16384x16x128.size a)
theorem k0_off3000_inb : ∀ (v15986 : BitVec 32) (k0_hw3000 : k0_chk3000 v15986), ∀ a, (k0_off3000 v15986) a + S1x16x128.size a ≤ S16384x16x128.size a := fun v15986 k0_hw3000 => k0_hw3000

def k0_off3001 (v15992 : BitVec 32) : Fin 3 → Nat :=
  let c0_i32_14377 : BitVec 32 := 0#32
  let c0_i32_14378 : BitVec 32 := 0#32
  ![v15992.toNat, 0, 0]

def k0_chk3001 (v15992 : BitVec 32) : Prop :=
  (∀ a, (k0_off3001 v15992) a + S1x16x128.size a ≤ S16384x16x128.size a)
theorem k0_off3001_inb : ∀ (v15992 : BitVec 32) (k0_hw3001 : k0_chk3001 v15992), ∀ a, (k0_off3001 v15992) a + S1x16x128.size a ≤ S16384x16x128.size a := fun v15992 k0_hw3001 => k0_hw3001

def k0_off3002 (v15998 : BitVec 32) : Fin 3 → Nat :=
  let c0_i32_14384 : BitVec 32 := 0#32
  let c0_i32_14385 : BitVec 32 := 0#32
  ![v15998.toNat, 0, 0]

def k0_chk3002 (v15998 : BitVec 32) : Prop :=
  (∀ a, (k0_off3002 v15998) a + S1x16x128.size a ≤ S16384x16x128.size a)
theorem k0_off3002_inb : ∀ (v15998 : BitVec 32) (k0_hw3002 : k0_chk3002 v15998), ∀ a, (k0_off3002 v15998) a + S1x16x128.size a ≤ S16384x16x128.size a := fun v15998 k0_hw3002 => k0_hw3002

def k0_off3003 (v16004 : BitVec 32) : Fin 3 → Nat :=
  let c0_i32_14391 : BitVec 32 := 0#32
  let c0_i32_14392 : BitVec 32 := 0#32
  ![v16004.toNat, 0, 0]

def k0_chk3003 (v16004 : BitVec 32) : Prop :=
  (∀ a, (k0_off3003 v16004) a + S1x16x128.size a ≤ S16384x16x128.size a)
theorem k0_off3003_inb : ∀ (v16004 : BitVec 32) (k0_hw3003 : k0_chk3003 v16004), ∀ a, (k0_off3003 v16004) a + S1x16x128.size a ≤ S16384x16x128.size a := fun v16004 k0_hw3003 => k0_hw3003

def k0_off3004 (v16010 : BitVec 32) : Fin 3 → Nat :=
  let c0_i32_14398 : BitVec 32 := 0#32
  let c0_i32_14399 : BitVec 32 := 0#32
  ![v16010.toNat, 0, 0]

def k0_chk3004 (v16010 : BitVec 32) : Prop :=
  (∀ a, (k0_off3004 v16010) a + S1x16x128.size a ≤ S16384x16x128.size a)
theorem k0_off3004_inb : ∀ (v16010 : BitVec 32) (k0_hw3004 : k0_chk3004 v16010), ∀ a, (k0_off3004 v16010) a + S1x16x128.size a ≤ S16384x16x128.size a := fun v16010 k0_hw3004 => k0_hw3004

def k0_off3005 (v16016 : BitVec 32) : Fin 3 → Nat :=
  let c0_i32_14405 : BitVec 32 := 0#32
  let c0_i32_14406 : BitVec 32 := 0#32
  ![v16016.toNat, 0, 0]

def k0_chk3005 (v16016 : BitVec 32) : Prop :=
  (∀ a, (k0_off3005 v16016) a + S1x16x128.size a ≤ S16384x16x128.size a)
theorem k0_off3005_inb : ∀ (v16016 : BitVec 32) (k0_hw3005 : k0_chk3005 v16016), ∀ a, (k0_off3005 v16016) a + S1x16x128.size a ≤ S16384x16x128.size a := fun v16016 k0_hw3005 => k0_hw3005

def k0_off3006 (v16022 : BitVec 32) : Fin 3 → Nat :=
  let c0_i32_14412 : BitVec 32 := 0#32
  let c0_i32_14413 : BitVec 32 := 0#32
  ![v16022.toNat, 0, 0]

def k0_chk3006 (v16022 : BitVec 32) : Prop :=
  (∀ a, (k0_off3006 v16022) a + S1x16x128.size a ≤ S16384x16x128.size a)
theorem k0_off3006_inb : ∀ (v16022 : BitVec 32) (k0_hw3006 : k0_chk3006 v16022), ∀ a, (k0_off3006 v16022) a + S1x16x128.size a ≤ S16384x16x128.size a := fun v16022 k0_hw3006 => k0_hw3006

def k0_off3007 (v16028 : BitVec 32) : Fin 3 → Nat :=
  let c0_i32_14419 : BitVec 32 := 0#32
  let c0_i32_14420 : BitVec 32 := 0#32
  ![v16028.toNat, 0, 0]

def k0_chk3007 (v16028 : BitVec 32) : Prop :=
  (∀ a, (k0_off3007 v16028) a + S1x16x128.size a ≤ S16384x16x128.size a)
theorem k0_off3007_inb : ∀ (v16028 : BitVec 32) (k0_hw3007 : k0_chk3007 v16028), ∀ a, (k0_off3007 v16028) a + S1x16x128.size a ≤ S16384x16x128.size a := fun v16028 k0_hw3007 => k0_hw3007

def k0_off3008 (v16034 : BitVec 32) : Fin 3 → Nat :=
  let c0_i32_14426 : BitVec 32 := 0#32
  let c0_i32_14427 : BitVec 32 := 0#32
  ![v16034.toNat, 0, 0]

def k0_chk3008 (v16034 : BitVec 32) : Prop :=
  (∀ a, (k0_off3008 v16034) a + S1x16x128.size a ≤ S16384x16x128.size a)
theorem k0_off3008_inb : ∀ (v16034 : BitVec 32) (k0_hw3008 : k0_chk3008 v16034), ∀ a, (k0_off3008 v16034) a + S1x16x128.size a ≤ S16384x16x128.size a := fun v16034 k0_hw3008 => k0_hw3008

def k0_off3009 (v16040 : BitVec 32) : Fin 3 → Nat :=
  let c0_i32_14433 : BitVec 32 := 0#32
  let c0_i32_14434 : BitVec 32 := 0#32
  ![v16040.toNat, 0, 0]

def k0_chk3009 (v16040 : BitVec 32) : Prop :=
  (∀ a, (k0_off3009 v16040) a + S1x16x128.size a ≤ S16384x16x128.size a)
theorem k0_off3009_inb : ∀ (v16040 : BitVec 32) (k0_hw3009 : k0_chk3009 v16040), ∀ a, (k0_off3009 v16040) a + S1x16x128.size a ≤ S16384x16x128.size a := fun v16040 k0_hw3009 => k0_hw3009

def k0_off3010 (v16046 : BitVec 32) : Fin 3 → Nat :=
  let c0_i32_14440 : BitVec 32 := 0#32
  let c0_i32_14441 : BitVec 32 := 0#32
  ![v16046.toNat, 0, 0]

def k0_chk3010 (v16046 : BitVec 32) : Prop :=
  (∀ a, (k0_off3010 v16046) a + S1x16x128.size a ≤ S16384x16x128.size a)
theorem k0_off3010_inb : ∀ (v16046 : BitVec 32) (k0_hw3010 : k0_chk3010 v16046), ∀ a, (k0_off3010 v16046) a + S1x16x128.size a ≤ S16384x16x128.size a := fun v16046 k0_hw3010 => k0_hw3010

def k0_off3011 (v16052 : BitVec 32) : Fin 3 → Nat :=
  let c0_i32_14447 : BitVec 32 := 0#32
  let c0_i32_14448 : BitVec 32 := 0#32
  ![v16052.toNat, 0, 0]

def k0_chk3011 (v16052 : BitVec 32) : Prop :=
  (∀ a, (k0_off3011 v16052) a + S1x16x128.size a ≤ S16384x16x128.size a)
theorem k0_off3011_inb : ∀ (v16052 : BitVec 32) (k0_hw3011 : k0_chk3011 v16052), ∀ a, (k0_off3011 v16052) a + S1x16x128.size a ≤ S16384x16x128.size a := fun v16052 k0_hw3011 => k0_hw3011

def k0_off3012 (v16058 : BitVec 32) : Fin 3 → Nat :=
  let c0_i32_14454 : BitVec 32 := 0#32
  let c0_i32_14455 : BitVec 32 := 0#32
  ![v16058.toNat, 0, 0]

def k0_chk3012 (v16058 : BitVec 32) : Prop :=
  (∀ a, (k0_off3012 v16058) a + S1x16x128.size a ≤ S16384x16x128.size a)
theorem k0_off3012_inb : ∀ (v16058 : BitVec 32) (k0_hw3012 : k0_chk3012 v16058), ∀ a, (k0_off3012 v16058) a + S1x16x128.size a ≤ S16384x16x128.size a := fun v16058 k0_hw3012 => k0_hw3012

def k0_off3013 (v16064 : BitVec 32) : Fin 3 → Nat :=
  let c0_i32_14461 : BitVec 32 := 0#32
  let c0_i32_14462 : BitVec 32 := 0#32
  ![v16064.toNat, 0, 0]

def k0_chk3013 (v16064 : BitVec 32) : Prop :=
  (∀ a, (k0_off3013 v16064) a + S1x16x128.size a ≤ S16384x16x128.size a)
theorem k0_off3013_inb : ∀ (v16064 : BitVec 32) (k0_hw3013 : k0_chk3013 v16064), ∀ a, (k0_off3013 v16064) a + S1x16x128.size a ≤ S16384x16x128.size a := fun v16064 k0_hw3013 => k0_hw3013

def k0_off3014 (v16070 : BitVec 32) : Fin 3 → Nat :=
  let c0_i32_14468 : BitVec 32 := 0#32
  let c0_i32_14469 : BitVec 32 := 0#32
  ![v16070.toNat, 0, 0]

def k0_chk3014 (v16070 : BitVec 32) : Prop :=
  (∀ a, (k0_off3014 v16070) a + S1x16x128.size a ≤ S16384x16x128.size a)
theorem k0_off3014_inb : ∀ (v16070 : BitVec 32) (k0_hw3014 : k0_chk3014 v16070), ∀ a, (k0_off3014 v16070) a + S1x16x128.size a ≤ S16384x16x128.size a := fun v16070 k0_hw3014 => k0_hw3014

def k0_off3015 (v16076 : BitVec 32) : Fin 3 → Nat :=
  let c0_i32_14475 : BitVec 32 := 0#32
  let c0_i32_14476 : BitVec 32 := 0#32
  ![v16076.toNat, 0, 0]

def k0_chk3015 (v16076 : BitVec 32) : Prop :=
  (∀ a, (k0_off3015 v16076) a + S1x16x128.size a ≤ S16384x16x128.size a)
theorem k0_off3015_inb : ∀ (v16076 : BitVec 32) (k0_hw3015 : k0_chk3015 v16076), ∀ a, (k0_off3015 v16076) a + S1x16x128.size a ≤ S16384x16x128.size a := fun v16076 k0_hw3015 => k0_hw3015

def k0_off3016 (v16082 : BitVec 32) : Fin 3 → Nat :=
  let c0_i32_14482 : BitVec 32 := 0#32
  let c0_i32_14483 : BitVec 32 := 0#32
  ![v16082.toNat, 0, 0]

def k0_chk3016 (v16082 : BitVec 32) : Prop :=
  (∀ a, (k0_off3016 v16082) a + S1x16x128.size a ≤ S16384x16x128.size a)
theorem k0_off3016_inb : ∀ (v16082 : BitVec 32) (k0_hw3016 : k0_chk3016 v16082), ∀ a, (k0_off3016 v16082) a + S1x16x128.size a ≤ S16384x16x128.size a := fun v16082 k0_hw3016 => k0_hw3016

def k0_off3017 (v16088 : BitVec 32) : Fin 3 → Nat :=
  let c0_i32_14489 : BitVec 32 := 0#32
  let c0_i32_14490 : BitVec 32 := 0#32
  ![v16088.toNat, 0, 0]

def k0_chk3017 (v16088 : BitVec 32) : Prop :=
  (∀ a, (k0_off3017 v16088) a + S1x16x128.size a ≤ S16384x16x128.size a)
theorem k0_off3017_inb : ∀ (v16088 : BitVec 32) (k0_hw3017 : k0_chk3017 v16088), ∀ a, (k0_off3017 v16088) a + S1x16x128.size a ≤ S16384x16x128.size a := fun v16088 k0_hw3017 => k0_hw3017

def k0_off3018 (v16094 : BitVec 32) : Fin 3 → Nat :=
  let c0_i32_14496 : BitVec 32 := 0#32
  let c0_i32_14497 : BitVec 32 := 0#32
  ![v16094.toNat, 0, 0]

def k0_chk3018 (v16094 : BitVec 32) : Prop :=
  (∀ a, (k0_off3018 v16094) a + S1x16x128.size a ≤ S16384x16x128.size a)
theorem k0_off3018_inb : ∀ (v16094 : BitVec 32) (k0_hw3018 : k0_chk3018 v16094), ∀ a, (k0_off3018 v16094) a + S1x16x128.size a ≤ S16384x16x128.size a := fun v16094 k0_hw3018 => k0_hw3018

def k0_off3019 (v16100 : BitVec 32) : Fin 3 → Nat :=
  let c0_i32_14503 : BitVec 32 := 0#32
  let c0_i32_14504 : BitVec 32 := 0#32
  ![v16100.toNat, 0, 0]

def k0_chk3019 (v16100 : BitVec 32) : Prop :=
  (∀ a, (k0_off3019 v16100) a + S1x16x128.size a ≤ S16384x16x128.size a)
theorem k0_off3019_inb : ∀ (v16100 : BitVec 32) (k0_hw3019 : k0_chk3019 v16100), ∀ a, (k0_off3019 v16100) a + S1x16x128.size a ≤ S16384x16x128.size a := fun v16100 k0_hw3019 => k0_hw3019

def k0_off3020 (v16106 : BitVec 32) : Fin 3 → Nat :=
  let c0_i32_14510 : BitVec 32 := 0#32
  let c0_i32_14511 : BitVec 32 := 0#32
  ![v16106.toNat, 0, 0]

def k0_chk3020 (v16106 : BitVec 32) : Prop :=
  (∀ a, (k0_off3020 v16106) a + S1x16x128.size a ≤ S16384x16x128.size a)
theorem k0_off3020_inb : ∀ (v16106 : BitVec 32) (k0_hw3020 : k0_chk3020 v16106), ∀ a, (k0_off3020 v16106) a + S1x16x128.size a ≤ S16384x16x128.size a := fun v16106 k0_hw3020 => k0_hw3020

def k0_off3021 (v16112 : BitVec 32) : Fin 3 → Nat :=
  let c0_i32_14517 : BitVec 32 := 0#32
  let c0_i32_14518 : BitVec 32 := 0#32
  ![v16112.toNat, 0, 0]

def k0_chk3021 (v16112 : BitVec 32) : Prop :=
  (∀ a, (k0_off3021 v16112) a + S1x16x128.size a ≤ S16384x16x128.size a)
theorem k0_off3021_inb : ∀ (v16112 : BitVec 32) (k0_hw3021 : k0_chk3021 v16112), ∀ a, (k0_off3021 v16112) a + S1x16x128.size a ≤ S16384x16x128.size a := fun v16112 k0_hw3021 => k0_hw3021

def k0_off3022 (v16118 : BitVec 32) : Fin 3 → Nat :=
  let c0_i32_14524 : BitVec 32 := 0#32
  let c0_i32_14525 : BitVec 32 := 0#32
  ![v16118.toNat, 0, 0]

def k0_chk3022 (v16118 : BitVec 32) : Prop :=
  (∀ a, (k0_off3022 v16118) a + S1x16x128.size a ≤ S16384x16x128.size a)
theorem k0_off3022_inb : ∀ (v16118 : BitVec 32) (k0_hw3022 : k0_chk3022 v16118), ∀ a, (k0_off3022 v16118) a + S1x16x128.size a ≤ S16384x16x128.size a := fun v16118 k0_hw3022 => k0_hw3022

def k0_off3023 (v16124 : BitVec 32) : Fin 3 → Nat :=
  let c0_i32_14531 : BitVec 32 := 0#32
  let c0_i32_14532 : BitVec 32 := 0#32
  ![v16124.toNat, 0, 0]

def k0_chk3023 (v16124 : BitVec 32) : Prop :=
  (∀ a, (k0_off3023 v16124) a + S1x16x128.size a ≤ S16384x16x128.size a)
theorem k0_off3023_inb : ∀ (v16124 : BitVec 32) (k0_hw3023 : k0_chk3023 v16124), ∀ a, (k0_off3023 v16124) a + S1x16x128.size a ≤ S16384x16x128.size a := fun v16124 k0_hw3023 => k0_hw3023

def k0_off3024 (v16130 : BitVec 32) : Fin 3 → Nat :=
  let c0_i32_14538 : BitVec 32 := 0#32
  let c0_i32_14539 : BitVec 32 := 0#32
  ![v16130.toNat, 0, 0]

def k0_chk3024 (v16130 : BitVec 32) : Prop :=
  (∀ a, (k0_off3024 v16130) a + S1x16x128.size a ≤ S16384x16x128.size a)
theorem k0_off3024_inb : ∀ (v16130 : BitVec 32) (k0_hw3024 : k0_chk3024 v16130), ∀ a, (k0_off3024 v16130) a + S1x16x128.size a ≤ S16384x16x128.size a := fun v16130 k0_hw3024 => k0_hw3024

def k0_off3025 (v16136 : BitVec 32) : Fin 3 → Nat :=
  let c0_i32_14545 : BitVec 32 := 0#32
  let c0_i32_14546 : BitVec 32 := 0#32
  ![v16136.toNat, 0, 0]

def k0_chk3025 (v16136 : BitVec 32) : Prop :=
  (∀ a, (k0_off3025 v16136) a + S1x16x128.size a ≤ S16384x16x128.size a)
theorem k0_off3025_inb : ∀ (v16136 : BitVec 32) (k0_hw3025 : k0_chk3025 v16136), ∀ a, (k0_off3025 v16136) a + S1x16x128.size a ≤ S16384x16x128.size a := fun v16136 k0_hw3025 => k0_hw3025

def k0_off3026 (v16142 : BitVec 32) : Fin 3 → Nat :=
  let c0_i32_14552 : BitVec 32 := 0#32
  let c0_i32_14553 : BitVec 32 := 0#32
  ![v16142.toNat, 0, 0]

def k0_chk3026 (v16142 : BitVec 32) : Prop :=
  (∀ a, (k0_off3026 v16142) a + S1x16x128.size a ≤ S16384x16x128.size a)
theorem k0_off3026_inb : ∀ (v16142 : BitVec 32) (k0_hw3026 : k0_chk3026 v16142), ∀ a, (k0_off3026 v16142) a + S1x16x128.size a ≤ S16384x16x128.size a := fun v16142 k0_hw3026 => k0_hw3026

def k0_off3027 (v16148 : BitVec 32) : Fin 3 → Nat :=
  let c0_i32_14559 : BitVec 32 := 0#32
  let c0_i32_14560 : BitVec 32 := 0#32
  ![v16148.toNat, 0, 0]

def k0_chk3027 (v16148 : BitVec 32) : Prop :=
  (∀ a, (k0_off3027 v16148) a + S1x16x128.size a ≤ S16384x16x128.size a)
theorem k0_off3027_inb : ∀ (v16148 : BitVec 32) (k0_hw3027 : k0_chk3027 v16148), ∀ a, (k0_off3027 v16148) a + S1x16x128.size a ≤ S16384x16x128.size a := fun v16148 k0_hw3027 => k0_hw3027

variable {F : FTy → Type} [FloatOps F]

def k0_off3028 (v16154 : BitVec 32) : Fin 3 → Nat :=
  let c0_i32_14566 : BitVec 32 := 0#32
  let c0_i32_14567 : BitVec 32 := 0#32
  ![v16154.toNat, 0, 0]

def k0_chk3028 (v16154 : BitVec 32) : Prop :=
  (∀ a, (k0_off3028 v16154) a + S1x16x128.size a ≤ S16384x16x128.size a)
theorem k0_off3028_inb : ∀ (v16154 : BitVec 32) (k0_hw3028 : k0_chk3028 v16154), ∀ a, (k0_off3028 v16154) a + S1x16x128.size a ≤ S16384x16x128.size a := fun v16154 k0_hw3028 => k0_hw3028

def k0_off3029 (v16160 : BitVec 32) : Fin 3 → Nat :=
  let c0_i32_14573 : BitVec 32 := 0#32
  let c0_i32_14574 : BitVec 32 := 0#32
  ![v16160.toNat, 0, 0]

def k0_chk3029 (v16160 : BitVec 32) : Prop :=
  (∀ a, (k0_off3029 v16160) a + S1x16x128.size a ≤ S16384x16x128.size a)
theorem k0_off3029_inb : ∀ (v16160 : BitVec 32) (k0_hw3029 : k0_chk3029 v16160), ∀ a, (k0_off3029 v16160) a + S1x16x128.size a ≤ S16384x16x128.size a := fun v16160 k0_hw3029 => k0_hw3029

def k0_off3030 (v16166 : BitVec 32) : Fin 3 → Nat :=
  let c0_i32_14580 : BitVec 32 := 0#32
  let c0_i32_14581 : BitVec 32 := 0#32
  ![v16166.toNat, 0, 0]

def k0_chk3030 (v16166 : BitVec 32) : Prop :=
  (∀ a, (k0_off3030 v16166) a + S1x16x128.size a ≤ S16384x16x128.size a)
theorem k0_off3030_inb : ∀ (v16166 : BitVec 32) (k0_hw3030 : k0_chk3030 v16166), ∀ a, (k0_off3030 v16166) a + S1x16x128.size a ≤ S16384x16x128.size a := fun v16166 k0_hw3030 => k0_hw3030

def k0_off3031 (v16172 : BitVec 32) : Fin 3 → Nat :=
  let c0_i32_14587 : BitVec 32 := 0#32
  let c0_i32_14588 : BitVec 32 := 0#32
  ![v16172.toNat, 0, 0]

def k0_chk3031 (v16172 : BitVec 32) : Prop :=
  (∀ a, (k0_off3031 v16172) a + S1x16x128.size a ≤ S16384x16x128.size a)
theorem k0_off3031_inb : ∀ (v16172 : BitVec 32) (k0_hw3031 : k0_chk3031 v16172), ∀ a, (k0_off3031 v16172) a + S1x16x128.size a ≤ S16384x16x128.size a := fun v16172 k0_hw3031 => k0_hw3031

def k0_off3032 (v16178 : BitVec 32) : Fin 3 → Nat :=
  let c0_i32_14594 : BitVec 32 := 0#32
  let c0_i32_14595 : BitVec 32 := 0#32
  ![v16178.toNat, 0, 0]

def k0_chk3032 (v16178 : BitVec 32) : Prop :=
  (∀ a, (k0_off3032 v16178) a + S1x16x128.size a ≤ S16384x16x128.size a)
theorem k0_off3032_inb : ∀ (v16178 : BitVec 32) (k0_hw3032 : k0_chk3032 v16178), ∀ a, (k0_off3032 v16178) a + S1x16x128.size a ≤ S16384x16x128.size a := fun v16178 k0_hw3032 => k0_hw3032

def k0_off3033 (v16184 : BitVec 32) : Fin 3 → Nat :=
  let c0_i32_14601 : BitVec 32 := 0#32
  let c0_i32_14602 : BitVec 32 := 0#32
  ![v16184.toNat, 0, 0]

def k0_chk3033 (v16184 : BitVec 32) : Prop :=
  (∀ a, (k0_off3033 v16184) a + S1x16x128.size a ≤ S16384x16x128.size a)
theorem k0_off3033_inb : ∀ (v16184 : BitVec 32) (k0_hw3033 : k0_chk3033 v16184), ∀ a, (k0_off3033 v16184) a + S1x16x128.size a ≤ S16384x16x128.size a := fun v16184 k0_hw3033 => k0_hw3033

def k0_off3034 (v16190 : BitVec 32) : Fin 3 → Nat :=
  let c0_i32_14608 : BitVec 32 := 0#32
  let c0_i32_14609 : BitVec 32 := 0#32
  ![v16190.toNat, 0, 0]

def k0_chk3034 (v16190 : BitVec 32) : Prop :=
  (∀ a, (k0_off3034 v16190) a + S1x16x128.size a ≤ S16384x16x128.size a)
theorem k0_off3034_inb : ∀ (v16190 : BitVec 32) (k0_hw3034 : k0_chk3034 v16190), ∀ a, (k0_off3034 v16190) a + S1x16x128.size a ≤ S16384x16x128.size a := fun v16190 k0_hw3034 => k0_hw3034

def k0_off3035 (v16196 : BitVec 32) : Fin 3 → Nat :=
  let c0_i32_14615 : BitVec 32 := 0#32
  let c0_i32_14616 : BitVec 32 := 0#32
  ![v16196.toNat, 0, 0]

def k0_chk3035 (v16196 : BitVec 32) : Prop :=
  (∀ a, (k0_off3035 v16196) a + S1x16x128.size a ≤ S16384x16x128.size a)
theorem k0_off3035_inb : ∀ (v16196 : BitVec 32) (k0_hw3035 : k0_chk3035 v16196), ∀ a, (k0_off3035 v16196) a + S1x16x128.size a ≤ S16384x16x128.size a := fun v16196 k0_hw3035 => k0_hw3035

def k0_off3036 (v16202 : BitVec 32) : Fin 3 → Nat :=
  let c0_i32_14622 : BitVec 32 := 0#32
  let c0_i32_14623 : BitVec 32 := 0#32
  ![v16202.toNat, 0, 0]

def k0_chk3036 (v16202 : BitVec 32) : Prop :=
  (∀ a, (k0_off3036 v16202) a + S1x16x128.size a ≤ S16384x16x128.size a)
theorem k0_off3036_inb : ∀ (v16202 : BitVec 32) (k0_hw3036 : k0_chk3036 v16202), ∀ a, (k0_off3036 v16202) a + S1x16x128.size a ≤ S16384x16x128.size a := fun v16202 k0_hw3036 => k0_hw3036

def k0_off3037 (v16208 : BitVec 32) : Fin 3 → Nat :=
  let c0_i32_14629 : BitVec 32 := 0#32
  let c0_i32_14630 : BitVec 32 := 0#32
  ![v16208.toNat, 0, 0]

def k0_chk3037 (v16208 : BitVec 32) : Prop :=
  (∀ a, (k0_off3037 v16208) a + S1x16x128.size a ≤ S16384x16x128.size a)
theorem k0_off3037_inb : ∀ (v16208 : BitVec 32) (k0_hw3037 : k0_chk3037 v16208), ∀ a, (k0_off3037 v16208) a + S1x16x128.size a ≤ S16384x16x128.size a := fun v16208 k0_hw3037 => k0_hw3037

def k0_off3038 (v16214 : BitVec 32) : Fin 3 → Nat :=
  let c0_i32_14636 : BitVec 32 := 0#32
  let c0_i32_14637 : BitVec 32 := 0#32
  ![v16214.toNat, 0, 0]

def k0_chk3038 (v16214 : BitVec 32) : Prop :=
  (∀ a, (k0_off3038 v16214) a + S1x16x128.size a ≤ S16384x16x128.size a)
theorem k0_off3038_inb : ∀ (v16214 : BitVec 32) (k0_hw3038 : k0_chk3038 v16214), ∀ a, (k0_off3038 v16214) a + S1x16x128.size a ≤ S16384x16x128.size a := fun v16214 k0_hw3038 => k0_hw3038

def k0_off3039 (v16220 : BitVec 32) : Fin 3 → Nat :=
  let c0_i32_14643 : BitVec 32 := 0#32
  let c0_i32_14644 : BitVec 32 := 0#32
  ![v16220.toNat, 0, 0]

def k0_chk3039 (v16220 : BitVec 32) : Prop :=
  (∀ a, (k0_off3039 v16220) a + S1x16x128.size a ≤ S16384x16x128.size a)
theorem k0_off3039_inb : ∀ (v16220 : BitVec 32) (k0_hw3039 : k0_chk3039 v16220), ∀ a, (k0_off3039 v16220) a + S1x16x128.size a ≤ S16384x16x128.size a := fun v16220 k0_hw3039 => k0_hw3039

def k0_off3040 (v16226 : BitVec 32) : Fin 3 → Nat :=
  let c0_i32_14650 : BitVec 32 := 0#32
  let c0_i32_14651 : BitVec 32 := 0#32
  ![v16226.toNat, 0, 0]

def k0_chk3040 (v16226 : BitVec 32) : Prop :=
  (∀ a, (k0_off3040 v16226) a + S1x16x128.size a ≤ S16384x16x128.size a)
theorem k0_off3040_inb : ∀ (v16226 : BitVec 32) (k0_hw3040 : k0_chk3040 v16226), ∀ a, (k0_off3040 v16226) a + S1x16x128.size a ≤ S16384x16x128.size a := fun v16226 k0_hw3040 => k0_hw3040

def k0_off3041 (v16232 : BitVec 32) : Fin 3 → Nat :=
  let c0_i32_14657 : BitVec 32 := 0#32
  let c0_i32_14658 : BitVec 32 := 0#32
  ![v16232.toNat, 0, 0]

def k0_chk3041 (v16232 : BitVec 32) : Prop :=
  (∀ a, (k0_off3041 v16232) a + S1x16x128.size a ≤ S16384x16x128.size a)
theorem k0_off3041_inb : ∀ (v16232 : BitVec 32) (k0_hw3041 : k0_chk3041 v16232), ∀ a, (k0_off3041 v16232) a + S1x16x128.size a ≤ S16384x16x128.size a := fun v16232 k0_hw3041 => k0_hw3041

def k0_off3042 (v16238 : BitVec 32) : Fin 3 → Nat :=
  let c0_i32_14664 : BitVec 32 := 0#32
  let c0_i32_14665 : BitVec 32 := 0#32
  ![v16238.toNat, 0, 0]

def k0_chk3042 (v16238 : BitVec 32) : Prop :=
  (∀ a, (k0_off3042 v16238) a + S1x16x128.size a ≤ S16384x16x128.size a)
theorem k0_off3042_inb : ∀ (v16238 : BitVec 32) (k0_hw3042 : k0_chk3042 v16238), ∀ a, (k0_off3042 v16238) a + S1x16x128.size a ≤ S16384x16x128.size a := fun v16238 k0_hw3042 => k0_hw3042

def k0_off3043 (v16244 : BitVec 32) : Fin 3 → Nat :=
  let c0_i32_14671 : BitVec 32 := 0#32
  let c0_i32_14672 : BitVec 32 := 0#32
  ![v16244.toNat, 0, 0]

def k0_chk3043 (v16244 : BitVec 32) : Prop :=
  (∀ a, (k0_off3043 v16244) a + S1x16x128.size a ≤ S16384x16x128.size a)
theorem k0_off3043_inb : ∀ (v16244 : BitVec 32) (k0_hw3043 : k0_chk3043 v16244), ∀ a, (k0_off3043 v16244) a + S1x16x128.size a ≤ S16384x16x128.size a := fun v16244 k0_hw3043 => k0_hw3043

def k0_off3044 (v16250 : BitVec 32) : Fin 3 → Nat :=
  let c0_i32_14678 : BitVec 32 := 0#32
  let c0_i32_14679 : BitVec 32 := 0#32
  ![v16250.toNat, 0, 0]

def k0_chk3044 (v16250 : BitVec 32) : Prop :=
  (∀ a, (k0_off3044 v16250) a + S1x16x128.size a ≤ S16384x16x128.size a)
theorem k0_off3044_inb : ∀ (v16250 : BitVec 32) (k0_hw3044 : k0_chk3044 v16250), ∀ a, (k0_off3044 v16250) a + S1x16x128.size a ≤ S16384x16x128.size a := fun v16250 k0_hw3044 => k0_hw3044

def k0_off3045 (v16256 : BitVec 32) : Fin 3 → Nat :=
  let c0_i32_14685 : BitVec 32 := 0#32
  let c0_i32_14686 : BitVec 32 := 0#32
  ![v16256.toNat, 0, 0]

def k0_chk3045 (v16256 : BitVec 32) : Prop :=
  (∀ a, (k0_off3045 v16256) a + S1x16x128.size a ≤ S16384x16x128.size a)
theorem k0_off3045_inb : ∀ (v16256 : BitVec 32) (k0_hw3045 : k0_chk3045 v16256), ∀ a, (k0_off3045 v16256) a + S1x16x128.size a ≤ S16384x16x128.size a := fun v16256 k0_hw3045 => k0_hw3045

def k0_off3046 (v16262 : BitVec 32) : Fin 3 → Nat :=
  let c0_i32_14692 : BitVec 32 := 0#32
  let c0_i32_14693 : BitVec 32 := 0#32
  ![v16262.toNat, 0, 0]

def k0_chk3046 (v16262 : BitVec 32) : Prop :=
  (∀ a, (k0_off3046 v16262) a + S1x16x128.size a ≤ S16384x16x128.size a)
theorem k0_off3046_inb : ∀ (v16262 : BitVec 32) (k0_hw3046 : k0_chk3046 v16262), ∀ a, (k0_off3046 v16262) a + S1x16x128.size a ≤ S16384x16x128.size a := fun v16262 k0_hw3046 => k0_hw3046

def k0_off3047 (v16268 : BitVec 32) : Fin 3 → Nat :=
  let c0_i32_14699 : BitVec 32 := 0#32
  let c0_i32_14700 : BitVec 32 := 0#32
  ![v16268.toNat, 0, 0]

def k0_chk3047 (v16268 : BitVec 32) : Prop :=
  (∀ a, (k0_off3047 v16268) a + S1x16x128.size a ≤ S16384x16x128.size a)
theorem k0_off3047_inb : ∀ (v16268 : BitVec 32) (k0_hw3047 : k0_chk3047 v16268), ∀ a, (k0_off3047 v16268) a + S1x16x128.size a ≤ S16384x16x128.size a := fun v16268 k0_hw3047 => k0_hw3047

def k0_off3048 (v16274 : BitVec 32) : Fin 3 → Nat :=
  let c0_i32_14706 : BitVec 32 := 0#32
  let c0_i32_14707 : BitVec 32 := 0#32
  ![v16274.toNat, 0, 0]

def k0_chk3048 (v16274 : BitVec 32) : Prop :=
  (∀ a, (k0_off3048 v16274) a + S1x16x128.size a ≤ S16384x16x128.size a)
theorem k0_off3048_inb : ∀ (v16274 : BitVec 32) (k0_hw3048 : k0_chk3048 v16274), ∀ a, (k0_off3048 v16274) a + S1x16x128.size a ≤ S16384x16x128.size a := fun v16274 k0_hw3048 => k0_hw3048

def k0_off3049 (v16280 : BitVec 32) : Fin 3 → Nat :=
  let c0_i32_14713 : BitVec 32 := 0#32
  let c0_i32_14714 : BitVec 32 := 0#32
  ![v16280.toNat, 0, 0]

def k0_chk3049 (v16280 : BitVec 32) : Prop :=
  (∀ a, (k0_off3049 v16280) a + S1x16x128.size a ≤ S16384x16x128.size a)
theorem k0_off3049_inb : ∀ (v16280 : BitVec 32) (k0_hw3049 : k0_chk3049 v16280), ∀ a, (k0_off3049 v16280) a + S1x16x128.size a ≤ S16384x16x128.size a := fun v16280 k0_hw3049 => k0_hw3049

def k0_off3050 (v16286 : BitVec 32) : Fin 3 → Nat :=
  let c0_i32_14720 : BitVec 32 := 0#32
  let c0_i32_14721 : BitVec 32 := 0#32
  ![v16286.toNat, 0, 0]

def k0_chk3050 (v16286 : BitVec 32) : Prop :=
  (∀ a, (k0_off3050 v16286) a + S1x16x128.size a ≤ S16384x16x128.size a)
theorem k0_off3050_inb : ∀ (v16286 : BitVec 32) (k0_hw3050 : k0_chk3050 v16286), ∀ a, (k0_off3050 v16286) a + S1x16x128.size a ≤ S16384x16x128.size a := fun v16286 k0_hw3050 => k0_hw3050

def k0_off3051 (v16292 : BitVec 32) : Fin 3 → Nat :=
  let c0_i32_14727 : BitVec 32 := 0#32
  let c0_i32_14728 : BitVec 32 := 0#32
  ![v16292.toNat, 0, 0]

def k0_chk3051 (v16292 : BitVec 32) : Prop :=
  (∀ a, (k0_off3051 v16292) a + S1x16x128.size a ≤ S16384x16x128.size a)
theorem k0_off3051_inb : ∀ (v16292 : BitVec 32) (k0_hw3051 : k0_chk3051 v16292), ∀ a, (k0_off3051 v16292) a + S1x16x128.size a ≤ S16384x16x128.size a := fun v16292 k0_hw3051 => k0_hw3051

def k0_off3052 (v16298 : BitVec 32) : Fin 3 → Nat :=
  let c0_i32_14734 : BitVec 32 := 0#32
  let c0_i32_14735 : BitVec 32 := 0#32
  ![v16298.toNat, 0, 0]

def k0_chk3052 (v16298 : BitVec 32) : Prop :=
  (∀ a, (k0_off3052 v16298) a + S1x16x128.size a ≤ S16384x16x128.size a)
theorem k0_off3052_inb : ∀ (v16298 : BitVec 32) (k0_hw3052 : k0_chk3052 v16298), ∀ a, (k0_off3052 v16298) a + S1x16x128.size a ≤ S16384x16x128.size a := fun v16298 k0_hw3052 => k0_hw3052

def k0_off3053 (v16304 : BitVec 32) : Fin 3 → Nat :=
  let c0_i32_14741 : BitVec 32 := 0#32
  let c0_i32_14742 : BitVec 32 := 0#32
  ![v16304.toNat, 0, 0]

def k0_chk3053 (v16304 : BitVec 32) : Prop :=
  (∀ a, (k0_off3053 v16304) a + S1x16x128.size a ≤ S16384x16x128.size a)
theorem k0_off3053_inb : ∀ (v16304 : BitVec 32) (k0_hw3053 : k0_chk3053 v16304), ∀ a, (k0_off3053 v16304) a + S1x16x128.size a ≤ S16384x16x128.size a := fun v16304 k0_hw3053 => k0_hw3053

def k0_off3054 (v16310 : BitVec 32) : Fin 3 → Nat :=
  let c0_i32_14748 : BitVec 32 := 0#32
  let c0_i32_14749 : BitVec 32 := 0#32
  ![v16310.toNat, 0, 0]

def k0_chk3054 (v16310 : BitVec 32) : Prop :=
  (∀ a, (k0_off3054 v16310) a + S1x16x128.size a ≤ S16384x16x128.size a)
theorem k0_off3054_inb : ∀ (v16310 : BitVec 32) (k0_hw3054 : k0_chk3054 v16310), ∀ a, (k0_off3054 v16310) a + S1x16x128.size a ≤ S16384x16x128.size a := fun v16310 k0_hw3054 => k0_hw3054

def k0_off3055 (v16316 : BitVec 32) : Fin 3 → Nat :=
  let c0_i32_14755 : BitVec 32 := 0#32
  let c0_i32_14756 : BitVec 32 := 0#32
  ![v16316.toNat, 0, 0]

def k0_chk3055 (v16316 : BitVec 32) : Prop :=
  (∀ a, (k0_off3055 v16316) a + S1x16x128.size a ≤ S16384x16x128.size a)
theorem k0_off3055_inb : ∀ (v16316 : BitVec 32) (k0_hw3055 : k0_chk3055 v16316), ∀ a, (k0_off3055 v16316) a + S1x16x128.size a ≤ S16384x16x128.size a := fun v16316 k0_hw3055 => k0_hw3055

def k0_off3056 (v16322 : BitVec 32) : Fin 3 → Nat :=
  let c0_i32_14762 : BitVec 32 := 0#32
  let c0_i32_14763 : BitVec 32 := 0#32
  ![v16322.toNat, 0, 0]

def k0_chk3056 (v16322 : BitVec 32) : Prop :=
  (∀ a, (k0_off3056 v16322) a + S1x16x128.size a ≤ S16384x16x128.size a)
theorem k0_off3056_inb : ∀ (v16322 : BitVec 32) (k0_hw3056 : k0_chk3056 v16322), ∀ a, (k0_off3056 v16322) a + S1x16x128.size a ≤ S16384x16x128.size a := fun v16322 k0_hw3056 => k0_hw3056

def k0_off3057 (v16328 : BitVec 32) : Fin 3 → Nat :=
  let c0_i32_14769 : BitVec 32 := 0#32
  let c0_i32_14770 : BitVec 32 := 0#32
  ![v16328.toNat, 0, 0]

def k0_chk3057 (v16328 : BitVec 32) : Prop :=
  (∀ a, (k0_off3057 v16328) a + S1x16x128.size a ≤ S16384x16x128.size a)
theorem k0_off3057_inb : ∀ (v16328 : BitVec 32) (k0_hw3057 : k0_chk3057 v16328), ∀ a, (k0_off3057 v16328) a + S1x16x128.size a ≤ S16384x16x128.size a := fun v16328 k0_hw3057 => k0_hw3057

def k0_off3058 (v16334 : BitVec 32) : Fin 3 → Nat :=
  let c0_i32_14776 : BitVec 32 := 0#32
  let c0_i32_14777 : BitVec 32 := 0#32
  ![v16334.toNat, 0, 0]

def k0_chk3058 (v16334 : BitVec 32) : Prop :=
  (∀ a, (k0_off3058 v16334) a + S1x16x128.size a ≤ S16384x16x128.size a)
theorem k0_off3058_inb : ∀ (v16334 : BitVec 32) (k0_hw3058 : k0_chk3058 v16334), ∀ a, (k0_off3058 v16334) a + S1x16x128.size a ≤ S16384x16x128.size a := fun v16334 k0_hw3058 => k0_hw3058

def k0_off3059 (v16340 : BitVec 32) : Fin 3 → Nat :=
  let c0_i32_14783 : BitVec 32 := 0#32
  let c0_i32_14784 : BitVec 32 := 0#32
  ![v16340.toNat, 0, 0]

def k0_chk3059 (v16340 : BitVec 32) : Prop :=
  (∀ a, (k0_off3059 v16340) a + S1x16x128.size a ≤ S16384x16x128.size a)
theorem k0_off3059_inb : ∀ (v16340 : BitVec 32) (k0_hw3059 : k0_chk3059 v16340), ∀ a, (k0_off3059 v16340) a + S1x16x128.size a ≤ S16384x16x128.size a := fun v16340 k0_hw3059 => k0_hw3059

def k0_off3060 (v16346 : BitVec 32) : Fin 3 → Nat :=
  let c0_i32_14790 : BitVec 32 := 0#32
  let c0_i32_14791 : BitVec 32 := 0#32
  ![v16346.toNat, 0, 0]

def k0_chk3060 (v16346 : BitVec 32) : Prop :=
  (∀ a, (k0_off3060 v16346) a + S1x16x128.size a ≤ S16384x16x128.size a)
theorem k0_off3060_inb : ∀ (v16346 : BitVec 32) (k0_hw3060 : k0_chk3060 v16346), ∀ a, (k0_off3060 v16346) a + S1x16x128.size a ≤ S16384x16x128.size a := fun v16346 k0_hw3060 => k0_hw3060

def k0_off3061 (v16352 : BitVec 32) : Fin 3 → Nat :=
  let c0_i32_14797 : BitVec 32 := 0#32
  let c0_i32_14798 : BitVec 32 := 0#32
  ![v16352.toNat, 0, 0]

def k0_chk3061 (v16352 : BitVec 32) : Prop :=
  (∀ a, (k0_off3061 v16352) a + S1x16x128.size a ≤ S16384x16x128.size a)
theorem k0_off3061_inb : ∀ (v16352 : BitVec 32) (k0_hw3061 : k0_chk3061 v16352), ∀ a, (k0_off3061 v16352) a + S1x16x128.size a ≤ S16384x16x128.size a := fun v16352 k0_hw3061 => k0_hw3061

def k0_off3062 (v16358 : BitVec 32) : Fin 3 → Nat :=
  let c0_i32_14804 : BitVec 32 := 0#32
  let c0_i32_14805 : BitVec 32 := 0#32
  ![v16358.toNat, 0, 0]

def k0_chk3062 (v16358 : BitVec 32) : Prop :=
  (∀ a, (k0_off3062 v16358) a + S1x16x128.size a ≤ S16384x16x128.size a)
theorem k0_off3062_inb : ∀ (v16358 : BitVec 32) (k0_hw3062 : k0_chk3062 v16358), ∀ a, (k0_off3062 v16358) a + S1x16x128.size a ≤ S16384x16x128.size a := fun v16358 k0_hw3062 => k0_hw3062

def k0_off3063 (v16364 : BitVec 32) : Fin 3 → Nat :=
  let c0_i32_14811 : BitVec 32 := 0#32
  let c0_i32_14812 : BitVec 32 := 0#32
  ![v16364.toNat, 0, 0]

def k0_chk3063 (v16364 : BitVec 32) : Prop :=
  (∀ a, (k0_off3063 v16364) a + S1x16x128.size a ≤ S16384x16x128.size a)
theorem k0_off3063_inb : ∀ (v16364 : BitVec 32) (k0_hw3063 : k0_chk3063 v16364), ∀ a, (k0_off3063 v16364) a + S1x16x128.size a ≤ S16384x16x128.size a := fun v16364 k0_hw3063 => k0_hw3063

def k0_off3064 (v16370 : BitVec 32) : Fin 3 → Nat :=
  let c0_i32_14818 : BitVec 32 := 0#32
  let c0_i32_14819 : BitVec 32 := 0#32
  ![v16370.toNat, 0, 0]

def k0_chk3064 (v16370 : BitVec 32) : Prop :=
  (∀ a, (k0_off3064 v16370) a + S1x16x128.size a ≤ S16384x16x128.size a)
theorem k0_off3064_inb : ∀ (v16370 : BitVec 32) (k0_hw3064 : k0_chk3064 v16370), ∀ a, (k0_off3064 v16370) a + S1x16x128.size a ≤ S16384x16x128.size a := fun v16370 k0_hw3064 => k0_hw3064

def k0_off3065 (v16376 : BitVec 32) : Fin 3 → Nat :=
  let c0_i32_14825 : BitVec 32 := 0#32
  let c0_i32_14826 : BitVec 32 := 0#32
  ![v16376.toNat, 0, 0]

def k0_chk3065 (v16376 : BitVec 32) : Prop :=
  (∀ a, (k0_off3065 v16376) a + S1x16x128.size a ≤ S16384x16x128.size a)
theorem k0_off3065_inb : ∀ (v16376 : BitVec 32) (k0_hw3065 : k0_chk3065 v16376), ∀ a, (k0_off3065 v16376) a + S1x16x128.size a ≤ S16384x16x128.size a := fun v16376 k0_hw3065 => k0_hw3065

def k0_off3066 (v16382 : BitVec 32) : Fin 3 → Nat :=
  let c0_i32_14832 : BitVec 32 := 0#32
  let c0_i32_14833 : BitVec 32 := 0#32
  ![v16382.toNat, 0, 0]

def k0_chk3066 (v16382 : BitVec 32) : Prop :=
  (∀ a, (k0_off3066 v16382) a + S1x16x128.size a ≤ S16384x16x128.size a)
theorem k0_off3066_inb : ∀ (v16382 : BitVec 32) (k0_hw3066 : k0_chk3066 v16382), ∀ a, (k0_off3066 v16382) a + S1x16x128.size a ≤ S16384x16x128.size a := fun v16382 k0_hw3066 => k0_hw3066

def k0_off3067 (v16388 : BitVec 32) : Fin 3 → Nat :=
  let c0_i32_14839 : BitVec 32 := 0#32
  let c0_i32_14840 : BitVec 32 := 0#32
  ![v16388.toNat, 0, 0]

def k0_chk3067 (v16388 : BitVec 32) : Prop :=
  (∀ a, (k0_off3067 v16388) a + S1x16x128.size a ≤ S16384x16x128.size a)
theorem k0_off3067_inb : ∀ (v16388 : BitVec 32) (k0_hw3067 : k0_chk3067 v16388), ∀ a, (k0_off3067 v16388) a + S1x16x128.size a ≤ S16384x16x128.size a := fun v16388 k0_hw3067 => k0_hw3067

def k0_off3068 (v16394 : BitVec 32) : Fin 3 → Nat :=
  let c0_i32_14846 : BitVec 32 := 0#32
  let c0_i32_14847 : BitVec 32 := 0#32
  ![v16394.toNat, 0, 0]

def k0_chk3068 (v16394 : BitVec 32) : Prop :=
  (∀ a, (k0_off3068 v16394) a + S1x16x128.size a ≤ S16384x16x128.size a)
theorem k0_off3068_inb : ∀ (v16394 : BitVec 32) (k0_hw3068 : k0_chk3068 v16394), ∀ a, (k0_off3068 v16394) a + S1x16x128.size a ≤ S16384x16x128.size a := fun v16394 k0_hw3068 => k0_hw3068

def k0_off3069 (v16400 : BitVec 32) : Fin 3 → Nat :=
  let c0_i32_14853 : BitVec 32 := 0#32
  let c0_i32_14854 : BitVec 32 := 0#32
  ![v16400.toNat, 0, 0]

def k0_chk3069 (v16400 : BitVec 32) : Prop :=
  (∀ a, (k0_off3069 v16400) a + S1x16x128.size a ≤ S16384x16x128.size a)
theorem k0_off3069_inb : ∀ (v16400 : BitVec 32) (k0_hw3069 : k0_chk3069 v16400), ∀ a, (k0_off3069 v16400) a + S1x16x128.size a ≤ S16384x16x128.size a := fun v16400 k0_hw3069 => k0_hw3069

def k0_off3070 (v16406 : BitVec 32) : Fin 3 → Nat :=
  let c0_i32_14860 : BitVec 32 := 0#32
  let c0_i32_14861 : BitVec 32 := 0#32
  ![v16406.toNat, 0, 0]

def k0_chk3070 (v16406 : BitVec 32) : Prop :=
  (∀ a, (k0_off3070 v16406) a + S1x16x128.size a ≤ S16384x16x128.size a)
theorem k0_off3070_inb : ∀ (v16406 : BitVec 32) (k0_hw3070 : k0_chk3070 v16406), ∀ a, (k0_off3070 v16406) a + S1x16x128.size a ≤ S16384x16x128.size a := fun v16406 k0_hw3070 => k0_hw3070

def k0_off3071 (v16412 : BitVec 32) : Fin 3 → Nat :=
  let c0_i32_14867 : BitVec 32 := 0#32
  let c0_i32_14868 : BitVec 32 := 0#32
  ![v16412.toNat, 0, 0]

def k0_chk3071 (v16412 : BitVec 32) : Prop :=
  (∀ a, (k0_off3071 v16412) a + S1x16x128.size a ≤ S16384x16x128.size a)
theorem k0_off3071_inb : ∀ (v16412 : BitVec 32) (k0_hw3071 : k0_chk3071 v16412), ∀ a, (k0_off3071 v16412) a + S1x16x128.size a ≤ S16384x16x128.size a := fun v16412 k0_hw3071 => k0_hw3071

def k0_off3072 (v16418 : BitVec 32) : Fin 3 → Nat :=
  let c0_i32_14874 : BitVec 32 := 0#32
  let c0_i32_14875 : BitVec 32 := 0#32
  ![v16418.toNat, 0, 0]

def k0_chk3072 (v16418 : BitVec 32) : Prop :=
  (∀ a, (k0_off3072 v16418) a + S1x16x128.size a ≤ S16384x16x128.size a)
theorem k0_off3072_inb : ∀ (v16418 : BitVec 32) (k0_hw3072 : k0_chk3072 v16418), ∀ a, (k0_off3072 v16418) a + S1x16x128.size a ≤ S16384x16x128.size a := fun v16418 k0_hw3072 => k0_hw3072

def cc0_transform_0 (i : grid0.Coords) : Fin 2 → Nat :=
  let arg0 : BitVec 32 := BitVec.ofNat 32 (i 0).val
  let c1024_i32 : BitVec 32 := 1024#32
  let c0_i32 : BitVec 32 := 0#32
  let c0_i32_0 : BitVec 32 := 0#32
  ![c1024_i32.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c1024_i32 : BitVec 32 := 1024#32
  let v2 : BitVec 32 := Scalar.addi c1024_i32 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c1024_i32 : BitVec 32 := 1024#32
  let v3 : BitVec 32 := Scalar.addi c1024_i32 v2
  let c0_i32 : BitVec 32 := 0#32
  let c0_i32_1 : BitVec 32 := 0#32
  ![v3.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2.lean ====
abbrev S17408x2048 : Shape := ⟨2, ![17408, 2048]⟩
abbrev S2048 : Shape := ⟨1, ![2048]⟩
abbrev S2048x12800 : Shape := ⟨2, ![2048, 12800]⟩
abbrev S1x2048 : Shape := ⟨2, ![1, 2048]⟩
abbrev S17408x12800 : Shape := ⟨2, ![17408, 12800]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x12800, .bf16⟩
  | .hbm, ⟨3, _⟩ => ⟨S1x2048, .f32⟩
  | .hbm, ⟨4, _⟩ => ⟨S17408x12800, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S17408x2048 : Shape := ⟨2, ![17408, 2048]⟩
abbrev S2048 : Shape := ⟨1, ![2048]⟩
abbrev S2048x12800 : Shape := ⟨2, ![2048, 12800]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S17408x12800 : Shape := ⟨2, ![17408, 12800]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x12800, .bf16⟩
  | .hbm, ⟨3, _⟩ => ⟨S17408x2048, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x2048, .f32⟩
  | .hbm, ⟨15, _⟩ => ⟨S17408x2048, .f32⟩
  | .hbm, ⟨16, _⟩ => ⟨S1x2048, .f32⟩
  | .hbm, ⟨17, _⟩ => ⟨S17408x2048, .f32⟩
  | .hbm, ⟨18, _⟩ => ⟨S17408x2048, .f32⟩
  | .hbm, ⟨19, _⟩ => ⟨S2048x12800, .f32⟩
  | .hbm, ⟨20, _⟩ => ⟨S17408x12800, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S17408x12800 : Shape := ⟨2, ![17408, 12800]⟩
abbrev S3x1024x2048 : Shape := ⟨3, ![3, 1024, 2048]⟩
abbrev S17408x2048 : Shape := ⟨2, ![17408, 2048]⟩
abbrev S512x1024 : Shape := ⟨2, ![512, 1024]⟩
abbrev S512x512 : Shape := ⟨2, ![512, 512]⟩
abbrev S3x1024x512 : Shape := ⟨3, ![3, 1024, 512]⟩
abbrev S1x1024x512 : Shape := ⟨3, ![1, 1024, 512]⟩
abbrev S1024x512 : Shape := ⟨2, ![1024, 512]⟩

abbrev nBuf : Space → Nat
  | .hbm => 10
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S17408x12800, .f32⟩
  | .hbm, ⟨7, _⟩ => ⟨S3x1024x2048, .f32⟩
  | .hbm, ⟨8, _⟩ => ⟨S3x1024x2048, .bf16⟩
  | .hbm, ⟨9, _⟩ => ⟨S17408x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S3x1024x512, .bf16⟩
  | .local _ .vmem, ⟨19, _⟩ => ⟨S3x1024x512, .bf16⟩
  | .local _ .vmem, ⟨20, _⟩ => ⟨S512x512, .bf16⟩
  | .local _ .vmem, ⟨21, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16384x1024 : Shape := ⟨2, ![16384, 1024]⟩
abbrev S1024x1024 : Shape := ⟨2, ![1024, 1024]⟩
abbrev S17408x12800 : Shape := ⟨2, ![17408, 12800]⟩
abbrev S3x1024x2048 : Shape := ⟨3, ![3, 1024, 2048]⟩
abbrev S17408x1024 : Shape := ⟨2, ![17408, 1024]⟩
abbrev S17408x1x1024 : Shape := ⟨3, ![17408, 1, 1024]⟩
abbrev S17408x3x1024 : Shape := ⟨3, ![17408, 3, 1024]⟩
abbrev S3x2048x17408 : Shape := ⟨3, ![3, 2048, 17408]⟩
abbrev S17408x3x2048 : Shape := ⟨3, ![17408, 3, 2048]⟩
abbrev S17408x6144 : Shape := ⟨2, ![17408, 6144]⟩
abbrev S_ : Shape := ⟨0, ![]⟩
abbrev S17408x2048 : Shape := ⟨2, ![17408, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S17408x12800, .f32⟩
  | .hbm, ⟨7, _⟩ => ⟨S3x1024x2048, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S17408x1x1024, .f32⟩
  | .hbm, ⟨12, _⟩ => ⟨S17408x1x1024, .f32⟩
  | .hbm, ⟨13, _⟩ => ⟨S17408x1x1024, .f32⟩
  | .hbm, ⟨14, _⟩ => ⟨S17408x3x1024, .f32⟩
  | .hbm, ⟨15, _⟩ => ⟨S3x2048x17408, .f32⟩
  | .hbm, ⟨16, _⟩ => ⟨S17408x3x2048, .f32⟩
  | .hbm, ⟨17, _⟩ => ⟨S17408x6144, .f32⟩
  | .hbm, ⟨18, _⟩ => ⟨S17408x3x2048, .f32⟩
  | .hbm, ⟨19, _⟩ => ⟨S17408x3x2048, .f32⟩
  | .hbm, ⟨20, _⟩ => ⟨S17408x3x2048, .f32⟩
  | .hbm, ⟨21, _⟩ => ⟨S_, .f32⟩
  | .hbm, ⟨22, _⟩ => ⟨S17408x3x2048, .f32⟩
  | .hbm, ⟨23, _⟩ => ⟨S17408x3x2048, .f32⟩
  | .hbm, ⟨24, _⟩ => ⟨S_, .f32⟩
  | .hbm, ⟨25, _⟩ => ⟨S17408x3x2048, .f32⟩
  | .hbm, ⟨26, _⟩ => ⟨S17408x3x2048, .f32⟩
  | .hbm, ⟨27, _⟩ => ⟨S17408x3x2048, .f32⟩
  | .hbm, ⟨28, _⟩ => ⟨S_, .f32⟩
  | .hbm, ⟨29, _⟩ => ⟨S17408x2048, .f32⟩
  | .hbm, ⟨30, _⟩ => ⟨S17408x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel4.lean ====
abbrev S17408x2048 : Shape := ⟨2, ![17408, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S2048x2048, .bf16⟩
  | .hbm, ⟨4, _⟩ => ⟨S17408x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S17408x2048 : Shape := ⟨2, ![17408, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x2048, .f32⟩
  | .hbm, ⟨2, _⟩ => ⟨S17408x2048, .f32⟩
  | .hbm, ⟨3, _⟩ => ⟨S17408x2048, .f32⟩
  | .hbm, ⟨4, _⟩ => ⟨S17408x2048, .f32⟩
  | .hbm, ⟨5, _⟩ => ⟨S17408x2048, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2x2048x12800 : Shape := ⟨3, ![2, 2048, 12800]⟩
abbrev S2048x12800 : Shape := ⟨2, ![2048, 12800]⟩
abbrev S1x128x12800 : Shape := ⟨3, ![1, 128, 12800]⟩
abbrev S128x12800 : Shape := ⟨2, ![128, 12800]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x12800, .f32⟩
  | .hbm, ⟨1, _⟩ => ⟨S2048x12800, .bf16⟩
  | .local _ .vmem, ⟨0, _⟩ => ⟨S1x128x12800, .f32⟩
  | .local _ .vmem, ⟨1, _⟩ => ⟨S1x128x12800, .f32⟩
  | .local _ .vmem, ⟨2, _⟩ => ⟨S128x12800, .bf16⟩
  | .local _ .vmem, ⟨3, _⟩ => ⟨S128x12800, .bf16⟩
  | _, _ => ⟨S2x2048x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x12800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S2x2048x12800 : Shape := ⟨3, ![2, 2048, 12800]⟩
abbrev S1x2048x12800 : Shape := ⟨3, ![1, 2048, 12800]⟩
abbrev S2048x12800 : Shape := ⟨2, ![2048, 12800]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x12800, .f32⟩
  | .hbm, ⟨1, _⟩ => ⟨S1x2048x12800, .f32⟩
  | .hbm, ⟨2, _⟩ => ⟨S2048x12800, .f32⟩
  | .hbm, ⟨3, _⟩ => ⟨S2048x12800, .bf16⟩
  | _, _ => ⟨S2x2048x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel6.lean ====
abbrev S17408x12800 : Shape := ⟨2, ![17408, 12800]⟩
abbrev S16 : Shape := ⟨1, ![16]⟩
abbrev S16384x1024 : Shape := ⟨2, ![16384, 1024]⟩
abbrev S8x128x256 : Shape := ⟨3, ![8, 128, 256]⟩
abbrev S128x1024 : Shape := ⟨2, ![128, 1024]⟩
abbrev S128x256 : Shape := ⟨2, ![128, 256]⟩
abbrev S1x128x256 : Shape := ⟨3, ![1, 128, 256]⟩
abbrev S512x128 : Shape := ⟨2, ![512, 128]⟩
abbrev S512x1 : Shape := ⟨2, ![512, 1]⟩
abbrev S128x64 : Shape := ⟨2, ![128, 64]⟩
abbrev S512x64 : Shape := ⟨2, ![512, 64]⟩
abbrev S1 : Shape := ⟨1, ![1]⟩
abbrev S512 : Shape := ⟨1, ![512]⟩

abbrev nBuf : Space → Nat
  | .hbm => 5
  | .vmem => 16
  | .smem => 1
  | _ => 0

abbrev bufTy : (tb : Table) → Fin (tcTables nBuf tb) → BufTy
  | .hbm, ⟨0, _⟩ => ⟨S17408x12800, .f32⟩
  | .hbm, ⟨1, _⟩ => ⟨S16, .f32⟩
  | .hbm, ⟨2, _⟩ => ⟨S16384x1024, .f32⟩
  | .hbm, ⟨3, _⟩ => ⟨S8x128x256, .f32⟩
  | .hbm, ⟨4, _⟩ => ⟨S8x128x256, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | .local _ .vmem, ⟨11, _⟩ => ⟨S128x1024, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .smem, ⟨0, _⟩ => ⟨S16, .f32⟩
  | _, _ => ⟨S17408x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c15_i32 : BitVec 32 := 15#32
  let v0 : BitVec 1 := Scalar.cmpi .eq arg1 c15_i32
  let v1 : BitVec 32 := Scalar.extui v0
  let c0_i32 : BitVec 32 := 0#32
  let v2 : BitVec 1 := Scalar.cmpi .ne v1 c0_i32
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c5_i32 : BitVec 32 := 5#32
  let c0_i32_0 : BitVec 32 := 0#32
  ![v2.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c24_i32 : BitVec 32 := 24#32
  let c0_i32_0 : BitVec 32 := 0#32
  ![v2.toNat, c24_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c25_i32 : BitVec 32 := 25#32
  let c0_i32_0 : BitVec 32 := 0#32
  ![v2.toNat, c25_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c24_i32 : BitVec 32 := 24#32
  let c0_i32_1 : BitVec 32 := 0#32
  ![v4.toNat, c24_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let c1_i32 : BitVec 32 := 1#32
  let v2 : BitVec 32 := Scalar.subi arg1 c1_i32
  let c0_i32_0 : BitVec 32 := 0#32
  let v3 : BitVec 32 := Scalar.maxsi v2 c0_i32_0
  let v4 : BitVec 32 := Scalar.addi v1 v3
  let c25_i32 : BitVec 32 := 25#32
  let c0_i32_1 : BitVec 32 := 0#32
  ![v4.toNat, c25_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel6Ideal.lean ====
variable {F : FTy → Type} [FloatOps F] [Named F]
def κ : String → Option EReal := fun
  | "mask" => some ⊥
  | _ => none
-- ==== Reference6Ideal.lean ====
abbrev S17408x12800 : Shape := ⟨2, ![17408, 12800]⟩
abbrev S16 : Shape := ⟨1, ![16]⟩
abbrev S16384x1024 : Shape := ⟨2, ![16384, 1024]⟩
abbrev S8x2048x4x4x64 : Shape := ⟨5, ![8, 2048, 4, 4, 64]⟩
abbrev S16384x256 : Shape := ⟨2, ![16384, 256]⟩
abbrev S8x2048x4x64 : Shape := ⟨4, ![8, 2048, 4, 64]⟩
abbrev S8x16x128x4x4x64 : Shape := ⟨6, ![8, 16, 128, 4, 4, 64]⟩
abbrev S8x16x128x4x64 : Shape := ⟨5, ![8, 16, 128, 4, 64]⟩
abbrev S8x1x128x4x64 : Shape := ⟨5, ![8, 1, 128, 4, 64]⟩
abbrev S_ : Shape := ⟨0, ![]⟩
abbrev S8x15x128x4x64 : Shape := ⟨5, ![8, 15, 128, 4, 64]⟩
abbrev S8x16x256x4x64 : Shape := ⟨5, ![8, 16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S4x4 : Shape := ⟨2, ![4, 4]⟩
abbrev S8x16x4x256x128x4 : Shape := ⟨6, ![8, 16, 4, 256, 128, 4]⟩
abbrev S8x16x4x4x128x256 : Shape := ⟨6, ![8, 16, 4, 4, 128, 256]⟩
abbrev S4x4x1x1 : Shape := ⟨4, ![4, 4, 1, 1]⟩
abbrev S8x16x4x4x128 : Shape := ⟨5, ![8, 16, 4, 4, 128]⟩
abbrev S8x16x4x4x128x1 : Shape := ⟨6, ![8, 16, 4, 4, 128, 1]⟩
abbrev S1x1x4x4x1x1 : Shape := ⟨6, ![1, 1, 4, 4, 1, 1]⟩
abbrev S8x16x4x64x4x128 : Shape := ⟨6, ![8, 16, 4, 64, 4, 128]⟩
abbrev S8x128x4x64 : Shape := ⟨4, ![8, 128, 4, 64]⟩
abbrev S8x128x256 : Shape := ⟨3, ![8, 128, 256]⟩

abbrev nBuf : Space → Nat
  | .hbm => 95
  | .vmem => 0
  | .smem => 0
  | _ => 0

abbrev bufTy : (tb : Table) → Fin (tcTables nBuf tb) → BufTy
  | .hbm, ⟨0, _⟩ => ⟨S17408x12800, .f32⟩
  | .hbm, ⟨1, _⟩ => ⟨S16, .f32⟩
  | .hbm, ⟨2, _⟩ => ⟨S16384x1024, .f32⟩
  | .hbm, ⟨3, _⟩ => ⟨S8x2048x4x4x64, .f32⟩
  | .hbm, ⟨4, _⟩ => ⟨S16384x256, .f32⟩
  | .hbm, ⟨5, _⟩ => ⟨S8x2048x4x64, .f32⟩
  | .hbm, ⟨6, _⟩ => ⟨S16384x256, .f32⟩
  | .hbm, ⟨7, _⟩ => ⟨S8x2048x4x64, .f32⟩
  | .hbm, ⟨8, _⟩ => ⟨S8x16x128x4x4x64, .f32⟩
  | .hbm, ⟨9, _⟩ => ⟨S8x16x128x4x64, .f32⟩
  | .hbm, ⟨10, _⟩ => ⟨S8x16x128x4x64, .f32⟩
  | .hbm, ⟨11, _⟩ => ⟨S8x1x128x4x64, .f32⟩
  | .hbm, ⟨12, _⟩ => ⟨S_, .f32⟩
  | .hbm, ⟨13, _⟩ => ⟨S8x1x128x4x64, .f32⟩
  | .hbm, ⟨14, _⟩ => ⟨S8x15x128x4x64, .f32⟩
  | .hbm, ⟨15, _⟩ => ⟨S8x16x128x4x64, .f32⟩
  | .hbm, ⟨16, _⟩ => ⟨S8x16x256x4x64, .f32⟩
  | .hbm, ⟨17, _⟩ => ⟨S8x1x128x4x64, .f32⟩
  | .hbm, ⟨18, _⟩ => ⟨S_, .f32⟩
  | .hbm, ⟨19, _⟩ => ⟨S8x1x128x4x64, .f32⟩
  | .hbm, ⟨20, _⟩ => ⟨S8x15x128x4x64, .f32⟩
  | .hbm, ⟨21, _⟩ => ⟨S8x16x128x4x64, .f32⟩
  | .hbm, ⟨22, _⟩ => ⟨S8x16x256x4x64, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i1⟩
  | .hbm, ⟨33, _⟩ => ⟨S128x256, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S16, .i32⟩
  | .hbm, ⟨38, _⟩ => ⟨S16x1x1, .i32⟩
  | .hbm, ⟨39, _⟩ => ⟨S_, .i32⟩
  | .hbm, ⟨40, _⟩ => ⟨S16x1x1, .i32⟩
  | .hbm, ⟨41, _⟩ => ⟨S16x1x1, .i32⟩
  | .hbm, ⟨42, _⟩ => ⟨S_, .i32⟩
  | .hbm, ⟨43, _⟩ => ⟨S16x1x1, .i32⟩
  | .hbm, ⟨44, _⟩ => ⟨S16x1x1, .i32⟩
  | .hbm, ⟨45, _⟩ => ⟨S1x1x256, .i32⟩
  | .hbm, ⟨46, _⟩ => ⟨S16x1x256, .i32⟩
  | .hbm, ⟨47, _⟩ => ⟨S16x1x256, .i32⟩
  | .hbm, ⟨48, _⟩ => ⟨S16x1x256, .i32⟩
  | .hbm, ⟨49, _⟩ => ⟨S_, .i32⟩
  | .hbm, ⟨50, _⟩ => ⟨S16x1x256, .i32⟩
  | .hbm, ⟨51, _⟩ => ⟨S16x1x256, .i1⟩
  | .hbm, ⟨52, _⟩ => ⟨S1x128x256, .i1⟩
  | .hbm, ⟨53, _⟩ => ⟨S16x128x256, .i1⟩
  | .hbm, ⟨54, _⟩ => ⟨S16x128x256, .i1⟩
  | .hbm, ⟨55, _⟩ => ⟨S16x128x256, .i1⟩
  | .hbm, ⟨56, _⟩ => ⟨S16x1x1x128x256, .i1⟩
  | .hbm, ⟨57, _⟩ => ⟨S4x4, .f32⟩
  | .hbm, ⟨58, _⟩ => ⟨S8x16x4x256x128x4, .f32⟩
  | .hbm, ⟨59, _⟩ => ⟨S8x16x4x4x128x256, .f32⟩
  | .hbm, ⟨60, _⟩ => ⟨S_, .f32⟩
  | .hbm, ⟨61, _⟩ => ⟨S8x16x4x4x128x256, .f32⟩
  | .hbm, ⟨62, _⟩ => ⟨S8x16x4x4x128x256, .f32⟩
  | .hbm, ⟨63, _⟩ => ⟨S_, .f32⟩
  | .hbm, ⟨64, _⟩ => ⟨S_, .f32⟩
  | .hbm, ⟨65, _⟩ => ⟨S8x16x4x4x128x256, .i1⟩
  | .hbm, ⟨66, _⟩ => ⟨S8x16x4x4x128x256, .f32⟩
  | .hbm, ⟨67, _⟩ => ⟨S8x16x4x4x128x256, .f32⟩
  | .hbm, ⟨68, _⟩ => ⟨S4x4x1x1, .f32⟩
  | .hbm, ⟨69, _⟩ => ⟨S_, .f32⟩
  | .hbm, ⟨70, _⟩ => ⟨S8x16x4x4x128, .f32⟩
  | .hbm, ⟨71, _⟩ => ⟨S8x16x4x4x128x1, .f32⟩
  | .hbm, ⟨72, _⟩ => ⟨S1x1x4x4x1x1, .f32⟩
  | .hbm, ⟨73, _⟩ => ⟨S8x16x4x4x128x1, .f32⟩
  | .hbm, ⟨74, _⟩ => ⟨S8x16x4x4x128x1, .f32⟩
  | .hbm, ⟨75, _⟩ => ⟨S8x16x4x4x128x256, .f32⟩
  | .hbm, ⟨76, _⟩ => ⟨S8x16x4x4x128x256, .f32⟩
  | .hbm, ⟨77, _⟩ => ⟨S8x16x4x4x128x256, .f32⟩
  | .hbm, ⟨78, _⟩ => ⟨S_, .f32⟩
  | .hbm, ⟨79, _⟩ => ⟨S8x16x4x4x128, .f32⟩
  | .hbm, ⟨80, _⟩ => ⟨S8x16x4x4x128x1, .f32⟩
  | .hbm, ⟨81, _⟩ => ⟨S1x1x4x4x1x1, .f32⟩
  | .hbm, ⟨82, _⟩ => ⟨S8x16x4x4x128x1, .f32⟩
  | .hbm, ⟨83, _⟩ => ⟨S8x16x4x4x128x1, .f32⟩
  | .hbm, ⟨84, _⟩ => ⟨S8x16x4x4x128x1, .f32⟩
  | .hbm, ⟨85, _⟩ => ⟨S8x16x4x4x128x1, .f32⟩
  | .hbm, ⟨86, _⟩ => ⟨S8x16x4x4x128x256, .f32⟩
  | .hbm, ⟨87, _⟩ => ⟨S8x16x4x4x128x256, .f32⟩
  | .hbm, ⟨88, _⟩ => ⟨S8x16x4x64x4x128, .f32⟩
  | .hbm, ⟨89, _⟩ => ⟨S8x16x128x4x4x64, .f32⟩
  | .hbm, ⟨90, _⟩ => ⟨S16384x1024, .f32⟩
  | .hbm, ⟨91, _⟩ => ⟨S8x128x4x64, .f32⟩
  | .hbm, ⟨92, _⟩ => ⟨S8x128x256, .f32⟩
  | .hbm, ⟨93, _⟩ => ⟨S8x128x4x64, .f32⟩
  | .hbm, ⟨94, _⟩ => ⟨S8x128x256, .f32⟩
  | _, _ => ⟨S17408x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_1 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩

abbrev nD : Nat := 1
abbrev τ : Topo := Topo.v7x

variable {F : FTy → Type} [FloatOps F]

def κ : String → Option EReal := fun
  | "mask" => some ⊥
  | _ => none
-- ==== Proof.Gather.Base.lean ====
/-
  What one core holds while the gather kernel runs, and the steps of the kernel on it.

  The kernel fills two row buffers by copies it starts one by one on a semaphore of each buffer, 1024 copies a fill, and waits a
  whole fill with one wait. At any time one fill is in flight at most. `Own` says what the core holds when no copy is in flight
  (`St.both`) and when the first `j` copies of a fill of buffer `b` have been started (`St.fill b j`). `Ok s p Q` says that from
  such a state the program `p` runs safely, and ends in a state and with a result that satisfy `Q`. The lemmas after it are one
  step of the kernel each: a word of the index table read, a check of it, a copy started, a fill waited for, a vector loaded or
  stored, a call.
-/
module

public import proofs.«01_k».proof.Proof.Gen.Kernel.Frame
public import Idealize.ShloMosaic.Lib.Batch
public import Idealize.ShloMosaic.Lib.ShareLeaves

@[expose] public section

noncomputable section

namespace Cert.Kernel.Gather

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The buffers, the cells, the windows of the copies -/

/-- The two row buffers. -/
def bufM : Bool → Memref sig .tc .vmem S34816x128 .i32
  | false => Memref.whole cc0_scratch0
  | true => Memref.whole cc0_scratch1

/-- Their semaphores. -/
def cellS : Bool → DmaSem sig
  | false => ((cc0_scratch2.slice (Rect.unit (s := S2) ![0] S1.size inb_S2_S1_0)).squeeze S_ squeezes_S1_S_).sem
  | true => ((cc0_scratch2.slice (Rect.unit (s := S2) ![1] S1.size inb_S2_S1_1)).squeeze S_ squeezes_S1_S_).sem

/-- The table of expert rows, left in HBM. -/
abbrev uvM : Memref sig .tc .hbm S16384x16x128 .i32 := Memref.whole main_arg4

/-- The first row of copy `j`'s window: rows are 17 apart, and the second half of a fill starts 8704 rows further on. -/
def row (j : ℕ) : ℕ := 17 * (j + j / 512 * 512)

theorem row_inb {j : ℕ} (h : j < 1024) : ∀ a, (![row j, 0] : Fin 2 → ℕ) a + S16x128.size a ≤ S34816x128.size a := by
  intro a
  have h2 : j / 512 ≤ 1 := by omega
  fin_cases a
  · show row j + 16 ≤ 34816
    unfold row; omega
  · show 0 + 128 ≤ 128
    omega

/-- Copy `t`'s window of a row buffer. -/
def winR (t : Fin (2 ^ 10)) : Rect S34816x128 := Rect.unit (s := S34816x128) ![row t.val, 0] S16x128.size (row_inb t.isLt)

/-- The units one copy credits, and a wait for a whole fill takes. -/
theorem credit_win (b : Bool) (r : ℕ) (inb : ∀ a, (![r, 0] : Fin 2 → ℕ) a + S16x128.size a ≤ S34816x128.size a)
    (hs : ∀ a, (Rect.unit (s := S34816x128) ![r, 0] S16x128.size inb).stride a = 1) :
    ((bufM b).slice (Rect.unit (s := S34816x128) ![r, 0] S16x128.size inb) hs).view.dmaCredit = 256 := by
  cases b <;> exact View.dmaCredit_closed _ S16x128 rfl _ rfl 256 rfl

theorem credit_all (b : Bool) (inb : ∀ a, (![0, 0] : Fin 2 → ℕ) a + S16384x128.size a ≤ S34816x128.size a)
    (hs : ∀ a, (Rect.unit (s := S34816x128) ![0, 0] S16384x128.size inb).stride a = 1) :
    ((bufM b).slice (Rect.unit (s := S34816x128) ![0, 0] S16384x128.size inb) hs).view.dmaCredit = 262144 := by
  cases b <;> exact View.dmaCredit_closed _ S16384x128 rfl _ rfl 262144 rfl

/-- Two windows share no row. -/
theorem winR_disjoint {t t' : Fin (2 ^ 10)} (h : t ≠ t') : Disjoint (winR t).set (winR t').set := by
  have hne : t.val ≠ t'.val := fun e => h (Fin.ext e)
  refine Rect.unit_disjoint (0 : Fin 2) ?_
  show row t.val + 16 ≤ row t'.val ∨ row t'.val + 16 ≤ row t.val
  unfold row; omega

/-! ## The operands of one grid point, and what the core holds -/

/-- The operands one grid point is run with: the core, the point, the staged blocks, what the input blocks hold, and the
    contents of the table in HBM. -/
structure Ops (F : FTy → Type) [FloatOps F] where
  c : Dev nD
  i : grid0.Coords
  a1 : Memref sig .tc .smem S16x128 .i32
  h1 : a1.IsWhole
  a2 : Memref sig .tc .smem S16x128 .i32
  h2 : a2.IsWhole
  a3 : Memref sig .tc .smem S16x128 .i32
  h3 : a3.IsWhole
  a4 : Memref sig .tc .vmem S1x128x32 .f32
  h4 : a4.IsWhole
  a5 : Memref sig .tc .vmem S32x2048 .f32
  h5 : a5.IsWhole
  a6 : Memref sig .tc .vmem S1x2048 .f32
  h6 : a6.IsWhole
  a7 : Memref sig .tc .vmem S1x2048 .f32
  h7 : a7.IsWhole
  a9 : Memref sig .tc .vmem S32x2048 .f32
  h9 : a9.IsWhole
  x1 : S16x128.Idx → Elt F .i32
  x2 : S16x128.Idx → Elt F .i32
  x3 : S16x128.Idx → Elt F .i32
  x4 : S1x128x32.Idx → Elt F .f32
  x5 : S32x2048.Idx → Elt F .f32
  x6 : S1x2048.Idx → Elt F .f32
  x7 : S1x2048.Idx → Elt F .f32
  r1 : ∀ j, BitVec.toNat (x1 j) < 16384
  r2 : ∀ j, BitVec.toNat (x2 j) < 16384
  r3 : ∀ j, BitVec.toNat (x3 j) < 16384
  u : Buf (Elt F) (uvM.view.loc (c : Thread nD τ))

/-- Where the kernel is with its copies: none in flight, or the first `j` of a fill of buffer `b` started. -/
inductive St
  | both
  | fill (b : Bool) (j : ℕ)

variable (A : Ops F)

/-- Every staged block, the inputs at what they hold, the output at something; nothing is owed. -/
def Blocks : sProp 𝕄 :=
  iprop(owns (A.c : Thread nD τ) A.a1 fullShare A.x1 ∗ owns (A.c : Thread nD τ) A.a2 fullShare A.x2
    ∗ owns (A.c : Thread nD τ) A.a3 fullShare A.x3 ∗ owns (A.c : Thread nD τ) A.a4 fullShare A.x4
    ∗ owns (A.c : Thread nD τ) A.a5 fullShare A.x5 ∗ owns (A.c : Thread nD τ) A.a6 fullShare A.x6
    ∗ owns (A.c : Thread nD τ) A.a7 fullShare A.x7 ∗ (∃ d, owns (A.c : Thread nD τ) A.a9 fullShare d)
    ∗ (∃ W, owes (A.c : Thread nD τ) 0 W))

/-- Buffer `b` whole, at something. -/
def Whole (b : Bool) : sProp 𝕄 := iprop(∃ f, (bufM b).view.loc (A.c : Thread nD τ) ↦{fullShare} f)

/-- Window `t` of buffer `b`, at something. -/
def Win (b : Bool) (t : Fin (2 ^ 10)) : sProp 𝕄 :=
  iprop(∃ f, (bufM b).view.loc (A.c : Thread nD τ) ↦[((bufM b).access (winR t)).set]{fullShare} f)

/-- The rows of buffer `b` in no window, at something. -/
def Gap (b : Bool) : sProp 𝕄 :=
  iprop(∃ f, (bufM b).view.loc (A.c : Thread nD τ) ↦[Finset.univ \ Finset.univ.biUnion fun t => ((bufM b).access (winR t)).set]{fullShare} f)

/-- The `t`-th of the 1024 shares of the table. -/
def Tab (t : Fin (2 ^ 10)) : sProp 𝕄 := uvM.view.loc (A.c : Thread nD τ) ↦{ShareLeaves.leaf 10 fullShare t} A.u

/-- What copy `t` of a fill takes, and gives back: its window, and its share of the table. -/
def Lend (b : Bool) (t : Fin (2 ^ 10)) : sProp 𝕄 := iprop(Win A b t ∗ Tab A t)

/-- What the core holds. -/
def Own : St → sProp 𝕄
  | .both => iprop(Blocks A ∗ Whole A false ∗ Whole A true
      ∗ semVal ((A.c : Thread nD τ), SemLoc.dma (cellS false)) 0 ∗ semVal ((A.c : Thread nD τ), SemLoc.dma (cellS true)) 0
      ∗ (uvM.view.loc (A.c : Thread nD τ) ↦{fullShare} A.u))
  | .fill b j => iprop(Blocks A ∗ Whole A (!b) ∗ semVal ((A.c : Thread nD τ), SemLoc.dma (cellS (!b))) 0 ∗ Gap A b
      ∗ Batch countersEmb (A.c : Thread nD τ) (.dma (cellS b)) () 256 (Lend A b) j 0 ∗ bigSep (pending j) (Lend A b))

instance lend_storable (b : Bool) (t : Fin (2 ^ 10)) : Storable (upEmb : UEmb _ 𝕄) (Lend A b t) := by
  unfold Lend Win Tab; infer_instance

/-- From state `s` the program runs safely to a state and a result that satisfy `Q`. -/
def Ok {α : Type} (s : St) (p : Prog (TpuEff nD τ sig (Elt F) Λ₀ .tc) α) (Q : St → α → Prop) : Prop :=
  Own A s ⊢ wp frame (wpE (defs₀ (F := F)) Variants.none (A.c : Thread nD τ) none) Set.univ p
    (fun r => iprop(∃ s', ⌜Q s' r⌝ ∗ Own A s'))

variable {A} {α β : Type} {s s' : St} {Q : St → α → Prop}

theorem Ok.mono {p : Prog (TpuEff nD τ sig (Elt F) Λ₀ .tc) α} {Q' : St → α → Prop} (h : Ok A s p Q) (hQ : ∀ s r, Q s r → Q' s r) :
    Ok A s p Q' := by
  refine BIBase.Entails.trans h (wp_mono _ _ _ fun r => ?_)
  iintro ⟨%s', %hq, H⟩
  iexists s'; isplitr
  · ipureintro; exact hQ _ _ hq
  · iexact H

/-- A program followed by another. -/
theorem Ok.bind {p : Prog (TpuEff nD τ sig (Elt F) Λ₀ .tc) β} {k : β → Prog (TpuEff nD τ sig (Elt F) Λ₀ .tc) α}
    {R : St → β → Prop} (hp : Ok A s p R) (hk : ∀ s' r, R s' r → Ok A s' (k r) Q) : Ok A s (p >>= k) Q := by
  unfold Ok at hp ⊢
  rw [wp_bind]
  refine hp.trans (wp_mono _ _ _ fun r => ?_)
  iintro ⟨%s', %hq, H⟩
  have h := hk s' r hq
  unfold Ok at h
  iapply h; iexact H

/-- A result. -/
theorem Ok.ret {r : α} (h : Q s r) : Ok A s (pure r) Q := by
  unfold Ok
  rw [wp_pure]
  iintro H
  imodintro
  iexists s; isplitr
  · ipureintro; exact h
  · iexact H

/-! ## Reading what is held -/

/-- In state `s` the core holds the operand `m`, to read. -/
def Has (A : Ops F) (s : St) {sp : CoreSpace} {S : Shape} {e : EltTy} (m : Memref sig .tc sp S e) : Prop :=
  Own A s ⊢ iprop(∃ (f : Buf (Elt F) (m.view.loc (A.c : Thread nD τ))) (K : Finset (Idx (m.view.loc (A.c : Thread nD τ)))),
    ⌜m.view.set ⊆ K⌝ ∗ (m.view.loc (A.c : Thread nD τ) ↦[K]{fullShare} f)
      ∗ ((m.view.loc (A.c : Thread nD τ) ↦[K]{fullShare} f) -∗ Own A s))

/-- Whatever the state, the core holds the operand `m`, and reads `X` of it. -/
def Reads (A : Ops F) {sp : Space} {S : Shape} {e : EltTy} (m : Memref sig .tc sp S e) (X : S.Idx → Elt F e) : Prop :=
  Blocks A ⊢ iprop(owns (A.c : Thread nD τ) m fullShare X ∗ (owns (A.c : Thread nD τ) m fullShare X -∗ Blocks A))

/-- What the state adds to the staged blocks. -/
def Rest (A : Ops F) : St → sProp 𝕄
  | .both => iprop(Whole A false ∗ Whole A true
      ∗ semVal ((A.c : Thread nD τ), SemLoc.dma (cellS false)) 0 ∗ semVal ((A.c : Thread nD τ), SemLoc.dma (cellS true)) 0
      ∗ (uvM.view.loc (A.c : Thread nD τ) ↦{fullShare} A.u))
  | .fill b j => iprop(Whole A (!b) ∗ semVal ((A.c : Thread nD τ), SemLoc.dma (cellS (!b))) 0 ∗ Gap A b
      ∗ Batch countersEmb (A.c : Thread nD τ) (.dma (cellS b)) () 256 (Lend A b) j 0 ∗ bigSep (pending j) (Lend A b))

theorem own_fill (b : Bool) (j : ℕ) : Own A (.fill b j)
    = iprop(Blocks A ∗ Whole A (!b) ∗ semVal ((A.c : Thread nD τ), SemLoc.dma (cellS (!b))) 0 ∗ Gap A b
      ∗ Batch countersEmb (A.c : Thread nD τ) (.dma (cellS b)) () 256 (Lend A b) j 0 ∗ bigSep (pending j) (Lend A b)) := rfl

theorem own_both : Own A .both = iprop(Blocks A ∗ Whole A false ∗ Whole A true
      ∗ semVal ((A.c : Thread nD τ), SemLoc.dma (cellS false)) 0 ∗ semVal ((A.c : Thread nD τ), SemLoc.dma (cellS true)) 0
      ∗ (uvM.view.loc (A.c : Thread nD τ) ↦{fullShare} A.u)) := rfl

theorem own_eq (s : St) : Own A s = iprop(Blocks A ∗ Rest A s) := by cases s <;> rfl

theorem reads1 : Reads A A.a1 A.x1 := by
  unfold Reads Blocks; iintro ⟨H, R⟩; isplitl [H]; · iexact H
  iintro H; isplitl [H]; · iexact H
  iexact R
theorem reads2 : Reads A A.a2 A.x2 := by
  unfold Reads Blocks; iintro ⟨H1, H, R⟩; isplitl [H]; · iexact H
  iintro H; isplitl [H1]; · iexact H1
  isplitl [H]; · iexact H
  iexact R
theorem reads3 : Reads A A.a3 A.x3 := by
  unfold Reads Blocks; iintro ⟨H1, H2, H, R⟩; isplitl [H]; · iexact H
  iintro H; isplitl [H1]; · iexact H1
  isplitl [H2]; · iexact H2
  isplitl [H]; · iexact H
  iexact R
theorem reads4 : Reads A A.a4 A.x4 := by
  unfold Reads Blocks; iintro ⟨H1, H2, H3, H, R⟩; isplitl [H]; · iexact H
  iintro H; isplitl [H1]; · iexact H1
  isplitl [H2]; · iexact H2
  isplitl [H3]; · iexact H3
  isplitl [H]; · iexact H
  iexact R
theorem reads5 : Reads A A.a5 A.x5 := by
  unfold Reads Blocks; iintro ⟨H1, H2, H3, H4, H, R⟩; isplitl [H]; · iexact H
  iintro H; isplitl [H1]; · iexact H1
  isplitl [H2]; · iexact H2
  isplitl [H3]; · iexact H3
  isplitl [H4]; · iexact H4
  isplitl [H]; · iexact H
  iexact R
theorem reads6 : Reads A A.a6 A.x6 := by
  unfold Reads Blocks; iintro ⟨H1, H2, H3, H4, H5, H, R⟩; isplitl [H]; · iexact H
  iintro H; isplitl [H1]; · iexact H1
  isplitl [H2]; · iexact H2
  isplitl [H3]; · iexact H3
  isplitl [H4]; · iexact H4
  isplitl [H5]; · iexact H5
  isplitl [H]; · iexact H
  iexact R
theorem reads7 : Reads A A.a7 A.x7 := by
  unfold Reads Blocks; iintro ⟨H1, H2, H3, H4, H5, H6, H, R⟩; isplitl [H]; · iexact H
  iintro H; isplitl [H1]; · iexact H1
  isplitl [H2]; · iexact H2
  isplitl [H3]; · iexact H3
  isplitl [H4]; · iexact H4
  isplitl [H5]; · iexact H5
  isplitl [H6]; · iexact H6
  isplitl [H]; · iexact H
  iexact R

theorem Reads.has {sp : CoreSpace} {S : Shape} {e : EltTy} {m : Memref sig .tc sp S e} {X : S.Idx → Elt F e} (h : Reads A m X) :
    Has A s m := by
  unfold Has; unfold Reads at h; rw [own_eq]
  iintro ⟨HB, HR⟩
  ihave H := h $$ HB
  unfold owns
  icases H with ⟨⟨%f, %hf, H⟩, HB⟩
  iexists f, m.view.set
  isplitr
  · ipureintro; exact subset_rfl
  isplitl [H]; · iexact H
  iintro H
  isplitl [H HB]
  · iapply HB; iexists f; isplitr
    · ipureintro; exact hf
    · iexact H
  · iexact HR

theorem has9 : Has A s A.a9 := by
  unfold Has; rw [own_eq]; unfold Blocks owns
  iintro ⟨⟨H1, H2, H3, H4, H5, H6, H7, ⟨%d, %f, %hf, H⟩, HW⟩, HR⟩
  iexists f, A.a9.view.set
  isplitr
  · ipureintro; exact subset_rfl
  isplitl [H]; · iexact H
  iintro H
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H]
    · iexists d, f; isplitr
      · ipureintro; exact hf
      · iexact H
    · iexact HW
  · iexact HR

/-- While buffer `b` is filled, the other one can be read. -/
theorem has_other (b : Bool) (j : ℕ) : Has A (.fill b j) (bufM (!b)) := by
  unfold Has; rw [own_eq]; unfold Rest Whole
  iintro ⟨HB, ⟨%f, H⟩, HR⟩
  iexists f, Finset.univ
  isplitr
  · ipureintro; exact Finset.subset_univ _
  isplitl [H]; · iexact H
  iintro H
  isplitl [HB]; · iexact HB
  isplitl [H]
  · iexists f; iexact H
  · iexact HR

theorem has10 (j : ℕ) : Has A (.fill true j) (Memref.whole cc0_scratch0) := has_other true j
theorem has11 (j : ℕ) : Has A (.fill false j) (Memref.whole cc0_scratch1) := has_other false j

/-! ## The steps -/

/-- A vector loaded from an operand that is held: anything may have been read. -/
theorem Ok.load {sp : CoreSpace} {S : Shape} {e : EltTy} {m : Memref sig .tc sp S e} {r : LoadRect S} {hl : m.view.LoadsAt r}
    {k : (r.shape.Idx → Elt F e) → Prog (TpuEff nD τ sig (Elt F) Λ₀ .tc) α} (hm : Has A s m) (hk : ∀ v, Ok A s (k v) Q) :
    Ok A s (Prog.lift (.load m r hl) >>= k) Q := by
  refine Ok.bind (R := fun s' _ => s' = s) ?_ fun s' v h => h ▸ hk v
  unfold Ok; unfold Has at hm
  iintro H
  ihave H' := hm $$ H
  icases H' with ⟨%f, %K, %hK, H, Hk⟩
  iapply (wp_load Variants.none (A.c : Thread nD τ) none Set.univ (k := .ret) ((View.setOn_subset_set _ _).trans hK)) $$ H
  iintro H
  rw [wp_ret]
  imodintro
  iexists s
  isplitr
  · ipureintro; rfl
  · iapply Hk; iexact H

/-- A word of an index table read: it is in the table's range. -/
theorem Ok.word {m : Memref sig .tc .smem S16x128 .i32} {X : S16x128.Idx → Elt F .i32} (hm : Reads A m X)
    (hX : ∀ j, BitVec.toNat (X j) < 16384) {r : Rect S16x128} {h1 : r.shape.numel = 1} {hp : EltTy.i32.packing = 1}
    {k : Elt F .i32 → Prog (TpuEff nD τ sig (Elt F) Λ₀ .tc) α} (hk : ∀ v : Elt F .i32, BitVec.toNat v < 16384 → Ok A s (k v) Q) :
    Ok A s (smemLoad m r h1 hp >>= k) Q := by
  refine Ok.bind (R := fun s' (v : Elt F .i32) => s' = s ∧ BitVec.toNat v < 16384) ?_ fun s' v h => h.1 ▸ hk v h.2
  unfold Ok; unfold Reads at hm; rw [own_eq]
  iintro ⟨HB, HR⟩
  ihave H' := hm $$ HB
  unfold owns
  icases H' with ⟨⟨%f, %hf, H⟩, HB⟩
  unfold smemLoad
  iapply (wp_smemLoadElt (m := m) (r := r) (k := .ret) (S := m.view.set) (f := f) Variants.none (A.c : Thread nD τ) none Set.univ (View.set_slice_subset _ _)) $$ H
  iintro H
  rw [wp_ret]
  imodintro
  iexists s
  isplitr
  · ipureintro
    refine ⟨rfl, ?_⟩
    have e := hX (r.emb (Shape.Idx.first (h1.symm ▸ Nat.one_pos)))
    rw [← hf] at e
    exact e
  rw [own_eq]
  isplitl [H HB]
  · iapply HB
    iexists f; isplitr
    · ipureintro; exact hf
    · iexact H
  · iexact HR

theorem Ok.word1 {r : Rect S16x128} {h1 : r.shape.numel = 1} {hp : EltTy.i32.packing = 1}
    {k : Elt F .i32 → Prog (TpuEff nD τ sig (Elt F) Λ₀ .tc) α} (hk : ∀ v : Elt F .i32, BitVec.toNat v < 16384 → Ok A s (k v) Q) :
    Ok A s (smemLoad A.a1 r h1 hp >>= k) Q := Ok.word reads1 A.r1 hk
theorem Ok.word2 {r : Rect S16x128} {h1 : r.shape.numel = 1} {hp : EltTy.i32.packing = 1}
    {k : Elt F .i32 → Prog (TpuEff nD τ sig (Elt F) Λ₀ .tc) α} (hk : ∀ v : Elt F .i32, BitVec.toNat v < 16384 → Ok A s (k v) Q) :
    Ok A s (smemLoad A.a2 r h1 hp >>= k) Q := Ok.word reads2 A.r2 hk
theorem Ok.word3 {r : Rect S16x128} {h1 : r.shape.numel = 1} {hp : EltTy.i32.packing = 1}
    {k : Elt F .i32 → Prog (TpuEff nD τ sig (Elt F) Λ₀ .tc) α} (hk : ∀ v : Elt F .i32, BitVec.toNat v < 16384 → Ok A s (k v) Q) :
    Ok A s (smemLoad A.a3 r h1 hp >>= k) Q := Ok.word reads3 A.r3 hk

/-- A check that holds. -/
theorem Ok.check {P : Prop} {d : Decidable P} {k : PLift P → Prog (TpuEff nD τ sig (Elt F) Λ₀ .tc) α} (h : P)
    (hk : Ok A s (k ⟨h⟩) Q) : Ok A s (Prog.lift (TpuEff.assume P d) >>= k) Q := by
  refine Ok.bind (R := fun s' _ => s' = s) ?_ fun s' v e => e ▸ hk
  unfold Ok
  iintro H
  iapply (wp_assume Variants.none (A.c : Thread nD τ) none Set.univ (k := .ret) h)
  rw [wp_ret]
  imodintro
  iexists s; isplitr
  · ipureintro; rfl
  · iexact H

/-- The check of a word read: a row of the table lies within the table. -/
theorem inb_of {v : BitVec 32} (h : v.toNat < 16384) :
    ∀ a, (![v.toNat, 0, 0] : Fin 3 → ℕ) a + S1x16x128.size a ≤ S16384x16x128.size a := by
  intro a
  fin_cases a
  · show v.toNat + 1 ≤ 16384
    omega
  · show 0 + 16 ≤ 16
    omega
  · show 0 + 128 ≤ 128
    omega

/-- The output block stored: something else is in it then. -/
theorem Ok.store {r : Rect S32x2048} {w : r.shape.Idx → Elt F .f32} {Mk : Finset r.shape.Idx} {hx : (A.a9.access r).Stores Mk}
    {hm : Mk = Finset.univ ∨ ∀ a, r.stride a = 1} {k : PUnit → Prog (TpuEff nD τ sig (Elt F) Λ₀ .tc) α} (hk : Ok A s (k ⟨⟩) Q) :
    Ok A s (Prog.lift (.store A.a9 r w Mk hx hm) >>= k) Q := by
  refine Ok.bind (R := fun s' _ => s' = s) ?_ fun s' v e => e ▸ hk
  unfold Ok; rw [own_eq]; unfold Blocks owns
  iintro ⟨⟨H1, H2, H3, H4, H5, H6, H7, ⟨%d, %f, %hf, H⟩, HW⟩, HR⟩
  iapply (wp_store (m := A.a9) (r := r) (S := A.a9.view.set) (f := f) (k := .ret) Variants.none (A.c : Thread nD τ) none Set.univ
    ((View.setOn_subset_set _ _).trans (View.set_slice_subset _ _))) $$ H
  iintro H
  rw [wp_ret]
  imodintro
  iexists s
  isplitr
  · ipureintro; rfl
  rw [own_eq]; unfold Blocks owns
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H]
    · iexists _, _; isplitr; swap
      · iexact H
      · ipureintro; rfl
    · iexact HW
  · iexact HR

/-- What a copy takes, spelt by its destination. -/
theorem lend_elim (b : Bool) {j : ℕ} (hj : j < 2 ^ 10) (inb : ∀ a, (![row j, 0] : Fin 2 → ℕ) a + S16x128.size a ≤ S34816x128.size a)
    (hs : ∀ a, (Rect.unit (s := S34816x128) ![row j, 0] S16x128.size inb).stride a = 1) :
    Lend A b ⟨j, hj⟩ ⊢ iprop((∃ f, ((bufM b).slice (Rect.unit (s := S34816x128) ![row j, 0] S16x128.size inb) hs).view.loc (A.c : Thread nD τ)
        ↦[((bufM b).slice (Rect.unit (s := S34816x128) ![row j, 0] S16x128.size inb) hs).view.set]{fullShare} f)
      ∗ (uvM.view.loc (A.c : Thread nD τ) ↦{ShareLeaves.leaf 10 fullShare ⟨j, hj⟩} A.u)) := .rfl

theorem win_intro (b : Bool) {j : ℕ} (hj : j < 2 ^ 10) (inb : ∀ a, (![row j, 0] : Fin 2 → ℕ) a + S16x128.size a ≤ S34816x128.size a)
    (hs : ∀ a, (Rect.unit (s := S34816x128) ![row j, 0] S16x128.size inb).stride a = 1)
    {f : Buf (Elt F) (((bufM b).slice (Rect.unit (s := S34816x128) ![row j, 0] S16x128.size inb) hs).view.loc (A.c : Thread nD τ))} :
    (((bufM b).slice (Rect.unit (s := S34816x128) ![row j, 0] S16x128.size inb) hs).view.loc (A.c : Thread nD τ)
        ↦[((bufM b).slice (Rect.unit (s := S34816x128) ![row j, 0] S16x128.size inb) hs).view.set]{fullShare} f) ⊢ Win A b ⟨j, hj⟩ :=
  exists_intro (Φ := fun f => ((bufM b).view.loc (A.c : Thread nD τ) ↦[((bufM b).access (winR ⟨j, hj⟩)).set]{fullShare} f : sProp 𝕄)) f

/-- The next copy of a fill started: from any row of the table, to the window it is due at. -/
theorem Ok.copy {b : Bool} {j r : ℕ} {off : Fin 3 → ℕ} {inbS : ∀ a, off a + S1x16x128.size a ≤ S16384x16x128.size a}
    {hsS : ∀ a, (Rect.unit (s := S16384x16x128) off S1x16x128.size inbS).stride a = 1} {hq : S1x16x128.Squeezes S16x128}
    {inb : ∀ a, (![r, 0] : Fin 2 → ℕ) a + S16x128.size a ≤ S34816x128.size a}
    {hs : ∀ a, (Rect.unit (s := S34816x128) ![r, 0] S16x128.size inb).stride a = 1}
    {hsrc : ((uvM.slice (Rect.unit (s := S16384x16x128) off S1x16x128.size inbS) hsS).squeeze S16x128 hq).view.WordExact}
    {hdst : ((bufM b).slice (Rect.unit (s := S34816x128) ![r, 0] S16x128.size inb) hs).view.WordExact}
    {hsem : DmaTarget.Typed (nD := nD) .hbm (SemLoc.dma (cellS b)) (DmaTarget.here (nD := nD) (τ := τ) (p := Proc.tc) ((bufM b).slice (Rect.unit (s := S34816x128) ![r, 0] S16x128.size inb) hs))}
    (hj : j < 1024) (hr : r = row j)
    {k : PUnit → Prog (TpuEff nD τ sig (Elt F) Λ₀ .tc) α} (hk : Ok A (.fill b (j + 1)) (k ⟨⟩) Q) :
    Ok A (.fill b j) (Prog.lift (.enqueueDma ((uvM.slice (Rect.unit (s := S16384x16x128) off S1x16x128.size inbS) hsS).squeeze S16x128 hq)
      (.here ((bufM b).slice (Rect.unit (s := S34816x128) ![r, 0] S16x128.size inb) hs)) (.dma (cellS b)) hsrc hdst hsem) >>= k) Q := by
  refine Ok.bind (R := fun s' _ => s' = .fill b (j + 1)) ?_ fun s' v e => e ▸ hk
  subst hr
  have hj' : j < 2 ^ 10 := hj
  unfold Ok
  rw [own_fill, bigSep_pending_step _ j hj']
  unfold Batch
  iintro ⟨HB, HO, HC, HG, ⟨%γ, %γ₀, %κ, #Hinv, HI, H0, Hcred⟩, HL, HD⟩
  ihave HI' := (show bigSep (pending j) (fun t : Fin (2 ^ 10) => count countersEmb (γ t) 0)
      ⊢ (iprop(count countersEmb (γ ⟨j, hj'⟩) 0 ∗ bigSep (pending (j + 1)) (fun t : Fin (2 ^ 10) => count countersEmb (γ t) 0)) : sProp 𝕄)
    from Entails.of_eq (by rw [pending_succ hj', bigSep_insert (not_mem_pending_succ hj')]; rfl)) $$ HI
  icases HI' with ⟨Ht, HI⟩
  ihave HL' := (lend_elim (A := A) b hj' inb hs) $$ HL
  icases HL' with ⟨⟨%fd, Hd⟩, Hs⟩
  ihave Hs' := (pointsTo_split_subset (Finset.subset_univ
    (((uvM.slice (Rect.unit (s := S16384x16x128) off S1x16x128.size inbS) hsS).squeeze S16x128 hq).view.set))).1 $$ Hs
  icases Hs' with ⟨Hs, Hrest⟩
  iapply (wp_enqueueDmaAs (k := .ret) (via := .same)
    (src := (uvM.slice (Rect.unit (s := S16384x16x128) off S1x16x128.size inbS) hsS).squeeze S16x128 hq)
    (dst := (bufM b).slice (Rect.unit (s := S34816x128) ![row j, 0] S16x128.size inb) hs)
    Variants.none (A.c : Thread nD τ) none Set.univ () 256
    (show ((bufM b).slice (Rect.unit (s := S34816x128) ![row j, 0] S16x128.size inb) hs).view.amount (.dma (cellS b)) = 256 from credit_win b (row j) inb hs)) $$ [Hs Hd] [Ht Hrest]
  · isplitl [Hs]; · iexact Hs
    iapply (pointsTo_writeUpdate (A.c : Thread nD τ) (v := ((bufM b).slice (Rect.unit (s := S34816x128) ![row j, 0] S16x128.size inb) hs).view)
      (fd := fd) subset_rfl) $$ Hd
  · iapply (batch_creditUpdate_with countersEmb (D := Lend A b) (γ₀ := γ₀) ⟨j, hj'⟩
      (put := iprop(uvM.view.loc (A.c : Thread nD τ) ↦[Finset.univ \ (((uvM.slice (Rect.unit (s := S16384x16x128) off S1x16x128.size inbS) hsS).squeeze S16x128 hq).view.set)]{ShareLeaves.leaf 10 fullShare ⟨j, hj'⟩} A.u)) (by
        unfold Lend Tab
        iintro ⟨Hr, Hd, Hs⟩
        isplitl [Hd]
        · iapply (win_intro (A := A) b hj' inb hs); iexact Hd
        · iapply (pointsTo_split_subset (Finset.subset_univ
            (((uvM.slice (Rect.unit (s := S16384x16x128) off S1x16x128.size inbS) hsS).squeeze S16x128 hq).view.set))).2
          isplitl [Hs] <;> iassumption))
    isplitr; · iexact Hinv
    isplitl [Ht] <;> iassumption
  iintro Hcred'
  rw [wp_ret]
  imodintro
  iexists (St.fill b (j + 1))
  isplitr
  · ipureintro; rfl
  rw [own_fill]
  unfold Batch
  isplitl [HB]; · iexact HB
  isplitl [HO]; · iexact HO
  isplitl [HC]; · iexact HC
  isplitl [HG]; · iexact HG
  isplitr [HD]
  · iexists γ, γ₀, κ
    isplitr; · iexact Hinv
    isplitl [HI]; · iexact HI
    isplitl [H0]; · iexact H0
    rw [show (j + 1) * 256 - 0 = (j * 256 - 0) + 256 by omega, ← tallyAt_add]
    icombine Hcred Hcred' as H
    iexact H
  · iexact HD

/-- The elements of copy `t`'s window of buffer `b`. -/
def winS (A : Ops F) (b : Bool) (t : Fin (2 ^ 10)) : Finset (Idx ((bufM b).view.loc (A.c : Thread nD τ))) := ((bufM b).access (winR t)).set

theorem winS_disjoint (b : Bool) {t t' : Fin (2 ^ 10)} (h : t ≠ t') : Disjoint (winS A b t) (winS A b t') := by
  show Disjoint ((bufM b).view.slice (winR t)).set ((bufM b).view.slice (winR t')).set
  rw [View.set_slice, View.set_slice, Finset.disjoint_map]
  exact winR_disjoint h

theorem wins_intro (b : Bool) (f : Buf (Elt F) ((bufM b).view.loc (A.c : Thread nD τ))) :
    ((bufM b).view.loc (A.c : Thread nD τ) ↦[Finset.univ.biUnion (winS A b)]{fullShare} f : sProp 𝕄)
      ⊢ bigSep Finset.univ (Win A b) := by
  rw [pointsTo_biUnion Finset.univ (winS A b) fun t _ t' _ h => winS_disjoint b h]
  exact bigSep_mono fun t _ => exists_intro (Φ := fun f => ((bufM b).view.loc (A.c : Thread nD τ) ↦[winS A b t]{fullShare} f : sProp 𝕄)) f

/-- A buffer held whole is its windows and what lies between them. -/
theorem whole_split (b : Bool) : Whole A b ⊢ iprop(bigSep Finset.univ (Win A b) ∗ Gap A b) := by
  unfold Whole
  iintro ⟨%f, H⟩
  ihave H' := (pointsTo_split_subset (Finset.subset_univ (Finset.univ.biUnion (winS A b)))).1 $$ H
  icases H' with ⟨Hw, Hg⟩
  isplitl [Hw]
  · iapply (wins_intro (A := A) b f); iexact Hw
  · unfold Gap; iexists f; iexact Hg

/-- And they join to it. -/
theorem whole_join (b : Bool) : iprop(bigSep Finset.univ (Win A b) ∗ Gap A b) ⊢ Whole A b := by
  unfold Gap Whole
  iintro ⟨Hw, ⟨%g, Hg⟩⟩
  ihave Hw' := (show bigSep Finset.univ (Win A b)
      ⊢ (iprop(∃ f, (bufM b).view.loc (A.c : Thread nD τ) ↦[Finset.univ.biUnion (winS A b)]{fullShare} f) : sProp 𝕄) from
    Ring.pointsTo_sub_blocks_join_exists (winS A b) (fun t t' h => winS_disjoint b h) (Finset.univ.biUnion (winS A b)) rfl g) $$ Hw
  icases Hw' with ⟨%f, Hw⟩
  ihave H := (pointsTo_join (Finset.disjoint_sdiff)) $$ [Hw Hg]
  · isplitl [Hw]; · iexact Hw
    iexact Hg
  rw [Finset.union_sdiff_of_subset (Finset.subset_univ _)]
  iexists _; iexact H

/-- What all the copies of a fill take is the windows and the table. -/
theorem lend_all (b : Bool) : bigSep Finset.univ (Lend A b)
    ⊣⊢ iprop(bigSep Finset.univ (Win A b) ∗ (uvM.view.loc (A.c : Thread nD τ) ↦{fullShare} A.u)) := by
  rw [ShareLeaves.pointsTo_leaves Finset.univ A.u 10 fullShare]
  exact ⟨Entails.of_eq (bigSep_sep Finset.univ (Win A b) (Tab A)), Entails.of_eq (bigSep_sep Finset.univ (Win A b) (Tab A)).symm⟩

theorem own_both_of (b : Bool) : iprop(Blocks A ∗ Whole A b ∗ Whole A (!b)
      ∗ semVal ((A.c : Thread nD τ), SemLoc.dma (cellS b)) 0 ∗ semVal ((A.c : Thread nD τ), SemLoc.dma (cellS (!b))) 0
      ∗ (uvM.view.loc (A.c : Thread nD τ) ↦{fullShare} A.u)) ⊢ Own A .both := by
  cases b
  · exact .rfl
  · rw [own_both]
    iintro ⟨HB, H1, H0, S1, S0, HU⟩
    isplitl [HB]; · iexact HB
    isplitl [H0]; · iexact H0
    isplitl [H1]; · iexact H1
    isplitl [S0]; · iexact S0
    isplitl [S1]; · iexact S1
    iexact HU

theorem own_both_to (b : Bool) : Own A .both ⊢ iprop(Blocks A ∗ Whole A b ∗ Whole A (!b)
      ∗ semVal ((A.c : Thread nD τ), SemLoc.dma (cellS b)) 0 ∗ semVal ((A.c : Thread nD τ), SemLoc.dma (cellS (!b))) 0
      ∗ (uvM.view.loc (A.c : Thread nD τ) ↦{fullShare} A.u)) := by
  cases b
  · exact .rfl
  · rw [own_both]
    iintro ⟨HB, H0, H1, S0, S1, HU⟩
    isplitl [HB]; · iexact HB
    isplitl [H1]; · iexact H1
    isplitl [H0]; · iexact H0
    isplitl [S1]; · iexact S1
    isplitl [S0]; · iexact S0
    iexact HU

/-- A fill begins: its windows and the shares of the table are lent to it. -/
theorem Ok.begin {b : Bool} {p : Prog (TpuEff nD τ sig (Elt F) Λ₀ .tc) α} (hk : Ok A (.fill b 0) p Q) : Ok A .both p Q := by
  unfold Ok at hk ⊢
  refine wp_of_fupd _ _ _ ?_ hk
  refine (own_both_to b).trans ?_
  rw [own_fill]
  iintro ⟨HB, Hb, HO, HS, HC, Ht⟩
  imod (batch_alloc' countersEmb (A.c : Thread nD τ) () 256 (Lend A b) (sm := .dma (cellS b)) (E := Set.univ)) $$ HS with HS
  imodintro
  ihave H := whole_split (A := A) b $$ Hb
  icases H with ⟨Hw, HG⟩
  isplitl [HB]; · iexact HB
  isplitl [HO]; · iexact HO
  isplitl [HC]; · iexact HC
  isplitl [HG]; · iexact HG
  isplitl [HS]; · iexact HS
  rw [← bigSep_pending_zero]
  iapply (lend_all (A := A) b).2
  isplitl [Hw]; · iexact Hw
  iexact Ht

/-- A whole fill waited for: both buffers are held again, and the table. -/
theorem Ok.wait {b : Bool} {inb : ∀ a, (![0, 0] : Fin 2 → ℕ) a + S16384x128.size a ≤ S34816x128.size a}
    {hs : ∀ a, (Rect.unit (s := S34816x128) ![0, 0] S16384x128.size inb).stride a = 1}
    {S' : Shape} {e' : EltTy} {sp' : Space} {src : Memref sig .tc sp' S' e'} {hsrc : src.view.WordExact}
    {hdst : ((bufM b).slice (Rect.unit (s := S34816x128) ![0, 0] S16384x128.size inb) hs).view.WordExact}
    {k : PUnit → Prog (TpuEff nD τ sig (Elt F) Λ₀ .tc) α} (hk : Ok A .both (k ⟨⟩) Q) :
    Ok A (.fill b 1024) (Prog.lift (.waitDma2 (cellS b) src ((bufM b).slice (Rect.unit (s := S34816x128) ![0, 0] S16384x128.size inb) hs) hsrc hdst) >>= k) Q := by
  refine Ok.bind (R := fun s' _ => s' = .both) ?_ fun s' v e => e ▸ hk
  unfold Ok
  rw [own_fill]
  iintro ⟨HB, HO, HC, HG, HBt, -⟩
  unfold Blocks
  icases HB with ⟨H1, H2, H3, H4, H5, H6, H7, H9, ⟨%W, HW⟩⟩
  iapply (wp_waitBatchAll (k := .ret) (n := 2 ^ 10) (u := 0) (N := 256) (D := Lend A b) (W := W) countersEmb Variants.none (A.c : Thread nD τ) none () (credit_all b inb hs) (by decide) (by decide)) $$ [HBt HW]
  · isplitl [HBt]; · iexact HBt
    iexact HW
  iintro ⟨HD, HS, HW⟩
  rw [wp_ret]
  imodintro
  iexists .both
  isplitr
  · ipureintro; rfl
  ihave HD' := (lend_all (A := A) b).1 $$ HD
  icases HD' with ⟨Hw, Ht⟩
  ihave Hb := whole_join (A := A) b $$ [Hw HG]
  · isplitl [Hw] <;> iassumption
  iapply (own_both_of b)
  isplitl [H1 H2 H3 H4 H5 H6 H7 H9 HW]
  · unfold Blocks
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    iexists _; iexact HW
  isplitl [Hb]; · iexact Hb
  isplitl [HO]; · iexact HO
  isplitl [HS]; · iexact HS
  isplitl [HC]; · iexact HC
  iexact Ht

end Cert.Kernel.Gather

end
-- ==== Proof.Gather.Steps.lean ====
/-
  The steps of `Base`, in the forms the kernel's text has them: its copies to each of its two buffers, its waits, its calls.
-/
module

public import proofs.«01_k».proof.Proof.Gather.Base

@[expose] public section

noncomputable section

namespace Cert.Kernel.Gather

open Cert.Kernel Cert.Kernel.Gen
open Idealize.ShloMosaic Idealize.ShloMosaic.TcCoe
open Idealize.SL Idealize.SL.Sem

variable {F : FTy → Type} [FloatOps F]
variable {A : Ops F} {α β : Type} {s s' : St} {Q : St → α → Prop}

/-- A copy started to the first buffer. -/
theorem Ok.copy0 {j j' r : ℕ} {off : Fin 3 → ℕ} {inbS : ∀ a, off a + S1x16x128.size a ≤ S16384x16x128.size a}
    {hsS : ∀ a, (Rect.unit (s := S16384x16x128) off S1x16x128.size inbS).stride a = 1} {hq : S1x16x128.Squeezes S16x128}
    {inb : ∀ a, (![r, 0] : Fin 2 → ℕ) a + S16x128.size a ≤ S34816x128.size a}
    {hs : ∀ a, (Rect.unit (s := S34816x128) ![r, 0] S16x128.size inb).stride a = 1} {sm : DmaSem sig}
    {hsrc : ((uvM.slice (Rect.unit (s := S16384x16x128) off S1x16x128.size inbS) hsS).squeeze S16x128 hq).view.WordExact}
    {hdst : ((Memref.whole cc0_scratch0).slice (Rect.unit (s := S34816x128) ![r, 0] S16x128.size inb) hs).view.WordExact}
    {hsem : DmaTarget.Typed (nD := nD) .hbm (SemLoc.dma sm) (DmaTarget.here (nD := nD) (τ := τ) (p := Proc.tc) ((Memref.whole cc0_scratch0).slice (Rect.unit (s := S34816x128) ![r, 0] S16x128.size inb) hs))}
    {k : PUnit → Prog (TpuEff nD τ sig (Elt F) Λ₀ .tc) α}
    (hsm : sm = cellS false) (hr : (Nat.blt j 1024 && Nat.beq r (row j)) = true) (hj' : j' = j + 1) (hk : Ok A (.fill false j') (k ⟨⟩) Q) :
    Ok A (.fill false j) (Prog.lift (.enqueueDma ((uvM.slice (Rect.unit (s := S16384x16x128) off S1x16x128.size inbS) hsS).squeeze S16x128 hq)
      (.here ((Memref.whole cc0_scratch0).slice (Rect.unit (s := S34816x128) ![r, 0] S16x128.size inb) hs)) (.dma sm) hsrc hdst hsem) >>= k) Q := by
  subst hsm hj'
  rw [Bool.and_eq_true] at hr
  exact Ok.copy (b := false) (by simpa [Nat.blt_eq] using hr.1) (Nat.eq_of_beq_eq_true hr.2) hk

/-- A copy started to the second buffer. -/
theorem Ok.copy1 {j j' r : ℕ} {off : Fin 3 → ℕ} {inbS : ∀ a, off a + S1x16x128.size a ≤ S16384x16x128.size a}
    {hsS : ∀ a, (Rect.unit (s := S16384x16x128) off S1x16x128.size inbS).stride a = 1} {hq : S1x16x128.Squeezes S16x128}
    {inb : ∀ a, (![r, 0] : Fin 2 → ℕ) a + S16x128.size a ≤ S34816x128.size a}
    {hs : ∀ a, (Rect.unit (s := S34816x128) ![r, 0] S16x128.size inb).stride a = 1} {sm : DmaSem sig}
    {hsrc : ((uvM.slice (Rect.unit (s := S16384x16x128) off S1x16x128.size inbS) hsS).squeeze S16x128 hq).view.WordExact}
    {hdst : ((Memref.whole cc0_scratch1).slice (Rect.unit (s := S34816x128) ![r, 0] S16x128.size inb) hs).view.WordExact}
    {hsem : DmaTarget.Typed (nD := nD) .hbm (SemLoc.dma sm) (DmaTarget.here (nD := nD) (τ := τ) (p := Proc.tc) ((Memref.whole cc0_scratch1).slice (Rect.unit (s := S34816x128) ![r, 0] S16x128.size inb) hs))}
    {k : PUnit → Prog (TpuEff nD τ sig (Elt F) Λ₀ .tc) α}
    (hsm : sm = cellS true) (hr : (Nat.blt j 1024 && Nat.beq r (row j)) = true) (hj' : j' = j + 1) (hk : Ok A (.fill true j') (k ⟨⟩) Q) :
    Ok A (.fill true j) (Prog.lift (.enqueueDma ((uvM.slice (Rect.unit (s := S16384x16x128) off S1x16x128.size inbS) hsS).squeeze S16x128 hq)
      (.here ((Memref.whole cc0_scratch1).slice (Rect.unit (s := S34816x128) ![r, 0] S16x128.size inb) hs)) (.dma sm) hsrc hdst hsem) >>= k) Q := by
  subst hsm hj'
  rw [Bool.and_eq_true] at hr
  exact Ok.copy (b := true) (by simpa [Nat.blt_eq] using hr.1) (Nat.eq_of_beq_eq_true hr.2) hk

/-- The end of a fill of the first buffer. -/
theorem Ok.wait0 {inb : ∀ a, (![0, 0] : Fin 2 → ℕ) a + S16384x128.size a ≤ S34816x128.size a}
    {hs : ∀ a, (Rect.unit (s := S34816x128) ![0, 0] S16384x128.size inb).stride a = 1} {sm : DmaSem sig}
    {S' : Shape} {e' : EltTy} {sp' : Space} {src : Memref sig .tc sp' S' e'} {hsrc : src.view.WordExact}
    {hdst : ((Memref.whole cc0_scratch0).slice (Rect.unit (s := S34816x128) ![0, 0] S16384x128.size inb) hs).view.WordExact}
    {k : PUnit → Prog (TpuEff nD τ sig (Elt F) Λ₀ .tc) α} (hsm : sm = cellS false) (hk : Ok A .both (k ⟨⟩) Q) :
    Ok A (.fill false 1024) (Prog.lift (.waitDma2 sm src ((Memref.whole cc0_scratch0).slice (Rect.unit (s := S34816x128) ![0, 0] S16384x128.size inb) hs) hsrc hdst) >>= k) Q := by
  subst hsm
  exact Ok.wait (b := false) hk

/-- The end of a fill of the second buffer. -/
theorem Ok.wait1 {inb : ∀ a, (![0, 0] : Fin 2 → ℕ) a + S16384x128.size a ≤ S34816x128.size a}
    {hs : ∀ a, (Rect.unit (s := S34816x128) ![0, 0] S16384x128.size inb).stride a = 1} {sm : DmaSem sig}
    {S' : Shape} {e' : EltTy} {sp' : Space} {src : Memref sig .tc sp' S' e'} {hsrc : src.view.WordExact}
    {hdst : ((Memref.whole cc0_scratch1).slice (Rect.unit (s := S34816x128) ![0, 0] S16384x128.size inb) hs).view.WordExact}
    {k : PUnit → Prog (TpuEff nD τ sig (Elt F) Λ₀ .tc) α} (hsm : sm = cellS true) (hk : Ok A .both (k ⟨⟩) Q) :
    Ok A (.fill true 1024) (Prog.lift (.waitDma2 sm src ((Memref.whole cc0_scratch1).slice (Rect.unit (s := S34816x128) ![0, 0] S16384x128.size inb) hs) hsrc hdst) >>= k) Q := by
  subst hsm
  exact Ok.wait (b := true) hk

/-- A call whose result is forgotten. -/
theorem Ok.call {p : Prog (TpuEff nD τ sig (Elt F) Λ₀ .tc) β} {k : β → Prog (TpuEff nD τ sig (Elt F) Λ₀ .tc) α}
    (hp : Ok A s p (fun t _ => t = s')) (hk : ∀ r, Ok A s' (k r) Q) : Ok A s (p >>= k) Q :=
  Ok.bind hp fun _ r h => h ▸ hk r

/-- A call that yields a loaded row number: it is one of the table's. -/
theorem Ok.callWord {p : Prog (TpuEff nD τ sig (Elt F) Λ₀ .tc) (Elt F .i32)} {k : Elt F .i32 → Prog (TpuEff nD τ sig (Elt F) Λ₀ .tc) α}
    (hp : Ok A s p (fun t r => t = s' ∧ BitVec.toNat r < 16384)) (hk : ∀ r : Elt F .i32, BitVec.toNat r < 16384 → Ok A s' (k r) Q) :
    Ok A s (p >>= k) Q :=
  Ok.bind hp fun _ r h => h.1 ▸ hk r h.2

/-- A call that yields five vectors and a loaded row number. -/
theorem Ok.callWord5 {X : Type} {p : Prog (TpuEff nD τ sig (Elt F) Λ₀ .tc) (Σ' (_ : X) (_ : X) (_ : X) (_ : X) (_ : X), Elt F .i32)}
    {k : (Σ' (_ : X) (_ : X) (_ : X) (_ : X) (_ : X), Elt F .i32) → Prog (TpuEff nD τ sig (Elt F) Λ₀ .tc) α}
    (hp : Ok A s p (fun t r => t = s' ∧ BitVec.toNat r.2.2.2.2.2 < 16384))
    (hk : ∀ (x1 x2 x3 x4 x5 : X) (r : Elt F .i32), BitVec.toNat r < 16384 → Ok A s' (k ⟨x1, x2, x3, x4, x5, r⟩) Q) :
    Ok A s (p >>= k) Q :=
  Ok.bind hp fun _ r h => h.1 ▸ hk r.1 r.2.1 r.2.2.1 r.2.2.2.1 r.2.2.2.2.1 r.2.2.2.2.2 h.2

/-- A program that ends with its result is one that goes on with it to the end. -/
theorem Ok.tail {p : Prog (TpuEff nD τ sig (Elt F) Λ₀ .tc) α} (h : Ok A s (p >>= pure) Q) : Ok A s p Q := by
  rwa [bind_pure] at h

/-- A row number read last. -/
theorem Ok.wordEnd {r : Rect S16x128} {h1 : r.shape.numel = 1} {hp : EltTy.i32.packing = 1} {Q : St → Elt F .i32 → Prop}
    (h : ∀ v : Elt F .i32, BitVec.toNat v < 16384 → Q s v) : Ok A s (smemLoad A.a3 r h1 hp) Q :=
  Ok.tail (Ok.word3 fun v hv => Ok.ret (h v hv))

/-- A vector loaded last. -/
theorem Ok.loadEnd {sp : CoreSpace} {S : Shape} {e : EltTy} {m : Memref sig .tc sp S e} {r : LoadRect S} {hl : m.view.LoadsAt r}
    {Q : St → (r.shape.Idx → Elt F e) → Prop} (hm : Has A s m) (h : ∀ v, Q s v) : Ok A s (Prog.lift (.load m r hl)) Q :=
  Ok.tail (Ok.load hm fun v => Ok.ret (h v))

end Cert.Kernel.Gather

end
-- ==== Proof.Gather.Part257.lean ====
/-
  A quarter of the first fill, which only the first step of the grid makes: the copies that its own table of row numbers names.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A quarter of the first fill, which only the first step of the grid makes: the copies that its own table of row numbers names. -/
theorem part257 (h : k0_cond1 A.i = 1#1) :
    Ok A (.fill false 0) (k0_part257 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 h) (fun t _ => t = .fill false 240) := by
  repeat (first
    | (apply Ok.word1 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part258.lean ====
/-
  A quarter of the first fill, which only the first step of the grid makes: the copies that its own table of row numbers names.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A quarter of the first fill, which only the first step of the grid makes: the copies that its own table of row numbers names. -/
theorem part258 (h : k0_cond1 A.i = 1#1) :
    Ok A (.fill false 240) (k0_part258 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 h) (fun t _ => t = .fill false 480) := by
  repeat (first
    | (apply Ok.word1 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part259.lean ====
/-
  A quarter of the first fill, which only the first step of the grid makes: the copies that its own table of row numbers names.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A quarter of the first fill, which only the first step of the grid makes: the copies that its own table of row numbers names. -/
theorem part259 (h : k0_cond1 A.i = 1#1) :
    Ok A (.fill false 480) (k0_part259 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 h) (fun t _ => t = .fill false 720) := by
  repeat (first
    | (apply Ok.word1 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part260.lean ====
/-
  A quarter of the first fill, which only the first step of the grid makes: the copies that its own table of row numbers names.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A quarter of the first fill, which only the first step of the grid makes: the copies that its own table of row numbers names. -/
theorem part260 (h : k0_cond1 A.i = 1#1) :
    Ok A (.fill false 720) (k0_part260 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 h) (fun t _ => t = .fill false 960) := by
  repeat (first
    | (apply Ok.word1 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Begin.lean ====
module

public import proofs.«01_k».proof.Proof.Gather.Part257
public import proofs.«01_k».proof.Proof.Gather.Part258
public import proofs.«01_k».proof.Proof.Gather.Part259
public import proofs.«01_k».proof.Proof.Gather.Part260

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- The state a step of the grid starts from: at the first nothing is under way, later the first buffer is being filled. -/
def start (A : Ops F) : St := if k0_cond1 A.i = 1#1 then .both else .fill false 1024

/-- The beginning of a step: its first fill if it is the first step, the end of that fill, and the first of the next copies. -/
theorem part261 : Ok A (start A) (k0_part261 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2)
    (fun t r => t = .fill true 1 ∧ r.1 = BitVec.ofNat 32 (A.i 0).val) := by
  unfold start k0_part261
  refine (show Ok A _ (dite (k0_cond1 A.i = 1#1) _ _) _ from ?_)
  by_cases h : k0_cond1 A.i = 1#1
  · rw [if_pos h, dif_pos h]
    refine Ok.begin (b := false) ?_
    refine Ok.call (part257 A h) fun _ => Ok.call (part258 A h) fun _ => Ok.call (part259 A h) fun _ => Ok.call (part260 A h) fun _ => ?_
    repeat (first
      | (apply Ok.word1 (A := A); intro v hv) | (apply Ok.word2 (A := A); intro v hv)
      | (refine Ok.check (A := A) (by first | exact inb_of (by assumption) | exact fun _ => inb_of (by assumption)) ?_)
      | (refine Ok.copy0 (A := A) rfl rfl (by simp only [Nat.reduceAdd]; rfl) ?_)
      | (refine Ok.copy1 (A := A) rfl rfl (by simp only [Nat.reduceAdd]; rfl) ?_)
      | (refine Ok.load (A := A) (by first | with_reducible exact has10 _ | with_reducible exact has11 _ | with_reducible exact reads4.has | with_reducible exact reads5.has | with_reducible exact reads6.has | with_reducible exact reads7.has | with_reducible exact has9) fun v => ?_)
      | (refine Ok.wait0 (A := A) rfl (Ok.begin (b := true) ?_))
      | (refine Ok.ret (A := A) ?_; first | rfl | exact ⟨rfl, rfl⟩)
      | (apply Ok.call (A := A)) | (intro r))
  · rw [if_neg h, dif_neg h]
    repeat (first
      | (apply Ok.word1 (A := A); intro v hv) | (apply Ok.word2 (A := A); intro v hv)
      | (refine Ok.check (A := A) (by first | exact inb_of (by assumption) | exact fun _ => inb_of (by assumption)) ?_)
      | (refine Ok.copy0 (A := A) rfl rfl (by simp only [Nat.reduceAdd]; rfl) ?_)
      | (refine Ok.copy1 (A := A) rfl rfl (by simp only [Nat.reduceAdd]; rfl) ?_)
      | (refine Ok.load (A := A) (by first | with_reducible exact has10 _ | with_reducible exact has11 _ | with_reducible exact reads4.has | with_reducible exact reads5.has | with_reducible exact reads6.has | with_reducible exact reads7.has | with_reducible exact has9) fun v => ?_)
      | (refine Ok.wait0 (A := A) rfl (Ok.begin (b := true) ?_))
      | (refine Ok.ret (A := A) ?_; first | rfl | exact ⟨rfl, rfl⟩)
      | (apply Ok.call (A := A)) | (intro r))

end Cert.Kernel.Gather

end
-- ==== Proof.Gather.Part879.lean ====
module

public import proofs.«01_k».proof.Proof.Gather.Begin

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- The first stretch of a step: its beginning, and the first copies that the second table of row numbers names. -/
theorem part879 : Ok A (start A) (k0_part879 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2)
    (fun t r => t = .fill true 210 ∧ r.1 = BitVec.ofNat 32 (A.i 0).val) := by
  unfold k0_part879
  refine Ok.bind (part261 A) ?_
  rintro _ ⟨arg0, v3, v17, v18, v20⟩ ⟨rfl, h⟩
  dsimp only at h
  subst h
  repeat (first
    | (apply Ok.word2 (A := A); intro v hv)
    | (refine Ok.check (A := A) (by first | exact inb_of (by assumption) | exact fun _ => inb_of (by assumption)) ?_)
    | (refine Ok.copy1 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, rfl⟩)
    | (apply Ok.call (A := A)) | (intro r))

end Cert.Kernel.Gather

end
-- ==== Proof.Gather.Part880.lean ====
/-
  A stretch of the copies that the second table of row numbers names, among the arithmetic on the rows of the first.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the second table of row numbers names, among the arithmetic on the rows of the first. -/
theorem part880 (v17 : FVec F S32x2048 .f32) (v18 : IVec S128x32 32) (v20 : FVec F S128x32 .f32) (v1558 : Elt F .i32) (k0_hw1235 : k0_chk1235 v1558) :
    Ok A (.fill true 210) (k0_part880 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v1558 k0_hw1235) (fun t _ => t = .fill true 398) := by
  repeat (first
    | (apply Ok.word2 (A := A); intro v hv)
    | (refine Ok.check (A := A) (by first | exact inb_of (by assumption) | exact fun _ => inb_of (by assumption)) ?_)
    | (refine Ok.copy1 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part881.lean ====
/-
  A stretch of the copies that the second table of row numbers names, among the arithmetic on the rows of the first.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the second table of row numbers names, among the arithmetic on the rows of the first. -/
theorem part881 (v17 : FVec F S32x2048 .f32) (v18 : IVec S128x32 32) (v20 : FVec F S128x32 .f32) (v3232 : Elt F .i32) (k0_hw1423 : k0_chk1423 v3232) :
    Ok A (.fill true 398) (k0_part881 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v3232 k0_hw1423) (fun t _ => t = .fill true 611) := by
  repeat (first
    | (apply Ok.word2 (A := A); intro v hv)
    | (refine Ok.check (A := A) (by first | exact inb_of (by assumption) | exact fun _ => inb_of (by assumption)) ?_)
    | (refine Ok.copy1 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part882.lean ====
/-
  A stretch of the copies that the second table of row numbers names, among the arithmetic on the rows of the first.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the second table of row numbers names, among the arithmetic on the rows of the first. -/
theorem part882 (v17 : FVec F S32x2048 .f32) (v18 : IVec S128x32 32) (v20 : FVec F S128x32 .f32) (v4787 : Elt F .i32) (k0_hw1636 : k0_chk1636 v4787) :
    Ok A (.fill true 611) (k0_part882 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v4787 k0_hw1636) (fun t _ => t = .fill true 799) := by
  repeat (first
    | (apply Ok.word2 (A := A); intro v hv)
    | (refine Ok.check (A := A) (by first | exact inb_of (by assumption) | exact fun _ => inb_of (by assumption)) ?_)
    | (refine Ok.copy1 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part883.lean ====
/-
  A stretch of the copies that the second table of row numbers names, among the arithmetic on the rows of the first.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the second table of row numbers names, among the arithmetic on the rows of the first. -/
theorem part883 (v17 : FVec F S32x2048 .f32) (v18 : IVec S128x32 32) (v20 : FVec F S128x32 .f32) (v6461 : Elt F .i32) (k0_hw1824 : k0_chk1824 v6461) :
    Ok A (.fill true 799) (k0_part883 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v6461 k0_hw1824) (fun t _ => t = .fill true 1013) := by
  repeat (first
    | (apply Ok.word2 (A := A); intro v hv)
    | (refine Ok.check (A := A) (by first | exact inb_of (by assumption) | exact fun _ => inb_of (by assumption)) ?_)
    | (refine Ok.copy1 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part884.lean ====
/-
  The last copies of the second fill, its end, and the first copies of the third.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- The last copies of the second fill, its end, and the first copies of the third. -/
theorem part884 (v17 : FVec F S32x2048 .f32) (v18 : IVec S128x32 32) (v20 : FVec F S128x32 .f32) (v8018 : Elt F .i32) (k0_hw2038 : k0_chk2038 v8018) :
    Ok A (.fill true 1013) (k0_part884 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v8018 k0_hw2038) (fun t _ => t = .fill false 176) := by
  repeat (first
    | (apply Ok.word2 (A := A); intro v hv)
    | (apply Ok.word3 (A := A); intro v hv)
    | (refine Ok.check (A := A) (by first | exact inb_of (by assumption) | exact fun _ => inb_of (by assumption)) ?_)
    | (refine Ok.copy1 (A := A) rfl rfl (by simp only [Nat.reduceAdd]; rfl) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.wait1 (A := A) rfl (Ok.begin (b := false) ?_))
    | (apply Ok.wordEnd (A := A); exact fun v hv => ⟨rfl, hv⟩)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.callWord5 (A := A)) | (apply Ok.callWord (A := A))
    | (apply Ok.call (A := A)) | (intro r))

end Cert.Kernel.Gather

end
-- ==== Proof.Gather.Part885.lean ====
/-
  A stretch of the copies that the third table of row numbers names, among the arithmetic on the rows of the second.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the third table of row numbers names, among the arithmetic on the rows of the second. -/
theorem part885 (v17 : FVec F S32x2048 .f32) (v18 : IVec S128x32 32) (v20 : FVec F S128x32 .f32) :
    Ok A (.fill false 176) (k0_part885 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20) (fun t _ => t = .fill false 384) := by
  repeat (first
    | (apply Ok.word3 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part886.lean ====
/-
  A stretch of the copies that the third table of row numbers names, among the arithmetic on the rows of the second.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the third table of row numbers names, among the arithmetic on the rows of the second. -/
theorem part886 (v17 : FVec F S32x2048 .f32) (v18 : IVec S128x32 32) (v20 : FVec F S128x32 .f32) (v11277 : FVec F S128x128 .f32) :
    Ok A (.fill false 384) (k0_part886 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v11277) (fun t _ => t = .fill false 577) := by
  repeat (first
    | (apply Ok.word3 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part887.lean ====
/-
  A stretch of the copies that the third table of row numbers names, among the arithmetic on the rows of the second.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the third table of row numbers names, among the arithmetic on the rows of the second. -/
theorem part887 (v17 : FVec F S32x2048 .f32) (v18 : IVec S128x32 32) (v20 : FVec F S128x32 .f32) :
    Ok A (.fill false 577) (k0_part887 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20) (fun t _ => t = .fill false 768) := by
  repeat (first
    | (apply Ok.word3 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Part888.lean ====
/-
  A stretch of the copies that the third table of row numbers names, among the arithmetic on the rows of the second.
-/
module

public import proofs.«01_k».proof.Proof.Gather.Steps

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A stretch of the copies that the third table of row numbers names, among the arithmetic on the rows of the second. -/
theorem part888 (v17 : FVec F S32x2048 .f32) (v18 : IVec S128x32 32) (v20 : FVec F S128x32 .f32) (v14485 : FVec F S128x1 .f32) (v14493 : FVec F S1x128 .f32) (v14501 : FVec F S1x128 .f32) (v14509 : FVec F S1x128 .f32) (v14517 : FVec F S1x128 .f32) (v14525 : FVec F S1x128 .f32) (v14533 : FVec F S1x128 .f32) (v14541 : FVec F S1x128 .f32) (v14549 : FVec F S1x128 .f32) (v14557 : FVec F S1x128 .f32) (v14565 : FVec F S1x128 .f32) (v14573 : FVec F S1x128 .f32) (v14581 : FVec F S1x128 .f32) :
    Ok A (.fill false 768) (k0_part888 A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2 v17 v18 v20 v14485 v14493 v14501 v14509 v14517 v14525 v14533 v14541 v14549 v14557 v14565 v14573 v14581) (fun t _ => t = .fill false 978) := by
  repeat (first
    | (apply Ok.word3 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))

end Cert.Kernel.Gather

end
-- ==== Proof.Gather.Top.lean ====
module

public import proofs.«01_k».proof.Proof.Gather.Part879
public import proofs.«01_k».proof.Proof.Gather.Part880
public import proofs.«01_k».proof.Proof.Gather.Part881
public import proofs.«01_k».proof.Proof.Gather.Part882
public import proofs.«01_k».proof.Proof.Gather.Part883
public import proofs.«01_k».proof.Proof.Gather.Part884
public import proofs.«01_k».proof.Proof.Gather.Part885
public import proofs.«01_k».proof.Proof.Gather.Part886
public import proofs.«01_k».proof.Proof.Gather.Part887
public import proofs.«01_k».proof.Proof.Gather.Part888

@[expose] public section

set_option maxHeartbeats 4000000

noncomputable section

namespace Cert.Kernel.Gather

open Cert.Kernel Cert.Kernel.Gen
open Idealize.ShloMosaic Idealize.ShloMosaic.TcCoe
open Idealize.SL Idealize.SL.Sem

attribute [local irreducible] smemLoad Prog.lift Ok

variable {F : FTy → Type} [FloatOps F] (A : Ops F)

/-- A choice between two continuations, each of which does as it should. -/
theorem Ok.branch {A : Ops F} {s : St} {α : Type} {Q : St → α → Prop} {c : Prop} [Decidable c] {p : c → Prog (TpuEff nD τ sig (Elt F) Λ₀ .tc) α}
    {q : ¬c → Prog (TpuEff nD τ sig (Elt F) Λ₀ .tc) α} (hp : ∀ h, Ok A s (p h) Q) (hq : ∀ h, Ok A s (q h) Q) : Ok A s (dite c p q) Q := by
  by_cases h : c
  · rw [dif_pos h]; exact hp h
  · rw [dif_neg h]; exact hq h

/-- Whether a step of the grid is the last. -/
def last (i : grid0.Coords) : BitVec 1 :=
  Scalar.cmpi .ne (Scalar.extui (Scalar.cmpi .eq (BitVec.ofNat 32 (i 0).val) 31#32)) 0#32

/-- The state a step of the grid ends in: after the last nothing is under way, before it the first buffer is being filled. -/
def stop (A : Ops F) : St := if last A.i = 1#1 then .both else .fill false 1024

/-- One step of the grid: it ends in `stop` when it began in `start`. -/
theorem body : Ok A (start A) (cc0_peer_gather A.i A.a1 A.h1 A.a2 A.h2 A.a3 A.h3 A.a4 A.h4 A.a5 A.h5 A.a6 A.h6 A.a7 A.h7 uvM (Memref.isWhole_whole _)
      A.a9 A.h9 (Memref.whole cc0_scratch0) (Memref.isWhole_whole _) (Memref.whole cc0_scratch1) (Memref.isWhole_whole _) cc0_scratch2)
    (fun t _ => t = stop A) := by
  unfold cc0_peer_gather
  refine Ok.bind (part879 A) ?_
  rintro _ ⟨arg0, v3, v17, v18, v20, v1065, v1558, hw⟩ ⟨rfl, h⟩
  dsimp only at h
  subst h
  refine Ok.call (s' := .fill true 398) (by apply part880) fun r880 => ?_
  refine Ok.call (s' := .fill true 611) (by apply part881) fun r881 => ?_
  refine Ok.call (s' := .fill true 799) (by apply part882) fun r882 => ?_
  refine Ok.call (s' := .fill true 1013) (by apply part883) fun r883 => ?_
  refine Ok.call (s' := .fill false 176) (by apply part884) fun r884 => ?_
  refine Ok.call (s' := .fill false 384) (by apply part885) fun r885 => ?_
  refine Ok.call (s' := .fill false 577) (by apply part886) fun r886 => ?_
  refine Ok.call (s' := .fill false 768) (by apply part887) fun r887 => ?_
  refine Ok.call (s' := .fill false 978) (by apply part888) fun r888 => ?_
  repeat (first
    | (apply Ok.word3 (A := A); intro v hv)
    | (refine Ok.check (A := A) (by first | exact inb_of (by assumption) | exact fun _ => inb_of (by assumption)) ?_)
    | (refine Ok.copy0 (A := A) rfl rfl (by simp only [Nat.reduceAdd]; rfl) ?_)
    | (refine Ok.load (A := A) (by first | with_reducible exact has10 _ | with_reducible exact has11 _ | with_reducible exact reads4.has | with_reducible exact reads5.has | with_reducible exact reads6.has | with_reducible exact reads7.has | with_reducible exact has9) fun v => ?_)
    | (refine Ok.store (A := A) ?_)
    | (refine Ok.loadEnd (A := A) (by first | with_reducible exact has10 _ | with_reducible exact has11 _ | with_reducible exact reads4.has | with_reducible exact reads5.has | with_reducible exact reads6.has | with_reducible exact reads7.has | with_reducible exact has9) fun v => rfl)
    | (refine Ok.ret (A := A) ?_; first | rfl | exact ⟨rfl, by assumption⟩)
    | (apply Ok.call (A := A)) | (intro r))
  unfold stop
  refine Ok.branch (c := last A.i = 1#1) (fun h => ?_) (fun h => ?_)
  · rw [if_pos h]
    exact Ok.wait0 (A := A) rfl (Ok.ret rfl)
  · rw [if_neg h]
    exact Ok.ret rfl

end Cert.Kernel.Gather

end
-- ==== Proof.Gather.Launch.lean ====
/-
  The gather's frame: one step of the grid (`body`) as the pipeline's obligation, and the launch.
-/
module

public import proofs.«01_k».proof.Proof.Gather.Top
public import Idealize.ShloMosaic.Lib.Pipeline.Frame

@[expose] public section

set_option maxRecDepth 16384

noncomputable section

namespace Cert.Kernel.Gather

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- Every row number the kernel is given is a row of the table. -/
def InTable : Prop := ∀ (c : Dev nD) (j : S17408x128.Idx), BitVec.toNat (m ((c : Thread nD τ).loc main_arg2) j) < 16384

variable {m} (hr : InTable m)

/-! ## The operands of each step -/

include hr in
theorem range0 (c : Dev nD) (t : Fin cfg0.N) (j : S16x128.Idx) : BitVec.toNat (iblk m c 0 t j) < 16384 := by
  show BitVec.toNat (V m c main_arg2 _) < 16384
  rw [V_main_arg2]; exact hr c _

include hr in
theorem range1 (c : Dev nD) (t : Fin cfg0.N) (j : S16x128.Idx) : BitVec.toNat (iblk m c 1 t j) < 16384 := by
  show BitVec.toNat (V m c main_arg2 _) < 16384
  rw [V_main_arg2]; exact hr c _

include hr in
theorem range2 (c : Dev nD) (t : Fin cfg0.N) (j : S16x128.Idx) : BitVec.toNat (iblk m c 2 t j) < 16384 := by
  show BitVec.toNat (V m c main_arg2 _) < 16384
  rw [V_main_arg2]; exact hr c _

/-- The operands the pipeline runs step `t` with. -/
def ops (c : Dev nD) (t : Fin cfg0.N) : Ops F where
  c := c
  i := grid0.coords t
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a9 := win0_7.stage (cfg0.slots t 7)
  h9 := hstage0_7 ((cfg0.slots t 7).cast nbuf0_7)
  x1 := iblk m c 0 t
  x2 := iblk m c 1 t
  x3 := iblk m c 2 t
  x4 := iblk m c 3 t
  x5 := iblk m c 4 t
  x6 := iblk m c 5 t
  x7 := iblk m c 6 t
  r1 := range0 hr c t
  r2 := range1 hr c t
  r3 := range2 hr c t
  u := V m c main_arg4

/-! ## What is under way between the steps -/

/-- Before step `k`: at both ends nothing is under way, between them the first buffer's fill. -/
def at_ (k : ℕ) : St := if k = 0 ∨ k = 32 then .both else .fill false 1024

theorem cond1_iff : ∀ t : Fin grid0.N, k0_cond1 (grid0.coords t) = 1#1 ↔ t.val = 0 := by decide +kernel
theorem last_iff : ∀ t : Fin grid0.N, last (grid0.coords t) = 1#1 ↔ t.val = 31 := by decide +kernel

theorem start_ops (c : Dev nD) (t : Fin cfg0.N) : start (ops hr c t) = at_ t.val := by
  have ht : t.val < 32 := lt_of_lt_of_eq t.isLt N_0
  have h : k0_cond1 (ops hr c t).i = 1#1 ↔ t.val = 0 := cond1_iff t
  unfold start at_
  refine if_congr (h.trans ?_) rfl rfl
  omega

theorem stop_ops (c : Dev nD) (t : Fin cfg0.N) : stop (ops hr c t) = at_ (t.val + 1) := by
  have h : last (ops hr c t).i = 1#1 ↔ t.val = 31 := last_iff t
  unfold stop at_
  refine if_congr (h.trans ?_) rfl rfl
  omega

/-- What the core holds before step `k` beside the staged blocks. -/
def held (c : Dev nD) (k : ℕ) : sProp 𝕄 :=
  iprop((∃ r, prngReg c r) ∗ Rest (ops hr c ⟨0, by rw [show cfg0.N = 32 from N_0]; decide⟩) (at_ k))

theorem rest_ops (c : Dev nD) (t t' : Fin cfg0.N) (s : St) : Rest (ops hr c t) s = Rest (ops hr c t') s := by
  cases s <;> rfl

/-! ## The kernel's own semaphores, and the table it copies from -/

/-- The two semaphores' numbers. -/
abbrev osem0 : Fin 2 → SemLoc sig := fun j => (![SemLoc.dma 13, SemLoc.dma 14] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0) := by
  rw [Pipeline.ownSems0_eq_of_list c osem0 [0, 1] (by decide) (by decide)]; rfl

/-- The table, left in HBM. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = ((c : Thread nD τ).loc main_arg4 ↦{fullShare} V m c main_arg4) := by
  rw [BI.bigSep_eq_bigSepL_of_eq [main_arg4] (by decide) (by decide)]; rfl

theorem cellS_false : SemLoc.dma (cellS false) = (SemLoc.dma 13 : SemLoc sig) := by decide
theorem cellS_true : SemLoc.dma (cellS true) = (SemLoc.dma 14 : SemLoc sig) := by decide

/-- What the launch hands over, conjunct by conjunct. -/
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (∃ r, prngReg c r)
          ∗ (semVal ((c : Thread nD τ), SemLoc.dma 13) 0 ∗ semVal ((c : Thread nD τ), SemLoc.dma 14) 0)
          ∗ ((c : Thread nD τ).loc main_arg4 ↦{fullShare} V m c main_arg4)) := by
  rw [Pipeline.ΦD_eq, scopedRest0_eq, ownSems00_eq, hbmPts0_eq]

/-- With nothing under way the core holds what the launch hands over. -/
theorem held_both (c : Dev nD) (k : ℕ) (h : at_ k = .both) : held hr c k =
    iprop((∃ r, prngReg c r)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ semVal ((c : Thread nD τ), SemLoc.dma 13) 0 ∗ semVal ((c : Thread nD τ), SemLoc.dma 14) 0
      ∗ ((c : Thread nD τ).loc main_arg4 ↦{fullShare} V m c main_arg4)) := by
  unfold held; rw [h]
  unfold Rest Whole
  dsimp only
  rw [cellS_false, cellS_true]; rfl

theorem held_in (c : Dev nD) (k : ℕ) (h : at_ k = .both) : Pipeline.ΦD osem0 spec0 H0 (V m) c ⊢ held hr c k := by
  rw [held_both hr c k h, PhiD0_eq]
  iintro ⟨⟨H0, H1⟩, Hg, ⟨Hq0, Hq1⟩, Hh⟩
  isplitl [Hg]; · iexact Hg
  isplitl [H0]; · iexact H0
  isplitl [H1]; · iexact H1
  isplitl [Hq0]; · iexact Hq0
  isplitl [Hq1]; · iexact Hq1
  iexact Hh

theorem held_out (c : Dev nD) (k : ℕ) (h : at_ k = .both) : held hr c k ⊢ Pipeline.ΦD osem0 spec0 H0 (V m) c := by
  rw [held_both hr c k h, PhiD0_eq]
  iintro ⟨Hg, H0, H1, Hq0, Hq1, Hh⟩
  isplitl [H0 H1]
  · isplitl [H0]; · iexact H0
    iexact H1
  isplitl [Hg]; · iexact Hg
  isplitl [Hq0 Hq1]
  · isplitl [Hq0]; · iexact Hq0
    iexact Hq1
  iexact Hh

/-! ## The proof data and the body obligation -/

/-- The output's window, of whose contents nothing is said. -/
def forgets0 : Fin 8 → Bool := fun w => decide (w = 7)

/-- What the body leaves in each window: the inputs as found, the output unnamed. -/
def left (c : Dev nD) : (w : Fin cfg0.W) → Fin cfg0.N → (cfg0.win w).block.Idx → Elt F (cfg0.win w).elt
  | ⟨0, _⟩ => fun t => iblk m c 0 t
  | ⟨1, _⟩ => fun t => iblk m c 1 t
  | ⟨2, _⟩ => fun t => iblk m c 2 t
  | ⟨3, _⟩ => fun t => iblk m c 3 t
  | ⟨4, _⟩ => fun t => iblk m c 4 t
  | ⟨5, _⟩ => fun t => iblk m c 5 t
  | ⟨6, _⟩ => fun t => iblk m c 6 t
  | ⟨k + 7, h⟩ => fun t => Pipeline.Dat.unnamed (cfg := cfg0) (Val := Elt F) ⟨k + 7, h⟩ t

/-- The proof data on core `c`. -/
def dats (_ : Fin 1) (c : Dev nD) : Dat τ (Elt F) Unit ℕ (Pipeline.UD sig nD τ) ℕ cfg0 c where
  A w := V m c (Pipeline.arrRef spec0 w)
  after := left (m := m) c
  Φ k := held hr c k.val
  q w := Pipeline.shareOf spec0 w
  owed _ := 0

theorem A_eq (c : Dev nD) (w : Fin cfg0.W) : (dats hr 0 c).A w = V m c (Pipeline.arrRef spec0 w) := by dsimp only [dats]

section Before
variable {c : Dev nD} (dat : Dat τ (Elt F) Unit ℕ (Pipeline.UD sig nD τ) ℕ cfg0 c)

/- An input window's buffer holds its block at every step, fetched there or not: a lemma for each window. -/

theorem before0 (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4 (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5 (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6 (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Before

/-- What the core holds at the start of step `t`, spelled by the staged blocks. -/
def bodyPre (c : Dev nD) (t : Fin cfg0.N) : sProp 𝕄 :=
  iprop(held hr c t.val ∗ (dats hr 0 c).owesAt () t.castSucc
    ∗ owns (c : Thread nD τ) (ops hr c t).a1 fullShare (ops hr c t).x1 ∗ owns (c : Thread nD τ) (ops hr c t).a2 fullShare (ops hr c t).x2
    ∗ owns (c : Thread nD τ) (ops hr c t).a3 fullShare (ops hr c t).x3 ∗ owns (c : Thread nD τ) (ops hr c t).a4 fullShare (ops hr c t).x4
    ∗ owns (c : Thread nD τ) (ops hr c t).a5 fullShare (ops hr c t).x5 ∗ owns (c : Thread nD τ) (ops hr c t).a6 fullShare (ops hr c t).x6
    ∗ owns (c : Thread nD τ) (ops hr c t).a7 fullShare (ops hr c t).x7 ∗ (∃ X, owns (c : Thread nD τ) (ops hr c t).a9 fullShare X))
/-- What it holds at the end of it. -/
def bodyPost (c : Dev nD) (t : Fin cfg0.N) : sProp 𝕄 :=
  iprop(held hr c (t.val + 1) ∗ (dats hr 0 c).owesAt () t.succ
    ∗ owns (c : Thread nD τ) (ops hr c t).a1 fullShare (ops hr c t).x1 ∗ owns (c : Thread nD τ) (ops hr c t).a2 fullShare (ops hr c t).x2
    ∗ owns (c : Thread nD τ) (ops hr c t).a3 fullShare (ops hr c t).x3 ∗ owns (c : Thread nD τ) (ops hr c t).a4 fullShare (ops hr c t).x4
    ∗ owns (c : Thread nD τ) (ops hr c t).a5 fullShare (ops hr c t).x5 ∗ owns (c : Thread nD τ) (ops hr c t).a6 fullShare (ops hr c t).x6
    ∗ owns (c : Thread nD τ) (ops hr c t).a7 fullShare (ops hr c t).x7 ∗ (∃ X, owns (c : Thread nD τ) (ops hr c t).a9 fullShare X))

/-- The start of a step is the state the kernel's step begins in. -/
theorem pre_own (c : Dev nD) (t : Fin cfg0.N) :
    bodyPre hr c t ⊢ iprop((∃ r, prngReg c r) ∗ Own (ops hr c t) (start (ops hr c t))) := by
  rw [start_ops, own_eq]
  unfold bodyPre held Blocks Dat.owesAt Pipeline.owesWithin
  rw [rest_ops hr c _ t, show (dats hr 0 c).owed t.castSucc = 0 from rfl, show (ops hr c t).c = c from rfl]
  iintro ⟨⟨Hg, HR⟩, ⟨%W, %hW, HO⟩, H1, H2, H3, H4, H5, H6, H7, H9⟩
  isplitl [Hg]; · iexact Hg
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    iexists W; iexact HO
  · iexact HR

/-- The state the kernel's step ends in is the end of the step. -/
theorem own_post (c : Dev nD) (t : Fin cfg0.N) :
    iprop((∃ r, prngReg c r) ∗ Own (ops hr c t) (stop (ops hr c t))) ⊢ bodyPost hr c t := by
  rw [stop_ops, own_eq]
  unfold bodyPost held Blocks Dat.owesAt Pipeline.owesWithin
  rw [rest_ops hr c _ t, show (dats hr 0 c).owed t.succ = 0 from rfl, show (ops hr c t).c = c from rfl]
  iintro ⟨Hg, ⟨H1, H2, H3, H4, H5, H6, H7, H9, ⟨%W, HO⟩⟩, HR⟩
  isplitl [Hg HR]
  · isplitl [Hg]; · iexact Hg
    iexact HR
  isplitl [HO]
  · iexists W; isplitr; · ipureintro; exact fun _ _ => Or.inl trivial
    iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H9

/-- The kernel's step from a step's start to its end. -/
theorem sound_body (c : Dev nD) (t : Fin cfg0.N) :
    bodyPre hr c t ⊢ wp frame (wpE (defs₀ (F := F)) Variants.none c none) Set.univ (bodyAt0 t) (fun _ => bodyPost hr c t) := by
  have h := body (ops hr c t)
  unfold Ok at h
  have h' : Own (ops hr c t) (start (ops hr c t)) ⊢ wp frame (wpE (defs₀ (F := F)) Variants.none c none) Set.univ (bodyAt0 t)
      (fun r => iprop(∃ s', ⌜s' = stop (ops hr c t)⌝ ∗ Own (ops hr c t) s')) := h
  refine BIBase.Entails.trans (pre_own hr c t) ?_
  refine BIBase.Entails.trans (sep_mono .rfl h') ?_
  refine BIBase.Entails.trans (wp_frame_l _ _ _) (wp_mono _ _ _ fun r => ?_)
  iintro ⟨Hg, ⟨%s', %hs, H⟩⟩
  subst hs
  iapply (own_post hr c t)
  isplitl [Hg]; · iexact Hg
  iexact H

/-- The body table's row at the step is the kernel's body. -/
theorem defs₀_row (t : Fin cfg0.N) : defs₀ (F := F) .tc cfg0.body (cfg0.bodyArgs t (cfg0.slots t)) = bodyAt0 t := by
  unfold defs₀; rw [Defs.onTc_tc]

theorem owns_before {c : Dev nD} {w : Fin cfg0.W} {t : Fin cfg0.N} {x} (h : ∀ d, (dats hr 0 c).before w t d = x) :
    (iprop(∃ d, owns (c : Thread nD τ) ((cfg0.win w).stage (cfg0.slots t w)) fullShare ((dats hr 0 c).before w t d)) : sProp 𝕄)
      ⊢ owns (c : Thread nD τ) ((cfg0.win w).stage (cfg0.slots t w)) fullShare x := by
  iintro ⟨%d, H⟩
  rw [h d]
  iexact H

/-- The library's obligation, the output forgotten. -/
theorem body_obligation (c : Dev nD) :
    BodyObligation (dats (F := F) hr 0 c) (defs₀ (F := F)) Variants.none () Set.univ forgets0 := fun t => by
  rw [bigSep_W0, bigSep_W0, defs₀_row]
  refine triple_restated (sound_body hr c t) rfl ?_ fun _ => .rfl
  refine sep_mono .rfl (sep_mono .rfl (sep_mono ?_ (sep_mono ?_ (sep_mono ?_ (sep_mono ?_ (sep_mono ?_ (sep_mono ?_ (sep_mono ?_ .rfl))))))))
  · exact owns_before hr fun d => before0 (dats hr 0 c) rfl (fun _ => rfl) t d
  · exact owns_before hr fun d => before1 (dats hr 0 c) rfl (fun _ => rfl) t d
  · exact owns_before hr fun d => before2 (dats hr 0 c) rfl (fun _ => rfl) t d
  · exact owns_before hr fun d => before3 (dats hr 0 c) rfl (fun _ => rfl) t d
  · exact owns_before hr fun d => before4 (dats hr 0 c) rfl (fun _ => rfl) t d
  · exact owns_before hr fun d => before5 (dats hr 0 c) rfl (fun _ => rfl) t d
  · exact owns_before hr fun d => before6 (dats hr 0 c) rfl (fun _ => rfl) t d

/-! ## The launch -/

/-- The program up to the call, over the algebra the copies are reasoned in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

-- the launch theorem's implicit arguments are found by unifying its conclusion with the statement, under plain definitions
set_option backward.isDefEq.respectTransparency.types false in
/-- The run: every execution ends, with the input arrays as they were and every counter at zero. -/
theorem run_main :
    θ_run defs (onTc (τ := τ) (main (F := F))) (s₀ m ρ)
      (fun r => Pipeline.RDat.FramePost (cfgs 0) (fun c => (dats hr 0 c).toRForget forgets0) (V m) r ∧ r.2.sem = fun _ => 0) :=
  Pipeline.θ_run_frame_dma_forget_shared (Q' := _) cfgs (dats hr) (0 : Fin 1) launch₀0 osem0 defs₀ Variants.none forgets0 ownSemFacts0 H0 H0_sub m ρ main
    (hbody := fun c => (body_obligation hr c).loose) (hq := fun _ _ _ => rfl)
    (howed := fun _ _ => rfl) (V := V m) (hmain := hmainD Variants.none) (hA := A_eq hr)
    (hin := fun c => held_in hr c 0 rfl) (hout := fun c => held_out hr c cfg0.N (by rw [show cfg0.N = 32 from N_0]; rfl))

/-- An input window's array ends at what it held when launched. -/
theorem arr_in {r : PUnit × MemSt nD τ sig (Elt F)}
    (h : Pipeline.RDat.FramePost (cfgs 0) (fun c => (dats hr 0 c).toRForget forgets0) (V m) r) (c : Dev nD) (w : Fin cfg0.W)
    (hw : (cfg0.win w).isOut = false) :
    r.2.mem ((spec0 w).arr.view.loc (c : Thread nD τ)) = V m c (Pipeline.arrRef spec0 w) := by
  have h1 := (h c).1 w
  rw [Pipeline.RDat.ArrAt_in _ w hw] at h1
  exact h1

include hr in
/-- The frame: the arguments end as launched, and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(arr_in hr h.1 c 4 rfl).trans (V_main_arg0 m c),
      ((h.1 c).2 main_arg1 (Pipeline.mem_restRefs_of main_arg1 (by decide) (by decide))).trans (V_main_arg1 m c),
      (arr_in hr h.1 c 2 rfl).trans (V_main_arg2 m c),
      (arr_in hr h.1 c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main ρ hr)

end Cert.Kernel.Gather

end
-- ==== Proof.NormProj.lean ====
/-
  The normalised input projection: the kernel's blocked product of its normalised rows, read entry by entry, is the
  reference's.
-/
module

public import proofs.«01_k».proof.Defs
public import proofs.«01_k».proof.Proof.Gen.Kernel2Ideal.Value
public import proofs.«01_k».proof.Proof.Gen.Reference2Ideal.Run
public import Idealize.ShloMosaic.Lib.StackMember
public import Idealize.ShloMosaic.Lib.ValueIdxCore
public import Idealize.ShloMosaic.Lib.KernelVsHost
public import Idealize.ShloMosaic.Lib.IdealHost

@[expose] public section

noncomputable section

namespace Cert.NormProj

open Idealize.ShloMosaic Idealize.ShloMosaic.TcCoe Idealize.SL.Sem
open Idealize.ShloMosaic.Pipeline (Dat)
open Idealize.ShloMosaic.ValueIdx

section
open Cert.Kernel2Ideal Cert.Kernel2Ideal.Gen Cert.Kernel2Ideal.Value

variable (m : (ℓ : Loc nD τ sig) → Buf (Elt Ideal) ℓ) (ρ : Dev nD → PrngReg)

/-- A row's factor: one over the root of its mean square and the small constant. -/
def scale (f : Fin 2048 → EReal) : EReal :=
  Ideal.rsqrt (Ideal.div (∑ k : Fin 2048, f k * f k) (Ideal.ofBits .f32 0x45000000#32) + Ideal.ofBits .f32 0x358637BD#32)

/-- What the call computes at one entry: the inner product of a normalised, weighted row and a column. -/
def entry (x : S17408x2048.Idx → EReal) (g : S2048.Idx → EReal) (w : S2048x12800.Idx → EReal) : S17408x12800.Idx → EReal :=
  fun i => ∑ k : Fin 2048, x (ix2 (i 0) k) * scale (fun l => x (ix2 (i 0) l)) * g (ix1 k) * w (ix2 k (i 1))

theorem hz : (![0, 0] : Fin 2 → Nat) = fun _ => 0 := funext fun a => by fin_cases a <;> rfl

/-! ## The body's two results, entry by entry -/

/-- The place in a row that a row sum's `k`-th term is at. -/
theorem lift_row (y : S1024.Idx) (k : Fin 2048) : reduces_S1024x2048_S1024.lift y k = ix2 (y 0) k := by
  funext a
  match a with
  | ⟨0, _⟩ => rfl
  | ⟨1, _⟩ => rfl

/-- The rows the body keeps: normalised and weighted. -/
theorem pay1_apply (v7 : FVec Ideal S1024x2048 .f32) (v8 : FVec Ideal S1x2048 .f32) (y : S1024x2048.Idx) :
    (k0_pay1 (F := Ideal) v7 v8 y : EReal) = v7 y * scale (fun l => v7 (ix2 (y 0) l)) * v8 (ix2 (0 : Fin 1) (y 1)) := by
  show shapeCast S1024x2048 (truncf .bf16 (mulf (mulf v7 (broadcastTo S1024x2048 (rsqrt (addf (divf (shapeCast S1024x1
      (multiReduction .add [1] S1024 (mulf v7 v7) 0x00000000#32 reduces_S1024x2048_S1024 (.inl rfl) rfl) shapeCasts_S1024_S1024x1)
      (broadcast S1024x1 (Scalar.ofBits .f32 0x45000000#32))) (broadcast S1024x1 (Scalar.ofBits .f32 0x358637BD#32))))
      broadcasts_S1024x1_S1024x2048)) (broadcastTo S1024x2048 (shapeCast S1x2048 v8 shapeCasts_S1x2048_S1x2048) broadcasts_S1x2048_S1024x2048))
      bitsLt_bf16_f32) shapeCasts_S1024x2048_S1024x2048 y = _
  rw [shapeCast_self, shapeCast_self]
  have e1 : broadcastTo S1024x2048 v8 broadcasts_S1x2048_S1024x2048 y = v8 (ix2 (0 : Fin 1) (y 1)) :=
    broadcastTo_apply _ _ _ _ fun a => by
      match a with
      | ⟨0, _⟩ => rfl
      | ⟨1, _⟩ => rfl
  have e2 : ∀ s : FVec Ideal S1024x1 .f32, broadcastTo S1024x2048 s broadcasts_S1024x1_S1024x2048 y = s (ix2 (y 0) (0 : Fin 1)) :=
    fun s => broadcastTo_apply _ _ _ _ fun a => by
      match a with
      | ⟨0, _⟩ => rfl
      | ⟨1, _⟩ => rfl
  have e3 : ∀ s : FVec Ideal S1024 .f32, shapeCast S1024x1 s shapeCasts_S1024_S1024x1 (ix2 (y 0) (0 : Fin 1)) = s (ix1 (y 0)) :=
    fun s => shapeCast_apply _ _ _ _ (by
      rw [Shape.rowMajor_val_two, Shape.rowMajor_val_one]
      show (y 0).val = (y 0).val * 1 + 0
      omega)
  show v7 y * broadcastTo S1024x2048 _ broadcasts_S1024x1_S1024x2048 y * broadcastTo S1024x2048 v8 broadcasts_S1x2048_S1024x2048 y = _
  rw [e1, e2]
  show v7 y * Ideal.rsqrt (Ideal.div (shapeCast S1024x1 _ shapeCasts_S1024_S1024x1 (ix2 (y 0) (0 : Fin 1))) (Ideal.ofBits .f32 0x45000000#32)
    + Ideal.ofBits .f32 0x358637BD#32) * _ = _
  rw [e3]
  have e4 : multiReduction (F := Ideal) .add [1] S1024 (mulf v7 v7) 0x00000000#32 reduces_S1024x2048_S1024 (.inl rfl) rfl (ix1 (y 0))
      = ∑ k : Fin 2048, (v7 (ix2 (y 0) k) * v7 (ix2 (y 0) k) : EReal) :=
    (Ideal.multiReduction_add_single _ _ _ _ _ _).trans (Finset.sum_congr rfl fun k _ =>
      congrArg₂ (fun a b : EReal => a * b) (congrArg v7 (lift_row _ k)) (congrArg v7 (lift_row _ k)))
  exact congrArg (fun z : EReal => v7 y * Ideal.rsqrt (Ideal.div z (Ideal.ofBits .f32 0x45000000#32)
    + Ideal.ofBits .f32 0x358637BD#32) * v8 (ix2 (0 : Fin 1) (y 1))) e4

/-- The product of the kept rows with a block of the weights. -/
theorem pay2_apply (v3 : FVec Ideal S1024x2048 .bf16) (v4 : FVec Ideal S2048x1280 .bf16) (y : S1024x1280.Idx) :
    (k0_pay2 (F := Ideal) v3 v4 y : EReal) = ∑ k : Fin 2048, v3 (ix2 (y 0) k) * v4 (ix2 k (y 1)) := by
  show matmul dot_S1024x2048_S2048x1280_S1024x1280_1_0_0_1_n_n none v3 v4 (constant S1024x1280 .f32 0x00000000#32) y = _
  rw [matmul_zero_eq_dotGeneral, eq_ix2 y]
  exact StackMember.dotGeneral_plain_apply (m := 1024) (n := 1280) (k := 2048) none v3 v4 (y 0) (y 1)

/-! ## What the points leave: the kept rows and the block of the result -/

section Runs
variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1280 .bf16) (h4 : a4.IsWhole)
  (a5 : Memref sig .tc .vmem S1024x1280 .f32) (h5 : a5.IsWhole) (a6 : Memref sig .tc .vmem S1024x2048 .bf16) (h6 : a6.IsWhole)
  (x0 : Vec Ideal S1024x2048 .f32) (x1 : Vec Ideal S1x2048 .f32) (x2 : Vec Ideal S2048x1280 .bf16)

/-- At a row block's first point the body keeps its normalised rows. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- … and leaves their product with the block of the weights. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz,
    View.ld_unit_zero (S := S1x2048) hz, View.ld_unit_zero (S := S2048x1280) hz]

/-- At the other points it leaves the product of the rows it kept with the block of the weights. -/
theorem out_B (hc : ¬cond0_0 i) (xs : Vec Ideal S1024x2048 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S1024x2048) hz, View.ld_unit_zero (S := S2048x1280) hz]

end Runs

/-! ## The blocks -/

/-- Each window's block at a point of the grid starts where the point's coordinates say (decided over the 170 points). -/
theorem starts : ∀ t : Fin cfg0.N, win0_3.index t (0 : Fin 2) = t.val / 10 ∧ win0_3.index t (1 : Fin 2) = t.val % 10
    ∧ win0_0.index t (0 : Fin 2) = t.val / 10 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 10 :=
  (by decide +kernel : ∀ t : Fin grid0.N, _)

/-- The weights of the normalisation as the call finds them: those launched, as one row. -/
theorem gains (c : Dev nD) : V m c main_v0 = shapeCast S1x2048 (m ((c : Thread nD τ).loc main_arg1)) shapeCasts_S2048_S1x2048 := by
  show StableHlo.after hostOps0 _ _ = _
  after_results
  rfl

/-- Row `r` of the result's row block `q`, normalised. -/
def rows (x : S17408x2048.Idx → EReal) (g : S2048.Idx → EReal) (q : ℕ) (hq : q < 17) : S1024x2048.Idx → EReal := fun y =>
  x (ix2 (⟨q * 1024 + (y 0).val, by have : (y 0).val < 1024 := (y 0).isLt; omega⟩ : Fin 17408) (y 1))
    * scale (fun l => x (ix2 (⟨q * 1024 + (y 0).val, by have : (y 0).val < 1024 := (y 0).isLt; omega⟩ : Fin 17408) l))
    * g (ix1 (y 1))

theorem at_row (x : S17408x2048.Idx → EReal) (g : S2048.Idx → EReal) (k : Fin 2048) {r r' : Fin 17408} (e : r = r') :
    x (ix2 r k) * scale (fun l => x (ix2 r l)) * g (ix1 k) = x (ix2 r' k) * scale (fun l => x (ix2 r' l)) * g (ix1 k) := by
  subst e; rfl

theorem rows_congr (x : S17408x2048.Idx → EReal) (g : S2048.Idx → EReal) {q q' : ℕ} (h : q < 17) (h' : q' < 17) (e : q = q') :
    rows x g q h = rows x g q' h' := by
  subst e; rfl

theorem div10_lt (t : Fin cfg0.N) : t.val / 10 < 17 := by
  have := lt_of_lt_of_eq t.isLt (show cfg0.N = 170 from N_0); omega

/-- What the rows kept at a row block's first point are. -/
theorem kept_rows (c : Dev nD) (t : Fin cfg0.N) : k0_pay1 (iblk m c 0 t) (iblk m c 1 t) = rows (m ((c : Thread nD τ).loc main_arg0)) (m ((c : Thread nD τ).loc main_arg1)) (t.val / 10) (div10_lt t) := by
  obtain ⟨-, -, e00, e01, e10, e11, -, -⟩ := starts t
  have hx : ∀ (r : Fin 1024) (l : Fin 2048), iblk m c 0 t (ix2 r l) = m ((c : Thread nD τ).loc main_arg0)
      (ix2 (⟨t.val / 10 * 1024 + r.val, by have := div10_lt t; omega⟩ : Fin 17408) l) := fun r l => by
    show V m c main_arg0 (((cfg0.win 0).blk t).view.emb (ix2 r l)) = _
    rw [V_main_arg0]
    refine congrArg _ (funext fun a => Fin.ext ?_)
    match a with
    | ⟨0, _⟩ => show win0_0.index t (0 : Fin 2) * 1024 + 1 * r.val = t.val / 10 * 1024 + r.val; rw [e00]; omega
    | ⟨1, _⟩ => show win0_0.index t (1 : Fin 2) * 2048 + 1 * l.val = l.val; rw [e01]; omega
  have hg : ∀ l : Fin 2048, iblk m c 1 t (ix2 (0 : Fin 1) l) = m ((c : Thread nD τ).loc main_arg1) (ix1 l) := fun l => by
    show V m c main_v0 (((cfg0.win 1).blk t).view.emb (ix2 (0 : Fin 1) l)) = _
    rw [gains]
    refine shapeCast_apply _ _ _ (ix1 l) ?_
    rw [Shape.rowMajor_val_two, Shape.rowMajor_val_one]
    show l.val = (win0_1.index t (0 : Fin 2) * 1 + 1 * 0) * 2048 + (win0_1.index t (1 : Fin 2) * 2048 + 1 * l.val)
    rw [e10, e11]; omega
  funext y
  refine (pay1_apply _ _ y).trans ?_
  unfold rows
  refine congrArg₂ (· * ·) (congrArg₂ (· * ·) ?_ (congrArg scale (funext fun l => hx (y 0) l))) (hg (y 1))
  exact (congrArg (iblk m c 0 t) (eq_ix2 y)).trans (hx (y 0) (y 1))

/-- What is kept after any point: the normalised rows of its row block. -/
theorem kept (c : Dev nD) : ∀ (n : ℕ) (h : n < cfg0.N), (outsAt0 m c n h).2 = rows (m ((c : Thread nD τ).loc main_arg0)) (m ((c : Thread nD τ).loc main_arg1)) (n / 10) (div10_lt ⟨n, h⟩)
  | 0, h => by
    refine (congrArg Prod.snd (outsAt0_A m c ⟨0, h⟩ rfl)).trans ?_
    dsimp only
    rw [sout_A]
    exact kept_rows m c ⟨0, h⟩
  | n + 1, h => by
    by_cases h0 : (n + 1) % 10 = 0
    · refine (congrArg Prod.snd (outsAt0_A m c ⟨n + 1, h⟩ h0)).trans ?_
      dsimp only
      rw [sout_A]
      exact kept_rows m c ⟨n + 1, h⟩
    · refine (congrArg Prod.snd (outsAt0_B m c ⟨n + 1, h⟩ h0)).trans ?_
      refine (kept c n (Nat.lt_of_succ_lt h)).trans ?_
      exact rows_congr _ _ _ _ (by omega)

/-- What a point leaves: the product of its row block's normalised rows with its block of the weights. -/
theorem left (c : Dev nD) (t : Fin cfg0.N) : (outsAt0 m c t.val t.isLt).1 = k0_pay2 (rows (m ((c : Thread nD τ).loc main_arg0)) (m ((c : Thread nD τ).loc main_arg1)) (t.val / 10) (div10_lt t)) (iblk m c 2 t) := by
  by_cases h0 : t.val % 10 = 0
  · refine (congrArg Prod.fst (outsAt0_A m c t h0)).trans ?_
    dsimp only
    rw [out_A, kept_rows]
  · refine (congrArg Prod.fst (outsAt0_B m c t h0)).trans ?_
    dsimp only
    rw [out_B, kept]
    exact congrArg (fun r => k0_pay2 r _) (rows_congr _ _ _ _ (by omega))

/-- What one point writes back is its block of `entry`. -/
theorem flushed_eq (c : Dev nD) (t : Fin cfg0.N) :
    (dats m 0 c).flushed 3 t = ((cfg0.win 3).blk t).view.read (Elt Ideal)
      (entry (m ((c : Thread nD τ).loc main_arg0)) (m ((c : Thread nD τ).loc main_arg1)) (m ((c : Thread nD τ).loc main_arg2)) : Buf (Elt Ideal) ((c : Thread nD τ).loc main_v1)) := by
  rw [flushed3, left]
  obtain ⟨o0, o1, -, -, -, -, e20, e21⟩ := starts t
  funext y
  show k0_pay2 (rows (m ((c : Thread nD τ).loc main_arg0)) (m ((c : Thread nD τ).loc main_arg1)) (t.val / 10) (div10_lt t)) (iblk m c 2 t) y = entry _ _ _ (((cfg0.win 3).blk t).view.emb y)
  rw [pay2_apply]
  unfold entry
  have hb0 : (⟨t.val / 10 * 1024 + (y 0).val, by have := div10_lt t; have : (y 0).val < 1024 := (y 0).isLt; omega⟩ : Fin 17408)
      = (((cfg0.win 3).blk t).view.emb y 0) := Fin.ext (by
    show t.val / 10 * 1024 + (y 0).val = win0_3.index t (0 : Fin 2) * 1024 + 1 * (y 0).val
    rw [o0]; omega)
  have hw : ∀ k : Fin 2048, iblk m c 2 t (ix2 k (y 1)) = m ((c : Thread nD τ).loc main_arg2) (ix2 k (((cfg0.win 3).blk t).view.emb y 1)) := fun k => by
    show V m c main_arg2 (((cfg0.win 2).blk t).view.emb (ix2 k (y 1))) = _
    rw [V_main_arg2]
    refine congrArg _ (funext fun a => Fin.ext ?_)
    match a with
    | ⟨0, _⟩ => show win0_2.index t (0 : Fin 2) * 2048 + 1 * k.val = k.val; rw [e20]; omega
    | ⟨1, _⟩ => show win0_2.index t (1 : Fin 2) * 1280 + 1 * (y 1).val = win0_3.index t (1 : Fin 2) * 1280 + 1 * (y 1).val; rw [e21, o1]
  refine Finset.sum_congr rfl fun k _ => congrArg₂ (· * ·) ?_ (hw k)
  unfold rows
  exact at_row (m ((c : Thread nD τ).loc main_arg0)) (m ((c : Thread nD τ).loc main_arg1)) k hb0

/-- The result array after the run, entry by entry: the blocks tile it. -/
theorem final (c : Dev nD) : (dats m 0 c).arrAt 3 cfg0.N
    = (entry (m ((c : Thread nD τ).loc main_arg0)) (m ((c : Thread nD τ).loc main_arg1)) (m ((c : Thread nD τ).loc main_arg2)) : Buf (Elt Ideal) ((c : Thread nD τ).loc main_v1)) :=
  (dats m 0 c).arrAt_eq_of_cover 3 _ (fun t _ => flushed_eq m c t) fun i => by
    have hi0 : (i 0).val < 17408 := (i 0).isLt
    have hi1 : (i 1).val < 12800 := (i 1).isLt
    obtain ⟨t, hf, ht⟩ := idx_onto3 ⟨(i 0).val / 1024, by omega⟩ ⟨(i 1).val / 1280, by omega⟩
    have q0 : win0_3.index t (0 : Fin 2) = (i 0).val / 1024 := congrFun ht 0
    have q1 : win0_3.index t (1 : Fin 2) = (i 1).val / 1280 := congrFun ht 1
    refine ⟨t, hf, ?_⟩
    show i ∈ ((View.whole main_v1).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1280 ≤ (i 1).val ∧ (i 1).val < win0_3.index t (1 : Fin 2) * 1280 + 1280; omega

/-! ## The reference -/

end

section Host
open Cert.Reference2Ideal Cert.Reference2Ideal.Gen

theorem reduces_rows : Shape.Reduces S17408x2048 [1] S17408 := by decide

/-- A row's sum of squares, as the reference computes it. -/
theorem square_sum (x : FVec Ideal S17408x2048 .f32) (r : Fin 17408) :
    Host.reduceAdd (mulf x x) (constant (F := Ideal) S_ .f32 0x00000000#32) reducesTo_S17408x2048_S17408_d1 h_S_ (ix1 r)
      = ∑ l : Fin 2048, (x (ix2 r l) * x (ix2 r l) : EReal) := by
  rw [hostReduceAdd_apply, Ideal.hostReduceAdd_single _ reduces_rows]
  have e4 : ∀ l : Fin 2048, mulf x x (reduces_rows.lift (ix1 r) l) = (x (ix2 r l) * x (ix2 r l) : EReal) := fun l => by
    have e : reduces_rows.lift (ix1 r) l = ix2 r l := funext fun a => by
      match a with
      | ⟨0, _⟩ => rfl
      | ⟨1, _⟩ => rfl
    exact congrArg₂ (fun a b : EReal => a * b) (congrArg x e) (congrArg x e)
  refine (congrArg₂ (fun a b : EReal => a + b) Ideal.ofBits_zero_f32 (Finset.sum_congr rfl fun l _ => e4 l)).trans ?_
  exact zero_add _

/-- The reference's normalised rows, entry by entry. -/
theorem normed_apply (x : FVec Ideal S17408x2048 .f32) (g : FVec Ideal S2048 .f32) (r : Fin 17408) (k : Fin 2048) :
    (mulf (mulf x (broadcastInDim S17408x2048 ![0, 1] bcast_S17408x1_S17408x2048_0_1
      (Host.rsqrt (addf (Host.divf (broadcastInDim S17408x1 ![0] bcast_S17408_S17408x1_0
        (Host.reduceAdd (mulf x x) (constant S_ .f32 0x00000000#32) reducesTo_S17408x2048_S17408_d1 h_S_))
        (broadcastInDim S17408x1 ![] bcast_S_S17408x1 (constant S_ .f32 0x45000000#32)))
        (broadcastInDim S17408x1 ![] bcast_S_S17408x1 (constant S_ .f32 0x358637BD#32))))))
      (broadcastInDim S17408x2048 ![0, 1] bcast_S1x2048_S17408x2048_0_1
        (broadcastInDim S1x2048 ![1] bcast_S2048_S1x2048_1 g)) : FVec Ideal S17408x2048 .f32) (ix2 r k)
      = x (ix2 r k) * scale (fun l => x (ix2 r l)) * g (ix1 k) := by
  have e1 : ∀ s : FVec Ideal S17408x1 .f32,
      broadcastInDim S17408x2048 ![0, 1] bcast_S17408x1_S17408x2048_0_1 s (ix2 r k) = s (ix2 r (0 : Fin 1)) :=
    fun s => broadcastInDim_apply _ _ _ _ _ fun a => by
      match a with
      | ⟨0, _⟩ => rfl
      | ⟨1, _⟩ => rfl
  have e2 : ∀ s : FVec Ideal S1x2048 .f32,
      broadcastInDim S17408x2048 ![0, 1] bcast_S1x2048_S17408x2048_0_1 s (ix2 r k) = s (ix2 (0 : Fin 1) k) :=
    fun s => broadcastInDim_apply _ _ _ _ _ fun a => by
      match a with
      | ⟨0, _⟩ => rfl
      | ⟨1, _⟩ => rfl
  have e5 : ∀ s : FVec Ideal S2048 .f32, broadcastInDim S1x2048 ![1] bcast_S2048_S1x2048_1 s (ix2 (0 : Fin 1) k) = s (ix1 k) :=
    fun s => broadcastInDim_apply _ _ _ _ _ fun a => by
      match a with
      | ⟨0, _⟩ => rfl
  have e3 : ∀ s : FVec Ideal S17408 .f32,
      broadcastInDim S17408x1 ![0] bcast_S17408_S17408x1_0 s (ix2 r (0 : Fin 1)) = s (ix1 r) :=
    fun s => broadcastInDim_apply _ _ _ _ _ fun a => by
      match a with
      | ⟨0, _⟩ => rfl
  have e0 : ∀ (s : FVec Ideal S17408x1 .f32) (u : FVec Ideal S1x2048 .f32),
      (mulf (mulf x (broadcastInDim S17408x2048 ![0, 1] bcast_S17408x1_S17408x2048_0_1 s))
        (broadcastInDim S17408x2048 ![0, 1] bcast_S1x2048_S17408x2048_0_1 u) : FVec Ideal S17408x2048 .f32) (ix2 r k)
      = (x (ix2 r k) * s (ix2 r (0 : Fin 1)) * u (ix2 (0 : Fin 1) k) : EReal) := fun s u =>
    congrArg₂ (fun a b : EReal => x (ix2 r k) * a * b) (e1 s) (e2 u)
  have e6 : ∀ s : FVec Ideal S17408 .f32,
      (Host.rsqrt (addf (Host.divf (broadcastInDim S17408x1 ![0] bcast_S17408_S17408x1_0 s)
        (broadcastInDim S17408x1 ![] bcast_S_S17408x1 (constant S_ .f32 0x45000000#32)))
        (broadcastInDim S17408x1 ![] bcast_S_S17408x1 (constant S_ .f32 0x358637BD#32))) : FVec Ideal S17408x1 .f32) (ix2 r (0 : Fin 1))
      = Ideal.rsqrt (Ideal.div (s (ix1 r)) (Ideal.ofBits .f32 0x45000000#32) + Ideal.ofBits .f32 0x358637BD#32) := fun s =>
    congrArg (fun a : EReal => Ideal.rsqrt (Ideal.div a (Ideal.ofBits .f32 0x45000000#32) + Ideal.ofBits .f32 0x358637BD#32)) (e3 s)
  rw [e0, e5, e6, square_sum]
  rfl

end Host

section
open Cert.Kernel2Ideal Cert.Kernel2Ideal.Gen Cert.Kernel2Ideal.Value

/-- The kernel's result is the reference's, over the reals. -/
theorem algebraic : algebraic_Kernel2Ideal_Reference2Ideal
    (hKernel2Ideal := Cert.Kernel2Ideal.Gen.facts) (hReference2Ideal := Cert.Reference2Ideal.Gen.facts) := by
  intro m g m' g' _ hargs
  refine ⟨fun c => entry (m ((c : Thread nD τ).loc main_arg0)) (m ((c : Thread nD τ).loc main_arg1)) (m ((c : Thread nD τ).loc main_arg2)), ?_, ?_⟩
  · refine (θ_run defs _ _).mono (fun r h c => ?_) (run_blocks (F := Ideal) m g)
    obtain ⟨h0, h⟩ := h c
    exact ⟨h0.trans (final m c), h⟩
  · refine (θ_run Cert.Reference2Ideal.defs _ _).mono (fun r h c => ?_) (Cert.Reference2Ideal.Value.run (F := Ideal) m' g')
    obtain ⟨h0, h⟩ := h c
    obtain ⟨a0, a1, a2⟩ := hargs c
    refine ⟨h0.trans ?_, h⟩
    rw [a0, a1, a2]
    funext i
    rw [eq_ix2 i]
    refine (StackMember.dotGeneral_plain_apply (m := 17408) (n := 12800) (k := 2048) none _ _ (i 0) (i 1)).trans ?_
    exact Finset.sum_congr rfl fun k _ => congrArg₂ (· * ·) (normed_apply _ _ (i 0) k) rfl

end

end Cert.NormProj

end
-- ==== Proof.BranchMix.lean ====
/-
  The gated sum of the three branches' projections: the kernel's blocks, read entry by entry, are the reference's.
-/
module

public import proofs.«01_k».proof.Defs
public import proofs.«01_k».proof.Proof.Gen.Kernel3Ideal.Value
public import proofs.«01_k».proof.Proof.Gen.Reference3Ideal.Run
public import Idealize.ShloMosaic.Lib.StackMember
public import Idealize.ShloMosaic.Lib.ValueIdxCore
public import Idealize.ShloMosaic.Lib.KernelVsHost
public import Idealize.ShloMosaic.Lib.IdealHost

@[expose] public section

noncomputable section

namespace Cert.BranchMix

open Idealize.ShloMosaic Idealize.ShloMosaic.TcCoe Idealize.SL.Sem
open Idealize.ShloMosaic.Pipeline (Dat)
open Idealize.ShloMosaic.ValueIdx

section
open Cert.Kernel3Ideal Cert.Kernel3Ideal.Gen Cert.Kernel3Ideal.Value

variable (m : (ℓ : Loc nD τ sig) → Buf (Elt Ideal) ℓ) (ρ : Dev nD → PrngReg)

/-- A branch's rows: the prompts' and after them the samples'. -/
def rows (p : S16384x1024.Idx → EReal) (s : S1024x1024.Idx → EReal) (r : Fin 17408) (k : Fin 1024) : EReal :=
  if h : r.val < 16384 then p (ix2 (⟨r.val, h⟩ : Fin 16384) k) else s (ix2 (⟨r.val - 16384, by omega⟩ : Fin 1024) k)

/-- One branch's part of one entry: the gate's logistic times the projection. -/
def part (y : Fin 17408 → Fin 1024 → EReal) (g : S17408x12800.Idx → EReal) (w : S3x1024x2048.Idx → EReal) (b : Fin 3)
    (r : Fin 17408) (d : Fin 2048) : EReal :=
  Ideal.logistic (g (ix2 r (⟨6656 + b.val * 2048 + d.val, by omega⟩ : Fin 12800))) * ∑ k : Fin 1024, y r k * w (ix3 b k d)

/-- What the call computes at one entry: the three branches' parts, added in order. -/
def entry (p0 p1 p2 : S16384x1024.Idx → EReal) (s0 s1 s2 : S1024x1024.Idx → EReal) (g : S17408x12800.Idx → EReal)
    (w : S3x1024x2048.Idx → EReal) : S17408x2048.Idx → EReal := fun i =>
  part (rows p0 s0) g w 0 (i 0) (i 1) + part (rows p1 s1) g w 1 (i 0) (i 1) + part (rows p2 s2) g w 2 (i 0) (i 1)

theorem hz : (![0, 0] : Fin 2 → Nat) = fun _ => 0 := funext fun a => by fin_cases a <;> rfl

/-! ## The body's result, entry by entry -/

/-- The rows a step takes of a branch: the prompts' in the first 32 row blocks, the samples' in the last two. -/
def pick (i : grid0.Coords) (a b : S512x1024.Idx → EReal) : S512x1024.Idx → EReal :=
  Scalar.select (Scalar.cmpi .slt (BitVec.ofNat 32 (i 0).val) 32#32) a b

/-- A branch's projection in one block. -/
theorem proj_apply (v : FVec Ideal S512x1024 .f32) (w : FVec Ideal S1x1024x512 .bf16) (y : S512x512.Idx) :
    matmul dot_S512x1024_S1024x512_S512x512_1_0_0_1_n_n none (truncf .bf16 v bitsLt_bf16_f32)
      (shapeCast S1024x512 w shapeCasts_S1x1024x512_S1024x512) (constant S512x512 .f32 0x00000000#32) y
      = (∑ k : Fin 1024, v (ix2 (y 0) k) * w (ix3 (0 : Fin 1) k (y 1)) : EReal) := by
  rw [matmul_zero_eq_dotGeneral, eq_ix2 y]
  refine (StackMember.dotGeneral_plain_apply (m := 512) (n := 512) (k := 1024) none _ _ (y 0) (y 1)).trans ?_
  refine Finset.sum_congr rfl fun k _ => congrArg (fun a : EReal => v (ix2 (y 0) k) * a) ?_
  refine shapeCast_apply _ _ _ _ ?_
  rw [Shape.rowMajor_val_two, Shape.rowMajor_val_three]
  show (0 * 1024 + k.val) * 512 + (y 1).val = k.val * 512 + (y 1).val
  omega

/-- One branch's part of one block. -/
def blockPart (v : S512x1024.Idx → EReal) (g : S512x512.Idx → EReal) (w : S3x1024x512.Idx → EReal) (b : Fin 3) (y : S512x512.Idx) : EReal :=
  Ideal.logistic (g y) * ∑ k : Fin 1024, v (ix2 (y 0) k) * w (ix3 b k (y 1))

/-- One block of the result, entry by entry, from the blocks it is computed from. -/
theorem out_apply (i : grid0.Coords) (x0 x1 x2 x3 x4 x5 : Vec Ideal S512x1024 .f32) (x6 x7 x8 : Vec Ideal S512x512 .f32)
    (x9 : Vec Ideal S3x1024x512 .bf16) (y : S512x512.Idx) :
    (out0_10 (F := Ideal) i x0 x1 x2 x3 x4 x5 x6 x7 x8 x9 y : EReal)
      = blockPart (pick i x0 x3) x6 x9 0 y + blockPart (pick i x1 x4) x7 x9 1 y + blockPart (pick i x2 x5) x8 x9 2 y := by
  unfold out0_10
  rw [View.canon_unit_zero hz]
  simp only [View.ld_unit_zero (S := S512x1024) hz, View.ld_unit_zero (S := S512x512) hz]
  have w0 : ∀ k : Fin 1024, View.ld x9 r0_1 (ix3 (0 : Fin 1) k (y 1)) = x9 (ix3 (0 : Fin 3) k (y 1)) := fun k =>
    congrArg x9 (funext fun a => Fin.ext (by
      match a with
      | ⟨0, _⟩ => rfl
      | ⟨1, _⟩ => show 0 + 1 * k.val = k.val; omega
      | ⟨2, _⟩ => show 0 + 1 * (y 1).val = (y 1).val; omega))
  have w1 : ∀ k : Fin 1024, View.ld x9 r0_3 (ix3 (0 : Fin 1) k (y 1)) = x9 (ix3 (1 : Fin 3) k (y 1)) := fun k =>
    congrArg x9 (funext fun a => Fin.ext (by
      match a with
      | ⟨0, _⟩ => rfl
      | ⟨1, _⟩ => show 0 + 1 * k.val = k.val; omega
      | ⟨2, _⟩ => show 0 + 1 * (y 1).val = (y 1).val; omega))
  have w2 : ∀ k : Fin 1024, View.ld x9 r0_4 (ix3 (0 : Fin 1) k (y 1)) = x9 (ix3 (2 : Fin 3) k (y 1)) := fun k =>
    congrArg x9 (funext fun a => Fin.ext (by
      match a with
      | ⟨0, _⟩ => rfl
      | ⟨1, _⟩ => show 0 + 1 * k.val = k.val; omega
      | ⟨2, _⟩ => show 0 + 1 * (y 1).val = (y 1).val; omega))
  have q0 := (proj_apply (pick i x0 x3) (View.ld x9 r0_1) y).trans (Finset.sum_congr rfl fun k _ => congrArg (fun a : EReal => pick i x0 x3 (ix2 (y 0) k) * a) (w0 k))
  have q1 := (proj_apply (pick i x1 x4) (View.ld x9 r0_3) y).trans (Finset.sum_congr rfl fun k _ => congrArg (fun a : EReal => pick i x1 x4 (ix2 (y 0) k) * a) (w1 k))
  have q2 := (proj_apply (pick i x2 x5) (View.ld x9 r0_4) y).trans (Finset.sum_congr rfl fun k _ => congrArg (fun a : EReal => pick i x2 x5 (ix2 (y 0) k) * a) (w2 k))
  unfold blockPart
  exact congrArg₂ (fun a b : EReal => a + b)
    (congrArg₂ (fun a b : EReal => a + b) (congrArg (fun a : EReal => Ideal.logistic (x6 y) * a) q0) (congrArg (fun a : EReal => Ideal.logistic (x7 y) * a) q1))
    (congrArg (fun a : EReal => Ideal.logistic (x8 y) * a) q2)

/-! ## The blocks -/

/-- The weights as the call finds them are those launched: over the reals the cast changes nothing. -/
theorem weights (c : Dev nD) : V m c main_v0 = m ((c : Thread nD τ).loc main_arg7) := by
  show StableHlo.after hostOps0 _ _ = _
  after_results
  rfl

/-- Where each window's block at a point of the grid starts (decided over the 136 points): the result's, the weights', -/
theorem starts : ∀ t : Fin cfg0.N, win0_10.index t (0 : Fin 2) ≤ 33 ∧ win0_10.index t (1 : Fin 2) ≤ 3
    ∧ (grid0.coords t 0).val = win0_10.index t (0 : Fin 2)
    ∧ win0_9.index t (0 : Fin 3) = 0 ∧ win0_9.index t (1 : Fin 3) = 0 ∧ win0_9.index t (2 : Fin 3) = win0_10.index t (1 : Fin 2) :=
  (by decide +kernel : ∀ t : Fin grid0.N, _)

/-- the prompts' and the samples', -/
theorem starts_rows : ∀ t : Fin cfg0.N,
    (win0_0.index t (0 : Fin 2) = min (win0_10.index t (0 : Fin 2)) 31 ∧ win0_0.index t (1 : Fin 2) = 0)
    ∧ (win0_1.index t (0 : Fin 2) = min (win0_10.index t (0 : Fin 2)) 31 ∧ win0_1.index t (1 : Fin 2) = 0)
    ∧ (win0_2.index t (0 : Fin 2) = min (win0_10.index t (0 : Fin 2)) 31 ∧ win0_2.index t (1 : Fin 2) = 0)
    ∧ (win0_3.index t (0 : Fin 2) = win0_10.index t (0 : Fin 2) - 32 ∧ win0_3.index t (1 : Fin 2) = 0)
    ∧ (win0_4.index t (0 : Fin 2) = win0_10.index t (0 : Fin 2) - 32 ∧ win0_4.index t (1 : Fin 2) = 0)
    ∧ (win0_5.index t (0 : Fin 2) = win0_10.index t (0 : Fin 2) - 32 ∧ win0_5.index t (1 : Fin 2) = 0) :=
  (by decide +kernel : ∀ t : Fin grid0.N, _)

/-- and the gates'. -/
theorem starts_gates : ∀ t : Fin cfg0.N,
    (win0_6.index t (0 : Fin 2) = win0_10.index t (0 : Fin 2) ∧ win0_6.index t (1 : Fin 2) = 13 + win0_10.index t (1 : Fin 2))
    ∧ (win0_7.index t (0 : Fin 2) = win0_10.index t (0 : Fin 2) ∧ win0_7.index t (1 : Fin 2) = 17 + win0_10.index t (1 : Fin 2))
    ∧ (win0_8.index t (0 : Fin 2) = win0_10.index t (0 : Fin 2) ∧ win0_8.index t (1 : Fin 2) = 21 + win0_10.index t (1 : Fin 2)) :=
  (by decide +kernel : ∀ t : Fin grid0.N, _)

/-- Every block of the result is written at some point. -/
theorem onto : ∀ (q0 : Fin 34) (q1 : Fin 4), ∃ t : Fin cfg0.N, (cfg0.win 10).flush t = true ∧ win0_10.index t = ![q0.val, q1.val] :=
  (by decide +kernel : ∀ (q0 : Fin 34) (q1 : Fin 4), ∃ t : Fin grid0.N, win0_10.flush t = true ∧ win0_10.index t = ![q0.val, q1.val])

/-- The comparison the body decides by (over its 34 values). -/
theorem lt_iff : ∀ q : Fin 34, Scalar.cmpi .slt (BitVec.ofNat 32 q.val) 32#32 = if q.val < 32 then 1#1 else 0#1 := by decide +kernel

/-- The rows a step takes are the branch's rows at the step's row block. -/
theorem pick_eq (i : grid0.Coords) (q : ℕ) (hq : q ≤ 33) (hi : (i 0).val = q) (a b : S512x1024.Idx → EReal) (p : S16384x1024.Idx → EReal)
    (s : S1024x1024.Idx → EReal)
    (ha : ∀ (r : Fin 512) (k : Fin 1024), a (ix2 r k) = p (ix2 (⟨min q 31 * 512 + r.val, by omega⟩ : Fin 16384) k))
    (hb : ∀ (r : Fin 512) (k : Fin 1024), b (ix2 r k) = s (ix2 (⟨(q - 32) * 512 + r.val, by omega⟩ : Fin 1024) k))
    (r : Fin 512) (k : Fin 1024) (R : Fin 17408) (hR : R.val = q * 512 + r.val) : pick i a b (ix2 r k) = rows p s R k := by
  have hc : Scalar.cmpi .slt (BitVec.ofNat 32 (i 0).val) 32#32 = if q < 32 then 1#1 else 0#1 := by
    rw [hi]; exact lt_iff ⟨q, by omega⟩
  unfold pick rows
  rw [hc]
  by_cases h : q < 32
  · rw [if_pos h, dif_pos (by omega)]
    refine (ha r k).trans (congrArg (fun z : Fin 16384 => p (ix2 z k)) (Fin.ext ?_))
    show min q 31 * 512 + r.val = R.val
    rw [Nat.min_eq_left (by omega)]; omega
  · rw [if_neg h, dif_neg (by omega)]
    refine (hb r k).trans (congrArg (fun z : Fin 1024 => s (ix2 z k)) (Fin.ext ?_))
    show (q - 32) * 512 + r.val = R.val - 16384
    omega

/-- A branch's part of a block is its part of the result there. -/
theorem blockPart_eq (v : S512x1024.Idx → EReal) (gb : S512x512.Idx → EReal) (wb : S3x1024x512.Idx → EReal)
    (yr : Fin 17408 → Fin 1024 → EReal) (g : S17408x12800.Idx → EReal) (w : S3x1024x2048.Idx → EReal) (b : Fin 3)
    (y : S512x512.Idx) (R : Fin 17408) (D : Fin 2048) (hv : ∀ k : Fin 1024, v (ix2 (y 0) k) = yr R k)
    (hg : gb y = g (ix2 R (⟨6656 + b.val * 2048 + D.val, by omega⟩ : Fin 12800)))
    (hw : ∀ k : Fin 1024, wb (ix3 b k (y 1)) = w (ix3 b k D)) : blockPart v gb wb b y = part yr g w b R D := by
  unfold blockPart part
  rw [hg]
  exact congrArg (fun a : EReal => _ * a) (Finset.sum_congr rfl fun k _ => congrArg₂ (fun a b : EReal => a * b) (hv k) (hw k))

/-- What one point writes back is its block of `entry`. -/
theorem flushed_eq (c : Dev nD) (t : Fin cfg0.N) :
    (dats m 0 c).flushed 10 t = ((cfg0.win 10).blk t).view.read (Elt Ideal)
      (entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) : Buf (Elt Ideal) ((c : Thread nD τ).loc main_v1)) := by
  rw [flushed10]
  obtain ⟨b0, b1, ei, e90, e91, e92⟩ := starts t
  obtain ⟨⟨e00, e01⟩, ⟨e10, e11⟩, ⟨e20, e21⟩, ⟨e30, e31⟩, ⟨e40, e41⟩, ⟨e50, e51⟩⟩ := starts_rows t
  obtain ⟨⟨e60, e61⟩, ⟨e70, e71⟩, ⟨e80, e81⟩⟩ := starts_gates t
  funext y
  show out0_10 (grid0.coords t) (iblk m c 0 t) (iblk m c 1 t) (iblk m c 2 t) (iblk m c 3 t) (iblk m c 4 t) (iblk m c 5 t) (iblk m c 6 t)
    (iblk m c 7 t) (iblk m c 8 t) (iblk m c 9 t) y = entry _ _ _ _ _ _ _ _ (((cfg0.win 10).blk t).view.emb y)
  rw [out_apply]
  unfold entry
  have hb0 : (((cfg0.win 10).blk t).view.emb y 0).val = win0_10.index t (0 : Fin 2) * 512 + 1 * (y 0).val := rfl
  have hb1 : (((cfg0.win 10).blk t).view.emb y 1).val = win0_10.index t (1 : Fin 2) * 512 + 1 * (y 1).val := rfl
  have hR : (((cfg0.win 10).blk t).view.emb y 0).val = win0_10.index t (0 : Fin 2) * 512 + (y 0).val := by rw [hb0]; omega
  have a0 : ∀ (r : Fin 512) (k : Fin 1024), iblk m c 0 t (ix2 r k) = m ((c : Thread nD τ).loc main_arg0)
      (ix2 (⟨min (win0_10.index t (0 : Fin 2)) 31 * 512 + r.val, by omega⟩ : Fin 16384) k) := fun r k => by
    show V m c main_arg0 (((cfg0.win 0).blk t).view.emb (ix2 r k)) = _
    rw [V_main_arg0]
    refine congrArg _ (funext fun a => Fin.ext ?_)
    match a with
    | ⟨0, _⟩ => show win0_0.index t (0 : Fin 2) * 512 + 1 * r.val = min (win0_10.index t (0 : Fin 2)) 31 * 512 + r.val; rw [e00]; omega
    | ⟨1, _⟩ => show win0_0.index t (1 : Fin 2) * 1024 + 1 * k.val = k.val; rw [e01]; omega
  have a1 : ∀ (r : Fin 512) (k : Fin 1024), iblk m c 1 t (ix2 r k) = m ((c : Thread nD τ).loc main_arg1)
      (ix2 (⟨min (win0_10.index t (0 : Fin 2)) 31 * 512 + r.val, by omega⟩ : Fin 16384) k) := fun r k => by
    show V m c main_arg1 (((cfg0.win 1).blk t).view.emb (ix2 r k)) = _
    rw [V_main_arg1]
    refine congrArg _ (funext fun a => Fin.ext ?_)
    match a with
    | ⟨0, _⟩ => show win0_1.index t (0 : Fin 2) * 512 + 1 * r.val = min (win0_10.index t (0 : Fin 2)) 31 * 512 + r.val; rw [e10]; omega
    | ⟨1, _⟩ => show win0_1.index t (1 : Fin 2) * 1024 + 1 * k.val = k.val; rw [e11]; omega
  have a2 : ∀ (r : Fin 512) (k : Fin 1024), iblk m c 2 t (ix2 r k) = m ((c : Thread nD τ).loc main_arg2)
      (ix2 (⟨min (win0_10.index t (0 : Fin 2)) 31 * 512 + r.val, by omega⟩ : Fin 16384) k) := fun r k => by
    show V m c main_arg2 (((cfg0.win 2).blk t).view.emb (ix2 r k)) = _
    rw [V_main_arg2]
    refine congrArg _ (funext fun a => Fin.ext ?_)
    match a with
    | ⟨0, _⟩ => show win0_2.index t (0 : Fin 2) * 512 + 1 * r.val = min (win0_10.index t (0 : Fin 2)) 31 * 512 + r.val; rw [e20]; omega
    | ⟨1, _⟩ => show win0_2.index t (1 : Fin 2) * 1024 + 1 * k.val = k.val; rw [e21]; omega
  have a3 : ∀ (r : Fin 512) (k : Fin 1024), iblk m c 3 t (ix2 r k) = m ((c : Thread nD τ).loc main_arg3)
      (ix2 (⟨(win0_10.index t (0 : Fin 2) - 32) * 512 + r.val, by omega⟩ : Fin 1024) k) := fun r k => by
    show V m c main_arg3 (((cfg0.win 3).blk t).view.emb (ix2 r k)) = _
    rw [V_main_arg3]
    refine congrArg _ (funext fun a => Fin.ext ?_)
    match a with
    | ⟨0, _⟩ => show win0_3.index t (0 : Fin 2) * 512 + 1 * r.val = (win0_10.index t (0 : Fin 2) - 32) * 512 + r.val; rw [e30]; omega
    | ⟨1, _⟩ => show win0_3.index t (1 : Fin 2) * 1024 + 1 * k.val = k.val; rw [e31]; omega
  have a4 : ∀ (r : Fin 512) (k : Fin 1024), iblk m c 4 t (ix2 r k) = m ((c : Thread nD τ).loc main_arg4)
      (ix2 (⟨(win0_10.index t (0 : Fin 2) - 32) * 512 + r.val, by omega⟩ : Fin 1024) k) := fun r k => by
    show V m c main_arg4 (((cfg0.win 4).blk t).view.emb (ix2 r k)) = _
    rw [V_main_arg4]
    refine congrArg _ (funext fun a => Fin.ext ?_)
    match a with
    | ⟨0, _⟩ => show win0_4.index t (0 : Fin 2) * 512 + 1 * r.val = (win0_10.index t (0 : Fin 2) - 32) * 512 + r.val; rw [e40]; omega
    | ⟨1, _⟩ => show win0_4.index t (1 : Fin 2) * 1024 + 1 * k.val = k.val; rw [e41]; omega
  have a5 : ∀ (r : Fin 512) (k : Fin 1024), iblk m c 5 t (ix2 r k) = m ((c : Thread nD τ).loc main_arg5)
      (ix2 (⟨(win0_10.index t (0 : Fin 2) - 32) * 512 + r.val, by omega⟩ : Fin 1024) k) := fun r k => by
    show V m c main_arg5 (((cfg0.win 5).blk t).view.emb (ix2 r k)) = _
    rw [V_main_arg5]
    refine congrArg _ (funext fun a => Fin.ext ?_)
    match a with
    | ⟨0, _⟩ => show win0_5.index t (0 : Fin 2) * 512 + 1 * r.val = (win0_10.index t (0 : Fin 2) - 32) * 512 + r.val; rw [e50]; omega
    | ⟨1, _⟩ => show win0_5.index t (1 : Fin 2) * 1024 + 1 * k.val = k.val; rw [e51]; omega
  have g6 : iblk m c 6 t y = m ((c : Thread nD τ).loc main_arg6) (ix2 (((cfg0.win 10).blk t).view.emb y 0)
      (⟨6656 + 0 * 2048 + (((cfg0.win 10).blk t).view.emb y 1).val, by have hl : (((cfg0.win 10).blk t).view.emb y 1).val < 2048 := (((cfg0.win 10).blk t).view.emb y 1).isLt; omega⟩ : Fin 12800)) := by
    show V m c main_arg6 (((cfg0.win 6).blk t).view.emb y) = _
    rw [V_main_arg6]
    refine congrArg _ (funext fun a => Fin.ext ?_)
    match a with
    | ⟨0, _⟩ => show win0_6.index t (0 : Fin 2) * 512 + 1 * (y 0).val = (((cfg0.win 10).blk t).view.emb y 0).val; rw [hb0, e60]
    | ⟨1, _⟩ => show win0_6.index t (1 : Fin 2) * 512 + 1 * (y 1).val = 6656 + 0 * 2048 + (((cfg0.win 10).blk t).view.emb y 1).val; rw [hb1, e61]; omega
  have g7 : iblk m c 7 t y = m ((c : Thread nD τ).loc main_arg6) (ix2 (((cfg0.win 10).blk t).view.emb y 0)
      (⟨6656 + 1 * 2048 + (((cfg0.win 10).blk t).view.emb y 1).val, by have hl : (((cfg0.win 10).blk t).view.emb y 1).val < 2048 := (((cfg0.win 10).blk t).view.emb y 1).isLt; omega⟩ : Fin 12800)) := by
    show V m c main_arg6 (((cfg0.win 7).blk t).view.emb y) = _
    rw [V_main_arg6]
    refine congrArg _ (funext fun a => Fin.ext ?_)
    match a with
    | ⟨0, _⟩ => show win0_7.index t (0 : Fin 2) * 512 + 1 * (y 0).val = (((cfg0.win 10).blk t).view.emb y 0).val; rw [hb0, e70]
    | ⟨1, _⟩ => show win0_7.index t (1 : Fin 2) * 512 + 1 * (y 1).val = 6656 + 1 * 2048 + (((cfg0.win 10).blk t).view.emb y 1).val; rw [hb1, e71]; omega
  have g8 : iblk m c 8 t y = m ((c : Thread nD τ).loc main_arg6) (ix2 (((cfg0.win 10).blk t).view.emb y 0)
      (⟨6656 + 2 * 2048 + (((cfg0.win 10).blk t).view.emb y 1).val, by have hl : (((cfg0.win 10).blk t).view.emb y 1).val < 2048 := (((cfg0.win 10).blk t).view.emb y 1).isLt; omega⟩ : Fin 12800)) := by
    show V m c main_arg6 (((cfg0.win 8).blk t).view.emb y) = _
    rw [V_main_arg6]
    refine congrArg _ (funext fun a => Fin.ext ?_)
    match a with
    | ⟨0, _⟩ => show win0_8.index t (0 : Fin 2) * 512 + 1 * (y 0).val = (((cfg0.win 10).blk t).view.emb y 0).val; rw [hb0, e80]
    | ⟨1, _⟩ => show win0_8.index t (1 : Fin 2) * 512 + 1 * (y 1).val = 6656 + 2 * 2048 + (((cfg0.win 10).blk t).view.emb y 1).val; rw [hb1, e81]; omega
  have hw : ∀ (b : Fin 3) (k : Fin 1024), iblk m c 9 t (ix3 b k (y 1)) = m ((c : Thread nD τ).loc main_arg7)
      (ix3 b k (((cfg0.win 10).blk t).view.emb y 1)) := fun b k => by
    show V m c main_v0 (((cfg0.win 9).blk t).view.emb (ix3 b k (y 1))) = _
    rw [weights]
    refine congrArg _ (funext fun a => Fin.ext ?_)
    match a with
    | ⟨0, _⟩ => show win0_9.index t (0 : Fin 3) * 3 + 1 * b.val = b.val; rw [e90]; omega
    | ⟨1, _⟩ => show win0_9.index t (1 : Fin 3) * 1024 + 1 * k.val = k.val; rw [e91]; omega
    | ⟨2, _⟩ => show win0_9.index t (2 : Fin 3) * 512 + 1 * (y 1).val = (((cfg0.win 10).blk t).view.emb y 1).val; rw [hb1, e92]
  refine congrArg₂ (fun a b : EReal => a + b) (congrArg₂ (fun a b : EReal => a + b) ?_ ?_) ?_
  · exact blockPart_eq _ _ _ _ _ _ 0 y _ _ (fun k => pick_eq _ _ b0 ei _ _ _ _ a0 a3 _ k _ hR) g6 (hw 0)
  · exact blockPart_eq _ _ _ _ _ _ 1 y _ _ (fun k => pick_eq _ _ b0 ei _ _ _ _ a1 a4 _ k _ hR) g7 (hw 1)
  · exact blockPart_eq _ _ _ _ _ _ 2 y _ _ (fun k => pick_eq _ _ b0 ei _ _ _ _ a2 a5 _ k _ hR) g8 (hw 2)

/-- The result array after the run, entry by entry: the blocks tile it. -/
theorem final (c : Dev nD) : (dats m 0 c).arrAt 10 cfg0.N
    = (entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) : Buf (Elt Ideal) ((c : Thread nD τ).loc main_v1)) :=
  (dats m 0 c).arrAt_eq_of_cover 10 _ (fun t _ => flushed_eq m c t) fun i => by
    have hi0 : (i 0).val < 17408 := (i 0).isLt
    have hi1 : (i 1).val < 2048 := (i 1).isLt
    obtain ⟨t, hf, ht⟩ := onto ⟨(i 0).val / 512, by omega⟩ ⟨(i 1).val / 512, by omega⟩
    have q0 : win0_10.index t (0 : Fin 2) = (i 0).val / 512 := congrFun ht 0
    have q1 : win0_10.index t (1 : Fin 2) = (i 1).val / 512 := congrFun ht 1
    refine ⟨t, hf, ?_⟩
    show i ∈ ((View.whole main_v1).slice (win0_10.rect t)).set
    rw [View.set_slice_whole, Rect.mem_set_unit]
    intro a
    match a with
    | ⟨0, _⟩ => show win0_10.index t (0 : Fin 2) * 512 ≤ (i 0).val ∧ (i 0).val < win0_10.index t (0 : Fin 2) * 512 + 512; omega
    | ⟨1, _⟩ => show win0_10.index t (1 : Fin 2) * 512 ≤ (i 1).val ∧ (i 1).val < win0_10.index t (1 : Fin 2) * 512 + 512; omega

end

/-! ## The reference -/

section Host
open Cert.Reference3Ideal Cert.Reference3Ideal.Gen

/-- A gate: the reference's one over one plus the exponential of the opposite, which is the logistic. -/
theorem gate_apply (g : FVec Ideal S17408x12800 .f32) (r : Fin 17408) (b : Fin 3) (d : Fin 2048) :
    Host.divf (broadcastInDim S17408x3x2048 ![] bcast_S_S17408x3x2048 (constant (F := Ideal) S_ .f32 0x3F800000#32))
      (addf (broadcastInDim S17408x3x2048 ![] bcast_S_S17408x3x2048 (constant S_ .f32 0x3F800000#32))
        (Host.exp (Host.negf (shapeCast S17408x3x2048 (extractStridedSlice S17408x6144 ![0, 6656] g slices_S17408x12800_S17408x6144_0_6656)
          shapeCasts_S17408x6144_S17408x3x2048)))) (ix3 r b d)
      = Ideal.logistic (g (ix2 r (⟨6656 + b.val * 2048 + d.val, by omega⟩ : Fin 12800))) := by
  have e1 : shapeCast S17408x3x2048 (extractStridedSlice S17408x6144 ![0, 6656] g slices_S17408x12800_S17408x6144_0_6656)
      shapeCasts_S17408x6144_S17408x3x2048 (ix3 r b d) = g (ix2 r (⟨6656 + b.val * 2048 + d.val, by omega⟩ : Fin 12800)) := by
    refine (shapeCast_apply _ _ _ (ix2 r (⟨b.val * 2048 + d.val, by omega⟩ : Fin 6144)) ?_).trans (extractStridedSlice_apply _ _ _ _ _ fun a => ?_)
    · rw [Shape.rowMajor_val_two, Shape.rowMajor_val_three]
      show r.val * 6144 + (b.val * 2048 + d.val) = (r.val * 3 + b.val) * 2048 + d.val
      omega
    · match a with
      | ⟨0, _⟩ => show r.val = 0 + r.val; omega
      | ⟨1, _⟩ => show 6656 + b.val * 2048 + d.val = 6656 + (b.val * 2048 + d.val); omega
  refine (congrArg (fun a : EReal => Ideal.div (Ideal.ofBits .f32 0x3F800000#32) (Ideal.ofBits .f32 0x3F800000#32 + Ideal.exp (-a))) e1).trans ?_
  rw [Ideal.ofBits_one_f32]
  rfl

/-- A branch's rows in the reference: the prompts' and the samples' one after the other. -/
theorem branch_apply (p : FVec Ideal S16384x1024 .f32) (s : FVec Ideal S1024x1024 .f32) (r : Fin 17408) (k : Fin 1024) :
    broadcastInDim S17408x1x1024 ![0, 2] bcast_S17408x1024_S17408x1x1024_0_2
      (concatenate S17408x1024 0 [⟨S16384x1024, p⟩, ⟨S1024x1024, s⟩] concatenates_S16384x1024_S1024x1024_S17408x1024_d0)
      (ix3 r (0 : Fin 1) k) = rows p s r k := by
  refine (broadcastInDim_apply _ _ _ _ (ix2 r k) fun a => ?_).trans ?_
  · match a with
    | ⟨0, _⟩ => rfl
    | ⟨1, _⟩ => rfl
  unfold rows
  by_cases h : r.val < 16384
  · rw [dif_pos h]
    refine concatenate_pair_apply_left (t := S17408x1024) (s₁ := S16384x1024) (s₂ := S1024x1024) 0 p s _ (ix2 r k) rfl (ix2 (⟨r.val, h⟩ : Fin 16384) k) fun b => ?_
    match b with
    | ⟨0, _⟩ => rfl
    | ⟨1, _⟩ => rfl
  · rw [dif_neg h]
    refine concatenate_pair_apply_right (t := S17408x1024) (s₁ := S16384x1024) (s₂ := S1024x1024) 0 p s _ (ix2 r k) rfl rfl (ix2 (⟨r.val - 16384, by omega⟩ : Fin 1024) k) (fun b hb => ?_) ?_
    · match b with
      | ⟨0, _⟩ => exact absurd rfl hb
      | ⟨1, _⟩ => rfl
    · show r.val - 16384 + 16384 = r.val
      omega

/-- The three branches' projections, as the reference computes them. -/
theorem dot_apply (w : FVec Ideal S3x1024x2048 .f32) (y : FVec Ideal S17408x3x1024 .f32) (b : Fin 3) (d : Fin 2048) (r : Fin 17408) :
    Host.dotGeneral dot_S3x1024x2048_S17408x3x1024_S3x2048x17408_1_2_2_0_0_1 none w y (ix3 b d r)
      = (∑ k : Fin 1024, w (ix3 b k d) * y (ix3 r b k) : EReal) := by
  show FloatOps.dotGeneral _ none _ w y (ix3 b d r) = _
  rw [Ideal.dotGeneral_apply,
    ← Equiv.sum_comp (contrEquiv1 dot_S3x1024x2048_S17408x3x1024_S3x2048x17408_1_2_2_0_0_1 1024 rfl rfl).symm]
  refine Finset.sum_congr rfl fun c _ => ?_
  have c3 := contrEquiv1_symm_val dot_S3x1024x2048_S17408x3x1024_S3x2048x17408_1_2_2_0_0_1 1024 rfl rfl c
  refine congrArg₂ (fun a b : EReal => a * b) (congrArg w (funext fun a => Fin.ext ?_)) (congrArg y (funext fun a => Fin.ext ?_))
  · match a with
    | ⟨0, _⟩ => rfl
    | ⟨1, _⟩ => exact c3
    | ⟨2, _⟩ => rfl
  · match a with
    | ⟨0, _⟩ => rfl
    | ⟨1, _⟩ => rfl
    | ⟨2, _⟩ => exact c3

theorem reduces_branches : Shape.Reduces S17408x3x2048 [1] S17408x2048 := by decide

/-- The reference's sum over the branches. -/
theorem sum_apply (x : FVec Ideal S17408x3x2048 .f32) (r : Fin 17408) (d : Fin 2048) :
    Host.reduceAdd x (constant (F := Ideal) S_ .f32 0x00000000#32) reducesTo_S17408x3x2048_S17408x2048_d1 h_S_ (ix2 r d)
      = (x (ix3 r (0 : Fin 3) d) + x (ix3 r (1 : Fin 3) d) + x (ix3 r (2 : Fin 3) d) : EReal) := by
  rw [hostReduceAdd_apply, Ideal.hostReduceAdd_single _ reduces_branches]
  have e4 : ∀ b : Fin 3, x (reduces_branches.lift (ix2 r d) b) = x (ix3 r b d) := fun b =>
    congrArg x (funext fun a => by
      match a with
      | ⟨0, _⟩ => rfl
      | ⟨1, _⟩ => rfl
      | ⟨2, _⟩ => rfl)
  refine (congrArg₂ (fun a b : EReal => a + b) Ideal.ofBits_zero_f32 (Finset.sum_congr rfl fun b _ => e4 b)).trans ?_
  refine (zero_add _).trans ?_
  exact Fin.sum_univ_three (fun b : Fin 3 => (x (ix3 r b d) : EReal))

/-- The three branches' rows, side by side: the first, -/
theorem stack_apply (x0 x1 x2 : FVec Ideal S17408x1x1024 .f32) (r : Fin 17408) (k : Fin 1024) :
    concatenate S17408x3x1024 1 [⟨S17408x1x1024, x0⟩, ⟨S17408x1x1024, x1⟩, ⟨S17408x1x1024, x2⟩]
      concatenates_S17408x1x1024_S17408x1x1024_S17408x1x1024_S17408x3x1024_d1 (ix3 r (0 : Fin 3) k) = x0 (ix3 r (0 : Fin 1) k)
    ∧ concatenate S17408x3x1024 1 [⟨S17408x1x1024, x0⟩, ⟨S17408x1x1024, x1⟩, ⟨S17408x1x1024, x2⟩]
      concatenates_S17408x1x1024_S17408x1x1024_S17408x1x1024_S17408x3x1024_d1 (ix3 r (1 : Fin 3) k) = x1 (ix3 r (0 : Fin 1) k)
    ∧ concatenate S17408x3x1024 1 [⟨S17408x1x1024, x0⟩, ⟨S17408x1x1024, x1⟩, ⟨S17408x1x1024, x2⟩]
      concatenates_S17408x1x1024_S17408x1x1024_S17408x1x1024_S17408x3x1024_d1 (ix3 r (2 : Fin 3) k) = x2 (ix3 r (0 : Fin 1) k) := by
  refine ⟨concatenate_apply_piece (t := S17408x3x1024) 1 _ _ (ix3 r (0 : Fin 3) k) 0 (by simp) S17408x1x1024 x0 rfl rfl 0 rfl (ix3 r (0 : Fin 1) k) (fun b hb => ?_) rfl,
    concatenate_apply_piece (t := S17408x3x1024) 1 _ _ (ix3 r (1 : Fin 3) k) 1 (by simp) S17408x1x1024 x1 rfl rfl 1 rfl (ix3 r (0 : Fin 1) k) (fun b hb => ?_) rfl,
    concatenate_apply_piece (t := S17408x3x1024) 1 _ _ (ix3 r (2 : Fin 3) k) 2 (by simp) S17408x1x1024 x2 rfl rfl 2 rfl (ix3 r (0 : Fin 1) k) (fun b hb => ?_) rfl⟩
  all_goals
    match b with
    | ⟨0, _⟩ => rfl
    | ⟨1, _⟩ => exact absurd rfl hb
    | ⟨2, _⟩ => rfl

/-- One branch's part of the reference's sum, for any stack of rows. -/
theorem part_apply (g : FVec Ideal S17408x12800 .f32) (w : FVec Ideal S3x1024x2048 .f32) (y : FVec Ideal S17408x3x1024 .f32)
    (yr : Fin 17408 → Fin 1024 → EReal) (r : Fin 17408) (b : Fin 3) (d : Fin 2048) (hy : ∀ k : Fin 1024, y (ix3 r b k) = yr r k) :
    mulf (Host.divf (broadcastInDim S17408x3x2048 ![] bcast_S_S17408x3x2048 (constant (F := Ideal) S_ .f32 0x3F800000#32))
      (addf (broadcastInDim S17408x3x2048 ![] bcast_S_S17408x3x2048 (constant S_ .f32 0x3F800000#32))
        (Host.exp (Host.negf (shapeCast S17408x3x2048 (extractStridedSlice S17408x6144 ![0, 6656] g slices_S17408x12800_S17408x6144_0_6656)
          shapeCasts_S17408x6144_S17408x3x2048)))))
      (transpose S17408x3x2048 [2, 0, 1] (Host.dotGeneral dot_S3x1024x2048_S17408x3x1024_S3x2048x17408_1_2_2_0_0_1 none w y)
        transposes_S3x2048x17408_S17408x3x2048_2_0_1) (ix3 r b d)
      = part yr g w b r d := by
  unfold part
  refine congrArg₂ (fun a b : EReal => a * b) (gate_apply g r b d) ?_
  refine (transpose_apply _ _ _ _ (ix3 b d r) fun a => ?_).trans ((dot_apply w y b d r).trans ?_)
  · match a with
    | ⟨0, _⟩ => rfl
    | ⟨1, _⟩ => rfl
    | ⟨2, _⟩ => rfl
  · exact Finset.sum_congr rfl fun k _ => (mul_comm _ _).trans (congrArg (fun a : EReal => a * w (ix3 b k d)) (hy k))

/-- The reference's result is `entry` of its arguments. -/
theorem reference_eq (p0 p1 p2 : FVec Ideal S16384x1024 .f32) (s0 s1 s2 : FVec Ideal S1024x1024 .f32)
    (g : FVec Ideal S17408x12800 .f32) (w : FVec Ideal S3x1024x2048 .f32) :
    truncf .bf16 (Host.reduceAdd (mulf (Host.divf (broadcastInDim S17408x3x2048 ![] bcast_S_S17408x3x2048 (constant (F := Ideal) S_ .f32 0x3F800000#32))
      (addf (broadcastInDim S17408x3x2048 ![] bcast_S_S17408x3x2048 (constant S_ .f32 0x3F800000#32))
        (Host.exp (Host.negf (shapeCast S17408x3x2048 (extractStridedSlice S17408x6144 ![0, 6656] g slices_S17408x12800_S17408x6144_0_6656)
          shapeCasts_S17408x6144_S17408x3x2048)))))
      (transpose S17408x3x2048 [2, 0, 1] (Host.dotGeneral dot_S3x1024x2048_S17408x3x1024_S3x2048x17408_1_2_2_0_0_1 none w
        (concatenate S17408x3x1024 1
          [⟨S17408x1x1024, broadcastInDim S17408x1x1024 ![0, 2] bcast_S17408x1024_S17408x1x1024_0_2
              (concatenate S17408x1024 0 [⟨S16384x1024, p0⟩, ⟨S1024x1024, s0⟩] concatenates_S16384x1024_S1024x1024_S17408x1024_d0)⟩,
            ⟨S17408x1x1024, broadcastInDim S17408x1x1024 ![0, 2] bcast_S17408x1024_S17408x1x1024_0_2
              (concatenate S17408x1024 0 [⟨S16384x1024, p1⟩, ⟨S1024x1024, s1⟩] concatenates_S16384x1024_S1024x1024_S17408x1024_d0)⟩,
            ⟨S17408x1x1024, broadcastInDim S17408x1x1024 ![0, 2] bcast_S17408x1024_S17408x1x1024_0_2
              (concatenate S17408x1024 0 [⟨S16384x1024, p2⟩, ⟨S1024x1024, s2⟩] concatenates_S16384x1024_S1024x1024_S17408x1024_d0)⟩]
          concatenates_S17408x1x1024_S17408x1x1024_S17408x1x1024_S17408x3x1024_d1))
        transposes_S3x2048x17408_S17408x3x2048_2_0_1))
      (constant S_ .f32 0x00000000#32) reducesTo_S17408x3x2048_S17408x2048_d1 h_S_) bitsLt_bf16_f32
      = entry p0 p1 p2 s0 s1 s2 g w := by
  funext i
  obtain ⟨r, d, rfl⟩ : ∃ (r : Fin 17408) (d : Fin 2048), i = ix2 r d := ⟨i 0, i 1, eq_ix2 i⟩
  refine (sum_apply _ r d).trans ?_
  refine congrArg₂ (fun a b : EReal => a + b) (congrArg₂ (fun a b : EReal => a + b) ?_ ?_) ?_
  · exact part_apply g w _ (rows p0 s0) r 0 d fun k => (stack_apply _ _ _ r k).1.trans (branch_apply p0 s0 r k)
  · exact part_apply g w _ (rows p1 s1) r 1 d fun k => (stack_apply _ _ _ r k).2.1.trans (branch_apply p1 s1 r k)
  · exact part_apply g w _ (rows p2 s2) r 2 d fun k => (stack_apply _ _ _ r k).2.2.trans (branch_apply p2 s2 r k)

end Host

section
open Cert.Kernel3Ideal Cert.Kernel3Ideal.Gen Cert.Kernel3Ideal.Value

/-- The kernel's result is the reference's, over the reals. -/
theorem algebraic : algebraic_Kernel3Ideal_Reference3Ideal
    (hKernel3Ideal := Cert.Kernel3Ideal.Gen.facts) (hReference3Ideal := Cert.Reference3Ideal.Gen.facts) := by
  intro m g m' g' _ hargs
  refine ⟨fun c => entry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)), ?_, ?_⟩
  · refine (θ_run defs _ _).mono (fun r h c => ?_) (run_blocks (F := Ideal) m g)
    obtain ⟨h0, h⟩ := h c
    exact ⟨h0.trans (final m c), h⟩
  · refine (θ_run Cert.Reference3Ideal.defs _ _).mono (fun r h c => ?_) (Cert.Reference3Ideal.Value.run (F := Ideal) m' g')
    obtain ⟨h0, h⟩ := h c
    obtain ⟨a0, a1, a2, a3, a4, a5, a6, a7⟩ := hargs c
    refine ⟨h0.trans ?_, h⟩
    rw [a0, a1, a2, a3, a4, a5, a6, a7]
    exact reference_eq _ _ _ _ _ _ _ _

end

end Cert.BranchMix

end
-- ==== Proof.OutProj.lean ====
/-
  The output projection with its residual: the kernel's blocked product, read entry by entry, is the reference's.
-/
module

public import proofs.«01_k».proof.Defs
public import proofs.«01_k».proof.Proof.Gen.Kernel4Ideal.Value
public import proofs.«01_k».proof.Proof.Gen.Reference4Ideal.Run
public import Idealize.ShloMosaic.Lib.StackMember
public import Idealize.ShloMosaic.Lib.ValueIdxCore

@[expose] public section

noncomputable section

namespace Cert.OutProj

open Cert.Kernel4Ideal Cert.Kernel4Ideal.Gen Cert.Kernel4Ideal.Value
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- What the call computes at one entry: the residual plus the inner product of a row and a column. -/
def entry (a : S17408x2048.Idx → EReal) (w : S2048x2048.Idx → EReal) (x : S17408x2048.Idx → EReal) : S17408x2048.Idx → EReal :=
  fun i => x i + ∑ k : Fin 2048, a (ix2 (i 0) k) * w (ix2 k (i 1))

theorem hz : (![0, 0] : Fin 2 → Nat) = fun _ => 0 := funext fun a => by fin_cases a <;> rfl

/-- The body's result from the three blocks: the residual plus their product. -/
theorem pay_eq (x2 : FVec Ideal S1024x512 .f32) (x0 : FVec Ideal S1024x2048 .bf16) (x1 : FVec Ideal S2048x512 .bf16) :
    k0_pay1 x2 x0 x1 = addf x2 (Host.dotGeneral dot_S1024x2048_S2048x512_S1024x512_1_0_0_1_n_n none x0 x1) := by
  show addf x2 (matmul dot_S1024x2048_S2048x512_S1024x512_1_0_0_1_n_n none x0 (shapeCast S2048x512 x1 shapeCasts_S2048x512_S2048x512) (constant S1024x512 .f32 0x00000000#32)) = _
  rw [shapeCast_self, matmul_zero_eq_dotGeneral]

/-- One block of the result, entry by entry, from the three blocks it is computed from. -/
theorem out_apply (x0 : Vec Ideal S1024x2048 .bf16) (x1 : Vec Ideal S2048x512 .bf16) (x2 : Vec Ideal S1024x512 .f32) (y : S1024x512.Idx) :
    out0_3 x0 x1 x2 y = x2 y + ∑ k : Fin 2048, x0 (ix2 (y 0) k) * x1 (ix2 k (y 1)) := by
  unfold out0_3
  rw [View.canon_unit_zero hz, View.ld_unit_zero hz, View.ld_unit_zero hz, View.ld_unit_zero hz]
  rw [pay_eq]
  show x2 y + _ = _
  congr 1
  rw [eq_ix2 y]
  exact StackMember.dotGeneral_plain_apply (m := 1024) (n := 512) (k := 2048) none x0 x1 (y 0) (y 1)

/-- The weights as the call finds them are those launched: over the reals the cast changes nothing. -/
theorem weights (c : Dev nD) : V m c main_v0 = m ((c : Thread nD τ).loc main_arg1) := by
  show StableHlo.after hostOps0 _ _ = _
  after_results
  rfl

/-- Each window's block at a point of the grid starts where the point's coordinates say (decided over the 68 points). -/
theorem starts : ∀ t : Fin cfg0.N, win0_3.index t (0 : Fin 2) ≤ 16 ∧ win0_3.index t (1 : Fin 2) ≤ 3
    ∧ win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

/-- Every block of the result is written at some point. -/
theorem onto : ∀ (q0 : Fin 17) (q1 : Fin 4), ∃ t : Fin cfg0.N, (cfg0.win 3).flush t = true ∧ win0_3.index t = ![q0.val, q1.val] :=
  (by decide +kernel : ∀ (q0 : Fin 17) (q1 : Fin 4), ∃ t : Fin grid0.N, win0_3.flush t = true ∧ win0_3.index t = ![q0.val, q1.val])

/-- What one point writes back is its block of `entry`. -/
theorem flushed_eq (c : Dev nD) (t : Fin cfg0.N) :
    (dats m 0 c).flushed 3 t = ((cfg0.win 3).blk t).view.read (Elt Ideal)
      (entry (m ((c : Thread nD τ).loc main_arg0)) (m ((c : Thread nD τ).loc main_arg1)) (m ((c : Thread nD τ).loc main_arg2)) : Buf (Elt Ideal) ((c : Thread nD τ).loc main_v1)) := by
  rw [flushed3]
  obtain ⟨-, -, e00, e01, e10, e11, e20, e21⟩ := starts t
  funext y
  show out0_3 (iblk m c 0 t) (iblk m c 1 t) (iblk m c 2 t) y = entry _ _ _ (((cfg0.win 3).blk t).view.emb y)
  rw [out_apply]
  unfold entry
  have hb0 : (((cfg0.win 3).blk t).view.emb y 0).val = win0_3.index t (0 : Fin 2) * 1024 + 1 * (y 0).val := rfl
  have hb1 : (((cfg0.win 3).blk t).view.emb y 1).val = win0_3.index t (1 : Fin 2) * 512 + 1 * (y 1).val := rfl
  have h0 : ∀ k : Fin 2048, iblk m c 0 t (ix2 (y 0) k) = m ((c : Thread nD τ).loc main_arg0) (ix2 (((cfg0.win 3).blk t).view.emb y 0) k) := fun k => by
    show V m c main_arg0 (((cfg0.win 0).blk t).view.emb (ix2 (y 0) k)) = _
    rw [V_main_arg0]
    refine congrArg _ (funext fun a => Fin.ext ?_)
    match a with
    | ⟨0, _⟩ => show win0_0.index t (0 : Fin 2) * 1024 + 1 * (y 0).val = (((cfg0.win 3).blk t).view.emb y 0).val; rw [hb0, e00]
    | ⟨1, _⟩ => show win0_0.index t (1 : Fin 2) * 2048 + 1 * k.val = k.val; rw [e01]; omega
  have h1 : ∀ k : Fin 2048, iblk m c 1 t (ix2 k (y 1)) = m ((c : Thread nD τ).loc main_arg1) (ix2 k (((cfg0.win 3).blk t).view.emb y 1)) := fun k => by
    show V m c main_v0 (((cfg0.win 1).blk t).view.emb (ix2 k (y 1))) = _
    rw [weights]
    refine congrArg _ (funext fun a => Fin.ext ?_)
    match a with
    | ⟨0, _⟩ => show win0_1.index t (0 : Fin 2) * 2048 + 1 * k.val = k.val; rw [e10]; omega
    | ⟨1, _⟩ => show win0_1.index t (1 : Fin 2) * 512 + 1 * (y 1).val = (((cfg0.win 3).blk t).view.emb y 1).val; rw [hb1, e11]
  have h2 : iblk m c 2 t y = m ((c : Thread nD τ).loc main_arg2) (((cfg0.win 3).blk t).view.emb y) := by
    show V m c main_arg2 (((cfg0.win 2).blk t).view.emb y) = _
    rw [V_main_arg2]
    refine congrArg _ (funext fun a => Fin.ext ?_)
    match a with
    | ⟨0, _⟩ => show win0_2.index t (0 : Fin 2) * 1024 + 1 * (y 0).val = (((cfg0.win 3).blk t).view.emb y 0).val; rw [hb0, e20]
    | ⟨1, _⟩ => show win0_2.index t (1 : Fin 2) * 512 + 1 * (y 1).val = (((cfg0.win 3).blk t).view.emb y 1).val; rw [hb1, e21]
  exact congrArg₂ (· + ·) h2 (Finset.sum_congr rfl fun k _ => congrArg₂ (· * ·) (h0 k) (h1 k))

/-- The result array after the run, entry by entry: the blocks tile it. -/
theorem final (c : Dev nD) : (dats m 0 c).arrAt 3 cfg0.N
    = (entry (m ((c : Thread nD τ).loc main_arg0)) (m ((c : Thread nD τ).loc main_arg1)) (m ((c : Thread nD τ).loc main_arg2)) : Buf (Elt Ideal) ((c : Thread nD τ).loc main_v1)) :=
  (dats m 0 c).arrAt_eq_of_cover 3 _ (fun t _ => flushed_eq m c t) fun i => by
    have hi0 : (i 0).val < 17408 := (i 0).isLt
    have hi1 : (i 1).val < 2048 := (i 1).isLt
    obtain ⟨t, hf, ht⟩ := onto ⟨(i 0).val / 1024, by omega⟩ ⟨(i 1).val / 512, by omega⟩
    have q0 : win0_3.index t (0 : Fin 2) = (i 0).val / 1024 := congrFun ht 0
    have q1 : win0_3.index t (1 : Fin 2) = (i 1).val / 512 := congrFun ht 1
    refine ⟨t, hf, ?_⟩
    show i ∈ ((View.whole main_v1).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 512 ≤ (i 1).val ∧ (i 1).val < win0_3.index t (1 : Fin 2) * 512 + 512; omega

/-- The reference's result is `entry` of its arguments. -/
theorem reference_eq (a : FVec Ideal S17408x2048 .bf16) (w : FVec Ideal S2048x2048 .f32) (x : FVec Ideal S17408x2048 .f32) :
    addf x (Host.dotGeneral Cert.Reference4Ideal.dot_S17408x2048_S2048x2048_S17408x2048_1_0_0_1_n_n none (extf .f32 a bitsLt_bf16_f32) w)
      = entry a w x := by
  funext i
  show x i + _ = x i + _
  congr 1
  rw [eq_ix2 i]
  exact StackMember.dotGeneral_plain_apply (m := 17408) (n := 2048) (k := 2048) none _ w (i 0) (i 1)

/-- The kernel's result is the reference's, over the reals. -/
theorem algebraic : algebraic_Kernel4Ideal_Reference4Ideal
    (hKernel4Ideal := Cert.Kernel4Ideal.Gen.facts) (hReference4Ideal := Cert.Reference4Ideal.Gen.facts) := by
  intro m g m' g' _ hargs
  refine ⟨fun c => entry (m ((c : Thread nD τ).loc main_arg0)) (m ((c : Thread nD τ).loc main_arg1)) (m ((c : Thread nD τ).loc main_arg2)), ?_, ?_⟩
  · refine (θ_run defs _ _).mono (fun r h c => ?_) (run_blocks (F := Ideal) m g)
    obtain ⟨h0, h⟩ := h c
    exact ⟨h0.trans (final m c), h⟩
  · refine (θ_run Cert.Reference4Ideal.defs _ _).mono (fun r h c => ?_) (Cert.Reference4Ideal.Value.run (F := Ideal) m' g')
    obtain ⟨h0, h⟩ := h c
    obtain ⟨a0, a1, a2⟩ := hargs c
    refine ⟨h0.trans ?_, h⟩
    rw [a0, a1, a2]
    exact reference_eq _ _ _

end Cert.OutProj

end
-- ==== Proof.CastW.lean ====
/-
  The cast of one layer's input weights: the kernel's row blocks, read entry by entry, are the reference's cast.
-/
module

public import proofs.«01_k».proof.Defs
public import proofs.«01_k».proof.Proof.Gen.Kernel5Ideal.Value
public import proofs.«01_k».proof.Proof.Gen.Reference5Ideal.Run
public import Idealize.ShloMosaic.Lib.ValueIdxCore

@[expose] public section

noncomputable section

namespace Cert.CastW

open Cert.Kernel5Ideal Cert.Kernel5Ideal.Gen Cert.Kernel5Ideal.Value
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- What the call computes at one entry: the first layer's weight there. -/
def entry (w : S2x2048x12800.Idx → EReal) : S2048x12800.Idx → EReal := fun i => w (ix3 (0 : Fin 2) (i 0) (i 1))

theorem hz : (![0, 0] : Fin 2 → Nat) = fun _ => 0 := funext fun a => by fin_cases a <;> rfl
theorem hz3 : (![0, 0, 0] : Fin 3 → Nat) = fun _ => 0 := funext fun a => by fin_cases a <;> rfl

/-- One block of the result, entry by entry. -/
theorem out_apply (x0 : Vec Ideal S1x128x12800 .f32) (y : S128x12800.Idx) : out0_1 x0 y = x0 (ix1_0 y) := by
  unfold out0_1
  rw [View.ld_unit_zero hz3]
  exact canon1_eq x0 y

/-- Each window's block at a point of the grid starts where the point says (decided over the 16 points). -/
theorem starts : ∀ t : Fin cfg0.N, win0_1.index t (0 : Fin 2) ≤ 15 ∧ win0_1.index t (1 : Fin 2) = 0
    ∧ win0_0.index t (0 : Fin 3) = 0 ∧ win0_0.index t (1 : Fin 3) = win0_1.index t (0 : Fin 2) ∧ win0_0.index t (2 : Fin 3) = 0 :=
  (by decide +kernel : ∀ t : Fin grid0.N, _)

/-- Every block of the result is written at some point. -/
theorem onto : ∀ q0 : Fin 16, ∃ t : Fin cfg0.N, (cfg0.win 1).flush t = true ∧ win0_1.index t = ![q0.val, 0] :=
  (by decide +kernel : ∀ q0 : Fin 16, ∃ t : Fin grid0.N, win0_1.flush t = true ∧ win0_1.index t = ![q0.val, 0])

/-- What one point writes back is its block of `entry`. -/
theorem flushed_eq (c : Dev nD) (t : Fin cfg0.N) :
    (dats m 0 c).flushed 1 t = ((cfg0.win 1).blk t).view.read (Elt Ideal)
      (entry (m ((c : Thread nD τ).loc main_arg0)) : Buf (Elt Ideal) ((c : Thread nD τ).loc main_v0)) := by
  rw [flushed1]
  obtain ⟨-, e1, e2, e3, e4⟩ := starts t
  funext y
  show out0_1 (iblk m c 0 t) y = entry _ (((cfg0.win 1).blk t).view.emb y)
  rw [out_apply]
  unfold entry
  show V m c main_arg0 (((cfg0.win 0).blk t).view.emb (ix1_0 y)) = _
  rw [V_main_arg0]
  refine congrArg _ (funext fun a => Fin.ext ?_)
  match a with
  | ⟨0, _⟩ => show win0_0.index t (0 : Fin 3) * 1 + 1 * 0 = 0; omega
  | ⟨1, _⟩ => show win0_0.index t (1 : Fin 3) * 128 + 1 * (y 0).val = win0_1.index t (0 : Fin 2) * 128 + 1 * (y 0).val; omega
  | ⟨2, _⟩ => show win0_0.index t (2 : Fin 3) * 12800 + 1 * (y 1).val = win0_1.index t (1 : Fin 2) * 12800 + 1 * (y 1).val; omega

/-- The result array after the run, entry by entry: the blocks tile it. -/
theorem final (c : Dev nD) : (dats m 0 c).arrAt 1 cfg0.N
    = (entry (m ((c : Thread nD τ).loc main_arg0)) : Buf (Elt Ideal) ((c : Thread nD τ).loc main_v0)) :=
  (dats m 0 c).arrAt_eq_of_cover 1 _ (fun t _ => flushed_eq m c t) fun i => by
    have hi0 : (i 0).val < 2048 := (i 0).isLt
    have hi1 : (i 1).val < 12800 := (i 1).isLt
    obtain ⟨t, hf, ht⟩ := onto ⟨(i 0).val / 128, by omega⟩
    have q0 : win0_1.index t (0 : Fin 2) = (i 0).val / 128 := congrFun ht 0
    have q1 : win0_1.index t (1 : Fin 2) = 0 := congrFun ht 1
    refine ⟨t, hf, ?_⟩
    show i ∈ ((View.whole main_v0).slice (win0_1.rect t)).set
    rw [View.set_slice_whole, Rect.mem_set_unit]
    intro a
    match a with
    | ⟨0, _⟩ => show win0_1.index t (0 : Fin 2) * 128 ≤ (i 0).val ∧ (i 0).val < win0_1.index t (0 : Fin 2) * 128 + 128; omega
    | ⟨1, _⟩ => show win0_1.index t (1 : Fin 2) * 12800 ≤ (i 1).val ∧ (i 1).val < win0_1.index t (1 : Fin 2) * 12800 + 12800; omega

/-- The reference's result is `entry` of its argument. -/
theorem reference_eq (w : FVec Ideal S2x2048x12800 .f32) :
    truncf .bf16 (shapeCast Cert.Reference5Ideal.S2048x12800 (extractStridedSlice Cert.Reference5Ideal.S1x2048x12800 ![0, 0, 0] w
      Cert.Reference5Ideal.Gen.slices_S2x2048x12800_S1x2048x12800_0_0_0) Cert.Reference5Ideal.Gen.shapeCasts_S1x2048x12800_S2048x12800)
      Cert.Reference5Ideal.Gen.bitsLt_bf16_f32 = (entry w : FVec Ideal S2048x12800 .bf16) := by
  funext i
  have hi0 : (i 0).val < 2048 := (i 0).isLt
  have hi1 : (i 1).val < 12800 := (i 1).isLt
  refine (shapeCast_apply (extractStridedSlice Cert.Reference5Ideal.S1x2048x12800 ![0, 0, 0] w
      Cert.Reference5Ideal.Gen.slices_S2x2048x12800_S1x2048x12800_0_0_0) _ i (ix3 (0 : Fin 1) (i 0) (i 1)) ?_).trans ?_
  · rw [Shape.rowMajor_val_three, Shape.rowMajor_val_two]
    show (0 * 2048 + (i 0).val) * 12800 + (i 1).val = (i 0).val * 12800 + (i 1).val
    omega
  · refine congrArg w (funext fun a => Fin.ext ?_)
    match a with
    | ⟨0, _⟩ => rfl
    | ⟨1, _⟩ => show 0 + (i 0).val = (i 0).val; omega
    | ⟨2, _⟩ => show 0 + (i 1).val = (i 1).val; omega

/-- The kernel's result is the reference's, over the reals. -/
theorem algebraic : algebraic_Kernel5Ideal_Reference5Ideal
    (hKernel5Ideal := Cert.Kernel5Ideal.Gen.facts) (hReference5Ideal := Cert.Reference5Ideal.Gen.facts) := by
  intro m g m' g' _ hargs
  refine ⟨fun c => entry (m ((c : Thread nD τ).loc main_arg0)), ?_, ?_⟩
  · refine (θ_run defs _ _).mono (fun r h c => ?_) (run_blocks (F := Ideal) m g)
    obtain ⟨h0, h⟩ := h c
    exact ⟨h0.trans (final m c), h⟩
  · refine (θ_run Cert.Reference5Ideal.defs _ _).mono (fun r h c => ?_) (Cert.Reference5Ideal.Value.run (F := Ideal) m' g')
    obtain ⟨h0, h⟩ := h c
    have a0 := hargs c
    refine ⟨h0.trans ?_, h⟩
    rw [a0]
    exact reference_eq _

end Cert.CastW

end
-- ==== Proof.Swa.Math.lean ====
/-
  Attention over two neighbouring blocks, as a formula on extended reals: the softmax of 256 scores and a sink, split in two halves of 128.
-/
module

public import Idealize.ShloMosaic.PureOps.Ideal

@[expose] public section

noncomputable section

namespace Cert.Swa

open Idealize.ShloMosaic

/-- The largest of finitely many scores (`⊥` for none). -/
def top {n : Nat} (a : Fin n → EReal) : EReal := Finset.univ.fold max ⊥ a

/-- The largest of two halves' scores and the sink. -/
def peak (a b : Fin 128 → EReal) (k : EReal) : EReal := max (max (top a) (top b)) k

/-- The softmax's denominator. -/
def den (a b : Fin 128 → EReal) (k : EReal) : EReal :=
  (∑ s, Ideal.exp (a s - peak a b k)) + (∑ s, Ideal.exp (b s - peak a b k)) + Ideal.exp (k - peak a b k)

/-- One half's weighted values. -/
def part (m d : EReal) (a u : Fin 128 → EReal) : EReal := ∑ s, Ideal.div (Ideal.exp (a s - m)) d * u s

/-- Attention over two halves: scores `a`, `b`, sink `k`, values `u`, `w`. -/
def attn (a b : Fin 128 → EReal) (k : EReal) (u w : Fin 128 → EReal) : EReal :=
  part (peak a b k) (den a b k) a u + part (peak a b k) (den a b k) b w

/-- Attention over all 256 scores at once. -/
def whole (s : Fin 256 → EReal) (k : EReal) (v : Fin 256 → EReal) : EReal :=
  ∑ j, v j * Ideal.div (Ideal.exp (s j - max (top s) k))
    ((∑ j, Ideal.exp (s j - max (top s) k)) + Ideal.exp (k - max (top s) k))

/-- The position of the first half's `s` among the 256, and of the second half's. -/
def lo (s : Fin 128) : Fin 256 := ⟨s.val, by omega⟩
def hi (s : Fin 128) : Fin 256 := ⟨128 + s.val, by omega⟩

/-- A sum over both halves. -/
theorem sum_halves (f : Fin 256 → EReal) : ∑ j, f j = (∑ s, f (lo s)) + ∑ s, f (hi s) :=
  Fin.sum_univ_add (a := 128) (b := 128) f

/-- A maximum over both halves. -/
theorem top_halves (f : Fin 256 → EReal) : top f = max (top fun s => f (lo s)) (top fun s => f (hi s)) := by
  unfold top
  refine le_antisymm ((Finset.fold_max_le _).2 ⟨bot_le, fun j _ => ?_⟩) (max_le ((Finset.fold_max_le _).2 ⟨bot_le, fun s _ => ?_⟩) ((Finset.fold_max_le _).2 ⟨bot_le, fun s _ => ?_⟩))
  · by_cases h : j.val < 128
    · exact le_max_of_le_left ((Finset.le_fold_max _).2 (.inr ⟨⟨j.val, h⟩, Finset.mem_univ _, le_refl _⟩))
    · refine le_max_of_le_right ((Finset.le_fold_max _).2 (.inr ⟨⟨j.val - 128, by omega⟩, Finset.mem_univ _, le_of_eq (congrArg f (Fin.ext ?_))⟩))
      show j.val = 128 + (j.val - 128)
      omega
  · exact (Finset.le_fold_max _).2 (.inr ⟨lo s, Finset.mem_univ _, le_refl _⟩)
  · exact (Finset.le_fold_max _).2 (.inr ⟨hi s, Finset.mem_univ _, le_refl _⟩)

/-- The two readings of the attention agree. -/
theorem whole_eq (s : Fin 256 → EReal) (k : EReal) (v : Fin 256 → EReal) :
    whole s k v = attn (fun t => s (lo t)) (fun t => s (hi t)) k (fun t => v (lo t)) (fun t => v (hi t)) := by
  unfold whole attn part
  rw [sum_halves, sum_halves (fun j => Ideal.exp (s j - max (top s) k)), top_halves]
  exact congrArg₂ (fun a b : EReal => a + b) (Finset.sum_congr rfl fun t _ => mul_comm _ _) (Finset.sum_congr rfl fun t _ => mul_comm _ _)

/-- An exponential is not negative. -/
theorem exp_nonneg (x : EReal) : 0 ≤ Ideal.exp x := by
  induction x with
  | bot => exact le_refl _
  | top => exact le_top
  | coe r => exact EReal.coe_nonneg.2 (Real.exp_pos r).le

/-- The exponential of −∞ is zero. -/
theorem exp_bot_sub (m : EReal) : Ideal.exp (⊥ - m) = 0 := by
  rw [sub_eq_add_neg, EReal.bot_add]; rfl

/-- Twice −∞ times a number is that once. -/
theorem bot_mul_twice (x : EReal) : (⊥ : EReal) * x + ⊥ * x = ⊥ * x := by
  rcases lt_trichotomy x 0 with h | h | h
  · rw [EReal.bot_mul_of_neg h]; rfl
  · rw [h, mul_zero, add_zero]
  · rw [EReal.bot_mul_of_pos h]; rfl

/-- Zero by zero is −∞ in these reals. -/
theorem div_zero_zero : Ideal.div 0 0 = ⊥ := by simp [Ideal.div]

/-- Where every score of the first half is masked, its values do not matter, provided they are the second half's or zero:
    the weights are 0, or, when no weight is positive at all, both halves hold the same sum of infinities. -/
theorem attn_masked (a b : Fin 128 → EReal) (k : EReal) (w : Fin 128 → EReal) (ha : ∀ s, a s = ⊥) :
    attn a b k w w = attn a b k (fun _ => 0) w := by
  unfold attn
  generalize hm : peak a b k = m
  generalize hd : den a b k = d
  have e0 : ∀ s, Ideal.exp (a s - m) = 0 := fun s => by rw [ha s]; exact exp_bot_sub m
  have z : part m d a (fun _ => 0) = 0 := Finset.sum_eq_zero fun s _ => mul_zero _
  rw [z, zero_add]
  by_cases h : d = 0
  · have nb : 0 ≤ ∑ s, Ideal.exp (b s - m) := Finset.sum_nonneg fun s _ => exp_nonneg _
    have sb : ∑ s, Ideal.exp (b s - m) = 0 := by
      have hs : d = (∑ s, Ideal.exp (a s - m)) + (∑ s, Ideal.exp (b s - m)) + Ideal.exp (k - m) := by rw [← hd, ← hm]; rfl
      rw [h, Finset.sum_eq_zero (fun s _ => e0 s), zero_add] at hs
      refine le_antisymm ?_ nb
      calc ∑ s, Ideal.exp (b s - m) ≤ (∑ s, Ideal.exp (b s - m)) + Ideal.exp (k - m) := le_add_of_nonneg_right (exp_nonneg _)
        _ = 0 := hs.symm
    have eb : ∀ s, Ideal.exp (b s - m) = 0 := fun s =>
      (Finset.sum_eq_zero_iff_of_nonneg fun s _ => exp_nonneg _).1 sb s (Finset.mem_univ _)
    unfold part
    rw [← Finset.sum_add_distrib]
    refine Finset.sum_congr rfl fun s _ => ?_
    rw [e0, eb, h, div_zero_zero]
    exact bot_mul_twice _
  · have : part m d a w = 0 := Finset.sum_eq_zero fun s _ => by
      rw [e0]; unfold Ideal.div; rw [if_neg h, zero_mul, zero_mul]
    rw [this, zero_add]

end Cert.Swa

end
-- ==== Proof.Swa.Kernel.lean ====
/-
  The sliding-window kernel's body, entry by entry: a column of the result is one query head's attention over the
  previous and the current block.
-/
module

public import proofs.«01_k».proof.Defs
public import proofs.«01_k».proof.Proof.Swa.Math
public import proofs.«01_k».proof.Proof.Gen.Kernel6Ideal.Value
public import Idealize.ShloMosaic.Lib.StackMember
public import Idealize.ShloMosaic.Lib.ValueIdxCore
public import Idealize.ShloMosaic.Lib.KernelVsHost

@[expose] public section

noncomputable section

namespace Cert.Swa

open Cert.Kernel6Ideal Cert.Kernel6Ideal.Gen Cert.Kernel6Ideal.Value
open Idealize.ShloMosaic Idealize.ShloMosaic.TcCoe Idealize.SL.Sem
open Idealize.ShloMosaic.Pipeline (Dat)
open Idealize.ShloMosaic.ValueIdx

/-- The zero offset of a matrix. -/
theorem hz : (![0, 0] : Fin 2 → Nat) = fun _ => 0 := funext fun a => by fin_cases a <;> rfl
/-- The zero offset of a stack of matrices. -/
theorem hz3 : (![0, 0, 0] : Fin 3 → Nat) = fun _ => 0 := funext fun a => by fin_cases a <;> rfl

/-- Scores of the stacked query rows against a block of keys, where the mask lets them stand. -/
def scores (mk : IVec S512x128 1) (q : FVec Ideal S512x64 .bf16) (k : FVec Ideal S128x64 .f32) : FVec Ideal S512x128 .f32 :=
  select mk (mulf (matmul dot_S512x64_S128x64_S512x128_1_1_0_0_n_n none q (truncf .bf16 k bitsLt_bf16_f32) (constant S512x128 .f32 0x00000000#32))
    (broadcast S512x128 (Scalar.ofBits .f32 0x3E000000#32))) (broadcast S512x128 (Named.named κ "mask" 0xF149F2CA#32))

/-- One key-value head's result from its values, its scores and its sinks, one sink a row. -/
def core (vp vc : FVec Ideal S128x64 .bf16) (sp sc : FVec Ideal S512x128 .f32) (sk : FVec Ideal S512x1 .f32) : FVec Ideal S512x64 .f32 :=
  k0_pay29 vp vc sp sc sk (maximumf (shapeCast S512x1 (multiReduction .maximumf [1] S512 sp 0xFF800000#32 reduces_S512x128_S512 (.inl rfl) rfl) shapeCasts_S512_S512x1)
    (shapeCast S512x1 (multiReduction .maximumf [1] S512 sc 0xFF800000#32 reduces_S512x128_S512 (.inl rfl) rfl) shapeCasts_S512_S512x1))

/-- One key-value head's result from its scores, its values and its four sinks. -/
def weigh (sp sc : FVec Ideal S512x128 .f32) (vp vc : FVec Ideal S128x64 .f32) (s0 s1 s2 s3 : Elt Ideal .f32) : FVec Ideal S512x64 .f32 :=
  core (truncf .bf16 vp bitsLt_bf16_f32) (truncf .bf16 vc bitsLt_bf16_f32) sp sc (k0_pay27 k0_pay8 s0 s1 s2 s3)

/-- A head's columns lie within the block. -/
theorem inb_cols (h : Fin 4) : ∀ a, (![0, 64 * h.val] : Fin 2 → Nat) a + S128x64.size a ≤ S128x256.size a := fun a => by
  match a with
  | ⟨0, _⟩ => exact le_refl _
  | ⟨1, _⟩ => show 64 * h.val + 64 ≤ 256; omega

/-- A head's sink lies within the sinks. -/
theorem inb_sink (p : Fin 16) : ∀ a, (![p.val] : Fin 1 → Nat) a + S1.size a ≤ S16.size a := fun a => by
  match a with
  | ⟨0, _⟩ => show p.val + 1 ≤ 16; omega

/-- A query head's columns lie within the queries. -/
theorem slices_q (p : Fin 16) : S128x1024.Slices ![0, 64 * p.val] S128x64 := ⟨rfl, fun a => by
  match a with
  | ⟨0, _⟩ => exact le_refl _
  | ⟨1, _⟩ => show 64 * p.val + 64 ≤ 1024; omega⟩

/-- A group's rows lie within the stack. -/
theorem slices_o (g : Fin 4) : S512x64.Slices ![128 * g.val, 0] S128x64 := ⟨rfl, fun a => by
  match a with
  | ⟨0, _⟩ => show 128 * g.val + 128 ≤ 512; omega
  | ⟨1, _⟩ => exact le_refl _⟩

/-- Query head `4h + g`. -/
def qh (h g : Fin 4) : Fin 16 := ⟨4 * h.val + g.val, by omega⟩

/-- A key-value head's columns of a block of keys or values. -/
def cols (x : FVec Ideal S128x256 .f32) (h : Fin 4) : FVec Ideal S128x64 .f32 :=
  View.ld (Val := Elt Ideal) (S := S128x256) (e' := .f32) x (Rect.unit ![0, 64 * h.val] ![128, 64] (inb_cols h))

/-- A query head's columns of the block of queries. -/
def qcols (x : FVec Ideal S128x1024 .f32) (p : Fin 16) : FVec Ideal S128x64 .f32 :=
  extractStridedSlice S128x64 ![0, 64 * p.val] x (slices_q p)

/-- A query head's sink. -/
def sink (x : FVec Ideal S16 .f32) (p : Fin 16) : Elt Ideal .f32 :=
  View.ld (Val := Elt Ideal) (S := S16) (e' := .f32) x (Rect.unit ![p.val] ![1] (inb_sink p)) (Shape.Idx.first (by show 0 < S1.numel; decide))

/-- The four query heads of a key-value head, one under the other. -/
def stack (x : FVec Ideal S128x1024 .f32) (h : Fin 4) : FVec Ideal S512x64 .bf16 :=
  truncf .bf16 (concatenate S512x64 0 [⟨S128x64, qcols x (qh h 0)⟩, ⟨S128x64, qcols x (qh h 1)⟩, ⟨S128x64, qcols x (qh h 2)⟩, ⟨S128x64, qcols x (qh h 3)⟩]
    concatenates_S128x64_S128x64_S128x64_S128x64_S512x64_d0) bitsLt_bf16_f32

/-- One key-value head's result. -/
def head (i : grid0.Coords) (x0 : FVec Ideal S16 .f32) (x1 : FVec Ideal S128x1024 .f32) (x2 x3 x4 x5 : FVec Ideal S128x256 .f32) (h : Fin 4) : FVec Ideal S512x64 .f32 :=
  weigh (scores (k0_pay6 i) (stack x1 h) (cols x4 h)) (scores k0_pay7 (stack x1 h) (cols x2 h)) (cols x5 h) (cols x3 h)
    (sink x0 (qh h 0)) (sink x0 (qh h 1)) (sink x0 (qh h 2)) (sink x0 (qh h 3))

/-- A query head's rows of its key-value head's result. -/
def piece (H : Fin 4 → FVec Ideal S512x64 .f32) (h g : Fin 4) : FVec Ideal S128x64 .f32 :=
  extractStridedSlice S128x64 ![128 * g.val, 0] (H h) (slices_o g)

/-- The sixteen heads side by side. -/
def pieces (H : Fin 4 → FVec Ideal S512x64 .f32) : List ((s : Shape) × (s.Idx → Ideal .f32)) :=
  [⟨S128x64, piece H 0 0⟩, ⟨S128x64, piece H 0 1⟩, ⟨S128x64, piece H 0 2⟩, ⟨S128x64, piece H 0 3⟩,
   ⟨S128x64, piece H 1 0⟩, ⟨S128x64, piece H 1 1⟩, ⟨S128x64, piece H 1 2⟩, ⟨S128x64, piece H 1 3⟩,
   ⟨S128x64, piece H 2 0⟩, ⟨S128x64, piece H 2 1⟩, ⟨S128x64, piece H 2 2⟩, ⟨S128x64, piece H 2 3⟩,
   ⟨S128x64, piece H 3 0⟩, ⟨S128x64, piece H 3 1⟩, ⟨S128x64, piece H 3 2⟩, ⟨S128x64, piece H 3 3⟩]

/-- The body's result. -/
def body (H : Fin 4 → FVec Ideal S512x64 .f32) : FVec Ideal S128x1024 .f32 :=
  concatenate S128x1024 1 (pieces H)
    concatenates_S128x64_S128x64_S128x64_S128x64_S128x64_S128x64_S128x64_S128x64_S128x64_S128x64_S128x64_S128x64_S128x64_S128x64_S128x64_S128x64_S128x1024_d1

/-- The four key-value heads' results make the body's. -/
theorem body_of (H : Fin 4 → FVec Ideal S512x64 .f32) (w0 w1 w2 v342 : FVec Ideal S512x64 .f32) (v281 : FVec Ideal S128x64 .bf16)
    (v345 : FVec Ideal S512x128 .bf16) (z : FVec Ideal S512x64 .f32) (e0 : w0 = H 0) (e1 : w1 = H 1) (e2 : w2 = H 2)
    (e3 : addf v342 (matmul dot_S512x128_S128x64_S512x64_1_0_0_1_n_n none v345 v281 z) = H 3) :
    k0_pay1 (extractStridedSlice S128x64 ![0, 0] w0 slices_S512x64_o0_0_S128x64) (extractStridedSlice S128x64 ![128, 0] w0 slices_S512x64_o128_0_S128x64)
      (extractStridedSlice S128x64 ![256, 0] w0 slices_S512x64_o256_0_S128x64) (extractStridedSlice S128x64 ![384, 0] w0 slices_S512x64_o384_0_S128x64)
      (extractStridedSlice S128x64 ![0, 0] w1 slices_S512x64_o0_0_S128x64) (extractStridedSlice S128x64 ![128, 0] w1 slices_S512x64_o128_0_S128x64)
      (extractStridedSlice S128x64 ![256, 0] w1 slices_S512x64_o256_0_S128x64) (extractStridedSlice S128x64 ![384, 0] w1 slices_S512x64_o384_0_S128x64)
      (extractStridedSlice S128x64 ![0, 0] w2 slices_S512x64_o0_0_S128x64) (extractStridedSlice S128x64 ![128, 0] w2 slices_S512x64_o128_0_S128x64)
      (extractStridedSlice S128x64 ![256, 0] w2 slices_S512x64_o256_0_S128x64) (extractStridedSlice S128x64 ![384, 0] w2 slices_S512x64_o384_0_S128x64)
      v281 v342 v345 z = body H := by
  subst e0 e1 e2
  unfold k0_pay1
  dsimp only
  rw [e3]
  rfl

variable (g : IVec S512x1 32) (vp vc : FVec Ideal S128x64 .bf16) (sp sc : FVec Ideal S512x128 .f32) (s0 s1 s2 s3 : Elt Ideal .f32)

/-- The four heads' bodies are cut into named parts at different places; each is `core`. -/
theorem core0 : k0_pay15 g vp vc sp sc (k0_pay14 g s0 s1 s2) 3#32 s3 = core vp vc sp sc (k0_pay27 g s0 s1 s2 s3) := rfl

/-- The second head's payload is `core`. -/
theorem core1 (m1 m2 : IVec S512x128 1) (x : Vec Ideal S128x1024 .f32) (kp kc : FVec Ideal S128x64 .bf16) (sk : FVec Ideal S512x1 .f32) :
    k0_pay29 vp vc (k0_pay25 m1 x kp) (k0_pay26 m2 x kc) sk (k0_pay28 m1 m2 x kp kc) = core vp vc (k0_pay25 m1 x kp) (k0_pay26 m2 x kc) sk := rfl

/-- The third head's payload is `core`. -/
theorem core2 (m1 m2 : IVec S512x128 1) (kc : FVec Ideal S128x64 .bf16) (q : FVec Ideal S512x64 .bf16) (b : Ideal .f32) :
    k0_pay47 vp vc (k0_pay41 g s0 s1 s2 s3) (k0_pay42 m1 m2 g kc q sp b s0 s1 s2 s3) (k0_pay43 m1 m2 g kc q sp b s0 s1 s2 s3)
      (k0_pay44 m1 m2 g kc q sp b s0 s1 s2 s3) (k0_pay45 m1 m2 g kc q sp b s0 s1 s2 s3) (k0_pay46 m1 m2 g kc q sp b s0 s1 s2 s3)
      = core vp vc (k0_pay39 m1 sp b) (k0_pay40 m2 kc q) (k0_pay27 g s0 s1 s2 s3) := rfl

/-- The fourth head's payload is `core`. -/
theorem core3 : addf (k0_pay63 g vp sp sc k0_pay57 0#32 s0 s1 s2 s3)
      (matmul dot_S512x128_S128x64_S512x64_1_0_0_1_n_n none (k0_pay64 g sp sc k0_pay57 0#32 s0 s1 s2 s3) vc (constant S512x64 .f32 0x00000000#32))
      = core vp vc sp sc (k0_pay27 g s0 s1 s2 s3) := rfl

section Runs
variable (c : Dev nD) (i : grid0.Coords)
  (a2 : Memref sig .tc .smem S16 .f32) (h2 : a2.IsWhole) (a3 : Memref sig .tc .vmem S128x1024 .f32) (h3 : a3.IsWhole)
  (a4 : Memref sig .tc .vmem S128x256 .f32) (h4 : a4.IsWhole) (a5 : Memref sig .tc .vmem S128x256 .f32) (h5 : a5.IsWhole)
  (a6 : Memref sig .tc .vmem S128x256 .f32) (h6 : a6.IsWhole) (a7 : Memref sig .tc .vmem S128x256 .f32) (h7 : a7.IsWhole)
  (a8 : Memref sig .tc .vmem S128x1024 .f32) (h8 : a8.IsWhole) (a9 : Memref sig .tc .vmem S1x128x256 .f32) (h9 : a9.IsWhole)
  (a10 : Memref sig .tc .vmem S1x128x256 .f32) (h10 : a10.IsWhole)
  (x0 : Vec Ideal S16 .f32) (x1 : Vec Ideal S128x1024 .f32) (x2 x3 x4 x5 : Vec Ideal S128x256 .f32)

/-- What a point that is not the last of its sequence leaves of the result. -/
theorem out_A6 (hc : ¬cond0_0 i) :
    out0_A_6 c i a2 h2 a3 h3 a4 h4 a5 h5 a6 h6 a7 h7 a8 h8 a9 h9 a10 h10 hc x0 x1 x2 x3 x4 x5 = body (head i x0 x1 x2 x3 x4 x5) := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  rw [View.canon_unit_zero hz]
  sl_unfold_words
  simp only [View.readAt_eq_ld, h2.read_unread, h3.read_unread, h4.read_unread, h5.read_unread, h6.read_unread, h7.read_unread,
    View.ld_unit_zero (S := S128x1024) hz]
  refine body_of (head i x0 x1 x2 x3 x4 x5) _ _ _ _ _ _ _ ?_ ?_ ?_ ?_
  · exact core0 _ _ _ _ _ _ _ _ _
  · exact core1 _ _ _ _ _ _ _ _
  · exact core2 _ _ _ _ _ _ _ _ _ _ _ _ _
  · exact core3 _ _ _ _ _ _ _ _ _

/-- What the last point of a sequence leaves of the result. -/
theorem out_B6 (hc : cond0_0 i) :
    out0_B_6 c i a2 h2 a3 h3 a4 h4 a5 h5 a6 h6 a7 h7 a8 h8 a9 h9 a10 h10 hc x0 x1 x2 x3 x4 x5 = body (head i x0 x1 x2 x3 x4 x5) := by
  unfold out0_B_6
  rw [View.read_writes_eq_canon _ _ _ (cover0_B_6 c i a2 h2 a3 h3 a4 h4 a5 h5 a6 h6 a7 h7 a8 h8 a9 h9 a10 h10 hc x0 x1 x2 x3 x4 x5)]
  unfold kernelRun0_B
  dsimp only
  rw [View.canon_unit_zero hz]
  sl_unfold_words
  simp only [View.readAt_eq_ld, h2.read_unread, h3.read_unread, h4.read_unread, h5.read_unread, h6.read_unread, h7.read_unread,
    View.ld_unit_zero (S := S128x1024) hz]
  refine body_of (head i x0 x1 x2 x3 x4 x5) _ _ _ _ _ _ _ ?_ ?_ ?_ ?_
  · exact core0 _ _ _ _ _ _ _ _ _
  · exact core1 _ _ _ _ _ _ _ _
  · exact core2 _ _ _ _ _ _ _ _ _ _ _ _ _
  · exact core3 _ _ _ _ _ _ _ _ _

/-- What the last point of a sequence keeps of the keys: its block of keys. -/
theorem out_B7 (hc : cond0_0 i) :
    out0_B_7 c i a2 h2 a3 h3 a4 h4 a5 h5 a6 h6 a7 h7 a8 h8 a9 h9 a10 h10 hc x0 x1 x2 x3 x4 x5 = k0_pay2 x2 := by
  unfold out0_B_7
  rw [View.read_writes_eq_canon _ _ _ (cover0_B_7 c i a2 h2 a3 h3 a4 h4 a5 h5 a6 h6 a7 h7 a8 h8 a9 h9 a10 h10 hc x0 x1 x2 x3 x4 x5)]
  unfold kernelRun0_B
  dsimp only
  rw [View.canon_unit_zero hz3]
  simp only [View.readAt_eq_ld, h4.read_unread, View.ld_unit_zero (S := S128x256) hz]

/-- What the last point of a sequence keeps of the values: its block of values. -/
theorem out_B8 (hc : cond0_0 i) :
    out0_B_8 c i a2 h2 a3 h3 a4 h4 a5 h5 a6 h6 a7 h7 a8 h8 a9 h9 a10 h10 hc x0 x1 x2 x3 x4 x5 = k0_pay3 x3 := by
  unfold out0_B_8
  rw [View.read_writes_eq_canon _ _ _ (cover0_B_8 c i a2 h2 a3 h3 a4 h4 a5 h5 a6 h6 a7 h7 a8 h8 a9 h9 a10 h10 hc x0 x1 x2 x3 x4 x5)]
  unfold kernelRun0_B
  dsimp only
  rw [View.canon_unit_zero hz3]
  simp only [View.readAt_eq_ld, h5.read_unread, View.ld_unit_zero (S := S128x256) hz]

end Runs

end Cert.Swa

end
-- ==== Proof.Swa.Entry.lean ====
/-
  The body's result at one entry: one query's attention.
-/
module

public import proofs.«01_k».proof.Proof.Swa.Kernel
public import Idealize.ShloMosaic.Lib.Pipeline.ValueKit.Tiles

@[expose] public section

noncomputable section

namespace Cert.Swa

open Cert.Kernel6Ideal Cert.Kernel6Ideal.Gen Cert.Kernel6Ideal.Value
open Idealize.ShloMosaic Idealize.ShloMosaic.TcCoe Idealize.SL.Sem
open Idealize.ShloMosaic.ValueIdx

/-- The scores' scale, 1/8. -/
def scale : EReal := Ideal.ofBits .f32 0x3E000000#32

/-- The mask's constant stands for −∞. -/
theorem mask_bot : (Named.named (F := Ideal) κ "mask" (φ := .f32) 0xF149F2CA#32 : EReal) = ⊥ :=
  (IdealRules.named_const.statement Cert.Kernel6Ideal.κ "mask" .f32 0xF149F2CA#32 ⊥ rfl).2.2

/-- The word from which a maximum starts is −∞. -/
theorem neg_inf : (Ideal.ofBits .f32 0xFF800000#32 : EReal) = ⊥ := by simp [Ideal.ofBits, Ideal.ieee]

/-- A row's maximum. -/
theorem rowMax_apply (x : FVec Ideal S512x128 .f32) (r : Fin 512) :
    multiReduction (F := Ideal) .maximumf [1] S512 x 0xFF800000#32 reduces_S512x128_S512 (.inl rfl) rfl (ix1 r) = top fun s => x (ix2 r s) := by
  refine (Ideal.multiReduction_maximumf_single _ _ _ _ _ _).trans ?_
  unfold top
  refine (congrArg (fun b : EReal => Finset.univ.fold max b _) neg_inf).trans (Finset.fold_congr fun s _ => congrArg x (funext fun a => ?_))
  match a with
  | ⟨0, _⟩ => rfl
  | ⟨1, _⟩ => rfl

/-- A row's sum. -/
theorem rowSum_apply (x : FVec Ideal S512x128 .f32) (r : Fin 512) :
    multiReduction (F := Ideal) .add [1] S512 x 0x00000000#32 reduces_S512x128_S512 (.inl rfl) rfl (ix1 r) = (∑ s, x (ix2 r s) : EReal) := by
  refine (Ideal.multiReduction_add_single _ _ _ _ _ _).trans ?_
  refine Finset.sum_congr rfl fun s _ => congrArg x (funext fun a => ?_)
  match a with
  | ⟨0, _⟩ => rfl
  | ⟨1, _⟩ => rfl

/-- A vector of rows as a column. -/
theorem col_apply (x : FVec Ideal S512 .f32) (r : Fin 512) : shapeCast S512x1 x shapeCasts_S512_S512x1 (ix2 r (0 : Fin 1)) = x (ix1 r) :=
  shapeCast_apply _ _ _ _ (by
    rw [Shape.rowMajor_val_two, Shape.rowMajor_val_one]
    show r.val = r.val * 1 + 0
    omega)

/-- A column spread over the row. -/
theorem spread_apply (x : FVec Ideal S512x1 .f32) (r : Fin 512) (s : Fin 128) :
    broadcastTo S512x128 x broadcasts_S512x1_S512x128 (ix2 r s) = x (ix2 r (0 : Fin 1)) :=
  broadcastTo_apply _ _ _ _ fun a => by
    match a with
    | ⟨0, _⟩ => rfl
    | ⟨1, _⟩ => rfl

/-- Weights times values. -/
theorem values_apply (p : FVec Ideal S512x128 .bf16) (v : FVec Ideal S128x64 .bf16) (r : Fin 512) (d : Fin 64) :
    matmul dot_S512x128_S128x64_S512x64_1_0_0_1_n_n none p v (constant S512x64 .f32 0x00000000#32) (ix2 r d)
      = (∑ s : Fin 128, p (ix2 r s) * v (ix2 s d) : EReal) := by
  rw [matmul_zero_eq_dotGeneral]
  exact StackMember.dotGeneral_plain_apply (m := 512) (n := 64) (k := 128) none p v r d

/-- Queries times keys. -/
theorem keys_apply (q : FVec Ideal S512x64 .bf16) (k : FVec Ideal S128x64 .bf16) (r : Fin 512) (s : Fin 128) :
    matmul dot_S512x64_S128x64_S512x128_1_1_0_0_n_n none q k (constant S512x128 .f32 0x00000000#32) (ix2 r s)
      = (∑ e : Fin 64, q (ix2 r e) * k (ix2 s e) : EReal) := by
  rw [matmul_zero_eq_dotGeneral]
  show FloatOps.dotGeneral _ none _ q k (ix2 r s) = _
  rw [Ideal.dotGeneral_apply, ← Equiv.sum_comp (contrEquiv1 dot_S512x64_S128x64_S512x128_1_1_0_0_n_n 64 rfl rfl).symm]
  refine Finset.sum_congr rfl fun c _ => ?_
  have c2 := contrEquiv1_symm_val dot_S512x64_S128x64_S512x128_1_1_0_0_n_n 64 rfl rfl c
  refine congrArg₂ (fun a b : EReal => a * b) (congrArg q (funext fun a => Fin.ext ?_)) (congrArg k (funext fun a => Fin.ext ?_))
  · match a with
    | ⟨0, _⟩ => rfl
    | ⟨1, _⟩ => exact c2
  · match a with
    | ⟨0, _⟩ => rfl
    | ⟨1, _⟩ => exact c2

/-- One row of a key-value head's result is the attention of its scores. -/
theorem core_apply (vp vc : FVec Ideal S128x64 .bf16) (sp sc : FVec Ideal S512x128 .f32) (sk : FVec Ideal S512x1 .f32) (r : Fin 512) (d : Fin 64) :
    core vp vc sp sc sk (ix2 r d) = attn (fun s => sp (ix2 r s)) (fun s => sc (ix2 r s)) (sk (ix2 r (0 : Fin 1)))
      (fun s => vp (ix2 s d)) (fun s => vc (ix2 s d)) := by
  unfold core k0_pay29
  dsimp only
  generalize hmx : maximumf (maximumf (shapeCast S512x1 (multiReduction .maximumf [1] S512 sp 0xFF800000#32 reduces_S512x128_S512 (.inl rfl) rfl) shapeCasts_S512_S512x1)
    (shapeCast S512x1 (multiReduction .maximumf [1] S512 sc 0xFF800000#32 reduces_S512x128_S512 (.inl rfl) rfl) shapeCasts_S512_S512x1)) sk = mx
  have pk : mx (ix2 r (0 : Fin 1)) = peak (fun s => sp (ix2 r s)) (fun s => sc (ix2 r s)) (sk (ix2 r (0 : Fin 1))) := by
    rw [← hmx]
    show max (max (shapeCast S512x1 _ shapeCasts_S512_S512x1 (ix2 r (0 : Fin 1))) (shapeCast S512x1 _ shapeCasts_S512_S512x1 (ix2 r (0 : Fin 1)))) _ = _
    rw [col_apply, col_apply, rowMax_apply, rowMax_apply]
    rfl
  have ex : ∀ (x : FVec Ideal S512x128 .f32) (s : Fin 128), exp (subf x (broadcastTo S512x128 mx broadcasts_S512x1_S512x128)) (ix2 r s)
      = Ideal.exp (x (ix2 r s) - peak (fun s => sp (ix2 r s)) (fun s => sc (ix2 r s)) (sk (ix2 r (0 : Fin 1)))) := fun x s => by
    show Ideal.exp (x (ix2 r s) - broadcastTo S512x128 mx broadcasts_S512x1_S512x128 (ix2 r s)) = _
    rw [spread_apply, pk]
  generalize hdn : addf (addf (shapeCast S512x1 (multiReduction .add [1] S512 (exp (subf sp (broadcastTo S512x128 mx broadcasts_S512x1_S512x128))) 0x00000000#32 reduces_S512x128_S512 (.inl rfl) rfl) shapeCasts_S512_S512x1)
    (shapeCast S512x1 (multiReduction .add [1] S512 (exp (subf sc (broadcastTo S512x128 mx broadcasts_S512x1_S512x128))) 0x00000000#32 reduces_S512x128_S512 (.inl rfl) rfl) shapeCasts_S512_S512x1))
    (exp (subf sk mx)) = dn
  have dk : dn (ix2 r (0 : Fin 1)) = den (fun s => sp (ix2 r s)) (fun s => sc (ix2 r s)) (sk (ix2 r (0 : Fin 1))) := by
    rw [← hdn]
    show (shapeCast S512x1 _ shapeCasts_S512_S512x1 (ix2 r (0 : Fin 1)) + shapeCast S512x1 _ shapeCasts_S512_S512x1 (ix2 r (0 : Fin 1)) : EReal)
      + Ideal.exp (sk (ix2 r (0 : Fin 1)) - mx (ix2 r (0 : Fin 1))) = _
    rw [col_apply, col_apply, rowSum_apply, rowSum_apply, pk]
    unfold den
    exact congrArg₂ (fun a b : EReal => a + b + _) (Finset.sum_congr rfl fun s _ => ex sp s) (Finset.sum_congr rfl fun s _ => ex sc s)
  show (matmul dot_S512x128_S128x64_S512x64_1_0_0_1_n_n none _ vp (constant S512x64 .f32 0x00000000#32) (ix2 r d)
    + matmul dot_S512x128_S128x64_S512x64_1_0_0_1_n_n none _ vc (constant S512x64 .f32 0x00000000#32) (ix2 r d) : EReal) = _
  rw [values_apply, values_apply]
  have w : ∀ (x : FVec Ideal S512x128 .f32) (s : Fin 128),
      (truncf .bf16 (divf (exp (subf x (broadcastTo S512x128 mx broadcasts_S512x1_S512x128))) (broadcastTo S512x128 dn broadcasts_S512x1_S512x128)) bitsLt_bf16_f32 (ix2 r s) : EReal)
      = Ideal.div (Ideal.exp (x (ix2 r s) - peak (fun s => sp (ix2 r s)) (fun s => sc (ix2 r s)) (sk (ix2 r (0 : Fin 1)))))
        (den (fun s => sp (ix2 r s)) (fun s => sc (ix2 r s)) (sk (ix2 r (0 : Fin 1)))) := fun x s => by
    show Ideal.div (exp (subf x (broadcastTo S512x128 mx broadcasts_S512x1_S512x128)) (ix2 r s)) (broadcastTo S512x128 dn broadcasts_S512x1_S512x128 (ix2 r s)) = _
    rw [ex, spread_apply, dk]
  unfold attn part
  exact congrArg₂ (fun a b : EReal => a + b) (Finset.sum_congr rfl fun s _ => congrArg (fun z : EReal => z * _) (w sp s))
    (Finset.sum_congr rfl fun s _ => congrArg (fun z : EReal => z * _) (w sc s))

/-- The group of a stacked row, and its query. -/
theorem group_apply : ∀ r : Fin 512, k0_pay8 (ix2 r (0 : Fin 1)) = BitVec.ofNat 32 (r.val / 128) := by decide +kernel
/-- A row's query within its block. -/
theorem query_apply : ∀ r : Fin 512, k0_pay5 (ix2 r (0 : Fin 128)) = BitVec.ofNat 32 (r.val % 128) := by decide +kernel

/-- It is the same at every column. -/
theorem query_const (r : Fin 512) (s : Fin 128) : k0_pay5 (ix2 r s) = k0_pay5 (ix2 r (0 : Fin 128)) := rfl

/-- A query's row among the stacked rows; its column among the queries'; a key's or value's column. -/
def row (g : Fin 4) (t : Fin 128) : Fin 512 := ⟨128 * g.val + t.val, by omega⟩
def qc (h g : Fin 4) (e : Fin 64) : Fin 1024 := ⟨64 * (4 * h.val + g.val) + e.val, by omega⟩
def kc (h : Fin 4) (e : Fin 64) : Fin 256 := ⟨64 * h.val + e.val, by omega⟩

/-- The group of the row of a group and a query. -/
theorem row_group (g : Fin 4) (t : Fin 128) : (row g t).val / 128 = g.val := by show (128 * g.val + t.val) / 128 = _; omega
/-- The query of that row. -/
theorem row_query (g : Fin 4) (t : Fin 128) : (row g t).val % 128 = t.val := by show (128 * g.val + t.val) % 128 = _; omega

/-- A score where it stands, `⊥` where it is masked. -/
def kept (p : Prop) [Decidable p] (x : EReal) : EReal := if p then x else ⊥

/-- A choice between a score and the mask keeps the score where its condition holds. -/
theorem select_kept (p : Prop) [Decidable p] (b : BitVec 1) (x : EReal) (hb : b = BitVec.ofBool (decide p)) : Scalar.select b x ⊥ = kept p x := by
  subst hb
  by_cases h : p
  · simp only [h, decide_true, kept, if_true]; rfl
  · simp only [h, decide_false, kept, if_false]; rfl

/-- The comparison that lets a query see a key of the block before. -/
theorem later : ∀ t s : Fin 128, IntOp.cmpi .sgt (BitVec.ofNat 32 s.val) (IntOp.addi (BitVec.ofNat 32 t.val) 0#32) = BitVec.ofBool (decide (t.val < s.val)) := by
  decide +kernel

/-- In the first block it lets none be seen. -/
theorem never : ∀ t s : Fin 128, IntOp.cmpi .sgt (BitVec.ofNat 32 s.val) (IntOp.addi (BitVec.ofNat 32 t.val) 128#32) = 0#1 := by
  decide +kernel

/-- The comparison that lets a query see a key of its own block. -/
theorem upto : ∀ t s : Fin 128, IntOp.cmpi .sle (BitVec.ofNat 32 s.val) (BitVec.ofNat 32 t.val) = BitVec.ofBool (decide (s.val ≤ t.val)) := by
  decide +kernel

/-- What the first block adds to hide the block before. -/
theorem shift : ∀ b : Fin 16, Scalar.select (Scalar.cmpi .sgt (BitVec.ofNat 32 b.val) 0#32) 0#32 128#32 = if 0 < b.val then 0#32 else 128#32 := by
  decide +kernel

/-- The previous block's mask: keys after the query's place, and none for a sequence's first block. -/
theorem prev_mask (i : grid0.Coords) (g : Fin 4) (t s : Fin 128) :
    k0_pay6 i (ix2 (row g t) s) = BitVec.ofBool (decide (0 < (i 1).val ∧ t.val < s.val)) := by
  show IntOp.cmpi .sgt (BitVec.ofNat 32 (0 * 128 + s.val)) (IntOp.addi (k0_pay5 (ix2 (row g t) (0 : Fin 128)))
    (Scalar.select (Scalar.cmpi .sgt (BitVec.ofNat 32 (i 1).val) 0#32) 0#32 128#32)) = _
  rw [query_apply, row_query, Nat.zero_mul, Nat.zero_add, shift (i 1)]
  by_cases hb : 0 < (i 1).val
  · rw [if_pos hb, later]; simp [hb]
  · rw [if_neg hb, never]; simp [hb]

/-- The current block's mask: keys up to the query. -/
theorem cur_mask (g : Fin 4) (t s : Fin 128) : k0_pay7 (ix2 (row g t) s) = BitVec.ofBool (decide (s.val ≤ t.val)) := by
  show IntOp.cmpi .sle (BitVec.ofNat 32 (0 * 128 + s.val)) (k0_pay5 (ix2 (row g t) (0 : Fin 128))) = _
  rw [query_apply, row_query, Nat.zero_mul, Nat.zero_add, upto]

/-- A key-value head's columns. -/
theorem cols_apply (x : FVec Ideal S128x256 .f32) (h : Fin 4) (s : Fin 128) (e : Fin 64) : cols x h (ix2 s e) = x (ix2 s (kc h e)) :=
  View.ld_unit_apply_of (S := S128x256) (Val := Elt Ideal) (e := .f32) x ![0, 64 * h.val] ![128, 64] (inb_cols h) (ix2 s e) (ix2 s (kc h e)) fun a => by
    match a with
    | ⟨0, _⟩ => show s.val = 0 + s.val; omega
    | ⟨1, _⟩ => rfl

/-- A head's sink. -/
theorem sink_apply (x : FVec Ideal S16 .f32) (p : Fin 16) : sink x p = x (ix1 p) :=
  View.ld_unit_apply_of (S := S16) (Val := Elt Ideal) (e := .f32) x ![p.val] ![1] (inb_sink p) _ (ix1 p) fun a => by
    match a with
    | ⟨0, _⟩ => rfl

/-- A query head's columns. -/
theorem qcols_apply (x : FVec Ideal S128x1024 .f32) (h g : Fin 4) (t : Fin 128) (e : Fin 64) :
    qcols x (qh h g) (ix2 t e) = x (ix2 t (qc h g e)) :=
  extractStridedSlice_apply _ _ _ _ _ fun a => by
    match a with
    | ⟨0, _⟩ => show t.val = 0 + t.val; omega
    | ⟨1, _⟩ => rfl

/-- How far along an axis of pieces of equal shape the `k`-th piece starts. -/
theorem start_of (T : Shape) (a : Fin T.rank) (xs : List ((s : Shape) × (s.Idx → Ideal .f32))) (n k w : Nat) (hk : k ≤ n)
    (hx : xs.map (·.1) = List.replicate n S128x64)
    (hw : (if h : S128x64.rank = T.rank then S128x64.size (a.cast h.symm) else 0) = w) :
    (((xs.take k).map (·.1)).map fun s => if h : s.rank = T.rank then s.size (a.cast h.symm) else 0).sum = w * k := by
  rw [List.map_take, hx, List.take_replicate, List.map_replicate, List.sum_replicate, hw, Nat.min_eq_left hk, smul_eq_mul, Nat.mul_comm]

/-- The four columns of one key-value head. -/
def quarters (x : FVec Ideal S128x1024 .f32) (h : Fin 4) : List ((s : Shape) × (s.Idx → Ideal .f32)) :=
  [⟨S128x64, qcols x (qh h 0)⟩, ⟨S128x64, qcols x (qh h 1)⟩, ⟨S128x64, qcols x (qh h 2)⟩, ⟨S128x64, qcols x (qh h 3)⟩]

/-- Each of the four query heads stacked under a key-value head. -/
theorem quarters_get (x : FVec Ideal S128x1024 .f32) (h : Fin 4) : ∀ g : Fin 4, (quarters x h)[g.val]'(g.isLt) = ⟨S128x64, qcols x (qh h g)⟩
  | ⟨0, _⟩ => rfl
  | ⟨1, _⟩ => rfl
  | ⟨2, _⟩ => rfl
  | ⟨3, _⟩ => rfl

/-- The stacked queries at a row. -/
theorem stack_apply (x : FVec Ideal S128x1024 .f32) (h g : Fin 4) (t : Fin 128) (e : Fin 64) :
    (stack x h (ix2 (row g t) e) : EReal) = x (ix2 t (qc h g e)) := by
  show concatenate S512x64 0 (quarters x h) concatenates_S128x64_S128x64_S128x64_S128x64_S512x64_d0 (ix2 (row g t) e) = _
  refine (concatenate_apply_piece (t := S512x64) 0 (quarters x h) _ (ix2 (row g t) e) g.val g.isLt S128x64 (qcols x (qh h g)) (quarters_get x h g) rfl
    (128 * g.val) (start_of S512x64 0 (quarters x h) 4 g.val 128 g.isLt.le rfl rfl) (ix2 t e) (fun b hb => ?_) rfl).trans (qcols_apply x h g t e)
  match b with
  | ⟨0, _⟩ => exact absurd rfl hb
  | ⟨1, _⟩ => rfl

/-- The stacked sinks at a row. -/
theorem sinks_apply (s0 s1 s2 s3 : Elt Ideal .f32) (g : Fin 4) (t : Fin 128) :
    k0_pay27 k0_pay8 s0 s1 s2 s3 (ix2 (row g t) (0 : Fin 1)) = (![s0, s1, s2, s3] : Fin 4 → Elt Ideal .f32) g := by
  show Scalar.select (IntOp.cmpi .eq (k0_pay8 (ix2 (row g t) (0 : Fin 1))) 3#32) s3 (Scalar.select (IntOp.cmpi .eq (k0_pay8 (ix2 (row g t) (0 : Fin 1))) 2#32) s2
    (Scalar.select (IntOp.cmpi .eq (k0_pay8 (ix2 (row g t) (0 : Fin 1))) 1#32) s1 (Scalar.select (IntOp.cmpi .eq (k0_pay8 (ix2 (row g t) (0 : Fin 1))) 0#32) s0 _))) = _
  rw [group_apply, row_group]
  fin_cases g <;> rfl

/-- A masked score at a row and a key. -/
theorem scores_apply (mk : IVec S512x128 1) (x : FVec Ideal S128x1024 .f32) (k : FVec Ideal S128x256 .f32) (h g : Fin 4) (t s : Fin 128)
    (p : Prop) [Decidable p] (hb : mk (ix2 (row g t) s) = BitVec.ofBool (decide p)) :
    scores mk (stack x h) (cols k h) (ix2 (row g t) s)
      = kept p ((∑ e : Fin 64, x (ix2 t (qc h g e)) * k (ix2 s (kc h e))) * scale) := by
  show Scalar.select (mk (ix2 (row g t) s)) (matmul dot_S512x64_S128x64_S512x128_1_1_0_0_n_n none (stack x h) (truncf .bf16 (cols k h) bitsLt_bf16_f32)
    (constant S512x128 .f32 0x00000000#32) (ix2 (row g t) s) * scale : EReal) (Named.named (F := Ideal) κ "mask" (φ := .f32) 0xF149F2CA#32) = _
  rw [mask_bot, select_kept p _ _ hb, keys_apply]
  exact congrArg (fun z : EReal => kept p (z * scale)) (Finset.sum_congr rfl fun e _ =>
    congrArg₂ (fun a b : EReal => a * b) (stack_apply x h g t e) (cols_apply k h s e))

/-- One query head's result at one query and one column. -/
def query (b : Fin 16) (t : Fin 128) (h : Fin 4) (d : Fin 64) (q : Fin 64 → EReal) (kp kc' vp vc : Fin 128 → Fin 64 → EReal) (sk : EReal) : EReal :=
  attn (fun s => kept (0 < b.val ∧ t.val < s.val) ((∑ e, q e * kp s e) * scale))
    (fun s => kept (s.val ≤ t.val) ((∑ e, q e * kc' s e) * scale)) sk (fun s => vp s d) (fun s => vc s d)

/-- A row of four at an index. -/
theorem pick {α : Type} (f : Fin 4 → α) : ∀ g : Fin 4, (![f 0, f 1, f 2, f 3] : Fin 4 → α) g = f g
  | ⟨0, _⟩ => rfl
  | ⟨1, _⟩ => rfl
  | ⟨2, _⟩ => rfl
  | ⟨3, _⟩ => rfl

/-- One key-value head's result at a row and a column. -/
theorem head_apply (i : grid0.Coords) (x0 : FVec Ideal S16 .f32) (x1 : FVec Ideal S128x1024 .f32) (x2 x3 x4 x5 : FVec Ideal S128x256 .f32)
    (h g : Fin 4) (t : Fin 128) (d : Fin 64) :
    head i x0 x1 x2 x3 x4 x5 h (ix2 (row g t) d) = query (i 1) t h d (fun e => x1 (ix2 t (qc h g e))) (fun s e => x4 (ix2 s (kc h e)))
      (fun s e => x2 (ix2 s (kc h e))) (fun s e => x5 (ix2 s (kc h e))) (fun s e => x3 (ix2 s (kc h e))) (x0 (ix1 (qh h g))) := by
  unfold head weigh
  rw [core_apply, sinks_apply]
  unfold query
  have ea : (fun s => scores (k0_pay6 i) (stack x1 h) (cols x4 h) (ix2 (row g t) s)) = fun s => kept (0 < (i 1).val ∧ t.val < s.val) ((∑ e, x1 (ix2 t (qc h g e)) * x4 (ix2 s (kc h e))) * scale) :=
    funext fun s => scores_apply _ x1 x4 h g t s _ (prev_mask i g t s)
  have eb : (fun s => scores k0_pay7 (stack x1 h) (cols x2 h) (ix2 (row g t) s)) = fun s => kept (s.val ≤ t.val) ((∑ e, x1 (ix2 t (qc h g e)) * x2 (ix2 s (kc h e))) * scale) :=
    funext fun s => scores_apply _ x1 x2 h g t s _ (cur_mask g t s)
  have es : (![sink x0 (qh h 0), sink x0 (qh h 1), sink x0 (qh h 2), sink x0 (qh h 3)] : Fin 4 → Elt Ideal .f32) g = x0 (ix1 (qh h g)) :=
    (pick (fun g => sink x0 (qh h g)) g).trans (sink_apply x0 (qh h g))
  have eu : (fun s => (truncf .bf16 (cols x5 h) bitsLt_bf16_f32 (ix2 s d) : EReal)) = fun s => x5 (ix2 s (kc h d)) := funext fun s => cols_apply x5 h s d
  have ew : (fun s => (truncf .bf16 (cols x3 h) bitsLt_bf16_f32 (ix2 s d) : EReal)) = fun s => x3 (ix2 s (kc h d)) := funext fun s => cols_apply x3 h s d
  rw [ea, eb, es]
  exact congrArg₂ (fun u w : Fin 128 → EReal => attn _ _ _ u w) eu ew

/-- Each of the sixteen heads' pieces of a block's result. -/
theorem pieces_get (H : Fin 4 → FVec Ideal S512x64 .f32) : ∀ h g : Fin 4, (pieces H)[4 * h.val + g.val]'(by show _ < 16; omega) = ⟨S128x64, piece H h g⟩
  | ⟨0, _⟩, ⟨0, _⟩ | ⟨0, _⟩, ⟨1, _⟩ | ⟨0, _⟩, ⟨2, _⟩ | ⟨0, _⟩, ⟨3, _⟩ => rfl
  | ⟨1, _⟩, ⟨0, _⟩ | ⟨1, _⟩, ⟨1, _⟩ | ⟨1, _⟩, ⟨2, _⟩ | ⟨1, _⟩, ⟨3, _⟩ => rfl
  | ⟨2, _⟩, ⟨0, _⟩ | ⟨2, _⟩, ⟨1, _⟩ | ⟨2, _⟩, ⟨2, _⟩ | ⟨2, _⟩, ⟨3, _⟩ => rfl
  | ⟨3, _⟩, ⟨0, _⟩ | ⟨3, _⟩, ⟨1, _⟩ | ⟨3, _⟩, ⟨2, _⟩ | ⟨3, _⟩, ⟨3, _⟩ => rfl

/-- A block's result at a query, a head and a column. -/
theorem body_apply (H : Fin 4 → FVec Ideal S512x64 .f32) (h g : Fin 4) (t : Fin 128) (d : Fin 64) :
    body H (ix2 t (qc h g d)) = H h (ix2 (row g t) d) := by
  unfold body
  refine (concatenate_apply_piece (t := S128x1024) 1 (pieces H) _ (ix2 t (qc h g d)) (4 * h.val + g.val) (by show _ < 16; omega) S128x64 (piece H h g)
    (pieces_get H h g) rfl (64 * (4 * h.val + g.val)) (start_of S128x1024 1 (pieces H) 16 _ 64 (by omega) rfl rfl) (ix2 t d) (fun b hb => ?_) rfl).trans
    (extractStridedSlice_apply _ _ _ _ _ fun a => ?_)
  · match b with
    | ⟨0, _⟩ => rfl
    | ⟨1, _⟩ => exact absurd rfl hb
  · match a with
    | ⟨0, _⟩ => rfl
    | ⟨1, _⟩ => show d.val = 0 + d.val; omega

end Cert.Swa

end
-- ==== Proof.Swa.Layers.lean ====
/-
  The attention's reference in its steps, each read at one entry.
-/
module

public import proofs.«01_k».proof.Proof.Gen.Reference6Ideal
public import proofs.«01_k».proof.Proof.Gen.Reference6Ideal.Run
public import proofs.«01_k».proof.Proof.Swa.Entry
public import Idealize.ShloMosaic.Lib.KernelVsHost
public import Idealize.ShloMosaic.Lib.IdealHost
public import Idealize.ShloMosaic.Lib.ValueIdxRank6

@[expose] public section

noncomputable section

namespace Cert.Swa

open Cert.Reference6Ideal Cert.Reference6Ideal.Gen Cert.Reference6Ideal.Value
open Idealize.ShloMosaic Idealize.ShloMosaic.TcCoe Idealize.SL.Sem
open Idealize.ShloMosaic.ValueIdx

/-- Keys or values in blocks of 128 tokens. -/
def blocked (x : FVec Ideal S16384x256 .f32) : FVec Ideal S8x16x128x4x64 .f32 :=
  shapeCast S8x16x128x4x64 (shapeCast S8x2048x4x64 x shapeCasts_S16384x256_S8x2048x4x64) shapeCasts_S8x2048x4x64_S8x16x128x4x64

/-- Queries in blocks of 128 tokens. -/
def blockedQ (x : FVec Ideal S16384x1024 .f32) : FVec Ideal S8x16x128x4x4x64 .f32 :=
  shapeCast S8x16x128x4x4x64 (shapeCast S8x2048x4x4x64 x shapeCasts_S16384x1024_S8x2048x4x4x64) shapeCasts_S8x2048x4x4x64_S8x16x128x4x4x64

/-- Each block's predecessor, zeros before the first. -/
def previous (x : FVec Ideal S8x16x128x4x64 .f32) : FVec Ideal S8x16x128x4x64 .f32 :=
  concatenate S8x16x128x4x64 1 [⟨S8x1x128x4x64, broadcastInDim S8x1x128x4x64 ![] bcast_S_S8x1x128x4x64 (constant S_ .f32 0x00000000#32)⟩,
    ⟨S8x15x128x4x64, extractStridedSlice S8x15x128x4x64 ![0, 0, 0, 0, 0] x slices_S8x16x128x4x64_S8x15x128x4x64_0_0_0_0_0⟩]
    concatenates_S8x1x128x4x64_S8x15x128x4x64_S8x16x128x4x64_d1

/-- Each block after its predecessor. -/
def pair (x : FVec Ideal S8x16x128x4x64 .f32) : FVec Ideal S8x16x256x4x64 .f32 :=
  concatenate S8x16x256x4x64 2 [⟨S8x16x128x4x64, previous x⟩, ⟨S8x16x128x4x64, x⟩] concatenates_S8x16x128x4x64_S8x16x128x4x64_S8x16x256x4x64_d2

/-- The window's mask. -/
def masks : IVec S16x1x1x128x256 1 :=
  broadcastInDim S16x1x1x128x256 ![0, 3, 4] bcast_S16x128x256_S16x1x1x128x256_0_3_4 (andi (broadcastInDim S16x128x256 ![0, 1, 2] bcast_S1x128x256_S16x128x256_0_1_2 (broadcastInDim S1x128x256 ![1, 2] bcast_S128x256_S1x128x256_1_2 (andi (cmpi .sle (broadcastInDim S128x256 ![0, 1] bcast_S1x256_S128x256_0_1 (broadcastInDim S1x256 ![1] bcast_S256_S1x256_1 (iotaInDim S256 32 0))) (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))) (cmpi .sgt (broadcastInDim S128x256 ![0, 1] bcast_S1x256_S128x256_0_1 (broadcastInDim S1x256 ![1] bcast_S256_S1x256_1 (iotaInDim S256 32 0))) (broadcastInDim S128x256 ![0, 1] bcast_S128x1_S128x256_0_1 (broadcastInDim S128x1 ![0] bcast_S128_S128x1_0 (iotaInDim S128 32 0))))))) (broadcastInDim S16x128x256 ![0, 1, 2] bcast_S16x1x256_S16x128x256_0_1_2 (cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 0#32)))))

/-- The masked scores. -/
def scored (q : FVec Ideal S8x16x128x4x4x64 .f32) (k : FVec Ideal S8x16x256x4x64 .f32) : FVec Ideal S8x16x4x4x128x256 .f32 :=
  select (broadcastInDim S8x16x4x4x128x256 ![1, 2, 3, 4, 5] bcast_S16x1x1x128x256_S8x16x4x4x128x256_1_2_3_4_5 masks)
    (mulf (transpose S8x16x4x4x128x256 [0, 1, 2, 5, 4, 3] (Host.dotGeneral dot_S8x16x256x4x64_S8x16x128x4x4x64_S8x16x4x256x128x4_4_5_2_24_013_013 none k q)
      transposes_S8x16x4x256x128x4_S8x16x4x4x128x256_0_1_2_5_4_3) (broadcastInDim S8x16x4x4x128x256 ![] bcast_S_S8x16x4x4x128x256 (constant S_ .f32 0x3E000000#32)))
    (broadcastInDim S8x16x4x4x128x256 ![] bcast_S_S8x16x4x4x128x256 (id (constant S_ .f32 0xFF800000#32)))

/-- Each query head's sink, on every row. -/
def sinkCol (sk : FVec Ideal S16 .f32) : FVec Ideal S8x16x4x4x128x1 .f32 :=
  broadcastInDim S8x16x4x4x128x1 ![0, 1, 2, 3, 4, 5] bcast_S1x1x4x4x1x1_S8x16x4x4x128x1_0_1_2_3_4_5
    (broadcastInDim S1x1x4x4x1x1 ![2, 3, 4, 5] bcast_S4x4x1x1_S1x1x4x4x1x1_2_3_4_5
      (broadcastInDim S4x4x1x1 ![0, 1] bcast_S4x4_S4x4x1x1_0_1 (shapeCast S4x4 sk shapeCasts_S16_S4x4)))

/-- One number per row as a column. -/
def asCol (x : FVec Ideal S8x16x4x4x128 .f32) : FVec Ideal S8x16x4x4x128x1 .f32 :=
  broadcastInDim S8x16x4x4x128x1 ![0, 1, 2, 3, 4] bcast_S8x16x4x4x128_S8x16x4x4x128x1_0_1_2_3_4 x

/-- A column spread over the keys. -/
def overKeys (x : FVec Ideal S8x16x4x4x128x1 .f32) : FVec Ideal S8x16x4x4x128x256 .f32 :=
  broadcastInDim S8x16x4x4x128x256 ![0, 1, 2, 3, 4, 5] bcast_S8x16x4x4x128x1_S8x16x4x4x128x256_0_1_2_3_4_5 x

/-- Each row's maximum with its sink. -/
def maxes (s : FVec Ideal S8x16x4x4x128x256 .f32) (k : FVec Ideal S8x16x4x4x128x1 .f32) : FVec Ideal S8x16x4x4x128x1 .f32 :=
  maximumf (asCol (Host.reduce FloatOps.maximumf s (constant S_ .f32 0xFF800000#32) reducesTo_S8x16x4x4x128x256_S8x16x4x4x128_d5 h_S_)) k

/-- The exponentials of the scores below the maximum. -/
def exps (s : FVec Ideal S8x16x4x4x128x256 .f32) (mx : FVec Ideal S8x16x4x4x128x1 .f32) : FVec Ideal S8x16x4x4x128x256 .f32 :=
  Host.exp (subf s (overKeys mx))

/-- The softmax's weights. -/
def weights (s : FVec Ideal S8x16x4x4x128x256 .f32) (mx k : FVec Ideal S8x16x4x4x128x1 .f32) : FVec Ideal S8x16x4x4x128x256 .f32 :=
  Host.divf (exps s mx) (overKeys (addf (asCol (Host.reduceAdd (exps s mx) (constant S_ .f32 0x00000000#32)
    reducesTo_S8x16x4x4x128x256_S8x16x4x4x128_d5 h_S_)) (Host.exp (subf k mx))))

/-- The weighted values, by token and column. -/
def gathered (v : FVec Ideal S8x16x256x4x64 .f32) (w : FVec Ideal S8x16x4x4x128x256 .f32) : FVec Ideal S16384x1024 .f32 :=
  shapeCast S16384x1024 (transpose S8x16x128x4x4x64 [0, 1, 5, 2, 4, 3] (Host.dotGeneral dot_S8x16x256x4x64_S8x16x4x4x128x256_S8x16x4x64x4x128_2_5_4_34_013_012 none v w)
    transposes_S8x16x4x64x4x128_S8x16x128x4x4x64_0_1_5_2_4_3) shapeCasts_S8x16x128x4x4x64_S16384x1024

/-- The slices the attention reads. -/
def sliceQ (A : FVec Ideal S17408x12800 .f32) : FVec Ideal S16384x1024 .f32 := extractStridedSlice S16384x1024 ![0, 5120] A slices_S17408x12800_S16384x1024_0_5120
def sliceK (A : FVec Ideal S17408x12800 .f32) : FVec Ideal S16384x256 .f32 := extractStridedSlice S16384x256 ![0, 6144] A slices_S17408x12800_S16384x256_0_6144
def sliceV (A : FVec Ideal S17408x12800 .f32) : FVec Ideal S16384x256 .f32 := extractStridedSlice S16384x256 ![0, 6400] A slices_S17408x12800_S16384x256_0_6400

/-- The reference's attention, in its steps. -/
def attention (A : FVec Ideal S17408x12800 .f32) (sk : FVec Ideal S16 .f32) : FVec Ideal S16384x1024 .f32 :=
  gathered (pair (blocked (sliceV A))) (weights (scored (blockedQ (sliceQ A)) (pair (blocked (sliceK A))))
    (maxes (scored (blockedQ (sliceQ A)) (pair (blocked (sliceK A)))) (sinkCol sk)) (sinkCol sk))

/-- A token's row. -/
def tok (b : Fin 8) (i : Fin 16) (t : Fin 128) : Fin 16384 := ⟨2048 * b.val + 128 * i.val + t.val, by omega⟩

/-- The block before, the first one's being itself. -/
def before (i : Fin 16) : Fin 16 := ⟨i.val - 1, by omega⟩

/-- Keys or values by sequence, block and head. -/
theorem blocked_apply (x : FVec Ideal S16384x256 .f32) (b : Fin 8) (i : Fin 16) (s : Fin 128) (h : Fin 4) (e : Fin 64) :
    blocked x (ix5 b i s h e) = x (ix2 (tok b i s) (kc h e)) := by
  refine (shapeCast_apply _ _ _ (ix4 b (⟨128 * i.val + s.val, by omega⟩ : Fin 2048) h e) ?_).trans (shapeCast_apply _ _ _ _ ?_)
  · rw [Shape.rowMajor_val_four, Shape.rowMajor_val_five]
    show ((b.val * 2048 + (128 * i.val + s.val)) * 4 + h.val) * 64 + e.val = (((b.val * 16 + i.val) * 128 + s.val) * 4 + h.val) * 64 + e.val
    omega
  · rw [Shape.rowMajor_val_two, Shape.rowMajor_val_four]
    show (2048 * b.val + 128 * i.val + s.val) * 256 + (64 * h.val + e.val) = ((b.val * 2048 + (128 * i.val + s.val)) * 4 + h.val) * 64 + e.val
    omega

/-- Queries by sequence, block and head. -/
theorem blockedQ_apply (x : FVec Ideal S16384x1024 .f32) (b : Fin 8) (i : Fin 16) (t : Fin 128) (h g : Fin 4) (e : Fin 64) :
    blockedQ x (ix6 b i t h g e) = x (ix2 (tok b i t) (qc h g e)) := by
  refine (shapeCast_apply _ _ _ (ix5 b (⟨128 * i.val + t.val, by omega⟩ : Fin 2048) h g e) ?_).trans (shapeCast_apply _ _ _ _ ?_)
  · rw [Shape.rowMajor_val_five, Shape.rowMajor_val_six]
    show (((b.val * 2048 + (128 * i.val + t.val)) * 4 + h.val) * 4 + g.val) * 64 + e.val = ((((b.val * 16 + i.val) * 128 + t.val) * 4 + h.val) * 4 + g.val) * 64 + e.val
    omega
  · rw [Shape.rowMajor_val_two, Shape.rowMajor_val_five]
    show (2048 * b.val + 128 * i.val + t.val) * 1024 + (64 * (4 * h.val + g.val) + e.val) = (((b.val * 2048 + (128 * i.val + t.val)) * 4 + h.val) * 4 + g.val) * 64 + e.val
    omega

/-- Before the first block there are zeros. -/
theorem previous_first (x : FVec Ideal S8x16x128x4x64 .f32) (b : Fin 8) (i : Fin 16) (hi : i.val = 0) (s : Fin 128) (h : Fin 4) (e : Fin 64) :
    (previous x (ix5 b i s h e) : EReal) = 0 := by
  refine (concatenate_pair_apply_left (t := S8x16x128x4x64) (s₁ := S8x1x128x4x64) (s₂ := S8x15x128x4x64) 1 _ _ _ _ rfl (ix5 b (0 : Fin 1) s h e) fun a => ?_).trans (by simp [Ideal.ofBits, Ideal.ieee] : Ideal.ofBits .f32 0x00000000#32 = 0)
  match a with
  | ⟨0, _⟩ => rfl
  | ⟨1, _⟩ => exact hi.symm
  | ⟨2, _⟩ => rfl
  | ⟨3, _⟩ => rfl
  | ⟨4, _⟩ => rfl

/-- Before a later block is the one before it. -/
theorem previous_later (x : FVec Ideal S8x16x128x4x64 .f32) (b : Fin 8) (i : Fin 16) (hi : 0 < i.val) (s : Fin 128) (h : Fin 4) (e : Fin 64) :
    previous x (ix5 b i s h e) = x (ix5 b (before i) s h e) := by
  refine (concatenate_pair_apply_right (t := S8x16x128x4x64) (s₁ := S8x1x128x4x64) (s₂ := S8x15x128x4x64) 1 _ _ _ _ rfl rfl
    (ix5 b (⟨i.val - 1, by omega⟩ : Fin 15) s h e) (fun a ha => ?_) (by show i.val - 1 + 1 = i.val; omega)).trans (extractStridedSlice_apply _ _ _ _ _ fun a => ?_)
  · match a with
    | ⟨0, _⟩ => rfl
    | ⟨1, _⟩ => exact absurd rfl ha
    | ⟨2, _⟩ => rfl
    | ⟨3, _⟩ => rfl
    | ⟨4, _⟩ => rfl
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm

/-- The first half of a pair is the block before. -/
theorem pair_lo (x : FVec Ideal S8x16x128x4x64 .f32) (b : Fin 8) (i : Fin 16) (s : Fin 128) (h : Fin 4) (e : Fin 64) :
    pair x (ix5 b i (lo s) h e) = previous x (ix5 b i s h e) :=
  concatenate_pair_apply_left (t := S8x16x256x4x64) (s₁ := S8x16x128x4x64) (s₂ := S8x16x128x4x64) 2 _ _ _ _ rfl _ fun a => by
    match a with
    | ⟨0, _⟩ => rfl
    | ⟨1, _⟩ => rfl
    | ⟨2, _⟩ => rfl
    | ⟨3, _⟩ => rfl
    | ⟨4, _⟩ => rfl

/-- The second half is the block. -/
theorem pair_hi (x : FVec Ideal S8x16x128x4x64 .f32) (b : Fin 8) (i : Fin 16) (s : Fin 128) (h : Fin 4) (e : Fin 64) :
    pair x (ix5 b i (hi s) h e) = x (ix5 b i s h e) :=
  concatenate_pair_apply_right (t := S8x16x256x4x64) (s₁ := S8x16x128x4x64) (s₂ := S8x16x128x4x64) 2 _ _ _ _ rfl rfl (ix5 b i s h e) (fun a ha => by
    match a with
    | ⟨0, _⟩ => rfl
    | ⟨1, _⟩ => rfl
    | ⟨2, _⟩ => exact absurd rfl ha
    | ⟨3, _⟩ => rfl
    | ⟨4, _⟩ => rfl) (Nat.add_comm _ _)

/-- The mask's two parts at one place. -/
def near (t : Fin 128) (j : Fin 256) : BitVec 1 :=
  IntOp.andi (IntOp.cmpi .sle (BitVec.ofNat 32 j.val) (IntOp.addi (BitVec.ofNat 32 t.val) 128#32)) (IntOp.cmpi .sgt (BitVec.ofNat 32 j.val) (BitVec.ofNat 32 t.val))
def inside (i : Fin 16) (j : Fin 256) : BitVec 1 :=
  IntOp.cmpi .sge (IntOp.addi (IntOp.subi (IntOp.muli (BitVec.ofNat 32 i.val) 128#32) 128#32) (BitVec.ofNat 32 j.val)) 0#32

/-- The mask at a block, a query and a key. -/
theorem masks_apply (i : Fin 16) (t : Fin 128) (j : Fin 256) :
    masks (ix5 i (0 : Fin 1) (0 : Fin 1) t j) = IntOp.andi (near t j) (inside i j) := rfl

/-- The window's condition on the block before. -/
theorem near_lo : ∀ t s : Fin 128, near t (lo s) = BitVec.ofBool (decide (t.val < s.val)) := by decide +kernel
/-- The window's condition on the block itself. -/
theorem near_hi : ∀ t s : Fin 128, near t (hi s) = BitVec.ofBool (decide (s.val ≤ t.val)) := by decide +kernel
/-- A key of the block before exists from the second block on. -/
theorem inside_lo : ∀ (i : Fin 16) (s : Fin 128), inside i (lo s) = BitVec.ofBool (decide (0 < i.val)) := by decide +kernel
/-- A key of the block itself always exists. -/
theorem inside_hi : ∀ (i : Fin 16) (s : Fin 128), inside i (hi s) = 1#1 := by decide +kernel

/-- Both conditions on the block before. -/
theorem mask_lo (i : Fin 16) (t s : Fin 128) : IntOp.andi (near t (lo s)) (inside i (lo s)) = BitVec.ofBool (decide (0 < i.val ∧ t.val < s.val)) := by
  rw [near_lo, inside_lo]
  by_cases hi : 0 < i.val <;> by_cases ht : t.val < s.val <;> simp [hi, ht] <;> rfl

/-- Both conditions on the block itself. -/
theorem mask_hi (i : Fin 16) (t s : Fin 128) : IntOp.andi (near t (hi s)) (inside i (hi s)) = BitVec.ofBool (decide (s.val ≤ t.val)) := by
  rw [near_hi, inside_hi]
  by_cases ht : s.val ≤ t.val <;> simp [ht] <;> rfl

/-- A query's product with a key. -/
theorem products_apply (k : FVec Ideal S8x16x256x4x64 .f32) (q : FVec Ideal S8x16x128x4x4x64 .f32) (b : Fin 8) (i : Fin 16) (h g : Fin 4) (t : Fin 128) (j : Fin 256) :
    Host.dotGeneral (F := Ideal) dot_S8x16x256x4x64_S8x16x128x4x4x64_S8x16x4x256x128x4_4_5_2_24_013_013 none k q (ix6 b i h j t g)
      = (∑ e : Fin 64, k (ix5 b i j h e) * q (ix6 b i t h g e) : EReal) := by
  show FloatOps.dotGeneral _ none _ k q (ix6 b i h j t g) = _
  rw [Ideal.dotGeneral_apply, ← Equiv.sum_comp (contrEquiv1 dot_S8x16x256x4x64_S8x16x128x4x4x64_S8x16x4x256x128x4_4_5_2_24_013_013 64 rfl rfl).symm]
  refine Finset.sum_congr rfl fun c _ => ?_
  have c2 := contrEquiv1_symm_val dot_S8x16x256x4x64_S8x16x128x4x4x64_S8x16x4x256x128x4_4_5_2_24_013_013 64 rfl rfl c
  refine congrArg₂ (fun a b : EReal => a * b) (congrArg k (funext fun a => Fin.ext ?_)) (congrArg q (funext fun a => Fin.ext ?_))
  · match a with
    | ⟨0, _⟩ => rfl
    | ⟨1, _⟩ => rfl
    | ⟨2, _⟩ => rfl
    | ⟨3, _⟩ => rfl
    | ⟨4, _⟩ => exact c2
  · match a with
    | ⟨0, _⟩ => rfl
    | ⟨1, _⟩ => rfl
    | ⟨2, _⟩ => rfl
    | ⟨3, _⟩ => rfl
    | ⟨4, _⟩ => rfl
    | ⟨5, _⟩ => exact c2

/-- The weighted sum of the values. -/
theorem averages_apply (v : FVec Ideal S8x16x256x4x64 .f32) (w : FVec Ideal S8x16x4x4x128x256 .f32) (b : Fin 8) (i : Fin 16) (h g : Fin 4) (t : Fin 128) (d : Fin 64) :
    Host.dotGeneral (F := Ideal) dot_S8x16x256x4x64_S8x16x4x4x128x256_S8x16x4x64x4x128_2_5_4_34_013_012 none v w (ix6 b i h d g t)
      = (∑ j : Fin 256, v (ix5 b i j h d) * w (ix6 b i h g t j) : EReal) := by
  show FloatOps.dotGeneral _ none _ v w (ix6 b i h d g t) = _
  rw [Ideal.dotGeneral_apply, ← Equiv.sum_comp (contrEquiv1 dot_S8x16x256x4x64_S8x16x4x4x128x256_S8x16x4x64x4x128_2_5_4_34_013_012 256 rfl rfl).symm]
  refine Finset.sum_congr rfl fun c _ => ?_
  have c2 := contrEquiv1_symm_val dot_S8x16x256x4x64_S8x16x4x4x128x256_S8x16x4x64x4x128_2_5_4_34_013_012 256 rfl rfl c
  refine congrArg₂ (fun a b : EReal => a * b) (congrArg v (funext fun a => Fin.ext ?_)) (congrArg w (funext fun a => Fin.ext ?_))
  · match a with
    | ⟨0, _⟩ => rfl
    | ⟨1, _⟩ => rfl
    | ⟨2, _⟩ => exact c2
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => exact c2

/-- A masked score. -/
theorem scored_apply (q : FVec Ideal S8x16x128x4x4x64 .f32) (k : FVec Ideal S8x16x256x4x64 .f32) (b : Fin 8) (i : Fin 16) (h g : Fin 4) (t : Fin 128) (j : Fin 256)
    (p : Prop) [Decidable p] (hp : IntOp.andi (near t j) (inside i j) = BitVec.ofBool (decide p)) :
    scored q k (ix6 b i h g t j) = kept p ((∑ e : Fin 64, k (ix5 b i j h e) * q (ix6 b i t h g e)) * scale) := by
  have e1 : broadcastInDim S8x16x4x4x128x256 ![1, 2, 3, 4, 5] bcast_S16x1x1x128x256_S8x16x4x4x128x256_1_2_3_4_5 masks (ix6 b i h g t j)
      = IntOp.andi (near t j) (inside i j) := by
    refine (broadcastInDim_apply _ _ _ _ (ix5 i (0 : Fin 1) (0 : Fin 1) t j) fun a => ?_).trans (masks_apply i t j)
    match a with
    | ⟨0, _⟩ => rfl
    | ⟨1, _⟩ => rfl
    | ⟨2, _⟩ => rfl
    | ⟨3, _⟩ => rfl
    | ⟨4, _⟩ => rfl
  have e2 : transpose S8x16x4x4x128x256 [0, 1, 2, 5, 4, 3] (Host.dotGeneral (F := Ideal) dot_S8x16x256x4x64_S8x16x128x4x4x64_S8x16x4x256x128x4_4_5_2_24_013_013 none k q)
      transposes_S8x16x4x256x128x4_S8x16x4x4x128x256_0_1_2_5_4_3 (ix6 b i h g t j) = (∑ e : Fin 64, k (ix5 b i j h e) * q (ix6 b i t h g e) : EReal) := by
    refine (transpose_apply _ _ _ _ (ix6 b i h j t g) fun a => ?_).trans (products_apply k q b i h g t j)
    match a with
    | ⟨0, _⟩ => rfl
    | ⟨1, _⟩ => rfl
    | ⟨2, _⟩ => rfl
    | ⟨3, _⟩ => rfl
    | ⟨4, _⟩ => rfl
    | ⟨5, _⟩ => rfl
  show Scalar.select (broadcastInDim S8x16x4x4x128x256 ![1, 2, 3, 4, 5] bcast_S16x1x1x128x256_S8x16x4x4x128x256_1_2_3_4_5 masks (ix6 b i h g t j))
    (transpose S8x16x4x4x128x256 [0, 1, 2, 5, 4, 3] (Host.dotGeneral (F := Ideal) dot_S8x16x256x4x64_S8x16x128x4x4x64_S8x16x4x256x128x4_4_5_2_24_013_013 none k q)
      transposes_S8x16x4x256x128x4_S8x16x4x4x128x256_0_1_2_5_4_3 (ix6 b i h g t j) * scale : EReal) (Ideal.ofBits .f32 0xFF800000#32) = _
  rw [e1, e2, neg_inf]
  exact select_kept p _ _ hp

/-- A row's sink. -/
theorem sinkCol_apply (sk : FVec Ideal S16 .f32) (b : Fin 8) (i : Fin 16) (h g : Fin 4) (t : Fin 128) :
    sinkCol sk (ix6 b i h g t (0 : Fin 1)) = sk (ix1 (qh h g)) := by
  refine (broadcastInDim_apply _ _ _ _ (ix6 (0 : Fin 1) (0 : Fin 1) h g (0 : Fin 1) (0 : Fin 1)) fun a => ?_).trans
    ((broadcastInDim_apply _ _ _ _ (ix4 h g (0 : Fin 1) (0 : Fin 1)) fun a => ?_).trans
    ((broadcastInDim_apply _ _ _ _ (ix2 h g) fun a => ?_).trans (shapeCast_apply _ _ _ _ ?_)))
  · match a with
    | ⟨0, _⟩ => rfl
    | ⟨1, _⟩ => rfl
    | ⟨2, _⟩ => rfl
    | ⟨3, _⟩ => rfl
    | ⟨4, _⟩ => rfl
    | ⟨5, _⟩ => rfl
  · match a with
    | ⟨0, _⟩ => rfl
    | ⟨1, _⟩ => rfl
    | ⟨2, _⟩ => rfl
    | ⟨3, _⟩ => rfl
  · match a with
    | ⟨0, _⟩ => rfl
    | ⟨1, _⟩ => rfl
  · rw [Shape.rowMajor_val_two, Shape.rowMajor_val_one]
    show 4 * h.val + g.val = h.val * 4 + g.val
    omega

/-- A column at a row. -/
theorem asCol_apply (x : FVec Ideal S8x16x4x4x128 .f32) (b : Fin 8) (i : Fin 16) (h g : Fin 4) (t : Fin 128) :
    asCol x (ix6 b i h g t (0 : Fin 1)) = x (ix5 b i h g t) :=
  broadcastInDim_apply _ _ _ _ _ fun a => by
    match a with
    | ⟨0, _⟩ => rfl
    | ⟨1, _⟩ => rfl
    | ⟨2, _⟩ => rfl
    | ⟨3, _⟩ => rfl
    | ⟨4, _⟩ => rfl

/-- A column spread over the keys. -/
theorem overKeys_apply (x : FVec Ideal S8x16x4x4x128x1 .f32) (b : Fin 8) (i : Fin 16) (h g : Fin 4) (t : Fin 128) (j : Fin 256) :
    overKeys x (ix6 b i h g t j) = x (ix6 b i h g t (0 : Fin 1)) :=
  broadcastInDim_apply _ _ _ _ _ fun a => by
    match a with
    | ⟨0, _⟩ => rfl
    | ⟨1, _⟩ => rfl
    | ⟨2, _⟩ => rfl
    | ⟨3, _⟩ => rfl
    | ⟨4, _⟩ => rfl
    | ⟨5, _⟩ => rfl

/-- The keys' axis is the one summed over. -/
theorem reduces_keys : Shape.Reduces S8x16x4x4x128x256 [5] S8x16x4x4x128 := by decide

/-- The entry of a row at a key. -/
theorem lift_keys (b : Fin 8) (i : Fin 16) (h g : Fin 4) (t : Fin 128) (j : Fin 256) : reduces_keys.lift (ix5 b i h g t) j = ix6 b i h g t j :=
  funext fun a => by
    match a with
    | ⟨0, _⟩ => rfl
    | ⟨1, _⟩ => rfl
    | ⟨2, _⟩ => rfl
    | ⟨3, _⟩ => rfl
    | ⟨4, _⟩ => rfl
    | ⟨5, _⟩ => rfl

end Cert.Swa

end
-- ==== Proof.Swa.Maxes.lean ====
/-
  The reference's row maxima at one entry.
-/
module

public import proofs.«01_k».proof.Proof.Swa.Layers

@[expose] public section

noncomputable section

namespace Cert.Swa

open Cert.Reference6Ideal Cert.Reference6Ideal.Gen Cert.Reference6Ideal.Value
open Idealize.ShloMosaic Idealize.ShloMosaic.TcCoe Idealize.SL.Sem
open Idealize.ShloMosaic.ValueIdx

/-- The host's maximum along one axis, from −∞. -/
theorem hostMax {s t u : Shape} {a : Fin s.rank} (x : FVec Ideal s .f32) (h : s.ReducesTo [a] t) (hu : 0 < u.numel) (h' : s.Reduces [a] t) (j : t.Idx) :
    Host.reduce FloatOps.maximumf x (constant u .f32 0xFF800000#32) h hu j = Finset.univ.fold max ⊥ fun k => x (h'.lift j k) := by
  rw [hostReduce_maximumf_eq_multiReduction x 0xFF800000#32 h hu h' (.inl rfl) rfl]
  refine (Ideal.multiReduction_maximumf_single _ _ _ _ _ _).trans ?_
  exact congrArg (fun b : EReal => Finset.univ.fold max b _) neg_inf

/-- A row's maximum. -/
theorem rowTop (x : FVec Ideal S8x16x4x4x128x256 .f32) (b : Fin 8) (i : Fin 16) (h g : Fin 4) (t : Fin 128) :
    Host.reduce FloatOps.maximumf x (constant S_ .f32 0xFF800000#32) reducesTo_S8x16x4x4x128x256_S8x16x4x4x128_d5 h_S_ (ix5 b i h g t)
      = top fun j => x (ix6 b i h g t j) :=
  (hostMax x _ h_S_ reduces_keys (ix5 b i h g t)).trans (Finset.fold_congr fun j _ => congrArg x (lift_keys b i h g t j))

/-- The larger of a row's number and a column. -/
theorem max_cols (r : FVec Ideal S8x16x4x4x128 .f32) (k : FVec Ideal S8x16x4x4x128x1 .f32) (b : Fin 8) (i : Fin 16) (h g : Fin 4) (t : Fin 128) :
    maximumf (asCol r) k (ix6 b i h g t (0 : Fin 1)) = max (r (ix5 b i h g t)) (k (ix6 b i h g t (0 : Fin 1))) :=
  congrArg (fun z : EReal => max z (k (ix6 b i h g t (0 : Fin 1)))) (asCol_apply r b i h g t)

/-- A row's maximum, with its sink. -/
theorem maxes_apply (s : FVec Ideal S8x16x4x4x128x256 .f32) (sk : FVec Ideal S16 .f32) (b : Fin 8) (i : Fin 16) (h g : Fin 4) (t : Fin 128) :
    maxes s (sinkCol sk) (ix6 b i h g t (0 : Fin 1)) = max (top fun j => s (ix6 b i h g t j)) (sk (ix1 (qh h g))) := by
  unfold maxes
  rw [max_cols, rowTop, sinkCol_apply]

/-- The host's sum along one axis, from zero. -/
theorem hostSum {s t u : Shape} {a : Fin s.rank} (x : FVec Ideal s .f32) (h : s.ReducesTo [a] t) (hu : 0 < u.numel) (h' : s.Reduces [a] t) (j : t.Idx) :
    Host.reduceAdd x (constant u .f32 0x00000000#32) h hu j = ∑ k, (x (h'.lift j k) : EReal) := by
  rw [hostReduceAdd_apply, Ideal.hostReduceAdd_single _ h']
  exact (congrArg (fun z : EReal => z + _) (by simp [Ideal.ofBits, Ideal.ieee] : Ideal.ofBits .f32 0x00000000#32 = 0)).trans (zero_add _)

/-- A row's sum. -/
theorem rowSum (x : FVec Ideal S8x16x4x4x128x256 .f32) (b : Fin 8) (i : Fin 16) (h g : Fin 4) (t : Fin 128) :
    Host.reduceAdd x (constant S_ .f32 0x00000000#32) reducesTo_S8x16x4x4x128x256_S8x16x4x4x128_d5 h_S_ (ix5 b i h g t)
      = ∑ j : Fin 256, (x (ix6 b i h g t j) : EReal) :=
  (hostSum x _ h_S_ reduces_keys (ix5 b i h g t)).trans (Finset.sum_congr rfl fun j _ => congrArg x (lift_keys b i h g t j))

end Cert.Swa

end
-- ==== Proof.Swa.Reference.lean ====
/-
  The attention's reference, read at one entry.
-/
module

public import proofs.«01_k».proof.Proof.Swa.Maxes

@[expose] public section

noncomputable section

namespace Cert.Swa

open Cert.Reference6Ideal Cert.Reference6Ideal.Gen Cert.Reference6Ideal.Value
open Idealize.ShloMosaic Idealize.ShloMosaic.TcCoe Idealize.SL.Sem
open Idealize.ShloMosaic.ValueIdx

/-- An exponential. -/
theorem exps_apply (s : FVec Ideal S8x16x4x4x128x256 .f32) (mx : FVec Ideal S8x16x4x4x128x1 .f32) (b : Fin 8) (i : Fin 16) (h g : Fin 4) (t : Fin 128) (j : Fin 256) :
    exps s mx (ix6 b i h g t j) = Ideal.exp (s (ix6 b i h g t j) - mx (ix6 b i h g t (0 : Fin 1))) :=
  congrArg (fun z : EReal => Ideal.exp (s (ix6 b i h g t j) - z)) (overKeys_apply mx b i h g t j)

/-- A weight, from its row's sum. -/
theorem weights_of (e : FVec Ideal S8x16x4x4x128x256 .f32) (r : FVec Ideal S8x16x4x4x128 .f32) (mx k : FVec Ideal S8x16x4x4x128x1 .f32) (b : Fin 8) (i : Fin 16) (h g : Fin 4) (t : Fin 128) (j : Fin 256) :
    Host.divf e (overKeys (addf (asCol r) (Host.exp (subf k mx)))) (ix6 b i h g t j)
      = Ideal.div (e (ix6 b i h g t j)) (r (ix5 b i h g t) + Ideal.exp (k (ix6 b i h g t (0 : Fin 1)) - mx (ix6 b i h g t (0 : Fin 1)))) :=
  congrArg (fun z : EReal => Ideal.div (e (ix6 b i h g t j)) z) ((overKeys_apply _ b i h g t j).trans
    (congrArg (fun z : EReal => z + Ideal.exp (k (ix6 b i h g t (0 : Fin 1)) - mx (ix6 b i h g t (0 : Fin 1)))) (asCol_apply r b i h g t)))

/-- A weight: the score's exponential over the row's sum with the sink's. -/
theorem weights_apply (s : FVec Ideal S8x16x4x4x128x256 .f32) (mx k : FVec Ideal S8x16x4x4x128x1 .f32) (b : Fin 8) (i : Fin 16) (h g : Fin 4) (t : Fin 128) (j : Fin 256) :
    weights s mx k (ix6 b i h g t j) = Ideal.div (Ideal.exp (s (ix6 b i h g t j) - mx (ix6 b i h g t (0 : Fin 1))))
      ((∑ j, Ideal.exp (s (ix6 b i h g t j) - mx (ix6 b i h g t (0 : Fin 1)))) + Ideal.exp (k (ix6 b i h g t (0 : Fin 1)) - mx (ix6 b i h g t (0 : Fin 1)))) := by
  unfold weights
  rw [weights_of, rowSum, exps_apply]
  simp only [exps_apply]

/-- The weighted values at a token and column. -/
theorem gathered_apply (v : FVec Ideal S8x16x256x4x64 .f32) (w : FVec Ideal S8x16x4x4x128x256 .f32) (b : Fin 8) (i : Fin 16) (h g : Fin 4) (t : Fin 128) (d : Fin 64) :
    gathered v w (ix2 (tok b i t) (qc h g d)) = (∑ j : Fin 256, v (ix5 b i j h d) * w (ix6 b i h g t j) : EReal) := by
  refine (shapeCast_apply _ _ _ (ix6 b i t h g d) ?_).trans ((transpose_apply _ _ _ _ (ix6 b i h d g t) fun a => ?_).trans (averages_apply v w b i h g t d))
  · rw [Shape.rowMajor_val_two, Shape.rowMajor_val_six]
    show ((((b.val * 16 + i.val) * 128 + t.val) * 4 + h.val) * 4 + g.val) * 64 + d.val = (2048 * b.val + 128 * i.val + t.val) * 1024 + (64 * (4 * h.val + g.val) + d.val)
    omega
  · match a with
    | ⟨0, _⟩ => rfl
    | ⟨1, _⟩ => rfl
    | ⟨2, _⟩ => rfl
    | ⟨3, _⟩ => rfl
    | ⟨4, _⟩ => rfl
    | ⟨5, _⟩ => rfl

/-- Keys or values of a block's own tokens. -/
theorem pair_blocked_hi (x : FVec Ideal S16384x256 .f32) (b : Fin 8) (i : Fin 16) (s : Fin 128) (h : Fin 4) (e : Fin 64) :
    pair (blocked x) (ix5 b i (hi s) h e) = x (ix2 (tok b i s) (kc h e)) := (pair_hi _ b i s h e).trans (blocked_apply x b i s h e)

/-- The block before, from the second on. -/
theorem pair_blocked_lo (x : FVec Ideal S16384x256 .f32) (b : Fin 8) (i : Fin 16) (hi : 0 < i.val) (s : Fin 128) (h : Fin 4) (e : Fin 64) :
    pair (blocked x) (ix5 b i (lo s) h e) = x (ix2 (tok b (before i) s) (kc h e)) :=
  (pair_lo _ b i s h e).trans ((previous_later _ b i hi s h e).trans (blocked_apply x b _ s h e))

/-- Before the first block there are zeros. -/
theorem pair_blocked_first (x : FVec Ideal S16384x256 .f32) (b : Fin 8) (i : Fin 16) (hi : i.val = 0) (s : Fin 128) (h : Fin 4) (e : Fin 64) :
    (pair (blocked x) (ix5 b i (lo s) h e) : EReal) = 0 := (pair_lo _ b i s h e).trans (previous_first _ b i hi s h e)

/-- What one entry of the attention is. -/
def entry (q : FVec Ideal S16384x1024 .f32) (k v : FVec Ideal S16384x256 .f32) (sk : FVec Ideal S16 .f32) (b : Fin 8) (i : Fin 16) (t : Fin 128) (h g : Fin 4) (d : Fin 64) : EReal :=
  query i t h d (fun e => q (ix2 (tok b i t) (qc h g e))) (fun s e => k (ix2 (tok b (before i) s) (kc h e))) (fun s e => k (ix2 (tok b i s) (kc h e)))
    (fun s e => v (ix2 (tok b (before i) s) (kc h e))) (fun s e => v (ix2 (tok b i s) (kc h e))) (sk (ix1 (qh h g)))

/-- The attention at a token, a head and a column is that entry. -/
theorem attention_apply (A : FVec Ideal S17408x12800 .f32) (sk : FVec Ideal S16 .f32) (b : Fin 8) (i : Fin 16) (t : Fin 128) (h g : Fin 4) (d : Fin 64) :
    attention A sk (ix2 (tok b i t) (qc h g d)) = entry (sliceQ A) (sliceK A) (sliceV A) sk b i t h g d := by
  unfold attention
  generalize sliceQ A = q
  generalize sliceK A = k
  generalize sliceV A = v
  generalize hs : scored (blockedQ q) (pair (blocked k)) = s
  have e0 : gathered (pair (blocked v)) (weights s (maxes s (sinkCol sk)) (sinkCol sk)) (ix2 (tok b i t) (qc h g d))
      = whole (fun j => s (ix6 b i h g t j)) (sk (ix1 (qh h g))) (fun j => pair (blocked v) (ix5 b i j h d)) := by
    rw [gathered_apply]
    unfold whole
    refine Finset.sum_congr rfl fun j _ => congrArg (fun z : EReal => _ * z) ?_
    rw [weights_apply, maxes_apply, sinkCol_apply]
  have ehi : (fun u => s (ix6 b i h g t (hi u))) = fun u => kept (u.val ≤ t.val) ((∑ e, q (ix2 (tok b i t) (qc h g e)) * k (ix2 (tok b i u) (kc h e))) * scale) :=
    funext fun u => by
      rw [← hs, scored_apply _ _ b i h g t (hi u) (u.val ≤ t.val) (mask_hi i t u)]
      exact congrArg (fun z : EReal => kept _ (z * scale)) (Finset.sum_congr rfl fun e _ => by rw [pair_blocked_hi, blockedQ_apply, mul_comm])
  have elo : (fun u => s (ix6 b i h g t (lo u))) = fun u => kept (0 < i.val ∧ t.val < u.val) ((∑ e, q (ix2 (tok b i t) (qc h g e)) * k (ix2 (tok b (before i) u) (kc h e))) * scale) :=
    funext fun u => by
      rw [← hs, scored_apply _ _ b i h g t (lo u) (0 < i.val ∧ t.val < u.val) (mask_lo i t u)]
      by_cases hi : 0 < i.val
      · exact congrArg (fun z : EReal => kept _ (z * scale)) (Finset.sum_congr rfl fun e _ => by rw [pair_blocked_lo _ _ _ hi, blockedQ_apply, mul_comm])
      · unfold kept
        rw [if_neg fun z => hi z.1, if_neg fun z => hi z.1]
  have vhi : (fun u => pair (blocked v) (ix5 b i (hi u) h d)) = fun u => v (ix2 (tok b i u) (kc h d)) := funext fun u => pair_blocked_hi v b i u h d
  rw [e0, whole_eq, ehi, elo, vhi]
  unfold entry query
  by_cases hi : 0 < i.val
  · have vlo : (fun u => pair (blocked v) (ix5 b i (lo u) h d)) = fun u => v (ix2 (tok b (before i) u) (kc h d)) := funext fun u => pair_blocked_lo v b i hi u h d
    rw [vlo]
  · have hz : i.val = 0 := Nat.eq_zero_of_not_pos hi
    have hb : before i = i := Fin.ext (by show i.val - 1 = i.val; omega)
    have vlo : (fun u => pair (blocked v) (ix5 b i (lo u) h d) : Fin 128 → EReal) = fun _ => 0 := funext fun u => pair_blocked_first v b i hz u h d
    rw [vlo, hb]
    exact (attn_masked _ _ _ _ fun u => if_neg fun z => hi z.1).symm

end Cert.Swa

end
-- ==== Proof.Swa.Steps.lean ====
/-
  The attention's reference is its steps in turn.
-/
module

public import proofs.«01_k».proof.Proof.Swa.Layers

@[expose] public section

noncomputable section

namespace Cert.Swa

open Cert.Reference6Ideal Cert.Reference6Ideal.Gen Cert.Reference6Ideal.Value
open Idealize.ShloMosaic Idealize.ShloMosaic.TcCoe Idealize.SL.Sem
open Idealize.ShloMosaic.ValueIdx

set_option maxRecDepth 8192 in
set_option maxHeartbeats 4000000 in
/-- The generated term is the attention in these steps. -/
theorem reference_steps (m : (ℓ : Loc nD τ sig) → Buf (Elt Ideal) ℓ) (c : Dev nD) :
    res_main_v75 m c = attention (m ((c.tc : Thread nD τ).loc main_arg0)) (m ((c.tc : Thread nD τ).loc main_arg1)) := rfl

end Cert.Swa

end
-- ==== Proof.Swa.Last.lean ====
/-
  The last block of each sequence, as the reference cuts it out of the keys or values.
-/
module

public import proofs.«01_k».proof.Proof.Swa.Layers

@[expose] public section

noncomputable section

namespace Cert.Swa

open Cert.Reference6Ideal Cert.Reference6Ideal.Gen Cert.Reference6Ideal.Value
open Idealize.ShloMosaic Idealize.ShloMosaic.TcCoe Idealize.SL.Sem
open Idealize.ShloMosaic.ValueIdx

/-- Each sequence's last 128 tokens of the keys or values. -/
def lastOf (x : FVec Ideal S16384x256 .f32) : FVec Ideal S8x128x256 .f32 :=
  shapeCast S8x128x256 (extractStridedSlice S8x128x4x64 ![0, 1920, 0, 0] (shapeCast S8x2048x4x64 x shapeCasts_S16384x256_S8x2048x4x64)
    slices_S8x2048x4x64_S8x128x4x64_0_1920_0_0) shapeCasts_S8x128x4x64_S8x128x256

/-- A sequence's last tokens at an entry. -/
theorem lastOf_apply (x : FVec Ideal S16384x256 .f32) (b : Fin 8) (s : Fin 128) (c : Fin 256) :
    lastOf x (ix3 b s c) = x (ix2 (tok b (15 : Fin 16) s) c) := by
  refine (shapeCast_apply _ _ _ (ix4 b s (⟨c.val / 64, by omega⟩ : Fin 4) (⟨c.val % 64, by omega⟩ : Fin 64)) ?_).trans
    ((extractStridedSlice_apply _ _ _ _ (ix4 b (⟨1920 + s.val, by omega⟩ : Fin 2048) (⟨c.val / 64, by omega⟩ : Fin 4) (⟨c.val % 64, by omega⟩ : Fin 64)) fun a => ?_).trans
    (shapeCast_apply _ _ _ _ ?_))
  · rw [Shape.rowMajor_val_three, Shape.rowMajor_val_four]
    show ((b.val * 128 + s.val) * 4 + c.val / 64) * 64 + c.val % 64 = (b.val * 128 + s.val) * 256 + c.val
    omega
  · match a with
    | ⟨0, _⟩ => exact (Nat.zero_add _).symm
    | ⟨1, _⟩ => rfl
    | ⟨2, _⟩ => exact (Nat.zero_add _).symm
    | ⟨3, _⟩ => exact (Nat.zero_add _).symm
  · rw [Shape.rowMajor_val_two, Shape.rowMajor_val_four]
    show (2048 * b.val + 128 * 15 + s.val) * 256 + c.val = ((b.val * 2048 + (1920 + s.val)) * 4 + c.val / 64) * 64 + c.val % 64
    omega

/-- The slices at an entry. -/
theorem sliceQ_apply (A : FVec Ideal S17408x12800 .f32) (r : Fin 16384) (q : Fin 1024) :
    sliceQ A (ix2 r q) = A (ix2 (⟨r.val, by omega⟩ : Fin 17408) (⟨5120 + q.val, by omega⟩ : Fin 12800)) :=
  extractStridedSlice_apply _ _ _ _ _ fun a => by
    match a with
    | ⟨0, _⟩ => exact (Nat.zero_add _).symm
    | ⟨1, _⟩ => rfl

/-- The keys' columns. -/
theorem sliceK_apply (A : FVec Ideal S17408x12800 .f32) (r : Fin 16384) (q : Fin 256) :
    sliceK A (ix2 r q) = A (ix2 (⟨r.val, by omega⟩ : Fin 17408) (⟨6144 + q.val, by omega⟩ : Fin 12800)) :=
  extractStridedSlice_apply _ _ _ _ _ fun a => by
    match a with
    | ⟨0, _⟩ => exact (Nat.zero_add _).symm
    | ⟨1, _⟩ => rfl

/-- The values' columns. -/
theorem sliceV_apply (A : FVec Ideal S17408x12800 .f32) (r : Fin 16384) (q : Fin 256) :
    sliceV A (ix2 r q) = A (ix2 (⟨r.val, by omega⟩ : Fin 17408) (⟨6400 + q.val, by omega⟩ : Fin 12800)) :=
  extractStridedSlice_apply _ _ _ _ _ fun a => by
    match a with
    | ⟨0, _⟩ => exact (Nat.zero_add _).symm
    | ⟨1, _⟩ => rfl

end Cert.Swa

end
-- ==== Proof.Swa.lean ====
/-
  The windowed attention: the kernel's blocks, read entry by entry, are the reference's attention, and the blocks it keeps are
  each sequence's last keys and values.
-/
module

public import proofs.«01_k».proof.Defs
public import proofs.«01_k».proof.Proof.Swa.Reference
public import proofs.«01_k».proof.Proof.Swa.Steps
public import proofs.«01_k».proof.Proof.Swa.Last

@[expose] public section

noncomputable section

namespace Cert.Swa

open Cert.Kernel6Ideal Cert.Kernel6Ideal.Gen Cert.Kernel6Ideal.Value
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The sequence and the block of a grid point. -/
abbrev seqOf (t : Fin cfg0.N) : Fin 8 := grid0.coords t 0
abbrev blkOf (t : Fin cfg0.N) : Fin 16 := grid0.coords t 1

/-- Each window's block at a point of the grid starts where the point's coordinates say (decided over the 128 points). -/
theorem starts : ∀ t : Fin cfg0.N,
    (win0_0.index t (0 : Fin 1) = 0)
    ∧ (win0_1.index t (0 : Fin 2) = 16 * (seqOf t).val + (blkOf t).val ∧ win0_1.index t (1 : Fin 2) = 5)
    ∧ (win0_2.index t (0 : Fin 2) = 16 * (seqOf t).val + (blkOf t).val ∧ win0_2.index t (1 : Fin 2) = 24)
    ∧ (win0_3.index t (0 : Fin 2) = 16 * (seqOf t).val + (blkOf t).val ∧ win0_3.index t (1 : Fin 2) = 25)
    ∧ (win0_4.index t (0 : Fin 2) = 16 * (seqOf t).val + ((blkOf t).val - 1) ∧ win0_4.index t (1 : Fin 2) = 24)
    ∧ (win0_5.index t (0 : Fin 2) = 16 * (seqOf t).val + ((blkOf t).val - 1) ∧ win0_5.index t (1 : Fin 2) = 25)
    ∧ (win0_6.index t (0 : Fin 2) = 16 * (seqOf t).val + (blkOf t).val ∧ win0_6.index t (1 : Fin 2) = 0) :=
  (by decide +kernel : ∀ t : Fin grid0.N, _)

/-- A point that keeps its keys and values is its sequence's last, and keeps them in the sequence's place. -/
theorem keeps7 : ∀ t : Fin cfg0.N, (cfg0.win 7).flush t = true → t.val % 16 = 15 ∧ blkOf t = (15 : Fin 16) ∧ win0_7.index t = ![(seqOf t).val, 0, 0] :=
  (by decide +kernel : ∀ t : Fin grid0.N, win0_7.flush t = true → t.val % 16 = 15 ∧ blkOf t = (15 : Fin 16) ∧ win0_7.index t = ![(seqOf t).val, 0, 0])

/-- The same of the point's values. -/
theorem keeps8 : ∀ t : Fin cfg0.N, (cfg0.win 8).flush t = true → t.val % 16 = 15 ∧ blkOf t = (15 : Fin 16) ∧ win0_8.index t = ![(seqOf t).val, 0, 0] :=
  (by decide +kernel : ∀ t : Fin grid0.N, win0_8.flush t = true → t.val % 16 = 15 ∧ blkOf t = (15 : Fin 16) ∧ win0_8.index t = ![(seqOf t).val, 0, 0])

/-- Every block of each result is written at some point. -/
theorem onto6 : ∀ q : Fin 128, ∃ t : Fin cfg0.N, (cfg0.win 6).flush t = true ∧ win0_6.index t = ![q.val, 0] :=
  (by decide +kernel : ∀ q : Fin 128, ∃ t : Fin grid0.N, win0_6.flush t = true ∧ win0_6.index t = ![q.val, 0])

/-- Each sequence's kept keys are written at some point. -/
theorem onto7 : ∀ q : Fin 8, ∃ t : Fin cfg0.N, (cfg0.win 7).flush t = true ∧ win0_7.index t = ![q.val, 0, 0] :=
  (by decide +kernel : ∀ q : Fin 8, ∃ t : Fin grid0.N, win0_7.flush t = true ∧ win0_7.index t = ![q.val, 0, 0])

/-- Each sequence's kept values, likewise. -/
theorem onto8 : ∀ q : Fin 8, ∃ t : Fin cfg0.N, (cfg0.win 8).flush t = true ∧ win0_8.index t = ![q.val, 0, 0] :=
  (by decide +kernel : ∀ q : Fin 8, ∃ t : Fin grid0.N, win0_8.flush t = true ∧ win0_8.index t = ![q.val, 0, 0])

/-- The blocks read, entry by entry: queries, keys and values of the point's block, and of the block before. -/
theorem read1 (c : Dev nD) (t : Fin cfg0.N) (s : Fin 128) (q : Fin 1024) :
    X0_1 m c t (ix2 s q) = sliceQ (m ((c : Thread nD τ).loc main_arg0)) (ix2 (tok (seqOf t) (blkOf t) s) q) := by
  obtain ⟨-, ⟨e0, e1⟩, -⟩ := starts t
  rw [sliceQ_apply]
  unfold X0_1 Pipeline.Window.fill
  rw [dif_pos (moved0_1 t (ix2 s q))]
  show V m c main_arg0 (((cfg0.win 1).blk t).view.emb _) = _
  rw [V_main_arg0]
  refine congrArg _ (funext fun a => Fin.ext ?_)
  match a with
  | ⟨0, _⟩ => show win0_1.index t (0 : Fin 2) * 128 + 1 * s.val = 2048 * (seqOf t).val + 128 * (blkOf t).val + s.val; rw [e0]; omega
  | ⟨1, _⟩ => show win0_1.index t (1 : Fin 2) * 1024 + 1 * q.val = 5120 + q.val; rw [e1]; omega

/-- The keys of the point's block. -/
theorem read2 (c : Dev nD) (t : Fin cfg0.N) (s : Fin 128) (q : Fin 256) :
    iblk m c 2 t (ix2 s q) = sliceK (m ((c : Thread nD τ).loc main_arg0)) (ix2 (tok (seqOf t) (blkOf t) s) q) := by
  obtain ⟨-, -, ⟨e0, e1⟩, -⟩ := starts t
  rw [sliceK_apply]
  show V m c main_arg0 (((cfg0.win 2).blk t).view.emb (ix2 s q)) = _
  rw [V_main_arg0]
  refine congrArg _ (funext fun a => Fin.ext ?_)
  match a with
  | ⟨0, _⟩ => show win0_2.index t (0 : Fin 2) * 128 + 1 * s.val = 2048 * (seqOf t).val + 128 * (blkOf t).val + s.val; rw [e0]; omega
  | ⟨1, _⟩ => show win0_2.index t (1 : Fin 2) * 256 + 1 * q.val = 6144 + q.val; rw [e1]; omega

/-- The values of the point's block. -/
theorem read3 (c : Dev nD) (t : Fin cfg0.N) (s : Fin 128) (q : Fin 256) :
    iblk m c 3 t (ix2 s q) = sliceV (m ((c : Thread nD τ).loc main_arg0)) (ix2 (tok (seqOf t) (blkOf t) s) q) := by
  obtain ⟨-, -, -, ⟨e0, e1⟩, -⟩ := starts t
  rw [sliceV_apply]
  show V m c main_arg0 (((cfg0.win 3).blk t).view.emb (ix2 s q)) = _
  rw [V_main_arg0]
  refine congrArg _ (funext fun a => Fin.ext ?_)
  match a with
  | ⟨0, _⟩ => show win0_3.index t (0 : Fin 2) * 128 + 1 * s.val = 2048 * (seqOf t).val + 128 * (blkOf t).val + s.val; rw [e0]; omega
  | ⟨1, _⟩ => show win0_3.index t (1 : Fin 2) * 256 + 1 * q.val = 6400 + q.val; rw [e1]; omega

/-- The keys of the block before; before the first, its own. -/
theorem read4 (c : Dev nD) (t : Fin cfg0.N) (s : Fin 128) (q : Fin 256) :
    iblk m c 4 t (ix2 s q) = sliceK (m ((c : Thread nD τ).loc main_arg0)) (ix2 (tok (seqOf t) (before (blkOf t)) s) q) := by
  obtain ⟨-, -, -, -, ⟨e0, e1⟩, -⟩ := starts t
  rw [sliceK_apply]
  show V m c main_arg0 (((cfg0.win 4).blk t).view.emb (ix2 s q)) = _
  rw [V_main_arg0]
  refine congrArg _ (funext fun a => Fin.ext ?_)
  match a with
  | ⟨0, _⟩ => show win0_4.index t (0 : Fin 2) * 128 + 1 * s.val = 2048 * (seqOf t).val + 128 * ((blkOf t).val - 1) + s.val; rw [e0]; omega
  | ⟨1, _⟩ => show win0_4.index t (1 : Fin 2) * 256 + 1 * q.val = 6144 + q.val; rw [e1]; omega

/-- The values of the block before, likewise. -/
theorem read5 (c : Dev nD) (t : Fin cfg0.N) (s : Fin 128) (q : Fin 256) :
    iblk m c 5 t (ix2 s q) = sliceV (m ((c : Thread nD τ).loc main_arg0)) (ix2 (tok (seqOf t) (before (blkOf t)) s) q) := by
  obtain ⟨-, -, -, -, -, ⟨e0, e1⟩, -⟩ := starts t
  rw [sliceV_apply]
  show V m c main_arg0 (((cfg0.win 5).blk t).view.emb (ix2 s q)) = _
  rw [V_main_arg0]
  refine congrArg _ (funext fun a => Fin.ext ?_)
  match a with
  | ⟨0, _⟩ => show win0_5.index t (0 : Fin 2) * 128 + 1 * s.val = 2048 * (seqOf t).val + 128 * ((blkOf t).val - 1) + s.val; rw [e0]; omega
  | ⟨1, _⟩ => show win0_5.index t (1 : Fin 2) * 256 + 1 * q.val = 6400 + q.val; rw [e1]; omega

/-- The sinks, whole at every point. -/
theorem read0 (c : Dev nD) (t : Fin cfg0.N) (p : Fin 16) : iblk m c 0 t (ix1 p) = m ((c : Thread nD τ).loc main_arg1) (ix1 p) := by
  obtain ⟨e0, -⟩ := starts t
  show V m c main_arg1 (((cfg0.win 0).blk t).view.emb (ix1 p)) = _
  rw [V_main_arg1]
  refine congrArg _ (funext fun a => Fin.ext ?_)
  match a with
  | ⟨0, _⟩ => show win0_0.index t (0 : Fin 1) * 16 + 1 * p.val = p.val; rw [e0]; omega

/-- One query's result depends on its parts alone. -/
theorem query_congr (b : Fin 16) (t : Fin 128) (h : Fin 4) (d : Fin 64) {q q' : Fin 64 → EReal} {kp kp' kc₁ kc₂ vp vp' vc vc' : Fin 128 → Fin 64 → EReal} {sk sk' : EReal}
    (h1 : q = q') (h2 : kp = kp') (h3 : kc₁ = kc₂) (h4 : vp = vp') (h5 : vc = vc') (h6 : sk = sk') :
    query b t h d q kp kc₁ vp vc sk = query b t h d q' kp' kc₂ vp' vc' sk' := by rw [h1, h2, h3, h4, h5, h6]

/-- One block of the body's results is the reference's attention there. -/
theorem block_apply (c : Dev nD) (t : Fin cfg0.N) (s : Fin 128) (h g : Fin 4) (d : Fin 64) :
    body (head (grid0.coords t) (iblk m c 0 t) (X0_1 m c t) (iblk m c 2 t) (iblk m c 3 t) (iblk m c 4 t) (iblk m c 5 t)) (ix2 s (qc h g d))
      = attention (m ((c : Thread nD τ).loc main_arg0)) (m ((c : Thread nD τ).loc main_arg1)) (ix2 (tok (seqOf t) (blkOf t) s) (qc h g d)) := by
  refine (body_apply _ h g s d).trans ((head_apply _ _ _ _ _ _ _ h g s d).trans (Eq.trans ?_ (attention_apply _ _ (seqOf t) (blkOf t) s h g d).symm))
  exact query_congr _ s h d (funext fun e => read1 m c t s (qc h g e)) (funext fun u => funext fun e => read4 m c t u (kc h e))
    (funext fun u => funext fun e => read2 m c t u (kc h e)) (funext fun u => funext fun e => read5 m c t u (kc h e))
    (funext fun u => funext fun e => read3 m c t u (kc h e)) (read0 m c t (qh h g))

/-- What one point writes back of the result is its block of the attention. -/
theorem flushed6_eq (c : Dev nD) (t : Fin cfg0.N) :
    (dats m 0 c).flushed 6 t = ((cfg0.win 6).blk t).view.read (Elt Ideal)
      (attention (m ((c : Thread nD τ).loc main_arg0)) (m ((c : Thread nD τ).loc main_arg1)) : Buf (Elt Ideal) ((c : Thread nD τ).loc main_v0_0)) := by
  have e : (dats m 0 c).flushed 6 t = (cfg0.win 6).cut (grid0.coords t)
      (body (head (grid0.coords t) (iblk m c 0 t) (X0_1 m c t) (iblk m c 2 t) (iblk m c 3 t) (iblk m c 4 t) (iblk m c 5 t))) := by
    by_cases h0 : t.val % 16 = 15
    · rw [flushed6_B m c t h0, out_B6]
    · rw [flushed6_A m c t h0, out_A6]
  rw [e]
  obtain ⟨-, -, -, -, -, -, e0, e1⟩ := starts t
  funext y
  show body (head (grid0.coords t) (iblk m c 0 t) (X0_1 m c t) (iblk m c 2 t) (iblk m c 3 t) (iblk m c 4 t) (iblk m c 5 t)) y
    = attention _ _ (((cfg0.win 6).blk t).view.emb y)
  have hy1 : (y 1).val < 1024 := (y 1).isLt
  have hy0 : (y 0).val < 128 := (y 0).isLt
  have ey : y = ix2 (⟨(y 0).val, hy0⟩ : Fin 128) (qc (⟨(y 1).val / 256, by omega⟩ : Fin 4) (⟨(y 1).val / 64 % 4, by omega⟩ : Fin 4) (⟨(y 1).val % 64, by omega⟩ : Fin 64)) :=
    funext fun a => Fin.ext (by
      match a with
      | ⟨0, _⟩ => rfl
      | ⟨1, _⟩ => show (y 1).val = 64 * (4 * ((y 1).val / 256) + (y 1).val / 64 % 4) + (y 1).val % 64; omega)
  refine (congrArg _ ey).trans ((block_apply m c t _ _ _ _).trans (congrArg _ (funext fun a => Fin.ext ?_)))
  match a with
  | ⟨0, _⟩ => show 2048 * (seqOf t).val + 128 * (blkOf t).val + (y 0).val = win0_6.index t (0 : Fin 2) * 128 + 1 * (y 0).val; rw [e0]; omega
  | ⟨1, _⟩ => show 64 * (4 * ((y 1).val / 256) + (y 1).val / 64 % 4) + (y 1).val % 64 = win0_6.index t (1 : Fin 2) * 1024 + 1 * (y 1).val; rw [e1]; omega

/-- The result after the run is the reference's attention: the blocks tile it. -/
theorem final6 (c : Dev nD) : (dats m 0 c).arrAt 6 cfg0.N
    = (attention (m ((c : Thread nD τ).loc main_arg0)) (m ((c : Thread nD τ).loc main_arg1)) : Buf (Elt Ideal) ((c : Thread nD τ).loc main_v0_0)) :=
  (dats m 0 c).arrAt_eq_of_cover 6 _ (fun t _ => flushed6_eq m c t) fun i => by
    have hi0 : (i 0).val < 16384 := (i 0).isLt
    have hi1 : (i 1).val < 1024 := (i 1).isLt
    obtain ⟨t, hf, ht⟩ := onto6 ⟨(i 0).val / 128, by omega⟩
    have q0 : win0_6.index t (0 : Fin 2) = (i 0).val / 128 := congrFun ht 0
    have q1 : win0_6.index t (1 : Fin 2) = 0 := congrFun ht 1
    refine ⟨t, hf, ?_⟩
    show i ∈ ((View.whole main_v0_0).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 1024 ≤ (i 1).val ∧ (i 1).val < win0_6.index t (1 : Fin 2) * 1024 + 1024; omega

/-- A block with a leading axis of one. -/
theorem lead_apply (x : FVec Ideal S128x256 .f32) (y : S1x128x256.Idx) :
    shapeCast S1x128x256 x shapeCasts_S128x256_S1x128x256 y = x (ix2 (⟨(y 1).val, (y 1).isLt⟩ : Fin 128) (⟨(y 2).val, (y 2).isLt⟩ : Fin 256)) :=
  shapeCast_apply _ _ _ _ (by
    rw [Shape.rowMajor_val_three, Shape.rowMajor_val_two]
    have hy0 : (y 0).val < 1 := (y 0).isLt
    show (y 1).val * 256 + (y 2).val = ((y 0).val * 128 + (y 1).val) * 256 + (y 2).val
    omega)

/-- What a sequence's last point keeps of the keys is the sequence's last keys. -/
theorem flushed7_eq (c : Dev nD) (t : Fin cfg0.N) (hf : (cfg0.win 7).flush t = true) :
    (dats m 0 c).flushed 7 t = ((cfg0.win 7).blk t).view.read (Elt Ideal)
      (lastOf (sliceK (m ((c : Thread nD τ).loc main_arg0))) : Buf (Elt Ideal) ((c : Thread nD τ).loc main_v0_1)) := by
  obtain ⟨h0, hb, hi⟩ := keeps7 t hf
  rw [flushed7_B m c t h0, out_B7]
  generalize hp : k0_pay2 (iblk m c 2 t) = p
  generalize hL : lastOf (sliceK (m ((c : Thread nD τ).loc main_arg0))) = L
  funext y
  show p y = L (((cfg0.win 7).blk t).view.emb y)
  have hy0 : (y 0).val < 1 := (y 0).isLt
  rw [← hp, ← hL]
  refine (lead_apply _ y).trans ((read2 m c t _ _).trans ?_)
  rw [hb]
  refine (lastOf_apply _ (seqOf t) _ _).symm.trans (congrArg _ (funext fun a => Fin.ext ?_))
  match a with
  | ⟨0, _⟩ => show (seqOf t).val = win0_7.index t (0 : Fin 3) * 1 + 1 * (y 0).val; rw [hi]; show (seqOf t).val = (seqOf t).val * 1 + 1 * (y 0).val; omega
  | ⟨1, _⟩ => show (y 1).val = win0_7.index t (1 : Fin 3) * 128 + 1 * (y 1).val; rw [hi]; show (y 1).val = 0 * 128 + 1 * (y 1).val; omega
  | ⟨2, _⟩ => show (y 2).val = win0_7.index t (2 : Fin 3) * 256 + 1 * (y 2).val; rw [hi]; show (y 2).val = 0 * 256 + 1 * (y 2).val; omega

/-- What it keeps of the values, likewise. -/
theorem flushed8_eq (c : Dev nD) (t : Fin cfg0.N) (hf : (cfg0.win 8).flush t = true) :
    (dats m 0 c).flushed 8 t = ((cfg0.win 8).blk t).view.read (Elt Ideal)
      (lastOf (sliceV (m ((c : Thread nD τ).loc main_arg0))) : Buf (Elt Ideal) ((c : Thread nD τ).loc main_v0_2)) := by
  obtain ⟨h0, hb, hi⟩ := keeps8 t hf
  rw [flushed8_B m c t h0, out_B8]
  generalize hp : k0_pay3 (iblk m c 3 t) = p
  generalize hL : lastOf (sliceV (m ((c : Thread nD τ).loc main_arg0))) = L
  funext y
  show p y = L (((cfg0.win 8).blk t).view.emb y)
  have hy0 : (y 0).val < 1 := (y 0).isLt
  rw [← hp, ← hL]
  refine (lead_apply _ y).trans ((read3 m c t _ _).trans ?_)
  rw [hb]
  refine (lastOf_apply _ (seqOf t) _ _).symm.trans (congrArg _ (funext fun a => Fin.ext ?_))
  match a with
  | ⟨0, _⟩ => show (seqOf t).val = win0_8.index t (0 : Fin 3) * 1 + 1 * (y 0).val; rw [hi]; show (seqOf t).val = (seqOf t).val * 1 + 1 * (y 0).val; omega
  | ⟨1, _⟩ => show (y 1).val = win0_8.index t (1 : Fin 3) * 128 + 1 * (y 1).val; rw [hi]; show (y 1).val = 0 * 128 + 1 * (y 1).val; omega
  | ⟨2, _⟩ => show (y 2).val = win0_8.index t (2 : Fin 3) * 256 + 1 * (y 2).val; rw [hi]; show (y 2).val = 0 * 256 + 1 * (y 2).val; omega

/-- The kept keys after the run: one block per sequence. -/
theorem final7 (c : Dev nD) : (dats m 0 c).arrAt 7 cfg0.N
    = (lastOf (sliceK (m ((c : Thread nD τ).loc main_arg0))) : Buf (Elt Ideal) ((c : Thread nD τ).loc main_v0_1)) :=
  (dats m 0 c).arrAt_eq_of_cover 7 _ (fun t hf => flushed7_eq m c t hf) fun i => by
    have hi1 : (i 1).val < 128 := (i 1).isLt
    have hi2 : (i 2).val < 256 := (i 2).isLt
    obtain ⟨t, hf, ht⟩ := onto7 (i 0)
    have q0 : win0_7.index t (0 : Fin 3) = (i 0).val := congrFun ht 0
    have q1 : win0_7.index t (1 : Fin 3) = 0 := congrFun ht 1
    have q2 : win0_7.index t (2 : Fin 3) = 0 := congrFun ht 2
    refine ⟨t, hf, ?_⟩
    show i ∈ ((View.whole main_v0_1).slice (win0_7.rect t)).set
    rw [View.set_slice_whole, Rect.mem_set_unit]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 128 ≤ (i 1).val ∧ (i 1).val < win0_7.index t (1 : Fin 3) * 128 + 128; omega
    | ⟨2, _⟩ => show win0_7.index t (2 : Fin 3) * 256 ≤ (i 2).val ∧ (i 2).val < win0_7.index t (2 : Fin 3) * 256 + 256; omega

/-- The kept values after the run, likewise. -/
theorem final8 (c : Dev nD) : (dats m 0 c).arrAt 8 cfg0.N
    = (lastOf (sliceV (m ((c : Thread nD τ).loc main_arg0))) : Buf (Elt Ideal) ((c : Thread nD τ).loc main_v0_2)) :=
  (dats m 0 c).arrAt_eq_of_cover 8 _ (fun t hf => flushed8_eq m c t hf) fun i => by
    have hi1 : (i 1).val < 128 := (i 1).isLt
    have hi2 : (i 2).val < 256 := (i 2).isLt
    obtain ⟨t, hf, ht⟩ := onto8 (i 0)
    have q0 : win0_8.index t (0 : Fin 3) = (i 0).val := congrFun ht 0
    have q1 : win0_8.index t (1 : Fin 3) = 0 := congrFun ht 1
    have q2 : win0_8.index t (2 : Fin 3) = 0 := congrFun ht 2
    refine ⟨t, hf, ?_⟩
    show i ∈ ((View.whole main_v0_2).slice (win0_8.rect t)).set
    rw [View.set_slice_whole, Rect.mem_set_unit]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 128 ≤ (i 1).val ∧ (i 1).val < win0_8.index t (1 : Fin 3) * 128 + 128; omega
    | ⟨2, _⟩ => show win0_8.index t (2 : Fin 3) * 256 ≤ (i 2).val ∧ (i 2).val < win0_8.index t (2 : Fin 3) * 256 + 256; omega

/-- The kernel's results are the reference's, over the reals. -/
theorem algebraic : algebraic_Kernel6Ideal_Reference6Ideal
    (hKernel6Ideal := Cert.Kernel6Ideal.Gen.facts) (hReference6Ideal := Cert.Reference6Ideal.Gen.facts) := by
  intro m g m' g' _ hargs
  refine ⟨fun c => attention (m ((c : Thread nD τ).loc main_arg0)) (m ((c : Thread nD τ).loc main_arg1)),
    fun c => lastOf (sliceK (m ((c : Thread nD τ).loc main_arg0))), fun c => lastOf (sliceV (m ((c : Thread nD τ).loc main_arg0))), ?_, ?_⟩
  · refine (θ_run defs _ _).mono (fun r h c => ?_) (run_blocks (F := Ideal) m g)
    obtain ⟨h0, h1, h2, h⟩ := h c
    exact ⟨h0.trans (final6 m c), h1.trans (final7 m c), h2.trans (final8 m c), h⟩
  · refine (θ_run Cert.Reference6Ideal.defs _ _).mono (fun r h c => ?_) (Cert.Reference6Ideal.Value.run (F := Ideal) m' g')
    obtain ⟨h0, h1, h2, h⟩ := h c
    obtain ⟨a0, a1⟩ := hargs c
    refine ⟨h0.trans ((reference_steps m' c).trans ?_), h1.trans ?_, h2.trans ?_, h⟩
    · rw [a0, a1]
    · rw [a0]; rfl
    · rw [a0]; rfl

end Cert.Swa

end
-- ==== Proof.lean ====
/-
  The layer's calls, claim by claim: the gather's frame, run with its three streams of copies (Proof/Gather/), and for the
  projections before and after the branches, for the branches' gated sum, for the weights' cast and for the windowed attention
  the frames and the values over the reals (Proof/NormProj.lean, OutProj.lean, BranchMix.lean, CastW.lean, Swa.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_rows_in_table
public import proofs.«01_k».proof.Proof.Gather.Launch
public import proofs.«01_k».proof.Proof.NormProj
public import proofs.«01_k».proof.Proof.BranchMix
public import proofs.«01_k».proof.Proof.OutProj
public import proofs.«01_k».proof.Proof.CastW
public import proofs.«01_k».proof.Proof.Swa
public import Idealize.ShloMosaic.Adequacy
public import Idealize.ShloMosaic.Init
public import Idealize.ShloMosaic.Lib.ReduceAll
public import Idealize.ShloMosaic.Lib.WordCmp

@[expose] public section

noncomputable section

namespace Cert.Proof

open Idealize.ShloMosaic Idealize.ShloMosaic.TcCoe Idealize.SL.Sem

/-- The precondition — every row number at least zero and below the table's 16384 rows, over the whole array — says of each row
    number's word that it is below 16384. -/
theorem inTable_of_pre (m : (ℓ : Loc Cert.Kernel.nD Cert.Kernel.τ Cert.Kernel.sig) → Buf (Elt Bits) ℓ)
    (h : Cert.Pre_Kernel (hPre_rows_in_table := Cert.Pre_rows_in_table.Gen.facts) m) : Cert.Kernel.Gather.InTable m := by
  intro c j
  have : Subsingleton Cert.Pre_rows_in_table.S_.Idx := ⟨fun a b => funext fun x => x.elim0⟩
  have e := Host.reduce_andi_all _ _ _ _ _ (congrFun (h c) (fun a => a.elim0)) j
  have k := (WordCmp.andi_sge_zero_slt_ofNat (w := 32) (k := 16384) (by decide) _).symm.trans e
  exact of_decide_eq_true ((by decide : ∀ p : Bool, BitVec.ofBool p = 1#1 → p = true) _ k)

/-- The references' frames: each run keeps its arguments, and the program declares no semaphore. -/
theorem frame_norm : quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The branches' sum's reference, likewise. -/
theorem frame_branch : quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection's reference, likewise. -/
theorem frame_out : quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The cast's reference, likewise. -/
theorem frame_cast : quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The attention's reference, with its three results, likewise. -/
theorem frame_swa : quiescent_Reference6Ideal (hReference6Ideal := Cert.Reference6Ideal.Gen.facts) := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The attention's one renamed constant, the mask: −1e30 in the kernel as printed, −∞ in its reading over the reals. -/
theorem masked_swa : preserves_Kernel6_Kernel6Ideal := IdealRules.named_const.statement Cert.Kernel6Ideal.κ "mask" .f32 0xF149F2CA#32 ⊥ rfl

/-- Every claim: the gather's frame under its precondition, and the other five calls' frames, their readings over the reals and
    their values. -/
theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_rows_in_table.Gen.facts,
  fun m ρ h => Cert.Kernel.Gather.frame ρ (inTable_of_pre m h),
  fun m ρ _ => Cert.Kernel2.Gen.frame m ρ, fun m ρ _ => Cert.Kernel2Ideal.Gen.frame m ρ, frame_norm,
  fun m ρ _ => Cert.Kernel3.Gen.frame m ρ, fun m ρ _ => Cert.Kernel3Ideal.Gen.frame m ρ, frame_branch,
  fun m ρ _ => Cert.Kernel4.Gen.frame m ρ, fun m ρ _ => Cert.Kernel4Ideal.Gen.frame m ρ, frame_out,
  fun m ρ _ => Cert.Kernel5.Gen.frame m ρ, fun m ρ _ => Cert.Kernel5Ideal.Gen.frame m ρ, frame_cast,
  fun m ρ _ => Cert.Kernel6.Gen.frame m ρ, fun m ρ _ => Cert.Kernel6Ideal.Gen.frame m ρ, frame_swa,
  trivial, Cert.NormProj.algebraic, trivial, Cert.BranchMix.algebraic, trivial, Cert.OutProj.algebraic, trivial, Cert.CastW.algebraic,
  masked_swa, Cert.Swa.algebraic⟩

end Cert.Proof

end
